-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3)
      ∧ r.2.mem ((c.tc : Thread Cert.Kernel27.nD Cert.Kernel27.τ).loc Cert.Kernel27.main_arg4) = m ((c.tc : Thread Cert.Kernel27.nD Cert.Kernel27.τ).loc Cert.Kernel27.main_arg4)
      ∧ r.2.mem ((c.tc : Thread Cert.Kernel27.nD Cert.Kernel27.τ).loc Cert.Kernel27.main_arg5) = m ((c.tc : Thread Cert.Kernel27.nD Cert.Kernel27.τ).loc Cert.Kernel27.main_arg5)
      ∧ r.2.mem ((c.tc : Thread Cert.Kernel27.nD Cert.Kernel27.τ).loc Cert.Kernel27.main_arg6) = m ((c.tc : Thread Cert.Kernel27.nD Cert.Kernel27.τ).loc Cert.Kernel27.main_arg6)
      ∧ r.2.mem ((c.tc : Thread Cert.Kernel27.nD Cert.Kernel27.τ).loc Cert.Kernel27.main_arg7) = m ((c.tc : Thread Cert.Kernel27.nD Cert.Kernel27.τ).loc Cert.Kernel27.main_arg7)
      ∧ r.2.mem ((c.tc : Thread Cert.Kernel27.nD Cert.Kernel27.τ).loc Cert.Kernel27.main_arg8) = m ((c.tc : Thread Cert.Kernel27.nD Cert.Kernel27.τ).loc Cert.Kernel27.main_arg8)
      ∧ r.2.mem ((c.tc : Thread Cert.Kernel27.nD Cert.Kernel27.τ).loc Cert.Kernel27.main_arg9) = m ((c.tc : Thread Cert.Kernel27.nD Cert.Kernel27.τ).loc Cert.Kernel27.main_arg9)
      ∧ r.2.mem ((c.tc : Thread Cert.Kernel27.nD Cert.Kernel27.τ).loc Cert.Kernel27.main_arg10) = m ((c.tc : Thread Cert.Kernel27.nD Cert.Kernel27.τ).loc Cert.Kernel27.main_arg10)
      ∧ r.2.mem ((c.tc : Thread Cert.Kernel27.nD Cert.Kernel27.τ).loc Cert.Kernel27.main_arg11) = m ((c.tc : Thread Cert.Kernel27.nD Cert.Kernel27.τ).loc Cert.Kernel27.main_arg11)
      ∧ r.2.mem ((c.tc : Thread Cert.Kernel27.nD Cert.Kernel27.τ).loc Cert.Kernel27.main_arg12) = m ((c.tc : Thread Cert.Kernel27.nD Cert.Kernel27.τ).loc Cert.Kernel27.main_arg12)
      ∧ r.2.mem ((c.tc : Thread Cert.Kernel27.nD Cert.Kernel27.τ).loc Cert.Kernel27.main_arg13) = m ((c.tc : Thread Cert.Kernel27.nD Cert.Kernel27.τ).loc Cert.Kernel27.main_arg13)
      ∧ r.2.mem ((c.tc : Thread Cert.Kernel27.nD Cert.Kernel27.τ).loc Cert.Kernel27.main_arg14) = m ((c.tc : Thread Cert.Kernel27.nD Cert.Kernel27.τ).loc Cert.Kernel27.main_arg14)
      ∧ r.2.mem ((c.tc : Thread Cert.Kernel27.nD Cert.Kernel27.τ).loc Cert.Kernel27.main_arg15) = m ((c.tc : Thread Cert.Kernel27.nD Cert.Kernel27.τ).loc Cert.Kernel27.main_arg15)
      ∧ r.2.mem ((c.tc : Thread Cert.Kernel27.nD Cert.Kernel27.τ).loc Cert.Kernel27.main_arg16) = m ((c.tc : Thread Cert.Kernel27.nD Cert.Kernel27.τ).loc Cert.Kernel27.main_arg16)
      ∧ r.2.mem ((c.tc : Thread Cert.Kernel27.nD Cert.Kernel27.τ).loc Cert.Kernel27.main_arg17) = m ((c.tc : Thread Cert.Kernel27.nD Cert.Kernel27.τ).loc Cert.Kernel27.main_arg17)
      ∧ r.2.mem ((c.tc : Thread Cert.Kernel27.nD Cert.Kernel27.τ).loc Cert.Kernel27.main_arg18) = m ((c.tc : Thread Cert.Kernel27.nD Cert.Kernel27.τ).loc Cert.Kernel27.main_arg18)
      ∧ r.2.mem ((c.tc : Thread Cert.Kernel27.nD Cert.Kernel27.τ).loc Cert.Kernel27.main_arg19) = m ((c.tc : Thread Cert.Kernel27.nD Cert.Kernel27.τ).loc Cert.Kernel27.main_arg19)
      ∧ r.2.mem ((c.tc : Thread Cert.Kernel27.nD Cert.Kernel27.τ).loc Cert.Kernel27.main_arg20) = m ((c.tc : Thread Cert.Kernel27.nD Cert.Kernel27.τ).loc Cert.Kernel27.main_arg20)
      ∧ r.2.mem ((c.tc : Thread Cert.Kernel27.nD Cert.Kernel27.τ).loc Cert.Kernel27.main_arg21) = m ((c.tc : Thread Cert.Kernel27.nD Cert.Kernel27.τ).loc Cert.Kernel27.main_arg21)
      ∧ r.2.mem ((c.tc : Thread Cert.Kernel27.nD Cert.Kernel27.τ).loc Cert.Kernel27.main_arg22) = m ((c.tc : Thread Cert.Kernel27.nD Cert.Kernel27.τ).loc Cert.Kernel27.main_arg22)
      ∧ r.2.mem ((c.tc : Thread Cert.Kernel27.nD Cert.Kernel27.τ).loc Cert.Kernel27.main_arg23) = m ((c.tc : Thread Cert.Kernel27.nD Cert.Kernel27.τ).loc Cert.Kernel27.main_arg23)
      ∧ r.2.mem ((c.tc : Thread Cert.Kernel27.nD Cert.Kernel27.τ).loc Cert.Kernel27.main_arg24) = m ((c.tc : Thread Cert.Kernel27.nD Cert.Kernel27.τ).loc Cert.Kernel27.main_arg24)
      ∧ r.2.mem ((c.tc : Thread Cert.Kernel27.nD Cert.Kernel27.τ).loc Cert.Kernel27.main_arg25) = m ((c.tc : Thread Cert.Kernel27.nD Cert.Kernel27.τ).loc Cert.Kernel27.main_arg25)
      ∧ r.2.mem ((c.tc : Thread Cert.Kernel27.nD Cert.Kernel27.τ).loc Cert.Kernel27.main_arg26) = m ((c.tc : Thread Cert.Kernel27.nD Cert.Kernel27.τ).loc Cert.Kernel27.main_arg26)
      ∧ r.2.mem ((c.tc : Thread Cert.Kernel27.nD Cert.Kernel27.τ).loc Cert.Kernel27.main_arg27) = m ((c.tc : Thread Cert.Kernel27.nD Cert.Kernel27.τ).loc Cert.Kernel27.main_arg27)
      ∧ r.2.mem ((c.tc : Thread Cert.Kernel27.nD Cert.Kernel27.τ).loc Cert.Kernel27.main_arg28) = m ((c.tc : Thread Cert.Kernel27.nD Cert.Kernel27.τ).loc Cert.Kernel27.main_arg28)
      ∧ r.2.mem ((c.tc : Thread Cert.Kernel27.nD Cert.Kernel27.τ).loc Cert.Kernel27.main_arg29) = m ((c.tc : Thread Cert.Kernel27.nD Cert.Kernel27.τ).loc Cert.Kernel27.main_arg29)
      ∧ r.2.mem ((c.tc : Thread Cert.Kernel27.nD Cert.Kernel27.τ).loc Cert.Kernel27.main_arg30) = m ((c.tc : Thread Cert.Kernel27.nD Cert.Kernel27.τ).loc Cert.Kernel27.main_arg30)
      ∧ r.2.mem ((c.tc : Thread Cert.Kernel27.nD Cert.Kernel27.τ).loc Cert.Kernel27.main_arg31) = m ((c.tc : Thread Cert.Kernel27.nD Cert.Kernel27.τ).loc Cert.Kernel27.main_arg31)
      ∧ r.2.mem ((c.tc : Thread Cert.Kernel27.nD Cert.Kernel27.τ).loc Cert.Kernel27.main_arg32) = m ((c.tc : Thread Cert.Kernel27.nD Cert.Kernel27.τ).loc Cert.Kernel27.main_arg32)
      ∧ r.2.mem ((c.tc : Thread Cert.Kernel27.nD Cert.Kernel27.τ).loc Cert.Kernel27.main_arg33) = m ((c.tc : Thread Cert.Kernel27.nD Cert.Kernel27.τ).loc Cert.Kernel27.main_arg33)
      ∧ r.2.mem ((c.tc : Thread Cert.Kernel27.nD Cert.Kernel27.τ).loc Cert.Kernel27.main_arg34) = m ((c.tc : Thread Cert.Kernel27.nD Cert.Kernel27.τ).loc Cert.Kernel27.main_arg34)
      ∧ r.2.mem ((c.tc : Thread Cert.Kernel27.nD Cert.Kernel27.τ).loc Cert.Kernel27.main_arg35) = m ((c.tc : Thread Cert.Kernel27.nD Cert.Kernel27.τ).loc Cert.Kernel27.main_arg35)
      ∧ r.2.mem ((c.tc : Thread Cert.Kernel27.nD Cert.Kernel27.τ).loc Cert.Kernel27.main_arg36) = m ((c.tc : Thread Cert.Kernel27.nD Cert.Kernel27.τ).loc Cert.Kernel27.main_arg36)
      ∧ r.2.mem ((c.tc : Thread Cert.Kernel27.nD Cert.Kernel27.τ).loc Cert.Kernel27.main_arg37) = m ((c.tc : Thread Cert.Kernel27.nD Cert.Kernel27.τ).loc Cert.Kernel27.main_arg37)
      ∧ r.2.mem ((c.tc : Thread Cert.Kernel27.nD Cert.Kernel27.τ).loc Cert.Kernel27.main_arg38) = m ((c.tc : Thread Cert.Kernel27.nD Cert.Kernel27.τ).loc Cert.Kernel27.main_arg38)
      ∧ r.2.mem ((c.tc : Thread Cert.Kernel27.nD Cert.Kernel27.τ).loc Cert.Kernel27.main_arg39) = m ((c.tc : Thread Cert.Kernel27.nD Cert.Kernel27.τ).loc Cert.Kernel27.main_arg39)
      ∧ r.2.mem ((c.tc : Thread Cert.Kernel27.nD Cert.Kernel27.τ).loc Cert.Kernel27.main_arg40) = m ((c.tc : Thread Cert.Kernel27.nD Cert.Kernel27.τ).loc Cert.Kernel27.main_arg40)
      ∧ r.2.mem ((c.tc : Thread Cert.Kernel27.nD Cert.Kernel27.τ).loc Cert.Kernel27.main_arg41) = m ((c.tc : Thread Cert.Kernel27.nD Cert.Kernel27.τ).loc Cert.Kernel27.main_arg41)
      ∧ r.2.mem ((c.tc : Thread Cert.Kernel27.nD Cert.Kernel27.τ).loc Cert.Kernel27.main_arg42) = m ((c.tc : Thread Cert.Kernel27.nD Cert.Kernel27.τ).loc Cert.Kernel27.main_arg42)
      ∧ r.2.mem ((c.tc : Thread Cert.Kernel27.nD Cert.Kernel27.τ).loc Cert.Kernel27.main_arg43) = m ((c.tc : Thread Cert.Kernel27.nD Cert.Kernel27.τ).loc Cert.Kernel27.main_arg43)
      ∧ r.2.mem ((c.tc : Thread Cert.Kernel27.nD Cert.Kernel27.τ).loc Cert.Kernel27.main_arg44) = m ((c.tc : Thread Cert.Kernel27.nD Cert.Kernel27.τ).loc Cert.Kernel27.main_arg44)
      ∧ r.2.mem ((c.tc : Thread Cert.Kernel27.nD Cert.Kernel27.τ).loc Cert.Kernel27.main_arg45) = m ((c.tc : Thread Cert.Kernel27.nD Cert.Kernel27.τ).loc Cert.Kernel27.main_arg45)
      ∧ r.2.mem ((c.tc : Thread Cert.Kernel27.nD Cert.Kernel27.τ).loc Cert.Kernel27.main_arg46) = m ((c.tc : Thread Cert.Kernel27.nD Cert.Kernel27.τ).loc Cert.Kernel27.main_arg46)
      ∧ r.2.mem ((c.tc : Thread Cert.Kernel27.nD Cert.Kernel27.τ).loc Cert.Kernel27.main_arg47) = m ((c.tc : Thread Cert.Kernel27.nD Cert.Kernel27.τ).loc Cert.Kernel27.main_arg47))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
      ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4)
      ∧ r.2.mem ((c.tc : Thread Cert.Kernel27Ideal.nD Cert.Kernel27Ideal.τ).loc Cert.Kernel27Ideal.main_arg5) = m ((c.tc : Thread Cert.Kernel27Ideal.nD Cert.Kernel27Ideal.τ).loc Cert.Kernel27Ideal.main_arg5)
      ∧ r.2.mem ((c.tc : Thread Cert.Kernel27Ideal.nD Cert.Kernel27Ideal.τ).loc Cert.Kernel27Ideal.main_arg6) = m ((c.tc : Thread Cert.Kernel27Ideal.nD Cert.Kernel27Ideal.τ).loc Cert.Kernel27Ideal.main_arg6)
      ∧ r.2.mem ((c.tc : Thread Cert.Kernel27Ideal.nD Cert.Kernel27Ideal.τ).loc Cert.Kernel27Ideal.main_arg7) = m ((c.tc : Thread Cert.Kernel27Ideal.nD Cert.Kernel27Ideal.τ).loc Cert.Kernel27Ideal.main_arg7)
      ∧ r.2.mem ((c.tc : Thread Cert.Kernel27Ideal.nD Cert.Kernel27Ideal.τ).loc Cert.Kernel27Ideal.main_arg8) = m ((c.tc : Thread Cert.Kernel27Ideal.nD Cert.Kernel27Ideal.τ).loc Cert.Kernel27Ideal.main_arg8)
      ∧ r.2.mem ((c.tc : Thread Cert.Kernel27Ideal.nD Cert.Kernel27Ideal.τ).loc Cert.Kernel27Ideal.main_arg9) = m ((c.tc : Thread Cert.Kernel27Ideal.nD Cert.Kernel27Ideal.τ).loc Cert.Kernel27Ideal.main_arg9)
      ∧ r.2.mem ((c.tc : Thread Cert.Kernel27Ideal.nD Cert.Kernel27Ideal.τ).loc Cert.Kernel27Ideal.main_arg10) = m ((c.tc : Thread Cert.Kernel27Ideal.nD Cert.Kernel27Ideal.τ).loc Cert.Kernel27Ideal.main_arg10)
      ∧ r.2.mem ((c.tc : Thread Cert.Kernel27Ideal.nD Cert.Kernel27Ideal.τ).loc Cert.Kernel27Ideal.main_arg11) = m ((c.tc : Thread Cert.Kernel27Ideal.nD Cert.Kernel27Ideal.τ).loc Cert.Kernel27Ideal.main_arg11)
      ∧ r.2.mem ((c.tc : Thread Cert.Kernel27Ideal.nD Cert.Kernel27Ideal.τ).loc Cert.Kernel27Ideal.main_arg12) = m ((c.tc : Thread Cert.Kernel27Ideal.nD Cert.Kernel27Ideal.τ).loc Cert.Kernel27Ideal.main_arg12)
      ∧ r.2.mem ((c.tc : Thread Cert.Kernel27Ideal.nD Cert.Kernel27Ideal.τ).loc Cert.Kernel27Ideal.main_arg13) = m ((c.tc : Thread Cert.Kernel27Ideal.nD Cert.Kernel27Ideal.τ).loc Cert.Kernel27Ideal.main_arg13)
      ∧ r.2.mem ((c.tc : Thread Cert.Kernel27Ideal.nD Cert.Kernel27Ideal.τ).loc Cert.Kernel27Ideal.main_arg14) = m ((c.tc : Thread Cert.Kernel27Ideal.nD Cert.Kernel27Ideal.τ).loc Cert.Kernel27Ideal.main_arg14)
      ∧ r.2.mem ((c.tc : Thread Cert.Kernel27Ideal.nD Cert.Kernel27Ideal.τ).loc Cert.Kernel27Ideal.main_arg15) = m ((c.tc : Thread Cert.Kernel27Ideal.nD Cert.Kernel27Ideal.τ).loc Cert.Kernel27Ideal.main_arg15)
      ∧ r.2.mem ((c.tc : Thread Cert.Kernel27Ideal.nD Cert.Kernel27Ideal.τ).loc Cert.Kernel27Ideal.main_arg16) = m ((c.tc : Thread Cert.Kernel27Ideal.nD Cert.Kernel27Ideal.τ).loc Cert.Kernel27Ideal.main_arg16)
      ∧ r.2.mem ((c.tc : Thread Cert.Kernel27Ideal.nD Cert.Kernel27Ideal.τ).loc Cert.Kernel27Ideal.main_arg17) = m ((c.tc : Thread Cert.Kernel27Ideal.nD Cert.Kernel27Ideal.τ).loc Cert.Kernel27Ideal.main_arg17)
      ∧ r.2.mem ((c.tc : Thread Cert.Kernel27Ideal.nD Cert.Kernel27Ideal.τ).loc Cert.Kernel27Ideal.main_arg18) = m ((c.tc : Thread Cert.Kernel27Ideal.nD Cert.Kernel27Ideal.τ).loc Cert.Kernel27Ideal.main_arg18)
      ∧ r.2.mem ((c.tc : Thread Cert.Kernel27Ideal.nD Cert.Kernel27Ideal.τ).loc Cert.Kernel27Ideal.main_arg19) = m ((c.tc : Thread Cert.Kernel27Ideal.nD Cert.Kernel27Ideal.τ).loc Cert.Kernel27Ideal.main_arg19)
      ∧ r.2.mem ((c.tc : Thread Cert.Kernel27Ideal.nD Cert.Kernel27Ideal.τ).loc Cert.Kernel27Ideal.main_arg20) = m ((c.tc : Thread Cert.Kernel27Ideal.nD Cert.Kernel27Ideal.τ).loc Cert.Kernel27Ideal.main_arg20)
      ∧ r.2.mem ((c.tc : Thread Cert.Kernel27Ideal.nD Cert.Kernel27Ideal.τ).loc Cert.Kernel27Ideal.main_arg21) = m ((c.tc : Thread Cert.Kernel27Ideal.nD Cert.Kernel27Ideal.τ).loc Cert.Kernel27Ideal.main_arg21)
      ∧ r.2.mem ((c.tc : Thread Cert.Kernel27Ideal.nD Cert.Kernel27Ideal.τ).loc Cert.Kernel27Ideal.main_arg22) = m ((c.tc : Thread Cert.Kernel27Ideal.nD Cert.Kernel27Ideal.τ).loc Cert.Kernel27Ideal.main_arg22)
      ∧ r.2.mem ((c.tc : Thread Cert.Kernel27Ideal.nD Cert.Kernel27Ideal.τ).loc Cert.Kernel27Ideal.main_arg23) = m ((c.tc : Thread Cert.Kernel27Ideal.nD Cert.Kernel27Ideal.τ).loc Cert.Kernel27Ideal.main_arg23)
      ∧ r.2.mem ((c.tc : Thread Cert.Kernel27Ideal.nD Cert.Kernel27Ideal.τ).loc Cert.Kernel27Ideal.main_arg24) = m ((c.tc : Thread Cert.Kernel27Ideal.nD Cert.Kernel27Ideal.τ).loc Cert.Kernel27Ideal.main_arg24)
      ∧ r.2.mem ((c.tc : Thread Cert.Kernel27Ideal.nD Cert.Kernel27Ideal.τ).loc Cert.Kernel27Ideal.main_arg25) = m ((c.tc : Thread Cert.Kernel27Ideal.nD Cert.Kernel27Ideal.τ).loc Cert.Kernel27Ideal.main_arg25)
      ∧ r.2.mem ((c.tc : Thread Cert.Kernel27Ideal.nD Cert.Kernel27Ideal.τ).loc Cert.Kernel27Ideal.main_arg26) = m ((c.tc : Thread Cert.Kernel27Ideal.nD Cert.Kernel27Ideal.τ).loc Cert.Kernel27Ideal.main_arg26)
      ∧ r.2.mem ((c.tc : Thread Cert.Kernel27Ideal.nD Cert.Kernel27Ideal.τ).loc Cert.Kernel27Ideal.main_arg27) = m ((c.tc : Thread Cert.Kernel27Ideal.nD Cert.Kernel27Ideal.τ).loc Cert.Kernel27Ideal.main_arg27)
      ∧ r.2.mem ((c.tc : Thread Cert.Kernel27Ideal.nD Cert.Kernel27Ideal.τ).loc Cert.Kernel27Ideal.main_arg28) = m ((c.tc : Thread Cert.Kernel27Ideal.nD Cert.Kernel27Ideal.τ).loc Cert.Kernel27Ideal.main_arg28)
      ∧ r.2.mem ((c.tc : Thread Cert.Kernel27Ideal.nD Cert.Kernel27Ideal.τ).loc Cert.Kernel27Ideal.main_arg29) = m ((c.tc : Thread Cert.Kernel27Ideal.nD Cert.Kernel27Ideal.τ).loc Cert.Kernel27Ideal.main_arg29)
      ∧ r.2.mem ((c.tc : Thread Cert.Kernel27Ideal.nD Cert.Kernel27Ideal.τ).loc Cert.Kernel27Ideal.main_arg30) = m ((c.tc : Thread Cert.Kernel27Ideal.nD Cert.Kernel27Ideal.τ).loc Cert.Kernel27Ideal.main_arg30)
      ∧ r.2.mem ((c.tc : Thread Cert.Kernel27Ideal.nD Cert.Kernel27Ideal.τ).loc Cert.Kernel27Ideal.main_arg31) = m ((c.tc : Thread Cert.Kernel27Ideal.nD Cert.Kernel27Ideal.τ).loc Cert.Kernel27Ideal.main_arg31)
      ∧ r.2.mem ((c.tc : Thread Cert.Kernel27Ideal.nD Cert.Kernel27Ideal.τ).loc Cert.Kernel27Ideal.main_arg32) = m ((c.tc : Thread Cert.Kernel27Ideal.nD Cert.Kernel27Ideal.τ).loc Cert.Kernel27Ideal.main_arg32)
      ∧ r.2.mem ((c.tc : Thread Cert.Kernel27Ideal.nD Cert.Kernel27Ideal.τ).loc Cert.Kernel27Ideal.main_arg33) = m ((c.tc : Thread Cert.Kernel27Ideal.nD Cert.Kernel27Ideal.τ).loc Cert.Kernel27Ideal.main_arg33)
      ∧ r.2.mem ((c.tc : Thread Cert.Kernel27Ideal.nD Cert.Kernel27Ideal.τ).loc Cert.Kernel27Ideal.main_arg34) = m ((c.tc : Thread Cert.Kernel27Ideal.nD Cert.Kernel27Ideal.τ).loc Cert.Kernel27Ideal.main_arg34)
      ∧ r.2.mem ((c.tc : Thread Cert.Kernel27Ideal.nD Cert.Kernel27Ideal.τ).loc Cert.Kernel27Ideal.main_arg35) = m ((c.tc : Thread Cert.Kernel27Ideal.nD Cert.Kernel27Ideal.τ).loc Cert.Kernel27Ideal.main_arg35)
      ∧ r.2.mem ((c.tc : Thread Cert.Kernel27Ideal.nD Cert.Kernel27Ideal.τ).loc Cert.Kernel27Ideal.main_arg36) = m ((c.tc : Thread Cert.Kernel27Ideal.nD Cert.Kernel27Ideal.τ).loc Cert.Kernel27Ideal.main_arg36)
      ∧ r.2.mem ((c.tc : Thread Cert.Kernel27Ideal.nD Cert.Kernel27Ideal.τ).loc Cert.Kernel27Ideal.main_arg37) = m ((c.tc : Thread Cert.Kernel27Ideal.nD Cert.Kernel27Ideal.τ).loc Cert.Kernel27Ideal.main_arg37)
      ∧ r.2.mem ((c.tc : Thread Cert.Kernel27Ideal.nD Cert.Kernel27Ideal.τ).loc Cert.Kernel27Ideal.main_arg38) = m ((c.tc : Thread Cert.Kernel27Ideal.nD Cert.Kernel27Ideal.τ).loc Cert.Kernel27Ideal.main_arg38)
      ∧ r.2.mem ((c.tc : Thread Cert.Kernel27Ideal.nD Cert.Kernel27Ideal.τ).loc Cert.Kernel27Ideal.main_arg39) = m ((c.tc : Thread Cert.Kernel27Ideal.nD Cert.Kernel27Ideal.τ).loc Cert.Kernel27Ideal.main_arg39)
      ∧ r.2.mem ((c.tc : Thread Cert.Kernel27Ideal.nD Cert.Kernel27Ideal.τ).loc Cert.Kernel27Ideal.main_arg40) = m ((c.tc : Thread Cert.Kernel27Ideal.nD Cert.Kernel27Ideal.τ).loc Cert.Kernel27Ideal.main_arg40)
      ∧ r.2.mem ((c.tc : Thread Cert.Kernel27Ideal.nD Cert.Kernel27Ideal.τ).loc Cert.Kernel27Ideal.main_arg41) = m ((c.tc : Thread Cert.Kernel27Ideal.nD Cert.Kernel27Ideal.τ).loc Cert.Kernel27Ideal.main_arg41)
      ∧ r.2.mem ((c.tc : Thread Cert.Kernel27Ideal.nD Cert.Kernel27Ideal.τ).loc Cert.Kernel27Ideal.main_arg42) = m ((c.tc : Thread Cert.Kernel27Ideal.nD Cert.Kernel27Ideal.τ).loc Cert.Kernel27Ideal.main_arg42)
      ∧ r.2.mem ((c.tc : Thread Cert.Kernel27Ideal.nD Cert.Kernel27Ideal.τ).loc Cert.Kernel27Ideal.main_arg43) = m ((c.tc : Thread Cert.Kernel27Ideal.nD Cert.Kernel27Ideal.τ).loc Cert.Kernel27Ideal.main_arg43)
      ∧ r.2.mem ((c.tc : Thread Cert.Kernel27Ideal.nD Cert.Kernel27Ideal.τ).loc Cert.Kernel27Ideal.main_arg44) = m ((c.tc : Thread Cert.Kernel27Ideal.nD Cert.Kernel27Ideal.τ).loc Cert.Kernel27Ideal.main_arg44)
      ∧ r.2.mem ((c.tc : Thread Cert.Kernel27Ideal.nD Cert.Kernel27Ideal.τ).loc Cert.Kernel27Ideal.main_arg45) = m ((c.tc : Thread Cert.Kernel27Ideal.nD Cert.Kernel27Ideal.τ).loc Cert.Kernel27Ideal.main_arg45)
      ∧ r.2.mem ((c.tc : Thread Cert.Kernel27Ideal.nD Cert.Kernel27Ideal.τ).loc Cert.Kernel27Ideal.main_arg46) = m ((c.tc : Thread Cert.Kernel27Ideal.nD Cert.Kernel27Ideal.τ).loc Cert.Kernel27Ideal.main_arg46)
      ∧ r.2.mem ((c.tc : Thread Cert.Kernel27Ideal.nD Cert.Kernel27Ideal.τ).loc Cert.Kernel27Ideal.main_arg47) = m ((c.tc : Thread Cert.Kernel27Ideal.nD Cert.Kernel27Ideal.τ).loc Cert.Kernel27Ideal.main_arg47))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3)
      ∧ r.2.mem ((c.tc : Thread Cert.Reference27Ideal.nD Cert.Reference27Ideal.τ).loc Cert.Reference27Ideal.main_arg4) = m ((c.tc : Thread Cert.Reference27Ideal.nD Cert.Reference27Ideal.τ).loc Cert.Reference27Ideal.main_arg4)
      ∧ r.2.mem ((c.tc : Thread Cert.Reference27Ideal.nD Cert.Reference27Ideal.τ).loc Cert.Reference27Ideal.main_arg5) = m ((c.tc : Thread Cert.Reference27Ideal.nD Cert.Reference27Ideal.τ).loc Cert.Reference27Ideal.main_arg5)
      ∧ r.2.mem ((c.tc : Thread Cert.Reference27Ideal.nD Cert.Reference27Ideal.τ).loc Cert.Reference27Ideal.main_arg6) = m ((c.tc : Thread Cert.Reference27Ideal.nD Cert.Reference27Ideal.τ).loc Cert.Reference27Ideal.main_arg6)
      ∧ r.2.mem ((c.tc : Thread Cert.Reference27Ideal.nD Cert.Reference27Ideal.τ).loc Cert.Reference27Ideal.main_arg7) = m ((c.tc : Thread Cert.Reference27Ideal.nD Cert.Reference27Ideal.τ).loc Cert.Reference27Ideal.main_arg7)
      ∧ r.2.mem ((c.tc : Thread Cert.Reference27Ideal.nD Cert.Reference27Ideal.τ).loc Cert.Reference27Ideal.main_arg8) = m ((c.tc : Thread Cert.Reference27Ideal.nD Cert.Reference27Ideal.τ).loc Cert.Reference27Ideal.main_arg8)
      ∧ r.2.mem ((c.tc : Thread Cert.Reference27Ideal.nD Cert.Reference27Ideal.τ).loc Cert.Reference27Ideal.main_arg9) = m ((c.tc : Thread Cert.Reference27Ideal.nD Cert.Reference27Ideal.τ).loc Cert.Reference27Ideal.main_arg9)
      ∧ r.2.mem ((c.tc : Thread Cert.Reference27Ideal.nD Cert.Reference27Ideal.τ).loc Cert.Reference27Ideal.main_arg10) = m ((c.tc : Thread Cert.Reference27Ideal.nD Cert.Reference27Ideal.τ).loc Cert.Reference27Ideal.main_arg10)
      ∧ r.2.mem ((c.tc : Thread Cert.Reference27Ideal.nD Cert.Reference27Ideal.τ).loc Cert.Reference27Ideal.main_arg11) = m ((c.tc : Thread Cert.Reference27Ideal.nD Cert.Reference27Ideal.τ).loc Cert.Reference27Ideal.main_arg11)
      ∧ r.2.mem ((c.tc : Thread Cert.Reference27Ideal.nD Cert.Reference27Ideal.τ).loc Cert.Reference27Ideal.main_arg12) = m ((c.tc : Thread Cert.Reference27Ideal.nD Cert.Reference27Ideal.τ).loc Cert.Reference27Ideal.main_arg12)
      ∧ r.2.mem ((c.tc : Thread Cert.Reference27Ideal.nD Cert.Reference27Ideal.τ).loc Cert.Reference27Ideal.main_arg13) = m ((c.tc : Thread Cert.Reference27Ideal.nD Cert.Reference27Ideal.τ).loc Cert.Reference27Ideal.main_arg13)
      ∧ r.2.mem ((c.tc : Thread Cert.Reference27Ideal.nD Cert.Reference27Ideal.τ).loc Cert.Reference27Ideal.main_arg14) = m ((c.tc : Thread Cert.Reference27Ideal.nD Cert.Reference27Ideal.τ).loc Cert.Reference27Ideal.main_arg14)
      ∧ r.2.mem ((c.tc : Thread Cert.Reference27Ideal.nD Cert.Reference27Ideal.τ).loc Cert.Reference27Ideal.main_arg15) = m ((c.tc : Thread Cert.Reference27Ideal.nD Cert.Reference27Ideal.τ).loc Cert.Reference27Ideal.main_arg15)
      ∧ r.2.mem ((c.tc : Thread Cert.Reference27Ideal.nD Cert.Reference27Ideal.τ).loc Cert.Reference27Ideal.main_arg16) = m ((c.tc : Thread Cert.Reference27Ideal.nD Cert.Reference27Ideal.τ).loc Cert.Reference27Ideal.main_arg16)
      ∧ r.2.mem ((c.tc : Thread Cert.Reference27Ideal.nD Cert.Reference27Ideal.τ).loc Cert.Reference27Ideal.main_arg17) = m ((c.tc : Thread Cert.Reference27Ideal.nD Cert.Reference27Ideal.τ).loc Cert.Reference27Ideal.main_arg17)
      ∧ r.2.mem ((c.tc : Thread Cert.Reference27Ideal.nD Cert.Reference27Ideal.τ).loc Cert.Reference27Ideal.main_arg18) = m ((c.tc : Thread Cert.Reference27Ideal.nD Cert.Reference27Ideal.τ).loc Cert.Reference27Ideal.main_arg18)
      ∧ r.2.mem ((c.tc : Thread Cert.Reference27Ideal.nD Cert.Reference27Ideal.τ).loc Cert.Reference27Ideal.main_arg19) = m ((c.tc : Thread Cert.Reference27Ideal.nD Cert.Reference27Ideal.τ).loc Cert.Reference27Ideal.main_arg19)
      ∧ r.2.mem ((c.tc : Thread Cert.Reference27Ideal.nD Cert.Reference27Ideal.τ).loc Cert.Reference27Ideal.main_arg20) = m ((c.tc : Thread Cert.Reference27Ideal.nD Cert.Reference27Ideal.τ).loc Cert.Reference27Ideal.main_arg20)
      ∧ r.2.mem ((c.tc : Thread Cert.Reference27Ideal.nD Cert.Reference27Ideal.τ).loc Cert.Reference27Ideal.main_arg21) = m ((c.tc : Thread Cert.Reference27Ideal.nD Cert.Reference27Ideal.τ).loc Cert.Reference27Ideal.main_arg21)
      ∧ r.2.mem ((c.tc : Thread Cert.Reference27Ideal.nD Cert.Reference27Ideal.τ).loc Cert.Reference27Ideal.main_arg22) = m ((c.tc : Thread Cert.Reference27Ideal.nD Cert.Reference27Ideal.τ).loc Cert.Reference27Ideal.main_arg22)
      ∧ r.2.mem ((c.tc : Thread Cert.Reference27Ideal.nD Cert.Reference27Ideal.τ).loc Cert.Reference27Ideal.main_arg23) = m ((c.tc : Thread Cert.Reference27Ideal.nD Cert.Reference27Ideal.τ).loc Cert.Reference27Ideal.main_arg23)
      ∧ r.2.mem ((c.tc : Thread Cert.Reference27Ideal.nD Cert.Reference27Ideal.τ).loc Cert.Reference27Ideal.main_arg24) = m ((c.tc : Thread Cert.Reference27Ideal.nD Cert.Reference27Ideal.τ).loc Cert.Reference27Ideal.main_arg24)
      ∧ r.2.mem ((c.tc : Thread Cert.Reference27Ideal.nD Cert.Reference27Ideal.τ).loc Cert.Reference27Ideal.main_arg25) = m ((c.tc : Thread Cert.Reference27Ideal.nD Cert.Reference27Ideal.τ).loc Cert.Reference27Ideal.main_arg25)
      ∧ r.2.mem ((c.tc : Thread Cert.Reference27Ideal.nD Cert.Reference27Ideal.τ).loc Cert.Reference27Ideal.main_arg26) = m ((c.tc : Thread Cert.Reference27Ideal.nD Cert.Reference27Ideal.τ).loc Cert.Reference27Ideal.main_arg26)
      ∧ r.2.mem ((c.tc : Thread Cert.Reference27Ideal.nD Cert.Reference27Ideal.τ).loc Cert.Reference27Ideal.main_arg27) = m ((c.tc : Thread Cert.Reference27Ideal.nD Cert.Reference27Ideal.τ).loc Cert.Reference27Ideal.main_arg27)
      ∧ r.2.mem ((c.tc : Thread Cert.Reference27Ideal.nD Cert.Reference27Ideal.τ).loc Cert.Reference27Ideal.main_arg28) = m ((c.tc : Thread Cert.Reference27Ideal.nD Cert.Reference27Ideal.τ).loc Cert.Reference27Ideal.main_arg28)
      ∧ r.2.mem ((c.tc : Thread Cert.Reference27Ideal.nD Cert.Reference27Ideal.τ).loc Cert.Reference27Ideal.main_arg29) = m ((c.tc : Thread Cert.Reference27Ideal.nD Cert.Reference27Ideal.τ).loc Cert.Reference27Ideal.main_arg29)
      ∧ r.2.mem ((c.tc : Thread Cert.Reference27Ideal.nD Cert.Reference27Ideal.τ).loc Cert.Reference27Ideal.main_arg30) = m ((c.tc : Thread Cert.Reference27Ideal.nD Cert.Reference27Ideal.τ).loc Cert.Reference27Ideal.main_arg30)
      ∧ r.2.mem ((c.tc : Thread Cert.Reference27Ideal.nD Cert.Reference27Ideal.τ).loc Cert.Reference27Ideal.main_arg31) = m ((c.tc : Thread Cert.Reference27Ideal.nD Cert.Reference27Ideal.τ).loc Cert.Reference27Ideal.main_arg31)
      ∧ r.2.mem ((c.tc : Thread Cert.Reference27Ideal.nD Cert.Reference27Ideal.τ).loc Cert.Reference27Ideal.main_arg32) = m ((c.tc : Thread Cert.Reference27Ideal.nD Cert.Reference27Ideal.τ).loc Cert.Reference27Ideal.main_arg32)
      ∧ r.2.mem ((c.tc : Thread Cert.Reference27Ideal.nD Cert.Reference27Ideal.τ).loc Cert.Reference27Ideal.main_arg33) = m ((c.tc : Thread Cert.Reference27Ideal.nD Cert.Reference27Ideal.τ).loc Cert.Reference27Ideal.main_arg33)
      ∧ r.2.mem ((c.tc : Thread Cert.Reference27Ideal.nD Cert.Reference27Ideal.τ).loc Cert.Reference27Ideal.main_arg34) = m ((c.tc : Thread Cert.Reference27Ideal.nD Cert.Reference27Ideal.τ).loc Cert.Reference27Ideal.main_arg34)
      ∧ r.2.mem ((c.tc : Thread Cert.Reference27Ideal.nD Cert.Reference27Ideal.τ).loc Cert.Reference27Ideal.main_arg35) = m ((c.tc : Thread Cert.Reference27Ideal.nD Cert.Reference27Ideal.τ).loc Cert.Reference27Ideal.main_arg35)
      ∧ r.2.mem ((c.tc : Thread Cert.Reference27Ideal.nD Cert.Reference27Ideal.τ).loc Cert.Reference27Ideal.main_arg36) = m ((c.tc : Thread Cert.Reference27Ideal.nD Cert.Reference27Ideal.τ).loc Cert.Reference27Ideal.main_arg36)
      ∧ r.2.mem ((c.tc : Thread Cert.Reference27Ideal.nD Cert.Reference27Ideal.τ).loc Cert.Reference27Ideal.main_arg37) = m ((c.tc : Thread Cert.Reference27Ideal.nD Cert.Reference27Ideal.τ).loc Cert.Reference27Ideal.main_arg37)
      ∧ r.2.mem ((c.tc : Thread Cert.Reference27Ideal.nD Cert.Reference27Ideal.τ).loc Cert.Reference27Ideal.main_arg38) = m ((c.tc : Thread Cert.Reference27Ideal.nD Cert.Reference27Ideal.τ).loc Cert.Reference27Ideal.main_arg38)
      ∧ r.2.mem ((c.tc : Thread Cert.Reference27Ideal.nD Cert.Reference27Ideal.τ).loc Cert.Reference27Ideal.main_arg39) = m ((c.tc : Thread Cert.Reference27Ideal.nD Cert.Reference27Ideal.τ).loc Cert.Reference27Ideal.main_arg39)
      ∧ r.2.mem ((c.tc : Thread Cert.Reference27Ideal.nD Cert.Reference27Ideal.τ).loc Cert.Reference27Ideal.main_arg40) = m ((c.tc : Thread Cert.Reference27Ideal.nD Cert.Reference27Ideal.τ).loc Cert.Reference27Ideal.main_arg40)
      ∧ r.2.mem ((c.tc : Thread Cert.Reference27Ideal.nD Cert.Reference27Ideal.τ).loc Cert.Reference27Ideal.main_arg41) = m ((c.tc : Thread Cert.Reference27Ideal.nD Cert.Reference27Ideal.τ).loc Cert.Reference27Ideal.main_arg41)
      ∧ r.2.mem ((c.tc : Thread Cert.Reference27Ideal.nD Cert.Reference27Ideal.τ).loc Cert.Reference27Ideal.main_arg42) = m ((c.tc : Thread Cert.Reference27Ideal.nD Cert.Reference27Ideal.τ).loc Cert.Reference27Ideal.main_arg42)
      ∧ r.2.mem ((c.tc : Thread Cert.Reference27Ideal.nD Cert.Reference27Ideal.τ).loc Cert.Reference27Ideal.main_arg43) = m ((c.tc : Thread Cert.Reference27Ideal.nD Cert.Reference27Ideal.τ).loc Cert.Reference27Ideal.main_arg43)
      ∧ r.2.mem ((c.tc : Thread Cert.Reference27Ideal.nD Cert.Reference27Ideal.τ).loc Cert.Reference27Ideal.main_arg44) = m ((c.tc : Thread Cert.Reference27Ideal.nD Cert.Reference27Ideal.τ).loc Cert.Reference27Ideal.main_arg44)
      ∧ r.2.mem ((c.tc : Thread Cert.Reference27Ideal.nD Cert.Reference27Ideal.τ).loc Cert.Reference27Ideal.main_arg45) = m ((c.tc : Thread Cert.Reference27Ideal.nD Cert.Reference27Ideal.τ).loc Cert.Reference27Ideal.main_arg45)
      ∧ r.2.mem ((c.tc : Thread Cert.Reference27Ideal.nD Cert.Reference27Ideal.τ).loc Cert.Reference27Ideal.main_arg46) = m ((c.tc : Thread Cert.Reference27Ideal.nD Cert.Reference27Ideal.τ).loc Cert.Reference27Ideal.main_arg46)
      ∧ r.2.mem ((c.tc : Thread Cert.Reference27Ideal.nD Cert.Reference27Ideal.τ).loc Cert.Reference27Ideal.main_arg47) = m ((c.tc : Thread Cert.Reference27Ideal.nD Cert.Reference27Ideal.τ).loc Cert.Reference27Ideal.main_arg47))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3)
      ∧ r.2.mem ((c.tc : Thread Cert.Kernel28.nD Cert.Kernel28.τ).loc Cert.Kernel28.main_arg4) = m ((c.tc : Thread Cert.Kernel28.nD Cert.Kernel28.τ).loc Cert.Kernel28.main_arg4)
      ∧ r.2.mem ((c.tc : Thread Cert.Kernel28.nD Cert.Kernel28.τ).loc Cert.Kernel28.main_arg5) = m ((c.tc : Thread Cert.Kernel28.nD Cert.Kernel28.τ).loc Cert.Kernel28.main_arg5)
      ∧ r.2.mem ((c.tc : Thread Cert.Kernel28.nD Cert.Kernel28.τ).loc Cert.Kernel28.main_arg6) = m ((c.tc : Thread Cert.Kernel28.nD Cert.Kernel28.τ).loc Cert.Kernel28.main_arg6)
      ∧ r.2.mem ((c.tc : Thread Cert.Kernel28.nD Cert.Kernel28.τ).loc Cert.Kernel28.main_arg7) = m ((c.tc : Thread Cert.Kernel28.nD Cert.Kernel28.τ).loc Cert.Kernel28.main_arg7)
      ∧ r.2.mem ((c.tc : Thread Cert.Kernel28.nD Cert.Kernel28.τ).loc Cert.Kernel28.main_arg8) = m ((c.tc : Thread Cert.Kernel28.nD Cert.Kernel28.τ).loc Cert.Kernel28.main_arg8)
      ∧ r.2.mem ((c.tc : Thread Cert.Kernel28.nD Cert.Kernel28.τ).loc Cert.Kernel28.main_arg9) = m ((c.tc : Thread Cert.Kernel28.nD Cert.Kernel28.τ).loc Cert.Kernel28.main_arg9)
      ∧ r.2.mem ((c.tc : Thread Cert.Kernel28.nD Cert.Kernel28.τ).loc Cert.Kernel28.main_arg10) = m ((c.tc : Thread Cert.Kernel28.nD Cert.Kernel28.τ).loc Cert.Kernel28.main_arg10)
      ∧ r.2.mem ((c.tc : Thread Cert.Kernel28.nD Cert.Kernel28.τ).loc Cert.Kernel28.main_arg11) = m ((c.tc : Thread Cert.Kernel28.nD Cert.Kernel28.τ).loc Cert.Kernel28.main_arg11)
      ∧ r.2.mem ((c.tc : Thread Cert.Kernel28.nD Cert.Kernel28.τ).loc Cert.Kernel28.main_arg12) = m ((c.tc : Thread Cert.Kernel28.nD Cert.Kernel28.τ).loc Cert.Kernel28.main_arg12)
      ∧ r.2.mem ((c.tc : Thread Cert.Kernel28.nD Cert.Kernel28.τ).loc Cert.Kernel28.main_arg13) = m ((c.tc : Thread Cert.Kernel28.nD Cert.Kernel28.τ).loc Cert.Kernel28.main_arg13)
      ∧ r.2.mem ((c.tc : Thread Cert.Kernel28.nD Cert.Kernel28.τ).loc Cert.Kernel28.main_arg14) = m ((c.tc : Thread Cert.Kernel28.nD Cert.Kernel28.τ).loc Cert.Kernel28.main_arg14)
      ∧ r.2.mem ((c.tc : Thread Cert.Kernel28.nD Cert.Kernel28.τ).loc Cert.Kernel28.main_arg15) = m ((c.tc : Thread Cert.Kernel28.nD Cert.Kernel28.τ).loc Cert.Kernel28.main_arg15)
      ∧ r.2.mem ((c.tc : Thread Cert.Kernel28.nD Cert.Kernel28.τ).loc Cert.Kernel28.main_arg16) = m ((c.tc : Thread Cert.Kernel28.nD Cert.Kernel28.τ).loc Cert.Kernel28.main_arg16)
      ∧ r.2.mem ((c.tc : Thread Cert.Kernel28.nD Cert.Kernel28.τ).loc Cert.Kernel28.main_arg17) = m ((c.tc : Thread Cert.Kernel28.nD Cert.Kernel28.τ).loc Cert.Kernel28.main_arg17)
      ∧ r.2.mem ((c.tc : Thread Cert.Kernel28.nD Cert.Kernel28.τ).loc Cert.Kernel28.main_arg18) = m ((c.tc : Thread Cert.Kernel28.nD Cert.Kernel28.τ).loc Cert.Kernel28.main_arg18)
      ∧ r.2.mem ((c.tc : Thread Cert.Kernel28.nD Cert.Kernel28.τ).loc Cert.Kernel28.main_arg19) = m ((c.tc : Thread Cert.Kernel28.nD Cert.Kernel28.τ).loc Cert.Kernel28.main_arg19)
      ∧ r.2.mem ((c.tc : Thread Cert.Kernel28.nD Cert.Kernel28.τ).loc Cert.Kernel28.main_arg20) = m ((c.tc : Thread Cert.Kernel28.nD Cert.Kernel28.τ).loc Cert.Kernel28.main_arg20)
      ∧ r.2.mem ((c.tc : Thread Cert.Kernel28.nD Cert.Kernel28.τ).loc Cert.Kernel28.main_arg21) = m ((c.tc : Thread Cert.Kernel28.nD Cert.Kernel28.τ).loc Cert.Kernel28.main_arg21)
      ∧ r.2.mem ((c.tc : Thread Cert.Kernel28.nD Cert.Kernel28.τ).loc Cert.Kernel28.main_arg22) = m ((c.tc : Thread Cert.Kernel28.nD Cert.Kernel28.τ).loc Cert.Kernel28.main_arg22)
      ∧ r.2.mem ((c.tc : Thread Cert.Kernel28.nD Cert.Kernel28.τ).loc Cert.Kernel28.main_arg23) = m ((c.tc : Thread Cert.Kernel28.nD Cert.Kernel28.τ).loc Cert.Kernel28.main_arg23)
      ∧ r.2.mem ((c.tc : Thread Cert.Kernel28.nD Cert.Kernel28.τ).loc Cert.Kernel28.main_arg24) = m ((c.tc : Thread Cert.Kernel28.nD Cert.Kernel28.τ).loc Cert.Kernel28.main_arg24)
      ∧ r.2.mem ((c.tc : Thread Cert.Kernel28.nD Cert.Kernel28.τ).loc Cert.Kernel28.main_arg25) = m ((c.tc : Thread Cert.Kernel28.nD Cert.Kernel28.τ).loc Cert.Kernel28.main_arg25)
      ∧ r.2.mem ((c.tc : Thread Cert.Kernel28.nD Cert.Kernel28.τ).loc Cert.Kernel28.main_arg26) = m ((c.tc : Thread Cert.Kernel28.nD Cert.Kernel28.τ).loc Cert.Kernel28.main_arg26)
      ∧ r.2.mem ((c.tc : Thread Cert.Kernel28.nD Cert.Kernel28.τ).loc Cert.Kernel28.main_arg27) = m ((c.tc : Thread Cert.Kernel28.nD Cert.Kernel28.τ).loc Cert.Kernel28.main_arg27)
      ∧ r.2.mem ((c.tc : Thread Cert.Kernel28.nD Cert.Kernel28.τ).loc Cert.Kernel28.main_arg28) = m ((c.tc : Thread Cert.Kernel28.nD Cert.Kernel28.τ).loc Cert.Kernel28.main_arg28)
      ∧ r.2.mem ((c.tc : Thread Cert.Kernel28.nD Cert.Kernel28.τ).loc Cert.Kernel28.main_arg29) = m ((c.tc : Thread Cert.Kernel28.nD Cert.Kernel28.τ).loc Cert.Kernel28.main_arg29)
      ∧ r.2.mem ((c.tc : Thread Cert.Kernel28.nD Cert.Kernel28.τ).loc Cert.Kernel28.main_arg30) = m ((c.tc : Thread Cert.Kernel28.nD Cert.Kernel28.τ).loc Cert.Kernel28.main_arg30)
      ∧ r.2.mem ((c.tc : Thread Cert.Kernel28.nD Cert.Kernel28.τ).loc Cert.Kernel28.main_arg31) = m ((c.tc : Thread Cert.Kernel28.nD Cert.Kernel28.τ).loc Cert.Kernel28.main_arg31)
      ∧ r.2.mem ((c.tc : Thread Cert.Kernel28.nD Cert.Kernel28.τ).loc Cert.Kernel28.main_arg32) = m ((c.tc : Thread Cert.Kernel28.nD Cert.Kernel28.τ).loc Cert.Kernel28.main_arg32)
      ∧ r.2.mem ((c.tc : Thread Cert.Kernel28.nD Cert.Kernel28.τ).loc Cert.Kernel28.main_arg33) = m ((c.tc : Thread Cert.Kernel28.nD Cert.Kernel28.τ).loc Cert.Kernel28.main_arg33)
      ∧ r.2.mem ((c.tc : Thread Cert.Kernel28.nD Cert.Kernel28.τ).loc Cert.Kernel28.main_arg34) = m ((c.tc : Thread Cert.Kernel28.nD Cert.Kernel28.τ).loc Cert.Kernel28.main_arg34)
      ∧ r.2.mem ((c.tc : Thread Cert.Kernel28.nD Cert.Kernel28.τ).loc Cert.Kernel28.main_arg35) = m ((c.tc : Thread Cert.Kernel28.nD Cert.Kernel28.τ).loc Cert.Kernel28.main_arg35)
      ∧ r.2.mem ((c.tc : Thread Cert.Kernel28.nD Cert.Kernel28.τ).loc Cert.Kernel28.main_arg36) = m ((c.tc : Thread Cert.Kernel28.nD Cert.Kernel28.τ).loc Cert.Kernel28.main_arg36)
      ∧ r.2.mem ((c.tc : Thread Cert.Kernel28.nD Cert.Kernel28.τ).loc Cert.Kernel28.main_arg37) = m ((c.tc : Thread Cert.Kernel28.nD Cert.Kernel28.τ).loc Cert.Kernel28.main_arg37)
      ∧ r.2.mem ((c.tc : Thread Cert.Kernel28.nD Cert.Kernel28.τ).loc Cert.Kernel28.main_arg38) = m ((c.tc : Thread Cert.Kernel28.nD Cert.Kernel28.τ).loc Cert.Kernel28.main_arg38)
      ∧ r.2.mem ((c.tc : Thread Cert.Kernel28.nD Cert.Kernel28.τ).loc Cert.Kernel28.main_arg39) = m ((c.tc : Thread Cert.Kernel28.nD Cert.Kernel28.τ).loc Cert.Kernel28.main_arg39)
      ∧ r.2.mem ((c.tc : Thread Cert.Kernel28.nD Cert.Kernel28.τ).loc Cert.Kernel28.main_arg40) = m ((c.tc : Thread Cert.Kernel28.nD Cert.Kernel28.τ).loc Cert.Kernel28.main_arg40)
      ∧ r.2.mem ((c.tc : Thread Cert.Kernel28.nD Cert.Kernel28.τ).loc Cert.Kernel28.main_arg41) = m ((c.tc : Thread Cert.Kernel28.nD Cert.Kernel28.τ).loc Cert.Kernel28.main_arg41)
      ∧ r.2.mem ((c.tc : Thread Cert.Kernel28.nD Cert.Kernel28.τ).loc Cert.Kernel28.main_arg42) = m ((c.tc : Thread Cert.Kernel28.nD Cert.Kernel28.τ).loc Cert.Kernel28.main_arg42)
      ∧ r.2.mem ((c.tc : Thread Cert.Kernel28.nD Cert.Kernel28.τ).loc Cert.Kernel28.main_arg43) = m ((c.tc : Thread Cert.Kernel28.nD Cert.Kernel28.τ).loc Cert.Kernel28.main_arg43)
      ∧ r.2.mem ((c.tc : Thread Cert.Kernel28.nD Cert.Kernel28.τ).loc Cert.Kernel28.main_arg44) = m ((c.tc : Thread Cert.Kernel28.nD Cert.Kernel28.τ).loc Cert.Kernel28.main_arg44)
      ∧ r.2.mem ((c.tc : Thread Cert.Kernel28.nD Cert.Kernel28.τ).loc Cert.Kernel28.main_arg45) = m ((c.tc : Thread Cert.Kernel28.nD Cert.Kernel28.τ).loc Cert.Kernel28.main_arg45)
      ∧ r.2.mem ((c.tc : Thread Cert.Kernel28.nD Cert.Kernel28.τ).loc Cert.Kernel28.main_arg46) = m ((c.tc : Thread Cert.Kernel28.nD Cert.Kernel28.τ).loc Cert.Kernel28.main_arg46)
      ∧ r.2.mem ((c.tc : Thread Cert.Kernel28.nD Cert.Kernel28.τ).loc Cert.Kernel28.main_arg47) = m ((c.tc : Thread Cert.Kernel28.nD Cert.Kernel28.τ).loc Cert.Kernel28.main_arg47))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
      ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4)
      ∧ r.2.mem ((c.tc : Thread Cert.Kernel28Ideal.nD Cert.Kernel28Ideal.τ).loc Cert.Kernel28Ideal.main_arg5) = m ((c.tc : Thread Cert.Kernel28Ideal.nD Cert.Kernel28Ideal.τ).loc Cert.Kernel28Ideal.main_arg5)
      ∧ r.2.mem ((c.tc : Thread Cert.Kernel28Ideal.nD Cert.Kernel28Ideal.τ).loc Cert.Kernel28Ideal.main_arg6) = m ((c.tc : Thread Cert.Kernel28Ideal.nD Cert.Kernel28Ideal.τ).loc Cert.Kernel28Ideal.main_arg6)
      ∧ r.2.mem ((c.tc : Thread Cert.Kernel28Ideal.nD Cert.Kernel28Ideal.τ).loc Cert.Kernel28Ideal.main_arg7) = m ((c.tc : Thread Cert.Kernel28Ideal.nD Cert.Kernel28Ideal.τ).loc Cert.Kernel28Ideal.main_arg7)
      ∧ r.2.mem ((c.tc : Thread Cert.Kernel28Ideal.nD Cert.Kernel28Ideal.τ).loc Cert.Kernel28Ideal.main_arg8) = m ((c.tc : Thread Cert.Kernel28Ideal.nD Cert.Kernel28Ideal.τ).loc Cert.Kernel28Ideal.main_arg8)
      ∧ r.2.mem ((c.tc : Thread Cert.Kernel28Ideal.nD Cert.Kernel28Ideal.τ).loc Cert.Kernel28Ideal.main_arg9) = m ((c.tc : Thread Cert.Kernel28Ideal.nD Cert.Kernel28Ideal.τ).loc Cert.Kernel28Ideal.main_arg9)
      ∧ r.2.mem ((c.tc : Thread Cert.Kernel28Ideal.nD Cert.Kernel28Ideal.τ).loc Cert.Kernel28Ideal.main_arg10) = m ((c.tc : Thread Cert.Kernel28Ideal.nD Cert.Kernel28Ideal.τ).loc Cert.Kernel28Ideal.main_arg10)
      ∧ r.2.mem ((c.tc : Thread Cert.Kernel28Ideal.nD Cert.Kernel28Ideal.τ).loc Cert.Kernel28Ideal.main_arg11) = m ((c.tc : Thread Cert.Kernel28Ideal.nD Cert.Kernel28Ideal.τ).loc Cert.Kernel28Ideal.main_arg11)
      ∧ r.2.mem ((c.tc : Thread Cert.Kernel28Ideal.nD Cert.Kernel28Ideal.τ).loc Cert.Kernel28Ideal.main_arg12) = m ((c.tc : Thread Cert.Kernel28Ideal.nD Cert.Kernel28Ideal.τ).loc Cert.Kernel28Ideal.main_arg12)
      ∧ r.2.mem ((c.tc : Thread Cert.Kernel28Ideal.nD Cert.Kernel28Ideal.τ).loc Cert.Kernel28Ideal.main_arg13) = m ((c.tc : Thread Cert.Kernel28Ideal.nD Cert.Kernel28Ideal.τ).loc Cert.Kernel28Ideal.main_arg13)
      ∧ r.2.mem ((c.tc : Thread Cert.Kernel28Ideal.nD Cert.Kernel28Ideal.τ).loc Cert.Kernel28Ideal.main_arg14) = m ((c.tc : Thread Cert.Kernel28Ideal.nD Cert.Kernel28Ideal.τ).loc Cert.Kernel28Ideal.main_arg14)
      ∧ r.2.mem ((c.tc : Thread Cert.Kernel28Ideal.nD Cert.Kernel28Ideal.τ).loc Cert.Kernel28Ideal.main_arg15) = m ((c.tc : Thread Cert.Kernel28Ideal.nD Cert.Kernel28Ideal.τ).loc Cert.Kernel28Ideal.main_arg15)
      ∧ r.2.mem ((c.tc : Thread Cert.Kernel28Ideal.nD Cert.Kernel28Ideal.τ).loc Cert.Kernel28Ideal.main_arg16) = m ((c.tc : Thread Cert.Kernel28Ideal.nD Cert.Kernel28Ideal.τ).loc Cert.Kernel28Ideal.main_arg16)
      ∧ r.2.mem ((c.tc : Thread Cert.Kernel28Ideal.nD Cert.Kernel28Ideal.τ).loc Cert.Kernel28Ideal.main_arg17) = m ((c.tc : Thread Cert.Kernel28Ideal.nD Cert.Kernel28Ideal.τ).loc Cert.Kernel28Ideal.main_arg17)
      ∧ r.2.mem ((c.tc : Thread Cert.Kernel28Ideal.nD Cert.Kernel28Ideal.τ).loc Cert.Kernel28Ideal.main_arg18) = m ((c.tc : Thread Cert.Kernel28Ideal.nD Cert.Kernel28Ideal.τ).loc Cert.Kernel28Ideal.main_arg18)
      ∧ r.2.mem ((c.tc : Thread Cert.Kernel28Ideal.nD Cert.Kernel28Ideal.τ).loc Cert.Kernel28Ideal.main_arg19) = m ((c.tc : Thread Cert.Kernel28Ideal.nD Cert.Kernel28Ideal.τ).loc Cert.Kernel28Ideal.main_arg19)
      ∧ r.2.mem ((c.tc : Thread Cert.Kernel28Ideal.nD Cert.Kernel28Ideal.τ).loc Cert.Kernel28Ideal.main_arg20) = m ((c.tc : Thread Cert.Kernel28Ideal.nD Cert.Kernel28Ideal.τ).loc Cert.Kernel28Ideal.main_arg20)
      ∧ r.2.mem ((c.tc : Thread Cert.Kernel28Ideal.nD Cert.Kernel28Ideal.τ).loc Cert.Kernel28Ideal.main_arg21) = m ((c.tc : Thread Cert.Kernel28Ideal.nD Cert.Kernel28Ideal.τ).loc Cert.Kernel28Ideal.main_arg21)
      ∧ r.2.mem ((c.tc : Thread Cert.Kernel28Ideal.nD Cert.Kernel28Ideal.τ).loc Cert.Kernel28Ideal.main_arg22) = m ((c.tc : Thread Cert.Kernel28Ideal.nD Cert.Kernel28Ideal.τ).loc Cert.Kernel28Ideal.main_arg22)
      ∧ r.2.mem ((c.tc : Thread Cert.Kernel28Ideal.nD Cert.Kernel28Ideal.τ).loc Cert.Kernel28Ideal.main_arg23) = m ((c.tc : Thread Cert.Kernel28Ideal.nD Cert.Kernel28Ideal.τ).loc Cert.Kernel28Ideal.main_arg23)
      ∧ r.2.mem ((c.tc : Thread Cert.Kernel28Ideal.nD Cert.Kernel28Ideal.τ).loc Cert.Kernel28Ideal.main_arg24) = m ((c.tc : Thread Cert.Kernel28Ideal.nD Cert.Kernel28Ideal.τ).loc Cert.Kernel28Ideal.main_arg24)
      ∧ r.2.mem ((c.tc : Thread Cert.Kernel28Ideal.nD Cert.Kernel28Ideal.τ).loc Cert.Kernel28Ideal.main_arg25) = m ((c.tc : Thread Cert.Kernel28Ideal.nD Cert.Kernel28Ideal.τ).loc Cert.Kernel28Ideal.main_arg25)
      ∧ r.2.mem ((c.tc : Thread Cert.Kernel28Ideal.nD Cert.Kernel28Ideal.τ).loc Cert.Kernel28Ideal.main_arg26) = m ((c.tc : Thread Cert.Kernel28Ideal.nD Cert.Kernel28Ideal.τ).loc Cert.Kernel28Ideal.main_arg26)
      ∧ r.2.mem ((c.tc : Thread Cert.Kernel28Ideal.nD Cert.Kernel28Ideal.τ).loc Cert.Kernel28Ideal.main_arg27) = m ((c.tc : Thread Cert.Kernel28Ideal.nD Cert.Kernel28Ideal.τ).loc Cert.Kernel28Ideal.main_arg27)
      ∧ r.2.mem ((c.tc : Thread Cert.Kernel28Ideal.nD Cert.Kernel28Ideal.τ).loc Cert.Kernel28Ideal.main_arg28) = m ((c.tc : Thread Cert.Kernel28Ideal.nD Cert.Kernel28Ideal.τ).loc Cert.Kernel28Ideal.main_arg28)
      ∧ r.2.mem ((c.tc : Thread Cert.Kernel28Ideal.nD Cert.Kernel28Ideal.τ).loc Cert.Kernel28Ideal.main_arg29) = m ((c.tc : Thread Cert.Kernel28Ideal.nD Cert.Kernel28Ideal.τ).loc Cert.Kernel28Ideal.main_arg29)
      ∧ r.2.mem ((c.tc : Thread Cert.Kernel28Ideal.nD Cert.Kernel28Ideal.τ).loc Cert.Kernel28Ideal.main_arg30) = m ((c.tc : Thread Cert.Kernel28Ideal.nD Cert.Kernel28Ideal.τ).loc Cert.Kernel28Ideal.main_arg30)
      ∧ r.2.mem ((c.tc : Thread Cert.Kernel28Ideal.nD Cert.Kernel28Ideal.τ).loc Cert.Kernel28Ideal.main_arg31) = m ((c.tc : Thread Cert.Kernel28Ideal.nD Cert.Kernel28Ideal.τ).loc Cert.Kernel28Ideal.main_arg31)
      ∧ r.2.mem ((c.tc : Thread Cert.Kernel28Ideal.nD Cert.Kernel28Ideal.τ).loc Cert.Kernel28Ideal.main_arg32) = m ((c.tc : Thread Cert.Kernel28Ideal.nD Cert.Kernel28Ideal.τ).loc Cert.Kernel28Ideal.main_arg32)
      ∧ r.2.mem ((c.tc : Thread Cert.Kernel28Ideal.nD Cert.Kernel28Ideal.τ).loc Cert.Kernel28Ideal.main_arg33) = m ((c.tc : Thread Cert.Kernel28Ideal.nD Cert.Kernel28Ideal.τ).loc Cert.Kernel28Ideal.main_arg33)
      ∧ r.2.mem ((c.tc : Thread Cert.Kernel28Ideal.nD Cert.Kernel28Ideal.τ).loc Cert.Kernel28Ideal.main_arg34) = m ((c.tc : Thread Cert.Kernel28Ideal.nD Cert.Kernel28Ideal.τ).loc Cert.Kernel28Ideal.main_arg34)
      ∧ r.2.mem ((c.tc : Thread Cert.Kernel28Ideal.nD Cert.Kernel28Ideal.τ).loc Cert.Kernel28Ideal.main_arg35) = m ((c.tc : Thread Cert.Kernel28Ideal.nD Cert.Kernel28Ideal.τ).loc Cert.Kernel28Ideal.main_arg35)
      ∧ r.2.mem ((c.tc : Thread Cert.Kernel28Ideal.nD Cert.Kernel28Ideal.τ).loc Cert.Kernel28Ideal.main_arg36) = m ((c.tc : Thread Cert.Kernel28Ideal.nD Cert.Kernel28Ideal.τ).loc Cert.Kernel28Ideal.main_arg36)
      ∧ r.2.mem ((c.tc : Thread Cert.Kernel28Ideal.nD Cert.Kernel28Ideal.τ).loc Cert.Kernel28Ideal.main_arg37) = m ((c.tc : Thread Cert.Kernel28Ideal.nD Cert.Kernel28Ideal.τ).loc Cert.Kernel28Ideal.main_arg37)
      ∧ r.2.mem ((c.tc : Thread Cert.Kernel28Ideal.nD Cert.Kernel28Ideal.τ).loc Cert.Kernel28Ideal.main_arg38) = m ((c.tc : Thread Cert.Kernel28Ideal.nD Cert.Kernel28Ideal.τ).loc Cert.Kernel28Ideal.main_arg38)
      ∧ r.2.mem ((c.tc : Thread Cert.Kernel28Ideal.nD Cert.Kernel28Ideal.τ).loc Cert.Kernel28Ideal.main_arg39) = m ((c.tc : Thread Cert.Kernel28Ideal.nD Cert.Kernel28Ideal.τ).loc Cert.Kernel28Ideal.main_arg39)
      ∧ r.2.mem ((c.tc : Thread Cert.Kernel28Ideal.nD Cert.Kernel28Ideal.τ).loc Cert.Kernel28Ideal.main_arg40) = m ((c.tc : Thread Cert.Kernel28Ideal.nD Cert.Kernel28Ideal.τ).loc Cert.Kernel28Ideal.main_arg40)
      ∧ r.2.mem ((c.tc : Thread Cert.Kernel28Ideal.nD Cert.Kernel28Ideal.τ).loc Cert.Kernel28Ideal.main_arg41) = m ((c.tc : Thread Cert.Kernel28Ideal.nD Cert.Kernel28Ideal.τ).loc Cert.Kernel28Ideal.main_arg41)
      ∧ r.2.mem ((c.tc : Thread Cert.Kernel28Ideal.nD Cert.Kernel28Ideal.τ).loc Cert.Kernel28Ideal.main_arg42) = m ((c.tc : Thread Cert.Kernel28Ideal.nD Cert.Kernel28Ideal.τ).loc Cert.Kernel28Ideal.main_arg42)
      ∧ r.2.mem ((c.tc : Thread Cert.Kernel28Ideal.nD Cert.Kernel28Ideal.τ).loc Cert.Kernel28Ideal.main_arg43) = m ((c.tc : Thread Cert.Kernel28Ideal.nD Cert.Kernel28Ideal.τ).loc Cert.Kernel28Ideal.main_arg43)
      ∧ r.2.mem ((c.tc : Thread Cert.Kernel28Ideal.nD Cert.Kernel28Ideal.τ).loc Cert.Kernel28Ideal.main_arg44) = m ((c.tc : Thread Cert.Kernel28Ideal.nD Cert.Kernel28Ideal.τ).loc Cert.Kernel28Ideal.main_arg44)
      ∧ r.2.mem ((c.tc : Thread Cert.Kernel28Ideal.nD Cert.Kernel28Ideal.τ).loc Cert.Kernel28Ideal.main_arg45) = m ((c.tc : Thread Cert.Kernel28Ideal.nD Cert.Kernel28Ideal.τ).loc Cert.Kernel28Ideal.main_arg45)
      ∧ r.2.mem ((c.tc : Thread Cert.Kernel28Ideal.nD Cert.Kernel28Ideal.τ).loc Cert.Kernel28Ideal.main_arg46) = m ((c.tc : Thread Cert.Kernel28Ideal.nD Cert.Kernel28Ideal.τ).loc Cert.Kernel28Ideal.main_arg46)
      ∧ r.2.mem ((c.tc : Thread Cert.Kernel28Ideal.nD Cert.Kernel28Ideal.τ).loc Cert.Kernel28Ideal.main_arg47) = m ((c.tc : Thread Cert.Kernel28Ideal.nD Cert.Kernel28Ideal.τ).loc Cert.Kernel28Ideal.main_arg47))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3)
      ∧ r.2.mem ((c.tc : Thread Cert.Reference28Ideal.nD Cert.Reference28Ideal.τ).loc Cert.Reference28Ideal.main_arg4) = m ((c.tc : Thread Cert.Reference28Ideal.nD Cert.Reference28Ideal.τ).loc Cert.Reference28Ideal.main_arg4)
      ∧ r.2.mem ((c.tc : Thread Cert.Reference28Ideal.nD Cert.Reference28Ideal.τ).loc Cert.Reference28Ideal.main_arg5) = m ((c.tc : Thread Cert.Reference28Ideal.nD Cert.Reference28Ideal.τ).loc Cert.Reference28Ideal.main_arg5)
      ∧ r.2.mem ((c.tc : Thread Cert.Reference28Ideal.nD Cert.Reference28Ideal.τ).loc Cert.Reference28Ideal.main_arg6) = m ((c.tc : Thread Cert.Reference28Ideal.nD Cert.Reference28Ideal.τ).loc Cert.Reference28Ideal.main_arg6)
      ∧ r.2.mem ((c.tc : Thread Cert.Reference28Ideal.nD Cert.Reference28Ideal.τ).loc Cert.Reference28Ideal.main_arg7) = m ((c.tc : Thread Cert.Reference28Ideal.nD Cert.Reference28Ideal.τ).loc Cert.Reference28Ideal.main_arg7)
      ∧ r.2.mem ((c.tc : Thread Cert.Reference28Ideal.nD Cert.Reference28Ideal.τ).loc Cert.Reference28Ideal.main_arg8) = m ((c.tc : Thread Cert.Reference28Ideal.nD Cert.Reference28Ideal.τ).loc Cert.Reference28Ideal.main_arg8)
      ∧ r.2.mem ((c.tc : Thread Cert.Reference28Ideal.nD Cert.Reference28Ideal.τ).loc Cert.Reference28Ideal.main_arg9) = m ((c.tc : Thread Cert.Reference28Ideal.nD Cert.Reference28Ideal.τ).loc Cert.Reference28Ideal.main_arg9)
      ∧ r.2.mem ((c.tc : Thread Cert.Reference28Ideal.nD Cert.Reference28Ideal.τ).loc Cert.Reference28Ideal.main_arg10) = m ((c.tc : Thread Cert.Reference28Ideal.nD Cert.Reference28Ideal.τ).loc Cert.Reference28Ideal.main_arg10)
      ∧ r.2.mem ((c.tc : Thread Cert.Reference28Ideal.nD Cert.Reference28Ideal.τ).loc Cert.Reference28Ideal.main_arg11) = m ((c.tc : Thread Cert.Reference28Ideal.nD Cert.Reference28Ideal.τ).loc Cert.Reference28Ideal.main_arg11)
      ∧ r.2.mem ((c.tc : Thread Cert.Reference28Ideal.nD Cert.Reference28Ideal.τ).loc Cert.Reference28Ideal.main_arg12) = m ((c.tc : Thread Cert.Reference28Ideal.nD Cert.Reference28Ideal.τ).loc Cert.Reference28Ideal.main_arg12)
      ∧ r.2.mem ((c.tc : Thread Cert.Reference28Ideal.nD Cert.Reference28Ideal.τ).loc Cert.Reference28Ideal.main_arg13) = m ((c.tc : Thread Cert.Reference28Ideal.nD Cert.Reference28Ideal.τ).loc Cert.Reference28Ideal.main_arg13)
      ∧ r.2.mem ((c.tc : Thread Cert.Reference28Ideal.nD Cert.Reference28Ideal.τ).loc Cert.Reference28Ideal.main_arg14) = m ((c.tc : Thread Cert.Reference28Ideal.nD Cert.Reference28Ideal.τ).loc Cert.Reference28Ideal.main_arg14)
      ∧ r.2.mem ((c.tc : Thread Cert.Reference28Ideal.nD Cert.Reference28Ideal.τ).loc Cert.Reference28Ideal.main_arg15) = m ((c.tc : Thread Cert.Reference28Ideal.nD Cert.Reference28Ideal.τ).loc Cert.Reference28Ideal.main_arg15)
      ∧ r.2.mem ((c.tc : Thread Cert.Reference28Ideal.nD Cert.Reference28Ideal.τ).loc Cert.Reference28Ideal.main_arg16) = m ((c.tc : Thread Cert.Reference28Ideal.nD Cert.Reference28Ideal.τ).loc Cert.Reference28Ideal.main_arg16)
      ∧ r.2.mem ((c.tc : Thread Cert.Reference28Ideal.nD Cert.Reference28Ideal.τ).loc Cert.Reference28Ideal.main_arg17) = m ((c.tc : Thread Cert.Reference28Ideal.nD Cert.Reference28Ideal.τ).loc Cert.Reference28Ideal.main_arg17)
      ∧ r.2.mem ((c.tc : Thread Cert.Reference28Ideal.nD Cert.Reference28Ideal.τ).loc Cert.Reference28Ideal.main_arg18) = m ((c.tc : Thread Cert.Reference28Ideal.nD Cert.Reference28Ideal.τ).loc Cert.Reference28Ideal.main_arg18)
      ∧ r.2.mem ((c.tc : Thread Cert.Reference28Ideal.nD Cert.Reference28Ideal.τ).loc Cert.Reference28Ideal.main_arg19) = m ((c.tc : Thread Cert.Reference28Ideal.nD Cert.Reference28Ideal.τ).loc Cert.Reference28Ideal.main_arg19)
      ∧ r.2.mem ((c.tc : Thread Cert.Reference28Ideal.nD Cert.Reference28Ideal.τ).loc Cert.Reference28Ideal.main_arg20) = m ((c.tc : Thread Cert.Reference28Ideal.nD Cert.Reference28Ideal.τ).loc Cert.Reference28Ideal.main_arg20)
      ∧ r.2.mem ((c.tc : Thread Cert.Reference28Ideal.nD Cert.Reference28Ideal.τ).loc Cert.Reference28Ideal.main_arg21) = m ((c.tc : Thread Cert.Reference28Ideal.nD Cert.Reference28Ideal.τ).loc Cert.Reference28Ideal.main_arg21)
      ∧ r.2.mem ((c.tc : Thread Cert.Reference28Ideal.nD Cert.Reference28Ideal.τ).loc Cert.Reference28Ideal.main_arg22) = m ((c.tc : Thread Cert.Reference28Ideal.nD Cert.Reference28Ideal.τ).loc Cert.Reference28Ideal.main_arg22)
      ∧ r.2.mem ((c.tc : Thread Cert.Reference28Ideal.nD Cert.Reference28Ideal.τ).loc Cert.Reference28Ideal.main_arg23) = m ((c.tc : Thread Cert.Reference28Ideal.nD Cert.Reference28Ideal.τ).loc Cert.Reference28Ideal.main_arg23)
      ∧ r.2.mem ((c.tc : Thread Cert.Reference28Ideal.nD Cert.Reference28Ideal.τ).loc Cert.Reference28Ideal.main_arg24) = m ((c.tc : Thread Cert.Reference28Ideal.nD Cert.Reference28Ideal.τ).loc Cert.Reference28Ideal.main_arg24)
      ∧ r.2.mem ((c.tc : Thread Cert.Reference28Ideal.nD Cert.Reference28Ideal.τ).loc Cert.Reference28Ideal.main_arg25) = m ((c.tc : Thread Cert.Reference28Ideal.nD Cert.Reference28Ideal.τ).loc Cert.Reference28Ideal.main_arg25)
      ∧ r.2.mem ((c.tc : Thread Cert.Reference28Ideal.nD Cert.Reference28Ideal.τ).loc Cert.Reference28Ideal.main_arg26) = m ((c.tc : Thread Cert.Reference28Ideal.nD Cert.Reference28Ideal.τ).loc Cert.Reference28Ideal.main_arg26)
      ∧ r.2.mem ((c.tc : Thread Cert.Reference28Ideal.nD Cert.Reference28Ideal.τ).loc Cert.Reference28Ideal.main_arg27) = m ((c.tc : Thread Cert.Reference28Ideal.nD Cert.Reference28Ideal.τ).loc Cert.Reference28Ideal.main_arg27)
      ∧ r.2.mem ((c.tc : Thread Cert.Reference28Ideal.nD Cert.Reference28Ideal.τ).loc Cert.Reference28Ideal.main_arg28) = m ((c.tc : Thread Cert.Reference28Ideal.nD Cert.Reference28Ideal.τ).loc Cert.Reference28Ideal.main_arg28)
      ∧ r.2.mem ((c.tc : Thread Cert.Reference28Ideal.nD Cert.Reference28Ideal.τ).loc Cert.Reference28Ideal.main_arg29) = m ((c.tc : Thread Cert.Reference28Ideal.nD Cert.Reference28Ideal.τ).loc Cert.Reference28Ideal.main_arg29)
      ∧ r.2.mem ((c.tc : Thread Cert.Reference28Ideal.nD Cert.Reference28Ideal.τ).loc Cert.Reference28Ideal.main_arg30) = m ((c.tc : Thread Cert.Reference28Ideal.nD Cert.Reference28Ideal.τ).loc Cert.Reference28Ideal.main_arg30)
      ∧ r.2.mem ((c.tc : Thread Cert.Reference28Ideal.nD Cert.Reference28Ideal.τ).loc Cert.Reference28Ideal.main_arg31) = m ((c.tc : Thread Cert.Reference28Ideal.nD Cert.Reference28Ideal.τ).loc Cert.Reference28Ideal.main_arg31)
      ∧ r.2.mem ((c.tc : Thread Cert.Reference28Ideal.nD Cert.Reference28Ideal.τ).loc Cert.Reference28Ideal.main_arg32) = m ((c.tc : Thread Cert.Reference28Ideal.nD Cert.Reference28Ideal.τ).loc Cert.Reference28Ideal.main_arg32)
      ∧ r.2.mem ((c.tc : Thread Cert.Reference28Ideal.nD Cert.Reference28Ideal.τ).loc Cert.Reference28Ideal.main_arg33) = m ((c.tc : Thread Cert.Reference28Ideal.nD Cert.Reference28Ideal.τ).loc Cert.Reference28Ideal.main_arg33)
      ∧ r.2.mem ((c.tc : Thread Cert.Reference28Ideal.nD Cert.Reference28Ideal.τ).loc Cert.Reference28Ideal.main_arg34) = m ((c.tc : Thread Cert.Reference28Ideal.nD Cert.Reference28Ideal.τ).loc Cert.Reference28Ideal.main_arg34)
      ∧ r.2.mem ((c.tc : Thread Cert.Reference28Ideal.nD Cert.Reference28Ideal.τ).loc Cert.Reference28Ideal.main_arg35) = m ((c.tc : Thread Cert.Reference28Ideal.nD Cert.Reference28Ideal.τ).loc Cert.Reference28Ideal.main_arg35)
      ∧ r.2.mem ((c.tc : Thread Cert.Reference28Ideal.nD Cert.Reference28Ideal.τ).loc Cert.Reference28Ideal.main_arg36) = m ((c.tc : Thread Cert.Reference28Ideal.nD Cert.Reference28Ideal.τ).loc Cert.Reference28Ideal.main_arg36)
      ∧ r.2.mem ((c.tc : Thread Cert.Reference28Ideal.nD Cert.Reference28Ideal.τ).loc Cert.Reference28Ideal.main_arg37) = m ((c.tc : Thread Cert.Reference28Ideal.nD Cert.Reference28Ideal.τ).loc Cert.Reference28Ideal.main_arg37)
      ∧ r.2.mem ((c.tc : Thread Cert.Reference28Ideal.nD Cert.Reference28Ideal.τ).loc Cert.Reference28Ideal.main_arg38) = m ((c.tc : Thread Cert.Reference28Ideal.nD Cert.Reference28Ideal.τ).loc Cert.Reference28Ideal.main_arg38)
      ∧ r.2.mem ((c.tc : Thread Cert.Reference28Ideal.nD Cert.Reference28Ideal.τ).loc Cert.Reference28Ideal.main_arg39) = m ((c.tc : Thread Cert.Reference28Ideal.nD Cert.Reference28Ideal.τ).loc Cert.Reference28Ideal.main_arg39)
      ∧ r.2.mem ((c.tc : Thread Cert.Reference28Ideal.nD Cert.Reference28Ideal.τ).loc Cert.Reference28Ideal.main_arg40) = m ((c.tc : Thread Cert.Reference28Ideal.nD Cert.Reference28Ideal.τ).loc Cert.Reference28Ideal.main_arg40)
      ∧ r.2.mem ((c.tc : Thread Cert.Reference28Ideal.nD Cert.Reference28Ideal.τ).loc Cert.Reference28Ideal.main_arg41) = m ((c.tc : Thread Cert.Reference28Ideal.nD Cert.Reference28Ideal.τ).loc Cert.Reference28Ideal.main_arg41)
      ∧ r.2.mem ((c.tc : Thread Cert.Reference28Ideal.nD Cert.Reference28Ideal.τ).loc Cert.Reference28Ideal.main_arg42) = m ((c.tc : Thread Cert.Reference28Ideal.nD Cert.Reference28Ideal.τ).loc Cert.Reference28Ideal.main_arg42)
      ∧ r.2.mem ((c.tc : Thread Cert.Reference28Ideal.nD Cert.Reference28Ideal.τ).loc Cert.Reference28Ideal.main_arg43) = m ((c.tc : Thread Cert.Reference28Ideal.nD Cert.Reference28Ideal.τ).loc Cert.Reference28Ideal.main_arg43)
      ∧ r.2.mem ((c.tc : Thread Cert.Reference28Ideal.nD Cert.Reference28Ideal.τ).loc Cert.Reference28Ideal.main_arg44) = m ((c.tc : Thread Cert.Reference28Ideal.nD Cert.Reference28Ideal.τ).loc Cert.Reference28Ideal.main_arg44)
      ∧ r.2.mem ((c.tc : Thread Cert.Reference28Ideal.nD Cert.Reference28Ideal.τ).loc Cert.Reference28Ideal.main_arg45) = m ((c.tc : Thread Cert.Reference28Ideal.nD Cert.Reference28Ideal.τ).loc Cert.Reference28Ideal.main_arg45)
      ∧ r.2.mem ((c.tc : Thread Cert.Reference28Ideal.nD Cert.Reference28Ideal.τ).loc Cert.Reference28Ideal.main_arg46) = m ((c.tc : Thread Cert.Reference28Ideal.nD Cert.Reference28Ideal.τ).loc Cert.Reference28Ideal.main_arg46)
      ∧ r.2.mem ((c.tc : Thread Cert.Reference28Ideal.nD Cert.Reference28Ideal.τ).loc Cert.Reference28Ideal.main_arg47) = m ((c.tc : Thread Cert.Reference28Ideal.nD Cert.Reference28Ideal.τ).loc Cert.Reference28Ideal.main_arg47))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3)
      ∧ r.2.mem ((c.tc : Thread Cert.Kernel29.nD Cert.Kernel29.τ).loc Cert.Kernel29.main_arg4) = m ((c.tc : Thread Cert.Kernel29.nD Cert.Kernel29.τ).loc Cert.Kernel29.main_arg4)
      ∧ r.2.mem ((c.tc : Thread Cert.Kernel29.nD Cert.Kernel29.τ).loc Cert.Kernel29.main_arg5) = m ((c.tc : Thread Cert.Kernel29.nD Cert.Kernel29.τ).loc Cert.Kernel29.main_arg5)
      ∧ r.2.mem ((c.tc : Thread Cert.Kernel29.nD Cert.Kernel29.τ).loc Cert.Kernel29.main_arg6) = m ((c.tc : Thread Cert.Kernel29.nD Cert.Kernel29.τ).loc Cert.Kernel29.main_arg6)
      ∧ r.2.mem ((c.tc : Thread Cert.Kernel29.nD Cert.Kernel29.τ).loc Cert.Kernel29.main_arg7) = m ((c.tc : Thread Cert.Kernel29.nD Cert.Kernel29.τ).loc Cert.Kernel29.main_arg7)
      ∧ r.2.mem ((c.tc : Thread Cert.Kernel29.nD Cert.Kernel29.τ).loc Cert.Kernel29.main_arg8) = m ((c.tc : Thread Cert.Kernel29.nD Cert.Kernel29.τ).loc Cert.Kernel29.main_arg8)
      ∧ r.2.mem ((c.tc : Thread Cert.Kernel29.nD Cert.Kernel29.τ).loc Cert.Kernel29.main_arg9) = m ((c.tc : Thread Cert.Kernel29.nD Cert.Kernel29.τ).loc Cert.Kernel29.main_arg9)
      ∧ r.2.mem ((c.tc : Thread Cert.Kernel29.nD Cert.Kernel29.τ).loc Cert.Kernel29.main_arg10) = m ((c.tc : Thread Cert.Kernel29.nD Cert.Kernel29.τ).loc Cert.Kernel29.main_arg10)
      ∧ r.2.mem ((c.tc : Thread Cert.Kernel29.nD Cert.Kernel29.τ).loc Cert.Kernel29.main_arg11) = m ((c.tc : Thread Cert.Kernel29.nD Cert.Kernel29.τ).loc Cert.Kernel29.main_arg11)
      ∧ r.2.mem ((c.tc : Thread Cert.Kernel29.nD Cert.Kernel29.τ).loc Cert.Kernel29.main_arg12) = m ((c.tc : Thread Cert.Kernel29.nD Cert.Kernel29.τ).loc Cert.Kernel29.main_arg12)
      ∧ r.2.mem ((c.tc : Thread Cert.Kernel29.nD Cert.Kernel29.τ).loc Cert.Kernel29.main_arg13) = m ((c.tc : Thread Cert.Kernel29.nD Cert.Kernel29.τ).loc Cert.Kernel29.main_arg13)
      ∧ r.2.mem ((c.tc : Thread Cert.Kernel29.nD Cert.Kernel29.τ).loc Cert.Kernel29.main_arg14) = m ((c.tc : Thread Cert.Kernel29.nD Cert.Kernel29.τ).loc Cert.Kernel29.main_arg14)
      ∧ r.2.mem ((c.tc : Thread Cert.Kernel29.nD Cert.Kernel29.τ).loc Cert.Kernel29.main_arg15) = m ((c.tc : Thread Cert.Kernel29.nD Cert.Kernel29.τ).loc Cert.Kernel29.main_arg15)
      ∧ r.2.mem ((c.tc : Thread Cert.Kernel29.nD Cert.Kernel29.τ).loc Cert.Kernel29.main_arg16) = m ((c.tc : Thread Cert.Kernel29.nD Cert.Kernel29.τ).loc Cert.Kernel29.main_arg16)
      ∧ r.2.mem ((c.tc : Thread Cert.Kernel29.nD Cert.Kernel29.τ).loc Cert.Kernel29.main_arg17) = m ((c.tc : Thread Cert.Kernel29.nD Cert.Kernel29.τ).loc Cert.Kernel29.main_arg17)
      ∧ r.2.mem ((c.tc : Thread Cert.Kernel29.nD Cert.Kernel29.τ).loc Cert.Kernel29.main_arg18) = m ((c.tc : Thread Cert.Kernel29.nD Cert.Kernel29.τ).loc Cert.Kernel29.main_arg18)
      ∧ r.2.mem ((c.tc : Thread Cert.Kernel29.nD Cert.Kernel29.τ).loc Cert.Kernel29.main_arg19) = m ((c.tc : Thread Cert.Kernel29.nD Cert.Kernel29.τ).loc Cert.Kernel29.main_arg19)
      ∧ r.2.mem ((c.tc : Thread Cert.Kernel29.nD Cert.Kernel29.τ).loc Cert.Kernel29.main_arg20) = m ((c.tc : Thread Cert.Kernel29.nD Cert.Kernel29.τ).loc Cert.Kernel29.main_arg20)
      ∧ r.2.mem ((c.tc : Thread Cert.Kernel29.nD Cert.Kernel29.τ).loc Cert.Kernel29.main_arg21) = m ((c.tc : Thread Cert.Kernel29.nD Cert.Kernel29.τ).loc Cert.Kernel29.main_arg21)
      ∧ r.2.mem ((c.tc : Thread Cert.Kernel29.nD Cert.Kernel29.τ).loc Cert.Kernel29.main_arg22) = m ((c.tc : Thread Cert.Kernel29.nD Cert.Kernel29.τ).loc Cert.Kernel29.main_arg22)
      ∧ r.2.mem ((c.tc : Thread Cert.Kernel29.nD Cert.Kernel29.τ).loc Cert.Kernel29.main_arg23) = m ((c.tc : Thread Cert.Kernel29.nD Cert.Kernel29.τ).loc Cert.Kernel29.main_arg23)
      ∧ r.2.mem ((c.tc : Thread Cert.Kernel29.nD Cert.Kernel29.τ).loc Cert.Kernel29.main_arg24) = m ((c.tc : Thread Cert.Kernel29.nD Cert.Kernel29.τ).loc Cert.Kernel29.main_arg24)
      ∧ r.2.mem ((c.tc : Thread Cert.Kernel29.nD Cert.Kernel29.τ).loc Cert.Kernel29.main_arg25) = m ((c.tc : Thread Cert.Kernel29.nD Cert.Kernel29.τ).loc Cert.Kernel29.main_arg25)
      ∧ r.2.mem ((c.tc : Thread Cert.Kernel29.nD Cert.Kernel29.τ).loc Cert.Kernel29.main_arg26) = m ((c.tc : Thread Cert.Kernel29.nD Cert.Kernel29.τ).loc Cert.Kernel29.main_arg26)
      ∧ r.2.mem ((c.tc : Thread Cert.Kernel29.nD Cert.Kernel29.τ).loc Cert.Kernel29.main_arg27) = m ((c.tc : Thread Cert.Kernel29.nD Cert.Kernel29.τ).loc Cert.Kernel29.main_arg27)
      ∧ r.2.mem ((c.tc : Thread Cert.Kernel29.nD Cert.Kernel29.τ).loc Cert.Kernel29.main_arg28) = m ((c.tc : Thread Cert.Kernel29.nD Cert.Kernel29.τ).loc Cert.Kernel29.main_arg28)
      ∧ r.2.mem ((c.tc : Thread Cert.Kernel29.nD Cert.Kernel29.τ).loc Cert.Kernel29.main_arg29) = m ((c.tc : Thread Cert.Kernel29.nD Cert.Kernel29.τ).loc Cert.Kernel29.main_arg29)
      ∧ r.2.mem ((c.tc : Thread Cert.Kernel29.nD Cert.Kernel29.τ).loc Cert.Kernel29.main_arg30) = m ((c.tc : Thread Cert.Kernel29.nD Cert.Kernel29.τ).loc Cert.Kernel29.main_arg30)
      ∧ r.2.mem ((c.tc : Thread Cert.Kernel29.nD Cert.Kernel29.τ).loc Cert.Kernel29.main_arg31) = m ((c.tc : Thread Cert.Kernel29.nD Cert.Kernel29.τ).loc Cert.Kernel29.main_arg31)
      ∧ r.2.mem ((c.tc : Thread Cert.Kernel29.nD Cert.Kernel29.τ).loc Cert.Kernel29.main_arg32) = m ((c.tc : Thread Cert.Kernel29.nD Cert.Kernel29.τ).loc Cert.Kernel29.main_arg32)
      ∧ r.2.mem ((c.tc : Thread Cert.Kernel29.nD Cert.Kernel29.τ).loc Cert.Kernel29.main_arg33) = m ((c.tc : Thread Cert.Kernel29.nD Cert.Kernel29.τ).loc Cert.Kernel29.main_arg33)
      ∧ r.2.mem ((c.tc : Thread Cert.Kernel29.nD Cert.Kernel29.τ).loc Cert.Kernel29.main_arg34) = m ((c.tc : Thread Cert.Kernel29.nD Cert.Kernel29.τ).loc Cert.Kernel29.main_arg34)
      ∧ r.2.mem ((c.tc : Thread Cert.Kernel29.nD Cert.Kernel29.τ).loc Cert.Kernel29.main_arg35) = m ((c.tc : Thread Cert.Kernel29.nD Cert.Kernel29.τ).loc Cert.Kernel29.main_arg35)
      ∧ r.2.mem ((c.tc : Thread Cert.Kernel29.nD Cert.Kernel29.τ).loc Cert.Kernel29.main_arg36) = m ((c.tc : Thread Cert.Kernel29.nD Cert.Kernel29.τ).loc Cert.Kernel29.main_arg36)
      ∧ r.2.mem ((c.tc : Thread Cert.Kernel29.nD Cert.Kernel29.τ).loc Cert.Kernel29.main_arg37) = m ((c.tc : Thread Cert.Kernel29.nD Cert.Kernel29.τ).loc Cert.Kernel29.main_arg37)
      ∧ r.2.mem ((c.tc : Thread Cert.Kernel29.nD Cert.Kernel29.τ).loc Cert.Kernel29.main_arg38) = m ((c.tc : Thread Cert.Kernel29.nD Cert.Kernel29.τ).loc Cert.Kernel29.main_arg38)
      ∧ r.2.mem ((c.tc : Thread Cert.Kernel29.nD Cert.Kernel29.τ).loc Cert.Kernel29.main_arg39) = m ((c.tc : Thread Cert.Kernel29.nD Cert.Kernel29.τ).loc Cert.Kernel29.main_arg39)
      ∧ r.2.mem ((c.tc : Thread Cert.Kernel29.nD Cert.Kernel29.τ).loc Cert.Kernel29.main_arg40) = m ((c.tc : Thread Cert.Kernel29.nD Cert.Kernel29.τ).loc Cert.Kernel29.main_arg40)
      ∧ r.2.mem ((c.tc : Thread Cert.Kernel29.nD Cert.Kernel29.τ).loc Cert.Kernel29.main_arg41) = m ((c.tc : Thread Cert.Kernel29.nD Cert.Kernel29.τ).loc Cert.Kernel29.main_arg41)
      ∧ r.2.mem ((c.tc : Thread Cert.Kernel29.nD Cert.Kernel29.τ).loc Cert.Kernel29.main_arg42) = m ((c.tc : Thread Cert.Kernel29.nD Cert.Kernel29.τ).loc Cert.Kernel29.main_arg42)
      ∧ r.2.mem ((c.tc : Thread Cert.Kernel29.nD Cert.Kernel29.τ).loc Cert.Kernel29.main_arg43) = m ((c.tc : Thread Cert.Kernel29.nD Cert.Kernel29.τ).loc Cert.Kernel29.main_arg43)
      ∧ r.2.mem ((c.tc : Thread Cert.Kernel29.nD Cert.Kernel29.τ).loc Cert.Kernel29.main_arg44) = m ((c.tc : Thread Cert.Kernel29.nD Cert.Kernel29.τ).loc Cert.Kernel29.main_arg44)
      ∧ r.2.mem ((c.tc : Thread Cert.Kernel29.nD Cert.Kernel29.τ).loc Cert.Kernel29.main_arg45) = m ((c.tc : Thread Cert.Kernel29.nD Cert.Kernel29.τ).loc Cert.Kernel29.main_arg45)
      ∧ r.2.mem ((c.tc : Thread Cert.Kernel29.nD Cert.Kernel29.τ).loc Cert.Kernel29.main_arg46) = m ((c.tc : Thread Cert.Kernel29.nD Cert.Kernel29.τ).loc Cert.Kernel29.main_arg46)
      ∧ r.2.mem ((c.tc : Thread Cert.Kernel29.nD Cert.Kernel29.τ).loc Cert.Kernel29.main_arg47) = m ((c.tc : Thread Cert.Kernel29.nD Cert.Kernel29.τ).loc Cert.Kernel29.main_arg47))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
      ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4)
      ∧ r.2.mem ((c.tc : Thread Cert.Kernel29Ideal.nD Cert.Kernel29Ideal.τ).loc Cert.Kernel29Ideal.main_arg5) = m ((c.tc : Thread Cert.Kernel29Ideal.nD Cert.Kernel29Ideal.τ).loc Cert.Kernel29Ideal.main_arg5)
      ∧ r.2.mem ((c.tc : Thread Cert.Kernel29Ideal.nD Cert.Kernel29Ideal.τ).loc Cert.Kernel29Ideal.main_arg6) = m ((c.tc : Thread Cert.Kernel29Ideal.nD Cert.Kernel29Ideal.τ).loc Cert.Kernel29Ideal.main_arg6)
      ∧ r.2.mem ((c.tc : Thread Cert.Kernel29Ideal.nD Cert.Kernel29Ideal.τ).loc Cert.Kernel29Ideal.main_arg7) = m ((c.tc : Thread Cert.Kernel29Ideal.nD Cert.Kernel29Ideal.τ).loc Cert.Kernel29Ideal.main_arg7)
      ∧ r.2.mem ((c.tc : Thread Cert.Kernel29Ideal.nD Cert.Kernel29Ideal.τ).loc Cert.Kernel29Ideal.main_arg8) = m ((c.tc : Thread Cert.Kernel29Ideal.nD Cert.Kernel29Ideal.τ).loc Cert.Kernel29Ideal.main_arg8)
      ∧ r.2.mem ((c.tc : Thread Cert.Kernel29Ideal.nD Cert.Kernel29Ideal.τ).loc Cert.Kernel29Ideal.main_arg9) = m ((c.tc : Thread Cert.Kernel29Ideal.nD Cert.Kernel29Ideal.τ).loc Cert.Kernel29Ideal.main_arg9)
      ∧ r.2.mem ((c.tc : Thread Cert.Kernel29Ideal.nD Cert.Kernel29Ideal.τ).loc Cert.Kernel29Ideal.main_arg10) = m ((c.tc : Thread Cert.Kernel29Ideal.nD Cert.Kernel29Ideal.τ).loc Cert.Kernel29Ideal.main_arg10)
      ∧ r.2.mem ((c.tc : Thread Cert.Kernel29Ideal.nD Cert.Kernel29Ideal.τ).loc Cert.Kernel29Ideal.main_arg11) = m ((c.tc : Thread Cert.Kernel29Ideal.nD Cert.Kernel29Ideal.τ).loc Cert.Kernel29Ideal.main_arg11)
      ∧ r.2.mem ((c.tc : Thread Cert.Kernel29Ideal.nD Cert.Kernel29Ideal.τ).loc Cert.Kernel29Ideal.main_arg12) = m ((c.tc : Thread Cert.Kernel29Ideal.nD Cert.Kernel29Ideal.τ).loc Cert.Kernel29Ideal.main_arg12)
      ∧ r.2.mem ((c.tc : Thread Cert.Kernel29Ideal.nD Cert.Kernel29Ideal.τ).loc Cert.Kernel29Ideal.main_arg13) = m ((c.tc : Thread Cert.Kernel29Ideal.nD Cert.Kernel29Ideal.τ).loc Cert.Kernel29Ideal.main_arg13)
      ∧ r.2.mem ((c.tc : Thread Cert.Kernel29Ideal.nD Cert.Kernel29Ideal.τ).loc Cert.Kernel29Ideal.main_arg14) = m ((c.tc : Thread Cert.Kernel29Ideal.nD Cert.Kernel29Ideal.τ).loc Cert.Kernel29Ideal.main_arg14)
      ∧ r.2.mem ((c.tc : Thread Cert.Kernel29Ideal.nD Cert.Kernel29Ideal.τ).loc Cert.Kernel29Ideal.main_arg15) = m ((c.tc : Thread Cert.Kernel29Ideal.nD Cert.Kernel29Ideal.τ).loc Cert.Kernel29Ideal.main_arg15)
      ∧ r.2.mem ((c.tc : Thread Cert.Kernel29Ideal.nD Cert.Kernel29Ideal.τ).loc Cert.Kernel29Ideal.main_arg16) = m ((c.tc : Thread Cert.Kernel29Ideal.nD Cert.Kernel29Ideal.τ).loc Cert.Kernel29Ideal.main_arg16)
      ∧ r.2.mem ((c.tc : Thread Cert.Kernel29Ideal.nD Cert.Kernel29Ideal.τ).loc Cert.Kernel29Ideal.main_arg17) = m ((c.tc : Thread Cert.Kernel29Ideal.nD Cert.Kernel29Ideal.τ).loc Cert.Kernel29Ideal.main_arg17)
      ∧ r.2.mem ((c.tc : Thread Cert.Kernel29Ideal.nD Cert.Kernel29Ideal.τ).loc Cert.Kernel29Ideal.main_arg18) = m ((c.tc : Thread Cert.Kernel29Ideal.nD Cert.Kernel29Ideal.τ).loc Cert.Kernel29Ideal.main_arg18)
      ∧ r.2.mem ((c.tc : Thread Cert.Kernel29Ideal.nD Cert.Kernel29Ideal.τ).loc Cert.Kernel29Ideal.main_arg19) = m ((c.tc : Thread Cert.Kernel29Ideal.nD Cert.Kernel29Ideal.τ).loc Cert.Kernel29Ideal.main_arg19)
      ∧ r.2.mem ((c.tc : Thread Cert.Kernel29Ideal.nD Cert.Kernel29Ideal.τ).loc Cert.Kernel29Ideal.main_arg20) = m ((c.tc : Thread Cert.Kernel29Ideal.nD Cert.Kernel29Ideal.τ).loc Cert.Kernel29Ideal.main_arg20)
      ∧ r.2.mem ((c.tc : Thread Cert.Kernel29Ideal.nD Cert.Kernel29Ideal.τ).loc Cert.Kernel29Ideal.main_arg21) = m ((c.tc : Thread Cert.Kernel29Ideal.nD Cert.Kernel29Ideal.τ).loc Cert.Kernel29Ideal.main_arg21)
      ∧ r.2.mem ((c.tc : Thread Cert.Kernel29Ideal.nD Cert.Kernel29Ideal.τ).loc Cert.Kernel29Ideal.main_arg22) = m ((c.tc : Thread Cert.Kernel29Ideal.nD Cert.Kernel29Ideal.τ).loc Cert.Kernel29Ideal.main_arg22)
      ∧ r.2.mem ((c.tc : Thread Cert.Kernel29Ideal.nD Cert.Kernel29Ideal.τ).loc Cert.Kernel29Ideal.main_arg23) = m ((c.tc : Thread Cert.Kernel29Ideal.nD Cert.Kernel29Ideal.τ).loc Cert.Kernel29Ideal.main_arg23)
      ∧ r.2.mem ((c.tc : Thread Cert.Kernel29Ideal.nD Cert.Kernel29Ideal.τ).loc Cert.Kernel29Ideal.main_arg24) = m ((c.tc : Thread Cert.Kernel29Ideal.nD Cert.Kernel29Ideal.τ).loc Cert.Kernel29Ideal.main_arg24)
      ∧ r.2.mem ((c.tc : Thread Cert.Kernel29Ideal.nD Cert.Kernel29Ideal.τ).loc Cert.Kernel29Ideal.main_arg25) = m ((c.tc : Thread Cert.Kernel29Ideal.nD Cert.Kernel29Ideal.τ).loc Cert.Kernel29Ideal.main_arg25)
      ∧ r.2.mem ((c.tc : Thread Cert.Kernel29Ideal.nD Cert.Kernel29Ideal.τ).loc Cert.Kernel29Ideal.main_arg26) = m ((c.tc : Thread Cert.Kernel29Ideal.nD Cert.Kernel29Ideal.τ).loc Cert.Kernel29Ideal.main_arg26)
      ∧ r.2.mem ((c.tc : Thread Cert.Kernel29Ideal.nD Cert.Kernel29Ideal.τ).loc Cert.Kernel29Ideal.main_arg27) = m ((c.tc : Thread Cert.Kernel29Ideal.nD Cert.Kernel29Ideal.τ).loc Cert.Kernel29Ideal.main_arg27)
      ∧ r.2.mem ((c.tc : Thread Cert.Kernel29Ideal.nD Cert.Kernel29Ideal.τ).loc Cert.Kernel29Ideal.main_arg28) = m ((c.tc : Thread Cert.Kernel29Ideal.nD Cert.Kernel29Ideal.τ).loc Cert.Kernel29Ideal.main_arg28)
      ∧ r.2.mem ((c.tc : Thread Cert.Kernel29Ideal.nD Cert.Kernel29Ideal.τ).loc Cert.Kernel29Ideal.main_arg29) = m ((c.tc : Thread Cert.Kernel29Ideal.nD Cert.Kernel29Ideal.τ).loc Cert.Kernel29Ideal.main_arg29)
      ∧ r.2.mem ((c.tc : Thread Cert.Kernel29Ideal.nD Cert.Kernel29Ideal.τ).loc Cert.Kernel29Ideal.main_arg30) = m ((c.tc : Thread Cert.Kernel29Ideal.nD Cert.Kernel29Ideal.τ).loc Cert.Kernel29Ideal.main_arg30)
      ∧ r.2.mem ((c.tc : Thread Cert.Kernel29Ideal.nD Cert.Kernel29Ideal.τ).loc Cert.Kernel29Ideal.main_arg31) = m ((c.tc : Thread Cert.Kernel29Ideal.nD Cert.Kernel29Ideal.τ).loc Cert.Kernel29Ideal.main_arg31)
      ∧ r.2.mem ((c.tc : Thread Cert.Kernel29Ideal.nD Cert.Kernel29Ideal.τ).loc Cert.Kernel29Ideal.main_arg32) = m ((c.tc : Thread Cert.Kernel29Ideal.nD Cert.Kernel29Ideal.τ).loc Cert.Kernel29Ideal.main_arg32)
      ∧ r.2.mem ((c.tc : Thread Cert.Kernel29Ideal.nD Cert.Kernel29Ideal.τ).loc Cert.Kernel29Ideal.main_arg33) = m ((c.tc : Thread Cert.Kernel29Ideal.nD Cert.Kernel29Ideal.τ).loc Cert.Kernel29Ideal.main_arg33)
      ∧ r.2.mem ((c.tc : Thread Cert.Kernel29Ideal.nD Cert.Kernel29Ideal.τ).loc Cert.Kernel29Ideal.main_arg34) = m ((c.tc : Thread Cert.Kernel29Ideal.nD Cert.Kernel29Ideal.τ).loc Cert.Kernel29Ideal.main_arg34)
      ∧ r.2.mem ((c.tc : Thread Cert.Kernel29Ideal.nD Cert.Kernel29Ideal.τ).loc Cert.Kernel29Ideal.main_arg35) = m ((c.tc : Thread Cert.Kernel29Ideal.nD Cert.Kernel29Ideal.τ).loc Cert.Kernel29Ideal.main_arg35)
      ∧ r.2.mem ((c.tc : Thread Cert.Kernel29Ideal.nD Cert.Kernel29Ideal.τ).loc Cert.Kernel29Ideal.main_arg36) = m ((c.tc : Thread Cert.Kernel29Ideal.nD Cert.Kernel29Ideal.τ).loc Cert.Kernel29Ideal.main_arg36)
      ∧ r.2.mem ((c.tc : Thread Cert.Kernel29Ideal.nD Cert.Kernel29Ideal.τ).loc Cert.Kernel29Ideal.main_arg37) = m ((c.tc : Thread Cert.Kernel29Ideal.nD Cert.Kernel29Ideal.τ).loc Cert.Kernel29Ideal.main_arg37)
      ∧ r.2.mem ((c.tc : Thread Cert.Kernel29Ideal.nD Cert.Kernel29Ideal.τ).loc Cert.Kernel29Ideal.main_arg38) = m ((c.tc : Thread Cert.Kernel29Ideal.nD Cert.Kernel29Ideal.τ).loc Cert.Kernel29Ideal.main_arg38)
      ∧ r.2.mem ((c.tc : Thread Cert.Kernel29Ideal.nD Cert.Kernel29Ideal.τ).loc Cert.Kernel29Ideal.main_arg39) = m ((c.tc : Thread Cert.Kernel29Ideal.nD Cert.Kernel29Ideal.τ).loc Cert.Kernel29Ideal.main_arg39)
      ∧ r.2.mem ((c.tc : Thread Cert.Kernel29Ideal.nD Cert.Kernel29Ideal.τ).loc Cert.Kernel29Ideal.main_arg40) = m ((c.tc : Thread Cert.Kernel29Ideal.nD Cert.Kernel29Ideal.τ).loc Cert.Kernel29Ideal.main_arg40)
      ∧ r.2.mem ((c.tc : Thread Cert.Kernel29Ideal.nD Cert.Kernel29Ideal.τ).loc Cert.Kernel29Ideal.main_arg41) = m ((c.tc : Thread Cert.Kernel29Ideal.nD Cert.Kernel29Ideal.τ).loc Cert.Kernel29Ideal.main_arg41)
      ∧ r.2.mem ((c.tc : Thread Cert.Kernel29Ideal.nD Cert.Kernel29Ideal.τ).loc Cert.Kernel29Ideal.main_arg42) = m ((c.tc : Thread Cert.Kernel29Ideal.nD Cert.Kernel29Ideal.τ).loc Cert.Kernel29Ideal.main_arg42)
      ∧ r.2.mem ((c.tc : Thread Cert.Kernel29Ideal.nD Cert.Kernel29Ideal.τ).loc Cert.Kernel29Ideal.main_arg43) = m ((c.tc : Thread Cert.Kernel29Ideal.nD Cert.Kernel29Ideal.τ).loc Cert.Kernel29Ideal.main_arg43)
      ∧ r.2.mem ((c.tc : Thread Cert.Kernel29Ideal.nD Cert.Kernel29Ideal.τ).loc Cert.Kernel29Ideal.main_arg44) = m ((c.tc : Thread Cert.Kernel29Ideal.nD Cert.Kernel29Ideal.τ).loc Cert.Kernel29Ideal.main_arg44)
      ∧ r.2.mem ((c.tc : Thread Cert.Kernel29Ideal.nD Cert.Kernel29Ideal.τ).loc Cert.Kernel29Ideal.main_arg45) = m ((c.tc : Thread Cert.Kernel29Ideal.nD Cert.Kernel29Ideal.τ).loc Cert.Kernel29Ideal.main_arg45)
      ∧ r.2.mem ((c.tc : Thread Cert.Kernel29Ideal.nD Cert.Kernel29Ideal.τ).loc Cert.Kernel29Ideal.main_arg46) = m ((c.tc : Thread Cert.Kernel29Ideal.nD Cert.Kernel29Ideal.τ).loc Cert.Kernel29Ideal.main_arg46)
      ∧ r.2.mem ((c.tc : Thread Cert.Kernel29Ideal.nD Cert.Kernel29Ideal.τ).loc Cert.Kernel29Ideal.main_arg47) = m ((c.tc : Thread Cert.Kernel29Ideal.nD Cert.Kernel29Ideal.τ).loc Cert.Kernel29Ideal.main_arg47))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3)
      ∧ r.2.mem ((c.tc : Thread Cert.Reference29Ideal.nD Cert.Reference29Ideal.τ).loc Cert.Reference29Ideal.main_arg4) = m ((c.tc : Thread Cert.Reference29Ideal.nD Cert.Reference29Ideal.τ).loc Cert.Reference29Ideal.main_arg4)
      ∧ r.2.mem ((c.tc : Thread Cert.Reference29Ideal.nD Cert.Reference29Ideal.τ).loc Cert.Reference29Ideal.main_arg5) = m ((c.tc : Thread Cert.Reference29Ideal.nD Cert.Reference29Ideal.τ).loc Cert.Reference29Ideal.main_arg5)
      ∧ r.2.mem ((c.tc : Thread Cert.Reference29Ideal.nD Cert.Reference29Ideal.τ).loc Cert.Reference29Ideal.main_arg6) = m ((c.tc : Thread Cert.Reference29Ideal.nD Cert.Reference29Ideal.τ).loc Cert.Reference29Ideal.main_arg6)
      ∧ r.2.mem ((c.tc : Thread Cert.Reference29Ideal.nD Cert.Reference29Ideal.τ).loc Cert.Reference29Ideal.main_arg7) = m ((c.tc : Thread Cert.Reference29Ideal.nD Cert.Reference29Ideal.τ).loc Cert.Reference29Ideal.main_arg7)
      ∧ r.2.mem ((c.tc : Thread Cert.Reference29Ideal.nD Cert.Reference29Ideal.τ).loc Cert.Reference29Ideal.main_arg8) = m ((c.tc : Thread Cert.Reference29Ideal.nD Cert.Reference29Ideal.τ).loc Cert.Reference29Ideal.main_arg8)
      ∧ r.2.mem ((c.tc : Thread Cert.Reference29Ideal.nD Cert.Reference29Ideal.τ).loc Cert.Reference29Ideal.main_arg9) = m ((c.tc : Thread Cert.Reference29Ideal.nD Cert.Reference29Ideal.τ).loc Cert.Reference29Ideal.main_arg9)
      ∧ r.2.mem ((c.tc : Thread Cert.Reference29Ideal.nD Cert.Reference29Ideal.τ).loc Cert.Reference29Ideal.main_arg10) = m ((c.tc : Thread Cert.Reference29Ideal.nD Cert.Reference29Ideal.τ).loc Cert.Reference29Ideal.main_arg10)
      ∧ r.2.mem ((c.tc : Thread Cert.Reference29Ideal.nD Cert.Reference29Ideal.τ).loc Cert.Reference29Ideal.main_arg11) = m ((c.tc : Thread Cert.Reference29Ideal.nD Cert.Reference29Ideal.τ).loc Cert.Reference29Ideal.main_arg11)
      ∧ r.2.mem ((c.tc : Thread Cert.Reference29Ideal.nD Cert.Reference29Ideal.τ).loc Cert.Reference29Ideal.main_arg12) = m ((c.tc : Thread Cert.Reference29Ideal.nD Cert.Reference29Ideal.τ).loc Cert.Reference29Ideal.main_arg12)
      ∧ r.2.mem ((c.tc : Thread Cert.Reference29Ideal.nD Cert.Reference29Ideal.τ).loc Cert.Reference29Ideal.main_arg13) = m ((c.tc : Thread Cert.Reference29Ideal.nD Cert.Reference29Ideal.τ).loc Cert.Reference29Ideal.main_arg13)
      ∧ r.2.mem ((c.tc : Thread Cert.Reference29Ideal.nD Cert.Reference29Ideal.τ).loc Cert.Reference29Ideal.main_arg14) = m ((c.tc : Thread Cert.Reference29Ideal.nD Cert.Reference29Ideal.τ).loc Cert.Reference29Ideal.main_arg14)
      ∧ r.2.mem ((c.tc : Thread Cert.Reference29Ideal.nD Cert.Reference29Ideal.τ).loc Cert.Reference29Ideal.main_arg15) = m ((c.tc : Thread Cert.Reference29Ideal.nD Cert.Reference29Ideal.τ).loc Cert.Reference29Ideal.main_arg15)
      ∧ r.2.mem ((c.tc : Thread Cert.Reference29Ideal.nD Cert.Reference29Ideal.τ).loc Cert.Reference29Ideal.main_arg16) = m ((c.tc : Thread Cert.Reference29Ideal.nD Cert.Reference29Ideal.τ).loc Cert.Reference29Ideal.main_arg16)
      ∧ r.2.mem ((c.tc : Thread Cert.Reference29Ideal.nD Cert.Reference29Ideal.τ).loc Cert.Reference29Ideal.main_arg17) = m ((c.tc : Thread Cert.Reference29Ideal.nD Cert.Reference29Ideal.τ).loc Cert.Reference29Ideal.main_arg17)
      ∧ r.2.mem ((c.tc : Thread Cert.Reference29Ideal.nD Cert.Reference29Ideal.τ).loc Cert.Reference29Ideal.main_arg18) = m ((c.tc : Thread Cert.Reference29Ideal.nD Cert.Reference29Ideal.τ).loc Cert.Reference29Ideal.main_arg18)
      ∧ r.2.mem ((c.tc : Thread Cert.Reference29Ideal.nD Cert.Reference29Ideal.τ).loc Cert.Reference29Ideal.main_arg19) = m ((c.tc : Thread Cert.Reference29Ideal.nD Cert.Reference29Ideal.τ).loc Cert.Reference29Ideal.main_arg19)
      ∧ r.2.mem ((c.tc : Thread Cert.Reference29Ideal.nD Cert.Reference29Ideal.τ).loc Cert.Reference29Ideal.main_arg20) = m ((c.tc : Thread Cert.Reference29Ideal.nD Cert.Reference29Ideal.τ).loc Cert.Reference29Ideal.main_arg20)
      ∧ r.2.mem ((c.tc : Thread Cert.Reference29Ideal.nD Cert.Reference29Ideal.τ).loc Cert.Reference29Ideal.main_arg21) = m ((c.tc : Thread Cert.Reference29Ideal.nD Cert.Reference29Ideal.τ).loc Cert.Reference29Ideal.main_arg21)
      ∧ r.2.mem ((c.tc : Thread Cert.Reference29Ideal.nD Cert.Reference29Ideal.τ).loc Cert.Reference29Ideal.main_arg22) = m ((c.tc : Thread Cert.Reference29Ideal.nD Cert.Reference29Ideal.τ).loc Cert.Reference29Ideal.main_arg22)
      ∧ r.2.mem ((c.tc : Thread Cert.Reference29Ideal.nD Cert.Reference29Ideal.τ).loc Cert.Reference29Ideal.main_arg23) = m ((c.tc : Thread Cert.Reference29Ideal.nD Cert.Reference29Ideal.τ).loc Cert.Reference29Ideal.main_arg23)
      ∧ r.2.mem ((c.tc : Thread Cert.Reference29Ideal.nD Cert.Reference29Ideal.τ).loc Cert.Reference29Ideal.main_arg24) = m ((c.tc : Thread Cert.Reference29Ideal.nD Cert.Reference29Ideal.τ).loc Cert.Reference29Ideal.main_arg24)
      ∧ r.2.mem ((c.tc : Thread Cert.Reference29Ideal.nD Cert.Reference29Ideal.τ).loc Cert.Reference29Ideal.main_arg25) = m ((c.tc : Thread Cert.Reference29Ideal.nD Cert.Reference29Ideal.τ).loc Cert.Reference29Ideal.main_arg25)
      ∧ r.2.mem ((c.tc : Thread Cert.Reference29Ideal.nD Cert.Reference29Ideal.τ).loc Cert.Reference29Ideal.main_arg26) = m ((c.tc : Thread Cert.Reference29Ideal.nD Cert.Reference29Ideal.τ).loc Cert.Reference29Ideal.main_arg26)
      ∧ r.2.mem ((c.tc : Thread Cert.Reference29Ideal.nD Cert.Reference29Ideal.τ).loc Cert.Reference29Ideal.main_arg27) = m ((c.tc : Thread Cert.Reference29Ideal.nD Cert.Reference29Ideal.τ).loc Cert.Reference29Ideal.main_arg27)
      ∧ r.2.mem ((c.tc : Thread Cert.Reference29Ideal.nD Cert.Reference29Ideal.τ).loc Cert.Reference29Ideal.main_arg28) = m ((c.tc : Thread Cert.Reference29Ideal.nD Cert.Reference29Ideal.τ).loc Cert.Reference29Ideal.main_arg28)
      ∧ r.2.mem ((c.tc : Thread Cert.Reference29Ideal.nD Cert.Reference29Ideal.τ).loc Cert.Reference29Ideal.main_arg29) = m ((c.tc : Thread Cert.Reference29Ideal.nD Cert.Reference29Ideal.τ).loc Cert.Reference29Ideal.main_arg29)
      ∧ r.2.mem ((c.tc : Thread Cert.Reference29Ideal.nD Cert.Reference29Ideal.τ).loc Cert.Reference29Ideal.main_arg30) = m ((c.tc : Thread Cert.Reference29Ideal.nD Cert.Reference29Ideal.τ).loc Cert.Reference29Ideal.main_arg30)
      ∧ r.2.mem ((c.tc : Thread Cert.Reference29Ideal.nD Cert.Reference29Ideal.τ).loc Cert.Reference29Ideal.main_arg31) = m ((c.tc : Thread Cert.Reference29Ideal.nD Cert.Reference29Ideal.τ).loc Cert.Reference29Ideal.main_arg31)
      ∧ r.2.mem ((c.tc : Thread Cert.Reference29Ideal.nD Cert.Reference29Ideal.τ).loc Cert.Reference29Ideal.main_arg32) = m ((c.tc : Thread Cert.Reference29Ideal.nD Cert.Reference29Ideal.τ).loc Cert.Reference29Ideal.main_arg32)
      ∧ r.2.mem ((c.tc : Thread Cert.Reference29Ideal.nD Cert.Reference29Ideal.τ).loc Cert.Reference29Ideal.main_arg33) = m ((c.tc : Thread Cert.Reference29Ideal.nD Cert.Reference29Ideal.τ).loc Cert.Reference29Ideal.main_arg33)
      ∧ r.2.mem ((c.tc : Thread Cert.Reference29Ideal.nD Cert.Reference29Ideal.τ).loc Cert.Reference29Ideal.main_arg34) = m ((c.tc : Thread Cert.Reference29Ideal.nD Cert.Reference29Ideal.τ).loc Cert.Reference29Ideal.main_arg34)
      ∧ r.2.mem ((c.tc : Thread Cert.Reference29Ideal.nD Cert.Reference29Ideal.τ).loc Cert.Reference29Ideal.main_arg35) = m ((c.tc : Thread Cert.Reference29Ideal.nD Cert.Reference29Ideal.τ).loc Cert.Reference29Ideal.main_arg35)
      ∧ r.2.mem ((c.tc : Thread Cert.Reference29Ideal.nD Cert.Reference29Ideal.τ).loc Cert.Reference29Ideal.main_arg36) = m ((c.tc : Thread Cert.Reference29Ideal.nD Cert.Reference29Ideal.τ).loc Cert.Reference29Ideal.main_arg36)
      ∧ r.2.mem ((c.tc : Thread Cert.Reference29Ideal.nD Cert.Reference29Ideal.τ).loc Cert.Reference29Ideal.main_arg37) = m ((c.tc : Thread Cert.Reference29Ideal.nD Cert.Reference29Ideal.τ).loc Cert.Reference29Ideal.main_arg37)
      ∧ r.2.mem ((c.tc : Thread Cert.Reference29Ideal.nD Cert.Reference29Ideal.τ).loc Cert.Reference29Ideal.main_arg38) = m ((c.tc : Thread Cert.Reference29Ideal.nD Cert.Reference29Ideal.τ).loc Cert.Reference29Ideal.main_arg38)
      ∧ r.2.mem ((c.tc : Thread Cert.Reference29Ideal.nD Cert.Reference29Ideal.τ).loc Cert.Reference29Ideal.main_arg39) = m ((c.tc : Thread Cert.Reference29Ideal.nD Cert.Reference29Ideal.τ).loc Cert.Reference29Ideal.main_arg39)
      ∧ r.2.mem ((c.tc : Thread Cert.Reference29Ideal.nD Cert.Reference29Ideal.τ).loc Cert.Reference29Ideal.main_arg40) = m ((c.tc : Thread Cert.Reference29Ideal.nD Cert.Reference29Ideal.τ).loc Cert.Reference29Ideal.main_arg40)
      ∧ r.2.mem ((c.tc : Thread Cert.Reference29Ideal.nD Cert.Reference29Ideal.τ).loc Cert.Reference29Ideal.main_arg41) = m ((c.tc : Thread Cert.Reference29Ideal.nD Cert.Reference29Ideal.τ).loc Cert.Reference29Ideal.main_arg41)
      ∧ r.2.mem ((c.tc : Thread Cert.Reference29Ideal.nD Cert.Reference29Ideal.τ).loc Cert.Reference29Ideal.main_arg42) = m ((c.tc : Thread Cert.Reference29Ideal.nD Cert.Reference29Ideal.τ).loc Cert.Reference29Ideal.main_arg42)
      ∧ r.2.mem ((c.tc : Thread Cert.Reference29Ideal.nD Cert.Reference29Ideal.τ).loc Cert.Reference29Ideal.main_arg43) = m ((c.tc : Thread Cert.Reference29Ideal.nD Cert.Reference29Ideal.τ).loc Cert.Reference29Ideal.main_arg43)
      ∧ r.2.mem ((c.tc : Thread Cert.Reference29Ideal.nD Cert.Reference29Ideal.τ).loc Cert.Reference29Ideal.main_arg44) = m ((c.tc : Thread Cert.Reference29Ideal.nD Cert.Reference29Ideal.τ).loc Cert.Reference29Ideal.main_arg44)
      ∧ r.2.mem ((c.tc : Thread Cert.Reference29Ideal.nD Cert.Reference29Ideal.τ).loc Cert.Reference29Ideal.main_arg45) = m ((c.tc : Thread Cert.Reference29Ideal.nD Cert.Reference29Ideal.τ).loc Cert.Reference29Ideal.main_arg45)
      ∧ r.2.mem ((c.tc : Thread Cert.Reference29Ideal.nD Cert.Reference29Ideal.τ).loc Cert.Reference29Ideal.main_arg46) = m ((c.tc : Thread Cert.Reference29Ideal.nD Cert.Reference29Ideal.τ).loc Cert.Reference29Ideal.main_arg46)
      ∧ r.2.mem ((c.tc : Thread Cert.Reference29Ideal.nD Cert.Reference29Ideal.τ).loc Cert.Reference29Ideal.main_arg47) = m ((c.tc : Thread Cert.Reference29Ideal.nD Cert.Reference29Ideal.τ).loc Cert.Reference29Ideal.main_arg47))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3)
      ∧ r.2.mem ((c.tc : Thread Cert.Kernel30.nD Cert.Kernel30.τ).loc Cert.Kernel30.main_arg4) = m ((c.tc : Thread Cert.Kernel30.nD Cert.Kernel30.τ).loc Cert.Kernel30.main_arg4)
      ∧ r.2.mem ((c.tc : Thread Cert.Kernel30.nD Cert.Kernel30.τ).loc Cert.Kernel30.main_arg5) = m ((c.tc : Thread Cert.Kernel30.nD Cert.Kernel30.τ).loc Cert.Kernel30.main_arg5)
      ∧ r.2.mem ((c.tc : Thread Cert.Kernel30.nD Cert.Kernel30.τ).loc Cert.Kernel30.main_arg6) = m ((c.tc : Thread Cert.Kernel30.nD Cert.Kernel30.τ).loc Cert.Kernel30.main_arg6)
      ∧ r.2.mem ((c.tc : Thread Cert.Kernel30.nD Cert.Kernel30.τ).loc Cert.Kernel30.main_arg7) = m ((c.tc : Thread Cert.Kernel30.nD Cert.Kernel30.τ).loc Cert.Kernel30.main_arg7)
      ∧ r.2.mem ((c.tc : Thread Cert.Kernel30.nD Cert.Kernel30.τ).loc Cert.Kernel30.main_arg8) = m ((c.tc : Thread Cert.Kernel30.nD Cert.Kernel30.τ).loc Cert.Kernel30.main_arg8)
      ∧ r.2.mem ((c.tc : Thread Cert.Kernel30.nD Cert.Kernel30.τ).loc Cert.Kernel30.main_arg9) = m ((c.tc : Thread Cert.Kernel30.nD Cert.Kernel30.τ).loc Cert.Kernel30.main_arg9)
      ∧ r.2.mem ((c.tc : Thread Cert.Kernel30.nD Cert.Kernel30.τ).loc Cert.Kernel30.main_arg10) = m ((c.tc : Thread Cert.Kernel30.nD Cert.Kernel30.τ).loc Cert.Kernel30.main_arg10)
      ∧ r.2.mem ((c.tc : Thread Cert.Kernel30.nD Cert.Kernel30.τ).loc Cert.Kernel30.main_arg11) = m ((c.tc : Thread Cert.Kernel30.nD Cert.Kernel30.τ).loc Cert.Kernel30.main_arg11)
      ∧ r.2.mem ((c.tc : Thread Cert.Kernel30.nD Cert.Kernel30.τ).loc Cert.Kernel30.main_arg12) = m ((c.tc : Thread Cert.Kernel30.nD Cert.Kernel30.τ).loc Cert.Kernel30.main_arg12)
      ∧ r.2.mem ((c.tc : Thread Cert.Kernel30.nD Cert.Kernel30.τ).loc Cert.Kernel30.main_arg13) = m ((c.tc : Thread Cert.Kernel30.nD Cert.Kernel30.τ).loc Cert.Kernel30.main_arg13)
      ∧ r.2.mem ((c.tc : Thread Cert.Kernel30.nD Cert.Kernel30.τ).loc Cert.Kernel30.main_arg14) = m ((c.tc : Thread Cert.Kernel30.nD Cert.Kernel30.τ).loc Cert.Kernel30.main_arg14)
      ∧ r.2.mem ((c.tc : Thread Cert.Kernel30.nD Cert.Kernel30.τ).loc Cert.Kernel30.main_arg15) = m ((c.tc : Thread Cert.Kernel30.nD Cert.Kernel30.τ).loc Cert.Kernel30.main_arg15)
      ∧ r.2.mem ((c.tc : Thread Cert.Kernel30.nD Cert.Kernel30.τ).loc Cert.Kernel30.main_arg16) = m ((c.tc : Thread Cert.Kernel30.nD Cert.Kernel30.τ).loc Cert.Kernel30.main_arg16)
      ∧ r.2.mem ((c.tc : Thread Cert.Kernel30.nD Cert.Kernel30.τ).loc Cert.Kernel30.main_arg17) = m ((c.tc : Thread Cert.Kernel30.nD Cert.Kernel30.τ).loc Cert.Kernel30.main_arg17)
      ∧ r.2.mem ((c.tc : Thread Cert.Kernel30.nD Cert.Kernel30.τ).loc Cert.Kernel30.main_arg18) = m ((c.tc : Thread Cert.Kernel30.nD Cert.Kernel30.τ).loc Cert.Kernel30.main_arg18)
      ∧ r.2.mem ((c.tc : Thread Cert.Kernel30.nD Cert.Kernel30.τ).loc Cert.Kernel30.main_arg19) = m ((c.tc : Thread Cert.Kernel30.nD Cert.Kernel30.τ).loc Cert.Kernel30.main_arg19)
      ∧ r.2.mem ((c.tc : Thread Cert.Kernel30.nD Cert.Kernel30.τ).loc Cert.Kernel30.main_arg20) = m ((c.tc : Thread Cert.Kernel30.nD Cert.Kernel30.τ).loc Cert.Kernel30.main_arg20)
      ∧ r.2.mem ((c.tc : Thread Cert.Kernel30.nD Cert.Kernel30.τ).loc Cert.Kernel30.main_arg21) = m ((c.tc : Thread Cert.Kernel30.nD Cert.Kernel30.τ).loc Cert.Kernel30.main_arg21)
      ∧ r.2.mem ((c.tc : Thread Cert.Kernel30.nD Cert.Kernel30.τ).loc Cert.Kernel30.main_arg22) = m ((c.tc : Thread Cert.Kernel30.nD Cert.Kernel30.τ).loc Cert.Kernel30.main_arg22)
      ∧ r.2.mem ((c.tc : Thread Cert.Kernel30.nD Cert.Kernel30.τ).loc Cert.Kernel30.main_arg23) = m ((c.tc : Thread Cert.Kernel30.nD Cert.Kernel30.τ).loc Cert.Kernel30.main_arg23)
      ∧ r.2.mem ((c.tc : Thread Cert.Kernel30.nD Cert.Kernel30.τ).loc Cert.Kernel30.main_arg24) = m ((c.tc : Thread Cert.Kernel30.nD Cert.Kernel30.τ).loc Cert.Kernel30.main_arg24)
      ∧ r.2.mem ((c.tc : Thread Cert.Kernel30.nD Cert.Kernel30.τ).loc Cert.Kernel30.main_arg25) = m ((c.tc : Thread Cert.Kernel30.nD Cert.Kernel30.τ).loc Cert.Kernel30.main_arg25)
      ∧ r.2.mem ((c.tc : Thread Cert.Kernel30.nD Cert.Kernel30.τ).loc Cert.Kernel30.main_arg26) = m ((c.tc : Thread Cert.Kernel30.nD Cert.Kernel30.τ).loc Cert.Kernel30.main_arg26)
      ∧ r.2.mem ((c.tc : Thread Cert.Kernel30.nD Cert.Kernel30.τ).loc Cert.Kernel30.main_arg27) = m ((c.tc : Thread Cert.Kernel30.nD Cert.Kernel30.τ).loc Cert.Kernel30.main_arg27)
      ∧ r.2.mem ((c.tc : Thread Cert.Kernel30.nD Cert.Kernel30.τ).loc Cert.Kernel30.main_arg28) = m ((c.tc : Thread Cert.Kernel30.nD Cert.Kernel30.τ).loc Cert.Kernel30.main_arg28)
      ∧ r.2.mem ((c.tc : Thread Cert.Kernel30.nD Cert.Kernel30.τ).loc Cert.Kernel30.main_arg29) = m ((c.tc : Thread Cert.Kernel30.nD Cert.Kernel30.τ).loc Cert.Kernel30.main_arg29)
      ∧ r.2.mem ((c.tc : Thread Cert.Kernel30.nD Cert.Kernel30.τ).loc Cert.Kernel30.main_arg30) = m ((c.tc : Thread Cert.Kernel30.nD Cert.Kernel30.τ).loc Cert.Kernel30.main_arg30)
      ∧ r.2.mem ((c.tc : Thread Cert.Kernel30.nD Cert.Kernel30.τ).loc Cert.Kernel30.main_arg31) = m ((c.tc : Thread Cert.Kernel30.nD Cert.Kernel30.τ).loc Cert.Kernel30.main_arg31)
      ∧ r.2.mem ((c.tc : Thread Cert.Kernel30.nD Cert.Kernel30.τ).loc Cert.Kernel30.main_arg32) = m ((c.tc : Thread Cert.Kernel30.nD Cert.Kernel30.τ).loc Cert.Kernel30.main_arg32)
      ∧ r.2.mem ((c.tc : Thread Cert.Kernel30.nD Cert.Kernel30.τ).loc Cert.Kernel30.main_arg33) = m ((c.tc : Thread Cert.Kernel30.nD Cert.Kernel30.τ).loc Cert.Kernel30.main_arg33)
      ∧ r.2.mem ((c.tc : Thread Cert.Kernel30.nD Cert.Kernel30.τ).loc Cert.Kernel30.main_arg34) = m ((c.tc : Thread Cert.Kernel30.nD Cert.Kernel30.τ).loc Cert.Kernel30.main_arg34)
      ∧ r.2.mem ((c.tc : Thread Cert.Kernel30.nD Cert.Kernel30.τ).loc Cert.Kernel30.main_arg35) = m ((c.tc : Thread Cert.Kernel30.nD Cert.Kernel30.τ).loc Cert.Kernel30.main_arg35)
      ∧ r.2.mem ((c.tc : Thread Cert.Kernel30.nD Cert.Kernel30.τ).loc Cert.Kernel30.main_arg36) = m ((c.tc : Thread Cert.Kernel30.nD Cert.Kernel30.τ).loc Cert.Kernel30.main_arg36)
      ∧ r.2.mem ((c.tc : Thread Cert.Kernel30.nD Cert.Kernel30.τ).loc Cert.Kernel30.main_arg37) = m ((c.tc : Thread Cert.Kernel30.nD Cert.Kernel30.τ).loc Cert.Kernel30.main_arg37)
      ∧ r.2.mem ((c.tc : Thread Cert.Kernel30.nD Cert.Kernel30.τ).loc Cert.Kernel30.main_arg38) = m ((c.tc : Thread Cert.Kernel30.nD Cert.Kernel30.τ).loc Cert.Kernel30.main_arg38)
      ∧ r.2.mem ((c.tc : Thread Cert.Kernel30.nD Cert.Kernel30.τ).loc Cert.Kernel30.main_arg39) = m ((c.tc : Thread Cert.Kernel30.nD Cert.Kernel30.τ).loc Cert.Kernel30.main_arg39)
      ∧ r.2.mem ((c.tc : Thread Cert.Kernel30.nD Cert.Kernel30.τ).loc Cert.Kernel30.main_arg40) = m ((c.tc : Thread Cert.Kernel30.nD Cert.Kernel30.τ).loc Cert.Kernel30.main_arg40)
      ∧ r.2.mem ((c.tc : Thread Cert.Kernel30.nD Cert.Kernel30.τ).loc Cert.Kernel30.main_arg41) = m ((c.tc : Thread Cert.Kernel30.nD Cert.Kernel30.τ).loc Cert.Kernel30.main_arg41)
      ∧ r.2.mem ((c.tc : Thread Cert.Kernel30.nD Cert.Kernel30.τ).loc Cert.Kernel30.main_arg42) = m ((c.tc : Thread Cert.Kernel30.nD Cert.Kernel30.τ).loc Cert.Kernel30.main_arg42)
      ∧ r.2.mem ((c.tc : Thread Cert.Kernel30.nD Cert.Kernel30.τ).loc Cert.Kernel30.main_arg43) = m ((c.tc : Thread Cert.Kernel30.nD Cert.Kernel30.τ).loc Cert.Kernel30.main_arg43)
      ∧ r.2.mem ((c.tc : Thread Cert.Kernel30.nD Cert.Kernel30.τ).loc Cert.Kernel30.main_arg44) = m ((c.tc : Thread Cert.Kernel30.nD Cert.Kernel30.τ).loc Cert.Kernel30.main_arg44)
      ∧ r.2.mem ((c.tc : Thread Cert.Kernel30.nD Cert.Kernel30.τ).loc Cert.Kernel30.main_arg45) = m ((c.tc : Thread Cert.Kernel30.nD Cert.Kernel30.τ).loc Cert.Kernel30.main_arg45)
      ∧ r.2.mem ((c.tc : Thread Cert.Kernel30.nD Cert.Kernel30.τ).loc Cert.Kernel30.main_arg46) = m ((c.tc : Thread Cert.Kernel30.nD Cert.Kernel30.τ).loc Cert.Kernel30.main_arg46)
      ∧ r.2.mem ((c.tc : Thread Cert.Kernel30.nD Cert.Kernel30.τ).loc Cert.Kernel30.main_arg47) = m ((c.tc : Thread Cert.Kernel30.nD Cert.Kernel30.τ).loc Cert.Kernel30.main_arg47))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3)
      ∧ r.2.mem ((c.tc : Thread Cert.Kernel30Ideal.nD Cert.Kernel30Ideal.τ).loc Cert.Kernel30Ideal.main_arg4) = m ((c.tc : Thread Cert.Kernel30Ideal.nD Cert.Kernel30Ideal.τ).loc Cert.Kernel30Ideal.main_arg4)
      ∧ r.2.mem ((c.tc : Thread Cert.Kernel30Ideal.nD Cert.Kernel30Ideal.τ).loc Cert.Kernel30Ideal.main_arg5) = m ((c.tc : Thread Cert.Kernel30Ideal.nD Cert.Kernel30Ideal.τ).loc Cert.Kernel30Ideal.main_arg5)
      ∧ r.2.mem ((c.tc : Thread Cert.Kernel30Ideal.nD Cert.Kernel30Ideal.τ).loc Cert.Kernel30Ideal.main_arg6) = m ((c.tc : Thread Cert.Kernel30Ideal.nD Cert.Kernel30Ideal.τ).loc Cert.Kernel30Ideal.main_arg6)
      ∧ r.2.mem ((c.tc : Thread Cert.Kernel30Ideal.nD Cert.Kernel30Ideal.τ).loc Cert.Kernel30Ideal.main_arg7) = m ((c.tc : Thread Cert.Kernel30Ideal.nD Cert.Kernel30Ideal.τ).loc Cert.Kernel30Ideal.main_arg7)
      ∧ r.2.mem ((c.tc : Thread Cert.Kernel30Ideal.nD Cert.Kernel30Ideal.τ).loc Cert.Kernel30Ideal.main_arg8) = m ((c.tc : Thread Cert.Kernel30Ideal.nD Cert.Kernel30Ideal.τ).loc Cert.Kernel30Ideal.main_arg8)
      ∧ r.2.mem ((c.tc : Thread Cert.Kernel30Ideal.nD Cert.Kernel30Ideal.τ).loc Cert.Kernel30Ideal.main_arg9) = m ((c.tc : Thread Cert.Kernel30Ideal.nD Cert.Kernel30Ideal.τ).loc Cert.Kernel30Ideal.main_arg9)
      ∧ r.2.mem ((c.tc : Thread Cert.Kernel30Ideal.nD Cert.Kernel30Ideal.τ).loc Cert.Kernel30Ideal.main_arg10) = m ((c.tc : Thread Cert.Kernel30Ideal.nD Cert.Kernel30Ideal.τ).loc Cert.Kernel30Ideal.main_arg10)
      ∧ r.2.mem ((c.tc : Thread Cert.Kernel30Ideal.nD Cert.Kernel30Ideal.τ).loc Cert.Kernel30Ideal.main_arg11) = m ((c.tc : Thread Cert.Kernel30Ideal.nD Cert.Kernel30Ideal.τ).loc Cert.Kernel30Ideal.main_arg11)
      ∧ r.2.mem ((c.tc : Thread Cert.Kernel30Ideal.nD Cert.Kernel30Ideal.τ).loc Cert.Kernel30Ideal.main_arg12) = m ((c.tc : Thread Cert.Kernel30Ideal.nD Cert.Kernel30Ideal.τ).loc Cert.Kernel30Ideal.main_arg12)
      ∧ r.2.mem ((c.tc : Thread Cert.Kernel30Ideal.nD Cert.Kernel30Ideal.τ).loc Cert.Kernel30Ideal.main_arg13) = m ((c.tc : Thread Cert.Kernel30Ideal.nD Cert.Kernel30Ideal.τ).loc Cert.Kernel30Ideal.main_arg13)
      ∧ r.2.mem ((c.tc : Thread Cert.Kernel30Ideal.nD Cert.Kernel30Ideal.τ).loc Cert.Kernel30Ideal.main_arg14) = m ((c.tc : Thread Cert.Kernel30Ideal.nD Cert.Kernel30Ideal.τ).loc Cert.Kernel30Ideal.main_arg14)
      ∧ r.2.mem ((c.tc : Thread Cert.Kernel30Ideal.nD Cert.Kernel30Ideal.τ).loc Cert.Kernel30Ideal.main_arg15) = m ((c.tc : Thread Cert.Kernel30Ideal.nD Cert.Kernel30Ideal.τ).loc Cert.Kernel30Ideal.main_arg15)
      ∧ r.2.mem ((c.tc : Thread Cert.Kernel30Ideal.nD Cert.Kernel30Ideal.τ).loc Cert.Kernel30Ideal.main_arg16) = m ((c.tc : Thread Cert.Kernel30Ideal.nD Cert.Kernel30Ideal.τ).loc Cert.Kernel30Ideal.main_arg16)
      ∧ r.2.mem ((c.tc : Thread Cert.Kernel30Ideal.nD Cert.Kernel30Ideal.τ).loc Cert.Kernel30Ideal.main_arg17) = m ((c.tc : Thread Cert.Kernel30Ideal.nD Cert.Kernel30Ideal.τ).loc Cert.Kernel30Ideal.main_arg17)
      ∧ r.2.mem ((c.tc : Thread Cert.Kernel30Ideal.nD Cert.Kernel30Ideal.τ).loc Cert.Kernel30Ideal.main_arg18) = m ((c.tc : Thread Cert.Kernel30Ideal.nD Cert.Kernel30Ideal.τ).loc Cert.Kernel30Ideal.main_arg18)
      ∧ r.2.mem ((c.tc : Thread Cert.Kernel30Ideal.nD Cert.Kernel30Ideal.τ).loc Cert.Kernel30Ideal.main_arg19) = m ((c.tc : Thread Cert.Kernel30Ideal.nD Cert.Kernel30Ideal.τ).loc Cert.Kernel30Ideal.main_arg19)
      ∧ r.2.mem ((c.tc : Thread Cert.Kernel30Ideal.nD Cert.Kernel30Ideal.τ).loc Cert.Kernel30Ideal.main_arg20) = m ((c.tc : Thread Cert.Kernel30Ideal.nD Cert.Kernel30Ideal.τ).loc Cert.Kernel30Ideal.main_arg20)
      ∧ r.2.mem ((c.tc : Thread Cert.Kernel30Ideal.nD Cert.Kernel30Ideal.τ).loc Cert.Kernel30Ideal.main_arg21) = m ((c.tc : Thread Cert.Kernel30Ideal.nD Cert.Kernel30Ideal.τ).loc Cert.Kernel30Ideal.main_arg21)
      ∧ r.2.mem ((c.tc : Thread Cert.Kernel30Ideal.nD Cert.Kernel30Ideal.τ).loc Cert.Kernel30Ideal.main_arg22) = m ((c.tc : Thread Cert.Kernel30Ideal.nD Cert.Kernel30Ideal.τ).loc Cert.Kernel30Ideal.main_arg22)
      ∧ r.2.mem ((c.tc : Thread Cert.Kernel30Ideal.nD Cert.Kernel30Ideal.τ).loc Cert.Kernel30Ideal.main_arg23) = m ((c.tc : Thread Cert.Kernel30Ideal.nD Cert.Kernel30Ideal.τ).loc Cert.Kernel30Ideal.main_arg23)
      ∧ r.2.mem ((c.tc : Thread Cert.Kernel30Ideal.nD Cert.Kernel30Ideal.τ).loc Cert.Kernel30Ideal.main_arg24) = m ((c.tc : Thread Cert.Kernel30Ideal.nD Cert.Kernel30Ideal.τ).loc Cert.Kernel30Ideal.main_arg24)
      ∧ r.2.mem ((c.tc : Thread Cert.Kernel30Ideal.nD Cert.Kernel30Ideal.τ).loc Cert.Kernel30Ideal.main_arg25) = m ((c.tc : Thread Cert.Kernel30Ideal.nD Cert.Kernel30Ideal.τ).loc Cert.Kernel30Ideal.main_arg25)
      ∧ r.2.mem ((c.tc : Thread Cert.Kernel30Ideal.nD Cert.Kernel30Ideal.τ).loc Cert.Kernel30Ideal.main_arg26) = m ((c.tc : Thread Cert.Kernel30Ideal.nD Cert.Kernel30Ideal.τ).loc Cert.Kernel30Ideal.main_arg26)
      ∧ r.2.mem ((c.tc : Thread Cert.Kernel30Ideal.nD Cert.Kernel30Ideal.τ).loc Cert.Kernel30Ideal.main_arg27) = m ((c.tc : Thread Cert.Kernel30Ideal.nD Cert.Kernel30Ideal.τ).loc Cert.Kernel30Ideal.main_arg27)
      ∧ r.2.mem ((c.tc : Thread Cert.Kernel30Ideal.nD Cert.Kernel30Ideal.τ).loc Cert.Kernel30Ideal.main_arg28) = m ((c.tc : Thread Cert.Kernel30Ideal.nD Cert.Kernel30Ideal.τ).loc Cert.Kernel30Ideal.main_arg28)
      ∧ r.2.mem ((c.tc : Thread Cert.Kernel30Ideal.nD Cert.Kernel30Ideal.τ).loc Cert.Kernel30Ideal.main_arg29) = m ((c.tc : Thread Cert.Kernel30Ideal.nD Cert.Kernel30Ideal.τ).loc Cert.Kernel30Ideal.main_arg29)
      ∧ r.2.mem ((c.tc : Thread Cert.Kernel30Ideal.nD Cert.Kernel30Ideal.τ).loc Cert.Kernel30Ideal.main_arg30) = m ((c.tc : Thread Cert.Kernel30Ideal.nD Cert.Kernel30Ideal.τ).loc Cert.Kernel30Ideal.main_arg30)
      ∧ r.2.mem ((c.tc : Thread Cert.Kernel30Ideal.nD Cert.Kernel30Ideal.τ).loc Cert.Kernel30Ideal.main_arg31) = m ((c.tc : Thread Cert.Kernel30Ideal.nD Cert.Kernel30Ideal.τ).loc Cert.Kernel30Ideal.main_arg31)
      ∧ r.2.mem ((c.tc : Thread Cert.Kernel30Ideal.nD Cert.Kernel30Ideal.τ).loc Cert.Kernel30Ideal.main_arg32) = m ((c.tc : Thread Cert.Kernel30Ideal.nD Cert.Kernel30Ideal.τ).loc Cert.Kernel30Ideal.main_arg32)
      ∧ r.2.mem ((c.tc : Thread Cert.Kernel30Ideal.nD Cert.Kernel30Ideal.τ).loc Cert.Kernel30Ideal.main_arg33) = m ((c.tc : Thread Cert.Kernel30Ideal.nD Cert.Kernel30Ideal.τ).loc Cert.Kernel30Ideal.main_arg33)
      ∧ r.2.mem ((c.tc : Thread Cert.Kernel30Ideal.nD Cert.Kernel30Ideal.τ).loc Cert.Kernel30Ideal.main_arg34) = m ((c.tc : Thread Cert.Kernel30Ideal.nD Cert.Kernel30Ideal.τ).loc Cert.Kernel30Ideal.main_arg34)
      ∧ r.2.mem ((c.tc : Thread Cert.Kernel30Ideal.nD Cert.Kernel30Ideal.τ).loc Cert.Kernel30Ideal.main_arg35) = m ((c.tc : Thread Cert.Kernel30Ideal.nD Cert.Kernel30Ideal.τ).loc Cert.Kernel30Ideal.main_arg35)
      ∧ r.2.mem ((c.tc : Thread Cert.Kernel30Ideal.nD Cert.Kernel30Ideal.τ).loc Cert.Kernel30Ideal.main_arg36) = m ((c.tc : Thread Cert.Kernel30Ideal.nD Cert.Kernel30Ideal.τ).loc Cert.Kernel30Ideal.main_arg36)
      ∧ r.2.mem ((c.tc : Thread Cert.Kernel30Ideal.nD Cert.Kernel30Ideal.τ).loc Cert.Kernel30Ideal.main_arg37) = m ((c.tc : Thread Cert.Kernel30Ideal.nD Cert.Kernel30Ideal.τ).loc Cert.Kernel30Ideal.main_arg37)
      ∧ r.2.mem ((c.tc : Thread Cert.Kernel30Ideal.nD Cert.Kernel30Ideal.τ).loc Cert.Kernel30Ideal.main_arg38) = m ((c.tc : Thread Cert.Kernel30Ideal.nD Cert.Kernel30Ideal.τ).loc Cert.Kernel30Ideal.main_arg38)
      ∧ r.2.mem ((c.tc : Thread Cert.Kernel30Ideal.nD Cert.Kernel30Ideal.τ).loc Cert.Kernel30Ideal.main_arg39) = m ((c.tc : Thread Cert.Kernel30Ideal.nD Cert.Kernel30Ideal.τ).loc Cert.Kernel30Ideal.main_arg39)
      ∧ r.2.mem ((c.tc : Thread Cert.Kernel30Ideal.nD Cert.Kernel30Ideal.τ).loc Cert.Kernel30Ideal.main_arg40) = m ((c.tc : Thread Cert.Kernel30Ideal.nD Cert.Kernel30Ideal.τ).loc Cert.Kernel30Ideal.main_arg40)
      ∧ r.2.mem ((c.tc : Thread Cert.Kernel30Ideal.nD Cert.Kernel30Ideal.τ).loc Cert.Kernel30Ideal.main_arg41) = m ((c.tc : Thread Cert.Kernel30Ideal.nD Cert.Kernel30Ideal.τ).loc Cert.Kernel30Ideal.main_arg41)
      ∧ r.2.mem ((c.tc : Thread Cert.Kernel30Ideal.nD Cert.Kernel30Ideal.τ).loc Cert.Kernel30Ideal.main_arg42) = m ((c.tc : Thread Cert.Kernel30Ideal.nD Cert.Kernel30Ideal.τ).loc Cert.Kernel30Ideal.main_arg42)
      ∧ r.2.mem ((c.tc : Thread Cert.Kernel30Ideal.nD Cert.Kernel30Ideal.τ).loc Cert.Kernel30Ideal.main_arg43) = m ((c.tc : Thread Cert.Kernel30Ideal.nD Cert.Kernel30Ideal.τ).loc Cert.Kernel30Ideal.main_arg43)
      ∧ r.2.mem ((c.tc : Thread Cert.Kernel30Ideal.nD Cert.Kernel30Ideal.τ).loc Cert.Kernel30Ideal.main_arg44) = m ((c.tc : Thread Cert.Kernel30Ideal.nD Cert.Kernel30Ideal.τ).loc Cert.Kernel30Ideal.main_arg44)
      ∧ r.2.mem ((c.tc : Thread Cert.Kernel30Ideal.nD Cert.Kernel30Ideal.τ).loc Cert.Kernel30Ideal.main_arg45) = m ((c.tc : Thread Cert.Kernel30Ideal.nD Cert.Kernel30Ideal.τ).loc Cert.Kernel30Ideal.main_arg45)
      ∧ r.2.mem ((c.tc : Thread Cert.Kernel30Ideal.nD Cert.Kernel30Ideal.τ).loc Cert.Kernel30Ideal.main_arg46) = m ((c.tc : Thread Cert.Kernel30Ideal.nD Cert.Kernel30Ideal.τ).loc Cert.Kernel30Ideal.main_arg46)
      ∧ r.2.mem ((c.tc : Thread Cert.Kernel30Ideal.nD Cert.Kernel30Ideal.τ).loc Cert.Kernel30Ideal.main_arg47) = m ((c.tc : Thread Cert.Kernel30Ideal.nD Cert.Kernel30Ideal.τ).loc Cert.Kernel30Ideal.main_arg47))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3)
      ∧ r.2.mem ((c.tc : Thread Cert.Reference30Ideal.nD Cert.Reference30Ideal.τ).loc Cert.Reference30Ideal.main_arg4) = m ((c.tc : Thread Cert.Reference30Ideal.nD Cert.Reference30Ideal.τ).loc Cert.Reference30Ideal.main_arg4)
      ∧ r.2.mem ((c.tc : Thread Cert.Reference30Ideal.nD Cert.Reference30Ideal.τ).loc Cert.Reference30Ideal.main_arg5) = m ((c.tc : Thread Cert.Reference30Ideal.nD Cert.Reference30Ideal.τ).loc Cert.Reference30Ideal.main_arg5)
      ∧ r.2.mem ((c.tc : Thread Cert.Reference30Ideal.nD Cert.Reference30Ideal.τ).loc Cert.Reference30Ideal.main_arg6) = m ((c.tc : Thread Cert.Reference30Ideal.nD Cert.Reference30Ideal.τ).loc Cert.Reference30Ideal.main_arg6)
      ∧ r.2.mem ((c.tc : Thread Cert.Reference30Ideal.nD Cert.Reference30Ideal.τ).loc Cert.Reference30Ideal.main_arg7) = m ((c.tc : Thread Cert.Reference30Ideal.nD Cert.Reference30Ideal.τ).loc Cert.Reference30Ideal.main_arg7)
      ∧ r.2.mem ((c.tc : Thread Cert.Reference30Ideal.nD Cert.Reference30Ideal.τ).loc Cert.Reference30Ideal.main_arg8) = m ((c.tc : Thread Cert.Reference30Ideal.nD Cert.Reference30Ideal.τ).loc Cert.Reference30Ideal.main_arg8)
      ∧ r.2.mem ((c.tc : Thread Cert.Reference30Ideal.nD Cert.Reference30Ideal.τ).loc Cert.Reference30Ideal.main_arg9) = m ((c.tc : Thread Cert.Reference30Ideal.nD Cert.Reference30Ideal.τ).loc Cert.Reference30Ideal.main_arg9)
      ∧ r.2.mem ((c.tc : Thread Cert.Reference30Ideal.nD Cert.Reference30Ideal.τ).loc Cert.Reference30Ideal.main_arg10) = m ((c.tc : Thread Cert.Reference30Ideal.nD Cert.Reference30Ideal.τ).loc Cert.Reference30Ideal.main_arg10)
      ∧ r.2.mem ((c.tc : Thread Cert.Reference30Ideal.nD Cert.Reference30Ideal.τ).loc Cert.Reference30Ideal.main_arg11) = m ((c.tc : Thread Cert.Reference30Ideal.nD Cert.Reference30Ideal.τ).loc Cert.Reference30Ideal.main_arg11)
      ∧ r.2.mem ((c.tc : Thread Cert.Reference30Ideal.nD Cert.Reference30Ideal.τ).loc Cert.Reference30Ideal.main_arg12) = m ((c.tc : Thread Cert.Reference30Ideal.nD Cert.Reference30Ideal.τ).loc Cert.Reference30Ideal.main_arg12)
      ∧ r.2.mem ((c.tc : Thread Cert.Reference30Ideal.nD Cert.Reference30Ideal.τ).loc Cert.Reference30Ideal.main_arg13) = m ((c.tc : Thread Cert.Reference30Ideal.nD Cert.Reference30Ideal.τ).loc Cert.Reference30Ideal.main_arg13)
      ∧ r.2.mem ((c.tc : Thread Cert.Reference30Ideal.nD Cert.Reference30Ideal.τ).loc Cert.Reference30Ideal.main_arg14) = m ((c.tc : Thread Cert.Reference30Ideal.nD Cert.Reference30Ideal.τ).loc Cert.Reference30Ideal.main_arg14)
      ∧ r.2.mem ((c.tc : Thread Cert.Reference30Ideal.nD Cert.Reference30Ideal.τ).loc Cert.Reference30Ideal.main_arg15) = m ((c.tc : Thread Cert.Reference30Ideal.nD Cert.Reference30Ideal.τ).loc Cert.Reference30Ideal.main_arg15)
      ∧ r.2.mem ((c.tc : Thread Cert.Reference30Ideal.nD Cert.Reference30Ideal.τ).loc Cert.Reference30Ideal.main_arg16) = m ((c.tc : Thread Cert.Reference30Ideal.nD Cert.Reference30Ideal.τ).loc Cert.Reference30Ideal.main_arg16)
      ∧ r.2.mem ((c.tc : Thread Cert.Reference30Ideal.nD Cert.Reference30Ideal.τ).loc Cert.Reference30Ideal.main_arg17) = m ((c.tc : Thread Cert.Reference30Ideal.nD Cert.Reference30Ideal.τ).loc Cert.Reference30Ideal.main_arg17)
      ∧ r.2.mem ((c.tc : Thread Cert.Reference30Ideal.nD Cert.Reference30Ideal.τ).loc Cert.Reference30Ideal.main_arg18) = m ((c.tc : Thread Cert.Reference30Ideal.nD Cert.Reference30Ideal.τ).loc Cert.Reference30Ideal.main_arg18)
      ∧ r.2.mem ((c.tc : Thread Cert.Reference30Ideal.nD Cert.Reference30Ideal.τ).loc Cert.Reference30Ideal.main_arg19) = m ((c.tc : Thread Cert.Reference30Ideal.nD Cert.Reference30Ideal.τ).loc Cert.Reference30Ideal.main_arg19)
      ∧ r.2.mem ((c.tc : Thread Cert.Reference30Ideal.nD Cert.Reference30Ideal.τ).loc Cert.Reference30Ideal.main_arg20) = m ((c.tc : Thread Cert.Reference30Ideal.nD Cert.Reference30Ideal.τ).loc Cert.Reference30Ideal.main_arg20)
      ∧ r.2.mem ((c.tc : Thread Cert.Reference30Ideal.nD Cert.Reference30Ideal.τ).loc Cert.Reference30Ideal.main_arg21) = m ((c.tc : Thread Cert.Reference30Ideal.nD Cert.Reference30Ideal.τ).loc Cert.Reference30Ideal.main_arg21)
      ∧ r.2.mem ((c.tc : Thread Cert.Reference30Ideal.nD Cert.Reference30Ideal.τ).loc Cert.Reference30Ideal.main_arg22) = m ((c.tc : Thread Cert.Reference30Ideal.nD Cert.Reference30Ideal.τ).loc Cert.Reference30Ideal.main_arg22)
      ∧ r.2.mem ((c.tc : Thread Cert.Reference30Ideal.nD Cert.Reference30Ideal.τ).loc Cert.Reference30Ideal.main_arg23) = m ((c.tc : Thread Cert.Reference30Ideal.nD Cert.Reference30Ideal.τ).loc Cert.Reference30Ideal.main_arg23)
      ∧ r.2.mem ((c.tc : Thread Cert.Reference30Ideal.nD Cert.Reference30Ideal.τ).loc Cert.Reference30Ideal.main_arg24) = m ((c.tc : Thread Cert.Reference30Ideal.nD Cert.Reference30Ideal.τ).loc Cert.Reference30Ideal.main_arg24)
      ∧ r.2.mem ((c.tc : Thread Cert.Reference30Ideal.nD Cert.Reference30Ideal.τ).loc Cert.Reference30Ideal.main_arg25) = m ((c.tc : Thread Cert.Reference30Ideal.nD Cert.Reference30Ideal.τ).loc Cert.Reference30Ideal.main_arg25)
      ∧ r.2.mem ((c.tc : Thread Cert.Reference30Ideal.nD Cert.Reference30Ideal.τ).loc Cert.Reference30Ideal.main_arg26) = m ((c.tc : Thread Cert.Reference30Ideal.nD Cert.Reference30Ideal.τ).loc Cert.Reference30Ideal.main_arg26)
      ∧ r.2.mem ((c.tc : Thread Cert.Reference30Ideal.nD Cert.Reference30Ideal.τ).loc Cert.Reference30Ideal.main_arg27) = m ((c.tc : Thread Cert.Reference30Ideal.nD Cert.Reference30Ideal.τ).loc Cert.Reference30Ideal.main_arg27)
      ∧ r.2.mem ((c.tc : Thread Cert.Reference30Ideal.nD Cert.Reference30Ideal.τ).loc Cert.Reference30Ideal.main_arg28) = m ((c.tc : Thread Cert.Reference30Ideal.nD Cert.Reference30Ideal.τ).loc Cert.Reference30Ideal.main_arg28)
      ∧ r.2.mem ((c.tc : Thread Cert.Reference30Ideal.nD Cert.Reference30Ideal.τ).loc Cert.Reference30Ideal.main_arg29) = m ((c.tc : Thread Cert.Reference30Ideal.nD Cert.Reference30Ideal.τ).loc Cert.Reference30Ideal.main_arg29)
      ∧ r.2.mem ((c.tc : Thread Cert.Reference30Ideal.nD Cert.Reference30Ideal.τ).loc Cert.Reference30Ideal.main_arg30) = m ((c.tc : Thread Cert.Reference30Ideal.nD Cert.Reference30Ideal.τ).loc Cert.Reference30Ideal.main_arg30)
      ∧ r.2.mem ((c.tc : Thread Cert.Reference30Ideal.nD Cert.Reference30Ideal.τ).loc Cert.Reference30Ideal.main_arg31) = m ((c.tc : Thread Cert.Reference30Ideal.nD Cert.Reference30Ideal.τ).loc Cert.Reference30Ideal.main_arg31)
      ∧ r.2.mem ((c.tc : Thread Cert.Reference30Ideal.nD Cert.Reference30Ideal.τ).loc Cert.Reference30Ideal.main_arg32) = m ((c.tc : Thread Cert.Reference30Ideal.nD Cert.Reference30Ideal.τ).loc Cert.Reference30Ideal.main_arg32)
      ∧ r.2.mem ((c.tc : Thread Cert.Reference30Ideal.nD Cert.Reference30Ideal.τ).loc Cert.Reference30Ideal.main_arg33) = m ((c.tc : Thread Cert.Reference30Ideal.nD Cert.Reference30Ideal.τ).loc Cert.Reference30Ideal.main_arg33)
      ∧ r.2.mem ((c.tc : Thread Cert.Reference30Ideal.nD Cert.Reference30Ideal.τ).loc Cert.Reference30Ideal.main_arg34) = m ((c.tc : Thread Cert.Reference30Ideal.nD Cert.Reference30Ideal.τ).loc Cert.Reference30Ideal.main_arg34)
      ∧ r.2.mem ((c.tc : Thread Cert.Reference30Ideal.nD Cert.Reference30Ideal.τ).loc Cert.Reference30Ideal.main_arg35) = m ((c.tc : Thread Cert.Reference30Ideal.nD Cert.Reference30Ideal.τ).loc Cert.Reference30Ideal.main_arg35)
      ∧ r.2.mem ((c.tc : Thread Cert.Reference30Ideal.nD Cert.Reference30Ideal.τ).loc Cert.Reference30Ideal.main_arg36) = m ((c.tc : Thread Cert.Reference30Ideal.nD Cert.Reference30Ideal.τ).loc Cert.Reference30Ideal.main_arg36)
      ∧ r.2.mem ((c.tc : Thread Cert.Reference30Ideal.nD Cert.Reference30Ideal.τ).loc Cert.Reference30Ideal.main_arg37) = m ((c.tc : Thread Cert.Reference30Ideal.nD Cert.Reference30Ideal.τ).loc Cert.Reference30Ideal.main_arg37)
      ∧ r.2.mem ((c.tc : Thread Cert.Reference30Ideal.nD Cert.Reference30Ideal.τ).loc Cert.Reference30Ideal.main_arg38) = m ((c.tc : Thread Cert.Reference30Ideal.nD Cert.Reference30Ideal.τ).loc Cert.Reference30Ideal.main_arg38)
      ∧ r.2.mem ((c.tc : Thread Cert.Reference30Ideal.nD Cert.Reference30Ideal.τ).loc Cert.Reference30Ideal.main_arg39) = m ((c.tc : Thread Cert.Reference30Ideal.nD Cert.Reference30Ideal.τ).loc Cert.Reference30Ideal.main_arg39)
      ∧ r.2.mem ((c.tc : Thread Cert.Reference30Ideal.nD Cert.Reference30Ideal.τ).loc Cert.Reference30Ideal.main_arg40) = m ((c.tc : Thread Cert.Reference30Ideal.nD Cert.Reference30Ideal.τ).loc Cert.Reference30Ideal.main_arg40)
      ∧ r.2.mem ((c.tc : Thread Cert.Reference30Ideal.nD Cert.Reference30Ideal.τ).loc Cert.Reference30Ideal.main_arg41) = m ((c.tc : Thread Cert.Reference30Ideal.nD Cert.Reference30Ideal.τ).loc Cert.Reference30Ideal.main_arg41)
      ∧ r.2.mem ((c.tc : Thread Cert.Reference30Ideal.nD Cert.Reference30Ideal.τ).loc Cert.Reference30Ideal.main_arg42) = m ((c.tc : Thread Cert.Reference30Ideal.nD Cert.Reference30Ideal.τ).loc Cert.Reference30Ideal.main_arg42)
      ∧ r.2.mem ((c.tc : Thread Cert.Reference30Ideal.nD Cert.Reference30Ideal.τ).loc Cert.Reference30Ideal.main_arg43) = m ((c.tc : Thread Cert.Reference30Ideal.nD Cert.Reference30Ideal.τ).loc Cert.Reference30Ideal.main_arg43)
      ∧ r.2.mem ((c.tc : Thread Cert.Reference30Ideal.nD Cert.Reference30Ideal.τ).loc Cert.Reference30Ideal.main_arg44) = m ((c.tc : Thread Cert.Reference30Ideal.nD Cert.Reference30Ideal.τ).loc Cert.Reference30Ideal.main_arg44)
      ∧ r.2.mem ((c.tc : Thread Cert.Reference30Ideal.nD Cert.Reference30Ideal.τ).loc Cert.Reference30Ideal.main_arg45) = m ((c.tc : Thread Cert.Reference30Ideal.nD Cert.Reference30Ideal.τ).loc Cert.Reference30Ideal.main_arg45)
      ∧ r.2.mem ((c.tc : Thread Cert.Reference30Ideal.nD Cert.Reference30Ideal.τ).loc Cert.Reference30Ideal.main_arg46) = m ((c.tc : Thread Cert.Reference30Ideal.nD Cert.Reference30Ideal.τ).loc Cert.Reference30Ideal.main_arg46)
      ∧ r.2.mem ((c.tc : Thread Cert.Reference30Ideal.nD Cert.Reference30Ideal.τ).loc Cert.Reference30Ideal.main_arg47) = m ((c.tc : Thread Cert.Reference30Ideal.nD Cert.Reference30Ideal.τ).loc Cert.Reference30Ideal.main_arg47))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_v65) = v2 c
          ∧ r.2.mem ((c.tc : Thread Cert.ReferenceIdeal.nD Cert.ReferenceIdeal.τ).loc Cert.ReferenceIdeal.main_v58) = v3 c
          ∧ r.2.mem ((c.tc : Thread Cert.ReferenceIdeal.nD Cert.ReferenceIdeal.τ).loc Cert.ReferenceIdeal.main_v33) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v13) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v8) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v8) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v8) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v7) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v7) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v7) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v12) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v7) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v4) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v38) = v0 c
          ∧ r.2.mem ((c.tc : Thread Cert.Reference17Ideal.nD Cert.Reference17Ideal.τ).loc Cert.Reference17Ideal.main_v39) = v1 c
          ∧ r.2.mem ((c.tc : Thread Cert.Reference17Ideal.nD Cert.Reference17Ideal.τ).loc Cert.Reference17Ideal.main_v40) = v2 c
          ∧ r.2.mem ((c.tc : Thread Cert.Reference17Ideal.nD Cert.Reference17Ideal.τ).loc Cert.Reference17Ideal.main_v41) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v1) = v0 c
          ∧ r.2.mem ((c.tc : Thread Cert.Reference18Ideal.nD Cert.Reference18Ideal.τ).loc Cert.Reference18Ideal.main_v25) = v1 c
          ∧ r.2.mem ((c.tc : Thread Cert.Reference18Ideal.nD Cert.Reference18Ideal.τ).loc Cert.Reference18Ideal.main_v6) = v2 c
          ∧ r.2.mem ((c.tc : Thread Cert.Reference18Ideal.nD Cert.Reference18Ideal.τ).loc Cert.Reference18Ideal.main_v12) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v1) = v0 c
          ∧ r.2.mem ((c.tc : Thread Cert.Reference19Ideal.nD Cert.Reference19Ideal.τ).loc Cert.Reference19Ideal.main_v25) = v1 c
          ∧ r.2.mem ((c.tc : Thread Cert.Reference19Ideal.nD Cert.Reference19Ideal.τ).loc Cert.Reference19Ideal.main_v6) = v2 c
          ∧ r.2.mem ((c.tc : Thread Cert.Reference19Ideal.nD Cert.Reference19Ideal.τ).loc Cert.Reference19Ideal.main_v12) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v1) = v0 c
          ∧ r.2.mem ((c.tc : Thread Cert.Reference20Ideal.nD Cert.Reference20Ideal.τ).loc Cert.Reference20Ideal.main_v25) = v1 c
          ∧ r.2.mem ((c.tc : Thread Cert.Reference20Ideal.nD Cert.Reference20Ideal.τ).loc Cert.Reference20Ideal.main_v6) = v2 c
          ∧ r.2.mem ((c.tc : Thread Cert.Reference20Ideal.nD Cert.Reference20Ideal.τ).loc Cert.Reference20Ideal.main_v12) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v1) = v0 c
          ∧ r.2.mem ((c.tc : Thread Cert.Reference21Ideal.nD Cert.Reference21Ideal.τ).loc Cert.Reference21Ideal.main_v25) = v1 c
          ∧ r.2.mem ((c.tc : Thread Cert.Reference21Ideal.nD Cert.Reference21Ideal.τ).loc Cert.Reference21Ideal.main_v6) = v2 c
          ∧ r.2.mem ((c.tc : Thread Cert.Reference21Ideal.nD Cert.Reference21Ideal.τ).loc Cert.Reference21Ideal.main_v12) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v1) = v0 c
          ∧ r.2.mem ((c.tc : Thread Cert.Reference22Ideal.nD Cert.Reference22Ideal.τ).loc Cert.Reference22Ideal.main_v25) = v1 c
          ∧ r.2.mem ((c.tc : Thread Cert.Reference22Ideal.nD Cert.Reference22Ideal.τ).loc Cert.Reference22Ideal.main_v6) = v2 c
          ∧ r.2.mem ((c.tc : Thread Cert.Reference22Ideal.nD Cert.Reference22Ideal.τ).loc Cert.Reference22Ideal.main_v12) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v1) = v0 c
          ∧ r.2.mem ((c.tc : Thread Cert.Reference23Ideal.nD Cert.Reference23Ideal.τ).loc Cert.Reference23Ideal.main_v25) = v1 c
          ∧ r.2.mem ((c.tc : Thread Cert.Reference23Ideal.nD Cert.Reference23Ideal.τ).loc Cert.Reference23Ideal.main_v6) = v2 c
          ∧ r.2.mem ((c.tc : Thread Cert.Reference23Ideal.nD Cert.Reference23Ideal.τ).loc Cert.Reference23Ideal.main_v12) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_v0_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v0) = v0 c
          ∧ r.2.mem ((c.tc : Thread Cert.Reference24Ideal.nD Cert.Reference24Ideal.τ).loc Cert.Reference24Ideal.main_v24) = v1 c
          ∧ r.2.mem ((c.tc : Thread Cert.Reference24Ideal.nD Cert.Reference24Ideal.τ).loc Cert.Reference24Ideal.main_v5) = v2 c
          ∧ r.2.mem ((c.tc : Thread Cert.Reference24Ideal.nD Cert.Reference24Ideal.τ).loc Cert.Reference24Ideal.main_v11) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)) (v3 : (c : Dev Cert.Kernel25Ideal.nD) → Buf (Elt Ideal) ((c.tc : Thread Cert.Kernel25Ideal.nD Cert.Kernel25Ideal.τ).loc Cert.Kernel25Ideal.main_v0_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_v0_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v0) = v0 c
          ∧ r.2.mem ((c.tc : Thread Cert.Reference25Ideal.nD Cert.Reference25Ideal.τ).loc Cert.Reference25Ideal.main_v24) = v1 c
          ∧ r.2.mem ((c.tc : Thread Cert.Reference25Ideal.nD Cert.Reference25Ideal.τ).loc Cert.Reference25Ideal.main_v5) = v2 c
          ∧ r.2.mem ((c.tc : Thread Cert.Reference25Ideal.nD Cert.Reference25Ideal.τ).loc Cert.Reference25Ideal.main_v11) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v10)) (v1 : (c : Dev Cert.Kernel26Ideal.nD) → Buf (Elt Ideal) ((c.tc : Thread Cert.Kernel26Ideal.nD Cert.Kernel26Ideal.τ).loc Cert.Kernel26Ideal.main_v12)) (v2 : (c : Dev Cert.Kernel26Ideal.nD) → Buf (Elt Ideal) ((c.tc : Thread Cert.Kernel26Ideal.nD Cert.Kernel26Ideal.τ).loc Cert.Kernel26Ideal.main_v14)) (v3 : (c : Dev Cert.Kernel26Ideal.nD) → Buf (Elt Ideal) ((c.tc : Thread Cert.Kernel26Ideal.nD Cert.Kernel26Ideal.τ).loc Cert.Kernel26Ideal.main_v16)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v10) = v0 c
          ∧ r.2.mem ((c.tc : Thread Cert.Kernel26Ideal.nD Cert.Kernel26Ideal.τ).loc Cert.Kernel26Ideal.main_v12) = v1 c
          ∧ r.2.mem ((c.tc : Thread Cert.Kernel26Ideal.nD Cert.Kernel26Ideal.τ).loc Cert.Kernel26Ideal.main_v14) = v2 c
          ∧ r.2.mem ((c.tc : Thread Cert.Kernel26Ideal.nD Cert.Kernel26Ideal.τ).loc Cert.Kernel26Ideal.main_v16) = v3 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v0) = v0 c
          ∧ r.2.mem ((c.tc : Thread Cert.Reference26Ideal.nD Cert.Reference26Ideal.τ).loc Cert.Reference26Ideal.main_v24) = v1 c
          ∧ r.2.mem ((c.tc : Thread Cert.Reference26Ideal.nD Cert.Reference26Ideal.τ).loc Cert.Reference26Ideal.main_v5) = v2 c
          ∧ r.2.mem ((c.tc : Thread Cert.Reference26Ideal.nD Cert.Reference26Ideal.τ).loc Cert.Reference26Ideal.main_v11) = v3 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)
      ∧ m' ((c.tc : Thread Cert.Reference27Ideal.nD Cert.Reference27Ideal.τ).loc Cert.Reference27Ideal.main_arg4) = m ((c.tc : Thread Cert.Kernel27Ideal.nD Cert.Kernel27Ideal.τ).loc Cert.Kernel27Ideal.main_arg4)
      ∧ m' ((c.tc : Thread Cert.Reference27Ideal.nD Cert.Reference27Ideal.τ).loc Cert.Reference27Ideal.main_arg5) = m ((c.tc : Thread Cert.Kernel27Ideal.nD Cert.Kernel27Ideal.τ).loc Cert.Kernel27Ideal.main_arg5)
      ∧ m' ((c.tc : Thread Cert.Reference27Ideal.nD Cert.Reference27Ideal.τ).loc Cert.Reference27Ideal.main_arg6) = m ((c.tc : Thread Cert.Kernel27Ideal.nD Cert.Kernel27Ideal.τ).loc Cert.Kernel27Ideal.main_arg6)
      ∧ m' ((c.tc : Thread Cert.Reference27Ideal.nD Cert.Reference27Ideal.τ).loc Cert.Reference27Ideal.main_arg7) = m ((c.tc : Thread Cert.Kernel27Ideal.nD Cert.Kernel27Ideal.τ).loc Cert.Kernel27Ideal.main_arg7)
      ∧ m' ((c.tc : Thread Cert.Reference27Ideal.nD Cert.Reference27Ideal.τ).loc Cert.Reference27Ideal.main_arg8) = m ((c.tc : Thread Cert.Kernel27Ideal.nD Cert.Kernel27Ideal.τ).loc Cert.Kernel27Ideal.main_arg8)
      ∧ m' ((c.tc : Thread Cert.Reference27Ideal.nD Cert.Reference27Ideal.τ).loc Cert.Reference27Ideal.main_arg9) = m ((c.tc : Thread Cert.Kernel27Ideal.nD Cert.Kernel27Ideal.τ).loc Cert.Kernel27Ideal.main_arg9)
      ∧ m' ((c.tc : Thread Cert.Reference27Ideal.nD Cert.Reference27Ideal.τ).loc Cert.Reference27Ideal.main_arg10) = m ((c.tc : Thread Cert.Kernel27Ideal.nD Cert.Kernel27Ideal.τ).loc Cert.Kernel27Ideal.main_arg10)
      ∧ m' ((c.tc : Thread Cert.Reference27Ideal.nD Cert.Reference27Ideal.τ).loc Cert.Reference27Ideal.main_arg11) = m ((c.tc : Thread Cert.Kernel27Ideal.nD Cert.Kernel27Ideal.τ).loc Cert.Kernel27Ideal.main_arg11)
      ∧ m' ((c.tc : Thread Cert.Reference27Ideal.nD Cert.Reference27Ideal.τ).loc Cert.Reference27Ideal.main_arg12) = m ((c.tc : Thread Cert.Kernel27Ideal.nD Cert.Kernel27Ideal.τ).loc Cert.Kernel27Ideal.main_arg12)
      ∧ m' ((c.tc : Thread Cert.Reference27Ideal.nD Cert.Reference27Ideal.τ).loc Cert.Reference27Ideal.main_arg13) = m ((c.tc : Thread Cert.Kernel27Ideal.nD Cert.Kernel27Ideal.τ).loc Cert.Kernel27Ideal.main_arg13)
      ∧ m' ((c.tc : Thread Cert.Reference27Ideal.nD Cert.Reference27Ideal.τ).loc Cert.Reference27Ideal.main_arg14) = m ((c.tc : Thread Cert.Kernel27Ideal.nD Cert.Kernel27Ideal.τ).loc Cert.Kernel27Ideal.main_arg14)
      ∧ m' ((c.tc : Thread Cert.Reference27Ideal.nD Cert.Reference27Ideal.τ).loc Cert.Reference27Ideal.main_arg15) = m ((c.tc : Thread Cert.Kernel27Ideal.nD Cert.Kernel27Ideal.τ).loc Cert.Kernel27Ideal.main_arg15)
      ∧ m' ((c.tc : Thread Cert.Reference27Ideal.nD Cert.Reference27Ideal.τ).loc Cert.Reference27Ideal.main_arg16) = m ((c.tc : Thread Cert.Kernel27Ideal.nD Cert.Kernel27Ideal.τ).loc Cert.Kernel27Ideal.main_arg16)
      ∧ m' ((c.tc : Thread Cert.Reference27Ideal.nD Cert.Reference27Ideal.τ).loc Cert.Reference27Ideal.main_arg17) = m ((c.tc : Thread Cert.Kernel27Ideal.nD Cert.Kernel27Ideal.τ).loc Cert.Kernel27Ideal.main_arg17)
      ∧ m' ((c.tc : Thread Cert.Reference27Ideal.nD Cert.Reference27Ideal.τ).loc Cert.Reference27Ideal.main_arg18) = m ((c.tc : Thread Cert.Kernel27Ideal.nD Cert.Kernel27Ideal.τ).loc Cert.Kernel27Ideal.main_arg18)
      ∧ m' ((c.tc : Thread Cert.Reference27Ideal.nD Cert.Reference27Ideal.τ).loc Cert.Reference27Ideal.main_arg19) = m ((c.tc : Thread Cert.Kernel27Ideal.nD Cert.Kernel27Ideal.τ).loc Cert.Kernel27Ideal.main_arg19)
      ∧ m' ((c.tc : Thread Cert.Reference27Ideal.nD Cert.Reference27Ideal.τ).loc Cert.Reference27Ideal.main_arg20) = m ((c.tc : Thread Cert.Kernel27Ideal.nD Cert.Kernel27Ideal.τ).loc Cert.Kernel27Ideal.main_arg20)
      ∧ m' ((c.tc : Thread Cert.Reference27Ideal.nD Cert.Reference27Ideal.τ).loc Cert.Reference27Ideal.main_arg21) = m ((c.tc : Thread Cert.Kernel27Ideal.nD Cert.Kernel27Ideal.τ).loc Cert.Kernel27Ideal.main_arg21)
      ∧ m' ((c.tc : Thread Cert.Reference27Ideal.nD Cert.Reference27Ideal.τ).loc Cert.Reference27Ideal.main_arg22) = m ((c.tc : Thread Cert.Kernel27Ideal.nD Cert.Kernel27Ideal.τ).loc Cert.Kernel27Ideal.main_arg22)
      ∧ m' ((c.tc : Thread Cert.Reference27Ideal.nD Cert.Reference27Ideal.τ).loc Cert.Reference27Ideal.main_arg23) = m ((c.tc : Thread Cert.Kernel27Ideal.nD Cert.Kernel27Ideal.τ).loc Cert.Kernel27Ideal.main_arg23)
      ∧ m' ((c.tc : Thread Cert.Reference27Ideal.nD Cert.Reference27Ideal.τ).loc Cert.Reference27Ideal.main_arg24) = m ((c.tc : Thread Cert.Kernel27Ideal.nD Cert.Kernel27Ideal.τ).loc Cert.Kernel27Ideal.main_arg24)
      ∧ m' ((c.tc : Thread Cert.Reference27Ideal.nD Cert.Reference27Ideal.τ).loc Cert.Reference27Ideal.main_arg25) = m ((c.tc : Thread Cert.Kernel27Ideal.nD Cert.Kernel27Ideal.τ).loc Cert.Kernel27Ideal.main_arg25)
      ∧ m' ((c.tc : Thread Cert.Reference27Ideal.nD Cert.Reference27Ideal.τ).loc Cert.Reference27Ideal.main_arg26) = m ((c.tc : Thread Cert.Kernel27Ideal.nD Cert.Kernel27Ideal.τ).loc Cert.Kernel27Ideal.main_arg26)
      ∧ m' ((c.tc : Thread Cert.Reference27Ideal.nD Cert.Reference27Ideal.τ).loc Cert.Reference27Ideal.main_arg27) = m ((c.tc : Thread Cert.Kernel27Ideal.nD Cert.Kernel27Ideal.τ).loc Cert.Kernel27Ideal.main_arg27)
      ∧ m' ((c.tc : Thread Cert.Reference27Ideal.nD Cert.Reference27Ideal.τ).loc Cert.Reference27Ideal.main_arg28) = m ((c.tc : Thread Cert.Kernel27Ideal.nD Cert.Kernel27Ideal.τ).loc Cert.Kernel27Ideal.main_arg28)
      ∧ m' ((c.tc : Thread Cert.Reference27Ideal.nD Cert.Reference27Ideal.τ).loc Cert.Reference27Ideal.main_arg29) = m ((c.tc : Thread Cert.Kernel27Ideal.nD Cert.Kernel27Ideal.τ).loc Cert.Kernel27Ideal.main_arg29)
      ∧ m' ((c.tc : Thread Cert.Reference27Ideal.nD Cert.Reference27Ideal.τ).loc Cert.Reference27Ideal.main_arg30) = m ((c.tc : Thread Cert.Kernel27Ideal.nD Cert.Kernel27Ideal.τ).loc Cert.Kernel27Ideal.main_arg30)
      ∧ m' ((c.tc : Thread Cert.Reference27Ideal.nD Cert.Reference27Ideal.τ).loc Cert.Reference27Ideal.main_arg31) = m ((c.tc : Thread Cert.Kernel27Ideal.nD Cert.Kernel27Ideal.τ).loc Cert.Kernel27Ideal.main_arg31)
      ∧ m' ((c.tc : Thread Cert.Reference27Ideal.nD Cert.Reference27Ideal.τ).loc Cert.Reference27Ideal.main_arg32) = m ((c.tc : Thread Cert.Kernel27Ideal.nD Cert.Kernel27Ideal.τ).loc Cert.Kernel27Ideal.main_arg32)
      ∧ m' ((c.tc : Thread Cert.Reference27Ideal.nD Cert.Reference27Ideal.τ).loc Cert.Reference27Ideal.main_arg33) = m ((c.tc : Thread Cert.Kernel27Ideal.nD Cert.Kernel27Ideal.τ).loc Cert.Kernel27Ideal.main_arg33)
      ∧ m' ((c.tc : Thread Cert.Reference27Ideal.nD Cert.Reference27Ideal.τ).loc Cert.Reference27Ideal.main_arg34) = m ((c.tc : Thread Cert.Kernel27Ideal.nD Cert.Kernel27Ideal.τ).loc Cert.Kernel27Ideal.main_arg34)
      ∧ m' ((c.tc : Thread Cert.Reference27Ideal.nD Cert.Reference27Ideal.τ).loc Cert.Reference27Ideal.main_arg35) = m ((c.tc : Thread Cert.Kernel27Ideal.nD Cert.Kernel27Ideal.τ).loc Cert.Kernel27Ideal.main_arg35)
      ∧ m' ((c.tc : Thread Cert.Reference27Ideal.nD Cert.Reference27Ideal.τ).loc Cert.Reference27Ideal.main_arg36) = m ((c.tc : Thread Cert.Kernel27Ideal.nD Cert.Kernel27Ideal.τ).loc Cert.Kernel27Ideal.main_arg36)
      ∧ m' ((c.tc : Thread Cert.Reference27Ideal.nD Cert.Reference27Ideal.τ).loc Cert.Reference27Ideal.main_arg37) = m ((c.tc : Thread Cert.Kernel27Ideal.nD Cert.Kernel27Ideal.τ).loc Cert.Kernel27Ideal.main_arg37)
      ∧ m' ((c.tc : Thread Cert.Reference27Ideal.nD Cert.Reference27Ideal.τ).loc Cert.Reference27Ideal.main_arg38) = m ((c.tc : Thread Cert.Kernel27Ideal.nD Cert.Kernel27Ideal.τ).loc Cert.Kernel27Ideal.main_arg38)
      ∧ m' ((c.tc : Thread Cert.Reference27Ideal.nD Cert.Reference27Ideal.τ).loc Cert.Reference27Ideal.main_arg39) = m ((c.tc : Thread Cert.Kernel27Ideal.nD Cert.Kernel27Ideal.τ).loc Cert.Kernel27Ideal.main_arg39)
      ∧ m' ((c.tc : Thread Cert.Reference27Ideal.nD Cert.Reference27Ideal.τ).loc Cert.Reference27Ideal.main_arg40) = m ((c.tc : Thread Cert.Kernel27Ideal.nD Cert.Kernel27Ideal.τ).loc Cert.Kernel27Ideal.main_arg40)
      ∧ m' ((c.tc : Thread Cert.Reference27Ideal.nD Cert.Reference27Ideal.τ).loc Cert.Reference27Ideal.main_arg41) = m ((c.tc : Thread Cert.Kernel27Ideal.nD Cert.Kernel27Ideal.τ).loc Cert.Kernel27Ideal.main_arg41)
      ∧ m' ((c.tc : Thread Cert.Reference27Ideal.nD Cert.Reference27Ideal.τ).loc Cert.Reference27Ideal.main_arg42) = m ((c.tc : Thread Cert.Kernel27Ideal.nD Cert.Kernel27Ideal.τ).loc Cert.Kernel27Ideal.main_arg42)
      ∧ m' ((c.tc : Thread Cert.Reference27Ideal.nD Cert.Reference27Ideal.τ).loc Cert.Reference27Ideal.main_arg43) = m ((c.tc : Thread Cert.Kernel27Ideal.nD Cert.Kernel27Ideal.τ).loc Cert.Kernel27Ideal.main_arg43)
      ∧ m' ((c.tc : Thread Cert.Reference27Ideal.nD Cert.Reference27Ideal.τ).loc Cert.Reference27Ideal.main_arg44) = m ((c.tc : Thread Cert.Kernel27Ideal.nD Cert.Kernel27Ideal.τ).loc Cert.Kernel27Ideal.main_arg44)
      ∧ m' ((c.tc : Thread Cert.Reference27Ideal.nD Cert.Reference27Ideal.τ).loc Cert.Reference27Ideal.main_arg45) = m ((c.tc : Thread Cert.Kernel27Ideal.nD Cert.Kernel27Ideal.τ).loc Cert.Kernel27Ideal.main_arg45)
      ∧ m' ((c.tc : Thread Cert.Reference27Ideal.nD Cert.Reference27Ideal.τ).loc Cert.Reference27Ideal.main_arg46) = m ((c.tc : Thread Cert.Kernel27Ideal.nD Cert.Kernel27Ideal.τ).loc Cert.Kernel27Ideal.main_arg46)
      ∧ m' ((c.tc : Thread Cert.Reference27Ideal.nD Cert.Reference27Ideal.τ).loc Cert.Reference27Ideal.main_arg47) = m ((c.tc : Thread Cert.Kernel27Ideal.nD Cert.Kernel27Ideal.τ).loc Cert.Kernel27Ideal.main_arg47)) →
    ∃ (v0 : (c : Dev Cert.Kernel27Ideal.nD) → Buf (Elt Ideal) ((c.tc : Thread Cert.Kernel27Ideal.nD Cert.Kernel27Ideal.τ).loc Cert.Kernel27Ideal.main_v68)) (v1 : (c : Dev Cert.Kernel27Ideal.nD) → Buf (Elt Ideal) ((c.tc : Thread Cert.Kernel27Ideal.nD Cert.Kernel27Ideal.τ).loc Cert.Kernel27Ideal.main_v71)) (v2 : (c : Dev Cert.Kernel27Ideal.nD) → Buf (Elt Ideal) ((c.tc : Thread Cert.Kernel27Ideal.nD Cert.Kernel27Ideal.τ).loc Cert.Kernel27Ideal.main_v75)) (v3 : (c : Dev Cert.Kernel27Ideal.nD) → Buf (Elt Ideal) ((c.tc : Thread Cert.Kernel27Ideal.nD Cert.Kernel27Ideal.τ).loc Cert.Kernel27Ideal.main_v78)) (v4 : (c : Dev Cert.Kernel27Ideal.nD) → Buf (Elt Ideal) ((c.tc : Thread Cert.Kernel27Ideal.nD Cert.Kernel27Ideal.τ).loc Cert.Kernel27Ideal.main_v81)) (v5 : (c : Dev Cert.Kernel27Ideal.nD) → Buf (Elt Ideal) ((c.tc : Thread Cert.Kernel27Ideal.nD Cert.Kernel27Ideal.τ).loc Cert.Kernel27Ideal.main_v84)) (v6 : (c : Dev Cert.Kernel27Ideal.nD) → Buf (Elt Ideal) ((c.tc : Thread Cert.Kernel27Ideal.nD Cert.Kernel27Ideal.τ).loc Cert.Kernel27Ideal.main_v87)) (v7 : (c : Dev Cert.Kernel27Ideal.nD) → Buf (Elt Ideal) ((c.tc : Thread Cert.Kernel27Ideal.nD Cert.Kernel27Ideal.τ).loc Cert.Kernel27Ideal.main_v90)) (v8 : (c : Dev Cert.Kernel27Ideal.nD) → Buf (Elt Ideal) ((c.tc : Thread Cert.Kernel27Ideal.nD Cert.Kernel27Ideal.τ).loc Cert.Kernel27Ideal.main_v93)) (v9 : (c : Dev Cert.Kernel27Ideal.nD) → Buf (Elt Ideal) ((c.tc : Thread Cert.Kernel27Ideal.nD Cert.Kernel27Ideal.τ).loc Cert.Kernel27Ideal.main_v96)) (v10 : (c : Dev Cert.Kernel27Ideal.nD) → Buf (Elt Ideal) ((c.tc : Thread Cert.Kernel27Ideal.nD Cert.Kernel27Ideal.τ).loc Cert.Kernel27Ideal.main_v100)) (v11 : (c : Dev Cert.Kernel27Ideal.nD) → Buf (Elt Ideal) ((c.tc : Thread Cert.Kernel27Ideal.nD Cert.Kernel27Ideal.τ).loc Cert.Kernel27Ideal.main_v102)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v68) = v0 c
          ∧ r.2.mem ((c.tc : Thread Cert.Kernel27Ideal.nD Cert.Kernel27Ideal.τ).loc Cert.Kernel27Ideal.main_v71) = v1 c
          ∧ r.2.mem ((c.tc : Thread Cert.Kernel27Ideal.nD Cert.Kernel27Ideal.τ).loc Cert.Kernel27Ideal.main_v75) = v2 c
          ∧ r.2.mem ((c.tc : Thread Cert.Kernel27Ideal.nD Cert.Kernel27Ideal.τ).loc Cert.Kernel27Ideal.main_v78) = v3 c
          ∧ r.2.mem ((c.tc : Thread Cert.Kernel27Ideal.nD Cert.Kernel27Ideal.τ).loc Cert.Kernel27Ideal.main_v81) = v4 c
          ∧ r.2.mem ((c.tc : Thread Cert.Kernel27Ideal.nD Cert.Kernel27Ideal.τ).loc Cert.Kernel27Ideal.main_v84) = v5 c
          ∧ r.2.mem ((c.tc : Thread Cert.Kernel27Ideal.nD Cert.Kernel27Ideal.τ).loc Cert.Kernel27Ideal.main_v87) = v6 c
          ∧ r.2.mem ((c.tc : Thread Cert.Kernel27Ideal.nD Cert.Kernel27Ideal.τ).loc Cert.Kernel27Ideal.main_v90) = v7 c
          ∧ r.2.mem ((c.tc : Thread Cert.Kernel27Ideal.nD Cert.Kernel27Ideal.τ).loc Cert.Kernel27Ideal.main_v93) = v8 c
          ∧ r.2.mem ((c.tc : Thread Cert.Kernel27Ideal.nD Cert.Kernel27Ideal.τ).loc Cert.Kernel27Ideal.main_v96) = v9 c
          ∧ r.2.mem ((c.tc : Thread Cert.Kernel27Ideal.nD Cert.Kernel27Ideal.τ).loc Cert.Kernel27Ideal.main_v100) = v10 c
          ∧ r.2.mem ((c.tc : Thread Cert.Kernel27Ideal.nD Cert.Kernel27Ideal.τ).loc Cert.Kernel27Ideal.main_v102) = v11 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
          ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4)
          ∧ r.2.mem ((c.tc : Thread Cert.Kernel27Ideal.nD Cert.Kernel27Ideal.τ).loc Cert.Kernel27Ideal.main_arg5) = m ((c.tc : Thread Cert.Kernel27Ideal.nD Cert.Kernel27Ideal.τ).loc Cert.Kernel27Ideal.main_arg5)
          ∧ r.2.mem ((c.tc : Thread Cert.Kernel27Ideal.nD Cert.Kernel27Ideal.τ).loc Cert.Kernel27Ideal.main_arg6) = m ((c.tc : Thread Cert.Kernel27Ideal.nD Cert.Kernel27Ideal.τ).loc Cert.Kernel27Ideal.main_arg6)
          ∧ r.2.mem ((c.tc : Thread Cert.Kernel27Ideal.nD Cert.Kernel27Ideal.τ).loc Cert.Kernel27Ideal.main_arg7) = m ((c.tc : Thread Cert.Kernel27Ideal.nD Cert.Kernel27Ideal.τ).loc Cert.Kernel27Ideal.main_arg7)
          ∧ r.2.mem ((c.tc : Thread Cert.Kernel27Ideal.nD Cert.Kernel27Ideal.τ).loc Cert.Kernel27Ideal.main_arg8) = m ((c.tc : Thread Cert.Kernel27Ideal.nD Cert.Kernel27Ideal.τ).loc Cert.Kernel27Ideal.main_arg8)
          ∧ r.2.mem ((c.tc : Thread Cert.Kernel27Ideal.nD Cert.Kernel27Ideal.τ).loc Cert.Kernel27Ideal.main_arg9) = m ((c.tc : Thread Cert.Kernel27Ideal.nD Cert.Kernel27Ideal.τ).loc Cert.Kernel27Ideal.main_arg9)
          ∧ r.2.mem ((c.tc : Thread Cert.Kernel27Ideal.nD Cert.Kernel27Ideal.τ).loc Cert.Kernel27Ideal.main_arg10) = m ((c.tc : Thread Cert.Kernel27Ideal.nD Cert.Kernel27Ideal.τ).loc Cert.Kernel27Ideal.main_arg10)
          ∧ r.2.mem ((c.tc : Thread Cert.Kernel27Ideal.nD Cert.Kernel27Ideal.τ).loc Cert.Kernel27Ideal.main_arg11) = m ((c.tc : Thread Cert.Kernel27Ideal.nD Cert.Kernel27Ideal.τ).loc Cert.Kernel27Ideal.main_arg11)
          ∧ r.2.mem ((c.tc : Thread Cert.Kernel27Ideal.nD Cert.Kernel27Ideal.τ).loc Cert.Kernel27Ideal.main_arg12) = m ((c.tc : Thread Cert.Kernel27Ideal.nD Cert.Kernel27Ideal.τ).loc Cert.Kernel27Ideal.main_arg12)
          ∧ r.2.mem ((c.tc : Thread Cert.Kernel27Ideal.nD Cert.Kernel27Ideal.τ).loc Cert.Kernel27Ideal.main_arg13) = m ((c.tc : Thread Cert.Kernel27Ideal.nD Cert.Kernel27Ideal.τ).loc Cert.Kernel27Ideal.main_arg13)
          ∧ r.2.mem ((c.tc : Thread Cert.Kernel27Ideal.nD Cert.Kernel27Ideal.τ).loc Cert.Kernel27Ideal.main_arg14) = m ((c.tc : Thread Cert.Kernel27Ideal.nD Cert.Kernel27Ideal.τ).loc Cert.Kernel27Ideal.main_arg14)
          ∧ r.2.mem ((c.tc : Thread Cert.Kernel27Ideal.nD Cert.Kernel27Ideal.τ).loc Cert.Kernel27Ideal.main_arg15) = m ((c.tc : Thread Cert.Kernel27Ideal.nD Cert.Kernel27Ideal.τ).loc Cert.Kernel27Ideal.main_arg15)
          ∧ r.2.mem ((c.tc : Thread Cert.Kernel27Ideal.nD Cert.Kernel27Ideal.τ).loc Cert.Kernel27Ideal.main_arg16) = m ((c.tc : Thread Cert.Kernel27Ideal.nD Cert.Kernel27Ideal.τ).loc Cert.Kernel27Ideal.main_arg16)
          ∧ r.2.mem ((c.tc : Thread Cert.Kernel27Ideal.nD Cert.Kernel27Ideal.τ).loc Cert.Kernel27Ideal.main_arg17) = m ((c.tc : Thread Cert.Kernel27Ideal.nD Cert.Kernel27Ideal.τ).loc Cert.Kernel27Ideal.main_arg17)
          ∧ r.2.mem ((c.tc : Thread Cert.Kernel27Ideal.nD Cert.Kernel27Ideal.τ).loc Cert.Kernel27Ideal.main_arg18) = m ((c.tc : Thread Cert.Kernel27Ideal.nD Cert.Kernel27Ideal.τ).loc Cert.Kernel27Ideal.main_arg18)
          ∧ r.2.mem ((c.tc : Thread Cert.Kernel27Ideal.nD Cert.Kernel27Ideal.τ).loc Cert.Kernel27Ideal.main_arg19) = m ((c.tc : Thread Cert.Kernel27Ideal.nD Cert.Kernel27Ideal.τ).loc Cert.Kernel27Ideal.main_arg19)
          ∧ r.2.mem ((c.tc : Thread Cert.Kernel27Ideal.nD Cert.Kernel27Ideal.τ).loc Cert.Kernel27Ideal.main_arg20) = m ((c.tc : Thread Cert.Kernel27Ideal.nD Cert.Kernel27Ideal.τ).loc Cert.Kernel27Ideal.main_arg20)
          ∧ r.2.mem ((c.tc : Thread Cert.Kernel27Ideal.nD Cert.Kernel27Ideal.τ).loc Cert.Kernel27Ideal.main_arg21) = m ((c.tc : Thread Cert.Kernel27Ideal.nD Cert.Kernel27Ideal.τ).loc Cert.Kernel27Ideal.main_arg21)
          ∧ r.2.mem ((c.tc : Thread Cert.Kernel27Ideal.nD Cert.Kernel27Ideal.τ).loc Cert.Kernel27Ideal.main_arg22) = m ((c.tc : Thread Cert.Kernel27Ideal.nD Cert.Kernel27Ideal.τ).loc Cert.Kernel27Ideal.main_arg22)
          ∧ r.2.mem ((c.tc : Thread Cert.Kernel27Ideal.nD Cert.Kernel27Ideal.τ).loc Cert.Kernel27Ideal.main_arg23) = m ((c.tc : Thread Cert.Kernel27Ideal.nD Cert.Kernel27Ideal.τ).loc Cert.Kernel27Ideal.main_arg23)
          ∧ r.2.mem ((c.tc : Thread Cert.Kernel27Ideal.nD Cert.Kernel27Ideal.τ).loc Cert.Kernel27Ideal.main_arg24) = m ((c.tc : Thread Cert.Kernel27Ideal.nD Cert.Kernel27Ideal.τ).loc Cert.Kernel27Ideal.main_arg24)
          ∧ r.2.mem ((c.tc : Thread Cert.Kernel27Ideal.nD Cert.Kernel27Ideal.τ).loc Cert.Kernel27Ideal.main_arg25) = m ((c.tc : Thread Cert.Kernel27Ideal.nD Cert.Kernel27Ideal.τ).loc Cert.Kernel27Ideal.main_arg25)
          ∧ r.2.mem ((c.tc : Thread Cert.Kernel27Ideal.nD Cert.Kernel27Ideal.τ).loc Cert.Kernel27Ideal.main_arg26) = m ((c.tc : Thread Cert.Kernel27Ideal.nD Cert.Kernel27Ideal.τ).loc Cert.Kernel27Ideal.main_arg26)
          ∧ r.2.mem ((c.tc : Thread Cert.Kernel27Ideal.nD Cert.Kernel27Ideal.τ).loc Cert.Kernel27Ideal.main_arg27) = m ((c.tc : Thread Cert.Kernel27Ideal.nD Cert.Kernel27Ideal.τ).loc Cert.Kernel27Ideal.main_arg27)
          ∧ r.2.mem ((c.tc : Thread Cert.Kernel27Ideal.nD Cert.Kernel27Ideal.τ).loc Cert.Kernel27Ideal.main_arg28) = m ((c.tc : Thread Cert.Kernel27Ideal.nD Cert.Kernel27Ideal.τ).loc Cert.Kernel27Ideal.main_arg28)
          ∧ r.2.mem ((c.tc : Thread Cert.Kernel27Ideal.nD Cert.Kernel27Ideal.τ).loc Cert.Kernel27Ideal.main_arg29) = m ((c.tc : Thread Cert.Kernel27Ideal.nD Cert.Kernel27Ideal.τ).loc Cert.Kernel27Ideal.main_arg29)
          ∧ r.2.mem ((c.tc : Thread Cert.Kernel27Ideal.nD Cert.Kernel27Ideal.τ).loc Cert.Kernel27Ideal.main_arg30) = m ((c.tc : Thread Cert.Kernel27Ideal.nD Cert.Kernel27Ideal.τ).loc Cert.Kernel27Ideal.main_arg30)
          ∧ r.2.mem ((c.tc : Thread Cert.Kernel27Ideal.nD Cert.Kernel27Ideal.τ).loc Cert.Kernel27Ideal.main_arg31) = m ((c.tc : Thread Cert.Kernel27Ideal.nD Cert.Kernel27Ideal.τ).loc Cert.Kernel27Ideal.main_arg31)
          ∧ r.2.mem ((c.tc : Thread Cert.Kernel27Ideal.nD Cert.Kernel27Ideal.τ).loc Cert.Kernel27Ideal.main_arg32) = m ((c.tc : Thread Cert.Kernel27Ideal.nD Cert.Kernel27Ideal.τ).loc Cert.Kernel27Ideal.main_arg32)
          ∧ r.2.mem ((c.tc : Thread Cert.Kernel27Ideal.nD Cert.Kernel27Ideal.τ).loc Cert.Kernel27Ideal.main_arg33) = m ((c.tc : Thread Cert.Kernel27Ideal.nD Cert.Kernel27Ideal.τ).loc Cert.Kernel27Ideal.main_arg33)
          ∧ r.2.mem ((c.tc : Thread Cert.Kernel27Ideal.nD Cert.Kernel27Ideal.τ).loc Cert.Kernel27Ideal.main_arg34) = m ((c.tc : Thread Cert.Kernel27Ideal.nD Cert.Kernel27Ideal.τ).loc Cert.Kernel27Ideal.main_arg34)
          ∧ r.2.mem ((c.tc : Thread Cert.Kernel27Ideal.nD Cert.Kernel27Ideal.τ).loc Cert.Kernel27Ideal.main_arg35) = m ((c.tc : Thread Cert.Kernel27Ideal.nD Cert.Kernel27Ideal.τ).loc Cert.Kernel27Ideal.main_arg35)
          ∧ r.2.mem ((c.tc : Thread Cert.Kernel27Ideal.nD Cert.Kernel27Ideal.τ).loc Cert.Kernel27Ideal.main_arg36) = m ((c.tc : Thread Cert.Kernel27Ideal.nD Cert.Kernel27Ideal.τ).loc Cert.Kernel27Ideal.main_arg36)
          ∧ r.2.mem ((c.tc : Thread Cert.Kernel27Ideal.nD Cert.Kernel27Ideal.τ).loc Cert.Kernel27Ideal.main_arg37) = m ((c.tc : Thread Cert.Kernel27Ideal.nD Cert.Kernel27Ideal.τ).loc Cert.Kernel27Ideal.main_arg37)
          ∧ r.2.mem ((c.tc : Thread Cert.Kernel27Ideal.nD Cert.Kernel27Ideal.τ).loc Cert.Kernel27Ideal.main_arg38) = m ((c.tc : Thread Cert.Kernel27Ideal.nD Cert.Kernel27Ideal.τ).loc Cert.Kernel27Ideal.main_arg38)
          ∧ r.2.mem ((c.tc : Thread Cert.Kernel27Ideal.nD Cert.Kernel27Ideal.τ).loc Cert.Kernel27Ideal.main_arg39) = m ((c.tc : Thread Cert.Kernel27Ideal.nD Cert.Kernel27Ideal.τ).loc Cert.Kernel27Ideal.main_arg39)
          ∧ r.2.mem ((c.tc : Thread Cert.Kernel27Ideal.nD Cert.Kernel27Ideal.τ).loc Cert.Kernel27Ideal.main_arg40) = m ((c.tc : Thread Cert.Kernel27Ideal.nD Cert.Kernel27Ideal.τ).loc Cert.Kernel27Ideal.main_arg40)
          ∧ r.2.mem ((c.tc : Thread Cert.Kernel27Ideal.nD Cert.Kernel27Ideal.τ).loc Cert.Kernel27Ideal.main_arg41) = m ((c.tc : Thread Cert.Kernel27Ideal.nD Cert.Kernel27Ideal.τ).loc Cert.Kernel27Ideal.main_arg41)
          ∧ r.2.mem ((c.tc : Thread Cert.Kernel27Ideal.nD Cert.Kernel27Ideal.τ).loc Cert.Kernel27Ideal.main_arg42) = m ((c.tc : Thread Cert.Kernel27Ideal.nD Cert.Kernel27Ideal.τ).loc Cert.Kernel27Ideal.main_arg42)
          ∧ r.2.mem ((c.tc : Thread Cert.Kernel27Ideal.nD Cert.Kernel27Ideal.τ).loc Cert.Kernel27Ideal.main_arg43) = m ((c.tc : Thread Cert.Kernel27Ideal.nD Cert.Kernel27Ideal.τ).loc Cert.Kernel27Ideal.main_arg43)
          ∧ r.2.mem ((c.tc : Thread Cert.Kernel27Ideal.nD Cert.Kernel27Ideal.τ).loc Cert.Kernel27Ideal.main_arg44) = m ((c.tc : Thread Cert.Kernel27Ideal.nD Cert.Kernel27Ideal.τ).loc Cert.Kernel27Ideal.main_arg44)
          ∧ r.2.mem ((c.tc : Thread Cert.Kernel27Ideal.nD Cert.Kernel27Ideal.τ).loc Cert.Kernel27Ideal.main_arg45) = m ((c.tc : Thread Cert.Kernel27Ideal.nD Cert.Kernel27Ideal.τ).loc Cert.Kernel27Ideal.main_arg45)
          ∧ r.2.mem ((c.tc : Thread Cert.Kernel27Ideal.nD Cert.Kernel27Ideal.τ).loc Cert.Kernel27Ideal.main_arg46) = m ((c.tc : Thread Cert.Kernel27Ideal.nD Cert.Kernel27Ideal.τ).loc Cert.Kernel27Ideal.main_arg46)
          ∧ r.2.mem ((c.tc : Thread Cert.Kernel27Ideal.nD Cert.Kernel27Ideal.τ).loc Cert.Kernel27Ideal.main_arg47) = m ((c.tc : Thread Cert.Kernel27Ideal.nD Cert.Kernel27Ideal.τ).loc Cert.Kernel27Ideal.main_arg47))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v0) = v0 c
          ∧ r.2.mem ((c.tc : Thread Cert.Reference27Ideal.nD Cert.Reference27Ideal.τ).loc Cert.Reference27Ideal.main_v25) = v1 c
          ∧ r.2.mem ((c.tc : Thread Cert.Reference27Ideal.nD Cert.Reference27Ideal.τ).loc Cert.Reference27Ideal.main_v50) = v2 c
          ∧ r.2.mem ((c.tc : Thread Cert.Reference27Ideal.nD Cert.Reference27Ideal.τ).loc Cert.Reference27Ideal.main_v75) = v3 c
          ∧ r.2.mem ((c.tc : Thread Cert.Reference27Ideal.nD Cert.Reference27Ideal.τ).loc Cert.Reference27Ideal.main_v100) = v4 c
          ∧ r.2.mem ((c.tc : Thread Cert.Reference27Ideal.nD Cert.Reference27Ideal.τ).loc Cert.Reference27Ideal.main_v125) = v5 c
          ∧ r.2.mem ((c.tc : Thread Cert.Reference27Ideal.nD Cert.Reference27Ideal.τ).loc Cert.Reference27Ideal.main_v150) = v6 c
          ∧ r.2.mem ((c.tc : Thread Cert.Reference27Ideal.nD Cert.Reference27Ideal.τ).loc Cert.Reference27Ideal.main_v175) = v7 c
          ∧ r.2.mem ((c.tc : Thread Cert.Reference27Ideal.nD Cert.Reference27Ideal.τ).loc Cert.Reference27Ideal.main_v200) = v8 c
          ∧ r.2.mem ((c.tc : Thread Cert.Reference27Ideal.nD Cert.Reference27Ideal.τ).loc Cert.Reference27Ideal.main_v225) = v9 c
          ∧ r.2.mem ((c.tc : Thread Cert.Reference27Ideal.nD Cert.Reference27Ideal.τ).loc Cert.Reference27Ideal.main_v250) = v10 c
          ∧ r.2.mem ((c.tc : Thread Cert.Reference27Ideal.nD Cert.Reference27Ideal.τ).loc Cert.Reference27Ideal.main_v275) = v11 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3)
          ∧ r.2.mem ((c.tc : Thread Cert.Reference27Ideal.nD Cert.Reference27Ideal.τ).loc Cert.Reference27Ideal.main_arg4) = m' ((c.tc : Thread Cert.Reference27Ideal.nD Cert.Reference27Ideal.τ).loc Cert.Reference27Ideal.main_arg4)
          ∧ r.2.mem ((c.tc : Thread Cert.Reference27Ideal.nD Cert.Reference27Ideal.τ).loc Cert.Reference27Ideal.main_arg5) = m' ((c.tc : Thread Cert.Reference27Ideal.nD Cert.Reference27Ideal.τ).loc Cert.Reference27Ideal.main_arg5)
          ∧ r.2.mem ((c.tc : Thread Cert.Reference27Ideal.nD Cert.Reference27Ideal.τ).loc Cert.Reference27Ideal.main_arg6) = m' ((c.tc : Thread Cert.Reference27Ideal.nD Cert.Reference27Ideal.τ).loc Cert.Reference27Ideal.main_arg6)
          ∧ r.2.mem ((c.tc : Thread Cert.Reference27Ideal.nD Cert.Reference27Ideal.τ).loc Cert.Reference27Ideal.main_arg7) = m' ((c.tc : Thread Cert.Reference27Ideal.nD Cert.Reference27Ideal.τ).loc Cert.Reference27Ideal.main_arg7)
          ∧ r.2.mem ((c.tc : Thread Cert.Reference27Ideal.nD Cert.Reference27Ideal.τ).loc Cert.Reference27Ideal.main_arg8) = m' ((c.tc : Thread Cert.Reference27Ideal.nD Cert.Reference27Ideal.τ).loc Cert.Reference27Ideal.main_arg8)
          ∧ r.2.mem ((c.tc : Thread Cert.Reference27Ideal.nD Cert.Reference27Ideal.τ).loc Cert.Reference27Ideal.main_arg9) = m' ((c.tc : Thread Cert.Reference27Ideal.nD Cert.Reference27Ideal.τ).loc Cert.Reference27Ideal.main_arg9)
          ∧ r.2.mem ((c.tc : Thread Cert.Reference27Ideal.nD Cert.Reference27Ideal.τ).loc Cert.Reference27Ideal.main_arg10) = m' ((c.tc : Thread Cert.Reference27Ideal.nD Cert.Reference27Ideal.τ).loc Cert.Reference27Ideal.main_arg10)
          ∧ r.2.mem ((c.tc : Thread Cert.Reference27Ideal.nD Cert.Reference27Ideal.τ).loc Cert.Reference27Ideal.main_arg11) = m' ((c.tc : Thread Cert.Reference27Ideal.nD Cert.Reference27Ideal.τ).loc Cert.Reference27Ideal.main_arg11)
          ∧ r.2.mem ((c.tc : Thread Cert.Reference27Ideal.nD Cert.Reference27Ideal.τ).loc Cert.Reference27Ideal.main_arg12) = m' ((c.tc : Thread Cert.Reference27Ideal.nD Cert.Reference27Ideal.τ).loc Cert.Reference27Ideal.main_arg12)
          ∧ r.2.mem ((c.tc : Thread Cert.Reference27Ideal.nD Cert.Reference27Ideal.τ).loc Cert.Reference27Ideal.main_arg13) = m' ((c.tc : Thread Cert.Reference27Ideal.nD Cert.Reference27Ideal.τ).loc Cert.Reference27Ideal.main_arg13)
          ∧ r.2.mem ((c.tc : Thread Cert.Reference27Ideal.nD Cert.Reference27Ideal.τ).loc Cert.Reference27Ideal.main_arg14) = m' ((c.tc : Thread Cert.Reference27Ideal.nD Cert.Reference27Ideal.τ).loc Cert.Reference27Ideal.main_arg14)
          ∧ r.2.mem ((c.tc : Thread Cert.Reference27Ideal.nD Cert.Reference27Ideal.τ).loc Cert.Reference27Ideal.main_arg15) = m' ((c.tc : Thread Cert.Reference27Ideal.nD Cert.Reference27Ideal.τ).loc Cert.Reference27Ideal.main_arg15)
          ∧ r.2.mem ((c.tc : Thread Cert.Reference27Ideal.nD Cert.Reference27Ideal.τ).loc Cert.Reference27Ideal.main_arg16) = m' ((c.tc : Thread Cert.Reference27Ideal.nD Cert.Reference27Ideal.τ).loc Cert.Reference27Ideal.main_arg16)
          ∧ r.2.mem ((c.tc : Thread Cert.Reference27Ideal.nD Cert.Reference27Ideal.τ).loc Cert.Reference27Ideal.main_arg17) = m' ((c.tc : Thread Cert.Reference27Ideal.nD Cert.Reference27Ideal.τ).loc Cert.Reference27Ideal.main_arg17)
          ∧ r.2.mem ((c.tc : Thread Cert.Reference27Ideal.nD Cert.Reference27Ideal.τ).loc Cert.Reference27Ideal.main_arg18) = m' ((c.tc : Thread Cert.Reference27Ideal.nD Cert.Reference27Ideal.τ).loc Cert.Reference27Ideal.main_arg18)
          ∧ r.2.mem ((c.tc : Thread Cert.Reference27Ideal.nD Cert.Reference27Ideal.τ).loc Cert.Reference27Ideal.main_arg19) = m' ((c.tc : Thread Cert.Reference27Ideal.nD Cert.Reference27Ideal.τ).loc Cert.Reference27Ideal.main_arg19)
          ∧ r.2.mem ((c.tc : Thread Cert.Reference27Ideal.nD Cert.Reference27Ideal.τ).loc Cert.Reference27Ideal.main_arg20) = m' ((c.tc : Thread Cert.Reference27Ideal.nD Cert.Reference27Ideal.τ).loc Cert.Reference27Ideal.main_arg20)
          ∧ r.2.mem ((c.tc : Thread Cert.Reference27Ideal.nD Cert.Reference27Ideal.τ).loc Cert.Reference27Ideal.main_arg21) = m' ((c.tc : Thread Cert.Reference27Ideal.nD Cert.Reference27Ideal.τ).loc Cert.Reference27Ideal.main_arg21)
          ∧ r.2.mem ((c.tc : Thread Cert.Reference27Ideal.nD Cert.Reference27Ideal.τ).loc Cert.Reference27Ideal.main_arg22) = m' ((c.tc : Thread Cert.Reference27Ideal.nD Cert.Reference27Ideal.τ).loc Cert.Reference27Ideal.main_arg22)
          ∧ r.2.mem ((c.tc : Thread Cert.Reference27Ideal.nD Cert.Reference27Ideal.τ).loc Cert.Reference27Ideal.main_arg23) = m' ((c.tc : Thread Cert.Reference27Ideal.nD Cert.Reference27Ideal.τ).loc Cert.Reference27Ideal.main_arg23)
          ∧ r.2.mem ((c.tc : Thread Cert.Reference27Ideal.nD Cert.Reference27Ideal.τ).loc Cert.Reference27Ideal.main_arg24) = m' ((c.tc : Thread Cert.Reference27Ideal.nD Cert.Reference27Ideal.τ).loc Cert.Reference27Ideal.main_arg24)
          ∧ r.2.mem ((c.tc : Thread Cert.Reference27Ideal.nD Cert.Reference27Ideal.τ).loc Cert.Reference27Ideal.main_arg25) = m' ((c.tc : Thread Cert.Reference27Ideal.nD Cert.Reference27Ideal.τ).loc Cert.Reference27Ideal.main_arg25)
          ∧ r.2.mem ((c.tc : Thread Cert.Reference27Ideal.nD Cert.Reference27Ideal.τ).loc Cert.Reference27Ideal.main_arg26) = m' ((c.tc : Thread Cert.Reference27Ideal.nD Cert.Reference27Ideal.τ).loc Cert.Reference27Ideal.main_arg26)
          ∧ r.2.mem ((c.tc : Thread Cert.Reference27Ideal.nD Cert.Reference27Ideal.τ).loc Cert.Reference27Ideal.main_arg27) = m' ((c.tc : Thread Cert.Reference27Ideal.nD Cert.Reference27Ideal.τ).loc Cert.Reference27Ideal.main_arg27)
          ∧ r.2.mem ((c.tc : Thread Cert.Reference27Ideal.nD Cert.Reference27Ideal.τ).loc Cert.Reference27Ideal.main_arg28) = m' ((c.tc : Thread Cert.Reference27Ideal.nD Cert.Reference27Ideal.τ).loc Cert.Reference27Ideal.main_arg28)
          ∧ r.2.mem ((c.tc : Thread Cert.Reference27Ideal.nD Cert.Reference27Ideal.τ).loc Cert.Reference27Ideal.main_arg29) = m' ((c.tc : Thread Cert.Reference27Ideal.nD Cert.Reference27Ideal.τ).loc Cert.Reference27Ideal.main_arg29)
          ∧ r.2.mem ((c.tc : Thread Cert.Reference27Ideal.nD Cert.Reference27Ideal.τ).loc Cert.Reference27Ideal.main_arg30) = m' ((c.tc : Thread Cert.Reference27Ideal.nD Cert.Reference27Ideal.τ).loc Cert.Reference27Ideal.main_arg30)
          ∧ r.2.mem ((c.tc : Thread Cert.Reference27Ideal.nD Cert.Reference27Ideal.τ).loc Cert.Reference27Ideal.main_arg31) = m' ((c.tc : Thread Cert.Reference27Ideal.nD Cert.Reference27Ideal.τ).loc Cert.Reference27Ideal.main_arg31)
          ∧ r.2.mem ((c.tc : Thread Cert.Reference27Ideal.nD Cert.Reference27Ideal.τ).loc Cert.Reference27Ideal.main_arg32) = m' ((c.tc : Thread Cert.Reference27Ideal.nD Cert.Reference27Ideal.τ).loc Cert.Reference27Ideal.main_arg32)
          ∧ r.2.mem ((c.tc : Thread Cert.Reference27Ideal.nD Cert.Reference27Ideal.τ).loc Cert.Reference27Ideal.main_arg33) = m' ((c.tc : Thread Cert.Reference27Ideal.nD Cert.Reference27Ideal.τ).loc Cert.Reference27Ideal.main_arg33)
          ∧ r.2.mem ((c.tc : Thread Cert.Reference27Ideal.nD Cert.Reference27Ideal.τ).loc Cert.Reference27Ideal.main_arg34) = m' ((c.tc : Thread Cert.Reference27Ideal.nD Cert.Reference27Ideal.τ).loc Cert.Reference27Ideal.main_arg34)
          ∧ r.2.mem ((c.tc : Thread Cert.Reference27Ideal.nD Cert.Reference27Ideal.τ).loc Cert.Reference27Ideal.main_arg35) = m' ((c.tc : Thread Cert.Reference27Ideal.nD Cert.Reference27Ideal.τ).loc Cert.Reference27Ideal.main_arg35)
          ∧ r.2.mem ((c.tc : Thread Cert.Reference27Ideal.nD Cert.Reference27Ideal.τ).loc Cert.Reference27Ideal.main_arg36) = m' ((c.tc : Thread Cert.Reference27Ideal.nD Cert.Reference27Ideal.τ).loc Cert.Reference27Ideal.main_arg36)
          ∧ r.2.mem ((c.tc : Thread Cert.Reference27Ideal.nD Cert.Reference27Ideal.τ).loc Cert.Reference27Ideal.main_arg37) = m' ((c.tc : Thread Cert.Reference27Ideal.nD Cert.Reference27Ideal.τ).loc Cert.Reference27Ideal.main_arg37)
          ∧ r.2.mem ((c.tc : Thread Cert.Reference27Ideal.nD Cert.Reference27Ideal.τ).loc Cert.Reference27Ideal.main_arg38) = m' ((c.tc : Thread Cert.Reference27Ideal.nD Cert.Reference27Ideal.τ).loc Cert.Reference27Ideal.main_arg38)
          ∧ r.2.mem ((c.tc : Thread Cert.Reference27Ideal.nD Cert.Reference27Ideal.τ).loc Cert.Reference27Ideal.main_arg39) = m' ((c.tc : Thread Cert.Reference27Ideal.nD Cert.Reference27Ideal.τ).loc Cert.Reference27Ideal.main_arg39)
          ∧ r.2.mem ((c.tc : Thread Cert.Reference27Ideal.nD Cert.Reference27Ideal.τ).loc Cert.Reference27Ideal.main_arg40) = m' ((c.tc : Thread Cert.Reference27Ideal.nD Cert.Reference27Ideal.τ).loc Cert.Reference27Ideal.main_arg40)
          ∧ r.2.mem ((c.tc : Thread Cert.Reference27Ideal.nD Cert.Reference27Ideal.τ).loc Cert.Reference27Ideal.main_arg41) = m' ((c.tc : Thread Cert.Reference27Ideal.nD Cert.Reference27Ideal.τ).loc Cert.Reference27Ideal.main_arg41)
          ∧ r.2.mem ((c.tc : Thread Cert.Reference27Ideal.nD Cert.Reference27Ideal.τ).loc Cert.Reference27Ideal.main_arg42) = m' ((c.tc : Thread Cert.Reference27Ideal.nD Cert.Reference27Ideal.τ).loc Cert.Reference27Ideal.main_arg42)
          ∧ r.2.mem ((c.tc : Thread Cert.Reference27Ideal.nD Cert.Reference27Ideal.τ).loc Cert.Reference27Ideal.main_arg43) = m' ((c.tc : Thread Cert.Reference27Ideal.nD Cert.Reference27Ideal.τ).loc Cert.Reference27Ideal.main_arg43)
          ∧ r.2.mem ((c.tc : Thread Cert.Reference27Ideal.nD Cert.Reference27Ideal.τ).loc Cert.Reference27Ideal.main_arg44) = m' ((c.tc : Thread Cert.Reference27Ideal.nD Cert.Reference27Ideal.τ).loc Cert.Reference27Ideal.main_arg44)
          ∧ r.2.mem ((c.tc : Thread Cert.Reference27Ideal.nD Cert.Reference27Ideal.τ).loc Cert.Reference27Ideal.main_arg45) = m' ((c.tc : Thread Cert.Reference27Ideal.nD Cert.Reference27Ideal.τ).loc Cert.Reference27Ideal.main_arg45)
          ∧ r.2.mem ((c.tc : Thread Cert.Reference27Ideal.nD Cert.Reference27Ideal.τ).loc Cert.Reference27Ideal.main_arg46) = m' ((c.tc : Thread Cert.Reference27Ideal.nD Cert.Reference27Ideal.τ).loc Cert.Reference27Ideal.main_arg46)
          ∧ r.2.mem ((c.tc : Thread Cert.Reference27Ideal.nD Cert.Reference27Ideal.τ).loc Cert.Reference27Ideal.main_arg47) = m' ((c.tc : Thread Cert.Reference27Ideal.nD Cert.Reference27Ideal.τ).loc Cert.Reference27Ideal.main_arg47))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)
      ∧ m' ((c.tc : Thread Cert.Reference28Ideal.nD Cert.Reference28Ideal.τ).loc Cert.Reference28Ideal.main_arg4) = m ((c.tc : Thread Cert.Kernel28Ideal.nD Cert.Kernel28Ideal.τ).loc Cert.Kernel28Ideal.main_arg4)
      ∧ m' ((c.tc : Thread Cert.Reference28Ideal.nD Cert.Reference28Ideal.τ).loc Cert.Reference28Ideal.main_arg5) = m ((c.tc : Thread Cert.Kernel28Ideal.nD Cert.Kernel28Ideal.τ).loc Cert.Kernel28Ideal.main_arg5)
      ∧ m' ((c.tc : Thread Cert.Reference28Ideal.nD Cert.Reference28Ideal.τ).loc Cert.Reference28Ideal.main_arg6) = m ((c.tc : Thread Cert.Kernel28Ideal.nD Cert.Kernel28Ideal.τ).loc Cert.Kernel28Ideal.main_arg6)
      ∧ m' ((c.tc : Thread Cert.Reference28Ideal.nD Cert.Reference28Ideal.τ).loc Cert.Reference28Ideal.main_arg7) = m ((c.tc : Thread Cert.Kernel28Ideal.nD Cert.Kernel28Ideal.τ).loc Cert.Kernel28Ideal.main_arg7)
      ∧ m' ((c.tc : Thread Cert.Reference28Ideal.nD Cert.Reference28Ideal.τ).loc Cert.Reference28Ideal.main_arg8) = m ((c.tc : Thread Cert.Kernel28Ideal.nD Cert.Kernel28Ideal.τ).loc Cert.Kernel28Ideal.main_arg8)
      ∧ m' ((c.tc : Thread Cert.Reference28Ideal.nD Cert.Reference28Ideal.τ).loc Cert.Reference28Ideal.main_arg9) = m ((c.tc : Thread Cert.Kernel28Ideal.nD Cert.Kernel28Ideal.τ).loc Cert.Kernel28Ideal.main_arg9)
      ∧ m' ((c.tc : Thread Cert.Reference28Ideal.nD Cert.Reference28Ideal.τ).loc Cert.Reference28Ideal.main_arg10) = m ((c.tc : Thread Cert.Kernel28Ideal.nD Cert.Kernel28Ideal.τ).loc Cert.Kernel28Ideal.main_arg10)
      ∧ m' ((c.tc : Thread Cert.Reference28Ideal.nD Cert.Reference28Ideal.τ).loc Cert.Reference28Ideal.main_arg11) = m ((c.tc : Thread Cert.Kernel28Ideal.nD Cert.Kernel28Ideal.τ).loc Cert.Kernel28Ideal.main_arg11)
      ∧ m' ((c.tc : Thread Cert.Reference28Ideal.nD Cert.Reference28Ideal.τ).loc Cert.Reference28Ideal.main_arg12) = m ((c.tc : Thread Cert.Kernel28Ideal.nD Cert.Kernel28Ideal.τ).loc Cert.Kernel28Ideal.main_arg12)
      ∧ m' ((c.tc : Thread Cert.Reference28Ideal.nD Cert.Reference28Ideal.τ).loc Cert.Reference28Ideal.main_arg13) = m ((c.tc : Thread Cert.Kernel28Ideal.nD Cert.Kernel28Ideal.τ).loc Cert.Kernel28Ideal.main_arg13)
      ∧ m' ((c.tc : Thread Cert.Reference28Ideal.nD Cert.Reference28Ideal.τ).loc Cert.Reference28Ideal.main_arg14) = m ((c.tc : Thread Cert.Kernel28Ideal.nD Cert.Kernel28Ideal.τ).loc Cert.Kernel28Ideal.main_arg14)
      ∧ m' ((c.tc : Thread Cert.Reference28Ideal.nD Cert.Reference28Ideal.τ).loc Cert.Reference28Ideal.main_arg15) = m ((c.tc : Thread Cert.Kernel28Ideal.nD Cert.Kernel28Ideal.τ).loc Cert.Kernel28Ideal.main_arg15)
      ∧ m' ((c.tc : Thread Cert.Reference28Ideal.nD Cert.Reference28Ideal.τ).loc Cert.Reference28Ideal.main_arg16) = m ((c.tc : Thread Cert.Kernel28Ideal.nD Cert.Kernel28Ideal.τ).loc Cert.Kernel28Ideal.main_arg16)
      ∧ m' ((c.tc : Thread Cert.Reference28Ideal.nD Cert.Reference28Ideal.τ).loc Cert.Reference28Ideal.main_arg17) = m ((c.tc : Thread Cert.Kernel28Ideal.nD Cert.Kernel28Ideal.τ).loc Cert.Kernel28Ideal.main_arg17)
      ∧ m' ((c.tc : Thread Cert.Reference28Ideal.nD Cert.Reference28Ideal.τ).loc Cert.Reference28Ideal.main_arg18) = m ((c.tc : Thread Cert.Kernel28Ideal.nD Cert.Kernel28Ideal.τ).loc Cert.Kernel28Ideal.main_arg18)
      ∧ m' ((c.tc : Thread Cert.Reference28Ideal.nD Cert.Reference28Ideal.τ).loc Cert.Reference28Ideal.main_arg19) = m ((c.tc : Thread Cert.Kernel28Ideal.nD Cert.Kernel28Ideal.τ).loc Cert.Kernel28Ideal.main_arg19)
      ∧ m' ((c.tc : Thread Cert.Reference28Ideal.nD Cert.Reference28Ideal.τ).loc Cert.Reference28Ideal.main_arg20) = m ((c.tc : Thread Cert.Kernel28Ideal.nD Cert.Kernel28Ideal.τ).loc Cert.Kernel28Ideal.main_arg20)
      ∧ m' ((c.tc : Thread Cert.Reference28Ideal.nD Cert.Reference28Ideal.τ).loc Cert.Reference28Ideal.main_arg21) = m ((c.tc : Thread Cert.Kernel28Ideal.nD Cert.Kernel28Ideal.τ).loc Cert.Kernel28Ideal.main_arg21)
      ∧ m' ((c.tc : Thread Cert.Reference28Ideal.nD Cert.Reference28Ideal.τ).loc Cert.Reference28Ideal.main_arg22) = m ((c.tc : Thread Cert.Kernel28Ideal.nD Cert.Kernel28Ideal.τ).loc Cert.Kernel28Ideal.main_arg22)
      ∧ m' ((c.tc : Thread Cert.Reference28Ideal.nD Cert.Reference28Ideal.τ).loc Cert.Reference28Ideal.main_arg23) = m ((c.tc : Thread Cert.Kernel28Ideal.nD Cert.Kernel28Ideal.τ).loc Cert.Kernel28Ideal.main_arg23)
      ∧ m' ((c.tc : Thread Cert.Reference28Ideal.nD Cert.Reference28Ideal.τ).loc Cert.Reference28Ideal.main_arg24) = m ((c.tc : Thread Cert.Kernel28Ideal.nD Cert.Kernel28Ideal.τ).loc Cert.Kernel28Ideal.main_arg24)
      ∧ m' ((c.tc : Thread Cert.Reference28Ideal.nD Cert.Reference28Ideal.τ).loc Cert.Reference28Ideal.main_arg25) = m ((c.tc : Thread Cert.Kernel28Ideal.nD Cert.Kernel28Ideal.τ).loc Cert.Kernel28Ideal.main_arg25)
      ∧ m' ((c.tc : Thread Cert.Reference28Ideal.nD Cert.Reference28Ideal.τ).loc Cert.Reference28Ideal.main_arg26) = m ((c.tc : Thread Cert.Kernel28Ideal.nD Cert.Kernel28Ideal.τ).loc Cert.Kernel28Ideal.main_arg26)
      ∧ m' ((c.tc : Thread Cert.Reference28Ideal.nD Cert.Reference28Ideal.τ).loc Cert.Reference28Ideal.main_arg27) = m ((c.tc : Thread Cert.Kernel28Ideal.nD Cert.Kernel28Ideal.τ).loc Cert.Kernel28Ideal.main_arg27)
      ∧ m' ((c.tc : Thread Cert.Reference28Ideal.nD Cert.Reference28Ideal.τ).loc Cert.Reference28Ideal.main_arg28) = m ((c.tc : Thread Cert.Kernel28Ideal.nD Cert.Kernel28Ideal.τ).loc Cert.Kernel28Ideal.main_arg28)
      ∧ m' ((c.tc : Thread Cert.Reference28Ideal.nD Cert.Reference28Ideal.τ).loc Cert.Reference28Ideal.main_arg29) = m ((c.tc : Thread Cert.Kernel28Ideal.nD Cert.Kernel28Ideal.τ).loc Cert.Kernel28Ideal.main_arg29)
      ∧ m' ((c.tc : Thread Cert.Reference28Ideal.nD Cert.Reference28Ideal.τ).loc Cert.Reference28Ideal.main_arg30) = m ((c.tc : Thread Cert.Kernel28Ideal.nD Cert.Kernel28Ideal.τ).loc Cert.Kernel28Ideal.main_arg30)
      ∧ m' ((c.tc : Thread Cert.Reference28Ideal.nD Cert.Reference28Ideal.τ).loc Cert.Reference28Ideal.main_arg31) = m ((c.tc : Thread Cert.Kernel28Ideal.nD Cert.Kernel28Ideal.τ).loc Cert.Kernel28Ideal.main_arg31)
      ∧ m' ((c.tc : Thread Cert.Reference28Ideal.nD Cert.Reference28Ideal.τ).loc Cert.Reference28Ideal.main_arg32) = m ((c.tc : Thread Cert.Kernel28Ideal.nD Cert.Kernel28Ideal.τ).loc Cert.Kernel28Ideal.main_arg32)
      ∧ m' ((c.tc : Thread Cert.Reference28Ideal.nD Cert.Reference28Ideal.τ).loc Cert.Reference28Ideal.main_arg33) = m ((c.tc : Thread Cert.Kernel28Ideal.nD Cert.Kernel28Ideal.τ).loc Cert.Kernel28Ideal.main_arg33)
      ∧ m' ((c.tc : Thread Cert.Reference28Ideal.nD Cert.Reference28Ideal.τ).loc Cert.Reference28Ideal.main_arg34) = m ((c.tc : Thread Cert.Kernel28Ideal.nD Cert.Kernel28Ideal.τ).loc Cert.Kernel28Ideal.main_arg34)
      ∧ m' ((c.tc : Thread Cert.Reference28Ideal.nD Cert.Reference28Ideal.τ).loc Cert.Reference28Ideal.main_arg35) = m ((c.tc : Thread Cert.Kernel28Ideal.nD Cert.Kernel28Ideal.τ).loc Cert.Kernel28Ideal.main_arg35)
      ∧ m' ((c.tc : Thread Cert.Reference28Ideal.nD Cert.Reference28Ideal.τ).loc Cert.Reference28Ideal.main_arg36) = m ((c.tc : Thread Cert.Kernel28Ideal.nD Cert.Kernel28Ideal.τ).loc Cert.Kernel28Ideal.main_arg36)
      ∧ m' ((c.tc : Thread Cert.Reference28Ideal.nD Cert.Reference28Ideal.τ).loc Cert.Reference28Ideal.main_arg37) = m ((c.tc : Thread Cert.Kernel28Ideal.nD Cert.Kernel28Ideal.τ).loc Cert.Kernel28Ideal.main_arg37)
      ∧ m' ((c.tc : Thread Cert.Reference28Ideal.nD Cert.Reference28Ideal.τ).loc Cert.Reference28Ideal.main_arg38) = m ((c.tc : Thread Cert.Kernel28Ideal.nD Cert.Kernel28Ideal.τ).loc Cert.Kernel28Ideal.main_arg38)
      ∧ m' ((c.tc : Thread Cert.Reference28Ideal.nD Cert.Reference28Ideal.τ).loc Cert.Reference28Ideal.main_arg39) = m ((c.tc : Thread Cert.Kernel28Ideal.nD Cert.Kernel28Ideal.τ).loc Cert.Kernel28Ideal.main_arg39)
      ∧ m' ((c.tc : Thread Cert.Reference28Ideal.nD Cert.Reference28Ideal.τ).loc Cert.Reference28Ideal.main_arg40) = m ((c.tc : Thread Cert.Kernel28Ideal.nD Cert.Kernel28Ideal.τ).loc Cert.Kernel28Ideal.main_arg40)
      ∧ m' ((c.tc : Thread Cert.Reference28Ideal.nD Cert.Reference28Ideal.τ).loc Cert.Reference28Ideal.main_arg41) = m ((c.tc : Thread Cert.Kernel28Ideal.nD Cert.Kernel28Ideal.τ).loc Cert.Kernel28Ideal.main_arg41)
      ∧ m' ((c.tc : Thread Cert.Reference28Ideal.nD Cert.Reference28Ideal.τ).loc Cert.Reference28Ideal.main_arg42) = m ((c.tc : Thread Cert.Kernel28Ideal.nD Cert.Kernel28Ideal.τ).loc Cert.Kernel28Ideal.main_arg42)
      ∧ m' ((c.tc : Thread Cert.Reference28Ideal.nD Cert.Reference28Ideal.τ).loc Cert.Reference28Ideal.main_arg43) = m ((c.tc : Thread Cert.Kernel28Ideal.nD Cert.Kernel28Ideal.τ).loc Cert.Kernel28Ideal.main_arg43)
      ∧ m' ((c.tc : Thread Cert.Reference28Ideal.nD Cert.Reference28Ideal.τ).loc Cert.Reference28Ideal.main_arg44) = m ((c.tc : Thread Cert.Kernel28Ideal.nD Cert.Kernel28Ideal.τ).loc Cert.Kernel28Ideal.main_arg44)
      ∧ m' ((c.tc : Thread Cert.Reference28Ideal.nD Cert.Reference28Ideal.τ).loc Cert.Reference28Ideal.main_arg45) = m ((c.tc : Thread Cert.Kernel28Ideal.nD Cert.Kernel28Ideal.τ).loc Cert.Kernel28Ideal.main_arg45)
      ∧ m' ((c.tc : Thread Cert.Reference28Ideal.nD Cert.Reference28Ideal.τ).loc Cert.Reference28Ideal.main_arg46) = m ((c.tc : Thread Cert.Kernel28Ideal.nD Cert.Kernel28Ideal.τ).loc Cert.Kernel28Ideal.main_arg46)
      ∧ m' ((c.tc : Thread Cert.Reference28Ideal.nD Cert.Reference28Ideal.τ).loc Cert.Reference28Ideal.main_arg47) = m ((c.tc : Thread Cert.Kernel28Ideal.nD Cert.Kernel28Ideal.τ).loc Cert.Kernel28Ideal.main_arg47)) →
    ∃ (v0 : (c : Dev Cert.Kernel28Ideal.nD) → Buf (Elt Ideal) ((c.tc : Thread Cert.Kernel28Ideal.nD Cert.Kernel28Ideal.τ).loc Cert.Kernel28Ideal.main_v68)) (v1 : (c : Dev Cert.Kernel28Ideal.nD) → Buf (Elt Ideal) ((c.tc : Thread Cert.Kernel28Ideal.nD Cert.Kernel28Ideal.τ).loc Cert.Kernel28Ideal.main_v71)) (v2 : (c : Dev Cert.Kernel28Ideal.nD) → Buf (Elt Ideal) ((c.tc : Thread Cert.Kernel28Ideal.nD Cert.Kernel28Ideal.τ).loc Cert.Kernel28Ideal.main_v75)) (v3 : (c : Dev Cert.Kernel28Ideal.nD) → Buf (Elt Ideal) ((c.tc : Thread Cert.Kernel28Ideal.nD Cert.Kernel28Ideal.τ).loc Cert.Kernel28Ideal.main_v78)) (v4 : (c : Dev Cert.Kernel28Ideal.nD) → Buf (Elt Ideal) ((c.tc : Thread Cert.Kernel28Ideal.nD Cert.Kernel28Ideal.τ).loc Cert.Kernel28Ideal.main_v81)) (v5 : (c : Dev Cert.Kernel28Ideal.nD) → Buf (Elt Ideal) ((c.tc : Thread Cert.Kernel28Ideal.nD Cert.Kernel28Ideal.τ).loc Cert.Kernel28Ideal.main_v84)) (v6 : (c : Dev Cert.Kernel28Ideal.nD) → Buf (Elt Ideal) ((c.tc : Thread Cert.Kernel28Ideal.nD Cert.Kernel28Ideal.τ).loc Cert.Kernel28Ideal.main_v87)) (v7 : (c : Dev Cert.Kernel28Ideal.nD) → Buf (Elt Ideal) ((c.tc : Thread Cert.Kernel28Ideal.nD Cert.Kernel28Ideal.τ).loc Cert.Kernel28Ideal.main_v90)) (v8 : (c : Dev Cert.Kernel28Ideal.nD) → Buf (Elt Ideal) ((c.tc : Thread Cert.Kernel28Ideal.nD Cert.Kernel28Ideal.τ).loc Cert.Kernel28Ideal.main_v93)) (v9 : (c : Dev Cert.Kernel28Ideal.nD) → Buf (Elt Ideal) ((c.tc : Thread Cert.Kernel28Ideal.nD Cert.Kernel28Ideal.τ).loc Cert.Kernel28Ideal.main_v96)) (v10 : (c : Dev Cert.Kernel28Ideal.nD) → Buf (Elt Ideal) ((c.tc : Thread Cert.Kernel28Ideal.nD Cert.Kernel28Ideal.τ).loc Cert.Kernel28Ideal.main_v100)) (v11 : (c : Dev Cert.Kernel28Ideal.nD) → Buf (Elt Ideal) ((c.tc : Thread Cert.Kernel28Ideal.nD Cert.Kernel28Ideal.τ).loc Cert.Kernel28Ideal.main_v102)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v68) = v0 c
          ∧ r.2.mem ((c.tc : Thread Cert.Kernel28Ideal.nD Cert.Kernel28Ideal.τ).loc Cert.Kernel28Ideal.main_v71) = v1 c
          ∧ r.2.mem ((c.tc : Thread Cert.Kernel28Ideal.nD Cert.Kernel28Ideal.τ).loc Cert.Kernel28Ideal.main_v75) = v2 c
          ∧ r.2.mem ((c.tc : Thread Cert.Kernel28Ideal.nD Cert.Kernel28Ideal.τ).loc Cert.Kernel28Ideal.main_v78) = v3 c
          ∧ r.2.mem ((c.tc : Thread Cert.Kernel28Ideal.nD Cert.Kernel28Ideal.τ).loc Cert.Kernel28Ideal.main_v81) = v4 c
          ∧ r.2.mem ((c.tc : Thread Cert.Kernel28Ideal.nD Cert.Kernel28Ideal.τ).loc Cert.Kernel28Ideal.main_v84) = v5 c
          ∧ r.2.mem ((c.tc : Thread Cert.Kernel28Ideal.nD Cert.Kernel28Ideal.τ).loc Cert.Kernel28Ideal.main_v87) = v6 c
          ∧ r.2.mem ((c.tc : Thread Cert.Kernel28Ideal.nD Cert.Kernel28Ideal.τ).loc Cert.Kernel28Ideal.main_v90) = v7 c
          ∧ r.2.mem ((c.tc : Thread Cert.Kernel28Ideal.nD Cert.Kernel28Ideal.τ).loc Cert.Kernel28Ideal.main_v93) = v8 c
          ∧ r.2.mem ((c.tc : Thread Cert.Kernel28Ideal.nD Cert.Kernel28Ideal.τ).loc Cert.Kernel28Ideal.main_v96) = v9 c
          ∧ r.2.mem ((c.tc : Thread Cert.Kernel28Ideal.nD Cert.Kernel28Ideal.τ).loc Cert.Kernel28Ideal.main_v100) = v10 c
          ∧ r.2.mem ((c.tc : Thread Cert.Kernel28Ideal.nD Cert.Kernel28Ideal.τ).loc Cert.Kernel28Ideal.main_v102) = v11 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
          ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4)
          ∧ r.2.mem ((c.tc : Thread Cert.Kernel28Ideal.nD Cert.Kernel28Ideal.τ).loc Cert.Kernel28Ideal.main_arg5) = m ((c.tc : Thread Cert.Kernel28Ideal.nD Cert.Kernel28Ideal.τ).loc Cert.Kernel28Ideal.main_arg5)
          ∧ r.2.mem ((c.tc : Thread Cert.Kernel28Ideal.nD Cert.Kernel28Ideal.τ).loc Cert.Kernel28Ideal.main_arg6) = m ((c.tc : Thread Cert.Kernel28Ideal.nD Cert.Kernel28Ideal.τ).loc Cert.Kernel28Ideal.main_arg6)
          ∧ r.2.mem ((c.tc : Thread Cert.Kernel28Ideal.nD Cert.Kernel28Ideal.τ).loc Cert.Kernel28Ideal.main_arg7) = m ((c.tc : Thread Cert.Kernel28Ideal.nD Cert.Kernel28Ideal.τ).loc Cert.Kernel28Ideal.main_arg7)
          ∧ r.2.mem ((c.tc : Thread Cert.Kernel28Ideal.nD Cert.Kernel28Ideal.τ).loc Cert.Kernel28Ideal.main_arg8) = m ((c.tc : Thread Cert.Kernel28Ideal.nD Cert.Kernel28Ideal.τ).loc Cert.Kernel28Ideal.main_arg8)
          ∧ r.2.mem ((c.tc : Thread Cert.Kernel28Ideal.nD Cert.Kernel28Ideal.τ).loc Cert.Kernel28Ideal.main_arg9) = m ((c.tc : Thread Cert.Kernel28Ideal.nD Cert.Kernel28Ideal.τ).loc Cert.Kernel28Ideal.main_arg9)
          ∧ r.2.mem ((c.tc : Thread Cert.Kernel28Ideal.nD Cert.Kernel28Ideal.τ).loc Cert.Kernel28Ideal.main_arg10) = m ((c.tc : Thread Cert.Kernel28Ideal.nD Cert.Kernel28Ideal.τ).loc Cert.Kernel28Ideal.main_arg10)
          ∧ r.2.mem ((c.tc : Thread Cert.Kernel28Ideal.nD Cert.Kernel28Ideal.τ).loc Cert.Kernel28Ideal.main_arg11) = m ((c.tc : Thread Cert.Kernel28Ideal.nD Cert.Kernel28Ideal.τ).loc Cert.Kernel28Ideal.main_arg11)
          ∧ r.2.mem ((c.tc : Thread Cert.Kernel28Ideal.nD Cert.Kernel28Ideal.τ).loc Cert.Kernel28Ideal.main_arg12) = m ((c.tc : Thread Cert.Kernel28Ideal.nD Cert.Kernel28Ideal.τ).loc Cert.Kernel28Ideal.main_arg12)
          ∧ r.2.mem ((c.tc : Thread Cert.Kernel28Ideal.nD Cert.Kernel28Ideal.τ).loc Cert.Kernel28Ideal.main_arg13) = m ((c.tc : Thread Cert.Kernel28Ideal.nD Cert.Kernel28Ideal.τ).loc Cert.Kernel28Ideal.main_arg13)
          ∧ r.2.mem ((c.tc : Thread Cert.Kernel28Ideal.nD Cert.Kernel28Ideal.τ).loc Cert.Kernel28Ideal.main_arg14) = m ((c.tc : Thread Cert.Kernel28Ideal.nD Cert.Kernel28Ideal.τ).loc Cert.Kernel28Ideal.main_arg14)
          ∧ r.2.mem ((c.tc : Thread Cert.Kernel28Ideal.nD Cert.Kernel28Ideal.τ).loc Cert.Kernel28Ideal.main_arg15) = m ((c.tc : Thread Cert.Kernel28Ideal.nD Cert.Kernel28Ideal.τ).loc Cert.Kernel28Ideal.main_arg15)
          ∧ r.2.mem ((c.tc : Thread Cert.Kernel28Ideal.nD Cert.Kernel28Ideal.τ).loc Cert.Kernel28Ideal.main_arg16) = m ((c.tc : Thread Cert.Kernel28Ideal.nD Cert.Kernel28Ideal.τ).loc Cert.Kernel28Ideal.main_arg16)
          ∧ r.2.mem ((c.tc : Thread Cert.Kernel28Ideal.nD Cert.Kernel28Ideal.τ).loc Cert.Kernel28Ideal.main_arg17) = m ((c.tc : Thread Cert.Kernel28Ideal.nD Cert.Kernel28Ideal.τ).loc Cert.Kernel28Ideal.main_arg17)
          ∧ r.2.mem ((c.tc : Thread Cert.Kernel28Ideal.nD Cert.Kernel28Ideal.τ).loc Cert.Kernel28Ideal.main_arg18) = m ((c.tc : Thread Cert.Kernel28Ideal.nD Cert.Kernel28Ideal.τ).loc Cert.Kernel28Ideal.main_arg18)
          ∧ r.2.mem ((c.tc : Thread Cert.Kernel28Ideal.nD Cert.Kernel28Ideal.τ).loc Cert.Kernel28Ideal.main_arg19) = m ((c.tc : Thread Cert.Kernel28Ideal.nD Cert.Kernel28Ideal.τ).loc Cert.Kernel28Ideal.main_arg19)
          ∧ r.2.mem ((c.tc : Thread Cert.Kernel28Ideal.nD Cert.Kernel28Ideal.τ).loc Cert.Kernel28Ideal.main_arg20) = m ((c.tc : Thread Cert.Kernel28Ideal.nD Cert.Kernel28Ideal.τ).loc Cert.Kernel28Ideal.main_arg20)
          ∧ r.2.mem ((c.tc : Thread Cert.Kernel28Ideal.nD Cert.Kernel28Ideal.τ).loc Cert.Kernel28Ideal.main_arg21) = m ((c.tc : Thread Cert.Kernel28Ideal.nD Cert.Kernel28Ideal.τ).loc Cert.Kernel28Ideal.main_arg21)
          ∧ r.2.mem ((c.tc : Thread Cert.Kernel28Ideal.nD Cert.Kernel28Ideal.τ).loc Cert.Kernel28Ideal.main_arg22) = m ((c.tc : Thread Cert.Kernel28Ideal.nD Cert.Kernel28Ideal.τ).loc Cert.Kernel28Ideal.main_arg22)
          ∧ r.2.mem ((c.tc : Thread Cert.Kernel28Ideal.nD Cert.Kernel28Ideal.τ).loc Cert.Kernel28Ideal.main_arg23) = m ((c.tc : Thread Cert.Kernel28Ideal.nD Cert.Kernel28Ideal.τ).loc Cert.Kernel28Ideal.main_arg23)
          ∧ r.2.mem ((c.tc : Thread Cert.Kernel28Ideal.nD Cert.Kernel28Ideal.τ).loc Cert.Kernel28Ideal.main_arg24) = m ((c.tc : Thread Cert.Kernel28Ideal.nD Cert.Kernel28Ideal.τ).loc Cert.Kernel28Ideal.main_arg24)
          ∧ r.2.mem ((c.tc : Thread Cert.Kernel28Ideal.nD Cert.Kernel28Ideal.τ).loc Cert.Kernel28Ideal.main_arg25) = m ((c.tc : Thread Cert.Kernel28Ideal.nD Cert.Kernel28Ideal.τ).loc Cert.Kernel28Ideal.main_arg25)
          ∧ r.2.mem ((c.tc : Thread Cert.Kernel28Ideal.nD Cert.Kernel28Ideal.τ).loc Cert.Kernel28Ideal.main_arg26) = m ((c.tc : Thread Cert.Kernel28Ideal.nD Cert.Kernel28Ideal.τ).loc Cert.Kernel28Ideal.main_arg26)
          ∧ r.2.mem ((c.tc : Thread Cert.Kernel28Ideal.nD Cert.Kernel28Ideal.τ).loc Cert.Kernel28Ideal.main_arg27) = m ((c.tc : Thread Cert.Kernel28Ideal.nD Cert.Kernel28Ideal.τ).loc Cert.Kernel28Ideal.main_arg27)
          ∧ r.2.mem ((c.tc : Thread Cert.Kernel28Ideal.nD Cert.Kernel28Ideal.τ).loc Cert.Kernel28Ideal.main_arg28) = m ((c.tc : Thread Cert.Kernel28Ideal.nD Cert.Kernel28Ideal.τ).loc Cert.Kernel28Ideal.main_arg28)
          ∧ r.2.mem ((c.tc : Thread Cert.Kernel28Ideal.nD Cert.Kernel28Ideal.τ).loc Cert.Kernel28Ideal.main_arg29) = m ((c.tc : Thread Cert.Kernel28Ideal.nD Cert.Kernel28Ideal.τ).loc Cert.Kernel28Ideal.main_arg29)
          ∧ r.2.mem ((c.tc : Thread Cert.Kernel28Ideal.nD Cert.Kernel28Ideal.τ).loc Cert.Kernel28Ideal.main_arg30) = m ((c.tc : Thread Cert.Kernel28Ideal.nD Cert.Kernel28Ideal.τ).loc Cert.Kernel28Ideal.main_arg30)
          ∧ r.2.mem ((c.tc : Thread Cert.Kernel28Ideal.nD Cert.Kernel28Ideal.τ).loc Cert.Kernel28Ideal.main_arg31) = m ((c.tc : Thread Cert.Kernel28Ideal.nD Cert.Kernel28Ideal.τ).loc Cert.Kernel28Ideal.main_arg31)
          ∧ r.2.mem ((c.tc : Thread Cert.Kernel28Ideal.nD Cert.Kernel28Ideal.τ).loc Cert.Kernel28Ideal.main_arg32) = m ((c.tc : Thread Cert.Kernel28Ideal.nD Cert.Kernel28Ideal.τ).loc Cert.Kernel28Ideal.main_arg32)
          ∧ r.2.mem ((c.tc : Thread Cert.Kernel28Ideal.nD Cert.Kernel28Ideal.τ).loc Cert.Kernel28Ideal.main_arg33) = m ((c.tc : Thread Cert.Kernel28Ideal.nD Cert.Kernel28Ideal.τ).loc Cert.Kernel28Ideal.main_arg33)
          ∧ r.2.mem ((c.tc : Thread Cert.Kernel28Ideal.nD Cert.Kernel28Ideal.τ).loc Cert.Kernel28Ideal.main_arg34) = m ((c.tc : Thread Cert.Kernel28Ideal.nD Cert.Kernel28Ideal.τ).loc Cert.Kernel28Ideal.main_arg34)
          ∧ r.2.mem ((c.tc : Thread Cert.Kernel28Ideal.nD Cert.Kernel28Ideal.τ).loc Cert.Kernel28Ideal.main_arg35) = m ((c.tc : Thread Cert.Kernel28Ideal.nD Cert.Kernel28Ideal.τ).loc Cert.Kernel28Ideal.main_arg35)
          ∧ r.2.mem ((c.tc : Thread Cert.Kernel28Ideal.nD Cert.Kernel28Ideal.τ).loc Cert.Kernel28Ideal.main_arg36) = m ((c.tc : Thread Cert.Kernel28Ideal.nD Cert.Kernel28Ideal.τ).loc Cert.Kernel28Ideal.main_arg36)
          ∧ r.2.mem ((c.tc : Thread Cert.Kernel28Ideal.nD Cert.Kernel28Ideal.τ).loc Cert.Kernel28Ideal.main_arg37) = m ((c.tc : Thread Cert.Kernel28Ideal.nD Cert.Kernel28Ideal.τ).loc Cert.Kernel28Ideal.main_arg37)
          ∧ r.2.mem ((c.tc : Thread Cert.Kernel28Ideal.nD Cert.Kernel28Ideal.τ).loc Cert.Kernel28Ideal.main_arg38) = m ((c.tc : Thread Cert.Kernel28Ideal.nD Cert.Kernel28Ideal.τ).loc Cert.Kernel28Ideal.main_arg38)
          ∧ r.2.mem ((c.tc : Thread Cert.Kernel28Ideal.nD Cert.Kernel28Ideal.τ).loc Cert.Kernel28Ideal.main_arg39) = m ((c.tc : Thread Cert.Kernel28Ideal.nD Cert.Kernel28Ideal.τ).loc Cert.Kernel28Ideal.main_arg39)
          ∧ r.2.mem ((c.tc : Thread Cert.Kernel28Ideal.nD Cert.Kernel28Ideal.τ).loc Cert.Kernel28Ideal.main_arg40) = m ((c.tc : Thread Cert.Kernel28Ideal.nD Cert.Kernel28Ideal.τ).loc Cert.Kernel28Ideal.main_arg40)
          ∧ r.2.mem ((c.tc : Thread Cert.Kernel28Ideal.nD Cert.Kernel28Ideal.τ).loc Cert.Kernel28Ideal.main_arg41) = m ((c.tc : Thread Cert.Kernel28Ideal.nD Cert.Kernel28Ideal.τ).loc Cert.Kernel28Ideal.main_arg41)
          ∧ r.2.mem ((c.tc : Thread Cert.Kernel28Ideal.nD Cert.Kernel28Ideal.τ).loc Cert.Kernel28Ideal.main_arg42) = m ((c.tc : Thread Cert.Kernel28Ideal.nD Cert.Kernel28Ideal.τ).loc Cert.Kernel28Ideal.main_arg42)
          ∧ r.2.mem ((c.tc : Thread Cert.Kernel28Ideal.nD Cert.Kernel28Ideal.τ).loc Cert.Kernel28Ideal.main_arg43) = m ((c.tc : Thread Cert.Kernel28Ideal.nD Cert.Kernel28Ideal.τ).loc Cert.Kernel28Ideal.main_arg43)
          ∧ r.2.mem ((c.tc : Thread Cert.Kernel28Ideal.nD Cert.Kernel28Ideal.τ).loc Cert.Kernel28Ideal.main_arg44) = m ((c.tc : Thread Cert.Kernel28Ideal.nD Cert.Kernel28Ideal.τ).loc Cert.Kernel28Ideal.main_arg44)
          ∧ r.2.mem ((c.tc : Thread Cert.Kernel28Ideal.nD Cert.Kernel28Ideal.τ).loc Cert.Kernel28Ideal.main_arg45) = m ((c.tc : Thread Cert.Kernel28Ideal.nD Cert.Kernel28Ideal.τ).loc Cert.Kernel28Ideal.main_arg45)
          ∧ r.2.mem ((c.tc : Thread Cert.Kernel28Ideal.nD Cert.Kernel28Ideal.τ).loc Cert.Kernel28Ideal.main_arg46) = m ((c.tc : Thread Cert.Kernel28Ideal.nD Cert.Kernel28Ideal.τ).loc Cert.Kernel28Ideal.main_arg46)
          ∧ r.2.mem ((c.tc : Thread Cert.Kernel28Ideal.nD Cert.Kernel28Ideal.τ).loc Cert.Kernel28Ideal.main_arg47) = m ((c.tc : Thread Cert.Kernel28Ideal.nD Cert.Kernel28Ideal.τ).loc Cert.Kernel28Ideal.main_arg47))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v24) = v0 c
          ∧ r.2.mem ((c.tc : Thread Cert.Reference28Ideal.nD Cert.Reference28Ideal.τ).loc Cert.Reference28Ideal.main_v49) = v1 c
          ∧ r.2.mem ((c.tc : Thread Cert.Reference28Ideal.nD Cert.Reference28Ideal.τ).loc Cert.Reference28Ideal.main_v74) = v2 c
          ∧ r.2.mem ((c.tc : Thread Cert.Reference28Ideal.nD Cert.Reference28Ideal.τ).loc Cert.Reference28Ideal.main_v99) = v3 c
          ∧ r.2.mem ((c.tc : Thread Cert.Reference28Ideal.nD Cert.Reference28Ideal.τ).loc Cert.Reference28Ideal.main_v124) = v4 c
          ∧ r.2.mem ((c.tc : Thread Cert.Reference28Ideal.nD Cert.Reference28Ideal.τ).loc Cert.Reference28Ideal.main_v149) = v5 c
          ∧ r.2.mem ((c.tc : Thread Cert.Reference28Ideal.nD Cert.Reference28Ideal.τ).loc Cert.Reference28Ideal.main_v174) = v6 c
          ∧ r.2.mem ((c.tc : Thread Cert.Reference28Ideal.nD Cert.Reference28Ideal.τ).loc Cert.Reference28Ideal.main_v199) = v7 c
          ∧ r.2.mem ((c.tc : Thread Cert.Reference28Ideal.nD Cert.Reference28Ideal.τ).loc Cert.Reference28Ideal.main_v224) = v8 c
          ∧ r.2.mem ((c.tc : Thread Cert.Reference28Ideal.nD Cert.Reference28Ideal.τ).loc Cert.Reference28Ideal.main_v249) = v9 c
          ∧ r.2.mem ((c.tc : Thread Cert.Reference28Ideal.nD Cert.Reference28Ideal.τ).loc Cert.Reference28Ideal.main_v274) = v10 c
          ∧ r.2.mem ((c.tc : Thread Cert.Reference28Ideal.nD Cert.Reference28Ideal.τ).loc Cert.Reference28Ideal.main_v299) = v11 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3)
          ∧ r.2.mem ((c.tc : Thread Cert.Reference28Ideal.nD Cert.Reference28Ideal.τ).loc Cert.Reference28Ideal.main_arg4) = m' ((c.tc : Thread Cert.Reference28Ideal.nD Cert.Reference28Ideal.τ).loc Cert.Reference28Ideal.main_arg4)
          ∧ r.2.mem ((c.tc : Thread Cert.Reference28Ideal.nD Cert.Reference28Ideal.τ).loc Cert.Reference28Ideal.main_arg5) = m' ((c.tc : Thread Cert.Reference28Ideal.nD Cert.Reference28Ideal.τ).loc Cert.Reference28Ideal.main_arg5)
          ∧ r.2.mem ((c.tc : Thread Cert.Reference28Ideal.nD Cert.Reference28Ideal.τ).loc Cert.Reference28Ideal.main_arg6) = m' ((c.tc : Thread Cert.Reference28Ideal.nD Cert.Reference28Ideal.τ).loc Cert.Reference28Ideal.main_arg6)
          ∧ r.2.mem ((c.tc : Thread Cert.Reference28Ideal.nD Cert.Reference28Ideal.τ).loc Cert.Reference28Ideal.main_arg7) = m' ((c.tc : Thread Cert.Reference28Ideal.nD Cert.Reference28Ideal.τ).loc Cert.Reference28Ideal.main_arg7)
          ∧ r.2.mem ((c.tc : Thread Cert.Reference28Ideal.nD Cert.Reference28Ideal.τ).loc Cert.Reference28Ideal.main_arg8) = m' ((c.tc : Thread Cert.Reference28Ideal.nD Cert.Reference28Ideal.τ).loc Cert.Reference28Ideal.main_arg8)
          ∧ r.2.mem ((c.tc : Thread Cert.Reference28Ideal.nD Cert.Reference28Ideal.τ).loc Cert.Reference28Ideal.main_arg9) = m' ((c.tc : Thread Cert.Reference28Ideal.nD Cert.Reference28Ideal.τ).loc Cert.Reference28Ideal.main_arg9)
          ∧ r.2.mem ((c.tc : Thread Cert.Reference28Ideal.nD Cert.Reference28Ideal.τ).loc Cert.Reference28Ideal.main_arg10) = m' ((c.tc : Thread Cert.Reference28Ideal.nD Cert.Reference28Ideal.τ).loc Cert.Reference28Ideal.main_arg10)
          ∧ r.2.mem ((c.tc : Thread Cert.Reference28Ideal.nD Cert.Reference28Ideal.τ).loc Cert.Reference28Ideal.main_arg11) = m' ((c.tc : Thread Cert.Reference28Ideal.nD Cert.Reference28Ideal.τ).loc Cert.Reference28Ideal.main_arg11)
          ∧ r.2.mem ((c.tc : Thread Cert.Reference28Ideal.nD Cert.Reference28Ideal.τ).loc Cert.Reference28Ideal.main_arg12) = m' ((c.tc : Thread Cert.Reference28Ideal.nD Cert.Reference28Ideal.τ).loc Cert.Reference28Ideal.main_arg12)
          ∧ r.2.mem ((c.tc : Thread Cert.Reference28Ideal.nD Cert.Reference28Ideal.τ).loc Cert.Reference28Ideal.main_arg13) = m' ((c.tc : Thread Cert.Reference28Ideal.nD Cert.Reference28Ideal.τ).loc Cert.Reference28Ideal.main_arg13)
          ∧ r.2.mem ((c.tc : Thread Cert.Reference28Ideal.nD Cert.Reference28Ideal.τ).loc Cert.Reference28Ideal.main_arg14) = m' ((c.tc : Thread Cert.Reference28Ideal.nD Cert.Reference28Ideal.τ).loc Cert.Reference28Ideal.main_arg14)
          ∧ r.2.mem ((c.tc : Thread Cert.Reference28Ideal.nD Cert.Reference28Ideal.τ).loc Cert.Reference28Ideal.main_arg15) = m' ((c.tc : Thread Cert.Reference28Ideal.nD Cert.Reference28Ideal.τ).loc Cert.Reference28Ideal.main_arg15)
          ∧ r.2.mem ((c.tc : Thread Cert.Reference28Ideal.nD Cert.Reference28Ideal.τ).loc Cert.Reference28Ideal.main_arg16) = m' ((c.tc : Thread Cert.Reference28Ideal.nD Cert.Reference28Ideal.τ).loc Cert.Reference28Ideal.main_arg16)
          ∧ r.2.mem ((c.tc : Thread Cert.Reference28Ideal.nD Cert.Reference28Ideal.τ).loc Cert.Reference28Ideal.main_arg17) = m' ((c.tc : Thread Cert.Reference28Ideal.nD Cert.Reference28Ideal.τ).loc Cert.Reference28Ideal.main_arg17)
          ∧ r.2.mem ((c.tc : Thread Cert.Reference28Ideal.nD Cert.Reference28Ideal.τ).loc Cert.Reference28Ideal.main_arg18) = m' ((c.tc : Thread Cert.Reference28Ideal.nD Cert.Reference28Ideal.τ).loc Cert.Reference28Ideal.main_arg18)
          ∧ r.2.mem ((c.tc : Thread Cert.Reference28Ideal.nD Cert.Reference28Ideal.τ).loc Cert.Reference28Ideal.main_arg19) = m' ((c.tc : Thread Cert.Reference28Ideal.nD Cert.Reference28Ideal.τ).loc Cert.Reference28Ideal.main_arg19)
          ∧ r.2.mem ((c.tc : Thread Cert.Reference28Ideal.nD Cert.Reference28Ideal.τ).loc Cert.Reference28Ideal.main_arg20) = m' ((c.tc : Thread Cert.Reference28Ideal.nD Cert.Reference28Ideal.τ).loc Cert.Reference28Ideal.main_arg20)
          ∧ r.2.mem ((c.tc : Thread Cert.Reference28Ideal.nD Cert.Reference28Ideal.τ).loc Cert.Reference28Ideal.main_arg21) = m' ((c.tc : Thread Cert.Reference28Ideal.nD Cert.Reference28Ideal.τ).loc Cert.Reference28Ideal.main_arg21)
          ∧ r.2.mem ((c.tc : Thread Cert.Reference28Ideal.nD Cert.Reference28Ideal.τ).loc Cert.Reference28Ideal.main_arg22) = m' ((c.tc : Thread Cert.Reference28Ideal.nD Cert.Reference28Ideal.τ).loc Cert.Reference28Ideal.main_arg22)
          ∧ r.2.mem ((c.tc : Thread Cert.Reference28Ideal.nD Cert.Reference28Ideal.τ).loc Cert.Reference28Ideal.main_arg23) = m' ((c.tc : Thread Cert.Reference28Ideal.nD Cert.Reference28Ideal.τ).loc Cert.Reference28Ideal.main_arg23)
          ∧ r.2.mem ((c.tc : Thread Cert.Reference28Ideal.nD Cert.Reference28Ideal.τ).loc Cert.Reference28Ideal.main_arg24) = m' ((c.tc : Thread Cert.Reference28Ideal.nD Cert.Reference28Ideal.τ).loc Cert.Reference28Ideal.main_arg24)
          ∧ r.2.mem ((c.tc : Thread Cert.Reference28Ideal.nD Cert.Reference28Ideal.τ).loc Cert.Reference28Ideal.main_arg25) = m' ((c.tc : Thread Cert.Reference28Ideal.nD Cert.Reference28Ideal.τ).loc Cert.Reference28Ideal.main_arg25)
          ∧ r.2.mem ((c.tc : Thread Cert.Reference28Ideal.nD Cert.Reference28Ideal.τ).loc Cert.Reference28Ideal.main_arg26) = m' ((c.tc : Thread Cert.Reference28Ideal.nD Cert.Reference28Ideal.τ).loc Cert.Reference28Ideal.main_arg26)
          ∧ r.2.mem ((c.tc : Thread Cert.Reference28Ideal.nD Cert.Reference28Ideal.τ).loc Cert.Reference28Ideal.main_arg27) = m' ((c.tc : Thread Cert.Reference28Ideal.nD Cert.Reference28Ideal.τ).loc Cert.Reference28Ideal.main_arg27)
          ∧ r.2.mem ((c.tc : Thread Cert.Reference28Ideal.nD Cert.Reference28Ideal.τ).loc Cert.Reference28Ideal.main_arg28) = m' ((c.tc : Thread Cert.Reference28Ideal.nD Cert.Reference28Ideal.τ).loc Cert.Reference28Ideal.main_arg28)
          ∧ r.2.mem ((c.tc : Thread Cert.Reference28Ideal.nD Cert.Reference28Ideal.τ).loc Cert.Reference28Ideal.main_arg29) = m' ((c.tc : Thread Cert.Reference28Ideal.nD Cert.Reference28Ideal.τ).loc Cert.Reference28Ideal.main_arg29)
          ∧ r.2.mem ((c.tc : Thread Cert.Reference28Ideal.nD Cert.Reference28Ideal.τ).loc Cert.Reference28Ideal.main_arg30) = m' ((c.tc : Thread Cert.Reference28Ideal.nD Cert.Reference28Ideal.τ).loc Cert.Reference28Ideal.main_arg30)
          ∧ r.2.mem ((c.tc : Thread Cert.Reference28Ideal.nD Cert.Reference28Ideal.τ).loc Cert.Reference28Ideal.main_arg31) = m' ((c.tc : Thread Cert.Reference28Ideal.nD Cert.Reference28Ideal.τ).loc Cert.Reference28Ideal.main_arg31)
          ∧ r.2.mem ((c.tc : Thread Cert.Reference28Ideal.nD Cert.Reference28Ideal.τ).loc Cert.Reference28Ideal.main_arg32) = m' ((c.tc : Thread Cert.Reference28Ideal.nD Cert.Reference28Ideal.τ).loc Cert.Reference28Ideal.main_arg32)
          ∧ r.2.mem ((c.tc : Thread Cert.Reference28Ideal.nD Cert.Reference28Ideal.τ).loc Cert.Reference28Ideal.main_arg33) = m' ((c.tc : Thread Cert.Reference28Ideal.nD Cert.Reference28Ideal.τ).loc Cert.Reference28Ideal.main_arg33)
          ∧ r.2.mem ((c.tc : Thread Cert.Reference28Ideal.nD Cert.Reference28Ideal.τ).loc Cert.Reference28Ideal.main_arg34) = m' ((c.tc : Thread Cert.Reference28Ideal.nD Cert.Reference28Ideal.τ).loc Cert.Reference28Ideal.main_arg34)
          ∧ r.2.mem ((c.tc : Thread Cert.Reference28Ideal.nD Cert.Reference28Ideal.τ).loc Cert.Reference28Ideal.main_arg35) = m' ((c.tc : Thread Cert.Reference28Ideal.nD Cert.Reference28Ideal.τ).loc Cert.Reference28Ideal.main_arg35)
          ∧ r.2.mem ((c.tc : Thread Cert.Reference28Ideal.nD Cert.Reference28Ideal.τ).loc Cert.Reference28Ideal.main_arg36) = m' ((c.tc : Thread Cert.Reference28Ideal.nD Cert.Reference28Ideal.τ).loc Cert.Reference28Ideal.main_arg36)
          ∧ r.2.mem ((c.tc : Thread Cert.Reference28Ideal.nD Cert.Reference28Ideal.τ).loc Cert.Reference28Ideal.main_arg37) = m' ((c.tc : Thread Cert.Reference28Ideal.nD Cert.Reference28Ideal.τ).loc Cert.Reference28Ideal.main_arg37)
          ∧ r.2.mem ((c.tc : Thread Cert.Reference28Ideal.nD Cert.Reference28Ideal.τ).loc Cert.Reference28Ideal.main_arg38) = m' ((c.tc : Thread Cert.Reference28Ideal.nD Cert.Reference28Ideal.τ).loc Cert.Reference28Ideal.main_arg38)
          ∧ r.2.mem ((c.tc : Thread Cert.Reference28Ideal.nD Cert.Reference28Ideal.τ).loc Cert.Reference28Ideal.main_arg39) = m' ((c.tc : Thread Cert.Reference28Ideal.nD Cert.Reference28Ideal.τ).loc Cert.Reference28Ideal.main_arg39)
          ∧ r.2.mem ((c.tc : Thread Cert.Reference28Ideal.nD Cert.Reference28Ideal.τ).loc Cert.Reference28Ideal.main_arg40) = m' ((c.tc : Thread Cert.Reference28Ideal.nD Cert.Reference28Ideal.τ).loc Cert.Reference28Ideal.main_arg40)
          ∧ r.2.mem ((c.tc : Thread Cert.Reference28Ideal.nD Cert.Reference28Ideal.τ).loc Cert.Reference28Ideal.main_arg41) = m' ((c.tc : Thread Cert.Reference28Ideal.nD Cert.Reference28Ideal.τ).loc Cert.Reference28Ideal.main_arg41)
          ∧ r.2.mem ((c.tc : Thread Cert.Reference28Ideal.nD Cert.Reference28Ideal.τ).loc Cert.Reference28Ideal.main_arg42) = m' ((c.tc : Thread Cert.Reference28Ideal.nD Cert.Reference28Ideal.τ).loc Cert.Reference28Ideal.main_arg42)
          ∧ r.2.mem ((c.tc : Thread Cert.Reference28Ideal.nD Cert.Reference28Ideal.τ).loc Cert.Reference28Ideal.main_arg43) = m' ((c.tc : Thread Cert.Reference28Ideal.nD Cert.Reference28Ideal.τ).loc Cert.Reference28Ideal.main_arg43)
          ∧ r.2.mem ((c.tc : Thread Cert.Reference28Ideal.nD Cert.Reference28Ideal.τ).loc Cert.Reference28Ideal.main_arg44) = m' ((c.tc : Thread Cert.Reference28Ideal.nD Cert.Reference28Ideal.τ).loc Cert.Reference28Ideal.main_arg44)
          ∧ r.2.mem ((c.tc : Thread Cert.Reference28Ideal.nD Cert.Reference28Ideal.τ).loc Cert.Reference28Ideal.main_arg45) = m' ((c.tc : Thread Cert.Reference28Ideal.nD Cert.Reference28Ideal.τ).loc Cert.Reference28Ideal.main_arg45)
          ∧ r.2.mem ((c.tc : Thread Cert.Reference28Ideal.nD Cert.Reference28Ideal.τ).loc Cert.Reference28Ideal.main_arg46) = m' ((c.tc : Thread Cert.Reference28Ideal.nD Cert.Reference28Ideal.τ).loc Cert.Reference28Ideal.main_arg46)
          ∧ r.2.mem ((c.tc : Thread Cert.Reference28Ideal.nD Cert.Reference28Ideal.τ).loc Cert.Reference28Ideal.main_arg47) = m' ((c.tc : Thread Cert.Reference28Ideal.nD Cert.Reference28Ideal.τ).loc Cert.Reference28Ideal.main_arg47))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)
      ∧ m' ((c.tc : Thread Cert.Reference29Ideal.nD Cert.Reference29Ideal.τ).loc Cert.Reference29Ideal.main_arg4) = m ((c.tc : Thread Cert.Kernel29Ideal.nD Cert.Kernel29Ideal.τ).loc Cert.Kernel29Ideal.main_arg4)
      ∧ m' ((c.tc : Thread Cert.Reference29Ideal.nD Cert.Reference29Ideal.τ).loc Cert.Reference29Ideal.main_arg5) = m ((c.tc : Thread Cert.Kernel29Ideal.nD Cert.Kernel29Ideal.τ).loc Cert.Kernel29Ideal.main_arg5)
      ∧ m' ((c.tc : Thread Cert.Reference29Ideal.nD Cert.Reference29Ideal.τ).loc Cert.Reference29Ideal.main_arg6) = m ((c.tc : Thread Cert.Kernel29Ideal.nD Cert.Kernel29Ideal.τ).loc Cert.Kernel29Ideal.main_arg6)
      ∧ m' ((c.tc : Thread Cert.Reference29Ideal.nD Cert.Reference29Ideal.τ).loc Cert.Reference29Ideal.main_arg7) = m ((c.tc : Thread Cert.Kernel29Ideal.nD Cert.Kernel29Ideal.τ).loc Cert.Kernel29Ideal.main_arg7)
      ∧ m' ((c.tc : Thread Cert.Reference29Ideal.nD Cert.Reference29Ideal.τ).loc Cert.Reference29Ideal.main_arg8) = m ((c.tc : Thread Cert.Kernel29Ideal.nD Cert.Kernel29Ideal.τ).loc Cert.Kernel29Ideal.main_arg8)
      ∧ m' ((c.tc : Thread Cert.Reference29Ideal.nD Cert.Reference29Ideal.τ).loc Cert.Reference29Ideal.main_arg9) = m ((c.tc : Thread Cert.Kernel29Ideal.nD Cert.Kernel29Ideal.τ).loc Cert.Kernel29Ideal.main_arg9)
      ∧ m' ((c.tc : Thread Cert.Reference29Ideal.nD Cert.Reference29Ideal.τ).loc Cert.Reference29Ideal.main_arg10) = m ((c.tc : Thread Cert.Kernel29Ideal.nD Cert.Kernel29Ideal.τ).loc Cert.Kernel29Ideal.main_arg10)
      ∧ m' ((c.tc : Thread Cert.Reference29Ideal.nD Cert.Reference29Ideal.τ).loc Cert.Reference29Ideal.main_arg11) = m ((c.tc : Thread Cert.Kernel29Ideal.nD Cert.Kernel29Ideal.τ).loc Cert.Kernel29Ideal.main_arg11)
      ∧ m' ((c.tc : Thread Cert.Reference29Ideal.nD Cert.Reference29Ideal.τ).loc Cert.Reference29Ideal.main_arg12) = m ((c.tc : Thread Cert.Kernel29Ideal.nD Cert.Kernel29Ideal.τ).loc Cert.Kernel29Ideal.main_arg12)
      ∧ m' ((c.tc : Thread Cert.Reference29Ideal.nD Cert.Reference29Ideal.τ).loc Cert.Reference29Ideal.main_arg13) = m ((c.tc : Thread Cert.Kernel29Ideal.nD Cert.Kernel29Ideal.τ).loc Cert.Kernel29Ideal.main_arg13)
      ∧ m' ((c.tc : Thread Cert.Reference29Ideal.nD Cert.Reference29Ideal.τ).loc Cert.Reference29Ideal.main_arg14) = m ((c.tc : Thread Cert.Kernel29Ideal.nD Cert.Kernel29Ideal.τ).loc Cert.Kernel29Ideal.main_arg14)
      ∧ m' ((c.tc : Thread Cert.Reference29Ideal.nD Cert.Reference29Ideal.τ).loc Cert.Reference29Ideal.main_arg15) = m ((c.tc : Thread Cert.Kernel29Ideal.nD Cert.Kernel29Ideal.τ).loc Cert.Kernel29Ideal.main_arg15)
      ∧ m' ((c.tc : Thread Cert.Reference29Ideal.nD Cert.Reference29Ideal.τ).loc Cert.Reference29Ideal.main_arg16) = m ((c.tc : Thread Cert.Kernel29Ideal.nD Cert.Kernel29Ideal.τ).loc Cert.Kernel29Ideal.main_arg16)
      ∧ m' ((c.tc : Thread Cert.Reference29Ideal.nD Cert.Reference29Ideal.τ).loc Cert.Reference29Ideal.main_arg17) = m ((c.tc : Thread Cert.Kernel29Ideal.nD Cert.Kernel29Ideal.τ).loc Cert.Kernel29Ideal.main_arg17)
      ∧ m' ((c.tc : Thread Cert.Reference29Ideal.nD Cert.Reference29Ideal.τ).loc Cert.Reference29Ideal.main_arg18) = m ((c.tc : Thread Cert.Kernel29Ideal.nD Cert.Kernel29Ideal.τ).loc Cert.Kernel29Ideal.main_arg18)
      ∧ m' ((c.tc : Thread Cert.Reference29Ideal.nD Cert.Reference29Ideal.τ).loc Cert.Reference29Ideal.main_arg19) = m ((c.tc : Thread Cert.Kernel29Ideal.nD Cert.Kernel29Ideal.τ).loc Cert.Kernel29Ideal.main_arg19)
      ∧ m' ((c.tc : Thread Cert.Reference29Ideal.nD Cert.Reference29Ideal.τ).loc Cert.Reference29Ideal.main_arg20) = m ((c.tc : Thread Cert.Kernel29Ideal.nD Cert.Kernel29Ideal.τ).loc Cert.Kernel29Ideal.main_arg20)
      ∧ m' ((c.tc : Thread Cert.Reference29Ideal.nD Cert.Reference29Ideal.τ).loc Cert.Reference29Ideal.main_arg21) = m ((c.tc : Thread Cert.Kernel29Ideal.nD Cert.Kernel29Ideal.τ).loc Cert.Kernel29Ideal.main_arg21)
      ∧ m' ((c.tc : Thread Cert.Reference29Ideal.nD Cert.Reference29Ideal.τ).loc Cert.Reference29Ideal.main_arg22) = m ((c.tc : Thread Cert.Kernel29Ideal.nD Cert.Kernel29Ideal.τ).loc Cert.Kernel29Ideal.main_arg22)
      ∧ m' ((c.tc : Thread Cert.Reference29Ideal.nD Cert.Reference29Ideal.τ).loc Cert.Reference29Ideal.main_arg23) = m ((c.tc : Thread Cert.Kernel29Ideal.nD Cert.Kernel29Ideal.τ).loc Cert.Kernel29Ideal.main_arg23)
      ∧ m' ((c.tc : Thread Cert.Reference29Ideal.nD Cert.Reference29Ideal.τ).loc Cert.Reference29Ideal.main_arg24) = m ((c.tc : Thread Cert.Kernel29Ideal.nD Cert.Kernel29Ideal.τ).loc Cert.Kernel29Ideal.main_arg24)
      ∧ m' ((c.tc : Thread Cert.Reference29Ideal.nD Cert.Reference29Ideal.τ).loc Cert.Reference29Ideal.main_arg25) = m ((c.tc : Thread Cert.Kernel29Ideal.nD Cert.Kernel29Ideal.τ).loc Cert.Kernel29Ideal.main_arg25)
      ∧ m' ((c.tc : Thread Cert.Reference29Ideal.nD Cert.Reference29Ideal.τ).loc Cert.Reference29Ideal.main_arg26) = m ((c.tc : Thread Cert.Kernel29Ideal.nD Cert.Kernel29Ideal.τ).loc Cert.Kernel29Ideal.main_arg26)
      ∧ m' ((c.tc : Thread Cert.Reference29Ideal.nD Cert.Reference29Ideal.τ).loc Cert.Reference29Ideal.main_arg27) = m ((c.tc : Thread Cert.Kernel29Ideal.nD Cert.Kernel29Ideal.τ).loc Cert.Kernel29Ideal.main_arg27)
      ∧ m' ((c.tc : Thread Cert.Reference29Ideal.nD Cert.Reference29Ideal.τ).loc Cert.Reference29Ideal.main_arg28) = m ((c.tc : Thread Cert.Kernel29Ideal.nD Cert.Kernel29Ideal.τ).loc Cert.Kernel29Ideal.main_arg28)
      ∧ m' ((c.tc : Thread Cert.Reference29Ideal.nD Cert.Reference29Ideal.τ).loc Cert.Reference29Ideal.main_arg29) = m ((c.tc : Thread Cert.Kernel29Ideal.nD Cert.Kernel29Ideal.τ).loc Cert.Kernel29Ideal.main_arg29)
      ∧ m' ((c.tc : Thread Cert.Reference29Ideal.nD Cert.Reference29Ideal.τ).loc Cert.Reference29Ideal.main_arg30) = m ((c.tc : Thread Cert.Kernel29Ideal.nD Cert.Kernel29Ideal.τ).loc Cert.Kernel29Ideal.main_arg30)
      ∧ m' ((c.tc : Thread Cert.Reference29Ideal.nD Cert.Reference29Ideal.τ).loc Cert.Reference29Ideal.main_arg31) = m ((c.tc : Thread Cert.Kernel29Ideal.nD Cert.Kernel29Ideal.τ).loc Cert.Kernel29Ideal.main_arg31)
      ∧ m' ((c.tc : Thread Cert.Reference29Ideal.nD Cert.Reference29Ideal.τ).loc Cert.Reference29Ideal.main_arg32) = m ((c.tc : Thread Cert.Kernel29Ideal.nD Cert.Kernel29Ideal.τ).loc Cert.Kernel29Ideal.main_arg32)
      ∧ m' ((c.tc : Thread Cert.Reference29Ideal.nD Cert.Reference29Ideal.τ).loc Cert.Reference29Ideal.main_arg33) = m ((c.tc : Thread Cert.Kernel29Ideal.nD Cert.Kernel29Ideal.τ).loc Cert.Kernel29Ideal.main_arg33)
      ∧ m' ((c.tc : Thread Cert.Reference29Ideal.nD Cert.Reference29Ideal.τ).loc Cert.Reference29Ideal.main_arg34) = m ((c.tc : Thread Cert.Kernel29Ideal.nD Cert.Kernel29Ideal.τ).loc Cert.Kernel29Ideal.main_arg34)
      ∧ m' ((c.tc : Thread Cert.Reference29Ideal.nD Cert.Reference29Ideal.τ).loc Cert.Reference29Ideal.main_arg35) = m ((c.tc : Thread Cert.Kernel29Ideal.nD Cert.Kernel29Ideal.τ).loc Cert.Kernel29Ideal.main_arg35)
      ∧ m' ((c.tc : Thread Cert.Reference29Ideal.nD Cert.Reference29Ideal.τ).loc Cert.Reference29Ideal.main_arg36) = m ((c.tc : Thread Cert.Kernel29Ideal.nD Cert.Kernel29Ideal.τ).loc Cert.Kernel29Ideal.main_arg36)
      ∧ m' ((c.tc : Thread Cert.Reference29Ideal.nD Cert.Reference29Ideal.τ).loc Cert.Reference29Ideal.main_arg37) = m ((c.tc : Thread Cert.Kernel29Ideal.nD Cert.Kernel29Ideal.τ).loc Cert.Kernel29Ideal.main_arg37)
      ∧ m' ((c.tc : Thread Cert.Reference29Ideal.nD Cert.Reference29Ideal.τ).loc Cert.Reference29Ideal.main_arg38) = m ((c.tc : Thread Cert.Kernel29Ideal.nD Cert.Kernel29Ideal.τ).loc Cert.Kernel29Ideal.main_arg38)
      ∧ m' ((c.tc : Thread Cert.Reference29Ideal.nD Cert.Reference29Ideal.τ).loc Cert.Reference29Ideal.main_arg39) = m ((c.tc : Thread Cert.Kernel29Ideal.nD Cert.Kernel29Ideal.τ).loc Cert.Kernel29Ideal.main_arg39)
      ∧ m' ((c.tc : Thread Cert.Reference29Ideal.nD Cert.Reference29Ideal.τ).loc Cert.Reference29Ideal.main_arg40) = m ((c.tc : Thread Cert.Kernel29Ideal.nD Cert.Kernel29Ideal.τ).loc Cert.Kernel29Ideal.main_arg40)
      ∧ m' ((c.tc : Thread Cert.Reference29Ideal.nD Cert.Reference29Ideal.τ).loc Cert.Reference29Ideal.main_arg41) = m ((c.tc : Thread Cert.Kernel29Ideal.nD Cert.Kernel29Ideal.τ).loc Cert.Kernel29Ideal.main_arg41)
      ∧ m' ((c.tc : Thread Cert.Reference29Ideal.nD Cert.Reference29Ideal.τ).loc Cert.Reference29Ideal.main_arg42) = m ((c.tc : Thread Cert.Kernel29Ideal.nD Cert.Kernel29Ideal.τ).loc Cert.Kernel29Ideal.main_arg42)
      ∧ m' ((c.tc : Thread Cert.Reference29Ideal.nD Cert.Reference29Ideal.τ).loc Cert.Reference29Ideal.main_arg43) = m ((c.tc : Thread Cert.Kernel29Ideal.nD Cert.Kernel29Ideal.τ).loc Cert.Kernel29Ideal.main_arg43)
      ∧ m' ((c.tc : Thread Cert.Reference29Ideal.nD Cert.Reference29Ideal.τ).loc Cert.Reference29Ideal.main_arg44) = m ((c.tc : Thread Cert.Kernel29Ideal.nD Cert.Kernel29Ideal.τ).loc Cert.Kernel29Ideal.main_arg44)
      ∧ m' ((c.tc : Thread Cert.Reference29Ideal.nD Cert.Reference29Ideal.τ).loc Cert.Reference29Ideal.main_arg45) = m ((c.tc : Thread Cert.Kernel29Ideal.nD Cert.Kernel29Ideal.τ).loc Cert.Kernel29Ideal.main_arg45)
      ∧ m' ((c.tc : Thread Cert.Reference29Ideal.nD Cert.Reference29Ideal.τ).loc Cert.Reference29Ideal.main_arg46) = m ((c.tc : Thread Cert.Kernel29Ideal.nD Cert.Kernel29Ideal.τ).loc Cert.Kernel29Ideal.main_arg46)
      ∧ m' ((c.tc : Thread Cert.Reference29Ideal.nD Cert.Reference29Ideal.τ).loc Cert.Reference29Ideal.main_arg47) = m ((c.tc : Thread Cert.Kernel29Ideal.nD Cert.Kernel29Ideal.τ).loc Cert.Kernel29Ideal.main_arg47)) →
    ∃ (v0 : (c : Dev Cert.Kernel29Ideal.nD) → Buf (Elt Ideal) ((c.tc : Thread Cert.Kernel29Ideal.nD Cert.Kernel29Ideal.τ).loc Cert.Kernel29Ideal.main_v68)) (v1 : (c : Dev Cert.Kernel29Ideal.nD) → Buf (Elt Ideal) ((c.tc : Thread Cert.Kernel29Ideal.nD Cert.Kernel29Ideal.τ).loc Cert.Kernel29Ideal.main_v71)) (v2 : (c : Dev Cert.Kernel29Ideal.nD) → Buf (Elt Ideal) ((c.tc : Thread Cert.Kernel29Ideal.nD Cert.Kernel29Ideal.τ).loc Cert.Kernel29Ideal.main_v75)) (v3 : (c : Dev Cert.Kernel29Ideal.nD) → Buf (Elt Ideal) ((c.tc : Thread Cert.Kernel29Ideal.nD Cert.Kernel29Ideal.τ).loc Cert.Kernel29Ideal.main_v78)) (v4 : (c : Dev Cert.Kernel29Ideal.nD) → Buf (Elt Ideal) ((c.tc : Thread Cert.Kernel29Ideal.nD Cert.Kernel29Ideal.τ).loc Cert.Kernel29Ideal.main_v81)) (v5 : (c : Dev Cert.Kernel29Ideal.nD) → Buf (Elt Ideal) ((c.tc : Thread Cert.Kernel29Ideal.nD Cert.Kernel29Ideal.τ).loc Cert.Kernel29Ideal.main_v84)) (v6 : (c : Dev Cert.Kernel29Ideal.nD) → Buf (Elt Ideal) ((c.tc : Thread Cert.Kernel29Ideal.nD Cert.Kernel29Ideal.τ).loc Cert.Kernel29Ideal.main_v87)) (v7 : (c : Dev Cert.Kernel29Ideal.nD) → Buf (Elt Ideal) ((c.tc : Thread Cert.Kernel29Ideal.nD Cert.Kernel29Ideal.τ).loc Cert.Kernel29Ideal.main_v90)) (v8 : (c : Dev Cert.Kernel29Ideal.nD) → Buf (Elt Ideal) ((c.tc : Thread Cert.Kernel29Ideal.nD Cert.Kernel29Ideal.τ).loc Cert.Kernel29Ideal.main_v93)) (v9 : (c : Dev Cert.Kernel29Ideal.nD) → Buf (Elt Ideal) ((c.tc : Thread Cert.Kernel29Ideal.nD Cert.Kernel29Ideal.τ).loc Cert.Kernel29Ideal.main_v96)) (v10 : (c : Dev Cert.Kernel29Ideal.nD) → Buf (Elt Ideal) ((c.tc : Thread Cert.Kernel29Ideal.nD Cert.Kernel29Ideal.τ).loc Cert.Kernel29Ideal.main_v100)) (v11 : (c : Dev Cert.Kernel29Ideal.nD) → Buf (Elt Ideal) ((c.tc : Thread Cert.Kernel29Ideal.nD Cert.Kernel29Ideal.τ).loc Cert.Kernel29Ideal.main_v102)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v68) = v0 c
          ∧ r.2.mem ((c.tc : Thread Cert.Kernel29Ideal.nD Cert.Kernel29Ideal.τ).loc Cert.Kernel29Ideal.main_v71) = v1 c
          ∧ r.2.mem ((c.tc : Thread Cert.Kernel29Ideal.nD Cert.Kernel29Ideal.τ).loc Cert.Kernel29Ideal.main_v75) = v2 c
          ∧ r.2.mem ((c.tc : Thread Cert.Kernel29Ideal.nD Cert.Kernel29Ideal.τ).loc Cert.Kernel29Ideal.main_v78) = v3 c
          ∧ r.2.mem ((c.tc : Thread Cert.Kernel29Ideal.nD Cert.Kernel29Ideal.τ).loc Cert.Kernel29Ideal.main_v81) = v4 c
          ∧ r.2.mem ((c.tc : Thread Cert.Kernel29Ideal.nD Cert.Kernel29Ideal.τ).loc Cert.Kernel29Ideal.main_v84) = v5 c
          ∧ r.2.mem ((c.tc : Thread Cert.Kernel29Ideal.nD Cert.Kernel29Ideal.τ).loc Cert.Kernel29Ideal.main_v87) = v6 c
          ∧ r.2.mem ((c.tc : Thread Cert.Kernel29Ideal.nD Cert.Kernel29Ideal.τ).loc Cert.Kernel29Ideal.main_v90) = v7 c
          ∧ r.2.mem ((c.tc : Thread Cert.Kernel29Ideal.nD Cert.Kernel29Ideal.τ).loc Cert.Kernel29Ideal.main_v93) = v8 c
          ∧ r.2.mem ((c.tc : Thread Cert.Kernel29Ideal.nD Cert.Kernel29Ideal.τ).loc Cert.Kernel29Ideal.main_v96) = v9 c
          ∧ r.2.mem ((c.tc : Thread Cert.Kernel29Ideal.nD Cert.Kernel29Ideal.τ).loc Cert.Kernel29Ideal.main_v100) = v10 c
          ∧ r.2.mem ((c.tc : Thread Cert.Kernel29Ideal.nD Cert.Kernel29Ideal.τ).loc Cert.Kernel29Ideal.main_v102) = v11 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
          ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4)
          ∧ r.2.mem ((c.tc : Thread Cert.Kernel29Ideal.nD Cert.Kernel29Ideal.τ).loc Cert.Kernel29Ideal.main_arg5) = m ((c.tc : Thread Cert.Kernel29Ideal.nD Cert.Kernel29Ideal.τ).loc Cert.Kernel29Ideal.main_arg5)
          ∧ r.2.mem ((c.tc : Thread Cert.Kernel29Ideal.nD Cert.Kernel29Ideal.τ).loc Cert.Kernel29Ideal.main_arg6) = m ((c.tc : Thread Cert.Kernel29Ideal.nD Cert.Kernel29Ideal.τ).loc Cert.Kernel29Ideal.main_arg6)
          ∧ r.2.mem ((c.tc : Thread Cert.Kernel29Ideal.nD Cert.Kernel29Ideal.τ).loc Cert.Kernel29Ideal.main_arg7) = m ((c.tc : Thread Cert.Kernel29Ideal.nD Cert.Kernel29Ideal.τ).loc Cert.Kernel29Ideal.main_arg7)
          ∧ r.2.mem ((c.tc : Thread Cert.Kernel29Ideal.nD Cert.Kernel29Ideal.τ).loc Cert.Kernel29Ideal.main_arg8) = m ((c.tc : Thread Cert.Kernel29Ideal.nD Cert.Kernel29Ideal.τ).loc Cert.Kernel29Ideal.main_arg8)
          ∧ r.2.mem ((c.tc : Thread Cert.Kernel29Ideal.nD Cert.Kernel29Ideal.τ).loc Cert.Kernel29Ideal.main_arg9) = m ((c.tc : Thread Cert.Kernel29Ideal.nD Cert.Kernel29Ideal.τ).loc Cert.Kernel29Ideal.main_arg9)
          ∧ r.2.mem ((c.tc : Thread Cert.Kernel29Ideal.nD Cert.Kernel29Ideal.τ).loc Cert.Kernel29Ideal.main_arg10) = m ((c.tc : Thread Cert.Kernel29Ideal.nD Cert.Kernel29Ideal.τ).loc Cert.Kernel29Ideal.main_arg10)
          ∧ r.2.mem ((c.tc : Thread Cert.Kernel29Ideal.nD Cert.Kernel29Ideal.τ).loc Cert.Kernel29Ideal.main_arg11) = m ((c.tc : Thread Cert.Kernel29Ideal.nD Cert.Kernel29Ideal.τ).loc Cert.Kernel29Ideal.main_arg11)
          ∧ r.2.mem ((c.tc : Thread Cert.Kernel29Ideal.nD Cert.Kernel29Ideal.τ).loc Cert.Kernel29Ideal.main_arg12) = m ((c.tc : Thread Cert.Kernel29Ideal.nD Cert.Kernel29Ideal.τ).loc Cert.Kernel29Ideal.main_arg12)
          ∧ r.2.mem ((c.tc : Thread Cert.Kernel29Ideal.nD Cert.Kernel29Ideal.τ).loc Cert.Kernel29Ideal.main_arg13) = m ((c.tc : Thread Cert.Kernel29Ideal.nD Cert.Kernel29Ideal.τ).loc Cert.Kernel29Ideal.main_arg13)
          ∧ r.2.mem ((c.tc : Thread Cert.Kernel29Ideal.nD Cert.Kernel29Ideal.τ).loc Cert.Kernel29Ideal.main_arg14) = m ((c.tc : Thread Cert.Kernel29Ideal.nD Cert.Kernel29Ideal.τ).loc Cert.Kernel29Ideal.main_arg14)
          ∧ r.2.mem ((c.tc : Thread Cert.Kernel29Ideal.nD Cert.Kernel29Ideal.τ).loc Cert.Kernel29Ideal.main_arg15) = m ((c.tc : Thread Cert.Kernel29Ideal.nD Cert.Kernel29Ideal.τ).loc Cert.Kernel29Ideal.main_arg15)
          ∧ r.2.mem ((c.tc : Thread Cert.Kernel29Ideal.nD Cert.Kernel29Ideal.τ).loc Cert.Kernel29Ideal.main_arg16) = m ((c.tc : Thread Cert.Kernel29Ideal.nD Cert.Kernel29Ideal.τ).loc Cert.Kernel29Ideal.main_arg16)
          ∧ r.2.mem ((c.tc : Thread Cert.Kernel29Ideal.nD Cert.Kernel29Ideal.τ).loc Cert.Kernel29Ideal.main_arg17) = m ((c.tc : Thread Cert.Kernel29Ideal.nD Cert.Kernel29Ideal.τ).loc Cert.Kernel29Ideal.main_arg17)
          ∧ r.2.mem ((c.tc : Thread Cert.Kernel29Ideal.nD Cert.Kernel29Ideal.τ).loc Cert.Kernel29Ideal.main_arg18) = m ((c.tc : Thread Cert.Kernel29Ideal.nD Cert.Kernel29Ideal.τ).loc Cert.Kernel29Ideal.main_arg18)
          ∧ r.2.mem ((c.tc : Thread Cert.Kernel29Ideal.nD Cert.Kernel29Ideal.τ).loc Cert.Kernel29Ideal.main_arg19) = m ((c.tc : Thread Cert.Kernel29Ideal.nD Cert.Kernel29Ideal.τ).loc Cert.Kernel29Ideal.main_arg19)
          ∧ r.2.mem ((c.tc : Thread Cert.Kernel29Ideal.nD Cert.Kernel29Ideal.τ).loc Cert.Kernel29Ideal.main_arg20) = m ((c.tc : Thread Cert.Kernel29Ideal.nD Cert.Kernel29Ideal.τ).loc Cert.Kernel29Ideal.main_arg20)
          ∧ r.2.mem ((c.tc : Thread Cert.Kernel29Ideal.nD Cert.Kernel29Ideal.τ).loc Cert.Kernel29Ideal.main_arg21) = m ((c.tc : Thread Cert.Kernel29Ideal.nD Cert.Kernel29Ideal.τ).loc Cert.Kernel29Ideal.main_arg21)
          ∧ r.2.mem ((c.tc : Thread Cert.Kernel29Ideal.nD Cert.Kernel29Ideal.τ).loc Cert.Kernel29Ideal.main_arg22) = m ((c.tc : Thread Cert.Kernel29Ideal.nD Cert.Kernel29Ideal.τ).loc Cert.Kernel29Ideal.main_arg22)
          ∧ r.2.mem ((c.tc : Thread Cert.Kernel29Ideal.nD Cert.Kernel29Ideal.τ).loc Cert.Kernel29Ideal.main_arg23) = m ((c.tc : Thread Cert.Kernel29Ideal.nD Cert.Kernel29Ideal.τ).loc Cert.Kernel29Ideal.main_arg23)
          ∧ r.2.mem ((c.tc : Thread Cert.Kernel29Ideal.nD Cert.Kernel29Ideal.τ).loc Cert.Kernel29Ideal.main_arg24) = m ((c.tc : Thread Cert.Kernel29Ideal.nD Cert.Kernel29Ideal.τ).loc Cert.Kernel29Ideal.main_arg24)
          ∧ r.2.mem ((c.tc : Thread Cert.Kernel29Ideal.nD Cert.Kernel29Ideal.τ).loc Cert.Kernel29Ideal.main_arg25) = m ((c.tc : Thread Cert.Kernel29Ideal.nD Cert.Kernel29Ideal.τ).loc Cert.Kernel29Ideal.main_arg25)
          ∧ r.2.mem ((c.tc : Thread Cert.Kernel29Ideal.nD Cert.Kernel29Ideal.τ).loc Cert.Kernel29Ideal.main_arg26) = m ((c.tc : Thread Cert.Kernel29Ideal.nD Cert.Kernel29Ideal.τ).loc Cert.Kernel29Ideal.main_arg26)
          ∧ r.2.mem ((c.tc : Thread Cert.Kernel29Ideal.nD Cert.Kernel29Ideal.τ).loc Cert.Kernel29Ideal.main_arg27) = m ((c.tc : Thread Cert.Kernel29Ideal.nD Cert.Kernel29Ideal.τ).loc Cert.Kernel29Ideal.main_arg27)
          ∧ r.2.mem ((c.tc : Thread Cert.Kernel29Ideal.nD Cert.Kernel29Ideal.τ).loc Cert.Kernel29Ideal.main_arg28) = m ((c.tc : Thread Cert.Kernel29Ideal.nD Cert.Kernel29Ideal.τ).loc Cert.Kernel29Ideal.main_arg28)
          ∧ r.2.mem ((c.tc : Thread Cert.Kernel29Ideal.nD Cert.Kernel29Ideal.τ).loc Cert.Kernel29Ideal.main_arg29) = m ((c.tc : Thread Cert.Kernel29Ideal.nD Cert.Kernel29Ideal.τ).loc Cert.Kernel29Ideal.main_arg29)
          ∧ r.2.mem ((c.tc : Thread Cert.Kernel29Ideal.nD Cert.Kernel29Ideal.τ).loc Cert.Kernel29Ideal.main_arg30) = m ((c.tc : Thread Cert.Kernel29Ideal.nD Cert.Kernel29Ideal.τ).loc Cert.Kernel29Ideal.main_arg30)
          ∧ r.2.mem ((c.tc : Thread Cert.Kernel29Ideal.nD Cert.Kernel29Ideal.τ).loc Cert.Kernel29Ideal.main_arg31) = m ((c.tc : Thread Cert.Kernel29Ideal.nD Cert.Kernel29Ideal.τ).loc Cert.Kernel29Ideal.main_arg31)
          ∧ r.2.mem ((c.tc : Thread Cert.Kernel29Ideal.nD Cert.Kernel29Ideal.τ).loc Cert.Kernel29Ideal.main_arg32) = m ((c.tc : Thread Cert.Kernel29Ideal.nD Cert.Kernel29Ideal.τ).loc Cert.Kernel29Ideal.main_arg32)
          ∧ r.2.mem ((c.tc : Thread Cert.Kernel29Ideal.nD Cert.Kernel29Ideal.τ).loc Cert.Kernel29Ideal.main_arg33) = m ((c.tc : Thread Cert.Kernel29Ideal.nD Cert.Kernel29Ideal.τ).loc Cert.Kernel29Ideal.main_arg33)
          ∧ r.2.mem ((c.tc : Thread Cert.Kernel29Ideal.nD Cert.Kernel29Ideal.τ).loc Cert.Kernel29Ideal.main_arg34) = m ((c.tc : Thread Cert.Kernel29Ideal.nD Cert.Kernel29Ideal.τ).loc Cert.Kernel29Ideal.main_arg34)
          ∧ r.2.mem ((c.tc : Thread Cert.Kernel29Ideal.nD Cert.Kernel29Ideal.τ).loc Cert.Kernel29Ideal.main_arg35) = m ((c.tc : Thread Cert.Kernel29Ideal.nD Cert.Kernel29Ideal.τ).loc Cert.Kernel29Ideal.main_arg35)
          ∧ r.2.mem ((c.tc : Thread Cert.Kernel29Ideal.nD Cert.Kernel29Ideal.τ).loc Cert.Kernel29Ideal.main_arg36) = m ((c.tc : Thread Cert.Kernel29Ideal.nD Cert.Kernel29Ideal.τ).loc Cert.Kernel29Ideal.main_arg36)
          ∧ r.2.mem ((c.tc : Thread Cert.Kernel29Ideal.nD Cert.Kernel29Ideal.τ).loc Cert.Kernel29Ideal.main_arg37) = m ((c.tc : Thread Cert.Kernel29Ideal.nD Cert.Kernel29Ideal.τ).loc Cert.Kernel29Ideal.main_arg37)
          ∧ r.2.mem ((c.tc : Thread Cert.Kernel29Ideal.nD Cert.Kernel29Ideal.τ).loc Cert.Kernel29Ideal.main_arg38) = m ((c.tc : Thread Cert.Kernel29Ideal.nD Cert.Kernel29Ideal.τ).loc Cert.Kernel29Ideal.main_arg38)
          ∧ r.2.mem ((c.tc : Thread Cert.Kernel29Ideal.nD Cert.Kernel29Ideal.τ).loc Cert.Kernel29Ideal.main_arg39) = m ((c.tc : Thread Cert.Kernel29Ideal.nD Cert.Kernel29Ideal.τ).loc Cert.Kernel29Ideal.main_arg39)
          ∧ r.2.mem ((c.tc : Thread Cert.Kernel29Ideal.nD Cert.Kernel29Ideal.τ).loc Cert.Kernel29Ideal.main_arg40) = m ((c.tc : Thread Cert.Kernel29Ideal.nD Cert.Kernel29Ideal.τ).loc Cert.Kernel29Ideal.main_arg40)
          ∧ r.2.mem ((c.tc : Thread Cert.Kernel29Ideal.nD Cert.Kernel29Ideal.τ).loc Cert.Kernel29Ideal.main_arg41) = m ((c.tc : Thread Cert.Kernel29Ideal.nD Cert.Kernel29Ideal.τ).loc Cert.Kernel29Ideal.main_arg41)
          ∧ r.2.mem ((c.tc : Thread Cert.Kernel29Ideal.nD Cert.Kernel29Ideal.τ).loc Cert.Kernel29Ideal.main_arg42) = m ((c.tc : Thread Cert.Kernel29Ideal.nD Cert.Kernel29Ideal.τ).loc Cert.Kernel29Ideal.main_arg42)
          ∧ r.2.mem ((c.tc : Thread Cert.Kernel29Ideal.nD Cert.Kernel29Ideal.τ).loc Cert.Kernel29Ideal.main_arg43) = m ((c.tc : Thread Cert.Kernel29Ideal.nD Cert.Kernel29Ideal.τ).loc Cert.Kernel29Ideal.main_arg43)
          ∧ r.2.mem ((c.tc : Thread Cert.Kernel29Ideal.nD Cert.Kernel29Ideal.τ).loc Cert.Kernel29Ideal.main_arg44) = m ((c.tc : Thread Cert.Kernel29Ideal.nD Cert.Kernel29Ideal.τ).loc Cert.Kernel29Ideal.main_arg44)
          ∧ r.2.mem ((c.tc : Thread Cert.Kernel29Ideal.nD Cert.Kernel29Ideal.τ).loc Cert.Kernel29Ideal.main_arg45) = m ((c.tc : Thread Cert.Kernel29Ideal.nD Cert.Kernel29Ideal.τ).loc Cert.Kernel29Ideal.main_arg45)
          ∧ r.2.mem ((c.tc : Thread Cert.Kernel29Ideal.nD Cert.Kernel29Ideal.τ).loc Cert.Kernel29Ideal.main_arg46) = m ((c.tc : Thread Cert.Kernel29Ideal.nD Cert.Kernel29Ideal.τ).loc Cert.Kernel29Ideal.main_arg46)
          ∧ r.2.mem ((c.tc : Thread Cert.Kernel29Ideal.nD Cert.Kernel29Ideal.τ).loc Cert.Kernel29Ideal.main_arg47) = m ((c.tc : Thread Cert.Kernel29Ideal.nD Cert.Kernel29Ideal.τ).loc Cert.Kernel29Ideal.main_arg47))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v5) = v0 c
          ∧ r.2.mem ((c.tc : Thread Cert.Reference29Ideal.nD Cert.Reference29Ideal.τ).loc Cert.Reference29Ideal.main_v30) = v1 c
          ∧ r.2.mem ((c.tc : Thread Cert.Reference29Ideal.nD Cert.Reference29Ideal.τ).loc Cert.Reference29Ideal.main_v55) = v2 c
          ∧ r.2.mem ((c.tc : Thread Cert.Reference29Ideal.nD Cert.Reference29Ideal.τ).loc Cert.Reference29Ideal.main_v80) = v3 c
          ∧ r.2.mem ((c.tc : Thread Cert.Reference29Ideal.nD Cert.Reference29Ideal.τ).loc Cert.Reference29Ideal.main_v105) = v4 c
          ∧ r.2.mem ((c.tc : Thread Cert.Reference29Ideal.nD Cert.Reference29Ideal.τ).loc Cert.Reference29Ideal.main_v130) = v5 c
          ∧ r.2.mem ((c.tc : Thread Cert.Reference29Ideal.nD Cert.Reference29Ideal.τ).loc Cert.Reference29Ideal.main_v155) = v6 c
          ∧ r.2.mem ((c.tc : Thread Cert.Reference29Ideal.nD Cert.Reference29Ideal.τ).loc Cert.Reference29Ideal.main_v180) = v7 c
          ∧ r.2.mem ((c.tc : Thread Cert.Reference29Ideal.nD Cert.Reference29Ideal.τ).loc Cert.Reference29Ideal.main_v205) = v8 c
          ∧ r.2.mem ((c.tc : Thread Cert.Reference29Ideal.nD Cert.Reference29Ideal.τ).loc Cert.Reference29Ideal.main_v230) = v9 c
          ∧ r.2.mem ((c.tc : Thread Cert.Reference29Ideal.nD Cert.Reference29Ideal.τ).loc Cert.Reference29Ideal.main_v255) = v10 c
          ∧ r.2.mem ((c.tc : Thread Cert.Reference29Ideal.nD Cert.Reference29Ideal.τ).loc Cert.Reference29Ideal.main_v280) = v11 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3)
          ∧ r.2.mem ((c.tc : Thread Cert.Reference29Ideal.nD Cert.Reference29Ideal.τ).loc Cert.Reference29Ideal.main_arg4) = m' ((c.tc : Thread Cert.Reference29Ideal.nD Cert.Reference29Ideal.τ).loc Cert.Reference29Ideal.main_arg4)
          ∧ r.2.mem ((c.tc : Thread Cert.Reference29Ideal.nD Cert.Reference29Ideal.τ).loc Cert.Reference29Ideal.main_arg5) = m' ((c.tc : Thread Cert.Reference29Ideal.nD Cert.Reference29Ideal.τ).loc Cert.Reference29Ideal.main_arg5)
          ∧ r.2.mem ((c.tc : Thread Cert.Reference29Ideal.nD Cert.Reference29Ideal.τ).loc Cert.Reference29Ideal.main_arg6) = m' ((c.tc : Thread Cert.Reference29Ideal.nD Cert.Reference29Ideal.τ).loc Cert.Reference29Ideal.main_arg6)
          ∧ r.2.mem ((c.tc : Thread Cert.Reference29Ideal.nD Cert.Reference29Ideal.τ).loc Cert.Reference29Ideal.main_arg7) = m' ((c.tc : Thread Cert.Reference29Ideal.nD Cert.Reference29Ideal.τ).loc Cert.Reference29Ideal.main_arg7)
          ∧ r.2.mem ((c.tc : Thread Cert.Reference29Ideal.nD Cert.Reference29Ideal.τ).loc Cert.Reference29Ideal.main_arg8) = m' ((c.tc : Thread Cert.Reference29Ideal.nD Cert.Reference29Ideal.τ).loc Cert.Reference29Ideal.main_arg8)
          ∧ r.2.mem ((c.tc : Thread Cert.Reference29Ideal.nD Cert.Reference29Ideal.τ).loc Cert.Reference29Ideal.main_arg9) = m' ((c.tc : Thread Cert.Reference29Ideal.nD Cert.Reference29Ideal.τ).loc Cert.Reference29Ideal.main_arg9)
          ∧ r.2.mem ((c.tc : Thread Cert.Reference29Ideal.nD Cert.Reference29Ideal.τ).loc Cert.Reference29Ideal.main_arg10) = m' ((c.tc : Thread Cert.Reference29Ideal.nD Cert.Reference29Ideal.τ).loc Cert.Reference29Ideal.main_arg10)
          ∧ r.2.mem ((c.tc : Thread Cert.Reference29Ideal.nD Cert.Reference29Ideal.τ).loc Cert.Reference29Ideal.main_arg11) = m' ((c.tc : Thread Cert.Reference29Ideal.nD Cert.Reference29Ideal.τ).loc Cert.Reference29Ideal.main_arg11)
          ∧ r.2.mem ((c.tc : Thread Cert.Reference29Ideal.nD Cert.Reference29Ideal.τ).loc Cert.Reference29Ideal.main_arg12) = m' ((c.tc : Thread Cert.Reference29Ideal.nD Cert.Reference29Ideal.τ).loc Cert.Reference29Ideal.main_arg12)
          ∧ r.2.mem ((c.tc : Thread Cert.Reference29Ideal.nD Cert.Reference29Ideal.τ).loc Cert.Reference29Ideal.main_arg13) = m' ((c.tc : Thread Cert.Reference29Ideal.nD Cert.Reference29Ideal.τ).loc Cert.Reference29Ideal.main_arg13)
          ∧ r.2.mem ((c.tc : Thread Cert.Reference29Ideal.nD Cert.Reference29Ideal.τ).loc Cert.Reference29Ideal.main_arg14) = m' ((c.tc : Thread Cert.Reference29Ideal.nD Cert.Reference29Ideal.τ).loc Cert.Reference29Ideal.main_arg14)
          ∧ r.2.mem ((c.tc : Thread Cert.Reference29Ideal.nD Cert.Reference29Ideal.τ).loc Cert.Reference29Ideal.main_arg15) = m' ((c.tc : Thread Cert.Reference29Ideal.nD Cert.Reference29Ideal.τ).loc Cert.Reference29Ideal.main_arg15)
          ∧ r.2.mem ((c.tc : Thread Cert.Reference29Ideal.nD Cert.Reference29Ideal.τ).loc Cert.Reference29Ideal.main_arg16) = m' ((c.tc : Thread Cert.Reference29Ideal.nD Cert.Reference29Ideal.τ).loc Cert.Reference29Ideal.main_arg16)
          ∧ r.2.mem ((c.tc : Thread Cert.Reference29Ideal.nD Cert.Reference29Ideal.τ).loc Cert.Reference29Ideal.main_arg17) = m' ((c.tc : Thread Cert.Reference29Ideal.nD Cert.Reference29Ideal.τ).loc Cert.Reference29Ideal.main_arg17)
          ∧ r.2.mem ((c.tc : Thread Cert.Reference29Ideal.nD Cert.Reference29Ideal.τ).loc Cert.Reference29Ideal.main_arg18) = m' ((c.tc : Thread Cert.Reference29Ideal.nD Cert.Reference29Ideal.τ).loc Cert.Reference29Ideal.main_arg18)
          ∧ r.2.mem ((c.tc : Thread Cert.Reference29Ideal.nD Cert.Reference29Ideal.τ).loc Cert.Reference29Ideal.main_arg19) = m' ((c.tc : Thread Cert.Reference29Ideal.nD Cert.Reference29Ideal.τ).loc Cert.Reference29Ideal.main_arg19)
          ∧ r.2.mem ((c.tc : Thread Cert.Reference29Ideal.nD Cert.Reference29Ideal.τ).loc Cert.Reference29Ideal.main_arg20) = m' ((c.tc : Thread Cert.Reference29Ideal.nD Cert.Reference29Ideal.τ).loc Cert.Reference29Ideal.main_arg20)
          ∧ r.2.mem ((c.tc : Thread Cert.Reference29Ideal.nD Cert.Reference29Ideal.τ).loc Cert.Reference29Ideal.main_arg21) = m' ((c.tc : Thread Cert.Reference29Ideal.nD Cert.Reference29Ideal.τ).loc Cert.Reference29Ideal.main_arg21)
          ∧ r.2.mem ((c.tc : Thread Cert.Reference29Ideal.nD Cert.Reference29Ideal.τ).loc Cert.Reference29Ideal.main_arg22) = m' ((c.tc : Thread Cert.Reference29Ideal.nD Cert.Reference29Ideal.τ).loc Cert.Reference29Ideal.main_arg22)
          ∧ r.2.mem ((c.tc : Thread Cert.Reference29Ideal.nD Cert.Reference29Ideal.τ).loc Cert.Reference29Ideal.main_arg23) = m' ((c.tc : Thread Cert.Reference29Ideal.nD Cert.Reference29Ideal.τ).loc Cert.Reference29Ideal.main_arg23)
          ∧ r.2.mem ((c.tc : Thread Cert.Reference29Ideal.nD Cert.Reference29Ideal.τ).loc Cert.Reference29Ideal.main_arg24) = m' ((c.tc : Thread Cert.Reference29Ideal.nD Cert.Reference29Ideal.τ).loc Cert.Reference29Ideal.main_arg24)
          ∧ r.2.mem ((c.tc : Thread Cert.Reference29Ideal.nD Cert.Reference29Ideal.τ).loc Cert.Reference29Ideal.main_arg25) = m' ((c.tc : Thread Cert.Reference29Ideal.nD Cert.Reference29Ideal.τ).loc Cert.Reference29Ideal.main_arg25)
          ∧ r.2.mem ((c.tc : Thread Cert.Reference29Ideal.nD Cert.Reference29Ideal.τ).loc Cert.Reference29Ideal.main_arg26) = m' ((c.tc : Thread Cert.Reference29Ideal.nD Cert.Reference29Ideal.τ).loc Cert.Reference29Ideal.main_arg26)
          ∧ r.2.mem ((c.tc : Thread Cert.Reference29Ideal.nD Cert.Reference29Ideal.τ).loc Cert.Reference29Ideal.main_arg27) = m' ((c.tc : Thread Cert.Reference29Ideal.nD Cert.Reference29Ideal.τ).loc Cert.Reference29Ideal.main_arg27)
          ∧ r.2.mem ((c.tc : Thread Cert.Reference29Ideal.nD Cert.Reference29Ideal.τ).loc Cert.Reference29Ideal.main_arg28) = m' ((c.tc : Thread Cert.Reference29Ideal.nD Cert.Reference29Ideal.τ).loc Cert.Reference29Ideal.main_arg28)
          ∧ r.2.mem ((c.tc : Thread Cert.Reference29Ideal.nD Cert.Reference29Ideal.τ).loc Cert.Reference29Ideal.main_arg29) = m' ((c.tc : Thread Cert.Reference29Ideal.nD Cert.Reference29Ideal.τ).loc Cert.Reference29Ideal.main_arg29)
          ∧ r.2.mem ((c.tc : Thread Cert.Reference29Ideal.nD Cert.Reference29Ideal.τ).loc Cert.Reference29Ideal.main_arg30) = m' ((c.tc : Thread Cert.Reference29Ideal.nD Cert.Reference29Ideal.τ).loc Cert.Reference29Ideal.main_arg30)
          ∧ r.2.mem ((c.tc : Thread Cert.Reference29Ideal.nD Cert.Reference29Ideal.τ).loc Cert.Reference29Ideal.main_arg31) = m' ((c.tc : Thread Cert.Reference29Ideal.nD Cert.Reference29Ideal.τ).loc Cert.Reference29Ideal.main_arg31)
          ∧ r.2.mem ((c.tc : Thread Cert.Reference29Ideal.nD Cert.Reference29Ideal.τ).loc Cert.Reference29Ideal.main_arg32) = m' ((c.tc : Thread Cert.Reference29Ideal.nD Cert.Reference29Ideal.τ).loc Cert.Reference29Ideal.main_arg32)
          ∧ r.2.mem ((c.tc : Thread Cert.Reference29Ideal.nD Cert.Reference29Ideal.τ).loc Cert.Reference29Ideal.main_arg33) = m' ((c.tc : Thread Cert.Reference29Ideal.nD Cert.Reference29Ideal.τ).loc Cert.Reference29Ideal.main_arg33)
          ∧ r.2.mem ((c.tc : Thread Cert.Reference29Ideal.nD Cert.Reference29Ideal.τ).loc Cert.Reference29Ideal.main_arg34) = m' ((c.tc : Thread Cert.Reference29Ideal.nD Cert.Reference29Ideal.τ).loc Cert.Reference29Ideal.main_arg34)
          ∧ r.2.mem ((c.tc : Thread Cert.Reference29Ideal.nD Cert.Reference29Ideal.τ).loc Cert.Reference29Ideal.main_arg35) = m' ((c.tc : Thread Cert.Reference29Ideal.nD Cert.Reference29Ideal.τ).loc Cert.Reference29Ideal.main_arg35)
          ∧ r.2.mem ((c.tc : Thread Cert.Reference29Ideal.nD Cert.Reference29Ideal.τ).loc Cert.Reference29Ideal.main_arg36) = m' ((c.tc : Thread Cert.Reference29Ideal.nD Cert.Reference29Ideal.τ).loc Cert.Reference29Ideal.main_arg36)
          ∧ r.2.mem ((c.tc : Thread Cert.Reference29Ideal.nD Cert.Reference29Ideal.τ).loc Cert.Reference29Ideal.main_arg37) = m' ((c.tc : Thread Cert.Reference29Ideal.nD Cert.Reference29Ideal.τ).loc Cert.Reference29Ideal.main_arg37)
          ∧ r.2.mem ((c.tc : Thread Cert.Reference29Ideal.nD Cert.Reference29Ideal.τ).loc Cert.Reference29Ideal.main_arg38) = m' ((c.tc : Thread Cert.Reference29Ideal.nD Cert.Reference29Ideal.τ).loc Cert.Reference29Ideal.main_arg38)
          ∧ r.2.mem ((c.tc : Thread Cert.Reference29Ideal.nD Cert.Reference29Ideal.τ).loc Cert.Reference29Ideal.main_arg39) = m' ((c.tc : Thread Cert.Reference29Ideal.nD Cert.Reference29Ideal.τ).loc Cert.Reference29Ideal.main_arg39)
          ∧ r.2.mem ((c.tc : Thread Cert.Reference29Ideal.nD Cert.Reference29Ideal.τ).loc Cert.Reference29Ideal.main_arg40) = m' ((c.tc : Thread Cert.Reference29Ideal.nD Cert.Reference29Ideal.τ).loc Cert.Reference29Ideal.main_arg40)
          ∧ r.2.mem ((c.tc : Thread Cert.Reference29Ideal.nD Cert.Reference29Ideal.τ).loc Cert.Reference29Ideal.main_arg41) = m' ((c.tc : Thread Cert.Reference29Ideal.nD Cert.Reference29Ideal.τ).loc Cert.Reference29Ideal.main_arg41)
          ∧ r.2.mem ((c.tc : Thread Cert.Reference29Ideal.nD Cert.Reference29Ideal.τ).loc Cert.Reference29Ideal.main_arg42) = m' ((c.tc : Thread Cert.Reference29Ideal.nD Cert.Reference29Ideal.τ).loc Cert.Reference29Ideal.main_arg42)
          ∧ r.2.mem ((c.tc : Thread Cert.Reference29Ideal.nD Cert.Reference29Ideal.τ).loc Cert.Reference29Ideal.main_arg43) = m' ((c.tc : Thread Cert.Reference29Ideal.nD Cert.Reference29Ideal.τ).loc Cert.Reference29Ideal.main_arg43)
          ∧ r.2.mem ((c.tc : Thread Cert.Reference29Ideal.nD Cert.Reference29Ideal.τ).loc Cert.Reference29Ideal.main_arg44) = m' ((c.tc : Thread Cert.Reference29Ideal.nD Cert.Reference29Ideal.τ).loc Cert.Reference29Ideal.main_arg44)
          ∧ r.2.mem ((c.tc : Thread Cert.Reference29Ideal.nD Cert.Reference29Ideal.τ).loc Cert.Reference29Ideal.main_arg45) = m' ((c.tc : Thread Cert.Reference29Ideal.nD Cert.Reference29Ideal.τ).loc Cert.Reference29Ideal.main_arg45)
          ∧ r.2.mem ((c.tc : Thread Cert.Reference29Ideal.nD Cert.Reference29Ideal.τ).loc Cert.Reference29Ideal.main_arg46) = m' ((c.tc : Thread Cert.Reference29Ideal.nD Cert.Reference29Ideal.τ).loc Cert.Reference29Ideal.main_arg46)
          ∧ r.2.mem ((c.tc : Thread Cert.Reference29Ideal.nD Cert.Reference29Ideal.τ).loc Cert.Reference29Ideal.main_arg47) = m' ((c.tc : Thread Cert.Reference29Ideal.nD Cert.Reference29Ideal.τ).loc Cert.Reference29Ideal.main_arg47))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)
      ∧ m' ((c.tc : Thread Cert.Reference30Ideal.nD Cert.Reference30Ideal.τ).loc Cert.Reference30Ideal.main_arg4) = m ((c.tc : Thread Cert.Kernel30Ideal.nD Cert.Kernel30Ideal.τ).loc Cert.Kernel30Ideal.main_arg4)
      ∧ m' ((c.tc : Thread Cert.Reference30Ideal.nD Cert.Reference30Ideal.τ).loc Cert.Reference30Ideal.main_arg5) = m ((c.tc : Thread Cert.Kernel30Ideal.nD Cert.Kernel30Ideal.τ).loc Cert.Kernel30Ideal.main_arg5)
      ∧ m' ((c.tc : Thread Cert.Reference30Ideal.nD Cert.Reference30Ideal.τ).loc Cert.Reference30Ideal.main_arg6) = m ((c.tc : Thread Cert.Kernel30Ideal.nD Cert.Kernel30Ideal.τ).loc Cert.Kernel30Ideal.main_arg6)
      ∧ m' ((c.tc : Thread Cert.Reference30Ideal.nD Cert.Reference30Ideal.τ).loc Cert.Reference30Ideal.main_arg7) = m ((c.tc : Thread Cert.Kernel30Ideal.nD Cert.Kernel30Ideal.τ).loc Cert.Kernel30Ideal.main_arg7)
      ∧ m' ((c.tc : Thread Cert.Reference30Ideal.nD Cert.Reference30Ideal.τ).loc Cert.Reference30Ideal.main_arg8) = m ((c.tc : Thread Cert.Kernel30Ideal.nD Cert.Kernel30Ideal.τ).loc Cert.Kernel30Ideal.main_arg8)
      ∧ m' ((c.tc : Thread Cert.Reference30Ideal.nD Cert.Reference30Ideal.τ).loc Cert.Reference30Ideal.main_arg9) = m ((c.tc : Thread Cert.Kernel30Ideal.nD Cert.Kernel30Ideal.τ).loc Cert.Kernel30Ideal.main_arg9)
      ∧ m' ((c.tc : Thread Cert.Reference30Ideal.nD Cert.Reference30Ideal.τ).loc Cert.Reference30Ideal.main_arg10) = m ((c.tc : Thread Cert.Kernel30Ideal.nD Cert.Kernel30Ideal.τ).loc Cert.Kernel30Ideal.main_arg10)
      ∧ m' ((c.tc : Thread Cert.Reference30Ideal.nD Cert.Reference30Ideal.τ).loc Cert.Reference30Ideal.main_arg11) = m ((c.tc : Thread Cert.Kernel30Ideal.nD Cert.Kernel30Ideal.τ).loc Cert.Kernel30Ideal.main_arg11)
      ∧ m' ((c.tc : Thread Cert.Reference30Ideal.nD Cert.Reference30Ideal.τ).loc Cert.Reference30Ideal.main_arg12) = m ((c.tc : Thread Cert.Kernel30Ideal.nD Cert.Kernel30Ideal.τ).loc Cert.Kernel30Ideal.main_arg12)
      ∧ m' ((c.tc : Thread Cert.Reference30Ideal.nD Cert.Reference30Ideal.τ).loc Cert.Reference30Ideal.main_arg13) = m ((c.tc : Thread Cert.Kernel30Ideal.nD Cert.Kernel30Ideal.τ).loc Cert.Kernel30Ideal.main_arg13)
      ∧ m' ((c.tc : Thread Cert.Reference30Ideal.nD Cert.Reference30Ideal.τ).loc Cert.Reference30Ideal.main_arg14) = m ((c.tc : Thread Cert.Kernel30Ideal.nD Cert.Kernel30Ideal.τ).loc Cert.Kernel30Ideal.main_arg14)
      ∧ m' ((c.tc : Thread Cert.Reference30Ideal.nD Cert.Reference30Ideal.τ).loc Cert.Reference30Ideal.main_arg15) = m ((c.tc : Thread Cert.Kernel30Ideal.nD Cert.Kernel30Ideal.τ).loc Cert.Kernel30Ideal.main_arg15)
      ∧ m' ((c.tc : Thread Cert.Reference30Ideal.nD Cert.Reference30Ideal.τ).loc Cert.Reference30Ideal.main_arg16) = m ((c.tc : Thread Cert.Kernel30Ideal.nD Cert.Kernel30Ideal.τ).loc Cert.Kernel30Ideal.main_arg16)
      ∧ m' ((c.tc : Thread Cert.Reference30Ideal.nD Cert.Reference30Ideal.τ).loc Cert.Reference30Ideal.main_arg17) = m ((c.tc : Thread Cert.Kernel30Ideal.nD Cert.Kernel30Ideal.τ).loc Cert.Kernel30Ideal.main_arg17)
      ∧ m' ((c.tc : Thread Cert.Reference30Ideal.nD Cert.Reference30Ideal.τ).loc Cert.Reference30Ideal.main_arg18) = m ((c.tc : Thread Cert.Kernel30Ideal.nD Cert.Kernel30Ideal.τ).loc Cert.Kernel30Ideal.main_arg18)
      ∧ m' ((c.tc : Thread Cert.Reference30Ideal.nD Cert.Reference30Ideal.τ).loc Cert.Reference30Ideal.main_arg19) = m ((c.tc : Thread Cert.Kernel30Ideal.nD Cert.Kernel30Ideal.τ).loc Cert.Kernel30Ideal.main_arg19)
      ∧ m' ((c.tc : Thread Cert.Reference30Ideal.nD Cert.Reference30Ideal.τ).loc Cert.Reference30Ideal.main_arg20) = m ((c.tc : Thread Cert.Kernel30Ideal.nD Cert.Kernel30Ideal.τ).loc Cert.Kernel30Ideal.main_arg20)
      ∧ m' ((c.tc : Thread Cert.Reference30Ideal.nD Cert.Reference30Ideal.τ).loc Cert.Reference30Ideal.main_arg21) = m ((c.tc : Thread Cert.Kernel30Ideal.nD Cert.Kernel30Ideal.τ).loc Cert.Kernel30Ideal.main_arg21)
      ∧ m' ((c.tc : Thread Cert.Reference30Ideal.nD Cert.Reference30Ideal.τ).loc Cert.Reference30Ideal.main_arg22) = m ((c.tc : Thread Cert.Kernel30Ideal.nD Cert.Kernel30Ideal.τ).loc Cert.Kernel30Ideal.main_arg22)
      ∧ m' ((c.tc : Thread Cert.Reference30Ideal.nD Cert.Reference30Ideal.τ).loc Cert.Reference30Ideal.main_arg23) = m ((c.tc : Thread Cert.Kernel30Ideal.nD Cert.Kernel30Ideal.τ).loc Cert.Kernel30Ideal.main_arg23)
      ∧ m' ((c.tc : Thread Cert.Reference30Ideal.nD Cert.Reference30Ideal.τ).loc Cert.Reference30Ideal.main_arg24) = m ((c.tc : Thread Cert.Kernel30Ideal.nD Cert.Kernel30Ideal.τ).loc Cert.Kernel30Ideal.main_arg24)
      ∧ m' ((c.tc : Thread Cert.Reference30Ideal.nD Cert.Reference30Ideal.τ).loc Cert.Reference30Ideal.main_arg25) = m ((c.tc : Thread Cert.Kernel30Ideal.nD Cert.Kernel30Ideal.τ).loc Cert.Kernel30Ideal.main_arg25)
      ∧ m' ((c.tc : Thread Cert.Reference30Ideal.nD Cert.Reference30Ideal.τ).loc Cert.Reference30Ideal.main_arg26) = m ((c.tc : Thread Cert.Kernel30Ideal.nD Cert.Kernel30Ideal.τ).loc Cert.Kernel30Ideal.main_arg26)
      ∧ m' ((c.tc : Thread Cert.Reference30Ideal.nD Cert.Reference30Ideal.τ).loc Cert.Reference30Ideal.main_arg27) = m ((c.tc : Thread Cert.Kernel30Ideal.nD Cert.Kernel30Ideal.τ).loc Cert.Kernel30Ideal.main_arg27)
      ∧ m' ((c.tc : Thread Cert.Reference30Ideal.nD Cert.Reference30Ideal.τ).loc Cert.Reference30Ideal.main_arg28) = m ((c.tc : Thread Cert.Kernel30Ideal.nD Cert.Kernel30Ideal.τ).loc Cert.Kernel30Ideal.main_arg28)
      ∧ m' ((c.tc : Thread Cert.Reference30Ideal.nD Cert.Reference30Ideal.τ).loc Cert.Reference30Ideal.main_arg29) = m ((c.tc : Thread Cert.Kernel30Ideal.nD Cert.Kernel30Ideal.τ).loc Cert.Kernel30Ideal.main_arg29)
      ∧ m' ((c.tc : Thread Cert.Reference30Ideal.nD Cert.Reference30Ideal.τ).loc Cert.Reference30Ideal.main_arg30) = m ((c.tc : Thread Cert.Kernel30Ideal.nD Cert.Kernel30Ideal.τ).loc Cert.Kernel30Ideal.main_arg30)
      ∧ m' ((c.tc : Thread Cert.Reference30Ideal.nD Cert.Reference30Ideal.τ).loc Cert.Reference30Ideal.main_arg31) = m ((c.tc : Thread Cert.Kernel30Ideal.nD Cert.Kernel30Ideal.τ).loc Cert.Kernel30Ideal.main_arg31)
      ∧ m' ((c.tc : Thread Cert.Reference30Ideal.nD Cert.Reference30Ideal.τ).loc Cert.Reference30Ideal.main_arg32) = m ((c.tc : Thread Cert.Kernel30Ideal.nD Cert.Kernel30Ideal.τ).loc Cert.Kernel30Ideal.main_arg32)
      ∧ m' ((c.tc : Thread Cert.Reference30Ideal.nD Cert.Reference30Ideal.τ).loc Cert.Reference30Ideal.main_arg33) = m ((c.tc : Thread Cert.Kernel30Ideal.nD Cert.Kernel30Ideal.τ).loc Cert.Kernel30Ideal.main_arg33)
      ∧ m' ((c.tc : Thread Cert.Reference30Ideal.nD Cert.Reference30Ideal.τ).loc Cert.Reference30Ideal.main_arg34) = m ((c.tc : Thread Cert.Kernel30Ideal.nD Cert.Kernel30Ideal.τ).loc Cert.Kernel30Ideal.main_arg34)
      ∧ m' ((c.tc : Thread Cert.Reference30Ideal.nD Cert.Reference30Ideal.τ).loc Cert.Reference30Ideal.main_arg35) = m ((c.tc : Thread Cert.Kernel30Ideal.nD Cert.Kernel30Ideal.τ).loc Cert.Kernel30Ideal.main_arg35)
      ∧ m' ((c.tc : Thread Cert.Reference30Ideal.nD Cert.Reference30Ideal.τ).loc Cert.Reference30Ideal.main_arg36) = m ((c.tc : Thread Cert.Kernel30Ideal.nD Cert.Kernel30Ideal.τ).loc Cert.Kernel30Ideal.main_arg36)
      ∧ m' ((c.tc : Thread Cert.Reference30Ideal.nD Cert.Reference30Ideal.τ).loc Cert.Reference30Ideal.main_arg37) = m ((c.tc : Thread Cert.Kernel30Ideal.nD Cert.Kernel30Ideal.τ).loc Cert.Kernel30Ideal.main_arg37)
      ∧ m' ((c.tc : Thread Cert.Reference30Ideal.nD Cert.Reference30Ideal.τ).loc Cert.Reference30Ideal.main_arg38) = m ((c.tc : Thread Cert.Kernel30Ideal.nD Cert.Kernel30Ideal.τ).loc Cert.Kernel30Ideal.main_arg38)
      ∧ m' ((c.tc : Thread Cert.Reference30Ideal.nD Cert.Reference30Ideal.τ).loc Cert.Reference30Ideal.main_arg39) = m ((c.tc : Thread Cert.Kernel30Ideal.nD Cert.Kernel30Ideal.τ).loc Cert.Kernel30Ideal.main_arg39)
      ∧ m' ((c.tc : Thread Cert.Reference30Ideal.nD Cert.Reference30Ideal.τ).loc Cert.Reference30Ideal.main_arg40) = m ((c.tc : Thread Cert.Kernel30Ideal.nD Cert.Kernel30Ideal.τ).loc Cert.Kernel30Ideal.main_arg40)
      ∧ m' ((c.tc : Thread Cert.Reference30Ideal.nD Cert.Reference30Ideal.τ).loc Cert.Reference30Ideal.main_arg41) = m ((c.tc : Thread Cert.Kernel30Ideal.nD Cert.Kernel30Ideal.τ).loc Cert.Kernel30Ideal.main_arg41)
      ∧ m' ((c.tc : Thread Cert.Reference30Ideal.nD Cert.Reference30Ideal.τ).loc Cert.Reference30Ideal.main_arg42) = m ((c.tc : Thread Cert.Kernel30Ideal.nD Cert.Kernel30Ideal.τ).loc Cert.Kernel30Ideal.main_arg42)
      ∧ m' ((c.tc : Thread Cert.Reference30Ideal.nD Cert.Reference30Ideal.τ).loc Cert.Reference30Ideal.main_arg43) = m ((c.tc : Thread Cert.Kernel30Ideal.nD Cert.Kernel30Ideal.τ).loc Cert.Kernel30Ideal.main_arg43)
      ∧ m' ((c.tc : Thread Cert.Reference30Ideal.nD Cert.Reference30Ideal.τ).loc Cert.Reference30Ideal.main_arg44) = m ((c.tc : Thread Cert.Kernel30Ideal.nD Cert.Kernel30Ideal.τ).loc Cert.Kernel30Ideal.main_arg44)
      ∧ m' ((c.tc : Thread Cert.Reference30Ideal.nD Cert.Reference30Ideal.τ).loc Cert.Reference30Ideal.main_arg45) = m ((c.tc : Thread Cert.Kernel30Ideal.nD Cert.Kernel30Ideal.τ).loc Cert.Kernel30Ideal.main_arg45)
      ∧ m' ((c.tc : Thread Cert.Reference30Ideal.nD Cert.Reference30Ideal.τ).loc Cert.Reference30Ideal.main_arg46) = m ((c.tc : Thread Cert.Kernel30Ideal.nD Cert.Kernel30Ideal.τ).loc Cert.Kernel30Ideal.main_arg46)
      ∧ m' ((c.tc : Thread Cert.Reference30Ideal.nD Cert.Reference30Ideal.τ).loc Cert.Reference30Ideal.main_arg47) = m ((c.tc : Thread Cert.Kernel30Ideal.nD Cert.Kernel30Ideal.τ).loc Cert.Kernel30Ideal.main_arg47)) →
    ∃ (v0 : (c : Dev Cert.Kernel30Ideal.nD) → Buf (Elt Ideal) ((c.tc : Thread Cert.Kernel30Ideal.nD Cert.Kernel30Ideal.τ).loc Cert.Kernel30Ideal.main_v68)) (v1 : (c : Dev Cert.Kernel30Ideal.nD) → Buf (Elt Ideal) ((c.tc : Thread Cert.Kernel30Ideal.nD Cert.Kernel30Ideal.τ).loc Cert.Kernel30Ideal.main_v71)) (v2 : (c : Dev Cert.Kernel30Ideal.nD) → Buf (Elt Ideal) ((c.tc : Thread Cert.Kernel30Ideal.nD Cert.Kernel30Ideal.τ).loc Cert.Kernel30Ideal.main_v75)) (v3 : (c : Dev Cert.Kernel30Ideal.nD) → Buf (Elt Ideal) ((c.tc : Thread Cert.Kernel30Ideal.nD Cert.Kernel30Ideal.τ).loc Cert.Kernel30Ideal.main_v78)) (v4 : (c : Dev Cert.Kernel30Ideal.nD) → Buf (Elt Ideal) ((c.tc : Thread Cert.Kernel30Ideal.nD Cert.Kernel30Ideal.τ).loc Cert.Kernel30Ideal.main_v81)) (v5 : (c : Dev Cert.Kernel30Ideal.nD) → Buf (Elt Ideal) ((c.tc : Thread Cert.Kernel30Ideal.nD Cert.Kernel30Ideal.τ).loc Cert.Kernel30Ideal.main_v84)) (v6 : (c : Dev Cert.Kernel30Ideal.nD) → Buf (Elt Ideal) ((c.tc : Thread Cert.Kernel30Ideal.nD Cert.Kernel30Ideal.τ).loc Cert.Kernel30Ideal.main_v87)) (v7 : (c : Dev Cert.Kernel30Ideal.nD) → Buf (Elt Ideal) ((c.tc : Thread Cert.Kernel30Ideal.nD Cert.Kernel30Ideal.τ).loc Cert.Kernel30Ideal.main_v90)) (v8 : (c : Dev Cert.Kernel30Ideal.nD) → Buf (Elt Ideal) ((c.tc : Thread Cert.Kernel30Ideal.nD Cert.Kernel30Ideal.τ).loc Cert.Kernel30Ideal.main_v93)) (v9 : (c : Dev Cert.Kernel30Ideal.nD) → Buf (Elt Ideal) ((c.tc : Thread Cert.Kernel30Ideal.nD Cert.Kernel30Ideal.τ).loc Cert.Kernel30Ideal.main_v96)) (v10 : (c : Dev Cert.Kernel30Ideal.nD) → Buf (Elt Ideal) ((c.tc : Thread Cert.Kernel30Ideal.nD Cert.Kernel30Ideal.τ).loc Cert.Kernel30Ideal.main_v100)) (v11 : (c : Dev Cert.Kernel30Ideal.nD) → Buf (Elt Ideal) ((c.tc : Thread Cert.Kernel30Ideal.nD Cert.Kernel30Ideal.τ).loc Cert.Kernel30Ideal.main_v102)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v68) = v0 c
          ∧ r.2.mem ((c.tc : Thread Cert.Kernel30Ideal.nD Cert.Kernel30Ideal.τ).loc Cert.Kernel30Ideal.main_v71) = v1 c
          ∧ r.2.mem ((c.tc : Thread Cert.Kernel30Ideal.nD Cert.Kernel30Ideal.τ).loc Cert.Kernel30Ideal.main_v75) = v2 c
          ∧ r.2.mem ((c.tc : Thread Cert.Kernel30Ideal.nD Cert.Kernel30Ideal.τ).loc Cert.Kernel30Ideal.main_v78) = v3 c
          ∧ r.2.mem ((c.tc : Thread Cert.Kernel30Ideal.nD Cert.Kernel30Ideal.τ).loc Cert.Kernel30Ideal.main_v81) = v4 c
          ∧ r.2.mem ((c.tc : Thread Cert.Kernel30Ideal.nD Cert.Kernel30Ideal.τ).loc Cert.Kernel30Ideal.main_v84) = v5 c
          ∧ r.2.mem ((c.tc : Thread Cert.Kernel30Ideal.nD Cert.Kernel30Ideal.τ).loc Cert.Kernel30Ideal.main_v87) = v6 c
          ∧ r.2.mem ((c.tc : Thread Cert.Kernel30Ideal.nD Cert.Kernel30Ideal.τ).loc Cert.Kernel30Ideal.main_v90) = v7 c
          ∧ r.2.mem ((c.tc : Thread Cert.Kernel30Ideal.nD Cert.Kernel30Ideal.τ).loc Cert.Kernel30Ideal.main_v93) = v8 c
          ∧ r.2.mem ((c.tc : Thread Cert.Kernel30Ideal.nD Cert.Kernel30Ideal.τ).loc Cert.Kernel30Ideal.main_v96) = v9 c
          ∧ r.2.mem ((c.tc : Thread Cert.Kernel30Ideal.nD Cert.Kernel30Ideal.τ).loc Cert.Kernel30Ideal.main_v100) = v10 c
          ∧ r.2.mem ((c.tc : Thread Cert.Kernel30Ideal.nD Cert.Kernel30Ideal.τ).loc Cert.Kernel30Ideal.main_v102) = v11 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3)
          ∧ r.2.mem ((c.tc : Thread Cert.Kernel30Ideal.nD Cert.Kernel30Ideal.τ).loc Cert.Kernel30Ideal.main_arg4) = m ((c.tc : Thread Cert.Kernel30Ideal.nD Cert.Kernel30Ideal.τ).loc Cert.Kernel30Ideal.main_arg4)
          ∧ r.2.mem ((c.tc : Thread Cert.Kernel30Ideal.nD Cert.Kernel30Ideal.τ).loc Cert.Kernel30Ideal.main_arg5) = m ((c.tc : Thread Cert.Kernel30Ideal.nD Cert.Kernel30Ideal.τ).loc Cert.Kernel30Ideal.main_arg5)
          ∧ r.2.mem ((c.tc : Thread Cert.Kernel30Ideal.nD Cert.Kernel30Ideal.τ).loc Cert.Kernel30Ideal.main_arg6) = m ((c.tc : Thread Cert.Kernel30Ideal.nD Cert.Kernel30Ideal.τ).loc Cert.Kernel30Ideal.main_arg6)
          ∧ r.2.mem ((c.tc : Thread Cert.Kernel30Ideal.nD Cert.Kernel30Ideal.τ).loc Cert.Kernel30Ideal.main_arg7) = m ((c.tc : Thread Cert.Kernel30Ideal.nD Cert.Kernel30Ideal.τ).loc Cert.Kernel30Ideal.main_arg7)
          ∧ r.2.mem ((c.tc : Thread Cert.Kernel30Ideal.nD Cert.Kernel30Ideal.τ).loc Cert.Kernel30Ideal.main_arg8) = m ((c.tc : Thread Cert.Kernel30Ideal.nD Cert.Kernel30Ideal.τ).loc Cert.Kernel30Ideal.main_arg8)
          ∧ r.2.mem ((c.tc : Thread Cert.Kernel30Ideal.nD Cert.Kernel30Ideal.τ).loc Cert.Kernel30Ideal.main_arg9) = m ((c.tc : Thread Cert.Kernel30Ideal.nD Cert.Kernel30Ideal.τ).loc Cert.Kernel30Ideal.main_arg9)
          ∧ r.2.mem ((c.tc : Thread Cert.Kernel30Ideal.nD Cert.Kernel30Ideal.τ).loc Cert.Kernel30Ideal.main_arg10) = m ((c.tc : Thread Cert.Kernel30Ideal.nD Cert.Kernel30Ideal.τ).loc Cert.Kernel30Ideal.main_arg10)
          ∧ r.2.mem ((c.tc : Thread Cert.Kernel30Ideal.nD Cert.Kernel30Ideal.τ).loc Cert.Kernel30Ideal.main_arg11) = m ((c.tc : Thread Cert.Kernel30Ideal.nD Cert.Kernel30Ideal.τ).loc Cert.Kernel30Ideal.main_arg11)
          ∧ r.2.mem ((c.tc : Thread Cert.Kernel30Ideal.nD Cert.Kernel30Ideal.τ).loc Cert.Kernel30Ideal.main_arg12) = m ((c.tc : Thread Cert.Kernel30Ideal.nD Cert.Kernel30Ideal.τ).loc Cert.Kernel30Ideal.main_arg12)
          ∧ r.2.mem ((c.tc : Thread Cert.Kernel30Ideal.nD Cert.Kernel30Ideal.τ).loc Cert.Kernel30Ideal.main_arg13) = m ((c.tc : Thread Cert.Kernel30Ideal.nD Cert.Kernel30Ideal.τ).loc Cert.Kernel30Ideal.main_arg13)
          ∧ r.2.mem ((c.tc : Thread Cert.Kernel30Ideal.nD Cert.Kernel30Ideal.τ).loc Cert.Kernel30Ideal.main_arg14) = m ((c.tc : Thread Cert.Kernel30Ideal.nD Cert.Kernel30Ideal.τ).loc Cert.Kernel30Ideal.main_arg14)
          ∧ r.2.mem ((c.tc : Thread Cert.Kernel30Ideal.nD Cert.Kernel30Ideal.τ).loc Cert.Kernel30Ideal.main_arg15) = m ((c.tc : Thread Cert.Kernel30Ideal.nD Cert.Kernel30Ideal.τ).loc Cert.Kernel30Ideal.main_arg15)
          ∧ r.2.mem ((c.tc : Thread Cert.Kernel30Ideal.nD Cert.Kernel30Ideal.τ).loc Cert.Kernel30Ideal.main_arg16) = m ((c.tc : Thread Cert.Kernel30Ideal.nD Cert.Kernel30Ideal.τ).loc Cert.Kernel30Ideal.main_arg16)
          ∧ r.2.mem ((c.tc : Thread Cert.Kernel30Ideal.nD Cert.Kernel30Ideal.τ).loc Cert.Kernel30Ideal.main_arg17) = m ((c.tc : Thread Cert.Kernel30Ideal.nD Cert.Kernel30Ideal.τ).loc Cert.Kernel30Ideal.main_arg17)
          ∧ r.2.mem ((c.tc : Thread Cert.Kernel30Ideal.nD Cert.Kernel30Ideal.τ).loc Cert.Kernel30Ideal.main_arg18) = m ((c.tc : Thread Cert.Kernel30Ideal.nD Cert.Kernel30Ideal.τ).loc Cert.Kernel30Ideal.main_arg18)
          ∧ r.2.mem ((c.tc : Thread Cert.Kernel30Ideal.nD Cert.Kernel30Ideal.τ).loc Cert.Kernel30Ideal.main_arg19) = m ((c.tc : Thread Cert.Kernel30Ideal.nD Cert.Kernel30Ideal.τ).loc Cert.Kernel30Ideal.main_arg19)
          ∧ r.2.mem ((c.tc : Thread Cert.Kernel30Ideal.nD Cert.Kernel30Ideal.τ).loc Cert.Kernel30Ideal.main_arg20) = m ((c.tc : Thread Cert.Kernel30Ideal.nD Cert.Kernel30Ideal.τ).loc Cert.Kernel30Ideal.main_arg20)
          ∧ r.2.mem ((c.tc : Thread Cert.Kernel30Ideal.nD Cert.Kernel30Ideal.τ).loc Cert.Kernel30Ideal.main_arg21) = m ((c.tc : Thread Cert.Kernel30Ideal.nD Cert.Kernel30Ideal.τ).loc Cert.Kernel30Ideal.main_arg21)
          ∧ r.2.mem ((c.tc : Thread Cert.Kernel30Ideal.nD Cert.Kernel30Ideal.τ).loc Cert.Kernel30Ideal.main_arg22) = m ((c.tc : Thread Cert.Kernel30Ideal.nD Cert.Kernel30Ideal.τ).loc Cert.Kernel30Ideal.main_arg22)
          ∧ r.2.mem ((c.tc : Thread Cert.Kernel30Ideal.nD Cert.Kernel30Ideal.τ).loc Cert.Kernel30Ideal.main_arg23) = m ((c.tc : Thread Cert.Kernel30Ideal.nD Cert.Kernel30Ideal.τ).loc Cert.Kernel30Ideal.main_arg23)
          ∧ r.2.mem ((c.tc : Thread Cert.Kernel30Ideal.nD Cert.Kernel30Ideal.τ).loc Cert.Kernel30Ideal.main_arg24) = m ((c.tc : Thread Cert.Kernel30Ideal.nD Cert.Kernel30Ideal.τ).loc Cert.Kernel30Ideal.main_arg24)
          ∧ r.2.mem ((c.tc : Thread Cert.Kernel30Ideal.nD Cert.Kernel30Ideal.τ).loc Cert.Kernel30Ideal.main_arg25) = m ((c.tc : Thread Cert.Kernel30Ideal.nD Cert.Kernel30Ideal.τ).loc Cert.Kernel30Ideal.main_arg25)
          ∧ r.2.mem ((c.tc : Thread Cert.Kernel30Ideal.nD Cert.Kernel30Ideal.τ).loc Cert.Kernel30Ideal.main_arg26) = m ((c.tc : Thread Cert.Kernel30Ideal.nD Cert.Kernel30Ideal.τ).loc Cert.Kernel30Ideal.main_arg26)
          ∧ r.2.mem ((c.tc : Thread Cert.Kernel30Ideal.nD Cert.Kernel30Ideal.τ).loc Cert.Kernel30Ideal.main_arg27) = m ((c.tc : Thread Cert.Kernel30Ideal.nD Cert.Kernel30Ideal.τ).loc Cert.Kernel30Ideal.main_arg27)
          ∧ r.2.mem ((c.tc : Thread Cert.Kernel30Ideal.nD Cert.Kernel30Ideal.τ).loc Cert.Kernel30Ideal.main_arg28) = m ((c.tc : Thread Cert.Kernel30Ideal.nD Cert.Kernel30Ideal.τ).loc Cert.Kernel30Ideal.main_arg28)
          ∧ r.2.mem ((c.tc : Thread Cert.Kernel30Ideal.nD Cert.Kernel30Ideal.τ).loc Cert.Kernel30Ideal.main_arg29) = m ((c.tc : Thread Cert.Kernel30Ideal.nD Cert.Kernel30Ideal.τ).loc Cert.Kernel30Ideal.main_arg29)
          ∧ r.2.mem ((c.tc : Thread Cert.Kernel30Ideal.nD Cert.Kernel30Ideal.τ).loc Cert.Kernel30Ideal.main_arg30) = m ((c.tc : Thread Cert.Kernel30Ideal.nD Cert.Kernel30Ideal.τ).loc Cert.Kernel30Ideal.main_arg30)
          ∧ r.2.mem ((c.tc : Thread Cert.Kernel30Ideal.nD Cert.Kernel30Ideal.τ).loc Cert.Kernel30Ideal.main_arg31) = m ((c.tc : Thread Cert.Kernel30Ideal.nD Cert.Kernel30Ideal.τ).loc Cert.Kernel30Ideal.main_arg31)
          ∧ r.2.mem ((c.tc : Thread Cert.Kernel30Ideal.nD Cert.Kernel30Ideal.τ).loc Cert.Kernel30Ideal.main_arg32) = m ((c.tc : Thread Cert.Kernel30Ideal.nD Cert.Kernel30Ideal.τ).loc Cert.Kernel30Ideal.main_arg32)
          ∧ r.2.mem ((c.tc : Thread Cert.Kernel30Ideal.nD Cert.Kernel30Ideal.τ).loc Cert.Kernel30Ideal.main_arg33) = m ((c.tc : Thread Cert.Kernel30Ideal.nD Cert.Kernel30Ideal.τ).loc Cert.Kernel30Ideal.main_arg33)
          ∧ r.2.mem ((c.tc : Thread Cert.Kernel30Ideal.nD Cert.Kernel30Ideal.τ).loc Cert.Kernel30Ideal.main_arg34) = m ((c.tc : Thread Cert.Kernel30Ideal.nD Cert.Kernel30Ideal.τ).loc Cert.Kernel30Ideal.main_arg34)
          ∧ r.2.mem ((c.tc : Thread Cert.Kernel30Ideal.nD Cert.Kernel30Ideal.τ).loc Cert.Kernel30Ideal.main_arg35) = m ((c.tc : Thread Cert.Kernel30Ideal.nD Cert.Kernel30Ideal.τ).loc Cert.Kernel30Ideal.main_arg35)
          ∧ r.2.mem ((c.tc : Thread Cert.Kernel30Ideal.nD Cert.Kernel30Ideal.τ).loc Cert.Kernel30Ideal.main_arg36) = m ((c.tc : Thread Cert.Kernel30Ideal.nD Cert.Kernel30Ideal.τ).loc Cert.Kernel30Ideal.main_arg36)
          ∧ r.2.mem ((c.tc : Thread Cert.Kernel30Ideal.nD Cert.Kernel30Ideal.τ).loc Cert.Kernel30Ideal.main_arg37) = m ((c.tc : Thread Cert.Kernel30Ideal.nD Cert.Kernel30Ideal.τ).loc Cert.Kernel30Ideal.main_arg37)
          ∧ r.2.mem ((c.tc : Thread Cert.Kernel30Ideal.nD Cert.Kernel30Ideal.τ).loc Cert.Kernel30Ideal.main_arg38) = m ((c.tc : Thread Cert.Kernel30Ideal.nD Cert.Kernel30Ideal.τ).loc Cert.Kernel30Ideal.main_arg38)
          ∧ r.2.mem ((c.tc : Thread Cert.Kernel30Ideal.nD Cert.Kernel30Ideal.τ).loc Cert.Kernel30Ideal.main_arg39) = m ((c.tc : Thread Cert.Kernel30Ideal.nD Cert.Kernel30Ideal.τ).loc Cert.Kernel30Ideal.main_arg39)
          ∧ r.2.mem ((c.tc : Thread Cert.Kernel30Ideal.nD Cert.Kernel30Ideal.τ).loc Cert.Kernel30Ideal.main_arg40) = m ((c.tc : Thread Cert.Kernel30Ideal.nD Cert.Kernel30Ideal.τ).loc Cert.Kernel30Ideal.main_arg40)
          ∧ r.2.mem ((c.tc : Thread Cert.Kernel30Ideal.nD Cert.Kernel30Ideal.τ).loc Cert.Kernel30Ideal.main_arg41) = m ((c.tc : Thread Cert.Kernel30Ideal.nD Cert.Kernel30Ideal.τ).loc Cert.Kernel30Ideal.main_arg41)
          ∧ r.2.mem ((c.tc : Thread Cert.Kernel30Ideal.nD Cert.Kernel30Ideal.τ).loc Cert.Kernel30Ideal.main_arg42) = m ((c.tc : Thread Cert.Kernel30Ideal.nD Cert.Kernel30Ideal.τ).loc Cert.Kernel30Ideal.main_arg42)
          ∧ r.2.mem ((c.tc : Thread Cert.Kernel30Ideal.nD Cert.Kernel30Ideal.τ).loc Cert.Kernel30Ideal.main_arg43) = m ((c.tc : Thread Cert.Kernel30Ideal.nD Cert.Kernel30Ideal.τ).loc Cert.Kernel30Ideal.main_arg43)
          ∧ r.2.mem ((c.tc : Thread Cert.Kernel30Ideal.nD Cert.Kernel30Ideal.τ).loc Cert.Kernel30Ideal.main_arg44) = m ((c.tc : Thread Cert.Kernel30Ideal.nD Cert.Kernel30Ideal.τ).loc Cert.Kernel30Ideal.main_arg44)
          ∧ r.2.mem ((c.tc : Thread Cert.Kernel30Ideal.nD Cert.Kernel30Ideal.τ).loc Cert.Kernel30Ideal.main_arg45) = m ((c.tc : Thread Cert.Kernel30Ideal.nD Cert.Kernel30Ideal.τ).loc Cert.Kernel30Ideal.main_arg45)
          ∧ r.2.mem ((c.tc : Thread Cert.Kernel30Ideal.nD Cert.Kernel30Ideal.τ).loc Cert.Kernel30Ideal.main_arg46) = m ((c.tc : Thread Cert.Kernel30Ideal.nD Cert.Kernel30Ideal.τ).loc Cert.Kernel30Ideal.main_arg46)
          ∧ r.2.mem ((c.tc : Thread Cert.Kernel30Ideal.nD Cert.Kernel30Ideal.τ).loc Cert.Kernel30Ideal.main_arg47) = m ((c.tc : Thread Cert.Kernel30Ideal.nD Cert.Kernel30Ideal.τ).loc Cert.Kernel30Ideal.main_arg47))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v11) = v0 c
          ∧ r.2.mem ((c.tc : Thread Cert.Reference30Ideal.nD Cert.Reference30Ideal.τ).loc Cert.Reference30Ideal.main_v36) = v1 c
          ∧ r.2.mem ((c.tc : Thread Cert.Reference30Ideal.nD Cert.Reference30Ideal.τ).loc Cert.Reference30Ideal.main_v61) = v2 c
          ∧ r.2.mem ((c.tc : Thread Cert.Reference30Ideal.nD Cert.Reference30Ideal.τ).loc Cert.Reference30Ideal.main_v86) = v3 c
          ∧ r.2.mem ((c.tc : Thread Cert.Reference30Ideal.nD Cert.Reference30Ideal.τ).loc Cert.Reference30Ideal.main_v111) = v4 c
          ∧ r.2.mem ((c.tc : Thread Cert.Reference30Ideal.nD Cert.Reference30Ideal.τ).loc Cert.Reference30Ideal.main_v136) = v5 c
          ∧ r.2.mem ((c.tc : Thread Cert.Reference30Ideal.nD Cert.Reference30Ideal.τ).loc Cert.Reference30Ideal.main_v161) = v6 c
          ∧ r.2.mem ((c.tc : Thread Cert.Reference30Ideal.nD Cert.Reference30Ideal.τ).loc Cert.Reference30Ideal.main_v186) = v7 c
          ∧ r.2.mem ((c.tc : Thread Cert.Reference30Ideal.nD Cert.Reference30Ideal.τ).loc Cert.Reference30Ideal.main_v211) = v8 c
          ∧ r.2.mem ((c.tc : Thread Cert.Reference30Ideal.nD Cert.Reference30Ideal.τ).loc Cert.Reference30Ideal.main_v236) = v9 c
          ∧ r.2.mem ((c.tc : Thread Cert.Reference30Ideal.nD Cert.Reference30Ideal.τ).loc Cert.Reference30Ideal.main_v261) = v10 c
          ∧ r.2.mem ((c.tc : Thread Cert.Reference30Ideal.nD Cert.Reference30Ideal.τ).loc Cert.Reference30Ideal.main_v286) = v11 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3)
          ∧ r.2.mem ((c.tc : Thread Cert.Reference30Ideal.nD Cert.Reference30Ideal.τ).loc Cert.Reference30Ideal.main_arg4) = m' ((c.tc : Thread Cert.Reference30Ideal.nD Cert.Reference30Ideal.τ).loc Cert.Reference30Ideal.main_arg4)
          ∧ r.2.mem ((c.tc : Thread Cert.Reference30Ideal.nD Cert.Reference30Ideal.τ).loc Cert.Reference30Ideal.main_arg5) = m' ((c.tc : Thread Cert.Reference30Ideal.nD Cert.Reference30Ideal.τ).loc Cert.Reference30Ideal.main_arg5)
          ∧ r.2.mem ((c.tc : Thread Cert.Reference30Ideal.nD Cert.Reference30Ideal.τ).loc Cert.Reference30Ideal.main_arg6) = m' ((c.tc : Thread Cert.Reference30Ideal.nD Cert.Reference30Ideal.τ).loc Cert.Reference30Ideal.main_arg6)
          ∧ r.2.mem ((c.tc : Thread Cert.Reference30Ideal.nD Cert.Reference30Ideal.τ).loc Cert.Reference30Ideal.main_arg7) = m' ((c.tc : Thread Cert.Reference30Ideal.nD Cert.Reference30Ideal.τ).loc Cert.Reference30Ideal.main_arg7)
          ∧ r.2.mem ((c.tc : Thread Cert.Reference30Ideal.nD Cert.Reference30Ideal.τ).loc Cert.Reference30Ideal.main_arg8) = m' ((c.tc : Thread Cert.Reference30Ideal.nD Cert.Reference30Ideal.τ).loc Cert.Reference30Ideal.main_arg8)
          ∧ r.2.mem ((c.tc : Thread Cert.Reference30Ideal.nD Cert.Reference30Ideal.τ).loc Cert.Reference30Ideal.main_arg9) = m' ((c.tc : Thread Cert.Reference30Ideal.nD Cert.Reference30Ideal.τ).loc Cert.Reference30Ideal.main_arg9)
          ∧ r.2.mem ((c.tc : Thread Cert.Reference30Ideal.nD Cert.Reference30Ideal.τ).loc Cert.Reference30Ideal.main_arg10) = m' ((c.tc : Thread Cert.Reference30Ideal.nD Cert.Reference30Ideal.τ).loc Cert.Reference30Ideal.main_arg10)
          ∧ r.2.mem ((c.tc : Thread Cert.Reference30Ideal.nD Cert.Reference30Ideal.τ).loc Cert.Reference30Ideal.main_arg11) = m' ((c.tc : Thread Cert.Reference30Ideal.nD Cert.Reference30Ideal.τ).loc Cert.Reference30Ideal.main_arg11)
          ∧ r.2.mem ((c.tc : Thread Cert.Reference30Ideal.nD Cert.Reference30Ideal.τ).loc Cert.Reference30Ideal.main_arg12) = m' ((c.tc : Thread Cert.Reference30Ideal.nD Cert.Reference30Ideal.τ).loc Cert.Reference30Ideal.main_arg12)
          ∧ r.2.mem ((c.tc : Thread Cert.Reference30Ideal.nD Cert.Reference30Ideal.τ).loc Cert.Reference30Ideal.main_arg13) = m' ((c.tc : Thread Cert.Reference30Ideal.nD Cert.Reference30Ideal.τ).loc Cert.Reference30Ideal.main_arg13)
          ∧ r.2.mem ((c.tc : Thread Cert.Reference30Ideal.nD Cert.Reference30Ideal.τ).loc Cert.Reference30Ideal.main_arg14) = m' ((c.tc : Thread Cert.Reference30Ideal.nD Cert.Reference30Ideal.τ).loc Cert.Reference30Ideal.main_arg14)
          ∧ r.2.mem ((c.tc : Thread Cert.Reference30Ideal.nD Cert.Reference30Ideal.τ).loc Cert.Reference30Ideal.main_arg15) = m' ((c.tc : Thread Cert.Reference30Ideal.nD Cert.Reference30Ideal.τ).loc Cert.Reference30Ideal.main_arg15)
          ∧ r.2.mem ((c.tc : Thread Cert.Reference30Ideal.nD Cert.Reference30Ideal.τ).loc Cert.Reference30Ideal.main_arg16) = m' ((c.tc : Thread Cert.Reference30Ideal.nD Cert.Reference30Ideal.τ).loc Cert.Reference30Ideal.main_arg16)
          ∧ r.2.mem ((c.tc : Thread Cert.Reference30Ideal.nD Cert.Reference30Ideal.τ).loc Cert.Reference30Ideal.main_arg17) = m' ((c.tc : Thread Cert.Reference30Ideal.nD Cert.Reference30Ideal.τ).loc Cert.Reference30Ideal.main_arg17)
          ∧ r.2.mem ((c.tc : Thread Cert.Reference30Ideal.nD Cert.Reference30Ideal.τ).loc Cert.Reference30Ideal.main_arg18) = m' ((c.tc : Thread Cert.Reference30Ideal.nD Cert.Reference30Ideal.τ).loc Cert.Reference30Ideal.main_arg18)
          ∧ r.2.mem ((c.tc : Thread Cert.Reference30Ideal.nD Cert.Reference30Ideal.τ).loc Cert.Reference30Ideal.main_arg19) = m' ((c.tc : Thread Cert.Reference30Ideal.nD Cert.Reference30Ideal.τ).loc Cert.Reference30Ideal.main_arg19)
          ∧ r.2.mem ((c.tc : Thread Cert.Reference30Ideal.nD Cert.Reference30Ideal.τ).loc Cert.Reference30Ideal.main_arg20) = m' ((c.tc : Thread Cert.Reference30Ideal.nD Cert.Reference30Ideal.τ).loc Cert.Reference30Ideal.main_arg20)
          ∧ r.2.mem ((c.tc : Thread Cert.Reference30Ideal.nD Cert.Reference30Ideal.τ).loc Cert.Reference30Ideal.main_arg21) = m' ((c.tc : Thread Cert.Reference30Ideal.nD Cert.Reference30Ideal.τ).loc Cert.Reference30Ideal.main_arg21)
          ∧ r.2.mem ((c.tc : Thread Cert.Reference30Ideal.nD Cert.Reference30Ideal.τ).loc Cert.Reference30Ideal.main_arg22) = m' ((c.tc : Thread Cert.Reference30Ideal.nD Cert.Reference30Ideal.τ).loc Cert.Reference30Ideal.main_arg22)
          ∧ r.2.mem ((c.tc : Thread Cert.Reference30Ideal.nD Cert.Reference30Ideal.τ).loc Cert.Reference30Ideal.main_arg23) = m' ((c.tc : Thread Cert.Reference30Ideal.nD Cert.Reference30Ideal.τ).loc Cert.Reference30Ideal.main_arg23)
          ∧ r.2.mem ((c.tc : Thread Cert.Reference30Ideal.nD Cert.Reference30Ideal.τ).loc Cert.Reference30Ideal.main_arg24) = m' ((c.tc : Thread Cert.Reference30Ideal.nD Cert.Reference30Ideal.τ).loc Cert.Reference30Ideal.main_arg24)
          ∧ r.2.mem ((c.tc : Thread Cert.Reference30Ideal.nD Cert.Reference30Ideal.τ).loc Cert.Reference30Ideal.main_arg25) = m' ((c.tc : Thread Cert.Reference30Ideal.nD Cert.Reference30Ideal.τ).loc Cert.Reference30Ideal.main_arg25)
          ∧ r.2.mem ((c.tc : Thread Cert.Reference30Ideal.nD Cert.Reference30Ideal.τ).loc Cert.Reference30Ideal.main_arg26) = m' ((c.tc : Thread Cert.Reference30Ideal.nD Cert.Reference30Ideal.τ).loc Cert.Reference30Ideal.main_arg26)
          ∧ r.2.mem ((c.tc : Thread Cert.Reference30Ideal.nD Cert.Reference30Ideal.τ).loc Cert.Reference30Ideal.main_arg27) = m' ((c.tc : Thread Cert.Reference30Ideal.nD Cert.Reference30Ideal.τ).loc Cert.Reference30Ideal.main_arg27)
          ∧ r.2.mem ((c.tc : Thread Cert.Reference30Ideal.nD Cert.Reference30Ideal.τ).loc Cert.Reference30Ideal.main_arg28) = m' ((c.tc : Thread Cert.Reference30Ideal.nD Cert.Reference30Ideal.τ).loc Cert.Reference30Ideal.main_arg28)
          ∧ r.2.mem ((c.tc : Thread Cert.Reference30Ideal.nD Cert.Reference30Ideal.τ).loc Cert.Reference30Ideal.main_arg29) = m' ((c.tc : Thread Cert.Reference30Ideal.nD Cert.Reference30Ideal.τ).loc Cert.Reference30Ideal.main_arg29)
          ∧ r.2.mem ((c.tc : Thread Cert.Reference30Ideal.nD Cert.Reference30Ideal.τ).loc Cert.Reference30Ideal.main_arg30) = m' ((c.tc : Thread Cert.Reference30Ideal.nD Cert.Reference30Ideal.τ).loc Cert.Reference30Ideal.main_arg30)
          ∧ r.2.mem ((c.tc : Thread Cert.Reference30Ideal.nD Cert.Reference30Ideal.τ).loc Cert.Reference30Ideal.main_arg31) = m' ((c.tc : Thread Cert.Reference30Ideal.nD Cert.Reference30Ideal.τ).loc Cert.Reference30Ideal.main_arg31)
          ∧ r.2.mem ((c.tc : Thread Cert.Reference30Ideal.nD Cert.Reference30Ideal.τ).loc Cert.Reference30Ideal.main_arg32) = m' ((c.tc : Thread Cert.Reference30Ideal.nD Cert.Reference30Ideal.τ).loc Cert.Reference30Ideal.main_arg32)
          ∧ r.2.mem ((c.tc : Thread Cert.Reference30Ideal.nD Cert.Reference30Ideal.τ).loc Cert.Reference30Ideal.main_arg33) = m' ((c.tc : Thread Cert.Reference30Ideal.nD Cert.Reference30Ideal.τ).loc Cert.Reference30Ideal.main_arg33)
          ∧ r.2.mem ((c.tc : Thread Cert.Reference30Ideal.nD Cert.Reference30Ideal.τ).loc Cert.Reference30Ideal.main_arg34) = m' ((c.tc : Thread Cert.Reference30Ideal.nD Cert.Reference30Ideal.τ).loc Cert.Reference30Ideal.main_arg34)
          ∧ r.2.mem ((c.tc : Thread Cert.Reference30Ideal.nD Cert.Reference30Ideal.τ).loc Cert.Reference30Ideal.main_arg35) = m' ((c.tc : Thread Cert.Reference30Ideal.nD Cert.Reference30Ideal.τ).loc Cert.Reference30Ideal.main_arg35)
          ∧ r.2.mem ((c.tc : Thread Cert.Reference30Ideal.nD Cert.Reference30Ideal.τ).loc Cert.Reference30Ideal.main_arg36) = m' ((c.tc : Thread Cert.Reference30Ideal.nD Cert.Reference30Ideal.τ).loc Cert.Reference30Ideal.main_arg36)
          ∧ r.2.mem ((c.tc : Thread Cert.Reference30Ideal.nD Cert.Reference30Ideal.τ).loc Cert.Reference30Ideal.main_arg37) = m' ((c.tc : Thread Cert.Reference30Ideal.nD Cert.Reference30Ideal.τ).loc Cert.Reference30Ideal.main_arg37)
          ∧ r.2.mem ((c.tc : Thread Cert.Reference30Ideal.nD Cert.Reference30Ideal.τ).loc Cert.Reference30Ideal.main_arg38) = m' ((c.tc : Thread Cert.Reference30Ideal.nD Cert.Reference30Ideal.τ).loc Cert.Reference30Ideal.main_arg38)
          ∧ r.2.mem ((c.tc : Thread Cert.Reference30Ideal.nD Cert.Reference30Ideal.τ).loc Cert.Reference30Ideal.main_arg39) = m' ((c.tc : Thread Cert.Reference30Ideal.nD Cert.Reference30Ideal.τ).loc Cert.Reference30Ideal.main_arg39)
          ∧ r.2.mem ((c.tc : Thread Cert.Reference30Ideal.nD Cert.Reference30Ideal.τ).loc Cert.Reference30Ideal.main_arg40) = m' ((c.tc : Thread Cert.Reference30Ideal.nD Cert.Reference30Ideal.τ).loc Cert.Reference30Ideal.main_arg40)
          ∧ r.2.mem ((c.tc : Thread Cert.Reference30Ideal.nD Cert.Reference30Ideal.τ).loc Cert.Reference30Ideal.main_arg41) = m' ((c.tc : Thread Cert.Reference30Ideal.nD Cert.Reference30Ideal.τ).loc Cert.Reference30Ideal.main_arg41)
          ∧ r.2.mem ((c.tc : Thread Cert.Reference30Ideal.nD Cert.Reference30Ideal.τ).loc Cert.Reference30Ideal.main_arg42) = m' ((c.tc : Thread Cert.Reference30Ideal.nD Cert.Reference30Ideal.τ).loc Cert.Reference30Ideal.main_arg42)
          ∧ r.2.mem ((c.tc : Thread Cert.Reference30Ideal.nD Cert.Reference30Ideal.τ).loc Cert.Reference30Ideal.main_arg43) = m' ((c.tc : Thread Cert.Reference30Ideal.nD Cert.Reference30Ideal.τ).loc Cert.Reference30Ideal.main_arg43)
          ∧ r.2.mem ((c.tc : Thread Cert.Reference30Ideal.nD Cert.Reference30Ideal.τ).loc Cert.Reference30Ideal.main_arg44) = m' ((c.tc : Thread Cert.Reference30Ideal.nD Cert.Reference30Ideal.τ).loc Cert.Reference30Ideal.main_arg44)
          ∧ r.2.mem ((c.tc : Thread Cert.Reference30Ideal.nD Cert.Reference30Ideal.τ).loc Cert.Reference30Ideal.main_arg45) = m' ((c.tc : Thread Cert.Reference30Ideal.nD Cert.Reference30Ideal.τ).loc Cert.Reference30Ideal.main_arg45)
          ∧ r.2.mem ((c.tc : Thread Cert.Reference30Ideal.nD Cert.Reference30Ideal.τ).loc Cert.Reference30Ideal.main_arg46) = m' ((c.tc : Thread Cert.Reference30Ideal.nD Cert.Reference30Ideal.τ).loc Cert.Reference30Ideal.main_arg46)
          ∧ r.2.mem ((c.tc : Thread Cert.Reference30Ideal.nD Cert.Reference30Ideal.τ).loc Cert.Reference30Ideal.main_arg47) = m' ((c.tc : Thread Cert.Reference30Ideal.nD Cert.Reference30Ideal.τ).loc Cert.Reference30Ideal.main_arg47))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)) →
    ∃ (v0 : (c : Dev Cert.Kernel31Ideal.nD) → Buf (Elt Ideal) ((c.tc : Thread Cert.Kernel31Ideal.nD Cert.Kernel31Ideal.τ).loc Cert.Kernel31Ideal.main_v0_0)) (v1 : (c : Dev Cert.Kernel31Ideal.nD) → Buf (Elt Ideal) ((c.tc : Thread Cert.Kernel31Ideal.nD Cert.Kernel31Ideal.τ).loc Cert.Kernel31Ideal.main_v0_1)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0_0) = v0 c
          ∧ r.2.mem ((c.tc : Thread Cert.Kernel31Ideal.nD Cert.Kernel31Ideal.τ).loc Cert.Kernel31Ideal.main_v0_1) = v1 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v35) = v0 c
          ∧ r.2.mem ((c.tc : Thread Cert.Reference31Ideal.nD Cert.Reference31Ideal.τ).loc Cert.Reference31Ideal.main_v18) = v1 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)) →
    ∃ (v0 : (c : Dev Cert.Kernel32Ideal.nD) → Buf (Elt Ideal) ((c.tc : Thread Cert.Kernel32Ideal.nD Cert.Kernel32Ideal.τ).loc Cert.Kernel32Ideal.main_v0_0)) (v1 : (c : Dev Cert.Kernel32Ideal.nD) → Buf (Elt Ideal) ((c.tc : Thread Cert.Kernel32Ideal.nD Cert.Kernel32Ideal.τ).loc Cert.Kernel32Ideal.main_v0_1)) (v2 : (c : Dev Cert.Kernel32Ideal.nD) → Buf (Elt Ideal) ((c.tc : Thread Cert.Kernel32Ideal.nD Cert.Kernel32Ideal.τ).loc Cert.Kernel32Ideal.main_v0_2)) (v3 : (c : Dev Cert.Kernel32Ideal.nD) → Buf (Elt Ideal) ((c.tc : Thread Cert.Kernel32Ideal.nD Cert.Kernel32Ideal.τ).loc Cert.Kernel32Ideal.main_v0_3)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0_0) = v0 c
          ∧ r.2.mem ((c.tc : Thread Cert.Kernel32Ideal.nD Cert.Kernel32Ideal.τ).loc Cert.Kernel32Ideal.main_v0_1) = v1 c
          ∧ r.2.mem ((c.tc : Thread Cert.Kernel32Ideal.nD Cert.Kernel32Ideal.τ).loc Cert.Kernel32Ideal.main_v0_2) = v2 c
          ∧ r.2.mem ((c.tc : Thread Cert.Kernel32Ideal.nD Cert.Kernel32Ideal.τ).loc Cert.Kernel32Ideal.main_v0_3) = v3 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v49) = v0 c
          ∧ r.2.mem ((c.tc : Thread Cert.Reference32Ideal.nD Cert.Reference32Ideal.τ).loc Cert.Reference32Ideal.main_v50) = v1 c
          ∧ r.2.mem ((c.tc : Thread Cert.Reference32Ideal.nD Cert.Reference32Ideal.τ).loc Cert.Reference32Ideal.main_v33) = v2 c
          ∧ r.2.mem ((c.tc : Thread Cert.Reference32Ideal.nD Cert.Reference32Ideal.τ).loc Cert.Reference32Ideal.main_v51) = v3 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
-- ==== Kernel.lean ====
abbrev S4096x8192 : Shape := ⟨2, ![4096, 8192]⟩
abbrev S3x1024 : Shape := ⟨2, ![3, 1024]⟩
abbrev S1x1024 : Shape := ⟨2, ![1, 1024]⟩
abbrev S4096x1024 : Shape := ⟨2, ![4096, 1024]⟩
abbrev S4096x128 : Shape := ⟨2, ![4096, 128]⟩
abbrev S3x128 : Shape := ⟨2, ![3, 128]⟩
abbrev S1x128 : Shape := ⟨2, ![1, 128]⟩
abbrev S128 : Shape := ⟨1, ![128]⟩

abbrev nBuf : Space → Nat
  | .hbm => 9
  | .vmem => 22
  | .smem => 0
  | _ => 0

abbrev bufTy : (tb : Table) → Fin (tcTables nBuf tb) → BufTy
  | .hbm, ⟨0, _⟩ => ⟨S4096x8192, .bf16⟩
  | .hbm, ⟨1, _⟩ => ⟨S3x1024, .f32⟩
  | .hbm, ⟨2, _⟩ => ⟨S1x1024, .f32⟩
  | .hbm, ⟨3, _⟩ => ⟨S4096x1024, .bf16⟩
  | .hbm, ⟨4, _⟩ => ⟨S4096x1024, .bf16⟩
  | .hbm, ⟨5, _⟩ => ⟨S4096x1024, .bf16⟩
  | .hbm, ⟨6, _⟩ => ⟨S4096x1024, .bf16⟩
  | .hbm, ⟨7, _⟩ => ⟨S3x1024, .f32⟩
  | .hbm, ⟨8, _⟩ => ⟨S1x1024, .f32⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S3x128, .f32⟩
  | .local _ .vmem, ⟨7, _⟩ => ⟨S3x128, .f32⟩
  | .local _ .vmem, ⟨8, _⟩ => ⟨S1x128, .f32⟩
  | .local _ .vmem, ⟨9, _⟩ => ⟨S1x128, .f32⟩
  | .local _ .vmem, ⟨10, _⟩ => ⟨S4096x128, .bf16⟩
  | .local _ .vmem, ⟨11, _⟩ => ⟨S4096x128, .bf16⟩
  | .local _ .vmem, ⟨12, _⟩ => ⟨S4096x128, .bf16⟩
  | .local _ .vmem, ⟨13, _⟩ => ⟨S4096x128, .bf16⟩
  | .local _ .vmem, ⟨14, _⟩ => ⟨S4096x128, .bf16⟩
  | .local _ .vmem, ⟨15, _⟩ => ⟨S4096x128, .bf16⟩
  | .local _ .vmem, ⟨16, _⟩ => ⟨S4096x128, .bf16⟩
  | .local _ .vmem, ⟨17, _⟩ => ⟨S4096x128, .bf16⟩
  | .local _ .vmem, ⟨18, _⟩ => ⟨S3x128, .f32⟩
  | .local _ .vmem, ⟨19, _⟩ => ⟨S3x128, .f32⟩
  | .local _ .vmem, ⟨20, _⟩ => ⟨S1x128, .f32⟩
  | .local _ .vmem, ⟨21, _⟩ => ⟨S1x128, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c24_i32 : BitVec 32 := 24#32
  let v0 : BitVec 32 := Scalar.addi arg0 c24_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_9 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_10 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4096x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S3x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S4096x8192 : Shape := ⟨2, ![4096, 8192]⟩
abbrev S3x1024 : Shape := ⟨2, ![3, 1024]⟩
abbrev S1x1024 : Shape := ⟨2, ![1, 1024]⟩
abbrev S4096x1024 : Shape := ⟨2, ![4096, 1024]⟩
abbrev S_ : Shape := ⟨0, ![]⟩
abbrev S2x1024 : Shape := ⟨2, ![2, 1024]⟩
abbrev S4098x1024 : Shape := ⟨2, ![4098, 1024]⟩
abbrev S1024 : Shape := ⟨1, ![1024]⟩

abbrev nBuf : Space → Nat
  | .hbm => 83
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S3x1024, .f32⟩
  | .hbm, ⟨2, _⟩ => ⟨S1x1024, .f32⟩
  | .hbm, ⟨3, _⟩ => ⟨S4096x1024, .bf16⟩
  | .hbm, ⟨4, _⟩ => ⟨S4096x1024, .bf16⟩
  | .hbm, ⟨5, _⟩ => ⟨S4096x1024, .f32⟩
  | .hbm, ⟨6, _⟩ => ⟨S4096x1024, .bf16⟩
  | .hbm, ⟨7, _⟩ => ⟨S4096x1024, .f32⟩
  | .hbm, ⟨8, _⟩ => ⟨S4096x1024, .bf16⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S2x1024, .f32⟩
  | .hbm, ⟨13, _⟩ => ⟨S4098x1024, .f32⟩
  | .hbm, ⟨14, _⟩ => ⟨S_, .f32⟩
  | .hbm, ⟨15, _⟩ => ⟨S2x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S_, .f32⟩
  | .hbm, ⟨49, _⟩ => ⟨S4098x1024, .f32⟩
  | .hbm, ⟨50, _⟩ => ⟨S_, .f32⟩
  | .hbm, ⟨51, _⟩ => ⟨S3x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S_, .f32⟩
  | .hbm, ⟨59, _⟩ => ⟨S4098x1024, .f32⟩
  | .hbm, ⟨60, _⟩ => ⟨S4098x1024, .f32⟩
  | .hbm, ⟨61, _⟩ => ⟨S_, .f32⟩
  | .hbm, ⟨62, _⟩ => ⟨S3x1024, .f32⟩
  | .hbm, ⟨63, _⟩ => ⟨S3x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S_, .f32⟩
  | .hbm, ⟨68, _⟩ => ⟨S1024, .f32⟩
  | .hbm, ⟨69, _⟩ => ⟨S1x1024, .f32⟩
  | .hbm, ⟨70, _⟩ => ⟨S_, .f32⟩
  | .hbm, ⟨71, _⟩ => ⟨S4098x1024, .f32⟩
  | .hbm, ⟨72, _⟩ => ⟨S4098x1024, .f32⟩
  | .hbm, ⟨73, _⟩ => ⟨S_, .f32⟩
  | .hbm, ⟨74, _⟩ => ⟨S3x1024, .f32⟩
  | .hbm, ⟨75, _⟩ => ⟨S3x1024, .f32⟩
  | .hbm, ⟨76, _⟩ => ⟨S2x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .bf16⟩
  | .hbm, ⟨81, _⟩ => ⟨S4096x1024, .bf16⟩
  | .hbm, ⟨82, _⟩ => ⟨S4096x1024, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_2 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_3 : Ref sig .tc := ⟨.hbm, 45, rfl⟩
abbrev main_v37 : Ref sig .tc := ⟨.hbm, 46, rfl⟩
abbrev main_v38 : Ref sig .tc := ⟨.hbm, 47, rfl⟩
abbrev main_cst_4 : Ref sig .tc := ⟨.hbm, 48, rfl⟩
abbrev main_v39 : Ref sig .tc := ⟨.hbm, 49, rfl⟩
abbrev main_cst_5 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_6 : Ref sig .tc := ⟨.hbm, 55, rfl⟩
abbrev main_v44 : Ref sig .tc := ⟨.hbm, 56, rfl⟩
abbrev main_v45 : Ref sig .tc := ⟨.hbm, 57, rfl⟩
abbrev main_cst_7 : Ref sig .tc := ⟨.hbm, 58, rfl⟩
abbrev main_v46 : Ref sig .tc := ⟨.hbm, 59, rfl⟩
abbrev main_v47 : Ref sig .tc := ⟨.hbm, 60, rfl⟩
abbrev main_cst_8 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_9 : Ref sig .tc := ⟨.hbm, 67, rfl⟩
abbrev main_v53 : Ref sig .tc := ⟨.hbm, 68, rfl⟩
abbrev main_v54 : Ref sig .tc := ⟨.hbm, 69, rfl⟩
abbrev main_cst_10 : Ref sig .tc := ⟨.hbm, 70, rfl⟩
abbrev main_v55 : Ref sig .tc := ⟨.hbm, 71, rfl⟩
abbrev main_v56 : Ref sig .tc := ⟨.hbm, 72, rfl⟩
abbrev main_cst_11 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩

abbrev nD : Nat := 1
abbrev τ : Topo := Topo.v7x

variable {F : FTy → Type} [FloatOps F]
-- ==== Kernel2.lean ====
abbrev S4096x2048 : Shape := ⟨2, ![4096, 2048]⟩
abbrev S2x4096x5632 : Shape := ⟨3, ![2, 4096, 5632]⟩
abbrev S2048x11264 : Shape := ⟨2, ![2048, 11264]⟩
abbrev S4096x1024 : Shape := ⟨2, ![4096, 1024]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2x4096x5632, .bf16⟩
  | .hbm, ⟨2, _⟩ => ⟨S2048x11264, .bf16⟩
  | .local _ .vmem, ⟨0, _⟩ => ⟨S4096x1024, .bf16⟩
  | .local _ .vmem, ⟨1, _⟩ => ⟨S4096x1024, .bf16⟩
  | .local _ .vmem, ⟨2, _⟩ => ⟨S1x4096x512, .bf16⟩
  | .local _ .vmem, ⟨3, _⟩ => ⟨S1x4096x512, .bf16⟩
  | .local _ .vmem, ⟨4, _⟩ => ⟨S1024x512, .bf16⟩
  | .local _ .vmem, ⟨5, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 22, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.divsi arg1 c11_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c11_i32 c0_i32_1
  let v7 : BitVec 32 := Scalar.extui v6
  let c0_i32_2 : BitVec 32 := 0#32
  let v8 : BitVec 1 := Scalar.cmpi .slt c11_i32 c0_i32_2
  let v9 : BitVec 32 := Scalar.extui v8
  let v10 : BitVec 32 := Scalar.subi v7 v9
  let v11 : BitVec 1 := Scalar.cmpi .ne v5 v10
  let v12 : BitVec 32 := Scalar.remsi arg1 c11_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c11_i32_4 : BitVec 32 := 11#32
  let c0_i32_5 : BitVec 32 := 0#32
  let v17 : BitVec 1 := Scalar.cmpi .eq c11_i32_4 c0_i32_5
  let c1_i32_6 : BitVec 32 := 1#32
  let v18 : BitVec 32 := Scalar.select v17 c1_i32_6 c11_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4096x2048 : Shape := ⟨2, ![4096, 2048]⟩
abbrev S2x4096x5632 : Shape := ⟨3, ![2, 4096, 5632]⟩
abbrev S1x4096x5632 : Shape := ⟨3, ![1, 4096, 5632]⟩
abbrev S4096x5632 : Shape := ⟨2, ![4096, 5632]⟩
abbrev S4096x11264 : Shape := ⟨2, ![4096, 11264]⟩
abbrev S_ : Shape := ⟨0, ![]⟩
abbrev S2048x11264 : Shape := ⟨2, ![2048, 11264]⟩
abbrev S11264x2048 : Shape := ⟨2, ![11264, 2048]⟩

abbrev nBuf : Space → Nat
  | .hbm => 17
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2x4096x5632, .bf16⟩
  | .hbm, ⟨2, _⟩ => ⟨S1x4096x5632, .bf16⟩
  | .hbm, ⟨3, _⟩ => ⟨S4096x5632, .bf16⟩
  | .hbm, ⟨4, _⟩ => ⟨S1x4096x5632, .bf16⟩
  | .hbm, ⟨5, _⟩ => ⟨S4096x5632, .bf16⟩
  | .hbm, ⟨6, _⟩ => ⟨S4096x11264, .bf16⟩
  | .hbm, ⟨7, _⟩ => ⟨S_, .bf16⟩
  | .hbm, ⟨8, _⟩ => ⟨S2048x11264, .bf16⟩
  | .hbm, ⟨9, _⟩ => ⟨S4096x2048, .f32⟩
  | .hbm, ⟨10, _⟩ => ⟨S2048x11264, .f32⟩
  | .hbm, ⟨11, _⟩ => ⟨S4096x11264, .f32⟩
  | .hbm, ⟨12, _⟩ => ⟨S4096x11264, .bf16⟩
  | .hbm, ⟨13, _⟩ => ⟨S4096x11264, .f32⟩
  | .hbm, ⟨14, _⟩ => ⟨S11264x2048, .f32⟩
  | .hbm, ⟨15, _⟩ => ⟨S2048x11264, .f32⟩
  | .hbm, ⟨16, _⟩ => ⟨S2048x11264, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Kernel3.lean ====
abbrev S4096x2048 : Shape := ⟨2, ![4096, 2048]⟩
abbrev S4096x8192 : Shape := ⟨2, ![4096, 8192]⟩
abbrev S2048x8192 : Shape := ⟨2, ![2048, 8192]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S2048x8192, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x2048 : Shape := ⟨2, ![4096, 2048]⟩
abbrev S4096x8192 : Shape := ⟨2, ![4096, 8192]⟩
abbrev S_ : Shape := ⟨0, ![]⟩
abbrev S2048x8192 : Shape := ⟨2, ![2048, 8192]⟩
abbrev S8192x2048 : Shape := ⟨2, ![8192, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S_, .bf16⟩
  | .hbm, ⟨3, _⟩ => ⟨S2048x8192, .bf16⟩
  | .hbm, ⟨4, _⟩ => ⟨S4096x2048, .f32⟩
  | .hbm, ⟨5, _⟩ => ⟨S2048x8192, .f32⟩
  | .hbm, ⟨6, _⟩ => ⟨S4096x8192, .f32⟩
  | .hbm, ⟨7, _⟩ => ⟨S4096x8192, .bf16⟩
  | .hbm, ⟨8, _⟩ => ⟨S4096x8192, .f32⟩
  | .hbm, ⟨9, _⟩ => ⟨S8192x2048, .f32⟩
  | .hbm, ⟨10, _⟩ => ⟨S2048x8192, .f32⟩
  | .hbm, ⟨11, _⟩ => ⟨S2048x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel4.lean ====
abbrev S4096x2048 : Shape := ⟨2, ![4096, 2048]⟩
abbrev S2048x8192 : Shape := ⟨2, ![2048, 8192]⟩
abbrev S4096x8192 : Shape := ⟨2, ![4096, 8192]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x2048 : Shape := ⟨2, ![4096, 2048]⟩
abbrev S2048x8192 : Shape := ⟨2, ![2048, 8192]⟩
abbrev S4096x8192 : Shape := ⟨2, ![4096, 8192]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S4096x2048, .f32⟩
  | .hbm, ⟨3, _⟩ => ⟨S2048x8192, .f32⟩
  | .hbm, ⟨4, _⟩ => ⟨S4096x8192, .f32⟩
  | .hbm, ⟨5, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel5.lean ====
abbrev S4096x5632 : Shape := ⟨2, ![4096, 5632]⟩
abbrev S4096x2048 : Shape := ⟨2, ![4096, 2048]⟩
abbrev S5632x2048 : Shape := ⟨2, ![5632, 2048]⟩
abbrev S4096x1408 : Shape := ⟨2, ![4096, 1408]⟩
abbrev S4096x512 : Shape := ⟨2, ![4096, 512]⟩
abbrev S1408x512 : Shape := ⟨2, ![1408, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S5632x2048, .bf16⟩
  | .local _ .vmem, ⟨0, _⟩ => ⟨S4096x1408, .bf16⟩
  | .local _ .vmem, ⟨1, _⟩ => ⟨S4096x1408, .bf16⟩
  | .local _ .vmem, ⟨2, _⟩ => ⟨S4096x512, .bf16⟩
  | .local _ .vmem, ⟨3, _⟩ => ⟨S4096x512, .bf16⟩
  | .local _ .vmem, ⟨4, _⟩ => ⟨S1408x512, .bf16⟩
  | .local _ .vmem, ⟨5, _⟩ => ⟨S1408x512, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 12
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S_, .bf16⟩
  | .hbm, ⟨3, _⟩ => ⟨S5632x2048, .bf16⟩
  | .hbm, ⟨4, _⟩ => ⟨S4096x5632, .f32⟩
  | .hbm, ⟨5, _⟩ => ⟨S5632x2048, .f32⟩
  | .hbm, ⟨6, _⟩ => ⟨S4096x2048, .f32⟩
  | .hbm, ⟨7, _⟩ => ⟨S4096x2048, .bf16⟩
  | .hbm, ⟨8, _⟩ => ⟨S4096x2048, .f32⟩
  | .hbm, ⟨9, _⟩ => ⟨S2048x5632, .f32⟩
  | .hbm, ⟨10, _⟩ => ⟨S5632x2048, .f32⟩
  | .hbm, ⟨11, _⟩ => ⟨S5632x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel6.lean ====
abbrev S4096x2048 : Shape := ⟨2, ![4096, 2048]⟩
abbrev S2048x2048 : Shape := ⟨2, ![2048, 2048]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .bf16⟩
  | .hbm, ⟨3, _⟩ => ⟨S2048x2048, .bf16⟩
  | .hbm, ⟨4, _⟩ => ⟨S4096x2048, .f32⟩
  | .hbm, ⟨5, _⟩ => ⟨S2048x2048, .f32⟩
  | .hbm, ⟨6, _⟩ => ⟨S4096x2048, .f32⟩
  | .hbm, ⟨7, _⟩ => ⟨S4096x2048, .bf16⟩
  | .hbm, ⟨8, _⟩ => ⟨S4096x2048, .f32⟩
  | .hbm, ⟨9, _⟩ => ⟨S2048x2048, .f32⟩
  | .hbm, ⟨10, _⟩ => ⟨S2048x2048, .f32⟩
  | .hbm, ⟨11, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel7.lean ====
abbrev S4096x1024 : Shape := ⟨2, ![4096, 1024]⟩
abbrev S4096x2048 : Shape := ⟨2, ![4096, 2048]⟩
abbrev S1024x2048 : Shape := ⟨2, ![1024, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S1024x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1024x1024, .bf16⟩
  | .local _ .vmem, ⟨4, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S_, .bf16⟩
  | .hbm, ⟨3, _⟩ => ⟨S1024x2048, .bf16⟩
  | .hbm, ⟨4, _⟩ => ⟨S4096x1024, .f32⟩
  | .hbm, ⟨5, _⟩ => ⟨S1024x2048, .f32⟩
  | .hbm, ⟨6, _⟩ => ⟨S4096x2048, .f32⟩
  | .hbm, ⟨7, _⟩ => ⟨S4096x2048, .bf16⟩
  | .hbm, ⟨8, _⟩ => ⟨S4096x2048, .f32⟩
  | .hbm, ⟨9, _⟩ => ⟨S2048x1024, .f32⟩
  | .hbm, ⟨10, _⟩ => ⟨S1024x2048, .f32⟩
  | .hbm, ⟨11, _⟩ => ⟨S1024x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel8.lean ====
abbrev S4096x1024 : Shape := ⟨2, ![4096, 1024]⟩
abbrev S4096x2048 : Shape := ⟨2, ![4096, 2048]⟩
abbrev S1024x2048 : Shape := ⟨2, ![1024, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S1024x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1024x1024, .bf16⟩
  | .local _ .vmem, ⟨4, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S_, .bf16⟩
  | .hbm, ⟨3, _⟩ => ⟨S1024x2048, .bf16⟩
  | .hbm, ⟨4, _⟩ => ⟨S4096x1024, .f32⟩
  | .hbm, ⟨5, _⟩ => ⟨S1024x2048, .f32⟩
  | .hbm, ⟨6, _⟩ => ⟨S4096x2048, .f32⟩
  | .hbm, ⟨7, _⟩ => ⟨S4096x2048, .bf16⟩
  | .hbm, ⟨8, _⟩ => ⟨S4096x2048, .f32⟩
  | .hbm, ⟨9, _⟩ => ⟨S2048x1024, .f32⟩
  | .hbm, ⟨10, _⟩ => ⟨S1024x2048, .f32⟩
  | .hbm, ⟨11, _⟩ => ⟨S1024x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel9.lean ====
abbrev S4096x1024 : Shape := ⟨2, ![4096, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S4096x1024, .bf16⟩
  | .local _ .vmem, ⟨1, _⟩ => ⟨S4096x1024, .bf16⟩
  | .local _ .vmem, ⟨2, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .bf16⟩
  | .hbm, ⟨3, _⟩ => ⟨S1024x1024, .bf16⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S4096x1024, .bf16⟩
  | .hbm, ⟨8, _⟩ => ⟨S4096x1024, .f32⟩
  | .hbm, ⟨9, _⟩ => ⟨S1024x1024, .f32⟩
  | .hbm, ⟨10, _⟩ => ⟨S1024x1024, .f32⟩
  | .hbm, ⟨11, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel10.lean ====
abbrev S4096x2048 : Shape := ⟨2, ![4096, 2048]⟩
abbrev S1024x2048 : Shape := ⟨2, ![1024, 2048]⟩
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S4096x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x1024, .bf16⟩
  | .local _ .vmem, ⟨4, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x2048 : Shape := ⟨2, ![4096, 2048]⟩
abbrev S1024x2048 : Shape := ⟨2, ![1024, 2048]⟩
abbrev S_ : Shape := ⟨0, ![]⟩
abbrev S4096x1024 : Shape := ⟨2, ![4096, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S_, .bf16⟩
  | .hbm, ⟨3, _⟩ => ⟨S4096x1024, .bf16⟩
  | .hbm, ⟨4, _⟩ => ⟨S4096x1024, .f32⟩
  | .hbm, ⟨5, _⟩ => ⟨S1024x2048, .f32⟩
  | .hbm, ⟨6, _⟩ => ⟨S4096x2048, .f32⟩
  | .hbm, ⟨7, _⟩ => ⟨S4096x2048, .bf16⟩
  | .hbm, ⟨8, _⟩ => ⟨S4096x2048, .f32⟩
  | .hbm, ⟨9, _⟩ => ⟨S4096x1024, .f32⟩
  | .hbm, ⟨10, _⟩ => ⟨S4096x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel11.lean ====
abbrev S4096x2048 : Shape := ⟨2, ![4096, 2048]⟩
abbrev S1024x2048 : Shape := ⟨2, ![1024, 2048]⟩
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S4096x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x1024, .bf16⟩
  | .local _ .vmem, ⟨4, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x2048 : Shape := ⟨2, ![4096, 2048]⟩
abbrev S1024x2048 : Shape := ⟨2, ![1024, 2048]⟩
abbrev S_ : Shape := ⟨0, ![]⟩
abbrev S4096x1024 : Shape := ⟨2, ![4096, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S_, .bf16⟩
  | .hbm, ⟨3, _⟩ => ⟨S4096x1024, .bf16⟩
  | .hbm, ⟨4, _⟩ => ⟨S4096x1024, .f32⟩
  | .hbm, ⟨5, _⟩ => ⟨S1024x2048, .f32⟩
  | .hbm, ⟨6, _⟩ => ⟨S4096x2048, .f32⟩
  | .hbm, ⟨7, _⟩ => ⟨S4096x2048, .bf16⟩
  | .hbm, ⟨8, _⟩ => ⟨S4096x2048, .f32⟩
  | .hbm, ⟨9, _⟩ => ⟨S4096x1024, .f32⟩
  | .hbm, ⟨10, _⟩ => ⟨S4096x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel12.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .bf16⟩
  | .hbm, ⟨3, _⟩ => ⟨S4096x1024, .bf16⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S4096x1024, .bf16⟩
  | .hbm, ⟨8, _⟩ => ⟨S4096x1024, .f32⟩
  | .hbm, ⟨9, _⟩ => ⟨S4096x1024, .f32⟩
  | .hbm, ⟨10, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel13.lean ====
abbrev S4096x1024 : Shape := ⟨2, ![4096, 1024]⟩
abbrev S1024x2048 : Shape := ⟨2, ![1024, 2048]⟩
abbrev S4096x2048 : Shape := ⟨2, ![4096, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x1024 : Shape := ⟨2, ![4096, 1024]⟩
abbrev S1024x2048 : Shape := ⟨2, ![1024, 2048]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x1024, .f32⟩
  | .hbm, ⟨3, _⟩ => ⟨S1024x2048, .f32⟩
  | .hbm, ⟨4, _⟩ => ⟨S4096x2048, .f32⟩
  | .hbm, ⟨5, _⟩ => ⟨S4096x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel14.lean ====
abbrev S2x4096x5632 : Shape := ⟨3, ![2, 4096, 5632]⟩
abbrev S2048x11264 : Shape := ⟨2, ![2048, 11264]⟩
abbrev S4096x2048 : Shape := ⟨2, ![4096, 2048]⟩
abbrev S1x1024x2816 : Shape := ⟨3, ![1, 1024, 2816]⟩
abbrev S1024x2816 : Shape := ⟨2, ![1024, 2816]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2x4096x5632, .bf16⟩
  | .hbm, ⟨1, _⟩ => ⟨S2048x11264, .bf16⟩
  | .hbm, ⟨2, _⟩ => ⟨S4096x2048, .bf16⟩
  | .local _ .vmem, ⟨0, _⟩ => ⟨S1x1024x2816, .bf16⟩
  | .local _ .vmem, ⟨1, _⟩ => ⟨S1x1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2x4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S2x4096x5632 : Shape := ⟨3, ![2, 4096, 5632]⟩
abbrev S2048x11264 : Shape := ⟨2, ![2048, 11264]⟩
abbrev S1x4096x5632 : Shape := ⟨3, ![1, 4096, 5632]⟩
abbrev S4096x5632 : Shape := ⟨2, ![4096, 5632]⟩
abbrev S4096x11264 : Shape := ⟨2, ![4096, 11264]⟩
abbrev S_ : Shape := ⟨0, ![]⟩
abbrev S4096x2048 : Shape := ⟨2, ![4096, 2048]⟩

abbrev nBuf : Space → Nat
  | .hbm => 16
  | .vmem => 0
  | .smem => 0
  | _ => 0

abbrev bufTy : (tb : Table) → Fin (tcTables nBuf tb) → BufTy
  | .hbm, ⟨0, _⟩ => ⟨S2x4096x5632, .bf16⟩
  | .hbm, ⟨1, _⟩ => ⟨S2048x11264, .bf16⟩
  | .hbm, ⟨2, _⟩ => ⟨S1x4096x5632, .bf16⟩
  | .hbm, ⟨3, _⟩ => ⟨S4096x5632, .bf16⟩
  | .hbm, ⟨4, _⟩ => ⟨S1x4096x5632, .bf16⟩
  | .hbm, ⟨5, _⟩ => ⟨S4096x5632, .bf16⟩
  | .hbm, ⟨6, _⟩ => ⟨S4096x11264, .bf16⟩
  | .hbm, ⟨7, _⟩ => ⟨S_, .bf16⟩
  | .hbm, ⟨8, _⟩ => ⟨S4096x2048, .bf16⟩
  | .hbm, ⟨9, _⟩ => ⟨S4096x2048, .f32⟩
  | .hbm, ⟨10, _⟩ => ⟨S2048x11264, .f32⟩
  | .hbm, ⟨11, _⟩ => ⟨S4096x11264, .f32⟩
  | .hbm, ⟨12, _⟩ => ⟨S4096x11264, .bf16⟩
  | .hbm, ⟨13, _⟩ => ⟨S4096x11264, .f32⟩
  | .hbm, ⟨14, _⟩ => ⟨S4096x2048, .f32⟩
  | .hbm, ⟨15, _⟩ => ⟨S4096x2048, .bf16⟩
  | _, _ => ⟨S2x4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Kernel15.lean ====
abbrev S4096x8192 : Shape := ⟨2, ![4096, 8192]⟩
abbrev S2048x8192 : Shape := ⟨2, ![2048, 8192]⟩
abbrev S4096x2048 : Shape := ⟨2, ![4096, 2048]⟩
abbrev S1024x4096 : Shape := ⟨2, ![1024, 4096]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S2048x8192, .bf16⟩
  | .hbm, ⟨2, _⟩ => ⟨S4096x2048, .bf16⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S4096x8192 : Shape := ⟨2, ![4096, 8192]⟩
abbrev S2048x8192 : Shape := ⟨2, ![2048, 8192]⟩
abbrev S_ : Shape := ⟨0, ![]⟩
abbrev S4096x2048 : Shape := ⟨2, ![4096, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S2048x8192, .bf16⟩
  | .hbm, ⟨2, _⟩ => ⟨S_, .bf16⟩
  | .hbm, ⟨3, _⟩ => ⟨S4096x2048, .bf16⟩
  | .hbm, ⟨4, _⟩ => ⟨S4096x2048, .f32⟩
  | .hbm, ⟨5, _⟩ => ⟨S2048x8192, .f32⟩
  | .hbm, ⟨6, _⟩ => ⟨S4096x8192, .f32⟩
  | .hbm, ⟨7, _⟩ => ⟨S4096x8192, .bf16⟩
  | .hbm, ⟨8, _⟩ => ⟨S4096x8192, .f32⟩
  | .hbm, ⟨9, _⟩ => ⟨S4096x2048, .f32⟩
  | .hbm, ⟨10, _⟩ => ⟨S4096x2048, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel16.lean ====
abbrev S4096x5632 : Shape := ⟨2, ![4096, 5632]⟩
abbrev S5632x2048 : Shape := ⟨2, ![5632, 2048]⟩
abbrev S4096x2048 : Shape := ⟨2, ![4096, 2048]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S4096x5632 : Shape := ⟨2, ![4096, 5632]⟩
abbrev S5632x2048 : Shape := ⟨2, ![5632, 2048]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x5632, .f32⟩
  | .hbm, ⟨3, _⟩ => ⟨S5632x2048, .f32⟩
  | .hbm, ⟨4, _⟩ => ⟨S4096x2048, .f32⟩
  | .hbm, ⟨5, _⟩ => ⟨S4096x2048, .bf16⟩
  | .hbm, ⟨6, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel17.lean ====
abbrev S4096x2048 : Shape := ⟨2, ![4096, 2048]⟩
abbrev S2048x2048 : Shape := ⟨2, ![2048, 2048]⟩
abbrev S4096x8192 : Shape := ⟨2, ![4096, 8192]⟩
abbrev S256x2048 : Shape := ⟨2, ![256, 2048]⟩
abbrev S128x2048 : Shape := ⟨2, ![128, 2048]⟩

abbrev nBuf : Space → Nat
  | .hbm => 9
  | .vmem => 19
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x8192, .bf16⟩
  | .hbm, ⟨3, _⟩ => ⟨S4096x2048, .bf16⟩
  | .hbm, ⟨4, _⟩ => ⟨S4096x2048, .bf16⟩
  | .hbm, ⟨5, _⟩ => ⟨S4096x2048, .bf16⟩
  | .hbm, ⟨6, _⟩ => ⟨S4096x2048, .bf16⟩
  | .hbm, ⟨7, _⟩ => ⟨S4096x2048, .bf16⟩
  | .hbm, ⟨8, _⟩ => ⟨S4096x2048, .bf16⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S256x2048, .bf16⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S256x2048, .bf16⟩
  | .local _ .vmem, ⟨15, _⟩ => ⟨S256x2048, .bf16⟩
  | .local _ .vmem, ⟨16, _⟩ => ⟨S256x2048, .bf16⟩
  | .local _ .vmem, ⟨17, _⟩ => ⟨S256x2048, .bf16⟩
  | .local _ .vmem, ⟨18, _⟩ => ⟨S256x2048, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference17Ideal.lean ====
abbrev S4096x2048 : Shape := ⟨2, ![4096, 2048]⟩
abbrev S2048x2048 : Shape := ⟨2, ![2048, 2048]⟩
abbrev S4096x8192 : Shape := ⟨2, ![4096, 8192]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x8192, .bf16⟩
  | .hbm, ⟨3, _⟩ => ⟨S4096x2048, .bf16⟩
  | .hbm, ⟨4, _⟩ => ⟨S4096x2048, .bf16⟩
  | .hbm, ⟨5, _⟩ => ⟨S4096x2048, .bf16⟩
  | .hbm, ⟨6, _⟩ => ⟨S4096x2048, .f32⟩
  | .hbm, ⟨7, _⟩ => ⟨S4096x2048, .bf16⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S4096x2048, .f32⟩
  | .hbm, ⟨31, _⟩ => ⟨S4096x2048, .f32⟩
  | .hbm, ⟨32, _⟩ => ⟨S_, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S2048x2048, .f32⟩
  | .hbm, ⟨39, _⟩ => ⟨S4096x2048, .f32⟩
  | .hbm, ⟨40, _⟩ => ⟨S4096x2048, .bf16⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .bf16⟩
  | .hbm, ⟨50, _⟩ => ⟨S4096x2048, .bf16⟩
  | .hbm, ⟨51, _⟩ => ⟨S4096x2048, .bf16⟩
  | .hbm, ⟨52, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩

abbrev nD : Nat := 1
abbrev τ : Topo := Topo.v7x

variable {F : FTy → Type} [FloatOps F]
-- ==== Kernel18.lean ====
abbrev S8x2048x1024 : Shape := ⟨3, ![8, 2048, 1024]⟩
abbrev S2048x1024 : Shape := ⟨2, ![2048, 1024]⟩
abbrev S8x256x1024 : Shape := ⟨3, ![8, 256, 1024]⟩
abbrev S256x1024 : Shape := ⟨2, ![256, 1024]⟩
abbrev S1x256x1024 : Shape := ⟨3, ![1, 256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x2048x1024, .bf16⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .local _ .vmem, ⟨0, _⟩ => ⟨S8x256x1024, .bf16⟩
  | .local _ .vmem, ⟨1, _⟩ => ⟨S8x256x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S8x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference18Ideal.lean ====
abbrev S8x2048x1024 : Shape := ⟨3, ![8, 2048, 1024]⟩
abbrev S2048x1024 : Shape := ⟨2, ![2048, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x2048x1024, .bf16⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S8x2048x1024, .f32⟩
  | .hbm, ⟨5, _⟩ => ⟨S_, .f32⟩
  | .hbm, ⟨6, _⟩ => ⟨S2048x1024, .f32⟩
  | .hbm, ⟨7, _⟩ => ⟨S_, .f32⟩
  | .hbm, ⟨8, _⟩ => ⟨S2048x1024, .f32⟩
  | .hbm, ⟨9, _⟩ => ⟨S2048x1024, .f32⟩
  | .hbm, ⟨10, _⟩ => ⟨S_, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S_, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S_, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S_, .f32⟩
  | .hbm, ⟨38, _⟩ => ⟨S2048x1024, .f32⟩
  | .hbm, ⟨39, _⟩ => ⟨S2048x1024, .f32⟩
  | _, _ => ⟨S8x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel19.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S8x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference19Ideal.lean ====
abbrev S8x128x1024 : Shape := ⟨3, ![8, 128, 1024]⟩
abbrev S128x1024 : Shape := ⟨2, ![128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel20.lean ====
abbrev S8x1024x256 : Shape := ⟨3, ![8, 1024, 256]⟩
abbrev S1024x256 : Shape := ⟨2, ![1024, 256]⟩
abbrev S1x1024x256 : Shape := ⟨3, ![1, 1024, 256]⟩

abbrev nBuf : Space → Nat
  | .hbm => 8
  | .vmem => 8
  | .smem => 0
  | _ => 0

abbrev bufTy : (tb : Table) → Fin (tcTables nBuf tb) → BufTy
  | .hbm, ⟨0, _⟩ => ⟨S8x1024x256, .bf16⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S1024x256, .f32⟩
  | .hbm, ⟨5, _⟩ => ⟨S1024x256, .f32⟩
  | .hbm, ⟨6, _⟩ => ⟨S1024x256, .f32⟩
  | .hbm, ⟨7, _⟩ => ⟨S1024x256, .f32⟩
  | .local _ .vmem, ⟨0, _⟩ => ⟨S8x1024x256, .bf16⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | _, _ => ⟨S8x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x1024x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1024x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1024x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference20Ideal.lean ====
abbrev S8x1024x256 : Shape := ⟨3, ![8, 1024, 256]⟩
abbrev S1024x256 : Shape := ⟨2, ![1024, 256]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x256, .bf16⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S8x1024x256, .f32⟩
  | .hbm, ⟨5, _⟩ => ⟨S_, .f32⟩
  | .hbm, ⟨6, _⟩ => ⟨S1024x256, .f32⟩
  | .hbm, ⟨7, _⟩ => ⟨S_, .f32⟩
  | .hbm, ⟨8, _⟩ => ⟨S1024x256, .f32⟩
  | .hbm, ⟨9, _⟩ => ⟨S1024x256, .f32⟩
  | .hbm, ⟨10, _⟩ => ⟨S_, .f32⟩
  | .hbm, ⟨11, _⟩ => ⟨S1024x256, .f32⟩
  | .hbm, ⟨12, _⟩ => ⟨S1024x256, .f32⟩
  | .hbm, ⟨13, _⟩ => ⟨S1024x256, .f32⟩
  | .hbm, ⟨14, _⟩ => ⟨S_, .f32⟩
  | .hbm, ⟨15, _⟩ => ⟨S1024x256, .f32⟩
  | .hbm, ⟨16, _⟩ => ⟨S1024x256, .f32⟩
  | .hbm, ⟨17, _⟩ => ⟨S1024x256, .f32⟩
  | .hbm, ⟨18, _⟩ => ⟨S_, .f32⟩
  | .hbm, ⟨19, _⟩ => ⟨S1024x256, .f32⟩
  | .hbm, ⟨20, _⟩ => ⟨S1024x256, .f32⟩
  | .hbm, ⟨21, _⟩ => ⟨S1024x256, .f32⟩
  | .hbm, ⟨22, _⟩ => ⟨S_, .f32⟩
  | .hbm, ⟨23, _⟩ => ⟨S1024x256, .f32⟩
  | .hbm, ⟨24, _⟩ => ⟨S1024x256, .f32⟩
  | .hbm, ⟨25, _⟩ => ⟨S_, .f32⟩
  | .hbm, ⟨26, _⟩ => ⟨S1024x256, .f32⟩
  | .hbm, ⟨27, _⟩ => ⟨S1024x256, .f32⟩
  | .hbm, ⟨28, _⟩ => ⟨S1024x256, .f32⟩
  | .hbm, ⟨29, _⟩ => ⟨S_, .f32⟩
  | .hbm, ⟨30, _⟩ => ⟨S1024x256, .f32⟩
  | .hbm, ⟨31, _⟩ => ⟨S1024x256, .f32⟩
  | .hbm, ⟨32, _⟩ => ⟨S1024x256, .f32⟩
  | .hbm, ⟨33, _⟩ => ⟨S_, .f32⟩
  | .hbm, ⟨34, _⟩ => ⟨S1024x256, .f32⟩
  | .hbm, ⟨35, _⟩ => ⟨S1024x256, .f32⟩
  | .hbm, ⟨36, _⟩ => ⟨S1024x256, .f32⟩
  | .hbm, ⟨37, _⟩ => ⟨S_, .f32⟩
  | .hbm, ⟨38, _⟩ => ⟨S1024x256, .f32⟩
  | .hbm, ⟨39, _⟩ => ⟨S1024x256, .f32⟩
  | _, _ => ⟨S8x1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel21.lean ====
abbrev S8x256x2048 : Shape := ⟨3, ![8, 256, 2048]⟩
abbrev S256x2048 : Shape := ⟨2, ![256, 2048]⟩
abbrev S8x128x2048 : Shape := ⟨3, ![8, 128, 2048]⟩
abbrev S128x2048 : Shape := ⟨2, ![128, 2048]⟩
abbrev S1x128x2048 : Shape := ⟨3, ![1, 128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S8x256x2048, .bf16⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S256x2048, .f32⟩
  | .local _ .vmem, ⟨0, _⟩ => ⟨S8x128x2048, .bf16⟩
  | .local _ .vmem, ⟨1, _⟩ => ⟨S8x128x2048, .bf16⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S8x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference21Ideal.lean ====
abbrev S8x256x2048 : Shape := ⟨3, ![8, 256, 2048]⟩
abbrev S256x2048 : Shape := ⟨2, ![256, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x256x2048, .bf16⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S8x256x2048, .f32⟩
  | .hbm, ⟨5, _⟩ => ⟨S_, .f32⟩
  | .hbm, ⟨6, _⟩ => ⟨S256x2048, .f32⟩
  | .hbm, ⟨7, _⟩ => ⟨S_, .f32⟩
  | .hbm, ⟨8, _⟩ => ⟨S256x2048, .f32⟩
  | .hbm, ⟨9, _⟩ => ⟨S256x2048, .f32⟩
  | .hbm, ⟨10, _⟩ => ⟨S_, .f32⟩
  | .hbm, ⟨11, _⟩ => ⟨S256x2048, .f32⟩
  | .hbm, ⟨12, _⟩ => ⟨S256x2048, .f32⟩
  | .hbm, ⟨13, _⟩ => ⟨S256x2048, .f32⟩
  | .hbm, ⟨14, _⟩ => ⟨S_, .f32⟩
  | .hbm, ⟨15, _⟩ => ⟨S256x2048, .f32⟩
  | .hbm, ⟨16, _⟩ => ⟨S256x2048, .f32⟩
  | .hbm, ⟨17, _⟩ => ⟨S256x2048, .f32⟩
  | .hbm, ⟨18, _⟩ => ⟨S_, .f32⟩
  | .hbm, ⟨19, _⟩ => ⟨S256x2048, .f32⟩
  | .hbm, ⟨20, _⟩ => ⟨S256x2048, .f32⟩
  | .hbm, ⟨21, _⟩ => ⟨S256x2048, .f32⟩
  | .hbm, ⟨22, _⟩ => ⟨S_, .f32⟩
  | .hbm, ⟨23, _⟩ => ⟨S256x2048, .f32⟩
  | .hbm, ⟨24, _⟩ => ⟨S256x2048, .f32⟩
  | .hbm, ⟨25, _⟩ => ⟨S_, .f32⟩
  | .hbm, ⟨26, _⟩ => ⟨S256x2048, .f32⟩
  | .hbm, ⟨27, _⟩ => ⟨S256x2048, .f32⟩
  | .hbm, ⟨28, _⟩ => ⟨S256x2048, .f32⟩
  | .hbm, ⟨29, _⟩ => ⟨S_, .f32⟩
  | .hbm, ⟨30, _⟩ => ⟨S256x2048, .f32⟩
  | .hbm, ⟨31, _⟩ => ⟨S256x2048, .f32⟩
  | .hbm, ⟨32, _⟩ => ⟨S256x2048, .f32⟩
  | .hbm, ⟨33, _⟩ => ⟨S_, .f32⟩
  | .hbm, ⟨34, _⟩ => ⟨S256x2048, .f32⟩
  | .hbm, ⟨35, _⟩ => ⟨S256x2048, .f32⟩
  | .hbm, ⟨36, _⟩ => ⟨S256x2048, .f32⟩
  | .hbm, ⟨37, _⟩ => ⟨S_, .f32⟩
  | .hbm, ⟨38, _⟩ => ⟨S256x2048, .f32⟩
  | .hbm, ⟨39, _⟩ => ⟨S256x2048, .f32⟩
  | _, _ => ⟨S8x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel22.lean ====
abbrev S8x2048x1408 : Shape := ⟨3, ![8, 2048, 1408]⟩
abbrev S2048x1408 : Shape := ⟨2, ![2048, 1408]⟩
abbrev S8x128x1408 : Shape := ⟨3, ![8, 128, 1408]⟩
abbrev S128x1408 : Shape := ⟨2, ![128, 1408]⟩
abbrev S1x128x1408 : Shape := ⟨3, ![1, 128, 1408]⟩

abbrev nBuf : Space → Nat
  | .hbm => 8
  | .vmem => 16
  | .smem => 0
  | _ => 0

abbrev bufTy : (tb : Table) → Fin (tcTables nBuf tb) → BufTy
  | .hbm, ⟨0, _⟩ => ⟨S8x2048x1408, .bf16⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .hbm, ⟨7, _⟩ => ⟨S2048x1408, .f32⟩
  | .local _ .vmem, ⟨0, _⟩ => ⟨S8x128x1408, .bf16⟩
  | .local _ .vmem, ⟨1, _⟩ => ⟨S8x128x1408, .bf16⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S128x1408, .f32⟩
  | .local _ .vmem, ⟨11, _⟩ => ⟨S128x1408, .f32⟩
  | .local _ .vmem, ⟨12, _⟩ => ⟨S128x1408, .f32⟩
  | .local _ .vmem, ⟨13, _⟩ => ⟨S128x1408, .f32⟩
  | .local _ .vmem, ⟨14, _⟩ => ⟨S128x1408, .f32⟩
  | .local _ .vmem, ⟨15, _⟩ => ⟨S128x1408, .f32⟩
  | _, _ => ⟨S8x2048x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference22Ideal.lean ====
abbrev S8x2048x1408 : Shape := ⟨3, ![8, 2048, 1408]⟩
abbrev S2048x1408 : Shape := ⟨2, ![2048, 1408]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x2048x1408, .bf16⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S8x2048x1408, .f32⟩
  | .hbm, ⟨5, _⟩ => ⟨S_, .f32⟩
  | .hbm, ⟨6, _⟩ => ⟨S2048x1408, .f32⟩
  | .hbm, ⟨7, _⟩ => ⟨S_, .f32⟩
  | .hbm, ⟨8, _⟩ => ⟨S2048x1408, .f32⟩
  | .hbm, ⟨9, _⟩ => ⟨S2048x1408, .f32⟩
  | .hbm, ⟨10, _⟩ => ⟨S_, .f32⟩
  | .hbm, ⟨11, _⟩ => ⟨S2048x1408, .f32⟩
  | .hbm, ⟨12, _⟩ => ⟨S2048x1408, .f32⟩
  | .hbm, ⟨13, _⟩ => ⟨S2048x1408, .f32⟩
  | .hbm, ⟨14, _⟩ => ⟨S_, .f32⟩
  | .hbm, ⟨15, _⟩ => ⟨S2048x1408, .f32⟩
  | .hbm, ⟨16, _⟩ => ⟨S2048x1408, .f32⟩
  | .hbm, ⟨17, _⟩ => ⟨S2048x1408, .f32⟩
  | .hbm, ⟨18, _⟩ => ⟨S_, .f32⟩
  | .hbm, ⟨19, _⟩ => ⟨S2048x1408, .f32⟩
  | .hbm, ⟨20, _⟩ => ⟨S2048x1408, .f32⟩
  | .hbm, ⟨21, _⟩ => ⟨S2048x1408, .f32⟩
  | .hbm, ⟨22, _⟩ => ⟨S_, .f32⟩
  | .hbm, ⟨23, _⟩ => ⟨S2048x1408, .f32⟩
  | .hbm, ⟨24, _⟩ => ⟨S2048x1408, .f32⟩
  | .hbm, ⟨25, _⟩ => ⟨S_, .f32⟩
  | .hbm, ⟨26, _⟩ => ⟨S2048x1408, .f32⟩
  | .hbm, ⟨27, _⟩ => ⟨S2048x1408, .f32⟩
  | .hbm, ⟨28, _⟩ => ⟨S2048x1408, .f32⟩
  | .hbm, ⟨29, _⟩ => ⟨S_, .f32⟩
  | .hbm, ⟨30, _⟩ => ⟨S2048x1408, .f32⟩
  | .hbm, ⟨31, _⟩ => ⟨S2048x1408, .f32⟩
  | .hbm, ⟨32, _⟩ => ⟨S2048x1408, .f32⟩
  | .hbm, ⟨33, _⟩ => ⟨S_, .f32⟩
  | .hbm, ⟨34, _⟩ => ⟨S2048x1408, .f32⟩
  | .hbm, ⟨35, _⟩ => ⟨S2048x1408, .f32⟩
  | .hbm, ⟨36, _⟩ => ⟨S2048x1408, .f32⟩
  | .hbm, ⟨37, _⟩ => ⟨S_, .f32⟩
  | .hbm, ⟨38, _⟩ => ⟨S2048x1408, .f32⟩
  | .hbm, ⟨39, _⟩ => ⟨S2048x1408, .f32⟩
  | _, _ => ⟨S8x2048x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel23.lean ====
abbrev S8x704x2048 : Shape := ⟨3, ![8, 704, 2048]⟩
abbrev S704x2048 : Shape := ⟨2, ![704, 2048]⟩
abbrev S8x64x2048 : Shape := ⟨3, ![8, 64, 2048]⟩
abbrev S64x2048 : Shape := ⟨2, ![64, 2048]⟩
abbrev S1x64x2048 : Shape := ⟨3, ![1, 64, 2048]⟩

abbrev nBuf : Space → Nat
  | .hbm => 8
  | .vmem => 16
  | .smem => 0
  | _ => 0

abbrev bufTy : (tb : Table) → Fin (tcTables nBuf tb) → BufTy
  | .hbm, ⟨0, _⟩ => ⟨S8x704x2048, .bf16⟩
  | .hbm, ⟨1, _⟩ => ⟨S704x2048, .f32⟩
  | .hbm, ⟨2, _⟩ => ⟨S704x2048, .f32⟩
  | .hbm, ⟨3, _⟩ => ⟨S704x2048, .f32⟩
  | .hbm, ⟨4, _⟩ => ⟨S704x2048, .f32⟩
  | .hbm, ⟨5, _⟩ => ⟨S704x2048, .f32⟩
  | .hbm, ⟨6, _⟩ => ⟨S704x2048, .f32⟩
  | .hbm, ⟨7, _⟩ => ⟨S704x2048, .f32⟩
  | .local _ .vmem, ⟨0, _⟩ => ⟨S8x64x2048, .bf16⟩
  | .local _ .vmem, ⟨1, _⟩ => ⟨S8x64x2048, .bf16⟩
  | .local _ .vmem, ⟨2, _⟩ => ⟨S64x2048, .f32⟩
  | .local _ .vmem, ⟨3, _⟩ => ⟨S64x2048, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | .local _ .vmem, ⟨12, _⟩ => ⟨S64x2048, .f32⟩
  | .local _ .vmem, ⟨13, _⟩ => ⟨S64x2048, .f32⟩
  | .local _ .vmem, ⟨14, _⟩ => ⟨S64x2048, .f32⟩
  | .local _ .vmem, ⟨15, _⟩ => ⟨S64x2048, .f32⟩
  | _, _ => ⟨S8x704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference23Ideal.lean ====
abbrev S8x704x2048 : Shape := ⟨3, ![8, 704, 2048]⟩
abbrev S704x2048 : Shape := ⟨2, ![704, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x704x2048, .bf16⟩
  | .hbm, ⟨1, _⟩ => ⟨S704x2048, .f32⟩
  | .hbm, ⟨2, _⟩ => ⟨S704x2048, .f32⟩
  | .hbm, ⟨3, _⟩ => ⟨S704x2048, .f32⟩
  | .hbm, ⟨4, _⟩ => ⟨S8x704x2048, .f32⟩
  | .hbm, ⟨5, _⟩ => ⟨S_, .f32⟩
  | .hbm, ⟨6, _⟩ => ⟨S704x2048, .f32⟩
  | .hbm, ⟨7, _⟩ => ⟨S_, .f32⟩
  | .hbm, ⟨8, _⟩ => ⟨S704x2048, .f32⟩
  | .hbm, ⟨9, _⟩ => ⟨S704x2048, .f32⟩
  | .hbm, ⟨10, _⟩ => ⟨S_, .f32⟩
  | .hbm, ⟨11, _⟩ => ⟨S704x2048, .f32⟩
  | .hbm, ⟨12, _⟩ => ⟨S704x2048, .f32⟩
  | .hbm, ⟨13, _⟩ => ⟨S704x2048, .f32⟩
  | .hbm, ⟨14, _⟩ => ⟨S_, .f32⟩
  | .hbm, ⟨15, _⟩ => ⟨S704x2048, .f32⟩
  | .hbm, ⟨16, _⟩ => ⟨S704x2048, .f32⟩
  | .hbm, ⟨17, _⟩ => ⟨S704x2048, .f32⟩
  | .hbm, ⟨18, _⟩ => ⟨S_, .f32⟩
  | .hbm, ⟨19, _⟩ => ⟨S704x2048, .f32⟩
  | .hbm, ⟨20, _⟩ => ⟨S704x2048, .f32⟩
  | .hbm, ⟨21, _⟩ => ⟨S704x2048, .f32⟩
  | .hbm, ⟨22, _⟩ => ⟨S_, .f32⟩
  | .hbm, ⟨23, _⟩ => ⟨S704x2048, .f32⟩
  | .hbm, ⟨24, _⟩ => ⟨S704x2048, .f32⟩
  | .hbm, ⟨25, _⟩ => ⟨S_, .f32⟩
  | .hbm, ⟨26, _⟩ => ⟨S704x2048, .f32⟩
  | .hbm, ⟨27, _⟩ => ⟨S704x2048, .f32⟩
  | .hbm, ⟨28, _⟩ => ⟨S704x2048, .f32⟩
  | .hbm, ⟨29, _⟩ => ⟨S_, .f32⟩
  | .hbm, ⟨30, _⟩ => ⟨S704x2048, .f32⟩
  | .hbm, ⟨31, _⟩ => ⟨S704x2048, .f32⟩
  | .hbm, ⟨32, _⟩ => ⟨S704x2048, .f32⟩
  | .hbm, ⟨33, _⟩ => ⟨S_, .f32⟩
  | .hbm, ⟨34, _⟩ => ⟨S704x2048, .f32⟩
  | .hbm, ⟨35, _⟩ => ⟨S704x2048, .f32⟩
  | .hbm, ⟨36, _⟩ => ⟨S704x2048, .f32⟩
  | .hbm, ⟨37, _⟩ => ⟨S_, .f32⟩
  | .hbm, ⟨38, _⟩ => ⟨S704x2048, .f32⟩
  | .hbm, ⟨39, _⟩ => ⟨S704x2048, .f32⟩
  | _, _ => ⟨S8x704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel24.lean ====
abbrev S8x3x128 : Shape := ⟨3, ![8, 3, 128]⟩
abbrev S3x128 : Shape := ⟨2, ![3, 128]⟩
abbrev S1x3x128 : Shape := ⟨3, ![1, 3, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x3x128, .f32⟩
  | .hbm, ⟨1, _⟩ => ⟨S3x128, .f32⟩
  | .hbm, ⟨2, _⟩ => ⟨S3x128, .f32⟩
  | .hbm, ⟨3, _⟩ => ⟨S3x128, .f32⟩
  | .hbm, ⟨4, _⟩ => ⟨S3x128, .f32⟩
  | .hbm, ⟨5, _⟩ => ⟨S3x128, .f32⟩
  | .hbm, ⟨6, _⟩ => ⟨S3x128, .f32⟩
  | .hbm, ⟨7, _⟩ => ⟨S3x128, .f32⟩
  | .local _ .vmem, ⟨0, _⟩ => ⟨S8x3x128, .f32⟩
  | .local _ .vmem, ⟨1, _⟩ => ⟨S3x128, .f32⟩
  | .local _ .vmem, ⟨2, _⟩ => ⟨S3x128, .f32⟩
  | .local _ .vmem, ⟨3, _⟩ => ⟨S3x128, .f32⟩
  | .local _ .vmem, ⟨4, _⟩ => ⟨S3x128, .f32⟩
  | .local _ .vmem, ⟨5, _⟩ => ⟨S3x128, .f32⟩
  | .local _ .vmem, ⟨6, _⟩ => ⟨S3x128, .f32⟩
  | .local _ .vmem, ⟨7, _⟩ => ⟨S3x128, .f32⟩
  | _, _ => ⟨S8x3x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x3x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S3x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S3x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference24Ideal.lean ====
abbrev S8x3x128 : Shape := ⟨3, ![8, 3, 128]⟩
abbrev S3x128 : Shape := ⟨2, ![3, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x3x128, .f32⟩
  | .hbm, ⟨1, _⟩ => ⟨S3x128, .f32⟩
  | .hbm, ⟨2, _⟩ => ⟨S3x128, .f32⟩
  | .hbm, ⟨3, _⟩ => ⟨S3x128, .f32⟩
  | .hbm, ⟨4, _⟩ => ⟨S_, .f32⟩
  | .hbm, ⟨5, _⟩ => ⟨S3x128, .f32⟩
  | .hbm, ⟨6, _⟩ => ⟨S_, .f32⟩
  | .hbm, ⟨7, _⟩ => ⟨S3x128, .f32⟩
  | .hbm, ⟨8, _⟩ => ⟨S3x128, .f32⟩
  | .hbm, ⟨9, _⟩ => ⟨S_, .f32⟩
  | .hbm, ⟨10, _⟩ => ⟨S3x128, .f32⟩
  | .hbm, ⟨11, _⟩ => ⟨S3x128, .f32⟩
  | .hbm, ⟨12, _⟩ => ⟨S3x128, .f32⟩
  | .hbm, ⟨13, _⟩ => ⟨S_, .f32⟩
  | .hbm, ⟨14, _⟩ => ⟨S3x128, .f32⟩
  | .hbm, ⟨15, _⟩ => ⟨S3x128, .f32⟩
  | .hbm, ⟨16, _⟩ => ⟨S3x128, .f32⟩
  | .hbm, ⟨17, _⟩ => ⟨S_, .f32⟩
  | .hbm, ⟨18, _⟩ => ⟨S3x128, .f32⟩
  | .hbm, ⟨19, _⟩ => ⟨S3x128, .f32⟩
  | .hbm, ⟨20, _⟩ => ⟨S3x128, .f32⟩
  | .hbm, ⟨21, _⟩ => ⟨S_, .f32⟩
  | .hbm, ⟨22, _⟩ => ⟨S3x128, .f32⟩
  | .hbm, ⟨23, _⟩ => ⟨S3x128, .f32⟩
  | .hbm, ⟨24, _⟩ => ⟨S_, .f32⟩
  | .hbm, ⟨25, _⟩ => ⟨S3x128, .f32⟩
  | .hbm, ⟨26, _⟩ => ⟨S3x128, .f32⟩
  | .hbm, ⟨27, _⟩ => ⟨S3x128, .f32⟩
  | .hbm, ⟨28, _⟩ => ⟨S_, .f32⟩
  | .hbm, ⟨29, _⟩ => ⟨S3x128, .f32⟩
  | .hbm, ⟨30, _⟩ => ⟨S3x128, .f32⟩
  | .hbm, ⟨31, _⟩ => ⟨S3x128, .f32⟩
  | .hbm, ⟨32, _⟩ => ⟨S_, .f32⟩
  | .hbm, ⟨33, _⟩ => ⟨S3x128, .f32⟩
  | .hbm, ⟨34, _⟩ => ⟨S3x128, .f32⟩
  | .hbm, ⟨35, _⟩ => ⟨S3x128, .f32⟩
  | .hbm, ⟨36, _⟩ => ⟨S_, .f32⟩
  | .hbm, ⟨37, _⟩ => ⟨S3x128, .f32⟩
  | .hbm, ⟨38, _⟩ => ⟨S3x128, .f32⟩
  | _, _ => ⟨S8x3x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel25.lean ====
abbrev S8x3x704 : Shape := ⟨3, ![8, 3, 704]⟩
abbrev S3x704 : Shape := ⟨2, ![3, 704]⟩
abbrev S1x3x704 : Shape := ⟨3, ![1, 3, 704]⟩

abbrev nBuf : Space → Nat
  | .hbm => 8
  | .vmem => 8
  | .smem => 0
  | _ => 0

abbrev bufTy : (tb : Table) → Fin (tcTables nBuf tb) → BufTy
  | .hbm, ⟨0, _⟩ => ⟨S8x3x704, .f32⟩
  | .hbm, ⟨1, _⟩ => ⟨S3x704, .f32⟩
  | .hbm, ⟨2, _⟩ => ⟨S3x704, .f32⟩
  | .hbm, ⟨3, _⟩ => ⟨S3x704, .f32⟩
  | .hbm, ⟨4, _⟩ => ⟨S3x704, .f32⟩
  | .hbm, ⟨5, _⟩ => ⟨S3x704, .f32⟩
  | .hbm, ⟨6, _⟩ => ⟨S3x704, .f32⟩
  | .hbm, ⟨7, _⟩ => ⟨S3x704, .f32⟩
  | .local _ .vmem, ⟨0, _⟩ => ⟨S8x3x704, .f32⟩
  | .local _ .vmem, ⟨1, _⟩ => ⟨S3x704, .f32⟩
  | .local _ .vmem, ⟨2, _⟩ => ⟨S3x704, .f32⟩
  | .local _ .vmem, ⟨3, _⟩ => ⟨S3x704, .f32⟩
  | .local _ .vmem, ⟨4, _⟩ => ⟨S3x704, .f32⟩
  | .local _ .vmem, ⟨5, _⟩ => ⟨S3x704, .f32⟩
  | .local _ .vmem, ⟨6, _⟩ => ⟨S3x704, .f32⟩
  | .local _ .vmem, ⟨7, _⟩ => ⟨S3x704, .f32⟩
  | _, _ => ⟨S8x3x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x3x704 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x704 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x704 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3x704 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x704 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x704 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S3x704 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S3x704 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference25Ideal.lean ====
abbrev S8x3x704 : Shape := ⟨3, ![8, 3, 704]⟩
abbrev S3x704 : Shape := ⟨2, ![3, 704]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x3x704, .f32⟩
  | .hbm, ⟨1, _⟩ => ⟨S3x704, .f32⟩
  | .hbm, ⟨2, _⟩ => ⟨S3x704, .f32⟩
  | .hbm, ⟨3, _⟩ => ⟨S3x704, .f32⟩
  | .hbm, ⟨4, _⟩ => ⟨S_, .f32⟩
  | .hbm, ⟨5, _⟩ => ⟨S3x704, .f32⟩
  | .hbm, ⟨6, _⟩ => ⟨S_, .f32⟩
  | .hbm, ⟨7, _⟩ => ⟨S3x704, .f32⟩
  | .hbm, ⟨8, _⟩ => ⟨S3x704, .f32⟩
  | .hbm, ⟨9, _⟩ => ⟨S_, .f32⟩
  | .hbm, ⟨10, _⟩ => ⟨S3x704, .f32⟩
  | .hbm, ⟨11, _⟩ => ⟨S3x704, .f32⟩
  | .hbm, ⟨12, _⟩ => ⟨S3x704, .f32⟩
  | .hbm, ⟨13, _⟩ => ⟨S_, .f32⟩
  | .hbm, ⟨14, _⟩ => ⟨S3x704, .f32⟩
  | .hbm, ⟨15, _⟩ => ⟨S3x704, .f32⟩
  | .hbm, ⟨16, _⟩ => ⟨S3x704, .f32⟩
  | .hbm, ⟨17, _⟩ => ⟨S_, .f32⟩
  | .hbm, ⟨18, _⟩ => ⟨S3x704, .f32⟩
  | .hbm, ⟨19, _⟩ => ⟨S3x704, .f32⟩
  | .hbm, ⟨20, _⟩ => ⟨S3x704, .f32⟩
  | .hbm, ⟨21, _⟩ => ⟨S_, .f32⟩
  | .hbm, ⟨22, _⟩ => ⟨S3x704, .f32⟩
  | .hbm, ⟨23, _⟩ => ⟨S3x704, .f32⟩
  | .hbm, ⟨24, _⟩ => ⟨S_, .f32⟩
  | .hbm, ⟨25, _⟩ => ⟨S3x704, .f32⟩
  | .hbm, ⟨26, _⟩ => ⟨S3x704, .f32⟩
  | .hbm, ⟨27, _⟩ => ⟨S3x704, .f32⟩
  | .hbm, ⟨28, _⟩ => ⟨S_, .f32⟩
  | .hbm, ⟨29, _⟩ => ⟨S3x704, .f32⟩
  | .hbm, ⟨30, _⟩ => ⟨S3x704, .f32⟩
  | .hbm, ⟨31, _⟩ => ⟨S3x704, .f32⟩
  | .hbm, ⟨32, _⟩ => ⟨S_, .f32⟩
  | .hbm, ⟨33, _⟩ => ⟨S3x704, .f32⟩
  | .hbm, ⟨34, _⟩ => ⟨S3x704, .f32⟩
  | .hbm, ⟨35, _⟩ => ⟨S3x704, .f32⟩
  | .hbm, ⟨36, _⟩ => ⟨S_, .f32⟩
  | .hbm, ⟨37, _⟩ => ⟨S3x704, .f32⟩
  | .hbm, ⟨38, _⟩ => ⟨S3x704, .f32⟩
  | _, _ => ⟨S8x3x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel26.lean ====
abbrev S8x1x2048 : Shape := ⟨3, ![8, 1, 2048]⟩
abbrev S1x2048 : Shape := ⟨2, ![1, 2048]⟩
abbrev S8x2048 : Shape := ⟨2, ![8, 2048]⟩
abbrev S8x16x128 : Shape := ⟨3, ![8, 16, 128]⟩
abbrev S2048 : Shape := ⟨1, ![2048]⟩
abbrev S16x128 : Shape := ⟨2, ![16, 128]⟩
abbrev S1x16x128 : Shape := ⟨3, ![1, 16, 128]⟩

abbrev nBuf : Space → Nat
  | .hbm => 24
  | .vmem => 8
  | .smem => 0
  | _ => 0

abbrev bufTy : (tb : Table) → Fin (tcTables nBuf tb) → BufTy
  | .hbm, ⟨0, _⟩ => ⟨S8x1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S8x2048, .f32⟩
  | .hbm, ⟨5, _⟩ => ⟨S8x16x128, .f32⟩
  | .hbm, ⟨6, _⟩ => ⟨S2048, .f32⟩
  | .hbm, ⟨7, _⟩ => ⟨S16x128, .f32⟩
  | .hbm, ⟨8, _⟩ => ⟨S2048, .f32⟩
  | .hbm, ⟨9, _⟩ => ⟨S16x128, .f32⟩
  | .hbm, ⟨10, _⟩ => ⟨S2048, .f32⟩
  | .hbm, ⟨11, _⟩ => ⟨S16x128, .f32⟩
  | .hbm, ⟨12, _⟩ => ⟨S16x128, .f32⟩
  | .hbm, ⟨13, _⟩ => ⟨S16x128, .f32⟩
  | .hbm, ⟨14, _⟩ => ⟨S16x128, .f32⟩
  | .hbm, ⟨15, _⟩ => ⟨S16x128, .f32⟩
  | .hbm, ⟨16, _⟩ => ⟨S2048, .f32⟩
  | .hbm, ⟨17, _⟩ => ⟨S1x2048, .f32⟩
  | .hbm, ⟨18, _⟩ => ⟨S2048, .f32⟩
  | .hbm, ⟨19, _⟩ => ⟨S1x2048, .f32⟩
  | .hbm, ⟨20, _⟩ => ⟨S2048, .f32⟩
  | .hbm, ⟨21, _⟩ => ⟨S1x2048, .f32⟩
  | .hbm, ⟨22, _⟩ => ⟨S2048, .f32⟩
  | .hbm, ⟨23, _⟩ => ⟨S1x2048, .f32⟩
  | .local _ .vmem, ⟨0, _⟩ => ⟨S8x16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | .local _ .vmem, ⟨7, _⟩ => ⟨S16x128, .f32⟩
  | _, _ => ⟨S8x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v8_2 : Ref sig .tc := ⟨.hbm, 14, rfl⟩
abbrev main_v8_3 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S16x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference26Ideal.lean ====
abbrev S8x1x2048 : Shape := ⟨3, ![8, 1, 2048]⟩
abbrev S1x2048 : Shape := ⟨2, ![1, 2048]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S_, .f32⟩
  | .hbm, ⟨5, _⟩ => ⟨S1x2048, .f32⟩
  | .hbm, ⟨6, _⟩ => ⟨S_, .f32⟩
  | .hbm, ⟨7, _⟩ => ⟨S1x2048, .f32⟩
  | .hbm, ⟨8, _⟩ => ⟨S1x2048, .f32⟩
  | .hbm, ⟨9, _⟩ => ⟨S_, .f32⟩
  | .hbm, ⟨10, _⟩ => ⟨S1x2048, .f32⟩
  | .hbm, ⟨11, _⟩ => ⟨S1x2048, .f32⟩
  | .hbm, ⟨12, _⟩ => ⟨S1x2048, .f32⟩
  | .hbm, ⟨13, _⟩ => ⟨S_, .f32⟩
  | .hbm, ⟨14, _⟩ => ⟨S1x2048, .f32⟩
  | .hbm, ⟨15, _⟩ => ⟨S1x2048, .f32⟩
  | .hbm, ⟨16, _⟩ => ⟨S1x2048, .f32⟩
  | .hbm, ⟨17, _⟩ => ⟨S_, .f32⟩
  | .hbm, ⟨18, _⟩ => ⟨S1x2048, .f32⟩
  | .hbm, ⟨19, _⟩ => ⟨S1x2048, .f32⟩
  | .hbm, ⟨20, _⟩ => ⟨S1x2048, .f32⟩
  | .hbm, ⟨21, _⟩ => ⟨S_, .f32⟩
  | .hbm, ⟨22, _⟩ => ⟨S1x2048, .f32⟩
  | .hbm, ⟨23, _⟩ => ⟨S1x2048, .f32⟩
  | .hbm, ⟨24, _⟩ => ⟨S_, .f32⟩
  | .hbm, ⟨25, _⟩ => ⟨S1x2048, .f32⟩
  | .hbm, ⟨26, _⟩ => ⟨S1x2048, .f32⟩
  | .hbm, ⟨27, _⟩ => ⟨S1x2048, .f32⟩
  | .hbm, ⟨28, _⟩ => ⟨S_, .f32⟩
  | .hbm, ⟨29, _⟩ => ⟨S1x2048, .f32⟩
  | .hbm, ⟨30, _⟩ => ⟨S1x2048, .f32⟩
  | .hbm, ⟨31, _⟩ => ⟨S1x2048, .f32⟩
  | .hbm, ⟨32, _⟩ => ⟨S_, .f32⟩
  | .hbm, ⟨33, _⟩ => ⟨S1x2048, .f32⟩
  | .hbm, ⟨34, _⟩ => ⟨S1x2048, .f32⟩
  | .hbm, ⟨35, _⟩ => ⟨S1x2048, .f32⟩
  | .hbm, ⟨36, _⟩ => ⟨S_, .f32⟩
  | .hbm, ⟨37, _⟩ => ⟨S1x2048, .f32⟩
  | .hbm, ⟨38, _⟩ => ⟨S1x2048, .f32⟩
  | _, _ => ⟨S8x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel27.lean ====
abbrev S8x1x64x64 : Shape := ⟨4, ![8, 1, 64, 64]⟩
abbrev S8x1x64 : Shape := ⟨3, ![8, 1, 64]⟩
abbrev S8x1x64x64x16 : Shape := ⟨5, ![8, 1, 64, 64, 16]⟩
abbrev S8x1x64x16x64 : Shape := ⟨5, ![8, 1, 64, 16, 64]⟩
abbrev S8x1x64x16 : Shape := ⟨4, ![8, 1, 64, 16]⟩
abbrev S8x1x1024 : Shape := ⟨3, ![8, 1, 1024]⟩
abbrev S8x1x2048 : Shape := ⟨3, ![8, 1, 2048]⟩
abbrev S8x1x5632 : Shape := ⟨3, ![8, 1, 5632]⟩
abbrev S8x2048 : Shape := ⟨2, ![8, 2048]⟩
abbrev S1x64x64 : Shape := ⟨3, ![1, 64, 64]⟩
abbrev S1x64 : Shape := ⟨2, ![1, 64]⟩
abbrev S1x64x64x16 : Shape := ⟨4, ![1, 64, 64, 16]⟩
abbrev S1x64x16x64 : Shape := ⟨4, ![1, 64, 16, 64]⟩
abbrev S1x64x16 : Shape := ⟨3, ![1, 64, 16]⟩
abbrev S1x1024 : Shape := ⟨2, ![1, 1024]⟩
abbrev S1x2048 : Shape := ⟨2, ![1, 2048]⟩
abbrev S1x5632 : Shape := ⟨2, ![1, 5632]⟩
abbrev S2048 : Shape := ⟨1, ![2048]⟩
abbrev S8x4096 : Shape := ⟨2, ![8, 4096]⟩
abbrev S8x64 : Shape := ⟨2, ![8, 64]⟩
abbrev S_ : Shape := ⟨0, ![]⟩
abbrev S8x1024 : Shape := ⟨2, ![8, 1024]⟩
abbrev S8x65536 : Shape := ⟨2, ![8, 65536]⟩
abbrev S8x5632 : Shape := ⟨2, ![8, 5632]⟩
abbrev S8x6144 : Shape := ⟨2, ![8, 6144]⟩
abbrev S11264 : Shape := ⟨1, ![11264]⟩
abbrev S8x11264 : Shape := ⟨2, ![8, 11264]⟩
abbrev S8x294912 : Shape := ⟨2, ![8, 294912]⟩
abbrev S8x2304x128 : Shape := ⟨3, ![8, 2304, 128]⟩
abbrev S4096 : Shape := ⟨1, ![4096]⟩
abbrev S64 : Shape := ⟨1, ![64]⟩
abbrev S1024 : Shape := ⟨1, ![1024]⟩
abbrev S65536 : Shape := ⟨1, ![65536]⟩
abbrev S5632 : Shape := ⟨1, ![5632]⟩
abbrev S6144 : Shape := ⟨1, ![6144]⟩
abbrev S294912 : Shape := ⟨1, ![294912]⟩
abbrev S2304x128 : Shape := ⟨2, ![2304, 128]⟩
abbrev S8x1152x128 : Shape := ⟨3, ![8, 1152, 128]⟩
abbrev S1152x128 : Shape := ⟨2, ![1152, 128]⟩
abbrev S1x1152x128 : Shape := ⟨3, ![1, 1152, 128]⟩
abbrev S32x128 : Shape := ⟨2, ![32, 128]⟩
abbrev S8x128 : Shape := ⟨2, ![8, 128]⟩
abbrev S512x128 : Shape := ⟨2, ![512, 128]⟩
abbrev S16x128 : Shape := ⟨2, ![16, 128]⟩
abbrev S48x128 : Shape := ⟨2, ![48, 128]⟩

abbrev nBuf : Space → Nat
  | .hbm => 174
  | .vmem => 16
  | .smem => 0
  | _ => 0

abbrev hbmTy0_0 (i : Nat) : BufTy := match i % 128 with
  | 0 => ⟨S8x1x64x64, .f32⟩
  | 1 => ⟨S8x1x64x64, .f32⟩
  | 2 => ⟨S8x1x64, .f32⟩
  | 3 => ⟨S8x1x64x64x16, .f32⟩
  | 4 => ⟨S8x1x64x64x16, .f32⟩
  | 5 => ⟨S8x1x64x16x64, .f32⟩
  | 6 => ⟨S8x1x64x16x64, .f32⟩
  | 7 => ⟨S8x1x64x16, .f32⟩
  | 8 => ⟨S8x1x1024, .f32⟩
  | 9 => ⟨S8x1x2048, .f32⟩
  | 10 => ⟨S8x1x5632, .f32⟩
  | 11 => ⟨S8x2048, .f32⟩
  | 12 => ⟨S1x64x64, .f32⟩
  | 13 => ⟨S1x64x64, .f32⟩
  | 14 => ⟨S1x64, .f32⟩
  | 15 => ⟨S1x64x64x16, .f32⟩
  | 16 => ⟨S1x64x64x16, .f32⟩
  | 17 => ⟨S1x64x16x64, .f32⟩
  | 18 => ⟨S1x64x16x64, .f32⟩
  | 19 => ⟨S1x64x16, .f32⟩
  | 20 => ⟨S1x1024, .f32⟩
  | 21 => ⟨S1x2048, .f32⟩
  | 22 => ⟨S1x5632, .f32⟩
  | 23 => ⟨S2048, .f32⟩
  | 24 => ⟨S1x64x64, .f32⟩
  | 25 => ⟨S1x64x64, .f32⟩
  | 26 => ⟨S1x64, .f32⟩
  | 27 => ⟨S1x64x64x16, .f32⟩
  | 28 => ⟨S1x64x64x16, .f32⟩
  | 29 => ⟨S1x64x16x64, .f32⟩
  | 30 => ⟨S1x64x16x64, .f32⟩
  | 31 => ⟨S1x64x16, .f32⟩
  | 32 => ⟨S1x1024, .f32⟩
  | 33 => ⟨S1x2048, .f32⟩
  | 34 => ⟨S1x5632, .f32⟩
  | 35 => ⟨S2048, .f32⟩
  | 36 => ⟨S1x64x64, .f32⟩
  | 37 => ⟨S1x64x64, .f32⟩
  | 38 => ⟨S1x64, .f32⟩
  | 39 => ⟨S1x64x64x16, .f32⟩
  | 40 => ⟨S1x64x64x16, .f32⟩
  | 41 => ⟨S1x64x16x64, .f32⟩
  | 42 => ⟨S1x64x16x64, .f32⟩
  | 43 => ⟨S1x64x16, .f32⟩
  | 44 => ⟨S1x1024, .f32⟩
  | 45 => ⟨S1x2048, .f32⟩
  | 46 => ⟨S1x5632, .f32⟩
  | 47 => ⟨S2048, .f32⟩
  | 48 => ⟨S8x4096, .f32⟩
  | 49 => ⟨S8x4096, .f32⟩
  | 50 => ⟨S8x64, .f32⟩
  | 51 => ⟨S_, .i32⟩
  | 52 => ⟨S_, .f32⟩
  | 53 => ⟨S8x1024, .f32⟩
  | 54 => ⟨S8x65536, .f32⟩
  | 55 => ⟨S8x65536, .f32⟩
  | 56 => ⟨S8x65536, .f32⟩
  | 57 => ⟨S8x65536, .f32⟩
  | 58 => ⟨S8x1024, .f32⟩
  | 59 => ⟨S8x1024, .f32⟩
  | 60 => ⟨S8x2048, .f32⟩
  | 61 => ⟨S8x5632, .f32⟩
  | 62 => ⟨S_, .i32⟩
  | 63 => ⟨S_, .f32⟩
  | 64 => ⟨S8x6144, .f32⟩
  | 65 => ⟨S_, .f32⟩
  | 66 => ⟨S11264, .f32⟩
  | 67 => ⟨S8x11264, .f32⟩
  | 68 => ⟨S8x294912, .f32⟩
  | 69 => ⟨S8x2304x128, .f32⟩
  | 70 => ⟨S4096, .f32⟩
  | 71 => ⟨S4096, .f32⟩
  | 72 => ⟨S64, .f32⟩
  | 73 => ⟨S_, .i32⟩
  | 74 => ⟨S_, .f32⟩
  | 75 => ⟨S1024, .f32⟩
  | 76 => ⟨S65536, .f32⟩
  | 77 => ⟨S65536, .f32⟩
  | 78 => ⟨S65536, .f32⟩
  | 79 => ⟨S65536, .f32⟩
  | 80 => ⟨S1024, .f32⟩
  | 81 => ⟨S1024, .f32⟩
  | 82 => ⟨S2048, .f32⟩
  | 83 => ⟨S5632, .f32⟩
  | 84 => ⟨S_, .i32⟩
  | 85 => ⟨S_, .f32⟩
  | 86 => ⟨S6144, .f32⟩
  | 87 => ⟨S_, .f32⟩
  | 88 => ⟨S11264, .f32⟩
  | 89 => ⟨S294912, .f32⟩
  | 90 => ⟨S2304x128, .f32⟩
  | 91 => ⟨S4096, .f32⟩
  | 92 => ⟨S4096, .f32⟩
  | 93 => ⟨S64, .f32⟩
  | 94 => ⟨S_, .i32⟩
  | 95 => ⟨S_, .f32⟩
  | 96 => ⟨S1024, .f32⟩
  | 97 => ⟨S65536, .f32⟩
  | 98 => ⟨S65536, .f32⟩
  | 99 => ⟨S65536, .f32⟩
  | 100 => ⟨S65536, .f32⟩
  | 101 => ⟨S1024, .f32⟩
  | 102 => ⟨S1024, .f32⟩
  | 103 => ⟨S2048, .f32⟩
  | 104 => ⟨S5632, .f32⟩
  | 105 => ⟨S_, .i32⟩
  | 106 => ⟨S_, .f32⟩
  | 107 => ⟨S6144, .f32⟩
  | 108 => ⟨S_, .f32⟩
  | 109 => ⟨S11264, .f32⟩
  | 110 => ⟨S294912, .f32⟩
  | 111 => ⟨S2304x128, .f32⟩
  | 112 => ⟨S4096, .f32⟩
  | 113 => ⟨S4096, .f32⟩
  | 114 => ⟨S64, .f32⟩
  | 115 => ⟨S_, .i32⟩
  | 116 => ⟨S_, .f32⟩
  | 117 => ⟨S1024, .f32⟩
  | 118 => ⟨S65536, .f32⟩
  | 119 => ⟨S65536, .f32⟩
  | 120 => ⟨S65536, .f32⟩
  | 121 => ⟨S65536, .f32⟩
  | 122 => ⟨S1024, .f32⟩
  | 123 => ⟨S1024, .f32⟩
  | 124 => ⟨S2048, .f32⟩
  | 125 => ⟨S5632, .f32⟩
  | 126 => ⟨S_, .i32⟩
  | 127 => ⟨S_, .f32⟩
  | _ => ⟨S8x1x64x64, .f32⟩

abbrev hbmTy0_1 (i : Nat) : BufTy := match i % 128 with
  | 0 => ⟨S6144, .f32⟩
  | 1 => ⟨S_, .f32⟩
  | 2 => ⟨S11264, .f32⟩
  | 3 => ⟨S294912, .f32⟩
  | 4 => ⟨S2304x128, .f32⟩
  | 5 => ⟨S2304x128, .f32⟩
  | 6 => ⟨S2304x128, .f32⟩
  | 7 => ⟨S2304x128, .f32⟩
  | 8 => ⟨S2304x128, .f32⟩
  | 9 => ⟨S32x128, .f32⟩
  | 10 => ⟨S4096, .f32⟩
  | 11 => ⟨S1x64x64, .f32⟩
  | 12 => ⟨S32x128, .f32⟩
  | 13 => ⟨S4096, .f32⟩
  | 14 => ⟨S1x64x64, .f32⟩
  | 15 => ⟨S8x128, .f32⟩
  | 16 => ⟨S1024, .f32⟩
  | 17 => ⟨S64, .f32⟩
  | 18 => ⟨S1x64, .f32⟩
  | 19 => ⟨S512x128, .f32⟩
  | 20 => ⟨S65536, .f32⟩
  | 21 => ⟨S1x64x64x16, .f32⟩
  | 22 => ⟨S512x128, .f32⟩
  | 23 => ⟨S65536, .f32⟩
  | 24 => ⟨S1x64x64x16, .f32⟩
  | 25 => ⟨S512x128, .f32⟩
  | 26 => ⟨S65536, .f32⟩
  | 27 => ⟨S1x64x16x64, .f32⟩
  | 28 => ⟨S512x128, .f32⟩
  | 29 => ⟨S65536, .f32⟩
  | 30 => ⟨S1x64x16x64, .f32⟩
  | 31 => ⟨S8x128, .f32⟩
  | 32 => ⟨S1024, .f32⟩
  | 33 => ⟨S1x64x16, .f32⟩
  | 34 => ⟨S8x128, .f32⟩
  | 35 => ⟨S1024, .f32⟩
  | 36 => ⟨S1x1024, .f32⟩
  | 37 => ⟨S16x128, .f32⟩
  | 38 => ⟨S2048, .f32⟩
  | 39 => ⟨S1x2048, .f32⟩
  | 40 => ⟨S48x128, .f32⟩
  | 41 => ⟨S6144, .f32⟩
  | 42 => ⟨S5632, .f32⟩
  | 43 => ⟨S1x5632, .f32⟩
  | 44 => ⟨S16x128, .f32⟩
  | 45 => ⟨S2048, .f32⟩
  | _ => ⟨S8x1x64x64, .f32⟩

abbrev hbmTy (i : Nat) : BufTy := match i / 128 with
  | 0 => hbmTy0_0 i
  | 1 => hbmTy0_1 i
  | _ => ⟨S8x1x64x64, .f32⟩

abbrev bufTy : (tb : Table) → Fin (tcTables nBuf tb) → BufTy
  | .hbm, ⟨i, _⟩ => hbmTy i
  | .local _ .vmem, ⟨0, _⟩ => ⟨S8x1152x128, .f32⟩
  | .local _ .vmem, ⟨1, _⟩ => ⟨S8x1152x128, .f32⟩
  | .local _ .vmem, ⟨2, _⟩ => ⟨S1152x128, .f32⟩
  | .local _ .vmem, ⟨3, _⟩ => ⟨S1152x128, .f32⟩
  | .local _ .vmem, ⟨4, _⟩ => ⟨S1152x128, .f32⟩
  | .local _ .vmem, ⟨5, _⟩ => ⟨S1152x128, .f32⟩
  | .local _ .vmem, ⟨6, _⟩ => ⟨S1152x128, .f32⟩
  | .local _ .vmem, ⟨7, _⟩ => ⟨S1152x128, .f32⟩
  | .local _ .vmem, ⟨8, _⟩ => ⟨S1152x128, .f32⟩
  | .local _ .vmem, ⟨9, _⟩ => ⟨S1152x128, .f32⟩
  | .local _ .vmem, ⟨10, _⟩ => ⟨S1152x128, .f32⟩
  | .local _ .vmem, ⟨11, _⟩ => ⟨S1152x128, .f32⟩
  | .local _ .vmem, ⟨12, _⟩ => ⟨S1152x128, .f32⟩
  | .local _ .vmem, ⟨13, _⟩ => ⟨S1152x128, .f32⟩
  | .local _ .vmem, ⟨14, _⟩ => ⟨S1152x128, .f32⟩
  | .local _ .vmem, ⟨15, _⟩ => ⟨S1152x128, .f32⟩
  | _, _ => ⟨S8x1x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_v0 : Ref sig .tc := ⟨.hbm, 48, rfl⟩
abbrev main_v1 : Ref sig .tc := ⟨.hbm, 49, rfl⟩
abbrev main_v2 : Ref sig .tc := ⟨.hbm, 50, rfl⟩
abbrev main_c : Ref sig .tc := ⟨.hbm, 51, rfl⟩
abbrev main_call0_v0 : Ref sig .tc := ⟨.hbm, 52, rfl⟩
abbrev main_v3 : Ref sig .tc := ⟨.hbm, 53, rfl⟩
abbrev main_v4 : Ref sig .tc := ⟨.hbm, 54, rfl⟩
abbrev main_v5 : Ref sig .tc := ⟨.hbm, 55, rfl⟩
abbrev main_v6 : Ref sig .tc := ⟨.hbm, 56, rfl⟩
abbrev main_v7 : Ref sig .tc := ⟨.hbm, 57, rfl⟩
abbrev main_v8 : Ref sig .tc := ⟨.hbm, 58, rfl⟩
abbrev main_v9 : Ref sig .tc := ⟨.hbm, 59, rfl⟩
abbrev main_v10 : Ref sig .tc := ⟨.hbm, 60, rfl⟩
abbrev main_v11 : Ref sig .tc := ⟨.hbm, 61, rfl⟩
abbrev main_c_0 : Ref sig .tc := ⟨.hbm, 62, rfl⟩
abbrev main_call1_v0 : Ref sig .tc := ⟨.hbm, 63, rfl⟩
abbrev main_v12 : Ref sig .tc := ⟨.hbm, 64, rfl⟩
abbrev main_cst : Ref sig .tc := ⟨.hbm, 65, rfl⟩
abbrev main_v13 : Ref sig .tc := ⟨.hbm, 66, rfl⟩
abbrev main_v14 : Ref sig .tc := ⟨.hbm, 67, rfl⟩
abbrev main_v15 : Ref sig .tc := ⟨.hbm, 68, rfl⟩
abbrev main_v16 : Ref sig .tc := ⟨.hbm, 69, rfl⟩
abbrev main_v17 : Ref sig .tc := ⟨.hbm, 70, rfl⟩
abbrev main_v18 : Ref sig .tc := ⟨.hbm, 71, rfl⟩
abbrev main_v19 : Ref sig .tc := ⟨.hbm, 72, rfl⟩
abbrev main_c_1 : Ref sig .tc := ⟨.hbm, 73, rfl⟩
abbrev main_call2_v0 : Ref sig .tc := ⟨.hbm, 74, rfl⟩
abbrev main_v20 : Ref sig .tc := ⟨.hbm, 75, rfl⟩
abbrev main_v21 : Ref sig .tc := ⟨.hbm, 76, rfl⟩
abbrev main_v22 : Ref sig .tc := ⟨.hbm, 77, rfl⟩
abbrev main_v23 : Ref sig .tc := ⟨.hbm, 78, rfl⟩
abbrev main_v24 : Ref sig .tc := ⟨.hbm, 79, rfl⟩
abbrev main_v25 : Ref sig .tc := ⟨.hbm, 80, rfl⟩
abbrev main_v26 : Ref sig .tc := ⟨.hbm, 81, rfl⟩
abbrev main_v27 : Ref sig .tc := ⟨.hbm, 82, rfl⟩
abbrev main_v28 : Ref sig .tc := ⟨.hbm, 83, rfl⟩
abbrev main_c_2 : Ref sig .tc := ⟨.hbm, 84, rfl⟩
abbrev main_call3_v0 : Ref sig .tc := ⟨.hbm, 85, rfl⟩
abbrev main_v29 : Ref sig .tc := ⟨.hbm, 86, rfl⟩
abbrev main_cst_3 : Ref sig .tc := ⟨.hbm, 87, rfl⟩
abbrev main_v30 : Ref sig .tc := ⟨.hbm, 88, rfl⟩
abbrev main_v31 : Ref sig .tc := ⟨.hbm, 89, rfl⟩
abbrev main_v32 : Ref sig .tc := ⟨.hbm, 90, rfl⟩
abbrev main_v33 : Ref sig .tc := ⟨.hbm, 91, rfl⟩
abbrev main_v34 : Ref sig .tc := ⟨.hbm, 92, rfl⟩
abbrev main_v35 : Ref sig .tc := ⟨.hbm, 93, rfl⟩
abbrev main_c_4 : Ref sig .tc := ⟨.hbm, 94, rfl⟩
abbrev main_call4_v0 : Ref sig .tc := ⟨.hbm, 95, rfl⟩
abbrev main_v36 : Ref sig .tc := ⟨.hbm, 96, rfl⟩
abbrev main_v37 : Ref sig .tc := ⟨.hbm, 97, rfl⟩
abbrev main_v38 : Ref sig .tc := ⟨.hbm, 98, rfl⟩
abbrev main_v39 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_v43 : Ref sig .tc := ⟨.hbm, 103, rfl⟩
abbrev main_v44 : Ref sig .tc := ⟨.hbm, 104, rfl⟩
abbrev main_c_5 : Ref sig .tc := ⟨.hbm, 105, rfl⟩
abbrev main_call5_v0 : Ref sig .tc := ⟨.hbm, 106, rfl⟩
abbrev main_v45 : Ref sig .tc := ⟨.hbm, 107, rfl⟩
abbrev main_cst_6 : Ref sig .tc := ⟨.hbm, 108, rfl⟩
abbrev main_v46 : Ref sig .tc := ⟨.hbm, 109, rfl⟩
abbrev main_v47 : Ref sig .tc := ⟨.hbm, 110, rfl⟩
abbrev main_v48 : Ref sig .tc := ⟨.hbm, 111, rfl⟩
abbrev main_v49 : Ref sig .tc := ⟨.hbm, 112, rfl⟩
abbrev main_v50 : Ref sig .tc := ⟨.hbm, 113, rfl⟩
abbrev main_v51 : Ref sig .tc := ⟨.hbm, 114, rfl⟩
abbrev main_c_7 : Ref sig .tc := ⟨.hbm, 115, rfl⟩
abbrev main_call6_v0 : Ref sig .tc := ⟨.hbm, 116, rfl⟩
abbrev main_v52 : Ref sig .tc := ⟨.hbm, 117, rfl⟩
abbrev main_v53 : Ref sig .tc := ⟨.hbm, 118, rfl⟩
abbrev main_v54 : Ref sig .tc := ⟨.hbm, 119, rfl⟩
abbrev main_v55 : Ref sig .tc := ⟨.hbm, 120, rfl⟩
abbrev main_v56 : Ref sig .tc := ⟨.hbm, 121, rfl⟩
abbrev main_v57 : Ref sig .tc := ⟨.hbm, 122, rfl⟩
abbrev main_v58 : Ref sig .tc := ⟨.hbm, 123, rfl⟩
abbrev main_v59 : Ref sig .tc := ⟨.hbm, 124, rfl⟩
abbrev main_v60 : Ref sig .tc := ⟨.hbm, 125, rfl⟩
abbrev main_c_8 : Ref sig .tc := ⟨.hbm, 126, rfl⟩
abbrev main_call7_v0 : Ref sig .tc := ⟨.hbm, 127, rfl⟩
abbrev main_v61 : Ref sig .tc := ⟨.hbm, 128, rfl⟩
abbrev main_cst_9 : Ref sig .tc := ⟨.hbm, 129, rfl⟩
abbrev main_v62 : Ref sig .tc := ⟨.hbm, 130, rfl⟩
abbrev main_v63 : Ref sig .tc := ⟨.hbm, 131, rfl⟩
abbrev main_v64 : Ref sig .tc := ⟨.hbm, 132, rfl⟩
abbrev main_v65_0 : Ref sig .tc := ⟨.hbm, 133, rfl⟩
abbrev main_v65_1 : Ref sig .tc := ⟨.hbm, 134, rfl⟩
abbrev main_v65_2 : Ref sig .tc := ⟨.hbm, 135, rfl⟩
abbrev main_v65_3 : Ref sig .tc := ⟨.hbm, 136, rfl⟩
abbrev main_v66 : Ref sig .tc := ⟨.hbm, 137, rfl⟩
abbrev main_v67 : Ref sig .tc := ⟨.hbm, 138, rfl⟩
abbrev main_v68 : Ref sig .tc := ⟨.hbm, 139, rfl⟩
abbrev main_v69 : Ref sig .tc := ⟨.hbm, 140, rfl⟩
abbrev main_v70 : Ref sig .tc := ⟨.hbm, 141, rfl⟩
abbrev main_v71 : Ref sig .tc := ⟨.hbm, 142, rfl⟩
abbrev main_v72 : Ref sig .tc := ⟨.hbm, 143, rfl⟩
abbrev main_v73 : Ref sig .tc := ⟨.hbm, 144, rfl⟩
abbrev main_v74 : Ref sig .tc := ⟨.hbm, 145, rfl⟩
abbrev main_v75 : Ref sig .tc := ⟨.hbm, 146, rfl⟩
abbrev main_v76 : Ref sig .tc := ⟨.hbm, 147, rfl⟩
abbrev main_v77 : Ref sig .tc := ⟨.hbm, 148, rfl⟩
abbrev main_v78 : Ref sig .tc := ⟨.hbm, 149, rfl⟩
abbrev main_v79 : Ref sig .tc := ⟨.hbm, 150, rfl⟩
abbrev main_v80 : Ref sig .tc := ⟨.hbm, 151, rfl⟩
abbrev main_v81 : Ref sig .tc := ⟨.hbm, 152, rfl⟩
abbrev main_v82 : Ref sig .tc := ⟨.hbm, 153, rfl⟩
abbrev main_v83 : Ref sig .tc := ⟨.hbm, 154, rfl⟩
abbrev main_v84 : Ref sig .tc := ⟨.hbm, 155, rfl⟩
abbrev main_v85 : Ref sig .tc := ⟨.hbm, 156, rfl⟩
abbrev main_v86 : Ref sig .tc := ⟨.hbm, 157, rfl⟩
abbrev main_v87 : Ref sig .tc := ⟨.hbm, 158, rfl⟩
abbrev main_v88 : Ref sig .tc := ⟨.hbm, 159, rfl⟩
abbrev main_v89 : Ref sig .tc := ⟨.hbm, 160, rfl⟩
abbrev main_v90 : Ref sig .tc := ⟨.hbm, 161, rfl⟩
abbrev main_v91 : Ref sig .tc := ⟨.hbm, 162, rfl⟩
abbrev main_v92 : Ref sig .tc := ⟨.hbm, 163, rfl⟩
abbrev main_v93 : Ref sig .tc := ⟨.hbm, 164, rfl⟩
abbrev main_v94 : Ref sig .tc := ⟨.hbm, 165, rfl⟩
abbrev main_v95 : Ref sig .tc := ⟨.hbm, 166, rfl⟩
abbrev main_v96 : Ref sig .tc := ⟨.hbm, 167, rfl⟩
abbrev main_v97 : Ref sig .tc := ⟨.hbm, 168, rfl⟩
abbrev main_v98 : Ref sig .tc := ⟨.hbm, 169, rfl⟩
abbrev main_v99 : Ref sig .tc := ⟨.hbm, 170, rfl⟩
abbrev main_v100 : Ref sig .tc := ⟨.hbm, 171, rfl⟩
abbrev main_v101 : Ref sig .tc := ⟨.hbm, 172, rfl⟩
abbrev main_v102 : Ref sig .tc := ⟨.hbm, 173, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x1152x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1152x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1152x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1152x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1152x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1152x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1152x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1152x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference27Ideal.lean ====
abbrev S8x1x64x64 : Shape := ⟨4, ![8, 1, 64, 64]⟩
abbrev S8x1x64 : Shape := ⟨3, ![8, 1, 64]⟩
abbrev S8x1x64x64x16 : Shape := ⟨5, ![8, 1, 64, 64, 16]⟩
abbrev S8x1x64x16x64 : Shape := ⟨5, ![8, 1, 64, 16, 64]⟩
abbrev S8x1x64x16 : Shape := ⟨4, ![8, 1, 64, 16]⟩
abbrev S8x1x1024 : Shape := ⟨3, ![8, 1, 1024]⟩
abbrev S8x1x2048 : Shape := ⟨3, ![8, 1, 2048]⟩
abbrev S8x1x5632 : Shape := ⟨3, ![8, 1, 5632]⟩
abbrev S8x2048 : Shape := ⟨2, ![8, 2048]⟩
abbrev S1x64x64 : Shape := ⟨3, ![1, 64, 64]⟩
abbrev S1x64 : Shape := ⟨2, ![1, 64]⟩
abbrev S1x64x64x16 : Shape := ⟨4, ![1, 64, 64, 16]⟩
abbrev S1x64x16x64 : Shape := ⟨4, ![1, 64, 16, 64]⟩
abbrev S1x64x16 : Shape := ⟨3, ![1, 64, 16]⟩
abbrev S1x1024 : Shape := ⟨2, ![1, 1024]⟩
abbrev S1x2048 : Shape := ⟨2, ![1, 2048]⟩
abbrev S1x5632 : Shape := ⟨2, ![1, 5632]⟩
abbrev S2048 : Shape := ⟨1, ![2048]⟩
abbrev S_ : Shape := ⟨0, ![]⟩

abbrev nBuf : Space → Nat
  | .hbm => 468
  | .vmem => 0
  | .smem => 0
  | _ => 0

abbrev hbmTy0_0 (i : Nat) : BufTy := match i % 128 with
  | 0 => ⟨S8x1x64x64, .f32⟩
  | 1 => ⟨S8x1x64x64, .f32⟩
  | 2 => ⟨S8x1x64, .f32⟩
  | 3 => ⟨S8x1x64x64x16, .f32⟩
  | 4 => ⟨S8x1x64x64x16, .f32⟩
  | 5 => ⟨S8x1x64x16x64, .f32⟩
  | 6 => ⟨S8x1x64x16x64, .f32⟩
  | 7 => ⟨S8x1x64x16, .f32⟩
  | 8 => ⟨S8x1x1024, .f32⟩
  | 9 => ⟨S8x1x2048, .f32⟩
  | 10 => ⟨S8x1x5632, .f32⟩
  | 11 => ⟨S8x2048, .f32⟩
  | 12 => ⟨S1x64x64, .f32⟩
  | 13 => ⟨S1x64x64, .f32⟩
  | 14 => ⟨S1x64, .f32⟩
  | 15 => ⟨S1x64x64x16, .f32⟩
  | 16 => ⟨S1x64x64x16, .f32⟩
  | 17 => ⟨S1x64x16x64, .f32⟩
  | 18 => ⟨S1x64x16x64, .f32⟩
  | 19 => ⟨S1x64x16, .f32⟩
  | 20 => ⟨S1x1024, .f32⟩
  | 21 => ⟨S1x2048, .f32⟩
  | 22 => ⟨S1x5632, .f32⟩
  | 23 => ⟨S2048, .f32⟩
  | 24 => ⟨S1x64x64, .f32⟩
  | 25 => ⟨S1x64x64, .f32⟩
  | 26 => ⟨S1x64, .f32⟩
  | 27 => ⟨S1x64x64x16, .f32⟩
  | 28 => ⟨S1x64x64x16, .f32⟩
  | 29 => ⟨S1x64x16x64, .f32⟩
  | 30 => ⟨S1x64x16x64, .f32⟩
  | 31 => ⟨S1x64x16, .f32⟩
  | 32 => ⟨S1x1024, .f32⟩
  | 33 => ⟨S1x2048, .f32⟩
  | 34 => ⟨S1x5632, .f32⟩
  | 35 => ⟨S2048, .f32⟩
  | 36 => ⟨S1x64x64, .f32⟩
  | 37 => ⟨S1x64x64, .f32⟩
  | 38 => ⟨S1x64, .f32⟩
  | 39 => ⟨S1x64x64x16, .f32⟩
  | 40 => ⟨S1x64x64x16, .f32⟩
  | 41 => ⟨S1x64x16x64, .f32⟩
  | 42 => ⟨S1x64x16x64, .f32⟩
  | 43 => ⟨S1x64x16, .f32⟩
  | 44 => ⟨S1x1024, .f32⟩
  | 45 => ⟨S1x2048, .f32⟩
  | 46 => ⟨S1x5632, .f32⟩
  | 47 => ⟨S2048, .f32⟩
  | 48 => ⟨S_, .f32⟩
  | 49 => ⟨S1x64x64, .f32⟩
  | 50 => ⟨S_, .f32⟩
  | 51 => ⟨S1x64x64, .f32⟩
  | 52 => ⟨S1x64x64, .f32⟩
  | 53 => ⟨S_, .f32⟩
  | 54 => ⟨S1x64x64, .f32⟩
  | 55 => ⟨S1x64x64, .f32⟩
  | 56 => ⟨S1x64x64, .f32⟩
  | 57 => ⟨S_, .f32⟩
  | 58 => ⟨S1x64x64, .f32⟩
  | 59 => ⟨S1x64x64, .f32⟩
  | 60 => ⟨S1x64x64, .f32⟩
  | 61 => ⟨S_, .f32⟩
  | 62 => ⟨S1x64x64, .f32⟩
  | 63 => ⟨S1x64x64, .f32⟩
  | 64 => ⟨S1x64x64, .f32⟩
  | 65 => ⟨S_, .f32⟩
  | 66 => ⟨S1x64x64, .f32⟩
  | 67 => ⟨S1x64x64, .f32⟩
  | 68 => ⟨S_, .f32⟩
  | 69 => ⟨S1x64x64, .f32⟩
  | 70 => ⟨S1x64x64, .f32⟩
  | 71 => ⟨S1x64x64, .f32⟩
  | 72 => ⟨S_, .f32⟩
  | 73 => ⟨S1x64x64, .f32⟩
  | 74 => ⟨S1x64x64, .f32⟩
  | 75 => ⟨S1x64x64, .f32⟩
  | 76 => ⟨S_, .f32⟩
  | 77 => ⟨S1x64x64, .f32⟩
  | 78 => ⟨S1x64x64, .f32⟩
  | 79 => ⟨S1x64x64, .f32⟩
  | 80 => ⟨S_, .f32⟩
  | 81 => ⟨S1x64x64, .f32⟩
  | 82 => ⟨S1x64x64, .f32⟩
  | 83 => ⟨S_, .f32⟩
  | 84 => ⟨S1x64x64, .f32⟩
  | 85 => ⟨S_, .f32⟩
  | 86 => ⟨S1x64x64, .f32⟩
  | 87 => ⟨S1x64x64, .f32⟩
  | 88 => ⟨S_, .f32⟩
  | 89 => ⟨S1x64x64, .f32⟩
  | 90 => ⟨S1x64x64, .f32⟩
  | 91 => ⟨S1x64x64, .f32⟩
  | 92 => ⟨S_, .f32⟩
  | 93 => ⟨S1x64x64, .f32⟩
  | 94 => ⟨S1x64x64, .f32⟩
  | 95 => ⟨S1x64x64, .f32⟩
  | 96 => ⟨S_, .f32⟩
  | 97 => ⟨S1x64x64, .f32⟩
  | 98 => ⟨S1x64x64, .f32⟩
  | 99 => ⟨S1x64x64, .f32⟩
  | 100 => ⟨S_, .f32⟩
  | 101 => ⟨S1x64x64, .f32⟩
  | 102 => ⟨S1x64x64, .f32⟩
  | 103 => ⟨S_, .f32⟩
  | 104 => ⟨S1x64x64, .f32⟩
  | 105 => ⟨S1x64x64, .f32⟩
  | 106 => ⟨S1x64x64, .f32⟩
  | 107 => ⟨S_, .f32⟩
  | 108 => ⟨S1x64x64, .f32⟩
  | 109 => ⟨S1x64x64, .f32⟩
  | 110 => ⟨S1x64x64, .f32⟩
  | 111 => ⟨S_, .f32⟩
  | 112 => ⟨S1x64x64, .f32⟩
  | 113 => ⟨S1x64x64, .f32⟩
  | 114 => ⟨S1x64x64, .f32⟩
  | 115 => ⟨S_, .f32⟩
  | 116 => ⟨S1x64x64, .f32⟩
  | 117 => ⟨S1x64x64, .f32⟩
  | 118 => ⟨S_, .f32⟩
  | 119 => ⟨S1x64, .f32⟩
  | 120 => ⟨S_, .f32⟩
  | 121 => ⟨S1x64, .f32⟩
  | 122 => ⟨S1x64, .f32⟩
  | 123 => ⟨S_, .f32⟩
  | 124 => ⟨S1x64, .f32⟩
  | 125 => ⟨S1x64, .f32⟩
  | 126 => ⟨S1x64, .f32⟩
  | 127 => ⟨S_, .f32⟩
  | _ => ⟨S8x1x64x64, .f32⟩

abbrev hbmTy0_1 (i : Nat) : BufTy := match i % 128 with
  | 0 => ⟨S1x64, .f32⟩
  | 1 => ⟨S1x64, .f32⟩
  | 2 => ⟨S1x64, .f32⟩
  | 3 => ⟨S_, .f32⟩
  | 4 => ⟨S1x64, .f32⟩
  | 5 => ⟨S1x64, .f32⟩
  | 6 => ⟨S1x64, .f32⟩
  | 7 => ⟨S_, .f32⟩
  | 8 => ⟨S1x64, .f32⟩
  | 9 => ⟨S1x64, .f32⟩
  | 10 => ⟨S_, .f32⟩
  | 11 => ⟨S1x64, .f32⟩
  | 12 => ⟨S1x64, .f32⟩
  | 13 => ⟨S1x64, .f32⟩
  | 14 => ⟨S_, .f32⟩
  | 15 => ⟨S1x64, .f32⟩
  | 16 => ⟨S1x64, .f32⟩
  | 17 => ⟨S1x64, .f32⟩
  | 18 => ⟨S_, .f32⟩
  | 19 => ⟨S1x64, .f32⟩
  | 20 => ⟨S1x64, .f32⟩
  | 21 => ⟨S1x64, .f32⟩
  | 22 => ⟨S_, .f32⟩
  | 23 => ⟨S1x64, .f32⟩
  | 24 => ⟨S1x64, .f32⟩
  | 25 => ⟨S_, .f32⟩
  | 26 => ⟨S1x64x64x16, .f32⟩
  | 27 => ⟨S_, .f32⟩
  | 28 => ⟨S1x64x64x16, .f32⟩
  | 29 => ⟨S1x64x64x16, .f32⟩
  | 30 => ⟨S_, .f32⟩
  | 31 => ⟨S1x64x64x16, .f32⟩
  | 32 => ⟨S1x64x64x16, .f32⟩
  | 33 => ⟨S1x64x64x16, .f32⟩
  | 34 => ⟨S_, .f32⟩
  | 35 => ⟨S1x64x64x16, .f32⟩
  | 36 => ⟨S1x64x64x16, .f32⟩
  | 37 => ⟨S1x64x64x16, .f32⟩
  | 38 => ⟨S_, .f32⟩
  | 39 => ⟨S1x64x64x16, .f32⟩
  | 40 => ⟨S1x64x64x16, .f32⟩
  | 41 => ⟨S1x64x64x16, .f32⟩
  | 42 => ⟨S_, .f32⟩
  | 43 => ⟨S1x64x64x16, .f32⟩
  | 44 => ⟨S1x64x64x16, .f32⟩
  | 45 => ⟨S_, .f32⟩
  | 46 => ⟨S1x64x64x16, .f32⟩
  | 47 => ⟨S1x64x64x16, .f32⟩
  | 48 => ⟨S1x64x64x16, .f32⟩
  | 49 => ⟨S_, .f32⟩
  | 50 => ⟨S1x64x64x16, .f32⟩
  | 51 => ⟨S1x64x64x16, .f32⟩
  | 52 => ⟨S1x64x64x16, .f32⟩
  | 53 => ⟨S_, .f32⟩
  | 54 => ⟨S1x64x64x16, .f32⟩
  | 55 => ⟨S1x64x64x16, .f32⟩
  | 56 => ⟨S1x64x64x16, .f32⟩
  | 57 => ⟨S_, .f32⟩
  | 58 => ⟨S1x64x64x16, .f32⟩
  | 59 => ⟨S1x64x64x16, .f32⟩
  | 60 => ⟨S_, .f32⟩
  | 61 => ⟨S1x64x64x16, .f32⟩
  | 62 => ⟨S_, .f32⟩
  | 63 => ⟨S1x64x64x16, .f32⟩
  | 64 => ⟨S1x64x64x16, .f32⟩
  | 65 => ⟨S_, .f32⟩
  | 66 => ⟨S1x64x64x16, .f32⟩
  | 67 => ⟨S1x64x64x16, .f32⟩
  | 68 => ⟨S1x64x64x16, .f32⟩
  | 69 => ⟨S_, .f32⟩
  | 70 => ⟨S1x64x64x16, .f32⟩
  | 71 => ⟨S1x64x64x16, .f32⟩
  | 72 => ⟨S1x64x64x16, .f32⟩
  | 73 => ⟨S_, .f32⟩
  | 74 => ⟨S1x64x64x16, .f32⟩
  | 75 => ⟨S1x64x64x16, .f32⟩
  | 76 => ⟨S1x64x64x16, .f32⟩
  | 77 => ⟨S_, .f32⟩
  | 78 => ⟨S1x64x64x16, .f32⟩
  | 79 => ⟨S1x64x64x16, .f32⟩
  | 80 => ⟨S_, .f32⟩
  | 81 => ⟨S1x64x64x16, .f32⟩
  | 82 => ⟨S1x64x64x16, .f32⟩
  | 83 => ⟨S1x64x64x16, .f32⟩
  | 84 => ⟨S_, .f32⟩
  | 85 => ⟨S1x64x64x16, .f32⟩
  | 86 => ⟨S1x64x64x16, .f32⟩
  | 87 => ⟨S1x64x64x16, .f32⟩
  | 88 => ⟨S_, .f32⟩
  | 89 => ⟨S1x64x64x16, .f32⟩
  | 90 => ⟨S1x64x64x16, .f32⟩
  | 91 => ⟨S1x64x64x16, .f32⟩
  | 92 => ⟨S_, .f32⟩
  | 93 => ⟨S1x64x64x16, .f32⟩
  | 94 => ⟨S1x64x64x16, .f32⟩
  | 95 => ⟨S_, .f32⟩
  | 96 => ⟨S1x64x16x64, .f32⟩
  | 97 => ⟨S_, .f32⟩
  | 98 => ⟨S1x64x16x64, .f32⟩
  | 99 => ⟨S1x64x16x64, .f32⟩
  | 100 => ⟨S_, .f32⟩
  | 101 => ⟨S1x64x16x64, .f32⟩
  | 102 => ⟨S1x64x16x64, .f32⟩
  | 103 => ⟨S1x64x16x64, .f32⟩
  | 104 => ⟨S_, .f32⟩
  | 105 => ⟨S1x64x16x64, .f32⟩
  | 106 => ⟨S1x64x16x64, .f32⟩
  | 107 => ⟨S1x64x16x64, .f32⟩
  | 108 => ⟨S_, .f32⟩
  | 109 => ⟨S1x64x16x64, .f32⟩
  | 110 => ⟨S1x64x16x64, .f32⟩
  | 111 => ⟨S1x64x16x64, .f32⟩
  | 112 => ⟨S_, .f32⟩
  | 113 => ⟨S1x64x16x64, .f32⟩
  | 114 => ⟨S1x64x16x64, .f32⟩
  | 115 => ⟨S_, .f32⟩
  | 116 => ⟨S1x64x16x64, .f32⟩
  | 117 => ⟨S1x64x16x64, .f32⟩
  | 118 => ⟨S1x64x16x64, .f32⟩
  | 119 => ⟨S_, .f32⟩
  | 120 => ⟨S1x64x16x64, .f32⟩
  | 121 => ⟨S1x64x16x64, .f32⟩
  | 122 => ⟨S1x64x16x64, .f32⟩
  | 123 => ⟨S_, .f32⟩
  | 124 => ⟨S1x64x16x64, .f32⟩
  | 125 => ⟨S1x64x16x64, .f32⟩
  | 126 => ⟨S1x64x16x64, .f32⟩
  | 127 => ⟨S_, .f32⟩
  | _ => ⟨S8x1x64x64, .f32⟩

abbrev hbmTy0_2 (i : Nat) : BufTy := match i % 128 with
  | 0 => ⟨S1x64x16x64, .f32⟩
  | 1 => ⟨S1x64x16x64, .f32⟩
  | 2 => ⟨S_, .f32⟩
  | 3 => ⟨S1x64x16x64, .f32⟩
  | 4 => ⟨S_, .f32⟩
  | 5 => ⟨S1x64x16x64, .f32⟩
  | 6 => ⟨S1x64x16x64, .f32⟩
  | 7 => ⟨S_, .f32⟩
  | 8 => ⟨S1x64x16x64, .f32⟩
  | 9 => ⟨S1x64x16x64, .f32⟩
  | 10 => ⟨S1x64x16x64, .f32⟩
  | 11 => ⟨S_, .f32⟩
  | 12 => ⟨S1x64x16x64, .f32⟩
  | 13 => ⟨S1x64x16x64, .f32⟩
  | 14 => ⟨S1x64x16x64, .f32⟩
  | 15 => ⟨S_, .f32⟩
  | 16 => ⟨S1x64x16x64, .f32⟩
  | 17 => ⟨S1x64x16x64, .f32⟩
  | 18 => ⟨S1x64x16x64, .f32⟩
  | 19 => ⟨S_, .f32⟩
  | 20 => ⟨S1x64x16x64, .f32⟩
  | 21 => ⟨S1x64x16x64, .f32⟩
  | 22 => ⟨S_, .f32⟩
  | 23 => ⟨S1x64x16x64, .f32⟩
  | 24 => ⟨S1x64x16x64, .f32⟩
  | 25 => ⟨S1x64x16x64, .f32⟩
  | 26 => ⟨S_, .f32⟩
  | 27 => ⟨S1x64x16x64, .f32⟩
  | 28 => ⟨S1x64x16x64, .f32⟩
  | 29 => ⟨S1x64x16x64, .f32⟩
  | 30 => ⟨S_, .f32⟩
  | 31 => ⟨S1x64x16x64, .f32⟩
  | 32 => ⟨S1x64x16x64, .f32⟩
  | 33 => ⟨S1x64x16x64, .f32⟩
  | 34 => ⟨S_, .f32⟩
  | 35 => ⟨S1x64x16x64, .f32⟩
  | 36 => ⟨S1x64x16x64, .f32⟩
  | 37 => ⟨S_, .f32⟩
  | 38 => ⟨S1x64x16, .f32⟩
  | 39 => ⟨S_, .f32⟩
  | 40 => ⟨S1x64x16, .f32⟩
  | 41 => ⟨S1x64x16, .f32⟩
  | 42 => ⟨S_, .f32⟩
  | 43 => ⟨S1x64x16, .f32⟩
  | 44 => ⟨S1x64x16, .f32⟩
  | 45 => ⟨S1x64x16, .f32⟩
  | 46 => ⟨S_, .f32⟩
  | 47 => ⟨S1x64x16, .f32⟩
  | 48 => ⟨S1x64x16, .f32⟩
  | 49 => ⟨S1x64x16, .f32⟩
  | 50 => ⟨S_, .f32⟩
  | 51 => ⟨S1x64x16, .f32⟩
  | 52 => ⟨S1x64x16, .f32⟩
  | 53 => ⟨S1x64x16, .f32⟩
  | 54 => ⟨S_, .f32⟩
  | 55 => ⟨S1x64x16, .f32⟩
  | 56 => ⟨S1x64x16, .f32⟩
  | 57 => ⟨S_, .f32⟩
  | 58 => ⟨S1x64x16, .f32⟩
  | 59 => ⟨S1x64x16, .f32⟩
  | 60 => ⟨S1x64x16, .f32⟩
  | 61 => ⟨S_, .f32⟩
  | 62 => ⟨S1x64x16, .f32⟩
  | 63 => ⟨S1x64x16, .f32⟩
  | 64 => ⟨S1x64x16, .f32⟩
  | 65 => ⟨S_, .f32⟩
  | 66 => ⟨S1x64x16, .f32⟩
  | 67 => ⟨S1x64x16, .f32⟩
  | 68 => ⟨S1x64x16, .f32⟩
  | 69 => ⟨S_, .f32⟩
  | 70 => ⟨S1x64x16, .f32⟩
  | 71 => ⟨S1x64x16, .f32⟩
  | 72 => ⟨S_, .f32⟩
  | 73 => ⟨S1x1024, .f32⟩
  | 74 => ⟨S_, .f32⟩
  | 75 => ⟨S1x1024, .f32⟩
  | 76 => ⟨S1x1024, .f32⟩
  | 77 => ⟨S_, .f32⟩
  | 78 => ⟨S1x1024, .f32⟩
  | 79 => ⟨S1x1024, .f32⟩
  | 80 => ⟨S1x1024, .f32⟩
  | 81 => ⟨S_, .f32⟩
  | 82 => ⟨S1x1024, .f32⟩
  | 83 => ⟨S1x1024, .f32⟩
  | 84 => ⟨S1x1024, .f32⟩
  | 85 => ⟨S_, .f32⟩
  | 86 => ⟨S1x1024, .f32⟩
  | 87 => ⟨S1x1024, .f32⟩
  | 88 => ⟨S1x1024, .f32⟩
  | 89 => ⟨S_, .f32⟩
  | 90 => ⟨S1x1024, .f32⟩
  | 91 => ⟨S1x1024, .f32⟩
  | 92 => ⟨S_, .f32⟩
  | 93 => ⟨S1x1024, .f32⟩
  | 94 => ⟨S1x1024, .f32⟩
  | 95 => ⟨S1x1024, .f32⟩
  | 96 => ⟨S_, .f32⟩
  | 97 => ⟨S1x1024, .f32⟩
  | 98 => ⟨S1x1024, .f32⟩
  | 99 => ⟨S1x1024, .f32⟩
  | 100 => ⟨S_, .f32⟩
  | 101 => ⟨S1x1024, .f32⟩
  | 102 => ⟨S1x1024, .f32⟩
  | 103 => ⟨S1x1024, .f32⟩
  | 104 => ⟨S_, .f32⟩
  | 105 => ⟨S1x1024, .f32⟩
  | 106 => ⟨S1x1024, .f32⟩
  | 107 => ⟨S_, .f32⟩
  | 108 => ⟨S1x2048, .f32⟩
  | 109 => ⟨S_, .f32⟩
  | 110 => ⟨S1x2048, .f32⟩
  | 111 => ⟨S1x2048, .f32⟩
  | 112 => ⟨S_, .f32⟩
  | 113 => ⟨S1x2048, .f32⟩
  | 114 => ⟨S1x2048, .f32⟩
  | 115 => ⟨S1x2048, .f32⟩
  | 116 => ⟨S_, .f32⟩
  | 117 => ⟨S1x2048, .f32⟩
  | 118 => ⟨S1x2048, .f32⟩
  | 119 => ⟨S1x2048, .f32⟩
  | 120 => ⟨S_, .f32⟩
  | 121 => ⟨S1x2048, .f32⟩
  | 122 => ⟨S1x2048, .f32⟩
  | 123 => ⟨S1x2048, .f32⟩
  | 124 => ⟨S_, .f32⟩
  | 125 => ⟨S1x2048, .f32⟩
  | 126 => ⟨S1x2048, .f32⟩
  | 127 => ⟨S_, .f32⟩
  | _ => ⟨S8x1x64x64, .f32⟩

abbrev hbmTy0_3 (i : Nat) : BufTy := match i % 128 with
  | 0 => ⟨S1x2048, .f32⟩
  | 1 => ⟨S1x2048, .f32⟩
  | 2 => ⟨S1x2048, .f32⟩
  | 3 => ⟨S_, .f32⟩
  | 4 => ⟨S1x2048, .f32⟩
  | 5 => ⟨S1x2048, .f32⟩
  | 6 => ⟨S1x2048, .f32⟩
  | 7 => ⟨S_, .f32⟩
  | 8 => ⟨S1x2048, .f32⟩
  | 9 => ⟨S1x2048, .f32⟩
  | 10 => ⟨S1x2048, .f32⟩
  | 11 => ⟨S_, .f32⟩
  | 12 => ⟨S1x2048, .f32⟩
  | 13 => ⟨S1x2048, .f32⟩
  | 14 => ⟨S_, .f32⟩
  | 15 => ⟨S1x5632, .f32⟩
  | 16 => ⟨S_, .f32⟩
  | 17 => ⟨S1x5632, .f32⟩
  | 18 => ⟨S1x5632, .f32⟩
  | 19 => ⟨S_, .f32⟩
  | 20 => ⟨S1x5632, .f32⟩
  | 21 => ⟨S1x5632, .f32⟩
  | 22 => ⟨S1x5632, .f32⟩
  | 23 => ⟨S_, .f32⟩
  | 24 => ⟨S1x5632, .f32⟩
  | 25 => ⟨S1x5632, .f32⟩
  | 26 => ⟨S1x5632, .f32⟩
  | 27 => ⟨S_, .f32⟩
  | 28 => ⟨S1x5632, .f32⟩
  | 29 => ⟨S1x5632, .f32⟩
  | 30 => ⟨S1x5632, .f32⟩
  | 31 => ⟨S_, .f32⟩
  | 32 => ⟨S1x5632, .f32⟩
  | 33 => ⟨S1x5632, .f32⟩
  | 34 => ⟨S_, .f32⟩
  | 35 => ⟨S1x5632, .f32⟩
  | 36 => ⟨S1x5632, .f32⟩
  | 37 => ⟨S1x5632, .f32⟩
  | 38 => ⟨S_, .f32⟩
  | 39 => ⟨S1x5632, .f32⟩
  | 40 => ⟨S1x5632, .f32⟩
  | 41 => ⟨S1x5632, .f32⟩
  | 42 => ⟨S_, .f32⟩
  | 43 => ⟨S1x5632, .f32⟩
  | 44 => ⟨S1x5632, .f32⟩
  | 45 => ⟨S1x5632, .f32⟩
  | 46 => ⟨S_, .f32⟩
  | 47 => ⟨S1x5632, .f32⟩
  | 48 => ⟨S1x5632, .f32⟩
  | 49 => ⟨S_, .f32⟩
  | 50 => ⟨S2048, .f32⟩
  | 51 => ⟨S_, .f32⟩
  | 52 => ⟨S2048, .f32⟩
  | 53 => ⟨S2048, .f32⟩
  | 54 => ⟨S_, .f32⟩
  | 55 => ⟨S2048, .f32⟩
  | 56 => ⟨S2048, .f32⟩
  | 57 => ⟨S2048, .f32⟩
  | 58 => ⟨S_, .f32⟩
  | 59 => ⟨S2048, .f32⟩
  | 60 => ⟨S2048, .f32⟩
  | 61 => ⟨S2048, .f32⟩
  | 62 => ⟨S_, .f32⟩
  | 63 => ⟨S2048, .f32⟩
  | 64 => ⟨S2048, .f32⟩
  | 65 => ⟨S2048, .f32⟩
  | 66 => ⟨S_, .f32⟩
  | 67 => ⟨S2048, .f32⟩
  | 68 => ⟨S2048, .f32⟩
  | 69 => ⟨S_, .f32⟩
  | 70 => ⟨S2048, .f32⟩
  | 71 => ⟨S2048, .f32⟩
  | 72 => ⟨S2048, .f32⟩
  | 73 => ⟨S_, .f32⟩
  | 74 => ⟨S2048, .f32⟩
  | 75 => ⟨S2048, .f32⟩
  | 76 => ⟨S2048, .f32⟩
  | 77 => ⟨S_, .f32⟩
  | 78 => ⟨S2048, .f32⟩
  | 79 => ⟨S2048, .f32⟩
  | 80 => ⟨S2048, .f32⟩
  | 81 => ⟨S_, .f32⟩
  | 82 => ⟨S2048, .f32⟩
  | 83 => ⟨S2048, .f32⟩
  | _ => ⟨S8x1x64x64, .f32⟩

abbrev hbmTy (i : Nat) : BufTy := match i / 128 with
  | 0 => hbmTy0_0 i
  | 1 => hbmTy0_1 i
  | 2 => hbmTy0_2 i
  | 3 => hbmTy0_3 i
  | _ => ⟨S8x1x64x64, .f32⟩

abbrev bufTy : (tb : Table) → Fin (tcTables nBuf tb) → BufTy
  | .hbm, ⟨i, _⟩ => hbmTy i
  | _, _ => ⟨S8x1x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_cst : Ref sig .tc := ⟨.hbm, 48, rfl⟩
abbrev main_v0 : Ref sig .tc := ⟨.hbm, 49, rfl⟩
abbrev main_cst_0 : Ref sig .tc := ⟨.hbm, 50, rfl⟩
abbrev main_v1 : Ref sig .tc := ⟨.hbm, 51, rfl⟩
abbrev main_v2 : Ref sig .tc := ⟨.hbm, 52, rfl⟩
abbrev main_cst_1 : Ref sig .tc := ⟨.hbm, 53, rfl⟩
abbrev main_v3 : Ref sig .tc := ⟨.hbm, 54, rfl⟩
abbrev main_v4 : Ref sig .tc := ⟨.hbm, 55, rfl⟩
abbrev main_v5 : Ref sig .tc := ⟨.hbm, 56, rfl⟩
abbrev main_cst_2 : Ref sig .tc := ⟨.hbm, 57, rfl⟩
abbrev main_v6 : Ref sig .tc := ⟨.hbm, 58, rfl⟩
abbrev main_v7 : Ref sig .tc := ⟨.hbm, 59, rfl⟩
abbrev main_v8 : Ref sig .tc := ⟨.hbm, 60, rfl⟩
abbrev main_cst_3 : Ref sig .tc := ⟨.hbm, 61, rfl⟩
abbrev main_v9 : Ref sig .tc := ⟨.hbm, 62, rfl⟩
abbrev main_v10 : Ref sig .tc := ⟨.hbm, 63, rfl⟩
abbrev main_v11 : Ref sig .tc := ⟨.hbm, 64, rfl⟩
abbrev main_cst_4 : Ref sig .tc := ⟨.hbm, 65, rfl⟩
abbrev main_v12 : Ref sig .tc := ⟨.hbm, 66, rfl⟩
abbrev main_v13 : Ref sig .tc := ⟨.hbm, 67, rfl⟩
abbrev main_cst_5 : Ref sig .tc := ⟨.hbm, 68, rfl⟩
abbrev main_v14 : Ref sig .tc := ⟨.hbm, 69, rfl⟩
abbrev main_v15 : Ref sig .tc := ⟨.hbm, 70, rfl⟩
abbrev main_v16 : Ref sig .tc := ⟨.hbm, 71, rfl⟩
abbrev main_cst_6 : Ref sig .tc := ⟨.hbm, 72, rfl⟩
abbrev main_v17 : Ref sig .tc := ⟨.hbm, 73, rfl⟩
abbrev main_v18 : Ref sig .tc := ⟨.hbm, 74, rfl⟩
abbrev main_v19 : Ref sig .tc := ⟨.hbm, 75, rfl⟩
abbrev main_cst_7 : Ref sig .tc := ⟨.hbm, 76, rfl⟩
abbrev main_v20 : Ref sig .tc := ⟨.hbm, 77, rfl⟩
abbrev main_v21 : Ref sig .tc := ⟨.hbm, 78, rfl⟩
abbrev main_v22 : Ref sig .tc := ⟨.hbm, 79, rfl⟩
abbrev main_cst_8 : Ref sig .tc := ⟨.hbm, 80, rfl⟩
abbrev main_v23 : Ref sig .tc := ⟨.hbm, 81, rfl⟩
abbrev main_v24 : Ref sig .tc := ⟨.hbm, 82, rfl⟩
abbrev main_cst_9 : Ref sig .tc := ⟨.hbm, 83, rfl⟩
abbrev main_v25 : Ref sig .tc := ⟨.hbm, 84, rfl⟩
abbrev main_cst_10 : Ref sig .tc := ⟨.hbm, 85, rfl⟩
abbrev main_v26 : Ref sig .tc := ⟨.hbm, 86, rfl⟩
abbrev main_v27 : Ref sig .tc := ⟨.hbm, 87, rfl⟩
abbrev main_cst_11 : Ref sig .tc := ⟨.hbm, 88, rfl⟩
abbrev main_v28 : Ref sig .tc := ⟨.hbm, 89, rfl⟩
abbrev main_v29 : Ref sig .tc := ⟨.hbm, 90, rfl⟩
abbrev main_v30 : Ref sig .tc := ⟨.hbm, 91, rfl⟩
abbrev main_cst_12 : Ref sig .tc := ⟨.hbm, 92, rfl⟩
abbrev main_v31 : Ref sig .tc := ⟨.hbm, 93, rfl⟩
abbrev main_v32 : Ref sig .tc := ⟨.hbm, 94, rfl⟩
abbrev main_v33 : Ref sig .tc := ⟨.hbm, 95, rfl⟩
abbrev main_cst_13 : Ref sig .tc := ⟨.hbm, 96, rfl⟩
abbrev main_v34 : Ref sig .tc := ⟨.hbm, 97, rfl⟩
abbrev main_v35 : Ref sig .tc := ⟨.hbm, 98, rfl⟩
abbrev main_v36 : Ref sig .tc := ⟨.hbm, 99, rfl⟩
abbrev main_cst_14 : Ref sig .tc := ⟨.hbm, 100, rfl⟩
abbrev main_v37 : Ref sig .tc := ⟨.hbm, 101, rfl⟩
abbrev main_v38 : Ref sig .tc := ⟨.hbm, 102, rfl⟩
abbrev main_cst_15 : Ref sig .tc := ⟨.hbm, 103, rfl⟩
abbrev main_v39 : Ref sig .tc := ⟨.hbm, 104, rfl⟩
abbrev main_v40 : Ref sig .tc := ⟨.hbm, 105, rfl⟩
abbrev main_v41 : Ref sig .tc := ⟨.hbm, 106, rfl⟩
abbrev main_cst_16 : Ref sig .tc := ⟨.hbm, 107, rfl⟩
abbrev main_v42 : Ref sig .tc := ⟨.hbm, 108, rfl⟩
abbrev main_v43 : Ref sig .tc := ⟨.hbm, 109, rfl⟩
abbrev main_v44 : Ref sig .tc := ⟨.hbm, 110, rfl⟩
abbrev main_cst_17 : Ref sig .tc := ⟨.hbm, 111, rfl⟩
abbrev main_v45 : Ref sig .tc := ⟨.hbm, 112, rfl⟩
abbrev main_v46 : Ref sig .tc := ⟨.hbm, 113, rfl⟩
abbrev main_v47 : Ref sig .tc := ⟨.hbm, 114, rfl⟩
abbrev main_cst_18 : Ref sig .tc := ⟨.hbm, 115, rfl⟩
abbrev main_v48 : Ref sig .tc := ⟨.hbm, 116, rfl⟩
abbrev main_v49 : Ref sig .tc := ⟨.hbm, 117, rfl⟩
abbrev main_cst_19 : Ref sig .tc := ⟨.hbm, 118, rfl⟩
abbrev main_v50 : Ref sig .tc := ⟨.hbm, 119, rfl⟩
abbrev main_cst_20 : Ref sig .tc := ⟨.hbm, 120, rfl⟩
abbrev main_v51 : Ref sig .tc := ⟨.hbm, 121, rfl⟩
abbrev main_v52 : Ref sig .tc := ⟨.hbm, 122, rfl⟩
abbrev main_cst_21 : Ref sig .tc := ⟨.hbm, 123, rfl⟩
abbrev main_v53 : Ref sig .tc := ⟨.hbm, 124, rfl⟩
abbrev main_v54 : Ref sig .tc := ⟨.hbm, 125, rfl⟩
abbrev main_v55 : Ref sig .tc := ⟨.hbm, 126, rfl⟩
abbrev main_cst_22 : Ref sig .tc := ⟨.hbm, 127, rfl⟩
abbrev main_v56 : Ref sig .tc := ⟨.hbm, 128, rfl⟩
abbrev main_v57 : Ref sig .tc := ⟨.hbm, 129, rfl⟩
abbrev main_v58 : Ref sig .tc := ⟨.hbm, 130, rfl⟩
abbrev main_cst_23 : Ref sig .tc := ⟨.hbm, 131, rfl⟩
abbrev main_v59 : Ref sig .tc := ⟨.hbm, 132, rfl⟩
abbrev main_v60 : Ref sig .tc := ⟨.hbm, 133, rfl⟩
abbrev main_v61 : Ref sig .tc := ⟨.hbm, 134, rfl⟩
abbrev main_cst_24 : Ref sig .tc := ⟨.hbm, 135, rfl⟩
abbrev main_v62 : Ref sig .tc := ⟨.hbm, 136, rfl⟩
abbrev main_v63 : Ref sig .tc := ⟨.hbm, 137, rfl⟩
abbrev main_cst_25 : Ref sig .tc := ⟨.hbm, 138, rfl⟩
abbrev main_v64 : Ref sig .tc := ⟨.hbm, 139, rfl⟩
abbrev main_v65 : Ref sig .tc := ⟨.hbm, 140, rfl⟩
abbrev main_v66 : Ref sig .tc := ⟨.hbm, 141, rfl⟩
abbrev main_cst_26 : Ref sig .tc := ⟨.hbm, 142, rfl⟩
abbrev main_v67 : Ref sig .tc := ⟨.hbm, 143, rfl⟩
abbrev main_v68 : Ref sig .tc := ⟨.hbm, 144, rfl⟩
abbrev main_v69 : Ref sig .tc := ⟨.hbm, 145, rfl⟩
abbrev main_cst_27 : Ref sig .tc := ⟨.hbm, 146, rfl⟩
abbrev main_v70 : Ref sig .tc := ⟨.hbm, 147, rfl⟩
abbrev main_v71 : Ref sig .tc := ⟨.hbm, 148, rfl⟩
abbrev main_v72 : Ref sig .tc := ⟨.hbm, 149, rfl⟩
abbrev main_cst_28 : Ref sig .tc := ⟨.hbm, 150, rfl⟩
abbrev main_v73 : Ref sig .tc := ⟨.hbm, 151, rfl⟩
abbrev main_v74 : Ref sig .tc := ⟨.hbm, 152, rfl⟩
abbrev main_cst_29 : Ref sig .tc := ⟨.hbm, 153, rfl⟩
abbrev main_v75 : Ref sig .tc := ⟨.hbm, 154, rfl⟩
abbrev main_cst_30 : Ref sig .tc := ⟨.hbm, 155, rfl⟩
abbrev main_v76 : Ref sig .tc := ⟨.hbm, 156, rfl⟩
abbrev main_v77 : Ref sig .tc := ⟨.hbm, 157, rfl⟩
abbrev main_cst_31 : Ref sig .tc := ⟨.hbm, 158, rfl⟩
abbrev main_v78 : Ref sig .tc := ⟨.hbm, 159, rfl⟩
abbrev main_v79 : Ref sig .tc := ⟨.hbm, 160, rfl⟩
abbrev main_v80 : Ref sig .tc := ⟨.hbm, 161, rfl⟩
abbrev main_cst_32 : Ref sig .tc := ⟨.hbm, 162, rfl⟩
abbrev main_v81 : Ref sig .tc := ⟨.hbm, 163, rfl⟩
abbrev main_v82 : Ref sig .tc := ⟨.hbm, 164, rfl⟩
abbrev main_v83 : Ref sig .tc := ⟨.hbm, 165, rfl⟩
abbrev main_cst_33 : Ref sig .tc := ⟨.hbm, 166, rfl⟩
abbrev main_v84 : Ref sig .tc := ⟨.hbm, 167, rfl⟩
abbrev main_v85 : Ref sig .tc := ⟨.hbm, 168, rfl⟩
abbrev main_v86 : Ref sig .tc := ⟨.hbm, 169, rfl⟩
abbrev main_cst_34 : Ref sig .tc := ⟨.hbm, 170, rfl⟩
abbrev main_v87 : Ref sig .tc := ⟨.hbm, 171, rfl⟩
abbrev main_v88 : Ref sig .tc := ⟨.hbm, 172, rfl⟩
abbrev main_cst_35 : Ref sig .tc := ⟨.hbm, 173, rfl⟩
abbrev main_v89 : Ref sig .tc := ⟨.hbm, 174, rfl⟩
abbrev main_v90 : Ref sig .tc := ⟨.hbm, 175, rfl⟩
abbrev main_v91 : Ref sig .tc := ⟨.hbm, 176, rfl⟩
abbrev main_cst_36 : Ref sig .tc := ⟨.hbm, 177, rfl⟩
abbrev main_v92 : Ref sig .tc := ⟨.hbm, 178, rfl⟩
abbrev main_v93 : Ref sig .tc := ⟨.hbm, 179, rfl⟩
abbrev main_v94 : Ref sig .tc := ⟨.hbm, 180, rfl⟩
abbrev main_cst_37 : Ref sig .tc := ⟨.hbm, 181, rfl⟩
abbrev main_v95 : Ref sig .tc := ⟨.hbm, 182, rfl⟩
abbrev main_v96 : Ref sig .tc := ⟨.hbm, 183, rfl⟩
abbrev main_v97 : Ref sig .tc := ⟨.hbm, 184, rfl⟩
abbrev main_cst_38 : Ref sig .tc := ⟨.hbm, 185, rfl⟩
abbrev main_v98 : Ref sig .tc := ⟨.hbm, 186, rfl⟩
abbrev main_v99 : Ref sig .tc := ⟨.hbm, 187, rfl⟩
abbrev main_cst_39 : Ref sig .tc := ⟨.hbm, 188, rfl⟩
abbrev main_v100 : Ref sig .tc := ⟨.hbm, 189, rfl⟩
abbrev main_cst_40 : Ref sig .tc := ⟨.hbm, 190, rfl⟩
abbrev main_v101 : Ref sig .tc := ⟨.hbm, 191, rfl⟩
abbrev main_v102 : Ref sig .tc := ⟨.hbm, 192, rfl⟩
abbrev main_cst_41 : Ref sig .tc := ⟨.hbm, 193, rfl⟩
abbrev main_v103 : Ref sig .tc := ⟨.hbm, 194, rfl⟩
abbrev main_v104 : Ref sig .tc := ⟨.hbm, 195, rfl⟩
abbrev main_v105 : Ref sig .tc := ⟨.hbm, 196, rfl⟩
abbrev main_cst_42 : Ref sig .tc := ⟨.hbm, 197, rfl⟩
abbrev main_v106 : Ref sig .tc := ⟨.hbm, 198, rfl⟩
abbrev main_v107 : Ref sig .tc := ⟨.hbm, 199, rfl⟩
abbrev main_v108 : Ref sig .tc := ⟨.hbm, 200, rfl⟩
abbrev main_cst_43 : Ref sig .tc := ⟨.hbm, 201, rfl⟩
abbrev main_v109 : Ref sig .tc := ⟨.hbm, 202, rfl⟩
abbrev main_v110 : Ref sig .tc := ⟨.hbm, 203, rfl⟩
abbrev main_v111 : Ref sig .tc := ⟨.hbm, 204, rfl⟩
abbrev main_cst_44 : Ref sig .tc := ⟨.hbm, 205, rfl⟩
abbrev main_v112 : Ref sig .tc := ⟨.hbm, 206, rfl⟩
abbrev main_v113 : Ref sig .tc := ⟨.hbm, 207, rfl⟩
abbrev main_cst_45 : Ref sig .tc := ⟨.hbm, 208, rfl⟩
abbrev main_v114 : Ref sig .tc := ⟨.hbm, 209, rfl⟩
abbrev main_v115 : Ref sig .tc := ⟨.hbm, 210, rfl⟩
abbrev main_v116 : Ref sig .tc := ⟨.hbm, 211, rfl⟩
abbrev main_cst_46 : Ref sig .tc := ⟨.hbm, 212, rfl⟩
abbrev main_v117 : Ref sig .tc := ⟨.hbm, 213, rfl⟩
abbrev main_v118 : Ref sig .tc := ⟨.hbm, 214, rfl⟩
abbrev main_v119 : Ref sig .tc := ⟨.hbm, 215, rfl⟩
abbrev main_cst_47 : Ref sig .tc := ⟨.hbm, 216, rfl⟩
abbrev main_v120 : Ref sig .tc := ⟨.hbm, 217, rfl⟩
abbrev main_v121 : Ref sig .tc := ⟨.hbm, 218, rfl⟩
abbrev main_v122 : Ref sig .tc := ⟨.hbm, 219, rfl⟩
abbrev main_cst_48 : Ref sig .tc := ⟨.hbm, 220, rfl⟩
abbrev main_v123 : Ref sig .tc := ⟨.hbm, 221, rfl⟩
abbrev main_v124 : Ref sig .tc := ⟨.hbm, 222, rfl⟩
abbrev main_cst_49 : Ref sig .tc := ⟨.hbm, 223, rfl⟩
abbrev main_v125 : Ref sig .tc := ⟨.hbm, 224, rfl⟩
abbrev main_cst_50 : Ref sig .tc := ⟨.hbm, 225, rfl⟩
abbrev main_v126 : Ref sig .tc := ⟨.hbm, 226, rfl⟩
abbrev main_v127 : Ref sig .tc := ⟨.hbm, 227, rfl⟩
abbrev main_cst_51 : Ref sig .tc := ⟨.hbm, 228, rfl⟩
abbrev main_v128 : Ref sig .tc := ⟨.hbm, 229, rfl⟩
abbrev main_v129 : Ref sig .tc := ⟨.hbm, 230, rfl⟩
abbrev main_v130 : Ref sig .tc := ⟨.hbm, 231, rfl⟩
abbrev main_cst_52 : Ref sig .tc := ⟨.hbm, 232, rfl⟩
abbrev main_v131 : Ref sig .tc := ⟨.hbm, 233, rfl⟩
abbrev main_v132 : Ref sig .tc := ⟨.hbm, 234, rfl⟩
abbrev main_v133 : Ref sig .tc := ⟨.hbm, 235, rfl⟩
abbrev main_cst_53 : Ref sig .tc := ⟨.hbm, 236, rfl⟩
abbrev main_v134 : Ref sig .tc := ⟨.hbm, 237, rfl⟩
abbrev main_v135 : Ref sig .tc := ⟨.hbm, 238, rfl⟩
abbrev main_v136 : Ref sig .tc := ⟨.hbm, 239, rfl⟩
abbrev main_cst_54 : Ref sig .tc := ⟨.hbm, 240, rfl⟩
abbrev main_v137 : Ref sig .tc := ⟨.hbm, 241, rfl⟩
abbrev main_v138 : Ref sig .tc := ⟨.hbm, 242, rfl⟩
abbrev main_cst_55 : Ref sig .tc := ⟨.hbm, 243, rfl⟩
abbrev main_v139 : Ref sig .tc := ⟨.hbm, 244, rfl⟩
abbrev main_v140 : Ref sig .tc := ⟨.hbm, 245, rfl⟩
abbrev main_v141 : Ref sig .tc := ⟨.hbm, 246, rfl⟩
abbrev main_cst_56 : Ref sig .tc := ⟨.hbm, 247, rfl⟩
abbrev main_v142 : Ref sig .tc := ⟨.hbm, 248, rfl⟩
abbrev main_v143 : Ref sig .tc := ⟨.hbm, 249, rfl⟩
abbrev main_v144 : Ref sig .tc := ⟨.hbm, 250, rfl⟩
abbrev main_cst_57 : Ref sig .tc := ⟨.hbm, 251, rfl⟩
abbrev main_v145 : Ref sig .tc := ⟨.hbm, 252, rfl⟩
abbrev main_v146 : Ref sig .tc := ⟨.hbm, 253, rfl⟩
abbrev main_v147 : Ref sig .tc := ⟨.hbm, 254, rfl⟩
abbrev main_cst_58 : Ref sig .tc := ⟨.hbm, 255, rfl⟩
abbrev main_v148 : Ref sig .tc := ⟨.hbm, 256, rfl⟩
abbrev main_v149 : Ref sig .tc := ⟨.hbm, 257, rfl⟩
abbrev main_cst_59 : Ref sig .tc := ⟨.hbm, 258, rfl⟩
abbrev main_v150 : Ref sig .tc := ⟨.hbm, 259, rfl⟩
abbrev main_cst_60 : Ref sig .tc := ⟨.hbm, 260, rfl⟩
abbrev main_v151 : Ref sig .tc := ⟨.hbm, 261, rfl⟩
abbrev main_v152 : Ref sig .tc := ⟨.hbm, 262, rfl⟩
abbrev main_cst_61 : Ref sig .tc := ⟨.hbm, 263, rfl⟩
abbrev main_v153 : Ref sig .tc := ⟨.hbm, 264, rfl⟩
abbrev main_v154 : Ref sig .tc := ⟨.hbm, 265, rfl⟩
abbrev main_v155 : Ref sig .tc := ⟨.hbm, 266, rfl⟩
abbrev main_cst_62 : Ref sig .tc := ⟨.hbm, 267, rfl⟩
abbrev main_v156 : Ref sig .tc := ⟨.hbm, 268, rfl⟩
abbrev main_v157 : Ref sig .tc := ⟨.hbm, 269, rfl⟩
abbrev main_v158 : Ref sig .tc := ⟨.hbm, 270, rfl⟩
abbrev main_cst_63 : Ref sig .tc := ⟨.hbm, 271, rfl⟩
abbrev main_v159 : Ref sig .tc := ⟨.hbm, 272, rfl⟩
abbrev main_v160 : Ref sig .tc := ⟨.hbm, 273, rfl⟩
abbrev main_v161 : Ref sig .tc := ⟨.hbm, 274, rfl⟩
abbrev main_cst_64 : Ref sig .tc := ⟨.hbm, 275, rfl⟩
abbrev main_v162 : Ref sig .tc := ⟨.hbm, 276, rfl⟩
abbrev main_v163 : Ref sig .tc := ⟨.hbm, 277, rfl⟩
abbrev main_cst_65 : Ref sig .tc := ⟨.hbm, 278, rfl⟩
abbrev main_v164 : Ref sig .tc := ⟨.hbm, 279, rfl⟩
abbrev main_v165 : Ref sig .tc := ⟨.hbm, 280, rfl⟩
abbrev main_v166 : Ref sig .tc := ⟨.hbm, 281, rfl⟩
abbrev main_cst_66 : Ref sig .tc := ⟨.hbm, 282, rfl⟩
abbrev main_v167 : Ref sig .tc := ⟨.hbm, 283, rfl⟩
abbrev main_v168 : Ref sig .tc := ⟨.hbm, 284, rfl⟩
abbrev main_v169 : Ref sig .tc := ⟨.hbm, 285, rfl⟩
abbrev main_cst_67 : Ref sig .tc := ⟨.hbm, 286, rfl⟩
abbrev main_v170 : Ref sig .tc := ⟨.hbm, 287, rfl⟩
abbrev main_v171 : Ref sig .tc := ⟨.hbm, 288, rfl⟩
abbrev main_v172 : Ref sig .tc := ⟨.hbm, 289, rfl⟩
abbrev main_cst_68 : Ref sig .tc := ⟨.hbm, 290, rfl⟩
abbrev main_v173 : Ref sig .tc := ⟨.hbm, 291, rfl⟩
abbrev main_v174 : Ref sig .tc := ⟨.hbm, 292, rfl⟩
abbrev main_cst_69 : Ref sig .tc := ⟨.hbm, 293, rfl⟩
abbrev main_v175 : Ref sig .tc := ⟨.hbm, 294, rfl⟩
abbrev main_cst_70 : Ref sig .tc := ⟨.hbm, 295, rfl⟩
abbrev main_v176 : Ref sig .tc := ⟨.hbm, 296, rfl⟩
abbrev main_v177 : Ref sig .tc := ⟨.hbm, 297, rfl⟩
abbrev main_cst_71 : Ref sig .tc := ⟨.hbm, 298, rfl⟩
abbrev main_v178 : Ref sig .tc := ⟨.hbm, 299, rfl⟩
abbrev main_v179 : Ref sig .tc := ⟨.hbm, 300, rfl⟩
abbrev main_v180 : Ref sig .tc := ⟨.hbm, 301, rfl⟩
abbrev main_cst_72 : Ref sig .tc := ⟨.hbm, 302, rfl⟩
abbrev main_v181 : Ref sig .tc := ⟨.hbm, 303, rfl⟩
abbrev main_v182 : Ref sig .tc := ⟨.hbm, 304, rfl⟩
abbrev main_v183 : Ref sig .tc := ⟨.hbm, 305, rfl⟩
abbrev main_cst_73 : Ref sig .tc := ⟨.hbm, 306, rfl⟩
abbrev main_v184 : Ref sig .tc := ⟨.hbm, 307, rfl⟩
abbrev main_v185 : Ref sig .tc := ⟨.hbm, 308, rfl⟩
abbrev main_v186 : Ref sig .tc := ⟨.hbm, 309, rfl⟩
abbrev main_cst_74 : Ref sig .tc := ⟨.hbm, 310, rfl⟩
abbrev main_v187 : Ref sig .tc := ⟨.hbm, 311, rfl⟩
abbrev main_v188 : Ref sig .tc := ⟨.hbm, 312, rfl⟩
abbrev main_cst_75 : Ref sig .tc := ⟨.hbm, 313, rfl⟩
abbrev main_v189 : Ref sig .tc := ⟨.hbm, 314, rfl⟩
abbrev main_v190 : Ref sig .tc := ⟨.hbm, 315, rfl⟩
abbrev main_v191 : Ref sig .tc := ⟨.hbm, 316, rfl⟩
abbrev main_cst_76 : Ref sig .tc := ⟨.hbm, 317, rfl⟩
abbrev main_v192 : Ref sig .tc := ⟨.hbm, 318, rfl⟩
abbrev main_v193 : Ref sig .tc := ⟨.hbm, 319, rfl⟩
abbrev main_v194 : Ref sig .tc := ⟨.hbm, 320, rfl⟩
abbrev main_cst_77 : Ref sig .tc := ⟨.hbm, 321, rfl⟩
abbrev main_v195 : Ref sig .tc := ⟨.hbm, 322, rfl⟩
abbrev main_v196 : Ref sig .tc := ⟨.hbm, 323, rfl⟩
abbrev main_v197 : Ref sig .tc := ⟨.hbm, 324, rfl⟩
abbrev main_cst_78 : Ref sig .tc := ⟨.hbm, 325, rfl⟩
abbrev main_v198 : Ref sig .tc := ⟨.hbm, 326, rfl⟩
abbrev main_v199 : Ref sig .tc := ⟨.hbm, 327, rfl⟩
abbrev main_cst_79 : Ref sig .tc := ⟨.hbm, 328, rfl⟩
abbrev main_v200 : Ref sig .tc := ⟨.hbm, 329, rfl⟩
abbrev main_cst_80 : Ref sig .tc := ⟨.hbm, 330, rfl⟩
abbrev main_v201 : Ref sig .tc := ⟨.hbm, 331, rfl⟩
abbrev main_v202 : Ref sig .tc := ⟨.hbm, 332, rfl⟩
abbrev main_cst_81 : Ref sig .tc := ⟨.hbm, 333, rfl⟩
abbrev main_v203 : Ref sig .tc := ⟨.hbm, 334, rfl⟩
abbrev main_v204 : Ref sig .tc := ⟨.hbm, 335, rfl⟩
abbrev main_v205 : Ref sig .tc := ⟨.hbm, 336, rfl⟩
abbrev main_cst_82 : Ref sig .tc := ⟨.hbm, 337, rfl⟩
abbrev main_v206 : Ref sig .tc := ⟨.hbm, 338, rfl⟩
abbrev main_v207 : Ref sig .tc := ⟨.hbm, 339, rfl⟩
abbrev main_v208 : Ref sig .tc := ⟨.hbm, 340, rfl⟩
abbrev main_cst_83 : Ref sig .tc := ⟨.hbm, 341, rfl⟩
abbrev main_v209 : Ref sig .tc := ⟨.hbm, 342, rfl⟩
abbrev main_v210 : Ref sig .tc := ⟨.hbm, 343, rfl⟩
abbrev main_v211 : Ref sig .tc := ⟨.hbm, 344, rfl⟩
abbrev main_cst_84 : Ref sig .tc := ⟨.hbm, 345, rfl⟩
abbrev main_v212 : Ref sig .tc := ⟨.hbm, 346, rfl⟩
abbrev main_v213 : Ref sig .tc := ⟨.hbm, 347, rfl⟩
abbrev main_cst_85 : Ref sig .tc := ⟨.hbm, 348, rfl⟩
abbrev main_v214 : Ref sig .tc := ⟨.hbm, 349, rfl⟩
abbrev main_v215 : Ref sig .tc := ⟨.hbm, 350, rfl⟩
abbrev main_v216 : Ref sig .tc := ⟨.hbm, 351, rfl⟩
abbrev main_cst_86 : Ref sig .tc := ⟨.hbm, 352, rfl⟩
abbrev main_v217 : Ref sig .tc := ⟨.hbm, 353, rfl⟩
abbrev main_v218 : Ref sig .tc := ⟨.hbm, 354, rfl⟩
abbrev main_v219 : Ref sig .tc := ⟨.hbm, 355, rfl⟩
abbrev main_cst_87 : Ref sig .tc := ⟨.hbm, 356, rfl⟩
abbrev main_v220 : Ref sig .tc := ⟨.hbm, 357, rfl⟩
abbrev main_v221 : Ref sig .tc := ⟨.hbm, 358, rfl⟩
abbrev main_v222 : Ref sig .tc := ⟨.hbm, 359, rfl⟩
abbrev main_cst_88 : Ref sig .tc := ⟨.hbm, 360, rfl⟩
abbrev main_v223 : Ref sig .tc := ⟨.hbm, 361, rfl⟩
abbrev main_v224 : Ref sig .tc := ⟨.hbm, 362, rfl⟩
abbrev main_cst_89 : Ref sig .tc := ⟨.hbm, 363, rfl⟩
abbrev main_v225 : Ref sig .tc := ⟨.hbm, 364, rfl⟩
abbrev main_cst_90 : Ref sig .tc := ⟨.hbm, 365, rfl⟩
abbrev main_v226 : Ref sig .tc := ⟨.hbm, 366, rfl⟩
abbrev main_v227 : Ref sig .tc := ⟨.hbm, 367, rfl⟩
abbrev main_cst_91 : Ref sig .tc := ⟨.hbm, 368, rfl⟩
abbrev main_v228 : Ref sig .tc := ⟨.hbm, 369, rfl⟩
abbrev main_v229 : Ref sig .tc := ⟨.hbm, 370, rfl⟩
abbrev main_v230 : Ref sig .tc := ⟨.hbm, 371, rfl⟩
abbrev main_cst_92 : Ref sig .tc := ⟨.hbm, 372, rfl⟩
abbrev main_v231 : Ref sig .tc := ⟨.hbm, 373, rfl⟩
abbrev main_v232 : Ref sig .tc := ⟨.hbm, 374, rfl⟩
abbrev main_v233 : Ref sig .tc := ⟨.hbm, 375, rfl⟩
abbrev main_cst_93 : Ref sig .tc := ⟨.hbm, 376, rfl⟩
abbrev main_v234 : Ref sig .tc := ⟨.hbm, 377, rfl⟩
abbrev main_v235 : Ref sig .tc := ⟨.hbm, 378, rfl⟩
abbrev main_v236 : Ref sig .tc := ⟨.hbm, 379, rfl⟩
abbrev main_cst_94 : Ref sig .tc := ⟨.hbm, 380, rfl⟩
abbrev main_v237 : Ref sig .tc := ⟨.hbm, 381, rfl⟩
abbrev main_v238 : Ref sig .tc := ⟨.hbm, 382, rfl⟩
abbrev main_cst_95 : Ref sig .tc := ⟨.hbm, 383, rfl⟩
abbrev main_v239 : Ref sig .tc := ⟨.hbm, 384, rfl⟩
abbrev main_v240 : Ref sig .tc := ⟨.hbm, 385, rfl⟩
abbrev main_v241 : Ref sig .tc := ⟨.hbm, 386, rfl⟩
abbrev main_cst_96 : Ref sig .tc := ⟨.hbm, 387, rfl⟩
abbrev main_v242 : Ref sig .tc := ⟨.hbm, 388, rfl⟩
abbrev main_v243 : Ref sig .tc := ⟨.hbm, 389, rfl⟩
abbrev main_v244 : Ref sig .tc := ⟨.hbm, 390, rfl⟩
abbrev main_cst_97 : Ref sig .tc := ⟨.hbm, 391, rfl⟩
abbrev main_v245 : Ref sig .tc := ⟨.hbm, 392, rfl⟩
abbrev main_v246 : Ref sig .tc := ⟨.hbm, 393, rfl⟩
abbrev main_v247 : Ref sig .tc := ⟨.hbm, 394, rfl⟩
abbrev main_cst_98 : Ref sig .tc := ⟨.hbm, 395, rfl⟩
abbrev main_v248 : Ref sig .tc := ⟨.hbm, 396, rfl⟩
abbrev main_v249 : Ref sig .tc := ⟨.hbm, 397, rfl⟩
abbrev main_cst_99 : Ref sig .tc := ⟨.hbm, 398, rfl⟩
abbrev main_v250 : Ref sig .tc := ⟨.hbm, 399, rfl⟩
abbrev main_cst_100 : Ref sig .tc := ⟨.hbm, 400, rfl⟩
abbrev main_v251 : Ref sig .tc := ⟨.hbm, 401, rfl⟩
abbrev main_v252 : Ref sig .tc := ⟨.hbm, 402, rfl⟩
abbrev main_cst_101 : Ref sig .tc := ⟨.hbm, 403, rfl⟩
abbrev main_v253 : Ref sig .tc := ⟨.hbm, 404, rfl⟩
abbrev main_v254 : Ref sig .tc := ⟨.hbm, 405, rfl⟩
abbrev main_v255 : Ref sig .tc := ⟨.hbm, 406, rfl⟩
abbrev main_cst_102 : Ref sig .tc := ⟨.hbm, 407, rfl⟩
abbrev main_v256 : Ref sig .tc := ⟨.hbm, 408, rfl⟩
abbrev main_v257 : Ref sig .tc := ⟨.hbm, 409, rfl⟩
abbrev main_v258 : Ref sig .tc := ⟨.hbm, 410, rfl⟩
abbrev main_cst_103 : Ref sig .tc := ⟨.hbm, 411, rfl⟩
abbrev main_v259 : Ref sig .tc := ⟨.hbm, 412, rfl⟩
abbrev main_v260 : Ref sig .tc := ⟨.hbm, 413, rfl⟩
abbrev main_v261 : Ref sig .tc := ⟨.hbm, 414, rfl⟩
abbrev main_cst_104 : Ref sig .tc := ⟨.hbm, 415, rfl⟩
abbrev main_v262 : Ref sig .tc := ⟨.hbm, 416, rfl⟩
abbrev main_v263 : Ref sig .tc := ⟨.hbm, 417, rfl⟩
abbrev main_cst_105 : Ref sig .tc := ⟨.hbm, 418, rfl⟩
abbrev main_v264 : Ref sig .tc := ⟨.hbm, 419, rfl⟩
abbrev main_v265 : Ref sig .tc := ⟨.hbm, 420, rfl⟩
abbrev main_v266 : Ref sig .tc := ⟨.hbm, 421, rfl⟩
abbrev main_cst_106 : Ref sig .tc := ⟨.hbm, 422, rfl⟩
abbrev main_v267 : Ref sig .tc := ⟨.hbm, 423, rfl⟩
abbrev main_v268 : Ref sig .tc := ⟨.hbm, 424, rfl⟩
abbrev main_v269 : Ref sig .tc := ⟨.hbm, 425, rfl⟩
abbrev main_cst_107 : Ref sig .tc := ⟨.hbm, 426, rfl⟩
abbrev main_v270 : Ref sig .tc := ⟨.hbm, 427, rfl⟩
abbrev main_v271 : Ref sig .tc := ⟨.hbm, 428, rfl⟩
abbrev main_v272 : Ref sig .tc := ⟨.hbm, 429, rfl⟩
abbrev main_cst_108 : Ref sig .tc := ⟨.hbm, 430, rfl⟩
abbrev main_v273 : Ref sig .tc := ⟨.hbm, 431, rfl⟩
abbrev main_v274 : Ref sig .tc := ⟨.hbm, 432, rfl⟩
abbrev main_cst_109 : Ref sig .tc := ⟨.hbm, 433, rfl⟩
abbrev main_v275 : Ref sig .tc := ⟨.hbm, 434, rfl⟩
abbrev main_cst_110 : Ref sig .tc := ⟨.hbm, 435, rfl⟩
abbrev main_v276 : Ref sig .tc := ⟨.hbm, 436, rfl⟩
abbrev main_v277 : Ref sig .tc := ⟨.hbm, 437, rfl⟩
abbrev main_cst_111 : Ref sig .tc := ⟨.hbm, 438, rfl⟩
abbrev main_v278 : Ref sig .tc := ⟨.hbm, 439, rfl⟩
abbrev main_v279 : Ref sig .tc := ⟨.hbm, 440, rfl⟩
abbrev main_v280 : Ref sig .tc := ⟨.hbm, 441, rfl⟩
abbrev main_cst_112 : Ref sig .tc := ⟨.hbm, 442, rfl⟩
abbrev main_v281 : Ref sig .tc := ⟨.hbm, 443, rfl⟩
abbrev main_v282 : Ref sig .tc := ⟨.hbm, 444, rfl⟩
abbrev main_v283 : Ref sig .tc := ⟨.hbm, 445, rfl⟩
abbrev main_cst_113 : Ref sig .tc := ⟨.hbm, 446, rfl⟩
abbrev main_v284 : Ref sig .tc := ⟨.hbm, 447, rfl⟩
abbrev main_v285 : Ref sig .tc := ⟨.hbm, 448, rfl⟩
abbrev main_v286 : Ref sig .tc := ⟨.hbm, 449, rfl⟩
abbrev main_cst_114 : Ref sig .tc := ⟨.hbm, 450, rfl⟩
abbrev main_v287 : Ref sig .tc := ⟨.hbm, 451, rfl⟩
abbrev main_v288 : Ref sig .tc := ⟨.hbm, 452, rfl⟩
abbrev main_cst_115 : Ref sig .tc := ⟨.hbm, 453, rfl⟩
abbrev main_v289 : Ref sig .tc := ⟨.hbm, 454, rfl⟩
abbrev main_v290 : Ref sig .tc := ⟨.hbm, 455, rfl⟩
abbrev main_v291 : Ref sig .tc := ⟨.hbm, 456, rfl⟩
abbrev main_cst_116 : Ref sig .tc := ⟨.hbm, 457, rfl⟩
abbrev main_v292 : Ref sig .tc := ⟨.hbm, 458, rfl⟩
abbrev main_v293 : Ref sig .tc := ⟨.hbm, 459, rfl⟩
abbrev main_v294 : Ref sig .tc := ⟨.hbm, 460, rfl⟩
abbrev main_cst_117 : Ref sig .tc := ⟨.hbm, 461, rfl⟩
abbrev main_v295 : Ref sig .tc := ⟨.hbm, 462, rfl⟩
abbrev main_v296 : Ref sig .tc := ⟨.hbm, 463, rfl⟩
abbrev main_v297 : Ref sig .tc := ⟨.hbm, 464, rfl⟩
abbrev main_cst_118 : Ref sig .tc := ⟨.hbm, 465, rfl⟩
abbrev main_v298 : Ref sig .tc := ⟨.hbm, 466, rfl⟩
abbrev main_v299 : Ref sig .tc := ⟨.hbm, 467, rfl⟩

abbrev nD : Nat := 1
abbrev τ : Topo := Topo.v7x

variable {F : FTy → Type} [FloatOps F]
-- ==== Kernel28.lean ====
abbrev S8x1x64x64 : Shape := ⟨4, ![8, 1, 64, 64]⟩
abbrev S8x1x64 : Shape := ⟨3, ![8, 1, 64]⟩
abbrev S8x1x64x64x16 : Shape := ⟨5, ![8, 1, 64, 64, 16]⟩
abbrev S8x1x64x16x64 : Shape := ⟨5, ![8, 1, 64, 16, 64]⟩
abbrev S8x1x64x16 : Shape := ⟨4, ![8, 1, 64, 16]⟩
abbrev S8x1x1024 : Shape := ⟨3, ![8, 1, 1024]⟩
abbrev S8x1x2048 : Shape := ⟨3, ![8, 1, 2048]⟩
abbrev S8x1x5632 : Shape := ⟨3, ![8, 1, 5632]⟩
abbrev S8x2048 : Shape := ⟨2, ![8, 2048]⟩
abbrev S1x64x64 : Shape := ⟨3, ![1, 64, 64]⟩
abbrev S1x64 : Shape := ⟨2, ![1, 64]⟩
abbrev S1x64x64x16 : Shape := ⟨4, ![1, 64, 64, 16]⟩
abbrev S1x64x16x64 : Shape := ⟨4, ![1, 64, 16, 64]⟩
abbrev S1x64x16 : Shape := ⟨3, ![1, 64, 16]⟩
abbrev S1x1024 : Shape := ⟨2, ![1, 1024]⟩
abbrev S1x2048 : Shape := ⟨2, ![1, 2048]⟩
abbrev S1x5632 : Shape := ⟨2, ![1, 5632]⟩
abbrev S2048 : Shape := ⟨1, ![2048]⟩
abbrev S8x4096 : Shape := ⟨2, ![8, 4096]⟩
abbrev S8x64 : Shape := ⟨2, ![8, 64]⟩
abbrev S_ : Shape := ⟨0, ![]⟩
abbrev S8x1024 : Shape := ⟨2, ![8, 1024]⟩
abbrev S8x65536 : Shape := ⟨2, ![8, 65536]⟩
abbrev S8x5632 : Shape := ⟨2, ![8, 5632]⟩
abbrev S8x6144 : Shape := ⟨2, ![8, 6144]⟩
abbrev S11264 : Shape := ⟨1, ![11264]⟩
abbrev S8x11264 : Shape := ⟨2, ![8, 11264]⟩
abbrev S8x294912 : Shape := ⟨2, ![8, 294912]⟩
abbrev S8x2304x128 : Shape := ⟨3, ![8, 2304, 128]⟩
abbrev S4096 : Shape := ⟨1, ![4096]⟩
abbrev S64 : Shape := ⟨1, ![64]⟩
abbrev S1024 : Shape := ⟨1, ![1024]⟩
abbrev S65536 : Shape := ⟨1, ![65536]⟩
abbrev S5632 : Shape := ⟨1, ![5632]⟩
abbrev S6144 : Shape := ⟨1, ![6144]⟩
abbrev S294912 : Shape := ⟨1, ![294912]⟩
abbrev S2304x128 : Shape := ⟨2, ![2304, 128]⟩
abbrev S8x1152x128 : Shape := ⟨3, ![8, 1152, 128]⟩
abbrev S1152x128 : Shape := ⟨2, ![1152, 128]⟩
abbrev S1x1152x128 : Shape := ⟨3, ![1, 1152, 128]⟩
abbrev S32x128 : Shape := ⟨2, ![32, 128]⟩
abbrev S8x128 : Shape := ⟨2, ![8, 128]⟩
abbrev S512x128 : Shape := ⟨2, ![512, 128]⟩
abbrev S16x128 : Shape := ⟨2, ![16, 128]⟩
abbrev S48x128 : Shape := ⟨2, ![48, 128]⟩

abbrev nBuf : Space → Nat
  | .hbm => 174
  | .vmem => 16
  | .smem => 0
  | _ => 0

abbrev hbmTy0_0 (i : Nat) : BufTy := match i % 128 with
  | 0 => ⟨S8x1x64x64, .f32⟩
  | 1 => ⟨S8x1x64x64, .f32⟩
  | 2 => ⟨S8x1x64, .f32⟩
  | 3 => ⟨S8x1x64x64x16, .f32⟩
  | 4 => ⟨S8x1x64x64x16, .f32⟩
  | 5 => ⟨S8x1x64x16x64, .f32⟩
  | 6 => ⟨S8x1x64x16x64, .f32⟩
  | 7 => ⟨S8x1x64x16, .f32⟩
  | 8 => ⟨S8x1x1024, .f32⟩
  | 9 => ⟨S8x1x2048, .f32⟩
  | 10 => ⟨S8x1x5632, .f32⟩
  | 11 => ⟨S8x2048, .f32⟩
  | 12 => ⟨S1x64x64, .f32⟩
  | 13 => ⟨S1x64x64, .f32⟩
  | 14 => ⟨S1x64, .f32⟩
  | 15 => ⟨S1x64x64x16, .f32⟩
  | 16 => ⟨S1x64x64x16, .f32⟩
  | 17 => ⟨S1x64x16x64, .f32⟩
  | 18 => ⟨S1x64x16x64, .f32⟩
  | 19 => ⟨S1x64x16, .f32⟩
  | 20 => ⟨S1x1024, .f32⟩
  | 21 => ⟨S1x2048, .f32⟩
  | 22 => ⟨S1x5632, .f32⟩
  | 23 => ⟨S2048, .f32⟩
  | 24 => ⟨S1x64x64, .f32⟩
  | 25 => ⟨S1x64x64, .f32⟩
  | 26 => ⟨S1x64, .f32⟩
  | 27 => ⟨S1x64x64x16, .f32⟩
  | 28 => ⟨S1x64x64x16, .f32⟩
  | 29 => ⟨S1x64x16x64, .f32⟩
  | 30 => ⟨S1x64x16x64, .f32⟩
  | 31 => ⟨S1x64x16, .f32⟩
  | 32 => ⟨S1x1024, .f32⟩
  | 33 => ⟨S1x2048, .f32⟩
  | 34 => ⟨S1x5632, .f32⟩
  | 35 => ⟨S2048, .f32⟩
  | 36 => ⟨S1x64x64, .f32⟩
  | 37 => ⟨S1x64x64, .f32⟩
  | 38 => ⟨S1x64, .f32⟩
  | 39 => ⟨S1x64x64x16, .f32⟩
  | 40 => ⟨S1x64x64x16, .f32⟩
  | 41 => ⟨S1x64x16x64, .f32⟩
  | 42 => ⟨S1x64x16x64, .f32⟩
  | 43 => ⟨S1x64x16, .f32⟩
  | 44 => ⟨S1x1024, .f32⟩
  | 45 => ⟨S1x2048, .f32⟩
  | 46 => ⟨S1x5632, .f32⟩
  | 47 => ⟨S2048, .f32⟩
  | 48 => ⟨S8x4096, .f32⟩
  | 49 => ⟨S8x4096, .f32⟩
  | 50 => ⟨S8x64, .f32⟩
  | 51 => ⟨S_, .i32⟩
  | 52 => ⟨S_, .f32⟩
  | 53 => ⟨S8x1024, .f32⟩
  | 54 => ⟨S8x65536, .f32⟩
  | 55 => ⟨S8x65536, .f32⟩
  | 56 => ⟨S8x65536, .f32⟩
  | 57 => ⟨S8x65536, .f32⟩
  | 58 => ⟨S8x1024, .f32⟩
  | 59 => ⟨S8x1024, .f32⟩
  | 60 => ⟨S8x2048, .f32⟩
  | 61 => ⟨S8x5632, .f32⟩
  | 62 => ⟨S_, .i32⟩
  | 63 => ⟨S_, .f32⟩
  | 64 => ⟨S8x6144, .f32⟩
  | 65 => ⟨S_, .f32⟩
  | 66 => ⟨S11264, .f32⟩
  | 67 => ⟨S8x11264, .f32⟩
  | 68 => ⟨S8x294912, .f32⟩
  | 69 => ⟨S8x2304x128, .f32⟩
  | 70 => ⟨S4096, .f32⟩
  | 71 => ⟨S4096, .f32⟩
  | 72 => ⟨S64, .f32⟩
  | 73 => ⟨S_, .i32⟩
  | 74 => ⟨S_, .f32⟩
  | 75 => ⟨S1024, .f32⟩
  | 76 => ⟨S65536, .f32⟩
  | 77 => ⟨S65536, .f32⟩
  | 78 => ⟨S65536, .f32⟩
  | 79 => ⟨S65536, .f32⟩
  | 80 => ⟨S1024, .f32⟩
  | 81 => ⟨S1024, .f32⟩
  | 82 => ⟨S2048, .f32⟩
  | 83 => ⟨S5632, .f32⟩
  | 84 => ⟨S_, .i32⟩
  | 85 => ⟨S_, .f32⟩
  | 86 => ⟨S6144, .f32⟩
  | 87 => ⟨S_, .f32⟩
  | 88 => ⟨S11264, .f32⟩
  | 89 => ⟨S294912, .f32⟩
  | 90 => ⟨S2304x128, .f32⟩
  | 91 => ⟨S4096, .f32⟩
  | 92 => ⟨S4096, .f32⟩
  | 93 => ⟨S64, .f32⟩
  | 94 => ⟨S_, .i32⟩
  | 95 => ⟨S_, .f32⟩
  | 96 => ⟨S1024, .f32⟩
  | 97 => ⟨S65536, .f32⟩
  | 98 => ⟨S65536, .f32⟩
  | 99 => ⟨S65536, .f32⟩
  | 100 => ⟨S65536, .f32⟩
  | 101 => ⟨S1024, .f32⟩
  | 102 => ⟨S1024, .f32⟩
  | 103 => ⟨S2048, .f32⟩
  | 104 => ⟨S5632, .f32⟩
  | 105 => ⟨S_, .i32⟩
  | 106 => ⟨S_, .f32⟩
  | 107 => ⟨S6144, .f32⟩
  | 108 => ⟨S_, .f32⟩
  | 109 => ⟨S11264, .f32⟩
  | 110 => ⟨S294912, .f32⟩
  | 111 => ⟨S2304x128, .f32⟩
  | 112 => ⟨S4096, .f32⟩
  | 113 => ⟨S4096, .f32⟩
  | 114 => ⟨S64, .f32⟩
  | 115 => ⟨S_, .i32⟩
  | 116 => ⟨S_, .f32⟩
  | 117 => ⟨S1024, .f32⟩
  | 118 => ⟨S65536, .f32⟩
  | 119 => ⟨S65536, .f32⟩
  | 120 => ⟨S65536, .f32⟩
  | 121 => ⟨S65536, .f32⟩
  | 122 => ⟨S1024, .f32⟩
  | 123 => ⟨S1024, .f32⟩
  | 124 => ⟨S2048, .f32⟩
  | 125 => ⟨S5632, .f32⟩
  | 126 => ⟨S_, .i32⟩
  | 127 => ⟨S_, .f32⟩
  | _ => ⟨S8x1x64x64, .f32⟩

abbrev hbmTy0_1 (i : Nat) : BufTy := match i % 128 with
  | 0 => ⟨S6144, .f32⟩
  | 1 => ⟨S_, .f32⟩
  | 2 => ⟨S11264, .f32⟩
  | 3 => ⟨S294912, .f32⟩
  | 4 => ⟨S2304x128, .f32⟩
  | 5 => ⟨S2304x128, .f32⟩
  | 6 => ⟨S2304x128, .f32⟩
  | 7 => ⟨S2304x128, .f32⟩
  | 8 => ⟨S2304x128, .f32⟩
  | 9 => ⟨S32x128, .f32⟩
  | 10 => ⟨S4096, .f32⟩
  | 11 => ⟨S1x64x64, .f32⟩
  | 12 => ⟨S32x128, .f32⟩
  | 13 => ⟨S4096, .f32⟩
  | 14 => ⟨S1x64x64, .f32⟩
  | 15 => ⟨S8x128, .f32⟩
  | 16 => ⟨S1024, .f32⟩
  | 17 => ⟨S64, .f32⟩
  | 18 => ⟨S1x64, .f32⟩
  | 19 => ⟨S512x128, .f32⟩
  | 20 => ⟨S65536, .f32⟩
  | 21 => ⟨S1x64x64x16, .f32⟩
  | 22 => ⟨S512x128, .f32⟩
  | 23 => ⟨S65536, .f32⟩
  | 24 => ⟨S1x64x64x16, .f32⟩
  | 25 => ⟨S512x128, .f32⟩
  | 26 => ⟨S65536, .f32⟩
  | 27 => ⟨S1x64x16x64, .f32⟩
  | 28 => ⟨S512x128, .f32⟩
  | 29 => ⟨S65536, .f32⟩
  | 30 => ⟨S1x64x16x64, .f32⟩
  | 31 => ⟨S8x128, .f32⟩
  | 32 => ⟨S1024, .f32⟩
  | 33 => ⟨S1x64x16, .f32⟩
  | 34 => ⟨S8x128, .f32⟩
  | 35 => ⟨S1024, .f32⟩
  | 36 => ⟨S1x1024, .f32⟩
  | 37 => ⟨S16x128, .f32⟩
  | 38 => ⟨S2048, .f32⟩
  | 39 => ⟨S1x2048, .f32⟩
  | 40 => ⟨S48x128, .f32⟩
  | 41 => ⟨S6144, .f32⟩
  | 42 => ⟨S5632, .f32⟩
  | 43 => ⟨S1x5632, .f32⟩
  | 44 => ⟨S16x128, .f32⟩
  | 45 => ⟨S2048, .f32⟩
  | _ => ⟨S8x1x64x64, .f32⟩

abbrev hbmTy (i : Nat) : BufTy := match i / 128 with
  | 0 => hbmTy0_0 i
  | 1 => hbmTy0_1 i
  | _ => ⟨S8x1x64x64, .f32⟩

abbrev bufTy : (tb : Table) → Fin (tcTables nBuf tb) → BufTy
  | .hbm, ⟨i, _⟩ => hbmTy i
  | .local _ .vmem, ⟨0, _⟩ => ⟨S8x1152x128, .f32⟩
  | .local _ .vmem, ⟨1, _⟩ => ⟨S8x1152x128, .f32⟩
  | .local _ .vmem, ⟨2, _⟩ => ⟨S1152x128, .f32⟩
  | .local _ .vmem, ⟨3, _⟩ => ⟨S1152x128, .f32⟩
  | .local _ .vmem, ⟨4, _⟩ => ⟨S1152x128, .f32⟩
  | .local _ .vmem, ⟨5, _⟩ => ⟨S1152x128, .f32⟩
  | .local _ .vmem, ⟨6, _⟩ => ⟨S1152x128, .f32⟩
  | .local _ .vmem, ⟨7, _⟩ => ⟨S1152x128, .f32⟩
  | .local _ .vmem, ⟨8, _⟩ => ⟨S1152x128, .f32⟩
  | .local _ .vmem, ⟨9, _⟩ => ⟨S1152x128, .f32⟩
  | .local _ .vmem, ⟨10, _⟩ => ⟨S1152x128, .f32⟩
  | .local _ .vmem, ⟨11, _⟩ => ⟨S1152x128, .f32⟩
  | .local _ .vmem, ⟨12, _⟩ => ⟨S1152x128, .f32⟩
  | .local _ .vmem, ⟨13, _⟩ => ⟨S1152x128, .f32⟩
  | .local _ .vmem, ⟨14, _⟩ => ⟨S1152x128, .f32⟩
  | .local _ .vmem, ⟨15, _⟩ => ⟨S1152x128, .f32⟩
  | _, _ => ⟨S8x1x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_v0 : Ref sig .tc := ⟨.hbm, 48, rfl⟩
abbrev main_v1 : Ref sig .tc := ⟨.hbm, 49, rfl⟩
abbrev main_v2 : Ref sig .tc := ⟨.hbm, 50, rfl⟩
abbrev main_c : Ref sig .tc := ⟨.hbm, 51, rfl⟩
abbrev main_call0_v0 : Ref sig .tc := ⟨.hbm, 52, rfl⟩
abbrev main_v3 : Ref sig .tc := ⟨.hbm, 53, rfl⟩
abbrev main_v4 : Ref sig .tc := ⟨.hbm, 54, rfl⟩
abbrev main_v5 : Ref sig .tc := ⟨.hbm, 55, rfl⟩
abbrev main_v6 : Ref sig .tc := ⟨.hbm, 56, rfl⟩
abbrev main_v7 : Ref sig .tc := ⟨.hbm, 57, rfl⟩
abbrev main_v8 : Ref sig .tc := ⟨.hbm, 58, rfl⟩
abbrev main_v9 : Ref sig .tc := ⟨.hbm, 59, rfl⟩
abbrev main_v10 : Ref sig .tc := ⟨.hbm, 60, rfl⟩
abbrev main_v11 : Ref sig .tc := ⟨.hbm, 61, rfl⟩
abbrev main_c_0 : Ref sig .tc := ⟨.hbm, 62, rfl⟩
abbrev main_call1_v0 : Ref sig .tc := ⟨.hbm, 63, rfl⟩
abbrev main_v12 : Ref sig .tc := ⟨.hbm, 64, rfl⟩
abbrev main_cst : Ref sig .tc := ⟨.hbm, 65, rfl⟩
abbrev main_v13 : Ref sig .tc := ⟨.hbm, 66, rfl⟩
abbrev main_v14 : Ref sig .tc := ⟨.hbm, 67, rfl⟩
abbrev main_v15 : Ref sig .tc := ⟨.hbm, 68, rfl⟩
abbrev main_v16 : Ref sig .tc := ⟨.hbm, 69, rfl⟩
abbrev main_v17 : Ref sig .tc := ⟨.hbm, 70, rfl⟩
abbrev main_v18 : Ref sig .tc := ⟨.hbm, 71, rfl⟩
abbrev main_v19 : Ref sig .tc := ⟨.hbm, 72, rfl⟩
abbrev main_c_1 : Ref sig .tc := ⟨.hbm, 73, rfl⟩
abbrev main_call2_v0 : Ref sig .tc := ⟨.hbm, 74, rfl⟩
abbrev main_v20 : Ref sig .tc := ⟨.hbm, 75, rfl⟩
abbrev main_v21 : Ref sig .tc := ⟨.hbm, 76, rfl⟩
abbrev main_v22 : Ref sig .tc := ⟨.hbm, 77, rfl⟩
abbrev main_v23 : Ref sig .tc := ⟨.hbm, 78, rfl⟩
abbrev main_v24 : Ref sig .tc := ⟨.hbm, 79, rfl⟩
abbrev main_v25 : Ref sig .tc := ⟨.hbm, 80, rfl⟩
abbrev main_v26 : Ref sig .tc := ⟨.hbm, 81, rfl⟩
abbrev main_v27 : Ref sig .tc := ⟨.hbm, 82, rfl⟩
abbrev main_v28 : Ref sig .tc := ⟨.hbm, 83, rfl⟩
abbrev main_c_2 : Ref sig .tc := ⟨.hbm, 84, rfl⟩
abbrev main_call3_v0 : Ref sig .tc := ⟨.hbm, 85, rfl⟩
abbrev main_v29 : Ref sig .tc := ⟨.hbm, 86, rfl⟩
abbrev main_cst_3 : Ref sig .tc := ⟨.hbm, 87, rfl⟩
abbrev main_v30 : Ref sig .tc := ⟨.hbm, 88, rfl⟩
abbrev main_v31 : Ref sig .tc := ⟨.hbm, 89, rfl⟩
abbrev main_v32 : Ref sig .tc := ⟨.hbm, 90, rfl⟩
abbrev main_v33 : Ref sig .tc := ⟨.hbm, 91, rfl⟩
abbrev main_v34 : Ref sig .tc := ⟨.hbm, 92, rfl⟩
abbrev main_v35 : Ref sig .tc := ⟨.hbm, 93, rfl⟩
abbrev main_c_4 : Ref sig .tc := ⟨.hbm, 94, rfl⟩
abbrev main_call4_v0 : Ref sig .tc := ⟨.hbm, 95, rfl⟩
abbrev main_v36 : Ref sig .tc := ⟨.hbm, 96, rfl⟩
abbrev main_v37 : Ref sig .tc := ⟨.hbm, 97, rfl⟩
abbrev main_v38 : Ref sig .tc := ⟨.hbm, 98, rfl⟩
abbrev main_v39 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_v43 : Ref sig .tc := ⟨.hbm, 103, rfl⟩
abbrev main_v44 : Ref sig .tc := ⟨.hbm, 104, rfl⟩
abbrev main_c_5 : Ref sig .tc := ⟨.hbm, 105, rfl⟩
abbrev main_call5_v0 : Ref sig .tc := ⟨.hbm, 106, rfl⟩
abbrev main_v45 : Ref sig .tc := ⟨.hbm, 107, rfl⟩
abbrev main_cst_6 : Ref sig .tc := ⟨.hbm, 108, rfl⟩
abbrev main_v46 : Ref sig .tc := ⟨.hbm, 109, rfl⟩
abbrev main_v47 : Ref sig .tc := ⟨.hbm, 110, rfl⟩
abbrev main_v48 : Ref sig .tc := ⟨.hbm, 111, rfl⟩
abbrev main_v49 : Ref sig .tc := ⟨.hbm, 112, rfl⟩
abbrev main_v50 : Ref sig .tc := ⟨.hbm, 113, rfl⟩
abbrev main_v51 : Ref sig .tc := ⟨.hbm, 114, rfl⟩
abbrev main_c_7 : Ref sig .tc := ⟨.hbm, 115, rfl⟩
abbrev main_call6_v0 : Ref sig .tc := ⟨.hbm, 116, rfl⟩
abbrev main_v52 : Ref sig .tc := ⟨.hbm, 117, rfl⟩
abbrev main_v53 : Ref sig .tc := ⟨.hbm, 118, rfl⟩
abbrev main_v54 : Ref sig .tc := ⟨.hbm, 119, rfl⟩
abbrev main_v55 : Ref sig .tc := ⟨.hbm, 120, rfl⟩
abbrev main_v56 : Ref sig .tc := ⟨.hbm, 121, rfl⟩
abbrev main_v57 : Ref sig .tc := ⟨.hbm, 122, rfl⟩
abbrev main_v58 : Ref sig .tc := ⟨.hbm, 123, rfl⟩
abbrev main_v59 : Ref sig .tc := ⟨.hbm, 124, rfl⟩
abbrev main_v60 : Ref sig .tc := ⟨.hbm, 125, rfl⟩
abbrev main_c_8 : Ref sig .tc := ⟨.hbm, 126, rfl⟩
abbrev main_call7_v0 : Ref sig .tc := ⟨.hbm, 127, rfl⟩
abbrev main_v61 : Ref sig .tc := ⟨.hbm, 128, rfl⟩
abbrev main_cst_9 : Ref sig .tc := ⟨.hbm, 129, rfl⟩
abbrev main_v62 : Ref sig .tc := ⟨.hbm, 130, rfl⟩
abbrev main_v63 : Ref sig .tc := ⟨.hbm, 131, rfl⟩
abbrev main_v64 : Ref sig .tc := ⟨.hbm, 132, rfl⟩
abbrev main_v65_0 : Ref sig .tc := ⟨.hbm, 133, rfl⟩
abbrev main_v65_1 : Ref sig .tc := ⟨.hbm, 134, rfl⟩
abbrev main_v65_2 : Ref sig .tc := ⟨.hbm, 135, rfl⟩
abbrev main_v65_3 : Ref sig .tc := ⟨.hbm, 136, rfl⟩
abbrev main_v66 : Ref sig .tc := ⟨.hbm, 137, rfl⟩
abbrev main_v67 : Ref sig .tc := ⟨.hbm, 138, rfl⟩
abbrev main_v68 : Ref sig .tc := ⟨.hbm, 139, rfl⟩
abbrev main_v69 : Ref sig .tc := ⟨.hbm, 140, rfl⟩
abbrev main_v70 : Ref sig .tc := ⟨.hbm, 141, rfl⟩
abbrev main_v71 : Ref sig .tc := ⟨.hbm, 142, rfl⟩
abbrev main_v72 : Ref sig .tc := ⟨.hbm, 143, rfl⟩
abbrev main_v73 : Ref sig .tc := ⟨.hbm, 144, rfl⟩
abbrev main_v74 : Ref sig .tc := ⟨.hbm, 145, rfl⟩
abbrev main_v75 : Ref sig .tc := ⟨.hbm, 146, rfl⟩
abbrev main_v76 : Ref sig .tc := ⟨.hbm, 147, rfl⟩
abbrev main_v77 : Ref sig .tc := ⟨.hbm, 148, rfl⟩
abbrev main_v78 : Ref sig .tc := ⟨.hbm, 149, rfl⟩
abbrev main_v79 : Ref sig .tc := ⟨.hbm, 150, rfl⟩
abbrev main_v80 : Ref sig .tc := ⟨.hbm, 151, rfl⟩
abbrev main_v81 : Ref sig .tc := ⟨.hbm, 152, rfl⟩
abbrev main_v82 : Ref sig .tc := ⟨.hbm, 153, rfl⟩
abbrev main_v83 : Ref sig .tc := ⟨.hbm, 154, rfl⟩
abbrev main_v84 : Ref sig .tc := ⟨.hbm, 155, rfl⟩
abbrev main_v85 : Ref sig .tc := ⟨.hbm, 156, rfl⟩
abbrev main_v86 : Ref sig .tc := ⟨.hbm, 157, rfl⟩
abbrev main_v87 : Ref sig .tc := ⟨.hbm, 158, rfl⟩
abbrev main_v88 : Ref sig .tc := ⟨.hbm, 159, rfl⟩
abbrev main_v89 : Ref sig .tc := ⟨.hbm, 160, rfl⟩
abbrev main_v90 : Ref sig .tc := ⟨.hbm, 161, rfl⟩
abbrev main_v91 : Ref sig .tc := ⟨.hbm, 162, rfl⟩
abbrev main_v92 : Ref sig .tc := ⟨.hbm, 163, rfl⟩
abbrev main_v93 : Ref sig .tc := ⟨.hbm, 164, rfl⟩
abbrev main_v94 : Ref sig .tc := ⟨.hbm, 165, rfl⟩
abbrev main_v95 : Ref sig .tc := ⟨.hbm, 166, rfl⟩
abbrev main_v96 : Ref sig .tc := ⟨.hbm, 167, rfl⟩
abbrev main_v97 : Ref sig .tc := ⟨.hbm, 168, rfl⟩
abbrev main_v98 : Ref sig .tc := ⟨.hbm, 169, rfl⟩
abbrev main_v99 : Ref sig .tc := ⟨.hbm, 170, rfl⟩
abbrev main_v100 : Ref sig .tc := ⟨.hbm, 171, rfl⟩
abbrev main_v101 : Ref sig .tc := ⟨.hbm, 172, rfl⟩
abbrev main_v102 : Ref sig .tc := ⟨.hbm, 173, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x1152x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1152x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1152x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1152x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1152x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1152x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1152x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1152x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference28Ideal.lean ====
abbrev S8x1x64x64 : Shape := ⟨4, ![8, 1, 64, 64]⟩
abbrev S8x1x64 : Shape := ⟨3, ![8, 1, 64]⟩
abbrev S8x1x64x64x16 : Shape := ⟨5, ![8, 1, 64, 64, 16]⟩
abbrev S8x1x64x16x64 : Shape := ⟨5, ![8, 1, 64, 16, 64]⟩
abbrev S8x1x64x16 : Shape := ⟨4, ![8, 1, 64, 16]⟩
abbrev S8x1x1024 : Shape := ⟨3, ![8, 1, 1024]⟩
abbrev S8x1x2048 : Shape := ⟨3, ![8, 1, 2048]⟩
abbrev S8x1x5632 : Shape := ⟨3, ![8, 1, 5632]⟩
abbrev S8x2048 : Shape := ⟨2, ![8, 2048]⟩
abbrev S1x64x64 : Shape := ⟨3, ![1, 64, 64]⟩
abbrev S1x64 : Shape := ⟨2, ![1, 64]⟩
abbrev S1x64x64x16 : Shape := ⟨4, ![1, 64, 64, 16]⟩
abbrev S1x64x16x64 : Shape := ⟨4, ![1, 64, 16, 64]⟩
abbrev S1x64x16 : Shape := ⟨3, ![1, 64, 16]⟩
abbrev S1x1024 : Shape := ⟨2, ![1, 1024]⟩
abbrev S1x2048 : Shape := ⟨2, ![1, 2048]⟩
abbrev S1x5632 : Shape := ⟨2, ![1, 5632]⟩
abbrev S2048 : Shape := ⟨1, ![2048]⟩
abbrev S_ : Shape := ⟨0, ![]⟩

abbrev nBuf : Space → Nat
  | .hbm => 468
  | .vmem => 0
  | .smem => 0
  | _ => 0

abbrev hbmTy0_0 (i : Nat) : BufTy := match i % 128 with
  | 0 => ⟨S8x1x64x64, .f32⟩
  | 1 => ⟨S8x1x64x64, .f32⟩
  | 2 => ⟨S8x1x64, .f32⟩
  | 3 => ⟨S8x1x64x64x16, .f32⟩
  | 4 => ⟨S8x1x64x64x16, .f32⟩
  | 5 => ⟨S8x1x64x16x64, .f32⟩
  | 6 => ⟨S8x1x64x16x64, .f32⟩
  | 7 => ⟨S8x1x64x16, .f32⟩
  | 8 => ⟨S8x1x1024, .f32⟩
  | 9 => ⟨S8x1x2048, .f32⟩
  | 10 => ⟨S8x1x5632, .f32⟩
  | 11 => ⟨S8x2048, .f32⟩
  | 12 => ⟨S1x64x64, .f32⟩
  | 13 => ⟨S1x64x64, .f32⟩
  | 14 => ⟨S1x64, .f32⟩
  | 15 => ⟨S1x64x64x16, .f32⟩
  | 16 => ⟨S1x64x64x16, .f32⟩
  | 17 => ⟨S1x64x16x64, .f32⟩
  | 18 => ⟨S1x64x16x64, .f32⟩
  | 19 => ⟨S1x64x16, .f32⟩
  | 20 => ⟨S1x1024, .f32⟩
  | 21 => ⟨S1x2048, .f32⟩
  | 22 => ⟨S1x5632, .f32⟩
  | 23 => ⟨S2048, .f32⟩
  | 24 => ⟨S1x64x64, .f32⟩
  | 25 => ⟨S1x64x64, .f32⟩
  | 26 => ⟨S1x64, .f32⟩
  | 27 => ⟨S1x64x64x16, .f32⟩
  | 28 => ⟨S1x64x64x16, .f32⟩
  | 29 => ⟨S1x64x16x64, .f32⟩
  | 30 => ⟨S1x64x16x64, .f32⟩
  | 31 => ⟨S1x64x16, .f32⟩
  | 32 => ⟨S1x1024, .f32⟩
  | 33 => ⟨S1x2048, .f32⟩
  | 34 => ⟨S1x5632, .f32⟩
  | 35 => ⟨S2048, .f32⟩
  | 36 => ⟨S1x64x64, .f32⟩
  | 37 => ⟨S1x64x64, .f32⟩
  | 38 => ⟨S1x64, .f32⟩
  | 39 => ⟨S1x64x64x16, .f32⟩
  | 40 => ⟨S1x64x64x16, .f32⟩
  | 41 => ⟨S1x64x16x64, .f32⟩
  | 42 => ⟨S1x64x16x64, .f32⟩
  | 43 => ⟨S1x64x16, .f32⟩
  | 44 => ⟨S1x1024, .f32⟩
  | 45 => ⟨S1x2048, .f32⟩
  | 46 => ⟨S1x5632, .f32⟩
  | 47 => ⟨S2048, .f32⟩
  | 48 => ⟨S_, .f32⟩
  | 49 => ⟨S1x64x64, .f32⟩
  | 50 => ⟨S_, .f32⟩
  | 51 => ⟨S1x64x64, .f32⟩
  | 52 => ⟨S1x64x64, .f32⟩
  | 53 => ⟨S_, .f32⟩
  | 54 => ⟨S1x64x64, .f32⟩
  | 55 => ⟨S1x64x64, .f32⟩
  | 56 => ⟨S1x64x64, .f32⟩
  | 57 => ⟨S_, .f32⟩
  | 58 => ⟨S1x64x64, .f32⟩
  | 59 => ⟨S1x64x64, .f32⟩
  | 60 => ⟨S1x64x64, .f32⟩
  | 61 => ⟨S_, .f32⟩
  | 62 => ⟨S1x64x64, .f32⟩
  | 63 => ⟨S1x64x64, .f32⟩
  | 64 => ⟨S1x64x64, .f32⟩
  | 65 => ⟨S_, .f32⟩
  | 66 => ⟨S1x64x64, .f32⟩
  | 67 => ⟨S1x64x64, .f32⟩
  | 68 => ⟨S_, .f32⟩
  | 69 => ⟨S1x64x64, .f32⟩
  | 70 => ⟨S1x64x64, .f32⟩
  | 71 => ⟨S1x64x64, .f32⟩
  | 72 => ⟨S_, .f32⟩
  | 73 => ⟨S1x64x64, .f32⟩
  | 74 => ⟨S1x64x64, .f32⟩
  | 75 => ⟨S1x64x64, .f32⟩
  | 76 => ⟨S_, .f32⟩
  | 77 => ⟨S1x64x64, .f32⟩
  | 78 => ⟨S1x64x64, .f32⟩
  | 79 => ⟨S1x64x64, .f32⟩
  | 80 => ⟨S_, .f32⟩
  | 81 => ⟨S1x64x64, .f32⟩
  | 82 => ⟨S1x64x64, .f32⟩
  | 83 => ⟨S_, .f32⟩
  | 84 => ⟨S1x64x64, .f32⟩
  | 85 => ⟨S_, .f32⟩
  | 86 => ⟨S1x64x64, .f32⟩
  | 87 => ⟨S1x64x64, .f32⟩
  | 88 => ⟨S_, .f32⟩
  | 89 => ⟨S1x64x64, .f32⟩
  | 90 => ⟨S1x64x64, .f32⟩
  | 91 => ⟨S1x64x64, .f32⟩
  | 92 => ⟨S_, .f32⟩
  | 93 => ⟨S1x64x64, .f32⟩
  | 94 => ⟨S1x64x64, .f32⟩
  | 95 => ⟨S1x64x64, .f32⟩
  | 96 => ⟨S_, .f32⟩
  | 97 => ⟨S1x64x64, .f32⟩
  | 98 => ⟨S1x64x64, .f32⟩
  | 99 => ⟨S1x64x64, .f32⟩
  | 100 => ⟨S_, .f32⟩
  | 101 => ⟨S1x64x64, .f32⟩
  | 102 => ⟨S1x64x64, .f32⟩
  | 103 => ⟨S_, .f32⟩
  | 104 => ⟨S1x64x64, .f32⟩
  | 105 => ⟨S1x64x64, .f32⟩
  | 106 => ⟨S1x64x64, .f32⟩
  | 107 => ⟨S_, .f32⟩
  | 108 => ⟨S1x64x64, .f32⟩
  | 109 => ⟨S1x64x64, .f32⟩
  | 110 => ⟨S1x64x64, .f32⟩
  | 111 => ⟨S_, .f32⟩
  | 112 => ⟨S1x64x64, .f32⟩
  | 113 => ⟨S1x64x64, .f32⟩
  | 114 => ⟨S1x64x64, .f32⟩
  | 115 => ⟨S_, .f32⟩
  | 116 => ⟨S1x64x64, .f32⟩
  | 117 => ⟨S1x64x64, .f32⟩
  | 118 => ⟨S_, .f32⟩
  | 119 => ⟨S1x64, .f32⟩
  | 120 => ⟨S_, .f32⟩
  | 121 => ⟨S1x64, .f32⟩
  | 122 => ⟨S1x64, .f32⟩
  | 123 => ⟨S_, .f32⟩
  | 124 => ⟨S1x64, .f32⟩
  | 125 => ⟨S1x64, .f32⟩
  | 126 => ⟨S1x64, .f32⟩
  | 127 => ⟨S_, .f32⟩
  | _ => ⟨S8x1x64x64, .f32⟩

abbrev hbmTy0_1 (i : Nat) : BufTy := match i % 128 with
  | 0 => ⟨S1x64, .f32⟩
  | 1 => ⟨S1x64, .f32⟩
  | 2 => ⟨S1x64, .f32⟩
  | 3 => ⟨S_, .f32⟩
  | 4 => ⟨S1x64, .f32⟩
  | 5 => ⟨S1x64, .f32⟩
  | 6 => ⟨S1x64, .f32⟩
  | 7 => ⟨S_, .f32⟩
  | 8 => ⟨S1x64, .f32⟩
  | 9 => ⟨S1x64, .f32⟩
  | 10 => ⟨S_, .f32⟩
  | 11 => ⟨S1x64, .f32⟩
  | 12 => ⟨S1x64, .f32⟩
  | 13 => ⟨S1x64, .f32⟩
  | 14 => ⟨S_, .f32⟩
  | 15 => ⟨S1x64, .f32⟩
  | 16 => ⟨S1x64, .f32⟩
  | 17 => ⟨S1x64, .f32⟩
  | 18 => ⟨S_, .f32⟩
  | 19 => ⟨S1x64, .f32⟩
  | 20 => ⟨S1x64, .f32⟩
  | 21 => ⟨S1x64, .f32⟩
  | 22 => ⟨S_, .f32⟩
  | 23 => ⟨S1x64, .f32⟩
  | 24 => ⟨S1x64, .f32⟩
  | 25 => ⟨S_, .f32⟩
  | 26 => ⟨S1x64x64x16, .f32⟩
  | 27 => ⟨S_, .f32⟩
  | 28 => ⟨S1x64x64x16, .f32⟩
  | 29 => ⟨S1x64x64x16, .f32⟩
  | 30 => ⟨S_, .f32⟩
  | 31 => ⟨S1x64x64x16, .f32⟩
  | 32 => ⟨S1x64x64x16, .f32⟩
  | 33 => ⟨S1x64x64x16, .f32⟩
  | 34 => ⟨S_, .f32⟩
  | 35 => ⟨S1x64x64x16, .f32⟩
  | 36 => ⟨S1x64x64x16, .f32⟩
  | 37 => ⟨S1x64x64x16, .f32⟩
  | 38 => ⟨S_, .f32⟩
  | 39 => ⟨S1x64x64x16, .f32⟩
  | 40 => ⟨S1x64x64x16, .f32⟩
  | 41 => ⟨S1x64x64x16, .f32⟩
  | 42 => ⟨S_, .f32⟩
  | 43 => ⟨S1x64x64x16, .f32⟩
  | 44 => ⟨S1x64x64x16, .f32⟩
  | 45 => ⟨S_, .f32⟩
  | 46 => ⟨S1x64x64x16, .f32⟩
  | 47 => ⟨S1x64x64x16, .f32⟩
  | 48 => ⟨S1x64x64x16, .f32⟩
  | 49 => ⟨S_, .f32⟩
  | 50 => ⟨S1x64x64x16, .f32⟩
  | 51 => ⟨S1x64x64x16, .f32⟩
  | 52 => ⟨S1x64x64x16, .f32⟩
  | 53 => ⟨S_, .f32⟩
  | 54 => ⟨S1x64x64x16, .f32⟩
  | 55 => ⟨S1x64x64x16, .f32⟩
  | 56 => ⟨S1x64x64x16, .f32⟩
  | 57 => ⟨S_, .f32⟩
  | 58 => ⟨S1x64x64x16, .f32⟩
  | 59 => ⟨S1x64x64x16, .f32⟩
  | 60 => ⟨S_, .f32⟩
  | 61 => ⟨S1x64x64x16, .f32⟩
  | 62 => ⟨S_, .f32⟩
  | 63 => ⟨S1x64x64x16, .f32⟩
  | 64 => ⟨S1x64x64x16, .f32⟩
  | 65 => ⟨S_, .f32⟩
  | 66 => ⟨S1x64x64x16, .f32⟩
  | 67 => ⟨S1x64x64x16, .f32⟩
  | 68 => ⟨S1x64x64x16, .f32⟩
  | 69 => ⟨S_, .f32⟩
  | 70 => ⟨S1x64x64x16, .f32⟩
  | 71 => ⟨S1x64x64x16, .f32⟩
  | 72 => ⟨S1x64x64x16, .f32⟩
  | 73 => ⟨S_, .f32⟩
  | 74 => ⟨S1x64x64x16, .f32⟩
  | 75 => ⟨S1x64x64x16, .f32⟩
  | 76 => ⟨S1x64x64x16, .f32⟩
  | 77 => ⟨S_, .f32⟩
  | 78 => ⟨S1x64x64x16, .f32⟩
  | 79 => ⟨S1x64x64x16, .f32⟩
  | 80 => ⟨S_, .f32⟩
  | 81 => ⟨S1x64x64x16, .f32⟩
  | 82 => ⟨S1x64x64x16, .f32⟩
  | 83 => ⟨S1x64x64x16, .f32⟩
  | 84 => ⟨S_, .f32⟩
  | 85 => ⟨S1x64x64x16, .f32⟩
  | 86 => ⟨S1x64x64x16, .f32⟩
  | 87 => ⟨S1x64x64x16, .f32⟩
  | 88 => ⟨S_, .f32⟩
  | 89 => ⟨S1x64x64x16, .f32⟩
  | 90 => ⟨S1x64x64x16, .f32⟩
  | 91 => ⟨S1x64x64x16, .f32⟩
  | 92 => ⟨S_, .f32⟩
  | 93 => ⟨S1x64x64x16, .f32⟩
  | 94 => ⟨S1x64x64x16, .f32⟩
  | 95 => ⟨S_, .f32⟩
  | 96 => ⟨S1x64x16x64, .f32⟩
  | 97 => ⟨S_, .f32⟩
  | 98 => ⟨S1x64x16x64, .f32⟩
  | 99 => ⟨S1x64x16x64, .f32⟩
  | 100 => ⟨S_, .f32⟩
  | 101 => ⟨S1x64x16x64, .f32⟩
  | 102 => ⟨S1x64x16x64, .f32⟩
  | 103 => ⟨S1x64x16x64, .f32⟩
  | 104 => ⟨S_, .f32⟩
  | 105 => ⟨S1x64x16x64, .f32⟩
  | 106 => ⟨S1x64x16x64, .f32⟩
  | 107 => ⟨S1x64x16x64, .f32⟩
  | 108 => ⟨S_, .f32⟩
  | 109 => ⟨S1x64x16x64, .f32⟩
  | 110 => ⟨S1x64x16x64, .f32⟩
  | 111 => ⟨S1x64x16x64, .f32⟩
  | 112 => ⟨S_, .f32⟩
  | 113 => ⟨S1x64x16x64, .f32⟩
  | 114 => ⟨S1x64x16x64, .f32⟩
  | 115 => ⟨S_, .f32⟩
  | 116 => ⟨S1x64x16x64, .f32⟩
  | 117 => ⟨S1x64x16x64, .f32⟩
  | 118 => ⟨S1x64x16x64, .f32⟩
  | 119 => ⟨S_, .f32⟩
  | 120 => ⟨S1x64x16x64, .f32⟩
  | 121 => ⟨S1x64x16x64, .f32⟩
  | 122 => ⟨S1x64x16x64, .f32⟩
  | 123 => ⟨S_, .f32⟩
  | 124 => ⟨S1x64x16x64, .f32⟩
  | 125 => ⟨S1x64x16x64, .f32⟩
  | 126 => ⟨S1x64x16x64, .f32⟩
  | 127 => ⟨S_, .f32⟩
  | _ => ⟨S8x1x64x64, .f32⟩

abbrev hbmTy0_2 (i : Nat) : BufTy := match i % 128 with
  | 0 => ⟨S1x64x16x64, .f32⟩
  | 1 => ⟨S1x64x16x64, .f32⟩
  | 2 => ⟨S_, .f32⟩
  | 3 => ⟨S1x64x16x64, .f32⟩
  | 4 => ⟨S_, .f32⟩
  | 5 => ⟨S1x64x16x64, .f32⟩
  | 6 => ⟨S1x64x16x64, .f32⟩
  | 7 => ⟨S_, .f32⟩
  | 8 => ⟨S1x64x16x64, .f32⟩
  | 9 => ⟨S1x64x16x64, .f32⟩
  | 10 => ⟨S1x64x16x64, .f32⟩
  | 11 => ⟨S_, .f32⟩
  | 12 => ⟨S1x64x16x64, .f32⟩
  | 13 => ⟨S1x64x16x64, .f32⟩
  | 14 => ⟨S1x64x16x64, .f32⟩
  | 15 => ⟨S_, .f32⟩
  | 16 => ⟨S1x64x16x64, .f32⟩
  | 17 => ⟨S1x64x16x64, .f32⟩
  | 18 => ⟨S1x64x16x64, .f32⟩
  | 19 => ⟨S_, .f32⟩
  | 20 => ⟨S1x64x16x64, .f32⟩
  | 21 => ⟨S1x64x16x64, .f32⟩
  | 22 => ⟨S_, .f32⟩
  | 23 => ⟨S1x64x16x64, .f32⟩
  | 24 => ⟨S1x64x16x64, .f32⟩
  | 25 => ⟨S1x64x16x64, .f32⟩
  | 26 => ⟨S_, .f32⟩
  | 27 => ⟨S1x64x16x64, .f32⟩
  | 28 => ⟨S1x64x16x64, .f32⟩
  | 29 => ⟨S1x64x16x64, .f32⟩
  | 30 => ⟨S_, .f32⟩
  | 31 => ⟨S1x64x16x64, .f32⟩
  | 32 => ⟨S1x64x16x64, .f32⟩
  | 33 => ⟨S1x64x16x64, .f32⟩
  | 34 => ⟨S_, .f32⟩
  | 35 => ⟨S1x64x16x64, .f32⟩
  | 36 => ⟨S1x64x16x64, .f32⟩
  | 37 => ⟨S_, .f32⟩
  | 38 => ⟨S1x64x16, .f32⟩
  | 39 => ⟨S_, .f32⟩
  | 40 => ⟨S1x64x16, .f32⟩
  | 41 => ⟨S1x64x16, .f32⟩
  | 42 => ⟨S_, .f32⟩
  | 43 => ⟨S1x64x16, .f32⟩
  | 44 => ⟨S1x64x16, .f32⟩
  | 45 => ⟨S1x64x16, .f32⟩
  | 46 => ⟨S_, .f32⟩
  | 47 => ⟨S1x64x16, .f32⟩
  | 48 => ⟨S1x64x16, .f32⟩
  | 49 => ⟨S1x64x16, .f32⟩
  | 50 => ⟨S_, .f32⟩
  | 51 => ⟨S1x64x16, .f32⟩
  | 52 => ⟨S1x64x16, .f32⟩
  | 53 => ⟨S1x64x16, .f32⟩
  | 54 => ⟨S_, .f32⟩
  | 55 => ⟨S1x64x16, .f32⟩
  | 56 => ⟨S1x64x16, .f32⟩
  | 57 => ⟨S_, .f32⟩
  | 58 => ⟨S1x64x16, .f32⟩
  | 59 => ⟨S1x64x16, .f32⟩
  | 60 => ⟨S1x64x16, .f32⟩
  | 61 => ⟨S_, .f32⟩
  | 62 => ⟨S1x64x16, .f32⟩
  | 63 => ⟨S1x64x16, .f32⟩
  | 64 => ⟨S1x64x16, .f32⟩
  | 65 => ⟨S_, .f32⟩
  | 66 => ⟨S1x64x16, .f32⟩
  | 67 => ⟨S1x64x16, .f32⟩
  | 68 => ⟨S1x64x16, .f32⟩
  | 69 => ⟨S_, .f32⟩
  | 70 => ⟨S1x64x16, .f32⟩
  | 71 => ⟨S1x64x16, .f32⟩
  | 72 => ⟨S_, .f32⟩
  | 73 => ⟨S1x1024, .f32⟩
  | 74 => ⟨S_, .f32⟩
  | 75 => ⟨S1x1024, .f32⟩
  | 76 => ⟨S1x1024, .f32⟩
  | 77 => ⟨S_, .f32⟩
  | 78 => ⟨S1x1024, .f32⟩
  | 79 => ⟨S1x1024, .f32⟩
  | 80 => ⟨S1x1024, .f32⟩
  | 81 => ⟨S_, .f32⟩
  | 82 => ⟨S1x1024, .f32⟩
  | 83 => ⟨S1x1024, .f32⟩
  | 84 => ⟨S1x1024, .f32⟩
  | 85 => ⟨S_, .f32⟩
  | 86 => ⟨S1x1024, .f32⟩
  | 87 => ⟨S1x1024, .f32⟩
  | 88 => ⟨S1x1024, .f32⟩
  | 89 => ⟨S_, .f32⟩
  | 90 => ⟨S1x1024, .f32⟩
  | 91 => ⟨S1x1024, .f32⟩
  | 92 => ⟨S_, .f32⟩
  | 93 => ⟨S1x1024, .f32⟩
  | 94 => ⟨S1x1024, .f32⟩
  | 95 => ⟨S1x1024, .f32⟩
  | 96 => ⟨S_, .f32⟩
  | 97 => ⟨S1x1024, .f32⟩
  | 98 => ⟨S1x1024, .f32⟩
  | 99 => ⟨S1x1024, .f32⟩
  | 100 => ⟨S_, .f32⟩
  | 101 => ⟨S1x1024, .f32⟩
  | 102 => ⟨S1x1024, .f32⟩
  | 103 => ⟨S1x1024, .f32⟩
  | 104 => ⟨S_, .f32⟩
  | 105 => ⟨S1x1024, .f32⟩
  | 106 => ⟨S1x1024, .f32⟩
  | 107 => ⟨S_, .f32⟩
  | 108 => ⟨S1x2048, .f32⟩
  | 109 => ⟨S_, .f32⟩
  | 110 => ⟨S1x2048, .f32⟩
  | 111 => ⟨S1x2048, .f32⟩
  | 112 => ⟨S_, .f32⟩
  | 113 => ⟨S1x2048, .f32⟩
  | 114 => ⟨S1x2048, .f32⟩
  | 115 => ⟨S1x2048, .f32⟩
  | 116 => ⟨S_, .f32⟩
  | 117 => ⟨S1x2048, .f32⟩
  | 118 => ⟨S1x2048, .f32⟩
  | 119 => ⟨S1x2048, .f32⟩
  | 120 => ⟨S_, .f32⟩
  | 121 => ⟨S1x2048, .f32⟩
  | 122 => ⟨S1x2048, .f32⟩
  | 123 => ⟨S1x2048, .f32⟩
  | 124 => ⟨S_, .f32⟩
  | 125 => ⟨S1x2048, .f32⟩
  | 126 => ⟨S1x2048, .f32⟩
  | 127 => ⟨S_, .f32⟩
  | _ => ⟨S8x1x64x64, .f32⟩

abbrev hbmTy0_3 (i : Nat) : BufTy := match i % 128 with
  | 0 => ⟨S1x2048, .f32⟩
  | 1 => ⟨S1x2048, .f32⟩
  | 2 => ⟨S1x2048, .f32⟩
  | 3 => ⟨S_, .f32⟩
  | 4 => ⟨S1x2048, .f32⟩
  | 5 => ⟨S1x2048, .f32⟩
  | 6 => ⟨S1x2048, .f32⟩
  | 7 => ⟨S_, .f32⟩
  | 8 => ⟨S1x2048, .f32⟩
  | 9 => ⟨S1x2048, .f32⟩
  | 10 => ⟨S1x2048, .f32⟩
  | 11 => ⟨S_, .f32⟩
  | 12 => ⟨S1x2048, .f32⟩
  | 13 => ⟨S1x2048, .f32⟩
  | 14 => ⟨S_, .f32⟩
  | 15 => ⟨S1x5632, .f32⟩
  | 16 => ⟨S_, .f32⟩
  | 17 => ⟨S1x5632, .f32⟩
  | 18 => ⟨S1x5632, .f32⟩
  | 19 => ⟨S_, .f32⟩
  | 20 => ⟨S1x5632, .f32⟩
  | 21 => ⟨S1x5632, .f32⟩
  | 22 => ⟨S1x5632, .f32⟩
  | 23 => ⟨S_, .f32⟩
  | 24 => ⟨S1x5632, .f32⟩
  | 25 => ⟨S1x5632, .f32⟩
  | 26 => ⟨S1x5632, .f32⟩
  | 27 => ⟨S_, .f32⟩
  | 28 => ⟨S1x5632, .f32⟩
  | 29 => ⟨S1x5632, .f32⟩
  | 30 => ⟨S1x5632, .f32⟩
  | 31 => ⟨S_, .f32⟩
  | 32 => ⟨S1x5632, .f32⟩
  | 33 => ⟨S1x5632, .f32⟩
  | 34 => ⟨S_, .f32⟩
  | 35 => ⟨S1x5632, .f32⟩
  | 36 => ⟨S1x5632, .f32⟩
  | 37 => ⟨S1x5632, .f32⟩
  | 38 => ⟨S_, .f32⟩
  | 39 => ⟨S1x5632, .f32⟩
  | 40 => ⟨S1x5632, .f32⟩
  | 41 => ⟨S1x5632, .f32⟩
  | 42 => ⟨S_, .f32⟩
  | 43 => ⟨S1x5632, .f32⟩
  | 44 => ⟨S1x5632, .f32⟩
  | 45 => ⟨S1x5632, .f32⟩
  | 46 => ⟨S_, .f32⟩
  | 47 => ⟨S1x5632, .f32⟩
  | 48 => ⟨S1x5632, .f32⟩
  | 49 => ⟨S_, .f32⟩
  | 50 => ⟨S2048, .f32⟩
  | 51 => ⟨S_, .f32⟩
  | 52 => ⟨S2048, .f32⟩
  | 53 => ⟨S2048, .f32⟩
  | 54 => ⟨S_, .f32⟩
  | 55 => ⟨S2048, .f32⟩
  | 56 => ⟨S2048, .f32⟩
  | 57 => ⟨S2048, .f32⟩
  | 58 => ⟨S_, .f32⟩
  | 59 => ⟨S2048, .f32⟩
  | 60 => ⟨S2048, .f32⟩
  | 61 => ⟨S2048, .f32⟩
  | 62 => ⟨S_, .f32⟩
  | 63 => ⟨S2048, .f32⟩
  | 64 => ⟨S2048, .f32⟩
  | 65 => ⟨S2048, .f32⟩
  | 66 => ⟨S_, .f32⟩
  | 67 => ⟨S2048, .f32⟩
  | 68 => ⟨S2048, .f32⟩
  | 69 => ⟨S_, .f32⟩
  | 70 => ⟨S2048, .f32⟩
  | 71 => ⟨S2048, .f32⟩
  | 72 => ⟨S2048, .f32⟩
  | 73 => ⟨S_, .f32⟩
  | 74 => ⟨S2048, .f32⟩
  | 75 => ⟨S2048, .f32⟩
  | 76 => ⟨S2048, .f32⟩
  | 77 => ⟨S_, .f32⟩
  | 78 => ⟨S2048, .f32⟩
  | 79 => ⟨S2048, .f32⟩
  | 80 => ⟨S2048, .f32⟩
  | 81 => ⟨S_, .f32⟩
  | 82 => ⟨S2048, .f32⟩
  | 83 => ⟨S2048, .f32⟩
  | _ => ⟨S8x1x64x64, .f32⟩

abbrev hbmTy (i : Nat) : BufTy := match i / 128 with
  | 0 => hbmTy0_0 i
  | 1 => hbmTy0_1 i
  | 2 => hbmTy0_2 i
  | 3 => hbmTy0_3 i
  | _ => ⟨S8x1x64x64, .f32⟩

abbrev bufTy : (tb : Table) → Fin (tcTables nBuf tb) → BufTy
  | .hbm, ⟨i, _⟩ => hbmTy i
  | _, _ => ⟨S8x1x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_cst : Ref sig .tc := ⟨.hbm, 48, rfl⟩
abbrev main_v0 : Ref sig .tc := ⟨.hbm, 49, rfl⟩
abbrev main_cst_0 : Ref sig .tc := ⟨.hbm, 50, rfl⟩
abbrev main_v1 : Ref sig .tc := ⟨.hbm, 51, rfl⟩
abbrev main_v2 : Ref sig .tc := ⟨.hbm, 52, rfl⟩
abbrev main_cst_1 : Ref sig .tc := ⟨.hbm, 53, rfl⟩
abbrev main_v3 : Ref sig .tc := ⟨.hbm, 54, rfl⟩
abbrev main_v4 : Ref sig .tc := ⟨.hbm, 55, rfl⟩
abbrev main_v5 : Ref sig .tc := ⟨.hbm, 56, rfl⟩
abbrev main_cst_2 : Ref sig .tc := ⟨.hbm, 57, rfl⟩
abbrev main_v6 : Ref sig .tc := ⟨.hbm, 58, rfl⟩
abbrev main_v7 : Ref sig .tc := ⟨.hbm, 59, rfl⟩
abbrev main_v8 : Ref sig .tc := ⟨.hbm, 60, rfl⟩
abbrev main_cst_3 : Ref sig .tc := ⟨.hbm, 61, rfl⟩
abbrev main_v9 : Ref sig .tc := ⟨.hbm, 62, rfl⟩
abbrev main_v10 : Ref sig .tc := ⟨.hbm, 63, rfl⟩
abbrev main_v11 : Ref sig .tc := ⟨.hbm, 64, rfl⟩
abbrev main_cst_4 : Ref sig .tc := ⟨.hbm, 65, rfl⟩
abbrev main_v12 : Ref sig .tc := ⟨.hbm, 66, rfl⟩
abbrev main_v13 : Ref sig .tc := ⟨.hbm, 67, rfl⟩
abbrev main_cst_5 : Ref sig .tc := ⟨.hbm, 68, rfl⟩
abbrev main_v14 : Ref sig .tc := ⟨.hbm, 69, rfl⟩
abbrev main_v15 : Ref sig .tc := ⟨.hbm, 70, rfl⟩
abbrev main_v16 : Ref sig .tc := ⟨.hbm, 71, rfl⟩
abbrev main_cst_6 : Ref sig .tc := ⟨.hbm, 72, rfl⟩
abbrev main_v17 : Ref sig .tc := ⟨.hbm, 73, rfl⟩
abbrev main_v18 : Ref sig .tc := ⟨.hbm, 74, rfl⟩
abbrev main_v19 : Ref sig .tc := ⟨.hbm, 75, rfl⟩
abbrev main_cst_7 : Ref sig .tc := ⟨.hbm, 76, rfl⟩
abbrev main_v20 : Ref sig .tc := ⟨.hbm, 77, rfl⟩
abbrev main_v21 : Ref sig .tc := ⟨.hbm, 78, rfl⟩
abbrev main_v22 : Ref sig .tc := ⟨.hbm, 79, rfl⟩
abbrev main_cst_8 : Ref sig .tc := ⟨.hbm, 80, rfl⟩
abbrev main_v23 : Ref sig .tc := ⟨.hbm, 81, rfl⟩
abbrev main_v24 : Ref sig .tc := ⟨.hbm, 82, rfl⟩
abbrev main_cst_9 : Ref sig .tc := ⟨.hbm, 83, rfl⟩
abbrev main_v25 : Ref sig .tc := ⟨.hbm, 84, rfl⟩
abbrev main_cst_10 : Ref sig .tc := ⟨.hbm, 85, rfl⟩
abbrev main_v26 : Ref sig .tc := ⟨.hbm, 86, rfl⟩
abbrev main_v27 : Ref sig .tc := ⟨.hbm, 87, rfl⟩
abbrev main_cst_11 : Ref sig .tc := ⟨.hbm, 88, rfl⟩
abbrev main_v28 : Ref sig .tc := ⟨.hbm, 89, rfl⟩
abbrev main_v29 : Ref sig .tc := ⟨.hbm, 90, rfl⟩
abbrev main_v30 : Ref sig .tc := ⟨.hbm, 91, rfl⟩
abbrev main_cst_12 : Ref sig .tc := ⟨.hbm, 92, rfl⟩
abbrev main_v31 : Ref sig .tc := ⟨.hbm, 93, rfl⟩
abbrev main_v32 : Ref sig .tc := ⟨.hbm, 94, rfl⟩
abbrev main_v33 : Ref sig .tc := ⟨.hbm, 95, rfl⟩
abbrev main_cst_13 : Ref sig .tc := ⟨.hbm, 96, rfl⟩
abbrev main_v34 : Ref sig .tc := ⟨.hbm, 97, rfl⟩
abbrev main_v35 : Ref sig .tc := ⟨.hbm, 98, rfl⟩
abbrev main_v36 : Ref sig .tc := ⟨.hbm, 99, rfl⟩
abbrev main_cst_14 : Ref sig .tc := ⟨.hbm, 100, rfl⟩
abbrev main_v37 : Ref sig .tc := ⟨.hbm, 101, rfl⟩
abbrev main_v38 : Ref sig .tc := ⟨.hbm, 102, rfl⟩
abbrev main_cst_15 : Ref sig .tc := ⟨.hbm, 103, rfl⟩
abbrev main_v39 : Ref sig .tc := ⟨.hbm, 104, rfl⟩
abbrev main_v40 : Ref sig .tc := ⟨.hbm, 105, rfl⟩
abbrev main_v41 : Ref sig .tc := ⟨.hbm, 106, rfl⟩
abbrev main_cst_16 : Ref sig .tc := ⟨.hbm, 107, rfl⟩
abbrev main_v42 : Ref sig .tc := ⟨.hbm, 108, rfl⟩
abbrev main_v43 : Ref sig .tc := ⟨.hbm, 109, rfl⟩
abbrev main_v44 : Ref sig .tc := ⟨.hbm, 110, rfl⟩
abbrev main_cst_17 : Ref sig .tc := ⟨.hbm, 111, rfl⟩
abbrev main_v45 : Ref sig .tc := ⟨.hbm, 112, rfl⟩
abbrev main_v46 : Ref sig .tc := ⟨.hbm, 113, rfl⟩
abbrev main_v47 : Ref sig .tc := ⟨.hbm, 114, rfl⟩
abbrev main_cst_18 : Ref sig .tc := ⟨.hbm, 115, rfl⟩
abbrev main_v48 : Ref sig .tc := ⟨.hbm, 116, rfl⟩
abbrev main_v49 : Ref sig .tc := ⟨.hbm, 117, rfl⟩
abbrev main_cst_19 : Ref sig .tc := ⟨.hbm, 118, rfl⟩
abbrev main_v50 : Ref sig .tc := ⟨.hbm, 119, rfl⟩
abbrev main_cst_20 : Ref sig .tc := ⟨.hbm, 120, rfl⟩
abbrev main_v51 : Ref sig .tc := ⟨.hbm, 121, rfl⟩
abbrev main_v52 : Ref sig .tc := ⟨.hbm, 122, rfl⟩
abbrev main_cst_21 : Ref sig .tc := ⟨.hbm, 123, rfl⟩
abbrev main_v53 : Ref sig .tc := ⟨.hbm, 124, rfl⟩
abbrev main_v54 : Ref sig .tc := ⟨.hbm, 125, rfl⟩
abbrev main_v55 : Ref sig .tc := ⟨.hbm, 126, rfl⟩
abbrev main_cst_22 : Ref sig .tc := ⟨.hbm, 127, rfl⟩
abbrev main_v56 : Ref sig .tc := ⟨.hbm, 128, rfl⟩
abbrev main_v57 : Ref sig .tc := ⟨.hbm, 129, rfl⟩
abbrev main_v58 : Ref sig .tc := ⟨.hbm, 130, rfl⟩
abbrev main_cst_23 : Ref sig .tc := ⟨.hbm, 131, rfl⟩
abbrev main_v59 : Ref sig .tc := ⟨.hbm, 132, rfl⟩
abbrev main_v60 : Ref sig .tc := ⟨.hbm, 133, rfl⟩
abbrev main_v61 : Ref sig .tc := ⟨.hbm, 134, rfl⟩
abbrev main_cst_24 : Ref sig .tc := ⟨.hbm, 135, rfl⟩
abbrev main_v62 : Ref sig .tc := ⟨.hbm, 136, rfl⟩
abbrev main_v63 : Ref sig .tc := ⟨.hbm, 137, rfl⟩
abbrev main_cst_25 : Ref sig .tc := ⟨.hbm, 138, rfl⟩
abbrev main_v64 : Ref sig .tc := ⟨.hbm, 139, rfl⟩
abbrev main_v65 : Ref sig .tc := ⟨.hbm, 140, rfl⟩
abbrev main_v66 : Ref sig .tc := ⟨.hbm, 141, rfl⟩
abbrev main_cst_26 : Ref sig .tc := ⟨.hbm, 142, rfl⟩
abbrev main_v67 : Ref sig .tc := ⟨.hbm, 143, rfl⟩
abbrev main_v68 : Ref sig .tc := ⟨.hbm, 144, rfl⟩
abbrev main_v69 : Ref sig .tc := ⟨.hbm, 145, rfl⟩
abbrev main_cst_27 : Ref sig .tc := ⟨.hbm, 146, rfl⟩
abbrev main_v70 : Ref sig .tc := ⟨.hbm, 147, rfl⟩
abbrev main_v71 : Ref sig .tc := ⟨.hbm, 148, rfl⟩
abbrev main_v72 : Ref sig .tc := ⟨.hbm, 149, rfl⟩
abbrev main_cst_28 : Ref sig .tc := ⟨.hbm, 150, rfl⟩
abbrev main_v73 : Ref sig .tc := ⟨.hbm, 151, rfl⟩
abbrev main_v74 : Ref sig .tc := ⟨.hbm, 152, rfl⟩
abbrev main_cst_29 : Ref sig .tc := ⟨.hbm, 153, rfl⟩
abbrev main_v75 : Ref sig .tc := ⟨.hbm, 154, rfl⟩
abbrev main_cst_30 : Ref sig .tc := ⟨.hbm, 155, rfl⟩
abbrev main_v76 : Ref sig .tc := ⟨.hbm, 156, rfl⟩
abbrev main_v77 : Ref sig .tc := ⟨.hbm, 157, rfl⟩
abbrev main_cst_31 : Ref sig .tc := ⟨.hbm, 158, rfl⟩
abbrev main_v78 : Ref sig .tc := ⟨.hbm, 159, rfl⟩
abbrev main_v79 : Ref sig .tc := ⟨.hbm, 160, rfl⟩
abbrev main_v80 : Ref sig .tc := ⟨.hbm, 161, rfl⟩
abbrev main_cst_32 : Ref sig .tc := ⟨.hbm, 162, rfl⟩
abbrev main_v81 : Ref sig .tc := ⟨.hbm, 163, rfl⟩
abbrev main_v82 : Ref sig .tc := ⟨.hbm, 164, rfl⟩
abbrev main_v83 : Ref sig .tc := ⟨.hbm, 165, rfl⟩
abbrev main_cst_33 : Ref sig .tc := ⟨.hbm, 166, rfl⟩
abbrev main_v84 : Ref sig .tc := ⟨.hbm, 167, rfl⟩
abbrev main_v85 : Ref sig .tc := ⟨.hbm, 168, rfl⟩
abbrev main_v86 : Ref sig .tc := ⟨.hbm, 169, rfl⟩
abbrev main_cst_34 : Ref sig .tc := ⟨.hbm, 170, rfl⟩
abbrev main_v87 : Ref sig .tc := ⟨.hbm, 171, rfl⟩
abbrev main_v88 : Ref sig .tc := ⟨.hbm, 172, rfl⟩
abbrev main_cst_35 : Ref sig .tc := ⟨.hbm, 173, rfl⟩
abbrev main_v89 : Ref sig .tc := ⟨.hbm, 174, rfl⟩
abbrev main_v90 : Ref sig .tc := ⟨.hbm, 175, rfl⟩
abbrev main_v91 : Ref sig .tc := ⟨.hbm, 176, rfl⟩
abbrev main_cst_36 : Ref sig .tc := ⟨.hbm, 177, rfl⟩
abbrev main_v92 : Ref sig .tc := ⟨.hbm, 178, rfl⟩
abbrev main_v93 : Ref sig .tc := ⟨.hbm, 179, rfl⟩
abbrev main_v94 : Ref sig .tc := ⟨.hbm, 180, rfl⟩
abbrev main_cst_37 : Ref sig .tc := ⟨.hbm, 181, rfl⟩
abbrev main_v95 : Ref sig .tc := ⟨.hbm, 182, rfl⟩
abbrev main_v96 : Ref sig .tc := ⟨.hbm, 183, rfl⟩
abbrev main_v97 : Ref sig .tc := ⟨.hbm, 184, rfl⟩
abbrev main_cst_38 : Ref sig .tc := ⟨.hbm, 185, rfl⟩
abbrev main_v98 : Ref sig .tc := ⟨.hbm, 186, rfl⟩
abbrev main_v99 : Ref sig .tc := ⟨.hbm, 187, rfl⟩
abbrev main_cst_39 : Ref sig .tc := ⟨.hbm, 188, rfl⟩
abbrev main_v100 : Ref sig .tc := ⟨.hbm, 189, rfl⟩
abbrev main_cst_40 : Ref sig .tc := ⟨.hbm, 190, rfl⟩
abbrev main_v101 : Ref sig .tc := ⟨.hbm, 191, rfl⟩
abbrev main_v102 : Ref sig .tc := ⟨.hbm, 192, rfl⟩
abbrev main_cst_41 : Ref sig .tc := ⟨.hbm, 193, rfl⟩
abbrev main_v103 : Ref sig .tc := ⟨.hbm, 194, rfl⟩
abbrev main_v104 : Ref sig .tc := ⟨.hbm, 195, rfl⟩
abbrev main_v105 : Ref sig .tc := ⟨.hbm, 196, rfl⟩
abbrev main_cst_42 : Ref sig .tc := ⟨.hbm, 197, rfl⟩
abbrev main_v106 : Ref sig .tc := ⟨.hbm, 198, rfl⟩
abbrev main_v107 : Ref sig .tc := ⟨.hbm, 199, rfl⟩
abbrev main_v108 : Ref sig .tc := ⟨.hbm, 200, rfl⟩
abbrev main_cst_43 : Ref sig .tc := ⟨.hbm, 201, rfl⟩
abbrev main_v109 : Ref sig .tc := ⟨.hbm, 202, rfl⟩
abbrev main_v110 : Ref sig .tc := ⟨.hbm, 203, rfl⟩
abbrev main_v111 : Ref sig .tc := ⟨.hbm, 204, rfl⟩
abbrev main_cst_44 : Ref sig .tc := ⟨.hbm, 205, rfl⟩
abbrev main_v112 : Ref sig .tc := ⟨.hbm, 206, rfl⟩
abbrev main_v113 : Ref sig .tc := ⟨.hbm, 207, rfl⟩
abbrev main_cst_45 : Ref sig .tc := ⟨.hbm, 208, rfl⟩
abbrev main_v114 : Ref sig .tc := ⟨.hbm, 209, rfl⟩
abbrev main_v115 : Ref sig .tc := ⟨.hbm, 210, rfl⟩
abbrev main_v116 : Ref sig .tc := ⟨.hbm, 211, rfl⟩
abbrev main_cst_46 : Ref sig .tc := ⟨.hbm, 212, rfl⟩
abbrev main_v117 : Ref sig .tc := ⟨.hbm, 213, rfl⟩
abbrev main_v118 : Ref sig .tc := ⟨.hbm, 214, rfl⟩
abbrev main_v119 : Ref sig .tc := ⟨.hbm, 215, rfl⟩
abbrev main_cst_47 : Ref sig .tc := ⟨.hbm, 216, rfl⟩
abbrev main_v120 : Ref sig .tc := ⟨.hbm, 217, rfl⟩
abbrev main_v121 : Ref sig .tc := ⟨.hbm, 218, rfl⟩
abbrev main_v122 : Ref sig .tc := ⟨.hbm, 219, rfl⟩
abbrev main_cst_48 : Ref sig .tc := ⟨.hbm, 220, rfl⟩
abbrev main_v123 : Ref sig .tc := ⟨.hbm, 221, rfl⟩
abbrev main_v124 : Ref sig .tc := ⟨.hbm, 222, rfl⟩
abbrev main_cst_49 : Ref sig .tc := ⟨.hbm, 223, rfl⟩
abbrev main_v125 : Ref sig .tc := ⟨.hbm, 224, rfl⟩
abbrev main_cst_50 : Ref sig .tc := ⟨.hbm, 225, rfl⟩
abbrev main_v126 : Ref sig .tc := ⟨.hbm, 226, rfl⟩
abbrev main_v127 : Ref sig .tc := ⟨.hbm, 227, rfl⟩
abbrev main_cst_51 : Ref sig .tc := ⟨.hbm, 228, rfl⟩
abbrev main_v128 : Ref sig .tc := ⟨.hbm, 229, rfl⟩
abbrev main_v129 : Ref sig .tc := ⟨.hbm, 230, rfl⟩
abbrev main_v130 : Ref sig .tc := ⟨.hbm, 231, rfl⟩
abbrev main_cst_52 : Ref sig .tc := ⟨.hbm, 232, rfl⟩
abbrev main_v131 : Ref sig .tc := ⟨.hbm, 233, rfl⟩
abbrev main_v132 : Ref sig .tc := ⟨.hbm, 234, rfl⟩
abbrev main_v133 : Ref sig .tc := ⟨.hbm, 235, rfl⟩
abbrev main_cst_53 : Ref sig .tc := ⟨.hbm, 236, rfl⟩
abbrev main_v134 : Ref sig .tc := ⟨.hbm, 237, rfl⟩
abbrev main_v135 : Ref sig .tc := ⟨.hbm, 238, rfl⟩
abbrev main_v136 : Ref sig .tc := ⟨.hbm, 239, rfl⟩
abbrev main_cst_54 : Ref sig .tc := ⟨.hbm, 240, rfl⟩
abbrev main_v137 : Ref sig .tc := ⟨.hbm, 241, rfl⟩
abbrev main_v138 : Ref sig .tc := ⟨.hbm, 242, rfl⟩
abbrev main_cst_55 : Ref sig .tc := ⟨.hbm, 243, rfl⟩
abbrev main_v139 : Ref sig .tc := ⟨.hbm, 244, rfl⟩
abbrev main_v140 : Ref sig .tc := ⟨.hbm, 245, rfl⟩
abbrev main_v141 : Ref sig .tc := ⟨.hbm, 246, rfl⟩
abbrev main_cst_56 : Ref sig .tc := ⟨.hbm, 247, rfl⟩
abbrev main_v142 : Ref sig .tc := ⟨.hbm, 248, rfl⟩
abbrev main_v143 : Ref sig .tc := ⟨.hbm, 249, rfl⟩
abbrev main_v144 : Ref sig .tc := ⟨.hbm, 250, rfl⟩
abbrev main_cst_57 : Ref sig .tc := ⟨.hbm, 251, rfl⟩
abbrev main_v145 : Ref sig .tc := ⟨.hbm, 252, rfl⟩
abbrev main_v146 : Ref sig .tc := ⟨.hbm, 253, rfl⟩
abbrev main_v147 : Ref sig .tc := ⟨.hbm, 254, rfl⟩
abbrev main_cst_58 : Ref sig .tc := ⟨.hbm, 255, rfl⟩
abbrev main_v148 : Ref sig .tc := ⟨.hbm, 256, rfl⟩
abbrev main_v149 : Ref sig .tc := ⟨.hbm, 257, rfl⟩
abbrev main_cst_59 : Ref sig .tc := ⟨.hbm, 258, rfl⟩
abbrev main_v150 : Ref sig .tc := ⟨.hbm, 259, rfl⟩
abbrev main_cst_60 : Ref sig .tc := ⟨.hbm, 260, rfl⟩
abbrev main_v151 : Ref sig .tc := ⟨.hbm, 261, rfl⟩
abbrev main_v152 : Ref sig .tc := ⟨.hbm, 262, rfl⟩
abbrev main_cst_61 : Ref sig .tc := ⟨.hbm, 263, rfl⟩
abbrev main_v153 : Ref sig .tc := ⟨.hbm, 264, rfl⟩
abbrev main_v154 : Ref sig .tc := ⟨.hbm, 265, rfl⟩
abbrev main_v155 : Ref sig .tc := ⟨.hbm, 266, rfl⟩
abbrev main_cst_62 : Ref sig .tc := ⟨.hbm, 267, rfl⟩
abbrev main_v156 : Ref sig .tc := ⟨.hbm, 268, rfl⟩
abbrev main_v157 : Ref sig .tc := ⟨.hbm, 269, rfl⟩
abbrev main_v158 : Ref sig .tc := ⟨.hbm, 270, rfl⟩
abbrev main_cst_63 : Ref sig .tc := ⟨.hbm, 271, rfl⟩
abbrev main_v159 : Ref sig .tc := ⟨.hbm, 272, rfl⟩
abbrev main_v160 : Ref sig .tc := ⟨.hbm, 273, rfl⟩
abbrev main_v161 : Ref sig .tc := ⟨.hbm, 274, rfl⟩
abbrev main_cst_64 : Ref sig .tc := ⟨.hbm, 275, rfl⟩
abbrev main_v162 : Ref sig .tc := ⟨.hbm, 276, rfl⟩
abbrev main_v163 : Ref sig .tc := ⟨.hbm, 277, rfl⟩
abbrev main_cst_65 : Ref sig .tc := ⟨.hbm, 278, rfl⟩
abbrev main_v164 : Ref sig .tc := ⟨.hbm, 279, rfl⟩
abbrev main_v165 : Ref sig .tc := ⟨.hbm, 280, rfl⟩
abbrev main_v166 : Ref sig .tc := ⟨.hbm, 281, rfl⟩
abbrev main_cst_66 : Ref sig .tc := ⟨.hbm, 282, rfl⟩
abbrev main_v167 : Ref sig .tc := ⟨.hbm, 283, rfl⟩
abbrev main_v168 : Ref sig .tc := ⟨.hbm, 284, rfl⟩
abbrev main_v169 : Ref sig .tc := ⟨.hbm, 285, rfl⟩
abbrev main_cst_67 : Ref sig .tc := ⟨.hbm, 286, rfl⟩
abbrev main_v170 : Ref sig .tc := ⟨.hbm, 287, rfl⟩
abbrev main_v171 : Ref sig .tc := ⟨.hbm, 288, rfl⟩
abbrev main_v172 : Ref sig .tc := ⟨.hbm, 289, rfl⟩
abbrev main_cst_68 : Ref sig .tc := ⟨.hbm, 290, rfl⟩
abbrev main_v173 : Ref sig .tc := ⟨.hbm, 291, rfl⟩
abbrev main_v174 : Ref sig .tc := ⟨.hbm, 292, rfl⟩
abbrev main_cst_69 : Ref sig .tc := ⟨.hbm, 293, rfl⟩
abbrev main_v175 : Ref sig .tc := ⟨.hbm, 294, rfl⟩
abbrev main_cst_70 : Ref sig .tc := ⟨.hbm, 295, rfl⟩
abbrev main_v176 : Ref sig .tc := ⟨.hbm, 296, rfl⟩
abbrev main_v177 : Ref sig .tc := ⟨.hbm, 297, rfl⟩
abbrev main_cst_71 : Ref sig .tc := ⟨.hbm, 298, rfl⟩
abbrev main_v178 : Ref sig .tc := ⟨.hbm, 299, rfl⟩
abbrev main_v179 : Ref sig .tc := ⟨.hbm, 300, rfl⟩
abbrev main_v180 : Ref sig .tc := ⟨.hbm, 301, rfl⟩
abbrev main_cst_72 : Ref sig .tc := ⟨.hbm, 302, rfl⟩
abbrev main_v181 : Ref sig .tc := ⟨.hbm, 303, rfl⟩
abbrev main_v182 : Ref sig .tc := ⟨.hbm, 304, rfl⟩
abbrev main_v183 : Ref sig .tc := ⟨.hbm, 305, rfl⟩
abbrev main_cst_73 : Ref sig .tc := ⟨.hbm, 306, rfl⟩
abbrev main_v184 : Ref sig .tc := ⟨.hbm, 307, rfl⟩
abbrev main_v185 : Ref sig .tc := ⟨.hbm, 308, rfl⟩
abbrev main_v186 : Ref sig .tc := ⟨.hbm, 309, rfl⟩
abbrev main_cst_74 : Ref sig .tc := ⟨.hbm, 310, rfl⟩
abbrev main_v187 : Ref sig .tc := ⟨.hbm, 311, rfl⟩
abbrev main_v188 : Ref sig .tc := ⟨.hbm, 312, rfl⟩
abbrev main_cst_75 : Ref sig .tc := ⟨.hbm, 313, rfl⟩
abbrev main_v189 : Ref sig .tc := ⟨.hbm, 314, rfl⟩
abbrev main_v190 : Ref sig .tc := ⟨.hbm, 315, rfl⟩
abbrev main_v191 : Ref sig .tc := ⟨.hbm, 316, rfl⟩
abbrev main_cst_76 : Ref sig .tc := ⟨.hbm, 317, rfl⟩
abbrev main_v192 : Ref sig .tc := ⟨.hbm, 318, rfl⟩
abbrev main_v193 : Ref sig .tc := ⟨.hbm, 319, rfl⟩
abbrev main_v194 : Ref sig .tc := ⟨.hbm, 320, rfl⟩
abbrev main_cst_77 : Ref sig .tc := ⟨.hbm, 321, rfl⟩
abbrev main_v195 : Ref sig .tc := ⟨.hbm, 322, rfl⟩
abbrev main_v196 : Ref sig .tc := ⟨.hbm, 323, rfl⟩
abbrev main_v197 : Ref sig .tc := ⟨.hbm, 324, rfl⟩
abbrev main_cst_78 : Ref sig .tc := ⟨.hbm, 325, rfl⟩
abbrev main_v198 : Ref sig .tc := ⟨.hbm, 326, rfl⟩
abbrev main_v199 : Ref sig .tc := ⟨.hbm, 327, rfl⟩
abbrev main_cst_79 : Ref sig .tc := ⟨.hbm, 328, rfl⟩
abbrev main_v200 : Ref sig .tc := ⟨.hbm, 329, rfl⟩
abbrev main_cst_80 : Ref sig .tc := ⟨.hbm, 330, rfl⟩
abbrev main_v201 : Ref sig .tc := ⟨.hbm, 331, rfl⟩
abbrev main_v202 : Ref sig .tc := ⟨.hbm, 332, rfl⟩
abbrev main_cst_81 : Ref sig .tc := ⟨.hbm, 333, rfl⟩
abbrev main_v203 : Ref sig .tc := ⟨.hbm, 334, rfl⟩
abbrev main_v204 : Ref sig .tc := ⟨.hbm, 335, rfl⟩
abbrev main_v205 : Ref sig .tc := ⟨.hbm, 336, rfl⟩
abbrev main_cst_82 : Ref sig .tc := ⟨.hbm, 337, rfl⟩
abbrev main_v206 : Ref sig .tc := ⟨.hbm, 338, rfl⟩
abbrev main_v207 : Ref sig .tc := ⟨.hbm, 339, rfl⟩
abbrev main_v208 : Ref sig .tc := ⟨.hbm, 340, rfl⟩
abbrev main_cst_83 : Ref sig .tc := ⟨.hbm, 341, rfl⟩
abbrev main_v209 : Ref sig .tc := ⟨.hbm, 342, rfl⟩
abbrev main_v210 : Ref sig .tc := ⟨.hbm, 343, rfl⟩
abbrev main_v211 : Ref sig .tc := ⟨.hbm, 344, rfl⟩
abbrev main_cst_84 : Ref sig .tc := ⟨.hbm, 345, rfl⟩
abbrev main_v212 : Ref sig .tc := ⟨.hbm, 346, rfl⟩
abbrev main_v213 : Ref sig .tc := ⟨.hbm, 347, rfl⟩
abbrev main_cst_85 : Ref sig .tc := ⟨.hbm, 348, rfl⟩
abbrev main_v214 : Ref sig .tc := ⟨.hbm, 349, rfl⟩
abbrev main_v215 : Ref sig .tc := ⟨.hbm, 350, rfl⟩
abbrev main_v216 : Ref sig .tc := ⟨.hbm, 351, rfl⟩
abbrev main_cst_86 : Ref sig .tc := ⟨.hbm, 352, rfl⟩
abbrev main_v217 : Ref sig .tc := ⟨.hbm, 353, rfl⟩
abbrev main_v218 : Ref sig .tc := ⟨.hbm, 354, rfl⟩
abbrev main_v219 : Ref sig .tc := ⟨.hbm, 355, rfl⟩
abbrev main_cst_87 : Ref sig .tc := ⟨.hbm, 356, rfl⟩
abbrev main_v220 : Ref sig .tc := ⟨.hbm, 357, rfl⟩
abbrev main_v221 : Ref sig .tc := ⟨.hbm, 358, rfl⟩
abbrev main_v222 : Ref sig .tc := ⟨.hbm, 359, rfl⟩
abbrev main_cst_88 : Ref sig .tc := ⟨.hbm, 360, rfl⟩
abbrev main_v223 : Ref sig .tc := ⟨.hbm, 361, rfl⟩
abbrev main_v224 : Ref sig .tc := ⟨.hbm, 362, rfl⟩
abbrev main_cst_89 : Ref sig .tc := ⟨.hbm, 363, rfl⟩
abbrev main_v225 : Ref sig .tc := ⟨.hbm, 364, rfl⟩
abbrev main_cst_90 : Ref sig .tc := ⟨.hbm, 365, rfl⟩
abbrev main_v226 : Ref sig .tc := ⟨.hbm, 366, rfl⟩
abbrev main_v227 : Ref sig .tc := ⟨.hbm, 367, rfl⟩
abbrev main_cst_91 : Ref sig .tc := ⟨.hbm, 368, rfl⟩
abbrev main_v228 : Ref sig .tc := ⟨.hbm, 369, rfl⟩
abbrev main_v229 : Ref sig .tc := ⟨.hbm, 370, rfl⟩
abbrev main_v230 : Ref sig .tc := ⟨.hbm, 371, rfl⟩
abbrev main_cst_92 : Ref sig .tc := ⟨.hbm, 372, rfl⟩
abbrev main_v231 : Ref sig .tc := ⟨.hbm, 373, rfl⟩
abbrev main_v232 : Ref sig .tc := ⟨.hbm, 374, rfl⟩
abbrev main_v233 : Ref sig .tc := ⟨.hbm, 375, rfl⟩
abbrev main_cst_93 : Ref sig .tc := ⟨.hbm, 376, rfl⟩
abbrev main_v234 : Ref sig .tc := ⟨.hbm, 377, rfl⟩
abbrev main_v235 : Ref sig .tc := ⟨.hbm, 378, rfl⟩
abbrev main_v236 : Ref sig .tc := ⟨.hbm, 379, rfl⟩
abbrev main_cst_94 : Ref sig .tc := ⟨.hbm, 380, rfl⟩
abbrev main_v237 : Ref sig .tc := ⟨.hbm, 381, rfl⟩
abbrev main_v238 : Ref sig .tc := ⟨.hbm, 382, rfl⟩
abbrev main_cst_95 : Ref sig .tc := ⟨.hbm, 383, rfl⟩
abbrev main_v239 : Ref sig .tc := ⟨.hbm, 384, rfl⟩
abbrev main_v240 : Ref sig .tc := ⟨.hbm, 385, rfl⟩
abbrev main_v241 : Ref sig .tc := ⟨.hbm, 386, rfl⟩
abbrev main_cst_96 : Ref sig .tc := ⟨.hbm, 387, rfl⟩
abbrev main_v242 : Ref sig .tc := ⟨.hbm, 388, rfl⟩
abbrev main_v243 : Ref sig .tc := ⟨.hbm, 389, rfl⟩
abbrev main_v244 : Ref sig .tc := ⟨.hbm, 390, rfl⟩
abbrev main_cst_97 : Ref sig .tc := ⟨.hbm, 391, rfl⟩
abbrev main_v245 : Ref sig .tc := ⟨.hbm, 392, rfl⟩
abbrev main_v246 : Ref sig .tc := ⟨.hbm, 393, rfl⟩
abbrev main_v247 : Ref sig .tc := ⟨.hbm, 394, rfl⟩
abbrev main_cst_98 : Ref sig .tc := ⟨.hbm, 395, rfl⟩
abbrev main_v248 : Ref sig .tc := ⟨.hbm, 396, rfl⟩
abbrev main_v249 : Ref sig .tc := ⟨.hbm, 397, rfl⟩
abbrev main_cst_99 : Ref sig .tc := ⟨.hbm, 398, rfl⟩
abbrev main_v250 : Ref sig .tc := ⟨.hbm, 399, rfl⟩
abbrev main_cst_100 : Ref sig .tc := ⟨.hbm, 400, rfl⟩
abbrev main_v251 : Ref sig .tc := ⟨.hbm, 401, rfl⟩
abbrev main_v252 : Ref sig .tc := ⟨.hbm, 402, rfl⟩
abbrev main_cst_101 : Ref sig .tc := ⟨.hbm, 403, rfl⟩
abbrev main_v253 : Ref sig .tc := ⟨.hbm, 404, rfl⟩
abbrev main_v254 : Ref sig .tc := ⟨.hbm, 405, rfl⟩
abbrev main_v255 : Ref sig .tc := ⟨.hbm, 406, rfl⟩
abbrev main_cst_102 : Ref sig .tc := ⟨.hbm, 407, rfl⟩
abbrev main_v256 : Ref sig .tc := ⟨.hbm, 408, rfl⟩
abbrev main_v257 : Ref sig .tc := ⟨.hbm, 409, rfl⟩
abbrev main_v258 : Ref sig .tc := ⟨.hbm, 410, rfl⟩
abbrev main_cst_103 : Ref sig .tc := ⟨.hbm, 411, rfl⟩
abbrev main_v259 : Ref sig .tc := ⟨.hbm, 412, rfl⟩
abbrev main_v260 : Ref sig .tc := ⟨.hbm, 413, rfl⟩
abbrev main_v261 : Ref sig .tc := ⟨.hbm, 414, rfl⟩
abbrev main_cst_104 : Ref sig .tc := ⟨.hbm, 415, rfl⟩
abbrev main_v262 : Ref sig .tc := ⟨.hbm, 416, rfl⟩
abbrev main_v263 : Ref sig .tc := ⟨.hbm, 417, rfl⟩
abbrev main_cst_105 : Ref sig .tc := ⟨.hbm, 418, rfl⟩
abbrev main_v264 : Ref sig .tc := ⟨.hbm, 419, rfl⟩
abbrev main_v265 : Ref sig .tc := ⟨.hbm, 420, rfl⟩
abbrev main_v266 : Ref sig .tc := ⟨.hbm, 421, rfl⟩
abbrev main_cst_106 : Ref sig .tc := ⟨.hbm, 422, rfl⟩
abbrev main_v267 : Ref sig .tc := ⟨.hbm, 423, rfl⟩
abbrev main_v268 : Ref sig .tc := ⟨.hbm, 424, rfl⟩
abbrev main_v269 : Ref sig .tc := ⟨.hbm, 425, rfl⟩
abbrev main_cst_107 : Ref sig .tc := ⟨.hbm, 426, rfl⟩
abbrev main_v270 : Ref sig .tc := ⟨.hbm, 427, rfl⟩
abbrev main_v271 : Ref sig .tc := ⟨.hbm, 428, rfl⟩
abbrev main_v272 : Ref sig .tc := ⟨.hbm, 429, rfl⟩
abbrev main_cst_108 : Ref sig .tc := ⟨.hbm, 430, rfl⟩
abbrev main_v273 : Ref sig .tc := ⟨.hbm, 431, rfl⟩
abbrev main_v274 : Ref sig .tc := ⟨.hbm, 432, rfl⟩
abbrev main_cst_109 : Ref sig .tc := ⟨.hbm, 433, rfl⟩
abbrev main_v275 : Ref sig .tc := ⟨.hbm, 434, rfl⟩
abbrev main_cst_110 : Ref sig .tc := ⟨.hbm, 435, rfl⟩
abbrev main_v276 : Ref sig .tc := ⟨.hbm, 436, rfl⟩
abbrev main_v277 : Ref sig .tc := ⟨.hbm, 437, rfl⟩
abbrev main_cst_111 : Ref sig .tc := ⟨.hbm, 438, rfl⟩
abbrev main_v278 : Ref sig .tc := ⟨.hbm, 439, rfl⟩
abbrev main_v279 : Ref sig .tc := ⟨.hbm, 440, rfl⟩
abbrev main_v280 : Ref sig .tc := ⟨.hbm, 441, rfl⟩
abbrev main_cst_112 : Ref sig .tc := ⟨.hbm, 442, rfl⟩
abbrev main_v281 : Ref sig .tc := ⟨.hbm, 443, rfl⟩
abbrev main_v282 : Ref sig .tc := ⟨.hbm, 444, rfl⟩
abbrev main_v283 : Ref sig .tc := ⟨.hbm, 445, rfl⟩
abbrev main_cst_113 : Ref sig .tc := ⟨.hbm, 446, rfl⟩
abbrev main_v284 : Ref sig .tc := ⟨.hbm, 447, rfl⟩
abbrev main_v285 : Ref sig .tc := ⟨.hbm, 448, rfl⟩
abbrev main_v286 : Ref sig .tc := ⟨.hbm, 449, rfl⟩
abbrev main_cst_114 : Ref sig .tc := ⟨.hbm, 450, rfl⟩
abbrev main_v287 : Ref sig .tc := ⟨.hbm, 451, rfl⟩
abbrev main_v288 : Ref sig .tc := ⟨.hbm, 452, rfl⟩
abbrev main_cst_115 : Ref sig .tc := ⟨.hbm, 453, rfl⟩
abbrev main_v289 : Ref sig .tc := ⟨.hbm, 454, rfl⟩
abbrev main_v290 : Ref sig .tc := ⟨.hbm, 455, rfl⟩
abbrev main_v291 : Ref sig .tc := ⟨.hbm, 456, rfl⟩
abbrev main_cst_116 : Ref sig .tc := ⟨.hbm, 457, rfl⟩
abbrev main_v292 : Ref sig .tc := ⟨.hbm, 458, rfl⟩
abbrev main_v293 : Ref sig .tc := ⟨.hbm, 459, rfl⟩
abbrev main_v294 : Ref sig .tc := ⟨.hbm, 460, rfl⟩
abbrev main_cst_117 : Ref sig .tc := ⟨.hbm, 461, rfl⟩
abbrev main_v295 : Ref sig .tc := ⟨.hbm, 462, rfl⟩
abbrev main_v296 : Ref sig .tc := ⟨.hbm, 463, rfl⟩
abbrev main_v297 : Ref sig .tc := ⟨.hbm, 464, rfl⟩
abbrev main_cst_118 : Ref sig .tc := ⟨.hbm, 465, rfl⟩
abbrev main_v298 : Ref sig .tc := ⟨.hbm, 466, rfl⟩
abbrev main_v299 : Ref sig .tc := ⟨.hbm, 467, rfl⟩

abbrev nD : Nat := 1
abbrev τ : Topo := Topo.v7x

variable {F : FTy → Type} [FloatOps F]
-- ==== Kernel29.lean ====
abbrev S8x1x64x64 : Shape := ⟨4, ![8, 1, 64, 64]⟩
abbrev S8x1x64 : Shape := ⟨3, ![8, 1, 64]⟩
abbrev S8x1x64x64x16 : Shape := ⟨5, ![8, 1, 64, 64, 16]⟩
abbrev S8x1x64x16x64 : Shape := ⟨5, ![8, 1, 64, 16, 64]⟩
abbrev S8x1x64x16 : Shape := ⟨4, ![8, 1, 64, 16]⟩
abbrev S8x1x1024 : Shape := ⟨3, ![8, 1, 1024]⟩
abbrev S8x1x2048 : Shape := ⟨3, ![8, 1, 2048]⟩
abbrev S8x1x5632 : Shape := ⟨3, ![8, 1, 5632]⟩
abbrev S8x2048 : Shape := ⟨2, ![8, 2048]⟩
abbrev S1x64x64 : Shape := ⟨3, ![1, 64, 64]⟩
abbrev S1x64 : Shape := ⟨2, ![1, 64]⟩
abbrev S1x64x64x16 : Shape := ⟨4, ![1, 64, 64, 16]⟩
abbrev S1x64x16x64 : Shape := ⟨4, ![1, 64, 16, 64]⟩
abbrev S1x64x16 : Shape := ⟨3, ![1, 64, 16]⟩
abbrev S1x1024 : Shape := ⟨2, ![1, 1024]⟩
abbrev S1x2048 : Shape := ⟨2, ![1, 2048]⟩
abbrev S1x5632 : Shape := ⟨2, ![1, 5632]⟩
abbrev S2048 : Shape := ⟨1, ![2048]⟩
abbrev S8x4096 : Shape := ⟨2, ![8, 4096]⟩
abbrev S8x64 : Shape := ⟨2, ![8, 64]⟩
abbrev S_ : Shape := ⟨0, ![]⟩
abbrev S8x1024 : Shape := ⟨2, ![8, 1024]⟩
abbrev S8x65536 : Shape := ⟨2, ![8, 65536]⟩
abbrev S8x5632 : Shape := ⟨2, ![8, 5632]⟩
abbrev S8x6144 : Shape := ⟨2, ![8, 6144]⟩
abbrev S11264 : Shape := ⟨1, ![11264]⟩
abbrev S8x11264 : Shape := ⟨2, ![8, 11264]⟩
abbrev S8x294912 : Shape := ⟨2, ![8, 294912]⟩
abbrev S8x2304x128 : Shape := ⟨3, ![8, 2304, 128]⟩
abbrev S4096 : Shape := ⟨1, ![4096]⟩
abbrev S64 : Shape := ⟨1, ![64]⟩
abbrev S1024 : Shape := ⟨1, ![1024]⟩
abbrev S65536 : Shape := ⟨1, ![65536]⟩
abbrev S5632 : Shape := ⟨1, ![5632]⟩
abbrev S6144 : Shape := ⟨1, ![6144]⟩
abbrev S294912 : Shape := ⟨1, ![294912]⟩
abbrev S2304x128 : Shape := ⟨2, ![2304, 128]⟩
abbrev S8x1152x128 : Shape := ⟨3, ![8, 1152, 128]⟩
abbrev S1152x128 : Shape := ⟨2, ![1152, 128]⟩
abbrev S1x1152x128 : Shape := ⟨3, ![1, 1152, 128]⟩
abbrev S32x128 : Shape := ⟨2, ![32, 128]⟩
abbrev S8x128 : Shape := ⟨2, ![8, 128]⟩
abbrev S512x128 : Shape := ⟨2, ![512, 128]⟩
abbrev S16x128 : Shape := ⟨2, ![16, 128]⟩
abbrev S48x128 : Shape := ⟨2, ![48, 128]⟩

abbrev nBuf : Space → Nat
  | .hbm => 174
  | .vmem => 16
  | .smem => 0
  | _ => 0

abbrev hbmTy0_0 (i : Nat) : BufTy := match i % 128 with
  | 0 => ⟨S8x1x64x64, .f32⟩
  | 1 => ⟨S8x1x64x64, .f32⟩
  | 2 => ⟨S8x1x64, .f32⟩
  | 3 => ⟨S8x1x64x64x16, .f32⟩
  | 4 => ⟨S8x1x64x64x16, .f32⟩
  | 5 => ⟨S8x1x64x16x64, .f32⟩
  | 6 => ⟨S8x1x64x16x64, .f32⟩
  | 7 => ⟨S8x1x64x16, .f32⟩
  | 8 => ⟨S8x1x1024, .f32⟩
  | 9 => ⟨S8x1x2048, .f32⟩
  | 10 => ⟨S8x1x5632, .f32⟩
  | 11 => ⟨S8x2048, .f32⟩
  | 12 => ⟨S1x64x64, .f32⟩
  | 13 => ⟨S1x64x64, .f32⟩
  | 14 => ⟨S1x64, .f32⟩
  | 15 => ⟨S1x64x64x16, .f32⟩
  | 16 => ⟨S1x64x64x16, .f32⟩
  | 17 => ⟨S1x64x16x64, .f32⟩
  | 18 => ⟨S1x64x16x64, .f32⟩
  | 19 => ⟨S1x64x16, .f32⟩
  | 20 => ⟨S1x1024, .f32⟩
  | 21 => ⟨S1x2048, .f32⟩
  | 22 => ⟨S1x5632, .f32⟩
  | 23 => ⟨S2048, .f32⟩
  | 24 => ⟨S1x64x64, .f32⟩
  | 25 => ⟨S1x64x64, .f32⟩
  | 26 => ⟨S1x64, .f32⟩
  | 27 => ⟨S1x64x64x16, .f32⟩
  | 28 => ⟨S1x64x64x16, .f32⟩
  | 29 => ⟨S1x64x16x64, .f32⟩
  | 30 => ⟨S1x64x16x64, .f32⟩
  | 31 => ⟨S1x64x16, .f32⟩
  | 32 => ⟨S1x1024, .f32⟩
  | 33 => ⟨S1x2048, .f32⟩
  | 34 => ⟨S1x5632, .f32⟩
  | 35 => ⟨S2048, .f32⟩
  | 36 => ⟨S1x64x64, .f32⟩
  | 37 => ⟨S1x64x64, .f32⟩
  | 38 => ⟨S1x64, .f32⟩
  | 39 => ⟨S1x64x64x16, .f32⟩
  | 40 => ⟨S1x64x64x16, .f32⟩
  | 41 => ⟨S1x64x16x64, .f32⟩
  | 42 => ⟨S1x64x16x64, .f32⟩
  | 43 => ⟨S1x64x16, .f32⟩
  | 44 => ⟨S1x1024, .f32⟩
  | 45 => ⟨S1x2048, .f32⟩
  | 46 => ⟨S1x5632, .f32⟩
  | 47 => ⟨S2048, .f32⟩
  | 48 => ⟨S8x4096, .f32⟩
  | 49 => ⟨S8x4096, .f32⟩
  | 50 => ⟨S8x64, .f32⟩
  | 51 => ⟨S_, .i32⟩
  | 52 => ⟨S_, .f32⟩
  | 53 => ⟨S8x1024, .f32⟩
  | 54 => ⟨S8x65536, .f32⟩
  | 55 => ⟨S8x65536, .f32⟩
  | 56 => ⟨S8x65536, .f32⟩
  | 57 => ⟨S8x65536, .f32⟩
  | 58 => ⟨S8x1024, .f32⟩
  | 59 => ⟨S8x1024, .f32⟩
  | 60 => ⟨S8x2048, .f32⟩
  | 61 => ⟨S8x5632, .f32⟩
  | 62 => ⟨S_, .i32⟩
  | 63 => ⟨S_, .f32⟩
  | 64 => ⟨S8x6144, .f32⟩
  | 65 => ⟨S_, .f32⟩
  | 66 => ⟨S11264, .f32⟩
  | 67 => ⟨S8x11264, .f32⟩
  | 68 => ⟨S8x294912, .f32⟩
  | 69 => ⟨S8x2304x128, .f32⟩
  | 70 => ⟨S4096, .f32⟩
  | 71 => ⟨S4096, .f32⟩
  | 72 => ⟨S64, .f32⟩
  | 73 => ⟨S_, .i32⟩
  | 74 => ⟨S_, .f32⟩
  | 75 => ⟨S1024, .f32⟩
  | 76 => ⟨S65536, .f32⟩
  | 77 => ⟨S65536, .f32⟩
  | 78 => ⟨S65536, .f32⟩
  | 79 => ⟨S65536, .f32⟩
  | 80 => ⟨S1024, .f32⟩
  | 81 => ⟨S1024, .f32⟩
  | 82 => ⟨S2048, .f32⟩
  | 83 => ⟨S5632, .f32⟩
  | 84 => ⟨S_, .i32⟩
  | 85 => ⟨S_, .f32⟩
  | 86 => ⟨S6144, .f32⟩
  | 87 => ⟨S_, .f32⟩
  | 88 => ⟨S11264, .f32⟩
  | 89 => ⟨S294912, .f32⟩
  | 90 => ⟨S2304x128, .f32⟩
  | 91 => ⟨S4096, .f32⟩
  | 92 => ⟨S4096, .f32⟩
  | 93 => ⟨S64, .f32⟩
  | 94 => ⟨S_, .i32⟩
  | 95 => ⟨S_, .f32⟩
  | 96 => ⟨S1024, .f32⟩
  | 97 => ⟨S65536, .f32⟩
  | 98 => ⟨S65536, .f32⟩
  | 99 => ⟨S65536, .f32⟩
  | 100 => ⟨S65536, .f32⟩
  | 101 => ⟨S1024, .f32⟩
  | 102 => ⟨S1024, .f32⟩
  | 103 => ⟨S2048, .f32⟩
  | 104 => ⟨S5632, .f32⟩
  | 105 => ⟨S_, .i32⟩
  | 106 => ⟨S_, .f32⟩
  | 107 => ⟨S6144, .f32⟩
  | 108 => ⟨S_, .f32⟩
  | 109 => ⟨S11264, .f32⟩
  | 110 => ⟨S294912, .f32⟩
  | 111 => ⟨S2304x128, .f32⟩
  | 112 => ⟨S4096, .f32⟩
  | 113 => ⟨S4096, .f32⟩
  | 114 => ⟨S64, .f32⟩
  | 115 => ⟨S_, .i32⟩
  | 116 => ⟨S_, .f32⟩
  | 117 => ⟨S1024, .f32⟩
  | 118 => ⟨S65536, .f32⟩
  | 119 => ⟨S65536, .f32⟩
  | 120 => ⟨S65536, .f32⟩
  | 121 => ⟨S65536, .f32⟩
  | 122 => ⟨S1024, .f32⟩
  | 123 => ⟨S1024, .f32⟩
  | 124 => ⟨S2048, .f32⟩
  | 125 => ⟨S5632, .f32⟩
  | 126 => ⟨S_, .i32⟩
  | 127 => ⟨S_, .f32⟩
  | _ => ⟨S8x1x64x64, .f32⟩

abbrev hbmTy0_1 (i : Nat) : BufTy := match i % 128 with
  | 0 => ⟨S6144, .f32⟩
  | 1 => ⟨S_, .f32⟩
  | 2 => ⟨S11264, .f32⟩
  | 3 => ⟨S294912, .f32⟩
  | 4 => ⟨S2304x128, .f32⟩
  | 5 => ⟨S2304x128, .f32⟩
  | 6 => ⟨S2304x128, .f32⟩
  | 7 => ⟨S2304x128, .f32⟩
  | 8 => ⟨S2304x128, .f32⟩
  | 9 => ⟨S32x128, .f32⟩
  | 10 => ⟨S4096, .f32⟩
  | 11 => ⟨S1x64x64, .f32⟩
  | 12 => ⟨S32x128, .f32⟩
  | 13 => ⟨S4096, .f32⟩
  | 14 => ⟨S1x64x64, .f32⟩
  | 15 => ⟨S8x128, .f32⟩
  | 16 => ⟨S1024, .f32⟩
  | 17 => ⟨S64, .f32⟩
  | 18 => ⟨S1x64, .f32⟩
  | 19 => ⟨S512x128, .f32⟩
  | 20 => ⟨S65536, .f32⟩
  | 21 => ⟨S1x64x64x16, .f32⟩
  | 22 => ⟨S512x128, .f32⟩
  | 23 => ⟨S65536, .f32⟩
  | 24 => ⟨S1x64x64x16, .f32⟩
  | 25 => ⟨S512x128, .f32⟩
  | 26 => ⟨S65536, .f32⟩
  | 27 => ⟨S1x64x16x64, .f32⟩
  | 28 => ⟨S512x128, .f32⟩
  | 29 => ⟨S65536, .f32⟩
  | 30 => ⟨S1x64x16x64, .f32⟩
  | 31 => ⟨S8x128, .f32⟩
  | 32 => ⟨S1024, .f32⟩
  | 33 => ⟨S1x64x16, .f32⟩
  | 34 => ⟨S8x128, .f32⟩
  | 35 => ⟨S1024, .f32⟩
  | 36 => ⟨S1x1024, .f32⟩
  | 37 => ⟨S16x128, .f32⟩
  | 38 => ⟨S2048, .f32⟩
  | 39 => ⟨S1x2048, .f32⟩
  | 40 => ⟨S48x128, .f32⟩
  | 41 => ⟨S6144, .f32⟩
  | 42 => ⟨S5632, .f32⟩
  | 43 => ⟨S1x5632, .f32⟩
  | 44 => ⟨S16x128, .f32⟩
  | 45 => ⟨S2048, .f32⟩
  | _ => ⟨S8x1x64x64, .f32⟩

abbrev hbmTy (i : Nat) : BufTy := match i / 128 with
  | 0 => hbmTy0_0 i
  | 1 => hbmTy0_1 i
  | _ => ⟨S8x1x64x64, .f32⟩

abbrev bufTy : (tb : Table) → Fin (tcTables nBuf tb) → BufTy
  | .hbm, ⟨i, _⟩ => hbmTy i
  | .local _ .vmem, ⟨0, _⟩ => ⟨S8x1152x128, .f32⟩
  | .local _ .vmem, ⟨1, _⟩ => ⟨S8x1152x128, .f32⟩
  | .local _ .vmem, ⟨2, _⟩ => ⟨S1152x128, .f32⟩
  | .local _ .vmem, ⟨3, _⟩ => ⟨S1152x128, .f32⟩
  | .local _ .vmem, ⟨4, _⟩ => ⟨S1152x128, .f32⟩
  | .local _ .vmem, ⟨5, _⟩ => ⟨S1152x128, .f32⟩
  | .local _ .vmem, ⟨6, _⟩ => ⟨S1152x128, .f32⟩
  | .local _ .vmem, ⟨7, _⟩ => ⟨S1152x128, .f32⟩
  | .local _ .vmem, ⟨8, _⟩ => ⟨S1152x128, .f32⟩
  | .local _ .vmem, ⟨9, _⟩ => ⟨S1152x128, .f32⟩
  | .local _ .vmem, ⟨10, _⟩ => ⟨S1152x128, .f32⟩
  | .local _ .vmem, ⟨11, _⟩ => ⟨S1152x128, .f32⟩
  | .local _ .vmem, ⟨12, _⟩ => ⟨S1152x128, .f32⟩
  | .local _ .vmem, ⟨13, _⟩ => ⟨S1152x128, .f32⟩
  | .local _ .vmem, ⟨14, _⟩ => ⟨S1152x128, .f32⟩
  | .local _ .vmem, ⟨15, _⟩ => ⟨S1152x128, .f32⟩
  | _, _ => ⟨S8x1x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_v0 : Ref sig .tc := ⟨.hbm, 48, rfl⟩
abbrev main_v1 : Ref sig .tc := ⟨.hbm, 49, rfl⟩
abbrev main_v2 : Ref sig .tc := ⟨.hbm, 50, rfl⟩
abbrev main_c : Ref sig .tc := ⟨.hbm, 51, rfl⟩
abbrev main_call0_v0 : Ref sig .tc := ⟨.hbm, 52, rfl⟩
abbrev main_v3 : Ref sig .tc := ⟨.hbm, 53, rfl⟩
abbrev main_v4 : Ref sig .tc := ⟨.hbm, 54, rfl⟩
abbrev main_v5 : Ref sig .tc := ⟨.hbm, 55, rfl⟩
abbrev main_v6 : Ref sig .tc := ⟨.hbm, 56, rfl⟩
abbrev main_v7 : Ref sig .tc := ⟨.hbm, 57, rfl⟩
abbrev main_v8 : Ref sig .tc := ⟨.hbm, 58, rfl⟩
abbrev main_v9 : Ref sig .tc := ⟨.hbm, 59, rfl⟩
abbrev main_v10 : Ref sig .tc := ⟨.hbm, 60, rfl⟩
abbrev main_v11 : Ref sig .tc := ⟨.hbm, 61, rfl⟩
abbrev main_c_0 : Ref sig .tc := ⟨.hbm, 62, rfl⟩
abbrev main_call1_v0 : Ref sig .tc := ⟨.hbm, 63, rfl⟩
abbrev main_v12 : Ref sig .tc := ⟨.hbm, 64, rfl⟩
abbrev main_cst : Ref sig .tc := ⟨.hbm, 65, rfl⟩
abbrev main_v13 : Ref sig .tc := ⟨.hbm, 66, rfl⟩
abbrev main_v14 : Ref sig .tc := ⟨.hbm, 67, rfl⟩
abbrev main_v15 : Ref sig .tc := ⟨.hbm, 68, rfl⟩
abbrev main_v16 : Ref sig .tc := ⟨.hbm, 69, rfl⟩
abbrev main_v17 : Ref sig .tc := ⟨.hbm, 70, rfl⟩
abbrev main_v18 : Ref sig .tc := ⟨.hbm, 71, rfl⟩
abbrev main_v19 : Ref sig .tc := ⟨.hbm, 72, rfl⟩
abbrev main_c_1 : Ref sig .tc := ⟨.hbm, 73, rfl⟩
abbrev main_call2_v0 : Ref sig .tc := ⟨.hbm, 74, rfl⟩
abbrev main_v20 : Ref sig .tc := ⟨.hbm, 75, rfl⟩
abbrev main_v21 : Ref sig .tc := ⟨.hbm, 76, rfl⟩
abbrev main_v22 : Ref sig .tc := ⟨.hbm, 77, rfl⟩
abbrev main_v23 : Ref sig .tc := ⟨.hbm, 78, rfl⟩
abbrev main_v24 : Ref sig .tc := ⟨.hbm, 79, rfl⟩
abbrev main_v25 : Ref sig .tc := ⟨.hbm, 80, rfl⟩
abbrev main_v26 : Ref sig .tc := ⟨.hbm, 81, rfl⟩
abbrev main_v27 : Ref sig .tc := ⟨.hbm, 82, rfl⟩
abbrev main_v28 : Ref sig .tc := ⟨.hbm, 83, rfl⟩
abbrev main_c_2 : Ref sig .tc := ⟨.hbm, 84, rfl⟩
abbrev main_call3_v0 : Ref sig .tc := ⟨.hbm, 85, rfl⟩
abbrev main_v29 : Ref sig .tc := ⟨.hbm, 86, rfl⟩
abbrev main_cst_3 : Ref sig .tc := ⟨.hbm, 87, rfl⟩
abbrev main_v30 : Ref sig .tc := ⟨.hbm, 88, rfl⟩
abbrev main_v31 : Ref sig .tc := ⟨.hbm, 89, rfl⟩
abbrev main_v32 : Ref sig .tc := ⟨.hbm, 90, rfl⟩
abbrev main_v33 : Ref sig .tc := ⟨.hbm, 91, rfl⟩
abbrev main_v34 : Ref sig .tc := ⟨.hbm, 92, rfl⟩
abbrev main_v35 : Ref sig .tc := ⟨.hbm, 93, rfl⟩
abbrev main_c_4 : Ref sig .tc := ⟨.hbm, 94, rfl⟩
abbrev main_call4_v0 : Ref sig .tc := ⟨.hbm, 95, rfl⟩
abbrev main_v36 : Ref sig .tc := ⟨.hbm, 96, rfl⟩
abbrev main_v37 : Ref sig .tc := ⟨.hbm, 97, rfl⟩
abbrev main_v38 : Ref sig .tc := ⟨.hbm, 98, rfl⟩
abbrev main_v39 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_v43 : Ref sig .tc := ⟨.hbm, 103, rfl⟩
abbrev main_v44 : Ref sig .tc := ⟨.hbm, 104, rfl⟩
abbrev main_c_5 : Ref sig .tc := ⟨.hbm, 105, rfl⟩
abbrev main_call5_v0 : Ref sig .tc := ⟨.hbm, 106, rfl⟩
abbrev main_v45 : Ref sig .tc := ⟨.hbm, 107, rfl⟩
abbrev main_cst_6 : Ref sig .tc := ⟨.hbm, 108, rfl⟩
abbrev main_v46 : Ref sig .tc := ⟨.hbm, 109, rfl⟩
abbrev main_v47 : Ref sig .tc := ⟨.hbm, 110, rfl⟩
abbrev main_v48 : Ref sig .tc := ⟨.hbm, 111, rfl⟩
abbrev main_v49 : Ref sig .tc := ⟨.hbm, 112, rfl⟩
abbrev main_v50 : Ref sig .tc := ⟨.hbm, 113, rfl⟩
abbrev main_v51 : Ref sig .tc := ⟨.hbm, 114, rfl⟩
abbrev main_c_7 : Ref sig .tc := ⟨.hbm, 115, rfl⟩
abbrev main_call6_v0 : Ref sig .tc := ⟨.hbm, 116, rfl⟩
abbrev main_v52 : Ref sig .tc := ⟨.hbm, 117, rfl⟩
abbrev main_v53 : Ref sig .tc := ⟨.hbm, 118, rfl⟩
abbrev main_v54 : Ref sig .tc := ⟨.hbm, 119, rfl⟩
abbrev main_v55 : Ref sig .tc := ⟨.hbm, 120, rfl⟩
abbrev main_v56 : Ref sig .tc := ⟨.hbm, 121, rfl⟩
abbrev main_v57 : Ref sig .tc := ⟨.hbm, 122, rfl⟩
abbrev main_v58 : Ref sig .tc := ⟨.hbm, 123, rfl⟩
abbrev main_v59 : Ref sig .tc := ⟨.hbm, 124, rfl⟩
abbrev main_v60 : Ref sig .tc := ⟨.hbm, 125, rfl⟩
abbrev main_c_8 : Ref sig .tc := ⟨.hbm, 126, rfl⟩
abbrev main_call7_v0 : Ref sig .tc := ⟨.hbm, 127, rfl⟩
abbrev main_v61 : Ref sig .tc := ⟨.hbm, 128, rfl⟩
abbrev main_cst_9 : Ref sig .tc := ⟨.hbm, 129, rfl⟩
abbrev main_v62 : Ref sig .tc := ⟨.hbm, 130, rfl⟩
abbrev main_v63 : Ref sig .tc := ⟨.hbm, 131, rfl⟩
abbrev main_v64 : Ref sig .tc := ⟨.hbm, 132, rfl⟩
abbrev main_v65_0 : Ref sig .tc := ⟨.hbm, 133, rfl⟩
abbrev main_v65_1 : Ref sig .tc := ⟨.hbm, 134, rfl⟩
abbrev main_v65_2 : Ref sig .tc := ⟨.hbm, 135, rfl⟩
abbrev main_v65_3 : Ref sig .tc := ⟨.hbm, 136, rfl⟩
abbrev main_v66 : Ref sig .tc := ⟨.hbm, 137, rfl⟩
abbrev main_v67 : Ref sig .tc := ⟨.hbm, 138, rfl⟩
abbrev main_v68 : Ref sig .tc := ⟨.hbm, 139, rfl⟩
abbrev main_v69 : Ref sig .tc := ⟨.hbm, 140, rfl⟩
abbrev main_v70 : Ref sig .tc := ⟨.hbm, 141, rfl⟩
abbrev main_v71 : Ref sig .tc := ⟨.hbm, 142, rfl⟩
abbrev main_v72 : Ref sig .tc := ⟨.hbm, 143, rfl⟩
abbrev main_v73 : Ref sig .tc := ⟨.hbm, 144, rfl⟩
abbrev main_v74 : Ref sig .tc := ⟨.hbm, 145, rfl⟩
abbrev main_v75 : Ref sig .tc := ⟨.hbm, 146, rfl⟩
abbrev main_v76 : Ref sig .tc := ⟨.hbm, 147, rfl⟩
abbrev main_v77 : Ref sig .tc := ⟨.hbm, 148, rfl⟩
abbrev main_v78 : Ref sig .tc := ⟨.hbm, 149, rfl⟩
abbrev main_v79 : Ref sig .tc := ⟨.hbm, 150, rfl⟩
abbrev main_v80 : Ref sig .tc := ⟨.hbm, 151, rfl⟩
abbrev main_v81 : Ref sig .tc := ⟨.hbm, 152, rfl⟩
abbrev main_v82 : Ref sig .tc := ⟨.hbm, 153, rfl⟩
abbrev main_v83 : Ref sig .tc := ⟨.hbm, 154, rfl⟩
abbrev main_v84 : Ref sig .tc := ⟨.hbm, 155, rfl⟩
abbrev main_v85 : Ref sig .tc := ⟨.hbm, 156, rfl⟩
abbrev main_v86 : Ref sig .tc := ⟨.hbm, 157, rfl⟩
abbrev main_v87 : Ref sig .tc := ⟨.hbm, 158, rfl⟩
abbrev main_v88 : Ref sig .tc := ⟨.hbm, 159, rfl⟩
abbrev main_v89 : Ref sig .tc := ⟨.hbm, 160, rfl⟩
abbrev main_v90 : Ref sig .tc := ⟨.hbm, 161, rfl⟩
abbrev main_v91 : Ref sig .tc := ⟨.hbm, 162, rfl⟩
abbrev main_v92 : Ref sig .tc := ⟨.hbm, 163, rfl⟩
abbrev main_v93 : Ref sig .tc := ⟨.hbm, 164, rfl⟩
abbrev main_v94 : Ref sig .tc := ⟨.hbm, 165, rfl⟩
abbrev main_v95 : Ref sig .tc := ⟨.hbm, 166, rfl⟩
abbrev main_v96 : Ref sig .tc := ⟨.hbm, 167, rfl⟩
abbrev main_v97 : Ref sig .tc := ⟨.hbm, 168, rfl⟩
abbrev main_v98 : Ref sig .tc := ⟨.hbm, 169, rfl⟩
abbrev main_v99 : Ref sig .tc := ⟨.hbm, 170, rfl⟩
abbrev main_v100 : Ref sig .tc := ⟨.hbm, 171, rfl⟩
abbrev main_v101 : Ref sig .tc := ⟨.hbm, 172, rfl⟩
abbrev main_v102 : Ref sig .tc := ⟨.hbm, 173, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x1152x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1152x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1152x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1152x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1152x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1152x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1152x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1152x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference29Ideal.lean ====
abbrev S8x1x64x64 : Shape := ⟨4, ![8, 1, 64, 64]⟩
abbrev S8x1x64 : Shape := ⟨3, ![8, 1, 64]⟩
abbrev S8x1x64x64x16 : Shape := ⟨5, ![8, 1, 64, 64, 16]⟩
abbrev S8x1x64x16x64 : Shape := ⟨5, ![8, 1, 64, 16, 64]⟩
abbrev S8x1x64x16 : Shape := ⟨4, ![8, 1, 64, 16]⟩
abbrev S8x1x1024 : Shape := ⟨3, ![8, 1, 1024]⟩
abbrev S8x1x2048 : Shape := ⟨3, ![8, 1, 2048]⟩
abbrev S8x1x5632 : Shape := ⟨3, ![8, 1, 5632]⟩
abbrev S8x2048 : Shape := ⟨2, ![8, 2048]⟩
abbrev S1x64x64 : Shape := ⟨3, ![1, 64, 64]⟩
abbrev S1x64 : Shape := ⟨2, ![1, 64]⟩
abbrev S1x64x64x16 : Shape := ⟨4, ![1, 64, 64, 16]⟩
abbrev S1x64x16x64 : Shape := ⟨4, ![1, 64, 16, 64]⟩
abbrev S1x64x16 : Shape := ⟨3, ![1, 64, 16]⟩
abbrev S1x1024 : Shape := ⟨2, ![1, 1024]⟩
abbrev S1x2048 : Shape := ⟨2, ![1, 2048]⟩
abbrev S1x5632 : Shape := ⟨2, ![1, 5632]⟩
abbrev S2048 : Shape := ⟨1, ![2048]⟩
abbrev S_ : Shape := ⟨0, ![]⟩

abbrev nBuf : Space → Nat
  | .hbm => 468
  | .vmem => 0
  | .smem => 0
  | _ => 0

abbrev hbmTy0_0 (i : Nat) : BufTy := match i % 128 with
  | 0 => ⟨S8x1x64x64, .f32⟩
  | 1 => ⟨S8x1x64x64, .f32⟩
  | 2 => ⟨S8x1x64, .f32⟩
  | 3 => ⟨S8x1x64x64x16, .f32⟩
  | 4 => ⟨S8x1x64x64x16, .f32⟩
  | 5 => ⟨S8x1x64x16x64, .f32⟩
  | 6 => ⟨S8x1x64x16x64, .f32⟩
  | 7 => ⟨S8x1x64x16, .f32⟩
  | 8 => ⟨S8x1x1024, .f32⟩
  | 9 => ⟨S8x1x2048, .f32⟩
  | 10 => ⟨S8x1x5632, .f32⟩
  | 11 => ⟨S8x2048, .f32⟩
  | 12 => ⟨S1x64x64, .f32⟩
  | 13 => ⟨S1x64x64, .f32⟩
  | 14 => ⟨S1x64, .f32⟩
  | 15 => ⟨S1x64x64x16, .f32⟩
  | 16 => ⟨S1x64x64x16, .f32⟩
  | 17 => ⟨S1x64x16x64, .f32⟩
  | 18 => ⟨S1x64x16x64, .f32⟩
  | 19 => ⟨S1x64x16, .f32⟩
  | 20 => ⟨S1x1024, .f32⟩
  | 21 => ⟨S1x2048, .f32⟩
  | 22 => ⟨S1x5632, .f32⟩
  | 23 => ⟨S2048, .f32⟩
  | 24 => ⟨S1x64x64, .f32⟩
  | 25 => ⟨S1x64x64, .f32⟩
  | 26 => ⟨S1x64, .f32⟩
  | 27 => ⟨S1x64x64x16, .f32⟩
  | 28 => ⟨S1x64x64x16, .f32⟩
  | 29 => ⟨S1x64x16x64, .f32⟩
  | 30 => ⟨S1x64x16x64, .f32⟩
  | 31 => ⟨S1x64x16, .f32⟩
  | 32 => ⟨S1x1024, .f32⟩
  | 33 => ⟨S1x2048, .f32⟩
  | 34 => ⟨S1x5632, .f32⟩
  | 35 => ⟨S2048, .f32⟩
  | 36 => ⟨S1x64x64, .f32⟩
  | 37 => ⟨S1x64x64, .f32⟩
  | 38 => ⟨S1x64, .f32⟩
  | 39 => ⟨S1x64x64x16, .f32⟩
  | 40 => ⟨S1x64x64x16, .f32⟩
  | 41 => ⟨S1x64x16x64, .f32⟩
  | 42 => ⟨S1x64x16x64, .f32⟩
  | 43 => ⟨S1x64x16, .f32⟩
  | 44 => ⟨S1x1024, .f32⟩
  | 45 => ⟨S1x2048, .f32⟩
  | 46 => ⟨S1x5632, .f32⟩
  | 47 => ⟨S2048, .f32⟩
  | 48 => ⟨S_, .f32⟩
  | 49 => ⟨S1x64x64, .f32⟩
  | 50 => ⟨S_, .f32⟩
  | 51 => ⟨S1x64x64, .f32⟩
  | 52 => ⟨S1x64x64, .f32⟩
  | 53 => ⟨S_, .f32⟩
  | 54 => ⟨S1x64x64, .f32⟩
  | 55 => ⟨S1x64x64, .f32⟩
  | 56 => ⟨S1x64x64, .f32⟩
  | 57 => ⟨S_, .f32⟩
  | 58 => ⟨S1x64x64, .f32⟩
  | 59 => ⟨S1x64x64, .f32⟩
  | 60 => ⟨S1x64x64, .f32⟩
  | 61 => ⟨S_, .f32⟩
  | 62 => ⟨S1x64x64, .f32⟩
  | 63 => ⟨S1x64x64, .f32⟩
  | 64 => ⟨S1x64x64, .f32⟩
  | 65 => ⟨S_, .f32⟩
  | 66 => ⟨S1x64x64, .f32⟩
  | 67 => ⟨S1x64x64, .f32⟩
  | 68 => ⟨S_, .f32⟩
  | 69 => ⟨S1x64x64, .f32⟩
  | 70 => ⟨S1x64x64, .f32⟩
  | 71 => ⟨S1x64x64, .f32⟩
  | 72 => ⟨S_, .f32⟩
  | 73 => ⟨S1x64x64, .f32⟩
  | 74 => ⟨S1x64x64, .f32⟩
  | 75 => ⟨S1x64x64, .f32⟩
  | 76 => ⟨S_, .f32⟩
  | 77 => ⟨S1x64x64, .f32⟩
  | 78 => ⟨S1x64x64, .f32⟩
  | 79 => ⟨S1x64x64, .f32⟩
  | 80 => ⟨S_, .f32⟩
  | 81 => ⟨S1x64x64, .f32⟩
  | 82 => ⟨S1x64x64, .f32⟩
  | 83 => ⟨S_, .f32⟩
  | 84 => ⟨S1x64x64, .f32⟩
  | 85 => ⟨S_, .f32⟩
  | 86 => ⟨S1x64x64, .f32⟩
  | 87 => ⟨S1x64x64, .f32⟩
  | 88 => ⟨S_, .f32⟩
  | 89 => ⟨S1x64x64, .f32⟩
  | 90 => ⟨S1x64x64, .f32⟩
  | 91 => ⟨S1x64x64, .f32⟩
  | 92 => ⟨S_, .f32⟩
  | 93 => ⟨S1x64x64, .f32⟩
  | 94 => ⟨S1x64x64, .f32⟩
  | 95 => ⟨S1x64x64, .f32⟩
  | 96 => ⟨S_, .f32⟩
  | 97 => ⟨S1x64x64, .f32⟩
  | 98 => ⟨S1x64x64, .f32⟩
  | 99 => ⟨S1x64x64, .f32⟩
  | 100 => ⟨S_, .f32⟩
  | 101 => ⟨S1x64x64, .f32⟩
  | 102 => ⟨S1x64x64, .f32⟩
  | 103 => ⟨S_, .f32⟩
  | 104 => ⟨S1x64x64, .f32⟩
  | 105 => ⟨S1x64x64, .f32⟩
  | 106 => ⟨S1x64x64, .f32⟩
  | 107 => ⟨S_, .f32⟩
  | 108 => ⟨S1x64x64, .f32⟩
  | 109 => ⟨S1x64x64, .f32⟩
  | 110 => ⟨S1x64x64, .f32⟩
  | 111 => ⟨S_, .f32⟩
  | 112 => ⟨S1x64x64, .f32⟩
  | 113 => ⟨S1x64x64, .f32⟩
  | 114 => ⟨S1x64x64, .f32⟩
  | 115 => ⟨S_, .f32⟩
  | 116 => ⟨S1x64x64, .f32⟩
  | 117 => ⟨S1x64x64, .f32⟩
  | 118 => ⟨S_, .f32⟩
  | 119 => ⟨S1x64, .f32⟩
  | 120 => ⟨S_, .f32⟩
  | 121 => ⟨S1x64, .f32⟩
  | 122 => ⟨S1x64, .f32⟩
  | 123 => ⟨S_, .f32⟩
  | 124 => ⟨S1x64, .f32⟩
  | 125 => ⟨S1x64, .f32⟩
  | 126 => ⟨S1x64, .f32⟩
  | 127 => ⟨S_, .f32⟩
  | _ => ⟨S8x1x64x64, .f32⟩

abbrev hbmTy0_1 (i : Nat) : BufTy := match i % 128 with
  | 0 => ⟨S1x64, .f32⟩
  | 1 => ⟨S1x64, .f32⟩
  | 2 => ⟨S1x64, .f32⟩
  | 3 => ⟨S_, .f32⟩
  | 4 => ⟨S1x64, .f32⟩
  | 5 => ⟨S1x64, .f32⟩
  | 6 => ⟨S1x64, .f32⟩
  | 7 => ⟨S_, .f32⟩
  | 8 => ⟨S1x64, .f32⟩
  | 9 => ⟨S1x64, .f32⟩
  | 10 => ⟨S_, .f32⟩
  | 11 => ⟨S1x64, .f32⟩
  | 12 => ⟨S1x64, .f32⟩
  | 13 => ⟨S1x64, .f32⟩
  | 14 => ⟨S_, .f32⟩
  | 15 => ⟨S1x64, .f32⟩
  | 16 => ⟨S1x64, .f32⟩
  | 17 => ⟨S1x64, .f32⟩
  | 18 => ⟨S_, .f32⟩
  | 19 => ⟨S1x64, .f32⟩
  | 20 => ⟨S1x64, .f32⟩
  | 21 => ⟨S1x64, .f32⟩
  | 22 => ⟨S_, .f32⟩
  | 23 => ⟨S1x64, .f32⟩
  | 24 => ⟨S1x64, .f32⟩
  | 25 => ⟨S_, .f32⟩
  | 26 => ⟨S1x64x64x16, .f32⟩
  | 27 => ⟨S_, .f32⟩
  | 28 => ⟨S1x64x64x16, .f32⟩
  | 29 => ⟨S1x64x64x16, .f32⟩
  | 30 => ⟨S_, .f32⟩
  | 31 => ⟨S1x64x64x16, .f32⟩
  | 32 => ⟨S1x64x64x16, .f32⟩
  | 33 => ⟨S1x64x64x16, .f32⟩
  | 34 => ⟨S_, .f32⟩
  | 35 => ⟨S1x64x64x16, .f32⟩
  | 36 => ⟨S1x64x64x16, .f32⟩
  | 37 => ⟨S1x64x64x16, .f32⟩
  | 38 => ⟨S_, .f32⟩
  | 39 => ⟨S1x64x64x16, .f32⟩
  | 40 => ⟨S1x64x64x16, .f32⟩
  | 41 => ⟨S1x64x64x16, .f32⟩
  | 42 => ⟨S_, .f32⟩
  | 43 => ⟨S1x64x64x16, .f32⟩
  | 44 => ⟨S1x64x64x16, .f32⟩
  | 45 => ⟨S_, .f32⟩
  | 46 => ⟨S1x64x64x16, .f32⟩
  | 47 => ⟨S1x64x64x16, .f32⟩
  | 48 => ⟨S1x64x64x16, .f32⟩
  | 49 => ⟨S_, .f32⟩
  | 50 => ⟨S1x64x64x16, .f32⟩
  | 51 => ⟨S1x64x64x16, .f32⟩
  | 52 => ⟨S1x64x64x16, .f32⟩
  | 53 => ⟨S_, .f32⟩
  | 54 => ⟨S1x64x64x16, .f32⟩
  | 55 => ⟨S1x64x64x16, .f32⟩
  | 56 => ⟨S1x64x64x16, .f32⟩
  | 57 => ⟨S_, .f32⟩
  | 58 => ⟨S1x64x64x16, .f32⟩
  | 59 => ⟨S1x64x64x16, .f32⟩
  | 60 => ⟨S_, .f32⟩
  | 61 => ⟨S1x64x64x16, .f32⟩
  | 62 => ⟨S_, .f32⟩
  | 63 => ⟨S1x64x64x16, .f32⟩
  | 64 => ⟨S1x64x64x16, .f32⟩
  | 65 => ⟨S_, .f32⟩
  | 66 => ⟨S1x64x64x16, .f32⟩
  | 67 => ⟨S1x64x64x16, .f32⟩
  | 68 => ⟨S1x64x64x16, .f32⟩
  | 69 => ⟨S_, .f32⟩
  | 70 => ⟨S1x64x64x16, .f32⟩
  | 71 => ⟨S1x64x64x16, .f32⟩
  | 72 => ⟨S1x64x64x16, .f32⟩
  | 73 => ⟨S_, .f32⟩
  | 74 => ⟨S1x64x64x16, .f32⟩
  | 75 => ⟨S1x64x64x16, .f32⟩
  | 76 => ⟨S1x64x64x16, .f32⟩
  | 77 => ⟨S_, .f32⟩
  | 78 => ⟨S1x64x64x16, .f32⟩
  | 79 => ⟨S1x64x64x16, .f32⟩
  | 80 => ⟨S_, .f32⟩
  | 81 => ⟨S1x64x64x16, .f32⟩
  | 82 => ⟨S1x64x64x16, .f32⟩
  | 83 => ⟨S1x64x64x16, .f32⟩
  | 84 => ⟨S_, .f32⟩
  | 85 => ⟨S1x64x64x16, .f32⟩
  | 86 => ⟨S1x64x64x16, .f32⟩
  | 87 => ⟨S1x64x64x16, .f32⟩
  | 88 => ⟨S_, .f32⟩
  | 89 => ⟨S1x64x64x16, .f32⟩
  | 90 => ⟨S1x64x64x16, .f32⟩
  | 91 => ⟨S1x64x64x16, .f32⟩
  | 92 => ⟨S_, .f32⟩
  | 93 => ⟨S1x64x64x16, .f32⟩
  | 94 => ⟨S1x64x64x16, .f32⟩
  | 95 => ⟨S_, .f32⟩
  | 96 => ⟨S1x64x16x64, .f32⟩
  | 97 => ⟨S_, .f32⟩
  | 98 => ⟨S1x64x16x64, .f32⟩
  | 99 => ⟨S1x64x16x64, .f32⟩
  | 100 => ⟨S_, .f32⟩
  | 101 => ⟨S1x64x16x64, .f32⟩
  | 102 => ⟨S1x64x16x64, .f32⟩
  | 103 => ⟨S1x64x16x64, .f32⟩
  | 104 => ⟨S_, .f32⟩
  | 105 => ⟨S1x64x16x64, .f32⟩
  | 106 => ⟨S1x64x16x64, .f32⟩
  | 107 => ⟨S1x64x16x64, .f32⟩
  | 108 => ⟨S_, .f32⟩
  | 109 => ⟨S1x64x16x64, .f32⟩
  | 110 => ⟨S1x64x16x64, .f32⟩
  | 111 => ⟨S1x64x16x64, .f32⟩
  | 112 => ⟨S_, .f32⟩
  | 113 => ⟨S1x64x16x64, .f32⟩
  | 114 => ⟨S1x64x16x64, .f32⟩
  | 115 => ⟨S_, .f32⟩
  | 116 => ⟨S1x64x16x64, .f32⟩
  | 117 => ⟨S1x64x16x64, .f32⟩
  | 118 => ⟨S1x64x16x64, .f32⟩
  | 119 => ⟨S_, .f32⟩
  | 120 => ⟨S1x64x16x64, .f32⟩
  | 121 => ⟨S1x64x16x64, .f32⟩
  | 122 => ⟨S1x64x16x64, .f32⟩
  | 123 => ⟨S_, .f32⟩
  | 124 => ⟨S1x64x16x64, .f32⟩
  | 125 => ⟨S1x64x16x64, .f32⟩
  | 126 => ⟨S1x64x16x64, .f32⟩
  | 127 => ⟨S_, .f32⟩
  | _ => ⟨S8x1x64x64, .f32⟩

abbrev hbmTy0_2 (i : Nat) : BufTy := match i % 128 with
  | 0 => ⟨S1x64x16x64, .f32⟩
  | 1 => ⟨S1x64x16x64, .f32⟩
  | 2 => ⟨S_, .f32⟩
  | 3 => ⟨S1x64x16x64, .f32⟩
  | 4 => ⟨S_, .f32⟩
  | 5 => ⟨S1x64x16x64, .f32⟩
  | 6 => ⟨S1x64x16x64, .f32⟩
  | 7 => ⟨S_, .f32⟩
  | 8 => ⟨S1x64x16x64, .f32⟩
  | 9 => ⟨S1x64x16x64, .f32⟩
  | 10 => ⟨S1x64x16x64, .f32⟩
  | 11 => ⟨S_, .f32⟩
  | 12 => ⟨S1x64x16x64, .f32⟩
  | 13 => ⟨S1x64x16x64, .f32⟩
  | 14 => ⟨S1x64x16x64, .f32⟩
  | 15 => ⟨S_, .f32⟩
  | 16 => ⟨S1x64x16x64, .f32⟩
  | 17 => ⟨S1x64x16x64, .f32⟩
  | 18 => ⟨S1x64x16x64, .f32⟩
  | 19 => ⟨S_, .f32⟩
  | 20 => ⟨S1x64x16x64, .f32⟩
  | 21 => ⟨S1x64x16x64, .f32⟩
  | 22 => ⟨S_, .f32⟩
  | 23 => ⟨S1x64x16x64, .f32⟩
  | 24 => ⟨S1x64x16x64, .f32⟩
  | 25 => ⟨S1x64x16x64, .f32⟩
  | 26 => ⟨S_, .f32⟩
  | 27 => ⟨S1x64x16x64, .f32⟩
  | 28 => ⟨S1x64x16x64, .f32⟩
  | 29 => ⟨S1x64x16x64, .f32⟩
  | 30 => ⟨S_, .f32⟩
  | 31 => ⟨S1x64x16x64, .f32⟩
  | 32 => ⟨S1x64x16x64, .f32⟩
  | 33 => ⟨S1x64x16x64, .f32⟩
  | 34 => ⟨S_, .f32⟩
  | 35 => ⟨S1x64x16x64, .f32⟩
  | 36 => ⟨S1x64x16x64, .f32⟩
  | 37 => ⟨S_, .f32⟩
  | 38 => ⟨S1x64x16, .f32⟩
  | 39 => ⟨S_, .f32⟩
  | 40 => ⟨S1x64x16, .f32⟩
  | 41 => ⟨S1x64x16, .f32⟩
  | 42 => ⟨S_, .f32⟩
  | 43 => ⟨S1x64x16, .f32⟩
  | 44 => ⟨S1x64x16, .f32⟩
  | 45 => ⟨S1x64x16, .f32⟩
  | 46 => ⟨S_, .f32⟩
  | 47 => ⟨S1x64x16, .f32⟩
  | 48 => ⟨S1x64x16, .f32⟩
  | 49 => ⟨S1x64x16, .f32⟩
  | 50 => ⟨S_, .f32⟩
  | 51 => ⟨S1x64x16, .f32⟩
  | 52 => ⟨S1x64x16, .f32⟩
  | 53 => ⟨S1x64x16, .f32⟩
  | 54 => ⟨S_, .f32⟩
  | 55 => ⟨S1x64x16, .f32⟩
  | 56 => ⟨S1x64x16, .f32⟩
  | 57 => ⟨S_, .f32⟩
  | 58 => ⟨S1x64x16, .f32⟩
  | 59 => ⟨S1x64x16, .f32⟩
  | 60 => ⟨S1x64x16, .f32⟩
  | 61 => ⟨S_, .f32⟩
  | 62 => ⟨S1x64x16, .f32⟩
  | 63 => ⟨S1x64x16, .f32⟩
  | 64 => ⟨S1x64x16, .f32⟩
  | 65 => ⟨S_, .f32⟩
  | 66 => ⟨S1x64x16, .f32⟩
  | 67 => ⟨S1x64x16, .f32⟩
  | 68 => ⟨S1x64x16, .f32⟩
  | 69 => ⟨S_, .f32⟩
  | 70 => ⟨S1x64x16, .f32⟩
  | 71 => ⟨S1x64x16, .f32⟩
  | 72 => ⟨S_, .f32⟩
  | 73 => ⟨S1x1024, .f32⟩
  | 74 => ⟨S_, .f32⟩
  | 75 => ⟨S1x1024, .f32⟩
  | 76 => ⟨S1x1024, .f32⟩
  | 77 => ⟨S_, .f32⟩
  | 78 => ⟨S1x1024, .f32⟩
  | 79 => ⟨S1x1024, .f32⟩
  | 80 => ⟨S1x1024, .f32⟩
  | 81 => ⟨S_, .f32⟩
  | 82 => ⟨S1x1024, .f32⟩
  | 83 => ⟨S1x1024, .f32⟩
  | 84 => ⟨S1x1024, .f32⟩
  | 85 => ⟨S_, .f32⟩
  | 86 => ⟨S1x1024, .f32⟩
  | 87 => ⟨S1x1024, .f32⟩
  | 88 => ⟨S1x1024, .f32⟩
  | 89 => ⟨S_, .f32⟩
  | 90 => ⟨S1x1024, .f32⟩
  | 91 => ⟨S1x1024, .f32⟩
  | 92 => ⟨S_, .f32⟩
  | 93 => ⟨S1x1024, .f32⟩
  | 94 => ⟨S1x1024, .f32⟩
  | 95 => ⟨S1x1024, .f32⟩
  | 96 => ⟨S_, .f32⟩
  | 97 => ⟨S1x1024, .f32⟩
  | 98 => ⟨S1x1024, .f32⟩
  | 99 => ⟨S1x1024, .f32⟩
  | 100 => ⟨S_, .f32⟩
  | 101 => ⟨S1x1024, .f32⟩
  | 102 => ⟨S1x1024, .f32⟩
  | 103 => ⟨S1x1024, .f32⟩
  | 104 => ⟨S_, .f32⟩
  | 105 => ⟨S1x1024, .f32⟩
  | 106 => ⟨S1x1024, .f32⟩
  | 107 => ⟨S_, .f32⟩
  | 108 => ⟨S1x2048, .f32⟩
  | 109 => ⟨S_, .f32⟩
  | 110 => ⟨S1x2048, .f32⟩
  | 111 => ⟨S1x2048, .f32⟩
  | 112 => ⟨S_, .f32⟩
  | 113 => ⟨S1x2048, .f32⟩
  | 114 => ⟨S1x2048, .f32⟩
  | 115 => ⟨S1x2048, .f32⟩
  | 116 => ⟨S_, .f32⟩
  | 117 => ⟨S1x2048, .f32⟩
  | 118 => ⟨S1x2048, .f32⟩
  | 119 => ⟨S1x2048, .f32⟩
  | 120 => ⟨S_, .f32⟩
  | 121 => ⟨S1x2048, .f32⟩
  | 122 => ⟨S1x2048, .f32⟩
  | 123 => ⟨S1x2048, .f32⟩
  | 124 => ⟨S_, .f32⟩
  | 125 => ⟨S1x2048, .f32⟩
  | 126 => ⟨S1x2048, .f32⟩
  | 127 => ⟨S_, .f32⟩
  | _ => ⟨S8x1x64x64, .f32⟩

abbrev hbmTy0_3 (i : Nat) : BufTy := match i % 128 with
  | 0 => ⟨S1x2048, .f32⟩
  | 1 => ⟨S1x2048, .f32⟩
  | 2 => ⟨S1x2048, .f32⟩
  | 3 => ⟨S_, .f32⟩
  | 4 => ⟨S1x2048, .f32⟩
  | 5 => ⟨S1x2048, .f32⟩
  | 6 => ⟨S1x2048, .f32⟩
  | 7 => ⟨S_, .f32⟩
  | 8 => ⟨S1x2048, .f32⟩
  | 9 => ⟨S1x2048, .f32⟩
  | 10 => ⟨S1x2048, .f32⟩
  | 11 => ⟨S_, .f32⟩
  | 12 => ⟨S1x2048, .f32⟩
  | 13 => ⟨S1x2048, .f32⟩
  | 14 => ⟨S_, .f32⟩
  | 15 => ⟨S1x5632, .f32⟩
  | 16 => ⟨S_, .f32⟩
  | 17 => ⟨S1x5632, .f32⟩
  | 18 => ⟨S1x5632, .f32⟩
  | 19 => ⟨S_, .f32⟩
  | 20 => ⟨S1x5632, .f32⟩
  | 21 => ⟨S1x5632, .f32⟩
  | 22 => ⟨S1x5632, .f32⟩
  | 23 => ⟨S_, .f32⟩
  | 24 => ⟨S1x5632, .f32⟩
  | 25 => ⟨S1x5632, .f32⟩
  | 26 => ⟨S1x5632, .f32⟩
  | 27 => ⟨S_, .f32⟩
  | 28 => ⟨S1x5632, .f32⟩
  | 29 => ⟨S1x5632, .f32⟩
  | 30 => ⟨S1x5632, .f32⟩
  | 31 => ⟨S_, .f32⟩
  | 32 => ⟨S1x5632, .f32⟩
  | 33 => ⟨S1x5632, .f32⟩
  | 34 => ⟨S_, .f32⟩
  | 35 => ⟨S1x5632, .f32⟩
  | 36 => ⟨S1x5632, .f32⟩
  | 37 => ⟨S1x5632, .f32⟩
  | 38 => ⟨S_, .f32⟩
  | 39 => ⟨S1x5632, .f32⟩
  | 40 => ⟨S1x5632, .f32⟩
  | 41 => ⟨S1x5632, .f32⟩
  | 42 => ⟨S_, .f32⟩
  | 43 => ⟨S1x5632, .f32⟩
  | 44 => ⟨S1x5632, .f32⟩
  | 45 => ⟨S1x5632, .f32⟩
  | 46 => ⟨S_, .f32⟩
  | 47 => ⟨S1x5632, .f32⟩
  | 48 => ⟨S1x5632, .f32⟩
  | 49 => ⟨S_, .f32⟩
  | 50 => ⟨S2048, .f32⟩
  | 51 => ⟨S_, .f32⟩
  | 52 => ⟨S2048, .f32⟩
  | 53 => ⟨S2048, .f32⟩
  | 54 => ⟨S_, .f32⟩
  | 55 => ⟨S2048, .f32⟩
  | 56 => ⟨S2048, .f32⟩
  | 57 => ⟨S2048, .f32⟩
  | 58 => ⟨S_, .f32⟩
  | 59 => ⟨S2048, .f32⟩
  | 60 => ⟨S2048, .f32⟩
  | 61 => ⟨S2048, .f32⟩
  | 62 => ⟨S_, .f32⟩
  | 63 => ⟨S2048, .f32⟩
  | 64 => ⟨S2048, .f32⟩
  | 65 => ⟨S2048, .f32⟩
  | 66 => ⟨S_, .f32⟩
  | 67 => ⟨S2048, .f32⟩
  | 68 => ⟨S2048, .f32⟩
  | 69 => ⟨S_, .f32⟩
  | 70 => ⟨S2048, .f32⟩
  | 71 => ⟨S2048, .f32⟩
  | 72 => ⟨S2048, .f32⟩
  | 73 => ⟨S_, .f32⟩
  | 74 => ⟨S2048, .f32⟩
  | 75 => ⟨S2048, .f32⟩
  | 76 => ⟨S2048, .f32⟩
  | 77 => ⟨S_, .f32⟩
  | 78 => ⟨S2048, .f32⟩
  | 79 => ⟨S2048, .f32⟩
  | 80 => ⟨S2048, .f32⟩
  | 81 => ⟨S_, .f32⟩
  | 82 => ⟨S2048, .f32⟩
  | 83 => ⟨S2048, .f32⟩
  | _ => ⟨S8x1x64x64, .f32⟩

abbrev hbmTy (i : Nat) : BufTy := match i / 128 with
  | 0 => hbmTy0_0 i
  | 1 => hbmTy0_1 i
  | 2 => hbmTy0_2 i
  | 3 => hbmTy0_3 i
  | _ => ⟨S8x1x64x64, .f32⟩

abbrev bufTy : (tb : Table) → Fin (tcTables nBuf tb) → BufTy
  | .hbm, ⟨i, _⟩ => hbmTy i
  | _, _ => ⟨S8x1x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_cst : Ref sig .tc := ⟨.hbm, 48, rfl⟩
abbrev main_v0 : Ref sig .tc := ⟨.hbm, 49, rfl⟩
abbrev main_cst_0 : Ref sig .tc := ⟨.hbm, 50, rfl⟩
abbrev main_v1 : Ref sig .tc := ⟨.hbm, 51, rfl⟩
abbrev main_v2 : Ref sig .tc := ⟨.hbm, 52, rfl⟩
abbrev main_cst_1 : Ref sig .tc := ⟨.hbm, 53, rfl⟩
abbrev main_v3 : Ref sig .tc := ⟨.hbm, 54, rfl⟩
abbrev main_v4 : Ref sig .tc := ⟨.hbm, 55, rfl⟩
abbrev main_v5 : Ref sig .tc := ⟨.hbm, 56, rfl⟩
abbrev main_cst_2 : Ref sig .tc := ⟨.hbm, 57, rfl⟩
abbrev main_v6 : Ref sig .tc := ⟨.hbm, 58, rfl⟩
abbrev main_v7 : Ref sig .tc := ⟨.hbm, 59, rfl⟩
abbrev main_v8 : Ref sig .tc := ⟨.hbm, 60, rfl⟩
abbrev main_cst_3 : Ref sig .tc := ⟨.hbm, 61, rfl⟩
abbrev main_v9 : Ref sig .tc := ⟨.hbm, 62, rfl⟩
abbrev main_v10 : Ref sig .tc := ⟨.hbm, 63, rfl⟩
abbrev main_v11 : Ref sig .tc := ⟨.hbm, 64, rfl⟩
abbrev main_cst_4 : Ref sig .tc := ⟨.hbm, 65, rfl⟩
abbrev main_v12 : Ref sig .tc := ⟨.hbm, 66, rfl⟩
abbrev main_v13 : Ref sig .tc := ⟨.hbm, 67, rfl⟩
abbrev main_cst_5 : Ref sig .tc := ⟨.hbm, 68, rfl⟩
abbrev main_v14 : Ref sig .tc := ⟨.hbm, 69, rfl⟩
abbrev main_v15 : Ref sig .tc := ⟨.hbm, 70, rfl⟩
abbrev main_v16 : Ref sig .tc := ⟨.hbm, 71, rfl⟩
abbrev main_cst_6 : Ref sig .tc := ⟨.hbm, 72, rfl⟩
abbrev main_v17 : Ref sig .tc := ⟨.hbm, 73, rfl⟩
abbrev main_v18 : Ref sig .tc := ⟨.hbm, 74, rfl⟩
abbrev main_v19 : Ref sig .tc := ⟨.hbm, 75, rfl⟩
abbrev main_cst_7 : Ref sig .tc := ⟨.hbm, 76, rfl⟩
abbrev main_v20 : Ref sig .tc := ⟨.hbm, 77, rfl⟩
abbrev main_v21 : Ref sig .tc := ⟨.hbm, 78, rfl⟩
abbrev main_v22 : Ref sig .tc := ⟨.hbm, 79, rfl⟩
abbrev main_cst_8 : Ref sig .tc := ⟨.hbm, 80, rfl⟩
abbrev main_v23 : Ref sig .tc := ⟨.hbm, 81, rfl⟩
abbrev main_v24 : Ref sig .tc := ⟨.hbm, 82, rfl⟩
abbrev main_cst_9 : Ref sig .tc := ⟨.hbm, 83, rfl⟩
abbrev main_v25 : Ref sig .tc := ⟨.hbm, 84, rfl⟩
abbrev main_cst_10 : Ref sig .tc := ⟨.hbm, 85, rfl⟩
abbrev main_v26 : Ref sig .tc := ⟨.hbm, 86, rfl⟩
abbrev main_v27 : Ref sig .tc := ⟨.hbm, 87, rfl⟩
abbrev main_cst_11 : Ref sig .tc := ⟨.hbm, 88, rfl⟩
abbrev main_v28 : Ref sig .tc := ⟨.hbm, 89, rfl⟩
abbrev main_v29 : Ref sig .tc := ⟨.hbm, 90, rfl⟩
abbrev main_v30 : Ref sig .tc := ⟨.hbm, 91, rfl⟩
abbrev main_cst_12 : Ref sig .tc := ⟨.hbm, 92, rfl⟩
abbrev main_v31 : Ref sig .tc := ⟨.hbm, 93, rfl⟩
abbrev main_v32 : Ref sig .tc := ⟨.hbm, 94, rfl⟩
abbrev main_v33 : Ref sig .tc := ⟨.hbm, 95, rfl⟩
abbrev main_cst_13 : Ref sig .tc := ⟨.hbm, 96, rfl⟩
abbrev main_v34 : Ref sig .tc := ⟨.hbm, 97, rfl⟩
abbrev main_v35 : Ref sig .tc := ⟨.hbm, 98, rfl⟩
abbrev main_v36 : Ref sig .tc := ⟨.hbm, 99, rfl⟩
abbrev main_cst_14 : Ref sig .tc := ⟨.hbm, 100, rfl⟩
abbrev main_v37 : Ref sig .tc := ⟨.hbm, 101, rfl⟩
abbrev main_v38 : Ref sig .tc := ⟨.hbm, 102, rfl⟩
abbrev main_cst_15 : Ref sig .tc := ⟨.hbm, 103, rfl⟩
abbrev main_v39 : Ref sig .tc := ⟨.hbm, 104, rfl⟩
abbrev main_v40 : Ref sig .tc := ⟨.hbm, 105, rfl⟩
abbrev main_v41 : Ref sig .tc := ⟨.hbm, 106, rfl⟩
abbrev main_cst_16 : Ref sig .tc := ⟨.hbm, 107, rfl⟩
abbrev main_v42 : Ref sig .tc := ⟨.hbm, 108, rfl⟩
abbrev main_v43 : Ref sig .tc := ⟨.hbm, 109, rfl⟩
abbrev main_v44 : Ref sig .tc := ⟨.hbm, 110, rfl⟩
abbrev main_cst_17 : Ref sig .tc := ⟨.hbm, 111, rfl⟩
abbrev main_v45 : Ref sig .tc := ⟨.hbm, 112, rfl⟩
abbrev main_v46 : Ref sig .tc := ⟨.hbm, 113, rfl⟩
abbrev main_v47 : Ref sig .tc := ⟨.hbm, 114, rfl⟩
abbrev main_cst_18 : Ref sig .tc := ⟨.hbm, 115, rfl⟩
abbrev main_v48 : Ref sig .tc := ⟨.hbm, 116, rfl⟩
abbrev main_v49 : Ref sig .tc := ⟨.hbm, 117, rfl⟩
abbrev main_cst_19 : Ref sig .tc := ⟨.hbm, 118, rfl⟩
abbrev main_v50 : Ref sig .tc := ⟨.hbm, 119, rfl⟩
abbrev main_cst_20 : Ref sig .tc := ⟨.hbm, 120, rfl⟩
abbrev main_v51 : Ref sig .tc := ⟨.hbm, 121, rfl⟩
abbrev main_v52 : Ref sig .tc := ⟨.hbm, 122, rfl⟩
abbrev main_cst_21 : Ref sig .tc := ⟨.hbm, 123, rfl⟩
abbrev main_v53 : Ref sig .tc := ⟨.hbm, 124, rfl⟩
abbrev main_v54 : Ref sig .tc := ⟨.hbm, 125, rfl⟩
abbrev main_v55 : Ref sig .tc := ⟨.hbm, 126, rfl⟩
abbrev main_cst_22 : Ref sig .tc := ⟨.hbm, 127, rfl⟩
abbrev main_v56 : Ref sig .tc := ⟨.hbm, 128, rfl⟩
abbrev main_v57 : Ref sig .tc := ⟨.hbm, 129, rfl⟩
abbrev main_v58 : Ref sig .tc := ⟨.hbm, 130, rfl⟩
abbrev main_cst_23 : Ref sig .tc := ⟨.hbm, 131, rfl⟩
abbrev main_v59 : Ref sig .tc := ⟨.hbm, 132, rfl⟩
abbrev main_v60 : Ref sig .tc := ⟨.hbm, 133, rfl⟩
abbrev main_v61 : Ref sig .tc := ⟨.hbm, 134, rfl⟩
abbrev main_cst_24 : Ref sig .tc := ⟨.hbm, 135, rfl⟩
abbrev main_v62 : Ref sig .tc := ⟨.hbm, 136, rfl⟩
abbrev main_v63 : Ref sig .tc := ⟨.hbm, 137, rfl⟩
abbrev main_cst_25 : Ref sig .tc := ⟨.hbm, 138, rfl⟩
abbrev main_v64 : Ref sig .tc := ⟨.hbm, 139, rfl⟩
abbrev main_v65 : Ref sig .tc := ⟨.hbm, 140, rfl⟩
abbrev main_v66 : Ref sig .tc := ⟨.hbm, 141, rfl⟩
abbrev main_cst_26 : Ref sig .tc := ⟨.hbm, 142, rfl⟩
abbrev main_v67 : Ref sig .tc := ⟨.hbm, 143, rfl⟩
abbrev main_v68 : Ref sig .tc := ⟨.hbm, 144, rfl⟩
abbrev main_v69 : Ref sig .tc := ⟨.hbm, 145, rfl⟩
abbrev main_cst_27 : Ref sig .tc := ⟨.hbm, 146, rfl⟩
abbrev main_v70 : Ref sig .tc := ⟨.hbm, 147, rfl⟩
abbrev main_v71 : Ref sig .tc := ⟨.hbm, 148, rfl⟩
abbrev main_v72 : Ref sig .tc := ⟨.hbm, 149, rfl⟩
abbrev main_cst_28 : Ref sig .tc := ⟨.hbm, 150, rfl⟩
abbrev main_v73 : Ref sig .tc := ⟨.hbm, 151, rfl⟩
abbrev main_v74 : Ref sig .tc := ⟨.hbm, 152, rfl⟩
abbrev main_cst_29 : Ref sig .tc := ⟨.hbm, 153, rfl⟩
abbrev main_v75 : Ref sig .tc := ⟨.hbm, 154, rfl⟩
abbrev main_cst_30 : Ref sig .tc := ⟨.hbm, 155, rfl⟩
abbrev main_v76 : Ref sig .tc := ⟨.hbm, 156, rfl⟩
abbrev main_v77 : Ref sig .tc := ⟨.hbm, 157, rfl⟩
abbrev main_cst_31 : Ref sig .tc := ⟨.hbm, 158, rfl⟩
abbrev main_v78 : Ref sig .tc := ⟨.hbm, 159, rfl⟩
abbrev main_v79 : Ref sig .tc := ⟨.hbm, 160, rfl⟩
abbrev main_v80 : Ref sig .tc := ⟨.hbm, 161, rfl⟩
abbrev main_cst_32 : Ref sig .tc := ⟨.hbm, 162, rfl⟩
abbrev main_v81 : Ref sig .tc := ⟨.hbm, 163, rfl⟩
abbrev main_v82 : Ref sig .tc := ⟨.hbm, 164, rfl⟩
abbrev main_v83 : Ref sig .tc := ⟨.hbm, 165, rfl⟩
abbrev main_cst_33 : Ref sig .tc := ⟨.hbm, 166, rfl⟩
abbrev main_v84 : Ref sig .tc := ⟨.hbm, 167, rfl⟩
abbrev main_v85 : Ref sig .tc := ⟨.hbm, 168, rfl⟩
abbrev main_v86 : Ref sig .tc := ⟨.hbm, 169, rfl⟩
abbrev main_cst_34 : Ref sig .tc := ⟨.hbm, 170, rfl⟩
abbrev main_v87 : Ref sig .tc := ⟨.hbm, 171, rfl⟩
abbrev main_v88 : Ref sig .tc := ⟨.hbm, 172, rfl⟩
abbrev main_cst_35 : Ref sig .tc := ⟨.hbm, 173, rfl⟩
abbrev main_v89 : Ref sig .tc := ⟨.hbm, 174, rfl⟩
abbrev main_v90 : Ref sig .tc := ⟨.hbm, 175, rfl⟩
abbrev main_v91 : Ref sig .tc := ⟨.hbm, 176, rfl⟩
abbrev main_cst_36 : Ref sig .tc := ⟨.hbm, 177, rfl⟩
abbrev main_v92 : Ref sig .tc := ⟨.hbm, 178, rfl⟩
abbrev main_v93 : Ref sig .tc := ⟨.hbm, 179, rfl⟩
abbrev main_v94 : Ref sig .tc := ⟨.hbm, 180, rfl⟩
abbrev main_cst_37 : Ref sig .tc := ⟨.hbm, 181, rfl⟩
abbrev main_v95 : Ref sig .tc := ⟨.hbm, 182, rfl⟩
abbrev main_v96 : Ref sig .tc := ⟨.hbm, 183, rfl⟩
abbrev main_v97 : Ref sig .tc := ⟨.hbm, 184, rfl⟩
abbrev main_cst_38 : Ref sig .tc := ⟨.hbm, 185, rfl⟩
abbrev main_v98 : Ref sig .tc := ⟨.hbm, 186, rfl⟩
abbrev main_v99 : Ref sig .tc := ⟨.hbm, 187, rfl⟩
abbrev main_cst_39 : Ref sig .tc := ⟨.hbm, 188, rfl⟩
abbrev main_v100 : Ref sig .tc := ⟨.hbm, 189, rfl⟩
abbrev main_cst_40 : Ref sig .tc := ⟨.hbm, 190, rfl⟩
abbrev main_v101 : Ref sig .tc := ⟨.hbm, 191, rfl⟩
abbrev main_v102 : Ref sig .tc := ⟨.hbm, 192, rfl⟩
abbrev main_cst_41 : Ref sig .tc := ⟨.hbm, 193, rfl⟩
abbrev main_v103 : Ref sig .tc := ⟨.hbm, 194, rfl⟩
abbrev main_v104 : Ref sig .tc := ⟨.hbm, 195, rfl⟩
abbrev main_v105 : Ref sig .tc := ⟨.hbm, 196, rfl⟩
abbrev main_cst_42 : Ref sig .tc := ⟨.hbm, 197, rfl⟩
abbrev main_v106 : Ref sig .tc := ⟨.hbm, 198, rfl⟩
abbrev main_v107 : Ref sig .tc := ⟨.hbm, 199, rfl⟩
abbrev main_v108 : Ref sig .tc := ⟨.hbm, 200, rfl⟩
abbrev main_cst_43 : Ref sig .tc := ⟨.hbm, 201, rfl⟩
abbrev main_v109 : Ref sig .tc := ⟨.hbm, 202, rfl⟩
abbrev main_v110 : Ref sig .tc := ⟨.hbm, 203, rfl⟩
abbrev main_v111 : Ref sig .tc := ⟨.hbm, 204, rfl⟩
abbrev main_cst_44 : Ref sig .tc := ⟨.hbm, 205, rfl⟩
abbrev main_v112 : Ref sig .tc := ⟨.hbm, 206, rfl⟩
abbrev main_v113 : Ref sig .tc := ⟨.hbm, 207, rfl⟩
abbrev main_cst_45 : Ref sig .tc := ⟨.hbm, 208, rfl⟩
abbrev main_v114 : Ref sig .tc := ⟨.hbm, 209, rfl⟩
abbrev main_v115 : Ref sig .tc := ⟨.hbm, 210, rfl⟩
abbrev main_v116 : Ref sig .tc := ⟨.hbm, 211, rfl⟩
abbrev main_cst_46 : Ref sig .tc := ⟨.hbm, 212, rfl⟩
abbrev main_v117 : Ref sig .tc := ⟨.hbm, 213, rfl⟩
abbrev main_v118 : Ref sig .tc := ⟨.hbm, 214, rfl⟩
abbrev main_v119 : Ref sig .tc := ⟨.hbm, 215, rfl⟩
abbrev main_cst_47 : Ref sig .tc := ⟨.hbm, 216, rfl⟩
abbrev main_v120 : Ref sig .tc := ⟨.hbm, 217, rfl⟩
abbrev main_v121 : Ref sig .tc := ⟨.hbm, 218, rfl⟩
abbrev main_v122 : Ref sig .tc := ⟨.hbm, 219, rfl⟩
abbrev main_cst_48 : Ref sig .tc := ⟨.hbm, 220, rfl⟩
abbrev main_v123 : Ref sig .tc := ⟨.hbm, 221, rfl⟩
abbrev main_v124 : Ref sig .tc := ⟨.hbm, 222, rfl⟩
abbrev main_cst_49 : Ref sig .tc := ⟨.hbm, 223, rfl⟩
abbrev main_v125 : Ref sig .tc := ⟨.hbm, 224, rfl⟩
abbrev main_cst_50 : Ref sig .tc := ⟨.hbm, 225, rfl⟩
abbrev main_v126 : Ref sig .tc := ⟨.hbm, 226, rfl⟩
abbrev main_v127 : Ref sig .tc := ⟨.hbm, 227, rfl⟩
abbrev main_cst_51 : Ref sig .tc := ⟨.hbm, 228, rfl⟩
abbrev main_v128 : Ref sig .tc := ⟨.hbm, 229, rfl⟩
abbrev main_v129 : Ref sig .tc := ⟨.hbm, 230, rfl⟩
abbrev main_v130 : Ref sig .tc := ⟨.hbm, 231, rfl⟩
abbrev main_cst_52 : Ref sig .tc := ⟨.hbm, 232, rfl⟩
abbrev main_v131 : Ref sig .tc := ⟨.hbm, 233, rfl⟩
abbrev main_v132 : Ref sig .tc := ⟨.hbm, 234, rfl⟩
abbrev main_v133 : Ref sig .tc := ⟨.hbm, 235, rfl⟩
abbrev main_cst_53 : Ref sig .tc := ⟨.hbm, 236, rfl⟩
abbrev main_v134 : Ref sig .tc := ⟨.hbm, 237, rfl⟩
abbrev main_v135 : Ref sig .tc := ⟨.hbm, 238, rfl⟩
abbrev main_v136 : Ref sig .tc := ⟨.hbm, 239, rfl⟩
abbrev main_cst_54 : Ref sig .tc := ⟨.hbm, 240, rfl⟩
abbrev main_v137 : Ref sig .tc := ⟨.hbm, 241, rfl⟩
abbrev main_v138 : Ref sig .tc := ⟨.hbm, 242, rfl⟩
abbrev main_cst_55 : Ref sig .tc := ⟨.hbm, 243, rfl⟩
abbrev main_v139 : Ref sig .tc := ⟨.hbm, 244, rfl⟩
abbrev main_v140 : Ref sig .tc := ⟨.hbm, 245, rfl⟩
abbrev main_v141 : Ref sig .tc := ⟨.hbm, 246, rfl⟩
abbrev main_cst_56 : Ref sig .tc := ⟨.hbm, 247, rfl⟩
abbrev main_v142 : Ref sig .tc := ⟨.hbm, 248, rfl⟩
abbrev main_v143 : Ref sig .tc := ⟨.hbm, 249, rfl⟩
abbrev main_v144 : Ref sig .tc := ⟨.hbm, 250, rfl⟩
abbrev main_cst_57 : Ref sig .tc := ⟨.hbm, 251, rfl⟩
abbrev main_v145 : Ref sig .tc := ⟨.hbm, 252, rfl⟩
abbrev main_v146 : Ref sig .tc := ⟨.hbm, 253, rfl⟩
abbrev main_v147 : Ref sig .tc := ⟨.hbm, 254, rfl⟩
abbrev main_cst_58 : Ref sig .tc := ⟨.hbm, 255, rfl⟩
abbrev main_v148 : Ref sig .tc := ⟨.hbm, 256, rfl⟩
abbrev main_v149 : Ref sig .tc := ⟨.hbm, 257, rfl⟩
abbrev main_cst_59 : Ref sig .tc := ⟨.hbm, 258, rfl⟩
abbrev main_v150 : Ref sig .tc := ⟨.hbm, 259, rfl⟩
abbrev main_cst_60 : Ref sig .tc := ⟨.hbm, 260, rfl⟩
abbrev main_v151 : Ref sig .tc := ⟨.hbm, 261, rfl⟩
abbrev main_v152 : Ref sig .tc := ⟨.hbm, 262, rfl⟩
abbrev main_cst_61 : Ref sig .tc := ⟨.hbm, 263, rfl⟩
abbrev main_v153 : Ref sig .tc := ⟨.hbm, 264, rfl⟩
abbrev main_v154 : Ref sig .tc := ⟨.hbm, 265, rfl⟩
abbrev main_v155 : Ref sig .tc := ⟨.hbm, 266, rfl⟩
abbrev main_cst_62 : Ref sig .tc := ⟨.hbm, 267, rfl⟩
abbrev main_v156 : Ref sig .tc := ⟨.hbm, 268, rfl⟩
abbrev main_v157 : Ref sig .tc := ⟨.hbm, 269, rfl⟩
abbrev main_v158 : Ref sig .tc := ⟨.hbm, 270, rfl⟩
abbrev main_cst_63 : Ref sig .tc := ⟨.hbm, 271, rfl⟩
abbrev main_v159 : Ref sig .tc := ⟨.hbm, 272, rfl⟩
abbrev main_v160 : Ref sig .tc := ⟨.hbm, 273, rfl⟩
abbrev main_v161 : Ref sig .tc := ⟨.hbm, 274, rfl⟩
abbrev main_cst_64 : Ref sig .tc := ⟨.hbm, 275, rfl⟩
abbrev main_v162 : Ref sig .tc := ⟨.hbm, 276, rfl⟩
abbrev main_v163 : Ref sig .tc := ⟨.hbm, 277, rfl⟩
abbrev main_cst_65 : Ref sig .tc := ⟨.hbm, 278, rfl⟩
abbrev main_v164 : Ref sig .tc := ⟨.hbm, 279, rfl⟩
abbrev main_v165 : Ref sig .tc := ⟨.hbm, 280, rfl⟩
abbrev main_v166 : Ref sig .tc := ⟨.hbm, 281, rfl⟩
abbrev main_cst_66 : Ref sig .tc := ⟨.hbm, 282, rfl⟩
abbrev main_v167 : Ref sig .tc := ⟨.hbm, 283, rfl⟩
abbrev main_v168 : Ref sig .tc := ⟨.hbm, 284, rfl⟩
abbrev main_v169 : Ref sig .tc := ⟨.hbm, 285, rfl⟩
abbrev main_cst_67 : Ref sig .tc := ⟨.hbm, 286, rfl⟩
abbrev main_v170 : Ref sig .tc := ⟨.hbm, 287, rfl⟩
abbrev main_v171 : Ref sig .tc := ⟨.hbm, 288, rfl⟩
abbrev main_v172 : Ref sig .tc := ⟨.hbm, 289, rfl⟩
abbrev main_cst_68 : Ref sig .tc := ⟨.hbm, 290, rfl⟩
abbrev main_v173 : Ref sig .tc := ⟨.hbm, 291, rfl⟩
abbrev main_v174 : Ref sig .tc := ⟨.hbm, 292, rfl⟩
abbrev main_cst_69 : Ref sig .tc := ⟨.hbm, 293, rfl⟩
abbrev main_v175 : Ref sig .tc := ⟨.hbm, 294, rfl⟩
abbrev main_cst_70 : Ref sig .tc := ⟨.hbm, 295, rfl⟩
abbrev main_v176 : Ref sig .tc := ⟨.hbm, 296, rfl⟩
abbrev main_v177 : Ref sig .tc := ⟨.hbm, 297, rfl⟩
abbrev main_cst_71 : Ref sig .tc := ⟨.hbm, 298, rfl⟩
abbrev main_v178 : Ref sig .tc := ⟨.hbm, 299, rfl⟩
abbrev main_v179 : Ref sig .tc := ⟨.hbm, 300, rfl⟩
abbrev main_v180 : Ref sig .tc := ⟨.hbm, 301, rfl⟩
abbrev main_cst_72 : Ref sig .tc := ⟨.hbm, 302, rfl⟩
abbrev main_v181 : Ref sig .tc := ⟨.hbm, 303, rfl⟩
abbrev main_v182 : Ref sig .tc := ⟨.hbm, 304, rfl⟩
abbrev main_v183 : Ref sig .tc := ⟨.hbm, 305, rfl⟩
abbrev main_cst_73 : Ref sig .tc := ⟨.hbm, 306, rfl⟩
abbrev main_v184 : Ref sig .tc := ⟨.hbm, 307, rfl⟩
abbrev main_v185 : Ref sig .tc := ⟨.hbm, 308, rfl⟩
abbrev main_v186 : Ref sig .tc := ⟨.hbm, 309, rfl⟩
abbrev main_cst_74 : Ref sig .tc := ⟨.hbm, 310, rfl⟩
abbrev main_v187 : Ref sig .tc := ⟨.hbm, 311, rfl⟩
abbrev main_v188 : Ref sig .tc := ⟨.hbm, 312, rfl⟩
abbrev main_cst_75 : Ref sig .tc := ⟨.hbm, 313, rfl⟩
abbrev main_v189 : Ref sig .tc := ⟨.hbm, 314, rfl⟩
abbrev main_v190 : Ref sig .tc := ⟨.hbm, 315, rfl⟩
abbrev main_v191 : Ref sig .tc := ⟨.hbm, 316, rfl⟩
abbrev main_cst_76 : Ref sig .tc := ⟨.hbm, 317, rfl⟩
abbrev main_v192 : Ref sig .tc := ⟨.hbm, 318, rfl⟩
abbrev main_v193 : Ref sig .tc := ⟨.hbm, 319, rfl⟩
abbrev main_v194 : Ref sig .tc := ⟨.hbm, 320, rfl⟩
abbrev main_cst_77 : Ref sig .tc := ⟨.hbm, 321, rfl⟩
abbrev main_v195 : Ref sig .tc := ⟨.hbm, 322, rfl⟩
abbrev main_v196 : Ref sig .tc := ⟨.hbm, 323, rfl⟩
abbrev main_v197 : Ref sig .tc := ⟨.hbm, 324, rfl⟩
abbrev main_cst_78 : Ref sig .tc := ⟨.hbm, 325, rfl⟩
abbrev main_v198 : Ref sig .tc := ⟨.hbm, 326, rfl⟩
abbrev main_v199 : Ref sig .tc := ⟨.hbm, 327, rfl⟩
abbrev main_cst_79 : Ref sig .tc := ⟨.hbm, 328, rfl⟩
abbrev main_v200 : Ref sig .tc := ⟨.hbm, 329, rfl⟩
abbrev main_cst_80 : Ref sig .tc := ⟨.hbm, 330, rfl⟩
abbrev main_v201 : Ref sig .tc := ⟨.hbm, 331, rfl⟩
abbrev main_v202 : Ref sig .tc := ⟨.hbm, 332, rfl⟩
abbrev main_cst_81 : Ref sig .tc := ⟨.hbm, 333, rfl⟩
abbrev main_v203 : Ref sig .tc := ⟨.hbm, 334, rfl⟩
abbrev main_v204 : Ref sig .tc := ⟨.hbm, 335, rfl⟩
abbrev main_v205 : Ref sig .tc := ⟨.hbm, 336, rfl⟩
abbrev main_cst_82 : Ref sig .tc := ⟨.hbm, 337, rfl⟩
abbrev main_v206 : Ref sig .tc := ⟨.hbm, 338, rfl⟩
abbrev main_v207 : Ref sig .tc := ⟨.hbm, 339, rfl⟩
abbrev main_v208 : Ref sig .tc := ⟨.hbm, 340, rfl⟩
abbrev main_cst_83 : Ref sig .tc := ⟨.hbm, 341, rfl⟩
abbrev main_v209 : Ref sig .tc := ⟨.hbm, 342, rfl⟩
abbrev main_v210 : Ref sig .tc := ⟨.hbm, 343, rfl⟩
abbrev main_v211 : Ref sig .tc := ⟨.hbm, 344, rfl⟩
abbrev main_cst_84 : Ref sig .tc := ⟨.hbm, 345, rfl⟩
abbrev main_v212 : Ref sig .tc := ⟨.hbm, 346, rfl⟩
abbrev main_v213 : Ref sig .tc := ⟨.hbm, 347, rfl⟩
abbrev main_cst_85 : Ref sig .tc := ⟨.hbm, 348, rfl⟩
abbrev main_v214 : Ref sig .tc := ⟨.hbm, 349, rfl⟩
abbrev main_v215 : Ref sig .tc := ⟨.hbm, 350, rfl⟩
abbrev main_v216 : Ref sig .tc := ⟨.hbm, 351, rfl⟩
abbrev main_cst_86 : Ref sig .tc := ⟨.hbm, 352, rfl⟩
abbrev main_v217 : Ref sig .tc := ⟨.hbm, 353, rfl⟩
abbrev main_v218 : Ref sig .tc := ⟨.hbm, 354, rfl⟩
abbrev main_v219 : Ref sig .tc := ⟨.hbm, 355, rfl⟩
abbrev main_cst_87 : Ref sig .tc := ⟨.hbm, 356, rfl⟩
abbrev main_v220 : Ref sig .tc := ⟨.hbm, 357, rfl⟩
abbrev main_v221 : Ref sig .tc := ⟨.hbm, 358, rfl⟩
abbrev main_v222 : Ref sig .tc := ⟨.hbm, 359, rfl⟩
abbrev main_cst_88 : Ref sig .tc := ⟨.hbm, 360, rfl⟩
abbrev main_v223 : Ref sig .tc := ⟨.hbm, 361, rfl⟩
abbrev main_v224 : Ref sig .tc := ⟨.hbm, 362, rfl⟩
abbrev main_cst_89 : Ref sig .tc := ⟨.hbm, 363, rfl⟩
abbrev main_v225 : Ref sig .tc := ⟨.hbm, 364, rfl⟩
abbrev main_cst_90 : Ref sig .tc := ⟨.hbm, 365, rfl⟩
abbrev main_v226 : Ref sig .tc := ⟨.hbm, 366, rfl⟩
abbrev main_v227 : Ref sig .tc := ⟨.hbm, 367, rfl⟩
abbrev main_cst_91 : Ref sig .tc := ⟨.hbm, 368, rfl⟩
abbrev main_v228 : Ref sig .tc := ⟨.hbm, 369, rfl⟩
abbrev main_v229 : Ref sig .tc := ⟨.hbm, 370, rfl⟩
abbrev main_v230 : Ref sig .tc := ⟨.hbm, 371, rfl⟩
abbrev main_cst_92 : Ref sig .tc := ⟨.hbm, 372, rfl⟩
abbrev main_v231 : Ref sig .tc := ⟨.hbm, 373, rfl⟩
abbrev main_v232 : Ref sig .tc := ⟨.hbm, 374, rfl⟩
abbrev main_v233 : Ref sig .tc := ⟨.hbm, 375, rfl⟩
abbrev main_cst_93 : Ref sig .tc := ⟨.hbm, 376, rfl⟩
abbrev main_v234 : Ref sig .tc := ⟨.hbm, 377, rfl⟩
abbrev main_v235 : Ref sig .tc := ⟨.hbm, 378, rfl⟩
abbrev main_v236 : Ref sig .tc := ⟨.hbm, 379, rfl⟩
abbrev main_cst_94 : Ref sig .tc := ⟨.hbm, 380, rfl⟩
abbrev main_v237 : Ref sig .tc := ⟨.hbm, 381, rfl⟩
abbrev main_v238 : Ref sig .tc := ⟨.hbm, 382, rfl⟩
abbrev main_cst_95 : Ref sig .tc := ⟨.hbm, 383, rfl⟩
abbrev main_v239 : Ref sig .tc := ⟨.hbm, 384, rfl⟩
abbrev main_v240 : Ref sig .tc := ⟨.hbm, 385, rfl⟩
abbrev main_v241 : Ref sig .tc := ⟨.hbm, 386, rfl⟩
abbrev main_cst_96 : Ref sig .tc := ⟨.hbm, 387, rfl⟩
abbrev main_v242 : Ref sig .tc := ⟨.hbm, 388, rfl⟩
abbrev main_v243 : Ref sig .tc := ⟨.hbm, 389, rfl⟩
abbrev main_v244 : Ref sig .tc := ⟨.hbm, 390, rfl⟩
abbrev main_cst_97 : Ref sig .tc := ⟨.hbm, 391, rfl⟩
abbrev main_v245 : Ref sig .tc := ⟨.hbm, 392, rfl⟩
abbrev main_v246 : Ref sig .tc := ⟨.hbm, 393, rfl⟩
abbrev main_v247 : Ref sig .tc := ⟨.hbm, 394, rfl⟩
abbrev main_cst_98 : Ref sig .tc := ⟨.hbm, 395, rfl⟩
abbrev main_v248 : Ref sig .tc := ⟨.hbm, 396, rfl⟩
abbrev main_v249 : Ref sig .tc := ⟨.hbm, 397, rfl⟩
abbrev main_cst_99 : Ref sig .tc := ⟨.hbm, 398, rfl⟩
abbrev main_v250 : Ref sig .tc := ⟨.hbm, 399, rfl⟩
abbrev main_cst_100 : Ref sig .tc := ⟨.hbm, 400, rfl⟩
abbrev main_v251 : Ref sig .tc := ⟨.hbm, 401, rfl⟩
abbrev main_v252 : Ref sig .tc := ⟨.hbm, 402, rfl⟩
abbrev main_cst_101 : Ref sig .tc := ⟨.hbm, 403, rfl⟩
abbrev main_v253 : Ref sig .tc := ⟨.hbm, 404, rfl⟩
abbrev main_v254 : Ref sig .tc := ⟨.hbm, 405, rfl⟩
abbrev main_v255 : Ref sig .tc := ⟨.hbm, 406, rfl⟩
abbrev main_cst_102 : Ref sig .tc := ⟨.hbm, 407, rfl⟩
abbrev main_v256 : Ref sig .tc := ⟨.hbm, 408, rfl⟩
abbrev main_v257 : Ref sig .tc := ⟨.hbm, 409, rfl⟩
abbrev main_v258 : Ref sig .tc := ⟨.hbm, 410, rfl⟩
abbrev main_cst_103 : Ref sig .tc := ⟨.hbm, 411, rfl⟩
abbrev main_v259 : Ref sig .tc := ⟨.hbm, 412, rfl⟩
abbrev main_v260 : Ref sig .tc := ⟨.hbm, 413, rfl⟩
abbrev main_v261 : Ref sig .tc := ⟨.hbm, 414, rfl⟩
abbrev main_cst_104 : Ref sig .tc := ⟨.hbm, 415, rfl⟩
abbrev main_v262 : Ref sig .tc := ⟨.hbm, 416, rfl⟩
abbrev main_v263 : Ref sig .tc := ⟨.hbm, 417, rfl⟩
abbrev main_cst_105 : Ref sig .tc := ⟨.hbm, 418, rfl⟩
abbrev main_v264 : Ref sig .tc := ⟨.hbm, 419, rfl⟩
abbrev main_v265 : Ref sig .tc := ⟨.hbm, 420, rfl⟩
abbrev main_v266 : Ref sig .tc := ⟨.hbm, 421, rfl⟩
abbrev main_cst_106 : Ref sig .tc := ⟨.hbm, 422, rfl⟩
abbrev main_v267 : Ref sig .tc := ⟨.hbm, 423, rfl⟩
abbrev main_v268 : Ref sig .tc := ⟨.hbm, 424, rfl⟩
abbrev main_v269 : Ref sig .tc := ⟨.hbm, 425, rfl⟩
abbrev main_cst_107 : Ref sig .tc := ⟨.hbm, 426, rfl⟩
abbrev main_v270 : Ref sig .tc := ⟨.hbm, 427, rfl⟩
abbrev main_v271 : Ref sig .tc := ⟨.hbm, 428, rfl⟩
abbrev main_v272 : Ref sig .tc := ⟨.hbm, 429, rfl⟩
abbrev main_cst_108 : Ref sig .tc := ⟨.hbm, 430, rfl⟩
abbrev main_v273 : Ref sig .tc := ⟨.hbm, 431, rfl⟩
abbrev main_v274 : Ref sig .tc := ⟨.hbm, 432, rfl⟩
abbrev main_cst_109 : Ref sig .tc := ⟨.hbm, 433, rfl⟩
abbrev main_v275 : Ref sig .tc := ⟨.hbm, 434, rfl⟩
abbrev main_cst_110 : Ref sig .tc := ⟨.hbm, 435, rfl⟩
abbrev main_v276 : Ref sig .tc := ⟨.hbm, 436, rfl⟩
abbrev main_v277 : Ref sig .tc := ⟨.hbm, 437, rfl⟩
abbrev main_cst_111 : Ref sig .tc := ⟨.hbm, 438, rfl⟩
abbrev main_v278 : Ref sig .tc := ⟨.hbm, 439, rfl⟩
abbrev main_v279 : Ref sig .tc := ⟨.hbm, 440, rfl⟩
abbrev main_v280 : Ref sig .tc := ⟨.hbm, 441, rfl⟩
abbrev main_cst_112 : Ref sig .tc := ⟨.hbm, 442, rfl⟩
abbrev main_v281 : Ref sig .tc := ⟨.hbm, 443, rfl⟩
abbrev main_v282 : Ref sig .tc := ⟨.hbm, 444, rfl⟩
abbrev main_v283 : Ref sig .tc := ⟨.hbm, 445, rfl⟩
abbrev main_cst_113 : Ref sig .tc := ⟨.hbm, 446, rfl⟩
abbrev main_v284 : Ref sig .tc := ⟨.hbm, 447, rfl⟩
abbrev main_v285 : Ref sig .tc := ⟨.hbm, 448, rfl⟩
abbrev main_v286 : Ref sig .tc := ⟨.hbm, 449, rfl⟩
abbrev main_cst_114 : Ref sig .tc := ⟨.hbm, 450, rfl⟩
abbrev main_v287 : Ref sig .tc := ⟨.hbm, 451, rfl⟩
abbrev main_v288 : Ref sig .tc := ⟨.hbm, 452, rfl⟩
abbrev main_cst_115 : Ref sig .tc := ⟨.hbm, 453, rfl⟩
abbrev main_v289 : Ref sig .tc := ⟨.hbm, 454, rfl⟩
abbrev main_v290 : Ref sig .tc := ⟨.hbm, 455, rfl⟩
abbrev main_v291 : Ref sig .tc := ⟨.hbm, 456, rfl⟩
abbrev main_cst_116 : Ref sig .tc := ⟨.hbm, 457, rfl⟩
abbrev main_v292 : Ref sig .tc := ⟨.hbm, 458, rfl⟩
abbrev main_v293 : Ref sig .tc := ⟨.hbm, 459, rfl⟩
abbrev main_v294 : Ref sig .tc := ⟨.hbm, 460, rfl⟩
abbrev main_cst_117 : Ref sig .tc := ⟨.hbm, 461, rfl⟩
abbrev main_v295 : Ref sig .tc := ⟨.hbm, 462, rfl⟩
abbrev main_v296 : Ref sig .tc := ⟨.hbm, 463, rfl⟩
abbrev main_v297 : Ref sig .tc := ⟨.hbm, 464, rfl⟩
abbrev main_cst_118 : Ref sig .tc := ⟨.hbm, 465, rfl⟩
abbrev main_v298 : Ref sig .tc := ⟨.hbm, 466, rfl⟩
abbrev main_v299 : Ref sig .tc := ⟨.hbm, 467, rfl⟩

abbrev nD : Nat := 1
abbrev τ : Topo := Topo.v7x

variable {F : FTy → Type} [FloatOps F]
-- ==== Kernel30.lean ====
abbrev S8x1x64x64 : Shape := ⟨4, ![8, 1, 64, 64]⟩
abbrev S8x1x64 : Shape := ⟨3, ![8, 1, 64]⟩
abbrev S8x1x64x64x16 : Shape := ⟨5, ![8, 1, 64, 64, 16]⟩
abbrev S8x1x64x16x64 : Shape := ⟨5, ![8, 1, 64, 16, 64]⟩
abbrev S8x1x64x16 : Shape := ⟨4, ![8, 1, 64, 16]⟩
abbrev S8x1x1024 : Shape := ⟨3, ![8, 1, 1024]⟩
abbrev S8x1x2048 : Shape := ⟨3, ![8, 1, 2048]⟩
abbrev S8x1x5632 : Shape := ⟨3, ![8, 1, 5632]⟩
abbrev S8x2048 : Shape := ⟨2, ![8, 2048]⟩
abbrev S1x64x64 : Shape := ⟨3, ![1, 64, 64]⟩
abbrev S1x64 : Shape := ⟨2, ![1, 64]⟩
abbrev S1x64x64x16 : Shape := ⟨4, ![1, 64, 64, 16]⟩
abbrev S1x64x16x64 : Shape := ⟨4, ![1, 64, 16, 64]⟩
abbrev S1x64x16 : Shape := ⟨3, ![1, 64, 16]⟩
abbrev S1x1024 : Shape := ⟨2, ![1, 1024]⟩
abbrev S1x2048 : Shape := ⟨2, ![1, 2048]⟩
abbrev S1x5632 : Shape := ⟨2, ![1, 5632]⟩
abbrev S2048 : Shape := ⟨1, ![2048]⟩
abbrev S8x4096 : Shape := ⟨2, ![8, 4096]⟩
abbrev S8x64 : Shape := ⟨2, ![8, 64]⟩
abbrev S_ : Shape := ⟨0, ![]⟩
abbrev S8x1024 : Shape := ⟨2, ![8, 1024]⟩
abbrev S8x65536 : Shape := ⟨2, ![8, 65536]⟩
abbrev S8x5632 : Shape := ⟨2, ![8, 5632]⟩
abbrev S8x6144 : Shape := ⟨2, ![8, 6144]⟩
abbrev S11264 : Shape := ⟨1, ![11264]⟩
abbrev S8x11264 : Shape := ⟨2, ![8, 11264]⟩
abbrev S8x294912 : Shape := ⟨2, ![8, 294912]⟩
abbrev S8x2304x128 : Shape := ⟨3, ![8, 2304, 128]⟩
abbrev S4096 : Shape := ⟨1, ![4096]⟩
abbrev S64 : Shape := ⟨1, ![64]⟩
abbrev S1024 : Shape := ⟨1, ![1024]⟩
abbrev S65536 : Shape := ⟨1, ![65536]⟩
abbrev S5632 : Shape := ⟨1, ![5632]⟩
abbrev S6144 : Shape := ⟨1, ![6144]⟩
abbrev S294912 : Shape := ⟨1, ![294912]⟩
abbrev S2304x128 : Shape := ⟨2, ![2304, 128]⟩
abbrev S8x1152x128 : Shape := ⟨3, ![8, 1152, 128]⟩
abbrev S1152x128 : Shape := ⟨2, ![1152, 128]⟩
abbrev S1x1152x128 : Shape := ⟨3, ![1, 1152, 128]⟩
abbrev S32x128 : Shape := ⟨2, ![32, 128]⟩
abbrev S8x128 : Shape := ⟨2, ![8, 128]⟩
abbrev S512x128 : Shape := ⟨2, ![512, 128]⟩
abbrev S16x128 : Shape := ⟨2, ![16, 128]⟩
abbrev S48x128 : Shape := ⟨2, ![48, 128]⟩

abbrev nBuf : Space → Nat
  | .hbm => 174
  | .vmem => 16
  | .smem => 0
  | _ => 0

abbrev hbmTy0_0 (i : Nat) : BufTy := match i % 128 with
  | 0 => ⟨S8x1x64x64, .f32⟩
  | 1 => ⟨S8x1x64x64, .f32⟩
  | 2 => ⟨S8x1x64, .f32⟩
  | 3 => ⟨S8x1x64x64x16, .f32⟩
  | 4 => ⟨S8x1x64x64x16, .f32⟩
  | 5 => ⟨S8x1x64x16x64, .f32⟩
  | 6 => ⟨S8x1x64x16x64, .f32⟩
  | 7 => ⟨S8x1x64x16, .f32⟩
  | 8 => ⟨S8x1x1024, .f32⟩
  | 9 => ⟨S8x1x2048, .f32⟩
  | 10 => ⟨S8x1x5632, .f32⟩
  | 11 => ⟨S8x2048, .f32⟩
  | 12 => ⟨S1x64x64, .f32⟩
  | 13 => ⟨S1x64x64, .f32⟩
  | 14 => ⟨S1x64, .f32⟩
  | 15 => ⟨S1x64x64x16, .f32⟩
  | 16 => ⟨S1x64x64x16, .f32⟩
  | 17 => ⟨S1x64x16x64, .f32⟩
  | 18 => ⟨S1x64x16x64, .f32⟩
  | 19 => ⟨S1x64x16, .f32⟩
  | 20 => ⟨S1x1024, .f32⟩
  | 21 => ⟨S1x2048, .f32⟩
  | 22 => ⟨S1x5632, .f32⟩
  | 23 => ⟨S2048, .f32⟩
  | 24 => ⟨S1x64x64, .f32⟩
  | 25 => ⟨S1x64x64, .f32⟩
  | 26 => ⟨S1x64, .f32⟩
  | 27 => ⟨S1x64x64x16, .f32⟩
  | 28 => ⟨S1x64x64x16, .f32⟩
  | 29 => ⟨S1x64x16x64, .f32⟩
  | 30 => ⟨S1x64x16x64, .f32⟩
  | 31 => ⟨S1x64x16, .f32⟩
  | 32 => ⟨S1x1024, .f32⟩
  | 33 => ⟨S1x2048, .f32⟩
  | 34 => ⟨S1x5632, .f32⟩
  | 35 => ⟨S2048, .f32⟩
  | 36 => ⟨S1x64x64, .f32⟩
  | 37 => ⟨S1x64x64, .f32⟩
  | 38 => ⟨S1x64, .f32⟩
  | 39 => ⟨S1x64x64x16, .f32⟩
  | 40 => ⟨S1x64x64x16, .f32⟩
  | 41 => ⟨S1x64x16x64, .f32⟩
  | 42 => ⟨S1x64x16x64, .f32⟩
  | 43 => ⟨S1x64x16, .f32⟩
  | 44 => ⟨S1x1024, .f32⟩
  | 45 => ⟨S1x2048, .f32⟩
  | 46 => ⟨S1x5632, .f32⟩
  | 47 => ⟨S2048, .f32⟩
  | 48 => ⟨S8x4096, .f32⟩
  | 49 => ⟨S8x4096, .f32⟩
  | 50 => ⟨S8x64, .f32⟩
  | 51 => ⟨S_, .i32⟩
  | 52 => ⟨S_, .f32⟩
  | 53 => ⟨S8x1024, .f32⟩
  | 54 => ⟨S8x65536, .f32⟩
  | 55 => ⟨S8x65536, .f32⟩
  | 56 => ⟨S8x65536, .f32⟩
  | 57 => ⟨S8x65536, .f32⟩
  | 58 => ⟨S8x1024, .f32⟩
  | 59 => ⟨S8x1024, .f32⟩
  | 60 => ⟨S8x2048, .f32⟩
  | 61 => ⟨S8x5632, .f32⟩
  | 62 => ⟨S_, .i32⟩
  | 63 => ⟨S_, .f32⟩
  | 64 => ⟨S8x6144, .f32⟩
  | 65 => ⟨S_, .f32⟩
  | 66 => ⟨S11264, .f32⟩
  | 67 => ⟨S8x11264, .f32⟩
  | 68 => ⟨S8x294912, .f32⟩
  | 69 => ⟨S8x2304x128, .f32⟩
  | 70 => ⟨S4096, .f32⟩
  | 71 => ⟨S4096, .f32⟩
  | 72 => ⟨S64, .f32⟩
  | 73 => ⟨S_, .i32⟩
  | 74 => ⟨S_, .f32⟩
  | 75 => ⟨S1024, .f32⟩
  | 76 => ⟨S65536, .f32⟩
  | 77 => ⟨S65536, .f32⟩
  | 78 => ⟨S65536, .f32⟩
  | 79 => ⟨S65536, .f32⟩
  | 80 => ⟨S1024, .f32⟩
  | 81 => ⟨S1024, .f32⟩
  | 82 => ⟨S2048, .f32⟩
  | 83 => ⟨S5632, .f32⟩
  | 84 => ⟨S_, .i32⟩
  | 85 => ⟨S_, .f32⟩
  | 86 => ⟨S6144, .f32⟩
  | 87 => ⟨S_, .f32⟩
  | 88 => ⟨S11264, .f32⟩
  | 89 => ⟨S294912, .f32⟩
  | 90 => ⟨S2304x128, .f32⟩
  | 91 => ⟨S4096, .f32⟩
  | 92 => ⟨S4096, .f32⟩
  | 93 => ⟨S64, .f32⟩
  | 94 => ⟨S_, .i32⟩
  | 95 => ⟨S_, .f32⟩
  | 96 => ⟨S1024, .f32⟩
  | 97 => ⟨S65536, .f32⟩
  | 98 => ⟨S65536, .f32⟩
  | 99 => ⟨S65536, .f32⟩
  | 100 => ⟨S65536, .f32⟩
  | 101 => ⟨S1024, .f32⟩
  | 102 => ⟨S1024, .f32⟩
  | 103 => ⟨S2048, .f32⟩
  | 104 => ⟨S5632, .f32⟩
  | 105 => ⟨S_, .i32⟩
  | 106 => ⟨S_, .f32⟩
  | 107 => ⟨S6144, .f32⟩
  | 108 => ⟨S_, .f32⟩
  | 109 => ⟨S11264, .f32⟩
  | 110 => ⟨S294912, .f32⟩
  | 111 => ⟨S2304x128, .f32⟩
  | 112 => ⟨S4096, .f32⟩
  | 113 => ⟨S4096, .f32⟩
  | 114 => ⟨S64, .f32⟩
  | 115 => ⟨S_, .i32⟩
  | 116 => ⟨S_, .f32⟩
  | 117 => ⟨S1024, .f32⟩
  | 118 => ⟨S65536, .f32⟩
  | 119 => ⟨S65536, .f32⟩
  | 120 => ⟨S65536, .f32⟩
  | 121 => ⟨S65536, .f32⟩
  | 122 => ⟨S1024, .f32⟩
  | 123 => ⟨S1024, .f32⟩
  | 124 => ⟨S2048, .f32⟩
  | 125 => ⟨S5632, .f32⟩
  | 126 => ⟨S_, .i32⟩
  | 127 => ⟨S_, .f32⟩
  | _ => ⟨S8x1x64x64, .f32⟩

abbrev hbmTy0_1 (i : Nat) : BufTy := match i % 128 with
  | 0 => ⟨S6144, .f32⟩
  | 1 => ⟨S_, .f32⟩
  | 2 => ⟨S11264, .f32⟩
  | 3 => ⟨S294912, .f32⟩
  | 4 => ⟨S2304x128, .f32⟩
  | 5 => ⟨S2304x128, .f32⟩
  | 6 => ⟨S2304x128, .f32⟩
  | 7 => ⟨S2304x128, .f32⟩
  | 8 => ⟨S2304x128, .f32⟩
  | 9 => ⟨S32x128, .f32⟩
  | 10 => ⟨S4096, .f32⟩
  | 11 => ⟨S1x64x64, .f32⟩
  | 12 => ⟨S32x128, .f32⟩
  | 13 => ⟨S4096, .f32⟩
  | 14 => ⟨S1x64x64, .f32⟩
  | 15 => ⟨S8x128, .f32⟩
  | 16 => ⟨S1024, .f32⟩
  | 17 => ⟨S64, .f32⟩
  | 18 => ⟨S1x64, .f32⟩
  | 19 => ⟨S512x128, .f32⟩
  | 20 => ⟨S65536, .f32⟩
  | 21 => ⟨S1x64x64x16, .f32⟩
  | 22 => ⟨S512x128, .f32⟩
  | 23 => ⟨S65536, .f32⟩
  | 24 => ⟨S1x64x64x16, .f32⟩
  | 25 => ⟨S512x128, .f32⟩
  | 26 => ⟨S65536, .f32⟩
  | 27 => ⟨S1x64x16x64, .f32⟩
  | 28 => ⟨S512x128, .f32⟩
  | 29 => ⟨S65536, .f32⟩
  | 30 => ⟨S1x64x16x64, .f32⟩
  | 31 => ⟨S8x128, .f32⟩
  | 32 => ⟨S1024, .f32⟩
  | 33 => ⟨S1x64x16, .f32⟩
  | 34 => ⟨S8x128, .f32⟩
  | 35 => ⟨S1024, .f32⟩
  | 36 => ⟨S1x1024, .f32⟩
  | 37 => ⟨S16x128, .f32⟩
  | 38 => ⟨S2048, .f32⟩
  | 39 => ⟨S1x2048, .f32⟩
  | 40 => ⟨S48x128, .f32⟩
  | 41 => ⟨S6144, .f32⟩
  | 42 => ⟨S5632, .f32⟩
  | 43 => ⟨S1x5632, .f32⟩
  | 44 => ⟨S16x128, .f32⟩
  | 45 => ⟨S2048, .f32⟩
  | _ => ⟨S8x1x64x64, .f32⟩

abbrev hbmTy (i : Nat) : BufTy := match i / 128 with
  | 0 => hbmTy0_0 i
  | 1 => hbmTy0_1 i
  | _ => ⟨S8x1x64x64, .f32⟩

abbrev bufTy : (tb : Table) → Fin (tcTables nBuf tb) → BufTy
  | .hbm, ⟨i, _⟩ => hbmTy i
  | .local _ .vmem, ⟨0, _⟩ => ⟨S8x1152x128, .f32⟩
  | .local _ .vmem, ⟨1, _⟩ => ⟨S8x1152x128, .f32⟩
  | .local _ .vmem, ⟨2, _⟩ => ⟨S1152x128, .f32⟩
  | .local _ .vmem, ⟨3, _⟩ => ⟨S1152x128, .f32⟩
  | .local _ .vmem, ⟨4, _⟩ => ⟨S1152x128, .f32⟩
  | .local _ .vmem, ⟨5, _⟩ => ⟨S1152x128, .f32⟩
  | .local _ .vmem, ⟨6, _⟩ => ⟨S1152x128, .f32⟩
  | .local _ .vmem, ⟨7, _⟩ => ⟨S1152x128, .f32⟩
  | .local _ .vmem, ⟨8, _⟩ => ⟨S1152x128, .f32⟩
  | .local _ .vmem, ⟨9, _⟩ => ⟨S1152x128, .f32⟩
  | .local _ .vmem, ⟨10, _⟩ => ⟨S1152x128, .f32⟩
  | .local _ .vmem, ⟨11, _⟩ => ⟨S1152x128, .f32⟩
  | .local _ .vmem, ⟨12, _⟩ => ⟨S1152x128, .f32⟩
  | .local _ .vmem, ⟨13, _⟩ => ⟨S1152x128, .f32⟩
  | .local _ .vmem, ⟨14, _⟩ => ⟨S1152x128, .f32⟩
  | .local _ .vmem, ⟨15, _⟩ => ⟨S1152x128, .f32⟩
  | _, _ => ⟨S8x1x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_v0 : Ref sig .tc := ⟨.hbm, 48, rfl⟩
abbrev main_v1 : Ref sig .tc := ⟨.hbm, 49, rfl⟩
abbrev main_v2 : Ref sig .tc := ⟨.hbm, 50, rfl⟩
abbrev main_c : Ref sig .tc := ⟨.hbm, 51, rfl⟩
abbrev main_call0_v0 : Ref sig .tc := ⟨.hbm, 52, rfl⟩
abbrev main_v3 : Ref sig .tc := ⟨.hbm, 53, rfl⟩
abbrev main_v4 : Ref sig .tc := ⟨.hbm, 54, rfl⟩
abbrev main_v5 : Ref sig .tc := ⟨.hbm, 55, rfl⟩
abbrev main_v6 : Ref sig .tc := ⟨.hbm, 56, rfl⟩
abbrev main_v7 : Ref sig .tc := ⟨.hbm, 57, rfl⟩
abbrev main_v8 : Ref sig .tc := ⟨.hbm, 58, rfl⟩
abbrev main_v9 : Ref sig .tc := ⟨.hbm, 59, rfl⟩
abbrev main_v10 : Ref sig .tc := ⟨.hbm, 60, rfl⟩
abbrev main_v11 : Ref sig .tc := ⟨.hbm, 61, rfl⟩
abbrev main_c_0 : Ref sig .tc := ⟨.hbm, 62, rfl⟩
abbrev main_call1_v0 : Ref sig .tc := ⟨.hbm, 63, rfl⟩
abbrev main_v12 : Ref sig .tc := ⟨.hbm, 64, rfl⟩
abbrev main_cst : Ref sig .tc := ⟨.hbm, 65, rfl⟩
abbrev main_v13 : Ref sig .tc := ⟨.hbm, 66, rfl⟩
abbrev main_v14 : Ref sig .tc := ⟨.hbm, 67, rfl⟩
abbrev main_v15 : Ref sig .tc := ⟨.hbm, 68, rfl⟩
abbrev main_v16 : Ref sig .tc := ⟨.hbm, 69, rfl⟩
abbrev main_v17 : Ref sig .tc := ⟨.hbm, 70, rfl⟩
abbrev main_v18 : Ref sig .tc := ⟨.hbm, 71, rfl⟩
abbrev main_v19 : Ref sig .tc := ⟨.hbm, 72, rfl⟩
abbrev main_c_1 : Ref sig .tc := ⟨.hbm, 73, rfl⟩
abbrev main_call2_v0 : Ref sig .tc := ⟨.hbm, 74, rfl⟩
abbrev main_v20 : Ref sig .tc := ⟨.hbm, 75, rfl⟩
abbrev main_v21 : Ref sig .tc := ⟨.hbm, 76, rfl⟩
abbrev main_v22 : Ref sig .tc := ⟨.hbm, 77, rfl⟩
abbrev main_v23 : Ref sig .tc := ⟨.hbm, 78, rfl⟩
abbrev main_v24 : Ref sig .tc := ⟨.hbm, 79, rfl⟩
abbrev main_v25 : Ref sig .tc := ⟨.hbm, 80, rfl⟩
abbrev main_v26 : Ref sig .tc := ⟨.hbm, 81, rfl⟩
abbrev main_v27 : Ref sig .tc := ⟨.hbm, 82, rfl⟩
abbrev main_v28 : Ref sig .tc := ⟨.hbm, 83, rfl⟩
abbrev main_c_2 : Ref sig .tc := ⟨.hbm, 84, rfl⟩
abbrev main_call3_v0 : Ref sig .tc := ⟨.hbm, 85, rfl⟩
abbrev main_v29 : Ref sig .tc := ⟨.hbm, 86, rfl⟩
abbrev main_cst_3 : Ref sig .tc := ⟨.hbm, 87, rfl⟩
abbrev main_v30 : Ref sig .tc := ⟨.hbm, 88, rfl⟩
abbrev main_v31 : Ref sig .tc := ⟨.hbm, 89, rfl⟩
abbrev main_v32 : Ref sig .tc := ⟨.hbm, 90, rfl⟩
abbrev main_v33 : Ref sig .tc := ⟨.hbm, 91, rfl⟩
abbrev main_v34 : Ref sig .tc := ⟨.hbm, 92, rfl⟩
abbrev main_v35 : Ref sig .tc := ⟨.hbm, 93, rfl⟩
abbrev main_c_4 : Ref sig .tc := ⟨.hbm, 94, rfl⟩
abbrev main_call4_v0 : Ref sig .tc := ⟨.hbm, 95, rfl⟩
abbrev main_v36 : Ref sig .tc := ⟨.hbm, 96, rfl⟩
abbrev main_v37 : Ref sig .tc := ⟨.hbm, 97, rfl⟩
abbrev main_v38 : Ref sig .tc := ⟨.hbm, 98, rfl⟩
abbrev main_v39 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_v43 : Ref sig .tc := ⟨.hbm, 103, rfl⟩
abbrev main_v44 : Ref sig .tc := ⟨.hbm, 104, rfl⟩
abbrev main_c_5 : Ref sig .tc := ⟨.hbm, 105, rfl⟩
abbrev main_call5_v0 : Ref sig .tc := ⟨.hbm, 106, rfl⟩
abbrev main_v45 : Ref sig .tc := ⟨.hbm, 107, rfl⟩
abbrev main_cst_6 : Ref sig .tc := ⟨.hbm, 108, rfl⟩
abbrev main_v46 : Ref sig .tc := ⟨.hbm, 109, rfl⟩
abbrev main_v47 : Ref sig .tc := ⟨.hbm, 110, rfl⟩
abbrev main_v48 : Ref sig .tc := ⟨.hbm, 111, rfl⟩
abbrev main_v49 : Ref sig .tc := ⟨.hbm, 112, rfl⟩
abbrev main_v50 : Ref sig .tc := ⟨.hbm, 113, rfl⟩
abbrev main_v51 : Ref sig .tc := ⟨.hbm, 114, rfl⟩
abbrev main_c_7 : Ref sig .tc := ⟨.hbm, 115, rfl⟩
abbrev main_call6_v0 : Ref sig .tc := ⟨.hbm, 116, rfl⟩
abbrev main_v52 : Ref sig .tc := ⟨.hbm, 117, rfl⟩
abbrev main_v53 : Ref sig .tc := ⟨.hbm, 118, rfl⟩
abbrev main_v54 : Ref sig .tc := ⟨.hbm, 119, rfl⟩
abbrev main_v55 : Ref sig .tc := ⟨.hbm, 120, rfl⟩
abbrev main_v56 : Ref sig .tc := ⟨.hbm, 121, rfl⟩
abbrev main_v57 : Ref sig .tc := ⟨.hbm, 122, rfl⟩
abbrev main_v58 : Ref sig .tc := ⟨.hbm, 123, rfl⟩
abbrev main_v59 : Ref sig .tc := ⟨.hbm, 124, rfl⟩
abbrev main_v60 : Ref sig .tc := ⟨.hbm, 125, rfl⟩
abbrev main_c_8 : Ref sig .tc := ⟨.hbm, 126, rfl⟩
abbrev main_call7_v0 : Ref sig .tc := ⟨.hbm, 127, rfl⟩
abbrev main_v61 : Ref sig .tc := ⟨.hbm, 128, rfl⟩
abbrev main_cst_9 : Ref sig .tc := ⟨.hbm, 129, rfl⟩
abbrev main_v62 : Ref sig .tc := ⟨.hbm, 130, rfl⟩
abbrev main_v63 : Ref sig .tc := ⟨.hbm, 131, rfl⟩
abbrev main_v64 : Ref sig .tc := ⟨.hbm, 132, rfl⟩
abbrev main_v65_0 : Ref sig .tc := ⟨.hbm, 133, rfl⟩
abbrev main_v65_1 : Ref sig .tc := ⟨.hbm, 134, rfl⟩
abbrev main_v65_2 : Ref sig .tc := ⟨.hbm, 135, rfl⟩
abbrev main_v65_3 : Ref sig .tc := ⟨.hbm, 136, rfl⟩
abbrev main_v66 : Ref sig .tc := ⟨.hbm, 137, rfl⟩
abbrev main_v67 : Ref sig .tc := ⟨.hbm, 138, rfl⟩
abbrev main_v68 : Ref sig .tc := ⟨.hbm, 139, rfl⟩
abbrev main_v69 : Ref sig .tc := ⟨.hbm, 140, rfl⟩
abbrev main_v70 : Ref sig .tc := ⟨.hbm, 141, rfl⟩
abbrev main_v71 : Ref sig .tc := ⟨.hbm, 142, rfl⟩
abbrev main_v72 : Ref sig .tc := ⟨.hbm, 143, rfl⟩
abbrev main_v73 : Ref sig .tc := ⟨.hbm, 144, rfl⟩
abbrev main_v74 : Ref sig .tc := ⟨.hbm, 145, rfl⟩
abbrev main_v75 : Ref sig .tc := ⟨.hbm, 146, rfl⟩
abbrev main_v76 : Ref sig .tc := ⟨.hbm, 147, rfl⟩
abbrev main_v77 : Ref sig .tc := ⟨.hbm, 148, rfl⟩
abbrev main_v78 : Ref sig .tc := ⟨.hbm, 149, rfl⟩
abbrev main_v79 : Ref sig .tc := ⟨.hbm, 150, rfl⟩
abbrev main_v80 : Ref sig .tc := ⟨.hbm, 151, rfl⟩
abbrev main_v81 : Ref sig .tc := ⟨.hbm, 152, rfl⟩
abbrev main_v82 : Ref sig .tc := ⟨.hbm, 153, rfl⟩
abbrev main_v83 : Ref sig .tc := ⟨.hbm, 154, rfl⟩
abbrev main_v84 : Ref sig .tc := ⟨.hbm, 155, rfl⟩
abbrev main_v85 : Ref sig .tc := ⟨.hbm, 156, rfl⟩
abbrev main_v86 : Ref sig .tc := ⟨.hbm, 157, rfl⟩
abbrev main_v87 : Ref sig .tc := ⟨.hbm, 158, rfl⟩
abbrev main_v88 : Ref sig .tc := ⟨.hbm, 159, rfl⟩
abbrev main_v89 : Ref sig .tc := ⟨.hbm, 160, rfl⟩
abbrev main_v90 : Ref sig .tc := ⟨.hbm, 161, rfl⟩
abbrev main_v91 : Ref sig .tc := ⟨.hbm, 162, rfl⟩
abbrev main_v92 : Ref sig .tc := ⟨.hbm, 163, rfl⟩
abbrev main_v93 : Ref sig .tc := ⟨.hbm, 164, rfl⟩
abbrev main_v94 : Ref sig .tc := ⟨.hbm, 165, rfl⟩
abbrev main_v95 : Ref sig .tc := ⟨.hbm, 166, rfl⟩
abbrev main_v96 : Ref sig .tc := ⟨.hbm, 167, rfl⟩
abbrev main_v97 : Ref sig .tc := ⟨.hbm, 168, rfl⟩
abbrev main_v98 : Ref sig .tc := ⟨.hbm, 169, rfl⟩
abbrev main_v99 : Ref sig .tc := ⟨.hbm, 170, rfl⟩
abbrev main_v100 : Ref sig .tc := ⟨.hbm, 171, rfl⟩
abbrev main_v101 : Ref sig .tc := ⟨.hbm, 172, rfl⟩
abbrev main_v102 : Ref sig .tc := ⟨.hbm, 173, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x1152x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1152x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1152x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1152x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1152x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1152x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1152x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1152x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference30Ideal.lean ====
abbrev S8x1x64x64 : Shape := ⟨4, ![8, 1, 64, 64]⟩
abbrev S8x1x64 : Shape := ⟨3, ![8, 1, 64]⟩
abbrev S8x1x64x64x16 : Shape := ⟨5, ![8, 1, 64, 64, 16]⟩
abbrev S8x1x64x16x64 : Shape := ⟨5, ![8, 1, 64, 16, 64]⟩
abbrev S8x1x64x16 : Shape := ⟨4, ![8, 1, 64, 16]⟩
abbrev S8x1x1024 : Shape := ⟨3, ![8, 1, 1024]⟩
abbrev S8x1x2048 : Shape := ⟨3, ![8, 1, 2048]⟩
abbrev S8x1x5632 : Shape := ⟨3, ![8, 1, 5632]⟩
abbrev S8x2048 : Shape := ⟨2, ![8, 2048]⟩
abbrev S1x64x64 : Shape := ⟨3, ![1, 64, 64]⟩
abbrev S1x64 : Shape := ⟨2, ![1, 64]⟩
abbrev S1x64x64x16 : Shape := ⟨4, ![1, 64, 64, 16]⟩
abbrev S1x64x16x64 : Shape := ⟨4, ![1, 64, 16, 64]⟩
abbrev S1x64x16 : Shape := ⟨3, ![1, 64, 16]⟩
abbrev S1x1024 : Shape := ⟨2, ![1, 1024]⟩
abbrev S1x2048 : Shape := ⟨2, ![1, 2048]⟩
abbrev S1x5632 : Shape := ⟨2, ![1, 5632]⟩
abbrev S2048 : Shape := ⟨1, ![2048]⟩
abbrev S_ : Shape := ⟨0, ![]⟩

abbrev nBuf : Space → Nat
  | .hbm => 468
  | .vmem => 0
  | .smem => 0
  | _ => 0

abbrev hbmTy0_0 (i : Nat) : BufTy := match i % 128 with
  | 0 => ⟨S8x1x64x64, .f32⟩
  | 1 => ⟨S8x1x64x64, .f32⟩
  | 2 => ⟨S8x1x64, .f32⟩
  | 3 => ⟨S8x1x64x64x16, .f32⟩
  | 4 => ⟨S8x1x64x64x16, .f32⟩
  | 5 => ⟨S8x1x64x16x64, .f32⟩
  | 6 => ⟨S8x1x64x16x64, .f32⟩
  | 7 => ⟨S8x1x64x16, .f32⟩
  | 8 => ⟨S8x1x1024, .f32⟩
  | 9 => ⟨S8x1x2048, .f32⟩
  | 10 => ⟨S8x1x5632, .f32⟩
  | 11 => ⟨S8x2048, .f32⟩
  | 12 => ⟨S1x64x64, .f32⟩
  | 13 => ⟨S1x64x64, .f32⟩
  | 14 => ⟨S1x64, .f32⟩
  | 15 => ⟨S1x64x64x16, .f32⟩
  | 16 => ⟨S1x64x64x16, .f32⟩
  | 17 => ⟨S1x64x16x64, .f32⟩
  | 18 => ⟨S1x64x16x64, .f32⟩
  | 19 => ⟨S1x64x16, .f32⟩
  | 20 => ⟨S1x1024, .f32⟩
  | 21 => ⟨S1x2048, .f32⟩
  | 22 => ⟨S1x5632, .f32⟩
  | 23 => ⟨S2048, .f32⟩
  | 24 => ⟨S1x64x64, .f32⟩
  | 25 => ⟨S1x64x64, .f32⟩
  | 26 => ⟨S1x64, .f32⟩
  | 27 => ⟨S1x64x64x16, .f32⟩
  | 28 => ⟨S1x64x64x16, .f32⟩
  | 29 => ⟨S1x64x16x64, .f32⟩
  | 30 => ⟨S1x64x16x64, .f32⟩
  | 31 => ⟨S1x64x16, .f32⟩
  | 32 => ⟨S1x1024, .f32⟩
  | 33 => ⟨S1x2048, .f32⟩
  | 34 => ⟨S1x5632, .f32⟩
  | 35 => ⟨S2048, .f32⟩
  | 36 => ⟨S1x64x64, .f32⟩
  | 37 => ⟨S1x64x64, .f32⟩
  | 38 => ⟨S1x64, .f32⟩
  | 39 => ⟨S1x64x64x16, .f32⟩
  | 40 => ⟨S1x64x64x16, .f32⟩
  | 41 => ⟨S1x64x16x64, .f32⟩
  | 42 => ⟨S1x64x16x64, .f32⟩
  | 43 => ⟨S1x64x16, .f32⟩
  | 44 => ⟨S1x1024, .f32⟩
  | 45 => ⟨S1x2048, .f32⟩
  | 46 => ⟨S1x5632, .f32⟩
  | 47 => ⟨S2048, .f32⟩
  | 48 => ⟨S_, .f32⟩
  | 49 => ⟨S1x64x64, .f32⟩
  | 50 => ⟨S_, .f32⟩
  | 51 => ⟨S1x64x64, .f32⟩
  | 52 => ⟨S1x64x64, .f32⟩
  | 53 => ⟨S_, .f32⟩
  | 54 => ⟨S1x64x64, .f32⟩
  | 55 => ⟨S1x64x64, .f32⟩
  | 56 => ⟨S1x64x64, .f32⟩
  | 57 => ⟨S_, .f32⟩
  | 58 => ⟨S1x64x64, .f32⟩
  | 59 => ⟨S1x64x64, .f32⟩
  | 60 => ⟨S1x64x64, .f32⟩
  | 61 => ⟨S_, .f32⟩
  | 62 => ⟨S1x64x64, .f32⟩
  | 63 => ⟨S1x64x64, .f32⟩
  | 64 => ⟨S1x64x64, .f32⟩
  | 65 => ⟨S_, .f32⟩
  | 66 => ⟨S1x64x64, .f32⟩
  | 67 => ⟨S1x64x64, .f32⟩
  | 68 => ⟨S_, .f32⟩
  | 69 => ⟨S1x64x64, .f32⟩
  | 70 => ⟨S1x64x64, .f32⟩
  | 71 => ⟨S1x64x64, .f32⟩
  | 72 => ⟨S_, .f32⟩
  | 73 => ⟨S1x64x64, .f32⟩
  | 74 => ⟨S1x64x64, .f32⟩
  | 75 => ⟨S1x64x64, .f32⟩
  | 76 => ⟨S_, .f32⟩
  | 77 => ⟨S1x64x64, .f32⟩
  | 78 => ⟨S1x64x64, .f32⟩
  | 79 => ⟨S1x64x64, .f32⟩
  | 80 => ⟨S_, .f32⟩
  | 81 => ⟨S1x64x64, .f32⟩
  | 82 => ⟨S1x64x64, .f32⟩
  | 83 => ⟨S_, .f32⟩
  | 84 => ⟨S1x64x64, .f32⟩
  | 85 => ⟨S_, .f32⟩
  | 86 => ⟨S1x64x64, .f32⟩
  | 87 => ⟨S1x64x64, .f32⟩
  | 88 => ⟨S_, .f32⟩
  | 89 => ⟨S1x64x64, .f32⟩
  | 90 => ⟨S1x64x64, .f32⟩
  | 91 => ⟨S1x64x64, .f32⟩
  | 92 => ⟨S_, .f32⟩
  | 93 => ⟨S1x64x64, .f32⟩
  | 94 => ⟨S1x64x64, .f32⟩
  | 95 => ⟨S1x64x64, .f32⟩
  | 96 => ⟨S_, .f32⟩
  | 97 => ⟨S1x64x64, .f32⟩
  | 98 => ⟨S1x64x64, .f32⟩
  | 99 => ⟨S1x64x64, .f32⟩
  | 100 => ⟨S_, .f32⟩
  | 101 => ⟨S1x64x64, .f32⟩
  | 102 => ⟨S1x64x64, .f32⟩
  | 103 => ⟨S_, .f32⟩
  | 104 => ⟨S1x64x64, .f32⟩
  | 105 => ⟨S1x64x64, .f32⟩
  | 106 => ⟨S1x64x64, .f32⟩
  | 107 => ⟨S_, .f32⟩
  | 108 => ⟨S1x64x64, .f32⟩
  | 109 => ⟨S1x64x64, .f32⟩
  | 110 => ⟨S1x64x64, .f32⟩
  | 111 => ⟨S_, .f32⟩
  | 112 => ⟨S1x64x64, .f32⟩
  | 113 => ⟨S1x64x64, .f32⟩
  | 114 => ⟨S1x64x64, .f32⟩
  | 115 => ⟨S_, .f32⟩
  | 116 => ⟨S1x64x64, .f32⟩
  | 117 => ⟨S1x64x64, .f32⟩
  | 118 => ⟨S_, .f32⟩
  | 119 => ⟨S1x64, .f32⟩
  | 120 => ⟨S_, .f32⟩
  | 121 => ⟨S1x64, .f32⟩
  | 122 => ⟨S1x64, .f32⟩
  | 123 => ⟨S_, .f32⟩
  | 124 => ⟨S1x64, .f32⟩
  | 125 => ⟨S1x64, .f32⟩
  | 126 => ⟨S1x64, .f32⟩
  | 127 => ⟨S_, .f32⟩
  | _ => ⟨S8x1x64x64, .f32⟩

abbrev hbmTy0_1 (i : Nat) : BufTy := match i % 128 with
  | 0 => ⟨S1x64, .f32⟩
  | 1 => ⟨S1x64, .f32⟩
  | 2 => ⟨S1x64, .f32⟩
  | 3 => ⟨S_, .f32⟩
  | 4 => ⟨S1x64, .f32⟩
  | 5 => ⟨S1x64, .f32⟩
  | 6 => ⟨S1x64, .f32⟩
  | 7 => ⟨S_, .f32⟩
  | 8 => ⟨S1x64, .f32⟩
  | 9 => ⟨S1x64, .f32⟩
  | 10 => ⟨S_, .f32⟩
  | 11 => ⟨S1x64, .f32⟩
  | 12 => ⟨S1x64, .f32⟩
  | 13 => ⟨S1x64, .f32⟩
  | 14 => ⟨S_, .f32⟩
  | 15 => ⟨S1x64, .f32⟩
  | 16 => ⟨S1x64, .f32⟩
  | 17 => ⟨S1x64, .f32⟩
  | 18 => ⟨S_, .f32⟩
  | 19 => ⟨S1x64, .f32⟩
  | 20 => ⟨S1x64, .f32⟩
  | 21 => ⟨S1x64, .f32⟩
  | 22 => ⟨S_, .f32⟩
  | 23 => ⟨S1x64, .f32⟩
  | 24 => ⟨S1x64, .f32⟩
  | 25 => ⟨S_, .f32⟩
  | 26 => ⟨S1x64x64x16, .f32⟩
  | 27 => ⟨S_, .f32⟩
  | 28 => ⟨S1x64x64x16, .f32⟩
  | 29 => ⟨S1x64x64x16, .f32⟩
  | 30 => ⟨S_, .f32⟩
  | 31 => ⟨S1x64x64x16, .f32⟩
  | 32 => ⟨S1x64x64x16, .f32⟩
  | 33 => ⟨S1x64x64x16, .f32⟩
  | 34 => ⟨S_, .f32⟩
  | 35 => ⟨S1x64x64x16, .f32⟩
  | 36 => ⟨S1x64x64x16, .f32⟩
  | 37 => ⟨S1x64x64x16, .f32⟩
  | 38 => ⟨S_, .f32⟩
  | 39 => ⟨S1x64x64x16, .f32⟩
  | 40 => ⟨S1x64x64x16, .f32⟩
  | 41 => ⟨S1x64x64x16, .f32⟩
  | 42 => ⟨S_, .f32⟩
  | 43 => ⟨S1x64x64x16, .f32⟩
  | 44 => ⟨S1x64x64x16, .f32⟩
  | 45 => ⟨S_, .f32⟩
  | 46 => ⟨S1x64x64x16, .f32⟩
  | 47 => ⟨S1x64x64x16, .f32⟩
  | 48 => ⟨S1x64x64x16, .f32⟩
  | 49 => ⟨S_, .f32⟩
  | 50 => ⟨S1x64x64x16, .f32⟩
  | 51 => ⟨S1x64x64x16, .f32⟩
  | 52 => ⟨S1x64x64x16, .f32⟩
  | 53 => ⟨S_, .f32⟩
  | 54 => ⟨S1x64x64x16, .f32⟩
  | 55 => ⟨S1x64x64x16, .f32⟩
  | 56 => ⟨S1x64x64x16, .f32⟩
  | 57 => ⟨S_, .f32⟩
  | 58 => ⟨S1x64x64x16, .f32⟩
  | 59 => ⟨S1x64x64x16, .f32⟩
  | 60 => ⟨S_, .f32⟩
  | 61 => ⟨S1x64x64x16, .f32⟩
  | 62 => ⟨S_, .f32⟩
  | 63 => ⟨S1x64x64x16, .f32⟩
  | 64 => ⟨S1x64x64x16, .f32⟩
  | 65 => ⟨S_, .f32⟩
  | 66 => ⟨S1x64x64x16, .f32⟩
  | 67 => ⟨S1x64x64x16, .f32⟩
  | 68 => ⟨S1x64x64x16, .f32⟩
  | 69 => ⟨S_, .f32⟩
  | 70 => ⟨S1x64x64x16, .f32⟩
  | 71 => ⟨S1x64x64x16, .f32⟩
  | 72 => ⟨S1x64x64x16, .f32⟩
  | 73 => ⟨S_, .f32⟩
  | 74 => ⟨S1x64x64x16, .f32⟩
  | 75 => ⟨S1x64x64x16, .f32⟩
  | 76 => ⟨S1x64x64x16, .f32⟩
  | 77 => ⟨S_, .f32⟩
  | 78 => ⟨S1x64x64x16, .f32⟩
  | 79 => ⟨S1x64x64x16, .f32⟩
  | 80 => ⟨S_, .f32⟩
  | 81 => ⟨S1x64x64x16, .f32⟩
  | 82 => ⟨S1x64x64x16, .f32⟩
  | 83 => ⟨S1x64x64x16, .f32⟩
  | 84 => ⟨S_, .f32⟩
  | 85 => ⟨S1x64x64x16, .f32⟩
  | 86 => ⟨S1x64x64x16, .f32⟩
  | 87 => ⟨S1x64x64x16, .f32⟩
  | 88 => ⟨S_, .f32⟩
  | 89 => ⟨S1x64x64x16, .f32⟩
  | 90 => ⟨S1x64x64x16, .f32⟩
  | 91 => ⟨S1x64x64x16, .f32⟩
  | 92 => ⟨S_, .f32⟩
  | 93 => ⟨S1x64x64x16, .f32⟩
  | 94 => ⟨S1x64x64x16, .f32⟩
  | 95 => ⟨S_, .f32⟩
  | 96 => ⟨S1x64x16x64, .f32⟩
  | 97 => ⟨S_, .f32⟩
  | 98 => ⟨S1x64x16x64, .f32⟩
  | 99 => ⟨S1x64x16x64, .f32⟩
  | 100 => ⟨S_, .f32⟩
  | 101 => ⟨S1x64x16x64, .f32⟩
  | 102 => ⟨S1x64x16x64, .f32⟩
  | 103 => ⟨S1x64x16x64, .f32⟩
  | 104 => ⟨S_, .f32⟩
  | 105 => ⟨S1x64x16x64, .f32⟩
  | 106 => ⟨S1x64x16x64, .f32⟩
  | 107 => ⟨S1x64x16x64, .f32⟩
  | 108 => ⟨S_, .f32⟩
  | 109 => ⟨S1x64x16x64, .f32⟩
  | 110 => ⟨S1x64x16x64, .f32⟩
  | 111 => ⟨S1x64x16x64, .f32⟩
  | 112 => ⟨S_, .f32⟩
  | 113 => ⟨S1x64x16x64, .f32⟩
  | 114 => ⟨S1x64x16x64, .f32⟩
  | 115 => ⟨S_, .f32⟩
  | 116 => ⟨S1x64x16x64, .f32⟩
  | 117 => ⟨S1x64x16x64, .f32⟩
  | 118 => ⟨S1x64x16x64, .f32⟩
  | 119 => ⟨S_, .f32⟩
  | 120 => ⟨S1x64x16x64, .f32⟩
  | 121 => ⟨S1x64x16x64, .f32⟩
  | 122 => ⟨S1x64x16x64, .f32⟩
  | 123 => ⟨S_, .f32⟩
  | 124 => ⟨S1x64x16x64, .f32⟩
  | 125 => ⟨S1x64x16x64, .f32⟩
  | 126 => ⟨S1x64x16x64, .f32⟩
  | 127 => ⟨S_, .f32⟩
  | _ => ⟨S8x1x64x64, .f32⟩

abbrev hbmTy0_2 (i : Nat) : BufTy := match i % 128 with
  | 0 => ⟨S1x64x16x64, .f32⟩
  | 1 => ⟨S1x64x16x64, .f32⟩
  | 2 => ⟨S_, .f32⟩
  | 3 => ⟨S1x64x16x64, .f32⟩
  | 4 => ⟨S_, .f32⟩
  | 5 => ⟨S1x64x16x64, .f32⟩
  | 6 => ⟨S1x64x16x64, .f32⟩
  | 7 => ⟨S_, .f32⟩
  | 8 => ⟨S1x64x16x64, .f32⟩
  | 9 => ⟨S1x64x16x64, .f32⟩
  | 10 => ⟨S1x64x16x64, .f32⟩
  | 11 => ⟨S_, .f32⟩
  | 12 => ⟨S1x64x16x64, .f32⟩
  | 13 => ⟨S1x64x16x64, .f32⟩
  | 14 => ⟨S1x64x16x64, .f32⟩
  | 15 => ⟨S_, .f32⟩
  | 16 => ⟨S1x64x16x64, .f32⟩
  | 17 => ⟨S1x64x16x64, .f32⟩
  | 18 => ⟨S1x64x16x64, .f32⟩
  | 19 => ⟨S_, .f32⟩
  | 20 => ⟨S1x64x16x64, .f32⟩
  | 21 => ⟨S1x64x16x64, .f32⟩
  | 22 => ⟨S_, .f32⟩
  | 23 => ⟨S1x64x16x64, .f32⟩
  | 24 => ⟨S1x64x16x64, .f32⟩
  | 25 => ⟨S1x64x16x64, .f32⟩
  | 26 => ⟨S_, .f32⟩
  | 27 => ⟨S1x64x16x64, .f32⟩
  | 28 => ⟨S1x64x16x64, .f32⟩
  | 29 => ⟨S1x64x16x64, .f32⟩
  | 30 => ⟨S_, .f32⟩
  | 31 => ⟨S1x64x16x64, .f32⟩
  | 32 => ⟨S1x64x16x64, .f32⟩
  | 33 => ⟨S1x64x16x64, .f32⟩
  | 34 => ⟨S_, .f32⟩
  | 35 => ⟨S1x64x16x64, .f32⟩
  | 36 => ⟨S1x64x16x64, .f32⟩
  | 37 => ⟨S_, .f32⟩
  | 38 => ⟨S1x64x16, .f32⟩
  | 39 => ⟨S_, .f32⟩
  | 40 => ⟨S1x64x16, .f32⟩
  | 41 => ⟨S1x64x16, .f32⟩
  | 42 => ⟨S_, .f32⟩
  | 43 => ⟨S1x64x16, .f32⟩
  | 44 => ⟨S1x64x16, .f32⟩
  | 45 => ⟨S1x64x16, .f32⟩
  | 46 => ⟨S_, .f32⟩
  | 47 => ⟨S1x64x16, .f32⟩
  | 48 => ⟨S1x64x16, .f32⟩
  | 49 => ⟨S1x64x16, .f32⟩
  | 50 => ⟨S_, .f32⟩
  | 51 => ⟨S1x64x16, .f32⟩
  | 52 => ⟨S1x64x16, .f32⟩
  | 53 => ⟨S1x64x16, .f32⟩
  | 54 => ⟨S_, .f32⟩
  | 55 => ⟨S1x64x16, .f32⟩
  | 56 => ⟨S1x64x16, .f32⟩
  | 57 => ⟨S_, .f32⟩
  | 58 => ⟨S1x64x16, .f32⟩
  | 59 => ⟨S1x64x16, .f32⟩
  | 60 => ⟨S1x64x16, .f32⟩
  | 61 => ⟨S_, .f32⟩
  | 62 => ⟨S1x64x16, .f32⟩
  | 63 => ⟨S1x64x16, .f32⟩
  | 64 => ⟨S1x64x16, .f32⟩
  | 65 => ⟨S_, .f32⟩
  | 66 => ⟨S1x64x16, .f32⟩
  | 67 => ⟨S1x64x16, .f32⟩
  | 68 => ⟨S1x64x16, .f32⟩
  | 69 => ⟨S_, .f32⟩
  | 70 => ⟨S1x64x16, .f32⟩
  | 71 => ⟨S1x64x16, .f32⟩
  | 72 => ⟨S_, .f32⟩
  | 73 => ⟨S1x1024, .f32⟩
  | 74 => ⟨S_, .f32⟩
  | 75 => ⟨S1x1024, .f32⟩
  | 76 => ⟨S1x1024, .f32⟩
  | 77 => ⟨S_, .f32⟩
  | 78 => ⟨S1x1024, .f32⟩
  | 79 => ⟨S1x1024, .f32⟩
  | 80 => ⟨S1x1024, .f32⟩
  | 81 => ⟨S_, .f32⟩
  | 82 => ⟨S1x1024, .f32⟩
  | 83 => ⟨S1x1024, .f32⟩
  | 84 => ⟨S1x1024, .f32⟩
  | 85 => ⟨S_, .f32⟩
  | 86 => ⟨S1x1024, .f32⟩
  | 87 => ⟨S1x1024, .f32⟩
  | 88 => ⟨S1x1024, .f32⟩
  | 89 => ⟨S_, .f32⟩
  | 90 => ⟨S1x1024, .f32⟩
  | 91 => ⟨S1x1024, .f32⟩
  | 92 => ⟨S_, .f32⟩
  | 93 => ⟨S1x1024, .f32⟩
  | 94 => ⟨S1x1024, .f32⟩
  | 95 => ⟨S1x1024, .f32⟩
  | 96 => ⟨S_, .f32⟩
  | 97 => ⟨S1x1024, .f32⟩
  | 98 => ⟨S1x1024, .f32⟩
  | 99 => ⟨S1x1024, .f32⟩
  | 100 => ⟨S_, .f32⟩
  | 101 => ⟨S1x1024, .f32⟩
  | 102 => ⟨S1x1024, .f32⟩
  | 103 => ⟨S1x1024, .f32⟩
  | 104 => ⟨S_, .f32⟩
  | 105 => ⟨S1x1024, .f32⟩
  | 106 => ⟨S1x1024, .f32⟩
  | 107 => ⟨S_, .f32⟩
  | 108 => ⟨S1x2048, .f32⟩
  | 109 => ⟨S_, .f32⟩
  | 110 => ⟨S1x2048, .f32⟩
  | 111 => ⟨S1x2048, .f32⟩
  | 112 => ⟨S_, .f32⟩
  | 113 => ⟨S1x2048, .f32⟩
  | 114 => ⟨S1x2048, .f32⟩
  | 115 => ⟨S1x2048, .f32⟩
  | 116 => ⟨S_, .f32⟩
  | 117 => ⟨S1x2048, .f32⟩
  | 118 => ⟨S1x2048, .f32⟩
  | 119 => ⟨S1x2048, .f32⟩
  | 120 => ⟨S_, .f32⟩
  | 121 => ⟨S1x2048, .f32⟩
  | 122 => ⟨S1x2048, .f32⟩
  | 123 => ⟨S1x2048, .f32⟩
  | 124 => ⟨S_, .f32⟩
  | 125 => ⟨S1x2048, .f32⟩
  | 126 => ⟨S1x2048, .f32⟩
  | 127 => ⟨S_, .f32⟩
  | _ => ⟨S8x1x64x64, .f32⟩

abbrev hbmTy0_3 (i : Nat) : BufTy := match i % 128 with
  | 0 => ⟨S1x2048, .f32⟩
  | 1 => ⟨S1x2048, .f32⟩
  | 2 => ⟨S1x2048, .f32⟩
  | 3 => ⟨S_, .f32⟩
  | 4 => ⟨S1x2048, .f32⟩
  | 5 => ⟨S1x2048, .f32⟩
  | 6 => ⟨S1x2048, .f32⟩
  | 7 => ⟨S_, .f32⟩
  | 8 => ⟨S1x2048, .f32⟩
  | 9 => ⟨S1x2048, .f32⟩
  | 10 => ⟨S1x2048, .f32⟩
  | 11 => ⟨S_, .f32⟩
  | 12 => ⟨S1x2048, .f32⟩
  | 13 => ⟨S1x2048, .f32⟩
  | 14 => ⟨S_, .f32⟩
  | 15 => ⟨S1x5632, .f32⟩
  | 16 => ⟨S_, .f32⟩
  | 17 => ⟨S1x5632, .f32⟩
  | 18 => ⟨S1x5632, .f32⟩
  | 19 => ⟨S_, .f32⟩
  | 20 => ⟨S1x5632, .f32⟩
  | 21 => ⟨S1x5632, .f32⟩
  | 22 => ⟨S1x5632, .f32⟩
  | 23 => ⟨S_, .f32⟩
  | 24 => ⟨S1x5632, .f32⟩
  | 25 => ⟨S1x5632, .f32⟩
  | 26 => ⟨S1x5632, .f32⟩
  | 27 => ⟨S_, .f32⟩
  | 28 => ⟨S1x5632, .f32⟩
  | 29 => ⟨S1x5632, .f32⟩
  | 30 => ⟨S1x5632, .f32⟩
  | 31 => ⟨S_, .f32⟩
  | 32 => ⟨S1x5632, .f32⟩
  | 33 => ⟨S1x5632, .f32⟩
  | 34 => ⟨S_, .f32⟩
  | 35 => ⟨S1x5632, .f32⟩
  | 36 => ⟨S1x5632, .f32⟩
  | 37 => ⟨S1x5632, .f32⟩
  | 38 => ⟨S_, .f32⟩
  | 39 => ⟨S1x5632, .f32⟩
  | 40 => ⟨S1x5632, .f32⟩
  | 41 => ⟨S1x5632, .f32⟩
  | 42 => ⟨S_, .f32⟩
  | 43 => ⟨S1x5632, .f32⟩
  | 44 => ⟨S1x5632, .f32⟩
  | 45 => ⟨S1x5632, .f32⟩
  | 46 => ⟨S_, .f32⟩
  | 47 => ⟨S1x5632, .f32⟩
  | 48 => ⟨S1x5632, .f32⟩
  | 49 => ⟨S_, .f32⟩
  | 50 => ⟨S2048, .f32⟩
  | 51 => ⟨S_, .f32⟩
  | 52 => ⟨S2048, .f32⟩
  | 53 => ⟨S2048, .f32⟩
  | 54 => ⟨S_, .f32⟩
  | 55 => ⟨S2048, .f32⟩
  | 56 => ⟨S2048, .f32⟩
  | 57 => ⟨S2048, .f32⟩
  | 58 => ⟨S_, .f32⟩
  | 59 => ⟨S2048, .f32⟩
  | 60 => ⟨S2048, .f32⟩
  | 61 => ⟨S2048, .f32⟩
  | 62 => ⟨S_, .f32⟩
  | 63 => ⟨S2048, .f32⟩
  | 64 => ⟨S2048, .f32⟩
  | 65 => ⟨S2048, .f32⟩
  | 66 => ⟨S_, .f32⟩
  | 67 => ⟨S2048, .f32⟩
  | 68 => ⟨S2048, .f32⟩
  | 69 => ⟨S_, .f32⟩
  | 70 => ⟨S2048, .f32⟩
  | 71 => ⟨S2048, .f32⟩
  | 72 => ⟨S2048, .f32⟩
  | 73 => ⟨S_, .f32⟩
  | 74 => ⟨S2048, .f32⟩
  | 75 => ⟨S2048, .f32⟩
  | 76 => ⟨S2048, .f32⟩
  | 77 => ⟨S_, .f32⟩
  | 78 => ⟨S2048, .f32⟩
  | 79 => ⟨S2048, .f32⟩
  | 80 => ⟨S2048, .f32⟩
  | 81 => ⟨S_, .f32⟩
  | 82 => ⟨S2048, .f32⟩
  | 83 => ⟨S2048, .f32⟩
  | _ => ⟨S8x1x64x64, .f32⟩

abbrev hbmTy (i : Nat) : BufTy := match i / 128 with
  | 0 => hbmTy0_0 i
  | 1 => hbmTy0_1 i
  | 2 => hbmTy0_2 i
  | 3 => hbmTy0_3 i
  | _ => ⟨S8x1x64x64, .f32⟩

abbrev bufTy : (tb : Table) → Fin (tcTables nBuf tb) → BufTy
  | .hbm, ⟨i, _⟩ => hbmTy i
  | _, _ => ⟨S8x1x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_cst : Ref sig .tc := ⟨.hbm, 48, rfl⟩
abbrev main_v0 : Ref sig .tc := ⟨.hbm, 49, rfl⟩
abbrev main_cst_0 : Ref sig .tc := ⟨.hbm, 50, rfl⟩
abbrev main_v1 : Ref sig .tc := ⟨.hbm, 51, rfl⟩
abbrev main_v2 : Ref sig .tc := ⟨.hbm, 52, rfl⟩
abbrev main_cst_1 : Ref sig .tc := ⟨.hbm, 53, rfl⟩
abbrev main_v3 : Ref sig .tc := ⟨.hbm, 54, rfl⟩
abbrev main_v4 : Ref sig .tc := ⟨.hbm, 55, rfl⟩
abbrev main_v5 : Ref sig .tc := ⟨.hbm, 56, rfl⟩
abbrev main_cst_2 : Ref sig .tc := ⟨.hbm, 57, rfl⟩
abbrev main_v6 : Ref sig .tc := ⟨.hbm, 58, rfl⟩
abbrev main_v7 : Ref sig .tc := ⟨.hbm, 59, rfl⟩
abbrev main_v8 : Ref sig .tc := ⟨.hbm, 60, rfl⟩
abbrev main_cst_3 : Ref sig .tc := ⟨.hbm, 61, rfl⟩
abbrev main_v9 : Ref sig .tc := ⟨.hbm, 62, rfl⟩
abbrev main_v10 : Ref sig .tc := ⟨.hbm, 63, rfl⟩
abbrev main_v11 : Ref sig .tc := ⟨.hbm, 64, rfl⟩
abbrev main_cst_4 : Ref sig .tc := ⟨.hbm, 65, rfl⟩
abbrev main_v12 : Ref sig .tc := ⟨.hbm, 66, rfl⟩
abbrev main_v13 : Ref sig .tc := ⟨.hbm, 67, rfl⟩
abbrev main_cst_5 : Ref sig .tc := ⟨.hbm, 68, rfl⟩
abbrev main_v14 : Ref sig .tc := ⟨.hbm, 69, rfl⟩
abbrev main_v15 : Ref sig .tc := ⟨.hbm, 70, rfl⟩
abbrev main_v16 : Ref sig .tc := ⟨.hbm, 71, rfl⟩
abbrev main_cst_6 : Ref sig .tc := ⟨.hbm, 72, rfl⟩
abbrev main_v17 : Ref sig .tc := ⟨.hbm, 73, rfl⟩
abbrev main_v18 : Ref sig .tc := ⟨.hbm, 74, rfl⟩
abbrev main_v19 : Ref sig .tc := ⟨.hbm, 75, rfl⟩
abbrev main_cst_7 : Ref sig .tc := ⟨.hbm, 76, rfl⟩
abbrev main_v20 : Ref sig .tc := ⟨.hbm, 77, rfl⟩
abbrev main_v21 : Ref sig .tc := ⟨.hbm, 78, rfl⟩
abbrev main_v22 : Ref sig .tc := ⟨.hbm, 79, rfl⟩
abbrev main_cst_8 : Ref sig .tc := ⟨.hbm, 80, rfl⟩
abbrev main_v23 : Ref sig .tc := ⟨.hbm, 81, rfl⟩
abbrev main_v24 : Ref sig .tc := ⟨.hbm, 82, rfl⟩
abbrev main_cst_9 : Ref sig .tc := ⟨.hbm, 83, rfl⟩
abbrev main_v25 : Ref sig .tc := ⟨.hbm, 84, rfl⟩
abbrev main_cst_10 : Ref sig .tc := ⟨.hbm, 85, rfl⟩
abbrev main_v26 : Ref sig .tc := ⟨.hbm, 86, rfl⟩
abbrev main_v27 : Ref sig .tc := ⟨.hbm, 87, rfl⟩
abbrev main_cst_11 : Ref sig .tc := ⟨.hbm, 88, rfl⟩
abbrev main_v28 : Ref sig .tc := ⟨.hbm, 89, rfl⟩
abbrev main_v29 : Ref sig .tc := ⟨.hbm, 90, rfl⟩
abbrev main_v30 : Ref sig .tc := ⟨.hbm, 91, rfl⟩
abbrev main_cst_12 : Ref sig .tc := ⟨.hbm, 92, rfl⟩
abbrev main_v31 : Ref sig .tc := ⟨.hbm, 93, rfl⟩
abbrev main_v32 : Ref sig .tc := ⟨.hbm, 94, rfl⟩
abbrev main_v33 : Ref sig .tc := ⟨.hbm, 95, rfl⟩
abbrev main_cst_13 : Ref sig .tc := ⟨.hbm, 96, rfl⟩
abbrev main_v34 : Ref sig .tc := ⟨.hbm, 97, rfl⟩
abbrev main_v35 : Ref sig .tc := ⟨.hbm, 98, rfl⟩
abbrev main_v36 : Ref sig .tc := ⟨.hbm, 99, rfl⟩
abbrev main_cst_14 : Ref sig .tc := ⟨.hbm, 100, rfl⟩
abbrev main_v37 : Ref sig .tc := ⟨.hbm, 101, rfl⟩
abbrev main_v38 : Ref sig .tc := ⟨.hbm, 102, rfl⟩
abbrev main_cst_15 : Ref sig .tc := ⟨.hbm, 103, rfl⟩
abbrev main_v39 : Ref sig .tc := ⟨.hbm, 104, rfl⟩
abbrev main_v40 : Ref sig .tc := ⟨.hbm, 105, rfl⟩
abbrev main_v41 : Ref sig .tc := ⟨.hbm, 106, rfl⟩
abbrev main_cst_16 : Ref sig .tc := ⟨.hbm, 107, rfl⟩
abbrev main_v42 : Ref sig .tc := ⟨.hbm, 108, rfl⟩
abbrev main_v43 : Ref sig .tc := ⟨.hbm, 109, rfl⟩
abbrev main_v44 : Ref sig .tc := ⟨.hbm, 110, rfl⟩
abbrev main_cst_17 : Ref sig .tc := ⟨.hbm, 111, rfl⟩
abbrev main_v45 : Ref sig .tc := ⟨.hbm, 112, rfl⟩
abbrev main_v46 : Ref sig .tc := ⟨.hbm, 113, rfl⟩
abbrev main_v47 : Ref sig .tc := ⟨.hbm, 114, rfl⟩
abbrev main_cst_18 : Ref sig .tc := ⟨.hbm, 115, rfl⟩
abbrev main_v48 : Ref sig .tc := ⟨.hbm, 116, rfl⟩
abbrev main_v49 : Ref sig .tc := ⟨.hbm, 117, rfl⟩
abbrev main_cst_19 : Ref sig .tc := ⟨.hbm, 118, rfl⟩
abbrev main_v50 : Ref sig .tc := ⟨.hbm, 119, rfl⟩
abbrev main_cst_20 : Ref sig .tc := ⟨.hbm, 120, rfl⟩
abbrev main_v51 : Ref sig .tc := ⟨.hbm, 121, rfl⟩
abbrev main_v52 : Ref sig .tc := ⟨.hbm, 122, rfl⟩
abbrev main_cst_21 : Ref sig .tc := ⟨.hbm, 123, rfl⟩
abbrev main_v53 : Ref sig .tc := ⟨.hbm, 124, rfl⟩
abbrev main_v54 : Ref sig .tc := ⟨.hbm, 125, rfl⟩
abbrev main_v55 : Ref sig .tc := ⟨.hbm, 126, rfl⟩
abbrev main_cst_22 : Ref sig .tc := ⟨.hbm, 127, rfl⟩
abbrev main_v56 : Ref sig .tc := ⟨.hbm, 128, rfl⟩
abbrev main_v57 : Ref sig .tc := ⟨.hbm, 129, rfl⟩
abbrev main_v58 : Ref sig .tc := ⟨.hbm, 130, rfl⟩
abbrev main_cst_23 : Ref sig .tc := ⟨.hbm, 131, rfl⟩
abbrev main_v59 : Ref sig .tc := ⟨.hbm, 132, rfl⟩
abbrev main_v60 : Ref sig .tc := ⟨.hbm, 133, rfl⟩
abbrev main_v61 : Ref sig .tc := ⟨.hbm, 134, rfl⟩
abbrev main_cst_24 : Ref sig .tc := ⟨.hbm, 135, rfl⟩
abbrev main_v62 : Ref sig .tc := ⟨.hbm, 136, rfl⟩
abbrev main_v63 : Ref sig .tc := ⟨.hbm, 137, rfl⟩
abbrev main_cst_25 : Ref sig .tc := ⟨.hbm, 138, rfl⟩
abbrev main_v64 : Ref sig .tc := ⟨.hbm, 139, rfl⟩
abbrev main_v65 : Ref sig .tc := ⟨.hbm, 140, rfl⟩
abbrev main_v66 : Ref sig .tc := ⟨.hbm, 141, rfl⟩
abbrev main_cst_26 : Ref sig .tc := ⟨.hbm, 142, rfl⟩
abbrev main_v67 : Ref sig .tc := ⟨.hbm, 143, rfl⟩
abbrev main_v68 : Ref sig .tc := ⟨.hbm, 144, rfl⟩
abbrev main_v69 : Ref sig .tc := ⟨.hbm, 145, rfl⟩
abbrev main_cst_27 : Ref sig .tc := ⟨.hbm, 146, rfl⟩
abbrev main_v70 : Ref sig .tc := ⟨.hbm, 147, rfl⟩
abbrev main_v71 : Ref sig .tc := ⟨.hbm, 148, rfl⟩
abbrev main_v72 : Ref sig .tc := ⟨.hbm, 149, rfl⟩
abbrev main_cst_28 : Ref sig .tc := ⟨.hbm, 150, rfl⟩
abbrev main_v73 : Ref sig .tc := ⟨.hbm, 151, rfl⟩
abbrev main_v74 : Ref sig .tc := ⟨.hbm, 152, rfl⟩
abbrev main_cst_29 : Ref sig .tc := ⟨.hbm, 153, rfl⟩
abbrev main_v75 : Ref sig .tc := ⟨.hbm, 154, rfl⟩
abbrev main_cst_30 : Ref sig .tc := ⟨.hbm, 155, rfl⟩
abbrev main_v76 : Ref sig .tc := ⟨.hbm, 156, rfl⟩
abbrev main_v77 : Ref sig .tc := ⟨.hbm, 157, rfl⟩
abbrev main_cst_31 : Ref sig .tc := ⟨.hbm, 158, rfl⟩
abbrev main_v78 : Ref sig .tc := ⟨.hbm, 159, rfl⟩
abbrev main_v79 : Ref sig .tc := ⟨.hbm, 160, rfl⟩
abbrev main_v80 : Ref sig .tc := ⟨.hbm, 161, rfl⟩
abbrev main_cst_32 : Ref sig .tc := ⟨.hbm, 162, rfl⟩
abbrev main_v81 : Ref sig .tc := ⟨.hbm, 163, rfl⟩
abbrev main_v82 : Ref sig .tc := ⟨.hbm, 164, rfl⟩
abbrev main_v83 : Ref sig .tc := ⟨.hbm, 165, rfl⟩
abbrev main_cst_33 : Ref sig .tc := ⟨.hbm, 166, rfl⟩
abbrev main_v84 : Ref sig .tc := ⟨.hbm, 167, rfl⟩
abbrev main_v85 : Ref sig .tc := ⟨.hbm, 168, rfl⟩
abbrev main_v86 : Ref sig .tc := ⟨.hbm, 169, rfl⟩
abbrev main_cst_34 : Ref sig .tc := ⟨.hbm, 170, rfl⟩
abbrev main_v87 : Ref sig .tc := ⟨.hbm, 171, rfl⟩
abbrev main_v88 : Ref sig .tc := ⟨.hbm, 172, rfl⟩
abbrev main_cst_35 : Ref sig .tc := ⟨.hbm, 173, rfl⟩
abbrev main_v89 : Ref sig .tc := ⟨.hbm, 174, rfl⟩
abbrev main_v90 : Ref sig .tc := ⟨.hbm, 175, rfl⟩
abbrev main_v91 : Ref sig .tc := ⟨.hbm, 176, rfl⟩
abbrev main_cst_36 : Ref sig .tc := ⟨.hbm, 177, rfl⟩
abbrev main_v92 : Ref sig .tc := ⟨.hbm, 178, rfl⟩
abbrev main_v93 : Ref sig .tc := ⟨.hbm, 179, rfl⟩
abbrev main_v94 : Ref sig .tc := ⟨.hbm, 180, rfl⟩
abbrev main_cst_37 : Ref sig .tc := ⟨.hbm, 181, rfl⟩
abbrev main_v95 : Ref sig .tc := ⟨.hbm, 182, rfl⟩
abbrev main_v96 : Ref sig .tc := ⟨.hbm, 183, rfl⟩
abbrev main_v97 : Ref sig .tc := ⟨.hbm, 184, rfl⟩
abbrev main_cst_38 : Ref sig .tc := ⟨.hbm, 185, rfl⟩
abbrev main_v98 : Ref sig .tc := ⟨.hbm, 186, rfl⟩
abbrev main_v99 : Ref sig .tc := ⟨.hbm, 187, rfl⟩
abbrev main_cst_39 : Ref sig .tc := ⟨.hbm, 188, rfl⟩
abbrev main_v100 : Ref sig .tc := ⟨.hbm, 189, rfl⟩
abbrev main_cst_40 : Ref sig .tc := ⟨.hbm, 190, rfl⟩
abbrev main_v101 : Ref sig .tc := ⟨.hbm, 191, rfl⟩
abbrev main_v102 : Ref sig .tc := ⟨.hbm, 192, rfl⟩
abbrev main_cst_41 : Ref sig .tc := ⟨.hbm, 193, rfl⟩
abbrev main_v103 : Ref sig .tc := ⟨.hbm, 194, rfl⟩
abbrev main_v104 : Ref sig .tc := ⟨.hbm, 195, rfl⟩
abbrev main_v105 : Ref sig .tc := ⟨.hbm, 196, rfl⟩
abbrev main_cst_42 : Ref sig .tc := ⟨.hbm, 197, rfl⟩
abbrev main_v106 : Ref sig .tc := ⟨.hbm, 198, rfl⟩
abbrev main_v107 : Ref sig .tc := ⟨.hbm, 199, rfl⟩
abbrev main_v108 : Ref sig .tc := ⟨.hbm, 200, rfl⟩
abbrev main_cst_43 : Ref sig .tc := ⟨.hbm, 201, rfl⟩
abbrev main_v109 : Ref sig .tc := ⟨.hbm, 202, rfl⟩
abbrev main_v110 : Ref sig .tc := ⟨.hbm, 203, rfl⟩
abbrev main_v111 : Ref sig .tc := ⟨.hbm, 204, rfl⟩
abbrev main_cst_44 : Ref sig .tc := ⟨.hbm, 205, rfl⟩
abbrev main_v112 : Ref sig .tc := ⟨.hbm, 206, rfl⟩
abbrev main_v113 : Ref sig .tc := ⟨.hbm, 207, rfl⟩
abbrev main_cst_45 : Ref sig .tc := ⟨.hbm, 208, rfl⟩
abbrev main_v114 : Ref sig .tc := ⟨.hbm, 209, rfl⟩
abbrev main_v115 : Ref sig .tc := ⟨.hbm, 210, rfl⟩
abbrev main_v116 : Ref sig .tc := ⟨.hbm, 211, rfl⟩
abbrev main_cst_46 : Ref sig .tc := ⟨.hbm, 212, rfl⟩
abbrev main_v117 : Ref sig .tc := ⟨.hbm, 213, rfl⟩
abbrev main_v118 : Ref sig .tc := ⟨.hbm, 214, rfl⟩
abbrev main_v119 : Ref sig .tc := ⟨.hbm, 215, rfl⟩
abbrev main_cst_47 : Ref sig .tc := ⟨.hbm, 216, rfl⟩
abbrev main_v120 : Ref sig .tc := ⟨.hbm, 217, rfl⟩
abbrev main_v121 : Ref sig .tc := ⟨.hbm, 218, rfl⟩
abbrev main_v122 : Ref sig .tc := ⟨.hbm, 219, rfl⟩
abbrev main_cst_48 : Ref sig .tc := ⟨.hbm, 220, rfl⟩
abbrev main_v123 : Ref sig .tc := ⟨.hbm, 221, rfl⟩
abbrev main_v124 : Ref sig .tc := ⟨.hbm, 222, rfl⟩
abbrev main_cst_49 : Ref sig .tc := ⟨.hbm, 223, rfl⟩
abbrev main_v125 : Ref sig .tc := ⟨.hbm, 224, rfl⟩
abbrev main_cst_50 : Ref sig .tc := ⟨.hbm, 225, rfl⟩
abbrev main_v126 : Ref sig .tc := ⟨.hbm, 226, rfl⟩
abbrev main_v127 : Ref sig .tc := ⟨.hbm, 227, rfl⟩
abbrev main_cst_51 : Ref sig .tc := ⟨.hbm, 228, rfl⟩
abbrev main_v128 : Ref sig .tc := ⟨.hbm, 229, rfl⟩
abbrev main_v129 : Ref sig .tc := ⟨.hbm, 230, rfl⟩
abbrev main_v130 : Ref sig .tc := ⟨.hbm, 231, rfl⟩
abbrev main_cst_52 : Ref sig .tc := ⟨.hbm, 232, rfl⟩
abbrev main_v131 : Ref sig .tc := ⟨.hbm, 233, rfl⟩
abbrev main_v132 : Ref sig .tc := ⟨.hbm, 234, rfl⟩
abbrev main_v133 : Ref sig .tc := ⟨.hbm, 235, rfl⟩
abbrev main_cst_53 : Ref sig .tc := ⟨.hbm, 236, rfl⟩
abbrev main_v134 : Ref sig .tc := ⟨.hbm, 237, rfl⟩
abbrev main_v135 : Ref sig .tc := ⟨.hbm, 238, rfl⟩
abbrev main_v136 : Ref sig .tc := ⟨.hbm, 239, rfl⟩
abbrev main_cst_54 : Ref sig .tc := ⟨.hbm, 240, rfl⟩
abbrev main_v137 : Ref sig .tc := ⟨.hbm, 241, rfl⟩
abbrev main_v138 : Ref sig .tc := ⟨.hbm, 242, rfl⟩
abbrev main_cst_55 : Ref sig .tc := ⟨.hbm, 243, rfl⟩
abbrev main_v139 : Ref sig .tc := ⟨.hbm, 244, rfl⟩
abbrev main_v140 : Ref sig .tc := ⟨.hbm, 245, rfl⟩
abbrev main_v141 : Ref sig .tc := ⟨.hbm, 246, rfl⟩
abbrev main_cst_56 : Ref sig .tc := ⟨.hbm, 247, rfl⟩
abbrev main_v142 : Ref sig .tc := ⟨.hbm, 248, rfl⟩
abbrev main_v143 : Ref sig .tc := ⟨.hbm, 249, rfl⟩
abbrev main_v144 : Ref sig .tc := ⟨.hbm, 250, rfl⟩
abbrev main_cst_57 : Ref sig .tc := ⟨.hbm, 251, rfl⟩
abbrev main_v145 : Ref sig .tc := ⟨.hbm, 252, rfl⟩
abbrev main_v146 : Ref sig .tc := ⟨.hbm, 253, rfl⟩
abbrev main_v147 : Ref sig .tc := ⟨.hbm, 254, rfl⟩
abbrev main_cst_58 : Ref sig .tc := ⟨.hbm, 255, rfl⟩
abbrev main_v148 : Ref sig .tc := ⟨.hbm, 256, rfl⟩
abbrev main_v149 : Ref sig .tc := ⟨.hbm, 257, rfl⟩
abbrev main_cst_59 : Ref sig .tc := ⟨.hbm, 258, rfl⟩
abbrev main_v150 : Ref sig .tc := ⟨.hbm, 259, rfl⟩
abbrev main_cst_60 : Ref sig .tc := ⟨.hbm, 260, rfl⟩
abbrev main_v151 : Ref sig .tc := ⟨.hbm, 261, rfl⟩
abbrev main_v152 : Ref sig .tc := ⟨.hbm, 262, rfl⟩
abbrev main_cst_61 : Ref sig .tc := ⟨.hbm, 263, rfl⟩
abbrev main_v153 : Ref sig .tc := ⟨.hbm, 264, rfl⟩
abbrev main_v154 : Ref sig .tc := ⟨.hbm, 265, rfl⟩
abbrev main_v155 : Ref sig .tc := ⟨.hbm, 266, rfl⟩
abbrev main_cst_62 : Ref sig .tc := ⟨.hbm, 267, rfl⟩
abbrev main_v156 : Ref sig .tc := ⟨.hbm, 268, rfl⟩
abbrev main_v157 : Ref sig .tc := ⟨.hbm, 269, rfl⟩
abbrev main_v158 : Ref sig .tc := ⟨.hbm, 270, rfl⟩
abbrev main_cst_63 : Ref sig .tc := ⟨.hbm, 271, rfl⟩
abbrev main_v159 : Ref sig .tc := ⟨.hbm, 272, rfl⟩
abbrev main_v160 : Ref sig .tc := ⟨.hbm, 273, rfl⟩
abbrev main_v161 : Ref sig .tc := ⟨.hbm, 274, rfl⟩
abbrev main_cst_64 : Ref sig .tc := ⟨.hbm, 275, rfl⟩
abbrev main_v162 : Ref sig .tc := ⟨.hbm, 276, rfl⟩
abbrev main_v163 : Ref sig .tc := ⟨.hbm, 277, rfl⟩
abbrev main_cst_65 : Ref sig .tc := ⟨.hbm, 278, rfl⟩
abbrev main_v164 : Ref sig .tc := ⟨.hbm, 279, rfl⟩
abbrev main_v165 : Ref sig .tc := ⟨.hbm, 280, rfl⟩
abbrev main_v166 : Ref sig .tc := ⟨.hbm, 281, rfl⟩
abbrev main_cst_66 : Ref sig .tc := ⟨.hbm, 282, rfl⟩
abbrev main_v167 : Ref sig .tc := ⟨.hbm, 283, rfl⟩
abbrev main_v168 : Ref sig .tc := ⟨.hbm, 284, rfl⟩
abbrev main_v169 : Ref sig .tc := ⟨.hbm, 285, rfl⟩
abbrev main_cst_67 : Ref sig .tc := ⟨.hbm, 286, rfl⟩
abbrev main_v170 : Ref sig .tc := ⟨.hbm, 287, rfl⟩
abbrev main_v171 : Ref sig .tc := ⟨.hbm, 288, rfl⟩
abbrev main_v172 : Ref sig .tc := ⟨.hbm, 289, rfl⟩
abbrev main_cst_68 : Ref sig .tc := ⟨.hbm, 290, rfl⟩
abbrev main_v173 : Ref sig .tc := ⟨.hbm, 291, rfl⟩
abbrev main_v174 : Ref sig .tc := ⟨.hbm, 292, rfl⟩
abbrev main_cst_69 : Ref sig .tc := ⟨.hbm, 293, rfl⟩
abbrev main_v175 : Ref sig .tc := ⟨.hbm, 294, rfl⟩
abbrev main_cst_70 : Ref sig .tc := ⟨.hbm, 295, rfl⟩
abbrev main_v176 : Ref sig .tc := ⟨.hbm, 296, rfl⟩
abbrev main_v177 : Ref sig .tc := ⟨.hbm, 297, rfl⟩
abbrev main_cst_71 : Ref sig .tc := ⟨.hbm, 298, rfl⟩
abbrev main_v178 : Ref sig .tc := ⟨.hbm, 299, rfl⟩
abbrev main_v179 : Ref sig .tc := ⟨.hbm, 300, rfl⟩
abbrev main_v180 : Ref sig .tc := ⟨.hbm, 301, rfl⟩
abbrev main_cst_72 : Ref sig .tc := ⟨.hbm, 302, rfl⟩
abbrev main_v181 : Ref sig .tc := ⟨.hbm, 303, rfl⟩
abbrev main_v182 : Ref sig .tc := ⟨.hbm, 304, rfl⟩
abbrev main_v183 : Ref sig .tc := ⟨.hbm, 305, rfl⟩
abbrev main_cst_73 : Ref sig .tc := ⟨.hbm, 306, rfl⟩
abbrev main_v184 : Ref sig .tc := ⟨.hbm, 307, rfl⟩
abbrev main_v185 : Ref sig .tc := ⟨.hbm, 308, rfl⟩
abbrev main_v186 : Ref sig .tc := ⟨.hbm, 309, rfl⟩
abbrev main_cst_74 : Ref sig .tc := ⟨.hbm, 310, rfl⟩
abbrev main_v187 : Ref sig .tc := ⟨.hbm, 311, rfl⟩
abbrev main_v188 : Ref sig .tc := ⟨.hbm, 312, rfl⟩
abbrev main_cst_75 : Ref sig .tc := ⟨.hbm, 313, rfl⟩
abbrev main_v189 : Ref sig .tc := ⟨.hbm, 314, rfl⟩
abbrev main_v190 : Ref sig .tc := ⟨.hbm, 315, rfl⟩
abbrev main_v191 : Ref sig .tc := ⟨.hbm, 316, rfl⟩
abbrev main_cst_76 : Ref sig .tc := ⟨.hbm, 317, rfl⟩
abbrev main_v192 : Ref sig .tc := ⟨.hbm, 318, rfl⟩
abbrev main_v193 : Ref sig .tc := ⟨.hbm, 319, rfl⟩
abbrev main_v194 : Ref sig .tc := ⟨.hbm, 320, rfl⟩
abbrev main_cst_77 : Ref sig .tc := ⟨.hbm, 321, rfl⟩
abbrev main_v195 : Ref sig .tc := ⟨.hbm, 322, rfl⟩
abbrev main_v196 : Ref sig .tc := ⟨.hbm, 323, rfl⟩
abbrev main_v197 : Ref sig .tc := ⟨.hbm, 324, rfl⟩
abbrev main_cst_78 : Ref sig .tc := ⟨.hbm, 325, rfl⟩
abbrev main_v198 : Ref sig .tc := ⟨.hbm, 326, rfl⟩
abbrev main_v199 : Ref sig .tc := ⟨.hbm, 327, rfl⟩
abbrev main_cst_79 : Ref sig .tc := ⟨.hbm, 328, rfl⟩
abbrev main_v200 : Ref sig .tc := ⟨.hbm, 329, rfl⟩
abbrev main_cst_80 : Ref sig .tc := ⟨.hbm, 330, rfl⟩
abbrev main_v201 : Ref sig .tc := ⟨.hbm, 331, rfl⟩
abbrev main_v202 : Ref sig .tc := ⟨.hbm, 332, rfl⟩
abbrev main_cst_81 : Ref sig .tc := ⟨.hbm, 333, rfl⟩
abbrev main_v203 : Ref sig .tc := ⟨.hbm, 334, rfl⟩
abbrev main_v204 : Ref sig .tc := ⟨.hbm, 335, rfl⟩
abbrev main_v205 : Ref sig .tc := ⟨.hbm, 336, rfl⟩
abbrev main_cst_82 : Ref sig .tc := ⟨.hbm, 337, rfl⟩
abbrev main_v206 : Ref sig .tc := ⟨.hbm, 338, rfl⟩
abbrev main_v207 : Ref sig .tc := ⟨.hbm, 339, rfl⟩
abbrev main_v208 : Ref sig .tc := ⟨.hbm, 340, rfl⟩
abbrev main_cst_83 : Ref sig .tc := ⟨.hbm, 341, rfl⟩
abbrev main_v209 : Ref sig .tc := ⟨.hbm, 342, rfl⟩
abbrev main_v210 : Ref sig .tc := ⟨.hbm, 343, rfl⟩
abbrev main_v211 : Ref sig .tc := ⟨.hbm, 344, rfl⟩
abbrev main_cst_84 : Ref sig .tc := ⟨.hbm, 345, rfl⟩
abbrev main_v212 : Ref sig .tc := ⟨.hbm, 346, rfl⟩
abbrev main_v213 : Ref sig .tc := ⟨.hbm, 347, rfl⟩
abbrev main_cst_85 : Ref sig .tc := ⟨.hbm, 348, rfl⟩
abbrev main_v214 : Ref sig .tc := ⟨.hbm, 349, rfl⟩
abbrev main_v215 : Ref sig .tc := ⟨.hbm, 350, rfl⟩
abbrev main_v216 : Ref sig .tc := ⟨.hbm, 351, rfl⟩
abbrev main_cst_86 : Ref sig .tc := ⟨.hbm, 352, rfl⟩
abbrev main_v217 : Ref sig .tc := ⟨.hbm, 353, rfl⟩
abbrev main_v218 : Ref sig .tc := ⟨.hbm, 354, rfl⟩
abbrev main_v219 : Ref sig .tc := ⟨.hbm, 355, rfl⟩
abbrev main_cst_87 : Ref sig .tc := ⟨.hbm, 356, rfl⟩
abbrev main_v220 : Ref sig .tc := ⟨.hbm, 357, rfl⟩
abbrev main_v221 : Ref sig .tc := ⟨.hbm, 358, rfl⟩
abbrev main_v222 : Ref sig .tc := ⟨.hbm, 359, rfl⟩
abbrev main_cst_88 : Ref sig .tc := ⟨.hbm, 360, rfl⟩
abbrev main_v223 : Ref sig .tc := ⟨.hbm, 361, rfl⟩
abbrev main_v224 : Ref sig .tc := ⟨.hbm, 362, rfl⟩
abbrev main_cst_89 : Ref sig .tc := ⟨.hbm, 363, rfl⟩
abbrev main_v225 : Ref sig .tc := ⟨.hbm, 364, rfl⟩
abbrev main_cst_90 : Ref sig .tc := ⟨.hbm, 365, rfl⟩
abbrev main_v226 : Ref sig .tc := ⟨.hbm, 366, rfl⟩
abbrev main_v227 : Ref sig .tc := ⟨.hbm, 367, rfl⟩
abbrev main_cst_91 : Ref sig .tc := ⟨.hbm, 368, rfl⟩
abbrev main_v228 : Ref sig .tc := ⟨.hbm, 369, rfl⟩
abbrev main_v229 : Ref sig .tc := ⟨.hbm, 370, rfl⟩
abbrev main_v230 : Ref sig .tc := ⟨.hbm, 371, rfl⟩
abbrev main_cst_92 : Ref sig .tc := ⟨.hbm, 372, rfl⟩
abbrev main_v231 : Ref sig .tc := ⟨.hbm, 373, rfl⟩
abbrev main_v232 : Ref sig .tc := ⟨.hbm, 374, rfl⟩
abbrev main_v233 : Ref sig .tc := ⟨.hbm, 375, rfl⟩
abbrev main_cst_93 : Ref sig .tc := ⟨.hbm, 376, rfl⟩
abbrev main_v234 : Ref sig .tc := ⟨.hbm, 377, rfl⟩
abbrev main_v235 : Ref sig .tc := ⟨.hbm, 378, rfl⟩
abbrev main_v236 : Ref sig .tc := ⟨.hbm, 379, rfl⟩
abbrev main_cst_94 : Ref sig .tc := ⟨.hbm, 380, rfl⟩
abbrev main_v237 : Ref sig .tc := ⟨.hbm, 381, rfl⟩
abbrev main_v238 : Ref sig .tc := ⟨.hbm, 382, rfl⟩
abbrev main_cst_95 : Ref sig .tc := ⟨.hbm, 383, rfl⟩
abbrev main_v239 : Ref sig .tc := ⟨.hbm, 384, rfl⟩
abbrev main_v240 : Ref sig .tc := ⟨.hbm, 385, rfl⟩
abbrev main_v241 : Ref sig .tc := ⟨.hbm, 386, rfl⟩
abbrev main_cst_96 : Ref sig .tc := ⟨.hbm, 387, rfl⟩
abbrev main_v242 : Ref sig .tc := ⟨.hbm, 388, rfl⟩
abbrev main_v243 : Ref sig .tc := ⟨.hbm, 389, rfl⟩
abbrev main_v244 : Ref sig .tc := ⟨.hbm, 390, rfl⟩
abbrev main_cst_97 : Ref sig .tc := ⟨.hbm, 391, rfl⟩
abbrev main_v245 : Ref sig .tc := ⟨.hbm, 392, rfl⟩
abbrev main_v246 : Ref sig .tc := ⟨.hbm, 393, rfl⟩
abbrev main_v247 : Ref sig .tc := ⟨.hbm, 394, rfl⟩
abbrev main_cst_98 : Ref sig .tc := ⟨.hbm, 395, rfl⟩
abbrev main_v248 : Ref sig .tc := ⟨.hbm, 396, rfl⟩
abbrev main_v249 : Ref sig .tc := ⟨.hbm, 397, rfl⟩
abbrev main_cst_99 : Ref sig .tc := ⟨.hbm, 398, rfl⟩
abbrev main_v250 : Ref sig .tc := ⟨.hbm, 399, rfl⟩
abbrev main_cst_100 : Ref sig .tc := ⟨.hbm, 400, rfl⟩
abbrev main_v251 : Ref sig .tc := ⟨.hbm, 401, rfl⟩
abbrev main_v252 : Ref sig .tc := ⟨.hbm, 402, rfl⟩
abbrev main_cst_101 : Ref sig .tc := ⟨.hbm, 403, rfl⟩
abbrev main_v253 : Ref sig .tc := ⟨.hbm, 404, rfl⟩
abbrev main_v254 : Ref sig .tc := ⟨.hbm, 405, rfl⟩
abbrev main_v255 : Ref sig .tc := ⟨.hbm, 406, rfl⟩
abbrev main_cst_102 : Ref sig .tc := ⟨.hbm, 407, rfl⟩
abbrev main_v256 : Ref sig .tc := ⟨.hbm, 408, rfl⟩
abbrev main_v257 : Ref sig .tc := ⟨.hbm, 409, rfl⟩
abbrev main_v258 : Ref sig .tc := ⟨.hbm, 410, rfl⟩
abbrev main_cst_103 : Ref sig .tc := ⟨.hbm, 411, rfl⟩
abbrev main_v259 : Ref sig .tc := ⟨.hbm, 412, rfl⟩
abbrev main_v260 : Ref sig .tc := ⟨.hbm, 413, rfl⟩
abbrev main_v261 : Ref sig .tc := ⟨.hbm, 414, rfl⟩
abbrev main_cst_104 : Ref sig .tc := ⟨.hbm, 415, rfl⟩
abbrev main_v262 : Ref sig .tc := ⟨.hbm, 416, rfl⟩
abbrev main_v263 : Ref sig .tc := ⟨.hbm, 417, rfl⟩
abbrev main_cst_105 : Ref sig .tc := ⟨.hbm, 418, rfl⟩
abbrev main_v264 : Ref sig .tc := ⟨.hbm, 419, rfl⟩
abbrev main_v265 : Ref sig .tc := ⟨.hbm, 420, rfl⟩
abbrev main_v266 : Ref sig .tc := ⟨.hbm, 421, rfl⟩
abbrev main_cst_106 : Ref sig .tc := ⟨.hbm, 422, rfl⟩
abbrev main_v267 : Ref sig .tc := ⟨.hbm, 423, rfl⟩
abbrev main_v268 : Ref sig .tc := ⟨.hbm, 424, rfl⟩
abbrev main_v269 : Ref sig .tc := ⟨.hbm, 425, rfl⟩
abbrev main_cst_107 : Ref sig .tc := ⟨.hbm, 426, rfl⟩
abbrev main_v270 : Ref sig .tc := ⟨.hbm, 427, rfl⟩
abbrev main_v271 : Ref sig .tc := ⟨.hbm, 428, rfl⟩
abbrev main_v272 : Ref sig .tc := ⟨.hbm, 429, rfl⟩
abbrev main_cst_108 : Ref sig .tc := ⟨.hbm, 430, rfl⟩
abbrev main_v273 : Ref sig .tc := ⟨.hbm, 431, rfl⟩
abbrev main_v274 : Ref sig .tc := ⟨.hbm, 432, rfl⟩
abbrev main_cst_109 : Ref sig .tc := ⟨.hbm, 433, rfl⟩
abbrev main_v275 : Ref sig .tc := ⟨.hbm, 434, rfl⟩
abbrev main_cst_110 : Ref sig .tc := ⟨.hbm, 435, rfl⟩
abbrev main_v276 : Ref sig .tc := ⟨.hbm, 436, rfl⟩
abbrev main_v277 : Ref sig .tc := ⟨.hbm, 437, rfl⟩
abbrev main_cst_111 : Ref sig .tc := ⟨.hbm, 438, rfl⟩
abbrev main_v278 : Ref sig .tc := ⟨.hbm, 439, rfl⟩
abbrev main_v279 : Ref sig .tc := ⟨.hbm, 440, rfl⟩
abbrev main_v280 : Ref sig .tc := ⟨.hbm, 441, rfl⟩
abbrev main_cst_112 : Ref sig .tc := ⟨.hbm, 442, rfl⟩
abbrev main_v281 : Ref sig .tc := ⟨.hbm, 443, rfl⟩
abbrev main_v282 : Ref sig .tc := ⟨.hbm, 444, rfl⟩
abbrev main_v283 : Ref sig .tc := ⟨.hbm, 445, rfl⟩
abbrev main_cst_113 : Ref sig .tc := ⟨.hbm, 446, rfl⟩
abbrev main_v284 : Ref sig .tc := ⟨.hbm, 447, rfl⟩
abbrev main_v285 : Ref sig .tc := ⟨.hbm, 448, rfl⟩
abbrev main_v286 : Ref sig .tc := ⟨.hbm, 449, rfl⟩
abbrev main_cst_114 : Ref sig .tc := ⟨.hbm, 450, rfl⟩
abbrev main_v287 : Ref sig .tc := ⟨.hbm, 451, rfl⟩
abbrev main_v288 : Ref sig .tc := ⟨.hbm, 452, rfl⟩
abbrev main_cst_115 : Ref sig .tc := ⟨.hbm, 453, rfl⟩
abbrev main_v289 : Ref sig .tc := ⟨.hbm, 454, rfl⟩
abbrev main_v290 : Ref sig .tc := ⟨.hbm, 455, rfl⟩
abbrev main_v291 : Ref sig .tc := ⟨.hbm, 456, rfl⟩
abbrev main_cst_116 : Ref sig .tc := ⟨.hbm, 457, rfl⟩
abbrev main_v292 : Ref sig .tc := ⟨.hbm, 458, rfl⟩
abbrev main_v293 : Ref sig .tc := ⟨.hbm, 459, rfl⟩
abbrev main_v294 : Ref sig .tc := ⟨.hbm, 460, rfl⟩
abbrev main_cst_117 : Ref sig .tc := ⟨.hbm, 461, rfl⟩
abbrev main_v295 : Ref sig .tc := ⟨.hbm, 462, rfl⟩
abbrev main_v296 : Ref sig .tc := ⟨.hbm, 463, rfl⟩
abbrev main_v297 : Ref sig .tc := ⟨.hbm, 464, rfl⟩
abbrev main_cst_118 : Ref sig .tc := ⟨.hbm, 465, rfl⟩
abbrev main_v298 : Ref sig .tc := ⟨.hbm, 466, rfl⟩
abbrev main_v299 : Ref sig .tc := ⟨.hbm, 467, rfl⟩

abbrev nD : Nat := 1
abbrev τ : Topo := Topo.v7x

variable {F : FTy → Type} [FloatOps F]
-- ==== Kernel31.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .f32⟩
  | .hbm, ⟨2, _⟩ => ⟨S1x2048, .f32⟩
  | .hbm, ⟨3, _⟩ => ⟨S4096x2048, .f32⟩
  | .hbm, ⟨4, _⟩ => ⟨S4096x2048, .f32⟩
  | .hbm, ⟨5, _⟩ => ⟨S1x2048, .f32⟩
  | .local _ .vmem, ⟨0, _⟩ => ⟨S256x2048, .bf16⟩
  | .local _ .vmem, ⟨1, _⟩ => ⟨S256x2048, .bf16⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v32 : BitVec 1 := Scalar.cmpi .eq arg0 c0_i32
  let v33 : BitVec 32 := Scalar.extui v32
  let c0_i32_14 : BitVec 32 := 0#32
  let v34 : BitVec 1 := Scalar.cmpi .ne v33 c0_i32_14
  v34

def k0_cond2 (i : grid0.Coords) : BitVec 1 :=
  let arg0 : BitVec 32 := BitVec.ofNat 32 (i 0).val
  let c0_i32_15 : BitVec 32 := 0#32
  let v35 : BitVec 1 := Scalar.cmpi .sgt arg0 c0_i32_15
  let v36 : BitVec 32 := Scalar.extui v35
  let c0_i32_16 : BitVec 32 := 0#32
  let v37 : BitVec 1 := Scalar.cmpi .ne v36 c0_i32_16
  v37

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference31Ideal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 48
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .f32⟩
  | .hbm, ⟨2, _⟩ => ⟨S1x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S4096, .f32⟩
  | .hbm, ⟨33, _⟩ => ⟨S4096x1, .f32⟩
  | .hbm, ⟨34, _⟩ => ⟨S4096x2048, .f32⟩
  | .hbm, ⟨35, _⟩ => ⟨S4096x2048, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S_, .f32⟩
  | .hbm, ⟨41, _⟩ => ⟨S4096, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Kernel32.lean ====
abbrev S4096x2048 : Shape := ⟨2, ![4096, 2048]⟩
abbrev S1x2048 : Shape := ⟨2, ![1, 2048]⟩
abbrev S8x128 : Shape := ⟨2, ![8, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩
abbrev S2048 : Shape := ⟨1, ![2048]⟩

abbrev nBuf : Space → Nat
  | .hbm => 8
  | .vmem => 13
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S4096x2048, .f32⟩
  | .hbm, ⟨4, _⟩ => ⟨S4096x2048, .f32⟩
  | .hbm, ⟨5, _⟩ => ⟨S4096x2048, .bf16⟩
  | .hbm, ⟨6, _⟩ => ⟨S1x2048, .f32⟩
  | .hbm, ⟨7, _⟩ => ⟨S8x128, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | .local _ .vmem, ⟨12, _⟩ => ⟨S8x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v47 : BitVec 1 := Scalar.cmpi .eq arg0 c0_i32
  let v48 : BitVec 32 := Scalar.extui v47
  let c0_i32_21 : BitVec 32 := 0#32
  let v49 : BitVec 1 := Scalar.cmpi .ne v48 c0_i32_21
  v49

def k0_cond2 (i : grid0.Coords) : BitVec 1 :=
  let arg0 : BitVec 32 := BitVec.ofNat 32 (i 0).val
  let c0_i32_22 : BitVec 32 := 0#32
  let v50 : BitVec 1 := Scalar.cmpi .sgt arg0 c0_i32_22
  let v51 : BitVec 32 := Scalar.extui v50
  let c0_i32_23 : BitVec 32 := 0#32
  let v52 : BitVec 1 := Scalar.cmpi .ne v51 c0_i32_23
  v52

def k0_cond3 (i : grid0.Coords) : BitVec 1 :=
  let arg0 : BitVec 32 := BitVec.ofNat 32 (i 0).val
  let c0_i32_24 : BitVec 32 := 0#32
  let v55 : BitVec 1 := Scalar.cmpi .eq arg0 c0_i32_24
  let v56 : BitVec 32 := Scalar.extui v55
  let c0_i32_25 : BitVec 32 := 0#32
  let v57 : BitVec 1 := Scalar.cmpi .ne v56 c0_i32_25
  v57

def k0_cond4 (i : grid0.Coords) : BitVec 1 :=
  let arg0 : BitVec 32 := BitVec.ofNat 32 (i 0).val
  let c0_i32_26 : BitVec 32 := 0#32
  let v58 : BitVec 1 := Scalar.cmpi .sgt arg0 c0_i32_26
  let v59 : BitVec 32 := Scalar.extui v58
  let c0_i32_27 : BitVec 32 := 0#32
  let v60 : BitVec 1 := Scalar.cmpi .ne v59 c0_i32_27
  v60

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference32Ideal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩
abbrev S8x128 : Shape := ⟨2, ![8, 128]⟩

abbrev nBuf : Space → Nat
  | .hbm => 72
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S4096, .f32⟩
  | .hbm, ⟨31, _⟩ => ⟨S_, .f32⟩
  | .hbm, ⟨32, _⟩ => ⟨S4096, .f32⟩
  | .hbm, ⟨33, _⟩ => ⟨S4096, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S4096, .f32⟩
  | .hbm, ⟨42, _⟩ => ⟨S_, .f32⟩
  | .hbm, ⟨43, _⟩ => ⟨S4096, .f32⟩
  | .hbm, ⟨44, _⟩ => ⟨S4096, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S4096x2048, .f32⟩
  | .hbm, ⟨52, _⟩ => ⟨S4096x2048, .f32⟩
  | .hbm, ⟨53, _⟩ => ⟨S4096x2048, .f32⟩
  | .hbm, ⟨54, _⟩ => ⟨S_, .f32⟩
  | .hbm, ⟨55, _⟩ => ⟨S4096, .f32⟩
  | .hbm, ⟨56, _⟩ => ⟨S4096x1, .f32⟩
  | .hbm, ⟨57, _⟩ => ⟨S4096x2048, .f32⟩
  | .hbm, ⟨58, _⟩ => ⟨S4096x2048, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S_, .f32⟩
  | .hbm, ⟨64, _⟩ => ⟨S4096, .f32⟩
  | .hbm, ⟨65, _⟩ => ⟨S4096x2048, .f32⟩
  | .hbm, ⟨66, _⟩ => ⟨S4096x2048, .f32⟩
  | .hbm, ⟨67, _⟩ => ⟨S4096x2048, .f32⟩
  | .hbm, ⟨68, _⟩ => ⟨S4096x2048, .f32⟩
  | .hbm, ⟨69, _⟩ => ⟨S4096x2048, .f32⟩
  | .hbm, ⟨70, _⟩ => ⟨S4096x2048, .bf16⟩
  | .hbm, ⟨71, _⟩ => ⟨S8x128, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_cst_8 : Ref sig .tc := ⟨.hbm, 38, rfl⟩
abbrev main_cst_9 : Ref sig .tc := ⟨.hbm, 39, rfl⟩
abbrev main_v25 : Ref sig .tc := ⟨.hbm, 40, rfl⟩
abbrev main_v26 : Ref sig .tc := ⟨.hbm, 41, rfl⟩
abbrev main_cst_10 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_11 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_12 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_13 : Ref sig .tc := ⟨.hbm, 60, rfl⟩
abbrev main_v42 : Ref sig .tc := ⟨.hbm, 61, rfl⟩
abbrev main_v43 : Ref sig .tc := ⟨.hbm, 62, rfl⟩
abbrev main_cst_14 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩

abbrev nD : Nat := 1
abbrev τ : Topo := Topo.v7x

variable {F : FTy → Type} [FloatOps F]
-- ==== Proof.Shift.lean ====
module

public import Idealize.ShloMosaic.Lib.Pointwise
public import Idealize.ShloMosaic.Lib.KernelVsHost

@[expose] public section

set_option maxRecDepth 16384

noncomputable section

/-! # A column of 4096 extended reals moved down or up, zeros entering at the end left free -/

namespace Cert.Shift

open Idealize.ShloMosaic

/-- The column `f` moved `k` places down: entry `t` is `f (t - k)`, and zero in the first `k` places. -/
def sd (k : Nat) (f : Fin 4096 → EReal) (t : Fin 4096) : EReal :=
  if k ≤ t.val then f ⟨t.val - k, by omega⟩ else 0

/-- The column `f` moved `k` places up: entry `t` is `f (t + k)`, and zero in the last `k` places. -/
def su (k : Nat) (f : Fin 4096 → EReal) (t : Fin 4096) : EReal :=
  if h : t.val + k < 4096 then f ⟨t.val + k, h⟩ else 0

theorem sge_small (t k : Nat) (ht : t < 4096) (hk : k < 4096) :
    IntOp.cmpi .sge (BitVec.ofNat 32 t) (BitVec.ofNat 32 k) = if k ≤ t then 1#1 else 0#1 := by
  have e : IntOp.cmpi .sge (BitVec.ofNat 32 t) (BitVec.ofNat 32 k) = BitVec.ofBool ((BitVec.ofNat 32 k).sle (BitVec.ofNat 32 t)) := rfl
  have h1 : (BitVec.ofNat 32 t).toInt = t := by
    rw [BitVec.toInt_eq_toNat_of_lt (by rw [BitVec.toNat_ofNat]; omega), BitVec.toNat_ofNat, Nat.mod_eq_of_lt (by omega)]
  have h2 : (BitVec.ofNat 32 k).toInt = k := by
    rw [BitVec.toInt_eq_toNat_of_lt (by rw [BitVec.toNat_ofNat]; omega), BitVec.toNat_ofNat, Nat.mod_eq_of_lt (by omega)]
  rw [e, BitVec.sle_eq_decide, h1, h2]
  by_cases h : k ≤ t
  · rw [if_pos h, decide_eq_true (by omega)]; rfl
  · rw [if_neg h, decide_eq_false (by omega)]; rfl

theorem slt_small (t k : Nat) (ht : t < 4096) (hk : k < 4096) :
    IntOp.cmpi .slt (BitVec.ofNat 32 t) (BitVec.ofNat 32 k) = if t < k then 1#1 else 0#1 := by
  have e : IntOp.cmpi .slt (BitVec.ofNat 32 t) (BitVec.ofNat 32 k) = BitVec.ofBool ((BitVec.ofNat 32 t).slt (BitVec.ofNat 32 k)) := rfl
  have h1 : (BitVec.ofNat 32 t).toInt = t := by
    rw [BitVec.toInt_eq_toNat_of_lt (by rw [BitVec.toNat_ofNat]; omega), BitVec.toNat_ofNat, Nat.mod_eq_of_lt (by omega)]
  have h2 : (BitVec.ofNat 32 k).toInt = k := by
    rw [BitVec.toInt_eq_toNat_of_lt (by rw [BitVec.toNat_ofNat]; omega), BitVec.toNat_ofNat, Nat.mod_eq_of_lt (by omega)]
  rw [e, BitVec.slt_eq_decide, h1, h2]
  by_cases h : t < k
  · rw [if_pos h, decide_eq_true (by omega)]; rfl
  · rw [if_neg h, decide_eq_false (by omega)]; rfl

variable {n : Nat}

/-- A rotation of a [4096, n] block by `k` rows with the first `k` rows cleared is the column moved `k` places down. -/
theorem down_apply (k : Nat) (hk : k < 4096) (x : FVec Ideal ⟨2, ![4096, n]⟩ .f32)
    (hi : (⟨2, ![4096, n]⟩ : Shape).Iotas .tc 32 [0]) (hr : (⟨2, ![4096, n]⟩ : Shape).Rotates 0 none) (t : Fin 4096) (l : Fin n) :
    select (cmpi .sge (iota .tc ⟨2, ![4096, n]⟩ 32 [0] hi) (broadcast ⟨2, ![4096, n]⟩ (BitVec.ofNat 32 k)))
      (dynamicRotate 0 (BitVec.ofNat 32 k) none x hr) (broadcast ⟨2, ![4096, n]⟩ (Scalar.ofBits .f32 0x00000000#32 : Ideal .f32)) (ix2 t l)
      = sd k (fun s => x (ix2 s l)) t := by
  have hz : (Scalar.ofBits .f32 0x00000000#32 : Ideal .f32) = (0 : EReal) := Ideal.ofBits_zero .f32
  have e : cmpi .sge (iota .tc ⟨2, ![4096, n]⟩ 32 [0] hi) (broadcast ⟨2, ![4096, n]⟩ (BitVec.ofNat 32 k)) (ix2 t l)
      = IntOp.cmpi .sge (BitVec.ofNat 32 t.val) (BitVec.ofNat 32 k) := by pointwise
  show Scalar.select _ _ _ = _
  rw [e, sge_small _ _ t.isLt hk]
  unfold sd
  by_cases h : k ≤ t.val
  · rw [if_pos h, if_pos h]
    show dynamicRotate 0 (BitVec.ofNat 32 k) none x hr (ix2 t l) = _
    refine dynamicRotate_apply (0 : Fin 2) _ x hr _ _ fun b => ?_
    match b with
    | ⟨0, _⟩ =>
      show t.val - k = (t.val + 4096 - (BitVec.ofNat 32 k).toNat % 4096) % 4096
      rw [BitVec.toNat_ofNat]
      have := t.isLt
      omega
    | ⟨1, _⟩ => rfl
  · rw [if_neg h, if_neg h]; exact hz

/-- A rotation of a [4096, n] block by `4096 - k` rows with the last `k` rows cleared is the column moved `k` places up. -/
theorem up_apply (k : Nat) (h0 : 0 < k) (hk : k < 4096) (x : FVec Ideal ⟨2, ![4096, n]⟩ .f32)
    (hi : (⟨2, ![4096, n]⟩ : Shape).Iotas .tc 32 [0]) (hr : (⟨2, ![4096, n]⟩ : Shape).Rotates 0 none) (t : Fin 4096) (l : Fin n) :
    select (cmpi .slt (iota .tc ⟨2, ![4096, n]⟩ 32 [0] hi) (broadcast ⟨2, ![4096, n]⟩ (BitVec.ofNat 32 (4096 - k))))
      (dynamicRotate 0 (BitVec.ofNat 32 (4096 - k)) none x hr) (broadcast ⟨2, ![4096, n]⟩ (Scalar.ofBits .f32 0x00000000#32 : Ideal .f32)) (ix2 t l)
      = su k (fun s => x (ix2 s l)) t := by
  have hz : (Scalar.ofBits .f32 0x00000000#32 : Ideal .f32) = (0 : EReal) := Ideal.ofBits_zero .f32
  have e : cmpi .slt (iota .tc ⟨2, ![4096, n]⟩ 32 [0] hi) (broadcast ⟨2, ![4096, n]⟩ (BitVec.ofNat 32 (4096 - k))) (ix2 t l)
      = IntOp.cmpi .slt (BitVec.ofNat 32 t.val) (BitVec.ofNat 32 (4096 - k)) := by pointwise
  show Scalar.select _ _ _ = _
  rw [e, slt_small _ _ t.isLt (by omega)]
  unfold su
  by_cases h : t.val + k < 4096
  · rw [if_pos (by omega), dif_pos h]
    show dynamicRotate 0 (BitVec.ofNat 32 (4096 - k)) none x hr (ix2 t l) = _
    refine dynamicRotate_apply (0 : Fin 2) _ x hr _ _ fun b => ?_
    match b with
    | ⟨0, _⟩ =>
      show t.val + k = (t.val + 4096 - (BitVec.ofNat 32 (4096 - k)).toNat % 4096) % 4096
      rw [BitVec.toNat_ofNat]
      have := t.isLt
      omega
    | ⟨1, _⟩ => rfl
  · rw [if_neg (by omega), dif_neg h]; exact hz

end Cert.Shift
-- ==== Proof.ConvBody.lean ====
module

public import proofs.«01_k».proof.Proof.Gen.KernelIdeal.Value
public import proofs.«01_k».proof.Proof.Shift

@[expose] public section

set_option maxRecDepth 16384

noncomputable section

/-! # What the body of the gated convolution's backward pass computes, column by column -/

namespace Cert.ConvBody

open Cert.KernelIdeal Cert.KernelIdeal.Gen Cert.Shift Idealize.ShloMosaic Idealize.ShloMosaic.TcCoe Idealize.SL.Sem

/-- The convolution's output, without its bias: three taps over the column `x` and its two shifts. -/
def taps (w0 w1 w2 : EReal) (x : Fin 4096 → EReal) (t : Fin 4096) : EReal :=
  w2 * x t + w1 * sd 1 x t + w0 * sd 2 x t

/-- The cotangent of the convolution's input: the same taps over the cotangent `d` and its shifts the other way. -/
def tapsT (w0 w1 w2 : EReal) (d : Fin 4096 → EReal) (t : Fin 4096) : EReal :=
  w2 * d t + w1 * su 1 d t + w0 * su 2 d t

theorem pay12_apply (p q : FVec Ideal S4096x128 .bf16) (a b c : FVec Ideal S1x128 .f32) (t : Fin 4096) (l : Fin 128) :
    k0_pay12 (F := Ideal) (k0_pay9 p) q a b c (ix2 t l)
      = tapsT (c (ix2 0 l)) (b (ix2 0 l)) (a (ix2 0 l)) (fun s => p (ix2 s l) * q (ix2 s l)) t := by
  have e1 := up_apply 1 (by omega) (by omega) (k0_pay11 (F := Ideal) (k0_pay9 p) q) iota_S4096x128_d0_w32 rotates_S4096x128_d0 t l
  have e2 := up_apply 2 (by omega) (by omega) (k0_pay11 (F := Ideal) (k0_pay9 p) q) iota_S4096x128_d0_w32 rotates_S4096x128_d0 t l
  have ea (a : FVec Ideal S1x128 .f32) : broadcastTo S4096x128 a broadcasts_S1x128_S4096x128 (ix2 t l) = a (ix2 0 l) := by pointwise
  have ed (s : Fin 4096) : k0_pay11 (F := Ideal) (k0_pay9 p) q (ix2 s l) = p (ix2 s l) * q (ix2 s l) := rfl
  unfold k0_pay12 tapsT
  simp only [ed] at e1 e2
  exact congrArg₂ (· + ·) (congrArg₂ (· + ·) (congrArg₂ (· * ·) (ea a) (ed t)) (congrArg₂ (· * ·) (ea b) e1))
    (congrArg₂ (· * ·) (ea c) e2)

theorem pay10_apply (v g : FVec Ideal S4096x128 .bf16) (a b c d : FVec Ideal S1x128 .f32) (q : FVec Ideal S4096x128 .bf16)
    (t : Fin 4096) (l : Fin 128) :
    k0_pay10 (F := Ideal) v g a b c d q (ix2 t l)
      = q (ix2 t l) * (taps (c (ix2 0 l)) (b (ix2 0 l)) (a (ix2 0 l)) (fun s => g (ix2 s l) * v (ix2 s l)) t + d (ix2 0 l)) := by
  have e1 := down_apply 1 (by omega) (k0_pay8 (F := Ideal) v g) iota_S4096x128_d0_w32 rotates_S4096x128_d0 t l
  have e2 := down_apply 2 (by omega) (k0_pay8 (F := Ideal) v g) iota_S4096x128_d0_w32 rotates_S4096x128_d0 t l
  have ea (a : FVec Ideal S1x128 .f32) : broadcastTo S4096x128 a broadcasts_S1x128_S4096x128 (ix2 t l) = a (ix2 0 l) := by pointwise
  have ed (s : Fin 4096) : k0_pay8 (F := Ideal) v g (ix2 s l) = g (ix2 s l) * v (ix2 s l) := rfl
  unfold k0_pay10 taps
  simp only [ed] at e1 e2
  exact congrArg₂ (· * ·) rfl (congrArg₂ (· + ·) (congrArg₂ (· + ·) (congrArg₂ (· + ·) (congrArg₂ (· * ·) (ea a) (ed t)) (congrArg₂ (· * ·) (ea b) e1))
    (congrArg₂ (· * ·) (ea c) e2)) (ea d))

theorem sum_apply (x : FVec Ideal S4096x128 .f32) (z : Fin 1) (l : Fin 128) :
    shapeCast S1x128 (multiReduction .add [0] S128 x 0x00000000#32 reduces_S4096x128_S128 (.inl rfl) rfl) shapeCasts_S128_S1x128 (ix2 z l)
      = ∑ t : Fin 4096, x (ix2 t l) := by
  pointwise

theorem pay13_apply (cv : FVec Ideal S4096x128 .f32) (p q : FVec Ideal S4096x128 .bf16) (z : Fin 1) (l : Fin 128) :
    k0_pay13 (F := Ideal) cv (k0_pay9 p) q (ix2 z l)
      = ∑ t : Fin 4096, p (ix2 t l) * q (ix2 t l) * sd 2 (fun s => cv (ix2 s l)) t := by
  unfold k0_pay13
  refine (sum_apply _ z l).trans (Finset.sum_congr rfl fun t _ => ?_)
  exact congrArg₂ (· * ·) rfl (down_apply 2 (by omega) cv iota_S4096x128_d0_w32 rotates_S4096x128_d0 t l)

theorem pay1_apply (cv d : FVec Ideal S4096x128 .f32) (z : Fin 1) (l : Fin 128) :
    k0_pay1 (F := Ideal) d k0_pay14 (k0_pay15 cv) (Scalar.ofBits .f32 0x00000000#32) (ix2 z l)
      = ∑ t : Fin 4096, d (ix2 t l) * sd 1 (fun s => cv (ix2 s l)) t := by
  unfold k0_pay1
  refine (sum_apply _ z l).trans (Finset.sum_congr rfl fun t _ => ?_)
  exact congrArg₂ (· * ·) rfl (down_apply 1 (by omega) cv iota_S4096x128_d0_w32 rotates_S4096x128_d0 t l)

theorem pay2_apply (cv d : FVec Ideal S4096x128 .f32) (z : Fin 1) (l : Fin 128) :
    k0_pay2 (F := Ideal) cv d (ix2 z l) = ∑ t : Fin 4096, d (ix2 t l) * cv (ix2 t l) := by
  unfold k0_pay2
  exact sum_apply _ z l

theorem pay3_apply (d : FVec Ideal S4096x128 .f32) (z : Fin 1) (l : Fin 128) :
    k0_pay3 (F := Ideal) d (ix2 z l) = ∑ t : Fin 4096, d (ix2 t l) := by
  unfold k0_pay3
  exact sum_apply _ z l

end Cert.ConvBody
-- ==== Proof.ConvBlocks.lean ====
module

public import proofs.«01_k».proof.Proof.Gen.KernelIdeal.Value
public import Idealize.ShloMosaic.Lib.Pointwise

@[expose] public section

set_option maxRecDepth 16384

noncomputable section

/-! # Where the blocks of the eight grid points lie: point `t` holds columns `128 t … 128 t + 127` -/

namespace Cert.ConvBlocks

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

theorem lt8 (t : Fin cfg0.N) : t.val < 8 := lt_of_lt_of_eq t.isLt N_0

theorem at0 : ∀ t : Fin cfg0.N, win0_0.index t 0 = 0 ∧ win0_0.index t 1 = 8 + t.val :=
  (by decide +kernel : ∀ t : Fin grid0.N, win0_0.index t 0 = 0 ∧ win0_0.index t 1 = 8 + t.val)

/-- Block `t` of the convolution input `v`, element by element. -/
theorem iblk0 (c : Dev nD) (t : Fin cfg0.N) (r : Fin 4096) (l : Fin 128) :
    iblk m c 0 t (ix2 r l) = m ((c : Thread nD τ).loc main_arg0) (ix2 r ⟨1024 + (t.val * 128 + l.val), by have := lt8 t; omega⟩) := by
  show V m c main_arg0 ((win0_0.rect t).idx (ix2 r l)) = _
  rw [V_main_arg0]
  refine congrArg _ (funext fun a => Fin.ext ?_)
  match a with
  | ⟨0, _⟩ => show win0_0.index t 0 * 4096 + 1 * r.val = r.val; rw [(at0 t).1]; omega
  | ⟨1, _⟩ => show win0_0.index t 1 * 128 + 1 * l.val = 1024 + (t.val * 128 + l.val); rw [(at0 t).2]; omega

theorem at1 : ∀ t : Fin cfg0.N, win0_1.index t 0 = 0 ∧ win0_1.index t 1 = 16 + t.val :=
  (by decide +kernel : ∀ t : Fin grid0.N, win0_1.index t 0 = 0 ∧ win0_1.index t 1 = 16 + t.val)

/-- Block `t` of the gate behind the convolution, element by element. -/
theorem iblk1 (c : Dev nD) (t : Fin cfg0.N) (r : Fin 4096) (l : Fin 128) :
    iblk m c 1 t (ix2 r l) = m ((c : Thread nD τ).loc main_arg0) (ix2 r ⟨2048 + (t.val * 128 + l.val), by have := lt8 t; omega⟩) := by
  show V m c main_arg0 ((win0_1.rect t).idx (ix2 r l)) = _
  rw [V_main_arg0]
  refine congrArg _ (funext fun a => Fin.ext ?_)
  match a with
  | ⟨0, _⟩ => show win0_1.index t 0 * 4096 + 1 * r.val = r.val; rw [(at1 t).1]; omega
  | ⟨1, _⟩ => show win0_1.index t 1 * 128 + 1 * l.val = 2048 + (t.val * 128 + l.val); rw [(at1 t).2]; omega

theorem at2 : ∀ t : Fin cfg0.N, win0_2.index t 0 = 0 ∧ win0_2.index t 1 = 24 + t.val :=
  (by decide +kernel : ∀ t : Fin grid0.N, win0_2.index t 0 = 0 ∧ win0_2.index t 1 = 24 + t.val)

/-- Block `t` of the gate before it, element by element. -/
theorem iblk2 (c : Dev nD) (t : Fin cfg0.N) (r : Fin 4096) (l : Fin 128) :
    iblk m c 2 t (ix2 r l) = m ((c : Thread nD τ).loc main_arg0) (ix2 r ⟨3072 + (t.val * 128 + l.val), by have := lt8 t; omega⟩) := by
  show V m c main_arg0 ((win0_2.rect t).idx (ix2 r l)) = _
  rw [V_main_arg0]
  refine congrArg _ (funext fun a => Fin.ext ?_)
  match a with
  | ⟨0, _⟩ => show win0_2.index t 0 * 4096 + 1 * r.val = r.val; rw [(at2 t).1]; omega
  | ⟨1, _⟩ => show win0_2.index t 1 * 128 + 1 * l.val = 3072 + (t.val * 128 + l.val); rw [(at2 t).2]; omega

theorem at3 : ∀ t : Fin cfg0.N, win0_3.index t 0 = 0 ∧ win0_3.index t 1 = t.val :=
  (by decide +kernel : ∀ t : Fin grid0.N, win0_3.index t 0 = 0 ∧ win0_3.index t 1 = t.val)

/-- Block `t` of the taps, element by element. -/
theorem iblk3 (c : Dev nD) (t : Fin cfg0.N) (r : Fin 3) (l : Fin 128) :
    iblk m c 3 t (ix2 r l) = m ((c : Thread nD τ).loc main_arg1) (ix2 r ⟨t.val * 128 + l.val, by have := lt8 t; omega⟩) := by
  show V m c main_arg1 ((win0_3.rect t).idx (ix2 r l)) = _
  rw [V_main_arg1]
  refine congrArg _ (funext fun a => Fin.ext ?_)
  match a with
  | ⟨0, _⟩ => show win0_3.index t 0 * 3 + 1 * r.val = r.val; rw [(at3 t).1]; omega
  | ⟨1, _⟩ => show win0_3.index t 1 * 128 + 1 * l.val = t.val * 128 + l.val; rw [(at3 t).2]; omega

theorem at4 : ∀ t : Fin cfg0.N, win0_4.index t 0 = 0 ∧ win0_4.index t 1 = t.val :=
  (by decide +kernel : ∀ t : Fin grid0.N, win0_4.index t 0 = 0 ∧ win0_4.index t 1 = t.val)

/-- Block `t` of the bias, element by element. -/
theorem iblk4 (c : Dev nD) (t : Fin cfg0.N) (r : Fin 1) (l : Fin 128) :
    iblk m c 4 t (ix2 r l) = m ((c : Thread nD τ).loc main_arg2) (ix2 r ⟨t.val * 128 + l.val, by have := lt8 t; omega⟩) := by
  show V m c main_arg2 ((win0_4.rect t).idx (ix2 r l)) = _
  rw [V_main_arg2]
  refine congrArg _ (funext fun a => Fin.ext ?_)
  match a with
  | ⟨0, _⟩ => show win0_4.index t 0 * 1 + 1 * r.val = r.val; rw [(at4 t).1]; omega
  | ⟨1, _⟩ => show win0_4.index t 1 * 128 + 1 * l.val = t.val * 128 + l.val; rw [(at4 t).2]; omega

theorem at5 : ∀ t : Fin cfg0.N, win0_5.index t 0 = 0 ∧ win0_5.index t 1 = t.val :=
  (by decide +kernel : ∀ t : Fin grid0.N, win0_5.index t 0 = 0 ∧ win0_5.index t 1 = t.val)

/-- Block `t` of the cotangent, element by element. -/
theorem iblk5 (c : Dev nD) (t : Fin cfg0.N) (r : Fin 4096) (l : Fin 128) :
    iblk m c 5 t (ix2 r l) = m ((c : Thread nD τ).loc main_arg3) (ix2 r ⟨t.val * 128 + l.val, by have := lt8 t; omega⟩) := by
  show V m c main_arg3 ((win0_5.rect t).idx (ix2 r l)) = _
  rw [V_main_arg3]
  refine congrArg _ (funext fun a => Fin.ext ?_)
  match a with
  | ⟨0, _⟩ => show win0_5.index t 0 * 4096 + 1 * r.val = r.val; rw [(at5 t).1]; omega
  | ⟨1, _⟩ => show win0_5.index t 1 * 128 + 1 * l.val = t.val * 128 + l.val; rw [(at5 t).2]; omega

theorem at6 : ∀ t : Fin cfg0.N, win0_6.index t 0 = 0 ∧ win0_6.index t 1 = t.val :=
  (by decide +kernel : ∀ t : Fin grid0.N, win0_6.index t 0 = 0 ∧ win0_6.index t 1 = t.val)

/-- A whole result array read through point `t`'s block. -/
theorem oblk6 (c : Dev nD) (G : Buf (Elt F) ((c : Thread nD τ).loc main_v0_0)) (t : Fin cfg0.N) (r : Fin 4096) (l : Fin 128) :
    ((cfg0.win 6).blk t).view.read (Elt F) G (ix2 r l) = G (ix2 r ⟨t.val * 128 + l.val, by have := lt8 t; omega⟩) := by
  show G ((win0_6.rect t).idx (ix2 r l)) = _
  refine congrArg _ (funext fun a => Fin.ext ?_)
  match a with
  | ⟨0, _⟩ => show win0_6.index t 0 * 4096 + 1 * r.val = r.val; rw [(at6 t).1]; omega
  | ⟨1, _⟩ => show win0_6.index t 1 * 128 + 1 * l.val = t.val * 128 + l.val; rw [(at6 t).2]; omega

/-- Every element of the result array lies in the block of the point that holds its column. -/
theorem cover6 (i : (⟨2, ![4096, 1024]⟩ : Shape).Idx) :
    ∃ t : Fin cfg0.N, (cfg0.win 6).flush t = true ∧ i ∈ ((cfg0.win 6).blk t).view.set := by
  have h0 : (i 0 : Nat) < 4096 := (i 0).isLt
  have h1 : (i 1 : Nat) < 1024 := (i 1).isLt
  have hN : cfg0.N = 8 := N_0
  let t : Fin cfg0.N := ⟨(i 1 : Nat) / 128, by omega⟩
  refine ⟨t, flush0_6 _, ?_⟩
  show i ∈ ((View.whole main_v0_0).slice (win0_6.rect t)).set
  rw [View.set_slice_whole, Rect.mem_set_unit]
  intro a
  match a with
  | ⟨0, _⟩ =>
    show win0_6.index t 0 * 4096 ≤ (i 0 : Nat) ∧ (i 0 : Nat) < win0_6.index t 0 * 4096 + 4096
    rw [(at6 t).1]; omega
  | ⟨1, _⟩ =>
    show win0_6.index t 1 * 128 ≤ (i 1 : Nat) ∧ (i 1 : Nat) < win0_6.index t 1 * 128 + 128
    rw [(at6 t).2]; dsimp only [t]; omega

theorem at7 : ∀ t : Fin cfg0.N, win0_7.index t 0 = 0 ∧ win0_7.index t 1 = t.val :=
  (by decide +kernel : ∀ t : Fin grid0.N, win0_7.index t 0 = 0 ∧ win0_7.index t 1 = t.val)

/-- A whole result array read through point `t`'s block. -/
theorem oblk7 (c : Dev nD) (G : Buf (Elt F) ((c : Thread nD τ).loc main_v0_1)) (t : Fin cfg0.N) (r : Fin 4096) (l : Fin 128) :
    ((cfg0.win 7).blk t).view.read (Elt F) G (ix2 r l) = G (ix2 r ⟨t.val * 128 + l.val, by have := lt8 t; omega⟩) := by
  show G ((win0_7.rect t).idx (ix2 r l)) = _
  refine congrArg _ (funext fun a => Fin.ext ?_)
  match a with
  | ⟨0, _⟩ => show win0_7.index t 0 * 4096 + 1 * r.val = r.val; rw [(at7 t).1]; omega
  | ⟨1, _⟩ => show win0_7.index t 1 * 128 + 1 * l.val = t.val * 128 + l.val; rw [(at7 t).2]; omega

/-- Every element of the result array lies in the block of the point that holds its column. -/
theorem cover7 (i : (⟨2, ![4096, 1024]⟩ : Shape).Idx) :
    ∃ t : Fin cfg0.N, (cfg0.win 7).flush t = true ∧ i ∈ ((cfg0.win 7).blk t).view.set := by
  have h0 : (i 0 : Nat) < 4096 := (i 0).isLt
  have h1 : (i 1 : Nat) < 1024 := (i 1).isLt
  have hN : cfg0.N = 8 := N_0
  let t : Fin cfg0.N := ⟨(i 1 : Nat) / 128, by omega⟩
  refine ⟨t, flush0_7 _, ?_⟩
  show i ∈ ((View.whole main_v0_1).slice (win0_7.rect t)).set
  rw [View.set_slice_whole, Rect.mem_set_unit]
  intro a
  match a with
  | ⟨0, _⟩ =>
    show win0_7.index t 0 * 4096 ≤ (i 0 : Nat) ∧ (i 0 : Nat) < win0_7.index t 0 * 4096 + 4096
    rw [(at7 t).1]; omega
  | ⟨1, _⟩ =>
    show win0_7.index t 1 * 128 ≤ (i 1 : Nat) ∧ (i 1 : Nat) < win0_7.index t 1 * 128 + 128
    rw [(at7 t).2]; dsimp only [t]; omega

theorem at8 : ∀ t : Fin cfg0.N, win0_8.index t 0 = 0 ∧ win0_8.index t 1 = t.val :=
  (by decide +kernel : ∀ t : Fin grid0.N, win0_8.index t 0 = 0 ∧ win0_8.index t 1 = t.val)

/-- A whole result array read through point `t`'s block. -/
theorem oblk8 (c : Dev nD) (G : Buf (Elt F) ((c : Thread nD τ).loc main_v0_2)) (t : Fin cfg0.N) (r : Fin 4096) (l : Fin 128) :
    ((cfg0.win 8).blk t).view.read (Elt F) G (ix2 r l) = G (ix2 r ⟨t.val * 128 + l.val, by have := lt8 t; omega⟩) := by
  show G ((win0_8.rect t).idx (ix2 r l)) = _
  refine congrArg _ (funext fun a => Fin.ext ?_)
  match a with
  | ⟨0, _⟩ => show win0_8.index t 0 * 4096 + 1 * r.val = r.val; rw [(at8 t).1]; omega
  | ⟨1, _⟩ => show win0_8.index t 1 * 128 + 1 * l.val = t.val * 128 + l.val; rw [(at8 t).2]; omega

/-- Every element of the result array lies in the block of the point that holds its column. -/
theorem cover8 (i : (⟨2, ![4096, 1024]⟩ : Shape).Idx) :
    ∃ t : Fin cfg0.N, (cfg0.win 8).flush t = true ∧ i ∈ ((cfg0.win 8).blk t).view.set := by
  have h0 : (i 0 : Nat) < 4096 := (i 0).isLt
  have h1 : (i 1 : Nat) < 1024 := (i 1).isLt
  have hN : cfg0.N = 8 := N_0
  let t : Fin cfg0.N := ⟨(i 1 : Nat) / 128, by omega⟩
  refine ⟨t, flush0_8 _, ?_⟩
  show i ∈ ((View.whole main_v0_2).slice (win0_8.rect t)).set
  rw [View.set_slice_whole, Rect.mem_set_unit]
  intro a
  match a with
  | ⟨0, _⟩ =>
    show win0_8.index t 0 * 4096 ≤ (i 0 : Nat) ∧ (i 0 : Nat) < win0_8.index t 0 * 4096 + 4096
    rw [(at8 t).1]; omega
  | ⟨1, _⟩ =>
    show win0_8.index t 1 * 128 ≤ (i 1 : Nat) ∧ (i 1 : Nat) < win0_8.index t 1 * 128 + 128
    rw [(at8 t).2]; dsimp only [t]; omega

theorem at9 : ∀ t : Fin cfg0.N, win0_9.index t 0 = 0 ∧ win0_9.index t 1 = t.val :=
  (by decide +kernel : ∀ t : Fin grid0.N, win0_9.index t 0 = 0 ∧ win0_9.index t 1 = t.val)

/-- A whole result array read through point `t`'s block. -/
theorem oblk9 (c : Dev nD) (G : Buf (Elt F) ((c : Thread nD τ).loc main_v0_3)) (t : Fin cfg0.N) (r : Fin 3) (l : Fin 128) :
    ((cfg0.win 9).blk t).view.read (Elt F) G (ix2 r l) = G (ix2 r ⟨t.val * 128 + l.val, by have := lt8 t; omega⟩) := by
  show G ((win0_9.rect t).idx (ix2 r l)) = _
  refine congrArg _ (funext fun a => Fin.ext ?_)
  match a with
  | ⟨0, _⟩ => show win0_9.index t 0 * 3 + 1 * r.val = r.val; rw [(at9 t).1]; omega
  | ⟨1, _⟩ => show win0_9.index t 1 * 128 + 1 * l.val = t.val * 128 + l.val; rw [(at9 t).2]; omega

/-- Every element of the result array lies in the block of the point that holds its column. -/
theorem cover9 (i : (⟨2, ![3, 1024]⟩ : Shape).Idx) :
    ∃ t : Fin cfg0.N, (cfg0.win 9).flush t = true ∧ i ∈ ((cfg0.win 9).blk t).view.set := by
  have h0 : (i 0 : Nat) < 3 := (i 0).isLt
  have h1 : (i 1 : Nat) < 1024 := (i 1).isLt
  have hN : cfg0.N = 8 := N_0
  let t : Fin cfg0.N := ⟨(i 1 : Nat) / 128, by omega⟩
  refine ⟨t, flush0_9 _, ?_⟩
  show i ∈ ((View.whole main_v0_3).slice (win0_9.rect t)).set
  rw [View.set_slice_whole, Rect.mem_set_unit]
  intro a
  match a with
  | ⟨0, _⟩ =>
    show win0_9.index t 0 * 3 ≤ (i 0 : Nat) ∧ (i 0 : Nat) < win0_9.index t 0 * 3 + 3
    rw [(at9 t).1]; omega
  | ⟨1, _⟩ =>
    show win0_9.index t 1 * 128 ≤ (i 1 : Nat) ∧ (i 1 : Nat) < win0_9.index t 1 * 128 + 128
    rw [(at9 t).2]; dsimp only [t]; omega

theorem at10 : ∀ t : Fin cfg0.N, win0_10.index t 0 = 0 ∧ win0_10.index t 1 = t.val :=
  (by decide +kernel : ∀ t : Fin grid0.N, win0_10.index t 0 = 0 ∧ win0_10.index t 1 = t.val)

/-- A whole result array read through point `t`'s block. -/
theorem oblk10 (c : Dev nD) (G : Buf (Elt F) ((c : Thread nD τ).loc main_v0_4)) (t : Fin cfg0.N) (r : Fin 1) (l : Fin 128) :
    ((cfg0.win 10).blk t).view.read (Elt F) G (ix2 r l) = G (ix2 r ⟨t.val * 128 + l.val, by have := lt8 t; omega⟩) := by
  show G ((win0_10.rect t).idx (ix2 r l)) = _
  refine congrArg _ (funext fun a => Fin.ext ?_)
  match a with
  | ⟨0, _⟩ => show win0_10.index t 0 * 1 + 1 * r.val = r.val; rw [(at10 t).1]; omega
  | ⟨1, _⟩ => show win0_10.index t 1 * 128 + 1 * l.val = t.val * 128 + l.val; rw [(at10 t).2]; omega

/-- Every element of the result array lies in the block of the point that holds its column. -/
theorem cover10 (i : (⟨2, ![1, 1024]⟩ : Shape).Idx) :
    ∃ t : Fin cfg0.N, (cfg0.win 10).flush t = true ∧ i ∈ ((cfg0.win 10).blk t).view.set := by
  have h0 : (i 0 : Nat) < 1 := (i 0).isLt
  have h1 : (i 1 : Nat) < 1024 := (i 1).isLt
  have hN : cfg0.N = 8 := N_0
  let t : Fin cfg0.N := ⟨(i 1 : Nat) / 128, by omega⟩
  refine ⟨t, flush0_10 _, ?_⟩
  show i ∈ ((View.whole main_v0_4).slice (win0_10.rect t)).set
  rw [View.set_slice_whole, Rect.mem_set_unit]
  intro a
  match a with
  | ⟨0, _⟩ =>
    show win0_10.index t 0 * 1 ≤ (i 0 : Nat) ∧ (i 0 : Nat) < win0_10.index t 0 * 1 + 1
    rw [(at10 t).1]; omega
  | ⟨1, _⟩ =>
    show win0_10.index t 1 * 128 ≤ (i 1 : Nat) ∧ (i 1 : Nat) < win0_10.index t 1 * 128 + 128
    rw [(at10 t).2]; dsimp only [t]; omega

end Cert.ConvBlocks
-- ==== Proof.ConvValue.lean ====
module

public import proofs.«01_k».proof.Proof.ConvBody
public import proofs.«01_k».proof.Proof.ConvBlocks

@[expose] public section

set_option maxRecDepth 16384

noncomputable section

/-! # The five result arrays of the gated convolution's backward pass, as functions of the arguments -/

namespace Cert.ConvValue

open Cert.KernelIdeal Cert.KernelIdeal.Gen Cert.Shift Cert.ConvBody Cert.ConvBlocks
open Idealize.ShloMosaic Idealize.ShloMosaic.TcCoe Idealize.SL.Sem
open Idealize.ShloMosaic.Pipeline (Dat)

section Spec
variable (A0 : FVec Ideal ⟨2, ![4096, 8192]⟩ .bf16) (A1 : FVec Ideal ⟨2, ![3, 1024]⟩ .f32)
  (A2 : FVec Ideal ⟨2, ![1, 1024]⟩ .f32) (A3 : FVec Ideal ⟨2, ![4096, 1024]⟩ .bf16)

/-- Column `j` of the convolution's input `gate_c · v`. -/
def cv (j : Fin 1024) (t : Fin 4096) : EReal := A0 (ix2 t ⟨3072 + j.val, by omega⟩) * A0 (ix2 t ⟨1024 + j.val, by omega⟩)
/-- Column `j` of the cotangent of the convolution's output. -/
def dc (j : Fin 1024) (t : Fin 4096) : EReal := A3 (ix2 t j) * A0 (ix2 t ⟨2048 + j.val, by omega⟩)
/-- Column `j` of the cotangent of the convolution's input. -/
def dcv (j : Fin 1024) (t : Fin 4096) : EReal := tapsT (A1 (ix2 0 j)) (A1 (ix2 1 j)) (A1 (ix2 2 j)) (dc A0 A3 j) t

/-- The gradient of `v`. -/
def gV (t : Fin 4096) (j : Fin 1024) : EReal := dcv A0 A1 A3 j t * A0 (ix2 t ⟨3072 + j.val, by omega⟩)
/-- The gradient of the gate behind the convolution. -/
def gB (t : Fin 4096) (j : Fin 1024) : EReal :=
  A3 (ix2 t j) * (taps (A1 (ix2 0 j)) (A1 (ix2 1 j)) (A1 (ix2 2 j)) (cv A0 j) t + A2 (ix2 0 j))
/-- The gradient of the gate before the convolution. -/
def gC (t : Fin 4096) (j : Fin 1024) : EReal := dcv A0 A1 A3 j t * A0 (ix2 t ⟨1024 + j.val, by omega⟩)
/-- The gradient of tap `k`. -/
def gW (k : Fin 3) (j : Fin 1024) : EReal := ∑ t : Fin 4096, dc A0 A3 j t * sd (2 - k.val) (cv A0 j) t
/-- The gradient of the bias. -/
def gBias (j : Fin 1024) : EReal := ∑ t : Fin 4096, dc A0 A3 j t
end Spec

variable (m : (ℓ : Loc nD τ sig) → Buf (Elt Ideal) ℓ) (ρ : Dev nD → PrngReg)

/-- The four argument arrays of device `c`. -/
abbrev a0 (c : Dev nD) : FVec Ideal ⟨2, ![4096, 8192]⟩ .bf16 := m ((c : Thread nD τ).loc main_arg0)
abbrev a1 (c : Dev nD) : FVec Ideal ⟨2, ![3, 1024]⟩ .f32 := m ((c : Thread nD τ).loc main_arg1)
abbrev a2 (c : Dev nD) : FVec Ideal ⟨2, ![1, 1024]⟩ .f32 := m ((c : Thread nD τ).loc main_arg2)
abbrev a3 (c : Dev nD) : FVec Ideal ⟨2, ![4096, 1024]⟩ .bf16 := m ((c : Thread nD τ).loc main_arg3)

abbrev G6 (c : Dev nD) : Buf (Elt Ideal) ((c : Thread nD τ).loc main_v0_0) := fun i : S4096x1024.Idx => gV (a0 m c) (a1 m c) (a3 m c) (i 0) (i 1)
abbrev G7 (c : Dev nD) : Buf (Elt Ideal) ((c : Thread nD τ).loc main_v0_1) := fun i : S4096x1024.Idx => gB (a0 m c) (a1 m c) (a2 m c) (a3 m c) (i 0) (i 1)
abbrev G8 (c : Dev nD) : Buf (Elt Ideal) ((c : Thread nD τ).loc main_v0_2) := fun i : S4096x1024.Idx => gC (a0 m c) (a1 m c) (a3 m c) (i 0) (i 1)
abbrev G9 (c : Dev nD) : Buf (Elt Ideal) ((c : Thread nD τ).loc main_v0_3) := fun i : S3x1024.Idx => gW (a0 m c) (a3 m c) (i 0) (i 1)
abbrev G10 (c : Dev nD) : Buf (Elt Ideal) ((c : Thread nD τ).loc main_v0_4) := fun i : S1x1024.Idx => gBias (a0 m c) (a3 m c) (i 1)

theorem hz : (![0, 0] : Fin 2 → Nat) = fun _ => 0 := funext fun a => by fin_cases a <;> rfl

/-- Column `128 t + l` of the arrays. -/
abbrev col (t : Fin cfg0.N) (l : Fin 128) : Fin 1024 := ⟨t.val * 128 + l.val, by have := lt8 t; omega⟩

/-- Element `(s, l)` of a block, as an extended real. -/
abbrev ew (x : FVec Ideal S4096x128 .bf16) (s : Fin 4096) (l : Fin 128) : EReal := x (ix2 s l)

theorem cv_blk (c : Dev nD) (t : Fin cfg0.N) (l : Fin 128) (s : Fin 4096) :
    ew (iblk m c 2 t) s l * ew (iblk m c 0 t) s l = cv (a0 m c) (col t l) s := by
  exact congrArg₂ (· * ·) (iblk2 m c t s l) (iblk0 m c t s l)
theorem dc_blk (c : Dev nD) (t : Fin cfg0.N) (l : Fin 128) (s : Fin 4096) :
    ew (iblk m c 5 t) s l * ew (iblk m c 1 t) s l = dc (a0 m c) (a3 m c) (col t l) s := by
  exact congrArg₂ (· * ·) (iblk5 m c t s l) (iblk1 m c t s l)

theorem row_ld (x : Vec Ideal S3x128 .f32) (z : Fin 1) (l : Fin 128) :
    View.ld x r0_1 (ix2 z l) = x (ix2 2 l) ∧ View.ld x r0_2 (ix2 z l) = x (ix2 1 l) ∧ View.ld x r0_3 (ix2 z l) = x (ix2 0 l) := by
  obtain rfl : z = 0 := Subsingleton.elim _ _
  refine ⟨?_, ?_, ?_⟩ <;> pointwise <;> rfl

theorem dcv_blk (c : Dev nD) (t : Fin cfg0.N) (l : Fin 128) (r : Fin 4096) :
    k0_pay19 (iblk m c 0 t) (iblk m c 1 t) (iblk m c 2 t) (iblk m c 3 t) (iblk m c 4 t) (iblk m c 5 t) (ix2 r l)
      = dcv (a0 m c) (a1 m c) (a3 m c) (col t l) r := by
  unfold k0_pay19 k0_pay17
  rw [View.ld_unit_zero hz, View.ld_unit_zero hz]
  refine (pay12_apply _ _ _ _ _ r l).trans ?_
  rw [(row_ld _ 0 l).1, (row_ld _ 0 l).2.1, (row_ld _ 0 l).2.2, iblk3, iblk3, iblk3, funext (dc_blk m c t l)]
  rfl

theorem flushed6_eq (c : Dev nD) (t : Fin cfg0.N) :
    (dats m 0 c).flushed 6 t = ((cfg0.win 6).blk t).view.read (Elt Ideal) (G6 m c) := by
  rw [Value.flushed6]
  funext i
  obtain ⟨r, l, rfl⟩ : ∃ (r : Fin 4096) (l : Fin 128), i = ix2 r l := ⟨i 0, i 1, by funext a; match a with | ⟨0, _⟩ => rfl | ⟨1, _⟩ => rfl⟩
  rw [oblk6]
  unfold out0_6
  rw [View.canon_unit_zero hz, View.ld_unit_zero hz]
  exact congrArg₂ (· * ·) (dcv_blk m c t l r) (iblk2 m c t r l)

theorem flushed8_eq (c : Dev nD) (t : Fin cfg0.N) :
    (dats m 0 c).flushed 8 t = ((cfg0.win 8).blk t).view.read (Elt Ideal) (G8 m c) := by
  rw [Value.flushed8]
  funext i
  obtain ⟨r, l, rfl⟩ : ∃ (r : Fin 4096) (l : Fin 128), i = ix2 r l := ⟨i 0, i 1, by funext a; match a with | ⟨0, _⟩ => rfl | ⟨1, _⟩ => rfl⟩
  rw [oblk8]
  unfold out0_8
  rw [View.canon_unit_zero hz, View.ld_unit_zero hz]
  exact congrArg₂ (· * ·) (dcv_blk m c t l r) (iblk0 m c t r l)

theorem flushed7_eq (c : Dev nD) (t : Fin cfg0.N) :
    (dats m 0 c).flushed 7 t = ((cfg0.win 7).blk t).view.read (Elt Ideal) (G7 m c) := by
  rw [Value.flushed7]
  funext i
  obtain ⟨r, l, rfl⟩ : ∃ (r : Fin 4096) (l : Fin 128), i = ix2 r l := ⟨i 0, i 1, by funext a; match a with | ⟨0, _⟩ => rfl | ⟨1, _⟩ => rfl⟩
  rw [oblk7]
  unfold out0_7
  rw [View.canon_unit_zero hz]
  show k0_pay10 _ _ _ _ _ _ _ (ix2 r l) = _
  rw [View.ld_unit_zero hz, View.ld_unit_zero hz, View.ld_unit_zero hz, View.ld_unit_zero hz]
  refine (pay10_apply _ _ _ _ _ _ _ r l).trans ?_
  rw [(row_ld _ 0 l).1, (row_ld _ 0 l).2.1, (row_ld _ 0 l).2.2, iblk3, iblk3, iblk3, funext (cv_blk m c t l), iblk4, iblk5]
  rfl

/-- The columns of the two vectors the tap gradients are sums of. -/
theorem pay16_col (c : Dev nD) (t : Fin cfg0.N) (l : Fin 128) (s : Fin 4096) :
    k0_pay16 (iblk m c 0 t) (iblk m c 1 t) (iblk m c 2 t) (iblk m c 3 t) (iblk m c 4 t) (iblk m c 5 t) (ix2 s l) = cv (a0 m c) (col t l) s := by
  unfold k0_pay16
  rw [View.ld_unit_zero hz, View.ld_unit_zero hz]
  exact cv_blk m c t l s
theorem pay18_col (c : Dev nD) (t : Fin cfg0.N) (l : Fin 128) (s : Fin 4096) :
    k0_pay18 (iblk m c 0 t) (iblk m c 1 t) (iblk m c 2 t) (iblk m c 3 t) (iblk m c 4 t) (iblk m c 5 t) (ix2 s l) = dc (a0 m c) (a3 m c) (col t l) s := by
  unfold k0_pay18 k0_pay17
  rw [View.ld_unit_zero hz, View.ld_unit_zero hz]
  exact dc_blk m c t l s

theorem flushed10_eq (c : Dev nD) (t : Fin cfg0.N) :
    (dats m 0 c).flushed 10 t = ((cfg0.win 10).blk t).view.read (Elt Ideal) (G10 m c) := by
  rw [Value.flushed10]
  funext i
  obtain ⟨r, l, rfl⟩ : ∃ (r : Fin 1) (l : Fin 128), i = ix2 r l := ⟨i 0, i 1, by funext a; match a with | ⟨0, _⟩ => rfl | ⟨1, _⟩ => rfl⟩
  rw [oblk10]
  unfold out0_10
  rw [View.canon_unit_zero hz]
  exact (pay3_apply _ r l).trans (Finset.sum_congr rfl fun s _ => pay18_col m c t l s)

theorem sd_zero (f : Fin 4096 → EReal) (t : Fin 4096) : sd 0 f t = f t := if_pos (Nat.zero_le _)

/-- What the three rows of point `t`'s block of tap gradients hold. -/
def E9 (c : Dev nD) (t : Fin cfg0.N) : Vec Ideal S3x128 .f32 := fun y => gW (a0 m c) (a3 m c) (y 0) (col t (y 1))

theorem E9_at (c : Dev nD) (t : Fin cfg0.N) (k : Fin 3) (q : Fin 128) :
    E9 m c t (ix2 k q) = ∑ s : Fin 4096, dc (a0 m c) (a3 m c) (col t q) s * sd (2 - k.val) (cv (a0 m c) (col t q)) s := rfl

theorem flushed9_eq (c : Dev nD) (t : Fin cfg0.N) :
    (dats m 0 c).flushed 9 t = ((cfg0.win 9).blk t).view.read (Elt Ideal) (G9 m c) := by
  rw [Value.flushed9]
  funext i
  obtain ⟨r, l, rfl⟩ : ∃ (r : Fin 3) (l : Fin 128), i = ix2 r l := ⟨i 0, i 1, by funext a; match a with | ⟨0, _⟩ => rfl | ⟨1, _⟩ => rfl⟩
  rw [oblk9]
  unfold out0_9
  refine View.canon_apply_of_pieces (E9 m c t) _ ?_ (ix2 r l) (cover0_9 _ _ _ _)
  intro pc hpc
  have e16 := fun l => funext (pay16_col m c t l)
  rcases List.mem_cons.mp hpc with rfl | hpc
  · intro x
    obtain ⟨z, q, rfl⟩ : ∃ (z : Fin 1) (q : Fin 128), x = ix2 z q := ⟨x 0, x 1, by funext a; match a with | ⟨0, _⟩ => rfl | ⟨1, _⟩ => rfl⟩
    obtain rfl : z = 0 := Subsingleton.elim _ _
    have hi : r0_1.idx (ix2 (0 : Fin 1) q) = ix2 (2 : Fin 3) q := by
      funext a; refine Fin.ext ?_
      match a with | ⟨0, _⟩ => rfl | ⟨1, _⟩ => show 0 + 1 * q.val = q.val; omega
    refine Eq.trans ?_ (congrArg (E9 m c t) hi).symm
    refine (pay2_apply _ _ 0 q).trans (Eq.trans (Finset.sum_congr rfl fun s _ => ?_) (E9_at m c t 2 q).symm)
    rw [pay18_col, pay16_col]
    exact congrArg _ (sd_zero _ s).symm
  rcases List.mem_cons.mp hpc with rfl | hpc
  · intro x
    obtain ⟨z, q, rfl⟩ : ∃ (z : Fin 1) (q : Fin 128), x = ix2 z q := ⟨x 0, x 1, by funext a; match a with | ⟨0, _⟩ => rfl | ⟨1, _⟩ => rfl⟩
    obtain rfl : z = 0 := Subsingleton.elim _ _
    have hi : r0_2.idx (ix2 (0 : Fin 1) q) = ix2 (1 : Fin 3) q := by
      funext a; refine Fin.ext ?_
      match a with | ⟨0, _⟩ => rfl | ⟨1, _⟩ => show 0 + 1 * q.val = q.val; omega
    refine Eq.trans ?_ (congrArg (E9 m c t) hi).symm
    refine (pay1_apply _ _ 0 q).trans (Eq.trans (Finset.sum_congr rfl fun s _ => ?_) (E9_at m c t 1 q).symm)
    rw [pay18_col, e16]
    rfl
  rcases List.mem_cons.mp hpc with rfl | hpc
  · intro x
    obtain ⟨z, q, rfl⟩ : ∃ (z : Fin 1) (q : Fin 128), x = ix2 z q := ⟨x 0, x 1, by funext a; match a with | ⟨0, _⟩ => rfl | ⟨1, _⟩ => rfl⟩
    obtain rfl : z = 0 := Subsingleton.elim _ _
    have hi : r0_3.idx (ix2 (0 : Fin 1) q) = ix2 (0 : Fin 3) q := by
      funext a; refine Fin.ext ?_
      match a with | ⟨0, _⟩ => rfl | ⟨1, _⟩ => show 0 + 1 * q.val = q.val; omega
    refine Eq.trans ?_ (congrArg (E9 m c t) hi).symm
    unfold k0_pay17
    rw [View.ld_unit_zero hz, View.ld_unit_zero hz]
    refine (pay13_apply _ _ _ 0 q).trans (Eq.trans (Finset.sum_congr rfl fun s _ => ?_) (E9_at m c t 0 q).symm)
    rw [e16]
    exact congrArg₂ (· * ·) (dc_blk m c t q s) rfl
  nomatch hpc

/-- The run: the five result arrays at the five functions above, the arguments unchanged. -/
theorem run : θ_run defs (onTc (τ := τ) (main (F := Ideal))) ⟨m, fun _ => 0, ρ⟩ fun r => ∀ c : Dev nD,
      r.2.mem ((c : Thread nD τ).loc main_v0_0) = G6 m c
      ∧ r.2.mem ((c : Thread nD τ).loc main_v0_1) = G7 m c
      ∧ r.2.mem ((c : Thread nD τ).loc main_v0_2) = G8 m c
      ∧ r.2.mem ((c : Thread nD τ).loc main_v0_3) = G9 m c
      ∧ r.2.mem ((c : Thread nD τ).loc main_v0_4) = G10 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans ((dats m 0 c).arrAt_eq_of_cover 6 (G6 m c) (fun t _ => flushed6_eq m c t) cover6),
      (h c).2.1.trans ((dats m 0 c).arrAt_eq_of_cover 7 (G7 m c) (fun t _ => flushed7_eq m c t) cover7),
      (h c).2.2.1.trans ((dats m 0 c).arrAt_eq_of_cover 8 (G8 m c) (fun t _ => flushed8_eq m c t) cover8),
      (h c).2.2.2.1.trans ((dats m 0 c).arrAt_eq_of_cover 9 (G9 m c) (fun t _ => flushed9_eq m c t) cover9),
      (h c).2.2.2.2.1.trans ((dats m 0 c).arrAt_eq_of_cover 10 (G10 m c) (fun t _ => flushed10_eq m c t) cover10),
      (h c).2.2.2.2.2⟩)
    (Value.run_blocks m ρ)

end Cert.ConvValue
-- ==== Proof.ConvRef.lean ====
module

public import proofs.«01_k».proof.Proof.Gen.ReferenceIdeal.Read
public import proofs.«01_k».proof.Proof.ConvValue

@[expose] public section

set_option maxRecDepth 16384

noncomputable section

/-! # The reference's five results, as the same functions of the arguments -/

namespace Cert.ConvRef

open Cert.ReferenceIdeal Cert.ReferenceIdeal.Gen Cert.ReferenceIdeal.Read Cert.Shift Cert.ConvBody Cert.ConvValue
open Idealize.ShloMosaic Idealize.ShloMosaic.TcCoe Idealize.SL.Sem

variable (x0 : FVec Ideal S4096x8192 .bf16) (x1 : FVec Ideal S3x1024 .f32) (x2 : FVec Ideal S1x1024 .f32) (x3 : FVec Ideal S4096x1024 .bf16)

/-- The convolution's input behind two rows of zeros. -/
theorem v8_at (r : Fin 4098) (j : Fin 1024) :
    val_main_v8 (F := Ideal) x0 (ix2 r j) = if h : 2 ≤ r.val then cv x0 j ⟨r.val - 2, by omega⟩ else 0 := by
  pointwise [val_main_v8, val_main_v7, val_main_cst, val_main_v6, val_main_v5, val_main_v4, val_main_v1, val_main_v0]
  by_cases h : r.val < 2
  · rw [dif_pos h, dif_neg (by omega)]
  · rw [dif_neg h, dif_pos (by omega)]; rfl

theorem v11_at (r : Fin 4096) (j : Fin 1024) : val_main_v11 (F := Ideal) x0 (ix2 r j) = sd 2 (cv x0 j) r := by
  pointwise [val_main_v11]
  rw [v8_at]
  rfl
theorem v17_at (r : Fin 4096) (j : Fin 1024) : val_main_v17 (F := Ideal) x0 (ix2 r j) = sd 1 (cv x0 j) r := by
  pointwise [val_main_v17]
  rw [v8_at]
  unfold sd
  by_cases h : 1 ≤ r.val
  · rw [dif_pos (by show 2 ≤ 1 + r.val; omega), if_pos h]
    exact congrArg _ (Fin.ext (by show 1 + r.val - 2 = r.val - 1; omega))
  · rw [dif_neg (by show ¬ 2 ≤ 1 + r.val; omega), if_neg h]
theorem v22_at (r : Fin 4096) (j : Fin 1024) : val_main_v22 (F := Ideal) x0 (ix2 r j) = cv x0 j r := by
  pointwise [val_main_v22]
  rw [v8_at]
  rw [dif_pos (by show 2 ≤ 2 + r.val; omega)]
  exact congrArg _ (Fin.ext (by show 2 + r.val - 2 = r.val; omega))

theorem v30_at (r : Fin 4096) (j : Fin 1024) : val_main_v30 (F := Ideal) x0 x3 (ix2 r j) = dc x0 x3 j r := by
  pointwise [val_main_v30, val_main_v3, val_main_v2, val_main_v29]
  exact mul_comm _ _

theorem v27_at (r : Fin 4096) (j : Fin 1024) : val_main_v27 (F := Ideal) x0 x1 x2 (ix2 r j) =
   taps (x1 (ix2 0 j)) (x1 (ix2 1 j)) (x1 (ix2 2 j)) (cv x0 j) r + x2 (ix2 0 j) := by
  pointwise [val_main_v27, val_main_v26, val_main_v25, val_main_v24, val_main_v23, val_main_v21, val_main_v20, val_main_v19, val_main_v18, val_main_v16, val_main_v15, val_main_v14, val_main_v13,
    val_main_v12, val_main_v10, val_main_v9, val_main_cst_1]
  rw [v11_at, v17_at, v22_at]
  unfold taps
  have e (a b c d : EReal) : a + b + c + d = c + b + a + d := by
    rw [add_comm (a + b) c, add_comm a b, ← add_assoc]
  exact e _ _ _ _
/-- The cotangent of the padded column. -/
theorem v60_at (r : Fin 4096) (j : Fin 1024) : val_main_v60 (F := Ideal) x0 x1 x3 (ix2 r j) = dcv x0 x1 x3 j r := by
  pointwise [val_main_v60, val_main_v56, val_main_v55, val_main_v47, val_main_v39, val_main_v46, val_main_v35, val_main_v34, val_main_v42, val_main_v41, val_main_v51, val_main_v50, val_main_v21,
    val_main_v16, val_main_v10, val_main_cst_4, val_main_cst_7, val_main_cst_10]
  simp only [v30_at]
  unfold dcv tapsT su
  have e1 : (if h : 1 ≤ 2 + r.val ∧ 2 + r.val - 1 < 4096 then x1 (ix2 1 j) * dc x0 x3 j ⟨2 + r.val - 1, h.2⟩ else (0 : EReal))
      = x1 (ix2 1 j) * (if h : r.val + 1 < 4096 then dc x0 x3 j ⟨r.val + 1, h⟩ else 0) := by
    by_cases h : r.val + 1 < 4096
    · rw [dif_pos (by omega), dif_pos h]
      exact congrArg _ (congrArg _ (Fin.ext (by show 2 + r.val - 1 = r.val + 1; omega)))
    · rw [dif_neg (by omega), dif_neg h, mul_zero]
  have e2 : (if h : 2 + r.val < 4096 then x1 (ix2 0 j) * dc x0 x3 j ⟨2 + r.val, h⟩ else (0 : EReal))
      = x1 (ix2 0 j) * (if h : r.val + 2 < 4096 then dc x0 x3 j ⟨r.val + 2, h⟩ else 0) := by
    by_cases h : r.val + 2 < 4096
    · rw [dif_pos (by omega), dif_pos h]
      exact congrArg _ (congrArg _ (Fin.ext (by show 2 + r.val = r.val + 2; omega)))
    · rw [dif_neg (by omega), dif_neg h, mul_zero]
  exact congrArg₂ (· + ·) (congrArg _ e1) e2

theorem v58_at (k : Fin 3) (j : Fin 1024) : val_main_v58 (F := Ideal) x0 x3 (ix2 k j) = gW x0 x3 k j := by
  pointwise [val_main_v58, val_main_v57, val_main_v49, val_main_v40, val_main_v48, val_main_v38, val_main_v37, val_main_v36, val_main_v45, val_main_v44, val_main_v43, val_main_v54, val_main_v53, val_main_v52,
    val_main_cst_3, val_main_cst_5, val_main_cst_6, val_main_cst_8, val_main_cst_9, val_main_cst_11]
  simp only [v30_at, v22_at, v17_at, v11_at]
  unfold gW
  match k with
  | ⟨0, _⟩ => simp
  | ⟨1, _⟩ => simp
  | ⟨2, _⟩ => simp [sd_zero]

theorem v33_at (z : Fin 1) (j : Fin 1024) : val_main_v33 (F := Ideal) x0 x3 (ix2 z j) = gBias x0 x3 j := by
  pointwise [val_main_v33, val_main_v32, val_main_cst_2]
  simp only [v30_at]
  rfl

theorem v63_at (r : Fin 4096) (j : Fin 1024) : val_main_v63 (F := Ideal) x0 x1 x3 (ix2 r j) = gV x0 x1 x3 r j := by
  pointwise [val_main_v63, val_main_v61, val_main_v5, val_main_v4]
  rw [v60_at]
  exact mul_comm _ _
theorem v64_at (r : Fin 4096) (j : Fin 1024) : val_main_v64 (F := Ideal) x0 x1 x2 x3 (ix2 r j) = gB x0 x1 x2 x3 r j := by
  pointwise [val_main_v64, val_main_v31, val_main_v29]
  rw [v27_at]
  rfl
theorem v65_at (r : Fin 4096) (j : Fin 1024) : val_main_v65 (F := Ideal) x0 x1 x3 (ix2 r j) = gC x0 x1 x3 r j := by
  pointwise [val_main_v65, val_main_v62, val_main_v1, val_main_v0]
  rw [v60_at]
  rfl

end Cert.ConvRef
-- ==== Proof.ConvClaim.lean ====
module

public import proofs.«01_k».proof.Defs
public import proofs.«01_k».proof.Proof.Gen.Kernel.Frame
public import proofs.«01_k».proof.Proof.ConvRef
public import Idealize.ShloMosaic.Lib.Quiescent

@[expose] public section

set_option maxRecDepth 16384

noncomputable section

/-! # The claims about the gated convolution's backward pass -/

namespace Cert.ConvClaim

open Idealize.ShloMosaic Idealize.ShloMosaic.TcCoe Idealize.SL.Sem
open Cert.ConvValue Cert.ConvRef Cert.ReferenceIdeal.Read

theorem frame_kernel : Cert.quiescent_Kernel := fun m ρ _ => Cert.Kernel.Gen.frame m ρ
theorem frame_kernelIdeal : Cert.quiescent_KernelIdeal := fun m ρ _ => Cert.KernelIdeal.Gen.frame m ρ
theorem frame_reference : Cert.quiescent_ReferenceIdeal := fun m ρ _ =>
  (θ_run Cert.ReferenceIdeal.defs _ _).mono (fun r h => ⟨fun c => (h c).2.2.2.2.2, sem_eq_zero_of_no_sems (by decide) r.2⟩)
    (Cert.ReferenceIdeal.Value.run (F := Ideal) m ρ)

/-- Equality of two arrays of rank two from equality at every row and column. -/
theorem ext2 {a b : Nat} {α : Type} {x y : (⟨2, ![a, b]⟩ : Shape).Idx → α} (h : ∀ (r : Fin a) (j : Fin b), x (ix2 r j) = y (ix2 r j)) : x = y := by
  funext i
  have e : i = ix2 (i 0) (i 1) := by funext d; match d with | ⟨0, _⟩ => rfl | ⟨1, _⟩ => rfl
  rw [e]
  exact h (i 0) (i 1)

theorem algebraic : Cert.algebraic_KernelIdeal_ReferenceIdeal := by
  intro m ρ m' ρ' _ hagree
  refine ⟨G6 m, G7 m, G8 m, G9 m, G10 m, run m ρ, ?_⟩
  refine (θ_run Cert.ReferenceIdeal.defs _ _).mono (fun _ h c => ⟨(h c).1.trans ?_, (h c).2.1.trans ?_, (h c).2.2.1.trans ?_,
    (h c).2.2.2.1.trans ?_, (h c).2.2.2.2.1.trans ?_, (h c).2.2.2.2.2⟩) (Cert.ReferenceIdeal.Value.run (F := Ideal) m' ρ')
  · rw [(hagree c).1, (hagree c).2.1, (hagree c).2.2.2]
    exact ext2 fun r j => v63_at (a0 m c) (a1 m c) (a3 m c) r j
  · rw [(hagree c).1, (hagree c).2.1, (hagree c).2.2.1, (hagree c).2.2.2]
    exact ext2 fun r j => v64_at (a0 m c) (a1 m c) (a2 m c) (a3 m c) r j
  · rw [(hagree c).1, (hagree c).2.1, (hagree c).2.2.2]
    exact ext2 fun r j => v65_at (a0 m c) (a1 m c) (a3 m c) r j
  · rw [(hagree c).1, (hagree c).2.2.2]
    exact ext2 fun r j => v58_at (a0 m c) (a3 m c) r j
  · rw [(hagree c).1, (hagree c).2.2.2]
    exact ext2 fun r j => v33_at (a0 m c) (a3 m c) r j

end Cert.ConvClaim
-- ==== Proof.Idx.lean ====
module

public import Idealize.ShloMosaic.Lib.Pointwise

@[expose] public section

/-! # Every index is built from its coordinates -/

namespace Cert.Step

open Idealize.ShloMosaic

theorem ix1_surj {n0 : Nat} (e : (⟨1, ![n0]⟩ : Shape).Idx) : ∃ (a0 : Fin n0), e = ix1 a0 :=
  ⟨e 0, by funext d; match d with | ⟨0, _⟩ => rfl⟩
theorem ix2_surj {n0 n1 : Nat} (e : (⟨2, ![n0, n1]⟩ : Shape).Idx) : ∃ (a0 : Fin n0) (a1 : Fin n1), e = ix2 a0 a1 :=
  ⟨e 0, e 1, by funext d; match d with | ⟨0, _⟩ => rfl | ⟨1, _⟩ => rfl⟩
theorem ix3_surj {n0 n1 n2 : Nat} (e : (⟨3, ![n0, n1, n2]⟩ : Shape).Idx) : ∃ (a0 : Fin n0) (a1 : Fin n1) (a2 : Fin n2), e = ix3 a0 a1 a2 :=
  ⟨e 0, e 1, e 2, by funext d; match d with | ⟨0, _⟩ => rfl | ⟨1, _⟩ => rfl | ⟨2, _⟩ => rfl⟩
theorem ix4_surj {n0 n1 n2 n3 : Nat} (e : (⟨4, ![n0, n1, n2, n3]⟩ : Shape).Idx) : ∃ (a0 : Fin n0) (a1 : Fin n1) (a2 : Fin n2) (a3 : Fin n3), e = ix4 a0 a1 a2 a3 :=
  ⟨e 0, e 1, e 2, e 3, by funext d; match d with | ⟨0, _⟩ => rfl | ⟨1, _⟩ => rfl | ⟨2, _⟩ => rfl | ⟨3, _⟩ => rfl⟩

end Cert.Step
-- ==== Proof.Sums.lean ====
module

public import Idealize.ShloMosaic.Lib.Pointwise

@[expose] public section

noncomputable section

/-! # A sum over `n * b` terms as `n` sums of `b` terms -/

namespace Cert.Sums

theorem sum_blocks (n b K : ℕ) (h : n * b = K) (f : Fin K → EReal) :
    ∑ k : Fin K, f k = ∑ s : Fin n, ∑ k : Fin b, f ⟨s.val * b + k.val, by
      have h1 : s.val * b + b ≤ n * b := by have := Nat.mul_le_mul_right b s.isLt; rwa [Nat.succ_mul] at this
      have h2 := k.isLt
      omega⟩ := by
  subst h
  rw [← Fintype.sum_prod_type', ← Equiv.sum_comp finProdFinEquiv]
  refine Finset.sum_congr rfl fun p _ => congrArg f (Fin.ext ?_)
  show p.2.val + b * p.1.val = p.1.val * b + p.2.val
  rw [Nat.mul_comm, Nat.add_comm]

end Cert.Sums
-- ==== Proof.Step.lean ====
module

public import proofs.«01_k».proof.Defs
public import proofs.«01_k».proof.Proof.Idx
public import proofs.«01_k».proof.Proof.Sums
public import Idealize.ShloMosaic.Lib.Quiescent
public import Idealize.ShloMosaic.Lib.StableHlo.ReadAt

@[expose] public section

noncomputable section

/-! # One element of the optimiser's step, and small facts on indices and functions -/

namespace Cert.Step

open Idealize.ShloMosaic

/-- The constants of the step, as the program holds them: the two decays with their complements, the two bias corrections,
    the denominator's summand, the weight decay and the negated rate. -/
def cB1 : EReal := Scalar.ofBits (F := Ideal) .f32 0x3F666666#32
def cB1' : EReal := Scalar.ofBits (F := Ideal) .f32 0x3DCCCCCD#32
def cB2 : EReal := Scalar.ofBits (F := Ideal) .f32 0x3F7FBE77#32
def cB2' : EReal := Scalar.ofBits (F := Ideal) .f32 0x3A83126F#32
def cM : EReal := Scalar.ofBits (F := Ideal) .f32 0x3F26BD02#32
def cV : EReal := Scalar.ofBits (F := Ideal) .f32 0x3C231ACC#32
def cE : EReal := Scalar.ofBits (F := Ideal) .f32 0x322BCC77#32
def cW : EReal := Scalar.ofBits (F := Ideal) .f32 0x3C23D70A#32
def cL : EReal := Scalar.ofBits (F := Ideal) .f32 0xBA83126F#32
/-- The new moments and the change of the weight, from the gradient `g`, the weight `w` and the old moments. -/
def newM (g mo : EReal) : EReal := cB1 * mo + cB1' * g
def newV (g vo : EReal) : EReal := cB2 * vo + cB2' * (g * g)
def delta (g w mo vo : EReal) : EReal :=
  cL * (Ideal.div (Ideal.div (newM g mo) cM) (Ideal.sqrt (Ideal.div (newV g vo) cV) + cE) + cW * w)

/-- The sum over the devices. -/
def sum8 (f : Fin 8 → EReal) : EReal := ∑ d : Fin 8, f d
theorem sum8_congr {f f' : Fin 8 → EReal} (h : ∀ d, f d = f' d) : sum8 f = sum8 f' := congrArg sum8 (funext h)
theorem delta_congr {g g' w w' u u' v v' : EReal} (h : g = g') (h1 : w = w') (h2 : u = u') (h3 : v = v') : delta g w u v = delta g' w' u' v' := by
  rw [h, h1, h2, h3]
theorem newM_congr {g g' u u' : EReal} (h : g = g') (h1 : u = u') : newM g u = newM g' u' := by rw [h, h1]
theorem newV_congr {g g' u u' : EReal} (h : g = g') (h1 : u = u') : newV g u = newV g' u' := by rw [h, h1]

theorem hz : (![0, 0] : Fin 2 → Nat) = fun _ => 0 := funext fun a => by fin_cases a <;> rfl

/-! ## Functions at equal arguments -/
theorem cong1 {α β : Sort _} (f : α → β) {a a' : α} (h : a = a') : f a = f a' := h ▸ rfl
theorem cong2 {α β γ : Sort _} (f : α → β → γ) {a a' : α} {b b' : β} (h : a = a') (h1 : b = b') : f a b = f a' b' := h ▸ h1 ▸ rfl
theorem cong4 {α β γ δ ε : Sort _} (f : α → β → γ → δ → ε) {a a' : α} {b b' : β} {c c' : γ} {d d' : δ} (h : a = a') (h1 : b = b') (h2 : c = c') (h3 : d = d') :
    f a b c d = f a' b' c' d' := h ▸ h1 ▸ h2 ▸ h3 ▸ rfl

/-! ## Indices with equal coordinates -/
theorem ix1_congr {n0 : Nat} {a0 b0 : Fin n0} (h0 : a0.val = b0.val := by first | omega | (dsimp only; omega) | rfl) :
    ix1 a0 = ix1 b0 := by
  rw [Fin.ext h0]
theorem ix2_congr {n0 n1 : Nat} {a0 b0 : Fin n0} {a1 b1 : Fin n1} (h0 : a0.val = b0.val := by first | omega | (dsimp only; omega) | rfl) (h1 : a1.val = b1.val := by first | omega | (dsimp only; omega) | rfl) :
    ix2 a0 a1 = ix2 b0 b1 := by
  rw [Fin.ext h0, Fin.ext h1]
theorem ix3_congr {n0 n1 n2 : Nat} {a0 b0 : Fin n0} {a1 b1 : Fin n1} {a2 b2 : Fin n2} (h0 : a0.val = b0.val := by first | omega | (dsimp only; omega) | rfl) (h1 : a1.val = b1.val := by first | omega | (dsimp only; omega) | rfl) (h2 : a2.val = b2.val := by first | omega | (dsimp only; omega) | rfl) :
    ix3 a0 a1 a2 = ix3 b0 b1 b2 := by
  rw [Fin.ext h0, Fin.ext h1, Fin.ext h2]
theorem ix4_congr {n0 n1 n2 n3 : Nat} {a0 b0 : Fin n0} {a1 b1 : Fin n1} {a2 b2 : Fin n2} {a3 b3 : Fin n3} (h0 : a0.val = b0.val := by first | omega | (dsimp only; omega) | rfl) (h1 : a1.val = b1.val := by first | omega | (dsimp only; omega) | rfl) (h2 : a2.val = b2.val := by first | omega | (dsimp only; omega) | rfl) (h3 : a3.val = b3.val := by first | omega | (dsimp only; omega) | rfl) :
    ix4 a0 a1 a2 a3 = ix4 b0 b1 b2 b3 := by
  rw [Fin.ext h0, Fin.ext h1, Fin.ext h2, Fin.ext h3]
theorem ix5_congr {n0 n1 n2 n3 n4 : Nat} {a0 b0 : Fin n0} {a1 b1 : Fin n1} {a2 b2 : Fin n2} {a3 b3 : Fin n3} {a4 b4 : Fin n4} (h0 : a0.val = b0.val := by first | omega | (dsimp only; omega) | rfl) (h1 : a1.val = b1.val := by first | omega | (dsimp only; omega) | rfl) (h2 : a2.val = b2.val := by first | omega | (dsimp only; omega) | rfl) (h3 : a3.val = b3.val := by first | omega | (dsimp only; omega) | rfl) (h4 : a4.val = b4.val := by first | omega | (dsimp only; omega) | rfl) :
    ix5 a0 a1 a2 a3 a4 = ix5 b0 b1 b2 b3 b4 := by
  rw [Fin.ext h0, Fin.ext h1, Fin.ext h2, Fin.ext h3, Fin.ext h4]

end Cert.Step
-- ==== Proof.P2.lean ====
module

public import proofs.«01_k».proof.Proof.Step
public import proofs.«01_k».proof.Proof.Gen.Kernel2.Frame
public import proofs.«01_k».proof.Proof.Gen.Kernel2Ideal.Value
public import proofs.«01_k».proof.Proof.Gen.Reference2Ideal.Read
public import proofs.«01_k».proof.Proof.Gen.Reference2Ideal.Run

@[expose] public section

set_option maxRecDepth 16384

noncomputable section

/-! # The claims about `gw_up`: the gradient of `w_up`, 2048 × 11264, a product over 4096 terms in 44 blocks of 1024 × 512 -/

namespace Cert.P2

open Kernel2Ideal Kernel2Ideal.Gen Idealize.ShloMosaic Idealize.ShloMosaic.TcCoe Idealize.SL.Sem

theorem hz3 : (![0, 0, 0] : Fin 3 → Nat) = fun _ => 0 := funext fun a => by fin_cases a <;> rfl

/-- The product at row `r` and column `q`: the sum over the 4096 terms. -/
def spec (A : FVec Ideal ⟨2, ![4096, 2048]⟩ .bf16) (B : FVec Ideal ⟨3, ![2, 4096, 5632]⟩ .bf16) (r : Fin 2048) (q : Fin 11264) : EReal := ∑ k : Fin 4096, A (ix2 k r) * B (ix3 ⟨q.val / 5632, by omega⟩ k ⟨q.val % 5632, by omega⟩)

section Blocks
variable {F : FTy → Type} [FloatOps F]
variable (m : (ℓ : Loc nD τ sig) → Buf (Elt F) ℓ)

theorem ltN (t : Fin cfg0.N) : t.val < 44 := lt_of_lt_of_eq t.isLt N_0

theorem at0 : ∀ t : Fin cfg0.N, win0_0.index t 0 = 0 ∧ win0_0.index t 1 = t.val / 22 :=
  (by decide +kernel : ∀ t : Fin grid0.N, win0_0.index t 0 = 0 ∧ win0_0.index t 1 = t.val / 22)

/-- Block `t` of the first operand, element by element. -/
theorem iblk0 (c : Dev nD) (t : Fin cfg0.N) (x : Fin 4096) (y : Fin 1024) :
    iblk m c 0 t (ix2 x y) = m ((c : Thread nD τ).loc main_arg0) (ix2 x ⟨t.val / 22 * 1024 + y.val, by have := ltN t; omega⟩) := by
  show V m c main_arg0 ((win0_0.rect t).idx (ix2 x y)) = _
  rw [V_main_arg0]
  refine congrArg _ (funext fun a => Fin.ext ?_)
  match a with
  | ⟨0, _⟩ => show win0_0.index t 0 * 4096 + 1 * x.val = x.val; rw [(at0 t).1]; have := ltN t; omega
  | ⟨1, _⟩ => show win0_0.index t 1 * 1024 + 1 * y.val = t.val / 22 * 1024 + y.val; rw [(at0 t).2]; have := ltN t; omega

theorem at1 : ∀ t : Fin cfg0.N, win0_1.index t 0 = t.val % 22 / 11 ∧ win0_1.index t 1 = 0 ∧ win0_1.index t 2 = t.val % 22 % 11 :=
  (by decide +kernel : ∀ t : Fin grid0.N, win0_1.index t 0 = t.val % 22 / 11 ∧ win0_1.index t 1 = 0 ∧ win0_1.index t 2 = t.val % 22 % 11)

/-- Block `t` of the second operand, element by element. -/
theorem iblk1 (c : Dev nD) (t : Fin cfg0.N) (z : Fin 1) (x : Fin 4096) (y : Fin 512) :
    iblk m c 1 t (ix3 z x y) = m ((c : Thread nD τ).loc main_arg1) (ix3 ⟨(t.val % 22 * 512 + y.val) / 5632, by have := ltN t; omega⟩ x ⟨(t.val % 22 * 512 + y.val) % 5632, by omega⟩) := by
  show V m c main_arg1 ((win0_1.rect t).idx (ix3 z x y)) = _
  rw [V_main_arg1]
  refine congrArg _ (funext fun a => Fin.ext ?_)
  match a with
  | ⟨0, _⟩ => show win0_1.index t 0 * 1 + 1 * z.val = (t.val % 22 * 512 + y.val) / 5632; rw [(at1 t).1]; omega
  | ⟨1, _⟩ => show win0_1.index t 1 * 4096 + 1 * x.val = x.val; rw [(at1 t).2.1]; omega
  | ⟨2, _⟩ => show win0_1.index t 2 * 512 + 1 * y.val = (t.val % 22 * 512 + y.val) % 5632; rw [(at1 t).2.2]; omega

theorem at2 : ∀ t : Fin cfg0.N, win0_2.index t 0 = t.val / 22 ∧ win0_2.index t 1 = t.val % 22 :=
  (by decide +kernel : ∀ t : Fin grid0.N, win0_2.index t 0 = t.val / 22 ∧ win0_2.index t 1 = t.val % 22)

/-- The result array read through point `t`'s block. -/
theorem oblk2 (c : Dev nD) (G : Buf (Elt F) ((c : Thread nD τ).loc main_v0)) (t : Fin cfg0.N) (x : Fin 1024) (y : Fin 512) :
    ((cfg0.win 2).blk t).view.read (Elt F) G (ix2 x y) = G (ix2 ⟨t.val / 22 * 1024 + x.val, by have := ltN t; omega⟩ ⟨t.val % 22 * 512 + y.val, by have := ltN t; omega⟩) := by
  show G ((win0_2.rect t).idx (ix2 x y)) = _
  refine congrArg _ (funext fun a => Fin.ext ?_)
  match a with
  | ⟨0, _⟩ => show win0_2.index t 0 * 1024 + 1 * x.val = t.val / 22 * 1024 + x.val; rw [(at2 t).1]; have := ltN t; omega
  | ⟨1, _⟩ => show win0_2.index t 1 * 512 + 1 * y.val = t.val % 22 * 512 + y.val; rw [(at2 t).2]; have := ltN t; omega

/-- Every element of the result lies in the block of one point. -/
theorem cover2 (i : (⟨2, ![2048, 11264]⟩ : Shape).Idx) :
    ∃ t : Fin cfg0.N, (cfg0.win 2).flush t = true ∧ i ∈ ((cfg0.win 2).blk t).view.set := by
  have h0 : (i 0 : Nat) < 2048 := (i 0).isLt
  have h1 : (i 1 : Nat) < 11264 := (i 1).isLt
  have hN : cfg0.N = 44 := N_0
  let t : Fin cfg0.N := ⟨(i 0 : Nat) / 1024 * 22 + (i 1 : Nat) / 512, by omega⟩
  refine ⟨t, flush0_2 _, ?_⟩
  show i ∈ ((View.whole main_v0).slice (win0_2.rect t)).set
  rw [View.set_slice_whole, Rect.mem_set_unit]
  intro a
  match a with
  | ⟨0, _⟩ =>
    show win0_2.index t 0 * 1024 ≤ (i 0 : Nat) ∧ (i 0 : Nat) < win0_2.index t 0 * 1024 + 1024
    rw [(at2 t).1]; dsimp only [t]; omega
  | ⟨1, _⟩ =>
    show win0_2.index t 1 * 512 ≤ (i 1 : Nat) ∧ (i 1 : Nat) < win0_2.index t 1 * 512 + 512
    rw [(at2 t).2]; dsimp only [t]; omega
end Blocks

variable (m : (ℓ : Loc nD τ sig) → Buf (Elt Ideal) ℓ) (ρ : Dev nD → PrngReg)

abbrev a0 (c : Dev nD) : FVec Ideal ⟨2, ![4096, 2048]⟩ .bf16 := m ((c : Thread nD τ).loc main_arg0)
abbrev a1 (c : Dev nD) : FVec Ideal ⟨3, ![2, 4096, 5632]⟩ .bf16 := m ((c : Thread nD τ).loc main_arg1)

/-- The result array of device `c`. -/
abbrev G (c : Dev nD) : Buf (Elt Ideal) ((c : Thread nD τ).loc main_v0) := fun i : S2048x11264.Idx => spec (a0 m c) (a1 m c) (i 0) (i 1)

/-- What one point computes, element by element. -/
theorem pay_apply (x0 : Vec Ideal S4096x1024 .bf16) (x1 : Vec Ideal S1x4096x512 .bf16) (x : Fin 1024) (y : Fin 512) :
    k0_pay1 (F := Ideal) x0 x1 (ix2 x y) = ∑ k : Fin 4096, (x0 (ix2 k x) * x1 (ix3 0 k y) : EReal) := by
  pointwise [k0_pay1]

theorem flushed2_eq (c : Dev nD) (t : Fin cfg0.N) :
    (dats m 0 c).flushed 2 t = ((cfg0.win 2).blk t).view.read (Elt Ideal) (G m c) := by
  rw [Value.flushed2]
  funext i
  obtain ⟨x, y, rfl⟩ := Step.ix2_surj i
  rw [oblk2]
  unfold out0_2
  rw [View.canon_unit_zero Step.hz, View.ld_unit_zero Step.hz, View.ld_unit_zero hz3]
  refine (pay_apply _ _ x y).trans ?_
  exact Finset.sum_congr rfl fun k _ => congrArg₂ (fun a b : EReal => a * b) (iblk0 m c t k x) (iblk1 m c t 0 k y)

/-- The run of the kernel: the result array is the product, the arguments are unchanged. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((dats m 0 c).arrAt_eq_of_cover 2 (G m c) (fun t _ => flushed2_eq m c t) cover2), (h c).2⟩)
    (Value.run_blocks m ρ)

section Reference
open Reference2Ideal.Read

/-- The two halves laid side by side, read at column `q`. -/
theorem halves (x1 : FVec Ideal ⟨3, ![2, 4096, 5632]⟩ .bf16) (k : Fin 4096) (q : Fin 11264) :
    (if h : q.val < 5632 then x1 (ix3 0 k ⟨q.val, h⟩) else x1 (ix3 1 k ⟨q.val - 5632, by omega⟩)) = x1 (ix3 ⟨q.val / 5632, by omega⟩ k ⟨q.val % 5632, by omega⟩) := by
  split
  · refine congrArg x1 (funext fun a => Fin.ext ?_)
    match a with
    | ⟨0, _⟩ => show 0 = q.val / 5632; omega
    | ⟨1, _⟩ => rfl
    | ⟨2, _⟩ => show q.val = q.val % 5632; omega
  · refine congrArg x1 (funext fun a => Fin.ext ?_)
    match a with
    | ⟨0, _⟩ => show 1 = q.val / 5632; omega
    | ⟨1, _⟩ => rfl
    | ⟨2, _⟩ => show q.val - 5632 = q.val % 5632; omega

/-- The reference's result, element by element. -/
theorem ref_at (x0 : FVec Ideal ⟨2, ![4096, 2048]⟩ .bf16) (x1 : FVec Ideal ⟨3, ![2, 4096, 5632]⟩ .bf16) (r : Fin 2048) (q : Fin 11264) :
    val_main_v13 (F := Ideal) x0 x1 (ix2 r q) = spec x0 x1 r q := by
  pointwise [val_main_v0, val_main_v1, val_main_v2, val_main_v3, val_main_v4, val_main_cst, val_main_v5, val_main_v6, val_main_v7, val_main_v8, val_main_v9, val_main_v10, val_main_v11, val_main_v12, val_main_v13]
  exact Finset.sum_congr rfl fun k _ => (mul_comm _ _).trans (congrArg (fun a : EReal => x0 (ix2 k r) * a) (halves x1 k q))
end Reference

theorem frame_kernel : quiescent_Kernel2 := fun m ρ _ => Kernel2.Gen.frame m ρ
theorem frame_kernelIdeal : quiescent_Kernel2Ideal := fun m ρ _ => Kernel2Ideal.Gen.frame m ρ
theorem frame_reference : quiescent_Reference2Ideal := fun m ρ _ =>
  (θ_run Reference2Ideal.defs _ _).mono (fun r h => ⟨fun c => (h c).2, sem_eq_zero_of_no_sems (by decide) r.2⟩)
    (Reference2Ideal.Value.run (F := Ideal) m ρ)

theorem algebraic : algebraic_Kernel2Ideal_Reference2Ideal := by
  intro m ρ m' ρ' _ hagree
  refine ⟨G m, run m ρ, ?_⟩
  refine (θ_run Reference2Ideal.defs _ _).mono (fun _ h c => ⟨(h c).1.trans ?_, (h c).2⟩) (Reference2Ideal.Value.run (F := Ideal) m' ρ')
  rw [(hagree c).1, (hagree c).2]
  funext i
  obtain ⟨r, q, rfl⟩ := Step.ix2_surj i
  exact ref_at (a0 m c) (a1 m c) r q

end P2
-- ==== Proof.P3.lean ====
module

public import proofs.«01_k».proof.Proof.Step
public import proofs.«01_k».proof.Proof.Gen.Kernel3.Frame
public import proofs.«01_k».proof.Proof.Gen.Kernel3Ideal.Value
public import proofs.«01_k».proof.Proof.Gen.Reference3Ideal.Read
public import proofs.«01_k».proof.Proof.Gen.Reference3Ideal.Run

@[expose] public section

set_option maxRecDepth 16384

noncomputable section

/-! # The claims about `gw_in`: the gradient of `w_in`, 2048 × 8192, a product over 4096 terms in 16 blocks of 1024 × 1024 -/

namespace Cert.P3

open Kernel3Ideal Kernel3Ideal.Gen Idealize.ShloMosaic Idealize.ShloMosaic.TcCoe Idealize.SL.Sem

/-- The product at row `r` and column `q`: the sum over the 4096 terms. -/
def spec (A : FVec Ideal ⟨2, ![4096, 2048]⟩ .bf16) (B : FVec Ideal ⟨2, ![4096, 8192]⟩ .bf16) (r : Fin 2048) (q : Fin 8192) : EReal := ∑ k : Fin 4096, A (ix2 k r) * B (ix2 k q)

section Blocks
variable {F : FTy → Type} [FloatOps F]
variable (m : (ℓ : Loc nD τ sig) → Buf (Elt F) ℓ)

theorem ltN (t : Fin cfg0.N) : t.val < 16 := lt_of_lt_of_eq t.isLt N_0

theorem at0 : ∀ t : Fin cfg0.N, win0_0.index t 0 = 0 ∧ win0_0.index t 1 = t.val / 8 :=
  (by decide +kernel : ∀ t : Fin grid0.N, win0_0.index t 0 = 0 ∧ win0_0.index t 1 = t.val / 8)

/-- Block `t` of the first operand, element by element. -/
theorem iblk0 (c : Dev nD) (t : Fin cfg0.N) (x : Fin 4096) (y : Fin 1024) :
    iblk m c 0 t (ix2 x y) = m ((c : Thread nD τ).loc main_arg0) (ix2 x ⟨t.val / 8 * 1024 + y.val, by have := ltN t; omega⟩) := by
  show V m c main_arg0 ((win0_0.rect t).idx (ix2 x y)) = _
  rw [V_main_arg0]
  refine congrArg _ (funext fun a => Fin.ext ?_)
  match a with
  | ⟨0, _⟩ => show win0_0.index t 0 * 4096 + 1 * x.val = x.val; rw [(at0 t).1]; have := ltN t; omega
  | ⟨1, _⟩ => show win0_0.index t 1 * 1024 + 1 * y.val = t.val / 8 * 1024 + y.val; rw [(at0 t).2]; have := ltN t; omega

theorem at1 : ∀ t : Fin cfg0.N, win0_1.index t 0 = 0 ∧ win0_1.index t 1 = t.val % 8 :=
  (by decide +kernel : ∀ t : Fin grid0.N, win0_1.index t 0 = 0 ∧ win0_1.index t 1 = t.val % 8)

/-- Block `t` of the second operand, element by element. -/
theorem iblk1 (c : Dev nD) (t : Fin cfg0.N) (x : Fin 4096) (y : Fin 1024) :
    iblk m c 1 t (ix2 x y) = m ((c : Thread nD τ).loc main_arg1) (ix2 x ⟨t.val % 8 * 1024 + y.val, by have := ltN t; omega⟩) := by
  show V m c main_arg1 ((win0_1.rect t).idx (ix2 x y)) = _
  rw [V_main_arg1]
  refine congrArg _ (funext fun a => Fin.ext ?_)
  match a with
  | ⟨0, _⟩ => show win0_1.index t 0 * 4096 + 1 * x.val = x.val; rw [(at1 t).1]; have := ltN t; omega
  | ⟨1, _⟩ => show win0_1.index t 1 * 1024 + 1 * y.val = t.val % 8 * 1024 + y.val; rw [(at1 t).2]; have := ltN t; omega

theorem at2 : ∀ t : Fin cfg0.N, win0_2.index t 0 = t.val / 8 ∧ win0_2.index t 1 = t.val % 8 :=
  (by decide +kernel : ∀ t : Fin grid0.N, win0_2.index t 0 = t.val / 8 ∧ win0_2.index t 1 = t.val % 8)

/-- The result array read through point `t`'s block. -/
theorem oblk2 (c : Dev nD) (G : Buf (Elt F) ((c : Thread nD τ).loc main_v0)) (t : Fin cfg0.N) (x : Fin 1024) (y : Fin 1024) :
    ((cfg0.win 2).blk t).view.read (Elt F) G (ix2 x y) = G (ix2 ⟨t.val / 8 * 1024 + x.val, by have := ltN t; omega⟩ ⟨t.val % 8 * 1024 + y.val, by have := ltN t; omega⟩) := by
  show G ((win0_2.rect t).idx (ix2 x y)) = _
  refine congrArg _ (funext fun a => Fin.ext ?_)
  match a with
  | ⟨0, _⟩ => show win0_2.index t 0 * 1024 + 1 * x.val = t.val / 8 * 1024 + x.val; rw [(at2 t).1]; have := ltN t; omega
  | ⟨1, _⟩ => show win0_2.index t 1 * 1024 + 1 * y.val = t.val % 8 * 1024 + y.val; rw [(at2 t).2]; have := ltN t; omega

/-- Every element of the result lies in the block of one point. -/
theorem cover2 (i : (⟨2, ![2048, 8192]⟩ : Shape).Idx) :
    ∃ t : Fin cfg0.N, (cfg0.win 2).flush t = true ∧ i ∈ ((cfg0.win 2).blk t).view.set := by
  have h0 : (i 0 : Nat) < 2048 := (i 0).isLt
  have h1 : (i 1 : Nat) < 8192 := (i 1).isLt
  have hN : cfg0.N = 16 := N_0
  let t : Fin cfg0.N := ⟨(i 0 : Nat) / 1024 * 8 + (i 1 : Nat) / 1024, by omega⟩
  refine ⟨t, flush0_2 _, ?_⟩
  show i ∈ ((View.whole main_v0).slice (win0_2.rect t)).set
  rw [View.set_slice_whole, Rect.mem_set_unit]
  intro a
  match a with
  | ⟨0, _⟩ =>
    show win0_2.index t 0 * 1024 ≤ (i 0 : Nat) ∧ (i 0 : Nat) < win0_2.index t 0 * 1024 + 1024
    rw [(at2 t).1]; dsimp only [t]; omega
  | ⟨1, _⟩ =>
    show win0_2.index t 1 * 1024 ≤ (i 1 : Nat) ∧ (i 1 : Nat) < win0_2.index t 1 * 1024 + 1024
    rw [(at2 t).2]; dsimp only [t]; omega
end Blocks

variable (m : (ℓ : Loc nD τ sig) → Buf (Elt Ideal) ℓ) (ρ : Dev nD → PrngReg)

abbrev a0 (c : Dev nD) : FVec Ideal ⟨2, ![4096, 2048]⟩ .bf16 := m ((c : Thread nD τ).loc main_arg0)
abbrev a1 (c : Dev nD) : FVec Ideal ⟨2, ![4096, 8192]⟩ .bf16 := m ((c : Thread nD τ).loc main_arg1)

/-- The result array of device `c`. -/
abbrev G (c : Dev nD) : Buf (Elt Ideal) ((c : Thread nD τ).loc main_v0) := fun i : S2048x8192.Idx => spec (a0 m c) (a1 m c) (i 0) (i 1)

/-- What one point computes, element by element. -/
theorem pay_apply (x0 : Vec Ideal S4096x1024 .bf16) (x1 : Vec Ideal S4096x1024 .bf16) (x : Fin 1024) (y : Fin 1024) :
    k0_pay1 (F := Ideal) x0 x1 (ix2 x y) = ∑ k : Fin 4096, (x0 (ix2 k x) * x1 (ix2 k y) : EReal) := by
  pointwise [k0_pay1]

theorem flushed2_eq (c : Dev nD) (t : Fin cfg0.N) :
    (dats m 0 c).flushed 2 t = ((cfg0.win 2).blk t).view.read (Elt Ideal) (G m c) := by
  rw [Value.flushed2]
  funext i
  obtain ⟨x, y, rfl⟩ := Step.ix2_surj i
  rw [oblk2]
  unfold out0_2
  rw [View.canon_unit_zero Step.hz, View.ld_unit_zero Step.hz, View.ld_unit_zero Step.hz]
  refine (pay_apply _ _ x y).trans ?_
  exact Finset.sum_congr rfl fun k _ => congrArg₂ (fun a b : EReal => a * b) (iblk0 m c t k x) (iblk1 m c t k y)

/-- The run of the kernel: the result array is the product, the arguments are unchanged. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((dats m 0 c).arrAt_eq_of_cover 2 (G m c) (fun t _ => flushed2_eq m c t) cover2), (h c).2⟩)
    (Value.run_blocks m ρ)

section Reference
open Reference3Ideal.Read

/-- The reference's result, element by element. -/
theorem ref_at (x0 : FVec Ideal ⟨2, ![4096, 2048]⟩ .bf16) (x1 : FVec Ideal ⟨2, ![4096, 8192]⟩ .bf16) (r : Fin 2048) (q : Fin 8192) :
    val_main_v8 (F := Ideal) x0 x1 (ix2 r q) = spec x0 x1 r q := by
  pointwise [val_main_cst, val_main_v0, val_main_v1, val_main_v2, val_main_v3, val_main_v4, val_main_v5, val_main_v6, val_main_v7, val_main_v8]
  exact Finset.sum_congr rfl fun k _ => mul_comm _ _
end Reference

theorem frame_kernel : quiescent_Kernel3 := fun m ρ _ => Kernel3.Gen.frame m ρ
theorem frame_kernelIdeal : quiescent_Kernel3Ideal := fun m ρ _ => Kernel3Ideal.Gen.frame m ρ
theorem frame_reference : quiescent_Reference3Ideal := fun m ρ _ =>
  (θ_run Reference3Ideal.defs _ _).mono (fun r h => ⟨fun c => (h c).2, sem_eq_zero_of_no_sems (by decide) r.2⟩)
    (Reference3Ideal.Value.run (F := Ideal) m ρ)

theorem algebraic : algebraic_Kernel3Ideal_Reference3Ideal := by
  intro m ρ m' ρ' _ hagree
  refine ⟨G m, run m ρ, ?_⟩
  refine (θ_run Reference3Ideal.defs _ _).mono (fun _ h c => ⟨(h c).1.trans ?_, (h c).2⟩) (Reference3Ideal.Value.run (F := Ideal) m' ρ')
  rw [(hagree c).1, (hagree c).2]
  funext i
  obtain ⟨r, q, rfl⟩ := Step.ix2_surj i
  exact ref_at (a0 m c) (a1 m c) r q

end P3
-- ==== Proof.P4.lean ====
module

public import proofs.«01_k».proof.Proof.Step
public import proofs.«01_k».proof.Proof.Gen.Kernel4.Frame
public import proofs.«01_k».proof.Proof.Gen.Kernel4Ideal.Value
public import proofs.«01_k».proof.Proof.Gen.Reference4Ideal.Read
public import proofs.«01_k».proof.Proof.Gen.Reference4Ideal.Run

@[expose] public section

set_option maxRecDepth 16384

noncomputable section

/-! # The claims about `proj`: the projection of the tokens by `w_in`, 4096 × 8192, a product over 2048 terms in 32 blocks of 1024 × 1024 -/

namespace Cert.P4

open Kernel4Ideal Kernel4Ideal.Gen Idealize.ShloMosaic Idealize.ShloMosaic.TcCoe Idealize.SL.Sem

/-- The product at row `r` and column `q`: the sum over the 2048 terms. -/
def spec (A : FVec Ideal ⟨2, ![4096, 2048]⟩ .bf16) (B : FVec Ideal ⟨2, ![2048, 8192]⟩ .bf16) (r : Fin 4096) (q : Fin 8192) : EReal := ∑ k : Fin 2048, A (ix2 r k) * B (ix2 k q)

section Blocks
variable {F : FTy → Type} [FloatOps F]
variable (m : (ℓ : Loc nD τ sig) → Buf (Elt F) ℓ)

theorem ltN (t : Fin cfg0.N) : t.val < 32 := lt_of_lt_of_eq t.isLt N_0

theorem at0 : ∀ t : Fin cfg0.N, win0_0.index t 0 = t.val / 8 ∧ win0_0.index t 1 = 0 :=
  (by decide +kernel : ∀ t : Fin grid0.N, win0_0.index t 0 = t.val / 8 ∧ win0_0.index t 1 = 0)

/-- Block `t` of the first operand, element by element. -/
theorem iblk0 (c : Dev nD) (t : Fin cfg0.N) (x : Fin 1024) (y : Fin 2048) :
    iblk m c 0 t (ix2 x y) = m ((c : Thread nD τ).loc main_arg0) (ix2 ⟨t.val / 8 * 1024 + x.val, by have := ltN t; omega⟩ y) := by
  show V m c main_arg0 ((win0_0.rect t).idx (ix2 x y)) = _
  rw [V_main_arg0]
  refine congrArg _ (funext fun a => Fin.ext ?_)
  match a with
  | ⟨0, _⟩ => show win0_0.index t 0 * 1024 + 1 * x.val = t.val / 8 * 1024 + x.val; rw [(at0 t).1]; have := ltN t; omega
  | ⟨1, _⟩ => show win0_0.index t 1 * 2048 + 1 * y.val = y.val; rw [(at0 t).2]; have := ltN t; omega

theorem at1 : ∀ t : Fin cfg0.N, win0_1.index t 0 = 0 ∧ win0_1.index t 1 = t.val % 8 :=
  (by decide +kernel : ∀ t : Fin grid0.N, win0_1.index t 0 = 0 ∧ win0_1.index t 1 = t.val % 8)

/-- Block `t` of the second operand, element by element. -/
theorem iblk1 (c : Dev nD) (t : Fin cfg0.N) (x : Fin 2048) (y : Fin 1024) :
    iblk m c 1 t (ix2 x y) = m ((c : Thread nD τ).loc main_arg1) (ix2 x ⟨t.val % 8 * 1024 + y.val, by have := ltN t; omega⟩) := by
  show V m c main_arg1 ((win0_1.rect t).idx (ix2 x y)) = _
  rw [V_main_arg1]
  refine congrArg _ (funext fun a => Fin.ext ?_)
  match a with
  | ⟨0, _⟩ => show win0_1.index t 0 * 2048 + 1 * x.val = x.val; rw [(at1 t).1]; have := ltN t; omega
  | ⟨1, _⟩ => show win0_1.index t 1 * 1024 + 1 * y.val = t.val % 8 * 1024 + y.val; rw [(at1 t).2]; have := ltN t; omega

theorem at2 : ∀ t : Fin cfg0.N, win0_2.index t 0 = t.val / 8 ∧ win0_2.index t 1 = t.val % 8 :=
  (by decide +kernel : ∀ t : Fin grid0.N, win0_2.index t 0 = t.val / 8 ∧ win0_2.index t 1 = t.val % 8)

/-- The result array read through point `t`'s block. -/
theorem oblk2 (c : Dev nD) (G : Buf (Elt F) ((c : Thread nD τ).loc main_v0)) (t : Fin cfg0.N) (x : Fin 1024) (y : Fin 1024) :
    ((cfg0.win 2).blk t).view.read (Elt F) G (ix2 x y) = G (ix2 ⟨t.val / 8 * 1024 + x.val, by have := ltN t; omega⟩ ⟨t.val % 8 * 1024 + y.val, by have := ltN t; omega⟩) := by
  show G ((win0_2.rect t).idx (ix2 x y)) = _
  refine congrArg _ (funext fun a => Fin.ext ?_)
  match a with
  | ⟨0, _⟩ => show win0_2.index t 0 * 1024 + 1 * x.val = t.val / 8 * 1024 + x.val; rw [(at2 t).1]; have := ltN t; omega
  | ⟨1, _⟩ => show win0_2.index t 1 * 1024 + 1 * y.val = t.val % 8 * 1024 + y.val; rw [(at2 t).2]; have := ltN t; omega

/-- Every element of the result lies in the block of one point. -/
theorem cover2 (i : (⟨2, ![4096, 8192]⟩ : Shape).Idx) :
    ∃ t : Fin cfg0.N, (cfg0.win 2).flush t = true ∧ i ∈ ((cfg0.win 2).blk t).view.set := by
  have h0 : (i 0 : Nat) < 4096 := (i 0).isLt
  have h1 : (i 1 : Nat) < 8192 := (i 1).isLt
  have hN : cfg0.N = 32 := N_0
  let t : Fin cfg0.N := ⟨(i 0 : Nat) / 1024 * 8 + (i 1 : Nat) / 1024, by omega⟩
  refine ⟨t, flush0_2 _, ?_⟩
  show i ∈ ((View.whole main_v0).slice (win0_2.rect t)).set
  rw [View.set_slice_whole, Rect.mem_set_unit]
  intro a
  match a with
  | ⟨0, _⟩ =>
    show win0_2.index t 0 * 1024 ≤ (i 0 : Nat) ∧ (i 0 : Nat) < win0_2.index t 0 * 1024 + 1024
    rw [(at2 t).1]; dsimp only [t]; omega
  | ⟨1, _⟩ =>
    show win0_2.index t 1 * 1024 ≤ (i 1 : Nat) ∧ (i 1 : Nat) < win0_2.index t 1 * 1024 + 1024
    rw [(at2 t).2]; dsimp only [t]; omega
end Blocks

variable (m : (ℓ : Loc nD τ sig) → Buf (Elt Ideal) ℓ) (ρ : Dev nD → PrngReg)

abbrev a0 (c : Dev nD) : FVec Ideal ⟨2, ![4096, 2048]⟩ .bf16 := m ((c : Thread nD τ).loc main_arg0)
abbrev a1 (c : Dev nD) : FVec Ideal ⟨2, ![2048, 8192]⟩ .bf16 := m ((c : Thread nD τ).loc main_arg1)

/-- The result array of device `c`. -/
abbrev G (c : Dev nD) : Buf (Elt Ideal) ((c : Thread nD τ).loc main_v0) := fun i : S4096x8192.Idx => spec (a0 m c) (a1 m c) (i 0) (i 1)

/-- What one point computes, element by element. -/
theorem pay_apply (x0 : Vec Ideal S1024x2048 .bf16) (x1 : Vec Ideal S2048x1024 .bf16) (x : Fin 1024) (y : Fin 1024) :
    k0_pay1 (F := Ideal) x0 x1 (ix2 x y) = ∑ k : Fin 2048, (x0 (ix2 x k) * x1 (ix2 k y) : EReal) := by
  pointwise [k0_pay1]

theorem flushed2_eq (c : Dev nD) (t : Fin cfg0.N) :
    (dats m 0 c).flushed 2 t = ((cfg0.win 2).blk t).view.read (Elt Ideal) (G m c) := by
  rw [Value.flushed2]
  funext i
  obtain ⟨x, y, rfl⟩ := Step.ix2_surj i
  rw [oblk2]
  unfold out0_2
  rw [View.canon_unit_zero Step.hz, View.ld_unit_zero Step.hz, View.ld_unit_zero Step.hz]
  refine (pay_apply _ _ x y).trans ?_
  exact Finset.sum_congr rfl fun k _ => congrArg₂ (fun a b : EReal => a * b) (iblk0 m c t x k) (iblk1 m c t k y)

/-- The run of the kernel: the result array is the product, the arguments are unchanged. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((dats m 0 c).arrAt_eq_of_cover 2 (G m c) (fun t _ => flushed2_eq m c t) cover2), (h c).2⟩)
    (Value.run_blocks m ρ)

section Reference
open Reference4Ideal.Read

/-- The reference's result, element by element. -/
theorem ref_at (x0 : FVec Ideal ⟨2, ![4096, 2048]⟩ .bf16) (x1 : FVec Ideal ⟨2, ![2048, 8192]⟩ .bf16) (r : Fin 4096) (q : Fin 8192) :
    val_main_v3 (F := Ideal) x0 x1 (ix2 r q) = spec x0 x1 r q := by
  pointwise [val_main_v0, val_main_v1, val_main_v2, val_main_v3]
  rfl
end Reference

theorem frame_kernel : quiescent_Kernel4 := fun m ρ _ => Kernel4.Gen.frame m ρ
theorem frame_kernelIdeal : quiescent_Kernel4Ideal := fun m ρ _ => Kernel4Ideal.Gen.frame m ρ
theorem frame_reference : quiescent_Reference4Ideal := fun m ρ _ =>
  (θ_run Reference4Ideal.defs _ _).mono (fun r h => ⟨fun c => (h c).2, sem_eq_zero_of_no_sems (by decide) r.2⟩)
    (Reference4Ideal.Value.run (F := Ideal) m ρ)

theorem algebraic : algebraic_Kernel4Ideal_Reference4Ideal := by
  intro m ρ m' ρ' _ hagree
  refine ⟨G m, run m ρ, ?_⟩
  refine (θ_run Reference4Ideal.defs _ _).mono (fun _ h c => ⟨(h c).1.trans ?_, (h c).2⟩) (Reference4Ideal.Value.run (F := Ideal) m' ρ')
  rw [(hagree c).1, (hagree c).2]
  funext i
  obtain ⟨r, q, rfl⟩ := Step.ix2_surj i
  exact ref_at (a0 m c) (a1 m c) r q

end P4
-- ==== Proof.P5.lean ====
module

public import proofs.«01_k».proof.Proof.Step
public import proofs.«01_k».proof.Proof.Gen.Kernel5.Frame
public import proofs.«01_k».proof.Proof.Gen.Kernel5Ideal.Value
public import proofs.«01_k».proof.Proof.Gen.Reference5Ideal.Read
public import proofs.«01_k».proof.Proof.Gen.Reference5Ideal.Run

@[expose] public section

set_option maxRecDepth 16384

noncomputable section

/-! # The claims about `gw_down`: the gradient of `w_down`, 5632 × 2048, a product over 4096 terms in 16 blocks of 1408 × 512 -/

namespace Cert.P5

open Kernel5Ideal Kernel5Ideal.Gen Idealize.ShloMosaic Idealize.ShloMosaic.TcCoe Idealize.SL.Sem

/-- The product at row `r` and column `q`: the sum over the 4096 terms. -/
def spec (A : FVec Ideal ⟨2, ![4096, 5632]⟩ .bf16) (B : FVec Ideal ⟨2, ![4096, 2048]⟩ .bf16) (r : Fin 5632) (q : Fin 2048) : EReal := ∑ k : Fin 4096, A (ix2 k r) * B (ix2 k q)

section Blocks
variable {F : FTy → Type} [FloatOps F]
variable (m : (ℓ : Loc nD τ sig) → Buf (Elt F) ℓ)

theorem ltN (t : Fin cfg0.N) : t.val < 16 := lt_of_lt_of_eq t.isLt N_0

theorem at0 : ∀ t : Fin cfg0.N, win0_0.index t 0 = 0 ∧ win0_0.index t 1 = t.val / 4 :=
  (by decide +kernel : ∀ t : Fin grid0.N, win0_0.index t 0 = 0 ∧ win0_0.index t 1 = t.val / 4)

/-- Block `t` of the first operand, element by element. -/
theorem iblk0 (c : Dev nD) (t : Fin cfg0.N) (x : Fin 4096) (y : Fin 1408) :
    iblk m c 0 t (ix2 x y) = m ((c : Thread nD τ).loc main_arg0) (ix2 x ⟨t.val / 4 * 1408 + y.val, by have := ltN t; omega⟩) := by
  show V m c main_arg0 ((win0_0.rect t).idx (ix2 x y)) = _
  rw [V_main_arg0]
  refine congrArg _ (funext fun a => Fin.ext ?_)
  match a with
  | ⟨0, _⟩ => show win0_0.index t 0 * 4096 + 1 * x.val = x.val; rw [(at0 t).1]; have := ltN t; omega
  | ⟨1, _⟩ => show win0_0.index t 1 * 1408 + 1 * y.val = t.val / 4 * 1408 + y.val; rw [(at0 t).2]; have := ltN t; omega

theorem at1 : ∀ t : Fin cfg0.N, win0_1.index t 0 = 0 ∧ win0_1.index t 1 = t.val % 4 :=
  (by decide +kernel : ∀ t : Fin grid0.N, win0_1.index t 0 = 0 ∧ win0_1.index t 1 = t.val % 4)

/-- Block `t` of the second operand, element by element. -/
theorem iblk1 (c : Dev nD) (t : Fin cfg0.N) (x : Fin 4096) (y : Fin 512) :
    iblk m c 1 t (ix2 x y) = m ((c : Thread nD τ).loc main_arg1) (ix2 x ⟨t.val % 4 * 512 + y.val, by have := ltN t; omega⟩) := by
  show V m c main_arg1 ((win0_1.rect t).idx (ix2 x y)) = _
  rw [V_main_arg1]
  refine congrArg _ (funext fun a => Fin.ext ?_)
  match a with
  | ⟨0, _⟩ => show win0_1.index t 0 * 4096 + 1 * x.val = x.val; rw [(at1 t).1]; have := ltN t; omega
  | ⟨1, _⟩ => show win0_1.index t 1 * 512 + 1 * y.val = t.val % 4 * 512 + y.val; rw [(at1 t).2]; have := ltN t; omega

theorem at2 : ∀ t : Fin cfg0.N, win0_2.index t 0 = t.val / 4 ∧ win0_2.index t 1 = t.val % 4 :=
  (by decide +kernel : ∀ t : Fin grid0.N, win0_2.index t 0 = t.val / 4 ∧ win0_2.index t 1 = t.val % 4)

/-- The result array read through point `t`'s block. -/
theorem oblk2 (c : Dev nD) (G : Buf (Elt F) ((c : Thread nD τ).loc main_v0)) (t : Fin cfg0.N) (x : Fin 1408) (y : Fin 512) :
    ((cfg0.win 2).blk t).view.read (Elt F) G (ix2 x y) = G (ix2 ⟨t.val / 4 * 1408 + x.val, by have := ltN t; omega⟩ ⟨t.val % 4 * 512 + y.val, by have := ltN t; omega⟩) := by
  show G ((win0_2.rect t).idx (ix2 x y)) = _
  refine congrArg _ (funext fun a => Fin.ext ?_)
  match a with
  | ⟨0, _⟩ => show win0_2.index t 0 * 1408 + 1 * x.val = t.val / 4 * 1408 + x.val; rw [(at2 t).1]; have := ltN t; omega
  | ⟨1, _⟩ => show win0_2.index t 1 * 512 + 1 * y.val = t.val % 4 * 512 + y.val; rw [(at2 t).2]; have := ltN t; omega

/-- Every element of the result lies in the block of one point. -/
theorem cover2 (i : (⟨2, ![5632, 2048]⟩ : Shape).Idx) :
    ∃ t : Fin cfg0.N, (cfg0.win 2).flush t = true ∧ i ∈ ((cfg0.win 2).blk t).view.set := by
  have h0 : (i 0 : Nat) < 5632 := (i 0).isLt
  have h1 : (i 1 : Nat) < 2048 := (i 1).isLt
  have hN : cfg0.N = 16 := N_0
  let t : Fin cfg0.N := ⟨(i 0 : Nat) / 1408 * 4 + (i 1 : Nat) / 512, by omega⟩
  refine ⟨t, flush0_2 _, ?_⟩
  show i ∈ ((View.whole main_v0).slice (win0_2.rect t)).set
  rw [View.set_slice_whole, Rect.mem_set_unit]
  intro a
  match a with
  | ⟨0, _⟩ =>
    show win0_2.index t 0 * 1408 ≤ (i 0 : Nat) ∧ (i 0 : Nat) < win0_2.index t 0 * 1408 + 1408
    rw [(at2 t).1]; dsimp only [t]; omega
  | ⟨1, _⟩ =>
    show win0_2.index t 1 * 512 ≤ (i 1 : Nat) ∧ (i 1 : Nat) < win0_2.index t 1 * 512 + 512
    rw [(at2 t).2]; dsimp only [t]; omega
end Blocks

variable (m : (ℓ : Loc nD τ sig) → Buf (Elt Ideal) ℓ) (ρ : Dev nD → PrngReg)

abbrev a0 (c : Dev nD) : FVec Ideal ⟨2, ![4096, 5632]⟩ .bf16 := m ((c : Thread nD τ).loc main_arg0)
abbrev a1 (c : Dev nD) : FVec Ideal ⟨2, ![4096, 2048]⟩ .bf16 := m ((c : Thread nD τ).loc main_arg1)

/-- The result array of device `c`. -/
abbrev G (c : Dev nD) : Buf (Elt Ideal) ((c : Thread nD τ).loc main_v0) := fun i : S5632x2048.Idx => spec (a0 m c) (a1 m c) (i 0) (i 1)

/-- What one point computes, element by element. -/
theorem pay_apply (x0 : Vec Ideal S4096x1408 .bf16) (x1 : Vec Ideal S4096x512 .bf16) (x : Fin 1408) (y : Fin 512) :
    k0_pay1 (F := Ideal) x0 x1 (ix2 x y) = ∑ k : Fin 4096, (x0 (ix2 k x) * x1 (ix2 k y) : EReal) := by
  pointwise [k0_pay1]

theorem flushed2_eq (c : Dev nD) (t : Fin cfg0.N) :
    (dats m 0 c).flushed 2 t = ((cfg0.win 2).blk t).view.read (Elt Ideal) (G m c) := by
  rw [Value.flushed2]
  funext i
  obtain ⟨x, y, rfl⟩ := Step.ix2_surj i
  rw [oblk2]
  unfold out0_2
  rw [View.canon_unit_zero Step.hz, View.ld_unit_zero Step.hz, View.ld_unit_zero Step.hz]
  refine (pay_apply _ _ x y).trans ?_
  exact Finset.sum_congr rfl fun k _ => congrArg₂ (fun a b : EReal => a * b) (iblk0 m c t k x) (iblk1 m c t k y)

/-- The run of the kernel: the result array is the product, the arguments are unchanged. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((dats m 0 c).arrAt_eq_of_cover 2 (G m c) (fun t _ => flushed2_eq m c t) cover2), (h c).2⟩)
    (Value.run_blocks m ρ)

section Reference
open Reference5Ideal.Read

/-- The reference's result, element by element. -/
theorem ref_at (x0 : FVec Ideal ⟨2, ![4096, 5632]⟩ .bf16) (x1 : FVec Ideal ⟨2, ![4096, 2048]⟩ .bf16) (r : Fin 5632) (q : Fin 2048) :
    val_main_v8 (F := Ideal) x0 x1 (ix2 r q) = spec x0 x1 r q := by
  pointwise [val_main_cst, val_main_v0, val_main_v1, val_main_v2, val_main_v3, val_main_v4, val_main_v5, val_main_v6, val_main_v7, val_main_v8]
  exact Finset.sum_congr rfl fun k _ => mul_comm _ _
end Reference

theorem frame_kernel : quiescent_Kernel5 := fun m ρ _ => Kernel5.Gen.frame m ρ
theorem frame_kernelIdeal : quiescent_Kernel5Ideal := fun m ρ _ => Kernel5Ideal.Gen.frame m ρ
theorem frame_reference : quiescent_Reference5Ideal := fun m ρ _ =>
  (θ_run Reference5Ideal.defs _ _).mono (fun r h => ⟨fun c => (h c).2, sem_eq_zero_of_no_sems (by decide) r.2⟩)
    (Reference5Ideal.Value.run (F := Ideal) m ρ)

theorem algebraic : algebraic_Kernel5Ideal_Reference5Ideal := by
  intro m ρ m' ρ' _ hagree
  refine ⟨G m, run m ρ, ?_⟩
  refine (θ_run Reference5Ideal.defs _ _).mono (fun _ h c => ⟨(h c).1.trans ?_, (h c).2⟩) (Reference5Ideal.Value.run (F := Ideal) m' ρ')
  rw [(hagree c).1, (hagree c).2]
  funext i
  obtain ⟨r, q, rfl⟩ := Step.ix2_surj i
  exact ref_at (a0 m c) (a1 m c) r q

end P5
-- ==== Proof.P6.lean ====
module

public import proofs.«01_k».proof.Proof.Step
public import proofs.«01_k».proof.Proof.Gen.Kernel6.Frame
public import proofs.«01_k».proof.Proof.Gen.Kernel6Ideal.Value
public import proofs.«01_k».proof.Proof.Gen.Reference6Ideal.Read
public import proofs.«01_k».proof.Proof.Gen.Reference6Ideal.Run

@[expose] public section

set_option maxRecDepth 16384

noncomputable section

/-! # The claims about `gw_o`: the gradient of `w_o`, 2048 × 2048, a product over 4096 terms in 4 blocks of 1024 × 1024 -/

namespace Cert.P6

open Kernel6Ideal Kernel6Ideal.Gen Idealize.ShloMosaic Idealize.ShloMosaic.TcCoe Idealize.SL.Sem

/-- The product at row `r` and column `q`: the sum over the 4096 terms. -/
def spec (A : FVec Ideal ⟨2, ![4096, 2048]⟩ .bf16) (B : FVec Ideal ⟨2, ![4096, 2048]⟩ .bf16) (r : Fin 2048) (q : Fin 2048) : EReal := ∑ k : Fin 4096, A (ix2 k r) * B (ix2 k q)

section Blocks
variable {F : FTy → Type} [FloatOps F]
variable (m : (ℓ : Loc nD τ sig) → Buf (Elt F) ℓ)

theorem ltN (t : Fin cfg0.N) : t.val < 4 := lt_of_lt_of_eq t.isLt N_0

theorem at0 : ∀ t : Fin cfg0.N, win0_0.index t 0 = 0 ∧ win0_0.index t 1 = t.val / 2 :=
  (by decide +kernel : ∀ t : Fin grid0.N, win0_0.index t 0 = 0 ∧ win0_0.index t 1 = t.val / 2)

/-- Block `t` of the first operand, element by element. -/
theorem iblk0 (c : Dev nD) (t : Fin cfg0.N) (x : Fin 4096) (y : Fin 1024) :
    iblk m c 0 t (ix2 x y) = m ((c : Thread nD τ).loc main_arg0) (ix2 x ⟨t.val / 2 * 1024 + y.val, by have := ltN t; omega⟩) := by
  show V m c main_arg0 ((win0_0.rect t).idx (ix2 x y)) = _
  rw [V_main_arg0]
  refine congrArg _ (funext fun a => Fin.ext ?_)
  match a with
  | ⟨0, _⟩ => show win0_0.index t 0 * 4096 + 1 * x.val = x.val; rw [(at0 t).1]; have := ltN t; omega
  | ⟨1, _⟩ => show win0_0.index t 1 * 1024 + 1 * y.val = t.val / 2 * 1024 + y.val; rw [(at0 t).2]; have := ltN t; omega

theorem at1 : ∀ t : Fin cfg0.N, win0_1.index t 0 = 0 ∧ win0_1.index t 1 = t.val % 2 :=
  (by decide +kernel : ∀ t : Fin grid0.N, win0_1.index t 0 = 0 ∧ win0_1.index t 1 = t.val % 2)

/-- Block `t` of the second operand, element by element. -/
theorem iblk1 (c : Dev nD) (t : Fin cfg0.N) (x : Fin 4096) (y : Fin 1024) :
    iblk m c 1 t (ix2 x y) = m ((c : Thread nD τ).loc main_arg1) (ix2 x ⟨t.val % 2 * 1024 + y.val, by have := ltN t; omega⟩) := by
  show V m c main_arg1 ((win0_1.rect t).idx (ix2 x y)) = _
  rw [V_main_arg1]
  refine congrArg _ (funext fun a => Fin.ext ?_)
  match a with
  | ⟨0, _⟩ => show win0_1.index t 0 * 4096 + 1 * x.val = x.val; rw [(at1 t).1]; have := ltN t; omega
  | ⟨1, _⟩ => show win0_1.index t 1 * 1024 + 1 * y.val = t.val % 2 * 1024 + y.val; rw [(at1 t).2]; have := ltN t; omega

theorem at2 : ∀ t : Fin cfg0.N, win0_2.index t 0 = t.val / 2 ∧ win0_2.index t 1 = t.val % 2 :=
  (by decide +kernel : ∀ t : Fin grid0.N, win0_2.index t 0 = t.val / 2 ∧ win0_2.index t 1 = t.val % 2)

/-- The result array read through point `t`'s block. -/
theorem oblk2 (c : Dev nD) (G : Buf (Elt F) ((c : Thread nD τ).loc main_v0)) (t : Fin cfg0.N) (x : Fin 1024) (y : Fin 1024) :
    ((cfg0.win 2).blk t).view.read (Elt F) G (ix2 x y) = G (ix2 ⟨t.val / 2 * 1024 + x.val, by have := ltN t; omega⟩ ⟨t.val % 2 * 1024 + y.val, by have := ltN t; omega⟩) := by
  show G ((win0_2.rect t).idx (ix2 x y)) = _
  refine congrArg _ (funext fun a => Fin.ext ?_)
  match a with
  | ⟨0, _⟩ => show win0_2.index t 0 * 1024 + 1 * x.val = t.val / 2 * 1024 + x.val; rw [(at2 t).1]; have := ltN t; omega
  | ⟨1, _⟩ => show win0_2.index t 1 * 1024 + 1 * y.val = t.val % 2 * 1024 + y.val; rw [(at2 t).2]; have := ltN t; omega

/-- Every element of the result lies in the block of one point. -/
theorem cover2 (i : (⟨2, ![2048, 2048]⟩ : Shape).Idx) :
    ∃ t : Fin cfg0.N, (cfg0.win 2).flush t = true ∧ i ∈ ((cfg0.win 2).blk t).view.set := by
  have h0 : (i 0 : Nat) < 2048 := (i 0).isLt
  have h1 : (i 1 : Nat) < 2048 := (i 1).isLt
  have hN : cfg0.N = 4 := N_0
  let t : Fin cfg0.N := ⟨(i 0 : Nat) / 1024 * 2 + (i 1 : Nat) / 1024, by omega⟩
  refine ⟨t, flush0_2 _, ?_⟩
  show i ∈ ((View.whole main_v0).slice (win0_2.rect t)).set
  rw [View.set_slice_whole, Rect.mem_set_unit]
  intro a
  match a with
  | ⟨0, _⟩ =>
    show win0_2.index t 0 * 1024 ≤ (i 0 : Nat) ∧ (i 0 : Nat) < win0_2.index t 0 * 1024 + 1024
    rw [(at2 t).1]; dsimp only [t]; omega
  | ⟨1, _⟩ =>
    show win0_2.index t 1 * 1024 ≤ (i 1 : Nat) ∧ (i 1 : Nat) < win0_2.index t 1 * 1024 + 1024
    rw [(at2 t).2]; dsimp only [t]; omega
end Blocks

variable (m : (ℓ : Loc nD τ sig) → Buf (Elt Ideal) ℓ) (ρ : Dev nD → PrngReg)

abbrev a0 (c : Dev nD) : FVec Ideal ⟨2, ![4096, 2048]⟩ .bf16 := m ((c : Thread nD τ).loc main_arg0)
abbrev a1 (c : Dev nD) : FVec Ideal ⟨2, ![4096, 2048]⟩ .bf16 := m ((c : Thread nD τ).loc main_arg1)

/-- The result array of device `c`. -/
abbrev G (c : Dev nD) : Buf (Elt Ideal) ((c : Thread nD τ).loc main_v0) := fun i : S2048x2048.Idx => spec (a0 m c) (a1 m c) (i 0) (i 1)

/-- What one point computes, element by element. -/
theorem pay_apply (x0 : Vec Ideal S4096x1024 .bf16) (x1 : Vec Ideal S4096x1024 .bf16) (x : Fin 1024) (y : Fin 1024) :
    k0_pay1 (F := Ideal) x0 x1 (ix2 x y) = ∑ k : Fin 4096, (x0 (ix2 k x) * x1 (ix2 k y) : EReal) := by
  pointwise [k0_pay1]

theorem flushed2_eq (c : Dev nD) (t : Fin cfg0.N) :
    (dats m 0 c).flushed 2 t = ((cfg0.win 2).blk t).view.read (Elt Ideal) (G m c) := by
  rw [Value.flushed2]
  funext i
  obtain ⟨x, y, rfl⟩ := Step.ix2_surj i
  rw [oblk2]
  unfold out0_2
  rw [View.canon_unit_zero Step.hz, View.ld_unit_zero Step.hz, View.ld_unit_zero Step.hz]
  refine (pay_apply _ _ x y).trans ?_
  exact Finset.sum_congr rfl fun k _ => congrArg₂ (fun a b : EReal => a * b) (iblk0 m c t k x) (iblk1 m c t k y)

/-- The run of the kernel: the result array is the product, the arguments are unchanged. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((dats m 0 c).arrAt_eq_of_cover 2 (G m c) (fun t _ => flushed2_eq m c t) cover2), (h c).2⟩)
    (Value.run_blocks m ρ)

section Reference
open Reference6Ideal.Read

/-- The reference's result, element by element. -/
theorem ref_at (x0 : FVec Ideal ⟨2, ![4096, 2048]⟩ .bf16) (x1 : FVec Ideal ⟨2, ![4096, 2048]⟩ .bf16) (r : Fin 2048) (q : Fin 2048) :
    val_main_v8 (F := Ideal) x0 x1 (ix2 r q) = spec x0 x1 r q := by
  pointwise [val_main_cst, val_main_v0, val_main_v1, val_main_v2, val_main_v3, val_main_v4, val_main_v5, val_main_v6, val_main_v7, val_main_v8]
  exact Finset.sum_congr rfl fun k _ => mul_comm _ _
end Reference

theorem frame_kernel : quiescent_Kernel6 := fun m ρ _ => Kernel6.Gen.frame m ρ
theorem frame_kernelIdeal : quiescent_Kernel6Ideal := fun m ρ _ => Kernel6Ideal.Gen.frame m ρ
theorem frame_reference : quiescent_Reference6Ideal := fun m ρ _ =>
  (θ_run Reference6Ideal.defs _ _).mono (fun r h => ⟨fun c => (h c).2, sem_eq_zero_of_no_sems (by decide) r.2⟩)
    (Reference6Ideal.Value.run (F := Ideal) m ρ)

theorem algebraic : algebraic_Kernel6Ideal_Reference6Ideal := by
  intro m ρ m' ρ' _ hagree
  refine ⟨G m, run m ρ, ?_⟩
  refine (θ_run Reference6Ideal.defs _ _).mono (fun _ h c => ⟨(h c).1.trans ?_, (h c).2⟩) (Reference6Ideal.Value.run (F := Ideal) m' ρ')
  rw [(hagree c).1, (hagree c).2]
  funext i
  obtain ⟨r, q, rfl⟩ := Step.ix2_surj i
  exact ref_at (a0 m c) (a1 m c) r q

end P6
-- ==== Proof.P7.lean ====
module

public import proofs.«01_k».proof.Proof.Step
public import proofs.«01_k».proof.Proof.Gen.Kernel7.Frame
public import proofs.«01_k».proof.Proof.Gen.Kernel7Ideal.Value
public import proofs.«01_k».proof.Proof.Gen.Reference7Ideal.Read
public import proofs.«01_k».proof.Proof.Gen.Reference7Ideal.Run

@[expose] public section

set_option maxRecDepth 16384

noncomputable section

/-! # The claims about `gw_conv_out`: the gradient of `w_conv_out`, 1024 × 2048, a product over 4096 terms in 2 blocks of 1024 × 1024 -/

namespace Cert.P7

open Kernel7Ideal Kernel7Ideal.Gen Idealize.ShloMosaic Idealize.ShloMosaic.TcCoe Idealize.SL.Sem

/-- The product at row `r` and column `q`: the sum over the 4096 terms. -/
def spec (A : FVec Ideal ⟨2, ![4096, 1024]⟩ .bf16) (B : FVec Ideal ⟨2, ![4096, 2048]⟩ .bf16) (r : Fin 1024) (q : Fin 2048) : EReal := ∑ k : Fin 4096, A (ix2 k r) * B (ix2 k q)

section Blocks
variable {F : FTy → Type} [FloatOps F]
variable (m : (ℓ : Loc nD τ sig) → Buf (Elt F) ℓ)

theorem ltN (t : Fin cfg0.N) : t.val < 2 := lt_of_lt_of_eq t.isLt N_0

theorem at0 : ∀ t : Fin cfg0.N, win0_0.index t 0 = 0 ∧ win0_0.index t 1 = t.val / 2 :=
  (by decide +kernel : ∀ t : Fin grid0.N, win0_0.index t 0 = 0 ∧ win0_0.index t 1 = t.val / 2)

/-- Block `t` of the first operand, element by element. -/
theorem iblk0 (c : Dev nD) (t : Fin cfg0.N) (x : Fin 4096) (y : Fin 1024) :
    iblk m c 0 t (ix2 x y) = m ((c : Thread nD τ).loc main_arg0) (ix2 x y) := by
  show V m c main_arg0 ((win0_0.rect t).idx (ix2 x y)) = _
  rw [V_main_arg0]
  refine congrArg _ (funext fun a => Fin.ext ?_)
  match a with
  | ⟨0, _⟩ => show win0_0.index t 0 * 4096 + 1 * x.val = x.val; rw [(at0 t).1]; have := ltN t; omega
  | ⟨1, _⟩ => show win0_0.index t 1 * 1024 + 1 * y.val = y.val; rw [(at0 t).2]; have := ltN t; omega

theorem at1 : ∀ t : Fin cfg0.N, win0_1.index t 0 = 0 ∧ win0_1.index t 1 = t.val % 2 :=
  (by decide +kernel : ∀ t : Fin grid0.N, win0_1.index t 0 = 0 ∧ win0_1.index t 1 = t.val % 2)

/-- Block `t` of the second operand, element by element. -/
theorem iblk1 (c : Dev nD) (t : Fin cfg0.N) (x : Fin 4096) (y : Fin 1024) :
    iblk m c 1 t (ix2 x y) = m ((c : Thread nD τ).loc main_arg1) (ix2 x ⟨t.val % 2 * 1024 + y.val, by have := ltN t; omega⟩) := by
  show V m c main_arg1 ((win0_1.rect t).idx (ix2 x y)) = _
  rw [V_main_arg1]
  refine congrArg _ (funext fun a => Fin.ext ?_)
  match a with
  | ⟨0, _⟩ => show win0_1.index t 0 * 4096 + 1 * x.val = x.val; rw [(at1 t).1]; have := ltN t; omega
  | ⟨1, _⟩ => show win0_1.index t 1 * 1024 + 1 * y.val = t.val % 2 * 1024 + y.val; rw [(at1 t).2]; have := ltN t; omega

theorem at2 : ∀ t : Fin cfg0.N, win0_2.index t 0 = t.val / 2 ∧ win0_2.index t 1 = t.val % 2 :=
  (by decide +kernel : ∀ t : Fin grid0.N, win0_2.index t 0 = t.val / 2 ∧ win0_2.index t 1 = t.val % 2)

/-- The result array read through point `t`'s block. -/
theorem oblk2 (c : Dev nD) (G : Buf (Elt F) ((c : Thread nD τ).loc main_v0)) (t : Fin cfg0.N) (x : Fin 1024) (y : Fin 1024) :
    ((cfg0.win 2).blk t).view.read (Elt F) G (ix2 x y) = G (ix2 x ⟨t.val % 2 * 1024 + y.val, by have := ltN t; omega⟩) := by
  show G ((win0_2.rect t).idx (ix2 x y)) = _
  refine congrArg _ (funext fun a => Fin.ext ?_)
  match a with
  | ⟨0, _⟩ => show win0_2.index t 0 * 1024 + 1 * x.val = x.val; rw [(at2 t).1]; have := ltN t; omega
  | ⟨1, _⟩ => show win0_2.index t 1 * 1024 + 1 * y.val = t.val % 2 * 1024 + y.val; rw [(at2 t).2]; have := ltN t; omega

/-- Every element of the result lies in the block of one point. -/
theorem cover2 (i : (⟨2, ![1024, 2048]⟩ : Shape).Idx) :
    ∃ t : Fin cfg0.N, (cfg0.win 2).flush t = true ∧ i ∈ ((cfg0.win 2).blk t).view.set := by
  have h0 : (i 0 : Nat) < 1024 := (i 0).isLt
  have h1 : (i 1 : Nat) < 2048 := (i 1).isLt
  have hN : cfg0.N = 2 := N_0
  let t : Fin cfg0.N := ⟨(i 0 : Nat) / 1024 * 2 + (i 1 : Nat) / 1024, by omega⟩
  refine ⟨t, flush0_2 _, ?_⟩
  show i ∈ ((View.whole main_v0).slice (win0_2.rect t)).set
  rw [View.set_slice_whole, Rect.mem_set_unit]
  intro a
  match a with
  | ⟨0, _⟩ =>
    show win0_2.index t 0 * 1024 ≤ (i 0 : Nat) ∧ (i 0 : Nat) < win0_2.index t 0 * 1024 + 1024
    rw [(at2 t).1]; dsimp only [t]; omega
  | ⟨1, _⟩ =>
    show win0_2.index t 1 * 1024 ≤ (i 1 : Nat) ∧ (i 1 : Nat) < win0_2.index t 1 * 1024 + 1024
    rw [(at2 t).2]; dsimp only [t]; omega
end Blocks

variable (m : (ℓ : Loc nD τ sig) → Buf (Elt Ideal) ℓ) (ρ : Dev nD → PrngReg)

abbrev a0 (c : Dev nD) : FVec Ideal ⟨2, ![4096, 1024]⟩ .bf16 := m ((c : Thread nD τ).loc main_arg0)
abbrev a1 (c : Dev nD) : FVec Ideal ⟨2, ![4096, 2048]⟩ .bf16 := m ((c : Thread nD τ).loc main_arg1)

/-- The result array of device `c`. -/
abbrev G (c : Dev nD) : Buf (Elt Ideal) ((c : Thread nD τ).loc main_v0) := fun i : S1024x2048.Idx => spec (a0 m c) (a1 m c) (i 0) (i 1)

/-- What one point computes, element by element. -/
theorem pay_apply (x0 : Vec Ideal S4096x1024 .bf16) (x1 : Vec Ideal S4096x1024 .bf16) (x : Fin 1024) (y : Fin 1024) :
    k0_pay1 (F := Ideal) x0 x1 (ix2 x y) = ∑ k : Fin 4096, (x0 (ix2 k x) * x1 (ix2 k y) : EReal) := by
  pointwise [k0_pay1]

theorem flushed2_eq (c : Dev nD) (t : Fin cfg0.N) :
    (dats m 0 c).flushed 2 t = ((cfg0.win 2).blk t).view.read (Elt Ideal) (G m c) := by
  rw [Value.flushed2]
  funext i
  obtain ⟨x, y, rfl⟩ := Step.ix2_surj i
  rw [oblk2]
  unfold out0_2
  rw [View.canon_unit_zero Step.hz, View.ld_unit_zero Step.hz, View.ld_unit_zero Step.hz]
  refine (pay_apply _ _ x y).trans ?_
  exact Finset.sum_congr rfl fun k _ => congrArg₂ (fun a b : EReal => a * b) (iblk0 m c t k x) (iblk1 m c t k y)

/-- The run of the kernel: the result array is the product, the arguments are unchanged. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((dats m 0 c).arrAt_eq_of_cover 2 (G m c) (fun t _ => flushed2_eq m c t) cover2), (h c).2⟩)
    (Value.run_blocks m ρ)

section Reference
open Reference7Ideal.Read

/-- The reference's result, element by element. -/
theorem ref_at (x0 : FVec Ideal ⟨2, ![4096, 1024]⟩ .bf16) (x1 : FVec Ideal ⟨2, ![4096, 2048]⟩ .bf16) (r : Fin 1024) (q : Fin 2048) :
    val_main_v8 (F := Ideal) x0 x1 (ix2 r q) = spec x0 x1 r q := by
  pointwise [val_main_cst, val_main_v0, val_main_v1, val_main_v2, val_main_v3, val_main_v4, val_main_v5, val_main_v6, val_main_v7, val_main_v8]
  exact Finset.sum_congr rfl fun k _ => mul_comm _ _
end Reference

theorem frame_kernel : quiescent_Kernel7 := fun m ρ _ => Kernel7.Gen.frame m ρ
theorem frame_kernelIdeal : quiescent_Kernel7Ideal := fun m ρ _ => Kernel7Ideal.Gen.frame m ρ
theorem frame_reference : quiescent_Reference7Ideal := fun m ρ _ =>
  (θ_run Reference7Ideal.defs _ _).mono (fun r h => ⟨fun c => (h c).2, sem_eq_zero_of_no_sems (by decide) r.2⟩)
    (Reference7Ideal.Value.run (F := Ideal) m ρ)

theorem algebraic : algebraic_Kernel7Ideal_Reference7Ideal := by
  intro m ρ m' ρ' _ hagree
  refine ⟨G m, run m ρ, ?_⟩
  refine (θ_run Reference7Ideal.defs _ _).mono (fun _ h c => ⟨(h c).1.trans ?_, (h c).2⟩) (Reference7Ideal.Value.run (F := Ideal) m' ρ')
  rw [(hagree c).1, (hagree c).2]
  funext i
  obtain ⟨r, q, rfl⟩ := Step.ix2_surj i
  exact ref_at (a0 m c) (a1 m c) r q

end P7
-- ==== Proof.P8.lean ====
module

public import proofs.«01_k».proof.Proof.Step
public import proofs.«01_k».proof.Proof.Gen.Kernel8.Frame
public import proofs.«01_k».proof.Proof.Gen.Kernel8Ideal.Value
public import proofs.«01_k».proof.Proof.Gen.Reference8Ideal.Read
public import proofs.«01_k».proof.Proof.Gen.Reference8Ideal.Run

@[expose] public section

set_option maxRecDepth 16384

noncomputable section

/-! # The claims about `gw_ssm_out`: the gradient of `w_ssm_out`, 1024 × 2048, a product over 4096 terms in 2 blocks of 1024 × 1024 -/

namespace Cert.P8

open Kernel8Ideal Kernel8Ideal.Gen Idealize.ShloMosaic Idealize.ShloMosaic.TcCoe Idealize.SL.Sem

/-- The product at row `r` and column `q`: the sum over the 4096 terms. -/
def spec (A : FVec Ideal ⟨2, ![4096, 1024]⟩ .bf16) (B : FVec Ideal ⟨2, ![4096, 2048]⟩ .bf16) (r : Fin 1024) (q : Fin 2048) : EReal := ∑ k : Fin 4096, A (ix2 k r) * B (ix2 k q)

section Blocks
variable {F : FTy → Type} [FloatOps F]
variable (m : (ℓ : Loc nD τ sig) → Buf (Elt F) ℓ)

theorem ltN (t : Fin cfg0.N) : t.val < 2 := lt_of_lt_of_eq t.isLt N_0

theorem at0 : ∀ t : Fin cfg0.N, win0_0.index t 0 = 0 ∧ win0_0.index t 1 = t.val / 2 :=
  (by decide +kernel : ∀ t : Fin grid0.N, win0_0.index t 0 = 0 ∧ win0_0.index t 1 = t.val / 2)

/-- Block `t` of the first operand, element by element. -/
theorem iblk0 (c : Dev nD) (t : Fin cfg0.N) (x : Fin 4096) (y : Fin 1024) :
    iblk m c 0 t (ix2 x y) = m ((c : Thread nD τ).loc main_arg0) (ix2 x y) := by
  show V m c main_arg0 ((win0_0.rect t).idx (ix2 x y)) = _
  rw [V_main_arg0]
  refine congrArg _ (funext fun a => Fin.ext ?_)
  match a with
  | ⟨0, _⟩ => show win0_0.index t 0 * 4096 + 1 * x.val = x.val; rw [(at0 t).1]; have := ltN t; omega
  | ⟨1, _⟩ => show win0_0.index t 1 * 1024 + 1 * y.val = y.val; rw [(at0 t).2]; have := ltN t; omega

theorem at1 : ∀ t : Fin cfg0.N, win0_1.index t 0 = 0 ∧ win0_1.index t 1 = t.val % 2 :=
  (by decide +kernel : ∀ t : Fin grid0.N, win0_1.index t 0 = 0 ∧ win0_1.index t 1 = t.val % 2)

/-- Block `t` of the second operand, element by element. -/
theorem iblk1 (c : Dev nD) (t : Fin cfg0.N) (x : Fin 4096) (y : Fin 1024) :
    iblk m c 1 t (ix2 x y) = m ((c : Thread nD τ).loc main_arg1) (ix2 x ⟨t.val % 2 * 1024 + y.val, by have := ltN t; omega⟩) := by
  show V m c main_arg1 ((win0_1.rect t).idx (ix2 x y)) = _
  rw [V_main_arg1]
  refine congrArg _ (funext fun a => Fin.ext ?_)
  match a with
  | ⟨0, _⟩ => show win0_1.index t 0 * 4096 + 1 * x.val = x.val; rw [(at1 t).1]; have := ltN t; omega
  | ⟨1, _⟩ => show win0_1.index t 1 * 1024 + 1 * y.val = t.val % 2 * 1024 + y.val; rw [(at1 t).2]; have := ltN t; omega

theorem at2 : ∀ t : Fin cfg0.N, win0_2.index t 0 = t.val / 2 ∧ win0_2.index t 1 = t.val % 2 :=
  (by decide +kernel : ∀ t : Fin grid0.N, win0_2.index t 0 = t.val / 2 ∧ win0_2.index t 1 = t.val % 2)

/-- The result array read through point `t`'s block. -/
theorem oblk2 (c : Dev nD) (G : Buf (Elt F) ((c : Thread nD τ).loc main_v0)) (t : Fin cfg0.N) (x : Fin 1024) (y : Fin 1024) :
    ((cfg0.win 2).blk t).view.read (Elt F) G (ix2 x y) = G (ix2 x ⟨t.val % 2 * 1024 + y.val, by have := ltN t; omega⟩) := by
  show G ((win0_2.rect t).idx (ix2 x y)) = _
  refine congrArg _ (funext fun a => Fin.ext ?_)
  match a with
  | ⟨0, _⟩ => show win0_2.index t 0 * 1024 + 1 * x.val = x.val; rw [(at2 t).1]; have := ltN t; omega
  | ⟨1, _⟩ => show win0_2.index t 1 * 1024 + 1 * y.val = t.val % 2 * 1024 + y.val; rw [(at2 t).2]; have := ltN t; omega

/-- Every element of the result lies in the block of one point. -/
theorem cover2 (i : (⟨2, ![1024, 2048]⟩ : Shape).Idx) :
    ∃ t : Fin cfg0.N, (cfg0.win 2).flush t = true ∧ i ∈ ((cfg0.win 2).blk t).view.set := by
  have h0 : (i 0 : Nat) < 1024 := (i 0).isLt
  have h1 : (i 1 : Nat) < 2048 := (i 1).isLt
  have hN : cfg0.N = 2 := N_0
  let t : Fin cfg0.N := ⟨(i 0 : Nat) / 1024 * 2 + (i 1 : Nat) / 1024, by omega⟩
  refine ⟨t, flush0_2 _, ?_⟩
  show i ∈ ((View.whole main_v0).slice (win0_2.rect t)).set
  rw [View.set_slice_whole, Rect.mem_set_unit]
  intro a
  match a with
  | ⟨0, _⟩ =>
    show win0_2.index t 0 * 1024 ≤ (i 0 : Nat) ∧ (i 0 : Nat) < win0_2.index t 0 * 1024 + 1024
    rw [(at2 t).1]; dsimp only [t]; omega
  | ⟨1, _⟩ =>
    show win0_2.index t 1 * 1024 ≤ (i 1 : Nat) ∧ (i 1 : Nat) < win0_2.index t 1 * 1024 + 1024
    rw [(at2 t).2]; dsimp only [t]; omega
end Blocks

variable (m : (ℓ : Loc nD τ sig) → Buf (Elt Ideal) ℓ) (ρ : Dev nD → PrngReg)

abbrev a0 (c : Dev nD) : FVec Ideal ⟨2, ![4096, 1024]⟩ .bf16 := m ((c : Thread nD τ).loc main_arg0)
abbrev a1 (c : Dev nD) : FVec Ideal ⟨2, ![4096, 2048]⟩ .bf16 := m ((c : Thread nD τ).loc main_arg1)

/-- The result array of device `c`. -/
abbrev G (c : Dev nD) : Buf (Elt Ideal) ((c : Thread nD τ).loc main_v0) := fun i : S1024x2048.Idx => spec (a0 m c) (a1 m c) (i 0) (i 1)

/-- What one point computes, element by element. -/
theorem pay_apply (x0 : Vec Ideal S4096x1024 .bf16) (x1 : Vec Ideal S4096x1024 .bf16) (x : Fin 1024) (y : Fin 1024) :
    k0_pay1 (F := Ideal) x0 x1 (ix2 x y) = ∑ k : Fin 4096, (x0 (ix2 k x) * x1 (ix2 k y) : EReal) := by
  pointwise [k0_pay1]

theorem flushed2_eq (c : Dev nD) (t : Fin cfg0.N) :
    (dats m 0 c).flushed 2 t = ((cfg0.win 2).blk t).view.read (Elt Ideal) (G m c) := by
  rw [Value.flushed2]
  funext i
  obtain ⟨x, y, rfl⟩ := Step.ix2_surj i
  rw [oblk2]
  unfold out0_2
  rw [View.canon_unit_zero Step.hz, View.ld_unit_zero Step.hz, View.ld_unit_zero Step.hz]
  refine (pay_apply _ _ x y).trans ?_
  exact Finset.sum_congr rfl fun k _ => congrArg₂ (fun a b : EReal => a * b) (iblk0 m c t k x) (iblk1 m c t k y)

/-- The run of the kernel: the result array is the product, the arguments are unchanged. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((dats m 0 c).arrAt_eq_of_cover 2 (G m c) (fun t _ => flushed2_eq m c t) cover2), (h c).2⟩)
    (Value.run_blocks m ρ)

section Reference
open Reference8Ideal.Read

/-- The reference's result, element by element. -/
theorem ref_at (x0 : FVec Ideal ⟨2, ![4096, 1024]⟩ .bf16) (x1 : FVec Ideal ⟨2, ![4096, 2048]⟩ .bf16) (r : Fin 1024) (q : Fin 2048) :
    val_main_v8 (F := Ideal) x0 x1 (ix2 r q) = spec x0 x1 r q := by
  pointwise [val_main_cst, val_main_v0, val_main_v1, val_main_v2, val_main_v3, val_main_v4, val_main_v5, val_main_v6, val_main_v7, val_main_v8]
  exact Finset.sum_congr rfl fun k _ => mul_comm _ _
end Reference

theorem frame_kernel : quiescent_Kernel8 := fun m ρ _ => Kernel8.Gen.frame m ρ
theorem frame_kernelIdeal : quiescent_Kernel8Ideal := fun m ρ _ => Kernel8Ideal.Gen.frame m ρ
theorem frame_reference : quiescent_Reference8Ideal := fun m ρ _ =>
  (θ_run Reference8Ideal.defs _ _).mono (fun r h => ⟨fun c => (h c).2, sem_eq_zero_of_no_sems (by decide) r.2⟩)
    (Reference8Ideal.Value.run (F := Ideal) m ρ)

theorem algebraic : algebraic_Kernel8Ideal_Reference8Ideal := by
  intro m ρ m' ρ' _ hagree
  refine ⟨G m, run m ρ, ?_⟩
  refine (θ_run Reference8Ideal.defs _ _).mono (fun _ h c => ⟨(h c).1.trans ?_, (h c).2⟩) (Reference8Ideal.Value.run (F := Ideal) m' ρ')
  rw [(hagree c).1, (hagree c).2]
  funext i
  obtain ⟨r, q, rfl⟩ := Step.ix2_surj i
  exact ref_at (a0 m c) (a1 m c) r q

end P8
-- ==== Proof.P9.lean ====
module

public import proofs.«01_k».proof.Proof.Step
public import proofs.«01_k».proof.Proof.Gen.Kernel9.Frame
public import proofs.«01_k».proof.Proof.Gen.Kernel9Ideal.Value
public import proofs.«01_k».proof.Proof.Gen.Reference9Ideal.Read
public import proofs.«01_k».proof.Proof.Gen.Reference9Ideal.Run

@[expose] public section

set_option maxRecDepth 16384

noncomputable section

/-! # The claims about `gw_glu`: the gradient of `w_glu`, 1024 × 1024, a product over 4096 terms in 1 blocks of 1024 × 1024 -/

namespace Cert.P9

open Kernel9Ideal Kernel9Ideal.Gen Idealize.ShloMosaic Idealize.ShloMosaic.TcCoe Idealize.SL.Sem

/-- The product at row `r` and column `q`: the sum over the 4096 terms. -/
def spec (A : FVec Ideal ⟨2, ![4096, 1024]⟩ .bf16) (B : FVec Ideal ⟨2, ![4096, 1024]⟩ .bf16) (r : Fin 1024) (q : Fin 1024) : EReal := ∑ k : Fin 4096, A (ix2 k r) * B (ix2 k q)

section Blocks
variable {F : FTy → Type} [FloatOps F]
variable (m : (ℓ : Loc nD τ sig) → Buf (Elt F) ℓ)

theorem ltN (t : Fin cfg0.N) : t.val < 1 := lt_of_lt_of_eq t.isLt N_0

theorem at0 : ∀ t : Fin cfg0.N, win0_0.index t 0 = 0 ∧ win0_0.index t 1 = t.val :=
  (by decide +kernel : ∀ t : Fin grid0.N, win0_0.index t 0 = 0 ∧ win0_0.index t 1 = t.val)

/-- Block `t` of the first operand, element by element. -/
theorem iblk0 (c : Dev nD) (t : Fin cfg0.N) (x : Fin 4096) (y : Fin 1024) :
    iblk m c 0 t (ix2 x y) = m ((c : Thread nD τ).loc main_arg0) (ix2 x y) := by
  show V m c main_arg0 ((win0_0.rect t).idx (ix2 x y)) = _
  rw [V_main_arg0]
  refine congrArg _ (funext fun a => Fin.ext ?_)
  match a with
  | ⟨0, _⟩ => show win0_0.index t 0 * 4096 + 1 * x.val = x.val; rw [(at0 t).1]; have := ltN t; omega
  | ⟨1, _⟩ => show win0_0.index t 1 * 1024 + 1 * y.val = y.val; rw [(at0 t).2]; have := ltN t; omega

theorem at1 : ∀ t : Fin cfg0.N, win0_1.index t 0 = 0 ∧ win0_1.index t 1 = 0 :=
  (by decide +kernel : ∀ t : Fin grid0.N, win0_1.index t 0 = 0 ∧ win0_1.index t 1 = 0)

/-- Block `t` of the second operand, element by element. -/
theorem iblk1 (c : Dev nD) (t : Fin cfg0.N) (x : Fin 4096) (y : Fin 1024) :
    iblk m c 1 t (ix2 x y) = m ((c : Thread nD τ).loc main_arg1) (ix2 x y) := by
  show V m c main_arg1 ((win0_1.rect t).idx (ix2 x y)) = _
  rw [V_main_arg1]
  refine congrArg _ (funext fun a => Fin.ext ?_)
  match a with
  | ⟨0, _⟩ => show win0_1.index t 0 * 4096 + 1 * x.val = x.val; rw [(at1 t).1]; have := ltN t; omega
  | ⟨1, _⟩ => show win0_1.index t 1 * 1024 + 1 * y.val = y.val; rw [(at1 t).2]; have := ltN t; omega

theorem at2 : ∀ t : Fin cfg0.N, win0_2.index t 0 = t.val ∧ win0_2.index t 1 = 0 :=
  (by decide +kernel : ∀ t : Fin grid0.N, win0_2.index t 0 = t.val ∧ win0_2.index t 1 = 0)

/-- The result array read through point `t`'s block. -/
theorem oblk2 (c : Dev nD) (G : Buf (Elt F) ((c : Thread nD τ).loc main_v0)) (t : Fin cfg0.N) (x : Fin 1024) (y : Fin 1024) :
    ((cfg0.win 2).blk t).view.read (Elt F) G (ix2 x y) = G (ix2 x y) := by
  show G ((win0_2.rect t).idx (ix2 x y)) = _
  refine congrArg _ (funext fun a => Fin.ext ?_)
  match a with
  | ⟨0, _⟩ => show win0_2.index t 0 * 1024 + 1 * x.val = x.val; rw [(at2 t).1]; have := ltN t; omega
  | ⟨1, _⟩ => show win0_2.index t 1 * 1024 + 1 * y.val = y.val; rw [(at2 t).2]; have := ltN t; omega

/-- Every element of the result lies in the block of one point. -/
theorem cover2 (i : (⟨2, ![1024, 1024]⟩ : Shape).Idx) :
    ∃ t : Fin cfg0.N, (cfg0.win 2).flush t = true ∧ i ∈ ((cfg0.win 2).blk t).view.set := by
  have h0 : (i 0 : Nat) < 1024 := (i 0).isLt
  have h1 : (i 1 : Nat) < 1024 := (i 1).isLt
  have hN : cfg0.N = 1 := N_0
  let t : Fin cfg0.N := ⟨(i 0 : Nat) / 1024 * 1 + (i 1 : Nat) / 1024, by omega⟩
  refine ⟨t, flush0_2 _, ?_⟩
  show i ∈ ((View.whole main_v0).slice (win0_2.rect t)).set
  rw [View.set_slice_whole, Rect.mem_set_unit]
  intro a
  match a with
  | ⟨0, _⟩ =>
    show win0_2.index t 0 * 1024 ≤ (i 0 : Nat) ∧ (i 0 : Nat) < win0_2.index t 0 * 1024 + 1024
    rw [(at2 t).1]; dsimp only [t]; omega
  | ⟨1, _⟩ =>
    show win0_2.index t 1 * 1024 ≤ (i 1 : Nat) ∧ (i 1 : Nat) < win0_2.index t 1 * 1024 + 1024
    rw [(at2 t).2]; dsimp only [t]; omega
end Blocks

variable (m : (ℓ : Loc nD τ sig) → Buf (Elt Ideal) ℓ) (ρ : Dev nD → PrngReg)

abbrev a0 (c : Dev nD) : FVec Ideal ⟨2, ![4096, 1024]⟩ .bf16 := m ((c : Thread nD τ).loc main_arg0)
abbrev a1 (c : Dev nD) : FVec Ideal ⟨2, ![4096, 1024]⟩ .bf16 := m ((c : Thread nD τ).loc main_arg1)

/-- The result array of device `c`. -/
abbrev G (c : Dev nD) : Buf (Elt Ideal) ((c : Thread nD τ).loc main_v0) := fun i : S1024x1024.Idx => spec (a0 m c) (a1 m c) (i 0) (i 1)

/-- What one point computes, element by element. -/
theorem pay_apply (x0 : Vec Ideal S4096x1024 .bf16) (x1 : Vec Ideal S4096x1024 .bf16) (x : Fin 1024) (y : Fin 1024) :
    k0_pay1 (F := Ideal) x0 x1 (ix2 x y) = ∑ k : Fin 4096, (x0 (ix2 k x) * x1 (ix2 k y) : EReal) := by
  pointwise [k0_pay1]

theorem flushed2_eq (c : Dev nD) (t : Fin cfg0.N) :
    (dats m 0 c).flushed 2 t = ((cfg0.win 2).blk t).view.read (Elt Ideal) (G m c) := by
  rw [Value.flushed2]
  funext i
  obtain ⟨x, y, rfl⟩ := Step.ix2_surj i
  rw [oblk2]
  unfold out0_2
  rw [View.canon_unit_zero Step.hz, View.ld_unit_zero Step.hz, View.ld_unit_zero Step.hz]
  refine (pay_apply _ _ x y).trans ?_
  exact Finset.sum_congr rfl fun k _ => congrArg₂ (fun a b : EReal => a * b) (iblk0 m c t k x) (iblk1 m c t k y)

/-- The run of the kernel: the result array is the product, the arguments are unchanged. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((dats m 0 c).arrAt_eq_of_cover 2 (G m c) (fun t _ => flushed2_eq m c t) cover2), (h c).2⟩)
    (Value.run_blocks m ρ)

section Reference
open Reference9Ideal.Read

/-- The reference's result, element by element. -/
theorem ref_at (x0 : FVec Ideal ⟨2, ![4096, 1024]⟩ .bf16) (x1 : FVec Ideal ⟨2, ![4096, 1024]⟩ .bf16) (r : Fin 1024) (q : Fin 1024) :
    val_main_v8 (F := Ideal) x0 x1 (ix2 r q) = spec x0 x1 r q := by
  pointwise [val_main_cst, val_main_v0, val_main_v1, val_main_v2, val_main_v3, val_main_v4, val_main_v5, val_main_v6, val_main_v7, val_main_v8]
  exact Finset.sum_congr rfl fun k _ => mul_comm _ _
end Reference

theorem frame_kernel : quiescent_Kernel9 := fun m ρ _ => Kernel9.Gen.frame m ρ
theorem frame_kernelIdeal : quiescent_Kernel9Ideal := fun m ρ _ => Kernel9Ideal.Gen.frame m ρ
theorem frame_reference : quiescent_Reference9Ideal := fun m ρ _ =>
  (θ_run Reference9Ideal.defs _ _).mono (fun r h => ⟨fun c => (h c).2, sem_eq_zero_of_no_sems (by decide) r.2⟩)
    (Reference9Ideal.Value.run (F := Ideal) m ρ)

theorem algebraic : algebraic_Kernel9Ideal_Reference9Ideal := by
  intro m ρ m' ρ' _ hagree
  refine ⟨G m, run m ρ, ?_⟩
  refine (θ_run Reference9Ideal.defs _ _).mono (fun _ h c => ⟨(h c).1.trans ?_, (h c).2⟩) (Reference9Ideal.Value.run (F := Ideal) m' ρ')
  rw [(hagree c).1, (hagree c).2]
  funext i
  obtain ⟨r, q, rfl⟩ := Step.ix2_surj i
  exact ref_at (a0 m c) (a1 m c) r q

end P9
-- ==== Proof.P10.lean ====
module

public import proofs.«01_k».proof.Proof.Step
public import proofs.«01_k».proof.Proof.Gen.Kernel10.Frame
public import proofs.«01_k».proof.Proof.Gen.Kernel10Ideal.Value
public import proofs.«01_k».proof.Proof.Gen.Reference10Ideal.Read
public import proofs.«01_k».proof.Proof.Gen.Reference10Ideal.Run

@[expose] public section

set_option maxRecDepth 16384

noncomputable section

/-! # The claims about `d_q`: the cotangent of the convolution branch, 4096 × 1024, a product over 2048 terms in 4 blocks of 1024 × 1024 -/

namespace Cert.P10

open Kernel10Ideal Kernel10Ideal.Gen Idealize.ShloMosaic Idealize.ShloMosaic.TcCoe Idealize.SL.Sem

/-- The product at row `r` and column `q`: the sum over the 2048 terms. -/
def spec (A : FVec Ideal ⟨2, ![4096, 2048]⟩ .bf16) (B : FVec Ideal ⟨2, ![1024, 2048]⟩ .bf16) (r : Fin 4096) (q : Fin 1024) : EReal := ∑ k : Fin 2048, A (ix2 r k) * B (ix2 q k)

section Blocks
variable {F : FTy → Type} [FloatOps F]
variable (m : (ℓ : Loc nD τ sig) → Buf (Elt F) ℓ)

theorem ltN (t : Fin cfg0.N) : t.val < 4 := lt_of_lt_of_eq t.isLt N_0

theorem at0 : ∀ t : Fin cfg0.N, win0_0.index t 0 = t.val ∧ win0_0.index t 1 = 0 :=
  (by decide +kernel : ∀ t : Fin grid0.N, win0_0.index t 0 = t.val ∧ win0_0.index t 1 = 0)

/-- Block `t` of the first operand, element by element. -/
theorem iblk0 (c : Dev nD) (t : Fin cfg0.N) (x : Fin 1024) (y : Fin 2048) :
    iblk m c 0 t (ix2 x y) = m ((c : Thread nD τ).loc main_arg0) (ix2 ⟨t.val * 1024 + x.val, by have := ltN t; omega⟩ y) := by
  show V m c main_arg0 ((win0_0.rect t).idx (ix2 x y)) = _
  rw [V_main_arg0]
  refine congrArg _ (funext fun a => Fin.ext ?_)
  match a with
  | ⟨0, _⟩ => show win0_0.index t 0 * 1024 + 1 * x.val = t.val * 1024 + x.val; rw [(at0 t).1]; have := ltN t; omega
  | ⟨1, _⟩ => show win0_0.index t 1 * 2048 + 1 * y.val = y.val; rw [(at0 t).2]; have := ltN t; omega

theorem at1 : ∀ t : Fin cfg0.N, win0_1.index t 0 = 0 ∧ win0_1.index t 1 = 0 :=
  (by decide +kernel : ∀ t : Fin grid0.N, win0_1.index t 0 = 0 ∧ win0_1.index t 1 = 0)

/-- Block `t` of the second operand, element by element. -/
theorem iblk1 (c : Dev nD) (t : Fin cfg0.N) (x : Fin 1024) (y : Fin 2048) :
    iblk m c 1 t (ix2 x y) = m ((c : Thread nD τ).loc main_arg1) (ix2 x y) := by
  show V m c main_arg1 ((win0_1.rect t).idx (ix2 x y)) = _
  rw [V_main_arg1]
  refine congrArg _ (funext fun a => Fin.ext ?_)
  match a with
  | ⟨0, _⟩ => show win0_1.index t 0 * 1024 + 1 * x.val = x.val; rw [(at1 t).1]; have := ltN t; omega
  | ⟨1, _⟩ => show win0_1.index t 1 * 2048 + 1 * y.val = y.val; rw [(at1 t).2]; have := ltN t; omega

theorem at2 : ∀ t : Fin cfg0.N, win0_2.index t 0 = t.val ∧ win0_2.index t 1 = 0 :=
  (by decide +kernel : ∀ t : Fin grid0.N, win0_2.index t 0 = t.val ∧ win0_2.index t 1 = 0)

/-- The result array read through point `t`'s block. -/
theorem oblk2 (c : Dev nD) (G : Buf (Elt F) ((c : Thread nD τ).loc main_v0)) (t : Fin cfg0.N) (x : Fin 1024) (y : Fin 1024) :
    ((cfg0.win 2).blk t).view.read (Elt F) G (ix2 x y) = G (ix2 ⟨t.val * 1024 + x.val, by have := ltN t; omega⟩ y) := by
  show G ((win0_2.rect t).idx (ix2 x y)) = _
  refine congrArg _ (funext fun a => Fin.ext ?_)
  match a with
  | ⟨0, _⟩ => show win0_2.index t 0 * 1024 + 1 * x.val = t.val * 1024 + x.val; rw [(at2 t).1]; have := ltN t; omega
  | ⟨1, _⟩ => show win0_2.index t 1 * 1024 + 1 * y.val = y.val; rw [(at2 t).2]; have := ltN t; omega

/-- Every element of the result lies in the block of one point. -/
theorem cover2 (i : (⟨2, ![4096, 1024]⟩ : Shape).Idx) :
    ∃ t : Fin cfg0.N, (cfg0.win 2).flush t = true ∧ i ∈ ((cfg0.win 2).blk t).view.set := by
  have h0 : (i 0 : Nat) < 4096 := (i 0).isLt
  have h1 : (i 1 : Nat) < 1024 := (i 1).isLt
  have hN : cfg0.N = 4 := N_0
  let t : Fin cfg0.N := ⟨(i 0 : Nat) / 1024 * 1 + (i 1 : Nat) / 1024, by omega⟩
  refine ⟨t, flush0_2 _, ?_⟩
  show i ∈ ((View.whole main_v0).slice (win0_2.rect t)).set
  rw [View.set_slice_whole, Rect.mem_set_unit]
  intro a
  match a with
  | ⟨0, _⟩ =>
    show win0_2.index t 0 * 1024 ≤ (i 0 : Nat) ∧ (i 0 : Nat) < win0_2.index t 0 * 1024 + 1024
    rw [(at2 t).1]; dsimp only [t]; omega
  | ⟨1, _⟩ =>
    show win0_2.index t 1 * 1024 ≤ (i 1 : Nat) ∧ (i 1 : Nat) < win0_2.index t 1 * 1024 + 1024
    rw [(at2 t).2]; dsimp only [t]; omega
end Blocks

variable (m : (ℓ : Loc nD τ sig) → Buf (Elt Ideal) ℓ) (ρ : Dev nD → PrngReg)

abbrev a0 (c : Dev nD) : FVec Ideal ⟨2, ![4096, 2048]⟩ .bf16 := m ((c : Thread nD τ).loc main_arg0)
abbrev a1 (c : Dev nD) : FVec Ideal ⟨2, ![1024, 2048]⟩ .bf16 := m ((c : Thread nD τ).loc main_arg1)

/-- The result array of device `c`. -/
abbrev G (c : Dev nD) : Buf (Elt Ideal) ((c : Thread nD τ).loc main_v0) := fun i : S4096x1024.Idx => spec (a0 m c) (a1 m c) (i 0) (i 1)

/-- What one point computes, element by element. -/
theorem pay_apply (x0 : Vec Ideal S1024x2048 .bf16) (x1 : Vec Ideal S1024x2048 .bf16) (x : Fin 1024) (y : Fin 1024) :
    k0_pay1 (F := Ideal) x0 x1 (ix2 x y) = ∑ k : Fin 2048, (x0 (ix2 x k) * x1 (ix2 y k) : EReal) := by
  pointwise [k0_pay1]

theorem flushed2_eq (c : Dev nD) (t : Fin cfg0.N) :
    (dats m 0 c).flushed 2 t = ((cfg0.win 2).blk t).view.read (Elt Ideal) (G m c) := by
  rw [Value.flushed2]
  funext i
  obtain ⟨x, y, rfl⟩ := Step.ix2_surj i
  rw [oblk2]
  unfold out0_2
  rw [View.canon_unit_zero Step.hz, View.ld_unit_zero Step.hz, View.ld_unit_zero Step.hz]
  refine (pay_apply _ _ x y).trans ?_
  exact Finset.sum_congr rfl fun k _ => congrArg₂ (fun a b : EReal => a * b) (iblk0 m c t x k) (iblk1 m c t y k)

/-- The run of the kernel: the result array is the product, the arguments are unchanged. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((dats m 0 c).arrAt_eq_of_cover 2 (G m c) (fun t _ => flushed2_eq m c t) cover2), (h c).2⟩)
    (Value.run_blocks m ρ)

section Reference
open Reference10Ideal.Read

/-- The reference's result, element by element. -/
theorem ref_at (x0 : FVec Ideal ⟨2, ![4096, 2048]⟩ .bf16) (x1 : FVec Ideal ⟨2, ![1024, 2048]⟩ .bf16) (r : Fin 4096) (q : Fin 1024) :
    val_main_v7 (F := Ideal) x0 x1 (ix2 r q) = spec x0 x1 r q := by
  pointwise [val_main_cst, val_main_v0, val_main_v1, val_main_v2, val_main_v3, val_main_v4, val_main_v5, val_main_v6, val_main_v7]
  rfl
end Reference

theorem frame_kernel : quiescent_Kernel10 := fun m ρ _ => Kernel10.Gen.frame m ρ
theorem frame_kernelIdeal : quiescent_Kernel10Ideal := fun m ρ _ => Kernel10Ideal.Gen.frame m ρ
theorem frame_reference : quiescent_Reference10Ideal := fun m ρ _ =>
  (θ_run Reference10Ideal.defs _ _).mono (fun r h => ⟨fun c => (h c).2, sem_eq_zero_of_no_sems (by decide) r.2⟩)
    (Reference10Ideal.Value.run (F := Ideal) m ρ)

theorem algebraic : algebraic_Kernel10Ideal_Reference10Ideal := by
  intro m ρ m' ρ' _ hagree
  refine ⟨G m, run m ρ, ?_⟩
  refine (θ_run Reference10Ideal.defs _ _).mono (fun _ h c => ⟨(h c).1.trans ?_, (h c).2⟩) (Reference10Ideal.Value.run (F := Ideal) m' ρ')
  rw [(hagree c).1, (hagree c).2]
  funext i
  obtain ⟨r, q, rfl⟩ := Step.ix2_surj i
  exact ref_at (a0 m c) (a1 m c) r q

end P10
-- ==== Proof.P11.lean ====
module

public import proofs.«01_k».proof.Proof.Step
public import proofs.«01_k».proof.Proof.Gen.Kernel11.Frame
public import proofs.«01_k».proof.Proof.Gen.Kernel11Ideal.Value
public import proofs.«01_k».proof.Proof.Gen.Reference11Ideal.Read
public import proofs.«01_k».proof.Proof.Gen.Reference11Ideal.Run

@[expose] public section

set_option maxRecDepth 16384

noncomputable section

/-! # The claims about `d_ya2`: the cotangent of the gated scan output, 4096 × 1024, a product over 2048 terms in 4 blocks of 1024 × 1024 -/

namespace Cert.P11

open Kernel11Ideal Kernel11Ideal.Gen Idealize.ShloMosaic Idealize.ShloMosaic.TcCoe Idealize.SL.Sem

/-- The product at row `r` and column `q`: the sum over the 2048 terms. -/
def spec (A : FVec Ideal ⟨2, ![4096, 2048]⟩ .bf16) (B : FVec Ideal ⟨2, ![1024, 2048]⟩ .bf16) (r : Fin 4096) (q : Fin 1024) : EReal := ∑ k : Fin 2048, A (ix2 r k) * B (ix2 q k)

section Blocks
variable {F : FTy → Type} [FloatOps F]
variable (m : (ℓ : Loc nD τ sig) → Buf (Elt F) ℓ)

theorem ltN (t : Fin cfg0.N) : t.val < 4 := lt_of_lt_of_eq t.isLt N_0

theorem at0 : ∀ t : Fin cfg0.N, win0_0.index t 0 = t.val ∧ win0_0.index t 1 = 0 :=
  (by decide +kernel : ∀ t : Fin grid0.N, win0_0.index t 0 = t.val ∧ win0_0.index t 1 = 0)

/-- Block `t` of the first operand, element by element. -/
theorem iblk0 (c : Dev nD) (t : Fin cfg0.N) (x : Fin 1024) (y : Fin 2048) :
    iblk m c 0 t (ix2 x y) = m ((c : Thread nD τ).loc main_arg0) (ix2 ⟨t.val * 1024 + x.val, by have := ltN t; omega⟩ y) := by
  show V m c main_arg0 ((win0_0.rect t).idx (ix2 x y)) = _
  rw [V_main_arg0]
  refine congrArg _ (funext fun a => Fin.ext ?_)
  match a with
  | ⟨0, _⟩ => show win0_0.index t 0 * 1024 + 1 * x.val = t.val * 1024 + x.val; rw [(at0 t).1]; have := ltN t; omega
  | ⟨1, _⟩ => show win0_0.index t 1 * 2048 + 1 * y.val = y.val; rw [(at0 t).2]; have := ltN t; omega

theorem at1 : ∀ t : Fin cfg0.N, win0_1.index t 0 = 0 ∧ win0_1.index t 1 = 0 :=
  (by decide +kernel : ∀ t : Fin grid0.N, win0_1.index t 0 = 0 ∧ win0_1.index t 1 = 0)

/-- Block `t` of the second operand, element by element. -/
theorem iblk1 (c : Dev nD) (t : Fin cfg0.N) (x : Fin 1024) (y : Fin 2048) :
    iblk m c 1 t (ix2 x y) = m ((c : Thread nD τ).loc main_arg1) (ix2 x y) := by
  show V m c main_arg1 ((win0_1.rect t).idx (ix2 x y)) = _
  rw [V_main_arg1]
  refine congrArg _ (funext fun a => Fin.ext ?_)
  match a with
  | ⟨0, _⟩ => show win0_1.index t 0 * 1024 + 1 * x.val = x.val; rw [(at1 t).1]; have := ltN t; omega
  | ⟨1, _⟩ => show win0_1.index t 1 * 2048 + 1 * y.val = y.val; rw [(at1 t).2]; have := ltN t; omega

theorem at2 : ∀ t : Fin cfg0.N, win0_2.index t 0 = t.val ∧ win0_2.index t 1 = 0 :=
  (by decide +kernel : ∀ t : Fin grid0.N, win0_2.index t 0 = t.val ∧ win0_2.index t 1 = 0)

/-- The result array read through point `t`'s block. -/
theorem oblk2 (c : Dev nD) (G : Buf (Elt F) ((c : Thread nD τ).loc main_v0)) (t : Fin cfg0.N) (x : Fin 1024) (y : Fin 1024) :
    ((cfg0.win 2).blk t).view.read (Elt F) G (ix2 x y) = G (ix2 ⟨t.val * 1024 + x.val, by have := ltN t; omega⟩ y) := by
  show G ((win0_2.rect t).idx (ix2 x y)) = _
  refine congrArg _ (funext fun a => Fin.ext ?_)
  match a with
  | ⟨0, _⟩ => show win0_2.index t 0 * 1024 + 1 * x.val = t.val * 1024 + x.val; rw [(at2 t).1]; have := ltN t; omega
  | ⟨1, _⟩ => show win0_2.index t 1 * 1024 + 1 * y.val = y.val; rw [(at2 t).2]; have := ltN t; omega

/-- Every element of the result lies in the block of one point. -/
theorem cover2 (i : (⟨2, ![4096, 1024]⟩ : Shape).Idx) :
    ∃ t : Fin cfg0.N, (cfg0.win 2).flush t = true ∧ i ∈ ((cfg0.win 2).blk t).view.set := by
  have h0 : (i 0 : Nat) < 4096 := (i 0).isLt
  have h1 : (i 1 : Nat) < 1024 := (i 1).isLt
  have hN : cfg0.N = 4 := N_0
  let t : Fin cfg0.N := ⟨(i 0 : Nat) / 1024 * 1 + (i 1 : Nat) / 1024, by omega⟩
  refine ⟨t, flush0_2 _, ?_⟩
  show i ∈ ((View.whole main_v0).slice (win0_2.rect t)).set
  rw [View.set_slice_whole, Rect.mem_set_unit]
  intro a
  match a with
  | ⟨0, _⟩ =>
    show win0_2.index t 0 * 1024 ≤ (i 0 : Nat) ∧ (i 0 : Nat) < win0_2.index t 0 * 1024 + 1024
    rw [(at2 t).1]; dsimp only [t]; omega
  | ⟨1, _⟩ =>
    show win0_2.index t 1 * 1024 ≤ (i 1 : Nat) ∧ (i 1 : Nat) < win0_2.index t 1 * 1024 + 1024
    rw [(at2 t).2]; dsimp only [t]; omega
end Blocks

variable (m : (ℓ : Loc nD τ sig) → Buf (Elt Ideal) ℓ) (ρ : Dev nD → PrngReg)

abbrev a0 (c : Dev nD) : FVec Ideal ⟨2, ![4096, 2048]⟩ .bf16 := m ((c : Thread nD τ).loc main_arg0)
abbrev a1 (c : Dev nD) : FVec Ideal ⟨2, ![1024, 2048]⟩ .bf16 := m ((c : Thread nD τ).loc main_arg1)

/-- The result array of device `c`. -/
abbrev G (c : Dev nD) : Buf (Elt Ideal) ((c : Thread nD τ).loc main_v0) := fun i : S4096x1024.Idx => spec (a0 m c) (a1 m c) (i 0) (i 1)

/-- What one point computes, element by element. -/
theorem pay_apply (x0 : Vec Ideal S1024x2048 .bf16) (x1 : Vec Ideal S1024x2048 .bf16) (x : Fin 1024) (y : Fin 1024) :
    k0_pay1 (F := Ideal) x0 x1 (ix2 x y) = ∑ k : Fin 2048, (x0 (ix2 x k) * x1 (ix2 y k) : EReal) := by
  pointwise [k0_pay1]

theorem flushed2_eq (c : Dev nD) (t : Fin cfg0.N) :
    (dats m 0 c).flushed 2 t = ((cfg0.win 2).blk t).view.read (Elt Ideal) (G m c) := by
  rw [Value.flushed2]
  funext i
  obtain ⟨x, y, rfl⟩ := Step.ix2_surj i
  rw [oblk2]
  unfold out0_2
  rw [View.canon_unit_zero Step.hz, View.ld_unit_zero Step.hz, View.ld_unit_zero Step.hz]
  refine (pay_apply _ _ x y).trans ?_
  exact Finset.sum_congr rfl fun k _ => congrArg₂ (fun a b : EReal => a * b) (iblk0 m c t x k) (iblk1 m c t y k)

/-- The run of the kernel: the result array is the product, the arguments are unchanged. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((dats m 0 c).arrAt_eq_of_cover 2 (G m c) (fun t _ => flushed2_eq m c t) cover2), (h c).2⟩)
    (Value.run_blocks m ρ)

section Reference
open Reference11Ideal.Read

/-- The reference's result, element by element. -/
theorem ref_at (x0 : FVec Ideal ⟨2, ![4096, 2048]⟩ .bf16) (x1 : FVec Ideal ⟨2, ![1024, 2048]⟩ .bf16) (r : Fin 4096) (q : Fin 1024) :
    val_main_v7 (F := Ideal) x0 x1 (ix2 r q) = spec x0 x1 r q := by
  pointwise [val_main_cst, val_main_v0, val_main_v1, val_main_v2, val_main_v3, val_main_v4, val_main_v5, val_main_v6, val_main_v7]
  rfl
end Reference

theorem frame_kernel : quiescent_Kernel11 := fun m ρ _ => Kernel11.Gen.frame m ρ
theorem frame_kernelIdeal : quiescent_Kernel11Ideal := fun m ρ _ => Kernel11Ideal.Gen.frame m ρ
theorem frame_reference : quiescent_Reference11Ideal := fun m ρ _ =>
  (θ_run Reference11Ideal.defs _ _).mono (fun r h => ⟨fun c => (h c).2, sem_eq_zero_of_no_sems (by decide) r.2⟩)
    (Reference11Ideal.Value.run (F := Ideal) m ρ)

theorem algebraic : algebraic_Kernel11Ideal_Reference11Ideal := by
  intro m ρ m' ρ' _ hagree
  refine ⟨G m, run m ρ, ?_⟩
  refine (θ_run Reference11Ideal.defs _ _).mono (fun _ h c => ⟨(h c).1.trans ?_, (h c).2⟩) (Reference11Ideal.Value.run (F := Ideal) m' ρ')
  rw [(hagree c).1, (hagree c).2]
  funext i
  obtain ⟨r, q, rfl⟩ := Step.ix2_surj i
  exact ref_at (a0 m c) (a1 m c) r q

end P11
-- ==== Proof.P12.lean ====
module

public import proofs.«01_k».proof.Proof.Step
public import proofs.«01_k».proof.Proof.Gen.Kernel12.Frame
public import proofs.«01_k».proof.Proof.Gen.Kernel12Ideal.Value
public import proofs.«01_k».proof.Proof.Gen.Reference12Ideal.Read
public import proofs.«01_k».proof.Proof.Gen.Reference12Ideal.Run

@[expose] public section

set_option maxRecDepth 16384

noncomputable section

/-! # The claims about `d_ya_gate`: the cotangent of the scan output through its gate, 4096 × 1024, a product over 1024 terms in 4 blocks of 1024 × 1024 -/

namespace Cert.P12

open Kernel12Ideal Kernel12Ideal.Gen Idealize.ShloMosaic Idealize.ShloMosaic.TcCoe Idealize.SL.Sem

/-- The product at row `r` and column `q`: the sum over the 1024 terms. -/
def spec (A : FVec Ideal ⟨2, ![4096, 1024]⟩ .bf16) (B : FVec Ideal ⟨2, ![1024, 1024]⟩ .bf16) (r : Fin 4096) (q : Fin 1024) : EReal := ∑ k : Fin 1024, A (ix2 r k) * B (ix2 q k)

section Blocks
variable {F : FTy → Type} [FloatOps F]
variable (m : (ℓ : Loc nD τ sig) → Buf (Elt F) ℓ) (c : Dev nD) (t : Fin cfg0.N) (x : Fin 1024) (y : Fin 1024)

theorem ltN (t : Fin cfg0.N) : t.val < 4 := lt_of_lt_of_eq t.isLt N_0

theorem at0 : ∀ t : Fin cfg0.N, win0_0.index t 0 = t.val ∧ win0_0.index t 1 = 0 :=
  (by decide +kernel : ∀ t : Fin grid0.N, win0_0.index t 0 = t.val ∧ win0_0.index t 1 = 0)

/-- Block `t` of the first operand, element by element. -/
theorem iblk0 :
    iblk m c 0 t (ix2 x y) = m ((c : Thread nD τ).loc main_arg0) (ix2 ⟨t.val * 1024 + x.val, by have := ltN t; omega⟩ y) := by
  show V m c main_arg0 ((win0_0.rect t).idx (ix2 x y)) = _
  rw [V_main_arg0]
  refine congrArg _ (funext fun a => Fin.ext ?_)
  match a with
  | ⟨0, _⟩ => show win0_0.index t 0 * 1024 + 1 * x.val = t.val * 1024 + x.val; rw [(at0 t).1]; have := ltN t; omega
  | ⟨1, _⟩ => show win0_0.index t 1 * 1024 + 1 * y.val = y.val; rw [(at0 t).2]; have := ltN t; omega

theorem at1 : ∀ t : Fin cfg0.N, win0_1.index t 0 = 0 ∧ win0_1.index t 1 = 0 :=
  (by decide +kernel : ∀ t : Fin grid0.N, win0_1.index t 0 = 0 ∧ win0_1.index t 1 = 0)

/-- Block `t` of the second operand, element by element. -/
theorem iblk1 :
    iblk m c 1 t (ix2 x y) = m ((c : Thread nD τ).loc main_arg1) (ix2 x y) := by
  show V m c main_arg1 ((win0_1.rect t).idx (ix2 x y)) = _
  rw [V_main_arg1]
  refine congrArg _ (funext fun a => Fin.ext ?_)
  match a with
  | ⟨0, _⟩ => show win0_1.index t 0 * 1024 + 1 * x.val = x.val; rw [(at1 t).1]; have := ltN t; omega
  | ⟨1, _⟩ => show win0_1.index t 1 * 1024 + 1 * y.val = y.val; rw [(at1 t).2]; have := ltN t; omega

theorem at2 : ∀ t : Fin cfg0.N, win0_2.index t 0 = t.val ∧ win0_2.index t 1 = 0 :=
  (by decide +kernel : ∀ t : Fin grid0.N, win0_2.index t 0 = t.val ∧ win0_2.index t 1 = 0)

/-- The result array read through point `t`'s block. -/
theorem oblk2 (G : Buf (Elt F) ((c : Thread nD τ).loc main_v0)) :
    ((cfg0.win 2).blk t).view.read (Elt F) G (ix2 x y) = G (ix2 ⟨t.val * 1024 + x.val, by have := ltN t; omega⟩ y) := by
  show G ((win0_2.rect t).idx (ix2 x y)) = _
  refine congrArg _ (funext fun a => Fin.ext ?_)
  match a with
  | ⟨0, _⟩ => show win0_2.index t 0 * 1024 + 1 * x.val = t.val * 1024 + x.val; rw [(at2 t).1]; have := ltN t; omega
  | ⟨1, _⟩ => show win0_2.index t 1 * 1024 + 1 * y.val = y.val; rw [(at2 t).2]; have := ltN t; omega

/-- Every element of the result lies in the block of one point. -/
theorem cover2 (i : (⟨2, ![4096, 1024]⟩ : Shape).Idx) :
    ∃ t : Fin cfg0.N, (cfg0.win 2).flush t = true ∧ i ∈ ((cfg0.win 2).blk t).view.set := by
  have h0 : (i 0 : Nat) < 4096 := (i 0).isLt
  have h1 : (i 1 : Nat) < 1024 := (i 1).isLt
  have hN : cfg0.N = 4 := N_0
  let t : Fin cfg0.N := ⟨(i 0 : Nat) / 1024 * 1 + (i 1 : Nat) / 1024, by omega⟩
  refine ⟨t, flush0_2 _, ?_⟩
  show i ∈ ((View.whole main_v0).slice (win0_2.rect t)).set
  rw [View.set_slice_whole, Rect.mem_set_unit]
  intro a
  match a with
  | ⟨0, _⟩ =>
    show win0_2.index t 0 * 1024 ≤ (i 0 : Nat) ∧ (i 0 : Nat) < win0_2.index t 0 * 1024 + 1024
    rw [(at2 t).1]; dsimp only [t]; omega
  | ⟨1, _⟩ =>
    show win0_2.index t 1 * 1024 ≤ (i 1 : Nat) ∧ (i 1 : Nat) < win0_2.index t 1 * 1024 + 1024
    rw [(at2 t).2]; dsimp only [t]; omega
end Blocks

variable (m : (ℓ : Loc nD τ sig) → Buf (Elt Ideal) ℓ) (ρ : Dev nD → PrngReg)

abbrev a0 (c : Dev nD) : FVec Ideal ⟨2, ![4096, 1024]⟩ .bf16 := m ((c : Thread nD τ).loc main_arg0)
abbrev a1 (c : Dev nD) : FVec Ideal ⟨2, ![1024, 1024]⟩ .bf16 := m ((c : Thread nD τ).loc main_arg1)

/-- The result array of device `c`. -/
abbrev G (c : Dev nD) : Buf (Elt Ideal) ((c : Thread nD τ).loc main_v0) := fun i : S4096x1024.Idx => spec (a0 m c) (a1 m c) (i 0) (i 1)

/-- What one point computes, element by element. -/
theorem pay_apply (x0 : Vec Ideal S1024x1024 .bf16) (x1 : Vec Ideal S1024x1024 .bf16) (x : Fin 1024) (y : Fin 1024) :
    k0_pay1 (F := Ideal) x0 x1 (ix2 x y) = ∑ k : Fin 1024, (x0 (ix2 x k) * x1 (ix2 y k) : EReal) := by
  pointwise [k0_pay1]

theorem flushed2_eq (c : Dev nD) (t : Fin cfg0.N) :
    (dats m 0 c).flushed 2 t = ((cfg0.win 2).blk t).view.read (Elt Ideal) (G m c) := by
  rw [Value.flushed2]
  funext i
  obtain ⟨x, y, rfl⟩ := Step.ix2_surj i
  rw [oblk2]
  unfold out0_2
  rw [View.canon_unit_zero Step.hz, View.ld_unit_zero Step.hz, View.ld_unit_zero Step.hz]
  refine (pay_apply _ _ x y).trans ?_
  exact Finset.sum_congr rfl fun k _ => congrArg₂ (fun a b : EReal => a * b) (iblk0 m c t x k) (iblk1 m c t y k)

/-- The run of the kernel: the result array is the product, the arguments are unchanged. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((dats m 0 c).arrAt_eq_of_cover 2 (G m c) (fun t _ => flushed2_eq m c t) cover2), (h c).2⟩)
    (Value.run_blocks m ρ)

section Reference
open Reference12Ideal.Read

/-- The reference's result, element by element. -/
theorem ref_at (x0 : FVec Ideal ⟨2, ![4096, 1024]⟩ .bf16) (x1 : FVec Ideal ⟨2, ![1024, 1024]⟩ .bf16) (r : Fin 4096) (q : Fin 1024) :
    val_main_v7 (F := Ideal) x0 x1 (ix2 r q) = spec x0 x1 r q := by
  pointwise [val_main_cst, val_main_v0, val_main_v1, val_main_v2, val_main_v3, val_main_v4, val_main_v5, val_main_v6, val_main_v7]
  rfl
end Reference

theorem frame_kernel : quiescent_Kernel12 := fun m ρ _ => Kernel12.Gen.frame m ρ
theorem frame_kernelIdeal : quiescent_Kernel12Ideal := fun m ρ _ => Kernel12Ideal.Gen.frame m ρ
theorem frame_reference : quiescent_Reference12Ideal := fun m ρ _ =>
  (θ_run Reference12Ideal.defs _ _).mono (fun r h => ⟨fun c => (h c).2, sem_eq_zero_of_no_sems (by decide) r.2⟩)
    (Reference12Ideal.Value.run (F := Ideal) m ρ)

theorem algebraic : algebraic_Kernel12Ideal_Reference12Ideal := by
  intro m ρ m' ρ' _ hagree
  refine ⟨G m, run m ρ, ?_⟩
  refine (θ_run Reference12Ideal.defs _ _).mono (fun _ h c => ⟨(h c).1.trans ?_, (h c).2⟩) (Reference12Ideal.Value.run (F := Ideal) m' ρ')
  rw [(hagree c).1, (hagree c).2]
  funext i
  obtain ⟨r, q, rfl⟩ := Step.ix2_surj i
  exact ref_at (a0 m c) (a1 m c) r q

end P12
-- ==== Proof.P13.lean ====
module

public import proofs.«01_k».proof.Proof.Step
public import proofs.«01_k».proof.Proof.Gen.Kernel13.Frame
public import proofs.«01_k».proof.Proof.Gen.Kernel13Ideal.Value
public import proofs.«01_k».proof.Proof.Gen.Reference13Ideal.Read
public import proofs.«01_k».proof.Proof.Gen.Reference13Ideal.Run

@[expose] public section

set_option maxRecDepth 16384

noncomputable section

/-! # The claims about `ssm_out`: the projection of the scan branch, 4096 × 2048, a product over 1024 terms in 8 blocks of 1024 × 1024 -/

namespace Cert.P13

open Kernel13Ideal Kernel13Ideal.Gen Idealize.ShloMosaic Idealize.ShloMosaic.TcCoe Idealize.SL.Sem

/-- The product at row `r` and column `q`: the sum over the 1024 terms. -/
def spec (A : FVec Ideal ⟨2, ![4096, 1024]⟩ .bf16) (B : FVec Ideal ⟨2, ![1024, 2048]⟩ .bf16) (r : Fin 4096) (q : Fin 2048) : EReal := ∑ k : Fin 1024, A (ix2 r k) * B (ix2 k q)

section Blocks
variable {F : FTy → Type} [FloatOps F]
variable (m : (ℓ : Loc nD τ sig) → Buf (Elt F) ℓ) (c : Dev nD) (t : Fin cfg0.N) (x : Fin 1024) (y : Fin 1024)

theorem ltN (t : Fin cfg0.N) : t.val < 8 := lt_of_lt_of_eq t.isLt N_0

theorem at0 : ∀ t : Fin cfg0.N, win0_0.index t 0 = t.val / 2 ∧ win0_0.index t 1 = 0 :=
  (by decide +kernel : ∀ t : Fin grid0.N, win0_0.index t 0 = t.val / 2 ∧ win0_0.index t 1 = 0)

/-- Block `t` of the first operand, element by element. -/
theorem iblk0 :
    iblk m c 0 t (ix2 x y) = m ((c : Thread nD τ).loc main_arg0) (ix2 ⟨t.val / 2 * 1024 + x.val, by have := ltN t; omega⟩ y) := by
  show V m c main_arg0 ((win0_0.rect t).idx (ix2 x y)) = _
  rw [V_main_arg0]
  refine congrArg _ (funext fun a => Fin.ext ?_)
  match a with
  | ⟨0, _⟩ => show win0_0.index t 0 * 1024 + 1 * x.val = t.val / 2 * 1024 + x.val; rw [(at0 t).1]; have := ltN t; omega
  | ⟨1, _⟩ => show win0_0.index t 1 * 1024 + 1 * y.val = y.val; rw [(at0 t).2]; have := ltN t; omega

theorem at1 : ∀ t : Fin cfg0.N, win0_1.index t 0 = 0 ∧ win0_1.index t 1 = t.val % 2 :=
  (by decide +kernel : ∀ t : Fin grid0.N, win0_1.index t 0 = 0 ∧ win0_1.index t 1 = t.val % 2)

/-- Block `t` of the second operand, element by element. -/
theorem iblk1 :
    iblk m c 1 t (ix2 x y) = m ((c : Thread nD τ).loc main_arg1) (ix2 x ⟨t.val % 2 * 1024 + y.val, by have := ltN t; omega⟩) := by
  show V m c main_arg1 ((win0_1.rect t).idx (ix2 x y)) = _
  rw [V_main_arg1]
  refine congrArg _ (funext fun a => Fin.ext ?_)
  match a with
  | ⟨0, _⟩ => show win0_1.index t 0 * 1024 + 1 * x.val = x.val; rw [(at1 t).1]; have := ltN t; omega
  | ⟨1, _⟩ => show win0_1.index t 1 * 1024 + 1 * y.val = t.val % 2 * 1024 + y.val; rw [(at1 t).2]; have := ltN t; omega

theorem at2 : ∀ t : Fin cfg0.N, win0_2.index t 0 = t.val / 2 ∧ win0_2.index t 1 = t.val % 2 :=
  (by decide +kernel : ∀ t : Fin grid0.N, win0_2.index t 0 = t.val / 2 ∧ win0_2.index t 1 = t.val % 2)

/-- The result array read through point `t`'s block. -/
theorem oblk2 (G : Buf (Elt F) ((c : Thread nD τ).loc main_v0)) :
    ((cfg0.win 2).blk t).view.read (Elt F) G (ix2 x y) = G (ix2 ⟨t.val / 2 * 1024 + x.val, by have := ltN t; omega⟩ ⟨t.val % 2 * 1024 + y.val, by have := ltN t; omega⟩) := by
  show G ((win0_2.rect t).idx (ix2 x y)) = _
  refine congrArg _ (funext fun a => Fin.ext ?_)
  match a with
  | ⟨0, _⟩ => show win0_2.index t 0 * 1024 + 1 * x.val = t.val / 2 * 1024 + x.val; rw [(at2 t).1]; have := ltN t; omega
  | ⟨1, _⟩ => show win0_2.index t 1 * 1024 + 1 * y.val = t.val % 2 * 1024 + y.val; rw [(at2 t).2]; have := ltN t; omega

/-- Every element of the result lies in the block of one point. -/
theorem cover2 (i : (⟨2, ![4096, 2048]⟩ : Shape).Idx) :
    ∃ t : Fin cfg0.N, (cfg0.win 2).flush t = true ∧ i ∈ ((cfg0.win 2).blk t).view.set := by
  have h0 : (i 0 : Nat) < 4096 := (i 0).isLt
  have h1 : (i 1 : Nat) < 2048 := (i 1).isLt
  have hN : cfg0.N = 8 := N_0
  let t : Fin cfg0.N := ⟨(i 0 : Nat) / 1024 * 2 + (i 1 : Nat) / 1024, by omega⟩
  refine ⟨t, flush0_2 _, ?_⟩
  show i ∈ ((View.whole main_v0).slice (win0_2.rect t)).set
  rw [View.set_slice_whole, Rect.mem_set_unit]
  intro a
  match a with
  | ⟨0, _⟩ =>
    show win0_2.index t 0 * 1024 ≤ (i 0 : Nat) ∧ (i 0 : Nat) < win0_2.index t 0 * 1024 + 1024
    rw [(at2 t).1]; dsimp only [t]; omega
  | ⟨1, _⟩ =>
    show win0_2.index t 1 * 1024 ≤ (i 1 : Nat) ∧ (i 1 : Nat) < win0_2.index t 1 * 1024 + 1024
    rw [(at2 t).2]; dsimp only [t]; omega
end Blocks

variable (m : (ℓ : Loc nD τ sig) → Buf (Elt Ideal) ℓ) (ρ : Dev nD → PrngReg)

abbrev a0 (c : Dev nD) : FVec Ideal ⟨2, ![4096, 1024]⟩ .bf16 := m ((c : Thread nD τ).loc main_arg0)
abbrev a1 (c : Dev nD) : FVec Ideal ⟨2, ![1024, 2048]⟩ .bf16 := m ((c : Thread nD τ).loc main_arg1)

/-- The result array of device `c`. -/
abbrev G (c : Dev nD) : Buf (Elt Ideal) ((c : Thread nD τ).loc main_v0) := fun i : S4096x2048.Idx => spec (a0 m c) (a1 m c) (i 0) (i 1)

/-- What one point computes, element by element. -/
theorem pay_apply (x0 : Vec Ideal S1024x1024 .bf16) (x1 : Vec Ideal S1024x1024 .bf16) (x : Fin 1024) (y : Fin 1024) :
    k0_pay1 (F := Ideal) x0 x1 (ix2 x y) = ∑ k : Fin 1024, (x0 (ix2 x k) * x1 (ix2 k y) : EReal) := by
  pointwise [k0_pay1]

theorem flushed2_eq (c : Dev nD) (t : Fin cfg0.N) :
    (dats m 0 c).flushed 2 t = ((cfg0.win 2).blk t).view.read (Elt Ideal) (G m c) := by
  rw [Value.flushed2]
  funext i
  obtain ⟨x, y, rfl⟩ := Step.ix2_surj i
  rw [oblk2]
  unfold out0_2
  rw [View.canon_unit_zero Step.hz, View.ld_unit_zero Step.hz, View.ld_unit_zero Step.hz]
  refine (pay_apply _ _ x y).trans ?_
  exact Finset.sum_congr rfl fun k _ => congrArg₂ (fun a b : EReal => a * b) (iblk0 m c t x k) (iblk1 m c t k y)

/-- The run of the kernel: the result array is the product, the arguments are unchanged. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((dats m 0 c).arrAt_eq_of_cover 2 (G m c) (fun t _ => flushed2_eq m c t) cover2), (h c).2⟩)
    (Value.run_blocks m ρ)

section Reference
open Reference13Ideal.Read

/-- The reference's result, element by element. -/
theorem ref_at (x0 : FVec Ideal ⟨2, ![4096, 1024]⟩ .bf16) (x1 : FVec Ideal ⟨2, ![1024, 2048]⟩ .bf16) (r : Fin 4096) (q : Fin 2048) :
    val_main_v3 (F := Ideal) x0 x1 (ix2 r q) = spec x0 x1 r q := by
  pointwise [val_main_v0, val_main_v1, val_main_v2, val_main_v3]
  rfl
end Reference

theorem frame_kernel : quiescent_Kernel13 := fun m ρ _ => Kernel13.Gen.frame m ρ
theorem frame_kernelIdeal : quiescent_Kernel13Ideal := fun m ρ _ => Kernel13Ideal.Gen.frame m ρ
theorem frame_reference : quiescent_Reference13Ideal := fun m ρ _ =>
  (θ_run Reference13Ideal.defs _ _).mono (fun r h => ⟨fun c => (h c).2, sem_eq_zero_of_no_sems (by decide) r.2⟩)
    (Reference13Ideal.Value.run (F := Ideal) m ρ)

theorem algebraic : algebraic_Kernel13Ideal_Reference13Ideal := by
  intro m ρ m' ρ' _ hagree
  refine ⟨G m, run m ρ, ?_⟩
  refine (θ_run Reference13Ideal.defs _ _).mono (fun _ h c => ⟨(h c).1.trans ?_, (h c).2⟩) (Reference13Ideal.Value.run (F := Ideal) m' ρ')
  rw [(hagree c).1, (hagree c).2]
  funext i
  obtain ⟨r, q, rfl⟩ := Step.ix2_surj i
  exact ref_at (a0 m c) (a1 m c) r q

end P13
-- ==== Proof.P14.lean ====
module

public import proofs.«01_k».proof.Proof.Step
public import proofs.«01_k».proof.Proof.Gen.Kernel14.Frame
public import proofs.«01_k».proof.Proof.Gen.Kernel14Ideal.Value
public import proofs.«01_k».proof.Proof.Gen.Reference14Ideal.Read
public import proofs.«01_k».proof.Proof.Gen.Reference14Ideal.Run

@[expose] public section

set_option maxRecDepth 16384

noncomputable section

/-! # The claims about `d_ffn_in`: the cotangent of the feed-forward input, 4096 × 2048, in 8 blocks of 1024 × 1024, each accumulated over 4 points of 2816 terms -/

namespace Cert.P14

open Kernel14Ideal Kernel14Ideal.Gen Idealize.ShloMosaic Idealize.ShloMosaic.TcCoe Idealize.SL.Sem

theorem hz3 : (![0, 0, 0] : Fin 3 → Nat) = fun _ => 0 := funext fun a => by fin_cases a <;> rfl

/-- The product at row `r` and column `q`: the sum over the 11264 terms. -/
def spec (A : FVec Ideal ⟨3, ![2, 4096, 5632]⟩ .bf16) (B : FVec Ideal ⟨2, ![2048, 11264]⟩ .bf16) (r : Fin 4096) (q : Fin 2048) : EReal := ∑ k : Fin 11264, A (ix3 ⟨k.val / 5632, by omega⟩ r ⟨k.val % 5632, by omega⟩) * B (ix2 q k)

section Cases
variable {F : FTy → Type} [FloatOps F]

/-! What each case of the body leaves: its payload. -/

theorem sout0_A_0_eq (c : Dev nD) (i : grid0.Coords) (arg3 : Memref sig .tc .vmem S1x1024x2816 .bf16) (harg3 : arg3.IsWhole) (arg4 : Memref sig .tc .vmem S1024x2816 .bf16) (harg4 : arg4.IsWhole) (arg5 : Memref sig .tc .vmem S1024x1024 .bf16) (harg5 : arg5.IsWhole) (arg6 : Memref sig .tc .vmem S1024x1024 .f32) (harg6 : arg6.IsWhole) (hc0 : cond0_0 i) (hc1 : ¬cond0_1 i) (hc2 : ¬cond0_2 i)
    (x0 : Vec F S1x1024x2816 .bf16) (x1 : Vec F S1024x2816 .bf16) :
    sout0_A_0 c i arg3 harg3 arg4 harg4 arg5 harg5 arg6 harg6 hc0 hc1 hc2 x0 x1 = k0_pay2 x0 x1 := by
  unfold sout0_A_0 kernelRun0_A
  rw [View.read_writes_junk_eq_canon]
  dsimp only
  rw [View.canon_unit_zero Step.hz]
  simp only [View.readAt_eq_ld, harg3.read_unread, harg4.read_unread]
  rw [View.ld_unit_zero hz3, View.ld_unit_zero Step.hz]

theorem sout0_B_0_eq (c : Dev nD) (i : grid0.Coords) (arg3 : Memref sig .tc .vmem S1x1024x2816 .bf16) (harg3 : arg3.IsWhole) (arg4 : Memref sig .tc .vmem S1024x2816 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i) (hc2 : ¬cond0_2 i)
    (x0 : Vec F S1x1024x2816 .bf16) (x1 : Vec F S1024x2816 .bf16) (xs0 : Vec F S1024x1024 .f32) :
    sout0_B_0 c i arg3 harg3 arg4 harg4 arg5 harg5 arg6 harg6 hc0 hc1 hc2 x0 x1 xs0 = k0_pay3 x0 x1 xs0 := by
  unfold sout0_B_0 kernelRun0_B
  rw [View.read_writes_junk_eq_canon]
  dsimp only
  rw [View.canon_unit_zero Step.hz]
  simp only [View.readAt_eq_ld, harg3.read_unread, harg4.read_unread, harg6.read_unread]
  rw [View.ld_unit_zero hz3, View.ld_unit_zero Step.hz, View.ld_unit_zero Step.hz]

theorem out0_C_2_eq (c : Dev nD) (i : grid0.Coords) (arg3 : Memref sig .tc .vmem S1x1024x2816 .bf16) (harg3 : arg3.IsWhole) (arg4 : Memref sig .tc .vmem S1024x2816 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i) (hc2 : cond0_2 i)
    (x0 : Vec F S1x1024x2816 .bf16) (x1 : Vec F S1024x2816 .bf16) (xs0 : Vec F S1024x1024 .f32) :
    out0_C_2 c i arg3 harg3 arg4 harg4 arg5 harg5 arg6 harg6 hc0 hc1 hc2 x0 x1 xs0 = k0_pay4 (k0_pay3 x0 x1 xs0) := by
  unfold out0_C_2 kernelRun0_C
  rw [View.read_writes_junk_eq_canon]
  dsimp only
  rw [View.canon_unit_zero Step.hz]
  unfold kernelRun0_C.sl.v13 kernelRun0_C.sl.HS0_1
  rw [View.readCov_unit_zero _ Step.hz]
  simp only [View.readAt_eq_ld, harg3.read_unread, harg4.read_unread, harg6.read_unread]
  rw [View.ld_unit_zero hz3, View.ld_unit_zero Step.hz, View.ld_unit_zero Step.hz]
end Cases

/-- Point `s` of block `b`. -/
abbrev pt (b : Fin 8) (s : ℕ) (h : s < 4) : Fin cfg0.N := ⟨4 * b.val + s, by have : cfg0.N = 32 := N_0; omega⟩
/-- Row `x` and column `y` of block `b`, term `k` of its point `s`. -/
abbrev row (b : Fin 8) (x : Fin 1024) : Fin 4096 := ⟨b.val / 2 * 1024 + x.val, by omega⟩
abbrev col (b : Fin 8) (y : Fin 1024) : Fin 2048 := ⟨b.val % 2 * 1024 + y.val, by omega⟩
abbrev term (s : ℕ) (h : s < 4) (k : Fin 2816) : Fin 11264 := ⟨s * 2816 + k.val, by omega⟩

section Blocks
variable {F : FTy → Type} [FloatOps F]
variable (m : (ℓ : Loc nD τ sig) → Buf (Elt F) ℓ)

theorem at0 : ∀ t : Fin cfg0.N, win0_0.index t 0 = t.val % 4 / 2 ∧ win0_0.index t 1 = t.val / 8 ∧ win0_0.index t 2 = t.val % 4 % 2 :=
  (by decide +kernel : ∀ t : Fin grid0.N, win0_0.index t 0 = t.val % 4 / 2 ∧ win0_0.index t 1 = t.val / 8 ∧ win0_0.index t 2 = t.val % 4 % 2)

/-- The first operand's block at point `s` of block `b`. -/
theorem iblk0 (c : Dev nD) (b : Fin 8) (s : ℕ) (h : s < 4) (z : Fin 1) (x : Fin 1024) (k : Fin 2816) :
    iblk m c 0 (pt b s h) (ix3 z x k) = m ((c : Thread nD τ).loc main_arg0) (ix3 ⟨(s * 2816 + k.val) / 5632, by omega⟩ (row b x) ⟨(s * 2816 + k.val) % 5632, by omega⟩) := by
  show V m c main_arg0 ((win0_0.rect (pt b s h)).idx (ix3 z x k)) = _
  rw [V_main_arg0]
  refine congrArg _ (funext fun a => Fin.ext ?_)
  match a with
  | ⟨0, _⟩ => show win0_0.index (pt b s h) 0 * 1 + 1 * z.val = (s * 2816 + k.val) / 5632; rw [(at0 _).1]; dsimp only [pt]; omega
  | ⟨1, _⟩ => show win0_0.index (pt b s h) 1 * 1024 + 1 * x.val = b.val / 2 * 1024 + x.val; rw [(at0 _).2.1]; dsimp only [pt]; omega
  | ⟨2, _⟩ => show win0_0.index (pt b s h) 2 * 2816 + 1 * k.val = (s * 2816 + k.val) % 5632; rw [(at0 _).2.2]; dsimp only [pt]; omega

theorem at1 : ∀ t : Fin cfg0.N, win0_1.index t 1 = t.val % 4 ∧ win0_1.index t 0 = t.val / 4 % 2 :=
  (by decide +kernel : ∀ t : Fin grid0.N, win0_1.index t 1 = t.val % 4 ∧ win0_1.index t 0 = t.val / 4 % 2)

/-- The second operand's block at point `s` of block `b`. -/
theorem iblk1 (c : Dev nD) (b : Fin 8) (s : ℕ) (h : s < 4) (y : Fin 1024) (k : Fin 2816) :
    iblk m c 1 (pt b s h) (ix2 y k) = m ((c : Thread nD τ).loc main_arg1) (ix2 (col b y) (term s h k)) := by
  show V m c main_arg1 ((win0_1.rect (pt b s h)).idx (ix2 y k)) = _
  rw [V_main_arg1]
  refine congrArg _ (funext fun a => Fin.ext ?_)
  match a with
  | ⟨0, _⟩ => show win0_1.index (pt b s h) 0 * 1024 + 1 * y.val = b.val % 2 * 1024 + y.val; rw [(at1 _).2]; dsimp only [pt]; omega
  | ⟨1, _⟩ => show win0_1.index (pt b s h) 1 * 2816 + 1 * k.val = s * 2816 + k.val; rw [(at1 _).1]; dsimp only [pt]; omega

theorem at2 : ∀ t : Fin cfg0.N, win0_2.index t 0 = t.val / 8 ∧ win0_2.index t 1 = t.val / 4 % 2 :=
  (by decide +kernel : ∀ t : Fin grid0.N, win0_2.index t 0 = t.val / 8 ∧ win0_2.index t 1 = t.val / 4 % 2)

/-- The result array read through block `b`. -/
theorem oblk2 (c : Dev nD) (G : Buf (Elt F) ((c : Thread nD τ).loc main_v0)) (b : Fin 8) (s : ℕ) (h : s < 4) (x : Fin 1024) (y : Fin 1024) :
    ((cfg0.win 2).blk (pt b s h)).view.read (Elt F) G (ix2 x y) = G (ix2 (row b x) (col b y)) := by
  show G ((win0_2.rect (pt b s h)).idx (ix2 x y)) = _
  refine congrArg _ (funext fun a => Fin.ext ?_)
  match a with
  | ⟨0, _⟩ => show win0_2.index (pt b s h) 0 * 1024 + 1 * x.val = b.val / 2 * 1024 + x.val; rw [(at2 _).1]; dsimp only [pt]; omega
  | ⟨1, _⟩ => show win0_2.index (pt b s h) 1 * 1024 + 1 * y.val = b.val % 2 * 1024 + y.val; rw [(at2 _).2]; dsimp only [pt]; omega

/-- Every element of the result lies in one block, written back at the block's last point. -/
theorem cover2 (i : (⟨2, ![4096, 2048]⟩ : Shape).Idx) :
    ∃ t : Fin cfg0.N, (cfg0.win 2).flush t = true ∧ i ∈ ((cfg0.win 2).blk t).view.set := by
  have h0 : (i 0 : Nat) < 4096 := (i 0).isLt
  have h1 : (i 1 : Nat) < 2048 := (i 1).isLt
  let t : Fin cfg0.N := pt ⟨(i 0 : Nat) / 1024 * 2 + (i 1 : Nat) / 1024, by omega⟩ 3 (by omega)
  refine ⟨t, (flush0_2 t).mpr (by dsimp only [t, pt]; omega), ?_⟩
  show i ∈ ((View.whole main_v0).slice (win0_2.rect t)).set
  rw [View.set_slice_whole, Rect.mem_set_unit]
  intro a
  match a with
  | ⟨0, _⟩ =>
    show win0_2.index t 0 * 1024 ≤ (i 0 : Nat) ∧ (i 0 : Nat) < win0_2.index t 0 * 1024 + 1024
    rw [(at2 t).1]; dsimp only [t, pt]; omega
  | ⟨1, _⟩ =>
    show win0_2.index t 1 * 1024 ≤ (i 1 : Nat) ∧ (i 1 : Nat) < win0_2.index t 1 * 1024 + 1024
    rw [(at2 t).2]; dsimp only [t, pt]; omega

/-! What the points of one block leave, one after the other. -/

theorem acc0 (c : Dev nD) (b : Fin 8) : (outsAt0 m c (pt b 0 (by omega)).val (pt b 0 (by omega)).isLt).2 = k0_pay2 (iblk m c 0 (pt b 0 (by omega))) (iblk m c 1 (pt b 0 (by omega))) := by
  rw [outsAt0_A m c (pt b 0 (by omega)) (by dsimp only [pt]; omega) (by dsimp only [pt]; omega) (by dsimp only [pt]; omega)]
  dsimp only
  exact sout0_A_0_eq _ _ _ _ _ _ _ _ _ _ _ _ _ _ _

theorem acc1 (c : Dev nD) (b : Fin 8) : (outsAt0 m c (pt b 1 (by omega)).val (pt b 1 (by omega)).isLt).2
    = k0_pay3 (iblk m c 0 (pt b 1 (by omega))) (iblk m c 1 (pt b 1 (by omega))) (outsAt0 m c (pt b 0 (by omega)).val (pt b 0 (by omega)).isLt).2 := by
  rw [outsAt0_B m c (pt b 1 (by omega)) (by dsimp only [pt]; omega) (by dsimp only [pt]; omega) (by dsimp only [pt]; omega)]
  dsimp only
  exact sout0_B_0_eq _ _ _ _ _ _ _ _ _ _ _ _ _ _ _ _

theorem acc2 (c : Dev nD) (b : Fin 8) : (outsAt0 m c (pt b 2 (by omega)).val (pt b 2 (by omega)).isLt).2
    = k0_pay3 (iblk m c 0 (pt b 2 (by omega))) (iblk m c 1 (pt b 2 (by omega))) (outsAt0 m c (pt b 1 (by omega)).val (pt b 1 (by omega)).isLt).2 := by
  rw [outsAt0_B m c (pt b 2 (by omega)) (by dsimp only [pt]; omega) (by dsimp only [pt]; omega) (by dsimp only [pt]; omega)]
  dsimp only
  exact sout0_B_0_eq _ _ _ _ _ _ _ _ _ _ _ _ _ _ _ _

theorem acc3 (c : Dev nD) (b : Fin 8) : (outsAt0 m c (pt b 3 (by omega)).val (pt b 3 (by omega)).isLt).1
    = k0_pay4 (k0_pay3 (iblk m c 0 (pt b 3 (by omega))) (iblk m c 1 (pt b 3 (by omega))) (outsAt0 m c (pt b 2 (by omega)).val (pt b 2 (by omega)).isLt).2) := by
  rw [outsAt0_C m c (pt b 3 (by omega)) (by dsimp only [pt]; omega) (by dsimp only [pt]; omega) (by dsimp only [pt]; omega)]
  dsimp only
  exact out0_C_2_eq _ _ _ _ _ _ _ _ _ _ _ _ _ _ _ _
end Blocks

theorem pay_first (x0 : Vec Ideal S1x1024x2816 .bf16) (x1 : Vec Ideal S1024x2816 .bf16) (x : Fin 1024) (y : Fin 1024) :
    k0_pay2 (F := Ideal) x0 x1 (ix2 x y) = ∑ k : Fin 2816, (x0 (ix3 0 x k) * x1 (ix2 y k) : EReal) := by
  pointwise [k0_pay1, k0_pay2]
theorem pay_step (x0 : Vec Ideal S1x1024x2816 .bf16) (x1 : Vec Ideal S1024x2816 .bf16) (a : Vec Ideal S1024x1024 .f32) (x : Fin 1024) (y : Fin 1024) :
    k0_pay3 (F := Ideal) x0 x1 a (ix2 x y) = (a (ix2 x y) : EReal) + ∑ k : Fin 2816, (x0 (ix3 0 x k) * x1 (ix2 y k) : EReal) := by
  pointwise [k0_pay1, k0_pay3]
theorem pay_last (a : Vec Ideal S1024x1024 .f32) (x : Fin 1024) (y : Fin 1024) : k0_pay4 (F := Ideal) a (ix2 x y) = a (ix2 x y) := by
  pointwise [k0_pay4]

variable (m : (ℓ : Loc nD τ sig) → Buf (Elt Ideal) ℓ) (ρ : Dev nD → PrngReg)

abbrev a0 (c : Dev nD) : FVec Ideal ⟨3, ![2, 4096, 5632]⟩ .bf16 := m ((c : Thread nD τ).loc main_arg0)
abbrev a1 (c : Dev nD) : FVec Ideal ⟨2, ![2048, 11264]⟩ .bf16 := m ((c : Thread nD τ).loc main_arg1)

/-- The result array of device `c`. -/
abbrev G (c : Dev nD) : Buf (Elt Ideal) ((c : Thread nD τ).loc main_v0) := fun i : S4096x2048.Idx => spec (a0 m c) (a1 m c) (i 0) (i 1)

/-- The terms of point `s`. -/
def part (A : FVec Ideal ⟨3, ![2, 4096, 5632]⟩ .bf16) (B : FVec Ideal ⟨2, ![2048, 11264]⟩ .bf16) (b : Fin 8) (x : Fin 1024) (y : Fin 1024) (s : ℕ) (h : s < 4) : EReal :=
  ∑ k : Fin 2816, A (ix3 ⟨(s * 2816 + k.val) / 5632, by omega⟩ (row b x) ⟨(s * 2816 + k.val) % 5632, by omega⟩) * B (ix2 (col b y) (term s h k))

theorem part_blk (c : Dev nD) (b : Fin 8) (x : Fin 1024) (y : Fin 1024) (s : ℕ) (h : s < 4) (x0 : Vec Ideal S1x1024x2816 .bf16) (x1 : Vec Ideal S1024x2816 .bf16)
    (e0 : x0 = iblk m c 0 (pt b s h)) (e1 : x1 = iblk m c 1 (pt b s h)) :
    ∑ k : Fin 2816, (x0 (ix3 0 x k) * x1 (ix2 y k) : EReal) = part (a0 m c) (a1 m c) b x y s h := by
  subst e0 e1
  exact Finset.sum_congr rfl fun k _ => congrArg₂ (fun a b : EReal => a * b) (iblk0 m c b s h 0 x k) (iblk1 m c b s h y k)

theorem flushed2_eq (c : Dev nD) (t : Fin cfg0.N) (hf : (cfg0.win 2).flush t = true) :
    (dats m 0 c).flushed 2 t = ((cfg0.win 2).blk t).view.read (Elt Ideal) (G m c) := by
  have hT : t.val < 32 := lt_of_lt_of_eq t.isLt N_0
  have hm : t.val % 4 = 3 := (flush0_2 t).mp hf
  obtain ⟨b, rfl⟩ : ∃ b : Fin 8, t = pt b 3 (by decide) := ⟨⟨t.val / 4, by omega⟩, Fin.ext (by show t.val = 4 * (t.val / 4) + 3; omega)⟩
  rw [Value.flushed2]
  funext i
  obtain ⟨x, y, rfl⟩ := Step.ix2_surj i
  rw [oblk2, acc3]
  refine (pay_last _ x y).trans ?_
  refine (pay_step _ _ _ x y).trans ?_
  rw [acc2, pay_step]
  rw [acc1, pay_step]
  rw [acc0, pay_first]
  rw [part_blk m c b x y 0 (by omega) _ _ rfl rfl, part_blk m c b x y 1 (by omega) _ _ rfl rfl, part_blk m c b x y 2 (by omega) _ _ rfl rfl, part_blk m c b x y 3 (by omega) _ _ rfl rfl]
  refine Eq.trans ?_ (Sums.sum_blocks 4 2816 11264 (by norm_num) fun k => a0 m c (ix3 ⟨k.val / 5632, by omega⟩ (row b x) ⟨k.val % 5632, by omega⟩) * a1 m c (ix2 (col b y) k)).symm
  rw [Fin.sum_univ_four]
  rfl

/-- The run of the kernel: the result array is the product, the arguments are unchanged. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((dats m 0 c).arrAt_eq_of_cover 2 (G m c) (fun t hf => flushed2_eq m c t hf) cover2), (h c).2⟩)
    (Value.run_blocks m ρ)

section Reference
open Reference14Ideal.Read

/-- The reference's result, element by element. -/
theorem ref_at (x0 : FVec Ideal ⟨3, ![2, 4096, 5632]⟩ .bf16) (x1 : FVec Ideal ⟨2, ![2048, 11264]⟩ .bf16) (r : Fin 4096) (q : Fin 2048) :
    val_main_v12 (F := Ideal) x0 x1 (ix2 r q) = spec x0 x1 r q := by
  pointwise [val_main_v0, val_main_v1, val_main_v2, val_main_v3, val_main_v4, val_main_cst, val_main_v5, val_main_v6, val_main_v7, val_main_v8, val_main_v9, val_main_v10, val_main_v11, val_main_v12]
  unfold spec
  rw [Sums.sum_blocks 2 5632 11264 (by norm_num), Fin.sum_univ_two]
  refine congrArg₂ (fun a b : EReal => a + b) (Finset.sum_congr rfl fun k _ => ?_) (Finset.sum_congr rfl fun k _ => ?_)
  · refine congrArg₂ (fun a b : EReal => a * b) (congrArg x0 (funext fun a => Fin.ext ?_)) (congrArg x1 (funext fun a => Fin.ext ?_))
    · match a with
      | ⟨0, _⟩ => show 0 = (0 * 5632 + k.val) / 5632; omega
      | ⟨1, _⟩ => rfl
      | ⟨2, _⟩ => show k.val = (0 * 5632 + k.val) % 5632; omega
    · match a with
      | ⟨0, _⟩ => rfl
      | ⟨1, _⟩ => show k.val = 0 * 5632 + k.val; omega
  · refine congrArg₂ (fun a b : EReal => a * b) (congrArg x0 (funext fun a => Fin.ext ?_)) (congrArg x1 (funext fun a => Fin.ext ?_))
    · match a with
      | ⟨0, _⟩ => show 1 = (1 * 5632 + k.val) / 5632; omega
      | ⟨1, _⟩ => rfl
      | ⟨2, _⟩ => show k.val = (1 * 5632 + k.val) % 5632; omega
    · match a with
      | ⟨0, _⟩ => rfl
      | ⟨1, _⟩ => show 5632 + k.val = 1 * 5632 + k.val; omega
end Reference

theorem frame_kernel : quiescent_Kernel14 := fun m ρ _ => Kernel14.Gen.frame m ρ
theorem frame_kernelIdeal : quiescent_Kernel14Ideal := fun m ρ _ => Kernel14Ideal.Gen.frame m ρ
theorem frame_reference : quiescent_Reference14Ideal := fun m ρ _ =>
  (θ_run Reference14Ideal.defs _ _).mono (fun r h => ⟨fun c => (h c).2, sem_eq_zero_of_no_sems (by decide) r.2⟩)
    (Reference14Ideal.Value.run (F := Ideal) m ρ)

theorem algebraic : algebraic_Kernel14Ideal_Reference14Ideal := by
  intro m ρ m' ρ' _ hagree
  refine ⟨G m, run m ρ, ?_⟩
  refine (θ_run Reference14Ideal.defs _ _).mono (fun _ h c => ⟨(h c).1.trans ?_, (h c).2⟩) (Reference14Ideal.Value.run (F := Ideal) m' ρ')
  rw [(hagree c).1, (hagree c).2]
  funext i
  obtain ⟨r, q, rfl⟩ := Step.ix2_surj i
  exact ref_at (a0 m c) (a1 m c) r q

end P14
-- ==== Proof.P15.lean ====
module

public import proofs.«01_k».proof.Proof.Step
public import proofs.«01_k».proof.Proof.Gen.Kernel15.Frame
public import proofs.«01_k».proof.Proof.Gen.Kernel15Ideal.Value
public import proofs.«01_k».proof.Proof.Gen.Reference15Ideal.Read
public import proofs.«01_k».proof.Proof.Gen.Reference15Ideal.Run

@[expose] public section

set_option maxRecDepth 16384

noncomputable section

/-! # The claims about `d_xn`: the cotangent of the normalised tokens, 4096 × 2048, in 8 blocks of 1024 × 1024, each accumulated over 2 points of 4096 terms -/

namespace Cert.P15

open Kernel15Ideal Kernel15Ideal.Gen Idealize.ShloMosaic Idealize.ShloMosaic.TcCoe Idealize.SL.Sem

theorem hz3 : (![0, 0, 0] : Fin 3 → Nat) = fun _ => 0 := funext fun a => by fin_cases a <;> rfl

/-- The product at row `r` and column `q`: the sum over the 8192 terms. -/
def spec (A : FVec Ideal ⟨2, ![4096, 8192]⟩ .bf16) (B : FVec Ideal ⟨2, ![2048, 8192]⟩ .bf16) (r : Fin 4096) (q : Fin 2048) : EReal := ∑ k : Fin 8192, A (ix2 r k) * B (ix2 q k)

section Cases
variable {F : FTy → Type} [FloatOps F]

/-! What each case of the body leaves: its payload. -/

theorem sout0_A_0_eq (c : Dev nD) (i : grid0.Coords) (arg3 : Memref sig .tc .vmem S1024x4096 .bf16) (harg3 : arg3.IsWhole) (arg4 : Memref sig .tc .vmem S1024x4096 .bf16) (harg4 : arg4.IsWhole) (arg5 : Memref sig .tc .vmem S1024x1024 .bf16) (harg5 : arg5.IsWhole) (arg6 : Memref sig .tc .vmem S1024x1024 .f32) (harg6 : arg6.IsWhole) (hc0 : cond0_0 i) (hc1 : ¬cond0_1 i) (hc2 : ¬cond0_2 i)
    (x0 : Vec F S1024x4096 .bf16) (x1 : Vec F S1024x4096 .bf16) :
    sout0_A_0 c i arg3 harg3 arg4 harg4 arg5 harg5 arg6 harg6 hc0 hc1 hc2 x0 x1 = k0_pay2 x0 x1 := by
  unfold sout0_A_0 kernelRun0_A
  rw [View.read_writes_junk_eq_canon]
  dsimp only
  rw [View.canon_unit_zero Step.hz]
  simp only [View.readAt_eq_ld, harg3.read_unread, harg4.read_unread]
  rw [View.ld_unit_zero Step.hz, View.ld_unit_zero Step.hz]

theorem out0_B_2_eq (c : Dev nD) (i : grid0.Coords) (arg3 : Memref sig .tc .vmem S1024x4096 .bf16) (harg3 : arg3.IsWhole) (arg4 : Memref sig .tc .vmem S1024x4096 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i) (hc2 : cond0_2 i)
    (x0 : Vec F S1024x4096 .bf16) (x1 : Vec F S1024x4096 .bf16) (xs0 : Vec F S1024x1024 .f32) :
    out0_B_2 c i arg3 harg3 arg4 harg4 arg5 harg5 arg6 harg6 hc0 hc1 hc2 x0 x1 xs0 = k0_pay4 (k0_pay3 x0 x1 xs0) := by
  unfold out0_B_2 kernelRun0_B
  rw [View.read_writes_junk_eq_canon]
  dsimp only
  rw [View.canon_unit_zero Step.hz]
  unfold kernelRun0_B.sl.v12 kernelRun0_B.sl.HS0_1
  rw [View.readCov_unit_zero _ Step.hz]
  simp only [View.readAt_eq_ld, harg3.read_unread, harg4.read_unread, harg6.read_unread]
  rw [View.ld_unit_zero Step.hz, View.ld_unit_zero Step.hz, View.ld_unit_zero Step.hz]
end Cases

/-- Point `s` of block `b`. -/
abbrev pt (b : Fin 8) (s : ℕ) (h : s < 2) : Fin cfg0.N := ⟨2 * b.val + s, by have : cfg0.N = 16 := N_0; omega⟩
/-- Row `x` and column `y` of block `b`, term `k` of its point `s`. -/
abbrev row (b : Fin 8) (x : Fin 1024) : Fin 4096 := ⟨b.val / 2 * 1024 + x.val, by omega⟩
abbrev col (b : Fin 8) (y : Fin 1024) : Fin 2048 := ⟨b.val % 2 * 1024 + y.val, by omega⟩
abbrev term (s : ℕ) (h : s < 2) (k : Fin 4096) : Fin 8192 := ⟨s * 4096 + k.val, by omega⟩

section Blocks
variable {F : FTy → Type} [FloatOps F]
variable (m : (ℓ : Loc nD τ sig) → Buf (Elt F) ℓ)

theorem at0 : ∀ t : Fin cfg0.N, win0_0.index t 0 = t.val / 4 ∧ win0_0.index t 1 = t.val % 2 :=
  (by decide +kernel : ∀ t : Fin grid0.N, win0_0.index t 0 = t.val / 4 ∧ win0_0.index t 1 = t.val % 2)

/-- The first operand's block at point `s` of block `b`. -/
theorem iblk0 (c : Dev nD) (b : Fin 8) (s : ℕ) (h : s < 2) (x : Fin 1024) (k : Fin 4096) :
    iblk m c 0 (pt b s h) (ix2 x k) = m ((c : Thread nD τ).loc main_arg0) (ix2 (row b x) (term s h k)) := by
  show V m c main_arg0 ((win0_0.rect (pt b s h)).idx (ix2 x k)) = _
  rw [V_main_arg0]
  refine congrArg _ (funext fun a => Fin.ext ?_)
  match a with
  | ⟨0, _⟩ => show win0_0.index (pt b s h) 0 * 1024 + 1 * x.val = b.val / 2 * 1024 + x.val; rw [(at0 _).1]; dsimp only [pt]; omega
  | ⟨1, _⟩ => show win0_0.index (pt b s h) 1 * 4096 + 1 * k.val = s * 4096 + k.val; rw [(at0 _).2]; dsimp only [pt]; omega

theorem at1 : ∀ t : Fin cfg0.N, win0_1.index t 1 = t.val % 2 ∧ win0_1.index t 0 = t.val / 2 % 2 :=
  (by decide +kernel : ∀ t : Fin grid0.N, win0_1.index t 1 = t.val % 2 ∧ win0_1.index t 0 = t.val / 2 % 2)

/-- The second operand's block at point `s` of block `b`. -/
theorem iblk1 (c : Dev nD) (b : Fin 8) (s : ℕ) (h : s < 2) (y : Fin 1024) (k : Fin 4096) :
    iblk m c 1 (pt b s h) (ix2 y k) = m ((c : Thread nD τ).loc main_arg1) (ix2 (col b y) (term s h k)) := by
  show V m c main_arg1 ((win0_1.rect (pt b s h)).idx (ix2 y k)) = _
  rw [V_main_arg1]
  refine congrArg _ (funext fun a => Fin.ext ?_)
  match a with
  | ⟨0, _⟩ => show win0_1.index (pt b s h) 0 * 1024 + 1 * y.val = b.val % 2 * 1024 + y.val; rw [(at1 _).2]; dsimp only [pt]; omega
  | ⟨1, _⟩ => show win0_1.index (pt b s h) 1 * 4096 + 1 * k.val = s * 4096 + k.val; rw [(at1 _).1]; dsimp only [pt]; omega

theorem at2 : ∀ t : Fin cfg0.N, win0_2.index t 0 = t.val / 4 ∧ win0_2.index t 1 = t.val / 2 % 2 :=
  (by decide +kernel : ∀ t : Fin grid0.N, win0_2.index t 0 = t.val / 4 ∧ win0_2.index t 1 = t.val / 2 % 2)

/-- The result array read through block `b`. -/
theorem oblk2 (c : Dev nD) (G : Buf (Elt F) ((c : Thread nD τ).loc main_v0)) (b : Fin 8) (s : ℕ) (h : s < 2) (x : Fin 1024) (y : Fin 1024) :
    ((cfg0.win 2).blk (pt b s h)).view.read (Elt F) G (ix2 x y) = G (ix2 (row b x) (col b y)) := by
  show G ((win0_2.rect (pt b s h)).idx (ix2 x y)) = _
  refine congrArg _ (funext fun a => Fin.ext ?_)
  match a with
  | ⟨0, _⟩ => show win0_2.index (pt b s h) 0 * 1024 + 1 * x.val = b.val / 2 * 1024 + x.val; rw [(at2 _).1]; dsimp only [pt]; omega
  | ⟨1, _⟩ => show win0_2.index (pt b s h) 1 * 1024 + 1 * y.val = b.val % 2 * 1024 + y.val; rw [(at2 _).2]; dsimp only [pt]; omega

/-- Every element of the result lies in one block, written back at the block's last point. -/
theorem cover2 (i : (⟨2, ![4096, 2048]⟩ : Shape).Idx) :
    ∃ t : Fin cfg0.N, (cfg0.win 2).flush t = true ∧ i ∈ ((cfg0.win 2).blk t).view.set := by
  have h0 : (i 0 : Nat) < 4096 := (i 0).isLt
  have h1 : (i 1 : Nat) < 2048 := (i 1).isLt
  let t : Fin cfg0.N := pt ⟨(i 0 : Nat) / 1024 * 2 + (i 1 : Nat) / 1024, by omega⟩ 1 (by omega)
  refine ⟨t, (flush0_2 t).mpr (by dsimp only [t, pt]; omega), ?_⟩
  show i ∈ ((View.whole main_v0).slice (win0_2.rect t)).set
  rw [View.set_slice_whole, Rect.mem_set_unit]
  intro a
  match a with
  | ⟨0, _⟩ =>
    show win0_2.index t 0 * 1024 ≤ (i 0 : Nat) ∧ (i 0 : Nat) < win0_2.index t 0 * 1024 + 1024
    rw [(at2 t).1]; dsimp only [t, pt]; omega
  | ⟨1, _⟩ =>
    show win0_2.index t 1 * 1024 ≤ (i 1 : Nat) ∧ (i 1 : Nat) < win0_2.index t 1 * 1024 + 1024
    rw [(at2 t).2]; dsimp only [t, pt]; omega

/-! What the points of one block leave, one after the other. -/

theorem acc0 (c : Dev nD) (b : Fin 8) : (outsAt0 m c (pt b 0 (by omega)).val (pt b 0 (by omega)).isLt).2 = k0_pay2 (iblk m c 0 (pt b 0 (by omega))) (iblk m c 1 (pt b 0 (by omega))) := by
  rw [outsAt0_A m c (pt b 0 (by omega)) (by dsimp only [pt]; omega) (by dsimp only [pt]; omega) (by dsimp only [pt]; omega)]
  dsimp only
  exact sout0_A_0_eq _ _ _ _ _ _ _ _ _ _ _ _ _ _ _

theorem acc1 (c : Dev nD) (b : Fin 8) : (outsAt0 m c (pt b 1 (by omega)).val (pt b 1 (by omega)).isLt).1
    = k0_pay4 (k0_pay3 (iblk m c 0 (pt b 1 (by omega))) (iblk m c 1 (pt b 1 (by omega))) (outsAt0 m c (pt b 0 (by omega)).val (pt b 0 (by omega)).isLt).2) := by
  rw [outsAt0_B m c (pt b 1 (by omega)) (by dsimp only [pt]; omega) (by dsimp only [pt]; omega) (by dsimp only [pt]; omega)]
  dsimp only
  exact out0_B_2_eq _ _ _ _ _ _ _ _ _ _ _ _ _ _ _ _
end Blocks

theorem pay_first (x0 : Vec Ideal S1024x4096 .bf16) (x1 : Vec Ideal S1024x4096 .bf16) (x : Fin 1024) (y : Fin 1024) :
    k0_pay2 (F := Ideal) x0 x1 (ix2 x y) = ∑ k : Fin 4096, (x0 (ix2 x k) * x1 (ix2 y k) : EReal) := by
  pointwise [k0_pay1, k0_pay2]
theorem pay_step (x0 : Vec Ideal S1024x4096 .bf16) (x1 : Vec Ideal S1024x4096 .bf16) (a : Vec Ideal S1024x1024 .f32) (x : Fin 1024) (y : Fin 1024) :
    k0_pay3 (F := Ideal) x0 x1 a (ix2 x y) = (a (ix2 x y) : EReal) + ∑ k : Fin 4096, (x0 (ix2 x k) * x1 (ix2 y k) : EReal) := by
  pointwise [k0_pay1, k0_pay3]
theorem pay_last (a : Vec Ideal S1024x1024 .f32) (x : Fin 1024) (y : Fin 1024) : k0_pay4 (F := Ideal) a (ix2 x y) = a (ix2 x y) := by
  pointwise [k0_pay4]

variable (m : (ℓ : Loc nD τ sig) → Buf (Elt Ideal) ℓ) (ρ : Dev nD → PrngReg)

abbrev a0 (c : Dev nD) : FVec Ideal ⟨2, ![4096, 8192]⟩ .bf16 := m ((c : Thread nD τ).loc main_arg0)
abbrev a1 (c : Dev nD) : FVec Ideal ⟨2, ![2048, 8192]⟩ .bf16 := m ((c : Thread nD τ).loc main_arg1)

/-- The result array of device `c`. -/
abbrev G (c : Dev nD) : Buf (Elt Ideal) ((c : Thread nD τ).loc main_v0) := fun i : S4096x2048.Idx => spec (a0 m c) (a1 m c) (i 0) (i 1)

/-- The terms of point `s`. -/
def part (A : FVec Ideal ⟨2, ![4096, 8192]⟩ .bf16) (B : FVec Ideal ⟨2, ![2048, 8192]⟩ .bf16) (b : Fin 8) (x : Fin 1024) (y : Fin 1024) (s : ℕ) (h : s < 2) : EReal :=
  ∑ k : Fin 4096, A (ix2 (row b x) (term s h k)) * B (ix2 (col b y) (term s h k))

theorem part_blk (c : Dev nD) (b : Fin 8) (x : Fin 1024) (y : Fin 1024) (s : ℕ) (h : s < 2) (x0 : Vec Ideal S1024x4096 .bf16) (x1 : Vec Ideal S1024x4096 .bf16)
    (e0 : x0 = iblk m c 0 (pt b s h)) (e1 : x1 = iblk m c 1 (pt b s h)) :
    ∑ k : Fin 4096, (x0 (ix2 x k) * x1 (ix2 y k) : EReal) = part (a0 m c) (a1 m c) b x y s h := by
  subst e0 e1
  exact Finset.sum_congr rfl fun k _ => congrArg₂ (fun a b : EReal => a * b) (iblk0 m c b s h x k) (iblk1 m c b s h y k)

theorem flushed2_eq (c : Dev nD) (t : Fin cfg0.N) (hf : (cfg0.win 2).flush t = true) :
    (dats m 0 c).flushed 2 t = ((cfg0.win 2).blk t).view.read (Elt Ideal) (G m c) := by
  have hT : t.val < 16 := lt_of_lt_of_eq t.isLt N_0
  have hm : t.val % 2 = 1 := (flush0_2 t).mp hf
  obtain ⟨b, rfl⟩ : ∃ b : Fin 8, t = pt b 1 (by decide) := ⟨⟨t.val / 2, by omega⟩, Fin.ext (by show t.val = 2 * (t.val / 2) + 1; omega)⟩
  rw [Value.flushed2]
  funext i
  obtain ⟨x, y, rfl⟩ := Step.ix2_surj i
  rw [oblk2, acc1]
  refine (pay_last _ x y).trans ?_
  refine (pay_step _ _ _ x y).trans ?_
  rw [acc0, pay_first]
  rw [part_blk m c b x y 0 (by omega) _ _ rfl rfl, part_blk m c b x y 1 (by omega) _ _ rfl rfl]
  refine Eq.trans ?_ (Sums.sum_blocks 2 4096 8192 (by norm_num) fun k => a0 m c (ix2 (row b x) k) * a1 m c (ix2 (col b y) k)).symm
  rw [Fin.sum_univ_two]
  rfl

/-- The run of the kernel: the result array is the product, the arguments are unchanged. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((dats m 0 c).arrAt_eq_of_cover 2 (G m c) (fun t hf => flushed2_eq m c t hf) cover2), (h c).2⟩)
    (Value.run_blocks m ρ)

section Reference
open Reference15Ideal.Read

/-- The reference's result, element by element. -/
theorem ref_at (x0 : FVec Ideal ⟨2, ![4096, 8192]⟩ .bf16) (x1 : FVec Ideal ⟨2, ![2048, 8192]⟩ .bf16) (r : Fin 4096) (q : Fin 2048) :
    val_main_v7 (F := Ideal) x0 x1 (ix2 r q) = spec x0 x1 r q := by
  pointwise [val_main_cst, val_main_v0, val_main_v1, val_main_v2, val_main_v3, val_main_v4, val_main_v5, val_main_v6, val_main_v7]
  rfl
end Reference

theorem frame_kernel : quiescent_Kernel15 := fun m ρ _ => Kernel15.Gen.frame m ρ
theorem frame_kernelIdeal : quiescent_Kernel15Ideal := fun m ρ _ => Kernel15Ideal.Gen.frame m ρ
theorem frame_reference : quiescent_Reference15Ideal := fun m ρ _ =>
  (θ_run Reference15Ideal.defs _ _).mono (fun r h => ⟨fun c => (h c).2, sem_eq_zero_of_no_sems (by decide) r.2⟩)
    (Reference15Ideal.Value.run (F := Ideal) m ρ)

theorem algebraic : algebraic_Kernel15Ideal_Reference15Ideal := by
  intro m ρ m' ρ' _ hagree
  refine ⟨G m, run m ρ, ?_⟩
  refine (θ_run Reference15Ideal.defs _ _).mono (fun _ h c => ⟨(h c).1.trans ?_, (h c).2⟩) (Reference15Ideal.Value.run (F := Ideal) m' ρ')
  rw [(hagree c).1, (hagree c).2]
  funext i
  obtain ⟨r, q, rfl⟩ := Step.ix2_surj i
  exact ref_at (a0 m c) (a1 m c) r q

end P15
-- ==== Proof.P16.lean ====
module

public import proofs.«01_k».proof.Proof.Step
public import proofs.«01_k».proof.Proof.Gen.Kernel16.Frame
public import proofs.«01_k».proof.Proof.Gen.Kernel16Ideal.Value
public import proofs.«01_k».proof.Proof.Gen.Reference16Ideal.Read
public import proofs.«01_k».proof.Proof.Gen.Reference16Ideal.Run

@[expose] public section

set_option maxRecDepth 16384

noncomputable section

/-! # The claims about `ffn_down`: the projection down of the feed-forward, 4096 × 2048, in 8 blocks of 1024 × 1024, each accumulated over 2 points of 2816 terms -/

namespace Cert.P16

open Kernel16Ideal Kernel16Ideal.Gen Idealize.ShloMosaic Idealize.ShloMosaic.TcCoe Idealize.SL.Sem

theorem hz3 : (![0, 0, 0] : Fin 3 → Nat) = fun _ => 0 := funext fun a => by fin_cases a <;> rfl

/-- The product at row `r` and column `q`: the sum over the 5632 terms. -/
def spec (A : FVec Ideal ⟨2, ![4096, 5632]⟩ .bf16) (B : FVec Ideal ⟨2, ![5632, 2048]⟩ .bf16) (r : Fin 4096) (q : Fin 2048) : EReal := ∑ k : Fin 5632, A (ix2 r k) * B (ix2 k q)

section Cases
variable {F : FTy → Type} [FloatOps F]

/-! What each case of the body leaves: its payload. -/

theorem out0_A_2_eq (c : Dev nD) (i : grid0.Coords) (arg3 : Memref sig .tc .vmem S1024x2816 .bf16) (harg3 : arg3.IsWhole) (arg4 : Memref sig .tc .vmem S2816x1024 .bf16) (harg4 : arg4.IsWhole) (arg5 : Memref sig .tc .vmem S1024x1024 .f32) (harg5 : arg5.IsWhole) (hc0 : cond0_0 i) (hc1 : ¬cond0_1 i)
    (x0 : Vec F S1024x2816 .bf16) (x1 : Vec F S2816x1024 .bf16) :
    out0_A_2 c i arg3 harg3 arg4 harg4 arg5 harg5 hc0 hc1 x0 x1 = k0_pay1 x0 x1 := by
  unfold out0_A_2 kernelRun0_A
  rw [View.read_writes_junk_eq_canon]
  dsimp only
  rw [View.canon_unit_zero Step.hz]
  simp only [View.readAt_eq_ld, harg3.read_unread, harg4.read_unread]
  rw [View.ld_unit_zero Step.hz, View.ld_unit_zero Step.hz]

theorem out0_B_2_eq (c : Dev nD) (i : grid0.Coords) (arg3 : Memref sig .tc .vmem S1024x2816 .bf16) (harg3 : arg3.IsWhole) (arg4 : Memref sig .tc .vmem S2816x1024 .bf16) (harg4 : arg4.IsWhole) (arg5 : Memref sig .tc .vmem S1024x1024 .f32) (harg5 : arg5.IsWhole) (hc0 : ¬cond0_0 i) (hc1 : cond0_1 i)
    (x0 : Vec F S1024x2816 .bf16) (x1 : Vec F S2816x1024 .bf16) (xo2 : Vec F S1024x1024 .f32) :
    out0_B_2 c i arg3 harg3 arg4 harg4 arg5 harg5 hc0 hc1 x0 x1 xo2 = k0_pay2 x0 x1 xo2 := by
  unfold out0_B_2 kernelRun0_B
  rw [View.read_writes_junk_eq_canon]
  dsimp only
  rw [View.canon_unit_zero Step.hz]
  simp only [View.readAt_eq_ld, harg3.read_unread, harg4.read_unread, harg5.read_unread]
  rw [View.ld_unit_zero Step.hz, View.ld_unit_zero Step.hz, View.ld_unit_zero Step.hz]
end Cases

/-- Point `s` of block `b`. -/
abbrev pt (b : Fin 8) (s : ℕ) (h : s < 2) : Fin cfg0.N := ⟨2 * b.val + s, by have : cfg0.N = 16 := N_0; omega⟩
/-- Row `x` and column `y` of block `b`, term `k` of its point `s`. -/
abbrev row (b : Fin 8) (x : Fin 1024) : Fin 4096 := ⟨b.val / 2 * 1024 + x.val, by omega⟩
abbrev col (b : Fin 8) (y : Fin 1024) : Fin 2048 := ⟨b.val % 2 * 1024 + y.val, by omega⟩
abbrev term (s : ℕ) (h : s < 2) (k : Fin 2816) : Fin 5632 := ⟨s * 2816 + k.val, by omega⟩

section Blocks
variable {F : FTy → Type} [FloatOps F]
variable (m : (ℓ : Loc nD τ sig) → Buf (Elt F) ℓ)

theorem at0 : ∀ t : Fin cfg0.N, win0_0.index t 0 = t.val / 4 ∧ win0_0.index t 1 = t.val % 2 :=
  (by decide +kernel : ∀ t : Fin grid0.N, win0_0.index t 0 = t.val / 4 ∧ win0_0.index t 1 = t.val % 2)

/-- The first operand's block at point `s` of block `b`. -/
theorem iblk0 (c : Dev nD) (b : Fin 8) (s : ℕ) (h : s < 2) (x : Fin 1024) (k : Fin 2816) :
    iblk m c 0 (pt b s h) (ix2 x k) = m ((c : Thread nD τ).loc main_arg0) (ix2 (row b x) (term s h k)) := by
  show V m c main_arg0 ((win0_0.rect (pt b s h)).idx (ix2 x k)) = _
  rw [V_main_arg0]
  refine congrArg _ (funext fun a => Fin.ext ?_)
  match a with
  | ⟨0, _⟩ => show win0_0.index (pt b s h) 0 * 1024 + 1 * x.val = b.val / 2 * 1024 + x.val; rw [(at0 _).1]; dsimp only [pt]; omega
  | ⟨1, _⟩ => show win0_0.index (pt b s h) 1 * 2816 + 1 * k.val = s * 2816 + k.val; rw [(at0 _).2]; dsimp only [pt]; omega

theorem at1 : ∀ t : Fin cfg0.N, win0_1.index t 0 = t.val % 2 ∧ win0_1.index t 1 = t.val / 2 % 2 :=
  (by decide +kernel : ∀ t : Fin grid0.N, win0_1.index t 0 = t.val % 2 ∧ win0_1.index t 1 = t.val / 2 % 2)

/-- The second operand's block at point `s` of block `b`. -/
theorem iblk1 (c : Dev nD) (b : Fin 8) (s : ℕ) (h : s < 2) (y : Fin 1024) (k : Fin 2816) :
    iblk m c 1 (pt b s h) (ix2 k y) = m ((c : Thread nD τ).loc main_arg1) (ix2 (term s h k) (col b y)) := by
  show V m c main_arg1 ((win0_1.rect (pt b s h)).idx (ix2 k y)) = _
  rw [V_main_arg1]
  refine congrArg _ (funext fun a => Fin.ext ?_)
  match a with
  | ⟨0, _⟩ => show win0_1.index (pt b s h) 0 * 2816 + 1 * k.val = s * 2816 + k.val; rw [(at1 _).1]; dsimp only [pt]; omega
  | ⟨1, _⟩ => show win0_1.index (pt b s h) 1 * 1024 + 1 * y.val = b.val % 2 * 1024 + y.val; rw [(at1 _).2]; dsimp only [pt]; omega

theorem at2 : ∀ t : Fin cfg0.N, win0_2.index t 0 = t.val / 4 ∧ win0_2.index t 1 = t.val / 2 % 2 :=
  (by decide +kernel : ∀ t : Fin grid0.N, win0_2.index t 0 = t.val / 4 ∧ win0_2.index t 1 = t.val / 2 % 2)

/-- The result array read through block `b`. -/
theorem oblk2 (c : Dev nD) (G : Buf (Elt F) ((c : Thread nD τ).loc main_v0)) (b : Fin 8) (s : ℕ) (h : s < 2) (x : Fin 1024) (y : Fin 1024) :
    ((cfg0.win 2).blk (pt b s h)).view.read (Elt F) G (ix2 x y) = G (ix2 (row b x) (col b y)) := by
  show G ((win0_2.rect (pt b s h)).idx (ix2 x y)) = _
  refine congrArg _ (funext fun a => Fin.ext ?_)
  match a with
  | ⟨0, _⟩ => show win0_2.index (pt b s h) 0 * 1024 + 1 * x.val = b.val / 2 * 1024 + x.val; rw [(at2 _).1]; dsimp only [pt]; omega
  | ⟨1, _⟩ => show win0_2.index (pt b s h) 1 * 1024 + 1 * y.val = b.val % 2 * 1024 + y.val; rw [(at2 _).2]; dsimp only [pt]; omega

/-- Every element of the result lies in one block, written back at the block's last point. -/
theorem cover2 (i : (⟨2, ![4096, 2048]⟩ : Shape).Idx) :
    ∃ t : Fin cfg0.N, (cfg0.win 2).flush t = true ∧ i ∈ ((cfg0.win 2).blk t).view.set := by
  have h0 : (i 0 : Nat) < 4096 := (i 0).isLt
  have h1 : (i 1 : Nat) < 2048 := (i 1).isLt
  let t : Fin cfg0.N := pt ⟨(i 0 : Nat) / 1024 * 2 + (i 1 : Nat) / 1024, by omega⟩ 1 (by omega)
  refine ⟨t, (flush0_2 t).mpr (by dsimp only [t, pt]; omega), ?_⟩
  show i ∈ ((View.whole main_v0).slice (win0_2.rect t)).set
  rw [View.set_slice_whole, Rect.mem_set_unit]
  intro a
  match a with
  | ⟨0, _⟩ =>
    show win0_2.index t 0 * 1024 ≤ (i 0 : Nat) ∧ (i 0 : Nat) < win0_2.index t 0 * 1024 + 1024
    rw [(at2 t).1]; dsimp only [t, pt]; omega
  | ⟨1, _⟩ =>
    show win0_2.index t 1 * 1024 ≤ (i 1 : Nat) ∧ (i 1 : Nat) < win0_2.index t 1 * 1024 + 1024
    rw [(at2 t).2]; dsimp only [t, pt]; omega

/-! What the points of one block leave, one after the other. -/

theorem acc0 (c : Dev nD) (b : Fin 8) : (outsAt0 m c (pt b 0 (by omega)).val (pt b 0 (by omega)).isLt) = k0_pay1 (iblk m c 0 (pt b 0 (by omega))) (iblk m c 1 (pt b 0 (by omega))) := by
  rw [outsAt0_A m c (pt b 0 (by omega)) (by dsimp only [pt]; omega) (by dsimp only [pt]; omega)]
  exact out0_A_2_eq _ _ _ _ _ _ _ _ _ _ _ _

theorem acc1 (c : Dev nD) (b : Fin 8) : (outsAt0 m c (pt b 1 (by omega)).val (pt b 1 (by omega)).isLt)
    = k0_pay2 (iblk m c 0 (pt b 1 (by omega))) (iblk m c 1 (pt b 1 (by omega))) (outsAt0 m c (pt b 0 (by omega)).val (pt b 0 (by omega)).isLt) := by
  rw [outsAt0_B m c (pt b 1 (by omega)) (by dsimp only [pt]; omega) (by dsimp only [pt]; omega)]
  exact out0_B_2_eq _ _ _ _ _ _ _ _ _ _ _ _ _
end Blocks

theorem pay_first (x0 : Vec Ideal S1024x2816 .bf16) (x1 : Vec Ideal S2816x1024 .bf16) (x : Fin 1024) (y : Fin 1024) :
    k0_pay1 (F := Ideal) x0 x1 (ix2 x y) = ∑ k : Fin 2816, (x0 (ix2 x k) * x1 (ix2 k y) : EReal) := by
  pointwise [k0_pay1]
theorem pay_step (x0 : Vec Ideal S1024x2816 .bf16) (x1 : Vec Ideal S2816x1024 .bf16) (a : Vec Ideal S1024x1024 .f32) (x : Fin 1024) (y : Fin 1024) :
    k0_pay2 (F := Ideal) x0 x1 a (ix2 x y) = (a (ix2 x y) : EReal) + ∑ k : Fin 2816, (x0 (ix2 x k) * x1 (ix2 k y) : EReal) := by
  pointwise [k0_pay1, k0_pay2]

variable (m : (ℓ : Loc nD τ sig) → Buf (Elt Ideal) ℓ) (ρ : Dev nD → PrngReg)

abbrev a0 (c : Dev nD) : FVec Ideal ⟨2, ![4096, 5632]⟩ .bf16 := m ((c : Thread nD τ).loc main_arg0)
abbrev a1 (c : Dev nD) : FVec Ideal ⟨2, ![5632, 2048]⟩ .bf16 := m ((c : Thread nD τ).loc main_arg1)

/-- The result array of device `c`. -/
abbrev G (c : Dev nD) : Buf (Elt Ideal) ((c : Thread nD τ).loc main_v0) := fun i : S4096x2048.Idx => spec (a0 m c) (a1 m c) (i 0) (i 1)

/-- The terms of point `s`. -/
def part (A : FVec Ideal ⟨2, ![4096, 5632]⟩ .bf16) (B : FVec Ideal ⟨2, ![5632, 2048]⟩ .bf16) (b : Fin 8) (x : Fin 1024) (y : Fin 1024) (s : ℕ) (h : s < 2) : EReal :=
  ∑ k : Fin 2816, A (ix2 (row b x) (term s h k)) * B (ix2 (term s h k) (col b y))

theorem part_blk (c : Dev nD) (b : Fin 8) (x : Fin 1024) (y : Fin 1024) (s : ℕ) (h : s < 2) (x0 : Vec Ideal S1024x2816 .bf16) (x1 : Vec Ideal S2816x1024 .bf16)
    (e0 : x0 = iblk m c 0 (pt b s h)) (e1 : x1 = iblk m c 1 (pt b s h)) :
    ∑ k : Fin 2816, (x0 (ix2 x k) * x1 (ix2 k y) : EReal) = part (a0 m c) (a1 m c) b x y s h := by
  subst e0 e1
  exact Finset.sum_congr rfl fun k _ => congrArg₂ (fun a b : EReal => a * b) (iblk0 m c b s h x k) (iblk1 m c b s h y k)

theorem flushed2_eq (c : Dev nD) (t : Fin cfg0.N) (hf : (cfg0.win 2).flush t = true) :
    (dats m 0 c).flushed 2 t = ((cfg0.win 2).blk t).view.read (Elt Ideal) (G m c) := by
  have hT : t.val < 16 := lt_of_lt_of_eq t.isLt N_0
  have hm : t.val % 2 = 1 := (flush0_2 t).mp hf
  obtain ⟨b, rfl⟩ : ∃ b : Fin 8, t = pt b 1 (by decide) := ⟨⟨t.val / 2, by omega⟩, Fin.ext (by show t.val = 2 * (t.val / 2) + 1; omega)⟩
  rw [Value.flushed2]
  funext i
  obtain ⟨x, y, rfl⟩ := Step.ix2_surj i
  rw [oblk2, acc1]
  refine (pay_step _ _ _ x y).trans ?_
  rw [acc0, pay_first]
  rw [part_blk m c b x y 0 (by omega) _ _ rfl rfl, part_blk m c b x y 1 (by omega) _ _ rfl rfl]
  refine Eq.trans ?_ (Sums.sum_blocks 2 2816 5632 (by norm_num) fun k => a0 m c (ix2 (row b x) k) * a1 m c (ix2 k (col b y))).symm
  rw [Fin.sum_univ_two]
  rfl

/-- The run of the kernel: the result array is the product, the arguments are unchanged. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((dats m 0 c).arrAt_eq_of_cover 2 (G m c) (fun t hf => flushed2_eq m c t hf) cover2), (h c).2⟩)
    (Value.run_blocks m ρ)

section Reference
open Reference16Ideal.Read

/-- The reference's result, element by element. -/
theorem ref_at (x0 : FVec Ideal ⟨2, ![4096, 5632]⟩ .bf16) (x1 : FVec Ideal ⟨2, ![5632, 2048]⟩ .bf16) (r : Fin 4096) (q : Fin 2048) :
    val_main_v4 (F := Ideal) x0 x1 (ix2 r q) = spec x0 x1 r q := by
  pointwise [val_main_v0, val_main_v1, val_main_v2, val_main_v3, val_main_v4]
  rfl
end Reference

theorem frame_kernel : quiescent_Kernel16 := fun m ρ _ => Kernel16.Gen.frame m ρ
theorem frame_kernelIdeal : quiescent_Kernel16Ideal := fun m ρ _ => Kernel16Ideal.Gen.frame m ρ
theorem frame_reference : quiescent_Reference16Ideal := fun m ρ _ =>
  (θ_run Reference16Ideal.defs _ _).mono (fun r h => ⟨fun c => (h c).2, sem_eq_zero_of_no_sems (by decide) r.2⟩)
    (Reference16Ideal.Value.run (F := Ideal) m ρ)

theorem algebraic : algebraic_Kernel16Ideal_Reference16Ideal := by
  intro m ρ m' ρ' _ hagree
  refine ⟨G m, run m ρ, ?_⟩
  refine (θ_run Reference16Ideal.defs _ _).mono (fun _ h c => ⟨(h c).1.trans ?_, (h c).2⟩) (Reference16Ideal.Value.run (F := Ideal) m' ρ')
  rw [(hagree c).1, (hagree c).2]
  funext i
  obtain ⟨r, q, rfl⟩ := Step.ix2_surj i
  exact ref_at (a0 m c) (a1 m c) r q

end P16
-- ==== Proof.P17.lean ====
module

public import proofs.«01_k».proof.Proof.Step
public import proofs.«01_k».proof.Proof.Gen.Kernel17.Frame
public import proofs.«01_k».proof.Proof.Gen.Kernel17Ideal.Value
public import proofs.«01_k».proof.Proof.Gen.Reference17Ideal.Read
public import proofs.«01_k».proof.Proof.Gen.Reference17Ideal.Run

@[expose] public section

set_option maxRecDepth 16384

noncomputable section

/-! # The claims about `d_merged_bwd`: the backward pass of the gated merge and of the product behind it -/

namespace Cert.P17

open Kernel17Ideal Kernel17Ideal.Gen Idealize.ShloMosaic Idealize.ShloMosaic.TcCoe Idealize.SL.Sem

section Blocks
variable {F : FTy → Type} [FloatOps F]
variable (m : (ℓ : Loc nD τ sig) → Buf (Elt F) ℓ) (c : Dev nD) (t : Fin cfg0.N) (x : Fin 256) (y : Fin 2048)

theorem ltN (t : Fin cfg0.N) : t.val < 16 := lt_of_lt_of_eq t.isLt N_0

theorem at0 : ∀ t : Fin cfg0.N, win0_0.index t 0 = t.val ∧ win0_0.index t 1 = 0 :=
  (by decide +kernel : ∀ t : Fin grid0.N, win0_0.index t 0 = t.val ∧ win0_0.index t 1 = 0)

/-- Block `t` of window 0, element by element. -/
theorem iblk0 :
    iblk m c 0 t (ix2 x y) = m ((c : Thread nD τ).loc main_arg0) (ix2 ⟨t.val * 256 + x.val, by have := ltN t; omega⟩ y) := by
  show V m c main_arg0 ((win0_0.rect t).idx (ix2 x y)) = _
  rw [V_main_arg0]
  refine congrArg _ (funext fun a => Fin.ext ?_)
  match a with
  | ⟨0, _⟩ => show win0_0.index t 0 * 256 + 1 * x.val = t.val * 256 + x.val; rw [(at0 t).1]; have := ltN t; omega
  | ⟨1, _⟩ => show win0_0.index t 1 * 2048 + 1 * y.val = y.val; rw [(at0 t).2]; have := ltN t; omega

theorem at1 : ∀ t : Fin cfg0.N, win0_1.index t 0 = 0 ∧ win0_1.index t 1 = 0 :=
  (by decide +kernel : ∀ t : Fin grid0.N, win0_1.index t 0 = 0 ∧ win0_1.index t 1 = 0)

/-- Block `t` of window 1, element by element. -/
theorem iblk1 (c : Dev nD) (t : Fin cfg0.N) (x : Fin 2048) (y : Fin 2048) :
    iblk m c 1 t (ix2 x y) = m ((c : Thread nD τ).loc main_arg1) (ix2 x y) := by
  show V m c main_arg1 ((win0_1.rect t).idx (ix2 x y)) = _
  rw [V_main_arg1]
  refine congrArg _ (funext fun a => Fin.ext ?_)
  match a with
  | ⟨0, _⟩ => show win0_1.index t 0 * 2048 + 1 * x.val = x.val; rw [(at1 t).1]; have := ltN t; omega
  | ⟨1, _⟩ => show win0_1.index t 1 * 2048 + 1 * y.val = y.val; rw [(at1 t).2]; have := ltN t; omega

theorem at2 : ∀ t : Fin cfg0.N, win0_2.index t 0 = t.val ∧ win0_2.index t 1 = 2 :=
  (by decide +kernel : ∀ t : Fin grid0.N, win0_2.index t 0 = t.val ∧ win0_2.index t 1 = 2)

/-- Block `t` of window 2, element by element. -/
theorem iblk2 :
    iblk m c 2 t (ix2 x y) = m ((c : Thread nD τ).loc main_arg2) (ix2 ⟨t.val * 256 + x.val, by have := ltN t; omega⟩ ⟨4096 + y.val, by have := ltN t; omega⟩) := by
  show V m c main_arg2 ((win0_2.rect t).idx (ix2 x y)) = _
  rw [V_main_arg2]
  refine congrArg _ (funext fun a => Fin.ext ?_)
  match a with
  | ⟨0, _⟩ => show win0_2.index t 0 * 256 + 1 * x.val = t.val * 256 + x.val; rw [(at2 t).1]; have := ltN t; omega
  | ⟨1, _⟩ => show win0_2.index t 1 * 2048 + 1 * y.val = 4096 + y.val; rw [(at2 t).2]; have := ltN t; omega

theorem at3 : ∀ t : Fin cfg0.N, win0_3.index t 0 = t.val ∧ win0_3.index t 1 = 3 :=
  (by decide +kernel : ∀ t : Fin grid0.N, win0_3.index t 0 = t.val ∧ win0_3.index t 1 = 3)

/-- Block `t` of window 3, element by element. -/
theorem iblk3 :
    iblk m c 3 t (ix2 x y) = m ((c : Thread nD τ).loc main_arg2) (ix2 ⟨t.val * 256 + x.val, by have := ltN t; omega⟩ ⟨6144 + y.val, by have := ltN t; omega⟩) := by
  show V m c main_arg2 ((win0_3.rect t).idx (ix2 x y)) = _
  rw [V_main_arg2]
  refine congrArg _ (funext fun a => Fin.ext ?_)
  match a with
  | ⟨0, _⟩ => show win0_3.index t 0 * 256 + 1 * x.val = t.val * 256 + x.val; rw [(at3 t).1]; have := ltN t; omega
  | ⟨1, _⟩ => show win0_3.index t 1 * 2048 + 1 * y.val = 6144 + y.val; rw [(at3 t).2]; have := ltN t; omega

theorem at4 : ∀ t : Fin cfg0.N, win0_4.index t 0 = t.val ∧ win0_4.index t 1 = 0 :=
  (by decide +kernel : ∀ t : Fin grid0.N, win0_4.index t 0 = t.val ∧ win0_4.index t 1 = 0)

/-- Block `t` of window 4, element by element. -/
theorem iblk4 :
    iblk m c 4 t (ix2 x y) = m ((c : Thread nD τ).loc main_arg3) (ix2 ⟨t.val * 256 + x.val, by have := ltN t; omega⟩ y) := by
  show V m c main_arg3 ((win0_4.rect t).idx (ix2 x y)) = _
  rw [V_main_arg3]
  refine congrArg _ (funext fun a => Fin.ext ?_)
  match a with
  | ⟨0, _⟩ => show win0_4.index t 0 * 256 + 1 * x.val = t.val * 256 + x.val; rw [(at4 t).1]; have := ltN t; omega
  | ⟨1, _⟩ => show win0_4.index t 1 * 2048 + 1 * y.val = y.val; rw [(at4 t).2]; have := ltN t; omega

theorem at5 : ∀ t : Fin cfg0.N, win0_5.index t 0 = t.val ∧ win0_5.index t 1 = 0 :=
  (by decide +kernel : ∀ t : Fin grid0.N, win0_5.index t 0 = t.val ∧ win0_5.index t 1 = 0)

/-- Block `t` of window 5, element by element. -/
theorem iblk5 :
    iblk m c 5 t (ix2 x y) = m ((c : Thread nD τ).loc main_arg4) (ix2 ⟨t.val * 256 + x.val, by have := ltN t; omega⟩ y) := by
  show V m c main_arg4 ((win0_5.rect t).idx (ix2 x y)) = _
  rw [V_main_arg4]
  refine congrArg _ (funext fun a => Fin.ext ?_)
  match a with
  | ⟨0, _⟩ => show win0_5.index t 0 * 256 + 1 * x.val = t.val * 256 + x.val; rw [(at5 t).1]; have := ltN t; omega
  | ⟨1, _⟩ => show win0_5.index t 1 * 2048 + 1 * y.val = y.val; rw [(at5 t).2]; have := ltN t; omega

theorem at6 : ∀ t : Fin cfg0.N, win0_6.index t 0 = t.val ∧ win0_6.index t 1 = 0 :=
  (by decide +kernel : ∀ t : Fin grid0.N, win0_6.index t 0 = t.val ∧ win0_6.index t 1 = 0)

/-- Result window 6: the array read through point `t`'s block. -/
theorem oblk6 (G : Buf (Elt F) ((c : Thread nD τ).loc main_v0_0)) :
    ((cfg0.win 6).blk t).view.read (Elt F) G (ix2 x y) = G (ix2 ⟨t.val * 256 + x.val, by have := ltN t; omega⟩ y) := by
  show G ((win0_6.rect t).idx (ix2 x y)) = _
  refine congrArg _ (funext fun a => Fin.ext ?_)
  match a with
  | ⟨0, _⟩ => show win0_6.index t 0 * 256 + 1 * x.val = t.val * 256 + x.val; rw [(at6 t).1]; have := ltN t; omega
  | ⟨1, _⟩ => show win0_6.index t 1 * 2048 + 1 * y.val = y.val; rw [(at6 t).2]; have := ltN t; omega

/-- Every element of result window 6's array lies in the block of one point. -/
theorem cover6 (i : (⟨2, ![4096, 2048]⟩ : Shape).Idx) :
    ∃ t : Fin cfg0.N, (cfg0.win 6).flush t = true ∧ i ∈ ((cfg0.win 6).blk t).view.set := by
  have h0 : (i 0 : Nat) < 4096 := (i 0).isLt
  have h1 : (i 1 : Nat) < 2048 := (i 1).isLt
  have hN : cfg0.N = 16 := N_0
  let t : Fin cfg0.N := ⟨(i 0 : Nat) / 256, by omega⟩
  refine ⟨t, flush0_6 _, ?_⟩
  show i ∈ ((View.whole main_v0_0).slice (win0_6.rect t)).set
  rw [View.set_slice_whole, Rect.mem_set_unit]
  intro a
  match a with
  | ⟨0, _⟩ =>
    show win0_6.index t 0 * 256 ≤ (i 0 : Nat) ∧ (i 0 : Nat) < win0_6.index t 0 * 256 + 256
    rw [(at6 t).1]; dsimp only [t]; omega
  | ⟨1, _⟩ =>
    show win0_6.index t 1 * 2048 ≤ (i 1 : Nat) ∧ (i 1 : Nat) < win0_6.index t 1 * 2048 + 2048
    rw [(at6 t).2]; dsimp only [t]; omega

theorem at7 : ∀ t : Fin cfg0.N, win0_7.index t 0 = t.val ∧ win0_7.index t 1 = 0 :=
  (by decide +kernel : ∀ t : Fin grid0.N, win0_7.index t 0 = t.val ∧ win0_7.index t 1 = 0)

/-- Result window 7: the array read through point `t`'s block. -/
theorem oblk7 (G : Buf (Elt F) ((c : Thread nD τ).loc main_v0_1)) :
    ((cfg0.win 7).blk t).view.read (Elt F) G (ix2 x y) = G (ix2 ⟨t.val * 256 + x.val, by have := ltN t; omega⟩ y) := by
  show G ((win0_7.rect t).idx (ix2 x y)) = _
  refine congrArg _ (funext fun a => Fin.ext ?_)
  match a with
  | ⟨0, _⟩ => show win0_7.index t 0 * 256 + 1 * x.val = t.val * 256 + x.val; rw [(at7 t).1]; have := ltN t; omega
  | ⟨1, _⟩ => show win0_7.index t 1 * 2048 + 1 * y.val = y.val; rw [(at7 t).2]; have := ltN t; omega

/-- Every element of result window 7's array lies in the block of one point. -/
theorem cover7 (i : (⟨2, ![4096, 2048]⟩ : Shape).Idx) :
    ∃ t : Fin cfg0.N, (cfg0.win 7).flush t = true ∧ i ∈ ((cfg0.win 7).blk t).view.set := by
  have h0 : (i 0 : Nat) < 4096 := (i 0).isLt
  have h1 : (i 1 : Nat) < 2048 := (i 1).isLt
  have hN : cfg0.N = 16 := N_0
  let t : Fin cfg0.N := ⟨(i 0 : Nat) / 256, by omega⟩
  refine ⟨t, flush0_7 _, ?_⟩
  show i ∈ ((View.whole main_v0_1).slice (win0_7.rect t)).set
  rw [View.set_slice_whole, Rect.mem_set_unit]
  intro a
  match a with
  | ⟨0, _⟩ =>
    show win0_7.index t 0 * 256 ≤ (i 0 : Nat) ∧ (i 0 : Nat) < win0_7.index t 0 * 256 + 256
    rw [(at7 t).1]; dsimp only [t]; omega
  | ⟨1, _⟩ =>
    show win0_7.index t 1 * 2048 ≤ (i 1 : Nat) ∧ (i 1 : Nat) < win0_7.index t 1 * 2048 + 2048
    rw [(at7 t).2]; dsimp only [t]; omega

theorem at8 : ∀ t : Fin cfg0.N, win0_8.index t 0 = t.val ∧ win0_8.index t 1 = 0 :=
  (by decide +kernel : ∀ t : Fin grid0.N, win0_8.index t 0 = t.val ∧ win0_8.index t 1 = 0)

/-- Result window 8: the array read through point `t`'s block. -/
theorem oblk8 (G : Buf (Elt F) ((c : Thread nD τ).loc main_v0_2)) :
    ((cfg0.win 8).blk t).view.read (Elt F) G (ix2 x y) = G (ix2 ⟨t.val * 256 + x.val, by have := ltN t; omega⟩ y) := by
  show G ((win0_8.rect t).idx (ix2 x y)) = _
  refine congrArg _ (funext fun a => Fin.ext ?_)
  match a with
  | ⟨0, _⟩ => show win0_8.index t 0 * 256 + 1 * x.val = t.val * 256 + x.val; rw [(at8 t).1]; have := ltN t; omega
  | ⟨1, _⟩ => show win0_8.index t 1 * 2048 + 1 * y.val = y.val; rw [(at8 t).2]; have := ltN t; omega

/-- Every element of result window 8's array lies in the block of one point. -/
theorem cover8 (i : (⟨2, ![4096, 2048]⟩ : Shape).Idx) :
    ∃ t : Fin cfg0.N, (cfg0.win 8).flush t = true ∧ i ∈ ((cfg0.win 8).blk t).view.set := by
  have h0 : (i 0 : Nat) < 4096 := (i 0).isLt
  have h1 : (i 1 : Nat) < 2048 := (i 1).isLt
  have hN : cfg0.N = 16 := N_0
  let t : Fin cfg0.N := ⟨(i 0 : Nat) / 256, by omega⟩
  refine ⟨t, flush0_8 _, ?_⟩
  show i ∈ ((View.whole main_v0_2).slice (win0_8.rect t)).set
  rw [View.set_slice_whole, Rect.mem_set_unit]
  intro a
  match a with
  | ⟨0, _⟩ =>
    show win0_8.index t 0 * 256 ≤ (i 0 : Nat) ∧ (i 0 : Nat) < win0_8.index t 0 * 256 + 256
    rw [(at8 t).1]; dsimp only [t]; omega
  | ⟨1, _⟩ =>
    show win0_8.index t 1 * 2048 ≤ (i 1 : Nat) ∧ (i 1 : Nat) < win0_8.index t 1 * 2048 + 2048
    rw [(at8 t).2]; dsimp only [t]; omega

theorem at9 : ∀ t : Fin cfg0.N, win0_9.index t 0 = t.val ∧ win0_9.index t 1 = 0 :=
  (by decide +kernel : ∀ t : Fin grid0.N, win0_9.index t 0 = t.val ∧ win0_9.index t 1 = 0)

/-- Result window 9: the array read through point `t`'s block. -/
theorem oblk9 (G : Buf (Elt F) ((c : Thread nD τ).loc main_v0_3)) :
    ((cfg0.win 9).blk t).view.read (Elt F) G (ix2 x y) = G (ix2 ⟨t.val * 256 + x.val, by have := ltN t; omega⟩ y) := by
  show G ((win0_9.rect t).idx (ix2 x y)) = _
  refine congrArg _ (funext fun a => Fin.ext ?_)
  match a with
  | ⟨0, _⟩ => show win0_9.index t 0 * 256 + 1 * x.val = t.val * 256 + x.val; rw [(at9 t).1]; have := ltN t; omega
  | ⟨1, _⟩ => show win0_9.index t 1 * 2048 + 1 * y.val = y.val; rw [(at9 t).2]; have := ltN t; omega

/-- Every element of result window 9's array lies in the block of one point. -/
theorem cover9 (i : (⟨2, ![4096, 2048]⟩ : Shape).Idx) :
    ∃ t : Fin cfg0.N, (cfg0.win 9).flush t = true ∧ i ∈ ((cfg0.win 9).blk t).view.set := by
  have h0 : (i 0 : Nat) < 4096 := (i 0).isLt
  have h1 : (i 1 : Nat) < 2048 := (i 1).isLt
  have hN : cfg0.N = 16 := N_0
  let t : Fin cfg0.N := ⟨(i 0 : Nat) / 256, by omega⟩
  refine ⟨t, flush0_9 _, ?_⟩
  show i ∈ ((View.whole main_v0_3).slice (win0_9.rect t)).set
  rw [View.set_slice_whole, Rect.mem_set_unit]
  intro a
  match a with
  | ⟨0, _⟩ =>
    show win0_9.index t 0 * 256 ≤ (i 0 : Nat) ∧ (i 0 : Nat) < win0_9.index t 0 * 256 + 256
    rw [(at9 t).1]; dsimp only [t]; omega
  | ⟨1, _⟩ =>
    show win0_9.index t 1 * 2048 ≤ (i 1 : Nat) ∧ (i 1 : Nat) < win0_9.index t 1 * 2048 + 2048
    rw [(at9 t).2]; dsimp only [t]; omega
end Blocks

section Spec
variable (A0 : FVec Ideal ⟨2, ![4096, 2048]⟩ .bf16) (A1 : FVec Ideal ⟨2, ![2048, 2048]⟩ .bf16) (A2 : FVec Ideal ⟨2, ![4096, 8192]⟩ .bf16)
  (Z : FVec Ideal ⟨2, ![4096, 2048]⟩ .bf16)

/-- The cotangent of the merged branches. -/
def dm (r : Fin 4096) (q : Fin 2048) : EReal := ∑ k : Fin 2048, A0 (ix2 r k) * A1 (ix2 q k)
/-- The gate of the first branch, and of the second. -/
def gateA (r : Fin 4096) (q : Fin 2048) : EReal := Ideal.logistic (A2 (ix2 r ⟨4096 + q.val, by omega⟩))
def gateB (r : Fin 4096) (q : Fin 2048) : EReal := Ideal.logistic (A2 (ix2 r ⟨6144 + q.val, by omega⟩))
/-- The cotangents of the two branches. -/
def dza (r : Fin 4096) (q : Fin 2048) : EReal := gateA A2 r q * dm A0 A1 r q
def dzb (r : Fin 4096) (q : Fin 2048) : EReal := gateB A2 r q * dm A0 A1 r q
/-- The cotangents of what the two gates are computed from. -/
def dma (r : Fin 4096) (q : Fin 2048) : EReal := dm A0 A1 r q * Z (ix2 r q) * (gateA A2 r q * (1 - gateA A2 r q))
def dmb (r : Fin 4096) (q : Fin 2048) : EReal := dm A0 A1 r q * Z (ix2 r q) * (gateB A2 r q * (1 - gateB A2 r q))
end Spec

variable (m : (ℓ : Loc nD τ sig) → Buf (Elt Ideal) ℓ) (ρ : Dev nD → PrngReg)

abbrev a0 (c : Dev nD) : FVec Ideal ⟨2, ![4096, 2048]⟩ .bf16 := m ((c : Thread nD τ).loc main_arg0)
abbrev a1 (c : Dev nD) : FVec Ideal ⟨2, ![2048, 2048]⟩ .bf16 := m ((c : Thread nD τ).loc main_arg1)
abbrev a2 (c : Dev nD) : FVec Ideal ⟨2, ![4096, 8192]⟩ .bf16 := m ((c : Thread nD τ).loc main_arg2)
abbrev a3 (c : Dev nD) : FVec Ideal ⟨2, ![4096, 2048]⟩ .bf16 := m ((c : Thread nD τ).loc main_arg3)
abbrev a4 (c : Dev nD) : FVec Ideal ⟨2, ![4096, 2048]⟩ .bf16 := m ((c : Thread nD τ).loc main_arg4)

/-- The four result arrays of device `c`. -/
abbrev G6 (c : Dev nD) : Buf (Elt Ideal) ((c : Thread nD τ).loc main_v0_0) := fun i : S4096x2048.Idx => dza (a0 m c) (a1 m c) (a2 m c) (i 0) (i 1)
abbrev G7 (c : Dev nD) : Buf (Elt Ideal) ((c : Thread nD τ).loc main_v0_1) := fun i : S4096x2048.Idx => dzb (a0 m c) (a1 m c) (a2 m c) (i 0) (i 1)
abbrev G8 (c : Dev nD) : Buf (Elt Ideal) ((c : Thread nD τ).loc main_v0_2) := fun i : S4096x2048.Idx => dma (a0 m c) (a1 m c) (a2 m c) (a3 m c) (i 0) (i 1)
abbrev G9 (c : Dev nD) : Buf (Elt Ideal) ((c : Thread nD τ).loc main_v0_3) := fun i : S4096x2048.Idx => dmb (a0 m c) (a1 m c) (a2 m c) (a4 m c) (i 0) (i 1)

/-- Row `256 t + x` of the arrays. -/
abbrev row (t : Fin cfg0.N) (x : Fin 256) : Fin 4096 := ⟨t.val * 256 + x.val, by have := ltN t; omega⟩

section Pieces
abbrev lo (x : Fin 128) : Fin 256 := ⟨x.val, by omega⟩
abbrev hi (x : Fin 128) : Fin 256 := ⟨128 + x.val, by omega⟩

theorem idx_lo (x : Fin 128) (y : Fin 2048) : r0_2.idx (ix2 x y) = ix2 (lo x) y := by
  funext a; refine Fin.ext ?_
  match a with | ⟨0, _⟩ => show 0 + 1 * x.val = x.val; omega | ⟨1, _⟩ => show 0 + 1 * y.val = y.val; omega
theorem idx_hi (x : Fin 128) (y : Fin 2048) : r0_3.idx (ix2 x y) = ix2 (hi x) y := by
  funext a; refine Fin.ext ?_
  match a with | ⟨0, _⟩ => show 128 + 1 * x.val = 128 + x.val; omega | ⟨1, _⟩ => show 0 + 1 * y.val = y.val; omega
theorem ld_lo (v : Vec Ideal S256x2048 .bf16) (x : Fin 128) (y : Fin 2048) : View.ld v r0_2 (ix2 x y) = v (ix2 (lo x) y) := congrArg v (idx_lo x y)
theorem ld_hi (v : Vec Ideal S256x2048 .bf16) (x : Fin 128) (y : Fin 2048) : View.ld v r0_3 (ix2 x y) = v (ix2 (hi x) y) := congrArg v (idx_hi x y)

/-- A block stored as its upper and its lower half of rows. -/
theorem canon2 (E : Vec Ideal S256x2048 .bf16) (p q : Vec Ideal S128x2048 .bf16) (hp : ∀ x y, p (ix2 x y) = E (ix2 (hi x) y))
    (hq : ∀ x y, q (ix2 x y) = E (ix2 (lo x) y)) (i : S256x2048.Idx) :
    View.canon ([⟨r0_3, p⟩, ⟨r0_2, q⟩] : List (View.Piece (Elt Ideal) S256x2048 .bf16)) i = E i := by
  refine View.canon_apply_of_pieces E _ ?_ i (cover0_6 _ _ _)
  intro pc hpc
  rcases List.mem_cons.mp hpc with rfl | hpc
  · intro z
    obtain ⟨x, y, rfl⟩ : ∃ (x : Fin 128) (y : Fin 2048), z = ix2 x y := ⟨z 0, z 1, by funext a; match a with | ⟨0, _⟩ => rfl | ⟨1, _⟩ => rfl⟩
    exact (hp x y).trans (congrArg E (idx_hi x y)).symm
  rcases List.mem_cons.mp hpc with rfl | hpc
  · intro z
    obtain ⟨x, y, rfl⟩ : ∃ (x : Fin 128) (y : Fin 2048), z = ix2 x y := ⟨z 0, z 1, by funext a; match a with | ⟨0, _⟩ => rfl | ⟨1, _⟩ => rfl⟩
    exact (hq x y).trans (congrArg E (idx_lo x y)).symm
  nomatch hpc
end Pieces

section Payloads
variable (v0 : Vec Ideal S256x2048 .bf16) (v1 : Vec Ideal S2048x2048 .bf16) (w : FVec Ideal S256x2048 .f32) (v u : Vec Ideal S128x2048 .bf16) (x : Fin 128) (y : Fin 2048)

theorem pay1_at (x : Fin 256) : k0_pay1 (F := Ideal) v0 v1 (ix2 x y) = ∑ k : Fin 2048, (v0 (ix2 x k) * v1 (ix2 y k) : EReal) := by
  pointwise [k0_pay1]
theorem pay4_at : k0_pay4 (F := Ideal) v0 v1 (ix2 x y) = k0_pay1 (F := Ideal) v0 v1 (ix2 (lo x) y) := by
  pointwise [k0_pay4]
theorem pay13_at : k0_pay13 (F := Ideal) w v (ix2 x y) = (Ideal.logistic (v (ix2 x y)) * w (ix2 (hi x) y) : EReal) := by
  pointwise [k0_pay13, k0_pay12, k0_pay10]
theorem pay14_at : k0_pay14 (F := Ideal) w v (ix2 x y) = (Ideal.logistic (v (ix2 x y)) * w (ix2 (hi x) y) : EReal) := by
  pointwise [k0_pay14, k0_pay12, k0_pay11]
theorem pay15_at : k0_pay15 (F := Ideal) w v u (ix2 x y)
    = (w (ix2 (hi x) y) * u (ix2 x y) * (Ideal.logistic (v (ix2 x y)) * (1 - Ideal.logistic (v (ix2 x y)))) : EReal) := by
  pointwise [k0_pay15, k0_pay12, k0_pay10]
theorem pay16_at : k0_pay16 (F := Ideal) w v u (ix2 x y)
    = (w (ix2 (hi x) y) * u (ix2 x y) * (Ideal.logistic (v (ix2 x y)) * (1 - Ideal.logistic (v (ix2 x y)))) : EReal) := by
  pointwise [k0_pay16, k0_pay12, k0_pay11]
theorem pay6_at : k0_pay6 (F := Ideal) v0 v1 v (ix2 x y) = (Ideal.logistic (v (ix2 x y)) * k0_pay4 (F := Ideal) v0 v1 (ix2 x y) : EReal) := by
  pointwise [k0_pay6, k0_pay2]
theorem pay7_at : k0_pay7 (F := Ideal) v0 v1 v (ix2 x y) = (Ideal.logistic (v (ix2 x y)) * k0_pay4 (F := Ideal) v0 v1 (ix2 x y) : EReal) := by
  pointwise [k0_pay7, k0_pay3]
theorem pay8_at : k0_pay8 (F := Ideal) v0 v1 v u (ix2 x y)
    = (k0_pay4 (F := Ideal) v0 v1 (ix2 x y) * u (ix2 x y) * (Ideal.logistic (v (ix2 x y)) * (1 - Ideal.logistic (v (ix2 x y)))) : EReal) := by
  pointwise [k0_pay8, k0_pay2]
theorem pay9_at : k0_pay9 (F := Ideal) (k0_pay5 (F := Ideal) v0 v1 v u) (ix2 x y)
    = (k0_pay4 (F := Ideal) v0 v1 (ix2 x y) * u (ix2 x y) * (Ideal.logistic (v (ix2 x y)) * (1 - Ideal.logistic (v (ix2 x y)))) : EReal) := by
  pointwise [k0_pay9, k0_pay5, k0_pay3]
end Payloads

section Point
variable (c : Dev nD) (t : Fin cfg0.N)

/-- The product of point `t`, row by row. -/
theorem dm_at (x : Fin 256) (y : Fin 2048) : k0_pay1 (F := Ideal) (iblk m c 0 t) (iblk m c 1 t) (ix2 x y) = dm (a0 m c) (a1 m c) (row t x) y :=
  (pay1_at _ _ y x).trans (Finset.sum_congr rfl fun k _ => congrArg₂ (fun a b : EReal => a * b) (iblk0 m c t x k) (iblk1 m c t y k))
theorem gateA_at (x : Fin 256) (y : Fin 2048) : Ideal.logistic (iblk m c 2 t (ix2 x y)) = gateA (a2 m c) (row t x) y := congrArg _ (iblk2 m c t x y)
theorem gateB_at (x : Fin 256) (y : Fin 2048) : Ideal.logistic (iblk m c 3 t (ix2 x y)) = gateB (a2 m c) (row t x) y := congrArg _ (iblk3 m c t x y)
end Point

theorem flushed6_eq (c : Dev nD) (t : Fin cfg0.N) :
    (dats m 0 c).flushed 6 t = ((cfg0.win 6).blk t).view.read (Elt Ideal) (G6 m c) := by
  rw [Value.flushed6]
  funext i
  obtain ⟨r, l, rfl⟩ : ∃ (r : Fin 256) (l : Fin 2048), i = ix2 r l := ⟨i 0, i 1, by funext a; match a with | ⟨0, _⟩ => rfl | ⟨1, _⟩ => rfl⟩
  rw [oblk6]
  unfold out0_6 k0_pay17
  rw [View.ld_unit_zero Step.hz, View.ld_unit_zero Step.hz]
  refine canon2 (fun y => dza (a0 m c) (a1 m c) (a2 m c) (row t (y 0)) (y 1)) _ _ ?_ ?_ (ix2 r l)
  · intro x y
    rw [pay13_at, ld_hi, dm_at]
    exact congrArg (fun a : EReal => a * _) (gateA_at m c t (hi x) y)
  · intro x y
    rw [pay6_at, ld_lo, pay4_at, dm_at]
    exact congrArg (fun a : EReal => a * _) (gateA_at m c t (lo x) y)

theorem flushed7_eq (c : Dev nD) (t : Fin cfg0.N) :
    (dats m 0 c).flushed 7 t = ((cfg0.win 7).blk t).view.read (Elt Ideal) (G7 m c) := by
  rw [Value.flushed7]
  funext i
  obtain ⟨r, l, rfl⟩ : ∃ (r : Fin 256) (l : Fin 2048), i = ix2 r l := ⟨i 0, i 1, by funext a; match a with | ⟨0, _⟩ => rfl | ⟨1, _⟩ => rfl⟩
  rw [oblk7]
  unfold out0_7 k0_pay17
  rw [View.ld_unit_zero Step.hz, View.ld_unit_zero Step.hz]
  refine canon2 (fun y => dzb (a0 m c) (a1 m c) (a2 m c) (row t (y 0)) (y 1)) _ _ ?_ ?_ (ix2 r l)
  · intro x y
    rw [pay14_at, ld_hi, dm_at]
    exact congrArg (fun a : EReal => a * _) (gateB_at m c t (hi x) y)
  · intro x y
    rw [pay7_at, ld_lo, pay4_at, dm_at]
    exact congrArg (fun a : EReal => a * _) (gateB_at m c t (lo x) y)

theorem flushed8_eq (c : Dev nD) (t : Fin cfg0.N) :
    (dats m 0 c).flushed 8 t = ((cfg0.win 8).blk t).view.read (Elt Ideal) (G8 m c) := by
  rw [Value.flushed8]
  funext i
  obtain ⟨r, l, rfl⟩ : ∃ (r : Fin 256) (l : Fin 2048), i = ix2 r l := ⟨i 0, i 1, by funext a; match a with | ⟨0, _⟩ => rfl | ⟨1, _⟩ => rfl⟩
  rw [oblk8]
  unfold out0_8 k0_pay17
  rw [View.ld_unit_zero Step.hz, View.ld_unit_zero Step.hz]
  refine canon2 (fun y => dma (a0 m c) (a1 m c) (a2 m c) (a3 m c) (row t (y 0)) (y 1)) _ _ ?_ ?_ (ix2 r l)
  · intro x y
    rw [pay15_at, ld_hi, ld_hi, dm_at]
    exact congrArg₂ (fun a b : EReal => _ * a * (b * (1 - b))) (iblk4 m c t (hi x) y) (gateA_at m c t (hi x) y)
  · intro x y
    rw [pay8_at, ld_lo, ld_lo, pay4_at, dm_at]
    exact congrArg₂ (fun a b : EReal => _ * a * (b * (1 - b))) (iblk4 m c t (lo x) y) (gateA_at m c t (lo x) y)

theorem flushed9_eq (c : Dev nD) (t : Fin cfg0.N) :
    (dats m 0 c).flushed 9 t = ((cfg0.win 9).blk t).view.read (Elt Ideal) (G9 m c) := by
  rw [Value.flushed9]
  funext i
  obtain ⟨r, l, rfl⟩ : ∃ (r : Fin 256) (l : Fin 2048), i = ix2 r l := ⟨i 0, i 1, by funext a; match a with | ⟨0, _⟩ => rfl | ⟨1, _⟩ => rfl⟩
  rw [oblk9]
  unfold out0_9 k0_pay17
  rw [View.ld_unit_zero Step.hz, View.ld_unit_zero Step.hz]
  refine canon2 (fun y => dmb (a0 m c) (a1 m c) (a2 m c) (a4 m c) (row t (y 0)) (y 1)) _ _ ?_ ?_ (ix2 r l)
  · intro x y
    rw [pay16_at, ld_hi, ld_hi, dm_at]
    exact congrArg₂ (fun a b : EReal => _ * a * (b * (1 - b))) (iblk5 m c t (hi x) y) (gateB_at m c t (hi x) y)
  · intro x y
    rw [pay9_at, ld_lo, ld_lo, pay4_at, dm_at]
    exact congrArg₂ (fun a b : EReal => _ * a * (b * (1 - b))) (iblk5 m c t (lo x) y) (gateB_at m c t (lo x) y)

/-- The run of the kernel: the result arrays at the functions above, the arguments unchanged. -/
theorem run : θ_run defs (onTc (τ := τ) (main (F := Ideal))) ⟨m, fun _ => 0, ρ⟩ fun r => ∀ c : Dev nD,
      r.2.mem ((c : Thread nD τ).loc main_v0_0) = G6 m c
      ∧ r.2.mem ((c : Thread nD τ).loc main_v0_1) = G7 m c
      ∧ r.2.mem ((c : Thread nD τ).loc main_v0_2) = G8 m c
      ∧ r.2.mem ((c : Thread nD τ).loc main_v0_3) = G9 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((dats m 0 c).arrAt_eq_of_cover 6 (G6 m c) (fun t _ => flushed6_eq m c t) cover6),
      (h c).2.1.trans ((dats m 0 c).arrAt_eq_of_cover 7 (G7 m c) (fun t _ => flushed7_eq m c t) cover7),
      (h c).2.2.1.trans ((dats m 0 c).arrAt_eq_of_cover 8 (G8 m c) (fun t _ => flushed8_eq m c t) cover8),
      (h c).2.2.2.1.trans ((dats m 0 c).arrAt_eq_of_cover 9 (G9 m c) (fun t _ => flushed9_eq m c t) cover9), (h c).2.2.2.2⟩)
    (Value.run_blocks m ρ)

section Reference
open Reference17Ideal.Read
variable (x0 : FVec Ideal ⟨2, ![4096, 2048]⟩ .bf16) (x1 : FVec Ideal ⟨2, ![2048, 2048]⟩ .bf16) (x2 : FVec Ideal ⟨2, ![4096, 8192]⟩ .bf16) (x3 : FVec Ideal ⟨2, ![4096, 2048]⟩ .bf16) (r : Fin 4096) (q : Fin 2048)
theorem ref38 : val_main_v38 (F := Ideal) x0 x1 x2 (ix2 r q) = dza x0 x1 x2 r q := by
  pointwise [val_main_v0, val_main_v1, val_main_v2, val_main_v3, val_main_v4, val_main_v5, val_main_v6, val_main_v7, val_main_cst, val_main_v8, val_main_v9, val_main_cst_0, val_main_v10, val_main_v11, val_main_cst_1, val_main_v12, val_main_v13, val_main_v14, val_main_v15, val_main_v16, val_main_v17, val_main_cst_2, val_main_v18, val_main_v19, val_main_cst_3, val_main_v20, val_main_v21, val_main_cst_4, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41]
  rfl
theorem ref39 : val_main_v39 (F := Ideal) x0 x1 x2 (ix2 r q) = dzb x0 x1 x2 r q := by
  pointwise [val_main_v0, val_main_v1, val_main_v2, val_main_v3, val_main_v4, val_main_v5, val_main_v6, val_main_v7, val_main_cst, val_main_v8, val_main_v9, val_main_cst_0, val_main_v10, val_main_v11, val_main_cst_1, val_main_v12, val_main_v13, val_main_v14, val_main_v15, val_main_v16, val_main_v17, val_main_cst_2, val_main_v18, val_main_v19, val_main_cst_3, val_main_v20, val_main_v21, val_main_cst_4, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41]
  rfl
theorem ref40 : val_main_v40 (F := Ideal) x0 x1 x2 x3 (ix2 r q) = dma x0 x1 x2 x3 r q := by
  pointwise [val_main_v0, val_main_v1, val_main_v2, val_main_v3, val_main_v4, val_main_v5, val_main_v6, val_main_v7, val_main_cst, val_main_v8, val_main_v9, val_main_cst_0, val_main_v10, val_main_v11, val_main_cst_1, val_main_v12, val_main_v13, val_main_v14, val_main_v15, val_main_v16, val_main_v17, val_main_cst_2, val_main_v18, val_main_v19, val_main_cst_3, val_main_v20, val_main_v21, val_main_cst_4, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41]
  rfl
theorem ref41 : val_main_v41 (F := Ideal) x0 x1 x2 x3 (ix2 r q) = dmb x0 x1 x2 x3 r q := by
  pointwise [val_main_v0, val_main_v1, val_main_v2, val_main_v3, val_main_v4, val_main_v5, val_main_v6, val_main_v7, val_main_cst, val_main_v8, val_main_v9, val_main_cst_0, val_main_v10, val_main_v11, val_main_cst_1, val_main_v12, val_main_v13, val_main_v14, val_main_v15, val_main_v16, val_main_v17, val_main_cst_2, val_main_v18, val_main_v19, val_main_cst_3, val_main_v20, val_main_v21, val_main_cst_4, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41]
  rfl
end Reference

theorem frame_kernel : quiescent_Kernel17 := fun m ρ _ => Kernel17.Gen.frame m ρ
theorem frame_kernelIdeal : quiescent_Kernel17Ideal := fun m ρ _ => Kernel17Ideal.Gen.frame m ρ
theorem frame_reference : quiescent_Reference17Ideal := fun m ρ _ =>
  (θ_run Reference17Ideal.defs _ _).mono (fun r h => ⟨fun c => (h c).2.2.2.2, sem_eq_zero_of_no_sems (by decide) r.2⟩)
    (Reference17Ideal.Value.run (F := Ideal) m ρ)

theorem algebraic : algebraic_Kernel17Ideal_Reference17Ideal := by
  intro m ρ m' ρ' _ hagree
  refine ⟨G6 m, G7 m, G8 m, G9 m, run m ρ, ?_⟩
  refine (θ_run Reference17Ideal.defs _ _).mono (fun _ h c => ⟨(h c).1.trans ?_, (h c).2.1.trans ?_, (h c).2.2.1.trans ?_, (h c).2.2.2.1.trans ?_, (h c).2.2.2.2⟩) (Reference17Ideal.Value.run (F := Ideal) m' ρ')
  · rw [(hagree c).1, (hagree c).2.1, (hagree c).2.2.1]
    funext i
    obtain ⟨r, q, rfl⟩ := Step.ix2_surj i
    exact ref38 (a0 m c) (a1 m c) (a2 m c) r q
  · rw [(hagree c).1, (hagree c).2.1, (hagree c).2.2.1]
    funext i
    obtain ⟨r, q, rfl⟩ := Step.ix2_surj i
    exact ref39 (a0 m c) (a1 m c) (a2 m c) r q
  · rw [(hagree c).1, (hagree c).2.1, (hagree c).2.2.1, (hagree c).2.2.2.1]
    funext i
    obtain ⟨r, q, rfl⟩ := Step.ix2_surj i
    exact ref40 (a0 m c) (a1 m c) (a2 m c) (a3 m c) r q
  · rw [(hagree c).1, (hagree c).2.1, (hagree c).2.2.1, (hagree c).2.2.2.2]
    funext i
    obtain ⟨r, q, rfl⟩ := Step.ix2_surj i
    exact ref41 (a0 m c) (a1 m c) (a2 m c) (a4 m c) r q

end P17
-- ==== Proof.P18.lean ====
module

public import proofs.«01_k».proof.Proof.Step
public import proofs.«01_k».proof.Proof.Gen.Kernel18.Frame
public import proofs.«01_k».proof.Proof.Gen.Kernel18Ideal.Value
public import proofs.«01_k».proof.Proof.Gen.Reference18Ideal.Read
public import proofs.«01_k».proof.Proof.Gen.Reference18Ideal.Run

@[expose] public section

set_option maxRecDepth 16384

noncomputable section

/-! # The claims about `adamw_w_in`: the sum of the eight devices' gradients and the optimiser's step, 2048 × 1024 -/

namespace Cert.P18

open Kernel18Ideal Kernel18Ideal.Gen Idealize.ShloMosaic Idealize.ShloMosaic.TcCoe Idealize.SL.Sem
open Step

section Blocks
variable {F : FTy → Type} [FloatOps F]
variable (m : (ℓ : Loc nD τ sig) → Buf (Elt F) ℓ) (c : Dev nD) (t : Fin cfg0.N) (x : Fin 256) (y : Fin 1024)

theorem ltN (t : Fin cfg0.N) : t.val < 8 := lt_of_lt_of_eq t.isLt N_0

theorem at4 : ∀ t : Fin grid0.N, win0_4.index t 0 = t.val ∧ win0_4.index t 1 = 0 := by decide +kernel

/-- Where block `t` lies in its array, for the windows 1, 2, 3 and the results 4, 5, 6, 7, which move alike. -/
theorem pos4 :
    ((win0_4.rect t).idx (ix2 x y) : (⟨2, ![2048, 1024]⟩ : Shape).Idx) = ix2 ⟨t.val * 256 + x.val, by have := ltN t; omega⟩ y := by
  refine funext fun a => Fin.ext ?_
  match a with
  | ⟨0, _⟩ => show win0_4.index t 0 * 256 + 1 * x.val = t.val * 256 + x.val; rw [(at4 t).1]; omega
  | ⟨1, _⟩ => show win0_4.index t 1 * 1024 + 1 * y.val = y.val; rw [(at4 t).2]; omega
/-- Every element of such an array lies in one block. -/
theorem block4 (i : (⟨2, ![2048, 1024]⟩ : Shape).Idx) :
    ∃ t : Fin cfg0.N, ∀ a : Fin 2, win0_4.index t a * ![256, 1024] a ≤ (i a : Nat) ∧ (i a : Nat) < win0_4.index t a * ![256, 1024] a + ![256, 1024] a := by
  have h0 : (i 0 : Nat) < 2048 := (i 0).isLt
  have h1 : (i 1 : Nat) < 1024 := (i 1).isLt
  have hN : cfg0.N = 8 := N_0
  let t : Fin cfg0.N := ⟨(i 0 : Nat) / 256, by omega⟩
  refine ⟨t, fun a => ?_⟩
  match a with
  | ⟨0, _⟩ =>
    show win0_4.index t 0 * 256 ≤ (i 0 : Nat) ∧ (i 0 : Nat) < win0_4.index t 0 * 256 + 256
    rw [(at4 t).1]; dsimp only [t]; omega
  | ⟨1, _⟩ =>
    show win0_4.index t 1 * 1024 ≤ (i 1 : Nat) ∧ (i 1 : Nat) < win0_4.index t 1 * 1024 + 1024
    rw [(at4 t).2]; dsimp only [t]; omega
theorem iblk1 :
    iblk m c 1 t (ix2 x y) = m ((c : Thread nD τ).loc main_arg1) (ix2 ⟨t.val * 256 + x.val, by have := ltN t; omega⟩ y) := by
  show V m c main_arg1 ((win0_1.rect t).idx (ix2 x y)) = _
  rw [V_main_arg1]
  exact congrArg _ (pos4 t x y)
theorem iblk2 :
    iblk m c 2 t (ix2 x y) = m ((c : Thread nD τ).loc main_arg2) (ix2 ⟨t.val * 256 + x.val, by have := ltN t; omega⟩ y) := by
  show V m c main_arg2 ((win0_2.rect t).idx (ix2 x y)) = _
  rw [V_main_arg2]
  exact congrArg _ (pos4 t x y)
theorem iblk3 :
    iblk m c 3 t (ix2 x y) = m ((c : Thread nD τ).loc main_arg3) (ix2 ⟨t.val * 256 + x.val, by have := ltN t; omega⟩ y) := by
  show V m c main_arg3 ((win0_3.rect t).idx (ix2 x y)) = _
  rw [V_main_arg3]
  exact congrArg _ (pos4 t x y)
theorem oblk4 (G : Buf (Elt F) ((c : Thread nD τ).loc main_v0_0)) :
    ((cfg0.win 4).blk t).view.read (Elt F) G (ix2 x y) = G (ix2 ⟨t.val * 256 + x.val, by have := ltN t; omega⟩ y) :=
  congrArg G (pos4 t x y)
theorem cover4 (i : (⟨2, ![2048, 1024]⟩ : Shape).Idx) :
    ∃ t : Fin cfg0.N, (cfg0.win 4).flush t = true ∧ i ∈ ((cfg0.win 4).blk t).view.set := by
  obtain ⟨t, h⟩ := block4 i
  refine ⟨t, flush0_4 _, ?_⟩
  show i ∈ ((View.whole main_v0_0).slice (win0_4.rect t)).set
  rw [View.set_slice_whole, Rect.mem_set_unit]
  exact h
theorem oblk5 (G : Buf (Elt F) ((c : Thread nD τ).loc main_v0_1)) :
    ((cfg0.win 5).blk t).view.read (Elt F) G (ix2 x y) = G (ix2 ⟨t.val * 256 + x.val, by have := ltN t; omega⟩ y) :=
  congrArg G (pos4 t x y)
theorem cover5 (i : (⟨2, ![2048, 1024]⟩ : Shape).Idx) :
    ∃ t : Fin cfg0.N, (cfg0.win 5).flush t = true ∧ i ∈ ((cfg0.win 5).blk t).view.set := by
  obtain ⟨t, h⟩ := block4 i
  refine ⟨t, flush0_5 _, ?_⟩
  show i ∈ ((View.whole main_v0_1).slice (win0_5.rect t)).set
  rw [View.set_slice_whole, Rect.mem_set_unit]
  exact h
theorem oblk6 (G : Buf (Elt F) ((c : Thread nD τ).loc main_v0_2)) :
    ((cfg0.win 6).blk t).view.read (Elt F) G (ix2 x y) = G (ix2 ⟨t.val * 256 + x.val, by have := ltN t; omega⟩ y) :=
  congrArg G (pos4 t x y)
theorem cover6 (i : (⟨2, ![2048, 1024]⟩ : Shape).Idx) :
    ∃ t : Fin cfg0.N, (cfg0.win 6).flush t = true ∧ i ∈ ((cfg0.win 6).blk t).view.set := by
  obtain ⟨t, h⟩ := block4 i
  refine ⟨t, flush0_6 _, ?_⟩
  show i ∈ ((View.whole main_v0_2).slice (win0_6.rect t)).set
  rw [View.set_slice_whole, Rect.mem_set_unit]
  exact h
theorem oblk7 (G : Buf (Elt F) ((c : Thread nD τ).loc main_v0_3)) :
    ((cfg0.win 7).blk t).view.read (Elt F) G (ix2 x y) = G (ix2 ⟨t.val * 256 + x.val, by have := ltN t; omega⟩ y) :=
  congrArg G (pos4 t x y)
theorem cover7 (i : (⟨2, ![2048, 1024]⟩ : Shape).Idx) :
    ∃ t : Fin cfg0.N, (cfg0.win 7).flush t = true ∧ i ∈ ((cfg0.win 7).blk t).view.set := by
  obtain ⟨t, h⟩ := block4 i
  refine ⟨t, flush0_7 _, ?_⟩
  show i ∈ ((View.whole main_v0_3).slice (win0_7.rect t)).set
  rw [View.set_slice_whole, Rect.mem_set_unit]
  exact h

theorem at0 : ∀ t : Fin grid0.N, win0_0.index t 0 = 0 ∧ win0_0.index t 1 = t.val ∧ win0_0.index t 2 = 0 := by decide +kernel

/-- Block `t` of window 0, element by element. -/
theorem iblk0 (c : Dev nD) (t : Fin cfg0.N) (x : Fin 8) (y : Fin 256) (z : Fin 1024) :
    iblk m c 0 t (ix3 x y z) = m ((c : Thread nD τ).loc main_arg0) (ix3 x ⟨t.val * 256 + y.val, by have := ltN t; omega⟩ z) := by
  show V m c main_arg0 ((win0_0.rect t).idx (ix3 x y z)) = _
  rw [V_main_arg0]
  refine congrArg _ (funext fun a => Fin.ext ?_)
  match a with
  | ⟨0, _⟩ => show win0_0.index t 0 * 8 + 1 * x.val = x.val; rw [(at0 t).1]; have := ltN t; omega
  | ⟨1, _⟩ => show win0_0.index t 1 * 256 + 1 * y.val = t.val * 256 + y.val; rw [(at0 t).2.1]; have := ltN t; omega
  | ⟨2, _⟩ => show win0_0.index t 2 * 1024 + 1 * z.val = z.val; rw [(at0 t).2.2]; have := ltN t; omega
end Blocks

/-! ## One element of the step -/
section Spec
/-- The gradient: the sum over the devices. -/
def grad (A0 : FVec Ideal ⟨3, ![8, 2048, 1024]⟩ .bf16) (r : Fin 2048) (q : Fin 1024) : EReal := ∑ d : Fin 8, A0 (ix3 d r q)
end Spec

variable (m : (ℓ : Loc nD τ sig) → Buf (Elt Ideal) ℓ) (ρ : Dev nD → PrngReg)

abbrev a0 (c : Dev nD) : FVec Ideal ⟨3, ![8, 2048, 1024]⟩ .bf16 := m ((c : Thread nD τ).loc main_arg0)
abbrev a1 (c : Dev nD) : FVec Ideal ⟨2, ![2048, 1024]⟩ .f32 := m ((c : Thread nD τ).loc main_arg1)
abbrev a2 (c : Dev nD) : FVec Ideal ⟨2, ![2048, 1024]⟩ .f32 := m ((c : Thread nD τ).loc main_arg2)
abbrev a3 (c : Dev nD) : FVec Ideal ⟨2, ![2048, 1024]⟩ .f32 := m ((c : Thread nD τ).loc main_arg3)

/-- The four result arrays of device `c`: the gradient, the change of the weight, the new moments. -/
abbrev G4 (c : Dev nD) : Buf (Elt Ideal) ((c : Thread nD τ).loc main_v0_0) := fun i : S2048x1024.Idx => grad (a0 m c) (i 0) (i 1)
abbrev G5 (c : Dev nD) : Buf (Elt Ideal) ((c : Thread nD τ).loc main_v0_1) := fun i : S2048x1024.Idx =>
  delta (grad (a0 m c) (i 0) (i 1)) (a1 m c (ix2 (i 0) (i 1))) (a2 m c (ix2 (i 0) (i 1))) (a3 m c (ix2 (i 0) (i 1)))
abbrev G6 (c : Dev nD) : Buf (Elt Ideal) ((c : Thread nD τ).loc main_v0_2) := fun i : S2048x1024.Idx =>
  newM (grad (a0 m c) (i 0) (i 1)) (a2 m c (ix2 (i 0) (i 1)))
abbrev G7 (c : Dev nD) : Buf (Elt Ideal) ((c : Thread nD τ).loc main_v0_3) := fun i : S2048x1024.Idx =>
  newV (grad (a0 m c) (i 0) (i 1)) (a3 m c (ix2 (i 0) (i 1)))

section Payloads
variable (g u v w : Vec Ideal S256x1024 .f32) (x : Fin 256) (y : Fin 1024)
theorem pay1_at : k0_pay1 (F := Ideal) g u (Scalar.ofBits .f32 0x3F666666#32) (ix2 x y) = newM (g (ix2 x y)) (u (ix2 x y)) := by
  pointwise [k0_pay1]
  rfl
theorem pay2_at : k0_pay2 (F := Ideal) g v (ix2 x y) = newV (g (ix2 x y)) (v (ix2 x y)) := by
  pointwise [k0_pay2]
  rfl
theorem pay3_at : k0_pay3 (F := Ideal) g u (Scalar.ofBits .f32 0x3F666666#32) v w (ix2 x y) = delta (g (ix2 x y)) (w (ix2 x y)) (u (ix2 x y)) (v (ix2 x y)) := by
  pointwise [k0_pay3, k0_pay1, k0_pay2]
  rfl
theorem pay5_at (x0 : Vec Ideal S8x256x1024 .bf16) : k0_pay5 (F := Ideal) x0 u v w (ix2 x y) = (∑ d : Fin 8, x0 (ix3 d x y) : EReal) := by
  pointwise [k0_pay5, k0_pay4]
  rw [Fin.sum_univ_eight]
end Payloads

theorem grad_at (c : Dev nD) (t : Fin cfg0.N) (x : Fin 256) (y : Fin 1024) :
    k0_pay5 (F := Ideal) (iblk m c 0 t) (iblk m c 1 t) (iblk m c 2 t) (iblk m c 3 t) (ix2 x y) = grad (a0 m c) ⟨t.val * 256 + x.val, by have := ltN t; omega⟩ y :=
  (pay5_at _ _ _ x y _).trans (Finset.sum_congr rfl fun d _ => iblk0 m c t d x y)

/-- Element `(x, y)` of a block, as an extended real. -/
abbrev ew (v : Vec Ideal S256x1024 .f32) (x : Fin 256) (y : Fin 1024) : EReal := v (ix2 x y)
theorem ew1 (c : Dev nD) (t : Fin cfg0.N) (x : Fin 256) (y : Fin 1024) : ew (iblk m c 1 t) x y = a1 m c (ix2 ⟨t.val * 256 + x.val, by have := ltN t; omega⟩ y) := iblk1 m c t x y
theorem ew2 (c : Dev nD) (t : Fin cfg0.N) (x : Fin 256) (y : Fin 1024) : ew (iblk m c 2 t) x y = a2 m c (ix2 ⟨t.val * 256 + x.val, by have := ltN t; omega⟩ y) := iblk2 m c t x y
theorem ew3 (c : Dev nD) (t : Fin cfg0.N) (x : Fin 256) (y : Fin 1024) : ew (iblk m c 3 t) x y = a3 m c (ix2 ⟨t.val * 256 + x.val, by have := ltN t; omega⟩ y) := iblk3 m c t x y

theorem flushed4_eq (c : Dev nD) (t : Fin cfg0.N) :
    (dats m 0 c).flushed 4 t = ((cfg0.win 4).blk t).view.read (Elt Ideal) (G4 m c) := by
  rw [Value.flushed4]
  funext i
  obtain ⟨x, y, rfl⟩ := ix2_surj i
  rw [oblk4]
  unfold out0_4
  rw [View.canon_unit_zero Step.hz]
  exact grad_at m c t x y

theorem flushed5_eq (c : Dev nD) (t : Fin cfg0.N) :
    (dats m 0 c).flushed 5 t = ((cfg0.win 5).blk t).view.read (Elt Ideal) (G5 m c) := by
  rw [Value.flushed5]
  funext i
  obtain ⟨x, y, rfl⟩ := ix2_surj i
  rw [oblk5]
  unfold out0_5
  rw [View.canon_unit_zero Step.hz]
  rw [View.ld_unit_zero Step.hz, View.ld_unit_zero Step.hz, View.ld_unit_zero Step.hz]
  refine (pay3_at _ _ _ _ x y).trans ?_
  rw [grad_at]
  show delta _ (ew (iblk m c 1 t) x y) (ew (iblk m c 2 t) x y) (ew (iblk m c 3 t) x y) = _
  rw [ew1, ew2, ew3]
  rfl

theorem flushed6_eq (c : Dev nD) (t : Fin cfg0.N) :
    (dats m 0 c).flushed 6 t = ((cfg0.win 6).blk t).view.read (Elt Ideal) (G6 m c) := by
  rw [Value.flushed6]
  funext i
  obtain ⟨x, y, rfl⟩ := ix2_surj i
  rw [oblk6]
  unfold out0_6
  rw [View.canon_unit_zero Step.hz]
  rw [View.ld_unit_zero Step.hz]
  refine (pay1_at _ _ x y).trans ?_
  rw [grad_at]
  show newM _ (ew (iblk m c 2 t) x y) = _
  rw [ew2]
  rfl

theorem flushed7_eq (c : Dev nD) (t : Fin cfg0.N) :
    (dats m 0 c).flushed 7 t = ((cfg0.win 7).blk t).view.read (Elt Ideal) (G7 m c) := by
  rw [Value.flushed7]
  funext i
  obtain ⟨x, y, rfl⟩ := ix2_surj i
  rw [oblk7]
  unfold out0_7
  rw [View.canon_unit_zero Step.hz]
  rw [View.ld_unit_zero Step.hz]
  refine (pay2_at _ _ x y).trans ?_
  rw [grad_at]
  show newV _ (ew (iblk m c 3 t) x y) = _
  rw [ew3]
  rfl

/-- The run of the kernel: the result arrays at the functions above, the arguments unchanged. -/
theorem run : θ_run defs (onTc (τ := τ) (main (F := Ideal))) ⟨m, fun _ => 0, ρ⟩ fun r => ∀ c : Dev nD,
      r.2.mem ((c : Thread nD τ).loc main_v0_0) = G4 m c
      ∧ r.2.mem ((c : Thread nD τ).loc main_v0_1) = G5 m c
      ∧ r.2.mem ((c : Thread nD τ).loc main_v0_2) = G6 m c
      ∧ r.2.mem ((c : Thread nD τ).loc main_v0_3) = G7 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((dats m 0 c).arrAt_eq_of_cover 4 (G4 m c) (fun t _ => flushed4_eq m c t) cover4),
      (h c).2.1.trans ((dats m 0 c).arrAt_eq_of_cover 5 (G5 m c) (fun t _ => flushed5_eq m c t) cover5),
      (h c).2.2.1.trans ((dats m 0 c).arrAt_eq_of_cover 6 (G6 m c) (fun t _ => flushed6_eq m c t) cover6),
      (h c).2.2.2.1.trans ((dats m 0 c).arrAt_eq_of_cover 7 (G7 m c) (fun t _ => flushed7_eq m c t) cover7), (h c).2.2.2.2⟩)
    (Value.run_blocks m ρ)

section Reference
open Reference18Ideal.Read
variable (x0 : FVec Ideal ⟨3, ![8, 2048, 1024]⟩ .bf16) (x1 x2 x3 : FVec Ideal ⟨2, ![2048, 1024]⟩ .f32) (r : Fin 2048) (q : Fin 1024)
theorem ref0 : val_main_v1 (F := Ideal) x0 (ix2 r q) = grad x0 r q := by
  pointwise [val_main_cst, val_main_v0, val_main_v1]
  rfl
theorem ref1 : val_main_v25 (F := Ideal) x0 x1 x2 x3 (ix2 r q) = delta (grad x0 r q) (x1 (ix2 r q)) (x2 (ix2 r q)) (x3 (ix2 r q)) := by
  pointwise [val_main_cst, val_main_cst_0, val_main_cst_1, val_main_cst_2, val_main_cst_3, val_main_cst_4, val_main_cst_5, val_main_cst_6, val_main_cst_7, val_main_cst_8, val_main_v0, val_main_v1, val_main_v10, val_main_v11, val_main_v12, val_main_v13, val_main_v14, val_main_v15, val_main_v16, val_main_v17, val_main_v18, val_main_v19, val_main_v2, val_main_v20, val_main_v21, val_main_v22, val_main_v23, val_main_v24, val_main_v25, val_main_v3, val_main_v4, val_main_v5, val_main_v6, val_main_v7, val_main_v8, val_main_v9]
  rfl
theorem ref2 : val_main_v6 (F := Ideal) x0 x2 (ix2 r q) = newM (grad x0 r q) (x2 (ix2 r q)) := by
  pointwise [val_main_cst, val_main_cst_0, val_main_cst_1, val_main_v0, val_main_v1, val_main_v2, val_main_v3, val_main_v4, val_main_v5, val_main_v6]
  rfl
theorem ref3 : val_main_v12 (F := Ideal) x0 x3 (ix2 r q) = newV (grad x0 r q) (x3 (ix2 r q)) := by
  pointwise [val_main_cst, val_main_cst_2, val_main_cst_3, val_main_v0, val_main_v1, val_main_v10, val_main_v11, val_main_v12, val_main_v7, val_main_v8, val_main_v9]
  rfl
end Reference

theorem frame_kernel : quiescent_Kernel18 := fun m ρ _ => Kernel18.Gen.frame m ρ
theorem frame_kernelIdeal : quiescent_Kernel18Ideal := fun m ρ _ => Kernel18Ideal.Gen.frame m ρ
theorem frame_reference : quiescent_Reference18Ideal := fun m ρ _ =>
  (θ_run Reference18Ideal.defs _ _).mono (fun r h => ⟨fun c => (h c).2.2.2.2, sem_eq_zero_of_no_sems (by decide) r.2⟩)
    (Reference18Ideal.Value.run (F := Ideal) m ρ)

theorem algebraic : algebraic_Kernel18Ideal_Reference18Ideal := by
  intro m ρ m' ρ' _ hagree
  refine ⟨G4 m, G5 m, G6 m, G7 m, run m ρ, ?_⟩
  refine (θ_run Reference18Ideal.defs _ _).mono (fun _ h c => ⟨(h c).1.trans ?_, (h c).2.1.trans ?_, (h c).2.2.1.trans ?_, (h c).2.2.2.1.trans ?_, (h c).2.2.2.2⟩) (Reference18Ideal.Value.run (F := Ideal) m' ρ')
  · rw [(hagree c).1]
    funext i
    obtain ⟨r, q, rfl⟩ := Step.ix2_surj i
    exact ref0 (a0 m c) r q
  · rw [(hagree c).1, (hagree c).2.1, (hagree c).2.2.1, (hagree c).2.2.2]
    funext i
    obtain ⟨r, q, rfl⟩ := Step.ix2_surj i
    exact ref1 (a0 m c) (a1 m c) (a2 m c) (a3 m c) r q
  · rw [(hagree c).1, (hagree c).2.2.1]
    funext i
    obtain ⟨r, q, rfl⟩ := Step.ix2_surj i
    exact ref2 (a0 m c) (a2 m c) r q
  · rw [(hagree c).1, (hagree c).2.2.2]
    funext i
    obtain ⟨r, q, rfl⟩ := Step.ix2_surj i
    exact ref3 (a0 m c) (a3 m c) r q

end P18
-- ==== Proof.P19.lean ====
module

public import proofs.«01_k».proof.Proof.Step
public import proofs.«01_k».proof.Proof.Gen.Kernel19.Frame
public import proofs.«01_k».proof.Proof.Gen.Kernel19Ideal.Value
public import proofs.«01_k».proof.Proof.Gen.Reference19Ideal.Read
public import proofs.«01_k».proof.Proof.Gen.Reference19Ideal.Run

@[expose] public section

set_option maxRecDepth 16384

noncomputable section

/-! # The claims about `adamw_w_glu`: the sum of the eight devices' gradients and the optimiser's step, 128 × 1024 -/

namespace Cert.P19

open Kernel19Ideal Kernel19Ideal.Gen Idealize.ShloMosaic Idealize.ShloMosaic.TcCoe Idealize.SL.Sem
open Step

section Blocks
variable {F : FTy → Type} [FloatOps F]
variable (m : (ℓ : Loc nD τ sig) → Buf (Elt F) ℓ) (c : Dev nD) (t : Fin cfg0.N) (x : Fin 128) (y : Fin 1024)

theorem ltN (t : Fin cfg0.N) : t.val < 1 := lt_of_lt_of_eq t.isLt N_0

theorem at4 : ∀ t : Fin grid0.N, win0_4.index t 0 = 0 ∧ win0_4.index t 1 = 0 := by decide +kernel

/-- Where block `t` lies in its array, for the windows 1, 2, 3 and the results 4, 5, 6, 7, which move alike. -/
theorem pos4 :
    ((win0_4.rect t).idx (ix2 x y) : (⟨2, ![128, 1024]⟩ : Shape).Idx) = ix2 x y := by
  refine funext fun a => Fin.ext ?_
  match a with
  | ⟨0, _⟩ => show win0_4.index t 0 * 128 + 1 * x.val = x.val; rw [(at4 t).1]; omega
  | ⟨1, _⟩ => show win0_4.index t 1 * 1024 + 1 * y.val = y.val; rw [(at4 t).2]; omega
/-- Every element of such an array lies in one block. -/
theorem block4 (i : (⟨2, ![128, 1024]⟩ : Shape).Idx) :
    ∃ t : Fin cfg0.N, ∀ a : Fin 2, win0_4.index t a * ![128, 1024] a ≤ (i a : Nat) ∧ (i a : Nat) < win0_4.index t a * ![128, 1024] a + ![128, 1024] a := by
  have h0 : (i 0 : Nat) < 128 := (i 0).isLt
  have h1 : (i 1 : Nat) < 1024 := (i 1).isLt
  have hN : cfg0.N = 1 := N_0
  let t : Fin cfg0.N := ⟨(i 0 : Nat) / 128, by omega⟩
  refine ⟨t, fun a => ?_⟩
  match a with
  | ⟨0, _⟩ =>
    show win0_4.index t 0 * 128 ≤ (i 0 : Nat) ∧ (i 0 : Nat) < win0_4.index t 0 * 128 + 128
    rw [(at4 t).1]; dsimp only [t]; omega
  | ⟨1, _⟩ =>
    show win0_4.index t 1 * 1024 ≤ (i 1 : Nat) ∧ (i 1 : Nat) < win0_4.index t 1 * 1024 + 1024
    rw [(at4 t).2]; dsimp only [t]; omega
theorem iblk1 :
    iblk m c 1 t (ix2 x y) = m ((c : Thread nD τ).loc main_arg1) (ix2 x y) := by
  show V m c main_arg1 ((win0_1.rect t).idx (ix2 x y)) = _
  rw [V_main_arg1]
  exact congrArg _ (pos4 t x y)
theorem iblk2 :
    iblk m c 2 t (ix2 x y) = m ((c : Thread nD τ).loc main_arg2) (ix2 x y) := by
  show V m c main_arg2 ((win0_2.rect t).idx (ix2 x y)) = _
  rw [V_main_arg2]
  exact congrArg _ (pos4 t x y)
theorem iblk3 :
    iblk m c 3 t (ix2 x y) = m ((c : Thread nD τ).loc main_arg3) (ix2 x y) := by
  show V m c main_arg3 ((win0_3.rect t).idx (ix2 x y)) = _
  rw [V_main_arg3]
  exact congrArg _ (pos4 t x y)
theorem oblk4 (G : Buf (Elt F) ((c : Thread nD τ).loc main_v0_0)) :
    ((cfg0.win 4).blk t).view.read (Elt F) G (ix2 x y) = G (ix2 x y) :=
  congrArg G (pos4 t x y)
theorem cover4 (i : (⟨2, ![128, 1024]⟩ : Shape).Idx) :
    ∃ t : Fin cfg0.N, (cfg0.win 4).flush t = true ∧ i ∈ ((cfg0.win 4).blk t).view.set := by
  obtain ⟨t, h⟩ := block4 i
  refine ⟨t, flush0_4 _, ?_⟩
  show i ∈ ((View.whole main_v0_0).slice (win0_4.rect t)).set
  rw [View.set_slice_whole, Rect.mem_set_unit]
  exact h
theorem oblk5 (G : Buf (Elt F) ((c : Thread nD τ).loc main_v0_1)) :
    ((cfg0.win 5).blk t).view.read (Elt F) G (ix2 x y) = G (ix2 x y) :=
  congrArg G (pos4 t x y)
theorem cover5 (i : (⟨2, ![128, 1024]⟩ : Shape).Idx) :
    ∃ t : Fin cfg0.N, (cfg0.win 5).flush t = true ∧ i ∈ ((cfg0.win 5).blk t).view.set := by
  obtain ⟨t, h⟩ := block4 i
  refine ⟨t, flush0_5 _, ?_⟩
  show i ∈ ((View.whole main_v0_1).slice (win0_5.rect t)).set
  rw [View.set_slice_whole, Rect.mem_set_unit]
  exact h
theorem oblk6 (G : Buf (Elt F) ((c : Thread nD τ).loc main_v0_2)) :
    ((cfg0.win 6).blk t).view.read (Elt F) G (ix2 x y) = G (ix2 x y) :=
  congrArg G (pos4 t x y)
theorem cover6 (i : (⟨2, ![128, 1024]⟩ : Shape).Idx) :
    ∃ t : Fin cfg0.N, (cfg0.win 6).flush t = true ∧ i ∈ ((cfg0.win 6).blk t).view.set := by
  obtain ⟨t, h⟩ := block4 i
  refine ⟨t, flush0_6 _, ?_⟩
  show i ∈ ((View.whole main_v0_2).slice (win0_6.rect t)).set
  rw [View.set_slice_whole, Rect.mem_set_unit]
  exact h
theorem oblk7 (G : Buf (Elt F) ((c : Thread nD τ).loc main_v0_3)) :
    ((cfg0.win 7).blk t).view.read (Elt F) G (ix2 x y) = G (ix2 x y) :=
  congrArg G (pos4 t x y)
theorem cover7 (i : (⟨2, ![128, 1024]⟩ : Shape).Idx) :
    ∃ t : Fin cfg0.N, (cfg0.win 7).flush t = true ∧ i ∈ ((cfg0.win 7).blk t).view.set := by
  obtain ⟨t, h⟩ := block4 i
  refine ⟨t, flush0_7 _, ?_⟩
  show i ∈ ((View.whole main_v0_3).slice (win0_7.rect t)).set
  rw [View.set_slice_whole, Rect.mem_set_unit]
  exact h

theorem at0 : ∀ t : Fin grid0.N, win0_0.index t 0 = 0 ∧ win0_0.index t 1 = 0 ∧ win0_0.index t 2 = 0 := by decide +kernel

/-- Block `t` of window 0, element by element. -/
theorem iblk0 (c : Dev nD) (t : Fin cfg0.N) (x : Fin 8) (y : Fin 128) (z : Fin 1024) :
    iblk m c 0 t (ix3 x y z) = m ((c : Thread nD τ).loc main_arg0) (ix3 x y z) := by
  show V m c main_arg0 ((win0_0.rect t).idx (ix3 x y z)) = _
  rw [V_main_arg0]
  refine congrArg _ (funext fun a => Fin.ext ?_)
  match a with
  | ⟨0, _⟩ => show win0_0.index t 0 * 8 + 1 * x.val = x.val; rw [(at0 t).1]; have := ltN t; omega
  | ⟨1, _⟩ => show win0_0.index t 1 * 128 + 1 * y.val = y.val; rw [(at0 t).2.1]; have := ltN t; omega
  | ⟨2, _⟩ => show win0_0.index t 2 * 1024 + 1 * z.val = z.val; rw [(at0 t).2.2]; have := ltN t; omega
end Blocks

/-! ## One element of the step -/
section Spec
/-- The gradient: the sum over the devices. -/
def grad (A0 : FVec Ideal ⟨3, ![8, 128, 1024]⟩ .bf16) (r : Fin 128) (q : Fin 1024) : EReal := ∑ d : Fin 8, A0 (ix3 d r q)
end Spec

variable (m : (ℓ : Loc nD τ sig) → Buf (Elt Ideal) ℓ) (ρ : Dev nD → PrngReg)

abbrev a0 (c : Dev nD) : FVec Ideal ⟨3, ![8, 128, 1024]⟩ .bf16 := m ((c : Thread nD τ).loc main_arg0)
abbrev a1 (c : Dev nD) : FVec Ideal ⟨2, ![128, 1024]⟩ .f32 := m ((c : Thread nD τ).loc main_arg1)
abbrev a2 (c : Dev nD) : FVec Ideal ⟨2, ![128, 1024]⟩ .f32 := m ((c : Thread nD τ).loc main_arg2)
abbrev a3 (c : Dev nD) : FVec Ideal ⟨2, ![128, 1024]⟩ .f32 := m ((c : Thread nD τ).loc main_arg3)

/-- The four result arrays of device `c`: the gradient, the change of the weight, the new moments. -/
abbrev G4 (c : Dev nD) : Buf (Elt Ideal) ((c : Thread nD τ).loc main_v0_0) := fun i : S128x1024.Idx => grad (a0 m c) (i 0) (i 1)
abbrev G5 (c : Dev nD) : Buf (Elt Ideal) ((c : Thread nD τ).loc main_v0_1) := fun i : S128x1024.Idx =>
  delta (grad (a0 m c) (i 0) (i 1)) (a1 m c (ix2 (i 0) (i 1))) (a2 m c (ix2 (i 0) (i 1))) (a3 m c (ix2 (i 0) (i 1)))
abbrev G6 (c : Dev nD) : Buf (Elt Ideal) ((c : Thread nD τ).loc main_v0_2) := fun i : S128x1024.Idx =>
  newM (grad (a0 m c) (i 0) (i 1)) (a2 m c (ix2 (i 0) (i 1)))
abbrev G7 (c : Dev nD) : Buf (Elt Ideal) ((c : Thread nD τ).loc main_v0_3) := fun i : S128x1024.Idx =>
  newV (grad (a0 m c) (i 0) (i 1)) (a3 m c (ix2 (i 0) (i 1)))

section Payloads
variable (g u v w : Vec Ideal S128x1024 .f32) (x : Fin 128) (y : Fin 1024)
theorem pay1_at : k0_pay1 (F := Ideal) g u (Scalar.ofBits .f32 0x3F666666#32) (ix2 x y) = newM (g (ix2 x y)) (u (ix2 x y)) := by
  pointwise [k0_pay1]
  rfl
theorem pay2_at : k0_pay2 (F := Ideal) g v (ix2 x y) = newV (g (ix2 x y)) (v (ix2 x y)) := by
  pointwise [k0_pay2]
  rfl
theorem pay3_at : k0_pay3 (F := Ideal) g u (Scalar.ofBits .f32 0x3F666666#32) v w (ix2 x y) = delta (g (ix2 x y)) (w (ix2 x y)) (u (ix2 x y)) (v (ix2 x y)) := by
  pointwise [k0_pay3, k0_pay1, k0_pay2]
  rfl
theorem pay5_at (x0 : Vec Ideal S8x128x1024 .bf16) : k0_pay5 (F := Ideal) x0 u v w (ix2 x y) = (∑ d : Fin 8, x0 (ix3 d x y) : EReal) := by
  pointwise [k0_pay5, k0_pay4]
  rw [Fin.sum_univ_eight]
end Payloads

theorem grad_at (c : Dev nD) (t : Fin cfg0.N) (x : Fin 128) (y : Fin 1024) :
    k0_pay5 (F := Ideal) (iblk m c 0 t) (iblk m c 1 t) (iblk m c 2 t) (iblk m c 3 t) (ix2 x y) = grad (a0 m c) x y :=
  (pay5_at _ _ _ x y _).trans (Finset.sum_congr rfl fun d _ => iblk0 m c t d x y)

/-- Element `(x, y)` of a block, as an extended real. -/
abbrev ew (v : Vec Ideal S128x1024 .f32) (x : Fin 128) (y : Fin 1024) : EReal := v (ix2 x y)
theorem ew1 (c : Dev nD) (t : Fin cfg0.N) (x : Fin 128) (y : Fin 1024) : ew (iblk m c 1 t) x y = a1 m c (ix2 x y) := iblk1 m c t x y
theorem ew2 (c : Dev nD) (t : Fin cfg0.N) (x : Fin 128) (y : Fin 1024) : ew (iblk m c 2 t) x y = a2 m c (ix2 x y) := iblk2 m c t x y
theorem ew3 (c : Dev nD) (t : Fin cfg0.N) (x : Fin 128) (y : Fin 1024) : ew (iblk m c 3 t) x y = a3 m c (ix2 x y) := iblk3 m c t x y

theorem flushed4_eq (c : Dev nD) (t : Fin cfg0.N) :
    (dats m 0 c).flushed 4 t = ((cfg0.win 4).blk t).view.read (Elt Ideal) (G4 m c) := by
  rw [Value.flushed4]
  funext i
  obtain ⟨x, y, rfl⟩ := ix2_surj i
  rw [oblk4]
  unfold out0_4
  rw [View.canon_unit_zero Step.hz]
  exact grad_at m c t x y

theorem flushed5_eq (c : Dev nD) (t : Fin cfg0.N) :
    (dats m 0 c).flushed 5 t = ((cfg0.win 5).blk t).view.read (Elt Ideal) (G5 m c) := by
  rw [Value.flushed5]
  funext i
  obtain ⟨x, y, rfl⟩ := ix2_surj i
  rw [oblk5]
  unfold out0_5
  rw [View.canon_unit_zero Step.hz]
  rw [View.ld_unit_zero Step.hz, View.ld_unit_zero Step.hz, View.ld_unit_zero Step.hz]
  refine (pay3_at _ _ _ _ x y).trans ?_
  rw [grad_at]
  show delta _ (ew (iblk m c 1 t) x y) (ew (iblk m c 2 t) x y) (ew (iblk m c 3 t) x y) = _
  rw [ew1, ew2, ew3]
  rfl

theorem flushed6_eq (c : Dev nD) (t : Fin cfg0.N) :
    (dats m 0 c).flushed 6 t = ((cfg0.win 6).blk t).view.read (Elt Ideal) (G6 m c) := by
  rw [Value.flushed6]
  funext i
  obtain ⟨x, y, rfl⟩ := ix2_surj i
  rw [oblk6]
  unfold out0_6
  rw [View.canon_unit_zero Step.hz]
  rw [View.ld_unit_zero Step.hz]
  refine (pay1_at _ _ x y).trans ?_
  rw [grad_at]
  show newM _ (ew (iblk m c 2 t) x y) = _
  rw [ew2]
  rfl

theorem flushed7_eq (c : Dev nD) (t : Fin cfg0.N) :
    (dats m 0 c).flushed 7 t = ((cfg0.win 7).blk t).view.read (Elt Ideal) (G7 m c) := by
  rw [Value.flushed7]
  funext i
  obtain ⟨x, y, rfl⟩ := ix2_surj i
  rw [oblk7]
  unfold out0_7
  rw [View.canon_unit_zero Step.hz]
  rw [View.ld_unit_zero Step.hz]
  refine (pay2_at _ _ x y).trans ?_
  rw [grad_at]
  show newV _ (ew (iblk m c 3 t) x y) = _
  rw [ew3]
  rfl

/-- The run of the kernel: the result arrays at the functions above, the arguments unchanged. -/
theorem run : θ_run defs (onTc (τ := τ) (main (F := Ideal))) ⟨m, fun _ => 0, ρ⟩ fun r => ∀ c : Dev nD,
      r.2.mem ((c : Thread nD τ).loc main_v0_0) = G4 m c
      ∧ r.2.mem ((c : Thread nD τ).loc main_v0_1) = G5 m c
      ∧ r.2.mem ((c : Thread nD τ).loc main_v0_2) = G6 m c
      ∧ r.2.mem ((c : Thread nD τ).loc main_v0_3) = G7 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((dats m 0 c).arrAt_eq_of_cover 4 (G4 m c) (fun t _ => flushed4_eq m c t) cover4),
      (h c).2.1.trans ((dats m 0 c).arrAt_eq_of_cover 5 (G5 m c) (fun t _ => flushed5_eq m c t) cover5),
      (h c).2.2.1.trans ((dats m 0 c).arrAt_eq_of_cover 6 (G6 m c) (fun t _ => flushed6_eq m c t) cover6),
      (h c).2.2.2.1.trans ((dats m 0 c).arrAt_eq_of_cover 7 (G7 m c) (fun t _ => flushed7_eq m c t) cover7), (h c).2.2.2.2⟩)
    (Value.run_blocks m ρ)

section Reference
open Reference19Ideal.Read
variable (x0 : FVec Ideal ⟨3, ![8, 128, 1024]⟩ .bf16) (x1 x2 x3 : FVec Ideal ⟨2, ![128, 1024]⟩ .f32) (r : Fin 128) (q : Fin 1024)
theorem ref0 : val_main_v1 (F := Ideal) x0 (ix2 r q) = grad x0 r q := by
  pointwise [val_main_cst, val_main_v0, val_main_v1]
  rfl
theorem ref1 : val_main_v25 (F := Ideal) x0 x1 x2 x3 (ix2 r q) = delta (grad x0 r q) (x1 (ix2 r q)) (x2 (ix2 r q)) (x3 (ix2 r q)) := by
  pointwise [val_main_cst, val_main_cst_0, val_main_cst_1, val_main_cst_2, val_main_cst_3, val_main_cst_4, val_main_cst_5, val_main_cst_6, val_main_cst_7, val_main_cst_8, val_main_v0, val_main_v1, val_main_v10, val_main_v11, val_main_v12, val_main_v13, val_main_v14, val_main_v15, val_main_v16, val_main_v17, val_main_v18, val_main_v19, val_main_v2, val_main_v20, val_main_v21, val_main_v22, val_main_v23, val_main_v24, val_main_v25, val_main_v3, val_main_v4, val_main_v5, val_main_v6, val_main_v7, val_main_v8, val_main_v9]
  rfl
theorem ref2 : val_main_v6 (F := Ideal) x0 x2 (ix2 r q) = newM (grad x0 r q) (x2 (ix2 r q)) := by
  pointwise [val_main_cst, val_main_cst_0, val_main_cst_1, val_main_v0, val_main_v1, val_main_v2, val_main_v3, val_main_v4, val_main_v5, val_main_v6]
  rfl
theorem ref3 : val_main_v12 (F := Ideal) x0 x3 (ix2 r q) = newV (grad x0 r q) (x3 (ix2 r q)) := by
  pointwise [val_main_cst, val_main_cst_2, val_main_cst_3, val_main_v0, val_main_v1, val_main_v10, val_main_v11, val_main_v12, val_main_v7, val_main_v8, val_main_v9]
  rfl
end Reference

theorem frame_kernel : quiescent_Kernel19 := fun m ρ _ => Kernel19.Gen.frame m ρ
theorem frame_kernelIdeal : quiescent_Kernel19Ideal := fun m ρ _ => Kernel19Ideal.Gen.frame m ρ
theorem frame_reference : quiescent_Reference19Ideal := fun m ρ _ =>
  (θ_run Reference19Ideal.defs _ _).mono (fun r h => ⟨fun c => (h c).2.2.2.2, sem_eq_zero_of_no_sems (by decide) r.2⟩)
    (Reference19Ideal.Value.run (F := Ideal) m ρ)

theorem algebraic : algebraic_Kernel19Ideal_Reference19Ideal := by
  intro m ρ m' ρ' _ hagree
  refine ⟨G4 m, G5 m, G6 m, G7 m, run m ρ, ?_⟩
  refine (θ_run Reference19Ideal.defs _ _).mono (fun _ h c => ⟨(h c).1.trans ?_, (h c).2.1.trans ?_, (h c).2.2.1.trans ?_, (h c).2.2.2.1.trans ?_, (h c).2.2.2.2⟩) (Reference19Ideal.Value.run (F := Ideal) m' ρ')
  · rw [(hagree c).1]
    funext i
    obtain ⟨r, q, rfl⟩ := Step.ix2_surj i
    exact ref0 (a0 m c) r q
  · rw [(hagree c).1, (hagree c).2.1, (hagree c).2.2.1, (hagree c).2.2.2]
    funext i
    obtain ⟨r, q, rfl⟩ := Step.ix2_surj i
    exact ref1 (a0 m c) (a1 m c) (a2 m c) (a3 m c) r q
  · rw [(hagree c).1, (hagree c).2.2.1]
    funext i
    obtain ⟨r, q, rfl⟩ := Step.ix2_surj i
    exact ref2 (a0 m c) (a2 m c) r q
  · rw [(hagree c).1, (hagree c).2.2.2]
    funext i
    obtain ⟨r, q, rfl⟩ := Step.ix2_surj i
    exact ref3 (a0 m c) (a3 m c) r q

end P19
-- ==== Proof.P20.lean ====
module

public import proofs.«01_k».proof.Proof.Step
public import proofs.«01_k».proof.Proof.Gen.Kernel20.Frame
public import proofs.«01_k».proof.Proof.Gen.Kernel20Ideal.Value
public import proofs.«01_k».proof.Proof.Gen.Reference20Ideal.Read
public import proofs.«01_k».proof.Proof.Gen.Reference20Ideal.Run

@[expose] public section

set_option maxRecDepth 16384

noncomputable section

/-! # The claims about `adamw_w_ssm_out`: the sum of the eight devices' gradients and the optimiser's step, 1024 × 256 -/

namespace Cert.P20

open Kernel20Ideal Kernel20Ideal.Gen Idealize.ShloMosaic Idealize.ShloMosaic.TcCoe Idealize.SL.Sem
open Step

section Blocks
variable {F : FTy → Type} [FloatOps F]
variable (m : (ℓ : Loc nD τ sig) → Buf (Elt F) ℓ) (c : Dev nD) (t : Fin cfg0.N) (x : Fin 1024) (y : Fin 256)

theorem ltN (t : Fin cfg0.N) : t.val < 1 := lt_of_lt_of_eq t.isLt N_0

theorem at4 : ∀ t : Fin grid0.N, win0_4.index t 0 = 0 ∧ win0_4.index t 1 = 0 := by decide +kernel

/-- Where block `t` lies in its array, for the windows 1, 2, 3 and the results 4, 5, 6, 7, which move alike. -/
theorem pos4 :
    ((win0_4.rect t).idx (ix2 x y) : (⟨2, ![1024, 256]⟩ : Shape).Idx) = ix2 x y := by
  refine funext fun a => Fin.ext ?_
  match a with
  | ⟨0, _⟩ => show win0_4.index t 0 * 1024 + 1 * x.val = x.val; rw [(at4 t).1]; omega
  | ⟨1, _⟩ => show win0_4.index t 1 * 256 + 1 * y.val = y.val; rw [(at4 t).2]; omega
/-- Every element of such an array lies in one block. -/
theorem block4 (i : (⟨2, ![1024, 256]⟩ : Shape).Idx) :
    ∃ t : Fin cfg0.N, ∀ a : Fin 2, win0_4.index t a * ![1024, 256] a ≤ (i a : Nat) ∧ (i a : Nat) < win0_4.index t a * ![1024, 256] a + ![1024, 256] a := by
  have h0 : (i 0 : Nat) < 1024 := (i 0).isLt
  have h1 : (i 1 : Nat) < 256 := (i 1).isLt
  have hN : cfg0.N = 1 := N_0
  let t : Fin cfg0.N := ⟨(i 0 : Nat) / 1024, by omega⟩
  refine ⟨t, fun a => ?_⟩
  match a with
  | ⟨0, _⟩ =>
    show win0_4.index t 0 * 1024 ≤ (i 0 : Nat) ∧ (i 0 : Nat) < win0_4.index t 0 * 1024 + 1024
    rw [(at4 t).1]; dsimp only [t]; omega
  | ⟨1, _⟩ =>
    show win0_4.index t 1 * 256 ≤ (i 1 : Nat) ∧ (i 1 : Nat) < win0_4.index t 1 * 256 + 256
    rw [(at4 t).2]; dsimp only [t]; omega
theorem iblk1 :
    iblk m c 1 t (ix2 x y) = m ((c : Thread nD τ).loc main_arg1) (ix2 x y) := by
  show V m c main_arg1 ((win0_1.rect t).idx (ix2 x y)) = _
  rw [V_main_arg1]
  exact congrArg _ (pos4 t x y)
theorem iblk2 :
    iblk m c 2 t (ix2 x y) = m ((c : Thread nD τ).loc main_arg2) (ix2 x y) := by
  show V m c main_arg2 ((win0_2.rect t).idx (ix2 x y)) = _
  rw [V_main_arg2]
  exact congrArg _ (pos4 t x y)
theorem iblk3 :
    iblk m c 3 t (ix2 x y) = m ((c : Thread nD τ).loc main_arg3) (ix2 x y) := by
  show V m c main_arg3 ((win0_3.rect t).idx (ix2 x y)) = _
  rw [V_main_arg3]
  exact congrArg _ (pos4 t x y)
theorem oblk4 (G : Buf (Elt F) ((c : Thread nD τ).loc main_v0_0)) :
    ((cfg0.win 4).blk t).view.read (Elt F) G (ix2 x y) = G (ix2 x y) :=
  congrArg G (pos4 t x y)
theorem cover4 (i : (⟨2, ![1024, 256]⟩ : Shape).Idx) :
    ∃ t : Fin cfg0.N, (cfg0.win 4).flush t = true ∧ i ∈ ((cfg0.win 4).blk t).view.set := by
  obtain ⟨t, h⟩ := block4 i
  refine ⟨t, flush0_4 _, ?_⟩
  show i ∈ ((View.whole main_v0_0).slice (win0_4.rect t)).set
  rw [View.set_slice_whole, Rect.mem_set_unit]
  exact h
theorem oblk5 (G : Buf (Elt F) ((c : Thread nD τ).loc main_v0_1)) :
    ((cfg0.win 5).blk t).view.read (Elt F) G (ix2 x y) = G (ix2 x y) :=
  congrArg G (pos4 t x y)
theorem cover5 (i : (⟨2, ![1024, 256]⟩ : Shape).Idx) :
    ∃ t : Fin cfg0.N, (cfg0.win 5).flush t = true ∧ i ∈ ((cfg0.win 5).blk t).view.set := by
  obtain ⟨t, h⟩ := block4 i
  refine ⟨t, flush0_5 _, ?_⟩
  show i ∈ ((View.whole main_v0_1).slice (win0_5.rect t)).set
  rw [View.set_slice_whole, Rect.mem_set_unit]
  exact h
theorem oblk6 (G : Buf (Elt F) ((c : Thread nD τ).loc main_v0_2)) :
    ((cfg0.win 6).blk t).view.read (Elt F) G (ix2 x y) = G (ix2 x y) :=
  congrArg G (pos4 t x y)
theorem cover6 (i : (⟨2, ![1024, 256]⟩ : Shape).Idx) :
    ∃ t : Fin cfg0.N, (cfg0.win 6).flush t = true ∧ i ∈ ((cfg0.win 6).blk t).view.set := by
  obtain ⟨t, h⟩ := block4 i
  refine ⟨t, flush0_6 _, ?_⟩
  show i ∈ ((View.whole main_v0_2).slice (win0_6.rect t)).set
  rw [View.set_slice_whole, Rect.mem_set_unit]
  exact h
theorem oblk7 (G : Buf (Elt F) ((c : Thread nD τ).loc main_v0_3)) :
    ((cfg0.win 7).blk t).view.read (Elt F) G (ix2 x y) = G (ix2 x y) :=
  congrArg G (pos4 t x y)
theorem cover7 (i : (⟨2, ![1024, 256]⟩ : Shape).Idx) :
    ∃ t : Fin cfg0.N, (cfg0.win 7).flush t = true ∧ i ∈ ((cfg0.win 7).blk t).view.set := by
  obtain ⟨t, h⟩ := block4 i
  refine ⟨t, flush0_7 _, ?_⟩
  show i ∈ ((View.whole main_v0_3).slice (win0_7.rect t)).set
  rw [View.set_slice_whole, Rect.mem_set_unit]
  exact h

theorem at0 : ∀ t : Fin grid0.N, win0_0.index t 0 = 0 ∧ win0_0.index t 1 = 0 ∧ win0_0.index t 2 = 0 := by decide +kernel

/-- Block `t` of window 0, element by element. -/
theorem iblk0 (c : Dev nD) (t : Fin cfg0.N) (x : Fin 8) (y : Fin 1024) (z : Fin 256) :
    iblk m c 0 t (ix3 x y z) = m ((c : Thread nD τ).loc main_arg0) (ix3 x y z) := by
  show V m c main_arg0 ((win0_0.rect t).idx (ix3 x y z)) = _
  rw [V_main_arg0]
  refine congrArg _ (funext fun a => Fin.ext ?_)
  match a with
  | ⟨0, _⟩ => show win0_0.index t 0 * 8 + 1 * x.val = x.val; rw [(at0 t).1]; have := ltN t; omega
  | ⟨1, _⟩ => show win0_0.index t 1 * 1024 + 1 * y.val = y.val; rw [(at0 t).2.1]; have := ltN t; omega
  | ⟨2, _⟩ => show win0_0.index t 2 * 256 + 1 * z.val = z.val; rw [(at0 t).2.2]; have := ltN t; omega
end Blocks

/-! ## One element of the step -/
section Spec
/-- The gradient: the sum over the devices. -/
def grad (A0 : FVec Ideal ⟨3, ![8, 1024, 256]⟩ .bf16) (r : Fin 1024) (q : Fin 256) : EReal := ∑ d : Fin 8, A0 (ix3 d r q)
end Spec

variable (m : (ℓ : Loc nD τ sig) → Buf (Elt Ideal) ℓ) (ρ : Dev nD → PrngReg)

abbrev a0 (c : Dev nD) : FVec Ideal ⟨3, ![8, 1024, 256]⟩ .bf16 := m ((c : Thread nD τ).loc main_arg0)
abbrev a1 (c : Dev nD) : FVec Ideal ⟨2, ![1024, 256]⟩ .f32 := m ((c : Thread nD τ).loc main_arg1)
abbrev a2 (c : Dev nD) : FVec Ideal ⟨2, ![1024, 256]⟩ .f32 := m ((c : Thread nD τ).loc main_arg2)
abbrev a3 (c : Dev nD) : FVec Ideal ⟨2, ![1024, 256]⟩ .f32 := m ((c : Thread nD τ).loc main_arg3)

/-- The four result arrays of device `c`: the gradient, the change of the weight, the new moments. -/
abbrev G4 (c : Dev nD) : Buf (Elt Ideal) ((c : Thread nD τ).loc main_v0_0) := fun i : S1024x256.Idx => grad (a0 m c) (i 0) (i 1)
abbrev G5 (c : Dev nD) : Buf (Elt Ideal) ((c : Thread nD τ).loc main_v0_1) := fun i : S1024x256.Idx =>
  delta (grad (a0 m c) (i 0) (i 1)) (a1 m c (ix2 (i 0) (i 1))) (a2 m c (ix2 (i 0) (i 1))) (a3 m c (ix2 (i 0) (i 1)))
abbrev G6 (c : Dev nD) : Buf (Elt Ideal) ((c : Thread nD τ).loc main_v0_2) := fun i : S1024x256.Idx =>
  newM (grad (a0 m c) (i 0) (i 1)) (a2 m c (ix2 (i 0) (i 1)))
abbrev G7 (c : Dev nD) : Buf (Elt Ideal) ((c : Thread nD τ).loc main_v0_3) := fun i : S1024x256.Idx =>
  newV (grad (a0 m c) (i 0) (i 1)) (a3 m c (ix2 (i 0) (i 1)))

section Payloads
variable (g u v w : Vec Ideal S1024x256 .f32) (x : Fin 1024) (y : Fin 256)
theorem pay1_at : k0_pay1 (F := Ideal) g u (Scalar.ofBits .f32 0x3F666666#32) (ix2 x y) = newM (g (ix2 x y)) (u (ix2 x y)) := by
  pointwise [k0_pay1]
  rfl
theorem pay2_at : k0_pay2 (F := Ideal) g v (ix2 x y) = newV (g (ix2 x y)) (v (ix2 x y)) := by
  pointwise [k0_pay2]
  rfl
theorem pay3_at : k0_pay3 (F := Ideal) g u (Scalar.ofBits .f32 0x3F666666#32) v w (ix2 x y) = delta (g (ix2 x y)) (w (ix2 x y)) (u (ix2 x y)) (v (ix2 x y)) := by
  pointwise [k0_pay3, k0_pay1, k0_pay2]
  rfl
theorem pay5_at (x0 : Vec Ideal S8x1024x256 .bf16) : k0_pay5 (F := Ideal) x0 u v w (ix2 x y) = (∑ d : Fin 8, x0 (ix3 d x y) : EReal) := by
  pointwise [k0_pay5, k0_pay4]
  rw [Fin.sum_univ_eight]
end Payloads

theorem grad_at (c : Dev nD) (t : Fin cfg0.N) (x : Fin 1024) (y : Fin 256) :
    k0_pay5 (F := Ideal) (iblk m c 0 t) (iblk m c 1 t) (iblk m c 2 t) (iblk m c 3 t) (ix2 x y) = grad (a0 m c) x y :=
  (pay5_at _ _ _ x y _).trans (Finset.sum_congr rfl fun d _ => iblk0 m c t d x y)

/-- Element `(x, y)` of a block, as an extended real. -/
abbrev ew (v : Vec Ideal S1024x256 .f32) (x : Fin 1024) (y : Fin 256) : EReal := v (ix2 x y)
theorem ew1 (c : Dev nD) (t : Fin cfg0.N) (x : Fin 1024) (y : Fin 256) : ew (iblk m c 1 t) x y = a1 m c (ix2 x y) := iblk1 m c t x y
theorem ew2 (c : Dev nD) (t : Fin cfg0.N) (x : Fin 1024) (y : Fin 256) : ew (iblk m c 2 t) x y = a2 m c (ix2 x y) := iblk2 m c t x y
theorem ew3 (c : Dev nD) (t : Fin cfg0.N) (x : Fin 1024) (y : Fin 256) : ew (iblk m c 3 t) x y = a3 m c (ix2 x y) := iblk3 m c t x y

theorem flushed4_eq (c : Dev nD) (t : Fin cfg0.N) :
    (dats m 0 c).flushed 4 t = ((cfg0.win 4).blk t).view.read (Elt Ideal) (G4 m c) := by
  rw [Value.flushed4]
  funext i
  obtain ⟨x, y, rfl⟩ := ix2_surj i
  rw [oblk4]
  unfold out0_4
  rw [View.canon_unit_zero Step.hz]
  exact grad_at m c t x y

theorem flushed5_eq (c : Dev nD) (t : Fin cfg0.N) :
    (dats m 0 c).flushed 5 t = ((cfg0.win 5).blk t).view.read (Elt Ideal) (G5 m c) := by
  rw [Value.flushed5]
  funext i
  obtain ⟨x, y, rfl⟩ := ix2_surj i
  rw [oblk5]
  unfold out0_5
  rw [View.canon_unit_zero Step.hz]
  rw [View.ld_unit_zero Step.hz, View.ld_unit_zero Step.hz, View.ld_unit_zero Step.hz]
  refine (pay3_at _ _ _ _ x y).trans ?_
  rw [grad_at]
  show delta _ (ew (iblk m c 1 t) x y) (ew (iblk m c 2 t) x y) (ew (iblk m c 3 t) x y) = _
  rw [ew1, ew2, ew3]
  rfl

theorem flushed6_eq (c : Dev nD) (t : Fin cfg0.N) :
    (dats m 0 c).flushed 6 t = ((cfg0.win 6).blk t).view.read (Elt Ideal) (G6 m c) := by
  rw [Value.flushed6]
  funext i
  obtain ⟨x, y, rfl⟩ := ix2_surj i
  rw [oblk6]
  unfold out0_6
  rw [View.canon_unit_zero Step.hz]
  rw [View.ld_unit_zero Step.hz]
  refine (pay1_at _ _ x y).trans ?_
  rw [grad_at]
  show newM _ (ew (iblk m c 2 t) x y) = _
  rw [ew2]
  rfl

theorem flushed7_eq (c : Dev nD) (t : Fin cfg0.N) :
    (dats m 0 c).flushed 7 t = ((cfg0.win 7).blk t).view.read (Elt Ideal) (G7 m c) := by
  rw [Value.flushed7]
  funext i
  obtain ⟨x, y, rfl⟩ := ix2_surj i
  rw [oblk7]
  unfold out0_7
  rw [View.canon_unit_zero Step.hz]
  rw [View.ld_unit_zero Step.hz]
  refine (pay2_at _ _ x y).trans ?_
  rw [grad_at]
  show newV _ (ew (iblk m c 3 t) x y) = _
  rw [ew3]
  rfl

/-- The run of the kernel: the result arrays at the functions above, the arguments unchanged. -/
theorem run : θ_run defs (onTc (τ := τ) (main (F := Ideal))) ⟨m, fun _ => 0, ρ⟩ fun r => ∀ c : Dev nD,
      r.2.mem ((c : Thread nD τ).loc main_v0_0) = G4 m c
      ∧ r.2.mem ((c : Thread nD τ).loc main_v0_1) = G5 m c
      ∧ r.2.mem ((c : Thread nD τ).loc main_v0_2) = G6 m c
      ∧ r.2.mem ((c : Thread nD τ).loc main_v0_3) = G7 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((dats m 0 c).arrAt_eq_of_cover 4 (G4 m c) (fun t _ => flushed4_eq m c t) cover4),
      (h c).2.1.trans ((dats m 0 c).arrAt_eq_of_cover 5 (G5 m c) (fun t _ => flushed5_eq m c t) cover5),
      (h c).2.2.1.trans ((dats m 0 c).arrAt_eq_of_cover 6 (G6 m c) (fun t _ => flushed6_eq m c t) cover6),
      (h c).2.2.2.1.trans ((dats m 0 c).arrAt_eq_of_cover 7 (G7 m c) (fun t _ => flushed7_eq m c t) cover7), (h c).2.2.2.2⟩)
    (Value.run_blocks m ρ)

section Reference
open Reference20Ideal.Read
variable (x0 : FVec Ideal ⟨3, ![8, 1024, 256]⟩ .bf16) (x1 x2 x3 : FVec Ideal ⟨2, ![1024, 256]⟩ .f32) (r : Fin 1024) (q : Fin 256)
theorem ref0 : val_main_v1 (F := Ideal) x0 (ix2 r q) = grad x0 r q := by
  pointwise [val_main_cst, val_main_v0, val_main_v1]
  rfl
theorem ref1 : val_main_v25 (F := Ideal) x0 x1 x2 x3 (ix2 r q) = delta (grad x0 r q) (x1 (ix2 r q)) (x2 (ix2 r q)) (x3 (ix2 r q)) := by
  pointwise [val_main_cst, val_main_cst_0, val_main_cst_1, val_main_cst_2, val_main_cst_3, val_main_cst_4, val_main_cst_5, val_main_cst_6, val_main_cst_7, val_main_cst_8, val_main_v0, val_main_v1, val_main_v10, val_main_v11, val_main_v12, val_main_v13, val_main_v14, val_main_v15, val_main_v16, val_main_v17, val_main_v18, val_main_v19, val_main_v2, val_main_v20, val_main_v21, val_main_v22, val_main_v23, val_main_v24, val_main_v25, val_main_v3, val_main_v4, val_main_v5, val_main_v6, val_main_v7, val_main_v8, val_main_v9]
  rfl
theorem ref2 : val_main_v6 (F := Ideal) x0 x2 (ix2 r q) = newM (grad x0 r q) (x2 (ix2 r q)) := by
  pointwise [val_main_cst, val_main_cst_0, val_main_cst_1, val_main_v0, val_main_v1, val_main_v2, val_main_v3, val_main_v4, val_main_v5, val_main_v6]
  rfl
theorem ref3 : val_main_v12 (F := Ideal) x0 x3 (ix2 r q) = newV (grad x0 r q) (x3 (ix2 r q)) := by
  pointwise [val_main_cst, val_main_cst_2, val_main_cst_3, val_main_v0, val_main_v1, val_main_v10, val_main_v11, val_main_v12, val_main_v7, val_main_v8, val_main_v9]
  rfl
end Reference

theorem frame_kernel : quiescent_Kernel20 := fun m ρ _ => Kernel20.Gen.frame m ρ
theorem frame_kernelIdeal : quiescent_Kernel20Ideal := fun m ρ _ => Kernel20Ideal.Gen.frame m ρ
theorem frame_reference : quiescent_Reference20Ideal := fun m ρ _ =>
  (θ_run Reference20Ideal.defs _ _).mono (fun r h => ⟨fun c => (h c).2.2.2.2, sem_eq_zero_of_no_sems (by decide) r.2⟩)
    (Reference20Ideal.Value.run (F := Ideal) m ρ)

theorem algebraic : algebraic_Kernel20Ideal_Reference20Ideal := by
  intro m ρ m' ρ' _ hagree
  refine ⟨G4 m, G5 m, G6 m, G7 m, run m ρ, ?_⟩
  refine (θ_run Reference20Ideal.defs _ _).mono (fun _ h c => ⟨(h c).1.trans ?_, (h c).2.1.trans ?_, (h c).2.2.1.trans ?_, (h c).2.2.2.1.trans ?_, (h c).2.2.2.2⟩) (Reference20Ideal.Value.run (F := Ideal) m' ρ')
  · rw [(hagree c).1]
    funext i
    obtain ⟨r, q, rfl⟩ := Step.ix2_surj i
    exact ref0 (a0 m c) r q
  · rw [(hagree c).1, (hagree c).2.1, (hagree c).2.2.1, (hagree c).2.2.2]
    funext i
    obtain ⟨r, q, rfl⟩ := Step.ix2_surj i
    exact ref1 (a0 m c) (a1 m c) (a2 m c) (a3 m c) r q
  · rw [(hagree c).1, (hagree c).2.2.1]
    funext i
    obtain ⟨r, q, rfl⟩ := Step.ix2_surj i
    exact ref2 (a0 m c) (a2 m c) r q
  · rw [(hagree c).1, (hagree c).2.2.2]
    funext i
    obtain ⟨r, q, rfl⟩ := Step.ix2_surj i
    exact ref3 (a0 m c) (a3 m c) r q

end P20
-- ==== Proof.P21.lean ====
module

public import proofs.«01_k».proof.Proof.Step
public import proofs.«01_k».proof.Proof.Gen.Kernel21.Frame
public import proofs.«01_k».proof.Proof.Gen.Kernel21Ideal.Value
public import proofs.«01_k».proof.Proof.Gen.Reference21Ideal.Read
public import proofs.«01_k».proof.Proof.Gen.Reference21Ideal.Run

@[expose] public section

set_option maxRecDepth 16384

noncomputable section

/-! # The claims about `adamw_w_o`: the sum of the eight devices' gradients and the optimiser's step, 256 × 2048 -/

namespace Cert.P21

open Kernel21Ideal Kernel21Ideal.Gen Idealize.ShloMosaic Idealize.ShloMosaic.TcCoe Idealize.SL.Sem
open Step

section Blocks
variable {F : FTy → Type} [FloatOps F]
variable (m : (ℓ : Loc nD τ sig) → Buf (Elt F) ℓ) (c : Dev nD) (t : Fin cfg0.N) (x : Fin 128) (y : Fin 2048)

theorem ltN (t : Fin cfg0.N) : t.val < 2 := lt_of_lt_of_eq t.isLt N_0

theorem at4 : ∀ t : Fin grid0.N, win0_4.index t 0 = t.val ∧ win0_4.index t 1 = 0 := by decide +kernel

/-- Where block `t` lies in its array, for the windows 1, 2, 3 and the results 4, 5, 6, 7, which move alike. -/
theorem pos4 :
    ((win0_4.rect t).idx (ix2 x y) : (⟨2, ![256, 2048]⟩ : Shape).Idx) = ix2 ⟨t.val * 128 + x.val, by have := ltN t; omega⟩ y := by
  refine funext fun a => Fin.ext ?_
  match a with
  | ⟨0, _⟩ => show win0_4.index t 0 * 128 + 1 * x.val = t.val * 128 + x.val; rw [(at4 t).1]; omega
  | ⟨1, _⟩ => show win0_4.index t 1 * 2048 + 1 * y.val = y.val; rw [(at4 t).2]; omega
/-- Every element of such an array lies in one block. -/
theorem block4 (i : (⟨2, ![256, 2048]⟩ : Shape).Idx) :
    ∃ t : Fin cfg0.N, ∀ a : Fin 2, win0_4.index t a * ![128, 2048] a ≤ (i a : Nat) ∧ (i a : Nat) < win0_4.index t a * ![128, 2048] a + ![128, 2048] a := by
  have h0 : (i 0 : Nat) < 256 := (i 0).isLt
  have h1 : (i 1 : Nat) < 2048 := (i 1).isLt
  have hN : cfg0.N = 2 := N_0
  let t : Fin cfg0.N := ⟨(i 0 : Nat) / 128, by omega⟩
  refine ⟨t, fun a => ?_⟩
  match a with
  | ⟨0, _⟩ =>
    show win0_4.index t 0 * 128 ≤ (i 0 : Nat) ∧ (i 0 : Nat) < win0_4.index t 0 * 128 + 128
    rw [(at4 t).1]; dsimp only [t]; omega
  | ⟨1, _⟩ =>
    show win0_4.index t 1 * 2048 ≤ (i 1 : Nat) ∧ (i 1 : Nat) < win0_4.index t 1 * 2048 + 2048
    rw [(at4 t).2]; dsimp only [t]; omega
theorem iblk1 :
    iblk m c 1 t (ix2 x y) = m ((c : Thread nD τ).loc main_arg1) (ix2 ⟨t.val * 128 + x.val, by have := ltN t; omega⟩ y) := by
  show V m c main_arg1 ((win0_1.rect t).idx (ix2 x y)) = _
  rw [V_main_arg1]
  exact congrArg _ (pos4 t x y)
theorem iblk2 :
    iblk m c 2 t (ix2 x y) = m ((c : Thread nD τ).loc main_arg2) (ix2 ⟨t.val * 128 + x.val, by have := ltN t; omega⟩ y) := by
  show V m c main_arg2 ((win0_2.rect t).idx (ix2 x y)) = _
  rw [V_main_arg2]
  exact congrArg _ (pos4 t x y)
theorem iblk3 :
    iblk m c 3 t (ix2 x y) = m ((c : Thread nD τ).loc main_arg3) (ix2 ⟨t.val * 128 + x.val, by have := ltN t; omega⟩ y) := by
  show V m c main_arg3 ((win0_3.rect t).idx (ix2 x y)) = _
  rw [V_main_arg3]
  exact congrArg _ (pos4 t x y)
theorem oblk4 (G : Buf (Elt F) ((c : Thread nD τ).loc main_v0_0)) :
    ((cfg0.win 4).blk t).view.read (Elt F) G (ix2 x y) = G (ix2 ⟨t.val * 128 + x.val, by have := ltN t; omega⟩ y) :=
  congrArg G (pos4 t x y)
theorem cover4 (i : (⟨2, ![256, 2048]⟩ : Shape).Idx) :
    ∃ t : Fin cfg0.N, (cfg0.win 4).flush t = true ∧ i ∈ ((cfg0.win 4).blk t).view.set := by
  obtain ⟨t, h⟩ := block4 i
  refine ⟨t, flush0_4 _, ?_⟩
  show i ∈ ((View.whole main_v0_0).slice (win0_4.rect t)).set
  rw [View.set_slice_whole, Rect.mem_set_unit]
  exact h
theorem oblk5 (G : Buf (Elt F) ((c : Thread nD τ).loc main_v0_1)) :
    ((cfg0.win 5).blk t).view.read (Elt F) G (ix2 x y) = G (ix2 ⟨t.val * 128 + x.val, by have := ltN t; omega⟩ y) :=
  congrArg G (pos4 t x y)
theorem cover5 (i : (⟨2, ![256, 2048]⟩ : Shape).Idx) :
    ∃ t : Fin cfg0.N, (cfg0.win 5).flush t = true ∧ i ∈ ((cfg0.win 5).blk t).view.set := by
  obtain ⟨t, h⟩ := block4 i
  refine ⟨t, flush0_5 _, ?_⟩
  show i ∈ ((View.whole main_v0_1).slice (win0_5.rect t)).set
  rw [View.set_slice_whole, Rect.mem_set_unit]
  exact h
theorem oblk6 (G : Buf (Elt F) ((c : Thread nD τ).loc main_v0_2)) :
    ((cfg0.win 6).blk t).view.read (Elt F) G (ix2 x y) = G (ix2 ⟨t.val * 128 + x.val, by have := ltN t; omega⟩ y) :=
  congrArg G (pos4 t x y)
theorem cover6 (i : (⟨2, ![256, 2048]⟩ : Shape).Idx) :
    ∃ t : Fin cfg0.N, (cfg0.win 6).flush t = true ∧ i ∈ ((cfg0.win 6).blk t).view.set := by
  obtain ⟨t, h⟩ := block4 i
  refine ⟨t, flush0_6 _, ?_⟩
  show i ∈ ((View.whole main_v0_2).slice (win0_6.rect t)).set
  rw [View.set_slice_whole, Rect.mem_set_unit]
  exact h
theorem oblk7 (G : Buf (Elt F) ((c : Thread nD τ).loc main_v0_3)) :
    ((cfg0.win 7).blk t).view.read (Elt F) G (ix2 x y) = G (ix2 ⟨t.val * 128 + x.val, by have := ltN t; omega⟩ y) :=
  congrArg G (pos4 t x y)
theorem cover7 (i : (⟨2, ![256, 2048]⟩ : Shape).Idx) :
    ∃ t : Fin cfg0.N, (cfg0.win 7).flush t = true ∧ i ∈ ((cfg0.win 7).blk t).view.set := by
  obtain ⟨t, h⟩ := block4 i
  refine ⟨t, flush0_7 _, ?_⟩
  show i ∈ ((View.whole main_v0_3).slice (win0_7.rect t)).set
  rw [View.set_slice_whole, Rect.mem_set_unit]
  exact h

theorem at0 : ∀ t : Fin grid0.N, win0_0.index t 0 = 0 ∧ win0_0.index t 1 = t.val ∧ win0_0.index t 2 = 0 := by decide +kernel

/-- Block `t` of window 0, element by element. -/
theorem iblk0 (c : Dev nD) (t : Fin cfg0.N) (x : Fin 8) (y : Fin 128) (z : Fin 2048) :
    iblk m c 0 t (ix3 x y z) = m ((c : Thread nD τ).loc main_arg0) (ix3 x ⟨t.val * 128 + y.val, by have := ltN t; omega⟩ z) := by
  show V m c main_arg0 ((win0_0.rect t).idx (ix3 x y z)) = _
  rw [V_main_arg0]
  refine congrArg _ (funext fun a => Fin.ext ?_)
  match a with
  | ⟨0, _⟩ => show win0_0.index t 0 * 8 + 1 * x.val = x.val; rw [(at0 t).1]; have := ltN t; omega
  | ⟨1, _⟩ => show win0_0.index t 1 * 128 + 1 * y.val = t.val * 128 + y.val; rw [(at0 t).2.1]; have := ltN t; omega
  | ⟨2, _⟩ => show win0_0.index t 2 * 2048 + 1 * z.val = z.val; rw [(at0 t).2.2]; have := ltN t; omega
end Blocks

/-! ## One element of the step -/
section Spec
/-- The gradient: the sum over the devices. -/
def grad (A0 : FVec Ideal ⟨3, ![8, 256, 2048]⟩ .bf16) (r : Fin 256) (q : Fin 2048) : EReal := ∑ d : Fin 8, A0 (ix3 d r q)
end Spec

variable (m : (ℓ : Loc nD τ sig) → Buf (Elt Ideal) ℓ) (ρ : Dev nD → PrngReg)

abbrev a0 (c : Dev nD) : FVec Ideal ⟨3, ![8, 256, 2048]⟩ .bf16 := m ((c : Thread nD τ).loc main_arg0)
abbrev a1 (c : Dev nD) : FVec Ideal ⟨2, ![256, 2048]⟩ .f32 := m ((c : Thread nD τ).loc main_arg1)
abbrev a2 (c : Dev nD) : FVec Ideal ⟨2, ![256, 2048]⟩ .f32 := m ((c : Thread nD τ).loc main_arg2)
abbrev a3 (c : Dev nD) : FVec Ideal ⟨2, ![256, 2048]⟩ .f32 := m ((c : Thread nD τ).loc main_arg3)

/-- The four result arrays of device `c`: the gradient, the change of the weight, the new moments. -/
abbrev G4 (c : Dev nD) : Buf (Elt Ideal) ((c : Thread nD τ).loc main_v0_0) := fun i : S256x2048.Idx => grad (a0 m c) (i 0) (i 1)
abbrev G5 (c : Dev nD) : Buf (Elt Ideal) ((c : Thread nD τ).loc main_v0_1) := fun i : S256x2048.Idx =>
  delta (grad (a0 m c) (i 0) (i 1)) (a1 m c (ix2 (i 0) (i 1))) (a2 m c (ix2 (i 0) (i 1))) (a3 m c (ix2 (i 0) (i 1)))
abbrev G6 (c : Dev nD) : Buf (Elt Ideal) ((c : Thread nD τ).loc main_v0_2) := fun i : S256x2048.Idx =>
  newM (grad (a0 m c) (i 0) (i 1)) (a2 m c (ix2 (i 0) (i 1)))
abbrev G7 (c : Dev nD) : Buf (Elt Ideal) ((c : Thread nD τ).loc main_v0_3) := fun i : S256x2048.Idx =>
  newV (grad (a0 m c) (i 0) (i 1)) (a3 m c (ix2 (i 0) (i 1)))

section Payloads
variable (g u v w : Vec Ideal S128x2048 .f32) (x : Fin 128) (y : Fin 2048)
theorem pay1_at : k0_pay1 (F := Ideal) g u (Scalar.ofBits .f32 0x3F666666#32) (ix2 x y) = newM (g (ix2 x y)) (u (ix2 x y)) := by
  pointwise [k0_pay1]
  rfl
theorem pay2_at : k0_pay2 (F := Ideal) g v (ix2 x y) = newV (g (ix2 x y)) (v (ix2 x y)) := by
  pointwise [k0_pay2]
  rfl
theorem pay3_at : k0_pay3 (F := Ideal) g u (Scalar.ofBits .f32 0x3F666666#32) v w (ix2 x y) = delta (g (ix2 x y)) (w (ix2 x y)) (u (ix2 x y)) (v (ix2 x y)) := by
  pointwise [k0_pay3, k0_pay1, k0_pay2]
  rfl
theorem pay5_at (x0 : Vec Ideal S8x128x2048 .bf16) : k0_pay5 (F := Ideal) x0 u v w (ix2 x y) = (∑ d : Fin 8, x0 (ix3 d x y) : EReal) := by
  pointwise [k0_pay5, k0_pay4]
  rw [Fin.sum_univ_eight]
end Payloads

theorem grad_at (c : Dev nD) (t : Fin cfg0.N) (x : Fin 128) (y : Fin 2048) :
    k0_pay5 (F := Ideal) (iblk m c 0 t) (iblk m c 1 t) (iblk m c 2 t) (iblk m c 3 t) (ix2 x y) = grad (a0 m c) ⟨t.val * 128 + x.val, by have := ltN t; omega⟩ y :=
  (pay5_at _ _ _ x y _).trans (Finset.sum_congr rfl fun d _ => iblk0 m c t d x y)

/-- Element `(x, y)` of a block, as an extended real. -/
abbrev ew (v : Vec Ideal S128x2048 .f32) (x : Fin 128) (y : Fin 2048) : EReal := v (ix2 x y)
theorem ew1 (c : Dev nD) (t : Fin cfg0.N) (x : Fin 128) (y : Fin 2048) : ew (iblk m c 1 t) x y = a1 m c (ix2 ⟨t.val * 128 + x.val, by have := ltN t; omega⟩ y) := iblk1 m c t x y
theorem ew2 (c : Dev nD) (t : Fin cfg0.N) (x : Fin 128) (y : Fin 2048) : ew (iblk m c 2 t) x y = a2 m c (ix2 ⟨t.val * 128 + x.val, by have := ltN t; omega⟩ y) := iblk2 m c t x y
theorem ew3 (c : Dev nD) (t : Fin cfg0.N) (x : Fin 128) (y : Fin 2048) : ew (iblk m c 3 t) x y = a3 m c (ix2 ⟨t.val * 128 + x.val, by have := ltN t; omega⟩ y) := iblk3 m c t x y

theorem flushed4_eq (c : Dev nD) (t : Fin cfg0.N) :
    (dats m 0 c).flushed 4 t = ((cfg0.win 4).blk t).view.read (Elt Ideal) (G4 m c) := by
  rw [Value.flushed4]
  funext i
  obtain ⟨x, y, rfl⟩ := ix2_surj i
  rw [oblk4]
  unfold out0_4
  rw [View.canon_unit_zero Step.hz]
  exact grad_at m c t x y

theorem flushed5_eq (c : Dev nD) (t : Fin cfg0.N) :
    (dats m 0 c).flushed 5 t = ((cfg0.win 5).blk t).view.read (Elt Ideal) (G5 m c) := by
  rw [Value.flushed5]
  funext i
  obtain ⟨x, y, rfl⟩ := ix2_surj i
  rw [oblk5]
  unfold out0_5
  rw [View.canon_unit_zero Step.hz]
  rw [View.ld_unit_zero Step.hz, View.ld_unit_zero Step.hz, View.ld_unit_zero Step.hz]
  refine (pay3_at _ _ _ _ x y).trans ?_
  rw [grad_at]
  show delta _ (ew (iblk m c 1 t) x y) (ew (iblk m c 2 t) x y) (ew (iblk m c 3 t) x y) = _
  rw [ew1, ew2, ew3]
  rfl

theorem flushed6_eq (c : Dev nD) (t : Fin cfg0.N) :
    (dats m 0 c).flushed 6 t = ((cfg0.win 6).blk t).view.read (Elt Ideal) (G6 m c) := by
  rw [Value.flushed6]
  funext i
  obtain ⟨x, y, rfl⟩ := ix2_surj i
  rw [oblk6]
  unfold out0_6
  rw [View.canon_unit_zero Step.hz]
  rw [View.ld_unit_zero Step.hz]
  refine (pay1_at _ _ x y).trans ?_
  rw [grad_at]
  show newM _ (ew (iblk m c 2 t) x y) = _
  rw [ew2]
  rfl

theorem flushed7_eq (c : Dev nD) (t : Fin cfg0.N) :
    (dats m 0 c).flushed 7 t = ((cfg0.win 7).blk t).view.read (Elt Ideal) (G7 m c) := by
  rw [Value.flushed7]
  funext i
  obtain ⟨x, y, rfl⟩ := ix2_surj i
  rw [oblk7]
  unfold out0_7
  rw [View.canon_unit_zero Step.hz]
  rw [View.ld_unit_zero Step.hz]
  refine (pay2_at _ _ x y).trans ?_
  rw [grad_at]
  show newV _ (ew (iblk m c 3 t) x y) = _
  rw [ew3]
  rfl

/-- The run of the kernel: the result arrays at the functions above, the arguments unchanged. -/
theorem run : θ_run defs (onTc (τ := τ) (main (F := Ideal))) ⟨m, fun _ => 0, ρ⟩ fun r => ∀ c : Dev nD,
      r.2.mem ((c : Thread nD τ).loc main_v0_0) = G4 m c
      ∧ r.2.mem ((c : Thread nD τ).loc main_v0_1) = G5 m c
      ∧ r.2.mem ((c : Thread nD τ).loc main_v0_2) = G6 m c
      ∧ r.2.mem ((c : Thread nD τ).loc main_v0_3) = G7 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((dats m 0 c).arrAt_eq_of_cover 4 (G4 m c) (fun t _ => flushed4_eq m c t) cover4),
      (h c).2.1.trans ((dats m 0 c).arrAt_eq_of_cover 5 (G5 m c) (fun t _ => flushed5_eq m c t) cover5),
      (h c).2.2.1.trans ((dats m 0 c).arrAt_eq_of_cover 6 (G6 m c) (fun t _ => flushed6_eq m c t) cover6),
      (h c).2.2.2.1.trans ((dats m 0 c).arrAt_eq_of_cover 7 (G7 m c) (fun t _ => flushed7_eq m c t) cover7), (h c).2.2.2.2⟩)
    (Value.run_blocks m ρ)

section Reference
open Reference21Ideal.Read
variable (x0 : FVec Ideal ⟨3, ![8, 256, 2048]⟩ .bf16) (x1 x2 x3 : FVec Ideal ⟨2, ![256, 2048]⟩ .f32) (r : Fin 256) (q : Fin 2048)
theorem ref0 : val_main_v1 (F := Ideal) x0 (ix2 r q) = grad x0 r q := by
  pointwise [val_main_cst, val_main_v0, val_main_v1]
  rfl
theorem ref1 : val_main_v25 (F := Ideal) x0 x1 x2 x3 (ix2 r q) = delta (grad x0 r q) (x1 (ix2 r q)) (x2 (ix2 r q)) (x3 (ix2 r q)) := by
  pointwise [val_main_cst, val_main_cst_0, val_main_cst_1, val_main_cst_2, val_main_cst_3, val_main_cst_4, val_main_cst_5, val_main_cst_6, val_main_cst_7, val_main_cst_8, val_main_v0, val_main_v1, val_main_v10, val_main_v11, val_main_v12, val_main_v13, val_main_v14, val_main_v15, val_main_v16, val_main_v17, val_main_v18, val_main_v19, val_main_v2, val_main_v20, val_main_v21, val_main_v22, val_main_v23, val_main_v24, val_main_v25, val_main_v3, val_main_v4, val_main_v5, val_main_v6, val_main_v7, val_main_v8, val_main_v9]
  rfl
theorem ref2 : val_main_v6 (F := Ideal) x0 x2 (ix2 r q) = newM (grad x0 r q) (x2 (ix2 r q)) := by
  pointwise [val_main_cst, val_main_cst_0, val_main_cst_1, val_main_v0, val_main_v1, val_main_v2, val_main_v3, val_main_v4, val_main_v5, val_main_v6]
  rfl
theorem ref3 : val_main_v12 (F := Ideal) x0 x3 (ix2 r q) = newV (grad x0 r q) (x3 (ix2 r q)) := by
  pointwise [val_main_cst, val_main_cst_2, val_main_cst_3, val_main_v0, val_main_v1, val_main_v10, val_main_v11, val_main_v12, val_main_v7, val_main_v8, val_main_v9]
  rfl
end Reference

theorem frame_kernel : quiescent_Kernel21 := fun m ρ _ => Kernel21.Gen.frame m ρ
theorem frame_kernelIdeal : quiescent_Kernel21Ideal := fun m ρ _ => Kernel21Ideal.Gen.frame m ρ
theorem frame_reference : quiescent_Reference21Ideal := fun m ρ _ =>
  (θ_run Reference21Ideal.defs _ _).mono (fun r h => ⟨fun c => (h c).2.2.2.2, sem_eq_zero_of_no_sems (by decide) r.2⟩)
    (Reference21Ideal.Value.run (F := Ideal) m ρ)

theorem algebraic : algebraic_Kernel21Ideal_Reference21Ideal := by
  intro m ρ m' ρ' _ hagree
  refine ⟨G4 m, G5 m, G6 m, G7 m, run m ρ, ?_⟩
  refine (θ_run Reference21Ideal.defs _ _).mono (fun _ h c => ⟨(h c).1.trans ?_, (h c).2.1.trans ?_, (h c).2.2.1.trans ?_, (h c).2.2.2.1.trans ?_, (h c).2.2.2.2⟩) (Reference21Ideal.Value.run (F := Ideal) m' ρ')
  · rw [(hagree c).1]
    funext i
    obtain ⟨r, q, rfl⟩ := Step.ix2_surj i
    exact ref0 (a0 m c) r q
  · rw [(hagree c).1, (hagree c).2.1, (hagree c).2.2.1, (hagree c).2.2.2]
    funext i
    obtain ⟨r, q, rfl⟩ := Step.ix2_surj i
    exact ref1 (a0 m c) (a1 m c) (a2 m c) (a3 m c) r q
  · rw [(hagree c).1, (hagree c).2.2.1]
    funext i
    obtain ⟨r, q, rfl⟩ := Step.ix2_surj i
    exact ref2 (a0 m c) (a2 m c) r q
  · rw [(hagree c).1, (hagree c).2.2.2]
    funext i
    obtain ⟨r, q, rfl⟩ := Step.ix2_surj i
    exact ref3 (a0 m c) (a3 m c) r q

end P21
-- ==== Proof.P22.lean ====
module

public import proofs.«01_k».proof.Proof.Step
public import proofs.«01_k».proof.Proof.Gen.Kernel22.Frame
public import proofs.«01_k».proof.Proof.Gen.Kernel22Ideal.Value
public import proofs.«01_k».proof.Proof.Gen.Reference22Ideal.Read
public import proofs.«01_k».proof.Proof.Gen.Reference22Ideal.Run

@[expose] public section

set_option maxRecDepth 16384

noncomputable section

/-! # The claims about `adamw_w_up`: the sum of the eight devices' gradients and the optimiser's step, 2048 × 1408 -/

namespace Cert.P22

open Kernel22Ideal Kernel22Ideal.Gen Idealize.ShloMosaic Idealize.ShloMosaic.TcCoe Idealize.SL.Sem
open Step

section Blocks
variable {F : FTy → Type} [FloatOps F]
variable (m : (ℓ : Loc nD τ sig) → Buf (Elt F) ℓ) (c : Dev nD) (t : Fin cfg0.N) (x : Fin 128) (y : Fin 1408)

theorem ltN (t : Fin cfg0.N) : t.val < 16 := lt_of_lt_of_eq t.isLt N_0

theorem at4 : ∀ t : Fin grid0.N, win0_4.index t 0 = t.val ∧ win0_4.index t 1 = 0 := by decide +kernel

/-- Where block `t` lies in its array, for the windows 1, 2, 3 and the results 4, 5, 6, 7, which move alike. -/
theorem pos4 :
    ((win0_4.rect t).idx (ix2 x y) : (⟨2, ![2048, 1408]⟩ : Shape).Idx) = ix2 ⟨t.val * 128 + x.val, by have := ltN t; omega⟩ y := by
  refine funext fun a => Fin.ext ?_
  match a with
  | ⟨0, _⟩ => show win0_4.index t 0 * 128 + 1 * x.val = t.val * 128 + x.val; rw [(at4 t).1]; omega
  | ⟨1, _⟩ => show win0_4.index t 1 * 1408 + 1 * y.val = y.val; rw [(at4 t).2]; omega
/-- Every element of such an array lies in one block. -/
theorem block4 (i : (⟨2, ![2048, 1408]⟩ : Shape).Idx) :
    ∃ t : Fin cfg0.N, ∀ a : Fin 2, win0_4.index t a * ![128, 1408] a ≤ (i a : Nat) ∧ (i a : Nat) < win0_4.index t a * ![128, 1408] a + ![128, 1408] a := by
  have h0 : (i 0 : Nat) < 2048 := (i 0).isLt
  have h1 : (i 1 : Nat) < 1408 := (i 1).isLt
  have hN : cfg0.N = 16 := N_0
  let t : Fin cfg0.N := ⟨(i 0 : Nat) / 128, by omega⟩
  refine ⟨t, fun a => ?_⟩
  match a with
  | ⟨0, _⟩ =>
    show win0_4.index t 0 * 128 ≤ (i 0 : Nat) ∧ (i 0 : Nat) < win0_4.index t 0 * 128 + 128
    rw [(at4 t).1]; dsimp only [t]; omega
  | ⟨1, _⟩ =>
    show win0_4.index t 1 * 1408 ≤ (i 1 : Nat) ∧ (i 1 : Nat) < win0_4.index t 1 * 1408 + 1408
    rw [(at4 t).2]; dsimp only [t]; omega
theorem iblk1 :
    iblk m c 1 t (ix2 x y) = m ((c : Thread nD τ).loc main_arg1) (ix2 ⟨t.val * 128 + x.val, by have := ltN t; omega⟩ y) := by
  show V m c main_arg1 ((win0_1.rect t).idx (ix2 x y)) = _
  rw [V_main_arg1]
  exact congrArg _ (pos4 t x y)
theorem iblk2 :
    iblk m c 2 t (ix2 x y) = m ((c : Thread nD τ).loc main_arg2) (ix2 ⟨t.val * 128 + x.val, by have := ltN t; omega⟩ y) := by
  show V m c main_arg2 ((win0_2.rect t).idx (ix2 x y)) = _
  rw [V_main_arg2]
  exact congrArg _ (pos4 t x y)
theorem iblk3 :
    iblk m c 3 t (ix2 x y) = m ((c : Thread nD τ).loc main_arg3) (ix2 ⟨t.val * 128 + x.val, by have := ltN t; omega⟩ y) := by
  show V m c main_arg3 ((win0_3.rect t).idx (ix2 x y)) = _
  rw [V_main_arg3]
  exact congrArg _ (pos4 t x y)
theorem oblk4 (G : Buf (Elt F) ((c : Thread nD τ).loc main_v0_0)) :
    ((cfg0.win 4).blk t).view.read (Elt F) G (ix2 x y) = G (ix2 ⟨t.val * 128 + x.val, by have := ltN t; omega⟩ y) :=
  congrArg G (pos4 t x y)
theorem cover4 (i : (⟨2, ![2048, 1408]⟩ : Shape).Idx) :
    ∃ t : Fin cfg0.N, (cfg0.win 4).flush t = true ∧ i ∈ ((cfg0.win 4).blk t).view.set := by
  obtain ⟨t, h⟩ := block4 i
  refine ⟨t, flush0_4 _, ?_⟩
  show i ∈ ((View.whole main_v0_0).slice (win0_4.rect t)).set
  rw [View.set_slice_whole, Rect.mem_set_unit]
  exact h
theorem oblk5 (G : Buf (Elt F) ((c : Thread nD τ).loc main_v0_1)) :
    ((cfg0.win 5).blk t).view.read (Elt F) G (ix2 x y) = G (ix2 ⟨t.val * 128 + x.val, by have := ltN t; omega⟩ y) :=
  congrArg G (pos4 t x y)
theorem cover5 (i : (⟨2, ![2048, 1408]⟩ : Shape).Idx) :
    ∃ t : Fin cfg0.N, (cfg0.win 5).flush t = true ∧ i ∈ ((cfg0.win 5).blk t).view.set := by
  obtain ⟨t, h⟩ := block4 i
  refine ⟨t, flush0_5 _, ?_⟩
  show i ∈ ((View.whole main_v0_1).slice (win0_5.rect t)).set
  rw [View.set_slice_whole, Rect.mem_set_unit]
  exact h
theorem oblk6 (G : Buf (Elt F) ((c : Thread nD τ).loc main_v0_2)) :
    ((cfg0.win 6).blk t).view.read (Elt F) G (ix2 x y) = G (ix2 ⟨t.val * 128 + x.val, by have := ltN t; omega⟩ y) :=
  congrArg G (pos4 t x y)
theorem cover6 (i : (⟨2, ![2048, 1408]⟩ : Shape).Idx) :
    ∃ t : Fin cfg0.N, (cfg0.win 6).flush t = true ∧ i ∈ ((cfg0.win 6).blk t).view.set := by
  obtain ⟨t, h⟩ := block4 i
  refine ⟨t, flush0_6 _, ?_⟩
  show i ∈ ((View.whole main_v0_2).slice (win0_6.rect t)).set
  rw [View.set_slice_whole, Rect.mem_set_unit]
  exact h
theorem oblk7 (G : Buf (Elt F) ((c : Thread nD τ).loc main_v0_3)) :
    ((cfg0.win 7).blk t).view.read (Elt F) G (ix2 x y) = G (ix2 ⟨t.val * 128 + x.val, by have := ltN t; omega⟩ y) :=
  congrArg G (pos4 t x y)
theorem cover7 (i : (⟨2, ![2048, 1408]⟩ : Shape).Idx) :
    ∃ t : Fin cfg0.N, (cfg0.win 7).flush t = true ∧ i ∈ ((cfg0.win 7).blk t).view.set := by
  obtain ⟨t, h⟩ := block4 i
  refine ⟨t, flush0_7 _, ?_⟩
  show i ∈ ((View.whole main_v0_3).slice (win0_7.rect t)).set
  rw [View.set_slice_whole, Rect.mem_set_unit]
  exact h

theorem at0 : ∀ t : Fin grid0.N, win0_0.index t 0 = 0 ∧ win0_0.index t 1 = t.val ∧ win0_0.index t 2 = 0 := by decide +kernel

/-- Block `t` of window 0, element by element. -/
theorem iblk0 (c : Dev nD) (t : Fin cfg0.N) (x : Fin 8) (y : Fin 128) (z : Fin 1408) :
    iblk m c 0 t (ix3 x y z) = m ((c : Thread nD τ).loc main_arg0) (ix3 x ⟨t.val * 128 + y.val, by have := ltN t; omega⟩ z) := by
  show V m c main_arg0 ((win0_0.rect t).idx (ix3 x y z)) = _
  rw [V_main_arg0]
  refine congrArg _ (funext fun a => Fin.ext ?_)
  match a with
  | ⟨0, _⟩ => show win0_0.index t 0 * 8 + 1 * x.val = x.val; rw [(at0 t).1]; have := ltN t; omega
  | ⟨1, _⟩ => show win0_0.index t 1 * 128 + 1 * y.val = t.val * 128 + y.val; rw [(at0 t).2.1]; have := ltN t; omega
  | ⟨2, _⟩ => show win0_0.index t 2 * 1408 + 1 * z.val = z.val; rw [(at0 t).2.2]; have := ltN t; omega
end Blocks

/-! ## One element of the step -/
section Spec
/-- The gradient: the sum over the devices. -/
def grad (A0 : FVec Ideal ⟨3, ![8, 2048, 1408]⟩ .bf16) (r : Fin 2048) (q : Fin 1408) : EReal := ∑ d : Fin 8, A0 (ix3 d r q)
end Spec

variable (m : (ℓ : Loc nD τ sig) → Buf (Elt Ideal) ℓ) (ρ : Dev nD → PrngReg)

abbrev a0 (c : Dev nD) : FVec Ideal ⟨3, ![8, 2048, 1408]⟩ .bf16 := m ((c : Thread nD τ).loc main_arg0)
abbrev a1 (c : Dev nD) : FVec Ideal ⟨2, ![2048, 1408]⟩ .f32 := m ((c : Thread nD τ).loc main_arg1)
abbrev a2 (c : Dev nD) : FVec Ideal ⟨2, ![2048, 1408]⟩ .f32 := m ((c : Thread nD τ).loc main_arg2)
abbrev a3 (c : Dev nD) : FVec Ideal ⟨2, ![2048, 1408]⟩ .f32 := m ((c : Thread nD τ).loc main_arg3)

/-- The four result arrays of device `c`: the gradient, the change of the weight, the new moments. -/
abbrev G4 (c : Dev nD) : Buf (Elt Ideal) ((c : Thread nD τ).loc main_v0_0) := fun i : S2048x1408.Idx => grad (a0 m c) (i 0) (i 1)
abbrev G5 (c : Dev nD) : Buf (Elt Ideal) ((c : Thread nD τ).loc main_v0_1) := fun i : S2048x1408.Idx =>
  delta (grad (a0 m c) (i 0) (i 1)) (a1 m c (ix2 (i 0) (i 1))) (a2 m c (ix2 (i 0) (i 1))) (a3 m c (ix2 (i 0) (i 1)))
abbrev G6 (c : Dev nD) : Buf (Elt Ideal) ((c : Thread nD τ).loc main_v0_2) := fun i : S2048x1408.Idx =>
  newM (grad (a0 m c) (i 0) (i 1)) (a2 m c (ix2 (i 0) (i 1)))
abbrev G7 (c : Dev nD) : Buf (Elt Ideal) ((c : Thread nD τ).loc main_v0_3) := fun i : S2048x1408.Idx =>
  newV (grad (a0 m c) (i 0) (i 1)) (a3 m c (ix2 (i 0) (i 1)))

section Payloads
variable (g u v w : Vec Ideal S128x1408 .f32) (x : Fin 128) (y : Fin 1408)
theorem pay1_at : k0_pay1 (F := Ideal) g u (Scalar.ofBits .f32 0x3F666666#32) (ix2 x y) = newM (g (ix2 x y)) (u (ix2 x y)) := by
  pointwise [k0_pay1]
  rfl
theorem pay2_at : k0_pay2 (F := Ideal) g v (ix2 x y) = newV (g (ix2 x y)) (v (ix2 x y)) := by
  pointwise [k0_pay2]
  rfl
theorem pay3_at : k0_pay3 (F := Ideal) g u (Scalar.ofBits .f32 0x3F666666#32) v w (ix2 x y) = delta (g (ix2 x y)) (w (ix2 x y)) (u (ix2 x y)) (v (ix2 x y)) := by
  pointwise [k0_pay3, k0_pay1, k0_pay2]
  rfl
theorem pay5_at (x0 : Vec Ideal S8x128x1408 .bf16) : k0_pay5 (F := Ideal) x0 u v w (ix2 x y) = (∑ d : Fin 8, x0 (ix3 d x y) : EReal) := by
  pointwise [k0_pay5, k0_pay4]
  rw [Fin.sum_univ_eight]
end Payloads

theorem grad_at (c : Dev nD) (t : Fin cfg0.N) (x : Fin 128) (y : Fin 1408) :
    k0_pay5 (F := Ideal) (iblk m c 0 t) (iblk m c 1 t) (iblk m c 2 t) (iblk m c 3 t) (ix2 x y) = grad (a0 m c) ⟨t.val * 128 + x.val, by have := ltN t; omega⟩ y :=
  (pay5_at _ _ _ x y _).trans (Finset.sum_congr rfl fun d _ => iblk0 m c t d x y)

/-- Element `(x, y)` of a block, as an extended real. -/
abbrev ew (v : Vec Ideal S128x1408 .f32) (x : Fin 128) (y : Fin 1408) : EReal := v (ix2 x y)
theorem ew1 (c : Dev nD) (t : Fin cfg0.N) (x : Fin 128) (y : Fin 1408) : ew (iblk m c 1 t) x y = a1 m c (ix2 ⟨t.val * 128 + x.val, by have := ltN t; omega⟩ y) := iblk1 m c t x y
theorem ew2 (c : Dev nD) (t : Fin cfg0.N) (x : Fin 128) (y : Fin 1408) : ew (iblk m c 2 t) x y = a2 m c (ix2 ⟨t.val * 128 + x.val, by have := ltN t; omega⟩ y) := iblk2 m c t x y
theorem ew3 (c : Dev nD) (t : Fin cfg0.N) (x : Fin 128) (y : Fin 1408) : ew (iblk m c 3 t) x y = a3 m c (ix2 ⟨t.val * 128 + x.val, by have := ltN t; omega⟩ y) := iblk3 m c t x y

theorem flushed4_eq (c : Dev nD) (t : Fin cfg0.N) :
    (dats m 0 c).flushed 4 t = ((cfg0.win 4).blk t).view.read (Elt Ideal) (G4 m c) := by
  rw [Value.flushed4]
  funext i
  obtain ⟨x, y, rfl⟩ := ix2_surj i
  rw [oblk4]
  unfold out0_4
  rw [View.canon_unit_zero Step.hz]
  exact grad_at m c t x y

theorem flushed5_eq (c : Dev nD) (t : Fin cfg0.N) :
    (dats m 0 c).flushed 5 t = ((cfg0.win 5).blk t).view.read (Elt Ideal) (G5 m c) := by
  rw [Value.flushed5]
  funext i
  obtain ⟨x, y, rfl⟩ := ix2_surj i
  rw [oblk5]
  unfold out0_5
  rw [View.canon_unit_zero Step.hz]
  rw [View.ld_unit_zero Step.hz, View.ld_unit_zero Step.hz, View.ld_unit_zero Step.hz]
  refine (pay3_at _ _ _ _ x y).trans ?_
  rw [grad_at]
  show delta _ (ew (iblk m c 1 t) x y) (ew (iblk m c 2 t) x y) (ew (iblk m c 3 t) x y) = _
  rw [ew1, ew2, ew3]
  rfl

theorem flushed6_eq (c : Dev nD) (t : Fin cfg0.N) :
    (dats m 0 c).flushed 6 t = ((cfg0.win 6).blk t).view.read (Elt Ideal) (G6 m c) := by
  rw [Value.flushed6]
  funext i
  obtain ⟨x, y, rfl⟩ := ix2_surj i
  rw [oblk6]
  unfold out0_6
  rw [View.canon_unit_zero Step.hz]
  rw [View.ld_unit_zero Step.hz]
  refine (pay1_at _ _ x y).trans ?_
  rw [grad_at]
  show newM _ (ew (iblk m c 2 t) x y) = _
  rw [ew2]
  rfl

theorem flushed7_eq (c : Dev nD) (t : Fin cfg0.N) :
    (dats m 0 c).flushed 7 t = ((cfg0.win 7).blk t).view.read (Elt Ideal) (G7 m c) := by
  rw [Value.flushed7]
  funext i
  obtain ⟨x, y, rfl⟩ := ix2_surj i
  rw [oblk7]
  unfold out0_7
  rw [View.canon_unit_zero Step.hz]
  rw [View.ld_unit_zero Step.hz]
  refine (pay2_at _ _ x y).trans ?_
  rw [grad_at]
  show newV _ (ew (iblk m c 3 t) x y) = _
  rw [ew3]
  rfl

/-- The run of the kernel: the result arrays at the functions above, the arguments unchanged. -/
theorem run : θ_run defs (onTc (τ := τ) (main (F := Ideal))) ⟨m, fun _ => 0, ρ⟩ fun r => ∀ c : Dev nD,
      r.2.mem ((c : Thread nD τ).loc main_v0_0) = G4 m c
      ∧ r.2.mem ((c : Thread nD τ).loc main_v0_1) = G5 m c
      ∧ r.2.mem ((c : Thread nD τ).loc main_v0_2) = G6 m c
      ∧ r.2.mem ((c : Thread nD τ).loc main_v0_3) = G7 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((dats m 0 c).arrAt_eq_of_cover 4 (G4 m c) (fun t _ => flushed4_eq m c t) cover4),
      (h c).2.1.trans ((dats m 0 c).arrAt_eq_of_cover 5 (G5 m c) (fun t _ => flushed5_eq m c t) cover5),
      (h c).2.2.1.trans ((dats m 0 c).arrAt_eq_of_cover 6 (G6 m c) (fun t _ => flushed6_eq m c t) cover6),
      (h c).2.2.2.1.trans ((dats m 0 c).arrAt_eq_of_cover 7 (G7 m c) (fun t _ => flushed7_eq m c t) cover7), (h c).2.2.2.2⟩)
    (Value.run_blocks m ρ)

section Reference
open Reference22Ideal.Read
variable (x0 : FVec Ideal ⟨3, ![8, 2048, 1408]⟩ .bf16) (x1 x2 x3 : FVec Ideal ⟨2, ![2048, 1408]⟩ .f32) (r : Fin 2048) (q : Fin 1408)
theorem ref0 : val_main_v1 (F := Ideal) x0 (ix2 r q) = grad x0 r q := by
  pointwise [val_main_cst, val_main_v0, val_main_v1]
  rfl
theorem ref1 : val_main_v25 (F := Ideal) x0 x1 x2 x3 (ix2 r q) = delta (grad x0 r q) (x1 (ix2 r q)) (x2 (ix2 r q)) (x3 (ix2 r q)) := by
  pointwise [val_main_cst, val_main_cst_0, val_main_cst_1, val_main_cst_2, val_main_cst_3, val_main_cst_4, val_main_cst_5, val_main_cst_6, val_main_cst_7, val_main_cst_8, val_main_v0, val_main_v1, val_main_v10, val_main_v11, val_main_v12, val_main_v13, val_main_v14, val_main_v15, val_main_v16, val_main_v17, val_main_v18, val_main_v19, val_main_v2, val_main_v20, val_main_v21, val_main_v22, val_main_v23, val_main_v24, val_main_v25, val_main_v3, val_main_v4, val_main_v5, val_main_v6, val_main_v7, val_main_v8, val_main_v9]
  rfl
theorem ref2 : val_main_v6 (F := Ideal) x0 x2 (ix2 r q) = newM (grad x0 r q) (x2 (ix2 r q)) := by
  pointwise [val_main_cst, val_main_cst_0, val_main_cst_1, val_main_v0, val_main_v1, val_main_v2, val_main_v3, val_main_v4, val_main_v5, val_main_v6]
  rfl
theorem ref3 : val_main_v12 (F := Ideal) x0 x3 (ix2 r q) = newV (grad x0 r q) (x3 (ix2 r q)) := by
  pointwise [val_main_cst, val_main_cst_2, val_main_cst_3, val_main_v0, val_main_v1, val_main_v10, val_main_v11, val_main_v12, val_main_v7, val_main_v8, val_main_v9]
  rfl
end Reference

theorem frame_kernel : quiescent_Kernel22 := fun m ρ _ => Kernel22.Gen.frame m ρ
theorem frame_kernelIdeal : quiescent_Kernel22Ideal := fun m ρ _ => Kernel22Ideal.Gen.frame m ρ
theorem frame_reference : quiescent_Reference22Ideal := fun m ρ _ =>
  (θ_run Reference22Ideal.defs _ _).mono (fun r h => ⟨fun c => (h c).2.2.2.2, sem_eq_zero_of_no_sems (by decide) r.2⟩)
    (Reference22Ideal.Value.run (F := Ideal) m ρ)

theorem algebraic : algebraic_Kernel22Ideal_Reference22Ideal := by
  intro m ρ m' ρ' _ hagree
  refine ⟨G4 m, G5 m, G6 m, G7 m, run m ρ, ?_⟩
  refine (θ_run Reference22Ideal.defs _ _).mono (fun _ h c => ⟨(h c).1.trans ?_, (h c).2.1.trans ?_, (h c).2.2.1.trans ?_, (h c).2.2.2.1.trans ?_, (h c).2.2.2.2⟩) (Reference22Ideal.Value.run (F := Ideal) m' ρ')
  · rw [(hagree c).1]
    funext i
    obtain ⟨r, q, rfl⟩ := Step.ix2_surj i
    exact ref0 (a0 m c) r q
  · rw [(hagree c).1, (hagree c).2.1, (hagree c).2.2.1, (hagree c).2.2.2]
    funext i
    obtain ⟨r, q, rfl⟩ := Step.ix2_surj i
    exact ref1 (a0 m c) (a1 m c) (a2 m c) (a3 m c) r q
  · rw [(hagree c).1, (hagree c).2.2.1]
    funext i
    obtain ⟨r, q, rfl⟩ := Step.ix2_surj i
    exact ref2 (a0 m c) (a2 m c) r q
  · rw [(hagree c).1, (hagree c).2.2.2]
    funext i
    obtain ⟨r, q, rfl⟩ := Step.ix2_surj i
    exact ref3 (a0 m c) (a3 m c) r q

end P22
-- ==== Proof.P23.lean ====
module

public import proofs.«01_k».proof.Proof.Step
public import proofs.«01_k».proof.Proof.Gen.Kernel23.Frame
public import proofs.«01_k».proof.Proof.Gen.Kernel23Ideal.Value
public import proofs.«01_k».proof.Proof.Gen.Reference23Ideal.Read
public import proofs.«01_k».proof.Proof.Gen.Reference23Ideal.Run

@[expose] public section

set_option maxRecDepth 16384

noncomputable section

/-! # The claims about `adamw_w_down`: the sum of the eight devices' gradients and the optimiser's step, 704 × 2048 -/

namespace Cert.P23

open Kernel23Ideal Kernel23Ideal.Gen Idealize.ShloMosaic Idealize.ShloMosaic.TcCoe Idealize.SL.Sem
open Step

section Blocks
variable {F : FTy → Type} [FloatOps F]
variable (m : (ℓ : Loc nD τ sig) → Buf (Elt F) ℓ) (c : Dev nD) (t : Fin cfg0.N) (x : Fin 64) (y : Fin 2048)

theorem ltN (t : Fin cfg0.N) : t.val < 11 := lt_of_lt_of_eq t.isLt N_0

theorem at4 : ∀ t : Fin grid0.N, win0_4.index t 0 = t.val ∧ win0_4.index t 1 = 0 := by decide +kernel

/-- Where block `t` lies in its array, for the windows 1, 2, 3 and the results 4, 5, 6, 7, which move alike. -/
theorem pos4 :
    ((win0_4.rect t).idx (ix2 x y) : (⟨2, ![704, 2048]⟩ : Shape).Idx) = ix2 ⟨t.val * 64 + x.val, by have := ltN t; omega⟩ y := by
  refine funext fun a => Fin.ext ?_
  match a with
  | ⟨0, _⟩ => show win0_4.index t 0 * 64 + 1 * x.val = t.val * 64 + x.val; rw [(at4 t).1]; omega
  | ⟨1, _⟩ => show win0_4.index t 1 * 2048 + 1 * y.val = y.val; rw [(at4 t).2]; omega
/-- Every element of such an array lies in one block. -/
theorem block4 (i : (⟨2, ![704, 2048]⟩ : Shape).Idx) :
    ∃ t : Fin cfg0.N, ∀ a : Fin 2, win0_4.index t a * ![64, 2048] a ≤ (i a : Nat) ∧ (i a : Nat) < win0_4.index t a * ![64, 2048] a + ![64, 2048] a := by
  have h0 : (i 0 : Nat) < 704 := (i 0).isLt
  have h1 : (i 1 : Nat) < 2048 := (i 1).isLt
  have hN : cfg0.N = 11 := N_0
  let t : Fin cfg0.N := ⟨(i 0 : Nat) / 64, by omega⟩
  refine ⟨t, fun a => ?_⟩
  match a with
  | ⟨0, _⟩ =>
    show win0_4.index t 0 * 64 ≤ (i 0 : Nat) ∧ (i 0 : Nat) < win0_4.index t 0 * 64 + 64
    rw [(at4 t).1]; dsimp only [t]; omega
  | ⟨1, _⟩ =>
    show win0_4.index t 1 * 2048 ≤ (i 1 : Nat) ∧ (i 1 : Nat) < win0_4.index t 1 * 2048 + 2048
    rw [(at4 t).2]; dsimp only [t]; omega
theorem iblk1 :
    iblk m c 1 t (ix2 x y) = m ((c : Thread nD τ).loc main_arg1) (ix2 ⟨t.val * 64 + x.val, by have := ltN t; omega⟩ y) := by
  show V m c main_arg1 ((win0_1.rect t).idx (ix2 x y)) = _
  rw [V_main_arg1]
  exact congrArg _ (pos4 t x y)
theorem iblk2 :
    iblk m c 2 t (ix2 x y) = m ((c : Thread nD τ).loc main_arg2) (ix2 ⟨t.val * 64 + x.val, by have := ltN t; omega⟩ y) := by
  show V m c main_arg2 ((win0_2.rect t).idx (ix2 x y)) = _
  rw [V_main_arg2]
  exact congrArg _ (pos4 t x y)
theorem iblk3 :
    iblk m c 3 t (ix2 x y) = m ((c : Thread nD τ).loc main_arg3) (ix2 ⟨t.val * 64 + x.val, by have := ltN t; omega⟩ y) := by
  show V m c main_arg3 ((win0_3.rect t).idx (ix2 x y)) = _
  rw [V_main_arg3]
  exact congrArg _ (pos4 t x y)
theorem oblk4 (G : Buf (Elt F) ((c : Thread nD τ).loc main_v0_0)) :
    ((cfg0.win 4).blk t).view.read (Elt F) G (ix2 x y) = G (ix2 ⟨t.val * 64 + x.val, by have := ltN t; omega⟩ y) :=
  congrArg G (pos4 t x y)
theorem cover4 (i : (⟨2, ![704, 2048]⟩ : Shape).Idx) :
    ∃ t : Fin cfg0.N, (cfg0.win 4).flush t = true ∧ i ∈ ((cfg0.win 4).blk t).view.set := by
  obtain ⟨t, h⟩ := block4 i
  refine ⟨t, flush0_4 _, ?_⟩
  show i ∈ ((View.whole main_v0_0).slice (win0_4.rect t)).set
  rw [View.set_slice_whole, Rect.mem_set_unit]
  exact h
theorem oblk5 (G : Buf (Elt F) ((c : Thread nD τ).loc main_v0_1)) :
    ((cfg0.win 5).blk t).view.read (Elt F) G (ix2 x y) = G (ix2 ⟨t.val * 64 + x.val, by have := ltN t; omega⟩ y) :=
  congrArg G (pos4 t x y)
theorem cover5 (i : (⟨2, ![704, 2048]⟩ : Shape).Idx) :
    ∃ t : Fin cfg0.N, (cfg0.win 5).flush t = true ∧ i ∈ ((cfg0.win 5).blk t).view.set := by
  obtain ⟨t, h⟩ := block4 i
  refine ⟨t, flush0_5 _, ?_⟩
  show i ∈ ((View.whole main_v0_1).slice (win0_5.rect t)).set
  rw [View.set_slice_whole, Rect.mem_set_unit]
  exact h
theorem oblk6 (G : Buf (Elt F) ((c : Thread nD τ).loc main_v0_2)) :
    ((cfg0.win 6).blk t).view.read (Elt F) G (ix2 x y) = G (ix2 ⟨t.val * 64 + x.val, by have := ltN t; omega⟩ y) :=
  congrArg G (pos4 t x y)
theorem cover6 (i : (⟨2, ![704, 2048]⟩ : Shape).Idx) :
    ∃ t : Fin cfg0.N, (cfg0.win 6).flush t = true ∧ i ∈ ((cfg0.win 6).blk t).view.set := by
  obtain ⟨t, h⟩ := block4 i
  refine ⟨t, flush0_6 _, ?_⟩
  show i ∈ ((View.whole main_v0_2).slice (win0_6.rect t)).set
  rw [View.set_slice_whole, Rect.mem_set_unit]
  exact h
theorem oblk7 (G : Buf (Elt F) ((c : Thread nD τ).loc main_v0_3)) :
    ((cfg0.win 7).blk t).view.read (Elt F) G (ix2 x y) = G (ix2 ⟨t.val * 64 + x.val, by have := ltN t; omega⟩ y) :=
  congrArg G (pos4 t x y)
theorem cover7 (i : (⟨2, ![704, 2048]⟩ : Shape).Idx) :
    ∃ t : Fin cfg0.N, (cfg0.win 7).flush t = true ∧ i ∈ ((cfg0.win 7).blk t).view.set := by
  obtain ⟨t, h⟩ := block4 i
  refine ⟨t, flush0_7 _, ?_⟩
  show i ∈ ((View.whole main_v0_3).slice (win0_7.rect t)).set
  rw [View.set_slice_whole, Rect.mem_set_unit]
  exact h

theorem at0 : ∀ t : Fin grid0.N, win0_0.index t 0 = 0 ∧ win0_0.index t 1 = t.val ∧ win0_0.index t 2 = 0 := by decide +kernel

/-- Block `t` of window 0, element by element. -/
theorem iblk0 (c : Dev nD) (t : Fin cfg0.N) (x : Fin 8) (y : Fin 64) (z : Fin 2048) :
    iblk m c 0 t (ix3 x y z) = m ((c : Thread nD τ).loc main_arg0) (ix3 x ⟨t.val * 64 + y.val, by have := ltN t; omega⟩ z) := by
  show V m c main_arg0 ((win0_0.rect t).idx (ix3 x y z)) = _
  rw [V_main_arg0]
  refine congrArg _ (funext fun a => Fin.ext ?_)
  match a with
  | ⟨0, _⟩ => show win0_0.index t 0 * 8 + 1 * x.val = x.val; rw [(at0 t).1]; have := ltN t; omega
  | ⟨1, _⟩ => show win0_0.index t 1 * 64 + 1 * y.val = t.val * 64 + y.val; rw [(at0 t).2.1]; have := ltN t; omega
  | ⟨2, _⟩ => show win0_0.index t 2 * 2048 + 1 * z.val = z.val; rw [(at0 t).2.2]; have := ltN t; omega
end Blocks

/-! ## One element of the step -/
section Spec
/-- The gradient: the sum over the devices. -/
def grad (A0 : FVec Ideal ⟨3, ![8, 704, 2048]⟩ .bf16) (r : Fin 704) (q : Fin 2048) : EReal := ∑ d : Fin 8, A0 (ix3 d r q)
end Spec

variable (m : (ℓ : Loc nD τ sig) → Buf (Elt Ideal) ℓ) (ρ : Dev nD → PrngReg)

abbrev a0 (c : Dev nD) : FVec Ideal ⟨3, ![8, 704, 2048]⟩ .bf16 := m ((c : Thread nD τ).loc main_arg0)
abbrev a1 (c : Dev nD) : FVec Ideal ⟨2, ![704, 2048]⟩ .f32 := m ((c : Thread nD τ).loc main_arg1)
abbrev a2 (c : Dev nD) : FVec Ideal ⟨2, ![704, 2048]⟩ .f32 := m ((c : Thread nD τ).loc main_arg2)
abbrev a3 (c : Dev nD) : FVec Ideal ⟨2, ![704, 2048]⟩ .f32 := m ((c : Thread nD τ).loc main_arg3)

/-- The four result arrays of device `c`: the gradient, the change of the weight, the new moments. -/
abbrev G4 (c : Dev nD) : Buf (Elt Ideal) ((c : Thread nD τ).loc main_v0_0) := fun i : S704x2048.Idx => grad (a0 m c) (i 0) (i 1)
abbrev G5 (c : Dev nD) : Buf (Elt Ideal) ((c : Thread nD τ).loc main_v0_1) := fun i : S704x2048.Idx =>
  delta (grad (a0 m c) (i 0) (i 1)) (a1 m c (ix2 (i 0) (i 1))) (a2 m c (ix2 (i 0) (i 1))) (a3 m c (ix2 (i 0) (i 1)))
abbrev G6 (c : Dev nD) : Buf (Elt Ideal) ((c : Thread nD τ).loc main_v0_2) := fun i : S704x2048.Idx =>
  newM (grad (a0 m c) (i 0) (i 1)) (a2 m c (ix2 (i 0) (i 1)))
abbrev G7 (c : Dev nD) : Buf (Elt Ideal) ((c : Thread nD τ).loc main_v0_3) := fun i : S704x2048.Idx =>
  newV (grad (a0 m c) (i 0) (i 1)) (a3 m c (ix2 (i 0) (i 1)))

section Payloads
variable (g u v w : Vec Ideal S64x2048 .f32) (x : Fin 64) (y : Fin 2048)
theorem pay1_at : k0_pay1 (F := Ideal) g u (Scalar.ofBits .f32 0x3F666666#32) (ix2 x y) = newM (g (ix2 x y)) (u (ix2 x y)) := by
  pointwise [k0_pay1]
  rfl
theorem pay2_at : k0_pay2 (F := Ideal) g v (ix2 x y) = newV (g (ix2 x y)) (v (ix2 x y)) := by
  pointwise [k0_pay2]
  rfl
theorem pay3_at : k0_pay3 (F := Ideal) g u (Scalar.ofBits .f32 0x3F666666#32) v w (ix2 x y) = delta (g (ix2 x y)) (w (ix2 x y)) (u (ix2 x y)) (v (ix2 x y)) := by
  pointwise [k0_pay3, k0_pay1, k0_pay2]
  rfl
theorem pay5_at (x0 : Vec Ideal S8x64x2048 .bf16) : k0_pay5 (F := Ideal) x0 u v w (ix2 x y) = (∑ d : Fin 8, x0 (ix3 d x y) : EReal) := by
  pointwise [k0_pay5, k0_pay4]
  rw [Fin.sum_univ_eight]
end Payloads

theorem grad_at (c : Dev nD) (t : Fin cfg0.N) (x : Fin 64) (y : Fin 2048) :
    k0_pay5 (F := Ideal) (iblk m c 0 t) (iblk m c 1 t) (iblk m c 2 t) (iblk m c 3 t) (ix2 x y) = grad (a0 m c) ⟨t.val * 64 + x.val, by have := ltN t; omega⟩ y :=
  (pay5_at _ _ _ x y _).trans (Finset.sum_congr rfl fun d _ => iblk0 m c t d x y)

/-- Element `(x, y)` of a block, as an extended real. -/
abbrev ew (v : Vec Ideal S64x2048 .f32) (x : Fin 64) (y : Fin 2048) : EReal := v (ix2 x y)
theorem ew1 (c : Dev nD) (t : Fin cfg0.N) (x : Fin 64) (y : Fin 2048) : ew (iblk m c 1 t) x y = a1 m c (ix2 ⟨t.val * 64 + x.val, by have := ltN t; omega⟩ y) := iblk1 m c t x y
theorem ew2 (c : Dev nD) (t : Fin cfg0.N) (x : Fin 64) (y : Fin 2048) : ew (iblk m c 2 t) x y = a2 m c (ix2 ⟨t.val * 64 + x.val, by have := ltN t; omega⟩ y) := iblk2 m c t x y
theorem ew3 (c : Dev nD) (t : Fin cfg0.N) (x : Fin 64) (y : Fin 2048) : ew (iblk m c 3 t) x y = a3 m c (ix2 ⟨t.val * 64 + x.val, by have := ltN t; omega⟩ y) := iblk3 m c t x y

theorem flushed4_eq (c : Dev nD) (t : Fin cfg0.N) :
    (dats m 0 c).flushed 4 t = ((cfg0.win 4).blk t).view.read (Elt Ideal) (G4 m c) := by
  rw [Value.flushed4]
  funext i
  obtain ⟨x, y, rfl⟩ := ix2_surj i
  rw [oblk4]
  unfold out0_4
  rw [View.canon_unit_zero Step.hz]
  exact grad_at m c t x y

theorem flushed5_eq (c : Dev nD) (t : Fin cfg0.N) :
    (dats m 0 c).flushed 5 t = ((cfg0.win 5).blk t).view.read (Elt Ideal) (G5 m c) := by
  rw [Value.flushed5]
  funext i
  obtain ⟨x, y, rfl⟩ := ix2_surj i
  rw [oblk5]
  unfold out0_5
  rw [View.canon_unit_zero Step.hz]
  rw [View.ld_unit_zero Step.hz, View.ld_unit_zero Step.hz, View.ld_unit_zero Step.hz]
  refine (pay3_at _ _ _ _ x y).trans ?_
  rw [grad_at]
  show delta _ (ew (iblk m c 1 t) x y) (ew (iblk m c 2 t) x y) (ew (iblk m c 3 t) x y) = _
  rw [ew1, ew2, ew3]
  rfl

theorem flushed6_eq (c : Dev nD) (t : Fin cfg0.N) :
    (dats m 0 c).flushed 6 t = ((cfg0.win 6).blk t).view.read (Elt Ideal) (G6 m c) := by
  rw [Value.flushed6]
  funext i
  obtain ⟨x, y, rfl⟩ := ix2_surj i
  rw [oblk6]
  unfold out0_6
  rw [View.canon_unit_zero Step.hz]
  rw [View.ld_unit_zero Step.hz]
  refine (pay1_at _ _ x y).trans ?_
  rw [grad_at]
  show newM _ (ew (iblk m c 2 t) x y) = _
  rw [ew2]
  rfl

theorem flushed7_eq (c : Dev nD) (t : Fin cfg0.N) :
    (dats m 0 c).flushed 7 t = ((cfg0.win 7).blk t).view.read (Elt Ideal) (G7 m c) := by
  rw [Value.flushed7]
  funext i
  obtain ⟨x, y, rfl⟩ := ix2_surj i
  rw [oblk7]
  unfold out0_7
  rw [View.canon_unit_zero Step.hz]
  rw [View.ld_unit_zero Step.hz]
  refine (pay2_at _ _ x y).trans ?_
  rw [grad_at]
  show newV _ (ew (iblk m c 3 t) x y) = _
  rw [ew3]
  rfl

/-- The run of the kernel: the result arrays at the functions above, the arguments unchanged. -/
theorem run : θ_run defs (onTc (τ := τ) (main (F := Ideal))) ⟨m, fun _ => 0, ρ⟩ fun r => ∀ c : Dev nD,
      r.2.mem ((c : Thread nD τ).loc main_v0_0) = G4 m c
      ∧ r.2.mem ((c : Thread nD τ).loc main_v0_1) = G5 m c
      ∧ r.2.mem ((c : Thread nD τ).loc main_v0_2) = G6 m c
      ∧ r.2.mem ((c : Thread nD τ).loc main_v0_3) = G7 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((dats m 0 c).arrAt_eq_of_cover 4 (G4 m c) (fun t _ => flushed4_eq m c t) cover4),
      (h c).2.1.trans ((dats m 0 c).arrAt_eq_of_cover 5 (G5 m c) (fun t _ => flushed5_eq m c t) cover5),
      (h c).2.2.1.trans ((dats m 0 c).arrAt_eq_of_cover 6 (G6 m c) (fun t _ => flushed6_eq m c t) cover6),
      (h c).2.2.2.1.trans ((dats m 0 c).arrAt_eq_of_cover 7 (G7 m c) (fun t _ => flushed7_eq m c t) cover7), (h c).2.2.2.2⟩)
    (Value.run_blocks m ρ)

section Reference
open Reference23Ideal.Read
variable (x0 : FVec Ideal ⟨3, ![8, 704, 2048]⟩ .bf16) (x1 x2 x3 : FVec Ideal ⟨2, ![704, 2048]⟩ .f32) (r : Fin 704) (q : Fin 2048)
theorem ref0 : val_main_v1 (F := Ideal) x0 (ix2 r q) = grad x0 r q := by
  pointwise [val_main_cst, val_main_v0, val_main_v1]
  rfl
theorem ref1 : val_main_v25 (F := Ideal) x0 x1 x2 x3 (ix2 r q) = delta (grad x0 r q) (x1 (ix2 r q)) (x2 (ix2 r q)) (x3 (ix2 r q)) := by
  pointwise [val_main_cst, val_main_cst_0, val_main_cst_1, val_main_cst_2, val_main_cst_3, val_main_cst_4, val_main_cst_5, val_main_cst_6, val_main_cst_7, val_main_cst_8, val_main_v0, val_main_v1, val_main_v10, val_main_v11, val_main_v12, val_main_v13, val_main_v14, val_main_v15, val_main_v16, val_main_v17, val_main_v18, val_main_v19, val_main_v2, val_main_v20, val_main_v21, val_main_v22, val_main_v23, val_main_v24, val_main_v25, val_main_v3, val_main_v4, val_main_v5, val_main_v6, val_main_v7, val_main_v8, val_main_v9]
  rfl
theorem ref2 : val_main_v6 (F := Ideal) x0 x2 (ix2 r q) = newM (grad x0 r q) (x2 (ix2 r q)) := by
  pointwise [val_main_cst, val_main_cst_0, val_main_cst_1, val_main_v0, val_main_v1, val_main_v2, val_main_v3, val_main_v4, val_main_v5, val_main_v6]
  rfl
theorem ref3 : val_main_v12 (F := Ideal) x0 x3 (ix2 r q) = newV (grad x0 r q) (x3 (ix2 r q)) := by
  pointwise [val_main_cst, val_main_cst_2, val_main_cst_3, val_main_v0, val_main_v1, val_main_v10, val_main_v11, val_main_v12, val_main_v7, val_main_v8, val_main_v9]
  rfl
end Reference

theorem frame_kernel : quiescent_Kernel23 := fun m ρ _ => Kernel23.Gen.frame m ρ
theorem frame_kernelIdeal : quiescent_Kernel23Ideal := fun m ρ _ => Kernel23Ideal.Gen.frame m ρ
theorem frame_reference : quiescent_Reference23Ideal := fun m ρ _ =>
  (θ_run Reference23Ideal.defs _ _).mono (fun r h => ⟨fun c => (h c).2.2.2.2, sem_eq_zero_of_no_sems (by decide) r.2⟩)
    (Reference23Ideal.Value.run (F := Ideal) m ρ)

theorem algebraic : algebraic_Kernel23Ideal_Reference23Ideal := by
  intro m ρ m' ρ' _ hagree
  refine ⟨G4 m, G5 m, G6 m, G7 m, run m ρ, ?_⟩
  refine (θ_run Reference23Ideal.defs _ _).mono (fun _ h c => ⟨(h c).1.trans ?_, (h c).2.1.trans ?_, (h c).2.2.1.trans ?_, (h c).2.2.2.1.trans ?_, (h c).2.2.2.2⟩) (Reference23Ideal.Value.run (F := Ideal) m' ρ')
  · rw [(hagree c).1]
    funext i
    obtain ⟨r, q, rfl⟩ := Step.ix2_surj i
    exact ref0 (a0 m c) r q
  · rw [(hagree c).1, (hagree c).2.1, (hagree c).2.2.1, (hagree c).2.2.2]
    funext i
    obtain ⟨r, q, rfl⟩ := Step.ix2_surj i
    exact ref1 (a0 m c) (a1 m c) (a2 m c) (a3 m c) r q
  · rw [(hagree c).1, (hagree c).2.2.1]
    funext i
    obtain ⟨r, q, rfl⟩ := Step.ix2_surj i
    exact ref2 (a0 m c) (a2 m c) r q
  · rw [(hagree c).1, (hagree c).2.2.2]
    funext i
    obtain ⟨r, q, rfl⟩ := Step.ix2_surj i
    exact ref3 (a0 m c) (a3 m c) r q

end P23
-- ==== Proof.P24.lean ====
module

public import proofs.«01_k».proof.Proof.Step
public import proofs.«01_k».proof.Proof.Gen.Kernel24.Frame
public import proofs.«01_k».proof.Proof.Gen.Kernel24Ideal.Value
public import proofs.«01_k».proof.Proof.Gen.Reference24Ideal.Read
public import proofs.«01_k».proof.Proof.Gen.Reference24Ideal.Run

@[expose] public section

set_option maxRecDepth 16384

noncomputable section

/-! # The claims about `adamw_conv_w`: the sum of the eight devices' gradients and the optimiser's step, 3 × 128 -/

namespace Cert.P24

open Kernel24Ideal Kernel24Ideal.Gen Idealize.ShloMosaic Idealize.ShloMosaic.TcCoe Idealize.SL.Sem
open Step

section Blocks
variable {F : FTy → Type} [FloatOps F]
variable (m : (ℓ : Loc nD τ sig) → Buf (Elt F) ℓ) (c : Dev nD) (t : Fin cfg0.N) (x : Fin 3) (y : Fin 128)

theorem ltN (t : Fin cfg0.N) : t.val < 1 := lt_of_lt_of_eq t.isLt N_0

theorem at4 : ∀ t : Fin grid0.N, win0_4.index t 0 = 0 ∧ win0_4.index t 1 = 0 := by decide +kernel

/-- Where block `t` lies in its array, for the windows 1, 2, 3 and the results 4, 5, 6, 7, which move alike. -/
theorem pos4 :
    ((win0_4.rect t).idx (ix2 x y) : (⟨2, ![3, 128]⟩ : Shape).Idx) = ix2 x y := by
  refine funext fun a => Fin.ext ?_
  match a with
  | ⟨0, _⟩ => show win0_4.index t 0 * 3 + 1 * x.val = x.val; rw [(at4 t).1]; omega
  | ⟨1, _⟩ => show win0_4.index t 1 * 128 + 1 * y.val = y.val; rw [(at4 t).2]; omega
/-- Every element of such an array lies in one block. -/
theorem block4 (i : (⟨2, ![3, 128]⟩ : Shape).Idx) :
    ∃ t : Fin cfg0.N, ∀ a : Fin 2, win0_4.index t a * ![3, 128] a ≤ (i a : Nat) ∧ (i a : Nat) < win0_4.index t a * ![3, 128] a + ![3, 128] a := by
  have h0 : (i 0 : Nat) < 3 := (i 0).isLt
  have h1 : (i 1 : Nat) < 128 := (i 1).isLt
  have hN : cfg0.N = 1 := N_0
  let t : Fin cfg0.N := ⟨(i 0 : Nat) / 3, by omega⟩
  refine ⟨t, fun a => ?_⟩
  match a with
  | ⟨0, _⟩ =>
    show win0_4.index t 0 * 3 ≤ (i 0 : Nat) ∧ (i 0 : Nat) < win0_4.index t 0 * 3 + 3
    rw [(at4 t).1]; dsimp only [t]; omega
  | ⟨1, _⟩ =>
    show win0_4.index t 1 * 128 ≤ (i 1 : Nat) ∧ (i 1 : Nat) < win0_4.index t 1 * 128 + 128
    rw [(at4 t).2]; dsimp only [t]; omega
theorem iblk1 :
    iblk m c 1 t (ix2 x y) = m ((c : Thread nD τ).loc main_arg1) (ix2 x y) := by
  show V m c main_arg1 ((win0_1.rect t).idx (ix2 x y)) = _
  rw [V_main_arg1]
  exact congrArg _ (pos4 t x y)
theorem iblk2 :
    iblk m c 2 t (ix2 x y) = m ((c : Thread nD τ).loc main_arg2) (ix2 x y) := by
  show V m c main_arg2 ((win0_2.rect t).idx (ix2 x y)) = _
  rw [V_main_arg2]
  exact congrArg _ (pos4 t x y)
theorem iblk3 :
    iblk m c 3 t (ix2 x y) = m ((c : Thread nD τ).loc main_arg3) (ix2 x y) := by
  show V m c main_arg3 ((win0_3.rect t).idx (ix2 x y)) = _
  rw [V_main_arg3]
  exact congrArg _ (pos4 t x y)
theorem oblk4 (G : Buf (Elt F) ((c : Thread nD τ).loc main_v0_0)) :
    ((cfg0.win 4).blk t).view.read (Elt F) G (ix2 x y) = G (ix2 x y) :=
  congrArg G (pos4 t x y)
theorem cover4 (i : (⟨2, ![3, 128]⟩ : Shape).Idx) :
    ∃ t : Fin cfg0.N, (cfg0.win 4).flush t = true ∧ i ∈ ((cfg0.win 4).blk t).view.set := by
  obtain ⟨t, h⟩ := block4 i
  refine ⟨t, flush0_4 _, ?_⟩
  show i ∈ ((View.whole main_v0_0).slice (win0_4.rect t)).set
  rw [View.set_slice_whole, Rect.mem_set_unit]
  exact h
theorem oblk5 (G : Buf (Elt F) ((c : Thread nD τ).loc main_v0_1)) :
    ((cfg0.win 5).blk t).view.read (Elt F) G (ix2 x y) = G (ix2 x y) :=
  congrArg G (pos4 t x y)
theorem cover5 (i : (⟨2, ![3, 128]⟩ : Shape).Idx) :
    ∃ t : Fin cfg0.N, (cfg0.win 5).flush t = true ∧ i ∈ ((cfg0.win 5).blk t).view.set := by
  obtain ⟨t, h⟩ := block4 i
  refine ⟨t, flush0_5 _, ?_⟩
  show i ∈ ((View.whole main_v0_1).slice (win0_5.rect t)).set
  rw [View.set_slice_whole, Rect.mem_set_unit]
  exact h
theorem oblk6 (G : Buf (Elt F) ((c : Thread nD τ).loc main_v0_2)) :
    ((cfg0.win 6).blk t).view.read (Elt F) G (ix2 x y) = G (ix2 x y) :=
  congrArg G (pos4 t x y)
theorem cover6 (i : (⟨2, ![3, 128]⟩ : Shape).Idx) :
    ∃ t : Fin cfg0.N, (cfg0.win 6).flush t = true ∧ i ∈ ((cfg0.win 6).blk t).view.set := by
  obtain ⟨t, h⟩ := block4 i
  refine ⟨t, flush0_6 _, ?_⟩
  show i ∈ ((View.whole main_v0_2).slice (win0_6.rect t)).set
  rw [View.set_slice_whole, Rect.mem_set_unit]
  exact h
theorem oblk7 (G : Buf (Elt F) ((c : Thread nD τ).loc main_v0_3)) :
    ((cfg0.win 7).blk t).view.read (Elt F) G (ix2 x y) = G (ix2 x y) :=
  congrArg G (pos4 t x y)
theorem cover7 (i : (⟨2, ![3, 128]⟩ : Shape).Idx) :
    ∃ t : Fin cfg0.N, (cfg0.win 7).flush t = true ∧ i ∈ ((cfg0.win 7).blk t).view.set := by
  obtain ⟨t, h⟩ := block4 i
  refine ⟨t, flush0_7 _, ?_⟩
  show i ∈ ((View.whole main_v0_3).slice (win0_7.rect t)).set
  rw [View.set_slice_whole, Rect.mem_set_unit]
  exact h

theorem at0 : ∀ t : Fin grid0.N, win0_0.index t 0 = 0 ∧ win0_0.index t 1 = 0 ∧ win0_0.index t 2 = 0 := by decide +kernel

/-- Block `t` of window 0, element by element. -/
theorem iblk0 (c : Dev nD) (t : Fin cfg0.N) (x : Fin 8) (y : Fin 3) (z : Fin 128) :
    iblk m c 0 t (ix3 x y z) = m ((c : Thread nD τ).loc main_arg0) (ix3 x y z) := by
  show V m c main_arg0 ((win0_0.rect t).idx (ix3 x y z)) = _
  rw [V_main_arg0]
  refine congrArg _ (funext fun a => Fin.ext ?_)
  match a with
  | ⟨0, _⟩ => show win0_0.index t 0 * 8 + 1 * x.val = x.val; rw [(at0 t).1]; have := ltN t; omega
  | ⟨1, _⟩ => show win0_0.index t 1 * 3 + 1 * y.val = y.val; rw [(at0 t).2.1]; have := ltN t; omega
  | ⟨2, _⟩ => show win0_0.index t 2 * 128 + 1 * z.val = z.val; rw [(at0 t).2.2]; have := ltN t; omega
end Blocks

/-! ## One element of the step -/
section Spec
/-- The gradient: the sum over the devices. -/
def grad (A0 : FVec Ideal ⟨3, ![8, 3, 128]⟩ .f32) (r : Fin 3) (q : Fin 128) : EReal := ∑ d : Fin 8, A0 (ix3 d r q)
end Spec

variable (m : (ℓ : Loc nD τ sig) → Buf (Elt Ideal) ℓ) (ρ : Dev nD → PrngReg)

abbrev a0 (c : Dev nD) : FVec Ideal ⟨3, ![8, 3, 128]⟩ .f32 := m ((c : Thread nD τ).loc main_arg0)
abbrev a1 (c : Dev nD) : FVec Ideal ⟨2, ![3, 128]⟩ .f32 := m ((c : Thread nD τ).loc main_arg1)
abbrev a2 (c : Dev nD) : FVec Ideal ⟨2, ![3, 128]⟩ .f32 := m ((c : Thread nD τ).loc main_arg2)
abbrev a3 (c : Dev nD) : FVec Ideal ⟨2, ![3, 128]⟩ .f32 := m ((c : Thread nD τ).loc main_arg3)

/-- The four result arrays of device `c`: the gradient, the change of the weight, the new moments. -/
abbrev G4 (c : Dev nD) : Buf (Elt Ideal) ((c : Thread nD τ).loc main_v0_0) := fun i : S3x128.Idx => grad (a0 m c) (i 0) (i 1)
abbrev G5 (c : Dev nD) : Buf (Elt Ideal) ((c : Thread nD τ).loc main_v0_1) := fun i : S3x128.Idx =>
  delta (grad (a0 m c) (i 0) (i 1)) (a1 m c (ix2 (i 0) (i 1))) (a2 m c (ix2 (i 0) (i 1))) (a3 m c (ix2 (i 0) (i 1)))
abbrev G6 (c : Dev nD) : Buf (Elt Ideal) ((c : Thread nD τ).loc main_v0_2) := fun i : S3x128.Idx =>
  newM (grad (a0 m c) (i 0) (i 1)) (a2 m c (ix2 (i 0) (i 1)))
abbrev G7 (c : Dev nD) : Buf (Elt Ideal) ((c : Thread nD τ).loc main_v0_3) := fun i : S3x128.Idx =>
  newV (grad (a0 m c) (i 0) (i 1)) (a3 m c (ix2 (i 0) (i 1)))

section Payloads
variable (g u2 v w : Vec Ideal S3x128 .f32) (x : Fin 3) (y : Fin 128)
theorem pay1_at : k0_pay1 (F := Ideal) g v (ix2 x y) = newV (g (ix2 x y)) (v (ix2 x y)) := by
  pointwise [k0_pay1]
  rfl
theorem pay2_at (mo : EReal) (hu : u2 (ix2 x y) = newM (g (ix2 x y)) mo) :
    k0_pay2 (F := Ideal) g u2 v w (ix2 x y) = delta (g (ix2 x y)) (w (ix2 x y)) mo (v (ix2 x y)) := by
  pointwise [k0_pay2, k0_pay1]
  rw [hu]
  rfl
variable (x0 : Vec Ideal S8x3x128 .f32) (x1 x2 x3 : Vec Ideal S3x128 .f32)
theorem pay5_at : k0_pay5 (F := Ideal) x0 x1 x2 x3 (ix2 x y) = (∑ d : Fin 8, x0 (ix3 d x y) : EReal) := by
  pointwise [k0_pay5, k0_pay3]
  rw [Fin.sum_univ_eight]
theorem pay6_at : k0_pay6 (F := Ideal) x0 x1 x2 x3 (ix2 x y) = newM (k0_pay5 (F := Ideal) x0 x1 x2 x3 (ix2 x y)) (x2 (ix2 x y)) := by
  pointwise [k0_pay6, k0_pay5, k0_pay3, k0_pay4]
  rfl
end Payloads

theorem grad_at (c : Dev nD) (t : Fin cfg0.N) (x : Fin 3) (y : Fin 128) :
    k0_pay5 (F := Ideal) (iblk m c 0 t) (iblk m c 1 t) (iblk m c 2 t) (iblk m c 3 t) (ix2 x y) = grad (a0 m c) x y :=
  (pay5_at x y _ _ _ _).trans (Finset.sum_congr rfl fun d _ => iblk0 m c t d x y)

/-- Element `(x, y)` of a block, as an extended real. -/
abbrev ew (v : Vec Ideal S3x128 .f32) (x : Fin 3) (y : Fin 128) : EReal := v (ix2 x y)
theorem ew1 (c : Dev nD) (t : Fin cfg0.N) (x : Fin 3) (y : Fin 128) : ew (iblk m c 1 t) x y = a1 m c (ix2 x y) := iblk1 m c t x y
theorem ew2 (c : Dev nD) (t : Fin cfg0.N) (x : Fin 3) (y : Fin 128) : ew (iblk m c 2 t) x y = a2 m c (ix2 x y) := iblk2 m c t x y
theorem ew3 (c : Dev nD) (t : Fin cfg0.N) (x : Fin 3) (y : Fin 128) : ew (iblk m c 3 t) x y = a3 m c (ix2 x y) := iblk3 m c t x y

theorem flushed4_eq (c : Dev nD) (t : Fin cfg0.N) :
    (dats m 0 c).flushed 4 t = ((cfg0.win 4).blk t).view.read (Elt Ideal) (G4 m c) := by
  rw [Value.flushed4]
  funext i
  obtain ⟨x, y, rfl⟩ := ix2_surj i
  rw [oblk4]
  unfold out0_4
  rw [View.canon_unit_zero Step.hz]
  exact grad_at m c t x y

theorem flushed5_eq (c : Dev nD) (t : Fin cfg0.N) :
    (dats m 0 c).flushed 5 t = ((cfg0.win 5).blk t).view.read (Elt Ideal) (G5 m c) := by
  rw [Value.flushed5]
  funext i
  obtain ⟨x, y, rfl⟩ := ix2_surj i
  rw [oblk5]
  unfold out0_5
  rw [View.canon_unit_zero Step.hz]
  rw [View.ld_unit_zero Step.hz, View.ld_unit_zero Step.hz]
  refine (pay2_at _ _ _ _ x y _ (pay6_at x y _ _ _ _)).trans ?_
  rw [grad_at]
  show delta _ (ew (iblk m c 1 t) x y) (ew (iblk m c 2 t) x y) (ew (iblk m c 3 t) x y) = _
  rw [ew1, ew2, ew3]
  rfl

theorem flushed6_eq (c : Dev nD) (t : Fin cfg0.N) :
    (dats m 0 c).flushed 6 t = ((cfg0.win 6).blk t).view.read (Elt Ideal) (G6 m c) := by
  rw [Value.flushed6]
  funext i
  obtain ⟨x, y, rfl⟩ := ix2_surj i
  rw [oblk6]
  unfold out0_6
  rw [View.canon_unit_zero Step.hz]
  refine (pay6_at x y _ _ _ _).trans ?_
  rw [grad_at]
  show newM _ (ew (iblk m c 2 t) x y) = _
  rw [ew2]
  rfl

theorem flushed7_eq (c : Dev nD) (t : Fin cfg0.N) :
    (dats m 0 c).flushed 7 t = ((cfg0.win 7).blk t).view.read (Elt Ideal) (G7 m c) := by
  rw [Value.flushed7]
  funext i
  obtain ⟨x, y, rfl⟩ := ix2_surj i
  rw [oblk7]
  unfold out0_7
  rw [View.canon_unit_zero Step.hz]
  rw [View.ld_unit_zero Step.hz]
  refine (pay1_at _ _ x y).trans ?_
  rw [grad_at]
  show newV _ (ew (iblk m c 3 t) x y) = _
  rw [ew3]
  rfl

/-- The run of the kernel: the result arrays at the functions above, the arguments unchanged. -/
theorem run : θ_run defs (onTc (τ := τ) (main (F := Ideal))) ⟨m, fun _ => 0, ρ⟩ fun r => ∀ c : Dev nD,
      r.2.mem ((c : Thread nD τ).loc main_v0_0) = G4 m c
      ∧ r.2.mem ((c : Thread nD τ).loc main_v0_1) = G5 m c
      ∧ r.2.mem ((c : Thread nD τ).loc main_v0_2) = G6 m c
      ∧ r.2.mem ((c : Thread nD τ).loc main_v0_3) = G7 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((dats m 0 c).arrAt_eq_of_cover 4 (G4 m c) (fun t _ => flushed4_eq m c t) cover4),
      (h c).2.1.trans ((dats m 0 c).arrAt_eq_of_cover 5 (G5 m c) (fun t _ => flushed5_eq m c t) cover5),
      (h c).2.2.1.trans ((dats m 0 c).arrAt_eq_of_cover 6 (G6 m c) (fun t _ => flushed6_eq m c t) cover6),
      (h c).2.2.2.1.trans ((dats m 0 c).arrAt_eq_of_cover 7 (G7 m c) (fun t _ => flushed7_eq m c t) cover7), (h c).2.2.2.2⟩)
    (Value.run_blocks m ρ)

section Reference
open Reference24Ideal.Read
variable (x0 : FVec Ideal ⟨3, ![8, 3, 128]⟩ .f32) (x1 x2 x3 : FVec Ideal ⟨2, ![3, 128]⟩ .f32) (r : Fin 3) (q : Fin 128)
theorem ref0 : val_main_v0 (F := Ideal) x0 (ix2 r q) = grad x0 r q := by
  pointwise [val_main_cst, val_main_v0]
  rfl
theorem ref1 : val_main_v24 (F := Ideal) x0 x1 x2 x3 (ix2 r q) = delta (grad x0 r q) (x1 (ix2 r q)) (x2 (ix2 r q)) (x3 (ix2 r q)) := by
  pointwise [val_main_cst, val_main_cst_0, val_main_cst_1, val_main_cst_2, val_main_cst_3, val_main_cst_4, val_main_cst_5, val_main_cst_6, val_main_cst_7, val_main_cst_8, val_main_v0, val_main_v1, val_main_v10, val_main_v11, val_main_v12, val_main_v13, val_main_v14, val_main_v15, val_main_v16, val_main_v17, val_main_v18, val_main_v19, val_main_v2, val_main_v20, val_main_v21, val_main_v22, val_main_v23, val_main_v24, val_main_v3, val_main_v4, val_main_v5, val_main_v6, val_main_v7, val_main_v8, val_main_v9]
  rfl
theorem ref2 : val_main_v5 (F := Ideal) x0 x2 (ix2 r q) = newM (grad x0 r q) (x2 (ix2 r q)) := by
  pointwise [val_main_cst, val_main_cst_0, val_main_cst_1, val_main_v0, val_main_v1, val_main_v2, val_main_v3, val_main_v4, val_main_v5]
  rfl
theorem ref3 : val_main_v11 (F := Ideal) x0 x3 (ix2 r q) = newV (grad x0 r q) (x3 (ix2 r q)) := by
  pointwise [val_main_cst, val_main_cst_2, val_main_cst_3, val_main_v0, val_main_v10, val_main_v11, val_main_v6, val_main_v7, val_main_v8, val_main_v9]
  rfl
end Reference

theorem frame_kernel : quiescent_Kernel24 := fun m ρ _ => Kernel24.Gen.frame m ρ
theorem frame_kernelIdeal : quiescent_Kernel24Ideal := fun m ρ _ => Kernel24Ideal.Gen.frame m ρ
theorem frame_reference : quiescent_Reference24Ideal := fun m ρ _ =>
  (θ_run Reference24Ideal.defs _ _).mono (fun r h => ⟨fun c => (h c).2.2.2.2, sem_eq_zero_of_no_sems (by decide) r.2⟩)
    (Reference24Ideal.Value.run (F := Ideal) m ρ)

theorem algebraic : algebraic_Kernel24Ideal_Reference24Ideal := by
  intro m ρ m' ρ' _ hagree
  refine ⟨G4 m, G5 m, G6 m, G7 m, run m ρ, ?_⟩
  refine (θ_run Reference24Ideal.defs _ _).mono (fun _ h c => ⟨(h c).1.trans ?_, (h c).2.1.trans ?_, (h c).2.2.1.trans ?_, (h c).2.2.2.1.trans ?_, (h c).2.2.2.2⟩) (Reference24Ideal.Value.run (F := Ideal) m' ρ')
  · rw [(hagree c).1]
    funext i
    obtain ⟨r, q, rfl⟩ := Step.ix2_surj i
    exact ref0 (a0 m c) r q
  · rw [(hagree c).1, (hagree c).2.1, (hagree c).2.2.1, (hagree c).2.2.2]
    funext i
    obtain ⟨r, q, rfl⟩ := Step.ix2_surj i
    exact ref1 (a0 m c) (a1 m c) (a2 m c) (a3 m c) r q
  · rw [(hagree c).1, (hagree c).2.2.1]
    funext i
    obtain ⟨r, q, rfl⟩ := Step.ix2_surj i
    exact ref2 (a0 m c) (a2 m c) r q
  · rw [(hagree c).1, (hagree c).2.2.2]
    funext i
    obtain ⟨r, q, rfl⟩ := Step.ix2_surj i
    exact ref3 (a0 m c) (a3 m c) r q

end P24
-- ==== Proof.P25.lean ====
module

public import proofs.«01_k».proof.Proof.Step
public import proofs.«01_k».proof.Proof.Gen.Kernel25.Frame
public import proofs.«01_k».proof.Proof.Gen.Kernel25Ideal.Value
public import proofs.«01_k».proof.Proof.Gen.Reference25Ideal.Read
public import proofs.«01_k».proof.Proof.Gen.Reference25Ideal.Run

@[expose] public section

set_option maxRecDepth 16384

noncomputable section

/-! # The claims about `adamw_ffn_conv_w`: the sum of the eight devices' gradients and the optimiser's step, 3 × 704 -/

namespace Cert.P25

open Kernel25Ideal Kernel25Ideal.Gen Idealize.ShloMosaic Idealize.ShloMosaic.TcCoe Idealize.SL.Sem
open Step

section Blocks
variable {F : FTy → Type} [FloatOps F]
variable (m : (ℓ : Loc nD τ sig) → Buf (Elt F) ℓ) (c : Dev nD) (t : Fin cfg0.N) (x : Fin 3) (y : Fin 704)

theorem ltN (t : Fin cfg0.N) : t.val < 1 := lt_of_lt_of_eq t.isLt N_0

theorem at4 : ∀ t : Fin grid0.N, win0_4.index t 0 = 0 ∧ win0_4.index t 1 = 0 := by decide +kernel

/-- Where block `t` lies in its array, for the windows 1, 2, 3 and the results 4, 5, 6, 7, which move alike. -/
theorem pos4 :
    ((win0_4.rect t).idx (ix2 x y) : (⟨2, ![3, 704]⟩ : Shape).Idx) = ix2 x y := by
  refine funext fun a => Fin.ext ?_
  match a with
  | ⟨0, _⟩ => show win0_4.index t 0 * 3 + 1 * x.val = x.val; rw [(at4 t).1]; omega
  | ⟨1, _⟩ => show win0_4.index t 1 * 704 + 1 * y.val = y.val; rw [(at4 t).2]; omega
/-- Every element of such an array lies in one block. -/
theorem block4 (i : (⟨2, ![3, 704]⟩ : Shape).Idx) :
    ∃ t : Fin cfg0.N, ∀ a : Fin 2, win0_4.index t a * ![3, 704] a ≤ (i a : Nat) ∧ (i a : Nat) < win0_4.index t a * ![3, 704] a + ![3, 704] a := by
  have h0 : (i 0 : Nat) < 3 := (i 0).isLt
  have h1 : (i 1 : Nat) < 704 := (i 1).isLt
  have hN : cfg0.N = 1 := N_0
  let t : Fin cfg0.N := ⟨(i 0 : Nat) / 3, by omega⟩
  refine ⟨t, fun a => ?_⟩
  match a with
  | ⟨0, _⟩ =>
    show win0_4.index t 0 * 3 ≤ (i 0 : Nat) ∧ (i 0 : Nat) < win0_4.index t 0 * 3 + 3
    rw [(at4 t).1]; dsimp only [t]; omega
  | ⟨1, _⟩ =>
    show win0_4.index t 1 * 704 ≤ (i 1 : Nat) ∧ (i 1 : Nat) < win0_4.index t 1 * 704 + 704
    rw [(at4 t).2]; dsimp only [t]; omega
theorem iblk1 :
    iblk m c 1 t (ix2 x y) = m ((c : Thread nD τ).loc main_arg1) (ix2 x y) := by
  show V m c main_arg1 ((win0_1.rect t).idx (ix2 x y)) = _
  rw [V_main_arg1]
  exact congrArg _ (pos4 t x y)
theorem iblk2 :
    iblk m c 2 t (ix2 x y) = m ((c : Thread nD τ).loc main_arg2) (ix2 x y) := by
  show V m c main_arg2 ((win0_2.rect t).idx (ix2 x y)) = _
  rw [V_main_arg2]
  exact congrArg _ (pos4 t x y)
theorem iblk3 :
    iblk m c 3 t (ix2 x y) = m ((c : Thread nD τ).loc main_arg3) (ix2 x y) := by
  show V m c main_arg3 ((win0_3.rect t).idx (ix2 x y)) = _
  rw [V_main_arg3]
  exact congrArg _ (pos4 t x y)
theorem oblk4 (G : Buf (Elt F) ((c : Thread nD τ).loc main_v0_0)) :
    ((cfg0.win 4).blk t).view.read (Elt F) G (ix2 x y) = G (ix2 x y) :=
  congrArg G (pos4 t x y)
theorem cover4 (i : (⟨2, ![3, 704]⟩ : Shape).Idx) :
    ∃ t : Fin cfg0.N, (cfg0.win 4).flush t = true ∧ i ∈ ((cfg0.win 4).blk t).view.set := by
  obtain ⟨t, h⟩ := block4 i
  refine ⟨t, flush0_4 _, ?_⟩
  show i ∈ ((View.whole main_v0_0).slice (win0_4.rect t)).set
  rw [View.set_slice_whole, Rect.mem_set_unit]
  exact h
theorem oblk5 (G : Buf (Elt F) ((c : Thread nD τ).loc main_v0_1)) :
    ((cfg0.win 5).blk t).view.read (Elt F) G (ix2 x y) = G (ix2 x y) :=
  congrArg G (pos4 t x y)
theorem cover5 (i : (⟨2, ![3, 704]⟩ : Shape).Idx) :
    ∃ t : Fin cfg0.N, (cfg0.win 5).flush t = true ∧ i ∈ ((cfg0.win 5).blk t).view.set := by
  obtain ⟨t, h⟩ := block4 i
  refine ⟨t, flush0_5 _, ?_⟩
  show i ∈ ((View.whole main_v0_1).slice (win0_5.rect t)).set
  rw [View.set_slice_whole, Rect.mem_set_unit]
  exact h
theorem oblk6 (G : Buf (Elt F) ((c : Thread nD τ).loc main_v0_2)) :
    ((cfg0.win 6).blk t).view.read (Elt F) G (ix2 x y) = G (ix2 x y) :=
  congrArg G (pos4 t x y)
theorem cover6 (i : (⟨2, ![3, 704]⟩ : Shape).Idx) :
    ∃ t : Fin cfg0.N, (cfg0.win 6).flush t = true ∧ i ∈ ((cfg0.win 6).blk t).view.set := by
  obtain ⟨t, h⟩ := block4 i
  refine ⟨t, flush0_6 _, ?_⟩
  show i ∈ ((View.whole main_v0_2).slice (win0_6.rect t)).set
  rw [View.set_slice_whole, Rect.mem_set_unit]
  exact h
theorem oblk7 (G : Buf (Elt F) ((c : Thread nD τ).loc main_v0_3)) :
    ((cfg0.win 7).blk t).view.read (Elt F) G (ix2 x y) = G (ix2 x y) :=
  congrArg G (pos4 t x y)
theorem cover7 (i : (⟨2, ![3, 704]⟩ : Shape).Idx) :
    ∃ t : Fin cfg0.N, (cfg0.win 7).flush t = true ∧ i ∈ ((cfg0.win 7).blk t).view.set := by
  obtain ⟨t, h⟩ := block4 i
  refine ⟨t, flush0_7 _, ?_⟩
  show i ∈ ((View.whole main_v0_3).slice (win0_7.rect t)).set
  rw [View.set_slice_whole, Rect.mem_set_unit]
  exact h

theorem at0 : ∀ t : Fin grid0.N, win0_0.index t 0 = 0 ∧ win0_0.index t 1 = 0 ∧ win0_0.index t 2 = 0 := by decide +kernel

/-- Block `t` of window 0, element by element. -/
theorem iblk0 (c : Dev nD) (t : Fin cfg0.N) (x : Fin 8) (y : Fin 3) (z : Fin 704) :
    iblk m c 0 t (ix3 x y z) = m ((c : Thread nD τ).loc main_arg0) (ix3 x y z) := by
  show V m c main_arg0 ((win0_0.rect t).idx (ix3 x y z)) = _
  rw [V_main_arg0]
  refine congrArg _ (funext fun a => Fin.ext ?_)
  match a with
  | ⟨0, _⟩ => show win0_0.index t 0 * 8 + 1 * x.val = x.val; rw [(at0 t).1]; have := ltN t; omega
  | ⟨1, _⟩ => show win0_0.index t 1 * 3 + 1 * y.val = y.val; rw [(at0 t).2.1]; have := ltN t; omega
  | ⟨2, _⟩ => show win0_0.index t 2 * 704 + 1 * z.val = z.val; rw [(at0 t).2.2]; have := ltN t; omega
end Blocks

/-! ## One element of the step -/
section Spec
/-- The gradient: the sum over the devices. -/
def grad (A0 : FVec Ideal ⟨3, ![8, 3, 704]⟩ .f32) (r : Fin 3) (q : Fin 704) : EReal := ∑ d : Fin 8, A0 (ix3 d r q)
end Spec

variable (m : (ℓ : Loc nD τ sig) → Buf (Elt Ideal) ℓ) (ρ : Dev nD → PrngReg)

abbrev a0 (c : Dev nD) : FVec Ideal ⟨3, ![8, 3, 704]⟩ .f32 := m ((c : Thread nD τ).loc main_arg0)
abbrev a1 (c : Dev nD) : FVec Ideal ⟨2, ![3, 704]⟩ .f32 := m ((c : Thread nD τ).loc main_arg1)
abbrev a2 (c : Dev nD) : FVec Ideal ⟨2, ![3, 704]⟩ .f32 := m ((c : Thread nD τ).loc main_arg2)
abbrev a3 (c : Dev nD) : FVec Ideal ⟨2, ![3, 704]⟩ .f32 := m ((c : Thread nD τ).loc main_arg3)

/-- The four result arrays of device `c`: the gradient, the change of the weight, the new moments. -/
abbrev G4 (c : Dev nD) : Buf (Elt Ideal) ((c : Thread nD τ).loc main_v0_0) := fun i : S3x704.Idx => grad (a0 m c) (i 0) (i 1)
abbrev G5 (c : Dev nD) : Buf (Elt Ideal) ((c : Thread nD τ).loc main_v0_1) := fun i : S3x704.Idx =>
  delta (grad (a0 m c) (i 0) (i 1)) (a1 m c (ix2 (i 0) (i 1))) (a2 m c (ix2 (i 0) (i 1))) (a3 m c (ix2 (i 0) (i 1)))
abbrev G6 (c : Dev nD) : Buf (Elt Ideal) ((c : Thread nD τ).loc main_v0_2) := fun i : S3x704.Idx =>
  newM (grad (a0 m c) (i 0) (i 1)) (a2 m c (ix2 (i 0) (i 1)))
abbrev G7 (c : Dev nD) : Buf (Elt Ideal) ((c : Thread nD τ).loc main_v0_3) := fun i : S3x704.Idx =>
  newV (grad (a0 m c) (i 0) (i 1)) (a3 m c (ix2 (i 0) (i 1)))

section Payloads
variable (g u2 v w : Vec Ideal S3x704 .f32) (x : Fin 3) (y : Fin 704)
theorem pay1_at : k0_pay1 (F := Ideal) g v (ix2 x y) = newV (g (ix2 x y)) (v (ix2 x y)) := by
  pointwise [k0_pay1]
  rfl
theorem pay2_at (mo : EReal) (hu : u2 (ix2 x y) = newM (g (ix2 x y)) mo) :
    k0_pay2 (F := Ideal) g u2 v w (ix2 x y) = delta (g (ix2 x y)) (w (ix2 x y)) mo (v (ix2 x y)) := by
  pointwise [k0_pay2, k0_pay1]
  rw [hu]
  rfl
variable (x0 : Vec Ideal S8x3x704 .f32) (x1 x2 x3 : Vec Ideal S3x704 .f32)
theorem pay5_at : k0_pay5 (F := Ideal) x0 x1 x2 x3 (ix2 x y) = (∑ d : Fin 8, x0 (ix3 d x y) : EReal) := by
  pointwise [k0_pay5, k0_pay3]
  rw [Fin.sum_univ_eight]
theorem pay6_at : k0_pay6 (F := Ideal) x0 x1 x2 x3 (ix2 x y) = newM (k0_pay5 (F := Ideal) x0 x1 x2 x3 (ix2 x y)) (x2 (ix2 x y)) := by
  pointwise [k0_pay6, k0_pay5, k0_pay3, k0_pay4]
  rfl
end Payloads

theorem grad_at (c : Dev nD) (t : Fin cfg0.N) (x : Fin 3) (y : Fin 704) :
    k0_pay5 (F := Ideal) (iblk m c 0 t) (iblk m c 1 t) (iblk m c 2 t) (iblk m c 3 t) (ix2 x y) = grad (a0 m c) x y :=
  (pay5_at x y _ _ _ _).trans (Finset.sum_congr rfl fun d _ => iblk0 m c t d x y)

/-- Element `(x, y)` of a block, as an extended real. -/
abbrev ew (v : Vec Ideal S3x704 .f32) (x : Fin 3) (y : Fin 704) : EReal := v (ix2 x y)
theorem ew1 (c : Dev nD) (t : Fin cfg0.N) (x : Fin 3) (y : Fin 704) : ew (iblk m c 1 t) x y = a1 m c (ix2 x y) := iblk1 m c t x y
theorem ew2 (c : Dev nD) (t : Fin cfg0.N) (x : Fin 3) (y : Fin 704) : ew (iblk m c 2 t) x y = a2 m c (ix2 x y) := iblk2 m c t x y
theorem ew3 (c : Dev nD) (t : Fin cfg0.N) (x : Fin 3) (y : Fin 704) : ew (iblk m c 3 t) x y = a3 m c (ix2 x y) := iblk3 m c t x y

theorem flushed4_eq (c : Dev nD) (t : Fin cfg0.N) :
    (dats m 0 c).flushed 4 t = ((cfg0.win 4).blk t).view.read (Elt Ideal) (G4 m c) := by
  rw [Value.flushed4]
  funext i
  obtain ⟨x, y, rfl⟩ := ix2_surj i
  rw [oblk4]
  unfold out0_4
  rw [View.canon_unit_zero Step.hz]
  exact grad_at m c t x y

theorem flushed5_eq (c : Dev nD) (t : Fin cfg0.N) :
    (dats m 0 c).flushed 5 t = ((cfg0.win 5).blk t).view.read (Elt Ideal) (G5 m c) := by
  rw [Value.flushed5]
  funext i
  obtain ⟨x, y, rfl⟩ := ix2_surj i
  rw [oblk5]
  unfold out0_5
  rw [View.canon_unit_zero Step.hz]
  rw [View.ld_unit_zero Step.hz, View.ld_unit_zero Step.hz]
  refine (pay2_at _ _ _ _ x y _ (pay6_at x y _ _ _ _)).trans ?_
  rw [grad_at]
  show delta _ (ew (iblk m c 1 t) x y) (ew (iblk m c 2 t) x y) (ew (iblk m c 3 t) x y) = _
  rw [ew1, ew2, ew3]
  rfl

theorem flushed6_eq (c : Dev nD) (t : Fin cfg0.N) :
    (dats m 0 c).flushed 6 t = ((cfg0.win 6).blk t).view.read (Elt Ideal) (G6 m c) := by
  rw [Value.flushed6]
  funext i
  obtain ⟨x, y, rfl⟩ := ix2_surj i
  rw [oblk6]
  unfold out0_6
  rw [View.canon_unit_zero Step.hz]
  refine (pay6_at x y _ _ _ _).trans ?_
  rw [grad_at]
  show newM _ (ew (iblk m c 2 t) x y) = _
  rw [ew2]
  rfl

theorem flushed7_eq (c : Dev nD) (t : Fin cfg0.N) :
    (dats m 0 c).flushed 7 t = ((cfg0.win 7).blk t).view.read (Elt Ideal) (G7 m c) := by
  rw [Value.flushed7]
  funext i
  obtain ⟨x, y, rfl⟩ := ix2_surj i
  rw [oblk7]
  unfold out0_7
  rw [View.canon_unit_zero Step.hz]
  rw [View.ld_unit_zero Step.hz]
  refine (pay1_at _ _ x y).trans ?_
  rw [grad_at]
  show newV _ (ew (iblk m c 3 t) x y) = _
  rw [ew3]
  rfl

/-- The run of the kernel: the result arrays at the functions above, the arguments unchanged. -/
theorem run : θ_run defs (onTc (τ := τ) (main (F := Ideal))) ⟨m, fun _ => 0, ρ⟩ fun r => ∀ c : Dev nD,
      r.2.mem ((c : Thread nD τ).loc main_v0_0) = G4 m c
      ∧ r.2.mem ((c : Thread nD τ).loc main_v0_1) = G5 m c
      ∧ r.2.mem ((c : Thread nD τ).loc main_v0_2) = G6 m c
      ∧ r.2.mem ((c : Thread nD τ).loc main_v0_3) = G7 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((dats m 0 c).arrAt_eq_of_cover 4 (G4 m c) (fun t _ => flushed4_eq m c t) cover4),
      (h c).2.1.trans ((dats m 0 c).arrAt_eq_of_cover 5 (G5 m c) (fun t _ => flushed5_eq m c t) cover5),
      (h c).2.2.1.trans ((dats m 0 c).arrAt_eq_of_cover 6 (G6 m c) (fun t _ => flushed6_eq m c t) cover6),
      (h c).2.2.2.1.trans ((dats m 0 c).arrAt_eq_of_cover 7 (G7 m c) (fun t _ => flushed7_eq m c t) cover7), (h c).2.2.2.2⟩)
    (Value.run_blocks m ρ)

section Reference
open Reference25Ideal.Read
variable (x0 : FVec Ideal ⟨3, ![8, 3, 704]⟩ .f32) (x1 x2 x3 : FVec Ideal ⟨2, ![3, 704]⟩ .f32) (r : Fin 3) (q : Fin 704)
theorem ref0 : val_main_v0 (F := Ideal) x0 (ix2 r q) = grad x0 r q := by
  pointwise [val_main_cst, val_main_v0]
  rfl
theorem ref1 : val_main_v24 (F := Ideal) x0 x1 x2 x3 (ix2 r q) = delta (grad x0 r q) (x1 (ix2 r q)) (x2 (ix2 r q)) (x3 (ix2 r q)) := by
  pointwise [val_main_cst, val_main_cst_0, val_main_cst_1, val_main_cst_2, val_main_cst_3, val_main_cst_4, val_main_cst_5, val_main_cst_6, val_main_cst_7, val_main_cst_8, val_main_v0, val_main_v1, val_main_v10, val_main_v11, val_main_v12, val_main_v13, val_main_v14, val_main_v15, val_main_v16, val_main_v17, val_main_v18, val_main_v19, val_main_v2, val_main_v20, val_main_v21, val_main_v22, val_main_v23, val_main_v24, val_main_v3, val_main_v4, val_main_v5, val_main_v6, val_main_v7, val_main_v8, val_main_v9]
  rfl
theorem ref2 : val_main_v5 (F := Ideal) x0 x2 (ix2 r q) = newM (grad x0 r q) (x2 (ix2 r q)) := by
  pointwise [val_main_cst, val_main_cst_0, val_main_cst_1, val_main_v0, val_main_v1, val_main_v2, val_main_v3, val_main_v4, val_main_v5]
  rfl
theorem ref3 : val_main_v11 (F := Ideal) x0 x3 (ix2 r q) = newV (grad x0 r q) (x3 (ix2 r q)) := by
  pointwise [val_main_cst, val_main_cst_2, val_main_cst_3, val_main_v0, val_main_v10, val_main_v11, val_main_v6, val_main_v7, val_main_v8, val_main_v9]
  rfl
end Reference

theorem frame_kernel : quiescent_Kernel25 := fun m ρ _ => Kernel25.Gen.frame m ρ
theorem frame_kernelIdeal : quiescent_Kernel25Ideal := fun m ρ _ => Kernel25Ideal.Gen.frame m ρ
theorem frame_reference : quiescent_Reference25Ideal := fun m ρ _ =>
  (θ_run Reference25Ideal.defs _ _).mono (fun r h => ⟨fun c => (h c).2.2.2.2, sem_eq_zero_of_no_sems (by decide) r.2⟩)
    (Reference25Ideal.Value.run (F := Ideal) m ρ)

theorem algebraic : algebraic_Kernel25Ideal_Reference25Ideal := by
  intro m ρ m' ρ' _ hagree
  refine ⟨G4 m, G5 m, G6 m, G7 m, run m ρ, ?_⟩
  refine (θ_run Reference25Ideal.defs _ _).mono (fun _ h c => ⟨(h c).1.trans ?_, (h c).2.1.trans ?_, (h c).2.2.1.trans ?_, (h c).2.2.2.1.trans ?_, (h c).2.2.2.2⟩) (Reference25Ideal.Value.run (F := Ideal) m' ρ')
  · rw [(hagree c).1]
    funext i
    obtain ⟨r, q, rfl⟩ := Step.ix2_surj i
    exact ref0 (a0 m c) r q
  · rw [(hagree c).1, (hagree c).2.1, (hagree c).2.2.1, (hagree c).2.2.2]
    funext i
    obtain ⟨r, q, rfl⟩ := Step.ix2_surj i
    exact ref1 (a0 m c) (a1 m c) (a2 m c) (a3 m c) r q
  · rw [(hagree c).1, (hagree c).2.2.1]
    funext i
    obtain ⟨r, q, rfl⟩ := Step.ix2_surj i
    exact ref2 (a0 m c) (a2 m c) r q
  · rw [(hagree c).1, (hagree c).2.2.2]
    funext i
    obtain ⟨r, q, rfl⟩ := Step.ix2_surj i
    exact ref3 (a0 m c) (a3 m c) r q

end P25
-- ==== Proof.P26.lean ====
module

public import proofs.«01_k».proof.Proof.Step
public import proofs.«01_k».proof.Proof.Gen.Kernel26.Frame
public import proofs.«01_k».proof.Proof.Gen.Kernel26Ideal.Frame
public import proofs.«01_k».proof.Proof.Gen.Reference26Ideal.Read
public import proofs.«01_k».proof.Proof.Gen.Reference26Ideal.Run

@[expose] public section

set_option maxRecDepth 16384

noncomputable section

/-! # The claims about `adamw_norm_tok`: the sum of the eight devices' gradients and the optimiser's step of the first norm's gain, packed as 16 × 128 -/

namespace Cert.P26

open Kernel26Ideal Kernel26Ideal.Gen Idealize.ShloMosaic Idealize.ShloMosaic.TcCoe Idealize.SL.Sem
open Step

section Blocks
variable {F : FTy → Type} [FloatOps F]
variable (m : (ℓ : Loc nD τ sig) → Buf (Elt F) ℓ) (c : Dev nD) (t : Fin cfg0.N) (x : Fin 16) (y : Fin 128)

theorem ltN (t : Fin cfg0.N) : t.val < 1 := lt_of_lt_of_eq t.isLt N_0

theorem at4 : ∀ t : Fin grid0.N, win0_4.index t 0 = 0 ∧ win0_4.index t 1 = 0 := by decide +kernel

/-- Where block `t` lies in its array, for the windows 1, 2, 3 and the results 4, 5, 6, 7, which move alike. -/
theorem pos4 :
    ((win0_4.rect t).idx (ix2 x y) : (⟨2, ![16, 128]⟩ : Shape).Idx) = ix2 x y := by
  refine funext fun a => Fin.ext ?_
  match a with
  | ⟨0, _⟩ => show win0_4.index t 0 * 16 + 1 * x.val = x.val; rw [(at4 t).1]; omega
  | ⟨1, _⟩ => show win0_4.index t 1 * 128 + 1 * y.val = y.val; rw [(at4 t).2]; omega
/-- Every element of such an array lies in one block. -/
theorem block4 (i : (⟨2, ![16, 128]⟩ : Shape).Idx) :
    ∃ t : Fin cfg0.N, ∀ a : Fin 2, win0_4.index t a * ![16, 128] a ≤ (i a : Nat) ∧ (i a : Nat) < win0_4.index t a * ![16, 128] a + ![16, 128] a := by
  have h0 : (i 0 : Nat) < 16 := (i 0).isLt
  have h1 : (i 1 : Nat) < 128 := (i 1).isLt
  have hN : cfg0.N = 1 := N_0
  let t : Fin cfg0.N := ⟨(i 0 : Nat) / 16, by omega⟩
  refine ⟨t, fun a => ?_⟩
  match a with
  | ⟨0, _⟩ =>
    show win0_4.index t 0 * 16 ≤ (i 0 : Nat) ∧ (i 0 : Nat) < win0_4.index t 0 * 16 + 16
    rw [(at4 t).1]; dsimp only [t]; omega
  | ⟨1, _⟩ =>
    show win0_4.index t 1 * 128 ≤ (i 1 : Nat) ∧ (i 1 : Nat) < win0_4.index t 1 * 128 + 128
    rw [(at4 t).2]; dsimp only [t]; omega
theorem iblk1 :
    iblk m c 1 t (ix2 x y) = V m c main_v3 (ix2 x y) := by
  show V m c main_v3 ((win0_1.rect t).idx (ix2 x y)) = _
  exact congrArg _ (pos4 t x y)
theorem iblk2 :
    iblk m c 2 t (ix2 x y) = V m c main_v5 (ix2 x y) := by
  show V m c main_v5 ((win0_2.rect t).idx (ix2 x y)) = _
  exact congrArg _ (pos4 t x y)
theorem iblk3 :
    iblk m c 3 t (ix2 x y) = V m c main_v7 (ix2 x y) := by
  show V m c main_v7 ((win0_3.rect t).idx (ix2 x y)) = _
  exact congrArg _ (pos4 t x y)
theorem oblk4 (G : Buf (Elt F) ((c : Thread nD τ).loc main_v8_0)) :
    ((cfg0.win 4).blk t).view.read (Elt F) G (ix2 x y) = G (ix2 x y) :=
  congrArg G (pos4 t x y)
theorem cover4 (i : (⟨2, ![16, 128]⟩ : Shape).Idx) :
    ∃ t : Fin cfg0.N, (cfg0.win 4).flush t = true ∧ i ∈ ((cfg0.win 4).blk t).view.set := by
  obtain ⟨t, h⟩ := block4 i
  refine ⟨t, flush0_4 _, ?_⟩
  show i ∈ ((View.whole main_v8_0).slice (win0_4.rect t)).set
  rw [View.set_slice_whole, Rect.mem_set_unit]
  exact h
theorem oblk5 (G : Buf (Elt F) ((c : Thread nD τ).loc main_v8_1)) :
    ((cfg0.win 5).blk t).view.read (Elt F) G (ix2 x y) = G (ix2 x y) :=
  congrArg G (pos4 t x y)
theorem cover5 (i : (⟨2, ![16, 128]⟩ : Shape).Idx) :
    ∃ t : Fin cfg0.N, (cfg0.win 5).flush t = true ∧ i ∈ ((cfg0.win 5).blk t).view.set := by
  obtain ⟨t, h⟩ := block4 i
  refine ⟨t, flush0_5 _, ?_⟩
  show i ∈ ((View.whole main_v8_1).slice (win0_5.rect t)).set
  rw [View.set_slice_whole, Rect.mem_set_unit]
  exact h
theorem oblk6 (G : Buf (Elt F) ((c : Thread nD τ).loc main_v8_2)) :
    ((cfg0.win 6).blk t).view.read (Elt F) G (ix2 x y) = G (ix2 x y) :=
  congrArg G (pos4 t x y)
theorem cover6 (i : (⟨2, ![16, 128]⟩ : Shape).Idx) :
    ∃ t : Fin cfg0.N, (cfg0.win 6).flush t = true ∧ i ∈ ((cfg0.win 6).blk t).view.set := by
  obtain ⟨t, h⟩ := block4 i
  refine ⟨t, flush0_6 _, ?_⟩
  show i ∈ ((View.whole main_v8_2).slice (win0_6.rect t)).set
  rw [View.set_slice_whole, Rect.mem_set_unit]
  exact h
theorem oblk7 (G : Buf (Elt F) ((c : Thread nD τ).loc main_v8_3)) :
    ((cfg0.win 7).blk t).view.read (Elt F) G (ix2 x y) = G (ix2 x y) :=
  congrArg G (pos4 t x y)
theorem cover7 (i : (⟨2, ![16, 128]⟩ : Shape).Idx) :
    ∃ t : Fin cfg0.N, (cfg0.win 7).flush t = true ∧ i ∈ ((cfg0.win 7).blk t).view.set := by
  obtain ⟨t, h⟩ := block4 i
  refine ⟨t, flush0_7 _, ?_⟩
  show i ∈ ((View.whole main_v8_3).slice (win0_7.rect t)).set
  rw [View.set_slice_whole, Rect.mem_set_unit]
  exact h

theorem at0 : ∀ t : Fin grid0.N, win0_0.index t 0 = 0 ∧ win0_0.index t 1 = 0 ∧ win0_0.index t 2 = 0 := by decide +kernel

/-- Block `t` of window 0, element by element. -/
theorem iblk0 (c : Dev nD) (t : Fin cfg0.N) (x : Fin 8) (y : Fin 16) (z : Fin 128) :
    iblk m c 0 t (ix3 x y z) = V m c main_v1 (ix3 x y z) := by
  show V m c main_v1 ((win0_0.rect t).idx (ix3 x y z)) = _
  refine congrArg _ (funext fun a => Fin.ext ?_)
  match a with
  | ⟨0, _⟩ => show win0_0.index t 0 * 8 + 1 * x.val = x.val; rw [(at0 t).1]; have := ltN t; omega
  | ⟨1, _⟩ => show win0_0.index t 1 * 16 + 1 * y.val = y.val; rw [(at0 t).2.1]; have := ltN t; omega
  | ⟨2, _⟩ => show win0_0.index t 2 * 128 + 1 * z.val = z.val; rw [(at0 t).2.2]; have := ltN t; omega
end Blocks

/-! ## One element of the step -/
section Spec
/-- The gradient: the sum over the devices. -/
def grad (A0 : FVec Ideal ⟨3, ![8, 16, 128]⟩ .f32) (r : Fin 16) (q : Fin 128) : EReal := ∑ d : Fin 8, A0 (ix3 d r q)
end Spec

variable (m : (ℓ : Loc nD τ sig) → Buf (Elt Ideal) ℓ) (ρ : Dev nD → PrngReg)

abbrev a0 (c : Dev nD) : FVec Ideal ⟨3, ![8, 16, 128]⟩ .f32 := V m c main_v1
abbrev a1 (c : Dev nD) : FVec Ideal ⟨2, ![16, 128]⟩ .f32 := V m c main_v3
abbrev a2 (c : Dev nD) : FVec Ideal ⟨2, ![16, 128]⟩ .f32 := V m c main_v5
abbrev a3 (c : Dev nD) : FVec Ideal ⟨2, ![16, 128]⟩ .f32 := V m c main_v7

/-- The four result arrays of device `c`: the gradient, the change of the weight, the new moments. -/
abbrev G4 (c : Dev nD) : Buf (Elt Ideal) ((c : Thread nD τ).loc main_v8_0) := fun i : S16x128.Idx => grad (a0 m c) (i 0) (i 1)
abbrev G5 (c : Dev nD) : Buf (Elt Ideal) ((c : Thread nD τ).loc main_v8_1) := fun i : S16x128.Idx =>
  delta (grad (a0 m c) (i 0) (i 1)) (a1 m c (ix2 (i 0) (i 1))) (a2 m c (ix2 (i 0) (i 1))) (a3 m c (ix2 (i 0) (i 1)))
abbrev G6 (c : Dev nD) : Buf (Elt Ideal) ((c : Thread nD τ).loc main_v8_2) := fun i : S16x128.Idx =>
  newM (grad (a0 m c) (i 0) (i 1)) (a2 m c (ix2 (i 0) (i 1)))
abbrev G7 (c : Dev nD) : Buf (Elt Ideal) ((c : Thread nD τ).loc main_v8_3) := fun i : S16x128.Idx =>
  newV (grad (a0 m c) (i 0) (i 1)) (a3 m c (ix2 (i 0) (i 1)))

section Payloads
variable (g u2 v w : Vec Ideal S16x128 .f32) (x : Fin 16) (y : Fin 128)
theorem pay1_at : k0_pay1 (F := Ideal) g v (ix2 x y) = newV (g (ix2 x y)) (v (ix2 x y)) := by
  pointwise [k0_pay1]
  rfl
theorem pay2_at (mo : EReal) (hu : u2 (ix2 x y) = newM (g (ix2 x y)) mo) :
    k0_pay2 (F := Ideal) g u2 v w (ix2 x y) = delta (g (ix2 x y)) (w (ix2 x y)) mo (v (ix2 x y)) := by
  pointwise [k0_pay2, k0_pay1]
  rw [hu]
  rfl
variable (x0 : Vec Ideal S8x16x128 .f32) (x1 x2 x3 : Vec Ideal S16x128 .f32)
theorem pay5_at : k0_pay5 (F := Ideal) x0 x1 x2 x3 (ix2 x y) = (∑ d : Fin 8, x0 (ix3 d x y) : EReal) := by
  pointwise [k0_pay5, k0_pay3]
  rw [Fin.sum_univ_eight]
theorem pay6_at : k0_pay6 (F := Ideal) x0 x1 x2 x3 (ix2 x y) = newM (k0_pay5 (F := Ideal) x0 x1 x2 x3 (ix2 x y)) (x2 (ix2 x y)) := by
  pointwise [k0_pay6, k0_pay5, k0_pay3, k0_pay4]
  rfl
end Payloads

theorem grad_at (c : Dev nD) (t : Fin cfg0.N) (x : Fin 16) (y : Fin 128) :
    k0_pay5 (F := Ideal) (iblk m c 0 t) (iblk m c 1 t) (iblk m c 2 t) (iblk m c 3 t) (ix2 x y) = grad (a0 m c) x y :=
  (pay5_at x y _ _ _ _).trans (Finset.sum_congr rfl fun d _ => iblk0 m c t d x y)

/-- Element `(x, y)` of a block, as an extended real. -/
abbrev ew (v : Vec Ideal S16x128 .f32) (x : Fin 16) (y : Fin 128) : EReal := v (ix2 x y)
theorem ew1 (c : Dev nD) (t : Fin cfg0.N) (x : Fin 16) (y : Fin 128) : ew (iblk m c 1 t) x y = a1 m c (ix2 x y) := iblk1 m c t x y
theorem ew2 (c : Dev nD) (t : Fin cfg0.N) (x : Fin 16) (y : Fin 128) : ew (iblk m c 2 t) x y = a2 m c (ix2 x y) := iblk2 m c t x y
theorem ew3 (c : Dev nD) (t : Fin cfg0.N) (x : Fin 16) (y : Fin 128) : ew (iblk m c 3 t) x y = a3 m c (ix2 x y) := iblk3 m c t x y

theorem flushed4_eq (c : Dev nD) (t : Fin cfg0.N) :
    (dats m 0 c).flushed 4 t = ((cfg0.win 4).blk t).view.read (Elt Ideal) (G4 m c) := by
  show (cfg0.win 4).cut (grid0.coords t) ((dats m 0 c).after 4 t) = _
  rw [after0_4]
  funext i
  obtain ⟨x, y, rfl⟩ := ix2_surj i
  rw [oblk4]
  unfold out0_4
  rw [View.canon_unit_zero Step.hz]
  exact grad_at m c t x y

theorem flushed5_eq (c : Dev nD) (t : Fin cfg0.N) :
    (dats m 0 c).flushed 5 t = ((cfg0.win 5).blk t).view.read (Elt Ideal) (G5 m c) := by
  show (cfg0.win 5).cut (grid0.coords t) ((dats m 0 c).after 5 t) = _
  rw [after0_5]
  funext i
  obtain ⟨x, y, rfl⟩ := ix2_surj i
  rw [oblk5]
  unfold out0_5
  rw [View.canon_unit_zero Step.hz]
  rw [View.ld_unit_zero Step.hz, View.ld_unit_zero Step.hz]
  refine (pay2_at _ _ _ _ x y _ (pay6_at x y _ _ _ _)).trans ?_
  rw [grad_at]
  show delta _ (ew (iblk m c 1 t) x y) (ew (iblk m c 2 t) x y) (ew (iblk m c 3 t) x y) = _
  rw [ew1, ew2, ew3]
  rfl

theorem flushed6_eq (c : Dev nD) (t : Fin cfg0.N) :
    (dats m 0 c).flushed 6 t = ((cfg0.win 6).blk t).view.read (Elt Ideal) (G6 m c) := by
  show (cfg0.win 6).cut (grid0.coords t) ((dats m 0 c).after 6 t) = _
  rw [after0_6]
  funext i
  obtain ⟨x, y, rfl⟩ := ix2_surj i
  rw [oblk6]
  unfold out0_6
  rw [View.canon_unit_zero Step.hz]
  refine (pay6_at x y _ _ _ _).trans ?_
  rw [grad_at]
  show newM _ (ew (iblk m c 2 t) x y) = _
  rw [ew2]
  rfl

theorem flushed7_eq (c : Dev nD) (t : Fin cfg0.N) :
    (dats m 0 c).flushed 7 t = ((cfg0.win 7).blk t).view.read (Elt Ideal) (G7 m c) := by
  show (cfg0.win 7).cut (grid0.coords t) ((dats m 0 c).after 7 t) = _
  rw [after0_7]
  funext i
  obtain ⟨x, y, rfl⟩ := ix2_surj i
  rw [oblk7]
  unfold out0_7
  rw [View.canon_unit_zero Step.hz]
  rw [View.ld_unit_zero Step.hz]
  refine (pay1_at _ _ x y).trans ?_
  rw [grad_at]
  show newV _ (ew (iblk m c 3 t) x y) = _
  rw [ew3]
  rfl

theorem arr4 (c : Dev nD) : (dats m 0 c).arrAt 4 cfg0.N = G4 m c :=
  (dats m 0 c).arrAt_eq_of_cover 4 (G4 m c) (fun t _ => flushed4_eq m c t) cover4

theorem arr5 (c : Dev nD) : (dats m 0 c).arrAt 5 cfg0.N = G5 m c :=
  (dats m 0 c).arrAt_eq_of_cover 5 (G5 m c) (fun t _ => flushed5_eq m c t) cover5

theorem arr6 (c : Dev nD) : (dats m 0 c).arrAt 6 cfg0.N = G6 m c :=
  (dats m 0 c).arrAt_eq_of_cover 6 (G6 m c) (fun t _ => flushed6_eq m c t) cover6

theorem arr7 (c : Dev nD) : (dats m 0 c).arrAt 7 cfg0.N = G7 m c :=
  (dats m 0 c).arrAt_eq_of_cover 7 (G7 m c) (fun t _ => flushed7_eq m c t) cover7

/-! ## What the region's arrays hold when it starts -/
abbrev Pg (c : Dev nD) : S8x16x128.Idx → EReal := V m c main_v1
abbrev Ag0 (c : Dev nD) : S8x1x2048.Idx → EReal := m ((c : Thread nD τ).loc main_arg0)
abbrev Pw (c : Dev nD) : S16x128.Idx → EReal := V m c main_v3
abbrev Aw0 (c : Dev nD) : S1x2048.Idx → EReal := m ((c : Thread nD τ).loc main_arg1)
abbrev Pm (c : Dev nD) : S16x128.Idx → EReal := V m c main_v5
abbrev Am0 (c : Dev nD) : S1x2048.Idx → EReal := m ((c : Thread nD τ).loc main_arg2)
abbrev Pv (c : Dev nD) : S16x128.Idx → EReal := V m c main_v7
abbrev Av0 (c : Dev nD) : S1x2048.Idx → EReal := m ((c : Thread nD τ).loc main_arg3)

variable (c : Dev nD) (x : Fin 16) (y : Fin 128)
theorem g0 (d : Fin 8) (i : Fin 1) (j : Fin 2048) (h : x.val * 128 + y.val = 0 + ((i.val) * 2048 + j.val) := by first | omega | (dsimp only [ix2]; omega)) :
    Pg m c (ix3 d x y) = Ag0 m c (ix3 d i j) := by
  unfold Pg V V0
  after_reads_at
  exact congrArg (Ag0 m c) ix3_congr
theorem w0 (i : Fin 1) (j : Fin 2048) (h : x.val * 128 + y.val = 0 + ((i.val) * 2048 + j.val) := by first | omega | (dsimp only [ix2]; omega)) :
    Pw m c (ix2 x y) = Aw0 m c (ix2 i j) := by
  unfold Pw V V0
  after_reads_at
  exact congrArg (Aw0 m c) ix2_congr
theorem m0 (i : Fin 1) (j : Fin 2048) (h : x.val * 128 + y.val = 0 + ((i.val) * 2048 + j.val) := by first | omega | (dsimp only [ix2]; omega)) :
    Pm m c (ix2 x y) = Am0 m c (ix2 i j) := by
  unfold Pm V V0
  after_reads_at
  exact congrArg (Am0 m c) ix2_congr
theorem v0 (i : Fin 1) (j : Fin 2048) (h : x.val * 128 + y.val = 0 + ((i.val) * 2048 + j.val) := by first | omega | (dsimp only [ix2]; omega)) :
    Pv m c (ix2 x y) = Av0 m c (ix2 i j) := by
  unfold Pv V V0
  after_reads_at
  exact congrArg (Av0 m c) ix2_congr

/-! ## The results: the step's elements at the parameters' places -/
theorem arrs_inj : Function.Injective (Pipeline.arrRef spec0) := by decide
/-- Window 4's array after the region. -/
theorem out4 (i : S16x128.Idx) :
    Pipeline.withArrays (cfgs 0).spec c (V0 m c) (fun w => (dats m 0 c).arrAt w (cfgs 0).N) (Proc.tc.devRef main_v8_0) i = G4 m c i :=
  (congrFun (Pipeline.withArrays_arr spec0 arrs_inj c (V0 m c) (fun w => (dats m 0 c).arrAt w cfg0.N) 4) i).trans (congrFun (arr4 m c) i)
/-- Window 5's array after the region. -/
theorem out5 (i : S16x128.Idx) :
    Pipeline.withArrays (cfgs 0).spec c (V0 m c) (fun w => (dats m 0 c).arrAt w (cfgs 0).N) (Proc.tc.devRef main_v8_1) i = G5 m c i :=
  (congrFun (Pipeline.withArrays_arr spec0 arrs_inj c (V0 m c) (fun w => (dats m 0 c).arrAt w cfg0.N) 5) i).trans (congrFun (arr5 m c) i)
/-- Window 6's array after the region. -/
theorem out6 (i : S16x128.Idx) :
    Pipeline.withArrays (cfgs 0).spec c (V0 m c) (fun w => (dats m 0 c).arrAt w (cfgs 0).N) (Proc.tc.devRef main_v8_2) i = G6 m c i :=
  (congrFun (Pipeline.withArrays_arr spec0 arrs_inj c (V0 m c) (fun w => (dats m 0 c).arrAt w cfg0.N) 6) i).trans (congrFun (arr6 m c) i)
/-- Window 7's array after the region. -/
theorem out7 (i : S16x128.Idx) :
    Pipeline.withArrays (cfgs 0).spec c (V0 m c) (fun w => (dats m 0 c).arrAt w (cfgs 0).N) (Proc.tc.devRef main_v8_3) i = G7 m c i :=
  (congrFun (Pipeline.withArrays_arr spec0 arrs_inj c (V0 m c) (fun w => (dats m 0 c).arrAt w cfg0.N) 7) i).trans (congrFun (arr7 m c) i)

def K0 : Buf (Elt Ideal) ((c : Thread nD τ).loc main_v10) := Pipeline.afterTail₀ cfgs (dats m) 0 (V0 m) [hostOps1] c main_v10
theorem K0_at (i : Fin 1) (j : Fin 2048) (z : EReal) (hz : (sum8 fun d => Ag0 m c (ix3 d i j)) = z) : (K0 m c : S1x2048.Idx → EReal) (ix2 i j) = z := by
  unfold K0 Pipeline.afterTail₀
  after_reads_at
  refine (out4 m c _).trans ?_
  rw [← hz]
  exact (sum8_congr fun d => g0 m c _ _ d i j)

def K1 : Buf (Elt Ideal) ((c : Thread nD τ).loc main_v12) := Pipeline.afterTail₀ cfgs (dats m) 0 (V0 m) [hostOps1] c main_v12
theorem K1_at (i : Fin 1) (j : Fin 2048) (z : EReal) (hz : (delta (sum8 fun d => Ag0 m c (ix3 d i j)) (Aw0 m c (ix2 i j)) (Am0 m c (ix2 i j)) (Av0 m c (ix2 i j))) = z) : (K1 m c : S1x2048.Idx → EReal) (ix2 i j) = z := by
  unfold K1 Pipeline.afterTail₀
  after_reads_at
  refine (out5 m c _).trans ?_
  rw [← hz]
  exact (delta_congr (sum8_congr fun d => g0 m c _ _ d i j) (w0 m c _ _ i j) (m0 m c _ _ i j) (v0 m c _ _ i j))

def K2 : Buf (Elt Ideal) ((c : Thread nD τ).loc main_v14) := Pipeline.afterTail₀ cfgs (dats m) 0 (V0 m) [hostOps1] c main_v14
theorem K2_at (i : Fin 1) (j : Fin 2048) (z : EReal) (hz : (newM (sum8 fun d => Ag0 m c (ix3 d i j)) (Am0 m c (ix2 i j))) = z) : (K2 m c : S1x2048.Idx → EReal) (ix2 i j) = z := by
  unfold K2 Pipeline.afterTail₀
  after_reads_at
  refine (out6 m c _).trans ?_
  rw [← hz]
  exact (newM_congr (sum8_congr fun d => g0 m c _ _ d i j) (m0 m c _ _ i j))

def K3 : Buf (Elt Ideal) ((c : Thread nD τ).loc main_v16) := Pipeline.afterTail₀ cfgs (dats m) 0 (V0 m) [hostOps1] c main_v16
theorem K3_at (i : Fin 1) (j : Fin 2048) (z : EReal) (hz : (newV (sum8 fun d => Ag0 m c (ix3 d i j)) (Av0 m c (ix2 i j))) = z) : (K3 m c : S1x2048.Idx → EReal) (ix2 i j) = z := by
  unfold K3 Pipeline.afterTail₀
  after_reads_at
  refine (out7 m c _).trans ?_
  rw [← hz]
  exact (newV_congr (sum8_congr fun d => g0 m c _ _ d i j) (v0 m c _ _ i j))

section Reference
open Reference26Ideal.Read
theorem ref0 (x0 : FVec Ideal ⟨3, ![8, 1, 2048]⟩ .f32) (i : Fin 1) (j : Fin 2048) :
    val_main_v0 (F := Ideal) x0 (ix2 i j) = sum8 fun d => x0 (ix3 d i j) := by
  obtain rfl : i = 0 := Subsingleton.elim _ _
  pointwise [val_main_cst, val_main_v0]
  rfl
theorem ref1 (x0 : FVec Ideal ⟨3, ![8, 1, 2048]⟩ .f32) (x1 x2 x3 : FVec Ideal ⟨2, ![1, 2048]⟩ .f32) (i : Fin 1) (j : Fin 2048) :
    val_main_v24 (F := Ideal) x0 x1 x2 x3 (ix2 i j) = delta (sum8 fun d => x0 (ix3 d i j)) (x1 (ix2 i j)) (x2 (ix2 i j)) (x3 (ix2 i j)) := by
  obtain rfl : i = 0 := Subsingleton.elim _ _
  pointwise [val_main_cst, val_main_cst_0, val_main_cst_1, val_main_cst_2, val_main_cst_3, val_main_cst_4, val_main_cst_5, val_main_cst_6, val_main_cst_7, val_main_cst_8, val_main_v0, val_main_v1, val_main_v10, val_main_v11, val_main_v12, val_main_v13, val_main_v14, val_main_v15, val_main_v16, val_main_v17, val_main_v18, val_main_v19, val_main_v2, val_main_v20, val_main_v21, val_main_v22, val_main_v23, val_main_v24, val_main_v3, val_main_v4, val_main_v5, val_main_v6, val_main_v7, val_main_v8, val_main_v9]
  rfl
theorem ref2 (x0 : FVec Ideal ⟨3, ![8, 1, 2048]⟩ .f32) (x1 : FVec Ideal ⟨2, ![1, 2048]⟩ .f32) (i : Fin 1) (j : Fin 2048) :
    val_main_v5 (F := Ideal) x0 x1 (ix2 i j) = newM (sum8 fun d => x0 (ix3 d i j)) (x1 (ix2 i j)) := by
  obtain rfl : i = 0 := Subsingleton.elim _ _
  pointwise [val_main_cst, val_main_cst_0, val_main_cst_1, val_main_v0, val_main_v1, val_main_v2, val_main_v3, val_main_v4, val_main_v5]
  rfl
theorem ref3 (x0 : FVec Ideal ⟨3, ![8, 1, 2048]⟩ .f32) (x1 : FVec Ideal ⟨2, ![1, 2048]⟩ .f32) (i : Fin 1) (j : Fin 2048) :
    val_main_v11 (F := Ideal) x0 x1 (ix2 i j) = newV (sum8 fun d => x0 (ix3 d i j)) (x1 (ix2 i j)) := by
  obtain rfl : i = 0 := Subsingleton.elim _ _
  pointwise [val_main_cst, val_main_cst_2, val_main_cst_3, val_main_v0, val_main_v10, val_main_v11, val_main_v6, val_main_v7, val_main_v8, val_main_v9]
  rfl
end Reference

theorem frame_kernel : quiescent_Kernel26 := fun m ρ _ => Kernel26.Gen.frame m ρ
theorem frame_kernelIdeal : quiescent_Kernel26Ideal := fun m ρ _ => Kernel26Ideal.Gen.frame m ρ
theorem frame_reference : quiescent_Reference26Ideal := fun m ρ _ =>
  (θ_run Reference26Ideal.defs _ _).mono (fun r h => ⟨fun c => (h c).2.2.2.2, sem_eq_zero_of_no_sems (by decide) r.2⟩)
    (Reference26Ideal.Value.run (F := Ideal) m ρ)

theorem algebraic : algebraic_Kernel26Ideal_Reference26Ideal := by
  intro m ρ m' ρ' _ hagree
  refine ⟨K0 m, K1 m, K2 m, K3 m, (θ_run defs _ _).mono (fun r h c => ⟨(h.1 c).2 main_v10 (Pipeline.mem_restRefs_of main_v10 (by decide) (by decide)), (h.1 c).2 main_v12 (Pipeline.mem_restRefs_of main_v12 (by decide) (by decide)), (h.1 c).2 main_v14 (Pipeline.mem_restRefs_of main_v14 (by decide) (by decide)), (h.1 c).2 main_v16 (Pipeline.mem_restRefs_of main_v16 (by decide) (by decide)), h.2 c⟩)
    (θ_run_and (run_main m ρ) (unchanged m ρ)), ?_⟩
  refine (θ_run Reference26Ideal.defs _ _).mono (fun _ h c => ?_) (Reference26Ideal.Value.run (F := Ideal) m' ρ')
  obtain ⟨h0, h1, h2, h3⟩ := hagree c
  obtain ⟨r0, r1, r2, r3, rest⟩ := h c
  refine ⟨r0.trans ?_, r1.trans ?_, r2.trans ?_, r3.trans ?_, rest⟩
  · refine (cong1 (Reference26Ideal.Read.val_main_v0 (F := Ideal)) h0).trans ?_
    funext e
    obtain ⟨i, j, rfl⟩ := ix2_surj e
    exact (ref0 _ i j).trans (K0_at m c i j _ rfl).symm
  · refine (cong4 (Reference26Ideal.Read.val_main_v24 (F := Ideal)) h0 h1 h2 h3).trans ?_
    funext e
    obtain ⟨i, j, rfl⟩ := ix2_surj e
    exact (ref1 _ _ _ _ i j).trans (K1_at m c i j _ rfl).symm
  · refine (cong2 (Reference26Ideal.Read.val_main_v5 (F := Ideal)) h0 h2).trans ?_
    funext e
    obtain ⟨i, j, rfl⟩ := ix2_surj e
    exact (ref2 _ _ i j).trans (K2_at m c i j _ rfl).symm
  · refine (cong2 (Reference26Ideal.Read.val_main_v11 (F := Ideal)) h0 h3).trans ?_
    funext e
    obtain ⟨i, j, rfl⟩ := ix2_surj e
    exact (ref3 _ _ i j).trans (K3_at m c i j _ rfl).symm

end P26
-- ==== Proof.P27.lean ====
module

public import proofs.«01_k».proof.Proof.Step
public import proofs.«01_k».proof.Proof.Gen.Kernel27.Frame
public import proofs.«01_k».proof.Proof.Gen.Kernel27Ideal.Frame
public import proofs.«01_k».proof.Proof.Gen.Reference27Ideal.Read
public import proofs.«01_k».proof.Proof.Gen.Reference27Ideal.Run

@[expose] public section

set_option maxRecDepth 16384

noncomputable section

/-! # The claims about `adamw_small`, the summed gradients of the twelve small parameters, which the call steps packed as 2304 × 128 -/

namespace Cert.P27

open Kernel27Ideal Kernel27Ideal.Gen Idealize.ShloMosaic Idealize.ShloMosaic.TcCoe Idealize.SL.Sem
open Step

section Blocks
variable {F : FTy → Type} [FloatOps F]
variable (m : (ℓ : Loc nD τ sig) → Buf (Elt F) ℓ) (c : Dev nD) (t : Fin cfg0.N) (x : Fin 1152) (y : Fin 128)

theorem ltN (t : Fin cfg0.N) : t.val < 2 := lt_of_lt_of_eq t.isLt N_0

theorem at4 : ∀ t : Fin grid0.N, win0_4.index t 0 = t.val ∧ win0_4.index t 1 = 0 := by decide +kernel

/-- Where block `t` lies in its array, for the windows 1, 2, 3 and the results 4, which move alike. -/
theorem pos4 :
    ((win0_4.rect t).idx (ix2 x y) : (⟨2, ![2304, 128]⟩ : Shape).Idx) = ix2 ⟨t.val * 1152 + x.val, by have := ltN t; omega⟩ y := by
  refine funext fun a => Fin.ext ?_
  match a with
  | ⟨0, _⟩ => show win0_4.index t 0 * 1152 + 1 * x.val = t.val * 1152 + x.val; rw [(at4 t).1]; omega
  | ⟨1, _⟩ => show win0_4.index t 1 * 128 + 1 * y.val = y.val; rw [(at4 t).2]; omega
/-- Every element of such an array lies in one block. -/
theorem block4 (i : (⟨2, ![2304, 128]⟩ : Shape).Idx) :
    ∃ t : Fin cfg0.N, ∀ a : Fin 2, win0_4.index t a * ![1152, 128] a ≤ (i a : Nat) ∧ (i a : Nat) < win0_4.index t a * ![1152, 128] a + ![1152, 128] a := by
  have h0 : (i 0 : Nat) < 2304 := (i 0).isLt
  have h1 : (i 1 : Nat) < 128 := (i 1).isLt
  have hN : cfg0.N = 2 := N_0
  let t : Fin cfg0.N := ⟨(i 0 : Nat) / 1152, by omega⟩
  refine ⟨t, fun a => ?_⟩
  match a with
  | ⟨0, _⟩ =>
    show win0_4.index t 0 * 1152 ≤ (i 0 : Nat) ∧ (i 0 : Nat) < win0_4.index t 0 * 1152 + 1152
    rw [(at4 t).1]; dsimp only [t]; omega
  | ⟨1, _⟩ =>
    show win0_4.index t 1 * 128 ≤ (i 1 : Nat) ∧ (i 1 : Nat) < win0_4.index t 1 * 128 + 128
    rw [(at4 t).2]; dsimp only [t]; omega
theorem iblk1 :
    iblk m c 1 t (ix2 x y) = V m c main_v32 (ix2 ⟨t.val * 1152 + x.val, by have := ltN t; omega⟩ y) := by
  show V m c main_v32 ((win0_1.rect t).idx (ix2 x y)) = _
  exact congrArg _ (pos4 t x y)
theorem iblk2 :
    iblk m c 2 t (ix2 x y) = V m c main_v48 (ix2 ⟨t.val * 1152 + x.val, by have := ltN t; omega⟩ y) := by
  show V m c main_v48 ((win0_2.rect t).idx (ix2 x y)) = _
  exact congrArg _ (pos4 t x y)
theorem iblk3 :
    iblk m c 3 t (ix2 x y) = V m c main_v64 (ix2 ⟨t.val * 1152 + x.val, by have := ltN t; omega⟩ y) := by
  show V m c main_v64 ((win0_3.rect t).idx (ix2 x y)) = _
  exact congrArg _ (pos4 t x y)
theorem oblk4 (G : Buf (Elt F) ((c : Thread nD τ).loc main_v65_0)) :
    ((cfg0.win 4).blk t).view.read (Elt F) G (ix2 x y) = G (ix2 ⟨t.val * 1152 + x.val, by have := ltN t; omega⟩ y) :=
  congrArg G (pos4 t x y)
theorem cover4 (i : (⟨2, ![2304, 128]⟩ : Shape).Idx) :
    ∃ t : Fin cfg0.N, (cfg0.win 4).flush t = true ∧ i ∈ ((cfg0.win 4).blk t).view.set := by
  obtain ⟨t, h⟩ := block4 i
  refine ⟨t, flush0_4 _, ?_⟩
  show i ∈ ((View.whole main_v65_0).slice (win0_4.rect t)).set
  rw [View.set_slice_whole, Rect.mem_set_unit]
  exact h

theorem at0 : ∀ t : Fin grid0.N, win0_0.index t 0 = 0 ∧ win0_0.index t 1 = t.val ∧ win0_0.index t 2 = 0 := by decide +kernel

/-- Block `t` of window 0, element by element. -/
theorem iblk0 (c : Dev nD) (t : Fin cfg0.N) (x : Fin 8) (y : Fin 1152) (z : Fin 128) :
    iblk m c 0 t (ix3 x y z) = V m c main_v16 (ix3 x ⟨t.val * 1152 + y.val, by have := ltN t; omega⟩ z) := by
  show V m c main_v16 ((win0_0.rect t).idx (ix3 x y z)) = _
  refine congrArg _ (funext fun a => Fin.ext ?_)
  match a with
  | ⟨0, _⟩ => show win0_0.index t 0 * 8 + 1 * x.val = x.val; rw [(at0 t).1]; have := ltN t; omega
  | ⟨1, _⟩ => show win0_0.index t 1 * 1152 + 1 * y.val = t.val * 1152 + y.val; rw [(at0 t).2.1]; have := ltN t; omega
  | ⟨2, _⟩ => show win0_0.index t 2 * 128 + 1 * z.val = z.val; rw [(at0 t).2.2]; have := ltN t; omega
end Blocks

/-! ## One element of the step -/
section Spec
/-- The gradient: the sum over the devices. -/
def grad (A0 : FVec Ideal ⟨3, ![8, 2304, 128]⟩ .f32) (r : Fin 2304) (q : Fin 128) : EReal := ∑ d : Fin 8, A0 (ix3 d r q)
end Spec

variable (m : (ℓ : Loc nD τ sig) → Buf (Elt Ideal) ℓ) (ρ : Dev nD → PrngReg)

abbrev a0 (c : Dev nD) : FVec Ideal ⟨3, ![8, 2304, 128]⟩ .f32 := V m c main_v16
abbrev a1 (c : Dev nD) : FVec Ideal ⟨2, ![2304, 128]⟩ .f32 := V m c main_v32
abbrev a2 (c : Dev nD) : FVec Ideal ⟨2, ![2304, 128]⟩ .f32 := V m c main_v48
abbrev a3 (c : Dev nD) : FVec Ideal ⟨2, ![2304, 128]⟩ .f32 := V m c main_v64

/-- The four result arrays of device `c`: the gradient, the change of the weight, the new moments. -/
abbrev G4 (c : Dev nD) : Buf (Elt Ideal) ((c : Thread nD τ).loc main_v65_0) := fun i : S2304x128.Idx => grad (a0 m c) (i 0) (i 1)
abbrev G5 (c : Dev nD) : Buf (Elt Ideal) ((c : Thread nD τ).loc main_v65_1) := fun i : S2304x128.Idx =>
  delta (grad (a0 m c) (i 0) (i 1)) (a1 m c (ix2 (i 0) (i 1))) (a2 m c (ix2 (i 0) (i 1))) (a3 m c (ix2 (i 0) (i 1)))
abbrev G6 (c : Dev nD) : Buf (Elt Ideal) ((c : Thread nD τ).loc main_v65_2) := fun i : S2304x128.Idx =>
  newM (grad (a0 m c) (i 0) (i 1)) (a2 m c (ix2 (i 0) (i 1)))
abbrev G7 (c : Dev nD) : Buf (Elt Ideal) ((c : Thread nD τ).loc main_v65_3) := fun i : S2304x128.Idx =>
  newV (grad (a0 m c) (i 0) (i 1)) (a3 m c (ix2 (i 0) (i 1)))

section Payloads
variable (g u2 v w : Vec Ideal S1152x128 .f32) (x : Fin 1152) (y : Fin 128)
theorem pay1_at : k0_pay1 (F := Ideal) g v (ix2 x y) = newV (g (ix2 x y)) (v (ix2 x y)) := by
  pointwise [k0_pay1]
  rfl
theorem pay2_at (mo : EReal) (hu : u2 (ix2 x y) = newM (g (ix2 x y)) mo) :
    k0_pay2 (F := Ideal) g u2 v w (ix2 x y) = delta (g (ix2 x y)) (w (ix2 x y)) mo (v (ix2 x y)) := by
  pointwise [k0_pay2, k0_pay1]
  rw [hu]
  rfl
variable (x0 : Vec Ideal S8x1152x128 .f32) (x1 x2 x3 : Vec Ideal S1152x128 .f32)
theorem pay5_at : k0_pay5 (F := Ideal) x0 x1 x2 x3 (ix2 x y) = (∑ d : Fin 8, x0 (ix3 d x y) : EReal) := by
  pointwise [k0_pay5, k0_pay3]
  rw [Fin.sum_univ_eight]
theorem pay6_at : k0_pay6 (F := Ideal) x0 x1 x2 x3 (ix2 x y) = newM (k0_pay5 (F := Ideal) x0 x1 x2 x3 (ix2 x y)) (x2 (ix2 x y)) := by
  pointwise [k0_pay6, k0_pay5, k0_pay3, k0_pay4]
  rfl
end Payloads

theorem grad_at (c : Dev nD) (t : Fin cfg0.N) (x : Fin 1152) (y : Fin 128) :
    k0_pay5 (F := Ideal) (iblk m c 0 t) (iblk m c 1 t) (iblk m c 2 t) (iblk m c 3 t) (ix2 x y) = grad (a0 m c) ⟨t.val * 1152 + x.val, by have := ltN t; omega⟩ y :=
  (pay5_at x y _ _ _ _).trans (Finset.sum_congr rfl fun d _ => iblk0 m c t d x y)

theorem flushed4_eq (c : Dev nD) (t : Fin cfg0.N) :
    (dats m 0 c).flushed 4 t = ((cfg0.win 4).blk t).view.read (Elt Ideal) (G4 m c) := by
  show (cfg0.win 4).cut (grid0.coords t) ((dats m 0 c).after 4 t) = _
  rw [after0_4]
  funext i
  obtain ⟨x, y, rfl⟩ := ix2_surj i
  rw [oblk4]
  unfold out0_4
  rw [View.canon_unit_zero Step.hz]
  exact grad_at m c t x y

theorem arr4 (c : Dev nD) : (dats m 0 c).arrAt 4 cfg0.N = G4 m c :=
  (dats m 0 c).arrAt_eq_of_cover 4 (G4 m c) (fun t _ => flushed4_eq m c t) cover4

/-! ## What the region's arrays hold when it starts -/
/-- The buffers after the first `k` host operations. -/
def U (c : Dev nD) (k : Nat) : Valuation τ sig (Elt Ideal) := StableHlo.upto [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16].flatten (fun b => m (c, b)) k
abbrev Pg (c : Dev nD) : S8x2304x128.Idx → EReal := V m c main_v16
abbrev Ag0 (c : Dev nD) : S8x1x64x64.Idx → EReal := m ((c : Thread nD τ).loc main_arg0)
abbrev Ag1 (c : Dev nD) : S8x1x64x64.Idx → EReal := m ((c : Thread nD τ).loc main_arg1)
abbrev Ag2 (c : Dev nD) : S8x1x64.Idx → EReal := m ((c : Thread nD τ).loc main_arg2)
abbrev Ag3 (c : Dev nD) : S8x1x64x64x16.Idx → EReal := m ((c : Thread nD τ).loc main_arg3)
abbrev Ag4 (c : Dev nD) : S8x1x64x64x16.Idx → EReal := m ((c : Thread nD τ).loc main_arg4)
abbrev Ag5 (c : Dev nD) : S8x1x64x16x64.Idx → EReal := m ((c : Thread nD τ).loc main_arg5)
abbrev Ag6 (c : Dev nD) : S8x1x64x16x64.Idx → EReal := m ((c : Thread nD τ).loc main_arg6)
abbrev Ag7 (c : Dev nD) : S8x1x64x16.Idx → EReal := m ((c : Thread nD τ).loc main_arg7)
abbrev Ag8 (c : Dev nD) : S8x1x1024.Idx → EReal := m ((c : Thread nD τ).loc main_arg8)
abbrev Ag9 (c : Dev nD) : S8x1x2048.Idx → EReal := m ((c : Thread nD τ).loc main_arg9)
abbrev Ag10 (c : Dev nD) : S8x1x5632.Idx → EReal := m ((c : Thread nD τ).loc main_arg10)
abbrev Ag11 (c : Dev nD) : S8x2048.Idx → EReal := m ((c : Thread nD τ).loc main_arg11)

set_option maxHeartbeats 4000000 in
/-- The packed array at a position: the parameter whose stretch the position is in. -/
theorem key_g (c : Dev nD) (d : Fin 8) (x : Fin 2304) (y : Fin 128) (z : EReal) (hz : z =
      let n0 := x.val * 128 + y.val; let n1 := n0 - 4096; let n2 := n1 - 4096; let n3 := n2 - 1024; let n4 := n3 - 65536; let n5 := n4 - 65536; let n6 := n5 - 65536; let n7 := n6 - 65536; let n8 := n7 - 1024; let n9 := n8 - 1024; let n10 := n9 - 2048; let n11 := n10 - 6144; let n12 := n11 - 2048
      if h : n0 < 4096 then (U m c 20 (Proc.devRef .tc main_v0) : S8x4096.Idx → EReal) (ix2 d ⟨n0, h⟩) else
      if h : n1 < 4096 then (U m c 20 (Proc.devRef .tc main_v1) : S8x4096.Idx → EReal) (ix2 d ⟨n1, h⟩) else
      if h : n2 < 1024 then (U m c 20 (Proc.devRef .tc main_v3) : S8x1024.Idx → EReal) (ix2 d ⟨n2, h⟩) else
      if h : n3 < 65536 then (U m c 20 (Proc.devRef .tc main_v4) : S8x65536.Idx → EReal) (ix2 d ⟨n3, h⟩) else
      if h : n4 < 65536 then (U m c 20 (Proc.devRef .tc main_v5) : S8x65536.Idx → EReal) (ix2 d ⟨n4, h⟩) else
      if h : n5 < 65536 then (U m c 20 (Proc.devRef .tc main_v6) : S8x65536.Idx → EReal) (ix2 d ⟨n5, h⟩) else
      if h : n6 < 65536 then (U m c 20 (Proc.devRef .tc main_v7) : S8x65536.Idx → EReal) (ix2 d ⟨n6, h⟩) else
      if h : n7 < 1024 then (U m c 20 (Proc.devRef .tc main_v8) : S8x1024.Idx → EReal) (ix2 d ⟨n7, h⟩) else
      if h : n8 < 1024 then (U m c 20 (Proc.devRef .tc main_v9) : S8x1024.Idx → EReal) (ix2 d ⟨n8, h⟩) else
      if h : n9 < 2048 then (U m c 20 (Proc.devRef .tc main_v10) : S8x2048.Idx → EReal) (ix2 d ⟨n9, h⟩) else
      if h : n10 < 6144 then (U m c 20 (Proc.devRef .tc main_v12) : S8x6144.Idx → EReal) (ix2 d ⟨n10, h⟩) else
      if h : n11 < 2048 then (U m c 20 (Proc.devRef .tc main_arg11) : S8x2048.Idx → EReal) (ix2 d ⟨n11, h⟩) else
      (U m c 20 (Proc.devRef .tc main_v14) : S8x11264.Idx → EReal) (ix2 d ⟨n12, by omega⟩)) :
    Pg m c (ix3 d x y) = z := by
  unfold Pg V V0
  after_reads_at
  unfold U at hz
  exact hz.symm

variable (c : Dev nD) (x : Fin 2304) (y : Fin 128)
theorem g0 (d : Fin 8) (i : Fin 1) (j : Fin 64) (k : Fin 64) (h : x.val * 128 + y.val = 0 + (((i.val) * 64 + j.val) * 64 + k.val) := by first | omega | (dsimp only [ix2]; omega)) :
    Pg m c (ix3 d x y) = Ag0 m c (ix4 d i j k) := by
  rw [key_g m c d x y _ rfl]; dsimp only
  rw [dif_pos (by omega)]
  unfold U
  after_reads_at
  exact congrArg (Ag0 m c) ix4_congr
theorem g1 (d : Fin 8) (i : Fin 1) (j : Fin 64) (k : Fin 64) (h : x.val * 128 + y.val = 4096 + (((i.val) * 64 + j.val) * 64 + k.val) := by first | omega | (dsimp only [ix2]; omega)) :
    Pg m c (ix3 d x y) = Ag1 m c (ix4 d i j k) := by
  rw [key_g m c d x y _ rfl]; dsimp only
  rw [dif_neg (by omega)]
  rw [dif_pos (by omega)]
  unfold U
  after_reads_at
  exact congrArg (Ag1 m c) ix4_congr
theorem g2 (d : Fin 8) (i : Fin 1) (j : Fin 64) (h : x.val * 128 + y.val = 8192 + ((i.val) * 64 + j.val) := by first | omega | (dsimp only [ix2]; omega)) :
    Pg m c (ix3 d x y) = Ag2 m c (ix3 d i j) := by
  rw [key_g m c d x y _ rfl]; dsimp only
  iterate 2 rw [dif_neg (by omega)]
  rw [dif_pos (by omega)]
  unfold U
  after_reads_at
  rw [dif_pos (by omega)]
  exact congrArg (Ag2 m c) ix3_congr
theorem g3 (d : Fin 8) (i : Fin 1) (j : Fin 64) (k : Fin 64) (l : Fin 16) (h : x.val * 128 + y.val = 9216 + ((((i.val) * 64 + j.val) * 64 + k.val) * 16 + l.val) := by first | omega | (dsimp only [ix2]; omega)) :
    Pg m c (ix3 d x y) = Ag3 m c (ix5 d i j k l) := by
  rw [key_g m c d x y _ rfl]; dsimp only
  iterate 3 rw [dif_neg (by omega)]
  rw [dif_pos (by omega)]
  unfold U
  after_reads_at
  exact congrArg (Ag3 m c) ix5_congr
theorem g4 (d : Fin 8) (i : Fin 1) (j : Fin 64) (k : Fin 64) (l : Fin 16) (h : x.val * 128 + y.val = 74752 + ((((i.val) * 64 + j.val) * 64 + k.val) * 16 + l.val) := by first | omega | (dsimp only [ix2]; omega)) :
    Pg m c (ix3 d x y) = Ag4 m c (ix5 d i j k l) := by
  rw [key_g m c d x y _ rfl]; dsimp only
  iterate 4 rw [dif_neg (by omega)]
  rw [dif_pos (by omega)]
  unfold U
  after_reads_at
  exact congrArg (Ag4 m c) ix5_congr
theorem g5 (d : Fin 8) (i : Fin 1) (j : Fin 64) (k : Fin 16) (l : Fin 64) (h : x.val * 128 + y.val = 140288 + ((((i.val) * 64 + j.val) * 16 + k.val) * 64 + l.val) := by first | omega | (dsimp only [ix2]; omega)) :
    Pg m c (ix3 d x y) = Ag5 m c (ix5 d i j k l) := by
  rw [key_g m c d x y _ rfl]; dsimp only
  iterate 5 rw [dif_neg (by omega)]
  rw [dif_pos (by omega)]
  unfold U
  after_reads_at
  exact congrArg (Ag5 m c) ix5_congr
theorem g6 (d : Fin 8) (i : Fin 1) (j : Fin 64) (k : Fin 16) (l : Fin 64) (h : x.val * 128 + y.val = 205824 + ((((i.val) * 64 + j.val) * 16 + k.val) * 64 + l.val) := by first | omega | (dsimp only [ix2]; omega)) :
    Pg m c (ix3 d x y) = Ag6 m c (ix5 d i j k l) := by
  rw [key_g m c d x y _ rfl]; dsimp only
  iterate 6 rw [dif_neg (by omega)]
  rw [dif_pos (by omega)]
  unfold U
  after_reads_at
  exact congrArg (Ag6 m c) ix5_congr
theorem g7 (d : Fin 8) (i : Fin 1) (j : Fin 64) (k : Fin 16) (h : x.val * 128 + y.val = 271360 + (((i.val) * 64 + j.val) * 16 + k.val) := by first | omega | (dsimp only [ix2]; omega)) :
    Pg m c (ix3 d x y) = Ag7 m c (ix4 d i j k) := by
  rw [key_g m c d x y _ rfl]; dsimp only
  iterate 7 rw [dif_neg (by omega)]
  rw [dif_pos (by omega)]
  unfold U
  after_reads_at
  exact congrArg (Ag7 m c) ix4_congr
theorem g8 (d : Fin 8) (i : Fin 1) (j : Fin 1024) (h : x.val * 128 + y.val = 272384 + ((i.val) * 1024 + j.val) := by first | omega | (dsimp only [ix2]; omega)) :
    Pg m c (ix3 d x y) = Ag8 m c (ix3 d i j) := by
  rw [key_g m c d x y _ rfl]; dsimp only
  iterate 8 rw [dif_neg (by omega)]
  rw [dif_pos (by omega)]
  unfold U
  after_reads_at
  exact congrArg (Ag8 m c) ix3_congr
theorem g9 (d : Fin 8) (i : Fin 1) (j : Fin 2048) (h : x.val * 128 + y.val = 273408 + ((i.val) * 2048 + j.val) := by first | omega | (dsimp only [ix2]; omega)) :
    Pg m c (ix3 d x y) = Ag9 m c (ix3 d i j) := by
  rw [key_g m c d x y _ rfl]; dsimp only
  iterate 9 rw [dif_neg (by omega)]
  rw [dif_pos (by omega)]
  unfold U
  after_reads_at
  exact congrArg (Ag9 m c) ix3_congr
theorem g10 (d : Fin 8) (i : Fin 1) (j : Fin 5632) (h : x.val * 128 + y.val = 275456 + ((i.val) * 5632 + j.val) := by first | omega | (dsimp only [ix2]; omega)) :
    Pg m c (ix3 d x y) = Ag10 m c (ix3 d i j) := by
  rw [key_g m c d x y _ rfl]; dsimp only
  iterate 10 rw [dif_neg (by omega)]
  rw [dif_pos (by omega)]
  unfold U
  after_reads_at
  rw [dif_pos (by omega)]
  exact congrArg (Ag10 m c) ix3_congr
theorem g11 (d : Fin 8) (i : Fin 2048) (h : x.val * 128 + y.val = 281600 + (i.val) := by first | omega | (dsimp only [ix2]; omega)) :
    Pg m c (ix3 d x y) = Ag11 m c (ix2 d i) := by
  rw [key_g m c d x y _ rfl]; dsimp only
  iterate 11 rw [dif_neg (by omega)]
  rw [dif_pos (by omega)]
  unfold U
  after_reads_at
  exact congrArg (Ag11 m c) ix2_congr

/-! ## The results: the step's elements at the parameters' places -/
theorem arrs_inj : Function.Injective (Pipeline.arrRef spec0) := by decide
/-- Window 4's array after the region. -/
theorem out4 (i : S2304x128.Idx) :
    Pipeline.withArrays (cfgs 0).spec c (V0 m c) (fun w => (dats m 0 c).arrAt w (cfgs 0).N) (Proc.tc.devRef main_v65_0) i = G4 m c i :=
  (congrFun (Pipeline.withArrays_arr spec0 arrs_inj c (V0 m c) (fun w => (dats m 0 c).arrAt w cfg0.N) 4) i).trans (congrFun (arr4 m c) i)

def K0 : Buf (Elt Ideal) ((c : Thread nD τ).loc main_v68) := Pipeline.afterTail₀ cfgs (dats m) 0 (V0 m) [hostOps1] c main_v68
theorem K0_at (i : Fin 1) (j : Fin 64) (k : Fin 64) (z : EReal) (hz : (sum8 fun d => Ag0 m c (ix4 d i j k)) = z) : (K0 m c : S1x64x64.Idx → EReal) (ix3 i j k) = z := by
  unfold K0 Pipeline.afterTail₀
  after_reads_at
  refine (out4 m c _).trans ?_
  rw [← hz]
  exact (sum8_congr fun d => g0 m c _ _ d i j k)

def K1 : Buf (Elt Ideal) ((c : Thread nD τ).loc main_v71) := Pipeline.afterTail₀ cfgs (dats m) 0 (V0 m) [hostOps1] c main_v71
theorem K1_at (i : Fin 1) (j : Fin 64) (k : Fin 64) (z : EReal) (hz : (sum8 fun d => Ag1 m c (ix4 d i j k)) = z) : (K1 m c : S1x64x64.Idx → EReal) (ix3 i j k) = z := by
  unfold K1 Pipeline.afterTail₀
  after_reads_at
  refine (out4 m c _).trans ?_
  rw [← hz]
  exact (sum8_congr fun d => g1 m c _ _ d i j k)

def K2 : Buf (Elt Ideal) ((c : Thread nD τ).loc main_v75) := Pipeline.afterTail₀ cfgs (dats m) 0 (V0 m) [hostOps1] c main_v75
theorem K2_at (i : Fin 1) (j : Fin 64) (z : EReal) (hz : (sum8 fun d => Ag2 m c (ix3 d i j)) = z) : (K2 m c : S1x64.Idx → EReal) (ix2 i j) = z := by
  unfold K2 Pipeline.afterTail₀
  after_reads_at
  refine (out4 m c _).trans ?_
  rw [← hz]
  exact (sum8_congr fun d => g2 m c _ _ d i j)

def K3 : Buf (Elt Ideal) ((c : Thread nD τ).loc main_v78) := Pipeline.afterTail₀ cfgs (dats m) 0 (V0 m) [hostOps1] c main_v78
theorem K3_at (i : Fin 1) (j : Fin 64) (k : Fin 64) (l : Fin 16) (z : EReal) (hz : (sum8 fun d => Ag3 m c (ix5 d i j k l)) = z) : (K3 m c : S1x64x64x16.Idx → EReal) (ix4 i j k l) = z := by
  unfold K3 Pipeline.afterTail₀
  after_reads_at
  refine (out4 m c _).trans ?_
  rw [← hz]
  exact (sum8_congr fun d => g3 m c _ _ d i j k l)

def K4 : Buf (Elt Ideal) ((c : Thread nD τ).loc main_v81) := Pipeline.afterTail₀ cfgs (dats m) 0 (V0 m) [hostOps1] c main_v81
theorem K4_at (i : Fin 1) (j : Fin 64) (k : Fin 64) (l : Fin 16) (z : EReal) (hz : (sum8 fun d => Ag4 m c (ix5 d i j k l)) = z) : (K4 m c : S1x64x64x16.Idx → EReal) (ix4 i j k l) = z := by
  unfold K4 Pipeline.afterTail₀
  after_reads_at
  refine (out4 m c _).trans ?_
  rw [← hz]
  exact (sum8_congr fun d => g4 m c _ _ d i j k l)

def K5 : Buf (Elt Ideal) ((c : Thread nD τ).loc main_v84) := Pipeline.afterTail₀ cfgs (dats m) 0 (V0 m) [hostOps1] c main_v84
theorem K5_at (i : Fin 1) (j : Fin 64) (k : Fin 16) (l : Fin 64) (z : EReal) (hz : (sum8 fun d => Ag5 m c (ix5 d i j k l)) = z) : (K5 m c : S1x64x16x64.Idx → EReal) (ix4 i j k l) = z := by
  unfold K5 Pipeline.afterTail₀
  after_reads_at
  refine (out4 m c _).trans ?_
  rw [← hz]
  exact (sum8_congr fun d => g5 m c _ _ d i j k l)

def K6 : Buf (Elt Ideal) ((c : Thread nD τ).loc main_v87) := Pipeline.afterTail₀ cfgs (dats m) 0 (V0 m) [hostOps1] c main_v87
theorem K6_at (i : Fin 1) (j : Fin 64) (k : Fin 16) (l : Fin 64) (z : EReal) (hz : (sum8 fun d => Ag6 m c (ix5 d i j k l)) = z) : (K6 m c : S1x64x16x64.Idx → EReal) (ix4 i j k l) = z := by
  unfold K6 Pipeline.afterTail₀
  after_reads_at
  refine (out4 m c _).trans ?_
  rw [← hz]
  exact (sum8_congr fun d => g6 m c _ _ d i j k l)

def K7 : Buf (Elt Ideal) ((c : Thread nD τ).loc main_v90) := Pipeline.afterTail₀ cfgs (dats m) 0 (V0 m) [hostOps1] c main_v90
theorem K7_at (i : Fin 1) (j : Fin 64) (k : Fin 16) (z : EReal) (hz : (sum8 fun d => Ag7 m c (ix4 d i j k)) = z) : (K7 m c : S1x64x16.Idx → EReal) (ix3 i j k) = z := by
  unfold K7 Pipeline.afterTail₀
  after_reads_at
  refine (out4 m c _).trans ?_
  rw [← hz]
  exact (sum8_congr fun d => g7 m c _ _ d i j k)

def K8 : Buf (Elt Ideal) ((c : Thread nD τ).loc main_v93) := Pipeline.afterTail₀ cfgs (dats m) 0 (V0 m) [hostOps1] c main_v93
theorem K8_at (i : Fin 1) (j : Fin 1024) (z : EReal) (hz : (sum8 fun d => Ag8 m c (ix3 d i j)) = z) : (K8 m c : S1x1024.Idx → EReal) (ix2 i j) = z := by
  unfold K8 Pipeline.afterTail₀
  after_reads_at
  refine (out4 m c _).trans ?_
  rw [← hz]
  exact (sum8_congr fun d => g8 m c _ _ d i j)

def K9 : Buf (Elt Ideal) ((c : Thread nD τ).loc main_v96) := Pipeline.afterTail₀ cfgs (dats m) 0 (V0 m) [hostOps1] c main_v96
theorem K9_at (i : Fin 1) (j : Fin 2048) (z : EReal) (hz : (sum8 fun d => Ag9 m c (ix3 d i j)) = z) : (K9 m c : S1x2048.Idx → EReal) (ix2 i j) = z := by
  unfold K9 Pipeline.afterTail₀
  after_reads_at
  refine (out4 m c _).trans ?_
  rw [← hz]
  exact (sum8_congr fun d => g9 m c _ _ d i j)

def K10 : Buf (Elt Ideal) ((c : Thread nD τ).loc main_v100) := Pipeline.afterTail₀ cfgs (dats m) 0 (V0 m) [hostOps1] c main_v100
theorem K10_at (i : Fin 1) (j : Fin 5632) (z : EReal) (hz : (sum8 fun d => Ag10 m c (ix3 d i j)) = z) : (K10 m c : S1x5632.Idx → EReal) (ix2 i j) = z := by
  unfold K10 Pipeline.afterTail₀
  after_reads_at
  refine (out4 m c _).trans ?_
  rw [← hz]
  exact (sum8_congr fun d => g10 m c _ _ d i j)

def K11 : Buf (Elt Ideal) ((c : Thread nD τ).loc main_v102) := Pipeline.afterTail₀ cfgs (dats m) 0 (V0 m) [hostOps1] c main_v102
theorem K11_at (i : Fin 2048) (z : EReal) (hz : (sum8 fun d => Ag11 m c (ix2 d i)) = z) : (K11 m c : S2048.Idx → EReal) (ix1 i) = z := by
  unfold K11 Pipeline.afterTail₀
  after_reads_at
  refine (out4 m c _).trans ?_
  rw [← hz]
  exact (sum8_congr fun d => g11 m c _ _ d i)

section Reference
open Reference27Ideal.Read
theorem ref0 (x0 : FVec Ideal ⟨4, ![8, 1, 64, 64]⟩ .f32) (i : Fin 1) (j : Fin 64) (k : Fin 64) :
    val_main_v0 (F := Ideal) x0 (ix3 i j k) = sum8 fun d => x0 (ix4 d i j k) := by
  obtain rfl : i = 0 := Subsingleton.elim _ _
  pointwise [val_main_cst, val_main_v0]
  rfl
theorem ref1 (x0 : FVec Ideal ⟨4, ![8, 1, 64, 64]⟩ .f32) (i : Fin 1) (j : Fin 64) (k : Fin 64) :
    val_main_v25 (F := Ideal) x0 (ix3 i j k) = sum8 fun d => x0 (ix4 d i j k) := by
  obtain rfl : i = 0 := Subsingleton.elim _ _
  pointwise [val_main_cst_9, val_main_v25]
  rfl
theorem ref2 (x0 : FVec Ideal ⟨3, ![8, 1, 64]⟩ .f32) (i : Fin 1) (j : Fin 64) :
    val_main_v50 (F := Ideal) x0 (ix2 i j) = sum8 fun d => x0 (ix3 d i j) := by
  obtain rfl : i = 0 := Subsingleton.elim _ _
  pointwise [val_main_cst_19, val_main_v50]
  rfl
theorem ref3 (x0 : FVec Ideal ⟨5, ![8, 1, 64, 64, 16]⟩ .f32) (i : Fin 1) (j : Fin 64) (k : Fin 64) (l : Fin 16) :
    val_main_v75 (F := Ideal) x0 (ix4 i j k l) = sum8 fun d => x0 (ix5 d i j k l) := by
  obtain rfl : i = 0 := Subsingleton.elim _ _
  pointwise [val_main_cst_29, val_main_v75]
  rfl
theorem ref4 (x0 : FVec Ideal ⟨5, ![8, 1, 64, 64, 16]⟩ .f32) (i : Fin 1) (j : Fin 64) (k : Fin 64) (l : Fin 16) :
    val_main_v100 (F := Ideal) x0 (ix4 i j k l) = sum8 fun d => x0 (ix5 d i j k l) := by
  obtain rfl : i = 0 := Subsingleton.elim _ _
  pointwise [val_main_cst_39, val_main_v100]
  rfl
theorem ref5 (x0 : FVec Ideal ⟨5, ![8, 1, 64, 16, 64]⟩ .f32) (i : Fin 1) (j : Fin 64) (k : Fin 16) (l : Fin 64) :
    val_main_v125 (F := Ideal) x0 (ix4 i j k l) = sum8 fun d => x0 (ix5 d i j k l) := by
  obtain rfl : i = 0 := Subsingleton.elim _ _
  pointwise [val_main_cst_49, val_main_v125]
  rfl
theorem ref6 (x0 : FVec Ideal ⟨5, ![8, 1, 64, 16, 64]⟩ .f32) (i : Fin 1) (j : Fin 64) (k : Fin 16) (l : Fin 64) :
    val_main_v150 (F := Ideal) x0 (ix4 i j k l) = sum8 fun d => x0 (ix5 d i j k l) := by
  obtain rfl : i = 0 := Subsingleton.elim _ _
  pointwise [val_main_cst_59, val_main_v150]
  rfl
theorem ref7 (x0 : FVec Ideal ⟨4, ![8, 1, 64, 16]⟩ .f32) (i : Fin 1) (j : Fin 64) (k : Fin 16) :
    val_main_v175 (F := Ideal) x0 (ix3 i j k) = sum8 fun d => x0 (ix4 d i j k) := by
  obtain rfl : i = 0 := Subsingleton.elim _ _
  pointwise [val_main_cst_69, val_main_v175]
  rfl
theorem ref8 (x0 : FVec Ideal ⟨3, ![8, 1, 1024]⟩ .f32) (i : Fin 1) (j : Fin 1024) :
    val_main_v200 (F := Ideal) x0 (ix2 i j) = sum8 fun d => x0 (ix3 d i j) := by
  obtain rfl : i = 0 := Subsingleton.elim _ _
  pointwise [val_main_cst_79, val_main_v200]
  rfl
theorem ref9 (x0 : FVec Ideal ⟨3, ![8, 1, 2048]⟩ .f32) (i : Fin 1) (j : Fin 2048) :
    val_main_v225 (F := Ideal) x0 (ix2 i j) = sum8 fun d => x0 (ix3 d i j) := by
  obtain rfl : i = 0 := Subsingleton.elim _ _
  pointwise [val_main_cst_89, val_main_v225]
  rfl
theorem ref10 (x0 : FVec Ideal ⟨3, ![8, 1, 5632]⟩ .f32) (i : Fin 1) (j : Fin 5632) :
    val_main_v250 (F := Ideal) x0 (ix2 i j) = sum8 fun d => x0 (ix3 d i j) := by
  obtain rfl : i = 0 := Subsingleton.elim _ _
  pointwise [val_main_cst_99, val_main_v250]
  rfl
theorem ref11 (x0 : FVec Ideal ⟨2, ![8, 2048]⟩ .f32) (i : Fin 2048) :
    val_main_v275 (F := Ideal) x0 (ix1 i) = sum8 fun d => x0 (ix2 d i) := by
  pointwise [val_main_cst_109, val_main_v275]
  rfl
end Reference

theorem frame_kernel : quiescent_Kernel27 := fun m ρ _ => Kernel27.Gen.frame m ρ
theorem frame_kernelIdeal : quiescent_Kernel27Ideal := fun m ρ _ => Kernel27Ideal.Gen.frame m ρ
theorem frame_reference : quiescent_Reference27Ideal := fun m ρ _ =>
  (θ_run Reference27Ideal.defs _ _).mono (fun r h => ⟨fun c => (h c).2.2.2.2.2.2.2.2.2.2.2.2, sem_eq_zero_of_no_sems (by decide) r.2⟩)
    (Reference27Ideal.Value.run (F := Ideal) m ρ)

theorem algebraic : algebraic_Kernel27Ideal_Reference27Ideal := by
  intro m ρ m' ρ' _ hagree
  refine ⟨K0 m, K1 m, K2 m, K3 m, K4 m, K5 m, K6 m, K7 m, K8 m, K9 m, K10 m, K11 m, (θ_run defs _ _).mono (fun r h c => ⟨(h.1 c).2 main_v68 (Pipeline.mem_restRefs_of main_v68 (by decide) (by decide)), (h.1 c).2 main_v71 (Pipeline.mem_restRefs_of main_v71 (by decide) (by decide)), (h.1 c).2 main_v75 (Pipeline.mem_restRefs_of main_v75 (by decide) (by decide)), (h.1 c).2 main_v78 (Pipeline.mem_restRefs_of main_v78 (by decide) (by decide)), (h.1 c).2 main_v81 (Pipeline.mem_restRefs_of main_v81 (by decide) (by decide)), (h.1 c).2 main_v84 (Pipeline.mem_restRefs_of main_v84 (by decide) (by decide)), (h.1 c).2 main_v87 (Pipeline.mem_restRefs_of main_v87 (by decide) (by decide)), (h.1 c).2 main_v90 (Pipeline.mem_restRefs_of main_v90 (by decide) (by decide)), (h.1 c).2 main_v93 (Pipeline.mem_restRefs_of main_v93 (by decide) (by decide)), (h.1 c).2 main_v96 (Pipeline.mem_restRefs_of main_v96 (by decide) (by decide)), (h.1 c).2 main_v100 (Pipeline.mem_restRefs_of main_v100 (by decide) (by decide)), (h.1 c).2 main_v102 (Pipeline.mem_restRefs_of main_v102 (by decide) (by decide)), h.2 c⟩)
    (θ_run_and (run_main m ρ) (unchanged m ρ)), ?_⟩
  refine (θ_run Reference27Ideal.defs _ _).mono (fun _ h c => ?_) (Reference27Ideal.Value.run (F := Ideal) m' ρ')
  obtain ⟨h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, h44, h45, h46, h47⟩ := hagree c
  obtain ⟨r0, r1, r2, r3, r4, r5, r6, r7, r8, r9, r10, r11, rest⟩ := h c
  refine ⟨r0.trans ?_, r1.trans ?_, r2.trans ?_, r3.trans ?_, r4.trans ?_, r5.trans ?_, r6.trans ?_, r7.trans ?_, r8.trans ?_, r9.trans ?_, r10.trans ?_, r11.trans ?_, rest⟩
  · refine (cong1 (Reference27Ideal.Read.val_main_v0 (F := Ideal)) h0).trans ?_
    funext e
    obtain ⟨i, j, k, rfl⟩ := ix3_surj e
    exact (ref0 _ i j k).trans (K0_at m c i j k _ rfl).symm
  · refine (cong1 (Reference27Ideal.Read.val_main_v25 (F := Ideal)) h1).trans ?_
    funext e
    obtain ⟨i, j, k, rfl⟩ := ix3_surj e
    exact (ref1 _ i j k).trans (K1_at m c i j k _ rfl).symm
  · refine (cong1 (Reference27Ideal.Read.val_main_v50 (F := Ideal)) h2).trans ?_
    funext e
    obtain ⟨i, j, rfl⟩ := ix2_surj e
    exact (ref2 _ i j).trans (K2_at m c i j _ rfl).symm
  · refine (cong1 (Reference27Ideal.Read.val_main_v75 (F := Ideal)) h3).trans ?_
    funext e
    obtain ⟨i, j, k, l, rfl⟩ := ix4_surj e
    exact (ref3 _ i j k l).trans (K3_at m c i j k l _ rfl).symm
  · refine (cong1 (Reference27Ideal.Read.val_main_v100 (F := Ideal)) h4).trans ?_
    funext e
    obtain ⟨i, j, k, l, rfl⟩ := ix4_surj e
    exact (ref4 _ i j k l).trans (K4_at m c i j k l _ rfl).symm
  · refine (cong1 (Reference27Ideal.Read.val_main_v125 (F := Ideal)) h5).trans ?_
    funext e
    obtain ⟨i, j, k, l, rfl⟩ := ix4_surj e
    exact (ref5 _ i j k l).trans (K5_at m c i j k l _ rfl).symm
  · refine (cong1 (Reference27Ideal.Read.val_main_v150 (F := Ideal)) h6).trans ?_
    funext e
    obtain ⟨i, j, k, l, rfl⟩ := ix4_surj e
    exact (ref6 _ i j k l).trans (K6_at m c i j k l _ rfl).symm
  · refine (cong1 (Reference27Ideal.Read.val_main_v175 (F := Ideal)) h7).trans ?_
    funext e
    obtain ⟨i, j, k, rfl⟩ := ix3_surj e
    exact (ref7 _ i j k).trans (K7_at m c i j k _ rfl).symm
  · refine (cong1 (Reference27Ideal.Read.val_main_v200 (F := Ideal)) h8).trans ?_
    funext e
    obtain ⟨i, j, rfl⟩ := ix2_surj e
    exact (ref8 _ i j).trans (K8_at m c i j _ rfl).symm
  · refine (cong1 (Reference27Ideal.Read.val_main_v225 (F := Ideal)) h9).trans ?_
    funext e
    obtain ⟨i, j, rfl⟩ := ix2_surj e
    exact (ref9 _ i j).trans (K9_at m c i j _ rfl).symm
  · refine (cong1 (Reference27Ideal.Read.val_main_v250 (F := Ideal)) h10).trans ?_
    funext e
    obtain ⟨i, j, rfl⟩ := ix2_surj e
    exact (ref10 _ i j).trans (K10_at m c i j _ rfl).symm
  · refine (cong1 (Reference27Ideal.Read.val_main_v275 (F := Ideal)) h11).trans ?_
    funext e
    obtain ⟨i, rfl⟩ := ix1_surj e
    exact (ref11 _ i).trans (K11_at m c i _ rfl).symm

end P27
-- ==== Proof.P28.lean ====
module

public import proofs.«01_k».proof.Proof.Step
public import proofs.«01_k».proof.Proof.Gen.Kernel28.Frame
public import proofs.«01_k».proof.Proof.Gen.Kernel28Ideal.Frame
public import proofs.«01_k».proof.Proof.Gen.Reference28Ideal.Read
public import proofs.«01_k».proof.Proof.Gen.Reference28Ideal.Run

@[expose] public section

set_option maxRecDepth 16384

noncomputable section

/-! # The claims about `adamw_small`, the changes of the weights of the twelve small parameters, which the call steps packed as 2304 × 128 -/

namespace Cert.P28

open Kernel28Ideal Kernel28Ideal.Gen Idealize.ShloMosaic Idealize.ShloMosaic.TcCoe Idealize.SL.Sem
open Step

section Blocks
variable {F : FTy → Type} [FloatOps F]
variable (m : (ℓ : Loc nD τ sig) → Buf (Elt F) ℓ) (c : Dev nD) (t : Fin cfg0.N) (x : Fin 1152) (y : Fin 128)

theorem ltN (t : Fin cfg0.N) : t.val < 2 := lt_of_lt_of_eq t.isLt N_0

theorem at5 : ∀ t : Fin grid0.N, win0_5.index t 0 = t.val ∧ win0_5.index t 1 = 0 := by decide +kernel

/-- Where block `t` lies in its array, for the windows 1, 2, 3 and the results 5, which move alike. -/
theorem pos5 :
    ((win0_5.rect t).idx (ix2 x y) : (⟨2, ![2304, 128]⟩ : Shape).Idx) = ix2 ⟨t.val * 1152 + x.val, by have := ltN t; omega⟩ y := by
  refine funext fun a => Fin.ext ?_
  match a with
  | ⟨0, _⟩ => show win0_5.index t 0 * 1152 + 1 * x.val = t.val * 1152 + x.val; rw [(at5 t).1]; omega
  | ⟨1, _⟩ => show win0_5.index t 1 * 128 + 1 * y.val = y.val; rw [(at5 t).2]; omega
/-- Every element of such an array lies in one block. -/
theorem block5 (i : (⟨2, ![2304, 128]⟩ : Shape).Idx) :
    ∃ t : Fin cfg0.N, ∀ a : Fin 2, win0_5.index t a * ![1152, 128] a ≤ (i a : Nat) ∧ (i a : Nat) < win0_5.index t a * ![1152, 128] a + ![1152, 128] a := by
  have h0 : (i 0 : Nat) < 2304 := (i 0).isLt
  have h1 : (i 1 : Nat) < 128 := (i 1).isLt
  have hN : cfg0.N = 2 := N_0
  let t : Fin cfg0.N := ⟨(i 0 : Nat) / 1152, by omega⟩
  refine ⟨t, fun a => ?_⟩
  match a with
  | ⟨0, _⟩ =>
    show win0_5.index t 0 * 1152 ≤ (i 0 : Nat) ∧ (i 0 : Nat) < win0_5.index t 0 * 1152 + 1152
    rw [(at5 t).1]; dsimp only [t]; omega
  | ⟨1, _⟩ =>
    show win0_5.index t 1 * 128 ≤ (i 1 : Nat) ∧ (i 1 : Nat) < win0_5.index t 1 * 128 + 128
    rw [(at5 t).2]; dsimp only [t]; omega
theorem iblk1 :
    iblk m c 1 t (ix2 x y) = V m c main_v32 (ix2 ⟨t.val * 1152 + x.val, by have := ltN t; omega⟩ y) := by
  show V m c main_v32 ((win0_1.rect t).idx (ix2 x y)) = _
  exact congrArg _ (pos5 t x y)
theorem iblk2 :
    iblk m c 2 t (ix2 x y) = V m c main_v48 (ix2 ⟨t.val * 1152 + x.val, by have := ltN t; omega⟩ y) := by
  show V m c main_v48 ((win0_2.rect t).idx (ix2 x y)) = _
  exact congrArg _ (pos5 t x y)
theorem iblk3 :
    iblk m c 3 t (ix2 x y) = V m c main_v64 (ix2 ⟨t.val * 1152 + x.val, by have := ltN t; omega⟩ y) := by
  show V m c main_v64 ((win0_3.rect t).idx (ix2 x y)) = _
  exact congrArg _ (pos5 t x y)
theorem oblk5 (G : Buf (Elt F) ((c : Thread nD τ).loc main_v65_1)) :
    ((cfg0.win 5).blk t).view.read (Elt F) G (ix2 x y) = G (ix2 ⟨t.val * 1152 + x.val, by have := ltN t; omega⟩ y) :=
  congrArg G (pos5 t x y)
theorem cover5 (i : (⟨2, ![2304, 128]⟩ : Shape).Idx) :
    ∃ t : Fin cfg0.N, (cfg0.win 5).flush t = true ∧ i ∈ ((cfg0.win 5).blk t).view.set := by
  obtain ⟨t, h⟩ := block5 i
  refine ⟨t, flush0_5 _, ?_⟩
  show i ∈ ((View.whole main_v65_1).slice (win0_5.rect t)).set
  rw [View.set_slice_whole, Rect.mem_set_unit]
  exact h

theorem at0 : ∀ t : Fin grid0.N, win0_0.index t 0 = 0 ∧ win0_0.index t 1 = t.val ∧ win0_0.index t 2 = 0 := by decide +kernel

/-- Block `t` of window 0, element by element. -/
theorem iblk0 (c : Dev nD) (t : Fin cfg0.N) (x : Fin 8) (y : Fin 1152) (z : Fin 128) :
    iblk m c 0 t (ix3 x y z) = V m c main_v16 (ix3 x ⟨t.val * 1152 + y.val, by have := ltN t; omega⟩ z) := by
  show V m c main_v16 ((win0_0.rect t).idx (ix3 x y z)) = _
  refine congrArg _ (funext fun a => Fin.ext ?_)
  match a with
  | ⟨0, _⟩ => show win0_0.index t 0 * 8 + 1 * x.val = x.val; rw [(at0 t).1]; have := ltN t; omega
  | ⟨1, _⟩ => show win0_0.index t 1 * 1152 + 1 * y.val = t.val * 1152 + y.val; rw [(at0 t).2.1]; have := ltN t; omega
  | ⟨2, _⟩ => show win0_0.index t 2 * 128 + 1 * z.val = z.val; rw [(at0 t).2.2]; have := ltN t; omega
end Blocks

/-! ## One element of the step -/
section Spec
/-- The gradient: the sum over the devices. -/
def grad (A0 : FVec Ideal ⟨3, ![8, 2304, 128]⟩ .f32) (r : Fin 2304) (q : Fin 128) : EReal := ∑ d : Fin 8, A0 (ix3 d r q)
end Spec

variable (m : (ℓ : Loc nD τ sig) → Buf (Elt Ideal) ℓ) (ρ : Dev nD → PrngReg)

abbrev a0 (c : Dev nD) : FVec Ideal ⟨3, ![8, 2304, 128]⟩ .f32 := V m c main_v16
abbrev a1 (c : Dev nD) : FVec Ideal ⟨2, ![2304, 128]⟩ .f32 := V m c main_v32
abbrev a2 (c : Dev nD) : FVec Ideal ⟨2, ![2304, 128]⟩ .f32 := V m c main_v48
abbrev a3 (c : Dev nD) : FVec Ideal ⟨2, ![2304, 128]⟩ .f32 := V m c main_v64

/-- The four result arrays of device `c`: the gradient, the change of the weight, the new moments. -/
abbrev G4 (c : Dev nD) : Buf (Elt Ideal) ((c : Thread nD τ).loc main_v65_0) := fun i : S2304x128.Idx => grad (a0 m c) (i 0) (i 1)
abbrev G5 (c : Dev nD) : Buf (Elt Ideal) ((c : Thread nD τ).loc main_v65_1) := fun i : S2304x128.Idx =>
  delta (grad (a0 m c) (i 0) (i 1)) (a1 m c (ix2 (i 0) (i 1))) (a2 m c (ix2 (i 0) (i 1))) (a3 m c (ix2 (i 0) (i 1)))
abbrev G6 (c : Dev nD) : Buf (Elt Ideal) ((c : Thread nD τ).loc main_v65_2) := fun i : S2304x128.Idx =>
  newM (grad (a0 m c) (i 0) (i 1)) (a2 m c (ix2 (i 0) (i 1)))
abbrev G7 (c : Dev nD) : Buf (Elt Ideal) ((c : Thread nD τ).loc main_v65_3) := fun i : S2304x128.Idx =>
  newV (grad (a0 m c) (i 0) (i 1)) (a3 m c (ix2 (i 0) (i 1)))

section Payloads
variable (g u2 v w : Vec Ideal S1152x128 .f32) (x : Fin 1152) (y : Fin 128)
theorem pay1_at : k0_pay1 (F := Ideal) g v (ix2 x y) = newV (g (ix2 x y)) (v (ix2 x y)) := by
  pointwise [k0_pay1]
  rfl
theorem pay2_at (mo : EReal) (hu : u2 (ix2 x y) = newM (g (ix2 x y)) mo) :
    k0_pay2 (F := Ideal) g u2 v w (ix2 x y) = delta (g (ix2 x y)) (w (ix2 x y)) mo (v (ix2 x y)) := by
  pointwise [k0_pay2, k0_pay1]
  rw [hu]
  rfl
variable (x0 : Vec Ideal S8x1152x128 .f32) (x1 x2 x3 : Vec Ideal S1152x128 .f32)
theorem pay5_at : k0_pay5 (F := Ideal) x0 x1 x2 x3 (ix2 x y) = (∑ d : Fin 8, x0 (ix3 d x y) : EReal) := by
  pointwise [k0_pay5, k0_pay3]
  rw [Fin.sum_univ_eight]
theorem pay6_at : k0_pay6 (F := Ideal) x0 x1 x2 x3 (ix2 x y) = newM (k0_pay5 (F := Ideal) x0 x1 x2 x3 (ix2 x y)) (x2 (ix2 x y)) := by
  pointwise [k0_pay6, k0_pay5, k0_pay3, k0_pay4]
  rfl
end Payloads

theorem grad_at (c : Dev nD) (t : Fin cfg0.N) (x : Fin 1152) (y : Fin 128) :
    k0_pay5 (F := Ideal) (iblk m c 0 t) (iblk m c 1 t) (iblk m c 2 t) (iblk m c 3 t) (ix2 x y) = grad (a0 m c) ⟨t.val * 1152 + x.val, by have := ltN t; omega⟩ y :=
  (pay5_at x y _ _ _ _).trans (Finset.sum_congr rfl fun d _ => iblk0 m c t d x y)

/-- Element `(x, y)` of a block, as an extended real. -/
abbrev ew (v : Vec Ideal S1152x128 .f32) (x : Fin 1152) (y : Fin 128) : EReal := v (ix2 x y)
theorem ew1 (c : Dev nD) (t : Fin cfg0.N) (x : Fin 1152) (y : Fin 128) : ew (iblk m c 1 t) x y = a1 m c (ix2 ⟨t.val * 1152 + x.val, by have := ltN t; omega⟩ y) := iblk1 m c t x y
theorem ew2 (c : Dev nD) (t : Fin cfg0.N) (x : Fin 1152) (y : Fin 128) : ew (iblk m c 2 t) x y = a2 m c (ix2 ⟨t.val * 1152 + x.val, by have := ltN t; omega⟩ y) := iblk2 m c t x y
theorem ew3 (c : Dev nD) (t : Fin cfg0.N) (x : Fin 1152) (y : Fin 128) : ew (iblk m c 3 t) x y = a3 m c (ix2 ⟨t.val * 1152 + x.val, by have := ltN t; omega⟩ y) := iblk3 m c t x y

theorem flushed5_eq (c : Dev nD) (t : Fin cfg0.N) :
    (dats m 0 c).flushed 5 t = ((cfg0.win 5).blk t).view.read (Elt Ideal) (G5 m c) := by
  show (cfg0.win 5).cut (grid0.coords t) ((dats m 0 c).after 5 t) = _
  rw [after0_5]
  funext i
  obtain ⟨x, y, rfl⟩ := ix2_surj i
  rw [oblk5]
  unfold out0_5
  rw [View.canon_unit_zero Step.hz]
  rw [View.ld_unit_zero Step.hz, View.ld_unit_zero Step.hz]
  refine (pay2_at _ _ _ _ x y _ (pay6_at x y _ _ _ _)).trans ?_
  rw [grad_at]
  show delta _ (ew (iblk m c 1 t) x y) (ew (iblk m c 2 t) x y) (ew (iblk m c 3 t) x y) = _
  rw [ew1, ew2, ew3]
  rfl

theorem arr5 (c : Dev nD) : (dats m 0 c).arrAt 5 cfg0.N = G5 m c :=
  (dats m 0 c).arrAt_eq_of_cover 5 (G5 m c) (fun t _ => flushed5_eq m c t) cover5

/-! ## What the region's arrays hold when it starts -/
/-- The buffers after the first `k` host operations. -/
def U (c : Dev nD) (k : Nat) : Valuation τ sig (Elt Ideal) := StableHlo.upto [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16].flatten (fun b => m (c, b)) k
abbrev Pg (c : Dev nD) : S8x2304x128.Idx → EReal := V m c main_v16
abbrev Ag0 (c : Dev nD) : S8x1x64x64.Idx → EReal := m ((c : Thread nD τ).loc main_arg0)
abbrev Ag1 (c : Dev nD) : S8x1x64x64.Idx → EReal := m ((c : Thread nD τ).loc main_arg1)
abbrev Ag2 (c : Dev nD) : S8x1x64.Idx → EReal := m ((c : Thread nD τ).loc main_arg2)
abbrev Ag3 (c : Dev nD) : S8x1x64x64x16.Idx → EReal := m ((c : Thread nD τ).loc main_arg3)
abbrev Ag4 (c : Dev nD) : S8x1x64x64x16.Idx → EReal := m ((c : Thread nD τ).loc main_arg4)
abbrev Ag5 (c : Dev nD) : S8x1x64x16x64.Idx → EReal := m ((c : Thread nD τ).loc main_arg5)
abbrev Ag6 (c : Dev nD) : S8x1x64x16x64.Idx → EReal := m ((c : Thread nD τ).loc main_arg6)
abbrev Ag7 (c : Dev nD) : S8x1x64x16.Idx → EReal := m ((c : Thread nD τ).loc main_arg7)
abbrev Ag8 (c : Dev nD) : S8x1x1024.Idx → EReal := m ((c : Thread nD τ).loc main_arg8)
abbrev Ag9 (c : Dev nD) : S8x1x2048.Idx → EReal := m ((c : Thread nD τ).loc main_arg9)
abbrev Ag10 (c : Dev nD) : S8x1x5632.Idx → EReal := m ((c : Thread nD τ).loc main_arg10)
abbrev Ag11 (c : Dev nD) : S8x2048.Idx → EReal := m ((c : Thread nD τ).loc main_arg11)
abbrev Pw (c : Dev nD) : S2304x128.Idx → EReal := V m c main_v32
abbrev Aw0 (c : Dev nD) : S1x64x64.Idx → EReal := m ((c : Thread nD τ).loc main_arg12)
abbrev Aw1 (c : Dev nD) : S1x64x64.Idx → EReal := m ((c : Thread nD τ).loc main_arg13)
abbrev Aw2 (c : Dev nD) : S1x64.Idx → EReal := m ((c : Thread nD τ).loc main_arg14)
abbrev Aw3 (c : Dev nD) : S1x64x64x16.Idx → EReal := m ((c : Thread nD τ).loc main_arg15)
abbrev Aw4 (c : Dev nD) : S1x64x64x16.Idx → EReal := m ((c : Thread nD τ).loc main_arg16)
abbrev Aw5 (c : Dev nD) : S1x64x16x64.Idx → EReal := m ((c : Thread nD τ).loc main_arg17)
abbrev Aw6 (c : Dev nD) : S1x64x16x64.Idx → EReal := m ((c : Thread nD τ).loc main_arg18)
abbrev Aw7 (c : Dev nD) : S1x64x16.Idx → EReal := m ((c : Thread nD τ).loc main_arg19)
abbrev Aw8 (c : Dev nD) : S1x1024.Idx → EReal := m ((c : Thread nD τ).loc main_arg20)
abbrev Aw9 (c : Dev nD) : S1x2048.Idx → EReal := m ((c : Thread nD τ).loc main_arg21)
abbrev Aw10 (c : Dev nD) : S1x5632.Idx → EReal := m ((c : Thread nD τ).loc main_arg22)
abbrev Aw11 (c : Dev nD) : S2048.Idx → EReal := m ((c : Thread nD τ).loc main_arg23)
abbrev Pm (c : Dev nD) : S2304x128.Idx → EReal := V m c main_v48
abbrev Am0 (c : Dev nD) : S1x64x64.Idx → EReal := m ((c : Thread nD τ).loc main_arg24)
abbrev Am1 (c : Dev nD) : S1x64x64.Idx → EReal := m ((c : Thread nD τ).loc main_arg25)
abbrev Am2 (c : Dev nD) : S1x64.Idx → EReal := m ((c : Thread nD τ).loc main_arg26)
abbrev Am3 (c : Dev nD) : S1x64x64x16.Idx → EReal := m ((c : Thread nD τ).loc main_arg27)
abbrev Am4 (c : Dev nD) : S1x64x64x16.Idx → EReal := m ((c : Thread nD τ).loc main_arg28)
abbrev Am5 (c : Dev nD) : S1x64x16x64.Idx → EReal := m ((c : Thread nD τ).loc main_arg29)
abbrev Am6 (c : Dev nD) : S1x64x16x64.Idx → EReal := m ((c : Thread nD τ).loc main_arg30)
abbrev Am7 (c : Dev nD) : S1x64x16.Idx → EReal := m ((c : Thread nD τ).loc main_arg31)
abbrev Am8 (c : Dev nD) : S1x1024.Idx → EReal := m ((c : Thread nD τ).loc main_arg32)
abbrev Am9 (c : Dev nD) : S1x2048.Idx → EReal := m ((c : Thread nD τ).loc main_arg33)
abbrev Am10 (c : Dev nD) : S1x5632.Idx → EReal := m ((c : Thread nD τ).loc main_arg34)
abbrev Am11 (c : Dev nD) : S2048.Idx → EReal := m ((c : Thread nD τ).loc main_arg35)
abbrev Pv (c : Dev nD) : S2304x128.Idx → EReal := V m c main_v64
abbrev Av0 (c : Dev nD) : S1x64x64.Idx → EReal := m ((c : Thread nD τ).loc main_arg36)
abbrev Av1 (c : Dev nD) : S1x64x64.Idx → EReal := m ((c : Thread nD τ).loc main_arg37)
abbrev Av2 (c : Dev nD) : S1x64.Idx → EReal := m ((c : Thread nD τ).loc main_arg38)
abbrev Av3 (c : Dev nD) : S1x64x64x16.Idx → EReal := m ((c : Thread nD τ).loc main_arg39)
abbrev Av4 (c : Dev nD) : S1x64x64x16.Idx → EReal := m ((c : Thread nD τ).loc main_arg40)
abbrev Av5 (c : Dev nD) : S1x64x16x64.Idx → EReal := m ((c : Thread nD τ).loc main_arg41)
abbrev Av6 (c : Dev nD) : S1x64x16x64.Idx → EReal := m ((c : Thread nD τ).loc main_arg42)
abbrev Av7 (c : Dev nD) : S1x64x16.Idx → EReal := m ((c : Thread nD τ).loc main_arg43)
abbrev Av8 (c : Dev nD) : S1x1024.Idx → EReal := m ((c : Thread nD τ).loc main_arg44)
abbrev Av9 (c : Dev nD) : S1x2048.Idx → EReal := m ((c : Thread nD τ).loc main_arg45)
abbrev Av10 (c : Dev nD) : S1x5632.Idx → EReal := m ((c : Thread nD τ).loc main_arg46)
abbrev Av11 (c : Dev nD) : S2048.Idx → EReal := m ((c : Thread nD τ).loc main_arg47)

set_option maxHeartbeats 4000000 in
/-- The packed array at a position: the parameter whose stretch the position is in. -/
theorem key_g (c : Dev nD) (d : Fin 8) (x : Fin 2304) (y : Fin 128) (z : EReal) (hz : z =
      let n0 := x.val * 128 + y.val; let n1 := n0 - 4096; let n2 := n1 - 4096; let n3 := n2 - 1024; let n4 := n3 - 65536; let n5 := n4 - 65536; let n6 := n5 - 65536; let n7 := n6 - 65536; let n8 := n7 - 1024; let n9 := n8 - 1024; let n10 := n9 - 2048; let n11 := n10 - 6144; let n12 := n11 - 2048
      if h : n0 < 4096 then (U m c 20 (Proc.devRef .tc main_v0) : S8x4096.Idx → EReal) (ix2 d ⟨n0, h⟩) else
      if h : n1 < 4096 then (U m c 20 (Proc.devRef .tc main_v1) : S8x4096.Idx → EReal) (ix2 d ⟨n1, h⟩) else
      if h : n2 < 1024 then (U m c 20 (Proc.devRef .tc main_v3) : S8x1024.Idx → EReal) (ix2 d ⟨n2, h⟩) else
      if h : n3 < 65536 then (U m c 20 (Proc.devRef .tc main_v4) : S8x65536.Idx → EReal) (ix2 d ⟨n3, h⟩) else
      if h : n4 < 65536 then (U m c 20 (Proc.devRef .tc main_v5) : S8x65536.Idx → EReal) (ix2 d ⟨n4, h⟩) else
      if h : n5 < 65536 then (U m c 20 (Proc.devRef .tc main_v6) : S8x65536.Idx → EReal) (ix2 d ⟨n5, h⟩) else
      if h : n6 < 65536 then (U m c 20 (Proc.devRef .tc main_v7) : S8x65536.Idx → EReal) (ix2 d ⟨n6, h⟩) else
      if h : n7 < 1024 then (U m c 20 (Proc.devRef .tc main_v8) : S8x1024.Idx → EReal) (ix2 d ⟨n7, h⟩) else
      if h : n8 < 1024 then (U m c 20 (Proc.devRef .tc main_v9) : S8x1024.Idx → EReal) (ix2 d ⟨n8, h⟩) else
      if h : n9 < 2048 then (U m c 20 (Proc.devRef .tc main_v10) : S8x2048.Idx → EReal) (ix2 d ⟨n9, h⟩) else
      if h : n10 < 6144 then (U m c 20 (Proc.devRef .tc main_v12) : S8x6144.Idx → EReal) (ix2 d ⟨n10, h⟩) else
      if h : n11 < 2048 then (U m c 20 (Proc.devRef .tc main_arg11) : S8x2048.Idx → EReal) (ix2 d ⟨n11, h⟩) else
      (U m c 20 (Proc.devRef .tc main_v14) : S8x11264.Idx → EReal) (ix2 d ⟨n12, by omega⟩)) :
    Pg m c (ix3 d x y) = z := by
  unfold Pg V V0
  after_reads_at
  unfold U at hz
  exact hz.symm

set_option maxHeartbeats 4000000 in
/-- The packed array at a position: the parameter whose stretch the position is in. -/
theorem key_w (c : Dev nD) (x : Fin 2304) (y : Fin 128) (z : EReal) (hz : z =
      let n0 := x.val * 128 + y.val; let n1 := n0 - 4096; let n2 := n1 - 4096; let n3 := n2 - 1024; let n4 := n3 - 65536; let n5 := n4 - 65536; let n6 := n5 - 65536; let n7 := n6 - 65536; let n8 := n7 - 1024; let n9 := n8 - 1024; let n10 := n9 - 2048; let n11 := n10 - 6144; let n12 := n11 - 2048
      if h : n0 < 4096 then (U m c 41 (Proc.devRef .tc main_v17) : S4096.Idx → EReal) (ix1 ⟨n0, h⟩) else
      if h : n1 < 4096 then (U m c 41 (Proc.devRef .tc main_v18) : S4096.Idx → EReal) (ix1 ⟨n1, h⟩) else
      if h : n2 < 1024 then (U m c 41 (Proc.devRef .tc main_v20) : S1024.Idx → EReal) (ix1 ⟨n2, h⟩) else
      if h : n3 < 65536 then (U m c 41 (Proc.devRef .tc main_v21) : S65536.Idx → EReal) (ix1 ⟨n3, h⟩) else
      if h : n4 < 65536 then (U m c 41 (Proc.devRef .tc main_v22) : S65536.Idx → EReal) (ix1 ⟨n4, h⟩) else
      if h : n5 < 65536 then (U m c 41 (Proc.devRef .tc main_v23) : S65536.Idx → EReal) (ix1 ⟨n5, h⟩) else
      if h : n6 < 65536 then (U m c 41 (Proc.devRef .tc main_v24) : S65536.Idx → EReal) (ix1 ⟨n6, h⟩) else
      if h : n7 < 1024 then (U m c 41 (Proc.devRef .tc main_v25) : S1024.Idx → EReal) (ix1 ⟨n7, h⟩) else
      if h : n8 < 1024 then (U m c 41 (Proc.devRef .tc main_v26) : S1024.Idx → EReal) (ix1 ⟨n8, h⟩) else
      if h : n9 < 2048 then (U m c 41 (Proc.devRef .tc main_v27) : S2048.Idx → EReal) (ix1 ⟨n9, h⟩) else
      if h : n10 < 6144 then (U m c 41 (Proc.devRef .tc main_v29) : S6144.Idx → EReal) (ix1 ⟨n10, h⟩) else
      if h : n11 < 2048 then (U m c 41 (Proc.devRef .tc main_arg23) : S2048.Idx → EReal) (ix1 ⟨n11, h⟩) else
      (U m c 41 (Proc.devRef .tc main_v30) : S11264.Idx → EReal) (ix1 ⟨n12, by omega⟩)) :
    Pw m c (ix2 x y) = z := by
  unfold Pw V V0
  after_reads_at
  unfold U at hz
  exact hz.symm

set_option maxHeartbeats 4000000 in
/-- The packed array at a position: the parameter whose stretch the position is in. -/
theorem key_m (c : Dev nD) (x : Fin 2304) (y : Fin 128) (z : EReal) (hz : z =
      let n0 := x.val * 128 + y.val; let n1 := n0 - 4096; let n2 := n1 - 4096; let n3 := n2 - 1024; let n4 := n3 - 65536; let n5 := n4 - 65536; let n6 := n5 - 65536; let n7 := n6 - 65536; let n8 := n7 - 1024; let n9 := n8 - 1024; let n10 := n9 - 2048; let n11 := n10 - 6144; let n12 := n11 - 2048
      if h : n0 < 4096 then (U m c 62 (Proc.devRef .tc main_v33) : S4096.Idx → EReal) (ix1 ⟨n0, h⟩) else
      if h : n1 < 4096 then (U m c 62 (Proc.devRef .tc main_v34) : S4096.Idx → EReal) (ix1 ⟨n1, h⟩) else
      if h : n2 < 1024 then (U m c 62 (Proc.devRef .tc main_v36) : S1024.Idx → EReal) (ix1 ⟨n2, h⟩) else
      if h : n3 < 65536 then (U m c 62 (Proc.devRef .tc main_v37) : S65536.Idx → EReal) (ix1 ⟨n3, h⟩) else
      if h : n4 < 65536 then (U m c 62 (Proc.devRef .tc main_v38) : S65536.Idx → EReal) (ix1 ⟨n4, h⟩) else
      if h : n5 < 65536 then (U m c 62 (Proc.devRef .tc main_v39) : S65536.Idx → EReal) (ix1 ⟨n5, h⟩) else
      if h : n6 < 65536 then (U m c 62 (Proc.devRef .tc main_v40) : S65536.Idx → EReal) (ix1 ⟨n6, h⟩) else
      if h : n7 < 1024 then (U m c 62 (Proc.devRef .tc main_v41) : S1024.Idx → EReal) (ix1 ⟨n7, h⟩) else
      if h : n8 < 1024 then (U m c 62 (Proc.devRef .tc main_v42) : S1024.Idx → EReal) (ix1 ⟨n8, h⟩) else
      if h : n9 < 2048 then (U m c 62 (Proc.devRef .tc main_v43) : S2048.Idx → EReal) (ix1 ⟨n9, h⟩) else
      if h : n10 < 6144 then (U m c 62 (Proc.devRef .tc main_v45) : S6144.Idx → EReal) (ix1 ⟨n10, h⟩) else
      if h : n11 < 2048 then (U m c 62 (Proc.devRef .tc main_arg35) : S2048.Idx → EReal) (ix1 ⟨n11, h⟩) else
      (U m c 62 (Proc.devRef .tc main_v46) : S11264.Idx → EReal) (ix1 ⟨n12, by omega⟩)) :
    Pm m c (ix2 x y) = z := by
  unfold Pm V V0
  after_reads_at
  unfold U at hz
  exact hz.symm

set_option maxHeartbeats 4000000 in
/-- The packed array at a position: the parameter whose stretch the position is in. -/
theorem key_v (c : Dev nD) (x : Fin 2304) (y : Fin 128) (z : EReal) (hz : z =
      let n0 := x.val * 128 + y.val; let n1 := n0 - 4096; let n2 := n1 - 4096; let n3 := n2 - 1024; let n4 := n3 - 65536; let n5 := n4 - 65536; let n6 := n5 - 65536; let n7 := n6 - 65536; let n8 := n7 - 1024; let n9 := n8 - 1024; let n10 := n9 - 2048; let n11 := n10 - 6144; let n12 := n11 - 2048
      if h : n0 < 4096 then (U m c 83 (Proc.devRef .tc main_v49) : S4096.Idx → EReal) (ix1 ⟨n0, h⟩) else
      if h : n1 < 4096 then (U m c 83 (Proc.devRef .tc main_v50) : S4096.Idx → EReal) (ix1 ⟨n1, h⟩) else
      if h : n2 < 1024 then (U m c 83 (Proc.devRef .tc main_v52) : S1024.Idx → EReal) (ix1 ⟨n2, h⟩) else
      if h : n3 < 65536 then (U m c 83 (Proc.devRef .tc main_v53) : S65536.Idx → EReal) (ix1 ⟨n3, h⟩) else
      if h : n4 < 65536 then (U m c 83 (Proc.devRef .tc main_v54) : S65536.Idx → EReal) (ix1 ⟨n4, h⟩) else
      if h : n5 < 65536 then (U m c 83 (Proc.devRef .tc main_v55) : S65536.Idx → EReal) (ix1 ⟨n5, h⟩) else
      if h : n6 < 65536 then (U m c 83 (Proc.devRef .tc main_v56) : S65536.Idx → EReal) (ix1 ⟨n6, h⟩) else
      if h : n7 < 1024 then (U m c 83 (Proc.devRef .tc main_v57) : S1024.Idx → EReal) (ix1 ⟨n7, h⟩) else
      if h : n8 < 1024 then (U m c 83 (Proc.devRef .tc main_v58) : S1024.Idx → EReal) (ix1 ⟨n8, h⟩) else
      if h : n9 < 2048 then (U m c 83 (Proc.devRef .tc main_v59) : S2048.Idx → EReal) (ix1 ⟨n9, h⟩) else
      if h : n10 < 6144 then (U m c 83 (Proc.devRef .tc main_v61) : S6144.Idx → EReal) (ix1 ⟨n10, h⟩) else
      if h : n11 < 2048 then (U m c 83 (Proc.devRef .tc main_arg47) : S2048.Idx → EReal) (ix1 ⟨n11, h⟩) else
      (U m c 83 (Proc.devRef .tc main_v62) : S11264.Idx → EReal) (ix1 ⟨n12, by omega⟩)) :
    Pv m c (ix2 x y) = z := by
  unfold Pv V V0
  after_reads_at
  unfold U at hz
  exact hz.symm

variable (c : Dev nD) (x : Fin 2304) (y : Fin 128)
theorem g0 (d : Fin 8) (i : Fin 1) (j : Fin 64) (k : Fin 64) (h : x.val * 128 + y.val = 0 + (((i.val) * 64 + j.val) * 64 + k.val) := by first | omega | (dsimp only [ix2]; omega)) :
    Pg m c (ix3 d x y) = Ag0 m c (ix4 d i j k) := by
  rw [key_g m c d x y _ rfl]; dsimp only
  rw [dif_pos (by omega)]
  unfold U
  after_reads_at
  exact congrArg (Ag0 m c) ix4_congr
theorem g1 (d : Fin 8) (i : Fin 1) (j : Fin 64) (k : Fin 64) (h : x.val * 128 + y.val = 4096 + (((i.val) * 64 + j.val) * 64 + k.val) := by first | omega | (dsimp only [ix2]; omega)) :
    Pg m c (ix3 d x y) = Ag1 m c (ix4 d i j k) := by
  rw [key_g m c d x y _ rfl]; dsimp only
  rw [dif_neg (by omega)]
  rw [dif_pos (by omega)]
  unfold U
  after_reads_at
  exact congrArg (Ag1 m c) ix4_congr
theorem g2 (d : Fin 8) (i : Fin 1) (j : Fin 64) (h : x.val * 128 + y.val = 8192 + ((i.val) * 64 + j.val) := by first | omega | (dsimp only [ix2]; omega)) :
    Pg m c (ix3 d x y) = Ag2 m c (ix3 d i j) := by
  rw [key_g m c d x y _ rfl]; dsimp only
  iterate 2 rw [dif_neg (by omega)]
  rw [dif_pos (by omega)]
  unfold U
  after_reads_at
  rw [dif_pos (by omega)]
  exact congrArg (Ag2 m c) ix3_congr
theorem g3 (d : Fin 8) (i : Fin 1) (j : Fin 64) (k : Fin 64) (l : Fin 16) (h : x.val * 128 + y.val = 9216 + ((((i.val) * 64 + j.val) * 64 + k.val) * 16 + l.val) := by first | omega | (dsimp only [ix2]; omega)) :
    Pg m c (ix3 d x y) = Ag3 m c (ix5 d i j k l) := by
  rw [key_g m c d x y _ rfl]; dsimp only
  iterate 3 rw [dif_neg (by omega)]
  rw [dif_pos (by omega)]
  unfold U
  after_reads_at
  exact congrArg (Ag3 m c) ix5_congr
theorem g4 (d : Fin 8) (i : Fin 1) (j : Fin 64) (k : Fin 64) (l : Fin 16) (h : x.val * 128 + y.val = 74752 + ((((i.val) * 64 + j.val) * 64 + k.val) * 16 + l.val) := by first | omega | (dsimp only [ix2]; omega)) :
    Pg m c (ix3 d x y) = Ag4 m c (ix5 d i j k l) := by
  rw [key_g m c d x y _ rfl]; dsimp only
  iterate 4 rw [dif_neg (by omega)]
  rw [dif_pos (by omega)]
  unfold U
  after_reads_at
  exact congrArg (Ag4 m c) ix5_congr
theorem g5 (d : Fin 8) (i : Fin 1) (j : Fin 64) (k : Fin 16) (l : Fin 64) (h : x.val * 128 + y.val = 140288 + ((((i.val) * 64 + j.val) * 16 + k.val) * 64 + l.val) := by first | omega | (dsimp only [ix2]; omega)) :
    Pg m c (ix3 d x y) = Ag5 m c (ix5 d i j k l) := by
  rw [key_g m c d x y _ rfl]; dsimp only
  iterate 5 rw [dif_neg (by omega)]
  rw [dif_pos (by omega)]
  unfold U
  after_reads_at
  exact congrArg (Ag5 m c) ix5_congr
theorem g6 (d : Fin 8) (i : Fin 1) (j : Fin 64) (k : Fin 16) (l : Fin 64) (h : x.val * 128 + y.val = 205824 + ((((i.val) * 64 + j.val) * 16 + k.val) * 64 + l.val) := by first | omega | (dsimp only [ix2]; omega)) :
    Pg m c (ix3 d x y) = Ag6 m c (ix5 d i j k l) := by
  rw [key_g m c d x y _ rfl]; dsimp only
  iterate 6 rw [dif_neg (by omega)]
  rw [dif_pos (by omega)]
  unfold U
  after_reads_at
  exact congrArg (Ag6 m c) ix5_congr
theorem g7 (d : Fin 8) (i : Fin 1) (j : Fin 64) (k : Fin 16) (h : x.val * 128 + y.val = 271360 + (((i.val) * 64 + j.val) * 16 + k.val) := by first | omega | (dsimp only [ix2]; omega)) :
    Pg m c (ix3 d x y) = Ag7 m c (ix4 d i j k) := by
  rw [key_g m c d x y _ rfl]; dsimp only
  iterate 7 rw [dif_neg (by omega)]
  rw [dif_pos (by omega)]
  unfold U
  after_reads_at
  exact congrArg (Ag7 m c) ix4_congr
theorem g8 (d : Fin 8) (i : Fin 1) (j : Fin 1024) (h : x.val * 128 + y.val = 272384 + ((i.val) * 1024 + j.val) := by first | omega | (dsimp only [ix2]; omega)) :
    Pg m c (ix3 d x y) = Ag8 m c (ix3 d i j) := by
  rw [key_g m c d x y _ rfl]; dsimp only
  iterate 8 rw [dif_neg (by omega)]
  rw [dif_pos (by omega)]
  unfold U
  after_reads_at
  exact congrArg (Ag8 m c) ix3_congr
theorem g9 (d : Fin 8) (i : Fin 1) (j : Fin 2048) (h : x.val * 128 + y.val = 273408 + ((i.val) * 2048 + j.val) := by first | omega | (dsimp only [ix2]; omega)) :
    Pg m c (ix3 d x y) = Ag9 m c (ix3 d i j) := by
  rw [key_g m c d x y _ rfl]; dsimp only
  iterate 9 rw [dif_neg (by omega)]
  rw [dif_pos (by omega)]
  unfold U
  after_reads_at
  exact congrArg (Ag9 m c) ix3_congr
theorem g10 (d : Fin 8) (i : Fin 1) (j : Fin 5632) (h : x.val * 128 + y.val = 275456 + ((i.val) * 5632 + j.val) := by first | omega | (dsimp only [ix2]; omega)) :
    Pg m c (ix3 d x y) = Ag10 m c (ix3 d i j) := by
  rw [key_g m c d x y _ rfl]; dsimp only
  iterate 10 rw [dif_neg (by omega)]
  rw [dif_pos (by omega)]
  unfold U
  after_reads_at
  rw [dif_pos (by omega)]
  exact congrArg (Ag10 m c) ix3_congr
theorem g11 (d : Fin 8) (i : Fin 2048) (h : x.val * 128 + y.val = 281600 + (i.val) := by first | omega | (dsimp only [ix2]; omega)) :
    Pg m c (ix3 d x y) = Ag11 m c (ix2 d i) := by
  rw [key_g m c d x y _ rfl]; dsimp only
  iterate 11 rw [dif_neg (by omega)]
  rw [dif_pos (by omega)]
  unfold U
  after_reads_at
  exact congrArg (Ag11 m c) ix2_congr
theorem w0 (i : Fin 1) (j : Fin 64) (k : Fin 64) (h : x.val * 128 + y.val = 0 + (((i.val) * 64 + j.val) * 64 + k.val) := by first | omega | (dsimp only [ix2]; omega)) :
    Pw m c (ix2 x y) = Aw0 m c (ix3 i j k) := by
  rw [key_w m c x y _ rfl]; dsimp only
  rw [dif_pos (by omega)]
  unfold U
  after_reads_at
  exact congrArg (Aw0 m c) ix3_congr
theorem w1 (i : Fin 1) (j : Fin 64) (k : Fin 64) (h : x.val * 128 + y.val = 4096 + (((i.val) * 64 + j.val) * 64 + k.val) := by first | omega | (dsimp only [ix2]; omega)) :
    Pw m c (ix2 x y) = Aw1 m c (ix3 i j k) := by
  rw [key_w m c x y _ rfl]; dsimp only
  rw [dif_neg (by omega)]
  rw [dif_pos (by omega)]
  unfold U
  after_reads_at
  exact congrArg (Aw1 m c) ix3_congr
theorem w2 (i : Fin 1) (j : Fin 64) (h : x.val * 128 + y.val = 8192 + ((i.val) * 64 + j.val) := by first | omega | (dsimp only [ix2]; omega)) :
    Pw m c (ix2 x y) = Aw2 m c (ix2 i j) := by
  rw [key_w m c x y _ rfl]; dsimp only
  iterate 2 rw [dif_neg (by omega)]
  rw [dif_pos (by omega)]
  unfold U
  after_reads_at
  rw [dif_pos (by omega)]
  exact congrArg (Aw2 m c) ix2_congr
theorem w3 (i : Fin 1) (j : Fin 64) (k : Fin 64) (l : Fin 16) (h : x.val * 128 + y.val = 9216 + ((((i.val) * 64 + j.val) * 64 + k.val) * 16 + l.val) := by first | omega | (dsimp only [ix2]; omega)) :
    Pw m c (ix2 x y) = Aw3 m c (ix4 i j k l) := by
  rw [key_w m c x y _ rfl]; dsimp only
  iterate 3 rw [dif_neg (by omega)]
  rw [dif_pos (by omega)]
  unfold U
  after_reads_at
  exact congrArg (Aw3 m c) ix4_congr
theorem w4 (i : Fin 1) (j : Fin 64) (k : Fin 64) (l : Fin 16) (h : x.val * 128 + y.val = 74752 + ((((i.val) * 64 + j.val) * 64 + k.val) * 16 + l.val) := by first | omega | (dsimp only [ix2]; omega)) :
    Pw m c (ix2 x y) = Aw4 m c (ix4 i j k l) := by
  rw [key_w m c x y _ rfl]; dsimp only
  iterate 4 rw [dif_neg (by omega)]
  rw [dif_pos (by omega)]
  unfold U
  after_reads_at
  exact congrArg (Aw4 m c) ix4_congr
theorem w5 (i : Fin 1) (j : Fin 64) (k : Fin 16) (l : Fin 64) (h : x.val * 128 + y.val = 140288 + ((((i.val) * 64 + j.val) * 16 + k.val) * 64 + l.val) := by first | omega | (dsimp only [ix2]; omega)) :
    Pw m c (ix2 x y) = Aw5 m c (ix4 i j k l) := by
  rw [key_w m c x y _ rfl]; dsimp only
  iterate 5 rw [dif_neg (by omega)]
  rw [dif_pos (by omega)]
  unfold U
  after_reads_at
  exact congrArg (Aw5 m c) ix4_congr
theorem w6 (i : Fin 1) (j : Fin 64) (k : Fin 16) (l : Fin 64) (h : x.val * 128 + y.val = 205824 + ((((i.val) * 64 + j.val) * 16 + k.val) * 64 + l.val) := by first | omega | (dsimp only [ix2]; omega)) :
    Pw m c (ix2 x y) = Aw6 m c (ix4 i j k l) := by
  rw [key_w m c x y _ rfl]; dsimp only
  iterate 6 rw [dif_neg (by omega)]
  rw [dif_pos (by omega)]
  unfold U
  after_reads_at
  exact congrArg (Aw6 m c) ix4_congr
theorem w7 (i : Fin 1) (j : Fin 64) (k : Fin 16) (h : x.val * 128 + y.val = 271360 + (((i.val) * 64 + j.val) * 16 + k.val) := by first | omega | (dsimp only [ix2]; omega)) :
    Pw m c (ix2 x y) = Aw7 m c (ix3 i j k) := by
  rw [key_w m c x y _ rfl]; dsimp only
  iterate 7 rw [dif_neg (by omega)]
  rw [dif_pos (by omega)]
  unfold U
  after_reads_at
  exact congrArg (Aw7 m c) ix3_congr
theorem w8 (i : Fin 1) (j : Fin 1024) (h : x.val * 128 + y.val = 272384 + ((i.val) * 1024 + j.val) := by first | omega | (dsimp only [ix2]; omega)) :
    Pw m c (ix2 x y) = Aw8 m c (ix2 i j) := by
  rw [key_w m c x y _ rfl]; dsimp only
  iterate 8 rw [dif_neg (by omega)]
  rw [dif_pos (by omega)]
  unfold U
  after_reads_at
  exact congrArg (Aw8 m c) ix2_congr
theorem w9 (i : Fin 1) (j : Fin 2048) (h : x.val * 128 + y.val = 273408 + ((i.val) * 2048 + j.val) := by first | omega | (dsimp only [ix2]; omega)) :
    Pw m c (ix2 x y) = Aw9 m c (ix2 i j) := by
  rw [key_w m c x y _ rfl]; dsimp only
  iterate 9 rw [dif_neg (by omega)]
  rw [dif_pos (by omega)]
  unfold U
  after_reads_at
  exact congrArg (Aw9 m c) ix2_congr
theorem w10 (i : Fin 1) (j : Fin 5632) (h : x.val * 128 + y.val = 275456 + ((i.val) * 5632 + j.val) := by first | omega | (dsimp only [ix2]; omega)) :
    Pw m c (ix2 x y) = Aw10 m c (ix2 i j) := by
  rw [key_w m c x y _ rfl]; dsimp only
  iterate 10 rw [dif_neg (by omega)]
  rw [dif_pos (by omega)]
  unfold U
  after_reads_at
  rw [dif_pos (by omega)]
  exact congrArg (Aw10 m c) ix2_congr
theorem w11 (i : Fin 2048) (h : x.val * 128 + y.val = 281600 + (i.val) := by first | omega | (dsimp only [ix2]; omega)) :
    Pw m c (ix2 x y) = Aw11 m c (ix1 i) := by
  rw [key_w m c x y _ rfl]; dsimp only
  iterate 11 rw [dif_neg (by omega)]
  rw [dif_pos (by omega)]
  unfold U
  after_reads_at
  exact congrArg (Aw11 m c) ix1_congr
theorem m0 (i : Fin 1) (j : Fin 64) (k : Fin 64) (h : x.val * 128 + y.val = 0 + (((i.val) * 64 + j.val) * 64 + k.val) := by first | omega | (dsimp only [ix2]; omega)) :
    Pm m c (ix2 x y) = Am0 m c (ix3 i j k) := by
  rw [key_m m c x y _ rfl]; dsimp only
  rw [dif_pos (by omega)]
  unfold U
  after_reads_at
  exact congrArg (Am0 m c) ix3_congr
theorem m1 (i : Fin 1) (j : Fin 64) (k : Fin 64) (h : x.val * 128 + y.val = 4096 + (((i.val) * 64 + j.val) * 64 + k.val) := by first | omega | (dsimp only [ix2]; omega)) :
    Pm m c (ix2 x y) = Am1 m c (ix3 i j k) := by
  rw [key_m m c x y _ rfl]; dsimp only
  rw [dif_neg (by omega)]
  rw [dif_pos (by omega)]
  unfold U
  after_reads_at
  exact congrArg (Am1 m c) ix3_congr
theorem m2 (i : Fin 1) (j : Fin 64) (h : x.val * 128 + y.val = 8192 + ((i.val) * 64 + j.val) := by first | omega | (dsimp only [ix2]; omega)) :
    Pm m c (ix2 x y) = Am2 m c (ix2 i j) := by
  rw [key_m m c x y _ rfl]; dsimp only
  iterate 2 rw [dif_neg (by omega)]
  rw [dif_pos (by omega)]
  unfold U
  after_reads_at
  rw [dif_pos (by omega)]
  exact congrArg (Am2 m c) ix2_congr
theorem m3 (i : Fin 1) (j : Fin 64) (k : Fin 64) (l : Fin 16) (h : x.val * 128 + y.val = 9216 + ((((i.val) * 64 + j.val) * 64 + k.val) * 16 + l.val) := by first | omega | (dsimp only [ix2]; omega)) :
    Pm m c (ix2 x y) = Am3 m c (ix4 i j k l) := by
  rw [key_m m c x y _ rfl]; dsimp only
  iterate 3 rw [dif_neg (by omega)]
  rw [dif_pos (by omega)]
  unfold U
  after_reads_at
  exact congrArg (Am3 m c) ix4_congr
theorem m4 (i : Fin 1) (j : Fin 64) (k : Fin 64) (l : Fin 16) (h : x.val * 128 + y.val = 74752 + ((((i.val) * 64 + j.val) * 64 + k.val) * 16 + l.val) := by first | omega | (dsimp only [ix2]; omega)) :
    Pm m c (ix2 x y) = Am4 m c (ix4 i j k l) := by
  rw [key_m m c x y _ rfl]; dsimp only
  iterate 4 rw [dif_neg (by omega)]
  rw [dif_pos (by omega)]
  unfold U
  after_reads_at
  exact congrArg (Am4 m c) ix4_congr
theorem m5 (i : Fin 1) (j : Fin 64) (k : Fin 16) (l : Fin 64) (h : x.val * 128 + y.val = 140288 + ((((i.val) * 64 + j.val) * 16 + k.val) * 64 + l.val) := by first | omega | (dsimp only [ix2]; omega)) :
    Pm m c (ix2 x y) = Am5 m c (ix4 i j k l) := by
  rw [key_m m c x y _ rfl]; dsimp only
  iterate 5 rw [dif_neg (by omega)]
  rw [dif_pos (by omega)]
  unfold U
  after_reads_at
  exact congrArg (Am5 m c) ix4_congr
theorem m6 (i : Fin 1) (j : Fin 64) (k : Fin 16) (l : Fin 64) (h : x.val * 128 + y.val = 205824 + ((((i.val) * 64 + j.val) * 16 + k.val) * 64 + l.val) := by first | omega | (dsimp only [ix2]; omega)) :
    Pm m c (ix2 x y) = Am6 m c (ix4 i j k l) := by
  rw [key_m m c x y _ rfl]; dsimp only
  iterate 6 rw [dif_neg (by omega)]
  rw [dif_pos (by omega)]
  unfold U
  after_reads_at
  exact congrArg (Am6 m c) ix4_congr
theorem m7 (i : Fin 1) (j : Fin 64) (k : Fin 16) (h : x.val * 128 + y.val = 271360 + (((i.val) * 64 + j.val) * 16 + k.val) := by first | omega | (dsimp only [ix2]; omega)) :
    Pm m c (ix2 x y) = Am7 m c (ix3 i j k) := by
  rw [key_m m c x y _ rfl]; dsimp only
  iterate 7 rw [dif_neg (by omega)]
  rw [dif_pos (by omega)]
  unfold U
  after_reads_at
  exact congrArg (Am7 m c) ix3_congr
theorem m8 (i : Fin 1) (j : Fin 1024) (h : x.val * 128 + y.val = 272384 + ((i.val) * 1024 + j.val) := by first | omega | (dsimp only [ix2]; omega)) :
    Pm m c (ix2 x y) = Am8 m c (ix2 i j) := by
  rw [key_m m c x y _ rfl]; dsimp only
  iterate 8 rw [dif_neg (by omega)]
  rw [dif_pos (by omega)]
  unfold U
  after_reads_at
  exact congrArg (Am8 m c) ix2_congr
theorem m9 (i : Fin 1) (j : Fin 2048) (h : x.val * 128 + y.val = 273408 + ((i.val) * 2048 + j.val) := by first | omega | (dsimp only [ix2]; omega)) :
    Pm m c (ix2 x y) = Am9 m c (ix2 i j) := by
  rw [key_m m c x y _ rfl]; dsimp only
  iterate 9 rw [dif_neg (by omega)]
  rw [dif_pos (by omega)]
  unfold U
  after_reads_at
  exact congrArg (Am9 m c) ix2_congr
theorem m10 (i : Fin 1) (j : Fin 5632) (h : x.val * 128 + y.val = 275456 + ((i.val) * 5632 + j.val) := by first | omega | (dsimp only [ix2]; omega)) :
    Pm m c (ix2 x y) = Am10 m c (ix2 i j) := by
  rw [key_m m c x y _ rfl]; dsimp only
  iterate 10 rw [dif_neg (by omega)]
  rw [dif_pos (by omega)]
  unfold U
  after_reads_at
  rw [dif_pos (by omega)]
  exact congrArg (Am10 m c) ix2_congr
theorem m11 (i : Fin 2048) (h : x.val * 128 + y.val = 281600 + (i.val) := by first | omega | (dsimp only [ix2]; omega)) :
    Pm m c (ix2 x y) = Am11 m c (ix1 i) := by
  rw [key_m m c x y _ rfl]; dsimp only
  iterate 11 rw [dif_neg (by omega)]
  rw [dif_pos (by omega)]
  unfold U
  after_reads_at
  exact congrArg (Am11 m c) ix1_congr
theorem v0 (i : Fin 1) (j : Fin 64) (k : Fin 64) (h : x.val * 128 + y.val = 0 + (((i.val) * 64 + j.val) * 64 + k.val) := by first | omega | (dsimp only [ix2]; omega)) :
    Pv m c (ix2 x y) = Av0 m c (ix3 i j k) := by
  rw [key_v m c x y _ rfl]; dsimp only
  rw [dif_pos (by omega)]
  unfold U
  after_reads_at
  exact congrArg (Av0 m c) ix3_congr
theorem v1 (i : Fin 1) (j : Fin 64) (k : Fin 64) (h : x.val * 128 + y.val = 4096 + (((i.val) * 64 + j.val) * 64 + k.val) := by first | omega | (dsimp only [ix2]; omega)) :
    Pv m c (ix2 x y) = Av1 m c (ix3 i j k) := by
  rw [key_v m c x y _ rfl]; dsimp only
  rw [dif_neg (by omega)]
  rw [dif_pos (by omega)]
  unfold U
  after_reads_at
  exact congrArg (Av1 m c) ix3_congr
theorem v2 (i : Fin 1) (j : Fin 64) (h : x.val * 128 + y.val = 8192 + ((i.val) * 64 + j.val) := by first | omega | (dsimp only [ix2]; omega)) :
    Pv m c (ix2 x y) = Av2 m c (ix2 i j) := by
  rw [key_v m c x y _ rfl]; dsimp only
  iterate 2 rw [dif_neg (by omega)]
  rw [dif_pos (by omega)]
  unfold U
  after_reads_at
  rw [dif_pos (by omega)]
  exact congrArg (Av2 m c) ix2_congr
theorem v3 (i : Fin 1) (j : Fin 64) (k : Fin 64) (l : Fin 16) (h : x.val * 128 + y.val = 9216 + ((((i.val) * 64 + j.val) * 64 + k.val) * 16 + l.val) := by first | omega | (dsimp only [ix2]; omega)) :
    Pv m c (ix2 x y) = Av3 m c (ix4 i j k l) := by
  rw [key_v m c x y _ rfl]; dsimp only
  iterate 3 rw [dif_neg (by omega)]
  rw [dif_pos (by omega)]
  unfold U
  after_reads_at
  exact congrArg (Av3 m c) ix4_congr
theorem v4 (i : Fin 1) (j : Fin 64) (k : Fin 64) (l : Fin 16) (h : x.val * 128 + y.val = 74752 + ((((i.val) * 64 + j.val) * 64 + k.val) * 16 + l.val) := by first | omega | (dsimp only [ix2]; omega)) :
    Pv m c (ix2 x y) = Av4 m c (ix4 i j k l) := by
  rw [key_v m c x y _ rfl]; dsimp only
  iterate 4 rw [dif_neg (by omega)]
  rw [dif_pos (by omega)]
  unfold U
  after_reads_at
  exact congrArg (Av4 m c) ix4_congr
theorem v5 (i : Fin 1) (j : Fin 64) (k : Fin 16) (l : Fin 64) (h : x.val * 128 + y.val = 140288 + ((((i.val) * 64 + j.val) * 16 + k.val) * 64 + l.val) := by first | omega | (dsimp only [ix2]; omega)) :
    Pv m c (ix2 x y) = Av5 m c (ix4 i j k l) := by
  rw [key_v m c x y _ rfl]; dsimp only
  iterate 5 rw [dif_neg (by omega)]
  rw [dif_pos (by omega)]
  unfold U
  after_reads_at
  exact congrArg (Av5 m c) ix4_congr
theorem v6 (i : Fin 1) (j : Fin 64) (k : Fin 16) (l : Fin 64) (h : x.val * 128 + y.val = 205824 + ((((i.val) * 64 + j.val) * 16 + k.val) * 64 + l.val) := by first | omega | (dsimp only [ix2]; omega)) :
    Pv m c (ix2 x y) = Av6 m c (ix4 i j k l) := by
  rw [key_v m c x y _ rfl]; dsimp only
  iterate 6 rw [dif_neg (by omega)]
  rw [dif_pos (by omega)]
  unfold U
  after_reads_at
  exact congrArg (Av6 m c) ix4_congr
theorem v7 (i : Fin 1) (j : Fin 64) (k : Fin 16) (h : x.val * 128 + y.val = 271360 + (((i.val) * 64 + j.val) * 16 + k.val) := by first | omega | (dsimp only [ix2]; omega)) :
    Pv m c (ix2 x y) = Av7 m c (ix3 i j k) := by
  rw [key_v m c x y _ rfl]; dsimp only
  iterate 7 rw [dif_neg (by omega)]
  rw [dif_pos (by omega)]
  unfold U
  after_reads_at
  exact congrArg (Av7 m c) ix3_congr
theorem v8 (i : Fin 1) (j : Fin 1024) (h : x.val * 128 + y.val = 272384 + ((i.val) * 1024 + j.val) := by first | omega | (dsimp only [ix2]; omega)) :
    Pv m c (ix2 x y) = Av8 m c (ix2 i j) := by
  rw [key_v m c x y _ rfl]; dsimp only
  iterate 8 rw [dif_neg (by omega)]
  rw [dif_pos (by omega)]
  unfold U
  after_reads_at
  exact congrArg (Av8 m c) ix2_congr
theorem v9 (i : Fin 1) (j : Fin 2048) (h : x.val * 128 + y.val = 273408 + ((i.val) * 2048 + j.val) := by first | omega | (dsimp only [ix2]; omega)) :
    Pv m c (ix2 x y) = Av9 m c (ix2 i j) := by
  rw [key_v m c x y _ rfl]; dsimp only
  iterate 9 rw [dif_neg (by omega)]
  rw [dif_pos (by omega)]
  unfold U
  after_reads_at
  exact congrArg (Av9 m c) ix2_congr
theorem v10 (i : Fin 1) (j : Fin 5632) (h : x.val * 128 + y.val = 275456 + ((i.val) * 5632 + j.val) := by first | omega | (dsimp only [ix2]; omega)) :
    Pv m c (ix2 x y) = Av10 m c (ix2 i j) := by
  rw [key_v m c x y _ rfl]; dsimp only
  iterate 10 rw [dif_neg (by omega)]
  rw [dif_pos (by omega)]
  unfold U
  after_reads_at
  rw [dif_pos (by omega)]
  exact congrArg (Av10 m c) ix2_congr
theorem v11 (i : Fin 2048) (h : x.val * 128 + y.val = 281600 + (i.val) := by first | omega | (dsimp only [ix2]; omega)) :
    Pv m c (ix2 x y) = Av11 m c (ix1 i) := by
  rw [key_v m c x y _ rfl]; dsimp only
  iterate 11 rw [dif_neg (by omega)]
  rw [dif_pos (by omega)]
  unfold U
  after_reads_at
  exact congrArg (Av11 m c) ix1_congr

/-! ## The results: the step's elements at the parameters' places -/
theorem arrs_inj : Function.Injective (Pipeline.arrRef spec0) := by decide
/-- Window 5's array after the region. -/
theorem out5 (i : S2304x128.Idx) :
    Pipeline.withArrays (cfgs 0).spec c (V0 m c) (fun w => (dats m 0 c).arrAt w (cfgs 0).N) (Proc.tc.devRef main_v65_1) i = G5 m c i :=
  (congrFun (Pipeline.withArrays_arr spec0 arrs_inj c (V0 m c) (fun w => (dats m 0 c).arrAt w cfg0.N) 5) i).trans (congrFun (arr5 m c) i)

def K0 : Buf (Elt Ideal) ((c : Thread nD τ).loc main_v68) := Pipeline.afterTail₀ cfgs (dats m) 0 (V0 m) [hostOps1] c main_v68
theorem K0_at (i : Fin 1) (j : Fin 64) (k : Fin 64) (z : EReal) (hz : (delta (sum8 fun d => Ag0 m c (ix4 d i j k)) (Aw0 m c (ix3 i j k)) (Am0 m c (ix3 i j k)) (Av0 m c (ix3 i j k))) = z) : (K0 m c : S1x64x64.Idx → EReal) (ix3 i j k) = z := by
  unfold K0 Pipeline.afterTail₀
  after_reads_at
  refine (out5 m c _).trans ?_
  rw [← hz]
  exact (delta_congr (sum8_congr fun d => g0 m c _ _ d i j k) (w0 m c _ _ i j k) (m0 m c _ _ i j k) (v0 m c _ _ i j k))

def K1 : Buf (Elt Ideal) ((c : Thread nD τ).loc main_v71) := Pipeline.afterTail₀ cfgs (dats m) 0 (V0 m) [hostOps1] c main_v71
theorem K1_at (i : Fin 1) (j : Fin 64) (k : Fin 64) (z : EReal) (hz : (delta (sum8 fun d => Ag1 m c (ix4 d i j k)) (Aw1 m c (ix3 i j k)) (Am1 m c (ix3 i j k)) (Av1 m c (ix3 i j k))) = z) : (K1 m c : S1x64x64.Idx → EReal) (ix3 i j k) = z := by
  unfold K1 Pipeline.afterTail₀
  after_reads_at
  refine (out5 m c _).trans ?_
  rw [← hz]
  exact (delta_congr (sum8_congr fun d => g1 m c _ _ d i j k) (w1 m c _ _ i j k) (m1 m c _ _ i j k) (v1 m c _ _ i j k))

def K2 : Buf (Elt Ideal) ((c : Thread nD τ).loc main_v75) := Pipeline.afterTail₀ cfgs (dats m) 0 (V0 m) [hostOps1] c main_v75
theorem K2_at (i : Fin 1) (j : Fin 64) (z : EReal) (hz : (delta (sum8 fun d => Ag2 m c (ix3 d i j)) (Aw2 m c (ix2 i j)) (Am2 m c (ix2 i j)) (Av2 m c (ix2 i j))) = z) : (K2 m c : S1x64.Idx → EReal) (ix2 i j) = z := by
  unfold K2 Pipeline.afterTail₀
  after_reads_at
  refine (out5 m c _).trans ?_
  rw [← hz]
  exact (delta_congr (sum8_congr fun d => g2 m c _ _ d i j) (w2 m c _ _ i j) (m2 m c _ _ i j) (v2 m c _ _ i j))

def K3 : Buf (Elt Ideal) ((c : Thread nD τ).loc main_v78) := Pipeline.afterTail₀ cfgs (dats m) 0 (V0 m) [hostOps1] c main_v78
theorem K3_at (i : Fin 1) (j : Fin 64) (k : Fin 64) (l : Fin 16) (z : EReal) (hz : (delta (sum8 fun d => Ag3 m c (ix5 d i j k l)) (Aw3 m c (ix4 i j k l)) (Am3 m c (ix4 i j k l)) (Av3 m c (ix4 i j k l))) = z) : (K3 m c : S1x64x64x16.Idx → EReal) (ix4 i j k l) = z := by
  unfold K3 Pipeline.afterTail₀
  after_reads_at
  refine (out5 m c _).trans ?_
  rw [← hz]
  exact (delta_congr (sum8_congr fun d => g3 m c _ _ d i j k l) (w3 m c _ _ i j k l) (m3 m c _ _ i j k l) (v3 m c _ _ i j k l))

def K4 : Buf (Elt Ideal) ((c : Thread nD τ).loc main_v81) := Pipeline.afterTail₀ cfgs (dats m) 0 (V0 m) [hostOps1] c main_v81
theorem K4_at (i : Fin 1) (j : Fin 64) (k : Fin 64) (l : Fin 16) (z : EReal) (hz : (delta (sum8 fun d => Ag4 m c (ix5 d i j k l)) (Aw4 m c (ix4 i j k l)) (Am4 m c (ix4 i j k l)) (Av4 m c (ix4 i j k l))) = z) : (K4 m c : S1x64x64x16.Idx → EReal) (ix4 i j k l) = z := by
  unfold K4 Pipeline.afterTail₀
  after_reads_at
  refine (out5 m c _).trans ?_
  rw [← hz]
  exact (delta_congr (sum8_congr fun d => g4 m c _ _ d i j k l) (w4 m c _ _ i j k l) (m4 m c _ _ i j k l) (v4 m c _ _ i j k l))

def K5 : Buf (Elt Ideal) ((c : Thread nD τ).loc main_v84) := Pipeline.afterTail₀ cfgs (dats m) 0 (V0 m) [hostOps1] c main_v84
theorem K5_at (i : Fin 1) (j : Fin 64) (k : Fin 16) (l : Fin 64) (z : EReal) (hz : (delta (sum8 fun d => Ag5 m c (ix5 d i j k l)) (Aw5 m c (ix4 i j k l)) (Am5 m c (ix4 i j k l)) (Av5 m c (ix4 i j k l))) = z) : (K5 m c : S1x64x16x64.Idx → EReal) (ix4 i j k l) = z := by
  unfold K5 Pipeline.afterTail₀
  after_reads_at
  refine (out5 m c _).trans ?_
  rw [← hz]
  exact (delta_congr (sum8_congr fun d => g5 m c _ _ d i j k l) (w5 m c _ _ i j k l) (m5 m c _ _ i j k l) (v5 m c _ _ i j k l))

def K6 : Buf (Elt Ideal) ((c : Thread nD τ).loc main_v87) := Pipeline.afterTail₀ cfgs (dats m) 0 (V0 m) [hostOps1] c main_v87
theorem K6_at (i : Fin 1) (j : Fin 64) (k : Fin 16) (l : Fin 64) (z : EReal) (hz : (delta (sum8 fun d => Ag6 m c (ix5 d i j k l)) (Aw6 m c (ix4 i j k l)) (Am6 m c (ix4 i j k l)) (Av6 m c (ix4 i j k l))) = z) : (K6 m c : S1x64x16x64.Idx → EReal) (ix4 i j k l) = z := by
  unfold K6 Pipeline.afterTail₀
  after_reads_at
  refine (out5 m c _).trans ?_
  rw [← hz]
  exact (delta_congr (sum8_congr fun d => g6 m c _ _ d i j k l) (w6 m c _ _ i j k l) (m6 m c _ _ i j k l) (v6 m c _ _ i j k l))

def K7 : Buf (Elt Ideal) ((c : Thread nD τ).loc main_v90) := Pipeline.afterTail₀ cfgs (dats m) 0 (V0 m) [hostOps1] c main_v90
theorem K7_at (i : Fin 1) (j : Fin 64) (k : Fin 16) (z : EReal) (hz : (delta (sum8 fun d => Ag7 m c (ix4 d i j k)) (Aw7 m c (ix3 i j k)) (Am7 m c (ix3 i j k)) (Av7 m c (ix3 i j k))) = z) : (K7 m c : S1x64x16.Idx → EReal) (ix3 i j k) = z := by
  unfold K7 Pipeline.afterTail₀
  after_reads_at
  refine (out5 m c _).trans ?_
  rw [← hz]
  exact (delta_congr (sum8_congr fun d => g7 m c _ _ d i j k) (w7 m c _ _ i j k) (m7 m c _ _ i j k) (v7 m c _ _ i j k))

def K8 : Buf (Elt Ideal) ((c : Thread nD τ).loc main_v93) := Pipeline.afterTail₀ cfgs (dats m) 0 (V0 m) [hostOps1] c main_v93
theorem K8_at (i : Fin 1) (j : Fin 1024) (z : EReal) (hz : (delta (sum8 fun d => Ag8 m c (ix3 d i j)) (Aw8 m c (ix2 i j)) (Am8 m c (ix2 i j)) (Av8 m c (ix2 i j))) = z) : (K8 m c : S1x1024.Idx → EReal) (ix2 i j) = z := by
  unfold K8 Pipeline.afterTail₀
  after_reads_at
  refine (out5 m c _).trans ?_
  rw [← hz]
  exact (delta_congr (sum8_congr fun d => g8 m c _ _ d i j) (w8 m c _ _ i j) (m8 m c _ _ i j) (v8 m c _ _ i j))

def K9 : Buf (Elt Ideal) ((c : Thread nD τ).loc main_v96) := Pipeline.afterTail₀ cfgs (dats m) 0 (V0 m) [hostOps1] c main_v96
theorem K9_at (i : Fin 1) (j : Fin 2048) (z : EReal) (hz : (delta (sum8 fun d => Ag9 m c (ix3 d i j)) (Aw9 m c (ix2 i j)) (Am9 m c (ix2 i j)) (Av9 m c (ix2 i j))) = z) : (K9 m c : S1x2048.Idx → EReal) (ix2 i j) = z := by
  unfold K9 Pipeline.afterTail₀
  after_reads_at
  refine (out5 m c _).trans ?_
  rw [← hz]
  exact (delta_congr (sum8_congr fun d => g9 m c _ _ d i j) (w9 m c _ _ i j) (m9 m c _ _ i j) (v9 m c _ _ i j))

def K10 : Buf (Elt Ideal) ((c : Thread nD τ).loc main_v100) := Pipeline.afterTail₀ cfgs (dats m) 0 (V0 m) [hostOps1] c main_v100
theorem K10_at (i : Fin 1) (j : Fin 5632) (z : EReal) (hz : (delta (sum8 fun d => Ag10 m c (ix3 d i j)) (Aw10 m c (ix2 i j)) (Am10 m c (ix2 i j)) (Av10 m c (ix2 i j))) = z) : (K10 m c : S1x5632.Idx → EReal) (ix2 i j) = z := by
  unfold K10 Pipeline.afterTail₀
  after_reads_at
  refine (out5 m c _).trans ?_
  rw [← hz]
  exact (delta_congr (sum8_congr fun d => g10 m c _ _ d i j) (w10 m c _ _ i j) (m10 m c _ _ i j) (v10 m c _ _ i j))

def K11 : Buf (Elt Ideal) ((c : Thread nD τ).loc main_v102) := Pipeline.afterTail₀ cfgs (dats m) 0 (V0 m) [hostOps1] c main_v102
theorem K11_at (i : Fin 2048) (z : EReal) (hz : (delta (sum8 fun d => Ag11 m c (ix2 d i)) (Aw11 m c (ix1 i)) (Am11 m c (ix1 i)) (Av11 m c (ix1 i))) = z) : (K11 m c : S2048.Idx → EReal) (ix1 i) = z := by
  unfold K11 Pipeline.afterTail₀
  after_reads_at
  refine (out5 m c _).trans ?_
  rw [← hz]
  exact (delta_congr (sum8_congr fun d => g11 m c _ _ d i) (w11 m c _ _ i) (m11 m c _ _ i) (v11 m c _ _ i))

section Reference
open Reference28Ideal.Read
theorem ref0 (x0 : FVec Ideal ⟨4, ![8, 1, 64, 64]⟩ .f32) (x1 x2 x3 : FVec Ideal ⟨3, ![1, 64, 64]⟩ .f32) (i : Fin 1) (j : Fin 64) (k : Fin 64) :
    val_main_v24 (F := Ideal) x0 x1 x2 x3 (ix3 i j k) = delta (sum8 fun d => x0 (ix4 d i j k)) (x1 (ix3 i j k)) (x2 (ix3 i j k)) (x3 (ix3 i j k)) := by
  obtain rfl : i = 0 := Subsingleton.elim _ _
  pointwise [val_main_cst, val_main_cst_0, val_main_cst_1, val_main_cst_2, val_main_cst_3, val_main_cst_4, val_main_cst_5, val_main_cst_6, val_main_cst_7, val_main_cst_8, val_main_v0, val_main_v1, val_main_v10, val_main_v11, val_main_v12, val_main_v13, val_main_v14, val_main_v15, val_main_v16, val_main_v17, val_main_v18, val_main_v19, val_main_v2, val_main_v20, val_main_v21, val_main_v22, val_main_v23, val_main_v24, val_main_v3, val_main_v4, val_main_v5, val_main_v6, val_main_v7, val_main_v8, val_main_v9]
  rfl
theorem ref1 (x0 : FVec Ideal ⟨4, ![8, 1, 64, 64]⟩ .f32) (x1 x2 x3 : FVec Ideal ⟨3, ![1, 64, 64]⟩ .f32) (i : Fin 1) (j : Fin 64) (k : Fin 64) :
    val_main_v49 (F := Ideal) x0 x1 x2 x3 (ix3 i j k) = delta (sum8 fun d => x0 (ix4 d i j k)) (x1 (ix3 i j k)) (x2 (ix3 i j k)) (x3 (ix3 i j k)) := by
  obtain rfl : i = 0 := Subsingleton.elim _ _
  pointwise [val_main_cst_10, val_main_cst_11, val_main_cst_12, val_main_cst_13, val_main_cst_14, val_main_cst_15, val_main_cst_16, val_main_cst_17, val_main_cst_18, val_main_cst_9, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49]
  rfl
theorem ref2 (x0 : FVec Ideal ⟨3, ![8, 1, 64]⟩ .f32) (x1 x2 x3 : FVec Ideal ⟨2, ![1, 64]⟩ .f32) (i : Fin 1) (j : Fin 64) :
    val_main_v74 (F := Ideal) x0 x1 x2 x3 (ix2 i j) = delta (sum8 fun d => x0 (ix3 d i j)) (x1 (ix2 i j)) (x2 (ix2 i j)) (x3 (ix2 i j)) := by
  obtain rfl : i = 0 := Subsingleton.elim _ _
  pointwise [val_main_cst_19, val_main_cst_20, val_main_cst_21, val_main_cst_22, val_main_cst_23, val_main_cst_24, val_main_cst_25, val_main_cst_26, val_main_cst_27, val_main_cst_28, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74]
  rfl
theorem ref3 (x0 : FVec Ideal ⟨5, ![8, 1, 64, 64, 16]⟩ .f32) (x1 x2 x3 : FVec Ideal ⟨4, ![1, 64, 64, 16]⟩ .f32) (i : Fin 1) (j : Fin 64) (k : Fin 64) (l : Fin 16) :
    val_main_v99 (F := Ideal) x0 x1 x2 x3 (ix4 i j k l) = delta (sum8 fun d => x0 (ix5 d i j k l)) (x1 (ix4 i j k l)) (x2 (ix4 i j k l)) (x3 (ix4 i j k l)) := by
  obtain rfl : i = 0 := Subsingleton.elim _ _
  pointwise [val_main_cst_29, val_main_cst_30, val_main_cst_31, val_main_cst_32, val_main_cst_33, val_main_cst_34, val_main_cst_35, val_main_cst_36, val_main_cst_37, val_main_cst_38, val_main_v75, val_main_v76, val_main_v77, val_main_v78, val_main_v79, val_main_v80, val_main_v81, val_main_v82, val_main_v83, val_main_v84, val_main_v85, val_main_v86, val_main_v87, val_main_v88, val_main_v89, val_main_v90, val_main_v91, val_main_v92, val_main_v93, val_main_v94, val_main_v95, val_main_v96, val_main_v97, val_main_v98, val_main_v99]
  rfl
theorem ref4 (x0 : FVec Ideal ⟨5, ![8, 1, 64, 64, 16]⟩ .f32) (x1 x2 x3 : FVec Ideal ⟨4, ![1, 64, 64, 16]⟩ .f32) (i : Fin 1) (j : Fin 64) (k : Fin 64) (l : Fin 16) :
    val_main_v124 (F := Ideal) x0 x1 x2 x3 (ix4 i j k l) = delta (sum8 fun d => x0 (ix5 d i j k l)) (x1 (ix4 i j k l)) (x2 (ix4 i j k l)) (x3 (ix4 i j k l)) := by
  obtain rfl : i = 0 := Subsingleton.elim _ _
  pointwise [val_main_cst_39, val_main_cst_40, val_main_cst_41, val_main_cst_42, val_main_cst_43, val_main_cst_44, val_main_cst_45, val_main_cst_46, val_main_cst_47, val_main_cst_48, val_main_v100, val_main_v101, val_main_v102, val_main_v103, val_main_v104, val_main_v105, val_main_v106, val_main_v107, val_main_v108, val_main_v109, val_main_v110, val_main_v111, val_main_v112, val_main_v113, val_main_v114, val_main_v115, val_main_v116, val_main_v117, val_main_v118, val_main_v119, val_main_v120, val_main_v121, val_main_v122, val_main_v123, val_main_v124]
  rfl
theorem ref5 (x0 : FVec Ideal ⟨5, ![8, 1, 64, 16, 64]⟩ .f32) (x1 x2 x3 : FVec Ideal ⟨4, ![1, 64, 16, 64]⟩ .f32) (i : Fin 1) (j : Fin 64) (k : Fin 16) (l : Fin 64) :
    val_main_v149 (F := Ideal) x0 x1 x2 x3 (ix4 i j k l) = delta (sum8 fun d => x0 (ix5 d i j k l)) (x1 (ix4 i j k l)) (x2 (ix4 i j k l)) (x3 (ix4 i j k l)) := by
  obtain rfl : i = 0 := Subsingleton.elim _ _
  pointwise [val_main_cst_49, val_main_cst_50, val_main_cst_51, val_main_cst_52, val_main_cst_53, val_main_cst_54, val_main_cst_55, val_main_cst_56, val_main_cst_57, val_main_cst_58, val_main_v125, val_main_v126, val_main_v127, val_main_v128, val_main_v129, val_main_v130, val_main_v131, val_main_v132, val_main_v133, val_main_v134, val_main_v135, val_main_v136, val_main_v137, val_main_v138, val_main_v139, val_main_v140, val_main_v141, val_main_v142, val_main_v143, val_main_v144, val_main_v145, val_main_v146, val_main_v147, val_main_v148, val_main_v149]
  rfl
theorem ref6 (x0 : FVec Ideal ⟨5, ![8, 1, 64, 16, 64]⟩ .f32) (x1 x2 x3 : FVec Ideal ⟨4, ![1, 64, 16, 64]⟩ .f32) (i : Fin 1) (j : Fin 64) (k : Fin 16) (l : Fin 64) :
    val_main_v174 (F := Ideal) x0 x1 x2 x3 (ix4 i j k l) = delta (sum8 fun d => x0 (ix5 d i j k l)) (x1 (ix4 i j k l)) (x2 (ix4 i j k l)) (x3 (ix4 i j k l)) := by
  obtain rfl : i = 0 := Subsingleton.elim _ _
  pointwise [val_main_cst_59, val_main_cst_60, val_main_cst_61, val_main_cst_62, val_main_cst_63, val_main_cst_64, val_main_cst_65, val_main_cst_66, val_main_cst_67, val_main_cst_68, val_main_v150, val_main_v151, val_main_v152, val_main_v153, val_main_v154, val_main_v155, val_main_v156, val_main_v157, val_main_v158, val_main_v159, val_main_v160, val_main_v161, val_main_v162, val_main_v163, val_main_v164, val_main_v165, val_main_v166, val_main_v167, val_main_v168, val_main_v169, val_main_v170, val_main_v171, val_main_v172, val_main_v173, val_main_v174]
  rfl
theorem ref7 (x0 : FVec Ideal ⟨4, ![8, 1, 64, 16]⟩ .f32) (x1 x2 x3 : FVec Ideal ⟨3, ![1, 64, 16]⟩ .f32) (i : Fin 1) (j : Fin 64) (k : Fin 16) :
    val_main_v199 (F := Ideal) x0 x1 x2 x3 (ix3 i j k) = delta (sum8 fun d => x0 (ix4 d i j k)) (x1 (ix3 i j k)) (x2 (ix3 i j k)) (x3 (ix3 i j k)) := by
  obtain rfl : i = 0 := Subsingleton.elim _ _
  pointwise [val_main_cst_69, val_main_cst_70, val_main_cst_71, val_main_cst_72, val_main_cst_73, val_main_cst_74, val_main_cst_75, val_main_cst_76, val_main_cst_77, val_main_cst_78, val_main_v175, val_main_v176, val_main_v177, val_main_v178, val_main_v179, val_main_v180, val_main_v181, val_main_v182, val_main_v183, val_main_v184, val_main_v185, val_main_v186, val_main_v187, val_main_v188, val_main_v189, val_main_v190, val_main_v191, val_main_v192, val_main_v193, val_main_v194, val_main_v195, val_main_v196, val_main_v197, val_main_v198, val_main_v199]
  rfl
theorem ref8 (x0 : FVec Ideal ⟨3, ![8, 1, 1024]⟩ .f32) (x1 x2 x3 : FVec Ideal ⟨2, ![1, 1024]⟩ .f32) (i : Fin 1) (j : Fin 1024) :
    val_main_v224 (F := Ideal) x0 x1 x2 x3 (ix2 i j) = delta (sum8 fun d => x0 (ix3 d i j)) (x1 (ix2 i j)) (x2 (ix2 i j)) (x3 (ix2 i j)) := by
  obtain rfl : i = 0 := Subsingleton.elim _ _
  pointwise [val_main_cst_79, val_main_cst_80, val_main_cst_81, val_main_cst_82, val_main_cst_83, val_main_cst_84, val_main_cst_85, val_main_cst_86, val_main_cst_87, val_main_cst_88, val_main_v200, val_main_v201, val_main_v202, val_main_v203, val_main_v204, val_main_v205, val_main_v206, val_main_v207, val_main_v208, val_main_v209, val_main_v210, val_main_v211, val_main_v212, val_main_v213, val_main_v214, val_main_v215, val_main_v216, val_main_v217, val_main_v218, val_main_v219, val_main_v220, val_main_v221, val_main_v222, val_main_v223, val_main_v224]
  rfl
theorem ref9 (x0 : FVec Ideal ⟨3, ![8, 1, 2048]⟩ .f32) (x1 x2 x3 : FVec Ideal ⟨2, ![1, 2048]⟩ .f32) (i : Fin 1) (j : Fin 2048) :
    val_main_v249 (F := Ideal) x0 x1 x2 x3 (ix2 i j) = delta (sum8 fun d => x0 (ix3 d i j)) (x1 (ix2 i j)) (x2 (ix2 i j)) (x3 (ix2 i j)) := by
  obtain rfl : i = 0 := Subsingleton.elim _ _
  pointwise [val_main_cst_89, val_main_cst_90, val_main_cst_91, val_main_cst_92, val_main_cst_93, val_main_cst_94, val_main_cst_95, val_main_cst_96, val_main_cst_97, val_main_cst_98, val_main_v225, val_main_v226, val_main_v227, val_main_v228, val_main_v229, val_main_v230, val_main_v231, val_main_v232, val_main_v233, val_main_v234, val_main_v235, val_main_v236, val_main_v237, val_main_v238, val_main_v239, val_main_v240, val_main_v241, val_main_v242, val_main_v243, val_main_v244, val_main_v245, val_main_v246, val_main_v247, val_main_v248, val_main_v249]
  rfl
theorem ref10 (x0 : FVec Ideal ⟨3, ![8, 1, 5632]⟩ .f32) (x1 x2 x3 : FVec Ideal ⟨2, ![1, 5632]⟩ .f32) (i : Fin 1) (j : Fin 5632) :
    val_main_v274 (F := Ideal) x0 x1 x2 x3 (ix2 i j) = delta (sum8 fun d => x0 (ix3 d i j)) (x1 (ix2 i j)) (x2 (ix2 i j)) (x3 (ix2 i j)) := by
  obtain rfl : i = 0 := Subsingleton.elim _ _
  pointwise [val_main_cst_100, val_main_cst_101, val_main_cst_102, val_main_cst_103, val_main_cst_104, val_main_cst_105, val_main_cst_106, val_main_cst_107, val_main_cst_108, val_main_cst_99, val_main_v250, val_main_v251, val_main_v252, val_main_v253, val_main_v254, val_main_v255, val_main_v256, val_main_v257, val_main_v258, val_main_v259, val_main_v260, val_main_v261, val_main_v262, val_main_v263, val_main_v264, val_main_v265, val_main_v266, val_main_v267, val_main_v268, val_main_v269, val_main_v270, val_main_v271, val_main_v272, val_main_v273, val_main_v274]
  rfl
theorem ref11 (x0 : FVec Ideal ⟨2, ![8, 2048]⟩ .f32) (x1 x2 x3 : FVec Ideal ⟨1, ![2048]⟩ .f32) (i : Fin 2048) :
    val_main_v299 (F := Ideal) x0 x1 x2 x3 (ix1 i) = delta (sum8 fun d => x0 (ix2 d i)) (x1 (ix1 i)) (x2 (ix1 i)) (x3 (ix1 i)) := by
  pointwise [val_main_cst_109, val_main_cst_110, val_main_cst_111, val_main_cst_112, val_main_cst_113, val_main_cst_114, val_main_cst_115, val_main_cst_116, val_main_cst_117, val_main_cst_118, val_main_v275, val_main_v276, val_main_v277, val_main_v278, val_main_v279, val_main_v280, val_main_v281, val_main_v282, val_main_v283, val_main_v284, val_main_v285, val_main_v286, val_main_v287, val_main_v288, val_main_v289, val_main_v290, val_main_v291, val_main_v292, val_main_v293, val_main_v294, val_main_v295, val_main_v296, val_main_v297, val_main_v298, val_main_v299]
  rfl
end Reference

theorem frame_kernel : quiescent_Kernel28 := fun m ρ _ => Kernel28.Gen.frame m ρ
theorem frame_kernelIdeal : quiescent_Kernel28Ideal := fun m ρ _ => Kernel28Ideal.Gen.frame m ρ
theorem frame_reference : quiescent_Reference28Ideal := fun m ρ _ =>
  (θ_run Reference28Ideal.defs _ _).mono (fun r h => ⟨fun c => (h c).2.2.2.2.2.2.2.2.2.2.2.2, sem_eq_zero_of_no_sems (by decide) r.2⟩)
    (Reference28Ideal.Value.run (F := Ideal) m ρ)

theorem algebraic : algebraic_Kernel28Ideal_Reference28Ideal := by
  intro m ρ m' ρ' _ hagree
  refine ⟨K0 m, K1 m, K2 m, K3 m, K4 m, K5 m, K6 m, K7 m, K8 m, K9 m, K10 m, K11 m, (θ_run defs _ _).mono (fun r h c => ⟨(h.1 c).2 main_v68 (Pipeline.mem_restRefs_of main_v68 (by decide) (by decide)), (h.1 c).2 main_v71 (Pipeline.mem_restRefs_of main_v71 (by decide) (by decide)), (h.1 c).2 main_v75 (Pipeline.mem_restRefs_of main_v75 (by decide) (by decide)), (h.1 c).2 main_v78 (Pipeline.mem_restRefs_of main_v78 (by decide) (by decide)), (h.1 c).2 main_v81 (Pipeline.mem_restRefs_of main_v81 (by decide) (by decide)), (h.1 c).2 main_v84 (Pipeline.mem_restRefs_of main_v84 (by decide) (by decide)), (h.1 c).2 main_v87 (Pipeline.mem_restRefs_of main_v87 (by decide) (by decide)), (h.1 c).2 main_v90 (Pipeline.mem_restRefs_of main_v90 (by decide) (by decide)), (h.1 c).2 main_v93 (Pipeline.mem_restRefs_of main_v93 (by decide) (by decide)), (h.1 c).2 main_v96 (Pipeline.mem_restRefs_of main_v96 (by decide) (by decide)), (h.1 c).2 main_v100 (Pipeline.mem_restRefs_of main_v100 (by decide) (by decide)), (h.1 c).2 main_v102 (Pipeline.mem_restRefs_of main_v102 (by decide) (by decide)), h.2 c⟩)
    (θ_run_and (run_main m ρ) (unchanged m ρ)), ?_⟩
  refine (θ_run Reference28Ideal.defs _ _).mono (fun _ h c => ?_) (Reference28Ideal.Value.run (F := Ideal) m' ρ')
  obtain ⟨h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, h44, h45, h46, h47⟩ := hagree c
  obtain ⟨r0, r1, r2, r3, r4, r5, r6, r7, r8, r9, r10, r11, rest⟩ := h c
  refine ⟨r0.trans ?_, r1.trans ?_, r2.trans ?_, r3.trans ?_, r4.trans ?_, r5.trans ?_, r6.trans ?_, r7.trans ?_, r8.trans ?_, r9.trans ?_, r10.trans ?_, r11.trans ?_, rest⟩
  · refine (cong4 (Reference28Ideal.Read.val_main_v24 (F := Ideal)) h0 h12 h24 h36).trans ?_
    funext e
    obtain ⟨i, j, k, rfl⟩ := ix3_surj e
    exact (ref0 _ _ _ _ i j k).trans (K0_at m c i j k _ rfl).symm
  · refine (cong4 (Reference28Ideal.Read.val_main_v49 (F := Ideal)) h1 h13 h25 h37).trans ?_
    funext e
    obtain ⟨i, j, k, rfl⟩ := ix3_surj e
    exact (ref1 _ _ _ _ i j k).trans (K1_at m c i j k _ rfl).symm
  · refine (cong4 (Reference28Ideal.Read.val_main_v74 (F := Ideal)) h2 h14 h26 h38).trans ?_
    funext e
    obtain ⟨i, j, rfl⟩ := ix2_surj e
    exact (ref2 _ _ _ _ i j).trans (K2_at m c i j _ rfl).symm
  · refine (cong4 (Reference28Ideal.Read.val_main_v99 (F := Ideal)) h3 h15 h27 h39).trans ?_
    funext e
    obtain ⟨i, j, k, l, rfl⟩ := ix4_surj e
    exact (ref3 _ _ _ _ i j k l).trans (K3_at m c i j k l _ rfl).symm
  · refine (cong4 (Reference28Ideal.Read.val_main_v124 (F := Ideal)) h4 h16 h28 h40).trans ?_
    funext e
    obtain ⟨i, j, k, l, rfl⟩ := ix4_surj e
    exact (ref4 _ _ _ _ i j k l).trans (K4_at m c i j k l _ rfl).symm
  · refine (cong4 (Reference28Ideal.Read.val_main_v149 (F := Ideal)) h5 h17 h29 h41).trans ?_
    funext e
    obtain ⟨i, j, k, l, rfl⟩ := ix4_surj e
    exact (ref5 _ _ _ _ i j k l).trans (K5_at m c i j k l _ rfl).symm
  · refine (cong4 (Reference28Ideal.Read.val_main_v174 (F := Ideal)) h6 h18 h30 h42).trans ?_
    funext e
    obtain ⟨i, j, k, l, rfl⟩ := ix4_surj e
    exact (ref6 _ _ _ _ i j k l).trans (K6_at m c i j k l _ rfl).symm
  · refine (cong4 (Reference28Ideal.Read.val_main_v199 (F := Ideal)) h7 h19 h31 h43).trans ?_
    funext e
    obtain ⟨i, j, k, rfl⟩ := ix3_surj e
    exact (ref7 _ _ _ _ i j k).trans (K7_at m c i j k _ rfl).symm
  · refine (cong4 (Reference28Ideal.Read.val_main_v224 (F := Ideal)) h8 h20 h32 h44).trans ?_
    funext e
    obtain ⟨i, j, rfl⟩ := ix2_surj e
    exact (ref8 _ _ _ _ i j).trans (K8_at m c i j _ rfl).symm
  · refine (cong4 (Reference28Ideal.Read.val_main_v249 (F := Ideal)) h9 h21 h33 h45).trans ?_
    funext e
    obtain ⟨i, j, rfl⟩ := ix2_surj e
    exact (ref9 _ _ _ _ i j).trans (K9_at m c i j _ rfl).symm
  · refine (cong4 (Reference28Ideal.Read.val_main_v274 (F := Ideal)) h10 h22 h34 h46).trans ?_
    funext e
    obtain ⟨i, j, rfl⟩ := ix2_surj e
    exact (ref10 _ _ _ _ i j).trans (K10_at m c i j _ rfl).symm
  · refine (cong4 (Reference28Ideal.Read.val_main_v299 (F := Ideal)) h11 h23 h35 h47).trans ?_
    funext e
    obtain ⟨i, rfl⟩ := ix1_surj e
    exact (ref11 _ _ _ _ i).trans (K11_at m c i _ rfl).symm

end P28
-- ==== Proof.P29.lean ====
module

public import proofs.«01_k».proof.Proof.Step
public import proofs.«01_k».proof.Proof.Gen.Kernel29.Frame
public import proofs.«01_k».proof.Proof.Gen.Kernel29Ideal.Frame
public import proofs.«01_k».proof.Proof.Gen.Reference29Ideal.Read
public import proofs.«01_k».proof.Proof.Gen.Reference29Ideal.Run

@[expose] public section

set_option maxRecDepth 16384

noncomputable section

/-! # The claims about `adamw_small`, the new first moments of the twelve small parameters, which the call steps packed as 2304 × 128 -/

namespace Cert.P29

open Kernel29Ideal Kernel29Ideal.Gen Idealize.ShloMosaic Idealize.ShloMosaic.TcCoe Idealize.SL.Sem
open Step

section Blocks
variable {F : FTy → Type} [FloatOps F]
variable (m : (ℓ : Loc nD τ sig) → Buf (Elt F) ℓ) (c : Dev nD) (t : Fin cfg0.N) (x : Fin 1152) (y : Fin 128)

theorem ltN (t : Fin cfg0.N) : t.val < 2 := lt_of_lt_of_eq t.isLt N_0

theorem at6 : ∀ t : Fin grid0.N, win0_6.index t 0 = t.val ∧ win0_6.index t 1 = 0 := by decide +kernel

/-- Where block `t` lies in its array, for the windows 1, 2, 3 and the results 6, which move alike. -/
theorem pos6 :
    ((win0_6.rect t).idx (ix2 x y) : (⟨2, ![2304, 128]⟩ : Shape).Idx) = ix2 ⟨t.val * 1152 + x.val, by have := ltN t; omega⟩ y := by
  refine funext fun a => Fin.ext ?_
  match a with
  | ⟨0, _⟩ => show win0_6.index t 0 * 1152 + 1 * x.val = t.val * 1152 + x.val; rw [(at6 t).1]; omega
  | ⟨1, _⟩ => show win0_6.index t 1 * 128 + 1 * y.val = y.val; rw [(at6 t).2]; omega
/-- Every element of such an array lies in one block. -/
theorem block6 (i : (⟨2, ![2304, 128]⟩ : Shape).Idx) :
    ∃ t : Fin cfg0.N, ∀ a : Fin 2, win0_6.index t a * ![1152, 128] a ≤ (i a : Nat) ∧ (i a : Nat) < win0_6.index t a * ![1152, 128] a + ![1152, 128] a := by
  have h0 : (i 0 : Nat) < 2304 := (i 0).isLt
  have h1 : (i 1 : Nat) < 128 := (i 1).isLt
  have hN : cfg0.N = 2 := N_0
  let t : Fin cfg0.N := ⟨(i 0 : Nat) / 1152, by omega⟩
  refine ⟨t, fun a => ?_⟩
  match a with
  | ⟨0, _⟩ =>
    show win0_6.index t 0 * 1152 ≤ (i 0 : Nat) ∧ (i 0 : Nat) < win0_6.index t 0 * 1152 + 1152
    rw [(at6 t).1]; dsimp only [t]; omega
  | ⟨1, _⟩ =>
    show win0_6.index t 1 * 128 ≤ (i 1 : Nat) ∧ (i 1 : Nat) < win0_6.index t 1 * 128 + 128
    rw [(at6 t).2]; dsimp only [t]; omega
theorem iblk1 :
    iblk m c 1 t (ix2 x y) = V m c main_v32 (ix2 ⟨t.val * 1152 + x.val, by have := ltN t; omega⟩ y) := by
  show V m c main_v32 ((win0_1.rect t).idx (ix2 x y)) = _
  exact congrArg _ (pos6 t x y)
theorem iblk2 :
    iblk m c 2 t (ix2 x y) = V m c main_v48 (ix2 ⟨t.val * 1152 + x.val, by have := ltN t; omega⟩ y) := by
  show V m c main_v48 ((win0_2.rect t).idx (ix2 x y)) = _
  exact congrArg _ (pos6 t x y)
theorem iblk3 :
    iblk m c 3 t (ix2 x y) = V m c main_v64 (ix2 ⟨t.val * 1152 + x.val, by have := ltN t; omega⟩ y) := by
  show V m c main_v64 ((win0_3.rect t).idx (ix2 x y)) = _
  exact congrArg _ (pos6 t x y)
theorem oblk6 (G : Buf (Elt F) ((c : Thread nD τ).loc main_v65_2)) :
    ((cfg0.win 6).blk t).view.read (Elt F) G (ix2 x y) = G (ix2 ⟨t.val * 1152 + x.val, by have := ltN t; omega⟩ y) :=
  congrArg G (pos6 t x y)
theorem cover6 (i : (⟨2, ![2304, 128]⟩ : Shape).Idx) :
    ∃ t : Fin cfg0.N, (cfg0.win 6).flush t = true ∧ i ∈ ((cfg0.win 6).blk t).view.set := by
  obtain ⟨t, h⟩ := block6 i
  refine ⟨t, flush0_6 _, ?_⟩
  show i ∈ ((View.whole main_v65_2).slice (win0_6.rect t)).set
  rw [View.set_slice_whole, Rect.mem_set_unit]
  exact h

theorem at0 : ∀ t : Fin grid0.N, win0_0.index t 0 = 0 ∧ win0_0.index t 1 = t.val ∧ win0_0.index t 2 = 0 := by decide +kernel

/-- Block `t` of window 0, element by element. -/
theorem iblk0 (c : Dev nD) (t : Fin cfg0.N) (x : Fin 8) (y : Fin 1152) (z : Fin 128) :
    iblk m c 0 t (ix3 x y z) = V m c main_v16 (ix3 x ⟨t.val * 1152 + y.val, by have := ltN t; omega⟩ z) := by
  show V m c main_v16 ((win0_0.rect t).idx (ix3 x y z)) = _
  refine congrArg _ (funext fun a => Fin.ext ?_)
  match a with
  | ⟨0, _⟩ => show win0_0.index t 0 * 8 + 1 * x.val = x.val; rw [(at0 t).1]; have := ltN t; omega
  | ⟨1, _⟩ => show win0_0.index t 1 * 1152 + 1 * y.val = t.val * 1152 + y.val; rw [(at0 t).2.1]; have := ltN t; omega
  | ⟨2, _⟩ => show win0_0.index t 2 * 128 + 1 * z.val = z.val; rw [(at0 t).2.2]; have := ltN t; omega
end Blocks

/-! ## One element of the step -/
section Spec
/-- The gradient: the sum over the devices. -/
def grad (A0 : FVec Ideal ⟨3, ![8, 2304, 128]⟩ .f32) (r : Fin 2304) (q : Fin 128) : EReal := ∑ d : Fin 8, A0 (ix3 d r q)
end Spec

variable (m : (ℓ : Loc nD τ sig) → Buf (Elt Ideal) ℓ) (ρ : Dev nD → PrngReg)

abbrev a0 (c : Dev nD) : FVec Ideal ⟨3, ![8, 2304, 128]⟩ .f32 := V m c main_v16
abbrev a1 (c : Dev nD) : FVec Ideal ⟨2, ![2304, 128]⟩ .f32 := V m c main_v32
abbrev a2 (c : Dev nD) : FVec Ideal ⟨2, ![2304, 128]⟩ .f32 := V m c main_v48
abbrev a3 (c : Dev nD) : FVec Ideal ⟨2, ![2304, 128]⟩ .f32 := V m c main_v64

/-- The four result arrays of device `c`: the gradient, the change of the weight, the new moments. -/
abbrev G4 (c : Dev nD) : Buf (Elt Ideal) ((c : Thread nD τ).loc main_v65_0) := fun i : S2304x128.Idx => grad (a0 m c) (i 0) (i 1)
abbrev G5 (c : Dev nD) : Buf (Elt Ideal) ((c : Thread nD τ).loc main_v65_1) := fun i : S2304x128.Idx =>
  delta (grad (a0 m c) (i 0) (i 1)) (a1 m c (ix2 (i 0) (i 1))) (a2 m c (ix2 (i 0) (i 1))) (a3 m c (ix2 (i 0) (i 1)))
abbrev G6 (c : Dev nD) : Buf (Elt Ideal) ((c : Thread nD τ).loc main_v65_2) := fun i : S2304x128.Idx =>
  newM (grad (a0 m c) (i 0) (i 1)) (a2 m c (ix2 (i 0) (i 1)))
abbrev G7 (c : Dev nD) : Buf (Elt Ideal) ((c : Thread nD τ).loc main_v65_3) := fun i : S2304x128.Idx =>
  newV (grad (a0 m c) (i 0) (i 1)) (a3 m c (ix2 (i 0) (i 1)))

section Payloads
variable (g u2 v w : Vec Ideal S1152x128 .f32) (x : Fin 1152) (y : Fin 128)
theorem pay1_at : k0_pay1 (F := Ideal) g v (ix2 x y) = newV (g (ix2 x y)) (v (ix2 x y)) := by
  pointwise [k0_pay1]
  rfl
theorem pay2_at (mo : EReal) (hu : u2 (ix2 x y) = newM (g (ix2 x y)) mo) :
    k0_pay2 (F := Ideal) g u2 v w (ix2 x y) = delta (g (ix2 x y)) (w (ix2 x y)) mo (v (ix2 x y)) := by
  pointwise [k0_pay2, k0_pay1]
  rw [hu]
  rfl
variable (x0 : Vec Ideal S8x1152x128 .f32) (x1 x2 x3 : Vec Ideal S1152x128 .f32)
theorem pay5_at : k0_pay5 (F := Ideal) x0 x1 x2 x3 (ix2 x y) = (∑ d : Fin 8, x0 (ix3 d x y) : EReal) := by
  pointwise [k0_pay5, k0_pay3]
  rw [Fin.sum_univ_eight]
theorem pay6_at : k0_pay6 (F := Ideal) x0 x1 x2 x3 (ix2 x y) = newM (k0_pay5 (F := Ideal) x0 x1 x2 x3 (ix2 x y)) (x2 (ix2 x y)) := by
  pointwise [k0_pay6, k0_pay5, k0_pay3, k0_pay4]
  rfl
end Payloads

theorem grad_at (c : Dev nD) (t : Fin cfg0.N) (x : Fin 1152) (y : Fin 128) :
    k0_pay5 (F := Ideal) (iblk m c 0 t) (iblk m c 1 t) (iblk m c 2 t) (iblk m c 3 t) (ix2 x y) = grad (a0 m c) ⟨t.val * 1152 + x.val, by have := ltN t; omega⟩ y :=
  (pay5_at x y _ _ _ _).trans (Finset.sum_congr rfl fun d _ => iblk0 m c t d x y)

/-- Element `(x, y)` of a block, as an extended real. -/
abbrev ew (v : Vec Ideal S1152x128 .f32) (x : Fin 1152) (y : Fin 128) : EReal := v (ix2 x y)
theorem ew1 (c : Dev nD) (t : Fin cfg0.N) (x : Fin 1152) (y : Fin 128) : ew (iblk m c 1 t) x y = a1 m c (ix2 ⟨t.val * 1152 + x.val, by have := ltN t; omega⟩ y) := iblk1 m c t x y
theorem ew2 (c : Dev nD) (t : Fin cfg0.N) (x : Fin 1152) (y : Fin 128) : ew (iblk m c 2 t) x y = a2 m c (ix2 ⟨t.val * 1152 + x.val, by have := ltN t; omega⟩ y) := iblk2 m c t x y
theorem ew3 (c : Dev nD) (t : Fin cfg0.N) (x : Fin 1152) (y : Fin 128) : ew (iblk m c 3 t) x y = a3 m c (ix2 ⟨t.val * 1152 + x.val, by have := ltN t; omega⟩ y) := iblk3 m c t x y

theorem flushed6_eq (c : Dev nD) (t : Fin cfg0.N) :
    (dats m 0 c).flushed 6 t = ((cfg0.win 6).blk t).view.read (Elt Ideal) (G6 m c) := by
  show (cfg0.win 6).cut (grid0.coords t) ((dats m 0 c).after 6 t) = _
  rw [after0_6]
  funext i
  obtain ⟨x, y, rfl⟩ := ix2_surj i
  rw [oblk6]
  unfold out0_6
  rw [View.canon_unit_zero Step.hz]
  refine (pay6_at x y _ _ _ _).trans ?_
  rw [grad_at]
  show newM _ (ew (iblk m c 2 t) x y) = _
  rw [ew2]
  rfl

theorem arr6 (c : Dev nD) : (dats m 0 c).arrAt 6 cfg0.N = G6 m c :=
  (dats m 0 c).arrAt_eq_of_cover 6 (G6 m c) (fun t _ => flushed6_eq m c t) cover6

/-! ## What the region's arrays hold when it starts -/
/-- The buffers after the first `k` host operations. -/
def U (c : Dev nD) (k : Nat) : Valuation τ sig (Elt Ideal) := StableHlo.upto [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16].flatten (fun b => m (c, b)) k
abbrev Pg (c : Dev nD) : S8x2304x128.Idx → EReal := V m c main_v16
abbrev Ag0 (c : Dev nD) : S8x1x64x64.Idx → EReal := m ((c : Thread nD τ).loc main_arg0)
abbrev Ag1 (c : Dev nD) : S8x1x64x64.Idx → EReal := m ((c : Thread nD τ).loc main_arg1)
abbrev Ag2 (c : Dev nD) : S8x1x64.Idx → EReal := m ((c : Thread nD τ).loc main_arg2)
abbrev Ag3 (c : Dev nD) : S8x1x64x64x16.Idx → EReal := m ((c : Thread nD τ).loc main_arg3)
abbrev Ag4 (c : Dev nD) : S8x1x64x64x16.Idx → EReal := m ((c : Thread nD τ).loc main_arg4)
abbrev Ag5 (c : Dev nD) : S8x1x64x16x64.Idx → EReal := m ((c : Thread nD τ).loc main_arg5)
abbrev Ag6 (c : Dev nD) : S8x1x64x16x64.Idx → EReal := m ((c : Thread nD τ).loc main_arg6)
abbrev Ag7 (c : Dev nD) : S8x1x64x16.Idx → EReal := m ((c : Thread nD τ).loc main_arg7)
abbrev Ag8 (c : Dev nD) : S8x1x1024.Idx → EReal := m ((c : Thread nD τ).loc main_arg8)
abbrev Ag9 (c : Dev nD) : S8x1x2048.Idx → EReal := m ((c : Thread nD τ).loc main_arg9)
abbrev Ag10 (c : Dev nD) : S8x1x5632.Idx → EReal := m ((c : Thread nD τ).loc main_arg10)
abbrev Ag11 (c : Dev nD) : S8x2048.Idx → EReal := m ((c : Thread nD τ).loc main_arg11)
abbrev Pm (c : Dev nD) : S2304x128.Idx → EReal := V m c main_v48
abbrev Am0 (c : Dev nD) : S1x64x64.Idx → EReal := m ((c : Thread nD τ).loc main_arg24)
abbrev Am1 (c : Dev nD) : S1x64x64.Idx → EReal := m ((c : Thread nD τ).loc main_arg25)
abbrev Am2 (c : Dev nD) : S1x64.Idx → EReal := m ((c : Thread nD τ).loc main_arg26)
abbrev Am3 (c : Dev nD) : S1x64x64x16.Idx → EReal := m ((c : Thread nD τ).loc main_arg27)
abbrev Am4 (c : Dev nD) : S1x64x64x16.Idx → EReal := m ((c : Thread nD τ).loc main_arg28)
abbrev Am5 (c : Dev nD) : S1x64x16x64.Idx → EReal := m ((c : Thread nD τ).loc main_arg29)
abbrev Am6 (c : Dev nD) : S1x64x16x64.Idx → EReal := m ((c : Thread nD τ).loc main_arg30)
abbrev Am7 (c : Dev nD) : S1x64x16.Idx → EReal := m ((c : Thread nD τ).loc main_arg31)
abbrev Am8 (c : Dev nD) : S1x1024.Idx → EReal := m ((c : Thread nD τ).loc main_arg32)
abbrev Am9 (c : Dev nD) : S1x2048.Idx → EReal := m ((c : Thread nD τ).loc main_arg33)
abbrev Am10 (c : Dev nD) : S1x5632.Idx → EReal := m ((c : Thread nD τ).loc main_arg34)
abbrev Am11 (c : Dev nD) : S2048.Idx → EReal := m ((c : Thread nD τ).loc main_arg35)

set_option maxHeartbeats 4000000 in
/-- The packed array at a position: the parameter whose stretch the position is in. -/
theorem key_g (c : Dev nD) (d : Fin 8) (x : Fin 2304) (y : Fin 128) (z : EReal) (hz : z =
      let n0 := x.val * 128 + y.val; let n1 := n0 - 4096; let n2 := n1 - 4096; let n3 := n2 - 1024; let n4 := n3 - 65536; let n5 := n4 - 65536; let n6 := n5 - 65536; let n7 := n6 - 65536; let n8 := n7 - 1024; let n9 := n8 - 1024; let n10 := n9 - 2048; let n11 := n10 - 6144; let n12 := n11 - 2048
      if h : n0 < 4096 then (U m c 20 (Proc.devRef .tc main_v0) : S8x4096.Idx → EReal) (ix2 d ⟨n0, h⟩) else
      if h : n1 < 4096 then (U m c 20 (Proc.devRef .tc main_v1) : S8x4096.Idx → EReal) (ix2 d ⟨n1, h⟩) else
      if h : n2 < 1024 then (U m c 20 (Proc.devRef .tc main_v3) : S8x1024.Idx → EReal) (ix2 d ⟨n2, h⟩) else
      if h : n3 < 65536 then (U m c 20 (Proc.devRef .tc main_v4) : S8x65536.Idx → EReal) (ix2 d ⟨n3, h⟩) else
      if h : n4 < 65536 then (U m c 20 (Proc.devRef .tc main_v5) : S8x65536.Idx → EReal) (ix2 d ⟨n4, h⟩) else
      if h : n5 < 65536 then (U m c 20 (Proc.devRef .tc main_v6) : S8x65536.Idx → EReal) (ix2 d ⟨n5, h⟩) else
      if h : n6 < 65536 then (U m c 20 (Proc.devRef .tc main_v7) : S8x65536.Idx → EReal) (ix2 d ⟨n6, h⟩) else
      if h : n7 < 1024 then (U m c 20 (Proc.devRef .tc main_v8) : S8x1024.Idx → EReal) (ix2 d ⟨n7, h⟩) else
      if h : n8 < 1024 then (U m c 20 (Proc.devRef .tc main_v9) : S8x1024.Idx → EReal) (ix2 d ⟨n8, h⟩) else
      if h : n9 < 2048 then (U m c 20 (Proc.devRef .tc main_v10) : S8x2048.Idx → EReal) (ix2 d ⟨n9, h⟩) else
      if h : n10 < 6144 then (U m c 20 (Proc.devRef .tc main_v12) : S8x6144.Idx → EReal) (ix2 d ⟨n10, h⟩) else
      if h : n11 < 2048 then (U m c 20 (Proc.devRef .tc main_arg11) : S8x2048.Idx → EReal) (ix2 d ⟨n11, h⟩) else
      (U m c 20 (Proc.devRef .tc main_v14) : S8x11264.Idx → EReal) (ix2 d ⟨n12, by omega⟩)) :
    Pg m c (ix3 d x y) = z := by
  unfold Pg V V0
  after_reads_at
  unfold U at hz
  exact hz.symm

set_option maxHeartbeats 4000000 in
/-- The packed array at a position: the parameter whose stretch the position is in. -/
theorem key_m (c : Dev nD) (x : Fin 2304) (y : Fin 128) (z : EReal) (hz : z =
      let n0 := x.val * 128 + y.val; let n1 := n0 - 4096; let n2 := n1 - 4096; let n3 := n2 - 1024; let n4 := n3 - 65536; let n5 := n4 - 65536; let n6 := n5 - 65536; let n7 := n6 - 65536; let n8 := n7 - 1024; let n9 := n8 - 1024; let n10 := n9 - 2048; let n11 := n10 - 6144; let n12 := n11 - 2048
      if h : n0 < 4096 then (U m c 62 (Proc.devRef .tc main_v33) : S4096.Idx → EReal) (ix1 ⟨n0, h⟩) else
      if h : n1 < 4096 then (U m c 62 (Proc.devRef .tc main_v34) : S4096.Idx → EReal) (ix1 ⟨n1, h⟩) else
      if h : n2 < 1024 then (U m c 62 (Proc.devRef .tc main_v36) : S1024.Idx → EReal) (ix1 ⟨n2, h⟩) else
      if h : n3 < 65536 then (U m c 62 (Proc.devRef .tc main_v37) : S65536.Idx → EReal) (ix1 ⟨n3, h⟩) else
      if h : n4 < 65536 then (U m c 62 (Proc.devRef .tc main_v38) : S65536.Idx → EReal) (ix1 ⟨n4, h⟩) else
      if h : n5 < 65536 then (U m c 62 (Proc.devRef .tc main_v39) : S65536.Idx → EReal) (ix1 ⟨n5, h⟩) else
      if h : n6 < 65536 then (U m c 62 (Proc.devRef .tc main_v40) : S65536.Idx → EReal) (ix1 ⟨n6, h⟩) else
      if h : n7 < 1024 then (U m c 62 (Proc.devRef .tc main_v41) : S1024.Idx → EReal) (ix1 ⟨n7, h⟩) else
      if h : n8 < 1024 then (U m c 62 (Proc.devRef .tc main_v42) : S1024.Idx → EReal) (ix1 ⟨n8, h⟩) else
      if h : n9 < 2048 then (U m c 62 (Proc.devRef .tc main_v43) : S2048.Idx → EReal) (ix1 ⟨n9, h⟩) else
      if h : n10 < 6144 then (U m c 62 (Proc.devRef .tc main_v45) : S6144.Idx → EReal) (ix1 ⟨n10, h⟩) else
      if h : n11 < 2048 then (U m c 62 (Proc.devRef .tc main_arg35) : S2048.Idx → EReal) (ix1 ⟨n11, h⟩) else
      (U m c 62 (Proc.devRef .tc main_v46) : S11264.Idx → EReal) (ix1 ⟨n12, by omega⟩)) :
    Pm m c (ix2 x y) = z := by
  unfold Pm V V0
  after_reads_at
  unfold U at hz
  exact hz.symm

variable (c : Dev nD) (x : Fin 2304) (y : Fin 128)
theorem g0 (d : Fin 8) (i : Fin 1) (j : Fin 64) (k : Fin 64) (h : x.val * 128 + y.val = 0 + (((i.val) * 64 + j.val) * 64 + k.val) := by first | omega | (dsimp only [ix2]; omega)) :
    Pg m c (ix3 d x y) = Ag0 m c (ix4 d i j k) := by
  rw [key_g m c d x y _ rfl]; dsimp only
  rw [dif_pos (by omega)]
  unfold U
  after_reads_at
  exact congrArg (Ag0 m c) ix4_congr
theorem g1 (d : Fin 8) (i : Fin 1) (j : Fin 64) (k : Fin 64) (h : x.val * 128 + y.val = 4096 + (((i.val) * 64 + j.val) * 64 + k.val) := by first | omega | (dsimp only [ix2]; omega)) :
    Pg m c (ix3 d x y) = Ag1 m c (ix4 d i j k) := by
  rw [key_g m c d x y _ rfl]; dsimp only
  rw [dif_neg (by omega)]
  rw [dif_pos (by omega)]
  unfold U
  after_reads_at
  exact congrArg (Ag1 m c) ix4_congr
theorem g2 (d : Fin 8) (i : Fin 1) (j : Fin 64) (h : x.val * 128 + y.val = 8192 + ((i.val) * 64 + j.val) := by first | omega | (dsimp only [ix2]; omega)) :
    Pg m c (ix3 d x y) = Ag2 m c (ix3 d i j) := by
  rw [key_g m c d x y _ rfl]; dsimp only
  iterate 2 rw [dif_neg (by omega)]
  rw [dif_pos (by omega)]
  unfold U
  after_reads_at
  rw [dif_pos (by omega)]
  exact congrArg (Ag2 m c) ix3_congr
theorem g3 (d : Fin 8) (i : Fin 1) (j : Fin 64) (k : Fin 64) (l : Fin 16) (h : x.val * 128 + y.val = 9216 + ((((i.val) * 64 + j.val) * 64 + k.val) * 16 + l.val) := by first | omega | (dsimp only [ix2]; omega)) :
    Pg m c (ix3 d x y) = Ag3 m c (ix5 d i j k l) := by
  rw [key_g m c d x y _ rfl]; dsimp only
  iterate 3 rw [dif_neg (by omega)]
  rw [dif_pos (by omega)]
  unfold U
  after_reads_at
  exact congrArg (Ag3 m c) ix5_congr
theorem g4 (d : Fin 8) (i : Fin 1) (j : Fin 64) (k : Fin 64) (l : Fin 16) (h : x.val * 128 + y.val = 74752 + ((((i.val) * 64 + j.val) * 64 + k.val) * 16 + l.val) := by first | omega | (dsimp only [ix2]; omega)) :
    Pg m c (ix3 d x y) = Ag4 m c (ix5 d i j k l) := by
  rw [key_g m c d x y _ rfl]; dsimp only
  iterate 4 rw [dif_neg (by omega)]
  rw [dif_pos (by omega)]
  unfold U
  after_reads_at
  exact congrArg (Ag4 m c) ix5_congr
theorem g5 (d : Fin 8) (i : Fin 1) (j : Fin 64) (k : Fin 16) (l : Fin 64) (h : x.val * 128 + y.val = 140288 + ((((i.val) * 64 + j.val) * 16 + k.val) * 64 + l.val) := by first | omega | (dsimp only [ix2]; omega)) :
    Pg m c (ix3 d x y) = Ag5 m c (ix5 d i j k l) := by
  rw [key_g m c d x y _ rfl]; dsimp only
  iterate 5 rw [dif_neg (by omega)]
  rw [dif_pos (by omega)]
  unfold U
  after_reads_at
  exact congrArg (Ag5 m c) ix5_congr
theorem g6 (d : Fin 8) (i : Fin 1) (j : Fin 64) (k : Fin 16) (l : Fin 64) (h : x.val * 128 + y.val = 205824 + ((((i.val) * 64 + j.val) * 16 + k.val) * 64 + l.val) := by first | omega | (dsimp only [ix2]; omega)) :
    Pg m c (ix3 d x y) = Ag6 m c (ix5 d i j k l) := by
  rw [key_g m c d x y _ rfl]; dsimp only
  iterate 6 rw [dif_neg (by omega)]
  rw [dif_pos (by omega)]
  unfold U
  after_reads_at
  exact congrArg (Ag6 m c) ix5_congr
theorem g7 (d : Fin 8) (i : Fin 1) (j : Fin 64) (k : Fin 16) (h : x.val * 128 + y.val = 271360 + (((i.val) * 64 + j.val) * 16 + k.val) := by first | omega | (dsimp only [ix2]; omega)) :
    Pg m c (ix3 d x y) = Ag7 m c (ix4 d i j k) := by
  rw [key_g m c d x y _ rfl]; dsimp only
  iterate 7 rw [dif_neg (by omega)]
  rw [dif_pos (by omega)]
  unfold U
  after_reads_at
  exact congrArg (Ag7 m c) ix4_congr
theorem g8 (d : Fin 8) (i : Fin 1) (j : Fin 1024) (h : x.val * 128 + y.val = 272384 + ((i.val) * 1024 + j.val) := by first | omega | (dsimp only [ix2]; omega)) :
    Pg m c (ix3 d x y) = Ag8 m c (ix3 d i j) := by
  rw [key_g m c d x y _ rfl]; dsimp only
  iterate 8 rw [dif_neg (by omega)]
  rw [dif_pos (by omega)]
  unfold U
  after_reads_at
  exact congrArg (Ag8 m c) ix3_congr
theorem g9 (d : Fin 8) (i : Fin 1) (j : Fin 2048) (h : x.val * 128 + y.val = 273408 + ((i.val) * 2048 + j.val) := by first | omega | (dsimp only [ix2]; omega)) :
    Pg m c (ix3 d x y) = Ag9 m c (ix3 d i j) := by
  rw [key_g m c d x y _ rfl]; dsimp only
  iterate 9 rw [dif_neg (by omega)]
  rw [dif_pos (by omega)]
  unfold U
  after_reads_at
  exact congrArg (Ag9 m c) ix3_congr
theorem g10 (d : Fin 8) (i : Fin 1) (j : Fin 5632) (h : x.val * 128 + y.val = 275456 + ((i.val) * 5632 + j.val) := by first | omega | (dsimp only [ix2]; omega)) :
    Pg m c (ix3 d x y) = Ag10 m c (ix3 d i j) := by
  rw [key_g m c d x y _ rfl]; dsimp only
  iterate 10 rw [dif_neg (by omega)]
  rw [dif_pos (by omega)]
  unfold U
  after_reads_at
  rw [dif_pos (by omega)]
  exact congrArg (Ag10 m c) ix3_congr
theorem g11 (d : Fin 8) (i : Fin 2048) (h : x.val * 128 + y.val = 281600 + (i.val) := by first | omega | (dsimp only [ix2]; omega)) :
    Pg m c (ix3 d x y) = Ag11 m c (ix2 d i) := by
  rw [key_g m c d x y _ rfl]; dsimp only
  iterate 11 rw [dif_neg (by omega)]
  rw [dif_pos (by omega)]
  unfold U
  after_reads_at
  exact congrArg (Ag11 m c) ix2_congr
theorem m0 (i : Fin 1) (j : Fin 64) (k : Fin 64) (h : x.val * 128 + y.val = 0 + (((i.val) * 64 + j.val) * 64 + k.val) := by first | omega | (dsimp only [ix2]; omega)) :
    Pm m c (ix2 x y) = Am0 m c (ix3 i j k) := by
  rw [key_m m c x y _ rfl]; dsimp only
  rw [dif_pos (by omega)]
  unfold U
  after_reads_at
  exact congrArg (Am0 m c) ix3_congr
theorem m1 (i : Fin 1) (j : Fin 64) (k : Fin 64) (h : x.val * 128 + y.val = 4096 + (((i.val) * 64 + j.val) * 64 + k.val) := by first | omega | (dsimp only [ix2]; omega)) :
    Pm m c (ix2 x y) = Am1 m c (ix3 i j k) := by
  rw [key_m m c x y _ rfl]; dsimp only
  rw [dif_neg (by omega)]
  rw [dif_pos (by omega)]
  unfold U
  after_reads_at
  exact congrArg (Am1 m c) ix3_congr
theorem m2 (i : Fin 1) (j : Fin 64) (h : x.val * 128 + y.val = 8192 + ((i.val) * 64 + j.val) := by first | omega | (dsimp only [ix2]; omega)) :
    Pm m c (ix2 x y) = Am2 m c (ix2 i j) := by
  rw [key_m m c x y _ rfl]; dsimp only
  iterate 2 rw [dif_neg (by omega)]
  rw [dif_pos (by omega)]
  unfold U
  after_reads_at
  rw [dif_pos (by omega)]
  exact congrArg (Am2 m c) ix2_congr
theorem m3 (i : Fin 1) (j : Fin 64) (k : Fin 64) (l : Fin 16) (h : x.val * 128 + y.val = 9216 + ((((i.val) * 64 + j.val) * 64 + k.val) * 16 + l.val) := by first | omega | (dsimp only [ix2]; omega)) :
    Pm m c (ix2 x y) = Am3 m c (ix4 i j k l) := by
  rw [key_m m c x y _ rfl]; dsimp only
  iterate 3 rw [dif_neg (by omega)]
  rw [dif_pos (by omega)]
  unfold U
  after_reads_at
  exact congrArg (Am3 m c) ix4_congr
theorem m4 (i : Fin 1) (j : Fin 64) (k : Fin 64) (l : Fin 16) (h : x.val * 128 + y.val = 74752 + ((((i.val) * 64 + j.val) * 64 + k.val) * 16 + l.val) := by first | omega | (dsimp only [ix2]; omega)) :
    Pm m c (ix2 x y) = Am4 m c (ix4 i j k l) := by
  rw [key_m m c x y _ rfl]; dsimp only
  iterate 4 rw [dif_neg (by omega)]
  rw [dif_pos (by omega)]
  unfold U
  after_reads_at
  exact congrArg (Am4 m c) ix4_congr
theorem m5 (i : Fin 1) (j : Fin 64) (k : Fin 16) (l : Fin 64) (h : x.val * 128 + y.val = 140288 + ((((i.val) * 64 + j.val) * 16 + k.val) * 64 + l.val) := by first | omega | (dsimp only [ix2]; omega)) :
    Pm m c (ix2 x y) = Am5 m c (ix4 i j k l) := by
  rw [key_m m c x y _ rfl]; dsimp only
  iterate 5 rw [dif_neg (by omega)]
  rw [dif_pos (by omega)]
  unfold U
  after_reads_at
  exact congrArg (Am5 m c) ix4_congr
theorem m6 (i : Fin 1) (j : Fin 64) (k : Fin 16) (l : Fin 64) (h : x.val * 128 + y.val = 205824 + ((((i.val) * 64 + j.val) * 16 + k.val) * 64 + l.val) := by first | omega | (dsimp only [ix2]; omega)) :
    Pm m c (ix2 x y) = Am6 m c (ix4 i j k l) := by
  rw [key_m m c x y _ rfl]; dsimp only
  iterate 6 rw [dif_neg (by omega)]
  rw [dif_pos (by omega)]
  unfold U
  after_reads_at
  exact congrArg (Am6 m c) ix4_congr
theorem m7 (i : Fin 1) (j : Fin 64) (k : Fin 16) (h : x.val * 128 + y.val = 271360 + (((i.val) * 64 + j.val) * 16 + k.val) := by first | omega | (dsimp only [ix2]; omega)) :
    Pm m c (ix2 x y) = Am7 m c (ix3 i j k) := by
  rw [key_m m c x y _ rfl]; dsimp only
  iterate 7 rw [dif_neg (by omega)]
  rw [dif_pos (by omega)]
  unfold U
  after_reads_at
  exact congrArg (Am7 m c) ix3_congr
theorem m8 (i : Fin 1) (j : Fin 1024) (h : x.val * 128 + y.val = 272384 + ((i.val) * 1024 + j.val) := by first | omega | (dsimp only [ix2]; omega)) :
    Pm m c (ix2 x y) = Am8 m c (ix2 i j) := by
  rw [key_m m c x y _ rfl]; dsimp only
  iterate 8 rw [dif_neg (by omega)]
  rw [dif_pos (by omega)]
  unfold U
  after_reads_at
  exact congrArg (Am8 m c) ix2_congr
theorem m9 (i : Fin 1) (j : Fin 2048) (h : x.val * 128 + y.val = 273408 + ((i.val) * 2048 + j.val) := by first | omega | (dsimp only [ix2]; omega)) :
    Pm m c (ix2 x y) = Am9 m c (ix2 i j) := by
  rw [key_m m c x y _ rfl]; dsimp only
  iterate 9 rw [dif_neg (by omega)]
  rw [dif_pos (by omega)]
  unfold U
  after_reads_at
  exact congrArg (Am9 m c) ix2_congr
theorem m10 (i : Fin 1) (j : Fin 5632) (h : x.val * 128 + y.val = 275456 + ((i.val) * 5632 + j.val) := by first | omega | (dsimp only [ix2]; omega)) :
    Pm m c (ix2 x y) = Am10 m c (ix2 i j) := by
  rw [key_m m c x y _ rfl]; dsimp only
  iterate 10 rw [dif_neg (by omega)]
  rw [dif_pos (by omega)]
  unfold U
  after_reads_at
  rw [dif_pos (by omega)]
  exact congrArg (Am10 m c) ix2_congr
theorem m11 (i : Fin 2048) (h : x.val * 128 + y.val = 281600 + (i.val) := by first | omega | (dsimp only [ix2]; omega)) :
    Pm m c (ix2 x y) = Am11 m c (ix1 i) := by
  rw [key_m m c x y _ rfl]; dsimp only
  iterate 11 rw [dif_neg (by omega)]
  rw [dif_pos (by omega)]
  unfold U
  after_reads_at
  exact congrArg (Am11 m c) ix1_congr

/-! ## The results: the step's elements at the parameters' places -/
theorem arrs_inj : Function.Injective (Pipeline.arrRef spec0) := by decide
/-- Window 6's array after the region. -/
theorem out6 (i : S2304x128.Idx) :
    Pipeline.withArrays (cfgs 0).spec c (V0 m c) (fun w => (dats m 0 c).arrAt w (cfgs 0).N) (Proc.tc.devRef main_v65_2) i = G6 m c i :=
  (congrFun (Pipeline.withArrays_arr spec0 arrs_inj c (V0 m c) (fun w => (dats m 0 c).arrAt w cfg0.N) 6) i).trans (congrFun (arr6 m c) i)

def K0 : Buf (Elt Ideal) ((c : Thread nD τ).loc main_v68) := Pipeline.afterTail₀ cfgs (dats m) 0 (V0 m) [hostOps1] c main_v68
theorem K0_at (i : Fin 1) (j : Fin 64) (k : Fin 64) (z : EReal) (hz : (newM (sum8 fun d => Ag0 m c (ix4 d i j k)) (Am0 m c (ix3 i j k))) = z) : (K0 m c : S1x64x64.Idx → EReal) (ix3 i j k) = z := by
  unfold K0 Pipeline.afterTail₀
  after_reads_at
  refine (out6 m c _).trans ?_
  rw [← hz]
  exact (newM_congr (sum8_congr fun d => g0 m c _ _ d i j k) (m0 m c _ _ i j k))

def K1 : Buf (Elt Ideal) ((c : Thread nD τ).loc main_v71) := Pipeline.afterTail₀ cfgs (dats m) 0 (V0 m) [hostOps1] c main_v71
theorem K1_at (i : Fin 1) (j : Fin 64) (k : Fin 64) (z : EReal) (hz : (newM (sum8 fun d => Ag1 m c (ix4 d i j k)) (Am1 m c (ix3 i j k))) = z) : (K1 m c : S1x64x64.Idx → EReal) (ix3 i j k) = z := by
  unfold K1 Pipeline.afterTail₀
  after_reads_at
  refine (out6 m c _).trans ?_
  rw [← hz]
  exact (newM_congr (sum8_congr fun d => g1 m c _ _ d i j k) (m1 m c _ _ i j k))

def K2 : Buf (Elt Ideal) ((c : Thread nD τ).loc main_v75) := Pipeline.afterTail₀ cfgs (dats m) 0 (V0 m) [hostOps1] c main_v75
theorem K2_at (i : Fin 1) (j : Fin 64) (z : EReal) (hz : (newM (sum8 fun d => Ag2 m c (ix3 d i j)) (Am2 m c (ix2 i j))) = z) : (K2 m c : S1x64.Idx → EReal) (ix2 i j) = z := by
  unfold K2 Pipeline.afterTail₀
  after_reads_at
  refine (out6 m c _).trans ?_
  rw [← hz]
  exact (newM_congr (sum8_congr fun d => g2 m c _ _ d i j) (m2 m c _ _ i j))

def K3 : Buf (Elt Ideal) ((c : Thread nD τ).loc main_v78) := Pipeline.afterTail₀ cfgs (dats m) 0 (V0 m) [hostOps1] c main_v78
theorem K3_at (i : Fin 1) (j : Fin 64) (k : Fin 64) (l : Fin 16) (z : EReal) (hz : (newM (sum8 fun d => Ag3 m c (ix5 d i j k l)) (Am3 m c (ix4 i j k l))) = z) : (K3 m c : S1x64x64x16.Idx → EReal) (ix4 i j k l) = z := by
  unfold K3 Pipeline.afterTail₀
  after_reads_at
  refine (out6 m c _).trans ?_
  rw [← hz]
  exact (newM_congr (sum8_congr fun d => g3 m c _ _ d i j k l) (m3 m c _ _ i j k l))

def K4 : Buf (Elt Ideal) ((c : Thread nD τ).loc main_v81) := Pipeline.afterTail₀ cfgs (dats m) 0 (V0 m) [hostOps1] c main_v81
theorem K4_at (i : Fin 1) (j : Fin 64) (k : Fin 64) (l : Fin 16) (z : EReal) (hz : (newM (sum8 fun d => Ag4 m c (ix5 d i j k l)) (Am4 m c (ix4 i j k l))) = z) : (K4 m c : S1x64x64x16.Idx → EReal) (ix4 i j k l) = z := by
  unfold K4 Pipeline.afterTail₀
  after_reads_at
  refine (out6 m c _).trans ?_
  rw [← hz]
  exact (newM_congr (sum8_congr fun d => g4 m c _ _ d i j k l) (m4 m c _ _ i j k l))

def K5 : Buf (Elt Ideal) ((c : Thread nD τ).loc main_v84) := Pipeline.afterTail₀ cfgs (dats m) 0 (V0 m) [hostOps1] c main_v84
theorem K5_at (i : Fin 1) (j : Fin 64) (k : Fin 16) (l : Fin 64) (z : EReal) (hz : (newM (sum8 fun d => Ag5 m c (ix5 d i j k l)) (Am5 m c (ix4 i j k l))) = z) : (K5 m c : S1x64x16x64.Idx → EReal) (ix4 i j k l) = z := by
  unfold K5 Pipeline.afterTail₀
  after_reads_at
  refine (out6 m c _).trans ?_
  rw [← hz]
  exact (newM_congr (sum8_congr fun d => g5 m c _ _ d i j k l) (m5 m c _ _ i j k l))

def K6 : Buf (Elt Ideal) ((c : Thread nD τ).loc main_v87) := Pipeline.afterTail₀ cfgs (dats m) 0 (V0 m) [hostOps1] c main_v87
theorem K6_at (i : Fin 1) (j : Fin 64) (k : Fin 16) (l : Fin 64) (z : EReal) (hz : (newM (sum8 fun d => Ag6 m c (ix5 d i j k l)) (Am6 m c (ix4 i j k l))) = z) : (K6 m c : S1x64x16x64.Idx → EReal) (ix4 i j k l) = z := by
  unfold K6 Pipeline.afterTail₀
  after_reads_at
  refine (out6 m c _).trans ?_
  rw [← hz]
  exact (newM_congr (sum8_congr fun d => g6 m c _ _ d i j k l) (m6 m c _ _ i j k l))

def K7 : Buf (Elt Ideal) ((c : Thread nD τ).loc main_v90) := Pipeline.afterTail₀ cfgs (dats m) 0 (V0 m) [hostOps1] c main_v90
theorem K7_at (i : Fin 1) (j : Fin 64) (k : Fin 16) (z : EReal) (hz : (newM (sum8 fun d => Ag7 m c (ix4 d i j k)) (Am7 m c (ix3 i j k))) = z) : (K7 m c : S1x64x16.Idx → EReal) (ix3 i j k) = z := by
  unfold K7 Pipeline.afterTail₀
  after_reads_at
  refine (out6 m c _).trans ?_
  rw [← hz]
  exact (newM_congr (sum8_congr fun d => g7 m c _ _ d i j k) (m7 m c _ _ i j k))

def K8 : Buf (Elt Ideal) ((c : Thread nD τ).loc main_v93) := Pipeline.afterTail₀ cfgs (dats m) 0 (V0 m) [hostOps1] c main_v93
theorem K8_at (i : Fin 1) (j : Fin 1024) (z : EReal) (hz : (newM (sum8 fun d => Ag8 m c (ix3 d i j)) (Am8 m c (ix2 i j))) = z) : (K8 m c : S1x1024.Idx → EReal) (ix2 i j) = z := by
  unfold K8 Pipeline.afterTail₀
  after_reads_at
  refine (out6 m c _).trans ?_
  rw [← hz]
  exact (newM_congr (sum8_congr fun d => g8 m c _ _ d i j) (m8 m c _ _ i j))

def K9 : Buf (Elt Ideal) ((c : Thread nD τ).loc main_v96) := Pipeline.afterTail₀ cfgs (dats m) 0 (V0 m) [hostOps1] c main_v96
theorem K9_at (i : Fin 1) (j : Fin 2048) (z : EReal) (hz : (newM (sum8 fun d => Ag9 m c (ix3 d i j)) (Am9 m c (ix2 i j))) = z) : (K9 m c : S1x2048.Idx → EReal) (ix2 i j) = z := by
  unfold K9 Pipeline.afterTail₀
  after_reads_at
  refine (out6 m c _).trans ?_
  rw [← hz]
  exact (newM_congr (sum8_congr fun d => g9 m c _ _ d i j) (m9 m c _ _ i j))

def K10 : Buf (Elt Ideal) ((c : Thread nD τ).loc main_v100) := Pipeline.afterTail₀ cfgs (dats m) 0 (V0 m) [hostOps1] c main_v100
theorem K10_at (i : Fin 1) (j : Fin 5632) (z : EReal) (hz : (newM (sum8 fun d => Ag10 m c (ix3 d i j)) (Am10 m c (ix2 i j))) = z) : (K10 m c : S1x5632.Idx → EReal) (ix2 i j) = z := by
  unfold K10 Pipeline.afterTail₀
  after_reads_at
  refine (out6 m c _).trans ?_
  rw [← hz]
  exact (newM_congr (sum8_congr fun d => g10 m c _ _ d i j) (m10 m c _ _ i j))

def K11 : Buf (Elt Ideal) ((c : Thread nD τ).loc main_v102) := Pipeline.afterTail₀ cfgs (dats m) 0 (V0 m) [hostOps1] c main_v102
theorem K11_at (i : Fin 2048) (z : EReal) (hz : (newM (sum8 fun d => Ag11 m c (ix2 d i)) (Am11 m c (ix1 i))) = z) : (K11 m c : S2048.Idx → EReal) (ix1 i) = z := by
  unfold K11 Pipeline.afterTail₀
  after_reads_at
  refine (out6 m c _).trans ?_
  rw [← hz]
  exact (newM_congr (sum8_congr fun d => g11 m c _ _ d i) (m11 m c _ _ i))

section Reference
open Reference29Ideal.Read
theorem ref0 (x0 : FVec Ideal ⟨4, ![8, 1, 64, 64]⟩ .f32) (x1 : FVec Ideal ⟨3, ![1, 64, 64]⟩ .f32) (i : Fin 1) (j : Fin 64) (k : Fin 64) :
    val_main_v5 (F := Ideal) x0 x1 (ix3 i j k) = newM (sum8 fun d => x0 (ix4 d i j k)) (x1 (ix3 i j k)) := by
  obtain rfl : i = 0 := Subsingleton.elim _ _
  pointwise [val_main_cst, val_main_cst_0, val_main_cst_1, val_main_v0, val_main_v1, val_main_v2, val_main_v3, val_main_v4, val_main_v5]
  rfl
theorem ref1 (x0 : FVec Ideal ⟨4, ![8, 1, 64, 64]⟩ .f32) (x1 : FVec Ideal ⟨3, ![1, 64, 64]⟩ .f32) (i : Fin 1) (j : Fin 64) (k : Fin 64) :
    val_main_v30 (F := Ideal) x0 x1 (ix3 i j k) = newM (sum8 fun d => x0 (ix4 d i j k)) (x1 (ix3 i j k)) := by
  obtain rfl : i = 0 := Subsingleton.elim _ _
  pointwise [val_main_cst_10, val_main_cst_11, val_main_cst_9, val_main_v25, val_main_v26, val_main_v27, val_main_v28, val_main_v29, val_main_v30]
  rfl
theorem ref2 (x0 : FVec Ideal ⟨3, ![8, 1, 64]⟩ .f32) (x1 : FVec Ideal ⟨2, ![1, 64]⟩ .f32) (i : Fin 1) (j : Fin 64) :
    val_main_v55 (F := Ideal) x0 x1 (ix2 i j) = newM (sum8 fun d => x0 (ix3 d i j)) (x1 (ix2 i j)) := by
  obtain rfl : i = 0 := Subsingleton.elim _ _
  pointwise [val_main_cst_19, val_main_cst_20, val_main_cst_21, val_main_v50, val_main_v51, val_main_v52, val_main_v53, val_main_v54, val_main_v55]
  rfl
theorem ref3 (x0 : FVec Ideal ⟨5, ![8, 1, 64, 64, 16]⟩ .f32) (x1 : FVec Ideal ⟨4, ![1, 64, 64, 16]⟩ .f32) (i : Fin 1) (j : Fin 64) (k : Fin 64) (l : Fin 16) :
    val_main_v80 (F := Ideal) x0 x1 (ix4 i j k l) = newM (sum8 fun d => x0 (ix5 d i j k l)) (x1 (ix4 i j k l)) := by
  obtain rfl : i = 0 := Subsingleton.elim _ _
  pointwise [val_main_cst_29, val_main_cst_30, val_main_cst_31, val_main_v75, val_main_v76, val_main_v77, val_main_v78, val_main_v79, val_main_v80]
  rfl
theorem ref4 (x0 : FVec Ideal ⟨5, ![8, 1, 64, 64, 16]⟩ .f32) (x1 : FVec Ideal ⟨4, ![1, 64, 64, 16]⟩ .f32) (i : Fin 1) (j : Fin 64) (k : Fin 64) (l : Fin 16) :
    val_main_v105 (F := Ideal) x0 x1 (ix4 i j k l) = newM (sum8 fun d => x0 (ix5 d i j k l)) (x1 (ix4 i j k l)) := by
  obtain rfl : i = 0 := Subsingleton.elim _ _
  pointwise [val_main_cst_39, val_main_cst_40, val_main_cst_41, val_main_v100, val_main_v101, val_main_v102, val_main_v103, val_main_v104, val_main_v105]
  rfl
theorem ref5 (x0 : FVec Ideal ⟨5, ![8, 1, 64, 16, 64]⟩ .f32) (x1 : FVec Ideal ⟨4, ![1, 64, 16, 64]⟩ .f32) (i : Fin 1) (j : Fin 64) (k : Fin 16) (l : Fin 64) :
    val_main_v130 (F := Ideal) x0 x1 (ix4 i j k l) = newM (sum8 fun d => x0 (ix5 d i j k l)) (x1 (ix4 i j k l)) := by
  obtain rfl : i = 0 := Subsingleton.elim _ _
  pointwise [val_main_cst_49, val_main_cst_50, val_main_cst_51, val_main_v125, val_main_v126, val_main_v127, val_main_v128, val_main_v129, val_main_v130]
  rfl
theorem ref6 (x0 : FVec Ideal ⟨5, ![8, 1, 64, 16, 64]⟩ .f32) (x1 : FVec Ideal ⟨4, ![1, 64, 16, 64]⟩ .f32) (i : Fin 1) (j : Fin 64) (k : Fin 16) (l : Fin 64) :
    val_main_v155 (F := Ideal) x0 x1 (ix4 i j k l) = newM (sum8 fun d => x0 (ix5 d i j k l)) (x1 (ix4 i j k l)) := by
  obtain rfl : i = 0 := Subsingleton.elim _ _
  pointwise [val_main_cst_59, val_main_cst_60, val_main_cst_61, val_main_v150, val_main_v151, val_main_v152, val_main_v153, val_main_v154, val_main_v155]
  rfl
theorem ref7 (x0 : FVec Ideal ⟨4, ![8, 1, 64, 16]⟩ .f32) (x1 : FVec Ideal ⟨3, ![1, 64, 16]⟩ .f32) (i : Fin 1) (j : Fin 64) (k : Fin 16) :
    val_main_v180 (F := Ideal) x0 x1 (ix3 i j k) = newM (sum8 fun d => x0 (ix4 d i j k)) (x1 (ix3 i j k)) := by
  obtain rfl : i = 0 := Subsingleton.elim _ _
  pointwise [val_main_cst_69, val_main_cst_70, val_main_cst_71, val_main_v175, val_main_v176, val_main_v177, val_main_v178, val_main_v179, val_main_v180]
  rfl
theorem ref8 (x0 : FVec Ideal ⟨3, ![8, 1, 1024]⟩ .f32) (x1 : FVec Ideal ⟨2, ![1, 1024]⟩ .f32) (i : Fin 1) (j : Fin 1024) :
    val_main_v205 (F := Ideal) x0 x1 (ix2 i j) = newM (sum8 fun d => x0 (ix3 d i j)) (x1 (ix2 i j)) := by
  obtain rfl : i = 0 := Subsingleton.elim _ _
  pointwise [val_main_cst_79, val_main_cst_80, val_main_cst_81, val_main_v200, val_main_v201, val_main_v202, val_main_v203, val_main_v204, val_main_v205]
  rfl
theorem ref9 (x0 : FVec Ideal ⟨3, ![8, 1, 2048]⟩ .f32) (x1 : FVec Ideal ⟨2, ![1, 2048]⟩ .f32) (i : Fin 1) (j : Fin 2048) :
    val_main_v230 (F := Ideal) x0 x1 (ix2 i j) = newM (sum8 fun d => x0 (ix3 d i j)) (x1 (ix2 i j)) := by
  obtain rfl : i = 0 := Subsingleton.elim _ _
  pointwise [val_main_cst_89, val_main_cst_90, val_main_cst_91, val_main_v225, val_main_v226, val_main_v227, val_main_v228, val_main_v229, val_main_v230]
  rfl
theorem ref10 (x0 : FVec Ideal ⟨3, ![8, 1, 5632]⟩ .f32) (x1 : FVec Ideal ⟨2, ![1, 5632]⟩ .f32) (i : Fin 1) (j : Fin 5632) :
    val_main_v255 (F := Ideal) x0 x1 (ix2 i j) = newM (sum8 fun d => x0 (ix3 d i j)) (x1 (ix2 i j)) := by
  obtain rfl : i = 0 := Subsingleton.elim _ _
  pointwise [val_main_cst_100, val_main_cst_101, val_main_cst_99, val_main_v250, val_main_v251, val_main_v252, val_main_v253, val_main_v254, val_main_v255]
  rfl
theorem ref11 (x0 : FVec Ideal ⟨2, ![8, 2048]⟩ .f32) (x1 : FVec Ideal ⟨1, ![2048]⟩ .f32) (i : Fin 2048) :
    val_main_v280 (F := Ideal) x0 x1 (ix1 i) = newM (sum8 fun d => x0 (ix2 d i)) (x1 (ix1 i)) := by
  pointwise [val_main_cst_109, val_main_cst_110, val_main_cst_111, val_main_v275, val_main_v276, val_main_v277, val_main_v278, val_main_v279, val_main_v280]
  rfl
end Reference

theorem frame_kernel : quiescent_Kernel29 := fun m ρ _ => Kernel29.Gen.frame m ρ
theorem frame_kernelIdeal : quiescent_Kernel29Ideal := fun m ρ _ => Kernel29Ideal.Gen.frame m ρ
theorem frame_reference : quiescent_Reference29Ideal := fun m ρ _ =>
  (θ_run Reference29Ideal.defs _ _).mono (fun r h => ⟨fun c => (h c).2.2.2.2.2.2.2.2.2.2.2.2, sem_eq_zero_of_no_sems (by decide) r.2⟩)
    (Reference29Ideal.Value.run (F := Ideal) m ρ)

theorem algebraic : algebraic_Kernel29Ideal_Reference29Ideal := by
  intro m ρ m' ρ' _ hagree
  refine ⟨K0 m, K1 m, K2 m, K3 m, K4 m, K5 m, K6 m, K7 m, K8 m, K9 m, K10 m, K11 m, (θ_run defs _ _).mono (fun r h c => ⟨(h.1 c).2 main_v68 (Pipeline.mem_restRefs_of main_v68 (by decide) (by decide)), (h.1 c).2 main_v71 (Pipeline.mem_restRefs_of main_v71 (by decide) (by decide)), (h.1 c).2 main_v75 (Pipeline.mem_restRefs_of main_v75 (by decide) (by decide)), (h.1 c).2 main_v78 (Pipeline.mem_restRefs_of main_v78 (by decide) (by decide)), (h.1 c).2 main_v81 (Pipeline.mem_restRefs_of main_v81 (by decide) (by decide)), (h.1 c).2 main_v84 (Pipeline.mem_restRefs_of main_v84 (by decide) (by decide)), (h.1 c).2 main_v87 (Pipeline.mem_restRefs_of main_v87 (by decide) (by decide)), (h.1 c).2 main_v90 (Pipeline.mem_restRefs_of main_v90 (by decide) (by decide)), (h.1 c).2 main_v93 (Pipeline.mem_restRefs_of main_v93 (by decide) (by decide)), (h.1 c).2 main_v96 (Pipeline.mem_restRefs_of main_v96 (by decide) (by decide)), (h.1 c).2 main_v100 (Pipeline.mem_restRefs_of main_v100 (by decide) (by decide)), (h.1 c).2 main_v102 (Pipeline.mem_restRefs_of main_v102 (by decide) (by decide)), h.2 c⟩)
    (θ_run_and (run_main m ρ) (unchanged m ρ)), ?_⟩
  refine (θ_run Reference29Ideal.defs _ _).mono (fun _ h c => ?_) (Reference29Ideal.Value.run (F := Ideal) m' ρ')
  obtain ⟨h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, h44, h45, h46, h47⟩ := hagree c
  obtain ⟨r0, r1, r2, r3, r4, r5, r6, r7, r8, r9, r10, r11, rest⟩ := h c
  refine ⟨r0.trans ?_, r1.trans ?_, r2.trans ?_, r3.trans ?_, r4.trans ?_, r5.trans ?_, r6.trans ?_, r7.trans ?_, r8.trans ?_, r9.trans ?_, r10.trans ?_, r11.trans ?_, rest⟩
  · refine (cong2 (Reference29Ideal.Read.val_main_v5 (F := Ideal)) h0 h24).trans ?_
    funext e
    obtain ⟨i, j, k, rfl⟩ := ix3_surj e
    exact (ref0 _ _ i j k).trans (K0_at m c i j k _ rfl).symm
  · refine (cong2 (Reference29Ideal.Read.val_main_v30 (F := Ideal)) h1 h25).trans ?_
    funext e
    obtain ⟨i, j, k, rfl⟩ := ix3_surj e
    exact (ref1 _ _ i j k).trans (K1_at m c i j k _ rfl).symm
  · refine (cong2 (Reference29Ideal.Read.val_main_v55 (F := Ideal)) h2 h26).trans ?_
    funext e
    obtain ⟨i, j, rfl⟩ := ix2_surj e
    exact (ref2 _ _ i j).trans (K2_at m c i j _ rfl).symm
  · refine (cong2 (Reference29Ideal.Read.val_main_v80 (F := Ideal)) h3 h27).trans ?_
    funext e
    obtain ⟨i, j, k, l, rfl⟩ := ix4_surj e
    exact (ref3 _ _ i j k l).trans (K3_at m c i j k l _ rfl).symm
  · refine (cong2 (Reference29Ideal.Read.val_main_v105 (F := Ideal)) h4 h28).trans ?_
    funext e
    obtain ⟨i, j, k, l, rfl⟩ := ix4_surj e
    exact (ref4 _ _ i j k l).trans (K4_at m c i j k l _ rfl).symm
  · refine (cong2 (Reference29Ideal.Read.val_main_v130 (F := Ideal)) h5 h29).trans ?_
    funext e
    obtain ⟨i, j, k, l, rfl⟩ := ix4_surj e
    exact (ref5 _ _ i j k l).trans (K5_at m c i j k l _ rfl).symm
  · refine (cong2 (Reference29Ideal.Read.val_main_v155 (F := Ideal)) h6 h30).trans ?_
    funext e
    obtain ⟨i, j, k, l, rfl⟩ := ix4_surj e
    exact (ref6 _ _ i j k l).trans (K6_at m c i j k l _ rfl).symm
  · refine (cong2 (Reference29Ideal.Read.val_main_v180 (F := Ideal)) h7 h31).trans ?_
    funext e
    obtain ⟨i, j, k, rfl⟩ := ix3_surj e
    exact (ref7 _ _ i j k).trans (K7_at m c i j k _ rfl).symm
  · refine (cong2 (Reference29Ideal.Read.val_main_v205 (F := Ideal)) h8 h32).trans ?_
    funext e
    obtain ⟨i, j, rfl⟩ := ix2_surj e
    exact (ref8 _ _ i j).trans (K8_at m c i j _ rfl).symm
  · refine (cong2 (Reference29Ideal.Read.val_main_v230 (F := Ideal)) h9 h33).trans ?_
    funext e
    obtain ⟨i, j, rfl⟩ := ix2_surj e
    exact (ref9 _ _ i j).trans (K9_at m c i j _ rfl).symm
  · refine (cong2 (Reference29Ideal.Read.val_main_v255 (F := Ideal)) h10 h34).trans ?_
    funext e
    obtain ⟨i, j, rfl⟩ := ix2_surj e
    exact (ref10 _ _ i j).trans (K10_at m c i j _ rfl).symm
  · refine (cong2 (Reference29Ideal.Read.val_main_v280 (F := Ideal)) h11 h35).trans ?_
    funext e
    obtain ⟨i, rfl⟩ := ix1_surj e
    exact (ref11 _ _ i).trans (K11_at m c i _ rfl).symm

end P29
-- ==== Proof.P30.lean ====
module

public import proofs.«01_k».proof.Proof.Step
public import proofs.«01_k».proof.Proof.Gen.Kernel30.Frame
public import proofs.«01_k».proof.Proof.Gen.Kernel30Ideal.Frame
public import proofs.«01_k».proof.Proof.Gen.Reference30Ideal.Read
public import proofs.«01_k».proof.Proof.Gen.Reference30Ideal.Run

@[expose] public section

set_option maxRecDepth 16384

noncomputable section

/-! # The claims about `adamw_small`, the new second moments of the twelve small parameters, which the call steps packed as 2304 × 128 -/

namespace Cert.P30

open Kernel30Ideal Kernel30Ideal.Gen Idealize.ShloMosaic Idealize.ShloMosaic.TcCoe Idealize.SL.Sem
open Step

section Blocks
variable {F : FTy → Type} [FloatOps F]
variable (m : (ℓ : Loc nD τ sig) → Buf (Elt F) ℓ) (c : Dev nD) (t : Fin cfg0.N) (x : Fin 1152) (y : Fin 128)

theorem ltN (t : Fin cfg0.N) : t.val < 2 := lt_of_lt_of_eq t.isLt N_0

theorem at7 : ∀ t : Fin grid0.N, win0_7.index t 0 = t.val ∧ win0_7.index t 1 = 0 := by decide +kernel

/-- Where block `t` lies in its array, for the windows 1, 2, 3 and the results 7, which move alike. -/
theorem pos7 :
    ((win0_7.rect t).idx (ix2 x y) : (⟨2, ![2304, 128]⟩ : Shape).Idx) = ix2 ⟨t.val * 1152 + x.val, by have := ltN t; omega⟩ y := by
  refine funext fun a => Fin.ext ?_
  match a with
  | ⟨0, _⟩ => show win0_7.index t 0 * 1152 + 1 * x.val = t.val * 1152 + x.val; rw [(at7 t).1]; omega
  | ⟨1, _⟩ => show win0_7.index t 1 * 128 + 1 * y.val = y.val; rw [(at7 t).2]; omega
/-- Every element of such an array lies in one block. -/
theorem block7 (i : (⟨2, ![2304, 128]⟩ : Shape).Idx) :
    ∃ t : Fin cfg0.N, ∀ a : Fin 2, win0_7.index t a * ![1152, 128] a ≤ (i a : Nat) ∧ (i a : Nat) < win0_7.index t a * ![1152, 128] a + ![1152, 128] a := by
  have h0 : (i 0 : Nat) < 2304 := (i 0).isLt
  have h1 : (i 1 : Nat) < 128 := (i 1).isLt
  have hN : cfg0.N = 2 := N_0
  let t : Fin cfg0.N := ⟨(i 0 : Nat) / 1152, by omega⟩
  refine ⟨t, fun a => ?_⟩
  match a with
  | ⟨0, _⟩ =>
    show win0_7.index t 0 * 1152 ≤ (i 0 : Nat) ∧ (i 0 : Nat) < win0_7.index t 0 * 1152 + 1152
    rw [(at7 t).1]; dsimp only [t]; omega
  | ⟨1, _⟩ =>
    show win0_7.index t 1 * 128 ≤ (i 1 : Nat) ∧ (i 1 : Nat) < win0_7.index t 1 * 128 + 128
    rw [(at7 t).2]; dsimp only [t]; omega
theorem iblk1 :
    iblk m c 1 t (ix2 x y) = V m c main_v32 (ix2 ⟨t.val * 1152 + x.val, by have := ltN t; omega⟩ y) := by
  show V m c main_v32 ((win0_1.rect t).idx (ix2 x y)) = _
  exact congrArg _ (pos7 t x y)
theorem iblk2 :
    iblk m c 2 t (ix2 x y) = V m c main_v48 (ix2 ⟨t.val * 1152 + x.val, by have := ltN t; omega⟩ y) := by
  show V m c main_v48 ((win0_2.rect t).idx (ix2 x y)) = _
  exact congrArg _ (pos7 t x y)
theorem iblk3 :
    iblk m c 3 t (ix2 x y) = V m c main_v64 (ix2 ⟨t.val * 1152 + x.val, by have := ltN t; omega⟩ y) := by
  show V m c main_v64 ((win0_3.rect t).idx (ix2 x y)) = _
  exact congrArg _ (pos7 t x y)
theorem oblk7 (G : Buf (Elt F) ((c : Thread nD τ).loc main_v65_3)) :
    ((cfg0.win 7).blk t).view.read (Elt F) G (ix2 x y) = G (ix2 ⟨t.val * 1152 + x.val, by have := ltN t; omega⟩ y) :=
  congrArg G (pos7 t x y)
theorem cover7 (i : (⟨2, ![2304, 128]⟩ : Shape).Idx) :
    ∃ t : Fin cfg0.N, (cfg0.win 7).flush t = true ∧ i ∈ ((cfg0.win 7).blk t).view.set := by
  obtain ⟨t, h⟩ := block7 i
  refine ⟨t, flush0_7 _, ?_⟩
  show i ∈ ((View.whole main_v65_3).slice (win0_7.rect t)).set
  rw [View.set_slice_whole, Rect.mem_set_unit]
  exact h

theorem at0 : ∀ t : Fin grid0.N, win0_0.index t 0 = 0 ∧ win0_0.index t 1 = t.val ∧ win0_0.index t 2 = 0 := by decide +kernel

/-- Block `t` of window 0, element by element. -/
theorem iblk0 (c : Dev nD) (t : Fin cfg0.N) (x : Fin 8) (y : Fin 1152) (z : Fin 128) :
    iblk m c 0 t (ix3 x y z) = V m c main_v16 (ix3 x ⟨t.val * 1152 + y.val, by have := ltN t; omega⟩ z) := by
  show V m c main_v16 ((win0_0.rect t).idx (ix3 x y z)) = _
  refine congrArg _ (funext fun a => Fin.ext ?_)
  match a with
  | ⟨0, _⟩ => show win0_0.index t 0 * 8 + 1 * x.val = x.val; rw [(at0 t).1]; have := ltN t; omega
  | ⟨1, _⟩ => show win0_0.index t 1 * 1152 + 1 * y.val = t.val * 1152 + y.val; rw [(at0 t).2.1]; have := ltN t; omega
  | ⟨2, _⟩ => show win0_0.index t 2 * 128 + 1 * z.val = z.val; rw [(at0 t).2.2]; have := ltN t; omega
end Blocks

/-! ## One element of the step -/
section Spec
/-- The gradient: the sum over the devices. -/
def grad (A0 : FVec Ideal ⟨3, ![8, 2304, 128]⟩ .f32) (r : Fin 2304) (q : Fin 128) : EReal := ∑ d : Fin 8, A0 (ix3 d r q)
end Spec

variable (m : (ℓ : Loc nD τ sig) → Buf (Elt Ideal) ℓ) (ρ : Dev nD → PrngReg)

abbrev a0 (c : Dev nD) : FVec Ideal ⟨3, ![8, 2304, 128]⟩ .f32 := V m c main_v16
abbrev a1 (c : Dev nD) : FVec Ideal ⟨2, ![2304, 128]⟩ .f32 := V m c main_v32
abbrev a2 (c : Dev nD) : FVec Ideal ⟨2, ![2304, 128]⟩ .f32 := V m c main_v48
abbrev a3 (c : Dev nD) : FVec Ideal ⟨2, ![2304, 128]⟩ .f32 := V m c main_v64

/-- The four result arrays of device `c`: the gradient, the change of the weight, the new moments. -/
abbrev G4 (c : Dev nD) : Buf (Elt Ideal) ((c : Thread nD τ).loc main_v65_0) := fun i : S2304x128.Idx => grad (a0 m c) (i 0) (i 1)
abbrev G5 (c : Dev nD) : Buf (Elt Ideal) ((c : Thread nD τ).loc main_v65_1) := fun i : S2304x128.Idx =>
  delta (grad (a0 m c) (i 0) (i 1)) (a1 m c (ix2 (i 0) (i 1))) (a2 m c (ix2 (i 0) (i 1))) (a3 m c (ix2 (i 0) (i 1)))
abbrev G6 (c : Dev nD) : Buf (Elt Ideal) ((c : Thread nD τ).loc main_v65_2) := fun i : S2304x128.Idx =>
  newM (grad (a0 m c) (i 0) (i 1)) (a2 m c (ix2 (i 0) (i 1)))
abbrev G7 (c : Dev nD) : Buf (Elt Ideal) ((c : Thread nD τ).loc main_v65_3) := fun i : S2304x128.Idx =>
  newV (grad (a0 m c) (i 0) (i 1)) (a3 m c (ix2 (i 0) (i 1)))

section Payloads
variable (g u2 v w : Vec Ideal S1152x128 .f32) (x : Fin 1152) (y : Fin 128)
theorem pay1_at : k0_pay1 (F := Ideal) g v (ix2 x y) = newV (g (ix2 x y)) (v (ix2 x y)) := by
  pointwise [k0_pay1]
  rfl
theorem pay2_at (mo : EReal) (hu : u2 (ix2 x y) = newM (g (ix2 x y)) mo) :
    k0_pay2 (F := Ideal) g u2 v w (ix2 x y) = delta (g (ix2 x y)) (w (ix2 x y)) mo (v (ix2 x y)) := by
  pointwise [k0_pay2, k0_pay1]
  rw [hu]
  rfl
variable (x0 : Vec Ideal S8x1152x128 .f32) (x1 x2 x3 : Vec Ideal S1152x128 .f32)
theorem pay5_at : k0_pay5 (F := Ideal) x0 x1 x2 x3 (ix2 x y) = (∑ d : Fin 8, x0 (ix3 d x y) : EReal) := by
  pointwise [k0_pay5, k0_pay3]
  rw [Fin.sum_univ_eight]
theorem pay6_at : k0_pay6 (F := Ideal) x0 x1 x2 x3 (ix2 x y) = newM (k0_pay5 (F := Ideal) x0 x1 x2 x3 (ix2 x y)) (x2 (ix2 x y)) := by
  pointwise [k0_pay6, k0_pay5, k0_pay3, k0_pay4]
  rfl
end Payloads

theorem grad_at (c : Dev nD) (t : Fin cfg0.N) (x : Fin 1152) (y : Fin 128) :
    k0_pay5 (F := Ideal) (iblk m c 0 t) (iblk m c 1 t) (iblk m c 2 t) (iblk m c 3 t) (ix2 x y) = grad (a0 m c) ⟨t.val * 1152 + x.val, by have := ltN t; omega⟩ y :=
  (pay5_at x y _ _ _ _).trans (Finset.sum_congr rfl fun d _ => iblk0 m c t d x y)

/-- Element `(x, y)` of a block, as an extended real. -/
abbrev ew (v : Vec Ideal S1152x128 .f32) (x : Fin 1152) (y : Fin 128) : EReal := v (ix2 x y)
theorem ew1 (c : Dev nD) (t : Fin cfg0.N) (x : Fin 1152) (y : Fin 128) : ew (iblk m c 1 t) x y = a1 m c (ix2 ⟨t.val * 1152 + x.val, by have := ltN t; omega⟩ y) := iblk1 m c t x y
theorem ew2 (c : Dev nD) (t : Fin cfg0.N) (x : Fin 1152) (y : Fin 128) : ew (iblk m c 2 t) x y = a2 m c (ix2 ⟨t.val * 1152 + x.val, by have := ltN t; omega⟩ y) := iblk2 m c t x y
theorem ew3 (c : Dev nD) (t : Fin cfg0.N) (x : Fin 1152) (y : Fin 128) : ew (iblk m c 3 t) x y = a3 m c (ix2 ⟨t.val * 1152 + x.val, by have := ltN t; omega⟩ y) := iblk3 m c t x y

theorem flushed7_eq (c : Dev nD) (t : Fin cfg0.N) :
    (dats m 0 c).flushed 7 t = ((cfg0.win 7).blk t).view.read (Elt Ideal) (G7 m c) := by
  show (cfg0.win 7).cut (grid0.coords t) ((dats m 0 c).after 7 t) = _
  rw [after0_7]
  funext i
  obtain ⟨x, y, rfl⟩ := ix2_surj i
  rw [oblk7]
  unfold out0_7
  rw [View.canon_unit_zero Step.hz]
  rw [View.ld_unit_zero Step.hz]
  refine (pay1_at _ _ x y).trans ?_
  rw [grad_at]
  show newV _ (ew (iblk m c 3 t) x y) = _
  rw [ew3]
  rfl

theorem arr7 (c : Dev nD) : (dats m 0 c).arrAt 7 cfg0.N = G7 m c :=
  (dats m 0 c).arrAt_eq_of_cover 7 (G7 m c) (fun t _ => flushed7_eq m c t) cover7

/-! ## What the region's arrays hold when it starts -/
/-- The buffers after the first `k` host operations. -/
def U (c : Dev nD) (k : Nat) : Valuation τ sig (Elt Ideal) := StableHlo.upto [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16].flatten (fun b => m (c, b)) k
abbrev Pg (c : Dev nD) : S8x2304x128.Idx → EReal := V m c main_v16
abbrev Ag0 (c : Dev nD) : S8x1x64x64.Idx → EReal := m ((c : Thread nD τ).loc main_arg0)
abbrev Ag1 (c : Dev nD) : S8x1x64x64.Idx → EReal := m ((c : Thread nD τ).loc main_arg1)
abbrev Ag2 (c : Dev nD) : S8x1x64.Idx → EReal := m ((c : Thread nD τ).loc main_arg2)
abbrev Ag3 (c : Dev nD) : S8x1x64x64x16.Idx → EReal := m ((c : Thread nD τ).loc main_arg3)
abbrev Ag4 (c : Dev nD) : S8x1x64x64x16.Idx → EReal := m ((c : Thread nD τ).loc main_arg4)
abbrev Ag5 (c : Dev nD) : S8x1x64x16x64.Idx → EReal := m ((c : Thread nD τ).loc main_arg5)
abbrev Ag6 (c : Dev nD) : S8x1x64x16x64.Idx → EReal := m ((c : Thread nD τ).loc main_arg6)
abbrev Ag7 (c : Dev nD) : S8x1x64x16.Idx → EReal := m ((c : Thread nD τ).loc main_arg7)
abbrev Ag8 (c : Dev nD) : S8x1x1024.Idx → EReal := m ((c : Thread nD τ).loc main_arg8)
abbrev Ag9 (c : Dev nD) : S8x1x2048.Idx → EReal := m ((c : Thread nD τ).loc main_arg9)
abbrev Ag10 (c : Dev nD) : S8x1x5632.Idx → EReal := m ((c : Thread nD τ).loc main_arg10)
abbrev Ag11 (c : Dev nD) : S8x2048.Idx → EReal := m ((c : Thread nD τ).loc main_arg11)
abbrev Pv (c : Dev nD) : S2304x128.Idx → EReal := V m c main_v64
abbrev Av0 (c : Dev nD) : S1x64x64.Idx → EReal := m ((c : Thread nD τ).loc main_arg36)
abbrev Av1 (c : Dev nD) : S1x64x64.Idx → EReal := m ((c : Thread nD τ).loc main_arg37)
abbrev Av2 (c : Dev nD) : S1x64.Idx → EReal := m ((c : Thread nD τ).loc main_arg38)
abbrev Av3 (c : Dev nD) : S1x64x64x16.Idx → EReal := m ((c : Thread nD τ).loc main_arg39)
abbrev Av4 (c : Dev nD) : S1x64x64x16.Idx → EReal := m ((c : Thread nD τ).loc main_arg40)
abbrev Av5 (c : Dev nD) : S1x64x16x64.Idx → EReal := m ((c : Thread nD τ).loc main_arg41)
abbrev Av6 (c : Dev nD) : S1x64x16x64.Idx → EReal := m ((c : Thread nD τ).loc main_arg42)
abbrev Av7 (c : Dev nD) : S1x64x16.Idx → EReal := m ((c : Thread nD τ).loc main_arg43)
abbrev Av8 (c : Dev nD) : S1x1024.Idx → EReal := m ((c : Thread nD τ).loc main_arg44)
abbrev Av9 (c : Dev nD) : S1x2048.Idx → EReal := m ((c : Thread nD τ).loc main_arg45)
abbrev Av10 (c : Dev nD) : S1x5632.Idx → EReal := m ((c : Thread nD τ).loc main_arg46)
abbrev Av11 (c : Dev nD) : S2048.Idx → EReal := m ((c : Thread nD τ).loc main_arg47)

set_option maxHeartbeats 4000000 in
/-- The packed array at a position: the parameter whose stretch the position is in. -/
theorem key_g (c : Dev nD) (d : Fin 8) (x : Fin 2304) (y : Fin 128) (z : EReal) (hz : z =
      let n0 := x.val * 128 + y.val; let n1 := n0 - 4096; let n2 := n1 - 4096; let n3 := n2 - 1024; let n4 := n3 - 65536; let n5 := n4 - 65536; let n6 := n5 - 65536; let n7 := n6 - 65536; let n8 := n7 - 1024; let n9 := n8 - 1024; let n10 := n9 - 2048; let n11 := n10 - 6144; let n12 := n11 - 2048
      if h : n0 < 4096 then (U m c 20 (Proc.devRef .tc main_v0) : S8x4096.Idx → EReal) (ix2 d ⟨n0, h⟩) else
      if h : n1 < 4096 then (U m c 20 (Proc.devRef .tc main_v1) : S8x4096.Idx → EReal) (ix2 d ⟨n1, h⟩) else
      if h : n2 < 1024 then (U m c 20 (Proc.devRef .tc main_v3) : S8x1024.Idx → EReal) (ix2 d ⟨n2, h⟩) else
      if h : n3 < 65536 then (U m c 20 (Proc.devRef .tc main_v4) : S8x65536.Idx → EReal) (ix2 d ⟨n3, h⟩) else
      if h : n4 < 65536 then (U m c 20 (Proc.devRef .tc main_v5) : S8x65536.Idx → EReal) (ix2 d ⟨n4, h⟩) else
      if h : n5 < 65536 then (U m c 20 (Proc.devRef .tc main_v6) : S8x65536.Idx → EReal) (ix2 d ⟨n5, h⟩) else
      if h : n6 < 65536 then (U m c 20 (Proc.devRef .tc main_v7) : S8x65536.Idx → EReal) (ix2 d ⟨n6, h⟩) else
      if h : n7 < 1024 then (U m c 20 (Proc.devRef .tc main_v8) : S8x1024.Idx → EReal) (ix2 d ⟨n7, h⟩) else
      if h : n8 < 1024 then (U m c 20 (Proc.devRef .tc main_v9) : S8x1024.Idx → EReal) (ix2 d ⟨n8, h⟩) else
      if h : n9 < 2048 then (U m c 20 (Proc.devRef .tc main_v10) : S8x2048.Idx → EReal) (ix2 d ⟨n9, h⟩) else
      if h : n10 < 6144 then (U m c 20 (Proc.devRef .tc main_v12) : S8x6144.Idx → EReal) (ix2 d ⟨n10, h⟩) else
      if h : n11 < 2048 then (U m c 20 (Proc.devRef .tc main_arg11) : S8x2048.Idx → EReal) (ix2 d ⟨n11, h⟩) else
      (U m c 20 (Proc.devRef .tc main_v14) : S8x11264.Idx → EReal) (ix2 d ⟨n12, by omega⟩)) :
    Pg m c (ix3 d x y) = z := by
  unfold Pg V V0
  after_reads_at
  unfold U at hz
  exact hz.symm

set_option maxHeartbeats 4000000 in
/-- The packed array at a position: the parameter whose stretch the position is in. -/
theorem key_v (c : Dev nD) (x : Fin 2304) (y : Fin 128) (z : EReal) (hz : z =
      let n0 := x.val * 128 + y.val; let n1 := n0 - 4096; let n2 := n1 - 4096; let n3 := n2 - 1024; let n4 := n3 - 65536; let n5 := n4 - 65536; let n6 := n5 - 65536; let n7 := n6 - 65536; let n8 := n7 - 1024; let n9 := n8 - 1024; let n10 := n9 - 2048; let n11 := n10 - 6144; let n12 := n11 - 2048
      if h : n0 < 4096 then (U m c 83 (Proc.devRef .tc main_v49) : S4096.Idx → EReal) (ix1 ⟨n0, h⟩) else
      if h : n1 < 4096 then (U m c 83 (Proc.devRef .tc main_v50) : S4096.Idx → EReal) (ix1 ⟨n1, h⟩) else
      if h : n2 < 1024 then (U m c 83 (Proc.devRef .tc main_v52) : S1024.Idx → EReal) (ix1 ⟨n2, h⟩) else
      if h : n3 < 65536 then (U m c 83 (Proc.devRef .tc main_v53) : S65536.Idx → EReal) (ix1 ⟨n3, h⟩) else
      if h : n4 < 65536 then (U m c 83 (Proc.devRef .tc main_v54) : S65536.Idx → EReal) (ix1 ⟨n4, h⟩) else
      if h : n5 < 65536 then (U m c 83 (Proc.devRef .tc main_v55) : S65536.Idx → EReal) (ix1 ⟨n5, h⟩) else
      if h : n6 < 65536 then (U m c 83 (Proc.devRef .tc main_v56) : S65536.Idx → EReal) (ix1 ⟨n6, h⟩) else
      if h : n7 < 1024 then (U m c 83 (Proc.devRef .tc main_v57) : S1024.Idx → EReal) (ix1 ⟨n7, h⟩) else
      if h : n8 < 1024 then (U m c 83 (Proc.devRef .tc main_v58) : S1024.Idx → EReal) (ix1 ⟨n8, h⟩) else
      if h : n9 < 2048 then (U m c 83 (Proc.devRef .tc main_v59) : S2048.Idx → EReal) (ix1 ⟨n9, h⟩) else
      if h : n10 < 6144 then (U m c 83 (Proc.devRef .tc main_v61) : S6144.Idx → EReal) (ix1 ⟨n10, h⟩) else
      if h : n11 < 2048 then (U m c 83 (Proc.devRef .tc main_arg47) : S2048.Idx → EReal) (ix1 ⟨n11, h⟩) else
      (U m c 83 (Proc.devRef .tc main_v62) : S11264.Idx → EReal) (ix1 ⟨n12, by omega⟩)) :
    Pv m c (ix2 x y) = z := by
  unfold Pv V V0
  after_reads_at
  unfold U at hz
  exact hz.symm

variable (c : Dev nD) (x : Fin 2304) (y : Fin 128)
theorem g0 (d : Fin 8) (i : Fin 1) (j : Fin 64) (k : Fin 64) (h : x.val * 128 + y.val = 0 + (((i.val) * 64 + j.val) * 64 + k.val) := by first | omega | (dsimp only [ix2]; omega)) :
    Pg m c (ix3 d x y) = Ag0 m c (ix4 d i j k) := by
  rw [key_g m c d x y _ rfl]; dsimp only
  rw [dif_pos (by omega)]
  unfold U
  after_reads_at
  exact congrArg (Ag0 m c) ix4_congr
theorem g1 (d : Fin 8) (i : Fin 1) (j : Fin 64) (k : Fin 64) (h : x.val * 128 + y.val = 4096 + (((i.val) * 64 + j.val) * 64 + k.val) := by first | omega | (dsimp only [ix2]; omega)) :
    Pg m c (ix3 d x y) = Ag1 m c (ix4 d i j k) := by
  rw [key_g m c d x y _ rfl]; dsimp only
  rw [dif_neg (by omega)]
  rw [dif_pos (by omega)]
  unfold U
  after_reads_at
  exact congrArg (Ag1 m c) ix4_congr
theorem g2 (d : Fin 8) (i : Fin 1) (j : Fin 64) (h : x.val * 128 + y.val = 8192 + ((i.val) * 64 + j.val) := by first | omega | (dsimp only [ix2]; omega)) :
    Pg m c (ix3 d x y) = Ag2 m c (ix3 d i j) := by
  rw [key_g m c d x y _ rfl]; dsimp only
  iterate 2 rw [dif_neg (by omega)]
  rw [dif_pos (by omega)]
  unfold U
  after_reads_at
  rw [dif_pos (by omega)]
  exact congrArg (Ag2 m c) ix3_congr
theorem g3 (d : Fin 8) (i : Fin 1) (j : Fin 64) (k : Fin 64) (l : Fin 16) (h : x.val * 128 + y.val = 9216 + ((((i.val) * 64 + j.val) * 64 + k.val) * 16 + l.val) := by first | omega | (dsimp only [ix2]; omega)) :
    Pg m c (ix3 d x y) = Ag3 m c (ix5 d i j k l) := by
  rw [key_g m c d x y _ rfl]; dsimp only
  iterate 3 rw [dif_neg (by omega)]
  rw [dif_pos (by omega)]
  unfold U
  after_reads_at
  exact congrArg (Ag3 m c) ix5_congr
theorem g4 (d : Fin 8) (i : Fin 1) (j : Fin 64) (k : Fin 64) (l : Fin 16) (h : x.val * 128 + y.val = 74752 + ((((i.val) * 64 + j.val) * 64 + k.val) * 16 + l.val) := by first | omega | (dsimp only [ix2]; omega)) :
    Pg m c (ix3 d x y) = Ag4 m c (ix5 d i j k l) := by
  rw [key_g m c d x y _ rfl]; dsimp only
  iterate 4 rw [dif_neg (by omega)]
  rw [dif_pos (by omega)]
  unfold U
  after_reads_at
  exact congrArg (Ag4 m c) ix5_congr
theorem g5 (d : Fin 8) (i : Fin 1) (j : Fin 64) (k : Fin 16) (l : Fin 64) (h : x.val * 128 + y.val = 140288 + ((((i.val) * 64 + j.val) * 16 + k.val) * 64 + l.val) := by first | omega | (dsimp only [ix2]; omega)) :
    Pg m c (ix3 d x y) = Ag5 m c (ix5 d i j k l) := by
  rw [key_g m c d x y _ rfl]; dsimp only
  iterate 5 rw [dif_neg (by omega)]
  rw [dif_pos (by omega)]
  unfold U
  after_reads_at
  exact congrArg (Ag5 m c) ix5_congr
theorem g6 (d : Fin 8) (i : Fin 1) (j : Fin 64) (k : Fin 16) (l : Fin 64) (h : x.val * 128 + y.val = 205824 + ((((i.val) * 64 + j.val) * 16 + k.val) * 64 + l.val) := by first | omega | (dsimp only [ix2]; omega)) :
    Pg m c (ix3 d x y) = Ag6 m c (ix5 d i j k l) := by
  rw [key_g m c d x y _ rfl]; dsimp only
  iterate 6 rw [dif_neg (by omega)]
  rw [dif_pos (by omega)]
  unfold U
  after_reads_at
  exact congrArg (Ag6 m c) ix5_congr
theorem g7 (d : Fin 8) (i : Fin 1) (j : Fin 64) (k : Fin 16) (h : x.val * 128 + y.val = 271360 + (((i.val) * 64 + j.val) * 16 + k.val) := by first | omega | (dsimp only [ix2]; omega)) :
    Pg m c (ix3 d x y) = Ag7 m c (ix4 d i j k) := by
  rw [key_g m c d x y _ rfl]; dsimp only
  iterate 7 rw [dif_neg (by omega)]
  rw [dif_pos (by omega)]
  unfold U
  after_reads_at
  exact congrArg (Ag7 m c) ix4_congr
theorem g8 (d : Fin 8) (i : Fin 1) (j : Fin 1024) (h : x.val * 128 + y.val = 272384 + ((i.val) * 1024 + j.val) := by first | omega | (dsimp only [ix2]; omega)) :
    Pg m c (ix3 d x y) = Ag8 m c (ix3 d i j) := by
  rw [key_g m c d x y _ rfl]; dsimp only
  iterate 8 rw [dif_neg (by omega)]
  rw [dif_pos (by omega)]
  unfold U
  after_reads_at
  exact congrArg (Ag8 m c) ix3_congr
theorem g9 (d : Fin 8) (i : Fin 1) (j : Fin 2048) (h : x.val * 128 + y.val = 273408 + ((i.val) * 2048 + j.val) := by first | omega | (dsimp only [ix2]; omega)) :
    Pg m c (ix3 d x y) = Ag9 m c (ix3 d i j) := by
  rw [key_g m c d x y _ rfl]; dsimp only
  iterate 9 rw [dif_neg (by omega)]
  rw [dif_pos (by omega)]
  unfold U
  after_reads_at
  exact congrArg (Ag9 m c) ix3_congr
theorem g10 (d : Fin 8) (i : Fin 1) (j : Fin 5632) (h : x.val * 128 + y.val = 275456 + ((i.val) * 5632 + j.val) := by first | omega | (dsimp only [ix2]; omega)) :
    Pg m c (ix3 d x y) = Ag10 m c (ix3 d i j) := by
  rw [key_g m c d x y _ rfl]; dsimp only
  iterate 10 rw [dif_neg (by omega)]
  rw [dif_pos (by omega)]
  unfold U
  after_reads_at
  rw [dif_pos (by omega)]
  exact congrArg (Ag10 m c) ix3_congr
theorem g11 (d : Fin 8) (i : Fin 2048) (h : x.val * 128 + y.val = 281600 + (i.val) := by first | omega | (dsimp only [ix2]; omega)) :
    Pg m c (ix3 d x y) = Ag11 m c (ix2 d i) := by
  rw [key_g m c d x y _ rfl]; dsimp only
  iterate 11 rw [dif_neg (by omega)]
  rw [dif_pos (by omega)]
  unfold U
  after_reads_at
  exact congrArg (Ag11 m c) ix2_congr
theorem v0 (i : Fin 1) (j : Fin 64) (k : Fin 64) (h : x.val * 128 + y.val = 0 + (((i.val) * 64 + j.val) * 64 + k.val) := by first | omega | (dsimp only [ix2]; omega)) :
    Pv m c (ix2 x y) = Av0 m c (ix3 i j k) := by
  rw [key_v m c x y _ rfl]; dsimp only
  rw [dif_pos (by omega)]
  unfold U
  after_reads_at
  exact congrArg (Av0 m c) ix3_congr
theorem v1 (i : Fin 1) (j : Fin 64) (k : Fin 64) (h : x.val * 128 + y.val = 4096 + (((i.val) * 64 + j.val) * 64 + k.val) := by first | omega | (dsimp only [ix2]; omega)) :
    Pv m c (ix2 x y) = Av1 m c (ix3 i j k) := by
  rw [key_v m c x y _ rfl]; dsimp only
  rw [dif_neg (by omega)]
  rw [dif_pos (by omega)]
  unfold U
  after_reads_at
  exact congrArg (Av1 m c) ix3_congr
theorem v2 (i : Fin 1) (j : Fin 64) (h : x.val * 128 + y.val = 8192 + ((i.val) * 64 + j.val) := by first | omega | (dsimp only [ix2]; omega)) :
    Pv m c (ix2 x y) = Av2 m c (ix2 i j) := by
  rw [key_v m c x y _ rfl]; dsimp only
  iterate 2 rw [dif_neg (by omega)]
  rw [dif_pos (by omega)]
  unfold U
  after_reads_at
  rw [dif_pos (by omega)]
  exact congrArg (Av2 m c) ix2_congr
theorem v3 (i : Fin 1) (j : Fin 64) (k : Fin 64) (l : Fin 16) (h : x.val * 128 + y.val = 9216 + ((((i.val) * 64 + j.val) * 64 + k.val) * 16 + l.val) := by first | omega | (dsimp only [ix2]; omega)) :
    Pv m c (ix2 x y) = Av3 m c (ix4 i j k l) := by
  rw [key_v m c x y _ rfl]; dsimp only
  iterate 3 rw [dif_neg (by omega)]
  rw [dif_pos (by omega)]
  unfold U
  after_reads_at
  exact congrArg (Av3 m c) ix4_congr
theorem v4 (i : Fin 1) (j : Fin 64) (k : Fin 64) (l : Fin 16) (h : x.val * 128 + y.val = 74752 + ((((i.val) * 64 + j.val) * 64 + k.val) * 16 + l.val) := by first | omega | (dsimp only [ix2]; omega)) :
    Pv m c (ix2 x y) = Av4 m c (ix4 i j k l) := by
  rw [key_v m c x y _ rfl]; dsimp only
  iterate 4 rw [dif_neg (by omega)]
  rw [dif_pos (by omega)]
  unfold U
  after_reads_at
  exact congrArg (Av4 m c) ix4_congr
theorem v5 (i : Fin 1) (j : Fin 64) (k : Fin 16) (l : Fin 64) (h : x.val * 128 + y.val = 140288 + ((((i.val) * 64 + j.val) * 16 + k.val) * 64 + l.val) := by first | omega | (dsimp only [ix2]; omega)) :
    Pv m c (ix2 x y) = Av5 m c (ix4 i j k l) := by
  rw [key_v m c x y _ rfl]; dsimp only
  iterate 5 rw [dif_neg (by omega)]
  rw [dif_pos (by omega)]
  unfold U
  after_reads_at
  exact congrArg (Av5 m c) ix4_congr
theorem v6 (i : Fin 1) (j : Fin 64) (k : Fin 16) (l : Fin 64) (h : x.val * 128 + y.val = 205824 + ((((i.val) * 64 + j.val) * 16 + k.val) * 64 + l.val) := by first | omega | (dsimp only [ix2]; omega)) :
    Pv m c (ix2 x y) = Av6 m c (ix4 i j k l) := by
  rw [key_v m c x y _ rfl]; dsimp only
  iterate 6 rw [dif_neg (by omega)]
  rw [dif_pos (by omega)]
  unfold U
  after_reads_at
  exact congrArg (Av6 m c) ix4_congr
theorem v7 (i : Fin 1) (j : Fin 64) (k : Fin 16) (h : x.val * 128 + y.val = 271360 + (((i.val) * 64 + j.val) * 16 + k.val) := by first | omega | (dsimp only [ix2]; omega)) :
    Pv m c (ix2 x y) = Av7 m c (ix3 i j k) := by
  rw [key_v m c x y _ rfl]; dsimp only
  iterate 7 rw [dif_neg (by omega)]
  rw [dif_pos (by omega)]
  unfold U
  after_reads_at
  exact congrArg (Av7 m c) ix3_congr
theorem v8 (i : Fin 1) (j : Fin 1024) (h : x.val * 128 + y.val = 272384 + ((i.val) * 1024 + j.val) := by first | omega | (dsimp only [ix2]; omega)) :
    Pv m c (ix2 x y) = Av8 m c (ix2 i j) := by
  rw [key_v m c x y _ rfl]; dsimp only
  iterate 8 rw [dif_neg (by omega)]
  rw [dif_pos (by omega)]
  unfold U
  after_reads_at
  exact congrArg (Av8 m c) ix2_congr
theorem v9 (i : Fin 1) (j : Fin 2048) (h : x.val * 128 + y.val = 273408 + ((i.val) * 2048 + j.val) := by first | omega | (dsimp only [ix2]; omega)) :
    Pv m c (ix2 x y) = Av9 m c (ix2 i j) := by
  rw [key_v m c x y _ rfl]; dsimp only
  iterate 9 rw [dif_neg (by omega)]
  rw [dif_pos (by omega)]
  unfold U
  after_reads_at
  exact congrArg (Av9 m c) ix2_congr
theorem v10 (i : Fin 1) (j : Fin 5632) (h : x.val * 128 + y.val = 275456 + ((i.val) * 5632 + j.val) := by first | omega | (dsimp only [ix2]; omega)) :
    Pv m c (ix2 x y) = Av10 m c (ix2 i j) := by
  rw [key_v m c x y _ rfl]; dsimp only
  iterate 10 rw [dif_neg (by omega)]
  rw [dif_pos (by omega)]
  unfold U
  after_reads_at
  rw [dif_pos (by omega)]
  exact congrArg (Av10 m c) ix2_congr
theorem v11 (i : Fin 2048) (h : x.val * 128 + y.val = 281600 + (i.val) := by first | omega | (dsimp only [ix2]; omega)) :
    Pv m c (ix2 x y) = Av11 m c (ix1 i) := by
  rw [key_v m c x y _ rfl]; dsimp only
  iterate 11 rw [dif_neg (by omega)]
  rw [dif_pos (by omega)]
  unfold U
  after_reads_at
  exact congrArg (Av11 m c) ix1_congr

/-! ## The results: the step's elements at the parameters' places -/
theorem arrs_inj : Function.Injective (Pipeline.arrRef spec0) := by decide
/-- Window 7's array after the region. -/
theorem out7 (i : S2304x128.Idx) :
    Pipeline.withArrays (cfgs 0).spec c (V0 m c) (fun w => (dats m 0 c).arrAt w (cfgs 0).N) (Proc.tc.devRef main_v65_3) i = G7 m c i :=
  (congrFun (Pipeline.withArrays_arr spec0 arrs_inj c (V0 m c) (fun w => (dats m 0 c).arrAt w cfg0.N) 7) i).trans (congrFun (arr7 m c) i)

def K0 : Buf (Elt Ideal) ((c : Thread nD τ).loc main_v68) := Pipeline.afterTail₀ cfgs (dats m) 0 (V0 m) [hostOps1] c main_v68
theorem K0_at (i : Fin 1) (j : Fin 64) (k : Fin 64) (z : EReal) (hz : (newV (sum8 fun d => Ag0 m c (ix4 d i j k)) (Av0 m c (ix3 i j k))) = z) : (K0 m c : S1x64x64.Idx → EReal) (ix3 i j k) = z := by
  unfold K0 Pipeline.afterTail₀
  after_reads_at
  refine (out7 m c _).trans ?_
  rw [← hz]
  exact (newV_congr (sum8_congr fun d => g0 m c _ _ d i j k) (v0 m c _ _ i j k))

def K1 : Buf (Elt Ideal) ((c : Thread nD τ).loc main_v71) := Pipeline.afterTail₀ cfgs (dats m) 0 (V0 m) [hostOps1] c main_v71
theorem K1_at (i : Fin 1) (j : Fin 64) (k : Fin 64) (z : EReal) (hz : (newV (sum8 fun d => Ag1 m c (ix4 d i j k)) (Av1 m c (ix3 i j k))) = z) : (K1 m c : S1x64x64.Idx → EReal) (ix3 i j k) = z := by
  unfold K1 Pipeline.afterTail₀
  after_reads_at
  refine (out7 m c _).trans ?_
  rw [← hz]
  exact (newV_congr (sum8_congr fun d => g1 m c _ _ d i j k) (v1 m c _ _ i j k))

def K2 : Buf (Elt Ideal) ((c : Thread nD τ).loc main_v75) := Pipeline.afterTail₀ cfgs (dats m) 0 (V0 m) [hostOps1] c main_v75
theorem K2_at (i : Fin 1) (j : Fin 64) (z : EReal) (hz : (newV (sum8 fun d => Ag2 m c (ix3 d i j)) (Av2 m c (ix2 i j))) = z) : (K2 m c : S1x64.Idx → EReal) (ix2 i j) = z := by
  unfold K2 Pipeline.afterTail₀
  after_reads_at
  refine (out7 m c _).trans ?_
  rw [← hz]
  exact (newV_congr (sum8_congr fun d => g2 m c _ _ d i j) (v2 m c _ _ i j))

def K3 : Buf (Elt Ideal) ((c : Thread nD τ).loc main_v78) := Pipeline.afterTail₀ cfgs (dats m) 0 (V0 m) [hostOps1] c main_v78
theorem K3_at (i : Fin 1) (j : Fin 64) (k : Fin 64) (l : Fin 16) (z : EReal) (hz : (newV (sum8 fun d => Ag3 m c (ix5 d i j k l)) (Av3 m c (ix4 i j k l))) = z) : (K3 m c : S1x64x64x16.Idx → EReal) (ix4 i j k l) = z := by
  unfold K3 Pipeline.afterTail₀
  after_reads_at
  refine (out7 m c _).trans ?_
  rw [← hz]
  exact (newV_congr (sum8_congr fun d => g3 m c _ _ d i j k l) (v3 m c _ _ i j k l))

def K4 : Buf (Elt Ideal) ((c : Thread nD τ).loc main_v81) := Pipeline.afterTail₀ cfgs (dats m) 0 (V0 m) [hostOps1] c main_v81
theorem K4_at (i : Fin 1) (j : Fin 64) (k : Fin 64) (l : Fin 16) (z : EReal) (hz : (newV (sum8 fun d => Ag4 m c (ix5 d i j k l)) (Av4 m c (ix4 i j k l))) = z) : (K4 m c : S1x64x64x16.Idx → EReal) (ix4 i j k l) = z := by
  unfold K4 Pipeline.afterTail₀
  after_reads_at
  refine (out7 m c _).trans ?_
  rw [← hz]
  exact (newV_congr (sum8_congr fun d => g4 m c _ _ d i j k l) (v4 m c _ _ i j k l))

def K5 : Buf (Elt Ideal) ((c : Thread nD τ).loc main_v84) := Pipeline.afterTail₀ cfgs (dats m) 0 (V0 m) [hostOps1] c main_v84
theorem K5_at (i : Fin 1) (j : Fin 64) (k : Fin 16) (l : Fin 64) (z : EReal) (hz : (newV (sum8 fun d => Ag5 m c (ix5 d i j k l)) (Av5 m c (ix4 i j k l))) = z) : (K5 m c : S1x64x16x64.Idx → EReal) (ix4 i j k l) = z := by
  unfold K5 Pipeline.afterTail₀
  after_reads_at
  refine (out7 m c _).trans ?_
  rw [← hz]
  exact (newV_congr (sum8_congr fun d => g5 m c _ _ d i j k l) (v5 m c _ _ i j k l))

def K6 : Buf (Elt Ideal) ((c : Thread nD τ).loc main_v87) := Pipeline.afterTail₀ cfgs (dats m) 0 (V0 m) [hostOps1] c main_v87
theorem K6_at (i : Fin 1) (j : Fin 64) (k : Fin 16) (l : Fin 64) (z : EReal) (hz : (newV (sum8 fun d => Ag6 m c (ix5 d i j k l)) (Av6 m c (ix4 i j k l))) = z) : (K6 m c : S1x64x16x64.Idx → EReal) (ix4 i j k l) = z := by
  unfold K6 Pipeline.afterTail₀
  after_reads_at
  refine (out7 m c _).trans ?_
  rw [← hz]
  exact (newV_congr (sum8_congr fun d => g6 m c _ _ d i j k l) (v6 m c _ _ i j k l))

def K7 : Buf (Elt Ideal) ((c : Thread nD τ).loc main_v90) := Pipeline.afterTail₀ cfgs (dats m) 0 (V0 m) [hostOps1] c main_v90
theorem K7_at (i : Fin 1) (j : Fin 64) (k : Fin 16) (z : EReal) (hz : (newV (sum8 fun d => Ag7 m c (ix4 d i j k)) (Av7 m c (ix3 i j k))) = z) : (K7 m c : S1x64x16.Idx → EReal) (ix3 i j k) = z := by
  unfold K7 Pipeline.afterTail₀
  after_reads_at
  refine (out7 m c _).trans ?_
  rw [← hz]
  exact (newV_congr (sum8_congr fun d => g7 m c _ _ d i j k) (v7 m c _ _ i j k))

def K8 : Buf (Elt Ideal) ((c : Thread nD τ).loc main_v93) := Pipeline.afterTail₀ cfgs (dats m) 0 (V0 m) [hostOps1] c main_v93
theorem K8_at (i : Fin 1) (j : Fin 1024) (z : EReal) (hz : (newV (sum8 fun d => Ag8 m c (ix3 d i j)) (Av8 m c (ix2 i j))) = z) : (K8 m c : S1x1024.Idx → EReal) (ix2 i j) = z := by
  unfold K8 Pipeline.afterTail₀
  after_reads_at
  refine (out7 m c _).trans ?_
  rw [← hz]
  exact (newV_congr (sum8_congr fun d => g8 m c _ _ d i j) (v8 m c _ _ i j))

def K9 : Buf (Elt Ideal) ((c : Thread nD τ).loc main_v96) := Pipeline.afterTail₀ cfgs (dats m) 0 (V0 m) [hostOps1] c main_v96
theorem K9_at (i : Fin 1) (j : Fin 2048) (z : EReal) (hz : (newV (sum8 fun d => Ag9 m c (ix3 d i j)) (Av9 m c (ix2 i j))) = z) : (K9 m c : S1x2048.Idx → EReal) (ix2 i j) = z := by
  unfold K9 Pipeline.afterTail₀
  after_reads_at
  refine (out7 m c _).trans ?_
  rw [← hz]
  exact (newV_congr (sum8_congr fun d => g9 m c _ _ d i j) (v9 m c _ _ i j))

def K10 : Buf (Elt Ideal) ((c : Thread nD τ).loc main_v100) := Pipeline.afterTail₀ cfgs (dats m) 0 (V0 m) [hostOps1] c main_v100
theorem K10_at (i : Fin 1) (j : Fin 5632) (z : EReal) (hz : (newV (sum8 fun d => Ag10 m c (ix3 d i j)) (Av10 m c (ix2 i j))) = z) : (K10 m c : S1x5632.Idx → EReal) (ix2 i j) = z := by
  unfold K10 Pipeline.afterTail₀
  after_reads_at
  refine (out7 m c _).trans ?_
  rw [← hz]
  exact (newV_congr (sum8_congr fun d => g10 m c _ _ d i j) (v10 m c _ _ i j))

def K11 : Buf (Elt Ideal) ((c : Thread nD τ).loc main_v102) := Pipeline.afterTail₀ cfgs (dats m) 0 (V0 m) [hostOps1] c main_v102
theorem K11_at (i : Fin 2048) (z : EReal) (hz : (newV (sum8 fun d => Ag11 m c (ix2 d i)) (Av11 m c (ix1 i))) = z) : (K11 m c : S2048.Idx → EReal) (ix1 i) = z := by
  unfold K11 Pipeline.afterTail₀
  after_reads_at
  refine (out7 m c _).trans ?_
  rw [← hz]
  exact (newV_congr (sum8_congr fun d => g11 m c _ _ d i) (v11 m c _ _ i))

section Reference
open Reference30Ideal.Read
theorem ref0 (x0 : FVec Ideal ⟨4, ![8, 1, 64, 64]⟩ .f32) (x1 : FVec Ideal ⟨3, ![1, 64, 64]⟩ .f32) (i : Fin 1) (j : Fin 64) (k : Fin 64) :
    val_main_v11 (F := Ideal) x0 x1 (ix3 i j k) = newV (sum8 fun d => x0 (ix4 d i j k)) (x1 (ix3 i j k)) := by
  obtain rfl : i = 0 := Subsingleton.elim _ _
  pointwise [val_main_cst, val_main_cst_2, val_main_cst_3, val_main_v0, val_main_v10, val_main_v11, val_main_v6, val_main_v7, val_main_v8, val_main_v9]
  rfl
theorem ref1 (x0 : FVec Ideal ⟨4, ![8, 1, 64, 64]⟩ .f32) (x1 : FVec Ideal ⟨3, ![1, 64, 64]⟩ .f32) (i : Fin 1) (j : Fin 64) (k : Fin 64) :
    val_main_v36 (F := Ideal) x0 x1 (ix3 i j k) = newV (sum8 fun d => x0 (ix4 d i j k)) (x1 (ix3 i j k)) := by
  obtain rfl : i = 0 := Subsingleton.elim _ _
  pointwise [val_main_cst_12, val_main_cst_13, val_main_cst_9, val_main_v25, val_main_v31, val_main_v32, val_main_v33, val_main_v34, val_main_v35, val_main_v36]
  rfl
theorem ref2 (x0 : FVec Ideal ⟨3, ![8, 1, 64]⟩ .f32) (x1 : FVec Ideal ⟨2, ![1, 64]⟩ .f32) (i : Fin 1) (j : Fin 64) :
    val_main_v61 (F := Ideal) x0 x1 (ix2 i j) = newV (sum8 fun d => x0 (ix3 d i j)) (x1 (ix2 i j)) := by
  obtain rfl : i = 0 := Subsingleton.elim _ _
  pointwise [val_main_cst_19, val_main_cst_22, val_main_cst_23, val_main_v50, val_main_v56, val_main_v57, val_main_v58, val_main_v59, val_main_v60, val_main_v61]
  rfl
theorem ref3 (x0 : FVec Ideal ⟨5, ![8, 1, 64, 64, 16]⟩ .f32) (x1 : FVec Ideal ⟨4, ![1, 64, 64, 16]⟩ .f32) (i : Fin 1) (j : Fin 64) (k : Fin 64) (l : Fin 16) :
    val_main_v86 (F := Ideal) x0 x1 (ix4 i j k l) = newV (sum8 fun d => x0 (ix5 d i j k l)) (x1 (ix4 i j k l)) := by
  obtain rfl : i = 0 := Subsingleton.elim _ _
  pointwise [val_main_cst_29, val_main_cst_32, val_main_cst_33, val_main_v75, val_main_v81, val_main_v82, val_main_v83, val_main_v84, val_main_v85, val_main_v86]
  rfl
theorem ref4 (x0 : FVec Ideal ⟨5, ![8, 1, 64, 64, 16]⟩ .f32) (x1 : FVec Ideal ⟨4, ![1, 64, 64, 16]⟩ .f32) (i : Fin 1) (j : Fin 64) (k : Fin 64) (l : Fin 16) :
    val_main_v111 (F := Ideal) x0 x1 (ix4 i j k l) = newV (sum8 fun d => x0 (ix5 d i j k l)) (x1 (ix4 i j k l)) := by
  obtain rfl : i = 0 := Subsingleton.elim _ _
  pointwise [val_main_cst_39, val_main_cst_42, val_main_cst_43, val_main_v100, val_main_v106, val_main_v107, val_main_v108, val_main_v109, val_main_v110, val_main_v111]
  rfl
theorem ref5 (x0 : FVec Ideal ⟨5, ![8, 1, 64, 16, 64]⟩ .f32) (x1 : FVec Ideal ⟨4, ![1, 64, 16, 64]⟩ .f32) (i : Fin 1) (j : Fin 64) (k : Fin 16) (l : Fin 64) :
    val_main_v136 (F := Ideal) x0 x1 (ix4 i j k l) = newV (sum8 fun d => x0 (ix5 d i j k l)) (x1 (ix4 i j k l)) := by
  obtain rfl : i = 0 := Subsingleton.elim _ _
  pointwise [val_main_cst_49, val_main_cst_52, val_main_cst_53, val_main_v125, val_main_v131, val_main_v132, val_main_v133, val_main_v134, val_main_v135, val_main_v136]
  rfl
theorem ref6 (x0 : FVec Ideal ⟨5, ![8, 1, 64, 16, 64]⟩ .f32) (x1 : FVec Ideal ⟨4, ![1, 64, 16, 64]⟩ .f32) (i : Fin 1) (j : Fin 64) (k : Fin 16) (l : Fin 64) :
    val_main_v161 (F := Ideal) x0 x1 (ix4 i j k l) = newV (sum8 fun d => x0 (ix5 d i j k l)) (x1 (ix4 i j k l)) := by
  obtain rfl : i = 0 := Subsingleton.elim _ _
  pointwise [val_main_cst_59, val_main_cst_62, val_main_cst_63, val_main_v150, val_main_v156, val_main_v157, val_main_v158, val_main_v159, val_main_v160, val_main_v161]
  rfl
theorem ref7 (x0 : FVec Ideal ⟨4, ![8, 1, 64, 16]⟩ .f32) (x1 : FVec Ideal ⟨3, ![1, 64, 16]⟩ .f32) (i : Fin 1) (j : Fin 64) (k : Fin 16) :
    val_main_v186 (F := Ideal) x0 x1 (ix3 i j k) = newV (sum8 fun d => x0 (ix4 d i j k)) (x1 (ix3 i j k)) := by
  obtain rfl : i = 0 := Subsingleton.elim _ _
  pointwise [val_main_cst_69, val_main_cst_72, val_main_cst_73, val_main_v175, val_main_v181, val_main_v182, val_main_v183, val_main_v184, val_main_v185, val_main_v186]
  rfl
theorem ref8 (x0 : FVec Ideal ⟨3, ![8, 1, 1024]⟩ .f32) (x1 : FVec Ideal ⟨2, ![1, 1024]⟩ .f32) (i : Fin 1) (j : Fin 1024) :
    val_main_v211 (F := Ideal) x0 x1 (ix2 i j) = newV (sum8 fun d => x0 (ix3 d i j)) (x1 (ix2 i j)) := by
  obtain rfl : i = 0 := Subsingleton.elim _ _
  pointwise [val_main_cst_79, val_main_cst_82, val_main_cst_83, val_main_v200, val_main_v206, val_main_v207, val_main_v208, val_main_v209, val_main_v210, val_main_v211]
  rfl
theorem ref9 (x0 : FVec Ideal ⟨3, ![8, 1, 2048]⟩ .f32) (x1 : FVec Ideal ⟨2, ![1, 2048]⟩ .f32) (i : Fin 1) (j : Fin 2048) :
    val_main_v236 (F := Ideal) x0 x1 (ix2 i j) = newV (sum8 fun d => x0 (ix3 d i j)) (x1 (ix2 i j)) := by
  obtain rfl : i = 0 := Subsingleton.elim _ _
  pointwise [val_main_cst_89, val_main_cst_92, val_main_cst_93, val_main_v225, val_main_v231, val_main_v232, val_main_v233, val_main_v234, val_main_v235, val_main_v236]
  rfl
theorem ref10 (x0 : FVec Ideal ⟨3, ![8, 1, 5632]⟩ .f32) (x1 : FVec Ideal ⟨2, ![1, 5632]⟩ .f32) (i : Fin 1) (j : Fin 5632) :
    val_main_v261 (F := Ideal) x0 x1 (ix2 i j) = newV (sum8 fun d => x0 (ix3 d i j)) (x1 (ix2 i j)) := by
  obtain rfl : i = 0 := Subsingleton.elim _ _
  pointwise [val_main_cst_102, val_main_cst_103, val_main_cst_99, val_main_v250, val_main_v256, val_main_v257, val_main_v258, val_main_v259, val_main_v260, val_main_v261]
  rfl
theorem ref11 (x0 : FVec Ideal ⟨2, ![8, 2048]⟩ .f32) (x1 : FVec Ideal ⟨1, ![2048]⟩ .f32) (i : Fin 2048) :
    val_main_v286 (F := Ideal) x0 x1 (ix1 i) = newV (sum8 fun d => x0 (ix2 d i)) (x1 (ix1 i)) := by
  pointwise [val_main_cst_109, val_main_cst_112, val_main_cst_113, val_main_v275, val_main_v281, val_main_v282, val_main_v283, val_main_v284, val_main_v285, val_main_v286]
  rfl
end Reference

theorem frame_kernel : quiescent_Kernel30 := fun m ρ _ => Kernel30.Gen.frame m ρ
theorem frame_kernelIdeal : quiescent_Kernel30Ideal := fun m ρ _ => Kernel30Ideal.Gen.frame m ρ
theorem frame_reference : quiescent_Reference30Ideal := fun m ρ _ =>
  (θ_run Reference30Ideal.defs _ _).mono (fun r h => ⟨fun c => (h c).2.2.2.2.2.2.2.2.2.2.2.2, sem_eq_zero_of_no_sems (by decide) r.2⟩)
    (Reference30Ideal.Value.run (F := Ideal) m ρ)

theorem algebraic : algebraic_Kernel30Ideal_Reference30Ideal := by
  intro m ρ m' ρ' _ hagree
  refine ⟨K0 m, K1 m, K2 m, K3 m, K4 m, K5 m, K6 m, K7 m, K8 m, K9 m, K10 m, K11 m, (θ_run defs _ _).mono (fun r h c => ⟨(h.1 c).2 main_v68 (Pipeline.mem_restRefs_of main_v68 (by decide) (by decide)), (h.1 c).2 main_v71 (Pipeline.mem_restRefs_of main_v71 (by decide) (by decide)), (h.1 c).2 main_v75 (Pipeline.mem_restRefs_of main_v75 (by decide) (by decide)), (h.1 c).2 main_v78 (Pipeline.mem_restRefs_of main_v78 (by decide) (by decide)), (h.1 c).2 main_v81 (Pipeline.mem_restRefs_of main_v81 (by decide) (by decide)), (h.1 c).2 main_v84 (Pipeline.mem_restRefs_of main_v84 (by decide) (by decide)), (h.1 c).2 main_v87 (Pipeline.mem_restRefs_of main_v87 (by decide) (by decide)), (h.1 c).2 main_v90 (Pipeline.mem_restRefs_of main_v90 (by decide) (by decide)), (h.1 c).2 main_v93 (Pipeline.mem_restRefs_of main_v93 (by decide) (by decide)), (h.1 c).2 main_v96 (Pipeline.mem_restRefs_of main_v96 (by decide) (by decide)), (h.1 c).2 main_v100 (Pipeline.mem_restRefs_of main_v100 (by decide) (by decide)), (h.1 c).2 main_v102 (Pipeline.mem_restRefs_of main_v102 (by decide) (by decide)), h.2 c⟩)
    (θ_run_and (run_main m ρ) (unchanged m ρ)), ?_⟩
  refine (θ_run Reference30Ideal.defs _ _).mono (fun _ h c => ?_) (Reference30Ideal.Value.run (F := Ideal) m' ρ')
  obtain ⟨h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, h44, h45, h46, h47⟩ := hagree c
  obtain ⟨r0, r1, r2, r3, r4, r5, r6, r7, r8, r9, r10, r11, rest⟩ := h c
  refine ⟨r0.trans ?_, r1.trans ?_, r2.trans ?_, r3.trans ?_, r4.trans ?_, r5.trans ?_, r6.trans ?_, r7.trans ?_, r8.trans ?_, r9.trans ?_, r10.trans ?_, r11.trans ?_, rest⟩
  · refine (cong2 (Reference30Ideal.Read.val_main_v11 (F := Ideal)) h0 h36).trans ?_
    funext e
    obtain ⟨i, j, k, rfl⟩ := ix3_surj e
    exact (ref0 _ _ i j k).trans (K0_at m c i j k _ rfl).symm
  · refine (cong2 (Reference30Ideal.Read.val_main_v36 (F := Ideal)) h1 h37).trans ?_
    funext e
    obtain ⟨i, j, k, rfl⟩ := ix3_surj e
    exact (ref1 _ _ i j k).trans (K1_at m c i j k _ rfl).symm
  · refine (cong2 (Reference30Ideal.Read.val_main_v61 (F := Ideal)) h2 h38).trans ?_
    funext e
    obtain ⟨i, j, rfl⟩ := ix2_surj e
    exact (ref2 _ _ i j).trans (K2_at m c i j _ rfl).symm
  · refine (cong2 (Reference30Ideal.Read.val_main_v86 (F := Ideal)) h3 h39).trans ?_
    funext e
    obtain ⟨i, j, k, l, rfl⟩ := ix4_surj e
    exact (ref3 _ _ i j k l).trans (K3_at m c i j k l _ rfl).symm
  · refine (cong2 (Reference30Ideal.Read.val_main_v111 (F := Ideal)) h4 h40).trans ?_
    funext e
    obtain ⟨i, j, k, l, rfl⟩ := ix4_surj e
    exact (ref4 _ _ i j k l).trans (K4_at m c i j k l _ rfl).symm
  · refine (cong2 (Reference30Ideal.Read.val_main_v136 (F := Ideal)) h5 h41).trans ?_
    funext e
    obtain ⟨i, j, k, l, rfl⟩ := ix4_surj e
    exact (ref5 _ _ i j k l).trans (K5_at m c i j k l _ rfl).symm
  · refine (cong2 (Reference30Ideal.Read.val_main_v161 (F := Ideal)) h6 h42).trans ?_
    funext e
    obtain ⟨i, j, k, l, rfl⟩ := ix4_surj e
    exact (ref6 _ _ i j k l).trans (K6_at m c i j k l _ rfl).symm
  · refine (cong2 (Reference30Ideal.Read.val_main_v186 (F := Ideal)) h7 h43).trans ?_
    funext e
    obtain ⟨i, j, k, rfl⟩ := ix3_surj e
    exact (ref7 _ _ i j k).trans (K7_at m c i j k _ rfl).symm
  · refine (cong2 (Reference30Ideal.Read.val_main_v211 (F := Ideal)) h8 h44).trans ?_
    funext e
    obtain ⟨i, j, rfl⟩ := ix2_surj e
    exact (ref8 _ _ i j).trans (K8_at m c i j _ rfl).symm
  · refine (cong2 (Reference30Ideal.Read.val_main_v236 (F := Ideal)) h9 h45).trans ?_
    funext e
    obtain ⟨i, j, rfl⟩ := ix2_surj e
    exact (ref9 _ _ i j).trans (K9_at m c i j _ rfl).symm
  · refine (cong2 (Reference30Ideal.Read.val_main_v261 (F := Ideal)) h10 h46).trans ?_
    funext e
    obtain ⟨i, j, rfl⟩ := ix2_surj e
    exact (ref10 _ _ i j).trans (K10_at m c i j _ rfl).symm
  · refine (cong2 (Reference30Ideal.Read.val_main_v286 (F := Ideal)) h11 h47).trans ?_
    funext e
    obtain ⟨i, rfl⟩ := ix1_surj e
    exact (ref11 _ _ i).trans (K11_at m c i _ rfl).symm

end P30
-- ==== Proof.Rms.lean ====
module

public import Idealize.ShloMosaic.Lib.Pointwise
public import Idealize.ShloMosaic.Lib.IdealHost

@[expose] public section

noncomputable section

/-! # One row of the root-mean-square norm's backward pass

The derivative of `x ↦ x * r(x) * g` with `r` the reciprocal root of the mean square, in the two forms the programs have:
the kernel's, which scales the row first, and the one that differentiating `r` gives, which divides by the mean square.
They agree on all extended reals: `r` is a real number that is not negative, also where an element of the row is infinite. -/

namespace Cert.Rms

open Idealize.ShloMosaic

/-- The row's length, the summand under the root and the factor minus one half, as the programs hold them. -/
def cN : EReal := Scalar.ofBits (F := Ideal) .f32 0x45000000#32
def cE : EReal := Scalar.ofBits (F := Ideal) .f32 0x358637BD#32
def cH : EReal := Scalar.ofBits (F := Ideal) .f32 0xBF000000#32

/-- The mean square of a row with the summand, and its reciprocal root. -/
def ms (x : Fin 2048 → EReal) : EReal := Ideal.div (∑ k : Fin 2048, x k * x k) cN + cE
def rt (x : Fin 2048 → EReal) : EReal := Ideal.rsqrt (ms x)

/-- The derivative at place `q`, as the kernel computes it. -/
def scaled (d g x : Fin 2048 → EReal) (q : Fin 2048) : EReal :=
  rt x * (d q * g q - x q * rt x * Ideal.div (∑ k : Fin 2048, d k * g k * (x k * rt x)) cN)
/-- The factor with which the derivative of the root enters, and the derivative at place `q` with it. -/
def through (d g x : Fin 2048 → EReal) : EReal :=
  Ideal.div ((∑ k : Fin 2048, x k * (d k * g k)) * (cH * Ideal.div (rt x) (ms x))) cN
def direct (d g x : Fin 2048 → EReal) (q : Fin 2048) : EReal :=
  d q * g q * rt x + x q * through d g x + through d g x * x q

theorem cN_eq : cN = ((2048 : ℝ) : EReal) := by
  show Ideal.ofBits .f32 0x45000000#32 = _
  simp [Ideal.ofBits, Ideal.ieee, -EReal.coe_mul]; norm_num
theorem cH_eq : cH = ((-(1 / 2) : ℝ) : EReal) := by
  show Ideal.ofBits .f32 0xBF000000#32 = _
  simp [Ideal.ofBits, Ideal.ieee, -EReal.coe_mul, -EReal.coe_neg]; norm_num
theorem cE_eq : ∃ e : ℝ, 0 < e ∧ cE = (e : EReal) := by
  refine ⟨8796093 / 8796093022208, by norm_num, ?_⟩
  show Ideal.ofBits .f32 0x358637BD#32 = _
  simp [Ideal.ofBits, Ideal.ieee, -EReal.coe_mul]; norm_num

theorem div_cN (y : EReal) : Ideal.div y cN = y * ((2048⁻¹ : ℝ) : EReal) := by
  have h : ((2048 : ℝ) : EReal) ≠ 0 := by norm_num
  unfold Ideal.div
  rw [cN_eq, if_neg h, EReal.coe_inv]

theorem sq_nonneg (a : EReal) : 0 ≤ a * a := by
  induction a with
  | bot => simp
  | top => simp
  | coe r => exact_mod_cast mul_self_nonneg r

/-- The mean square is a positive real number or infinite. -/
theorem ms_cases (x : Fin 2048 → EReal) : ms x = ⊤ ∨ ∃ s : ℝ, 0 < s ∧ ms x = (s : EReal) := by
  obtain ⟨e, he, hE⟩ := cE_eq
  have hS : 0 ≤ ∑ k : Fin 2048, x k * x k := Finset.sum_nonneg fun k _ => sq_nonneg (x k)
  unfold ms
  rw [div_cN, hE]
  generalize ∑ k : Fin 2048, x k * x k = S at hS
  induction S with
  | bot => simp at hS
  | top => left; rw [EReal.top_mul_coe_of_pos (by norm_num)]; exact EReal.top_add_coe e
  | coe r =>
    have hr : 0 ≤ r := by exact_mod_cast hS
    refine .inr ⟨r * 2048⁻¹ + e, by positivity, ?_⟩
    push_cast
    rfl

/-- The reciprocal root is a real number that is not negative, and over the mean square it is its own cube. -/
theorem rt_real (x : Fin 2048 → EReal) : ∃ r : ℝ, 0 ≤ r ∧ rt x = (r : EReal) ∧ Ideal.div (rt x) (ms x) = ((r * r * r : ℝ) : EReal) := by
  unfold rt
  rcases ms_cases x with h | ⟨s, hs, h⟩
  · refine ⟨0, le_rfl, ?_, ?_⟩
    · rw [h]; rfl
    · rw [h]; unfold Ideal.div; simp
  · have h1 : Ideal.rsqrt (s : EReal) = (((Real.sqrt s)⁻¹ : ℝ) : EReal) := by
      rw [Ideal.rsqrt_coe, if_neg (not_lt.mpr hs.le), if_neg hs.ne']
    have h2 : (s : EReal) ≠ 0 := by exact_mod_cast hs.ne'
    refine ⟨(Real.sqrt s)⁻¹, by positivity, by rw [h, h1], ?_⟩
    rw [h, h1]
    unfold Ideal.div
    rw [if_neg h2, ← EReal.coe_inv, ← EReal.coe_mul]
    congr 1
    have h3 : s⁻¹ = (Real.sqrt s)⁻¹ * (Real.sqrt s)⁻¹ := by
      rw [← mul_inv, Real.mul_self_sqrt hs.le]
    rw [h3, mul_assoc]

/-- A real factor that is not negative comes out of a sum. -/
theorem sum_mul_real {ι : Type} (s : Finset ι) (f : ι → EReal) (r : ℝ) (hr : 0 ≤ r) : ∑ k ∈ s, f k * (r : EReal) = (∑ k ∈ s, f k) * (r : EReal) := by
  classical
  induction s using Finset.induction_on with
  | empty => simp
  | insert a s ha ih =>
    rw [Finset.sum_insert ha, Finset.sum_insert ha, ih,
      EReal.right_distrib_of_nonneg_of_ne_top (by exact_mod_cast hr) (EReal.coe_ne_top r)]

/-- Twice minus one half of `T` is `-T`. -/
theorem two_halves (T : EReal) : T * ((-(1 / 2) : ℝ) : EReal) + T * ((-(1 / 2) : ℝ) : EReal) = -T := by
  induction T with
  | bot => rw [EReal.bot_mul_coe_of_neg (by norm_num)]; rfl
  | top => rw [EReal.top_mul_coe_of_neg (by norm_num)]; rfl
  | coe t => norm_cast; ring_nf

/-- The two forms agree. -/
theorem direct_eq (d g x : Fin 2048 → EReal) (q : Fin 2048) : direct d g x q = scaled d g x q := by
  obtain ⟨r, hr, h1, h2⟩ := rt_real x
  unfold direct scaled through
  rw [h2, h1, div_cN, div_cN, cH_eq]
  have hs : ∑ k : Fin 2048, d k * g k * (x k * (r : EReal)) = (∑ k : Fin 2048, x k * (d k * g k)) * (r : EReal) := by
    rw [← sum_mul_real _ _ r hr]
    refine Finset.sum_congr rfl fun k _ => ?_
    rw [← mul_assoc, mul_comm (d k * g k) (x k)]
  rw [hs]
  generalize ∑ k : Fin 2048, x k * (d k * g k) = S
  rw [sub_eq_add_neg, EReal.left_distrib_of_nonneg_of_ne_top (by exact_mod_cast hr) (EReal.coe_ne_top r), mul_neg, add_assoc,
    ← two_halves, mul_comm (r : EReal) (d q * g q)]
  have e1 : x q * (S * (((-(1 / 2) : ℝ) : EReal) * ((r * r * r : ℝ) : EReal)) * ((2048⁻¹ : ℝ) : EReal))
      = (r : EReal) * (x q * (r : EReal) * (S * (r : EReal) * ((2048⁻¹ : ℝ) : EReal))) * ((-(1 / 2) : ℝ) : EReal) := by
    rw [EReal.coe_mul, EReal.coe_mul]
    ac_rfl
  rw [← e1, mul_comm (S * _ * _) (x q)]

/-! ## The loss and its derivative

Half the mean of the squared difference between the norm's output and the target, for one row, and its derivative with
respect to the output in the two forms: the difference over the row's length, and the product that differentiating gives. -/

/-- One half and two, as the programs hold them. -/
def cP : EReal := Scalar.ofBits (F := Ideal) .f32 0x3F000000#32
def cT : EReal := Scalar.ofBits (F := Ideal) .f32 0x40000000#32

/-- The difference at place `q` of a row with input `x`, gain `g` and target `t`; the row's mean square of it. -/
def err (g x t : Fin 2048 → EReal) (q : Fin 2048) : EReal := x q * rt x * g q - t q
def lossRow (g x t : Fin 2048 → EReal) : EReal := Ideal.div (∑ k : Fin 2048, err g x t k * err g x t k) cN
/-- The loss's derivative with respect to the output, in the two forms. -/
def dy (g x t : Fin 2048 → EReal) (q : Fin 2048) : EReal := Ideal.div (err g x t q) cN
def dyProd (g x t : Fin 2048 → EReal) (q : Fin 2048) : EReal := Ideal.div cP cN * (cT * err g x t q)
/-- What the row adds to the gain's gradient. -/
def gain (g x t : Fin 2048 → EReal) (q : Fin 2048) : EReal := dy g x t q * (x q * rt x)

theorem cP_eq : cP = ((1 / 2 : ℝ) : EReal) := by
  show Ideal.ofBits .f32 0x3F000000#32 = _
  simp [Ideal.ofBits, Ideal.ieee, -EReal.coe_mul]; norm_num
theorem cT_eq : cT = ((2 : ℝ) : EReal) := by
  show Ideal.ofBits .f32 0x40000000#32 = _
  simp [Ideal.ofBits, Ideal.ieee, -EReal.coe_mul]; norm_num

theorem dyProd_eq (g x t : Fin 2048 → EReal) : dyProd g x t = dy g x t := by
  funext q
  unfold dyProd dy
  generalize err g x t q = e
  rw [div_cN, div_cN, cP_eq, cT_eq, mul_comm e, ← mul_assoc, ← EReal.coe_mul, ← EReal.coe_mul]
  norm_num

/-- Half of a sum is the sum of the halves. -/
theorem half_sum {ι : Type} (s : Finset ι) (f : ι → EReal) : ∑ k ∈ s, cP * f k = cP * ∑ k ∈ s, f k := by
  rw [cP_eq, mul_comm, ← sum_mul_real s f _ (by norm_num)]
  exact Finset.sum_congr rfl fun k _ => mul_comm _ _

end Cert.Rms
-- ==== Proof.P31.lean ====
module

public import proofs.«01_k».proof.Proof.Step
public import proofs.«01_k».proof.Proof.Gen.Kernel31.Frame
public import proofs.«01_k».proof.Proof.Gen.Kernel31Ideal.Value
public import proofs.«01_k».proof.Proof.Gen.Reference31Ideal.Read
public import proofs.«01_k».proof.Proof.Gen.Reference31Ideal.Run
public import proofs.«01_k».proof.Proof.Rms

@[expose] public section

set_option maxRecDepth 16384

noncomputable section

/-! # The claims about `rms_tok_bwd`: the backward pass of the first norm, 4096 × 2048, in 16 blocks of 256 rows; the gain's gradient is summed over the blocks -/

namespace Cert.P31

open Kernel31Ideal Kernel31Ideal.Gen Idealize.ShloMosaic Idealize.ShloMosaic.TcCoe Idealize.SL.Sem
open Step Rms

section Cases
variable {F : FTy → Type} [FloatOps F]
variable (c : Dev nD) (i : grid0.Coords) (arg1 : Memref sig .tc .vmem S256x2048 .bf16) (harg1 : arg1.IsWhole) (arg2 : Memref sig .tc .vmem S256x2048 .f32) (harg2 : arg2.IsWhole) (arg3 : Memref sig .tc .vmem S1x2048 .f32) (harg3 : arg3.IsWhole) (arg4 : Memref sig .tc .vmem S256x2048 .f32) (harg4 : arg4.IsWhole) (arg5 : Memref sig .tc .vmem S256x2048 .f32) (harg5 : arg5.IsWhole) (arg6 : Memref sig .tc .vmem S1x2048 .f32) (harg6 : arg6.IsWhole)
variable (x0 : Vec F S256x2048 .bf16) (x1 : Vec F S256x2048 .f32) (x2 : Vec F S1x2048 .f32) (x3 : Vec F S256x2048 .f32)

/-! What each case of the body leaves: its payload. -/
theorem out0_A_4_eq (hc0 : cond0_0 i) (hc1 : ¬cond0_1 i) : out0_A_4 c i arg1 harg1 arg2 harg2 arg3 harg3 arg4 harg4 arg5 harg5 arg6 harg6 hc0 hc1 x0 x1 x2 x3 = k0_pay5 x1 x0 x2 x3 := by
  unfold out0_A_4 kernelRun0_A
  rw [View.read_writes_junk_eq_canon]
  dsimp only
  rw [View.canon_unit_zero Step.hz]
  simp only [View.readAt_eq_ld, harg1.read_unread, harg2.read_unread, harg3.read_unread, harg4.read_unread]
  rw [View.ld_unit_zero Step.hz, View.ld_unit_zero Step.hz, View.ld_unit_zero Step.hz, View.ld_unit_zero Step.hz]
theorem out0_A_5_eq (hc0 : cond0_0 i) (hc1 : ¬cond0_1 i) : out0_A_5 c i arg1 harg1 arg2 harg2 arg3 harg3 arg4 harg4 arg5 harg5 arg6 harg6 hc0 hc1 x0 x1 x2 x3 = k0_pay6 x1 x0 := by
  unfold out0_A_5 kernelRun0_A
  rw [View.read_writes_junk_eq_canon]
  dsimp only
  rw [View.canon_unit_zero Step.hz]
  simp only [View.readAt_eq_ld, harg1.read_unread, harg2.read_unread, harg3.read_unread, harg4.read_unread]
  rw [View.ld_unit_zero Step.hz, View.ld_unit_zero Step.hz]
theorem out0_B_4_eq (hc0 : ¬cond0_0 i) (hc1 : cond0_1 i) (xo5 : Vec F S1x2048 .f32) : out0_B_4 c i arg1 harg1 arg2 harg2 arg3 harg3 arg4 harg4 arg5 harg5 arg6 harg6 hc0 hc1 x0 x1 x2 x3 xo5 = k0_pay5 x1 x0 x2 x3 := by
  unfold out0_B_4 kernelRun0_B
  rw [View.read_writes_junk_eq_canon]
  dsimp only
  rw [View.canon_unit_zero Step.hz]
  simp only [View.readAt_eq_ld, harg1.read_unread, harg2.read_unread, harg3.read_unread, harg4.read_unread]
  rw [View.ld_unit_zero Step.hz, View.ld_unit_zero Step.hz, View.ld_unit_zero Step.hz, View.ld_unit_zero Step.hz]
theorem out0_B_5_eq (hc0 : ¬cond0_0 i) (hc1 : cond0_1 i) (xo5 : Vec F S1x2048 .f32) : out0_B_5 c i arg1 harg1 arg2 harg2 arg3 harg3 arg4 harg4 arg5 harg5 arg6 harg6 hc0 hc1 x0 x1 x2 x3 xo5 = k0_pay1 (k0_pay6 x1 x0) xo5 := by
  unfold out0_B_5 kernelRun0_B
  rw [View.read_writes_junk_eq_canon]
  dsimp only
  rw [View.canon_unit_zero Step.hz]
  unfold kernelRun0_B.sl.r
  simp only [View.readAt_eq_ld, harg1.read_unread, harg2.read_unread, harg3.read_unread, harg4.read_unread, harg6.read_unread]
  rw [View.ld_unit_zero Step.hz, View.ld_unit_zero Step.hz, View.ld_unit_zero Step.hz]
end Cases

section Blocks
variable {F : FTy → Type} [FloatOps F]
variable (m : (ℓ : Loc nD τ sig) → Buf (Elt F) ℓ) (c : Dev nD) (t : Fin cfg0.N) (x : Fin 256) (y : Fin 2048)

theorem ltN (t : Fin cfg0.N) : t.val < 16 := lt_of_lt_of_eq t.isLt N_0

theorem at4 : ∀ t : Fin grid0.N, win0_4.index t 0 = t.val ∧ win0_4.index t 1 = 0 := by decide +kernel

/-- Where block `t` lies in its array, for the windows 0, 1, 3 and the results 4, which move alike. -/
theorem pos4 :
    ((win0_4.rect t).idx (ix2 x y) : (⟨2, ![4096, 2048]⟩ : Shape).Idx) = ix2 ⟨t.val * 256 + x.val, by have := ltN t; omega⟩ y := by
  refine funext fun a => Fin.ext ?_
  match a with
  | ⟨0, _⟩ => show win0_4.index t 0 * 256 + 1 * x.val = t.val * 256 + x.val; rw [(at4 t).1]; omega
  | ⟨1, _⟩ => show win0_4.index t 1 * 2048 + 1 * y.val = y.val; rw [(at4 t).2]; omega
/-- Every element of such an array lies in one block. -/
theorem block4 (i : (⟨2, ![4096, 2048]⟩ : Shape).Idx) :
    ∃ t : Fin cfg0.N, ∀ a : Fin 2, win0_4.index t a * ![256, 2048] a ≤ (i a : Nat) ∧ (i a : Nat) < win0_4.index t a * ![256, 2048] a + ![256, 2048] a := by
  have h0 : (i 0 : Nat) < 4096 := (i 0).isLt
  have h1 : (i 1 : Nat) < 2048 := (i 1).isLt
  have hN : cfg0.N = 16 := N_0
  let t : Fin cfg0.N := ⟨(i 0 : Nat) / 256, by omega⟩
  refine ⟨t, fun a => ?_⟩
  match a with
  | ⟨0, _⟩ =>
    show win0_4.index t 0 * 256 ≤ (i 0 : Nat) ∧ (i 0 : Nat) < win0_4.index t 0 * 256 + 256
    rw [(at4 t).1]; dsimp only [t]; omega
  | ⟨1, _⟩ =>
    show win0_4.index t 1 * 2048 ≤ (i 1 : Nat) ∧ (i 1 : Nat) < win0_4.index t 1 * 2048 + 2048
    rw [(at4 t).2]; dsimp only [t]; omega
theorem iblk0 :
    iblk m c 0 t (ix2 x y) = m ((c : Thread nD τ).loc main_arg0) (ix2 ⟨t.val * 256 + x.val, by have := ltN t; omega⟩ y) := by
  show V m c main_arg0 ((win0_0.rect t).idx (ix2 x y)) = _
  rw [V_main_arg0]
  exact congrArg _ (pos4 t x y)
theorem iblk1 :
    iblk m c 1 t (ix2 x y) = m ((c : Thread nD τ).loc main_arg1) (ix2 ⟨t.val * 256 + x.val, by have := ltN t; omega⟩ y) := by
  show V m c main_arg1 ((win0_1.rect t).idx (ix2 x y)) = _
  rw [V_main_arg1]
  exact congrArg _ (pos4 t x y)
theorem iblk3 :
    iblk m c 3 t (ix2 x y) = m ((c : Thread nD τ).loc main_arg3) (ix2 ⟨t.val * 256 + x.val, by have := ltN t; omega⟩ y) := by
  show V m c main_arg3 ((win0_3.rect t).idx (ix2 x y)) = _
  rw [V_main_arg3]
  exact congrArg _ (pos4 t x y)
theorem oblk4 (G : Buf (Elt F) ((c : Thread nD τ).loc main_v0_0)) :
    ((cfg0.win 4).blk t).view.read (Elt F) G (ix2 x y) = G (ix2 ⟨t.val * 256 + x.val, by have := ltN t; omega⟩ y) :=
  congrArg G (pos4 t x y)
theorem cover4 (i : (⟨2, ![4096, 2048]⟩ : Shape).Idx) :
    ∃ t : Fin cfg0.N, (cfg0.win 4).flush t = true ∧ i ∈ ((cfg0.win 4).blk t).view.set := by
  obtain ⟨t, h⟩ := block4 i
  refine ⟨t, flush0_4 _, ?_⟩
  show i ∈ ((View.whole main_v0_0).slice (win0_4.rect t)).set
  rw [View.set_slice_whole, Rect.mem_set_unit]
  exact h

theorem at2 : ∀ t : Fin grid0.N, win0_2.index t 0 = 0 ∧ win0_2.index t 1 = 0 := by decide +kernel

/-- Block `t` of window 2, element by element. -/
theorem iblk2 (c : Dev nD) (t : Fin cfg0.N) (x : Fin 1) (y : Fin 2048) :
    iblk m c 2 t (ix2 x y) = m ((c : Thread nD τ).loc main_arg2) (ix2 x y) := by
  show V m c main_arg2 ((win0_2.rect t).idx (ix2 x y)) = _
  rw [V_main_arg2]
  refine congrArg _ (funext fun a => Fin.ext ?_)
  match a with
  | ⟨0, _⟩ => show win0_2.index t 0 * 1 + 1 * x.val = x.val; rw [(at2 t).1]; have := ltN t; omega
  | ⟨1, _⟩ => show win0_2.index t 1 * 2048 + 1 * y.val = y.val; rw [(at2 t).2]; have := ltN t; omega

theorem at5 : ∀ t : Fin grid0.N, win0_5.index t 0 = 0 ∧ win0_5.index t 1 = 0 := by decide +kernel

/-- Result window 5: the array read through point `t`'s block. -/
theorem oblk5 (c : Dev nD) (G : Buf (Elt F) ((c : Thread nD τ).loc main_v0_1)) (t : Fin cfg0.N) (x : Fin 1) (y : Fin 2048) :
    ((cfg0.win 5).blk t).view.read (Elt F) G (ix2 x y) = G (ix2 x y) := by
  show G ((win0_5.rect t).idx (ix2 x y)) = _
  refine congrArg _ (funext fun a => Fin.ext ?_)
  match a with
  | ⟨0, _⟩ => show win0_5.index t 0 * 1 + 1 * x.val = x.val; rw [(at5 t).1]; have := ltN t; omega
  | ⟨1, _⟩ => show win0_5.index t 1 * 2048 + 1 * y.val = y.val; rw [(at5 t).2]; have := ltN t; omega

/-- Every element of result window 5's array lies in the block, which is written back at the last point. -/
theorem cover5 (i : (⟨2, ![1, 2048]⟩ : Shape).Idx) :
    ∃ t : Fin cfg0.N, (cfg0.win 5).flush t = true ∧ i ∈ ((cfg0.win 5).blk t).view.set := by
  have h0 : (i 0 : Nat) < 1 := (i 0).isLt
  have h1 : (i 1 : Nat) < 2048 := (i 1).isLt
  have hN : cfg0.N = 16 := N_0
  let t : Fin cfg0.N := ⟨15, by omega⟩
  refine ⟨t, (flush0_5 _).mpr rfl, ?_⟩
  show i ∈ ((View.whole main_v0_1).slice (win0_5.rect t)).set
  rw [View.set_slice_whole, Rect.mem_set_unit]
  intro a
  match a with
  | ⟨0, _⟩ =>
    show win0_5.index t 0 * 1 ≤ (i 0 : Nat) ∧ (i 0 : Nat) < win0_5.index t 0 * 1 + 1
    rw [(at5 t).1]; omega
  | ⟨1, _⟩ =>
    show win0_5.index t 1 * 2048 ≤ (i 1 : Nat) ∧ (i 1 : Nat) < win0_5.index t 1 * 2048 + 2048
    rw [(at5 t).2]; omega
end Blocks

variable (m : (ℓ : Loc nD τ sig) → Buf (Elt Ideal) ℓ) (ρ : Dev nD → PrngReg)

abbrev a0 (c : Dev nD) : FVec Ideal ⟨2, ![4096, 2048]⟩ .bf16 := m ((c : Thread nD τ).loc main_arg0)
abbrev a1 (c : Dev nD) : FVec Ideal ⟨2, ![4096, 2048]⟩ .f32 := m ((c : Thread nD τ).loc main_arg1)
abbrev a2 (c : Dev nD) : FVec Ideal ⟨2, ![1, 2048]⟩ .f32 := m ((c : Thread nD τ).loc main_arg2)
abbrev a3 (c : Dev nD) : FVec Ideal ⟨2, ![4096, 2048]⟩ .f32 := m ((c : Thread nD τ).loc main_arg3)

section Spec
variable (A0 : FVec Ideal ⟨2, ![4096, 2048]⟩ .bf16) (A1 : FVec Ideal ⟨2, ![4096, 2048]⟩ .f32) (A2 : FVec Ideal ⟨2, ![1, 2048]⟩ .f32) (A3 : FVec Ideal ⟨2, ![4096, 2048]⟩ .f32)
/-- The input's gradient: the residual's and the norm's. -/
def dx (r : Fin 4096) (q : Fin 2048) : EReal := A3 (ix2 r q) + scaled (fun k => A0 (ix2 r k)) (fun k => A2 (ix2 0 k)) (fun k => A1 (ix2 r k)) q
/-- What row `r` adds to the gain's gradient. -/
def term (q : Fin 2048) (r : Fin 4096) : EReal := A0 (ix2 r q) * (A1 (ix2 r q) * rt fun k => A1 (ix2 r k))
/-- The rows of block `s`, together. -/
def part (s : ℕ) (q : Fin 2048) : EReal := ∑ r : Fin 256, term A0 A1 q ⟨(s * 256 + r.val) % 4096, Nat.mod_lt _ (by decide)⟩
end Spec

/-- The result arrays of device `c`. -/
abbrev G4 (c : Dev nD) : Buf (Elt Ideal) ((c : Thread nD τ).loc main_v0_0) := fun i : S4096x2048.Idx => dx (a0 m c) (a1 m c) (a2 m c) (a3 m c) (i 0) (i 1)
abbrev G5 (c : Dev nD) : Buf (Elt Ideal) ((c : Thread nD τ).loc main_v0_1) := fun i : S1x2048.Idx => (∑ r : Fin 4096, term (a0 m c) (a1 m c) (i 1) r : EReal)

section Payloads
variable (v0 : Vec Ideal S256x2048 .f32) (v11 : Vec Ideal S256x2048 .bf16) (v13 : Vec Ideal S1x2048 .f32) (v16 : Vec Ideal S256x2048 .f32) (x : Fin 256) (y : Fin 2048)
theorem pay5_at : k0_pay5 (F := Ideal) v0 v11 v13 v16 (ix2 x y) = (v16 (ix2 x y) : EReal) + scaled (fun k => v11 (ix2 x k)) (fun k => v13 (ix2 0 k)) (fun k => v0 (ix2 x k)) y := by
  pointwise [k0_pay5, k0_pay4, k0_pay3, k0_pay2]
  rfl
theorem pay6_at (z : Fin 1) : k0_pay6 (F := Ideal) v0 v11 (ix2 z y) = ∑ r : Fin 256, (v11 (ix2 r y) : EReal) * (v0 (ix2 r y) * rt fun k => v0 (ix2 r k)) := by
  obtain rfl : z = 0 := Subsingleton.elim _ _
  pointwise [k0_pay6, k0_pay4, k0_pay3, k0_pay2]
  rfl
theorem pay1_at (v31 v38 : Vec Ideal S1x2048 .f32) (z : Fin 1) : k0_pay1 (F := Ideal) v31 v38 (ix2 z y) = (v38 (ix2 z y) : EReal) + v31 (ix2 z y) := by
  pointwise [k0_pay1]
end Payloads

theorem term_congr {d d' v v' : EReal} {f f' : Fin 2048 → EReal} (h : d = d') (h1 : v = v') (h2 : f = f') : d * (v * rt f) = d' * (v' * rt f') := by rw [h, h1, h2]

/-- What the point `t` adds to the gain's gradient. -/
theorem part_blk (c : Dev nD) (t : Fin cfg0.N) (y : Fin 2048) (z : Fin 1) :
    k0_pay6 (F := Ideal) (iblk m c 1 t) (iblk m c 0 t) (ix2 z y) = part (a0 m c) (a1 m c) t.val y := by
  have hT : t.val < 16 := ltN t
  refine (pay6_at _ _ y z).trans (Finset.sum_congr rfl fun r _ => ?_)
  have e : (⟨t.val * 256 + r.val, by omega⟩ : Fin 4096) = ⟨(t.val * 256 + r.val) % 4096, Nat.mod_lt _ (by decide)⟩ :=
    Fin.ext (Nat.mod_eq_of_lt (by omega)).symm
  unfold term
  rw [← e]
  exact term_congr (iblk0 m c t r y) (iblk1 m c t r y) (funext fun k => iblk1 m c t r k)

/-- The gain's gradient after point `n`: the blocks up to it. -/
theorem acc (c : Dev nD) (y : Fin 2048) (z : Fin 1) : ∀ (n : ℕ) (hn : n < cfg0.N),
    ((outsAt0 m c n hn).2 (ix2 z y) : EReal) = ∑ s ∈ Finset.range (n + 1), part (a0 m c) (a1 m c) s y
  | 0, hn => by
    rw [outsAt0_A m c ⟨0, hn⟩ (Nat.zero_mod _) (by dsimp only; omega)]
    dsimp only
    rw [out0_A_5_eq, Finset.sum_range_one]
    exact part_blk m c ⟨0, hn⟩ y z
  | n + 1, hn => by
    have hT : n + 1 < 16 := lt_of_lt_of_eq hn N_0
    rw [outsAt0_B m c ⟨n + 1, hn⟩ (by dsimp only; omega) (by dsimp only; omega)]
    dsimp only
    rw [out0_B_5_eq]
    refine (pay1_at y _ _ z).trans ?_
    rw [Finset.sum_range_succ, ← acc c y z n (Nat.lt_of_succ_lt hn)]
    exact congrArg (fun e : EReal => (outsAt0 m c n (Nat.lt_of_succ_lt hn)).2 (ix2 z y) + e) (part_blk m c ⟨n + 1, hn⟩ y z)

theorem flushed5_eq (c : Dev nD) (t : Fin cfg0.N) (hf : (cfg0.win 5).flush t = true) :
    (dats m 0 c).flushed 5 t = ((cfg0.win 5).blk t).view.read (Elt Ideal) (G5 m c) := by
  have hT : t.val < 16 := ltN t
  have h15 : t.val = 15 := by have := (flush0_5 t).mp hf; omega
  rw [Value.flushed5]
  funext i
  obtain ⟨z, y, rfl⟩ := ix2_surj i
  rw [oblk5]
  refine (acc m c y z t.val t.isLt).trans ?_
  rw [h15]
  show _ = ∑ r : Fin 4096, term (a0 m c) (a1 m c) y r
  rw [Sums.sum_blocks 16 256 4096 (by norm_num), Finset.sum_range]
  refine Finset.sum_congr rfl fun s _ => Finset.sum_congr rfl fun r _ => congrArg _ (Fin.ext (Nat.mod_eq_of_lt ?_))
  have := s.isLt
  have := r.isLt
  omega

theorem after4 (c : Dev nD) (t : Fin cfg0.N) : (outsAt0 m c t.val t.isLt).1 = k0_pay5 (iblk m c 1 t) (iblk m c 0 t) (iblk m c 2 t) (iblk m c 3 t) := by
  have hT : t.val < 16 := ltN t
  by_cases h : t.val = 0
  · rw [outsAt0_A m c t (by omega) (by omega)]
    dsimp only
    rw [out0_A_4_eq]
  · rw [outsAt0_B m c t (by omega) (by omega)]
    dsimp only
    rw [out0_B_4_eq]

theorem dx_congr {e e' : EReal} {d d' g g' x x' : Fin 2048 → EReal} (q : Fin 2048) (h : e = e') (h1 : d = d') (h2 : g = g') (h3 : x = x') :
    e + scaled d g x q = e' + scaled d' g' x' q := by rw [h, h1, h2, h3]

theorem flushed4_eq (c : Dev nD) (t : Fin cfg0.N) :
    (dats m 0 c).flushed 4 t = ((cfg0.win 4).blk t).view.read (Elt Ideal) (G4 m c) := by
  rw [Value.flushed4]
  funext i
  obtain ⟨x, y, rfl⟩ := ix2_surj i
  rw [oblk4, after4]
  exact (pay5_at _ _ _ _ x y).trans (dx_congr y (iblk3 m c t x y) (funext fun k => iblk0 m c t x k) (funext fun k => iblk2 m c t 0 k) (funext fun k => iblk1 m c t x k))

/-- The run of the kernel: the result arrays at the functions above, the arguments unchanged. -/
theorem run : θ_run defs (onTc (τ := τ) (main (F := Ideal))) ⟨m, fun _ => 0, ρ⟩ fun r => ∀ c : Dev nD,
      r.2.mem ((c : Thread nD τ).loc main_v0_0) = G4 m c
      ∧ r.2.mem ((c : Thread nD τ).loc main_v0_1) = G5 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((dats m 0 c).arrAt_eq_of_cover 4 (G4 m c) (fun t _ => flushed4_eq m c t) cover4),
      (h c).2.1.trans ((dats m 0 c).arrAt_eq_of_cover 5 (G5 m c) (fun t hf => flushed5_eq m c t hf) cover5), (h c).2.2⟩)
    (Value.run_blocks m ρ)

section Reference
open Reference31Ideal.Read
variable (x0 : FVec Ideal ⟨2, ![4096, 2048]⟩ .bf16) (x1 : FVec Ideal ⟨2, ![4096, 2048]⟩ .f32) (x2 : FVec Ideal ⟨2, ![1, 2048]⟩ .f32) (x3 : FVec Ideal ⟨2, ![4096, 2048]⟩ .f32) (r : Fin 4096) (q : Fin 2048)
theorem ref0 : val_main_v35 (F := Ideal) x0 x1 x2 x3 (ix2 r q) = dx x0 x1 x2 x3 r q := by
  unfold dx
  rw [← direct_eq]
  pointwise [val_main_cst, val_main_cst_0, val_main_cst_1, val_main_cst_2, val_main_cst_4, val_main_cst_5, val_main_cst_6, val_main_v0, val_main_v1, val_main_v10, val_main_v15, val_main_v19, val_main_v2, val_main_v20, val_main_v21, val_main_v22, val_main_v23, val_main_v24, val_main_v25, val_main_v26, val_main_v27, val_main_v28, val_main_v29, val_main_v3, val_main_v30, val_main_v31, val_main_v32, val_main_v33, val_main_v34, val_main_v35, val_main_v4, val_main_v5, val_main_v6, val_main_v7, val_main_v8, val_main_v9]
  simp only [Fin.sum_univ_one]
  rfl
theorem ref1 (z : Fin 1) : val_main_v18 (F := Ideal) x0 x1 (ix2 z q) = ∑ r : Fin 4096, term x0 x1 q r := by
  obtain rfl : z = 0 := Subsingleton.elim _ _
  pointwise [val_main_cst, val_main_cst_0, val_main_cst_1, val_main_cst_3, val_main_v0, val_main_v1, val_main_v11, val_main_v12, val_main_v15, val_main_v16, val_main_v17, val_main_v18, val_main_v2, val_main_v3, val_main_v4, val_main_v5, val_main_v6, val_main_v7]
  refine Finset.sum_congr rfl fun r _ => ?_
  unfold term
  rw [mul_comm (x0 (ix2 r q) : EReal)]
  rfl
end Reference

theorem frame_kernel : quiescent_Kernel31 := fun m ρ _ => Kernel31.Gen.frame m ρ
theorem frame_kernelIdeal : quiescent_Kernel31Ideal := fun m ρ _ => Kernel31Ideal.Gen.frame m ρ
theorem frame_reference : quiescent_Reference31Ideal := fun m ρ _ =>
  (θ_run Reference31Ideal.defs _ _).mono (fun r h => ⟨fun c => (h c).2.2, sem_eq_zero_of_no_sems (by decide) r.2⟩)
    (Reference31Ideal.Value.run (F := Ideal) m ρ)

theorem algebraic : algebraic_Kernel31Ideal_Reference31Ideal := by
  intro m ρ m' ρ' _ hagree
  refine ⟨G4 m, G5 m, run m ρ, ?_⟩
  refine (θ_run Reference31Ideal.defs _ _).mono (fun _ h c => ⟨(h c).1.trans ?_, (h c).2.1.trans ?_, (h c).2.2⟩) (Reference31Ideal.Value.run (F := Ideal) m' ρ')
  · rw [(hagree c).1, (hagree c).2.1, (hagree c).2.2.1, (hagree c).2.2.2]
    funext i
    obtain ⟨r, q, rfl⟩ := Step.ix2_surj i
    exact ref0 (a0 m c) (a1 m c) (a2 m c) (a3 m c) r q
  · rw [(hagree c).1, (hagree c).2.1]
    funext i
    obtain ⟨r, q, rfl⟩ := Step.ix2_surj i
    exact ref1 (a0 m c) (a1 m c) q r

end P31
-- ==== Proof.P32.lean ====
module

public import proofs.«01_k».proof.Proof.Step
public import proofs.«01_k».proof.Proof.Gen.Kernel32.Frame
public import proofs.«01_k».proof.Proof.Gen.Kernel32Ideal.Value
public import proofs.«01_k».proof.Proof.Gen.Reference32Ideal.Read
public import proofs.«01_k».proof.Proof.Gen.Reference32Ideal.Run
public import proofs.«01_k».proof.Proof.Rms

@[expose] public section

set_option maxRecDepth 16384

noncomputable section

/-! # The claims about `final`: the last norm, the loss of the device's tokens and its gradients, 4096 × 2048, in 16 blocks of 256 rows; the gain's gradient and the loss are summed over the blocks -/

namespace Cert.P32

open Kernel32Ideal Kernel32Ideal.Gen Idealize.ShloMosaic Idealize.ShloMosaic.TcCoe Idealize.SL.Sem
open Step Rms

section Cases
variable {F : FTy → Type} [FloatOps F]
variable (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S1x2048 .f32) (harg3 : arg3.IsWhole) (arg4 : Memref sig .tc .vmem S256x2048 .f32) (harg4 : arg4.IsWhole) (arg5 : Memref sig .tc .vmem S256x2048 .f32) (harg5 : arg5.IsWhole) (arg6 : Memref sig .tc .vmem S256x2048 .bf16) (harg6 : arg6.IsWhole) (arg7 : Memref sig .tc .vmem S1x2048 .f32) (harg7 : arg7.IsWhole) (arg8 : Memref sig .tc .vmem S8x128 .f32) (harg8 : arg8.IsWhole)
variable (x0 x1 : Vec F S256x2048 .f32) (x2 : Vec F S1x2048 .f32) (x3 : Vec F S256x2048 .f32) (xo6 : Vec F S1x2048 .f32) (xo7 : Vec F S8x128 .f32)

/-! What each case of the body leaves: its payload. -/
section A
variable (hc0 : cond0_0 i) (hc1 : ¬cond0_1 i) (hc2 : cond0_2 i) (hc3 : ¬cond0_3 i)
theorem out0_A_4_eq : out0_A_4 c i arg1 harg1 arg2 harg2 arg3 harg3 arg4 harg4 arg5 harg5 arg6 harg6 arg7 harg7 arg8 harg8 hc0 hc1 hc2 hc3 x0 x1 x2 x3 = k0_pay12 x0 x1 x2 x3 := by
  unfold out0_A_4 kernelRun0_A
  rw [View.read_writes_junk_eq_canon]
  dsimp only
  rw [View.canon_unit_zero Step.hz]
  unfold kernelRun0_A.sl.r_3
  simp only [View.readAt_eq_ld, harg1.read_unread, harg2.read_unread, harg3.read_unread, harg4.read_unread]
  repeat rw [View.ld_unit_zero Step.hz]
theorem out0_A_5_eq : out0_A_5 c i arg1 harg1 arg2 harg2 arg3 harg3 arg4 harg4 arg5 harg5 arg6 harg6 arg7 harg7 arg8 harg8 hc0 hc1 hc2 hc3 x0 x1 x2 x3 = k0_pay1 (k0_pay12 x0 x1 x2 x3) := by
  unfold out0_A_5 kernelRun0_A
  rw [View.read_writes_junk_eq_canon]
  dsimp only
  rw [View.canon_unit_zero Step.hz]
  unfold kernelRun0_A.sl.r_3
  simp only [View.readAt_eq_ld, harg1.read_unread, harg2.read_unread, harg3.read_unread, harg4.read_unread]
  repeat rw [View.ld_unit_zero Step.hz]
theorem out0_A_6_eq : out0_A_6 c i arg1 harg1 arg2 harg2 arg3 harg3 arg4 harg4 arg5 harg5 arg6 harg6 arg7 harg7 arg8 harg8 hc0 hc1 hc2 hc3 x0 x1 x2 x3 = k0_pay2 (k0_pay8 x0 x1) (k0_pay11 x0 x1 x2 x3) := by
  unfold out0_A_6 kernelRun0_A
  rw [View.read_writes_junk_eq_canon]
  dsimp only
  rw [View.canon_unit_zero Step.hz]
  unfold kernelRun0_A.sl.r kernelRun0_A.sl.r_2
  simp only [View.readAt_eq_ld, harg1.read_unread, harg2.read_unread, harg3.read_unread, harg4.read_unread]
  repeat rw [View.ld_unit_zero Step.hz]
theorem out0_A_7_eq : out0_A_7 c i arg1 harg1 arg2 harg2 arg3 harg3 arg4 harg4 arg5 harg5 arg6 harg6 arg7 harg7 arg8 harg8 hc0 hc1 hc2 hc3 x0 x1 x2 x3 = k0_pay4 (k0_pay10 x0 x1 x2 x3) := by
  unfold out0_A_7 kernelRun0_A
  rw [View.read_writes_junk_eq_canon]
  dsimp only
  rw [View.canon_unit_zero Step.hz]
  unfold kernelRun0_A.sl.r_1
  simp only [View.readAt_eq_ld, harg1.read_unread, harg2.read_unread, harg3.read_unread, harg4.read_unread]
  repeat rw [View.ld_unit_zero Step.hz]
end A
section B
variable (hc0 : ¬cond0_0 i) (hc1 : cond0_1 i) (hc2 : ¬cond0_2 i) (hc3 : cond0_3 i)
theorem out0_B_4_eq : out0_B_4 c i arg1 harg1 arg2 harg2 arg3 harg3 arg4 harg4 arg5 harg5 arg6 harg6 arg7 harg7 arg8 harg8 hc0 hc1 hc2 hc3 x0 x1 x2 x3 xo6 xo7 = k0_pay12 x0 x1 x2 x3 := by
  unfold out0_B_4 kernelRun0_B
  rw [View.read_writes_junk_eq_canon]
  dsimp only
  rw [View.canon_unit_zero Step.hz]
  unfold kernelRun0_B.sl.r_3
  simp only [View.readAt_eq_ld, harg1.read_unread, harg2.read_unread, harg3.read_unread, harg4.read_unread]
  repeat rw [View.ld_unit_zero Step.hz]
theorem out0_B_5_eq : out0_B_5 c i arg1 harg1 arg2 harg2 arg3 harg3 arg4 harg4 arg5 harg5 arg6 harg6 arg7 harg7 arg8 harg8 hc0 hc1 hc2 hc3 x0 x1 x2 x3 xo6 xo7 = k0_pay1 (k0_pay12 x0 x1 x2 x3) := by
  unfold out0_B_5 kernelRun0_B
  rw [View.read_writes_junk_eq_canon]
  dsimp only
  rw [View.canon_unit_zero Step.hz]
  unfold kernelRun0_B.sl.r_3
  simp only [View.readAt_eq_ld, harg1.read_unread, harg2.read_unread, harg3.read_unread, harg4.read_unread]
  repeat rw [View.ld_unit_zero Step.hz]
theorem out0_B_6_eq : out0_B_6 c i arg1 harg1 arg2 harg2 arg3 harg3 arg4 harg4 arg5 harg5 arg6 harg6 arg7 harg7 arg8 harg8 hc0 hc1 hc2 hc3 x0 x1 x2 x3 xo6 xo7 = k0_pay3 (k0_pay8 x0 x1) (k0_pay11 x0 x1 x2 x3) xo6 := by
  unfold out0_B_6 kernelRun0_B
  rw [View.read_writes_junk_eq_canon]
  dsimp only
  rw [View.canon_unit_zero Step.hz]
  unfold kernelRun0_B.sl.r kernelRun0_B.sl.r_2
  simp only [View.readAt_eq_ld, harg1.read_unread, harg2.read_unread, harg3.read_unread, harg4.read_unread, harg7.read_unread]
  repeat rw [View.ld_unit_zero Step.hz]
theorem out0_B_7_eq : out0_B_7 c i arg1 harg1 arg2 harg2 arg3 harg3 arg4 harg4 arg5 harg5 arg6 harg6 arg7 harg7 arg8 harg8 hc0 hc1 hc2 hc3 x0 x1 x2 x3 xo6 xo7 = k0_pay5 (k0_pay10 x0 x1 x2 x3) xo7 := by
  unfold out0_B_7 kernelRun0_B
  rw [View.read_writes_junk_eq_canon]
  dsimp only
  rw [View.canon_unit_zero Step.hz]
  unfold kernelRun0_B.sl.r_1
  simp only [View.readAt_eq_ld, harg1.read_unread, harg2.read_unread, harg3.read_unread, harg4.read_unread, harg8.read_unread]
  repeat rw [View.ld_unit_zero Step.hz]
end B
end Cases

section Blocks
variable {F : FTy → Type} [FloatOps F]
variable (m : (ℓ : Loc nD τ sig) → Buf (Elt F) ℓ) (c : Dev nD) (t : Fin cfg0.N) (x : Fin 256) (y : Fin 2048)

theorem ltN (t : Fin cfg0.N) : t.val < 16 := lt_of_lt_of_eq t.isLt N_0

theorem at4 : ∀ t : Fin grid0.N, win0_4.index t 0 = t.val ∧ win0_4.index t 1 = 0 := by decide +kernel

/-- Where block `t` lies in its array, for the windows 0, 1, 3 and the results 4 and 5, which move alike. -/
theorem pos4 :
    ((win0_4.rect t).idx (ix2 x y) : (⟨2, ![4096, 2048]⟩ : Shape).Idx) = ix2 ⟨t.val * 256 + x.val, by have := ltN t; omega⟩ y := by
  refine funext fun a => Fin.ext ?_
  match a with
  | ⟨0, _⟩ => show win0_4.index t 0 * 256 + 1 * x.val = t.val * 256 + x.val; rw [(at4 t).1]; omega
  | ⟨1, _⟩ => show win0_4.index t 1 * 2048 + 1 * y.val = y.val; rw [(at4 t).2]; omega
/-- Every element of such an array lies in one block. -/
theorem block4 (i : (⟨2, ![4096, 2048]⟩ : Shape).Idx) :
    ∃ t : Fin cfg0.N, ∀ a : Fin 2, win0_4.index t a * ![256, 2048] a ≤ (i a : Nat) ∧ (i a : Nat) < win0_4.index t a * ![256, 2048] a + ![256, 2048] a := by
  have h0 : (i 0 : Nat) < 4096 := (i 0).isLt
  have h1 : (i 1 : Nat) < 2048 := (i 1).isLt
  have hN : cfg0.N = 16 := N_0
  let t : Fin cfg0.N := ⟨(i 0 : Nat) / 256, by omega⟩
  refine ⟨t, fun a => ?_⟩
  match a with
  | ⟨0, _⟩ =>
    show win0_4.index t 0 * 256 ≤ (i 0 : Nat) ∧ (i 0 : Nat) < win0_4.index t 0 * 256 + 256
    rw [(at4 t).1]; dsimp only [t]; omega
  | ⟨1, _⟩ =>
    show win0_4.index t 1 * 2048 ≤ (i 1 : Nat) ∧ (i 1 : Nat) < win0_4.index t 1 * 2048 + 2048
    rw [(at4 t).2]; dsimp only [t]; omega
theorem iblk0 :
    iblk m c 0 t (ix2 x y) = m ((c : Thread nD τ).loc main_arg0) (ix2 ⟨t.val * 256 + x.val, by have := ltN t; omega⟩ y) := by
  show V m c main_arg0 ((win0_0.rect t).idx (ix2 x y)) = _
  rw [V_main_arg0]
  exact congrArg _ (pos4 t x y)
theorem iblk1 :
    iblk m c 1 t (ix2 x y) = m ((c : Thread nD τ).loc main_arg1) (ix2 ⟨t.val * 256 + x.val, by have := ltN t; omega⟩ y) := by
  show V m c main_arg1 ((win0_1.rect t).idx (ix2 x y)) = _
  rw [V_main_arg1]
  exact congrArg _ (pos4 t x y)
theorem iblk3 :
    iblk m c 3 t (ix2 x y) = m ((c : Thread nD τ).loc main_arg3) (ix2 ⟨t.val * 256 + x.val, by have := ltN t; omega⟩ y) := by
  show V m c main_arg3 ((win0_3.rect t).idx (ix2 x y)) = _
  rw [V_main_arg3]
  exact congrArg _ (pos4 t x y)
theorem oblk4 (G : Buf (Elt F) ((c : Thread nD τ).loc main_v0_0)) :
    ((cfg0.win 4).blk t).view.read (Elt F) G (ix2 x y) = G (ix2 ⟨t.val * 256 + x.val, by have := ltN t; omega⟩ y) :=
  congrArg G (pos4 t x y)
theorem cover4 (i : (⟨2, ![4096, 2048]⟩ : Shape).Idx) :
    ∃ t : Fin cfg0.N, (cfg0.win 4).flush t = true ∧ i ∈ ((cfg0.win 4).blk t).view.set := by
  obtain ⟨t, h⟩ := block4 i
  refine ⟨t, flush0_4 _, ?_⟩
  show i ∈ ((View.whole main_v0_0).slice (win0_4.rect t)).set
  rw [View.set_slice_whole, Rect.mem_set_unit]
  exact h
theorem oblk5 (G : Buf (Elt F) ((c : Thread nD τ).loc main_v0_1)) :
    ((cfg0.win 5).blk t).view.read (Elt F) G (ix2 x y) = G (ix2 ⟨t.val * 256 + x.val, by have := ltN t; omega⟩ y) :=
  congrArg G (pos4 t x y)
theorem cover5 (i : (⟨2, ![4096, 2048]⟩ : Shape).Idx) :
    ∃ t : Fin cfg0.N, (cfg0.win 5).flush t = true ∧ i ∈ ((cfg0.win 5).blk t).view.set := by
  obtain ⟨t, h⟩ := block4 i
  refine ⟨t, flush0_5 _, ?_⟩
  show i ∈ ((View.whole main_v0_1).slice (win0_5.rect t)).set
  rw [View.set_slice_whole, Rect.mem_set_unit]
  exact h

theorem at2 : ∀ t : Fin grid0.N, win0_2.index t 0 = 0 ∧ win0_2.index t 1 = 0 := by decide +kernel

/-- Block `t` of window 2, element by element. -/
theorem iblk2 (c : Dev nD) (t : Fin cfg0.N) (x : Fin 1) (y : Fin 2048) :
    iblk m c 2 t (ix2 x y) = m ((c : Thread nD τ).loc main_arg2) (ix2 x y) := by
  show V m c main_arg2 ((win0_2.rect t).idx (ix2 x y)) = _
  rw [V_main_arg2]
  refine congrArg _ (funext fun a => Fin.ext ?_)
  match a with
  | ⟨0, _⟩ => show win0_2.index t 0 * 1 + 1 * x.val = x.val; rw [(at2 t).1]; have := ltN t; omega
  | ⟨1, _⟩ => show win0_2.index t 1 * 2048 + 1 * y.val = y.val; rw [(at2 t).2]; have := ltN t; omega

theorem at6 : ∀ t : Fin grid0.N, win0_6.index t 0 = 0 ∧ win0_6.index t 1 = 0 := by decide +kernel

/-- Result window 6: the array read through point `t`'s block. -/
theorem oblk6 (c : Dev nD) (G : Buf (Elt F) ((c : Thread nD τ).loc main_v0_2)) (t : Fin cfg0.N) (x : Fin 1) (y : Fin 2048) :
    ((cfg0.win 6).blk t).view.read (Elt F) G (ix2 x y) = G (ix2 x y) := by
  show G ((win0_6.rect t).idx (ix2 x y)) = _
  refine congrArg _ (funext fun a => Fin.ext ?_)
  match a with
  | ⟨0, _⟩ => show win0_6.index t 0 * 1 + 1 * x.val = x.val; rw [(at6 t).1]; have := ltN t; omega
  | ⟨1, _⟩ => show win0_6.index t 1 * 2048 + 1 * y.val = y.val; rw [(at6 t).2]; have := ltN t; omega

/-- Every element of result window 6's array lies in the block, which is written back at the last point. -/
theorem cover6 (i : (⟨2, ![1, 2048]⟩ : Shape).Idx) :
    ∃ t : Fin cfg0.N, (cfg0.win 6).flush t = true ∧ i ∈ ((cfg0.win 6).blk t).view.set := by
  have h0 : (i 0 : Nat) < 1 := (i 0).isLt
  have h1 : (i 1 : Nat) < 2048 := (i 1).isLt
  have hN : cfg0.N = 16 := N_0
  let t : Fin cfg0.N := ⟨15, by omega⟩
  refine ⟨t, (flush0_6 _).mpr rfl, ?_⟩
  show i ∈ ((View.whole main_v0_2).slice (win0_6.rect t)).set
  rw [View.set_slice_whole, Rect.mem_set_unit]
  intro a
  match a with
  | ⟨0, _⟩ =>
    show win0_6.index t 0 * 1 ≤ (i 0 : Nat) ∧ (i 0 : Nat) < win0_6.index t 0 * 1 + 1
    rw [(at6 t).1]; omega
  | ⟨1, _⟩ =>
    show win0_6.index t 1 * 2048 ≤ (i 1 : Nat) ∧ (i 1 : Nat) < win0_6.index t 1 * 2048 + 2048
    rw [(at6 t).2]; omega

theorem at7 : ∀ t : Fin grid0.N, win0_7.index t 0 = 0 ∧ win0_7.index t 1 = 0 := by decide +kernel

/-- Result window 7: the array read through point `t`'s block. -/
theorem oblk7 (c : Dev nD) (G : Buf (Elt F) ((c : Thread nD τ).loc main_v0_3)) (t : Fin cfg0.N) (x : Fin 8) (y : Fin 128) :
    ((cfg0.win 7).blk t).view.read (Elt F) G (ix2 x y) = G (ix2 x y) := by
  show G ((win0_7.rect t).idx (ix2 x y)) = _
  refine congrArg _ (funext fun a => Fin.ext ?_)
  match a with
  | ⟨0, _⟩ => show win0_7.index t 0 * 8 + 1 * x.val = x.val; rw [(at7 t).1]; have := ltN t; omega
  | ⟨1, _⟩ => show win0_7.index t 1 * 128 + 1 * y.val = y.val; rw [(at7 t).2]; have := ltN t; omega

/-- Every element of result window 7's array lies in the block, which is written back at the last point. -/
theorem cover7 (i : (⟨2, ![8, 128]⟩ : Shape).Idx) :
    ∃ t : Fin cfg0.N, (cfg0.win 7).flush t = true ∧ i ∈ ((cfg0.win 7).blk t).view.set := by
  have h0 : (i 0 : Nat) < 8 := (i 0).isLt
  have h1 : (i 1 : Nat) < 128 := (i 1).isLt
  have hN : cfg0.N = 16 := N_0
  let t : Fin cfg0.N := ⟨15, by omega⟩
  refine ⟨t, (flush0_7 _).mpr rfl, ?_⟩
  show i ∈ ((View.whole main_v0_3).slice (win0_7.rect t)).set
  rw [View.set_slice_whole, Rect.mem_set_unit]
  intro a
  match a with
  | ⟨0, _⟩ =>
    show win0_7.index t 0 * 8 ≤ (i 0 : Nat) ∧ (i 0 : Nat) < win0_7.index t 0 * 8 + 8
    rw [(at7 t).1]; omega
  | ⟨1, _⟩ =>
    show win0_7.index t 1 * 128 ≤ (i 1 : Nat) ∧ (i 1 : Nat) < win0_7.index t 1 * 128 + 128
    rw [(at7 t).2]; omega

end Blocks

variable (m : (ℓ : Loc nD τ sig) → Buf (Elt Ideal) ℓ) (ρ : Dev nD → PrngReg)

abbrev a0 (c : Dev nD) : FVec Ideal ⟨2, ![4096, 2048]⟩ .f32 := m ((c : Thread nD τ).loc main_arg0)
abbrev a1 (c : Dev nD) : FVec Ideal ⟨2, ![4096, 2048]⟩ .f32 := m ((c : Thread nD τ).loc main_arg1)
abbrev a2 (c : Dev nD) : FVec Ideal ⟨2, ![1, 2048]⟩ .f32 := m ((c : Thread nD τ).loc main_arg2)
abbrev a3 (c : Dev nD) : FVec Ideal ⟨2, ![4096, 2048]⟩ .f32 := m ((c : Thread nD τ).loc main_arg3)

/-- The rows: the gain; row `r` of the norm's input, a sum of two arrays; row `r` of one array. -/
def gRow (A2 : FVec Ideal ⟨2, ![1, 2048]⟩ .f32) : Fin 2048 → EReal := fun k => A2 (ix2 0 k)
def xRow {n : ℕ} (A0 A1 : FVec Ideal ⟨2, ![n, 2048]⟩ .f32) (r : Fin n) : Fin 2048 → EReal := fun k => A0 (ix2 r k) + A1 (ix2 r k)
def tRow {n : ℕ} (A3 : FVec Ideal ⟨2, ![n, 2048]⟩ .f32) (r : Fin n) : Fin 2048 → EReal := fun k => A3 (ix2 r k)
/-- The function `f` of the gain, the row and the target of row `r` of device `c`. -/
def at3 (f : (Fin 2048 → EReal) → (Fin 2048 → EReal) → (Fin 2048 → EReal) → EReal) (c : Dev nD) (r : Fin 4096) : EReal :=
  f (gRow (a2 m c)) (xRow (a0 m c) (a1 m c) r) (tRow (a3 m c) r)
/-- The rows of block `s`, together. -/
def blk (f : Fin 4096 → EReal) (s : ℕ) : EReal := ∑ r : Fin 256, f ⟨(s * 256 + r.val) % 4096, Nat.mod_lt _ (by decide)⟩
theorem sum_blk (f : Fin 4096 → EReal) : ∑ s ∈ Finset.range (15 + 1), blk f s = ∑ r : Fin 4096, f r := by
  rw [Sums.sum_blocks 16 256 4096 (by norm_num), Finset.sum_range]
  refine Finset.sum_congr rfl fun s _ => Finset.sum_congr rfl fun r _ => congrArg _ (Fin.ext (Nat.mod_eq_of_lt ?_))
  have := s.isLt
  have := r.isLt
  omega

/-- The input's gradient, as a function of the rows. -/
def back (q : Fin 2048) (g x t : Fin 2048 → EReal) : EReal := scaled (dy g x t) g x q

/-- The result arrays of device `c`. -/
abbrev G4 (c : Dev nD) : Buf (Elt Ideal) ((c : Thread nD τ).loc main_v0_0) := fun i : S4096x2048.Idx => at3 m (back (i 1)) c (i 0)
abbrev G5 (c : Dev nD) : Buf (Elt Ideal) ((c : Thread nD τ).loc main_v0_1) := fun i : S4096x2048.Idx => at3 m (back (i 1)) c (i 0)
abbrev G6 (c : Dev nD) : Buf (Elt Ideal) ((c : Thread nD τ).loc main_v0_2) := fun i : S1x2048.Idx => (∑ r : Fin 4096, at3 m (fun g x t => gain g x t (i 1)) c r : EReal)
abbrev G7 (c : Dev nD) : Buf (Elt Ideal) ((c : Thread nD τ).loc main_v0_3) := fun _ : S8x128.Idx => (cP * ∑ r : Fin 4096, at3 m lossRow c r : EReal)

section Payloads
variable (v0 v1 : Vec Ideal S256x2048 .f32) (v13 : Vec Ideal S1x2048 .f32) (v16 : Vec Ideal S256x2048 .f32) (x : Fin 256) (y : Fin 2048)
theorem pay12_at : k0_pay12 (F := Ideal) v0 v1 v13 v16 (ix2 x y) = back y (gRow v13) (xRow v0 v1 x) (tRow v16 x) := by
  pointwise [k0_pay12, k0_pay11, k0_pay9, k0_pay8, k0_pay7, k0_pay6]
  rfl
theorem pay2_at (z : Fin 1) : k0_pay2 (F := Ideal) (k0_pay8 v0 v1) (k0_pay11 v0 v1 v13 v16) (ix2 z y) = ∑ r : Fin 256, gain (gRow v13) (xRow v0 v1 r) (tRow v16 r) y := by
  obtain rfl : z = 0 := Subsingleton.elim _ _
  pointwise [k0_pay2, k0_pay11, k0_pay9, k0_pay8, k0_pay7, k0_pay6]
  rfl
theorem pay10_at : k0_pay10 (F := Ideal) v0 v1 v13 v16 (ix2 0 0) = cP * ∑ r : Fin 256, lossRow (gRow v13) (xRow v0 v1 r) (tRow v16 r) := by
  pointwise [k0_pay10, k0_pay9, k0_pay8, k0_pay7, k0_pay6]
  rfl
theorem pay1_at (v : Vec Ideal S256x2048 .f32) : k0_pay1 (F := Ideal) v (ix2 x y) = (v (ix2 x y) : EReal) := by
  pointwise [k0_pay1]
theorem pay3_at (v w : Vec Ideal S256x2048 .f32) (u : Vec Ideal S1x2048 .f32) (z : Fin 1) : k0_pay3 (F := Ideal) v w u (ix2 z y) = (u (ix2 z y) : EReal) + k0_pay2 (F := Ideal) v w (ix2 z y) := by
  pointwise [k0_pay3]
theorem pay4_at (v : Vec Ideal S1x1 .f32) (a : Fin 8) (b : Fin 128) : k0_pay4 (F := Ideal) v (ix2 a b) = v (ix2 0 0) := by
  pointwise [k0_pay4]
theorem pay5_at (v : Vec Ideal S1x1 .f32) (u : Vec Ideal S8x128 .f32) (a : Fin 8) (b : Fin 128) : k0_pay5 (F := Ideal) v u (ix2 a b) = (u (ix2 a b) : EReal) + v (ix2 0 0) := by
  pointwise [k0_pay5, k0_pay4]
end Payloads

/-- A function of the rows of block `t` is that function of the array's rows. -/
theorem rows (f : (Fin 2048 → EReal) → (Fin 2048 → EReal) → (Fin 2048 → EReal) → EReal) (c : Dev nD) (t : Fin cfg0.N) (x : Fin 256) :
    f (gRow (iblk m c 2 t)) (xRow (n := 256) (iblk m c 0 t) (iblk m c 1 t) x) (tRow (n := 256) (iblk m c 3 t) x) = at3 m f c ⟨t.val * 256 + x.val, by have := ltN t; omega⟩ := by
  have e2 : gRow (iblk m c 2 t) = gRow (a2 m c) := funext fun k => iblk2 m c t 0 k
  have e0 : xRow (n := 256) (iblk m c 0 t) (iblk m c 1 t) x = xRow (a0 m c) (a1 m c) ⟨t.val * 256 + x.val, by have := ltN t; omega⟩ :=
    funext fun k => congrArg₂ (fun u v : EReal => u + v) (iblk0 m c t x k) (iblk1 m c t x k)
  have e3 : tRow (n := 256) (iblk m c 3 t) x = tRow (a3 m c) ⟨t.val * 256 + x.val, by have := ltN t; omega⟩ := funext fun k => iblk3 m c t x k
  rw [e2, e0, e3]
  rfl
theorem rows_blk (f : (Fin 2048 → EReal) → (Fin 2048 → EReal) → (Fin 2048 → EReal) → EReal) (c : Dev nD) (t : Fin cfg0.N) :
    ∑ r : Fin 256, f (gRow (iblk m c 2 t)) (xRow (n := 256) (iblk m c 0 t) (iblk m c 1 t) r) (tRow (n := 256) (iblk m c 3 t) r) = blk (at3 m f c) t.val := by
  have hT : t.val < 16 := ltN t
  refine Finset.sum_congr rfl fun r _ => (rows m f c t r).trans (congrArg _ (Fin.ext ?_))
  exact (Nat.mod_eq_of_lt (by omega)).symm

/-- The gain's gradient and the loss after point `n`: the blocks up to it. -/
theorem acc6 (c : Dev nD) (y : Fin 2048) (z : Fin 1) : ∀ (n : ℕ) (hn : n < cfg0.N),
    ((outsAt0 m c n hn).2.2.1 (ix2 z y) : EReal) = ∑ s ∈ Finset.range (n + 1), blk (at3 m (fun g x t => gain g x t y) c) s
  | 0, hn => by
    rw [outsAt0_A m c ⟨0, hn⟩ (Nat.zero_mod _) (by dsimp only; omega) (Nat.zero_mod _) (by dsimp only; omega)]
    dsimp only
    rw [out0_A_6_eq, Finset.sum_range_one]
    exact (pay2_at _ _ _ _ y z).trans (rows_blk m (fun g x t => gain g x t y) c ⟨0, hn⟩)
  | n + 1, hn => by
    have hT : n + 1 < 16 := lt_of_lt_of_eq hn N_0
    rw [outsAt0_B m c ⟨n + 1, hn⟩ (by dsimp only; omega) (by dsimp only; omega) (by dsimp only; omega) (by dsimp only; omega)]
    dsimp only
    rw [out0_B_6_eq]
    refine (pay3_at y _ _ _ z).trans ?_
    rw [Finset.sum_range_succ, ← acc6 c y z n (Nat.lt_of_succ_lt hn)]
    exact congrArg (fun e : EReal => (outsAt0 m c n (Nat.lt_of_succ_lt hn)).2.2.1 (ix2 z y) + e)
      ((pay2_at _ _ _ _ y z).trans (rows_blk m (fun g x t => gain g x t y) c ⟨n + 1, hn⟩))
theorem loss_blk (c : Dev nD) (t : Fin cfg0.N) : k0_pay10 (F := Ideal) (iblk m c 0 t) (iblk m c 1 t) (iblk m c 2 t) (iblk m c 3 t) (ix2 0 0) = cP * blk (at3 m lossRow c) t.val :=
  (pay10_at _ _ _ _).trans (congrArg (fun e : EReal => cP * e) (rows_blk m lossRow c t))
theorem acc7 (c : Dev nD) (a : Fin 8) (b : Fin 128) : ∀ (n : ℕ) (hn : n < cfg0.N),
    ((outsAt0 m c n hn).2.2.2 (ix2 a b) : EReal) = ∑ s ∈ Finset.range (n + 1), cP * blk (at3 m lossRow c) s
  | 0, hn => by
    rw [outsAt0_A m c ⟨0, hn⟩ (Nat.zero_mod _) (by dsimp only; omega) (Nat.zero_mod _) (by dsimp only; omega)]
    dsimp only
    rw [out0_A_7_eq, Finset.sum_range_one]
    exact (pay4_at _ a b).trans (loss_blk m c ⟨0, hn⟩)
  | n + 1, hn => by
    have hT : n + 1 < 16 := lt_of_lt_of_eq hn N_0
    rw [outsAt0_B m c ⟨n + 1, hn⟩ (by dsimp only; omega) (by dsimp only; omega) (by dsimp only; omega) (by dsimp only; omega)]
    dsimp only
    rw [out0_B_7_eq]
    refine (pay5_at _ _ a b).trans ?_
    rw [Finset.sum_range_succ, ← acc7 c a b n (Nat.lt_of_succ_lt hn)]
    exact congrArg (fun e : EReal => (outsAt0 m c n (Nat.lt_of_succ_lt hn)).2.2.2 (ix2 a b) + e) (loss_blk m c ⟨n + 1, hn⟩)

theorem flushed6_eq (c : Dev nD) (t : Fin cfg0.N) (hf : (cfg0.win 6).flush t = true) :
    (dats m 0 c).flushed 6 t = ((cfg0.win 6).blk t).view.read (Elt Ideal) (G6 m c) := by
  have hT : t.val < 16 := ltN t
  have h15 : t.val = 15 := by have := (flush0_6 t).mp hf; omega
  rw [Value.flushed6]
  funext i
  obtain ⟨z, y, rfl⟩ := ix2_surj i
  rw [oblk6]
  refine (acc6 m c y z t.val t.isLt).trans ?_
  rw [h15]
  exact sum_blk _
theorem flushed7_eq (c : Dev nD) (t : Fin cfg0.N) (hf : (cfg0.win 7).flush t = true) :
    (dats m 0 c).flushed 7 t = ((cfg0.win 7).blk t).view.read (Elt Ideal) (G7 m c) := by
  have hT : t.val < 16 := ltN t
  have h15 : t.val = 15 := by have := (flush0_7 t).mp hf; omega
  rw [Value.flushed7]
  funext i
  obtain ⟨a, b, rfl⟩ := ix2_surj i
  rw [oblk7]
  refine (acc7 m c a b t.val t.isLt).trans ?_
  rw [h15, half_sum, sum_blk]

theorem after4 (c : Dev nD) (t : Fin cfg0.N) : (outsAt0 m c t.val t.isLt).1 = k0_pay12 (iblk m c 0 t) (iblk m c 1 t) (iblk m c 2 t) (iblk m c 3 t)
    ∧ (outsAt0 m c t.val t.isLt).2.1 = k0_pay1 (k0_pay12 (iblk m c 0 t) (iblk m c 1 t) (iblk m c 2 t) (iblk m c 3 t)) := by
  have hT : t.val < 16 := ltN t
  by_cases h : t.val = 0
  · rw [outsAt0_A m c t (by omega) (by omega) (by omega) (by omega)]
    dsimp only
    rw [out0_A_4_eq, out0_A_5_eq]
    exact ⟨rfl, rfl⟩
  · rw [outsAt0_B m c t (by omega) (by omega) (by omega) (by omega)]
    dsimp only
    rw [out0_B_4_eq, out0_B_5_eq]
    exact ⟨rfl, rfl⟩

theorem back_at (c : Dev nD) (t : Fin cfg0.N) (x : Fin 256) (y : Fin 2048) :
    k0_pay12 (F := Ideal) (iblk m c 0 t) (iblk m c 1 t) (iblk m c 2 t) (iblk m c 3 t) (ix2 x y) = at3 m (back y) c ⟨t.val * 256 + x.val, by have := ltN t; omega⟩ :=
  (pay12_at _ _ _ _ x y).trans (rows m (back y) c t x)

theorem flushed4_eq (c : Dev nD) (t : Fin cfg0.N) :
    (dats m 0 c).flushed 4 t = ((cfg0.win 4).blk t).view.read (Elt Ideal) (G4 m c) := by
  rw [Value.flushed4]
  funext i
  obtain ⟨x, y, rfl⟩ := ix2_surj i
  rw [oblk4, (after4 m c t).1]
  exact back_at m c t x y
theorem flushed5_eq (c : Dev nD) (t : Fin cfg0.N) :
    (dats m 0 c).flushed 5 t = ((cfg0.win 5).blk t).view.read (Elt Ideal) (G5 m c) := by
  rw [Value.flushed5]
  funext i
  obtain ⟨x, y, rfl⟩ := ix2_surj i
  rw [oblk5, (after4 m c t).2]
  exact (pay1_at x y _).trans (back_at m c t x y)

/-- The run of the kernel: the result arrays at the functions above, the arguments unchanged. -/
theorem run : θ_run defs (onTc (τ := τ) (main (F := Ideal))) ⟨m, fun _ => 0, ρ⟩ fun r => ∀ c : Dev nD,
      r.2.mem ((c : Thread nD τ).loc main_v0_0) = G4 m c
      ∧ r.2.mem ((c : Thread nD τ).loc main_v0_1) = G5 m c
      ∧ r.2.mem ((c : Thread nD τ).loc main_v0_2) = G6 m c
      ∧ r.2.mem ((c : Thread nD τ).loc main_v0_3) = G7 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((dats m 0 c).arrAt_eq_of_cover 4 (G4 m c) (fun t _ => flushed4_eq m c t) cover4),
      (h c).2.1.trans ((dats m 0 c).arrAt_eq_of_cover 5 (G5 m c) (fun t _ => flushed5_eq m c t) cover5),
      (h c).2.2.1.trans ((dats m 0 c).arrAt_eq_of_cover 6 (G6 m c) (fun t hf => flushed6_eq m c t hf) cover6),
      (h c).2.2.2.1.trans ((dats m 0 c).arrAt_eq_of_cover 7 (G7 m c) (fun t hf => flushed7_eq m c t hf) cover7), (h c).2.2.2.2⟩)
    (Value.run_blocks m ρ)

section Reference
open Reference32Ideal.Read
variable (x0 x1 : FVec Ideal ⟨2, ![4096, 2048]⟩ .f32) (x2 : FVec Ideal ⟨2, ![1, 2048]⟩ .f32) (x3 : FVec Ideal ⟨2, ![4096, 2048]⟩ .f32) (r : Fin 4096) (q : Fin 2048)
theorem ref0 : val_main_v49 (F := Ideal) x0 x1 x2 x3 (ix2 r q) = back q (gRow x2) (xRow x0 x1 r) (tRow x3 r) := by
  unfold back
  rw [← direct_eq, ← dyProd_eq]
  pointwise [val_main_v0, val_main_v1, val_main_cst, val_main_v2, val_main_v3, val_main_cst_0, val_main_v4, val_main_v5, val_main_cst_1, val_main_v6, val_main_v7, val_main_v8, val_main_v9, val_main_cst_2, val_main_v10, val_main_v11, val_main_v12, val_main_v13, val_main_v14, val_main_v15, val_main_v16, val_main_cst_3, val_main_v18, val_main_v19, val_main_cst_8, val_main_cst_9, val_main_v25, val_main_v26, val_main_cst_10, val_main_v27, val_main_v28, val_main_v29, val_main_v30, val_main_v34, val_main_v35, val_main_v36, val_main_cst_12, val_main_v37, val_main_v38, val_main_v39, val_main_v40, val_main_v41, val_main_cst_13, val_main_v42, val_main_v43, val_main_cst_14, val_main_v44, val_main_v45, val_main_v46, val_main_v47, val_main_v48, val_main_v49]
  simp only [Fin.sum_univ_one]
  rfl
theorem ref1 (z : Fin 1) : val_main_v33 (F := Ideal) x0 x1 x2 x3 (ix2 z q) = ∑ r : Fin 4096, gain (gRow x2) (xRow x0 x1 r) (tRow x3 r) q := by
  obtain rfl : z = 0 := Subsingleton.elim _ _
  unfold gain
  simp only [← dyProd_eq, mul_comm (dyProd _ _ _ q)]
  pointwise [val_main_v0, val_main_v1, val_main_cst, val_main_v2, val_main_v3, val_main_cst_0, val_main_v4, val_main_v5, val_main_cst_1, val_main_v6, val_main_v7, val_main_v8, val_main_v12, val_main_v13, val_main_v14, val_main_v15, val_main_v16, val_main_cst_3, val_main_v18, val_main_v19, val_main_cst_8, val_main_cst_9, val_main_v25, val_main_v26, val_main_cst_10, val_main_v27, val_main_v28, val_main_v29, val_main_v30, val_main_v31, val_main_cst_11, val_main_v32, val_main_v33]
  rfl
theorem ref2 (a : Fin 8) (b : Fin 128) : val_main_v51 (F := Ideal) x0 x1 x2 x3 (ix2 a b) = cP * ∑ r : Fin 4096, lossRow (gRow x2) (xRow x0 x1 r) (tRow x3 r) := by
  pointwise [val_main_v0, val_main_v1, val_main_cst, val_main_v2, val_main_v3, val_main_cst_0, val_main_v4, val_main_v5, val_main_cst_1, val_main_v6, val_main_v7, val_main_v8, val_main_v12, val_main_v13, val_main_v14, val_main_v15, val_main_v16, val_main_v17, val_main_cst_4, val_main_v20, val_main_cst_5, val_main_v21, val_main_v22, val_main_cst_6, val_main_v23, val_main_cst_7, val_main_v24, val_main_v51]
  rfl
theorem ref3 : val_main_v50 (F := Ideal) x0 x1 x2 x3 (ix2 r q) = val_main_v49 (F := Ideal) x0 x1 x2 x3 (ix2 r q) := by
  pointwise [val_main_v50]
end Reference

theorem frame_kernel : quiescent_Kernel32 := fun m ρ _ => Kernel32.Gen.frame m ρ
theorem frame_kernelIdeal : quiescent_Kernel32Ideal := fun m ρ _ => Kernel32Ideal.Gen.frame m ρ
theorem frame_reference : quiescent_Reference32Ideal := fun m ρ _ =>
  (θ_run Reference32Ideal.defs _ _).mono (fun r h => ⟨fun c => (h c).2.2.2.2, sem_eq_zero_of_no_sems (by decide) r.2⟩)
    (Reference32Ideal.Value.run (F := Ideal) m ρ)

theorem algebraic : algebraic_Kernel32Ideal_Reference32Ideal := by
  intro m ρ m' ρ' _ hagree
  refine ⟨G4 m, G5 m, G6 m, G7 m, run m ρ, ?_⟩
  refine (θ_run Reference32Ideal.defs _ _).mono (fun _ h c => ⟨(h c).1.trans ?_, (h c).2.1.trans ?_, (h c).2.2.1.trans ?_, (h c).2.2.2.1.trans ?_, (h c).2.2.2.2⟩)
    (Reference32Ideal.Value.run (F := Ideal) m' ρ')
  · rw [Reference32Ideal.Read.val_main_v49_eq, (hagree c).1, (hagree c).2.1, (hagree c).2.2.1, (hagree c).2.2.2]
    funext i
    obtain ⟨r, q, rfl⟩ := Step.ix2_surj i
    exact ref0 (a0 m c) (a1 m c) (a2 m c) (a3 m c) r q
  · rw [Reference32Ideal.Read.val_main_v50_eq, (hagree c).1, (hagree c).2.1, (hagree c).2.2.1, (hagree c).2.2.2]
    funext i
    obtain ⟨r, q, rfl⟩ := Step.ix2_surj i
    exact (ref3 (a0 m c) (a1 m c) (a2 m c) (a3 m c) r q).trans (ref0 (a0 m c) (a1 m c) (a2 m c) (a3 m c) r q)
  · rw [Reference32Ideal.Read.val_main_v33_eq, (hagree c).1, (hagree c).2.1, (hagree c).2.2.1, (hagree c).2.2.2]
    funext i
    obtain ⟨r, q, rfl⟩ := Step.ix2_surj i
    exact ref1 (a0 m c) (a1 m c) (a2 m c) (a3 m c) q r
  · rw [Reference32Ideal.Read.val_main_v51_eq, (hagree c).1, (hagree c).2.1, (hagree c).2.2.1, (hagree c).2.2.2]
    funext i
    obtain ⟨a, b, rfl⟩ := Step.ix2_surj i
    exact ref2 (a0 m c) (a1 m c) (a2 m c) (a3 m c) a b

end P32
-- ==== Proof.lean ====
module

public import proofs.«01_k».proof.Defs
public import proofs.«01_k».proof.Proof.ConvClaim
public import proofs.«01_k».proof.Proof.P2
public import proofs.«01_k».proof.Proof.P3
public import proofs.«01_k».proof.Proof.P4
public import proofs.«01_k».proof.Proof.P5
public import proofs.«01_k».proof.Proof.P6
public import proofs.«01_k».proof.Proof.P7
public import proofs.«01_k».proof.Proof.P8
public import proofs.«01_k».proof.Proof.P9
public import proofs.«01_k».proof.Proof.P10
public import proofs.«01_k».proof.Proof.P11
public import proofs.«01_k».proof.Proof.P12
public import proofs.«01_k».proof.Proof.P13
public import proofs.«01_k».proof.Proof.P14
public import proofs.«01_k».proof.Proof.P15
public import proofs.«01_k».proof.Proof.P16
public import proofs.«01_k».proof.Proof.P17
public import proofs.«01_k».proof.Proof.P18
public import proofs.«01_k».proof.Proof.P19
public import proofs.«01_k».proof.Proof.P20
public import proofs.«01_k».proof.Proof.P21
public import proofs.«01_k».proof.Proof.P22
public import proofs.«01_k».proof.Proof.P23
public import proofs.«01_k».proof.Proof.P24
public import proofs.«01_k».proof.Proof.P25
public import proofs.«01_k».proof.Proof.P26
public import proofs.«01_k».proof.Proof.P27
public import proofs.«01_k».proof.Proof.P28
public import proofs.«01_k».proof.Proof.P29
public import proofs.«01_k».proof.Proof.P30
public import proofs.«01_k».proof.Proof.P31
public import proofs.«01_k».proof.Proof.P32
public import Idealize.ShloMosaic.Adequacy
public import Idealize.ShloMosaic.Init

@[expose] public section

noncomputable section

namespace Cert.Proof

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Kernel27.Gen.facts, Cert.Kernel27Ideal.Gen.facts, Cert.Reference27Ideal.Gen.facts,
  Cert.Kernel28.Gen.facts, Cert.Kernel28Ideal.Gen.facts, Cert.Reference28Ideal.Gen.facts,
  Cert.Kernel29.Gen.facts, Cert.Kernel29Ideal.Gen.facts, Cert.Reference29Ideal.Gen.facts,
  Cert.Kernel30.Gen.facts, Cert.Kernel30Ideal.Gen.facts, Cert.Reference30Ideal.Gen.facts,
  Cert.Kernel31.Gen.facts, Cert.Kernel31Ideal.Gen.facts, Cert.Reference31Ideal.Gen.facts,
  Cert.Kernel32.Gen.facts, Cert.Kernel32Ideal.Gen.facts, Cert.Reference32Ideal.Gen.facts,
  Cert.ConvClaim.frame_kernel,
  Cert.ConvClaim.frame_kernelIdeal,
  Cert.ConvClaim.frame_reference,
  Cert.P2.frame_kernel,
  Cert.P2.frame_kernelIdeal,
  Cert.P2.frame_reference,
  Cert.P3.frame_kernel,
  Cert.P3.frame_kernelIdeal,
  Cert.P3.frame_reference,
  Cert.P4.frame_kernel,
  Cert.P4.frame_kernelIdeal,
  Cert.P4.frame_reference,
  Cert.P5.frame_kernel,
  Cert.P5.frame_kernelIdeal,
  Cert.P5.frame_reference,
  Cert.P6.frame_kernel,
  Cert.P6.frame_kernelIdeal,
  Cert.P6.frame_reference,
  Cert.P7.frame_kernel,
  Cert.P7.frame_kernelIdeal,
  Cert.P7.frame_reference,
  Cert.P8.frame_kernel,
  Cert.P8.frame_kernelIdeal,
  Cert.P8.frame_reference,
  Cert.P9.frame_kernel,
  Cert.P9.frame_kernelIdeal,
  Cert.P9.frame_reference,
  Cert.P10.frame_kernel,
  Cert.P10.frame_kernelIdeal,
  Cert.P10.frame_reference,
  Cert.P11.frame_kernel,
  Cert.P11.frame_kernelIdeal,
  Cert.P11.frame_reference,
  Cert.P12.frame_kernel,
  Cert.P12.frame_kernelIdeal,
  Cert.P12.frame_reference,
  Cert.P13.frame_kernel,
  Cert.P13.frame_kernelIdeal,
  Cert.P13.frame_reference,
  Cert.P14.frame_kernel,
  Cert.P14.frame_kernelIdeal,
  Cert.P14.frame_reference,
  Cert.P15.frame_kernel,
  Cert.P15.frame_kernelIdeal,
  Cert.P15.frame_reference,
  Cert.P16.frame_kernel,
  Cert.P16.frame_kernelIdeal,
  Cert.P16.frame_reference,
  Cert.P17.frame_kernel,
  Cert.P17.frame_kernelIdeal,
  Cert.P17.frame_reference,
  Cert.P18.frame_kernel,
  Cert.P18.frame_kernelIdeal,
  Cert.P18.frame_reference,
  Cert.P19.frame_kernel,
  Cert.P19.frame_kernelIdeal,
  Cert.P19.frame_reference,
  Cert.P20.frame_kernel,
  Cert.P20.frame_kernelIdeal,
  Cert.P20.frame_reference,
  Cert.P21.frame_kernel,
  Cert.P21.frame_kernelIdeal,
  Cert.P21.frame_reference,
  Cert.P22.frame_kernel,
  Cert.P22.frame_kernelIdeal,
  Cert.P22.frame_reference,
  Cert.P23.frame_kernel,
  Cert.P23.frame_kernelIdeal,
  Cert.P23.frame_reference,
  Cert.P24.frame_kernel,
  Cert.P24.frame_kernelIdeal,
  Cert.P24.frame_reference,
  Cert.P25.frame_kernel,
  Cert.P25.frame_kernelIdeal,
  Cert.P25.frame_reference,
  Cert.P26.frame_kernel,
  Cert.P26.frame_kernelIdeal,
  Cert.P26.frame_reference,
  Cert.P27.frame_kernel,
  Cert.P27.frame_kernelIdeal,
  Cert.P27.frame_reference,
  Cert.P28.frame_kernel,
  Cert.P28.frame_kernelIdeal,
  Cert.P28.frame_reference,
  Cert.P29.frame_kernel,
  Cert.P29.frame_kernelIdeal,
  Cert.P29.frame_reference,
  Cert.P30.frame_kernel,
  Cert.P30.frame_kernelIdeal,
  Cert.P30.frame_reference,
  Cert.P31.frame_kernel,
  Cert.P31.frame_kernelIdeal,
  Cert.P31.frame_reference,
  Cert.P32.frame_kernel,
  Cert.P32.frame_kernelIdeal,
  Cert.P32.frame_reference,
  trivial,
  Cert.ConvClaim.algebraic,
  trivial,
  Cert.P2.algebraic,
  trivial,
  Cert.P3.algebraic,
  trivial,
  Cert.P4.algebraic,
  trivial,
  Cert.P5.algebraic,
  trivial,
  Cert.P6.algebraic,
  trivial,
  Cert.P7.algebraic,
  trivial,
  Cert.P8.algebraic,
  trivial,
  Cert.P9.algebraic,
  trivial,
  Cert.P10.algebraic,
  trivial,
  Cert.P11.algebraic,
  trivial,
  Cert.P12.algebraic,
  trivial,
  Cert.P13.algebraic,
  trivial,
  Cert.P14.algebraic,
  trivial,
  Cert.P15.algebraic,
  trivial,
  Cert.P16.algebraic,
  trivial,
  Cert.P17.algebraic,
  trivial,
  Cert.P18.algebraic,
  trivial,
  Cert.P19.algebraic,
  trivial,
  Cert.P20.algebraic,
  trivial,
  Cert.P21.algebraic,
  trivial,
  Cert.P22.algebraic,
  trivial,
  Cert.P23.algebraic,
  trivial,
  Cert.P24.algebraic,
  trivial,
  Cert.P25.algebraic,
  trivial,
  Cert.P26.algebraic,
  trivial,
  Cert.P27.algebraic,
  trivial,
  Cert.P28.algebraic,
  trivial,
  Cert.P29.algebraic,
  trivial,
  Cert.P30.algebraic,
  trivial,
  Cert.P31.algebraic,
  trivial,
  Cert.P32.algebraic⟩

end Cert.Proof

end
